-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x4096x1024 : Shape := ⟨3, ![16, 4096, 1024]⟩
abbrev S16x4096 : Shape := ⟨2, ![16, 4096]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel

variable [Facts]

def fn {F : FTy → Type} [FloatOps F] (main_arg0 : FVec F S16x4096x1024 .f32) (main_arg1 : FVec F S16x4096 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  main_v3
-- ==== Kernel.lean ====
abbrev S16x4096x1024 : Shape := ⟨3, ![16, 4096, 1024]⟩
abbrev S16x4096 : Shape := ⟨2, ![16, 4096]⟩
abbrev S16x2048x1024 : Shape := ⟨3, ![16, 2048, 1024]⟩
abbrev S16x2048 : Shape := ⟨2, ![16, 2048]⟩
abbrev S4096 : Shape := ⟨1, ![4096]⟩
abbrev S256x32 : Shape := ⟨2, ![256, 32]⟩
abbrev S2050x32 : Shape := ⟨2, ![2050, 32]⟩
abbrev S257x32 : Shape := ⟨2, ![257, 32]⟩
abbrev S4112 : Shape := ⟨1, ![4112]⟩
abbrev S2048 : Shape := ⟨1, ![2048]⟩
abbrev S_ : Shape := ⟨0, ![]⟩
abbrev S16 : Shape := ⟨1, ![16]⟩
abbrev S1x16 : Shape := ⟨2, ![1, 16]⟩
abbrev S1x4096 : Shape := ⟨2, ![1, 4096]⟩
abbrev S1x256x32 : Shape := ⟨3, ![1, 256, 32]⟩
abbrev S1 : Shape := ⟨1, ![1]⟩
abbrev S2048x32 : Shape := ⟨2, ![2048, 32]⟩
abbrev S1x2048x32 : Shape := ⟨3, ![1, 2048, 32]⟩
abbrev S1x2048 : Shape := ⟨2, ![1, 2048]⟩

abbrev nBuf : Table → Nat
  | .hbm => 4
  | .local .scVector .vmem => 8
  | _ => 0

abbrev bufTy : (tb : Table) → Fin (nBuf tb) → BufTy
  | .hbm, ⟨0, _⟩ => ⟨S16x4096x1024, .f32⟩
  | .hbm, ⟨1, _⟩ => ⟨S16x4096, .f32⟩
  | .hbm, ⟨2, _⟩ => ⟨S16x2048x1024, .f32⟩
  | .hbm, ⟨3, _⟩ => ⟨S16x2048, .i32⟩
  | .local .scVector .vmem, ⟨0, _⟩ => ⟨S4096, .f32⟩
  | .local .scVector .vmem, ⟨1, _⟩ => ⟨S256x32, .f32⟩
  | .local .scVector .vmem, ⟨2, _⟩ => ⟨S256x32, .f32⟩
  | .local .scVector .vmem, ⟨3, _⟩ => ⟨S2050x32, .f32⟩
  | .local .scVector .vmem, ⟨4, _⟩ => ⟨S257x32, .f32⟩
  | .local .scVector .vmem, ⟨5, _⟩ => ⟨S4112, .i32⟩
  | .local .scVector .vmem, ⟨6, _⟩ => ⟨S4096, .i32⟩
  | .local .scVector .vmem, ⟨7, _⟩ => ⟨S2048, .i32⟩
  | _, _ => ⟨S16x4096x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  v2
@[reducible] def k0_t1_loop : Scf.Loop 32 :=
  let c0_i32_2 : BitVec 32 := 0#32
  let c16_i32 : BitVec 32 := 16#32
  let v10 : BitVec 32 := Scalar.addi c0_i32_2 c16_i32
  let c1_i32 : BitVec 32 := 1#32
  ⟨c0_i32_2, v10, c1_i32⟩
def k0_off1 (k0_t1 : Fin k0_t1_loop.trips) : Fin 2 → Nat :=
  let c0_i32_2 : BitVec 32 := 0#32
  let c1_i32 : BitVec 32 := 1#32
  let arg18 : BitVec 32 := Scf.iv c0_i32_2 c1_i32 k0_t1
  let c0_i32_10 : BitVec 32 := 0#32
  ![arg18.toNat, 0]
def k0_off2 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c0_i32_12 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 0, v3.toNat]
def k0_off3 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c256_i32 : BitVec 32 := 256#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 256, v3.toNat]
@[reducible] def k0_t2_loop : Scf.Loop 32 :=
  let c0_i32_16 : BitVec 32 := 0#32
  let c130_i32 : BitVec 32 := 130#32
  let v30 : BitVec 32 := Scalar.addi c0_i32_16 c130_i32
  let c1_i32_17 : BitVec 32 := 1#32
  ⟨c0_i32_16, v30, c1_i32_17⟩
def k0_off4 (k0_t2 : Fin k0_t2_loop.trips) : Fin 1 → Nat :=
  let c0_i32_16 : BitVec 32 := 0#32
  let c1_i32_17 : BitVec 32 := 1#32
  let arg19 : BitVec 32 := Scf.iv c0_i32_16 c1_i32_17 k0_t2
  let c16_i32_444 : BitVec 32 := 16#32
  let v893 : BitVec 32 := Scalar.muli arg19 c16_i32_444
  let v894 : Index := Scalar.indexCast v893
  ![v894.toNat]
@[reducible] def k0_t3_loop : Scf.Loop 32 :=
  let c0_i32_22 : BitVec 32 := 0#32
  let c256_i32_23 : BitVec 32 := 256#32
  let v35 : BitVec 32 := Scalar.addi c0_i32_22 c256_i32_23
  let c1_i32_24 : BitVec 32 := 1#32
  ⟨c0_i32_22, v35, c1_i32_24⟩
def k0_off5 (k0_t3 : Fin k0_t3_loop.trips) : Fin 1 → Nat :=
  let c0_i32_22 : BitVec 32 := 0#32
  let c1_i32_24 : BitVec 32 := 1#32
  let arg19 : BitVec 32 := Scf.iv c0_i32_22 c1_i32_24 k0_t3
  let c16_i32_444 : BitVec 32 := 16#32
  let v893 : BitVec 32 := Scalar.muli arg19 c16_i32_444
  let v894 : Index := Scalar.indexCast v893
  ![v894.toNat]

def k0_chk1 (v905 : IVec S16 32) : Prop :=
  (∀ a x, ((![v905] : Fin 1 → IVec S16 32) a x).toNat < S4112.size a)
theorem k0_idx1_inb : ∀ (v905 : IVec S16 32) (k0_hw1 : k0_chk1 v905), ∀ a x, ((![v905] : Fin 1 → IVec S16 32) a x).toNat < S4112.size a := fun v905 k0_hw1 => k0_hw1
def k0_off6 (k0_t3 : Fin k0_t3_loop.trips) : Fin 1 → Nat :=
  let c0_i32_22 : BitVec 32 := 0#32
  let c1_i32_24 : BitVec 32 := 1#32
  let arg19 : BitVec 32 := Scf.iv c0_i32_22 c1_i32_24 k0_t3
  let c16_i32_447 : BitVec 32 := 16#32
  let v906 : BitVec 32 := Scalar.muli arg19 c16_i32_447
  let v907 : Index := Scalar.indexCast v906
  ![v907.toNat]
def k0_cond1 (k0_t1 : Fin k0_t1_loop.trips) : BitVec 1 :=
  let c0_i32_2 : BitVec 32 := 0#32
  let c1_i32 : BitVec 32 := 1#32
  let arg18 : BitVec 32 := Scf.iv c0_i32_2 c1_i32 k0_t1
  let c0_i32_26 : BitVec 32 := 0#32
  let v37 : BitVec 1 := Scalar.cmpi .sgt arg18 c0_i32_26
  let v38 : BitVec 32 := Scalar.extui v37
  let c0_i32_27 : BitVec 32 := 0#32
  let v39 : BitVec 1 := Scalar.cmpi .ne v38 c0_i32_27
  v39

def k0_off7 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 0, v3.toNat]
@[reducible] def k0_t4_loop : Scf.Loop 32 :=
  let c0_i32_30 : BitVec 32 := 0#32
  let c16_i32_31 : BitVec 32 := 16#32
  let v44 : BitVec 32 := Scalar.addi c0_i32_30 c16_i32_31
  let c1_i32_32 : BitVec 32 := 1#32
  ⟨c0_i32_30, v44, c1_i32_32⟩
def k0_off8 (k0_t4 : Fin k0_t4_loop.trips) (c0_i32_445 : BitVec 32) : Fin 2 → Nat :=
  let c0_i32_30 : BitVec 32 := 0#32
  let c1_i32_32 : BitVec 32 := 1#32
  let arg19 : BitVec 32 := Scf.iv c0_i32_30 c1_i32_32 k0_t4
  let c16_i32_444 : BitVec 32 := 16#32
  let v893 : BitVec 32 := Scalar.muli arg19 c16_i32_444
  let v894 : BitVec 32 := Scalar.addi v893 c0_i32_445
  let v895 : Index := Scalar.indexCast v894
  let c0_446 : Index := 0#32
  ![v895.toNat, 0]
def k0_off9 (k0_t4 : Fin k0_t4_loop.trips) (c0_i32_447 : BitVec 32) : Fin 2 → Nat :=
  let c0_i32_30 : BitVec 32 := 0#32
  let c1_i32_32 : BitVec 32 := 1#32
  let arg19 : BitVec 32 := Scf.iv c0_i32_30 c1_i32_32 k0_t4
  let c16_i32_444 : BitVec 32 := 16#32
  let v893 : BitVec 32 := Scalar.muli arg19 c16_i32_444
  let v898 : BitVec 32 := Scalar.addi v893 c0_i32_447
  let v899 : Index := Scalar.indexCast v898
  let c16_448 : Index := 16#32
  ![v899.toNat, 16]
def k0_off10 (k0_t4 : Fin k0_t4_loop.trips) (c0_i32_449 : BitVec 32) : Fin 2 → Nat :=
  let c0_i32_30 : BitVec 32 := 0#32
  let c1_i32_32 : BitVec 32 := 1#32
  let arg19 : BitVec 32 := Scf.iv c0_i32_30 c1_i32_32 k0_t4
  let c16_i32_444 : BitVec 32 := 16#32
  let v893 : BitVec 32 := Scalar.muli arg19 c16_i32_444
  let v902 : BitVec 32 := Scalar.addi v893 c0_i32_449
  let c1_i32_450 : BitVec 32 := 1#32
  let v903 : BitVec 32 := Scalar.addi v902 c1_i32_450
  let v904 : Index := Scalar.indexCast v903
  let c0_451 : Index := 0#32
  ![v904.toNat, 0]
def k0_off11 (k0_t4 : Fin k0_t4_loop.trips) (c0_i32_452 : BitVec 32) : Fin 2 → Nat :=
  let c0_i32_30 : BitVec 32 := 0#32
  let c1_i32_32 : BitVec 32 := 1#32
  let arg19 : BitVec 32 := Scf.iv c0_i32_30 c1_i32_32 k0_t4
  let c16_i32_444 : BitVec 32 := 16#32
  let v893 : BitVec 32 := Scalar.muli arg19 c16_i32_444
  let v906 : BitVec 32 := Scalar.addi v893 c0_i32_452
  let c1_i32_453 : BitVec 32 := 1#32
  let v907 : BitVec 32 := Scalar.addi v906 c1_i32_453
  let v908 : Index := Scalar.indexCast v907
  let c16_454 : Index := 16#32
  ![v908.toNat, 16]
def k0_off12 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c512_i32 : BitVec 32 := 512#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 512, v3.toNat]
@[reducible] def k0_t5_loop (v52 : BitVec 32) : Scf.Loop 32 :=
  let c0_i32_44 : BitVec 32 := 0#32
  let c1_i32_35 : BitVec 32 := 1#32
  let v53 : BitVec 32 := Scalar.subi v52 c1_i32_35
  let c2049_i32 : BitVec 32 := 2049#32
  let v54 : BitVec 32 := Scalar.minsi v53 c2049_i32
  let c_m1_i32 : BitVec 32 := 4294967295#32
  let v55 : BitVec 32 := Scalar.subi v54 c_m1_i32
  let c0_i32_36 : BitVec 32 := 0#32
  let v56 : BitVec 32 := Scalar.maxsi v55 c0_i32_36
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c8_i32 : BitVec 32 := 8#32
  let c0_i32_39 : BitVec 32 := 0#32
  let v63 : BitVec 1 := Scalar.cmpi .sgt c8_i32 c0_i32_39
  let v64 : BitVec 32 := Scalar.extui v63
  let c0_i32_40 : BitVec 32 := 0#32
  let v65 : BitVec 1 := Scalar.cmpi .slt c8_i32 c0_i32_40
  let v66 : BitVec 32 := Scalar.extui v65
  let v67 : BitVec 32 := Scalar.subi v64 v66
  let v68 : BitVec 1 := Scalar.cmpi .ne v62 v67
  let v69 : BitVec 32 := Scalar.remsi v56 c8_i32
  let c0_i32_41 : BitVec 32 := 0#32
  let v70 : BitVec 1 := Scalar.cmpi .ne v69 c0_i32_41
  let v71 : BitVec 1 := Scalar.andi v68 v70
  let v57 : BitVec 32 := Scalar.divsi v56 c8_i32
  let c1_i32_42 : BitVec 32 := 1#32
  let v72 : BitVec 32 := Scalar.subi v57 c1_i32_42
  let v73 : BitVec 32 := Scalar.select v71 v72 v57
  let v74 : BitVec 32 := Scalar.subi v73 c0_i32_44
  let c1_i32_45 : BitVec 32 := 1#32
  let v76 : BitVec 32 := Scalar.divsi v74 c1_i32_45
  let v77 : BitVec 32 := Scalar.muli v76 c1_i32_45
  let v78 : BitVec 32 := Scalar.addi c0_i32_44 v77
  let c1_i32_46 : BitVec 32 := 1#32
  ⟨c0_i32_44, v78, c1_i32_46⟩

def k0_off13 (v52 : BitVec 32) (k0_t5 : Fin (k0_t5_loop v52).trips) (c1_i32_445 : BitVec 32) : Fin 1 → Nat :=
  let c_m1_i32_43 : BitVec 32 := 4294967295#32
  let c0_i32_44 : BitVec 32 := 0#32
  let c1_i32_46 : BitVec 32 := 1#32
  let arg19 : BitVec 32 := Scf.iv c0_i32_44 c1_i32_46 k0_t5
  let c8_i32_444 : BitVec 32 := 8#32
  let v893 : BitVec 32 := Scalar.muli arg19 c8_i32_444
  let v894 : BitVec 32 := Scalar.addi c_m1_i32_43 v893
  let v895 : BitVec 32 := Scalar.addi v894 c1_i32_445
  let v896 : Index := Scalar.indexCast v895
  ![v896.toNat]
def k0_off14 (v912 : BitVec 32) : Fin 2 → Nat :=
  let c0_i32_451 : BitVec 32 := 0#32
  let v913 : BitVec 32 := Scalar.subi v912 c0_i32_451
  let v914 : Index := Scalar.indexCast v913
  let c0_452 : Index := 0#32
  ![v914.toNat, 0]

def k0_off15 (v912 : BitVec 32) : Fin 2 → Nat :=
  let c0_i32_451 : BitVec 32 := 0#32
  let v913 : BitVec 32 := Scalar.subi v912 c0_i32_451
  let v917 : Index := Scalar.indexCast v913
  let c16_453 : Index := 16#32
  ![v917.toNat, 16]

def k0_chk3 (v912 : BitVec 32) : Prop :=
  (∀ a, (k0_off14 v912) a + S1x16.size a ≤ S257x32.size a) ∧
  (∀ a, (k0_off15 v912) a + S1x16.size a ≤ S257x32.size a)
theorem k0_off14_inb : ∀ (v912 : BitVec 32) (k0_hw3 : k0_chk3 v912), ∀ a, (k0_off14 v912) a + S1x16.size a ≤ S257x32.size a := fun v912 k0_hw3 => k0_hw3.1
theorem k0_off15_inb : ∀ (v912 : BitVec 32) (k0_hw3 : k0_chk3 v912), ∀ a, (k0_off15 v912) a + S1x16.size a ≤ S257x32.size a := fun v912 k0_hw3 => k0_hw3.2

def k0_off16 (v921 : BitVec 32) : Fin 2 → Nat :=
  let c0_i32_454 : BitVec 32 := 0#32
  let v922 : BitVec 32 := Scalar.subi v921 c0_i32_454
  let v923 : Index := Scalar.indexCast v922
  let c0_455 : Index := 0#32
  ![v923.toNat, 0]

def k0_off17 (v921 : BitVec 32) : Fin 2 → Nat :=
  let c0_i32_454 : BitVec 32 := 0#32
  let v922 : BitVec 32 := Scalar.subi v921 c0_i32_454
  let v926 : Index := Scalar.indexCast v922
  let c16_456 : Index := 16#32
  ![v926.toNat, 16]

def k0_chk4 (v921 : BitVec 32) : Prop :=
  (∀ a, (k0_off16 v921) a + S1x16.size a ≤ S257x32.size a) ∧
  (∀ a, (k0_off17 v921) a + S1x16.size a ≤ S257x32.size a)
theorem k0_off16_inb : ∀ (v921 : BitVec 32) (k0_hw4 : k0_chk4 v921), ∀ a, (k0_off16 v921) a + S1x16.size a ≤ S257x32.size a := fun v921 k0_hw4 => k0_hw4.1
theorem k0_off17_inb : ∀ (v921 : BitVec 32) (k0_hw4 : k0_chk4 v921), ∀ a, (k0_off17 v921) a + S1x16.size a ≤ S257x32.size a := fun v921 k0_hw4 => k0_hw4.2

def k0_off18 (v930 : BitVec 32) : Fin 2 → Nat :=
  let c0_i32_457 : BitVec 32 := 0#32
  let v931 : BitVec 32 := Scalar.subi v930 c0_i32_457
  let v932 : Index := Scalar.indexCast v931
  let c0_458 : Index := 0#32
  ![v932.toNat, 0]

def k0_off19 (v930 : BitVec 32) : Fin 2 → Nat :=
  let c0_i32_457 : BitVec 32 := 0#32
  let v931 : BitVec 32 := Scalar.subi v930 c0_i32_457
  let v935 : Index := Scalar.indexCast v931
  let c16_459 : Index := 16#32
  ![v935.toNat, 16]

def k0_chk5 (v930 : BitVec 32) : Prop :=
  (∀ a, (k0_off18 v930) a + S1x16.size a ≤ S257x32.size a) ∧
  (∀ a, (k0_off19 v930) a + S1x16.size a ≤ S257x32.size a)
theorem k0_off18_inb : ∀ (v930 : BitVec 32) (k0_hw5 : k0_chk5 v930), ∀ a, (k0_off18 v930) a + S1x16.size a ≤ S257x32.size a := fun v930 k0_hw5 => k0_hw5.1
theorem k0_off19_inb : ∀ (v930 : BitVec 32) (k0_hw5 : k0_chk5 v930), ∀ a, (k0_off19 v930) a + S1x16.size a ≤ S257x32.size a := fun v930 k0_hw5 => k0_hw5.2

def k0_off20 (v939 : BitVec 32) : Fin 2 → Nat :=
  let c0_i32_460 : BitVec 32 := 0#32
  let v940 : BitVec 32 := Scalar.subi v939 c0_i32_460
  let v941 : Index := Scalar.indexCast v940
  let c0_461 : Index := 0#32
  ![v941.toNat, 0]

def k0_off21 (v939 : BitVec 32) : Fin 2 → Nat :=
  let c0_i32_460 : BitVec 32 := 0#32
  let v940 : BitVec 32 := Scalar.subi v939 c0_i32_460
  let v944 : Index := Scalar.indexCast v940
  let c16_462 : Index := 16#32
  ![v944.toNat, 16]

def k0_chk6 (v939 : BitVec 32) : Prop :=
  (∀ a, (k0_off20 v939) a + S1x16.size a ≤ S257x32.size a) ∧
  (∀ a, (k0_off21 v939) a + S1x16.size a ≤ S257x32.size a)
theorem k0_off20_inb : ∀ (v939 : BitVec 32) (k0_hw6 : k0_chk6 v939), ∀ a, (k0_off20 v939) a + S1x16.size a ≤ S257x32.size a := fun v939 k0_hw6 => k0_hw6.1
theorem k0_off21_inb : ∀ (v939 : BitVec 32) (k0_hw6 : k0_chk6 v939), ∀ a, (k0_off21 v939) a + S1x16.size a ≤ S257x32.size a := fun v939 k0_hw6 => k0_hw6.2

def k0_off22 (v948 : BitVec 32) : Fin 2 → Nat :=
  let c0_i32_463 : BitVec 32 := 0#32
  let v949 : BitVec 32 := Scalar.subi v948 c0_i32_463
  let v950 : Index := Scalar.indexCast v949
  let c0_464 : Index := 0#32
  ![v950.toNat, 0]

def k0_off23 (v948 : BitVec 32) : Fin 2 → Nat :=
  let c0_i32_463 : BitVec 32 := 0#32
  let v949 : BitVec 32 := Scalar.subi v948 c0_i32_463
  let v953 : Index := Scalar.indexCast v949
  let c16_465 : Index := 16#32
  ![v953.toNat, 16]

def k0_chk7 (v948 : BitVec 32) : Prop :=
  (∀ a, (k0_off22 v948) a + S1x16.size a ≤ S257x32.size a) ∧
  (∀ a, (k0_off23 v948) a + S1x16.size a ≤ S257x32.size a)
theorem k0_off22_inb : ∀ (v948 : BitVec 32) (k0_hw7 : k0_chk7 v948), ∀ a, (k0_off22 v948) a + S1x16.size a ≤ S257x32.size a := fun v948 k0_hw7 => k0_hw7.1
theorem k0_off23_inb : ∀ (v948 : BitVec 32) (k0_hw7 : k0_chk7 v948), ∀ a, (k0_off23 v948) a + S1x16.size a ≤ S257x32.size a := fun v948 k0_hw7 => k0_hw7.2

def k0_off24 (v957 : BitVec 32) : Fin 2 → Nat :=
  let c0_i32_466 : BitVec 32 := 0#32
  let v958 : BitVec 32 := Scalar.subi v957 c0_i32_466
  let v959 : Index := Scalar.indexCast v958
  let c0_467 : Index := 0#32
  ![v959.toNat, 0]

def k0_off25 (v957 : BitVec 32) : Fin 2 → Nat :=
  let c0_i32_466 : BitVec 32 := 0#32
  let v958 : BitVec 32 := Scalar.subi v957 c0_i32_466
  let v962 : Index := Scalar.indexCast v958
  let c16_468 : Index := 16#32
  ![v962.toNat, 16]

def k0_chk8 (v957 : BitVec 32) : Prop :=
  (∀ a, (k0_off24 v957) a + S1x16.size a ≤ S257x32.size a) ∧
  (∀ a, (k0_off25 v957) a + S1x16.size a ≤ S257x32.size a)
theorem k0_off24_inb : ∀ (v957 : BitVec 32) (k0_hw8 : k0_chk8 v957), ∀ a, (k0_off24 v957) a + S1x16.size a ≤ S257x32.size a := fun v957 k0_hw8 => k0_hw8.1
theorem k0_off25_inb : ∀ (v957 : BitVec 32) (k0_hw8 : k0_chk8 v957), ∀ a, (k0_off25 v957) a + S1x16.size a ≤ S257x32.size a := fun v957 k0_hw8 => k0_hw8.2

def k0_off26 (v966 : BitVec 32) : Fin 2 → Nat :=
  let c0_i32_469 : BitVec 32 := 0#32
  let v967 : BitVec 32 := Scalar.subi v966 c0_i32_469
  let v968 : Index := Scalar.indexCast v967
  let c0_470 : Index := 0#32
  ![v968.toNat, 0]

def k0_off27 (v966 : BitVec 32) : Fin 2 → Nat :=
  let c0_i32_469 : BitVec 32 := 0#32
  let v967 : BitVec 32 := Scalar.subi v966 c0_i32_469
  let v971 : Index := Scalar.indexCast v967
  let c16_471 : Index := 16#32
  ![v971.toNat, 16]

def k0_chk9 (v966 : BitVec 32) : Prop :=
  (∀ a, (k0_off26 v966) a + S1x16.size a ≤ S257x32.size a) ∧
  (∀ a, (k0_off27 v966) a + S1x16.size a ≤ S257x32.size a)
theorem k0_off26_inb : ∀ (v966 : BitVec 32) (k0_hw9 : k0_chk9 v966), ∀ a, (k0_off26 v966) a + S1x16.size a ≤ S257x32.size a := fun v966 k0_hw9 => k0_hw9.1
theorem k0_off27_inb : ∀ (v966 : BitVec 32) (k0_hw9 : k0_chk9 v966), ∀ a, (k0_off27 v966) a + S1x16.size a ≤ S257x32.size a := fun v966 k0_hw9 => k0_hw9.2

def k0_off28 (v975 : BitVec 32) : Fin 2 → Nat :=
  let c0_i32_472 : BitVec 32 := 0#32
  let v976 : BitVec 32 := Scalar.subi v975 c0_i32_472
  let v977 : Index := Scalar.indexCast v976
  let c0_473 : Index := 0#32
  ![v977.toNat, 0]

def k0_off29 (v975 : BitVec 32) : Fin 2 → Nat :=
  let c0_i32_472 : BitVec 32 := 0#32
  let v976 : BitVec 32 := Scalar.subi v975 c0_i32_472
  let v980 : Index := Scalar.indexCast v976
  let c16_474 : Index := 16#32
  ![v980.toNat, 16]

def k0_chk10 (v975 : BitVec 32) : Prop :=
  (∀ a, (k0_off28 v975) a + S1x16.size a ≤ S257x32.size a) ∧
  (∀ a, (k0_off29 v975) a + S1x16.size a ≤ S257x32.size a)
theorem k0_off28_inb : ∀ (v975 : BitVec 32) (k0_hw10 : k0_chk10 v975), ∀ a, (k0_off28 v975) a + S1x16.size a ≤ S257x32.size a := fun v975 k0_hw10 => k0_hw10.1
theorem k0_off29_inb : ∀ (v975 : BitVec 32) (k0_hw10 : k0_chk10 v975), ∀ a, (k0_off29 v975) a + S1x16.size a ≤ S257x32.size a := fun v975 k0_hw10 => k0_hw10.2

def k0_off30 (v52 : BitVec 32) (k0_t5 : Fin (k0_t5_loop v52).trips) (c0_i32_475 : BitVec 32) : Fin 2 → Nat :=
  let c_m1_i32_43 : BitVec 32 := 4294967295#32
  let c0_i32_44 : BitVec 32 := 0#32
  let c1_i32_46 : BitVec 32 := 1#32
  let arg19 : BitVec 32 := Scf.iv c0_i32_44 c1_i32_46 k0_t5
  let c8_i32_444 : BitVec 32 := 8#32
  let v893 : BitVec 32 := Scalar.muli arg19 c8_i32_444
  let v894 : BitVec 32 := Scalar.addi c_m1_i32_43 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off31 (v52 : BitVec 32) (k0_t5 : Fin (k0_t5_loop v52).trips) (c0_i32_478 : BitVec 32) : Fin 2 → Nat :=
  let c_m1_i32_43 : BitVec 32 := 4294967295#32
  let c0_i32_44 : BitVec 32 := 0#32
  let c1_i32_46 : BitVec 32 := 1#32
  let arg19 : BitVec 32 := Scf.iv c0_i32_44 c1_i32_46 k0_t5
  let c8_i32_444 : BitVec 32 := 8#32
  let v893 : BitVec 32 := Scalar.muli arg19 c8_i32_444
  let v894 : BitVec 32 := Scalar.addi c_m1_i32_43 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t6_loop (v52 : BitVec 32) : Scf.Loop 32 :=
  let c0_i32_44 : BitVec 32 := 0#32
  let c1_i32_35 : BitVec 32 := 1#32
  let v53 : BitVec 32 := Scalar.subi v52 c1_i32_35
  let c2049_i32 : BitVec 32 := 2049#32
  let v54 : BitVec 32 := Scalar.minsi v53 c2049_i32
  let c_m1_i32 : BitVec 32 := 4294967295#32
  let v55 : BitVec 32 := Scalar.subi v54 c_m1_i32
  let c0_i32_36 : BitVec 32 := 0#32
  let v56 : BitVec 32 := Scalar.maxsi v55 c0_i32_36
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c8_i32 : BitVec 32 := 8#32
  let c0_i32_39 : BitVec 32 := 0#32
  let v63 : BitVec 1 := Scalar.cmpi .sgt c8_i32 c0_i32_39
  let v64 : BitVec 32 := Scalar.extui v63
  let c0_i32_40 : BitVec 32 := 0#32
  let v65 : BitVec 1 := Scalar.cmpi .slt c8_i32 c0_i32_40
  let v66 : BitVec 32 := Scalar.extui v65
  let v67 : BitVec 32 := Scalar.subi v64 v66
  let v68 : BitVec 1 := Scalar.cmpi .ne v62 v67
  let v69 : BitVec 32 := Scalar.remsi v56 c8_i32
  let c0_i32_41 : BitVec 32 := 0#32
  let v70 : BitVec 1 := Scalar.cmpi .ne v69 c0_i32_41
  let v71 : BitVec 1 := Scalar.andi v68 v70
  let v57 : BitVec 32 := Scalar.divsi v56 c8_i32
  let c1_i32_42 : BitVec 32 := 1#32
  let v72 : BitVec 32 := Scalar.subi v57 c1_i32_42
  let v73 : BitVec 32 := Scalar.select v71 v72 v57
  let v74 : BitVec 32 := Scalar.subi v73 c0_i32_44
  let c1_i32_45 : BitVec 32 := 1#32
  let v76 : BitVec 32 := Scalar.divsi v74 c1_i32_45
  let v77 : BitVec 32 := Scalar.muli v76 c1_i32_45
  let v78 : BitVec 32 := Scalar.addi c0_i32_44 v77
  let v75 : BitVec 32 := Scalar.addi c0_i32_44 v74
  let c1_i32_47 : BitVec 32 := 1#32
  ⟨v78, v75, c1_i32_47⟩
def k0_off32 (v52 : BitVec 32) (k0_t6 : Fin (k0_t6_loop v52).trips) (c1_i32_445 : BitVec 32) : Fin 1 → Nat :=
  let c_m1_i32_43 : BitVec 32 := 4294967295#32
  let c0_i32_44 : BitVec 32 := 0#32
  let c1_i32_35 : BitVec 32 := 1#32
  let v53 : BitVec 32 := Scalar.subi v52 c1_i32_35
  let c2049_i32 : BitVec 32 := 2049#32
  let v54 : BitVec 32 := Scalar.minsi v53 c2049_i32
  let c_m1_i32 : BitVec 32 := 4294967295#32
  let v55 : BitVec 32 := Scalar.subi v54 c_m1_i32
  let c0_i32_36 : BitVec 32 := 0#32
  let v56 : BitVec 32 := Scalar.maxsi v55 c0_i32_36
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c8_i32 : BitVec 32 := 8#32
  let c0_i32_39 : BitVec 32 := 0#32
  let v63 : BitVec 1 := Scalar.cmpi .sgt c8_i32 c0_i32_39
  let v64 : BitVec 32 := Scalar.extui v63
  let c0_i32_40 : BitVec 32 := 0#32
  let v65 : BitVec 1 := Scalar.cmpi .slt c8_i32 c0_i32_40
  let v66 : BitVec 32 := Scalar.extui v65
  let v67 : BitVec 32 := Scalar.subi v64 v66
  let v68 : BitVec 1 := Scalar.cmpi .ne v62 v67
  let v69 : BitVec 32 := Scalar.remsi v56 c8_i32
  let c0_i32_41 : BitVec 32 := 0#32
  let v70 : BitVec 1 := Scalar.cmpi .ne v69 c0_i32_41
  let v71 : BitVec 1 := Scalar.andi v68 v70
  let v57 : BitVec 32 := Scalar.divsi v56 c8_i32
  let c1_i32_42 : BitVec 32 := 1#32
  let v72 : BitVec 32 := Scalar.subi v57 c1_i32_42
  let v73 : BitVec 32 := Scalar.select v71 v72 v57
  let v74 : BitVec 32 := Scalar.subi v73 c0_i32_44
  let c1_i32_45 : BitVec 32 := 1#32
  let v76 : BitVec 32 := Scalar.divsi v74 c1_i32_45
  let v77 : BitVec 32 := Scalar.muli v76 c1_i32_45
  let v78 : BitVec 32 := Scalar.addi c0_i32_44 v77
  let c1_i32_47 : BitVec 32 := 1#32
  let arg19 : BitVec 32 := Scf.iv v78 c1_i32_47 k0_t6
  let c8_i32_444 : BitVec 32 := 8#32
  let v893 : BitVec 32 := Scalar.muli arg19 c8_i32_444
  let v894 : BitVec 32 := Scalar.addi c_m1_i32_43 v893
  let v895 : BitVec 32 := Scalar.addi v894 c1_i32_445
  let v896 : Index := Scalar.indexCast v895
  ![v896.toNat]
def k0_off33 (v912 : BitVec 32) : Fin 2 → Nat :=
  let c0_i32_451 : BitVec 32 := 0#32
  let v913 : BitVec 32 := Scalar.subi v912 c0_i32_451
  let v914 : Index := Scalar.indexCast v913
  let c0_452 : Index := 0#32
  ![v914.toNat, 0]

def k0_off34 (v912 : BitVec 32) : Fin 2 → Nat :=
  let c0_i32_451 : BitVec 32 := 0#32
  let v913 : BitVec 32 := Scalar.subi v912 c0_i32_451
  let v917 : Index := Scalar.indexCast v913
  let c16_453 : Index := 16#32
  ![v917.toNat, 16]

def k0_chk11 (v912 : BitVec 32) : Prop :=
  (∀ a, (k0_off33 v912) a + S1x16.size a ≤ S257x32.size a) ∧
  (∀ a, (k0_off34 v912) a + S1x16.size a ≤ S257x32.size a)
theorem k0_off33_inb : ∀ (v912 : BitVec 32) (k0_hw11 : k0_chk11 v912), ∀ a, (k0_off33 v912) a + S1x16.size a ≤ S257x32.size a := fun v912 k0_hw11 => k0_hw11.1
theorem k0_off34_inb : ∀ (v912 : BitVec 32) (k0_hw11 : k0_chk11 v912), ∀ a, (k0_off34 v912) a + S1x16.size a ≤ S257x32.size a := fun v912 k0_hw11 => k0_hw11.2

def k0_off35 (v921 : BitVec 32) : Fin 2 → Nat :=
  let c0_i32_454 : BitVec 32 := 0#32
  let v922 : BitVec 32 := Scalar.subi v921 c0_i32_454
  let v923 : Index := Scalar.indexCast v922
  let c0_455 : Index := 0#32
  ![v923.toNat, 0]

def k0_off36 (v921 : BitVec 32) : Fin 2 → Nat :=
  let c0_i32_454 : BitVec 32 := 0#32
  let v922 : BitVec 32 := Scalar.subi v921 c0_i32_454
  let v926 : Index := Scalar.indexCast v922
  let c16_456 : Index := 16#32
  ![v926.toNat, 16]

def k0_chk12 (v921 : BitVec 32) : Prop :=
  (∀ a, (k0_off35 v921) a + S1x16.size a ≤ S257x32.size a) ∧
  (∀ a, (k0_off36 v921) a + S1x16.size a ≤ S257x32.size a)
theorem k0_off35_inb : ∀ (v921 : BitVec 32) (k0_hw12 : k0_chk12 v921), ∀ a, (k0_off35 v921) a + S1x16.size a ≤ S257x32.size a := fun v921 k0_hw12 => k0_hw12.1
theorem k0_off36_inb : ∀ (v921 : BitVec 32) (k0_hw12 : k0_chk12 v921), ∀ a, (k0_off36 v921) a + S1x16.size a ≤ S257x32.size a := fun v921 k0_hw12 => k0_hw12.2

def k0_off37 (v930 : BitVec 32) : Fin 2 → Nat :=
  let c0_i32_457 : BitVec 32 := 0#32
  let v931 : BitVec 32 := Scalar.subi v930 c0_i32_457
  let v932 : Index := Scalar.indexCast v931
  let c0_458 : Index := 0#32
  ![v932.toNat, 0]

def k0_off38 (v930 : BitVec 32) : Fin 2 → Nat :=
  let c0_i32_457 : BitVec 32 := 0#32
  let v931 : BitVec 32 := Scalar.subi v930 c0_i32_457
  let v935 : Index := Scalar.indexCast v931
  let c16_459 : Index := 16#32
  ![v935.toNat, 16]

def k0_chk13 (v930 : BitVec 32) : Prop :=
  (∀ a, (k0_off37 v930) a + S1x16.size a ≤ S257x32.size a) ∧
  (∀ a, (k0_off38 v930) a + S1x16.size a ≤ S257x32.size a)
theorem k0_off37_inb : ∀ (v930 : BitVec 32) (k0_hw13 : k0_chk13 v930), ∀ a, (k0_off37 v930) a + S1x16.size a ≤ S257x32.size a := fun v930 k0_hw13 => k0_hw13.1
theorem k0_off38_inb : ∀ (v930 : BitVec 32) (k0_hw13 : k0_chk13 v930), ∀ a, (k0_off38 v930) a + S1x16.size a ≤ S257x32.size a := fun v930 k0_hw13 => k0_hw13.2

def k0_off39 (v939 : BitVec 32) : Fin 2 → Nat :=
  let c0_i32_460 : BitVec 32 := 0#32
  let v940 : BitVec 32 := Scalar.subi v939 c0_i32_460
  let v941 : Index := Scalar.indexCast v940
  let c0_461 : Index := 0#32
  ![v941.toNat, 0]

def k0_off40 (v939 : BitVec 32) : Fin 2 → Nat :=
  let c0_i32_460 : BitVec 32 := 0#32
  let v940 : BitVec 32 := Scalar.subi v939 c0_i32_460
  let v944 : Index := Scalar.indexCast v940
  let c16_462 : Index := 16#32
  ![v944.toNat, 16]

def k0_chk14 (v939 : BitVec 32) : Prop :=
  (∀ a, (k0_off39 v939) a + S1x16.size a ≤ S257x32.size a) ∧
  (∀ a, (k0_off40 v939) a + S1x16.size a ≤ S257x32.size a)
theorem k0_off39_inb : ∀ (v939 : BitVec 32) (k0_hw14 : k0_chk14 v939), ∀ a, (k0_off39 v939) a + S1x16.size a ≤ S257x32.size a := fun v939 k0_hw14 => k0_hw14.1
theorem k0_off40_inb : ∀ (v939 : BitVec 32) (k0_hw14 : k0_chk14 v939), ∀ a, (k0_off40 v939) a + S1x16.size a ≤ S257x32.size a := fun v939 k0_hw14 => k0_hw14.2

def k0_off41 (v948 : BitVec 32) : Fin 2 → Nat :=
  let c0_i32_463 : BitVec 32 := 0#32
  let v949 : BitVec 32 := Scalar.subi v948 c0_i32_463
  let v950 : Index := Scalar.indexCast v949
  let c0_464 : Index := 0#32
  ![v950.toNat, 0]

def k0_off42 (v948 : BitVec 32) : Fin 2 → Nat :=
  let c0_i32_463 : BitVec 32 := 0#32
  let v949 : BitVec 32 := Scalar.subi v948 c0_i32_463
  let v953 : Index := Scalar.indexCast v949
  let c16_465 : Index := 16#32
  ![v953.toNat, 16]

def k0_chk15 (v948 : BitVec 32) : Prop :=
  (∀ a, (k0_off41 v948) a + S1x16.size a ≤ S257x32.size a) ∧
  (∀ a, (k0_off42 v948) a + S1x16.size a ≤ S257x32.size a)
theorem k0_off41_inb : ∀ (v948 : BitVec 32) (k0_hw15 : k0_chk15 v948), ∀ a, (k0_off41 v948) a + S1x16.size a ≤ S257x32.size a := fun v948 k0_hw15 => k0_hw15.1
theorem k0_off42_inb : ∀ (v948 : BitVec 32) (k0_hw15 : k0_chk15 v948), ∀ a, (k0_off42 v948) a + S1x16.size a ≤ S257x32.size a := fun v948 k0_hw15 => k0_hw15.2

def k0_off43 (v957 : BitVec 32) : Fin 2 → Nat :=
  let c0_i32_466 : BitVec 32 := 0#32
  let v958 : BitVec 32 := Scalar.subi v957 c0_i32_466
  let v959 : Index := Scalar.indexCast v958
  let c0_467 : Index := 0#32
  ![v959.toNat, 0]

def k0_off44 (v957 : BitVec 32) : Fin 2 → Nat :=
  let c0_i32_466 : BitVec 32 := 0#32
  let v958 : BitVec 32 := Scalar.subi v957 c0_i32_466
  let v962 : Index := Scalar.indexCast v958
  let c16_468 : Index := 16#32
  ![v962.toNat, 16]

def k0_chk16 (v957 : BitVec 32) : Prop :=
  (∀ a, (k0_off43 v957) a + S1x16.size a ≤ S257x32.size a) ∧
  (∀ a, (k0_off44 v957) a + S1x16.size a ≤ S257x32.size a)
theorem k0_off43_inb : ∀ (v957 : BitVec 32) (k0_hw16 : k0_chk16 v957), ∀ a, (k0_off43 v957) a + S1x16.size a ≤ S257x32.size a := fun v957 k0_hw16 => k0_hw16.1
theorem k0_off44_inb : ∀ (v957 : BitVec 32) (k0_hw16 : k0_chk16 v957), ∀ a, (k0_off44 v957) a + S1x16.size a ≤ S257x32.size a := fun v957 k0_hw16 => k0_hw16.2

def k0_off45 (v966 : BitVec 32) : Fin 2 → Nat :=
  let c0_i32_469 : BitVec 32 := 0#32
  let v967 : BitVec 32 := Scalar.subi v966 c0_i32_469
  let v968 : Index := Scalar.indexCast v967
  let c0_470 : Index := 0#32
  ![v968.toNat, 0]

def k0_off46 (v966 : BitVec 32) : Fin 2 → Nat :=
  let c0_i32_469 : BitVec 32 := 0#32
  let v967 : BitVec 32 := Scalar.subi v966 c0_i32_469
  let v971 : Index := Scalar.indexCast v967
  let c16_471 : Index := 16#32
  ![v971.toNat, 16]

def k0_chk17 (v966 : BitVec 32) : Prop :=
  (∀ a, (k0_off45 v966) a + S1x16.size a ≤ S257x32.size a) ∧
  (∀ a, (k0_off46 v966) a + S1x16.size a ≤ S257x32.size a)
theorem k0_off45_inb : ∀ (v966 : BitVec 32) (k0_hw17 : k0_chk17 v966), ∀ a, (k0_off45 v966) a + S1x16.size a ≤ S257x32.size a := fun v966 k0_hw17 => k0_hw17.1
theorem k0_off46_inb : ∀ (v966 : BitVec 32) (k0_hw17 : k0_chk17 v966), ∀ a, (k0_off46 v966) a + S1x16.size a ≤ S257x32.size a := fun v966 k0_hw17 => k0_hw17.2

def k0_off47 (v975 : BitVec 32) : Fin 2 → Nat :=
  let c0_i32_472 : BitVec 32 := 0#32
  let v976 : BitVec 32 := Scalar.subi v975 c0_i32_472
  let v977 : Index := Scalar.indexCast v976
  let c0_473 : Index := 0#32
  ![v977.toNat, 0]

def k0_off48 (v975 : BitVec 32) : Fin 2 → Nat :=
  let c0_i32_472 : BitVec 32 := 0#32
  let v976 : BitVec 32 := Scalar.subi v975 c0_i32_472
  let v980 : Index := Scalar.indexCast v976
  let c16_474 : Index := 16#32
  ![v980.toNat, 16]

def k0_chk18 (v975 : BitVec 32) : Prop :=
  (∀ a, (k0_off47 v975) a + S1x16.size a ≤ S257x32.size a) ∧
  (∀ a, (k0_off48 v975) a + S1x16.size a ≤ S257x32.size a)
theorem k0_off47_inb : ∀ (v975 : BitVec 32) (k0_hw18 : k0_chk18 v975), ∀ a, (k0_off47 v975) a + S1x16.size a ≤ S257x32.size a := fun v975 k0_hw18 => k0_hw18.1
theorem k0_off48_inb : ∀ (v975 : BitVec 32) (k0_hw18 : k0_chk18 v975), ∀ a, (k0_off48 v975) a + S1x16.size a ≤ S257x32.size a := fun v975 k0_hw18 => k0_hw18.2

def k0_off49 (v52 : BitVec 32) (k0_t6 : Fin (k0_t6_loop v52).trips) (c0_i32_475 : BitVec 32) : Fin 2 → Nat :=
  let c_m1_i32_43 : BitVec 32 := 4294967295#32
  let c0_i32_44 : BitVec 32 := 0#32
  let c1_i32_35 : BitVec 32 := 1#32
  let v53 : BitVec 32 := Scalar.subi v52 c1_i32_35
  let c2049_i32 : BitVec 32 := 2049#32
  let v54 : BitVec 32 := Scalar.minsi v53 c2049_i32
  let c_m1_i32 : BitVec 32 := 4294967295#32
  let v55 : BitVec 32 := Scalar.subi v54 c_m1_i32
  let c0_i32_36 : BitVec 32 := 0#32
  let v56 : BitVec 32 := Scalar.maxsi v55 c0_i32_36
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c8_i32 : BitVec 32 := 8#32
  let c0_i32_39 : BitVec 32 := 0#32
  let v63 : BitVec 1 := Scalar.cmpi .sgt c8_i32 c0_i32_39
  let v64 : BitVec 32 := Scalar.extui v63
  let c0_i32_40 : BitVec 32 := 0#32
  let v65 : BitVec 1 := Scalar.cmpi .slt c8_i32 c0_i32_40
  let v66 : BitVec 32 := Scalar.extui v65
  let v67 : BitVec 32 := Scalar.subi v64 v66
  let v68 : BitVec 1 := Scalar.cmpi .ne v62 v67
  let v69 : BitVec 32 := Scalar.remsi v56 c8_i32
  let c0_i32_41 : BitVec 32 := 0#32
  let v70 : BitVec 1 := Scalar.cmpi .ne v69 c0_i32_41
  let v71 : BitVec 1 := Scalar.andi v68 v70
  let v57 : BitVec 32 := Scalar.divsi v56 c8_i32
  let c1_i32_42 : BitVec 32 := 1#32
  let v72 : BitVec 32 := Scalar.subi v57 c1_i32_42
  let v73 : BitVec 32 := Scalar.select v71 v72 v57
  let v74 : BitVec 32 := Scalar.subi v73 c0_i32_44
  let c1_i32_45 : BitVec 32 := 1#32
  let v76 : BitVec 32 := Scalar.divsi v74 c1_i32_45
  let v77 : BitVec 32 := Scalar.muli v76 c1_i32_45
  let v78 : BitVec 32 := Scalar.addi c0_i32_44 v77
  let c1_i32_47 : BitVec 32 := 1#32
  let arg19 : BitVec 32 := Scf.iv v78 c1_i32_47 k0_t6
  let c8_i32_444 : BitVec 32 := 8#32
  let v893 : BitVec 32 := Scalar.muli arg19 c8_i32_444
  let v894 : BitVec 32 := Scalar.addi c_m1_i32_43 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off50 (v52 : BitVec 32) (k0_t6 : Fin (k0_t6_loop v52).trips) (c0_i32_478 : BitVec 32) : Fin 2 → Nat :=
  let c_m1_i32_43 : BitVec 32 := 4294967295#32
  let c0_i32_44 : BitVec 32 := 0#32
  let c1_i32_35 : BitVec 32 := 1#32
  let v53 : BitVec 32 := Scalar.subi v52 c1_i32_35
  let c2049_i32 : BitVec 32 := 2049#32
  let v54 : BitVec 32 := Scalar.minsi v53 c2049_i32
  let c_m1_i32 : BitVec 32 := 4294967295#32
  let v55 : BitVec 32 := Scalar.subi v54 c_m1_i32
  let c0_i32_36 : BitVec 32 := 0#32
  let v56 : BitVec 32 := Scalar.maxsi v55 c0_i32_36
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c8_i32 : BitVec 32 := 8#32
  let c0_i32_39 : BitVec 32 := 0#32
  let v63 : BitVec 1 := Scalar.cmpi .sgt c8_i32 c0_i32_39
  let v64 : BitVec 32 := Scalar.extui v63
  let c0_i32_40 : BitVec 32 := 0#32
  let v65 : BitVec 1 := Scalar.cmpi .slt c8_i32 c0_i32_40
  let v66 : BitVec 32 := Scalar.extui v65
  let v67 : BitVec 32 := Scalar.subi v64 v66
  let v68 : BitVec 1 := Scalar.cmpi .ne v62 v67
  let v69 : BitVec 32 := Scalar.remsi v56 c8_i32
  let c0_i32_41 : BitVec 32 := 0#32
  let v70 : BitVec 1 := Scalar.cmpi .ne v69 c0_i32_41
  let v71 : BitVec 1 := Scalar.andi v68 v70
  let v57 : BitVec 32 := Scalar.divsi v56 c8_i32
  let c1_i32_42 : BitVec 32 := 1#32
  let v72 : BitVec 32 := Scalar.subi v57 c1_i32_42
  let v73 : BitVec 32 := Scalar.select v71 v72 v57
  let v74 : BitVec 32 := Scalar.subi v73 c0_i32_44
  let c1_i32_45 : BitVec 32 := 1#32
  let v76 : BitVec 32 := Scalar.divsi v74 c1_i32_45
  let v77 : BitVec 32 := Scalar.muli v76 c1_i32_45
  let v78 : BitVec 32 := Scalar.addi c0_i32_44 v77
  let c1_i32_47 : BitVec 32 := 1#32
  let arg19 : BitVec 32 := Scf.iv v78 c1_i32_47 k0_t6
  let c8_i32_444 : BitVec 32 := 8#32
  let v893 : BitVec 32 := Scalar.muli arg19 c8_i32_444
  let v894 : BitVec 32 := Scalar.addi c_m1_i32_43 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t7_loop (v52 : BitVec 32) : Scf.Loop 32 :=
  let c_m1_i32_49 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let c_m1_i32 : BitVec 32 := 4294967295#32
  let v55 : BitVec 32 := Scalar.subi v54 c_m1_i32
  let c0_i32_36 : BitVec 32 := 0#32
  let v56 : BitVec 32 := Scalar.maxsi v55 c0_i32_36
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c8_i32 : BitVec 32 := 8#32
  let c0_i32_39 : BitVec 32 := 0#32
  let v63 : BitVec 1 := Scalar.cmpi .sgt c8_i32 c0_i32_39
  let v64 : BitVec 32 := Scalar.extui v63
  let c0_i32_40 : BitVec 32 := 0#32
  let v65 : BitVec 1 := Scalar.cmpi .slt c8_i32 c0_i32_40
  let v66 : BitVec 32 := Scalar.extui v65
  let v67 : BitVec 32 := Scalar.subi v64 v66
  let v68 : BitVec 1 := Scalar.cmpi .ne v62 v67
  let v69 : BitVec 32 := Scalar.remsi v56 c8_i32
  let c0_i32_41 : BitVec 32 := 0#32
  let v70 : BitVec 1 := Scalar.cmpi .ne v69 c0_i32_41
  let v71 : BitVec 1 := Scalar.andi v68 v70
  let v57 : BitVec 32 := Scalar.divsi v56 c8_i32
  let c1_i32_42 : BitVec 32 := 1#32
  let v72 : BitVec 32 := Scalar.subi v57 c1_i32_42
  let v73 : BitVec 32 := Scalar.select v71 v72 v57
  let c8_i32_48 : BitVec 32 := 8#32
  let v81 : BitVec 32 := Scalar.muli v73 c8_i32_48
  let v82 : BitVec 32 := Scalar.addi c_m1_i32_49 v81
  let v83 : BitVec 32 := Scalar.subi v54 v82
  let c1_i32_50 : BitVec 32 := 1#32
  let v85 : BitVec 32 := Scalar.divsi v83 c1_i32_50
  let v86 : BitVec 32 := Scalar.muli v85 c1_i32_50
  let v87 : BitVec 32 := Scalar.addi v82 v86
  let c1_i32_51 : BitVec 32 := 1#32
  ⟨v82, v87, c1_i32_51⟩
def k0_off51 (v52 : BitVec 32) (k0_t7 : Fin (k0_t7_loop v52).trips) : Fin 1 → Nat :=
  let c_m1_i32_49 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let c_m1_i32 : BitVec 32 := 4294967295#32
  let v55 : BitVec 32 := Scalar.subi v54 c_m1_i32
  let c0_i32_36 : BitVec 32 := 0#32
  let v56 : BitVec 32 := Scalar.maxsi v55 c0_i32_36
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c8_i32 : BitVec 32 := 8#32
  let c0_i32_39 : BitVec 32 := 0#32
  let v63 : BitVec 1 := Scalar.cmpi .sgt c8_i32 c0_i32_39
  let v64 : BitVec 32 := Scalar.extui v63
  let c0_i32_40 : BitVec 32 := 0#32
  let v65 : BitVec 1 := Scalar.cmpi .slt c8_i32 c0_i32_40
  let v66 : BitVec 32 := Scalar.extui v65
  let v67 : BitVec 32 := Scalar.subi v64 v66
  let v68 : BitVec 1 := Scalar.cmpi .ne v62 v67
  let v69 : BitVec 32 := Scalar.remsi v56 c8_i32
  let c0_i32_41 : BitVec 32 := 0#32
  let v70 : BitVec 1 := Scalar.cmpi .ne v69 c0_i32_41
  let v71 : BitVec 1 := Scalar.andi v68 v70
  let v57 : BitVec 32 := Scalar.divsi v56 c8_i32
  let c1_i32_42 : BitVec 32 := 1#32
  let v72 : BitVec 32 := Scalar.subi v57 c1_i32_42
  let v73 : BitVec 32 := Scalar.select v71 v72 v57
  let c8_i32_48 : BitVec 32 := 8#32
  let v81 : BitVec 32 := Scalar.muli v73 c8_i32_48
  let v82 : BitVec 32 := Scalar.addi c_m1_i32_49 v81
  let c1_i32_51 : BitVec 32 := 1#32
  let arg19 : BitVec 32 := Scf.iv v82 c1_i32_51 k0_t7
  let c1_i32_444 : BitVec 32 := 1#32
  let v893 : BitVec 32 := Scalar.addi arg19 c1_i32_444
  let v894 : Index := Scalar.indexCast v893
  ![v894.toNat]
def k0_off52 (v897 : BitVec 32) : Fin 2 → Nat :=
  let c0_i32_445 : BitVec 32 := 0#32
  let v898 : BitVec 32 := Scalar.subi v897 c0_i32_445
  let v912 : Index := Scalar.indexCast v898
  let c0_450 : Index := 0#32
  ![v912.toNat, 0]

def k0_off53 (v897 : BitVec 32) : Fin 2 → Nat :=
  let c0_i32_445 : BitVec 32 := 0#32
  let v898 : BitVec 32 := Scalar.subi v897 c0_i32_445
  let v915 : Index := Scalar.indexCast v898
  let c16_451 : Index := 16#32
  ![v915.toNat, 16]

def k0_chk19 (v897 : BitVec 32) : Prop :=
  (∀ a, (k0_off52 v897) a + S1x16.size a ≤ S257x32.size a) ∧
  (∀ a, (k0_off53 v897) a + S1x16.size a ≤ S257x32.size a)
theorem k0_off52_inb : ∀ (v897 : BitVec 32) (k0_hw19 : k0_chk19 v897), ∀ a, (k0_off52 v897) a + S1x16.size a ≤ S257x32.size a := fun v897 k0_hw19 => k0_hw19.1
theorem k0_off53_inb : ∀ (v897 : BitVec 32) (k0_hw19 : k0_chk19 v897), ∀ a, (k0_off53 v897) a + S1x16.size a ≤ S257x32.size a := fun v897 k0_hw19 => k0_hw19.2

def k0_off54 (v52 : BitVec 32) (k0_t7 : Fin (k0_t7_loop v52).trips) : Fin 2 → Nat :=
  let c_m1_i32_49 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let c_m1_i32 : BitVec 32 := 4294967295#32
  let v55 : BitVec 32 := Scalar.subi v54 c_m1_i32
  let c0_i32_36 : BitVec 32 := 0#32
  let v56 : BitVec 32 := Scalar.maxsi v55 c0_i32_36
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c8_i32 : BitVec 32 := 8#32
  let c0_i32_39 : BitVec 32 := 0#32
  let v63 : BitVec 1 := Scalar.cmpi .sgt c8_i32 c0_i32_39
  let v64 : BitVec 32 := Scalar.extui v63
  let c0_i32_40 : BitVec 32 := 0#32
  let v65 : BitVec 1 := Scalar.cmpi .slt c8_i32 c0_i32_40
  let v66 : BitVec 32 := Scalar.extui v65
  let v67 : BitVec 32 := Scalar.subi v64 v66
  let v68 : BitVec 1 := Scalar.cmpi .ne v62 v67
  let v69 : BitVec 32 := Scalar.remsi v56 c8_i32
  let c0_i32_41 : BitVec 32 := 0#32
  let v70 : BitVec 1 := Scalar.cmpi .ne v69 c0_i32_41
  let v71 : BitVec 1 := Scalar.andi v68 v70
  let v57 : BitVec 32 := Scalar.divsi v56 c8_i32
  let c1_i32_42 : BitVec 32 := 1#32
  let v72 : BitVec 32 := Scalar.subi v57 c1_i32_42
  let v73 : BitVec 32 := Scalar.select v71 v72 v57
  let c8_i32_48 : BitVec 32 := 8#32
  let v81 : BitVec 32 := Scalar.muli v73 c8_i32_48
  let v82 : BitVec 32 := Scalar.addi c_m1_i32_49 v81
  let c1_i32_51 : BitVec 32 := 1#32
  let arg19 : BitVec 32 := Scf.iv v82 c1_i32_51 k0_t7
  let c1_i32_452 : BitVec 32 := 1#32
  let v920 : BitVec 32 := Scalar.addi arg19 c1_i32_452
  let v921 : Index := Scalar.indexCast v920
  let c0_453 : Index := 0#32
  ![v921.toNat, 0]
def k0_off55 (v52 : BitVec 32) (k0_t7 : Fin (k0_t7_loop v52).trips) : Fin 2 → Nat :=
  let c_m1_i32_49 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let c_m1_i32 : BitVec 32 := 4294967295#32
  let v55 : BitVec 32 := Scalar.subi v54 c_m1_i32
  let c0_i32_36 : BitVec 32 := 0#32
  let v56 : BitVec 32 := Scalar.maxsi v55 c0_i32_36
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c8_i32 : BitVec 32 := 8#32
  let c0_i32_39 : BitVec 32 := 0#32
  let v63 : BitVec 1 := Scalar.cmpi .sgt c8_i32 c0_i32_39
  let v64 : BitVec 32 := Scalar.extui v63
  let c0_i32_40 : BitVec 32 := 0#32
  let v65 : BitVec 1 := Scalar.cmpi .slt c8_i32 c0_i32_40
  let v66 : BitVec 32 := Scalar.extui v65
  let v67 : BitVec 32 := Scalar.subi v64 v66
  let v68 : BitVec 1 := Scalar.cmpi .ne v62 v67
  let v69 : BitVec 32 := Scalar.remsi v56 c8_i32
  let c0_i32_41 : BitVec 32 := 0#32
  let v70 : BitVec 1 := Scalar.cmpi .ne v69 c0_i32_41
  let v71 : BitVec 1 := Scalar.andi v68 v70
  let v57 : BitVec 32 := Scalar.divsi v56 c8_i32
  let c1_i32_42 : BitVec 32 := 1#32
  let v72 : BitVec 32 := Scalar.subi v57 c1_i32_42
  let v73 : BitVec 32 := Scalar.select v71 v72 v57
  let c8_i32_48 : BitVec 32 := 8#32
  let v81 : BitVec 32 := Scalar.muli v73 c8_i32_48
  let v82 : BitVec 32 := Scalar.addi c_m1_i32_49 v81
  let c1_i32_51 : BitVec 32 := 1#32
  let arg19 : BitVec 32 := Scf.iv v82 c1_i32_51 k0_t7
  let c1_i32_454 : BitVec 32 := 1#32
  let v925 : BitVec 32 := Scalar.addi arg19 c1_i32_454
  let v926 : Index := Scalar.indexCast v925
  let c16_455 : Index := 16#32
  ![v926.toNat, 16]
@[reducible] def k0_t8_loop (v52 : BitVec 32) : Scf.Loop 32 :=
  let c_m1_i32_49 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let c_m1_i32 : BitVec 32 := 4294967295#32
  let v55 : BitVec 32 := Scalar.subi v54 c_m1_i32
  let c0_i32_36 : BitVec 32 := 0#32
  let v56 : BitVec 32 := Scalar.maxsi v55 c0_i32_36
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c8_i32 : BitVec 32 := 8#32
  let c0_i32_39 : BitVec 32 := 0#32
  let v63 : BitVec 1 := Scalar.cmpi .sgt c8_i32 c0_i32_39
  let v64 : BitVec 32 := Scalar.extui v63
  let c0_i32_40 : BitVec 32 := 0#32
  let v65 : BitVec 1 := Scalar.cmpi .slt c8_i32 c0_i32_40
  let v66 : BitVec 32 := Scalar.extui v65
  let v67 : BitVec 32 := Scalar.subi v64 v66
  let v68 : BitVec 1 := Scalar.cmpi .ne v62 v67
  let v69 : BitVec 32 := Scalar.remsi v56 c8_i32
  let c0_i32_41 : BitVec 32 := 0#32
  let v70 : BitVec 1 := Scalar.cmpi .ne v69 c0_i32_41
  let v71 : BitVec 1 := Scalar.andi v68 v70
  let v57 : BitVec 32 := Scalar.divsi v56 c8_i32
  let c1_i32_42 : BitVec 32 := 1#32
  let v72 : BitVec 32 := Scalar.subi v57 c1_i32_42
  let v73 : BitVec 32 := Scalar.select v71 v72 v57
  let c8_i32_48 : BitVec 32 := 8#32
  let v81 : BitVec 32 := Scalar.muli v73 c8_i32_48
  let v82 : BitVec 32 := Scalar.addi c_m1_i32_49 v81
  let v83 : BitVec 32 := Scalar.subi v54 v82
  let c1_i32_50 : BitVec 32 := 1#32
  let v85 : BitVec 32 := Scalar.divsi v83 c1_i32_50
  let v86 : BitVec 32 := Scalar.muli v85 c1_i32_50
  let v87 : BitVec 32 := Scalar.addi v82 v86
  let v84 : BitVec 32 := Scalar.addi v82 v83
  let c1_i32_52 : BitVec 32 := 1#32
  ⟨v87, v84, c1_i32_52⟩
def k0_off56 (v52 : BitVec 32) (k0_t8 : Fin (k0_t8_loop v52).trips) : Fin 1 → Nat :=
  let c_m1_i32_49 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let c_m1_i32 : BitVec 32 := 4294967295#32
  let v55 : BitVec 32 := Scalar.subi v54 c_m1_i32
  let c0_i32_36 : BitVec 32 := 0#32
  let v56 : BitVec 32 := Scalar.maxsi v55 c0_i32_36
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c8_i32 : BitVec 32 := 8#32
  let c0_i32_39 : BitVec 32 := 0#32
  let v63 : BitVec 1 := Scalar.cmpi .sgt c8_i32 c0_i32_39
  let v64 : BitVec 32 := Scalar.extui v63
  let c0_i32_40 : BitVec 32 := 0#32
  let v65 : BitVec 1 := Scalar.cmpi .slt c8_i32 c0_i32_40
  let v66 : BitVec 32 := Scalar.extui v65
  let v67 : BitVec 32 := Scalar.subi v64 v66
  let v68 : BitVec 1 := Scalar.cmpi .ne v62 v67
  let v69 : BitVec 32 := Scalar.remsi v56 c8_i32
  let c0_i32_41 : BitVec 32 := 0#32
  let v70 : BitVec 1 := Scalar.cmpi .ne v69 c0_i32_41
  let v71 : BitVec 1 := Scalar.andi v68 v70
  let v57 : BitVec 32 := Scalar.divsi v56 c8_i32
  let c1_i32_42 : BitVec 32 := 1#32
  let v72 : BitVec 32 := Scalar.subi v57 c1_i32_42
  let v73 : BitVec 32 := Scalar.select v71 v72 v57
  let c8_i32_48 : BitVec 32 := 8#32
  let v81 : BitVec 32 := Scalar.muli v73 c8_i32_48
  let v82 : BitVec 32 := Scalar.addi c_m1_i32_49 v81
  let v83 : BitVec 32 := Scalar.subi v54 v82
  let c1_i32_50 : BitVec 32 := 1#32
  let v85 : BitVec 32 := Scalar.divsi v83 c1_i32_50
  let v86 : BitVec 32 := Scalar.muli v85 c1_i32_50
  let v87 : BitVec 32 := Scalar.addi v82 v86
  let c1_i32_52 : BitVec 32 := 1#32
  let arg19 : BitVec 32 := Scf.iv v87 c1_i32_52 k0_t8
  let c1_i32_444 : BitVec 32 := 1#32
  let v893 : BitVec 32 := Scalar.addi arg19 c1_i32_444
  let v894 : Index := Scalar.indexCast v893
  ![v894.toNat]
def k0_off57 (v897 : BitVec 32) : Fin 2 → Nat :=
  let c0_i32_445 : BitVec 32 := 0#32
  let v898 : BitVec 32 := Scalar.subi v897 c0_i32_445
  let v912 : Index := Scalar.indexCast v898
  let c0_450 : Index := 0#32
  ![v912.toNat, 0]

def k0_off58 (v897 : BitVec 32) : Fin 2 → Nat :=
  let c0_i32_445 : BitVec 32 := 0#32
  let v898 : BitVec 32 := Scalar.subi v897 c0_i32_445
  let v915 : Index := Scalar.indexCast v898
  let c16_451 : Index := 16#32
  ![v915.toNat, 16]

def k0_chk20 (v897 : BitVec 32) : Prop :=
  (∀ a, (k0_off57 v897) a + S1x16.size a ≤ S257x32.size a) ∧
  (∀ a, (k0_off58 v897) a + S1x16.size a ≤ S257x32.size a)
theorem k0_off57_inb : ∀ (v897 : BitVec 32) (k0_hw20 : k0_chk20 v897), ∀ a, (k0_off57 v897) a + S1x16.size a ≤ S257x32.size a := fun v897 k0_hw20 => k0_hw20.1
theorem k0_off58_inb : ∀ (v897 : BitVec 32) (k0_hw20 : k0_chk20 v897), ∀ a, (k0_off58 v897) a + S1x16.size a ≤ S257x32.size a := fun v897 k0_hw20 => k0_hw20.2

def k0_off59 (v52 : BitVec 32) (k0_t8 : Fin (k0_t8_loop v52).trips) : Fin 2 → Nat :=
  let c_m1_i32_49 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let c_m1_i32 : BitVec 32 := 4294967295#32
  let v55 : BitVec 32 := Scalar.subi v54 c_m1_i32
  let c0_i32_36 : BitVec 32 := 0#32
  let v56 : BitVec 32 := Scalar.maxsi v55 c0_i32_36
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c8_i32 : BitVec 32 := 8#32
  let c0_i32_39 : BitVec 32 := 0#32
  let v63 : BitVec 1 := Scalar.cmpi .sgt c8_i32 c0_i32_39
  let v64 : BitVec 32 := Scalar.extui v63
  let c0_i32_40 : BitVec 32 := 0#32
  let v65 : BitVec 1 := Scalar.cmpi .slt c8_i32 c0_i32_40
  let v66 : BitVec 32 := Scalar.extui v65
  let v67 : BitVec 32 := Scalar.subi v64 v66
  let v68 : BitVec 1 := Scalar.cmpi .ne v62 v67
  let v69 : BitVec 32 := Scalar.remsi v56 c8_i32
  let c0_i32_41 : BitVec 32 := 0#32
  let v70 : BitVec 1 := Scalar.cmpi .ne v69 c0_i32_41
  let v71 : BitVec 1 := Scalar.andi v68 v70
  let v57 : BitVec 32 := Scalar.divsi v56 c8_i32
  let c1_i32_42 : BitVec 32 := 1#32
  let v72 : BitVec 32 := Scalar.subi v57 c1_i32_42
  let v73 : BitVec 32 := Scalar.select v71 v72 v57
  let c8_i32_48 : BitVec 32 := 8#32
  let v81 : BitVec 32 := Scalar.muli v73 c8_i32_48
  let v82 : BitVec 32 := Scalar.addi c_m1_i32_49 v81
  let v83 : BitVec 32 := Scalar.subi v54 v82
  let c1_i32_50 : BitVec 32 := 1#32
  let v85 : BitVec 32 := Scalar.divsi v83 c1_i32_50
  let v86 : BitVec 32 := Scalar.muli v85 c1_i32_50
  let v87 : BitVec 32 := Scalar.addi v82 v86
  let c1_i32_52 : BitVec 32 := 1#32
  let arg19 : BitVec 32 := Scf.iv v87 c1_i32_52 k0_t8
  let c1_i32_452 : BitVec 32 := 1#32
  let v920 : BitVec 32 := Scalar.addi arg19 c1_i32_452
  let v921 : Index := Scalar.indexCast v920
  let c0_453 : Index := 0#32
  ![v921.toNat, 0]
def k0_off60 (v52 : BitVec 32) (k0_t8 : Fin (k0_t8_loop v52).trips) : Fin 2 → Nat :=
  let c_m1_i32_49 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let c_m1_i32 : BitVec 32 := 4294967295#32
  let v55 : BitVec 32 := Scalar.subi v54 c_m1_i32
  let c0_i32_36 : BitVec 32 := 0#32
  let v56 : BitVec 32 := Scalar.maxsi v55 c0_i32_36
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c8_i32 : BitVec 32 := 8#32
  let c0_i32_39 : BitVec 32 := 0#32
  let v63 : BitVec 1 := Scalar.cmpi .sgt c8_i32 c0_i32_39
  let v64 : BitVec 32 := Scalar.extui v63
  let c0_i32_40 : BitVec 32 := 0#32
  let v65 : BitVec 1 := Scalar.cmpi .slt c8_i32 c0_i32_40
  let v66 : BitVec 32 := Scalar.extui v65
  let v67 : BitVec 32 := Scalar.subi v64 v66
  let v68 : BitVec 1 := Scalar.cmpi .ne v62 v67
  let v69 : BitVec 32 := Scalar.remsi v56 c8_i32
  let c0_i32_41 : BitVec 32 := 0#32
  let v70 : BitVec 1 := Scalar.cmpi .ne v69 c0_i32_41
  let v71 : BitVec 1 := Scalar.andi v68 v70
  let v57 : BitVec 32 := Scalar.divsi v56 c8_i32
  let c1_i32_42 : BitVec 32 := 1#32
  let v72 : BitVec 32 := Scalar.subi v57 c1_i32_42
  let v73 : BitVec 32 := Scalar.select v71 v72 v57
  let c8_i32_48 : BitVec 32 := 8#32
  let v81 : BitVec 32 := Scalar.muli v73 c8_i32_48
  let v82 : BitVec 32 := Scalar.addi c_m1_i32_49 v81
  let v83 : BitVec 32 := Scalar.subi v54 v82
  let c1_i32_50 : BitVec 32 := 1#32
  let v85 : BitVec 32 := Scalar.divsi v83 c1_i32_50
  let v86 : BitVec 32 := Scalar.muli v85 c1_i32_50
  let v87 : BitVec 32 := Scalar.addi v82 v86
  let c1_i32_52 : BitVec 32 := 1#32
  let arg19 : BitVec 32 := Scf.iv v87 c1_i32_52 k0_t8
  let c1_i32_454 : BitVec 32 := 1#32
  let v925 : BitVec 32 := Scalar.addi arg19 c1_i32_454
  let v926 : Index := Scalar.indexCast v925
  let c16_455 : Index := 16#32
  ![v926.toNat, 16]

def k0_chk2 (v52 : BitVec 32) : Prop :=
  ((k0_t5_loop v52).OK) ∧
  (∀ k0_t5 : Fin (k0_t5_loop v52).trips, ∀ (r : Fin 2), ∀ a, (k0_off13 v52 k0_t5 (BitVec.ofNat 32 (1 + r.val))) a + S16.size a ≤ S4112.size a) ∧
  (∀ k0_t5 : Fin (k0_t5_loop v52).trips, ∀ (r : Fin 8), ∀ a, (k0_off30 v52 k0_t5 (BitVec.ofNat 32 r.val)) a + S1x16.size a ≤ S2050x32.size a) ∧
  (∀ k0_t5 : Fin (k0_t5_loop v52).trips, ∀ (r : Fin 8), ∀ a, (k0_off31 v52 k0_t5 (BitVec.ofNat 32 r.val)) a + S1x16.size a ≤ S2050x32.size a) ∧
  ((k0_t6_loop v52).OK) ∧
  (∀ k0_t6 : Fin (k0_t6_loop v52).trips, ∀ (r : Fin 2), ∀ a, (k0_off32 v52 k0_t6 (BitVec.ofNat 32 (1 + r.val))) a + S16.size a ≤ S4112.size a) ∧
  (∀ k0_t6 : Fin (k0_t6_loop v52).trips, ∀ (r : Fin 8), ∀ a, (k0_off49 v52 k0_t6 (BitVec.ofNat 32 r.val)) a + S1x16.size a ≤ S2050x32.size a) ∧
  (∀ k0_t6 : Fin (k0_t6_loop v52).trips, ∀ (r : Fin 8), ∀ a, (k0_off50 v52 k0_t6 (BitVec.ofNat 32 r.val)) a + S1x16.size a ≤ S2050x32.size a) ∧
  ((k0_t7_loop v52).OK) ∧
  (∀ k0_t7 : Fin (k0_t7_loop v52).trips, ∀ a, (k0_off51 v52 k0_t7) a + S16.size a ≤ S4112.size a) ∧
  (∀ k0_t7 : Fin (k0_t7_loop v52).trips, ∀ a, (k0_off54 v52 k0_t7) a + S1x16.size a ≤ S2050x32.size a) ∧
  (∀ k0_t7 : Fin (k0_t7_loop v52).trips, ∀ a, (k0_off55 v52 k0_t7) a + S1x16.size a ≤ S2050x32.size a) ∧
  ((k0_t8_loop v52).OK) ∧
  (∀ k0_t8 : Fin (k0_t8_loop v52).trips, ∀ a, (k0_off56 v52 k0_t8) a + S16.size a ≤ S4112.size a) ∧
  (∀ k0_t8 : Fin (k0_t8_loop v52).trips, ∀ a, (k0_off59 v52 k0_t8) a + S1x16.size a ≤ S2050x32.size a) ∧
  (∀ k0_t8 : Fin (k0_t8_loop v52).trips, ∀ a, (k0_off60 v52 k0_t8) a + S1x16.size a ≤ S2050x32.size a)
theorem k0_t5_ok : ∀ (v52 : BitVec 32) (k0_hw2 : k0_chk2 v52), (k0_t5_loop v52).OK := fun v52 k0_hw2 => k0_hw2.1
theorem k0_off13_inb : ∀ (v52 : BitVec 32) (k0_hw2 : k0_chk2 v52) (k0_t5 : Fin (k0_t5_loop v52).trips), ∀ (r : Fin 2), ∀ a, (k0_off13 v52 k0_t5 (BitVec.ofNat 32 (1 + r.val))) a + S16.size a ≤ S4112.size a := fun v52 k0_hw2 k0_t5 r => k0_hw2.2.1 k0_t5 r
theorem k0_off30_inb : ∀ (v52 : BitVec 32) (k0_hw2 : k0_chk2 v52) (k0_t5 : Fin (k0_t5_loop v52).trips), ∀ (r : Fin 8), ∀ a, (k0_off30 v52 k0_t5 (BitVec.ofNat 32 r.val)) a + S1x16.size a ≤ S2050x32.size a := fun v52 k0_hw2 k0_t5 r => k0_hw2.2.2.1 k0_t5 r
theorem k0_off31_inb : ∀ (v52 : BitVec 32) (k0_hw2 : k0_chk2 v52) (k0_t5 : Fin (k0_t5_loop v52).trips), ∀ (r : Fin 8), ∀ a, (k0_off31 v52 k0_t5 (BitVec.ofNat 32 r.val)) a + S1x16.size a ≤ S2050x32.size a := fun v52 k0_hw2 k0_t5 r => k0_hw2.2.2.2.1 k0_t5 r
theorem k0_t6_ok : ∀ (v52 : BitVec 32) (k0_hw2 : k0_chk2 v52), (k0_t6_loop v52).OK := fun v52 k0_hw2 => k0_hw2.2.2.2.2.1
theorem k0_off32_inb : ∀ (v52 : BitVec 32) (k0_hw2 : k0_chk2 v52) (k0_t6 : Fin (k0_t6_loop v52).trips), ∀ (r : Fin 2), ∀ a, (k0_off32 v52 k0_t6 (BitVec.ofNat 32 (1 + r.val))) a + S16.size a ≤ S4112.size a := fun v52 k0_hw2 k0_t6 r => k0_hw2.2.2.2.2.2.1 k0_t6 r
theorem k0_off49_inb : ∀ (v52 : BitVec 32) (k0_hw2 : k0_chk2 v52) (k0_t6 : Fin (k0_t6_loop v52).trips), ∀ (r : Fin 8), ∀ a, (k0_off49 v52 k0_t6 (BitVec.ofNat 32 r.val)) a + S1x16.size a ≤ S2050x32.size a := fun v52 k0_hw2 k0_t6 r => k0_hw2.2.2.2.2.2.2.1 k0_t6 r
theorem k0_off50_inb : ∀ (v52 : BitVec 32) (k0_hw2 : k0_chk2 v52) (k0_t6 : Fin (k0_t6_loop v52).trips), ∀ (r : Fin 8), ∀ a, (k0_off50 v52 k0_t6 (BitVec.ofNat 32 r.val)) a + S1x16.size a ≤ S2050x32.size a := fun v52 k0_hw2 k0_t6 r => k0_hw2.2.2.2.2.2.2.2.1 k0_t6 r
theorem k0_t7_ok : ∀ (v52 : BitVec 32) (k0_hw2 : k0_chk2 v52), (k0_t7_loop v52).OK := fun v52 k0_hw2 => k0_hw2.2.2.2.2.2.2.2.2.1
theorem k0_off51_inb : ∀ (v52 : BitVec 32) (k0_hw2 : k0_chk2 v52) (k0_t7 : Fin (k0_t7_loop v52).trips), ∀ a, (k0_off51 v52 k0_t7) a + S16.size a ≤ S4112.size a := fun v52 k0_hw2 k0_t7 => k0_hw2.2.2.2.2.2.2.2.2.2.1 k0_t7
theorem k0_off54_inb : ∀ (v52 : BitVec 32) (k0_hw2 : k0_chk2 v52) (k0_t7 : Fin (k0_t7_loop v52).trips), ∀ a, (k0_off54 v52 k0_t7) a + S1x16.size a ≤ S2050x32.size a := fun v52 k0_hw2 k0_t7 => k0_hw2.2.2.2.2.2.2.2.2.2.2.1 k0_t7
theorem k0_off55_inb : ∀ (v52 : BitVec 32) (k0_hw2 : k0_chk2 v52) (k0_t7 : Fin (k0_t7_loop v52).trips), ∀ a, (k0_off55 v52 k0_t7) a + S1x16.size a ≤ S2050x32.size a := fun v52 k0_hw2 k0_t7 => k0_hw2.2.2.2.2.2.2.2.2.2.2.2.1 k0_t7
theorem k0_t8_ok : ∀ (v52 : BitVec 32) (k0_hw2 : k0_chk2 v52), (k0_t8_loop v52).OK := fun v52 k0_hw2 => k0_hw2.2.2.2.2.2.2.2.2.2.2.2.2.1
theorem k0_off56_inb : ∀ (v52 : BitVec 32) (k0_hw2 : k0_chk2 v52) (k0_t8 : Fin (k0_t8_loop v52).trips), ∀ a, (k0_off56 v52 k0_t8) a + S16.size a ≤ S4112.size a := fun v52 k0_hw2 k0_t8 => k0_hw2.2.2.2.2.2.2.2.2.2.2.2.2.2.1 k0_t8
theorem k0_off59_inb : ∀ (v52 : BitVec 32) (k0_hw2 : k0_chk2 v52) (k0_t8 : Fin (k0_t8_loop v52).trips), ∀ a, (k0_off59 v52 k0_t8) a + S1x16.size a ≤ S2050x32.size a := fun v52 k0_hw2 k0_t8 => k0_hw2.2.2.2.2.2.2.2.2.2.2.2.2.2.2.1 k0_t8
theorem k0_off60_inb : ∀ (v52 : BitVec 32) (k0_hw2 : k0_chk2 v52) (k0_t8 : Fin (k0_t8_loop v52).trips), ∀ a, (k0_off60 v52 k0_t8) a + S1x16.size a ≤ S2050x32.size a := fun v52 k0_hw2 k0_t8 => k0_hw2.2.2.2.2.2.2.2.2.2.2.2.2.2.2.2 k0_t8

def k0_off61 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c256_i32_54 : BitVec 32 := 256#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 256, v3.toNat]
@[reducible] def k0_t9_loop : Scf.Loop 32 :=
  let c0_i32_56 : BitVec 32 := 0#32
  let c16_i32_57 : BitVec 32 := 16#32
  let v97 : BitVec 32 := Scalar.addi c0_i32_56 c16_i32_57
  let c1_i32_58 : BitVec 32 := 1#32
  ⟨c0_i32_56, v97, c1_i32_58⟩
def k0_off62 (k0_t9 : Fin k0_t9_loop.trips) (c0_i32_445 : BitVec 32) : Fin 2 → Nat :=
  let c0_i32_56 : BitVec 32 := 0#32
  let c1_i32_58 : BitVec 32 := 1#32
  let arg19 : BitVec 32 := Scf.iv c0_i32_56 c1_i32_58 k0_t9
  let c16_i32_444 : BitVec 32 := 16#32
  let v893 : BitVec 32 := Scalar.muli arg19 c16_i32_444
  let v894 : BitVec 32 := Scalar.addi v893 c0_i32_445
  let v895 : Index := Scalar.indexCast v894
  let c0_446 : Index := 0#32
  ![v895.toNat, 0]
def k0_off63 (k0_t9 : Fin k0_t9_loop.trips) (c0_i32_447 : BitVec 32) : Fin 2 → Nat :=
  let c0_i32_56 : BitVec 32 := 0#32
  let c1_i32_58 : BitVec 32 := 1#32
  let arg19 : BitVec 32 := Scf.iv c0_i32_56 c1_i32_58 k0_t9
  let c16_i32_444 : BitVec 32 := 16#32
  let v893 : BitVec 32 := Scalar.muli arg19 c16_i32_444
  let v898 : BitVec 32 := Scalar.addi v893 c0_i32_447
  let v899 : Index := Scalar.indexCast v898
  let c16_448 : Index := 16#32
  ![v899.toNat, 16]
def k0_off64 (k0_t9 : Fin k0_t9_loop.trips) (c0_i32_449 : BitVec 32) : Fin 2 → Nat :=
  let c0_i32_56 : BitVec 32 := 0#32
  let c1_i32_58 : BitVec 32 := 1#32
  let arg19 : BitVec 32 := Scf.iv c0_i32_56 c1_i32_58 k0_t9
  let c16_i32_444 : BitVec 32 := 16#32
  let v893 : BitVec 32 := Scalar.muli arg19 c16_i32_444
  let v902 : BitVec 32 := Scalar.addi v893 c0_i32_449
  let c1_i32_450 : BitVec 32 := 1#32
  let v903 : BitVec 32 := Scalar.addi v902 c1_i32_450
  let v904 : Index := Scalar.indexCast v903
  let c0_451 : Index := 0#32
  ![v904.toNat, 0]
def k0_off65 (k0_t9 : Fin k0_t9_loop.trips) (c0_i32_452 : BitVec 32) : Fin 2 → Nat :=
  let c0_i32_56 : BitVec 32 := 0#32
  let c1_i32_58 : BitVec 32 := 1#32
  let arg19 : BitVec 32 := Scf.iv c0_i32_56 c1_i32_58 k0_t9
  let c16_i32_444 : BitVec 32 := 16#32
  let v893 : BitVec 32 := Scalar.muli arg19 c16_i32_444
  let v906 : BitVec 32 := Scalar.addi v893 c0_i32_452
  let c1_i32_453 : BitVec 32 := 1#32
  let v907 : BitVec 32 := Scalar.addi v906 c1_i32_453
  let v908 : Index := Scalar.indexCast v907
  let c16_454 : Index := 16#32
  ![v908.toNat, 16]
def k0_off66 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c768_i32 : BitVec 32 := 768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 768, v3.toNat]
@[reducible] def k0_t10_loop (v52 : BitVec 32) (v105 : BitVec 32) : Scf.Loop 32 :=
  let c0_i32_71 : BitVec 32 := 0#32
  let c1_i32_61 : BitVec 32 := 1#32
  let v106 : BitVec 32 := Scalar.subi v105 c1_i32_61
  let c2049_i32_62 : BitVec 32 := 2049#32
  let v107 : BitVec 32 := Scalar.minsi v106 c2049_i32_62
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let v108 : BitVec 32 := Scalar.subi v107 v92
  let c0_i32_63 : BitVec 32 := 0#32
  let v109 : BitVec 32 := Scalar.maxsi v108 c0_i32_63
  let c0_i32_65 : BitVec 32 := 0#32
  let v111 : BitVec 1 := Scalar.cmpi .sgt v109 c0_i32_65
  let v112 : BitVec 32 := Scalar.extui v111
  let c0_i32_66 : BitVec 32 := 0#32
  let v113 : BitVec 1 := Scalar.cmpi .slt v109 c0_i32_66
  let v114 : BitVec 32 := Scalar.extui v113
  let v115 : BitVec 32 := Scalar.subi v112 v114
  let c8_i32_64 : BitVec 32 := 8#32
  let c0_i32_67 : BitVec 32 := 0#32
  let v116 : BitVec 1 := Scalar.cmpi .sgt c8_i32_64 c0_i32_67
  let v117 : BitVec 32 := Scalar.extui v116
  let c0_i32_68 : BitVec 32 := 0#32
  let v118 : BitVec 1 := Scalar.cmpi .slt c8_i32_64 c0_i32_68
  let v119 : BitVec 32 := Scalar.extui v118
  let v120 : BitVec 32 := Scalar.subi v117 v119
  let v121 : BitVec 1 := Scalar.cmpi .ne v115 v120
  let v122 : BitVec 32 := Scalar.remsi v109 c8_i32_64
  let c0_i32_69 : BitVec 32 := 0#32
  let v123 : BitVec 1 := Scalar.cmpi .ne v122 c0_i32_69
  let v124 : BitVec 1 := Scalar.andi v121 v123
  let v110 : BitVec 32 := Scalar.divsi v109 c8_i32_64
  let c1_i32_70 : BitVec 32 := 1#32
  let v125 : BitVec 32 := Scalar.subi v110 c1_i32_70
  let v126 : BitVec 32 := Scalar.select v124 v125 v110
  let v127 : BitVec 32 := Scalar.subi v126 c0_i32_71
  let c1_i32_72 : BitVec 32 := 1#32
  let v129 : BitVec 32 := Scalar.divsi v127 c1_i32_72
  let v130 : BitVec 32 := Scalar.muli v129 c1_i32_72
  let v131 : BitVec 32 := Scalar.addi c0_i32_71 v130
  let c1_i32_73 : BitVec 32 := 1#32
  ⟨c0_i32_71, v131, c1_i32_73⟩

def k0_off67 (v52 : BitVec 32) (v105 : BitVec 32) (k0_t10 : Fin (k0_t10_loop v52 v105).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c0_i32_71 : BitVec 32 := 0#32
  let c1_i32_73 : BitVec 32 := 1#32
  let arg19 : BitVec 32 := Scf.iv c0_i32_71 c1_i32_73 k0_t10
  let c8_i32_444 : BitVec 32 := 8#32
  let v893 : BitVec 32 := Scalar.muli arg19 c8_i32_444
  let v894 : BitVec 32 := Scalar.addi v92 v893
  let v895 : BitVec 32 := Scalar.addi v894 c1_i32_445
  let v896 : Index := Scalar.indexCast v895
  ![v896.toNat]
def k0_off68 (v912 : BitVec 32) : Fin 2 → Nat :=
  let c256_i32_451 : BitVec 32 := 256#32
  let v913 : BitVec 32 := Scalar.subi v912 c256_i32_451
  let v914 : Index := Scalar.indexCast v913
  let c0_452 : Index := 0#32
  ![v914.toNat, 0]

def k0_off69 (v912 : BitVec 32) : Fin 2 → Nat :=
  let c256_i32_451 : BitVec 32 := 256#32
  let v913 : BitVec 32 := Scalar.subi v912 c256_i32_451
  let v917 : Index := Scalar.indexCast v913
  let c16_453 : Index := 16#32
  ![v917.toNat, 16]

def k0_chk22 (v912 : BitVec 32) : Prop :=
  (∀ a, (k0_off68 v912) a + S1x16.size a ≤ S257x32.size a) ∧
  (∀ a, (k0_off69 v912) a + S1x16.size a ≤ S257x32.size a)
theorem k0_off68_inb : ∀ (v912 : BitVec 32) (k0_hw22 : k0_chk22 v912), ∀ a, (k0_off68 v912) a + S1x16.size a ≤ S257x32.size a := fun v912 k0_hw22 => k0_hw22.1
theorem k0_off69_inb : ∀ (v912 : BitVec 32) (k0_hw22 : k0_chk22 v912), ∀ a, (k0_off69 v912) a + S1x16.size a ≤ S257x32.size a := fun v912 k0_hw22 => k0_hw22.2

def k0_off70 (v921 : BitVec 32) : Fin 2 → Nat :=
  let c256_i32_454 : BitVec 32 := 256#32
  let v922 : BitVec 32 := Scalar.subi v921 c256_i32_454
  let v923 : Index := Scalar.indexCast v922
  let c0_455 : Index := 0#32
  ![v923.toNat, 0]

def k0_off71 (v921 : BitVec 32) : Fin 2 → Nat :=
  let c256_i32_454 : BitVec 32 := 256#32
  let v922 : BitVec 32 := Scalar.subi v921 c256_i32_454
  let v926 : Index := Scalar.indexCast v922
  let c16_456 : Index := 16#32
  ![v926.toNat, 16]

def k0_chk23 (v921 : BitVec 32) : Prop :=
  (∀ a, (k0_off70 v921) a + S1x16.size a ≤ S257x32.size a) ∧
  (∀ a, (k0_off71 v921) a + S1x16.size a ≤ S257x32.size a)
theorem k0_off70_inb : ∀ (v921 : BitVec 32) (k0_hw23 : k0_chk23 v921), ∀ a, (k0_off70 v921) a + S1x16.size a ≤ S257x32.size a := fun v921 k0_hw23 => k0_hw23.1
theorem k0_off71_inb : ∀ (v921 : BitVec 32) (k0_hw23 : k0_chk23 v921), ∀ a, (k0_off71 v921) a + S1x16.size a ≤ S257x32.size a := fun v921 k0_hw23 => k0_hw23.2

def k0_off72 (v930 : BitVec 32) : Fin 2 → Nat :=
  let c256_i32_457 : BitVec 32 := 256#32
  let v931 : BitVec 32 := Scalar.subi v930 c256_i32_457
  let v932 : Index := Scalar.indexCast v931
  let c0_458 : Index := 0#32
  ![v932.toNat, 0]

def k0_off73 (v930 : BitVec 32) : Fin 2 → Nat :=
  let c256_i32_457 : BitVec 32 := 256#32
  let v931 : BitVec 32 := Scalar.subi v930 c256_i32_457
  let v935 : Index := Scalar.indexCast v931
  let c16_459 : Index := 16#32
  ![v935.toNat, 16]

def k0_chk24 (v930 : BitVec 32) : Prop :=
  (∀ a, (k0_off72 v930) a + S1x16.size a ≤ S257x32.size a) ∧
  (∀ a, (k0_off73 v930) a + S1x16.size a ≤ S257x32.size a)
theorem k0_off72_inb : ∀ (v930 : BitVec 32) (k0_hw24 : k0_chk24 v930), ∀ a, (k0_off72 v930) a + S1x16.size a ≤ S257x32.size a := fun v930 k0_hw24 => k0_hw24.1
theorem k0_off73_inb : ∀ (v930 : BitVec 32) (k0_hw24 : k0_chk24 v930), ∀ a, (k0_off73 v930) a + S1x16.size a ≤ S257x32.size a := fun v930 k0_hw24 => k0_hw24.2

def k0_off74 (v939 : BitVec 32) : Fin 2 → Nat :=
  let c256_i32_460 : BitVec 32 := 256#32
  let v940 : BitVec 32 := Scalar.subi v939 c256_i32_460
  let v941 : Index := Scalar.indexCast v940
  let c0_461 : Index := 0#32
  ![v941.toNat, 0]

def k0_off75 (v939 : BitVec 32) : Fin 2 → Nat :=
  let c256_i32_460 : BitVec 32 := 256#32
  let v940 : BitVec 32 := Scalar.subi v939 c256_i32_460
  let v944 : Index := Scalar.indexCast v940
  let c16_462 : Index := 16#32
  ![v944.toNat, 16]

def k0_chk25 (v939 : BitVec 32) : Prop :=
  (∀ a, (k0_off74 v939) a + S1x16.size a ≤ S257x32.size a) ∧
  (∀ a, (k0_off75 v939) a + S1x16.size a ≤ S257x32.size a)
theorem k0_off74_inb : ∀ (v939 : BitVec 32) (k0_hw25 : k0_chk25 v939), ∀ a, (k0_off74 v939) a + S1x16.size a ≤ S257x32.size a := fun v939 k0_hw25 => k0_hw25.1
theorem k0_off75_inb : ∀ (v939 : BitVec 32) (k0_hw25 : k0_chk25 v939), ∀ a, (k0_off75 v939) a + S1x16.size a ≤ S257x32.size a := fun v939 k0_hw25 => k0_hw25.2

def k0_off76 (v948 : BitVec 32) : Fin 2 → Nat :=
  let c256_i32_463 : BitVec 32 := 256#32
  let v949 : BitVec 32 := Scalar.subi v948 c256_i32_463
  let v950 : Index := Scalar.indexCast v949
  let c0_464 : Index := 0#32
  ![v950.toNat, 0]

def k0_off77 (v948 : BitVec 32) : Fin 2 → Nat :=
  let c256_i32_463 : BitVec 32 := 256#32
  let v949 : BitVec 32 := Scalar.subi v948 c256_i32_463
  let v953 : Index := Scalar.indexCast v949
  let c16_465 : Index := 16#32
  ![v953.toNat, 16]

def k0_chk26 (v948 : BitVec 32) : Prop :=
  (∀ a, (k0_off76 v948) a + S1x16.size a ≤ S257x32.size a) ∧
  (∀ a, (k0_off77 v948) a + S1x16.size a ≤ S257x32.size a)
theorem k0_off76_inb : ∀ (v948 : BitVec 32) (k0_hw26 : k0_chk26 v948), ∀ a, (k0_off76 v948) a + S1x16.size a ≤ S257x32.size a := fun v948 k0_hw26 => k0_hw26.1
theorem k0_off77_inb : ∀ (v948 : BitVec 32) (k0_hw26 : k0_chk26 v948), ∀ a, (k0_off77 v948) a + S1x16.size a ≤ S257x32.size a := fun v948 k0_hw26 => k0_hw26.2

def k0_off78 (v957 : BitVec 32) : Fin 2 → Nat :=
  let c256_i32_466 : BitVec 32 := 256#32
  let v958 : BitVec 32 := Scalar.subi v957 c256_i32_466
  let v959 : Index := Scalar.indexCast v958
  let c0_467 : Index := 0#32
  ![v959.toNat, 0]

def k0_off79 (v957 : BitVec 32) : Fin 2 → Nat :=
  let c256_i32_466 : BitVec 32 := 256#32
  let v958 : BitVec 32 := Scalar.subi v957 c256_i32_466
  let v962 : Index := Scalar.indexCast v958
  let c16_468 : Index := 16#32
  ![v962.toNat, 16]

def k0_chk27 (v957 : BitVec 32) : Prop :=
  (∀ a, (k0_off78 v957) a + S1x16.size a ≤ S257x32.size a) ∧
  (∀ a, (k0_off79 v957) a + S1x16.size a ≤ S257x32.size a)
theorem k0_off78_inb : ∀ (v957 : BitVec 32) (k0_hw27 : k0_chk27 v957), ∀ a, (k0_off78 v957) a + S1x16.size a ≤ S257x32.size a := fun v957 k0_hw27 => k0_hw27.1
theorem k0_off79_inb : ∀ (v957 : BitVec 32) (k0_hw27 : k0_chk27 v957), ∀ a, (k0_off79 v957) a + S1x16.size a ≤ S257x32.size a := fun v957 k0_hw27 => k0_hw27.2

def k0_off80 (v966 : BitVec 32) : Fin 2 → Nat :=
  let c256_i32_469 : BitVec 32 := 256#32
  let v967 : BitVec 32 := Scalar.subi v966 c256_i32_469
  let v968 : Index := Scalar.indexCast v967
  let c0_470 : Index := 0#32
  ![v968.toNat, 0]

def k0_off81 (v966 : BitVec 32) : Fin 2 → Nat :=
  let c256_i32_469 : BitVec 32 := 256#32
  let v967 : BitVec 32 := Scalar.subi v966 c256_i32_469
  let v971 : Index := Scalar.indexCast v967
  let c16_471 : Index := 16#32
  ![v971.toNat, 16]

def k0_chk28 (v966 : BitVec 32) : Prop :=
  (∀ a, (k0_off80 v966) a + S1x16.size a ≤ S257x32.size a) ∧
  (∀ a, (k0_off81 v966) a + S1x16.size a ≤ S257x32.size a)
theorem k0_off80_inb : ∀ (v966 : BitVec 32) (k0_hw28 : k0_chk28 v966), ∀ a, (k0_off80 v966) a + S1x16.size a ≤ S257x32.size a := fun v966 k0_hw28 => k0_hw28.1
theorem k0_off81_inb : ∀ (v966 : BitVec 32) (k0_hw28 : k0_chk28 v966), ∀ a, (k0_off81 v966) a + S1x16.size a ≤ S257x32.size a := fun v966 k0_hw28 => k0_hw28.2

def k0_off82 (v975 : BitVec 32) : Fin 2 → Nat :=
  let c256_i32_472 : BitVec 32 := 256#32
  let v976 : BitVec 32 := Scalar.subi v975 c256_i32_472
  let v977 : Index := Scalar.indexCast v976
  let c0_473 : Index := 0#32
  ![v977.toNat, 0]

def k0_off83 (v975 : BitVec 32) : Fin 2 → Nat :=
  let c256_i32_472 : BitVec 32 := 256#32
  let v976 : BitVec 32 := Scalar.subi v975 c256_i32_472
  let v980 : Index := Scalar.indexCast v976
  let c16_474 : Index := 16#32
  ![v980.toNat, 16]

def k0_chk29 (v975 : BitVec 32) : Prop :=
  (∀ a, (k0_off82 v975) a + S1x16.size a ≤ S257x32.size a) ∧
  (∀ a, (k0_off83 v975) a + S1x16.size a ≤ S257x32.size a)
theorem k0_off82_inb : ∀ (v975 : BitVec 32) (k0_hw29 : k0_chk29 v975), ∀ a, (k0_off82 v975) a + S1x16.size a ≤ S257x32.size a := fun v975 k0_hw29 => k0_hw29.1
theorem k0_off83_inb : ∀ (v975 : BitVec 32) (k0_hw29 : k0_chk29 v975), ∀ a, (k0_off83 v975) a + S1x16.size a ≤ S257x32.size a := fun v975 k0_hw29 => k0_hw29.2

def k0_off84 (v52 : BitVec 32) (v105 : BitVec 32) (k0_t10 : Fin (k0_t10_loop v52 v105).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c0_i32_71 : BitVec 32 := 0#32
  let c1_i32_73 : BitVec 32 := 1#32
  let arg19 : BitVec 32 := Scf.iv c0_i32_71 c1_i32_73 k0_t10
  let c8_i32_444 : BitVec 32 := 8#32
  let v893 : BitVec 32 := Scalar.muli arg19 c8_i32_444
  let v894 : BitVec 32 := Scalar.addi v92 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off85 (v52 : BitVec 32) (v105 : BitVec 32) (k0_t10 : Fin (k0_t10_loop v52 v105).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c0_i32_71 : BitVec 32 := 0#32
  let c1_i32_73 : BitVec 32 := 1#32
  let arg19 : BitVec 32 := Scf.iv c0_i32_71 c1_i32_73 k0_t10
  let c8_i32_444 : BitVec 32 := 8#32
  let v893 : BitVec 32 := Scalar.muli arg19 c8_i32_444
  let v894 : BitVec 32 := Scalar.addi v92 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t11_loop (v52 : BitVec 32) (v105 : BitVec 32) : Scf.Loop 32 :=
  let c0_i32_71 : BitVec 32 := 0#32
  let c1_i32_61 : BitVec 32 := 1#32
  let v106 : BitVec 32 := Scalar.subi v105 c1_i32_61
  let c2049_i32_62 : BitVec 32 := 2049#32
  let v107 : BitVec 32 := Scalar.minsi v106 c2049_i32_62
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let v108 : BitVec 32 := Scalar.subi v107 v92
  let c0_i32_63 : BitVec 32 := 0#32
  let v109 : BitVec 32 := Scalar.maxsi v108 c0_i32_63
  let c0_i32_65 : BitVec 32 := 0#32
  let v111 : BitVec 1 := Scalar.cmpi .sgt v109 c0_i32_65
  let v112 : BitVec 32 := Scalar.extui v111
  let c0_i32_66 : BitVec 32 := 0#32
  let v113 : BitVec 1 := Scalar.cmpi .slt v109 c0_i32_66
  let v114 : BitVec 32 := Scalar.extui v113
  let v115 : BitVec 32 := Scalar.subi v112 v114
  let c8_i32_64 : BitVec 32 := 8#32
  let c0_i32_67 : BitVec 32 := 0#32
  let v116 : BitVec 1 := Scalar.cmpi .sgt c8_i32_64 c0_i32_67
  let v117 : BitVec 32 := Scalar.extui v116
  let c0_i32_68 : BitVec 32 := 0#32
  let v118 : BitVec 1 := Scalar.cmpi .slt c8_i32_64 c0_i32_68
  let v119 : BitVec 32 := Scalar.extui v118
  let v120 : BitVec 32 := Scalar.subi v117 v119
  let v121 : BitVec 1 := Scalar.cmpi .ne v115 v120
  let v122 : BitVec 32 := Scalar.remsi v109 c8_i32_64
  let c0_i32_69 : BitVec 32 := 0#32
  let v123 : BitVec 1 := Scalar.cmpi .ne v122 c0_i32_69
  let v124 : BitVec 1 := Scalar.andi v121 v123
  let v110 : BitVec 32 := Scalar.divsi v109 c8_i32_64
  let c1_i32_70 : BitVec 32 := 1#32
  let v125 : BitVec 32 := Scalar.subi v110 c1_i32_70
  let v126 : BitVec 32 := Scalar.select v124 v125 v110
  let v127 : BitVec 32 := Scalar.subi v126 c0_i32_71
  let c1_i32_72 : BitVec 32 := 1#32
  let v129 : BitVec 32 := Scalar.divsi v127 c1_i32_72
  let v130 : BitVec 32 := Scalar.muli v129 c1_i32_72
  let v131 : BitVec 32 := Scalar.addi c0_i32_71 v130
  let v128 : BitVec 32 := Scalar.addi c0_i32_71 v127
  let c1_i32_74 : BitVec 32 := 1#32
  ⟨v131, v128, c1_i32_74⟩
def k0_off86 (v52 : BitVec 32) (v105 : BitVec 32) (k0_t11 : Fin (k0_t11_loop v52 v105).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c0_i32_71 : BitVec 32 := 0#32
  let c1_i32_61 : BitVec 32 := 1#32
  let v106 : BitVec 32 := Scalar.subi v105 c1_i32_61
  let c2049_i32_62 : BitVec 32 := 2049#32
  let v107 : BitVec 32 := Scalar.minsi v106 c2049_i32_62
  let v108 : BitVec 32 := Scalar.subi v107 v92
  let c0_i32_63 : BitVec 32 := 0#32
  let v109 : BitVec 32 := Scalar.maxsi v108 c0_i32_63
  let c0_i32_65 : BitVec 32 := 0#32
  let v111 : BitVec 1 := Scalar.cmpi .sgt v109 c0_i32_65
  let v112 : BitVec 32 := Scalar.extui v111
  let c0_i32_66 : BitVec 32 := 0#32
  let v113 : BitVec 1 := Scalar.cmpi .slt v109 c0_i32_66
  let v114 : BitVec 32 := Scalar.extui v113
  let v115 : BitVec 32 := Scalar.subi v112 v114
  let c8_i32_64 : BitVec 32 := 8#32
  let c0_i32_67 : BitVec 32 := 0#32
  let v116 : BitVec 1 := Scalar.cmpi .sgt c8_i32_64 c0_i32_67
  let v117 : BitVec 32 := Scalar.extui v116
  let c0_i32_68 : BitVec 32 := 0#32
  let v118 : BitVec 1 := Scalar.cmpi .slt c8_i32_64 c0_i32_68
  let v119 : BitVec 32 := Scalar.extui v118
  let v120 : BitVec 32 := Scalar.subi v117 v119
  let v121 : BitVec 1 := Scalar.cmpi .ne v115 v120
  let v122 : BitVec 32 := Scalar.remsi v109 c8_i32_64
  let c0_i32_69 : BitVec 32 := 0#32
  let v123 : BitVec 1 := Scalar.cmpi .ne v122 c0_i32_69
  let v124 : BitVec 1 := Scalar.andi v121 v123
  let v110 : BitVec 32 := Scalar.divsi v109 c8_i32_64
  let c1_i32_70 : BitVec 32 := 1#32
  let v125 : BitVec 32 := Scalar.subi v110 c1_i32_70
  let v126 : BitVec 32 := Scalar.select v124 v125 v110
  let v127 : BitVec 32 := Scalar.subi v126 c0_i32_71
  let c1_i32_72 : BitVec 32 := 1#32
  let v129 : BitVec 32 := Scalar.divsi v127 c1_i32_72
  let v130 : BitVec 32 := Scalar.muli v129 c1_i32_72
  let v131 : BitVec 32 := Scalar.addi c0_i32_71 v130
  let c1_i32_74 : BitVec 32 := 1#32
  let arg19 : BitVec 32 := Scf.iv v131 c1_i32_74 k0_t11
  let c8_i32_444 : BitVec 32 := 8#32
  let v893 : BitVec 32 := Scalar.muli arg19 c8_i32_444
  let v894 : BitVec 32 := Scalar.addi v92 v893
  let v895 : BitVec 32 := Scalar.addi v894 c1_i32_445
  let v896 : Index := Scalar.indexCast v895
  ![v896.toNat]
def k0_off87 (v912 : BitVec 32) : Fin 2 → Nat :=
  let c256_i32_451 : BitVec 32 := 256#32
  let v913 : BitVec 32 := Scalar.subi v912 c256_i32_451
  let v914 : Index := Scalar.indexCast v913
  let c0_452 : Index := 0#32
  ![v914.toNat, 0]

def k0_off88 (v912 : BitVec 32) : Fin 2 → Nat :=
  let c256_i32_451 : BitVec 32 := 256#32
  let v913 : BitVec 32 := Scalar.subi v912 c256_i32_451
  let v917 : Index := Scalar.indexCast v913
  let c16_453 : Index := 16#32
  ![v917.toNat, 16]

def k0_chk30 (v912 : BitVec 32) : Prop :=
  (∀ a, (k0_off87 v912) a + S1x16.size a ≤ S257x32.size a) ∧
  (∀ a, (k0_off88 v912) a + S1x16.size a ≤ S257x32.size a)
theorem k0_off87_inb : ∀ (v912 : BitVec 32) (k0_hw30 : k0_chk30 v912), ∀ a, (k0_off87 v912) a + S1x16.size a ≤ S257x32.size a := fun v912 k0_hw30 => k0_hw30.1
theorem k0_off88_inb : ∀ (v912 : BitVec 32) (k0_hw30 : k0_chk30 v912), ∀ a, (k0_off88 v912) a + S1x16.size a ≤ S257x32.size a := fun v912 k0_hw30 => k0_hw30.2

def k0_off89 (v921 : BitVec 32) : Fin 2 → Nat :=
  let c256_i32_454 : BitVec 32 := 256#32
  let v922 : BitVec 32 := Scalar.subi v921 c256_i32_454
  let v923 : Index := Scalar.indexCast v922
  let c0_455 : Index := 0#32
  ![v923.toNat, 0]

def k0_off90 (v921 : BitVec 32) : Fin 2 → Nat :=
  let c256_i32_454 : BitVec 32 := 256#32
  let v922 : BitVec 32 := Scalar.subi v921 c256_i32_454
  let v926 : Index := Scalar.indexCast v922
  let c16_456 : Index := 16#32
  ![v926.toNat, 16]

def k0_chk31 (v921 : BitVec 32) : Prop :=
  (∀ a, (k0_off89 v921) a + S1x16.size a ≤ S257x32.size a) ∧
  (∀ a, (k0_off90 v921) a + S1x16.size a ≤ S257x32.size a)
theorem k0_off89_inb : ∀ (v921 : BitVec 32) (k0_hw31 : k0_chk31 v921), ∀ a, (k0_off89 v921) a + S1x16.size a ≤ S257x32.size a := fun v921 k0_hw31 => k0_hw31.1
theorem k0_off90_inb : ∀ (v921 : BitVec 32) (k0_hw31 : k0_chk31 v921), ∀ a, (k0_off90 v921) a + S1x16.size a ≤ S257x32.size a := fun v921 k0_hw31 => k0_hw31.2

def k0_off91 (v930 : BitVec 32) : Fin 2 → Nat :=
  let c256_i32_457 : BitVec 32 := 256#32
  let v931 : BitVec 32 := Scalar.subi v930 c256_i32_457
  let v932 : Index := Scalar.indexCast v931
  let c0_458 : Index := 0#32
  ![v932.toNat, 0]

def k0_off92 (v930 : BitVec 32) : Fin 2 → Nat :=
  let c256_i32_457 : BitVec 32 := 256#32
  let v931 : BitVec 32 := Scalar.subi v930 c256_i32_457
  let v935 : Index := Scalar.indexCast v931
  let c16_459 : Index := 16#32
  ![v935.toNat, 16]

def k0_chk32 (v930 : BitVec 32) : Prop :=
  (∀ a, (k0_off91 v930) a + S1x16.size a ≤ S257x32.size a) ∧
  (∀ a, (k0_off92 v930) a + S1x16.size a ≤ S257x32.size a)
theorem k0_off91_inb : ∀ (v930 : BitVec 32) (k0_hw32 : k0_chk32 v930), ∀ a, (k0_off91 v930) a + S1x16.size a ≤ S257x32.size a := fun v930 k0_hw32 => k0_hw32.1
theorem k0_off92_inb : ∀ (v930 : BitVec 32) (k0_hw32 : k0_chk32 v930), ∀ a, (k0_off92 v930) a + S1x16.size a ≤ S257x32.size a := fun v930 k0_hw32 => k0_hw32.2

def k0_off93 (v939 : BitVec 32) : Fin 2 → Nat :=
  let c256_i32_460 : BitVec 32 := 256#32
  let v940 : BitVec 32 := Scalar.subi v939 c256_i32_460
  let v941 : Index := Scalar.indexCast v940
  let c0_461 : Index := 0#32
  ![v941.toNat, 0]

def k0_off94 (v939 : BitVec 32) : Fin 2 → Nat :=
  let c256_i32_460 : BitVec 32 := 256#32
  let v940 : BitVec 32 := Scalar.subi v939 c256_i32_460
  let v944 : Index := Scalar.indexCast v940
  let c16_462 : Index := 16#32
  ![v944.toNat, 16]

def k0_chk33 (v939 : BitVec 32) : Prop :=
  (∀ a, (k0_off93 v939) a + S1x16.size a ≤ S257x32.size a) ∧
  (∀ a, (k0_off94 v939) a + S1x16.size a ≤ S257x32.size a)
theorem k0_off93_inb : ∀ (v939 : BitVec 32) (k0_hw33 : k0_chk33 v939), ∀ a, (k0_off93 v939) a + S1x16.size a ≤ S257x32.size a := fun v939 k0_hw33 => k0_hw33.1
theorem k0_off94_inb : ∀ (v939 : BitVec 32) (k0_hw33 : k0_chk33 v939), ∀ a, (k0_off94 v939) a + S1x16.size a ≤ S257x32.size a := fun v939 k0_hw33 => k0_hw33.2

def k0_off95 (v948 : BitVec 32) : Fin 2 → Nat :=
  let c256_i32_463 : BitVec 32 := 256#32
  let v949 : BitVec 32 := Scalar.subi v948 c256_i32_463
  let v950 : Index := Scalar.indexCast v949
  let c0_464 : Index := 0#32
  ![v950.toNat, 0]

def k0_off96 (v948 : BitVec 32) : Fin 2 → Nat :=
  let c256_i32_463 : BitVec 32 := 256#32
  let v949 : BitVec 32 := Scalar.subi v948 c256_i32_463
  let v953 : Index := Scalar.indexCast v949
  let c16_465 : Index := 16#32
  ![v953.toNat, 16]

def k0_chk34 (v948 : BitVec 32) : Prop :=
  (∀ a, (k0_off95 v948) a + S1x16.size a ≤ S257x32.size a) ∧
  (∀ a, (k0_off96 v948) a + S1x16.size a ≤ S257x32.size a)
theorem k0_off95_inb : ∀ (v948 : BitVec 32) (k0_hw34 : k0_chk34 v948), ∀ a, (k0_off95 v948) a + S1x16.size a ≤ S257x32.size a := fun v948 k0_hw34 => k0_hw34.1
theorem k0_off96_inb : ∀ (v948 : BitVec 32) (k0_hw34 : k0_chk34 v948), ∀ a, (k0_off96 v948) a + S1x16.size a ≤ S257x32.size a := fun v948 k0_hw34 => k0_hw34.2

def k0_off97 (v957 : BitVec 32) : Fin 2 → Nat :=
  let c256_i32_466 : BitVec 32 := 256#32
  let v958 : BitVec 32 := Scalar.subi v957 c256_i32_466
  let v959 : Index := Scalar.indexCast v958
  let c0_467 : Index := 0#32
  ![v959.toNat, 0]

def k0_off98 (v957 : BitVec 32) : Fin 2 → Nat :=
  let c256_i32_466 : BitVec 32 := 256#32
  let v958 : BitVec 32 := Scalar.subi v957 c256_i32_466
  let v962 : Index := Scalar.indexCast v958
  let c16_468 : Index := 16#32
  ![v962.toNat, 16]

def k0_chk35 (v957 : BitVec 32) : Prop :=
  (∀ a, (k0_off97 v957) a + S1x16.size a ≤ S257x32.size a) ∧
  (∀ a, (k0_off98 v957) a + S1x16.size a ≤ S257x32.size a)
theorem k0_off97_inb : ∀ (v957 : BitVec 32) (k0_hw35 : k0_chk35 v957), ∀ a, (k0_off97 v957) a + S1x16.size a ≤ S257x32.size a := fun v957 k0_hw35 => k0_hw35.1
theorem k0_off98_inb : ∀ (v957 : BitVec 32) (k0_hw35 : k0_chk35 v957), ∀ a, (k0_off98 v957) a + S1x16.size a ≤ S257x32.size a := fun v957 k0_hw35 => k0_hw35.2

def k0_off99 (v966 : BitVec 32) : Fin 2 → Nat :=
  let c256_i32_469 : BitVec 32 := 256#32
  let v967 : BitVec 32 := Scalar.subi v966 c256_i32_469
  let v968 : Index := Scalar.indexCast v967
  let c0_470 : Index := 0#32
  ![v968.toNat, 0]

def k0_off100 (v966 : BitVec 32) : Fin 2 → Nat :=
  let c256_i32_469 : BitVec 32 := 256#32
  let v967 : BitVec 32 := Scalar.subi v966 c256_i32_469
  let v971 : Index := Scalar.indexCast v967
  let c16_471 : Index := 16#32
  ![v971.toNat, 16]

def k0_chk36 (v966 : BitVec 32) : Prop :=
  (∀ a, (k0_off99 v966) a + S1x16.size a ≤ S257x32.size a) ∧
  (∀ a, (k0_off100 v966) a + S1x16.size a ≤ S257x32.size a)
theorem k0_off99_inb : ∀ (v966 : BitVec 32) (k0_hw36 : k0_chk36 v966), ∀ a, (k0_off99 v966) a + S1x16.size a ≤ S257x32.size a := fun v966 k0_hw36 => k0_hw36.1
theorem k0_off100_inb : ∀ (v966 : BitVec 32) (k0_hw36 : k0_chk36 v966), ∀ a, (k0_off100 v966) a + S1x16.size a ≤ S257x32.size a := fun v966 k0_hw36 => k0_hw36.2

def k0_off101 (v975 : BitVec 32) : Fin 2 → Nat :=
  let c256_i32_472 : BitVec 32 := 256#32
  let v976 : BitVec 32 := Scalar.subi v975 c256_i32_472
  let v977 : Index := Scalar.indexCast v976
  let c0_473 : Index := 0#32
  ![v977.toNat, 0]

def k0_off102 (v975 : BitVec 32) : Fin 2 → Nat :=
  let c256_i32_472 : BitVec 32 := 256#32
  let v976 : BitVec 32 := Scalar.subi v975 c256_i32_472
  let v980 : Index := Scalar.indexCast v976
  let c16_474 : Index := 16#32
  ![v980.toNat, 16]

def k0_chk37 (v975 : BitVec 32) : Prop :=
  (∀ a, (k0_off101 v975) a + S1x16.size a ≤ S257x32.size a) ∧
  (∀ a, (k0_off102 v975) a + S1x16.size a ≤ S257x32.size a)
theorem k0_off101_inb : ∀ (v975 : BitVec 32) (k0_hw37 : k0_chk37 v975), ∀ a, (k0_off101 v975) a + S1x16.size a ≤ S257x32.size a := fun v975 k0_hw37 => k0_hw37.1
theorem k0_off102_inb : ∀ (v975 : BitVec 32) (k0_hw37 : k0_chk37 v975), ∀ a, (k0_off102 v975) a + S1x16.size a ≤ S257x32.size a := fun v975 k0_hw37 => k0_hw37.2

def k0_off103 (v52 : BitVec 32) (v105 : BitVec 32) (k0_t11 : Fin (k0_t11_loop v52 v105).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c0_i32_71 : BitVec 32 := 0#32
  let c1_i32_61 : BitVec 32 := 1#32
  let v106 : BitVec 32 := Scalar.subi v105 c1_i32_61
  let c2049_i32_62 : BitVec 32 := 2049#32
  let v107 : BitVec 32 := Scalar.minsi v106 c2049_i32_62
  let v108 : BitVec 32 := Scalar.subi v107 v92
  let c0_i32_63 : BitVec 32 := 0#32
  let v109 : BitVec 32 := Scalar.maxsi v108 c0_i32_63
  let c0_i32_65 : BitVec 32 := 0#32
  let v111 : BitVec 1 := Scalar.cmpi .sgt v109 c0_i32_65
  let v112 : BitVec 32 := Scalar.extui v111
  let c0_i32_66 : BitVec 32 := 0#32
  let v113 : BitVec 1 := Scalar.cmpi .slt v109 c0_i32_66
  let v114 : BitVec 32 := Scalar.extui v113
  let v115 : BitVec 32 := Scalar.subi v112 v114
  let c8_i32_64 : BitVec 32 := 8#32
  let c0_i32_67 : BitVec 32 := 0#32
  let v116 : BitVec 1 := Scalar.cmpi .sgt c8_i32_64 c0_i32_67
  let v117 : BitVec 32 := Scalar.extui v116
  let c0_i32_68 : BitVec 32 := 0#32
  let v118 : BitVec 1 := Scalar.cmpi .slt c8_i32_64 c0_i32_68
  let v119 : BitVec 32 := Scalar.extui v118
  let v120 : BitVec 32 := Scalar.subi v117 v119
  let v121 : BitVec 1 := Scalar.cmpi .ne v115 v120
  let v122 : BitVec 32 := Scalar.remsi v109 c8_i32_64
  let c0_i32_69 : BitVec 32 := 0#32
  let v123 : BitVec 1 := Scalar.cmpi .ne v122 c0_i32_69
  let v124 : BitVec 1 := Scalar.andi v121 v123
  let v110 : BitVec 32 := Scalar.divsi v109 c8_i32_64
  let c1_i32_70 : BitVec 32 := 1#32
  let v125 : BitVec 32 := Scalar.subi v110 c1_i32_70
  let v126 : BitVec 32 := Scalar.select v124 v125 v110
  let v127 : BitVec 32 := Scalar.subi v126 c0_i32_71
  let c1_i32_72 : BitVec 32 := 1#32
  let v129 : BitVec 32 := Scalar.divsi v127 c1_i32_72
  let v130 : BitVec 32 := Scalar.muli v129 c1_i32_72
  let v131 : BitVec 32 := Scalar.addi c0_i32_71 v130
  let c1_i32_74 : BitVec 32 := 1#32
  let arg19 : BitVec 32 := Scf.iv v131 c1_i32_74 k0_t11
  let c8_i32_444 : BitVec 32 := 8#32
  let v893 : BitVec 32 := Scalar.muli arg19 c8_i32_444
  let v894 : BitVec 32 := Scalar.addi v92 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off104 (v52 : BitVec 32) (v105 : BitVec 32) (k0_t11 : Fin (k0_t11_loop v52 v105).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c0_i32_71 : BitVec 32 := 0#32
  let c1_i32_61 : BitVec 32 := 1#32
  let v106 : BitVec 32 := Scalar.subi v105 c1_i32_61
  let c2049_i32_62 : BitVec 32 := 2049#32
  let v107 : BitVec 32 := Scalar.minsi v106 c2049_i32_62
  let v108 : BitVec 32 := Scalar.subi v107 v92
  let c0_i32_63 : BitVec 32 := 0#32
  let v109 : BitVec 32 := Scalar.maxsi v108 c0_i32_63
  let c0_i32_65 : BitVec 32 := 0#32
  let v111 : BitVec 1 := Scalar.cmpi .sgt v109 c0_i32_65
  let v112 : BitVec 32 := Scalar.extui v111
  let c0_i32_66 : BitVec 32 := 0#32
  let v113 : BitVec 1 := Scalar.cmpi .slt v109 c0_i32_66
  let v114 : BitVec 32 := Scalar.extui v113
  let v115 : BitVec 32 := Scalar.subi v112 v114
  let c8_i32_64 : BitVec 32 := 8#32
  let c0_i32_67 : BitVec 32 := 0#32
  let v116 : BitVec 1 := Scalar.cmpi .sgt c8_i32_64 c0_i32_67
  let v117 : BitVec 32 := Scalar.extui v116
  let c0_i32_68 : BitVec 32 := 0#32
  let v118 : BitVec 1 := Scalar.cmpi .slt c8_i32_64 c0_i32_68
  let v119 : BitVec 32 := Scalar.extui v118
  let v120 : BitVec 32 := Scalar.subi v117 v119
  let v121 : BitVec 1 := Scalar.cmpi .ne v115 v120
  let v122 : BitVec 32 := Scalar.remsi v109 c8_i32_64
  let c0_i32_69 : BitVec 32 := 0#32
  let v123 : BitVec 1 := Scalar.cmpi .ne v122 c0_i32_69
  let v124 : BitVec 1 := Scalar.andi v121 v123
  let v110 : BitVec 32 := Scalar.divsi v109 c8_i32_64
  let c1_i32_70 : BitVec 32 := 1#32
  let v125 : BitVec 32 := Scalar.subi v110 c1_i32_70
  let v126 : BitVec 32 := Scalar.select v124 v125 v110
  let v127 : BitVec 32 := Scalar.subi v126 c0_i32_71
  let c1_i32_72 : BitVec 32 := 1#32
  let v129 : BitVec 32 := Scalar.divsi v127 c1_i32_72
  let v130 : BitVec 32 := Scalar.muli v129 c1_i32_72
  let v131 : BitVec 32 := Scalar.addi c0_i32_71 v130
  let c1_i32_74 : BitVec 32 := 1#32
  let arg19 : BitVec 32 := Scf.iv v131 c1_i32_74 k0_t11
  let c8_i32_444 : BitVec 32 := 8#32
  let v893 : BitVec 32 := Scalar.muli arg19 c8_i32_444
  let v894 : BitVec 32 := Scalar.addi v92 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t12_loop (v52 : BitVec 32) (v105 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v108 : BitVec 32 := Scalar.subi v107 v92
  let c0_i32_63 : BitVec 32 := 0#32
  let v109 : BitVec 32 := Scalar.maxsi v108 c0_i32_63
  let c0_i32_65 : BitVec 32 := 0#32
  let v111 : BitVec 1 := Scalar.cmpi .sgt v109 c0_i32_65
  let v112 : BitVec 32 := Scalar.extui v111
  let c0_i32_66 : BitVec 32 := 0#32
  let v113 : BitVec 1 := Scalar.cmpi .slt v109 c0_i32_66
  let v114 : BitVec 32 := Scalar.extui v113
  let v115 : BitVec 32 := Scalar.subi v112 v114
  let c8_i32_64 : BitVec 32 := 8#32
  let c0_i32_67 : BitVec 32 := 0#32
  let v116 : BitVec 1 := Scalar.cmpi .sgt c8_i32_64 c0_i32_67
  let v117 : BitVec 32 := Scalar.extui v116
  let c0_i32_68 : BitVec 32 := 0#32
  let v118 : BitVec 1 := Scalar.cmpi .slt c8_i32_64 c0_i32_68
  let v119 : BitVec 32 := Scalar.extui v118
  let v120 : BitVec 32 := Scalar.subi v117 v119
  let v121 : BitVec 1 := Scalar.cmpi .ne v115 v120
  let v122 : BitVec 32 := Scalar.remsi v109 c8_i32_64
  let c0_i32_69 : BitVec 32 := 0#32
  let v123 : BitVec 1 := Scalar.cmpi .ne v122 c0_i32_69
  let v124 : BitVec 1 := Scalar.andi v121 v123
  let v110 : BitVec 32 := Scalar.divsi v109 c8_i32_64
  let c1_i32_70 : BitVec 32 := 1#32
  let v125 : BitVec 32 := Scalar.subi v110 c1_i32_70
  let v126 : BitVec 32 := Scalar.select v124 v125 v110
  let c8_i32_75 : BitVec 32 := 8#32
  let v134 : BitVec 32 := Scalar.muli v126 c8_i32_75
  let v135 : BitVec 32 := Scalar.addi v92 v134
  let v136 : BitVec 32 := Scalar.subi v107 v135
  let c1_i32_76 : BitVec 32 := 1#32
  let v138 : BitVec 32 := Scalar.divsi v136 c1_i32_76
  let v139 : BitVec 32 := Scalar.muli v138 c1_i32_76
  let v140 : BitVec 32 := Scalar.addi v135 v139
  let c1_i32_77 : BitVec 32 := 1#32
  ⟨v135, v140, c1_i32_77⟩
def k0_off105 (v52 : BitVec 32) (v105 : BitVec 32) (k0_t12 : Fin (k0_t12_loop v52 v105).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v108 : BitVec 32 := Scalar.subi v107 v92
  let c0_i32_63 : BitVec 32 := 0#32
  let v109 : BitVec 32 := Scalar.maxsi v108 c0_i32_63
  let c0_i32_65 : BitVec 32 := 0#32
  let v111 : BitVec 1 := Scalar.cmpi .sgt v109 c0_i32_65
  let v112 : BitVec 32 := Scalar.extui v111
  let c0_i32_66 : BitVec 32 := 0#32
  let v113 : BitVec 1 := Scalar.cmpi .slt v109 c0_i32_66
  let v114 : BitVec 32 := Scalar.extui v113
  let v115 : BitVec 32 := Scalar.subi v112 v114
  let c8_i32_64 : BitVec 32 := 8#32
  let c0_i32_67 : BitVec 32 := 0#32
  let v116 : BitVec 1 := Scalar.cmpi .sgt c8_i32_64 c0_i32_67
  let v117 : BitVec 32 := Scalar.extui v116
  let c0_i32_68 : BitVec 32 := 0#32
  let v118 : BitVec 1 := Scalar.cmpi .slt c8_i32_64 c0_i32_68
  let v119 : BitVec 32 := Scalar.extui v118
  let v120 : BitVec 32 := Scalar.subi v117 v119
  let v121 : BitVec 1 := Scalar.cmpi .ne v115 v120
  let v122 : BitVec 32 := Scalar.remsi v109 c8_i32_64
  let c0_i32_69 : BitVec 32 := 0#32
  let v123 : BitVec 1 := Scalar.cmpi .ne v122 c0_i32_69
  let v124 : BitVec 1 := Scalar.andi v121 v123
  let v110 : BitVec 32 := Scalar.divsi v109 c8_i32_64
  let c1_i32_70 : BitVec 32 := 1#32
  let v125 : BitVec 32 := Scalar.subi v110 c1_i32_70
  let v126 : BitVec 32 := Scalar.select v124 v125 v110
  let c8_i32_75 : BitVec 32 := 8#32
  let v134 : BitVec 32 := Scalar.muli v126 c8_i32_75
  let v135 : BitVec 32 := Scalar.addi v92 v134
  let c1_i32_77 : BitVec 32 := 1#32
  let arg19 : BitVec 32 := Scf.iv v135 c1_i32_77 k0_t12
  let c1_i32_444 : BitVec 32 := 1#32
  let v893 : BitVec 32 := Scalar.addi arg19 c1_i32_444
  let v894 : Index := Scalar.indexCast v893
  ![v894.toNat]
def k0_off106 (v897 : BitVec 32) : Fin 2 → Nat :=
  let c256_i32_445 : BitVec 32 := 256#32
  let v898 : BitVec 32 := Scalar.subi v897 c256_i32_445
  let v912 : Index := Scalar.indexCast v898
  let c0_450 : Index := 0#32
  ![v912.toNat, 0]

def k0_off107 (v897 : BitVec 32) : Fin 2 → Nat :=
  let c256_i32_445 : BitVec 32 := 256#32
  let v898 : BitVec 32 := Scalar.subi v897 c256_i32_445
  let v915 : Index := Scalar.indexCast v898
  let c16_451 : Index := 16#32
  ![v915.toNat, 16]

def k0_chk38 (v897 : BitVec 32) : Prop :=
  (∀ a, (k0_off106 v897) a + S1x16.size a ≤ S257x32.size a) ∧
  (∀ a, (k0_off107 v897) a + S1x16.size a ≤ S257x32.size a)
theorem k0_off106_inb : ∀ (v897 : BitVec 32) (k0_hw38 : k0_chk38 v897), ∀ a, (k0_off106 v897) a + S1x16.size a ≤ S257x32.size a := fun v897 k0_hw38 => k0_hw38.1
theorem k0_off107_inb : ∀ (v897 : BitVec 32) (k0_hw38 : k0_chk38 v897), ∀ a, (k0_off107 v897) a + S1x16.size a ≤ S257x32.size a := fun v897 k0_hw38 => k0_hw38.2

def k0_off108 (v52 : BitVec 32) (v105 : BitVec 32) (k0_t12 : Fin (k0_t12_loop v52 v105).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v108 : BitVec 32 := Scalar.subi v107 v92
  let c0_i32_63 : BitVec 32 := 0#32
  let v109 : BitVec 32 := Scalar.maxsi v108 c0_i32_63
  let c0_i32_65 : BitVec 32 := 0#32
  let v111 : BitVec 1 := Scalar.cmpi .sgt v109 c0_i32_65
  let v112 : BitVec 32 := Scalar.extui v111
  let c0_i32_66 : BitVec 32 := 0#32
  let v113 : BitVec 1 := Scalar.cmpi .slt v109 c0_i32_66
  let v114 : BitVec 32 := Scalar.extui v113
  let v115 : BitVec 32 := Scalar.subi v112 v114
  let c8_i32_64 : BitVec 32 := 8#32
  let c0_i32_67 : BitVec 32 := 0#32
  let v116 : BitVec 1 := Scalar.cmpi .sgt c8_i32_64 c0_i32_67
  let v117 : BitVec 32 := Scalar.extui v116
  let c0_i32_68 : BitVec 32 := 0#32
  let v118 : BitVec 1 := Scalar.cmpi .slt c8_i32_64 c0_i32_68
  let v119 : BitVec 32 := Scalar.extui v118
  let v120 : BitVec 32 := Scalar.subi v117 v119
  let v121 : BitVec 1 := Scalar.cmpi .ne v115 v120
  let v122 : BitVec 32 := Scalar.remsi v109 c8_i32_64
  let c0_i32_69 : BitVec 32 := 0#32
  let v123 : BitVec 1 := Scalar.cmpi .ne v122 c0_i32_69
  let v124 : BitVec 1 := Scalar.andi v121 v123
  let v110 : BitVec 32 := Scalar.divsi v109 c8_i32_64
  let c1_i32_70 : BitVec 32 := 1#32
  let v125 : BitVec 32 := Scalar.subi v110 c1_i32_70
  let v126 : BitVec 32 := Scalar.select v124 v125 v110
  let c8_i32_75 : BitVec 32 := 8#32
  let v134 : BitVec 32 := Scalar.muli v126 c8_i32_75
  let v135 : BitVec 32 := Scalar.addi v92 v134
  let c1_i32_77 : BitVec 32 := 1#32
  let arg19 : BitVec 32 := Scf.iv v135 c1_i32_77 k0_t12
  let c1_i32_452 : BitVec 32 := 1#32
  let v920 : BitVec 32 := Scalar.addi arg19 c1_i32_452
  let v921 : Index := Scalar.indexCast v920
  let c0_453 : Index := 0#32
  ![v921.toNat, 0]
def k0_off109 (v52 : BitVec 32) (v105 : BitVec 32) (k0_t12 : Fin (k0_t12_loop v52 v105).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v108 : BitVec 32 := Scalar.subi v107 v92
  let c0_i32_63 : BitVec 32 := 0#32
  let v109 : BitVec 32 := Scalar.maxsi v108 c0_i32_63
  let c0_i32_65 : BitVec 32 := 0#32
  let v111 : BitVec 1 := Scalar.cmpi .sgt v109 c0_i32_65
  let v112 : BitVec 32 := Scalar.extui v111
  let c0_i32_66 : BitVec 32 := 0#32
  let v113 : BitVec 1 := Scalar.cmpi .slt v109 c0_i32_66
  let v114 : BitVec 32 := Scalar.extui v113
  let v115 : BitVec 32 := Scalar.subi v112 v114
  let c8_i32_64 : BitVec 32 := 8#32
  let c0_i32_67 : BitVec 32 := 0#32
  let v116 : BitVec 1 := Scalar.cmpi .sgt c8_i32_64 c0_i32_67
  let v117 : BitVec 32 := Scalar.extui v116
  let c0_i32_68 : BitVec 32 := 0#32
  let v118 : BitVec 1 := Scalar.cmpi .slt c8_i32_64 c0_i32_68
  let v119 : BitVec 32 := Scalar.extui v118
  let v120 : BitVec 32 := Scalar.subi v117 v119
  let v121 : BitVec 1 := Scalar.cmpi .ne v115 v120
  let v122 : BitVec 32 := Scalar.remsi v109 c8_i32_64
  let c0_i32_69 : BitVec 32 := 0#32
  let v123 : BitVec 1 := Scalar.cmpi .ne v122 c0_i32_69
  let v124 : BitVec 1 := Scalar.andi v121 v123
  let v110 : BitVec 32 := Scalar.divsi v109 c8_i32_64
  let c1_i32_70 : BitVec 32 := 1#32
  let v125 : BitVec 32 := Scalar.subi v110 c1_i32_70
  let v126 : BitVec 32 := Scalar.select v124 v125 v110
  let c8_i32_75 : BitVec 32 := 8#32
  let v134 : BitVec 32 := Scalar.muli v126 c8_i32_75
  let v135 : BitVec 32 := Scalar.addi v92 v134
  let c1_i32_77 : BitVec 32 := 1#32
  let arg19 : BitVec 32 := Scf.iv v135 c1_i32_77 k0_t12
  let c1_i32_454 : BitVec 32 := 1#32
  let v925 : BitVec 32 := Scalar.addi arg19 c1_i32_454
  let v926 : Index := Scalar.indexCast v925
  let c16_455 : Index := 16#32
  ![v926.toNat, 16]
@[reducible] def k0_t13_loop (v52 : BitVec 32) (v105 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v108 : BitVec 32 := Scalar.subi v107 v92
  let c0_i32_63 : BitVec 32 := 0#32
  let v109 : BitVec 32 := Scalar.maxsi v108 c0_i32_63
  let c0_i32_65 : BitVec 32 := 0#32
  let v111 : BitVec 1 := Scalar.cmpi .sgt v109 c0_i32_65
  let v112 : BitVec 32 := Scalar.extui v111
  let c0_i32_66 : BitVec 32 := 0#32
  let v113 : BitVec 1 := Scalar.cmpi .slt v109 c0_i32_66
  let v114 : BitVec 32 := Scalar.extui v113
  let v115 : BitVec 32 := Scalar.subi v112 v114
  let c8_i32_64 : BitVec 32 := 8#32
  let c0_i32_67 : BitVec 32 := 0#32
  let v116 : BitVec 1 := Scalar.cmpi .sgt c8_i32_64 c0_i32_67
  let v117 : BitVec 32 := Scalar.extui v116
  let c0_i32_68 : BitVec 32 := 0#32
  let v118 : BitVec 1 := Scalar.cmpi .slt c8_i32_64 c0_i32_68
  let v119 : BitVec 32 := Scalar.extui v118
  let v120 : BitVec 32 := Scalar.subi v117 v119
  let v121 : BitVec 1 := Scalar.cmpi .ne v115 v120
  let v122 : BitVec 32 := Scalar.remsi v109 c8_i32_64
  let c0_i32_69 : BitVec 32 := 0#32
  let v123 : BitVec 1 := Scalar.cmpi .ne v122 c0_i32_69
  let v124 : BitVec 1 := Scalar.andi v121 v123
  let v110 : BitVec 32 := Scalar.divsi v109 c8_i32_64
  let c1_i32_70 : BitVec 32 := 1#32
  let v125 : BitVec 32 := Scalar.subi v110 c1_i32_70
  let v126 : BitVec 32 := Scalar.select v124 v125 v110
  let c8_i32_75 : BitVec 32 := 8#32
  let v134 : BitVec 32 := Scalar.muli v126 c8_i32_75
  let v135 : BitVec 32 := Scalar.addi v92 v134
  let v136 : BitVec 32 := Scalar.subi v107 v135
  let c1_i32_76 : BitVec 32 := 1#32
  let v138 : BitVec 32 := Scalar.divsi v136 c1_i32_76
  let v139 : BitVec 32 := Scalar.muli v138 c1_i32_76
  let v140 : BitVec 32 := Scalar.addi v135 v139
  let v137 : BitVec 32 := Scalar.addi v135 v136
  let c1_i32_78 : BitVec 32 := 1#32
  ⟨v140, v137, c1_i32_78⟩
def k0_off110 (v52 : BitVec 32) (v105 : BitVec 32) (k0_t13 : Fin (k0_t13_loop v52 v105).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v108 : BitVec 32 := Scalar.subi v107 v92
  let c0_i32_63 : BitVec 32 := 0#32
  let v109 : BitVec 32 := Scalar.maxsi v108 c0_i32_63
  let c0_i32_65 : BitVec 32 := 0#32
  let v111 : BitVec 1 := Scalar.cmpi .sgt v109 c0_i32_65
  let v112 : BitVec 32 := Scalar.extui v111
  let c0_i32_66 : BitVec 32 := 0#32
  let v113 : BitVec 1 := Scalar.cmpi .slt v109 c0_i32_66
  let v114 : BitVec 32 := Scalar.extui v113
  let v115 : BitVec 32 := Scalar.subi v112 v114
  let c8_i32_64 : BitVec 32 := 8#32
  let c0_i32_67 : BitVec 32 := 0#32
  let v116 : BitVec 1 := Scalar.cmpi .sgt c8_i32_64 c0_i32_67
  let v117 : BitVec 32 := Scalar.extui v116
  let c0_i32_68 : BitVec 32 := 0#32
  let v118 : BitVec 1 := Scalar.cmpi .slt c8_i32_64 c0_i32_68
  let v119 : BitVec 32 := Scalar.extui v118
  let v120 : BitVec 32 := Scalar.subi v117 v119
  let v121 : BitVec 1 := Scalar.cmpi .ne v115 v120
  let v122 : BitVec 32 := Scalar.remsi v109 c8_i32_64
  let c0_i32_69 : BitVec 32 := 0#32
  let v123 : BitVec 1 := Scalar.cmpi .ne v122 c0_i32_69
  let v124 : BitVec 1 := Scalar.andi v121 v123
  let v110 : BitVec 32 := Scalar.divsi v109 c8_i32_64
  let c1_i32_70 : BitVec 32 := 1#32
  let v125 : BitVec 32 := Scalar.subi v110 c1_i32_70
  let v126 : BitVec 32 := Scalar.select v124 v125 v110
  let c8_i32_75 : BitVec 32 := 8#32
  let v134 : BitVec 32 := Scalar.muli v126 c8_i32_75
  let v135 : BitVec 32 := Scalar.addi v92 v134
  let v136 : BitVec 32 := Scalar.subi v107 v135
  let c1_i32_76 : BitVec 32 := 1#32
  let v138 : BitVec 32 := Scalar.divsi v136 c1_i32_76
  let v139 : BitVec 32 := Scalar.muli v138 c1_i32_76
  let v140 : BitVec 32 := Scalar.addi v135 v139
  let c1_i32_78 : BitVec 32 := 1#32
  let arg19 : BitVec 32 := Scf.iv v140 c1_i32_78 k0_t13
  let c1_i32_444 : BitVec 32 := 1#32
  let v893 : BitVec 32 := Scalar.addi arg19 c1_i32_444
  let v894 : Index := Scalar.indexCast v893
  ![v894.toNat]
def k0_off111 (v897 : BitVec 32) : Fin 2 → Nat :=
  let c256_i32_445 : BitVec 32 := 256#32
  let v898 : BitVec 32 := Scalar.subi v897 c256_i32_445
  let v912 : Index := Scalar.indexCast v898
  let c0_450 : Index := 0#32
  ![v912.toNat, 0]

def k0_off112 (v897 : BitVec 32) : Fin 2 → Nat :=
  let c256_i32_445 : BitVec 32 := 256#32
  let v898 : BitVec 32 := Scalar.subi v897 c256_i32_445
  let v915 : Index := Scalar.indexCast v898
  let c16_451 : Index := 16#32
  ![v915.toNat, 16]

def k0_chk39 (v897 : BitVec 32) : Prop :=
  (∀ a, (k0_off111 v897) a + S1x16.size a ≤ S257x32.size a) ∧
  (∀ a, (k0_off112 v897) a + S1x16.size a ≤ S257x32.size a)
theorem k0_off111_inb : ∀ (v897 : BitVec 32) (k0_hw39 : k0_chk39 v897), ∀ a, (k0_off111 v897) a + S1x16.size a ≤ S257x32.size a := fun v897 k0_hw39 => k0_hw39.1
theorem k0_off112_inb : ∀ (v897 : BitVec 32) (k0_hw39 : k0_chk39 v897), ∀ a, (k0_off112 v897) a + S1x16.size a ≤ S257x32.size a := fun v897 k0_hw39 => k0_hw39.2

def k0_off113 (v52 : BitVec 32) (v105 : BitVec 32) (k0_t13 : Fin (k0_t13_loop v52 v105).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v108 : BitVec 32 := Scalar.subi v107 v92
  let c0_i32_63 : BitVec 32 := 0#32
  let v109 : BitVec 32 := Scalar.maxsi v108 c0_i32_63
  let c0_i32_65 : BitVec 32 := 0#32
  let v111 : BitVec 1 := Scalar.cmpi .sgt v109 c0_i32_65
  let v112 : BitVec 32 := Scalar.extui v111
  let c0_i32_66 : BitVec 32 := 0#32
  let v113 : BitVec 1 := Scalar.cmpi .slt v109 c0_i32_66
  let v114 : BitVec 32 := Scalar.extui v113
  let v115 : BitVec 32 := Scalar.subi v112 v114
  let c8_i32_64 : BitVec 32 := 8#32
  let c0_i32_67 : BitVec 32 := 0#32
  let v116 : BitVec 1 := Scalar.cmpi .sgt c8_i32_64 c0_i32_67
  let v117 : BitVec 32 := Scalar.extui v116
  let c0_i32_68 : BitVec 32 := 0#32
  let v118 : BitVec 1 := Scalar.cmpi .slt c8_i32_64 c0_i32_68
  let v119 : BitVec 32 := Scalar.extui v118
  let v120 : BitVec 32 := Scalar.subi v117 v119
  let v121 : BitVec 1 := Scalar.cmpi .ne v115 v120
  let v122 : BitVec 32 := Scalar.remsi v109 c8_i32_64
  let c0_i32_69 : BitVec 32 := 0#32
  let v123 : BitVec 1 := Scalar.cmpi .ne v122 c0_i32_69
  let v124 : BitVec 1 := Scalar.andi v121 v123
  let v110 : BitVec 32 := Scalar.divsi v109 c8_i32_64
  let c1_i32_70 : BitVec 32 := 1#32
  let v125 : BitVec 32 := Scalar.subi v110 c1_i32_70
  let v126 : BitVec 32 := Scalar.select v124 v125 v110
  let c8_i32_75 : BitVec 32 := 8#32
  let v134 : BitVec 32 := Scalar.muli v126 c8_i32_75
  let v135 : BitVec 32 := Scalar.addi v92 v134
  let v136 : BitVec 32 := Scalar.subi v107 v135
  let c1_i32_76 : BitVec 32 := 1#32
  let v138 : BitVec 32 := Scalar.divsi v136 c1_i32_76
  let v139 : BitVec 32 := Scalar.muli v138 c1_i32_76
  let v140 : BitVec 32 := Scalar.addi v135 v139
  let c1_i32_78 : BitVec 32 := 1#32
  let arg19 : BitVec 32 := Scf.iv v140 c1_i32_78 k0_t13
  let c1_i32_452 : BitVec 32 := 1#32
  let v920 : BitVec 32 := Scalar.addi arg19 c1_i32_452
  let v921 : Index := Scalar.indexCast v920
  let c0_453 : Index := 0#32
  ![v921.toNat, 0]
def k0_off114 (v52 : BitVec 32) (v105 : BitVec 32) (k0_t13 : Fin (k0_t13_loop v52 v105).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v108 : BitVec 32 := Scalar.subi v107 v92
  let c0_i32_63 : BitVec 32 := 0#32
  let v109 : BitVec 32 := Scalar.maxsi v108 c0_i32_63
  let c0_i32_65 : BitVec 32 := 0#32
  let v111 : BitVec 1 := Scalar.cmpi .sgt v109 c0_i32_65
  let v112 : BitVec 32 := Scalar.extui v111
  let c0_i32_66 : BitVec 32 := 0#32
  let v113 : BitVec 1 := Scalar.cmpi .slt v109 c0_i32_66
  let v114 : BitVec 32 := Scalar.extui v113
  let v115 : BitVec 32 := Scalar.subi v112 v114
  let c8_i32_64 : BitVec 32 := 8#32
  let c0_i32_67 : BitVec 32 := 0#32
  let v116 : BitVec 1 := Scalar.cmpi .sgt c8_i32_64 c0_i32_67
  let v117 : BitVec 32 := Scalar.extui v116
  let c0_i32_68 : BitVec 32 := 0#32
  let v118 : BitVec 1 := Scalar.cmpi .slt c8_i32_64 c0_i32_68
  let v119 : BitVec 32 := Scalar.extui v118
  let v120 : BitVec 32 := Scalar.subi v117 v119
  let v121 : BitVec 1 := Scalar.cmpi .ne v115 v120
  let v122 : BitVec 32 := Scalar.remsi v109 c8_i32_64
  let c0_i32_69 : BitVec 32 := 0#32
  let v123 : BitVec 1 := Scalar.cmpi .ne v122 c0_i32_69
  let v124 : BitVec 1 := Scalar.andi v121 v123
  let v110 : BitVec 32 := Scalar.divsi v109 c8_i32_64
  let c1_i32_70 : BitVec 32 := 1#32
  let v125 : BitVec 32 := Scalar.subi v110 c1_i32_70
  let v126 : BitVec 32 := Scalar.select v124 v125 v110
  let c8_i32_75 : BitVec 32 := 8#32
  let v134 : BitVec 32 := Scalar.muli v126 c8_i32_75
  let v135 : BitVec 32 := Scalar.addi v92 v134
  let v136 : BitVec 32 := Scalar.subi v107 v135
  let c1_i32_76 : BitVec 32 := 1#32
  let v138 : BitVec 32 := Scalar.divsi v136 c1_i32_76
  let v139 : BitVec 32 := Scalar.muli v138 c1_i32_76
  let v140 : BitVec 32 := Scalar.addi v135 v139
  let c1_i32_78 : BitVec 32 := 1#32
  let arg19 : BitVec 32 := Scf.iv v140 c1_i32_78 k0_t13
  let c1_i32_454 : BitVec 32 := 1#32
  let v925 : BitVec 32 := Scalar.addi arg19 c1_i32_454
  let v926 : Index := Scalar.indexCast v925
  let c16_455 : Index := 16#32
  ![v926.toNat, 16]

def k0_chk21 (v52 : BitVec 32) (v105 : BitVec 32) : Prop :=
  ((k0_t10_loop v52 v105).OK) ∧
  (∀ k0_t10 : Fin (k0_t10_loop v52 v105).trips, ∀ (r : Fin 2), ∀ a, (k0_off67 v52 v105 k0_t10 (BitVec.ofNat 32 (1 + r.val))) a + S16.size a ≤ S4112.size a) ∧
  (∀ k0_t10 : Fin (k0_t10_loop v52 v105).trips, ∀ (r : Fin 8), ∀ a, (k0_off84 v52 v105 k0_t10 (BitVec.ofNat 32 r.val)) a + S1x16.size a ≤ S2050x32.size a) ∧
  (∀ k0_t10 : Fin (k0_t10_loop v52 v105).trips, ∀ (r : Fin 8), ∀ a, (k0_off85 v52 v105 k0_t10 (BitVec.ofNat 32 r.val)) a + S1x16.size a ≤ S2050x32.size a) ∧
  ((k0_t11_loop v52 v105).OK) ∧
  (∀ k0_t11 : Fin (k0_t11_loop v52 v105).trips, ∀ (r : Fin 2), ∀ a, (k0_off86 v52 v105 k0_t11 (BitVec.ofNat 32 (1 + r.val))) a + S16.size a ≤ S4112.size a) ∧
  (∀ k0_t11 : Fin (k0_t11_loop v52 v105).trips, ∀ (r : Fin 8), ∀ a, (k0_off103 v52 v105 k0_t11 (BitVec.ofNat 32 r.val)) a + S1x16.size a ≤ S2050x32.size a) ∧
  (∀ k0_t11 : Fin (k0_t11_loop v52 v105).trips, ∀ (r : Fin 8), ∀ a, (k0_off104 v52 v105 k0_t11 (BitVec.ofNat 32 r.val)) a + S1x16.size a ≤ S2050x32.size a) ∧
  ((k0_t12_loop v52 v105).OK) ∧
  (∀ k0_t12 : Fin (k0_t12_loop v52 v105).trips, ∀ a, (k0_off105 v52 v105 k0_t12) a + S16.size a ≤ S4112.size a) ∧
  (∀ k0_t12 : Fin (k0_t12_loop v52 v105).trips, ∀ a, (k0_off108 v52 v105 k0_t12) a + S1x16.size a ≤ S2050x32.size a) ∧
  (∀ k0_t12 : Fin (k0_t12_loop v52 v105).trips, ∀ a, (k0_off109 v52 v105 k0_t12) a + S1x16.size a ≤ S2050x32.size a) ∧
  ((k0_t13_loop v52 v105).OK) ∧
  (∀ k0_t13 : Fin (k0_t13_loop v52 v105).trips, ∀ a, (k0_off110 v52 v105 k0_t13) a + S16.size a ≤ S4112.size a) ∧
  (∀ k0_t13 : Fin (k0_t13_loop v52 v105).trips, ∀ a, (k0_off113 v52 v105 k0_t13) a + S1x16.size a ≤ S2050x32.size a) ∧
  (∀ k0_t13 : Fin (k0_t13_loop v52 v105).trips, ∀ a, (k0_off114 v52 v105 k0_t13) a + S1x16.size a ≤ S2050x32.size a)
theorem k0_t10_ok : ∀ (v52 : BitVec 32) (v105 : BitVec 32) (k0_hw21 : k0_chk21 v52 v105), (k0_t10_loop v52 v105).OK := fun v52 v105 k0_hw21 => k0_hw21.1
theorem k0_off67_inb : ∀ (v52 : BitVec 32) (v105 : BitVec 32) (k0_hw21 : k0_chk21 v52 v105) (k0_t10 : Fin (k0_t10_loop v52 v105).trips), ∀ (r : Fin 2), ∀ a, (k0_off67 v52 v105 k0_t10 (BitVec.ofNat 32 (1 + r.val))) a + S16.size a ≤ S4112.size a := fun v52 v105 k0_hw21 k0_t10 r => k0_hw21.2.1 k0_t10 r
theorem k0_off84_inb : ∀ (v52 : BitVec 32) (v105 : BitVec 32) (k0_hw21 : k0_chk21 v52 v105) (k0_t10 : Fin (k0_t10_loop v52 v105).trips), ∀ (r : Fin 8), ∀ a, (k0_off84 v52 v105 k0_t10 (BitVec.ofNat 32 r.val)) a + S1x16.size a ≤ S2050x32.size a := fun v52 v105 k0_hw21 k0_t10 r => k0_hw21.2.2.1 k0_t10 r
theorem k0_off85_inb : ∀ (v52 : BitVec 32) (v105 : BitVec 32) (k0_hw21 : k0_chk21 v52 v105) (k0_t10 : Fin (k0_t10_loop v52 v105).trips), ∀ (r : Fin 8), ∀ a, (k0_off85 v52 v105 k0_t10 (BitVec.ofNat 32 r.val)) a + S1x16.size a ≤ S2050x32.size a := fun v52 v105 k0_hw21 k0_t10 r => k0_hw21.2.2.2.1 k0_t10 r
theorem k0_t11_ok : ∀ (v52 : BitVec 32) (v105 : BitVec 32) (k0_hw21 : k0_chk21 v52 v105), (k0_t11_loop v52 v105).OK := fun v52 v105 k0_hw21 => k0_hw21.2.2.2.2.1
theorem k0_off86_inb : ∀ (v52 : BitVec 32) (v105 : BitVec 32) (k0_hw21 : k0_chk21 v52 v105) (k0_t11 : Fin (k0_t11_loop v52 v105).trips), ∀ (r : Fin 2), ∀ a, (k0_off86 v52 v105 k0_t11 (BitVec.ofNat 32 (1 + r.val))) a + S16.size a ≤ S4112.size a := fun v52 v105 k0_hw21 k0_t11 r => k0_hw21.2.2.2.2.2.1 k0_t11 r
theorem k0_off103_inb : ∀ (v52 : BitVec 32) (v105 : BitVec 32) (k0_hw21 : k0_chk21 v52 v105) (k0_t11 : Fin (k0_t11_loop v52 v105).trips), ∀ (r : Fin 8), ∀ a, (k0_off103 v52 v105 k0_t11 (BitVec.ofNat 32 r.val)) a + S1x16.size a ≤ S2050x32.size a := fun v52 v105 k0_hw21 k0_t11 r => k0_hw21.2.2.2.2.2.2.1 k0_t11 r
theorem k0_off104_inb : ∀ (v52 : BitVec 32) (v105 : BitVec 32) (k0_hw21 : k0_chk21 v52 v105) (k0_t11 : Fin (k0_t11_loop v52 v105).trips), ∀ (r : Fin 8), ∀ a, (k0_off104 v52 v105 k0_t11 (BitVec.ofNat 32 r.val)) a + S1x16.size a ≤ S2050x32.size a := fun v52 v105 k0_hw21 k0_t11 r => k0_hw21.2.2.2.2.2.2.2.1 k0_t11 r
theorem k0_t12_ok : ∀ (v52 : BitVec 32) (v105 : BitVec 32) (k0_hw21 : k0_chk21 v52 v105), (k0_t12_loop v52 v105).OK := fun v52 v105 k0_hw21 => k0_hw21.2.2.2.2.2.2.2.2.1
theorem k0_off105_inb : ∀ (v52 : BitVec 32) (v105 : BitVec 32) (k0_hw21 : k0_chk21 v52 v105) (k0_t12 : Fin (k0_t12_loop v52 v105).trips), ∀ a, (k0_off105 v52 v105 k0_t12) a + S16.size a ≤ S4112.size a := fun v52 v105 k0_hw21 k0_t12 => k0_hw21.2.2.2.2.2.2.2.2.2.1 k0_t12
theorem k0_off108_inb : ∀ (v52 : BitVec 32) (v105 : BitVec 32) (k0_hw21 : k0_chk21 v52 v105) (k0_t12 : Fin (k0_t12_loop v52 v105).trips), ∀ a, (k0_off108 v52 v105 k0_t12) a + S1x16.size a ≤ S2050x32.size a := fun v52 v105 k0_hw21 k0_t12 => k0_hw21.2.2.2.2.2.2.2.2.2.2.1 k0_t12
theorem k0_off109_inb : ∀ (v52 : BitVec 32) (v105 : BitVec 32) (k0_hw21 : k0_chk21 v52 v105) (k0_t12 : Fin (k0_t12_loop v52 v105).trips), ∀ a, (k0_off109 v52 v105 k0_t12) a + S1x16.size a ≤ S2050x32.size a := fun v52 v105 k0_hw21 k0_t12 => k0_hw21.2.2.2.2.2.2.2.2.2.2.2.1 k0_t12
theorem k0_t13_ok : ∀ (v52 : BitVec 32) (v105 : BitVec 32) (k0_hw21 : k0_chk21 v52 v105), (k0_t13_loop v52 v105).OK := fun v52 v105 k0_hw21 => k0_hw21.2.2.2.2.2.2.2.2.2.2.2.2.1
theorem k0_off110_inb : ∀ (v52 : BitVec 32) (v105 : BitVec 32) (k0_hw21 : k0_chk21 v52 v105) (k0_t13 : Fin (k0_t13_loop v52 v105).trips), ∀ a, (k0_off110 v52 v105 k0_t13) a + S16.size a ≤ S4112.size a := fun v52 v105 k0_hw21 k0_t13 => k0_hw21.2.2.2.2.2.2.2.2.2.2.2.2.2.1 k0_t13
theorem k0_off113_inb : ∀ (v52 : BitVec 32) (v105 : BitVec 32) (k0_hw21 : k0_chk21 v52 v105) (k0_t13 : Fin (k0_t13_loop v52 v105).trips), ∀ a, (k0_off113 v52 v105 k0_t13) a + S1x16.size a ≤ S2050x32.size a := fun v52 v105 k0_hw21 k0_t13 => k0_hw21.2.2.2.2.2.2.2.2.2.2.2.2.2.2.1 k0_t13
theorem k0_off114_inb : ∀ (v52 : BitVec 32) (v105 : BitVec 32) (k0_hw21 : k0_chk21 v52 v105) (k0_t13 : Fin (k0_t13_loop v52 v105).trips), ∀ a, (k0_off114 v52 v105 k0_t13) a + S1x16.size a ≤ S2050x32.size a := fun v52 v105 k0_hw21 k0_t13 => k0_hw21.2.2.2.2.2.2.2.2.2.2.2.2.2.2.2 k0_t13

def k0_off115 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c512_i32_79 : BitVec 32 := 512#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 512, v3.toNat]
@[reducible] def k0_t14_loop : Scf.Loop 32 :=
  let c0_i32_81 : BitVec 32 := 0#32
  let c16_i32_82 : BitVec 32 := 16#32
  let v150 : BitVec 32 := Scalar.addi c0_i32_81 c16_i32_82
  let c1_i32_83 : BitVec 32 := 1#32
  ⟨c0_i32_81, v150, c1_i32_83⟩
def k0_off116 (k0_t14 : Fin k0_t14_loop.trips) (c0_i32_445 : BitVec 32) : Fin 2 → Nat :=
  let c0_i32_81 : BitVec 32 := 0#32
  let c1_i32_83 : BitVec 32 := 1#32
  let arg19 : BitVec 32 := Scf.iv c0_i32_81 c1_i32_83 k0_t14
  let c16_i32_444 : BitVec 32 := 16#32
  let v893 : BitVec 32 := Scalar.muli arg19 c16_i32_444
  let v894 : BitVec 32 := Scalar.addi v893 c0_i32_445
  let v895 : Index := Scalar.indexCast v894
  let c0_446 : Index := 0#32
  ![v895.toNat, 0]
def k0_off117 (k0_t14 : Fin k0_t14_loop.trips) (c0_i32_447 : BitVec 32) : Fin 2 → Nat :=
  let c0_i32_81 : BitVec 32 := 0#32
  let c1_i32_83 : BitVec 32 := 1#32
  let arg19 : BitVec 32 := Scf.iv c0_i32_81 c1_i32_83 k0_t14
  let c16_i32_444 : BitVec 32 := 16#32
  let v893 : BitVec 32 := Scalar.muli arg19 c16_i32_444
  let v898 : BitVec 32 := Scalar.addi v893 c0_i32_447
  let v899 : Index := Scalar.indexCast v898
  let c16_448 : Index := 16#32
  ![v899.toNat, 16]
def k0_off118 (k0_t14 : Fin k0_t14_loop.trips) (c0_i32_449 : BitVec 32) : Fin 2 → Nat :=
  let c0_i32_81 : BitVec 32 := 0#32
  let c1_i32_83 : BitVec 32 := 1#32
  let arg19 : BitVec 32 := Scf.iv c0_i32_81 c1_i32_83 k0_t14
  let c16_i32_444 : BitVec 32 := 16#32
  let v893 : BitVec 32 := Scalar.muli arg19 c16_i32_444
  let v902 : BitVec 32 := Scalar.addi v893 c0_i32_449
  let c1_i32_450 : BitVec 32 := 1#32
  let v903 : BitVec 32 := Scalar.addi v902 c1_i32_450
  let v904 : Index := Scalar.indexCast v903
  let c0_451 : Index := 0#32
  ![v904.toNat, 0]
def k0_off119 (k0_t14 : Fin k0_t14_loop.trips) (c0_i32_452 : BitVec 32) : Fin 2 → Nat :=
  let c0_i32_81 : BitVec 32 := 0#32
  let c1_i32_83 : BitVec 32 := 1#32
  let arg19 : BitVec 32 := Scf.iv c0_i32_81 c1_i32_83 k0_t14
  let c16_i32_444 : BitVec 32 := 16#32
  let v893 : BitVec 32 := Scalar.muli arg19 c16_i32_444
  let v906 : BitVec 32 := Scalar.addi v893 c0_i32_452
  let c1_i32_453 : BitVec 32 := 1#32
  let v907 : BitVec 32 := Scalar.addi v906 c1_i32_453
  let v908 : Index := Scalar.indexCast v907
  let c16_454 : Index := 16#32
  ![v908.toNat, 16]
def k0_off120 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c1024_i32 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 1024, v3.toNat]
@[reducible] def k0_t15_loop (v52 : BitVec 32) (v105 : BitVec 32) (v158 : BitVec 32) : Scf.Loop 32 :=
  let c0_i32_96 : BitVec 32 := 0#32
  let c1_i32_86 : BitVec 32 := 1#32
  let v159 : BitVec 32 := Scalar.subi v158 c1_i32_86
  let c2049_i32_87 : BitVec 32 := 2049#32
  let v160 : BitVec 32 := Scalar.minsi v159 c2049_i32_87
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let v161 : BitVec 32 := Scalar.subi v160 v145
  let c0_i32_88 : BitVec 32 := 0#32
  let v162 : BitVec 32 := Scalar.maxsi v161 c0_i32_88
  let c0_i32_90 : BitVec 32 := 0#32
  let v164 : BitVec 1 := Scalar.cmpi .sgt v162 c0_i32_90
  let v165 : BitVec 32 := Scalar.extui v164
  let c0_i32_91 : BitVec 32 := 0#32
  let v166 : BitVec 1 := Scalar.cmpi .slt v162 c0_i32_91
  let v167 : BitVec 32 := Scalar.extui v166
  let v168 : BitVec 32 := Scalar.subi v165 v167
  let c8_i32_89 : BitVec 32 := 8#32
  let c0_i32_92 : BitVec 32 := 0#32
  let v169 : BitVec 1 := Scalar.cmpi .sgt c8_i32_89 c0_i32_92
  let v170 : BitVec 32 := Scalar.extui v169
  let c0_i32_93 : BitVec 32 := 0#32
  let v171 : BitVec 1 := Scalar.cmpi .slt c8_i32_89 c0_i32_93
  let v172 : BitVec 32 := Scalar.extui v171
  let v173 : BitVec 32 := Scalar.subi v170 v172
  let v174 : BitVec 1 := Scalar.cmpi .ne v168 v173
  let v175 : BitVec 32 := Scalar.remsi v162 c8_i32_89
  let c0_i32_94 : BitVec 32 := 0#32
  let v176 : BitVec 1 := Scalar.cmpi .ne v175 c0_i32_94
  let v177 : BitVec 1 := Scalar.andi v174 v176
  let v163 : BitVec 32 := Scalar.divsi v162 c8_i32_89
  let c1_i32_95 : BitVec 32 := 1#32
  let v178 : BitVec 32 := Scalar.subi v163 c1_i32_95
  let v179 : BitVec 32 := Scalar.select v177 v178 v163
  let v180 : BitVec 32 := Scalar.subi v179 c0_i32_96
  let c1_i32_97 : BitVec 32 := 1#32
  let v182 : BitVec 32 := Scalar.divsi v180 c1_i32_97
  let v183 : BitVec 32 := Scalar.muli v182 c1_i32_97
  let v184 : BitVec 32 := Scalar.addi c0_i32_96 v183
  let c1_i32_98 : BitVec 32 := 1#32
  ⟨c0_i32_96, v184, c1_i32_98⟩

def k0_off121 (v52 : BitVec 32) (v105 : BitVec 32) (v158 : BitVec 32) (k0_t15 : Fin (k0_t15_loop v52 v105 v158).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c0_i32_96 : BitVec 32 := 0#32
  let c1_i32_98 : BitVec 32 := 1#32
  let arg19 : BitVec 32 := Scf.iv c0_i32_96 c1_i32_98 k0_t15
  let c8_i32_444 : BitVec 32 := 8#32
  let v893 : BitVec 32 := Scalar.muli arg19 c8_i32_444
  let v894 : BitVec 32 := Scalar.addi v145 v893
  let v895 : BitVec 32 := Scalar.addi v894 c1_i32_445
  let v896 : Index := Scalar.indexCast v895
  ![v896.toNat]
def k0_off122 (v912 : BitVec 32) : Fin 2 → Nat :=
  let c512_i32_451 : BitVec 32 := 512#32
  let v913 : BitVec 32 := Scalar.subi v912 c512_i32_451
  let v914 : Index := Scalar.indexCast v913
  let c0_452 : Index := 0#32
  ![v914.toNat, 0]

def k0_off123 (v912 : BitVec 32) : Fin 2 → Nat :=
  let c512_i32_451 : BitVec 32 := 512#32
  let v913 : BitVec 32 := Scalar.subi v912 c512_i32_451
  let v917 : Index := Scalar.indexCast v913
  let c16_453 : Index := 16#32
  ![v917.toNat, 16]

def k0_chk41 (v912 : BitVec 32) : Prop :=
  (∀ a, (k0_off122 v912) a + S1x16.size a ≤ S257x32.size a) ∧
  (∀ a, (k0_off123 v912) a + S1x16.size a ≤ S257x32.size a)
theorem k0_off122_inb : ∀ (v912 : BitVec 32) (k0_hw41 : k0_chk41 v912), ∀ a, (k0_off122 v912) a + S1x16.size a ≤ S257x32.size a := fun v912 k0_hw41 => k0_hw41.1
theorem k0_off123_inb : ∀ (v912 : BitVec 32) (k0_hw41 : k0_chk41 v912), ∀ a, (k0_off123 v912) a + S1x16.size a ≤ S257x32.size a := fun v912 k0_hw41 => k0_hw41.2

def k0_off124 (v921 : BitVec 32) : Fin 2 → Nat :=
  let c512_i32_454 : BitVec 32 := 512#32
  let v922 : BitVec 32 := Scalar.subi v921 c512_i32_454
  let v923 : Index := Scalar.indexCast v922
  let c0_455 : Index := 0#32
  ![v923.toNat, 0]

def k0_off125 (v921 : BitVec 32) : Fin 2 → Nat :=
  let c512_i32_454 : BitVec 32 := 512#32
  let v922 : BitVec 32 := Scalar.subi v921 c512_i32_454
  let v926 : Index := Scalar.indexCast v922
  let c16_456 : Index := 16#32
  ![v926.toNat, 16]

def k0_chk42 (v921 : BitVec 32) : Prop :=
  (∀ a, (k0_off124 v921) a + S1x16.size a ≤ S257x32.size a) ∧
  (∀ a, (k0_off125 v921) a + S1x16.size a ≤ S257x32.size a)
theorem k0_off124_inb : ∀ (v921 : BitVec 32) (k0_hw42 : k0_chk42 v921), ∀ a, (k0_off124 v921) a + S1x16.size a ≤ S257x32.size a := fun v921 k0_hw42 => k0_hw42.1
theorem k0_off125_inb : ∀ (v921 : BitVec 32) (k0_hw42 : k0_chk42 v921), ∀ a, (k0_off125 v921) a + S1x16.size a ≤ S257x32.size a := fun v921 k0_hw42 => k0_hw42.2

def k0_off126 (v930 : BitVec 32) : Fin 2 → Nat :=
  let c512_i32_457 : BitVec 32 := 512#32
  let v931 : BitVec 32 := Scalar.subi v930 c512_i32_457
  let v932 : Index := Scalar.indexCast v931
  let c0_458 : Index := 0#32
  ![v932.toNat, 0]

def k0_off127 (v930 : BitVec 32) : Fin 2 → Nat :=
  let c512_i32_457 : BitVec 32 := 512#32
  let v931 : BitVec 32 := Scalar.subi v930 c512_i32_457
  let v935 : Index := Scalar.indexCast v931
  let c16_459 : Index := 16#32
  ![v935.toNat, 16]

def k0_chk43 (v930 : BitVec 32) : Prop :=
  (∀ a, (k0_off126 v930) a + S1x16.size a ≤ S257x32.size a) ∧
  (∀ a, (k0_off127 v930) a + S1x16.size a ≤ S257x32.size a)
theorem k0_off126_inb : ∀ (v930 : BitVec 32) (k0_hw43 : k0_chk43 v930), ∀ a, (k0_off126 v930) a + S1x16.size a ≤ S257x32.size a := fun v930 k0_hw43 => k0_hw43.1
theorem k0_off127_inb : ∀ (v930 : BitVec 32) (k0_hw43 : k0_chk43 v930), ∀ a, (k0_off127 v930) a + S1x16.size a ≤ S257x32.size a := fun v930 k0_hw43 => k0_hw43.2

def k0_off128 (v939 : BitVec 32) : Fin 2 → Nat :=
  let c512_i32_460 : BitVec 32 := 512#32
  let v940 : BitVec 32 := Scalar.subi v939 c512_i32_460
  let v941 : Index := Scalar.indexCast v940
  let c0_461 : Index := 0#32
  ![v941.toNat, 0]

def k0_off129 (v939 : BitVec 32) : Fin 2 → Nat :=
  let c512_i32_460 : BitVec 32 := 512#32
  let v940 : BitVec 32 := Scalar.subi v939 c512_i32_460
  let v944 : Index := Scalar.indexCast v940
  let c16_462 : Index := 16#32
  ![v944.toNat, 16]

def k0_chk44 (v939 : BitVec 32) : Prop :=
  (∀ a, (k0_off128 v939) a + S1x16.size a ≤ S257x32.size a) ∧
  (∀ a, (k0_off129 v939) a + S1x16.size a ≤ S257x32.size a)
theorem k0_off128_inb : ∀ (v939 : BitVec 32) (k0_hw44 : k0_chk44 v939), ∀ a, (k0_off128 v939) a + S1x16.size a ≤ S257x32.size a := fun v939 k0_hw44 => k0_hw44.1
theorem k0_off129_inb : ∀ (v939 : BitVec 32) (k0_hw44 : k0_chk44 v939), ∀ a, (k0_off129 v939) a + S1x16.size a ≤ S257x32.size a := fun v939 k0_hw44 => k0_hw44.2

def k0_off130 (v948 : BitVec 32) : Fin 2 → Nat :=
  let c512_i32_463 : BitVec 32 := 512#32
  let v949 : BitVec 32 := Scalar.subi v948 c512_i32_463
  let v950 : Index := Scalar.indexCast v949
  let c0_464 : Index := 0#32
  ![v950.toNat, 0]

def k0_off131 (v948 : BitVec 32) : Fin 2 → Nat :=
  let c512_i32_463 : BitVec 32 := 512#32
  let v949 : BitVec 32 := Scalar.subi v948 c512_i32_463
  let v953 : Index := Scalar.indexCast v949
  let c16_465 : Index := 16#32
  ![v953.toNat, 16]

def k0_chk45 (v948 : BitVec 32) : Prop :=
  (∀ a, (k0_off130 v948) a + S1x16.size a ≤ S257x32.size a) ∧
  (∀ a, (k0_off131 v948) a + S1x16.size a ≤ S257x32.size a)
theorem k0_off130_inb : ∀ (v948 : BitVec 32) (k0_hw45 : k0_chk45 v948), ∀ a, (k0_off130 v948) a + S1x16.size a ≤ S257x32.size a := fun v948 k0_hw45 => k0_hw45.1
theorem k0_off131_inb : ∀ (v948 : BitVec 32) (k0_hw45 : k0_chk45 v948), ∀ a, (k0_off131 v948) a + S1x16.size a ≤ S257x32.size a := fun v948 k0_hw45 => k0_hw45.2

def k0_off132 (v957 : BitVec 32) : Fin 2 → Nat :=
  let c512_i32_466 : BitVec 32 := 512#32
  let v958 : BitVec 32 := Scalar.subi v957 c512_i32_466
  let v959 : Index := Scalar.indexCast v958
  let c0_467 : Index := 0#32
  ![v959.toNat, 0]

def k0_off133 (v957 : BitVec 32) : Fin 2 → Nat :=
  let c512_i32_466 : BitVec 32 := 512#32
  let v958 : BitVec 32 := Scalar.subi v957 c512_i32_466
  let v962 : Index := Scalar.indexCast v958
  let c16_468 : Index := 16#32
  ![v962.toNat, 16]

def k0_chk46 (v957 : BitVec 32) : Prop :=
  (∀ a, (k0_off132 v957) a + S1x16.size a ≤ S257x32.size a) ∧
  (∀ a, (k0_off133 v957) a + S1x16.size a ≤ S257x32.size a)
theorem k0_off132_inb : ∀ (v957 : BitVec 32) (k0_hw46 : k0_chk46 v957), ∀ a, (k0_off132 v957) a + S1x16.size a ≤ S257x32.size a := fun v957 k0_hw46 => k0_hw46.1
theorem k0_off133_inb : ∀ (v957 : BitVec 32) (k0_hw46 : k0_chk46 v957), ∀ a, (k0_off133 v957) a + S1x16.size a ≤ S257x32.size a := fun v957 k0_hw46 => k0_hw46.2

def k0_off134 (v966 : BitVec 32) : Fin 2 → Nat :=
  let c512_i32_469 : BitVec 32 := 512#32
  let v967 : BitVec 32 := Scalar.subi v966 c512_i32_469
  let v968 : Index := Scalar.indexCast v967
  let c0_470 : Index := 0#32
  ![v968.toNat, 0]

def k0_off135 (v966 : BitVec 32) : Fin 2 → Nat :=
  let c512_i32_469 : BitVec 32 := 512#32
  let v967 : BitVec 32 := Scalar.subi v966 c512_i32_469
  let v971 : Index := Scalar.indexCast v967
  let c16_471 : Index := 16#32
  ![v971.toNat, 16]

def k0_chk47 (v966 : BitVec 32) : Prop :=
  (∀ a, (k0_off134 v966) a + S1x16.size a ≤ S257x32.size a) ∧
  (∀ a, (k0_off135 v966) a + S1x16.size a ≤ S257x32.size a)
theorem k0_off134_inb : ∀ (v966 : BitVec 32) (k0_hw47 : k0_chk47 v966), ∀ a, (k0_off134 v966) a + S1x16.size a ≤ S257x32.size a := fun v966 k0_hw47 => k0_hw47.1
theorem k0_off135_inb : ∀ (v966 : BitVec 32) (k0_hw47 : k0_chk47 v966), ∀ a, (k0_off135 v966) a + S1x16.size a ≤ S257x32.size a := fun v966 k0_hw47 => k0_hw47.2

def k0_off136 (v975 : BitVec 32) : Fin 2 → Nat :=
  let c512_i32_472 : BitVec 32 := 512#32
  let v976 : BitVec 32 := Scalar.subi v975 c512_i32_472
  let v977 : Index := Scalar.indexCast v976
  let c0_473 : Index := 0#32
  ![v977.toNat, 0]

def k0_off137 (v975 : BitVec 32) : Fin 2 → Nat :=
  let c512_i32_472 : BitVec 32 := 512#32
  let v976 : BitVec 32 := Scalar.subi v975 c512_i32_472
  let v980 : Index := Scalar.indexCast v976
  let c16_474 : Index := 16#32
  ![v980.toNat, 16]

def k0_chk48 (v975 : BitVec 32) : Prop :=
  (∀ a, (k0_off136 v975) a + S1x16.size a ≤ S257x32.size a) ∧
  (∀ a, (k0_off137 v975) a + S1x16.size a ≤ S257x32.size a)
theorem k0_off136_inb : ∀ (v975 : BitVec 32) (k0_hw48 : k0_chk48 v975), ∀ a, (k0_off136 v975) a + S1x16.size a ≤ S257x32.size a := fun v975 k0_hw48 => k0_hw48.1
theorem k0_off137_inb : ∀ (v975 : BitVec 32) (k0_hw48 : k0_chk48 v975), ∀ a, (k0_off137 v975) a + S1x16.size a ≤ S257x32.size a := fun v975 k0_hw48 => k0_hw48.2

def k0_off138 (v52 : BitVec 32) (v105 : BitVec 32) (v158 : BitVec 32) (k0_t15 : Fin (k0_t15_loop v52 v105 v158).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c0_i32_96 : BitVec 32 := 0#32
  let c1_i32_98 : BitVec 32 := 1#32
  let arg19 : BitVec 32 := Scf.iv c0_i32_96 c1_i32_98 k0_t15
  let c8_i32_444 : BitVec 32 := 8#32
  let v893 : BitVec 32 := Scalar.muli arg19 c8_i32_444
  let v894 : BitVec 32 := Scalar.addi v145 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off139 (v52 : BitVec 32) (v105 : BitVec 32) (v158 : BitVec 32) (k0_t15 : Fin (k0_t15_loop v52 v105 v158).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c0_i32_96 : BitVec 32 := 0#32
  let c1_i32_98 : BitVec 32 := 1#32
  let arg19 : BitVec 32 := Scf.iv c0_i32_96 c1_i32_98 k0_t15
  let c8_i32_444 : BitVec 32 := 8#32
  let v893 : BitVec 32 := Scalar.muli arg19 c8_i32_444
  let v894 : BitVec 32 := Scalar.addi v145 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t16_loop (v52 : BitVec 32) (v105 : BitVec 32) (v158 : BitVec 32) : Scf.Loop 32 :=
  let c0_i32_96 : BitVec 32 := 0#32
  let c1_i32_86 : BitVec 32 := 1#32
  let v159 : BitVec 32 := Scalar.subi v158 c1_i32_86
  let c2049_i32_87 : BitVec 32 := 2049#32
  let v160 : BitVec 32 := Scalar.minsi v159 c2049_i32_87
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let v161 : BitVec 32 := Scalar.subi v160 v145
  let c0_i32_88 : BitVec 32 := 0#32
  let v162 : BitVec 32 := Scalar.maxsi v161 c0_i32_88
  let c0_i32_90 : BitVec 32 := 0#32
  let v164 : BitVec 1 := Scalar.cmpi .sgt v162 c0_i32_90
  let v165 : BitVec 32 := Scalar.extui v164
  let c0_i32_91 : BitVec 32 := 0#32
  let v166 : BitVec 1 := Scalar.cmpi .slt v162 c0_i32_91
  let v167 : BitVec 32 := Scalar.extui v166
  let v168 : BitVec 32 := Scalar.subi v165 v167
  let c8_i32_89 : BitVec 32 := 8#32
  let c0_i32_92 : BitVec 32 := 0#32
  let v169 : BitVec 1 := Scalar.cmpi .sgt c8_i32_89 c0_i32_92
  let v170 : BitVec 32 := Scalar.extui v169
  let c0_i32_93 : BitVec 32 := 0#32
  let v171 : BitVec 1 := Scalar.cmpi .slt c8_i32_89 c0_i32_93
  let v172 : BitVec 32 := Scalar.extui v171
  let v173 : BitVec 32 := Scalar.subi v170 v172
  let v174 : BitVec 1 := Scalar.cmpi .ne v168 v173
  let v175 : BitVec 32 := Scalar.remsi v162 c8_i32_89
  let c0_i32_94 : BitVec 32 := 0#32
  let v176 : BitVec 1 := Scalar.cmpi .ne v175 c0_i32_94
  let v177 : BitVec 1 := Scalar.andi v174 v176
  let v163 : BitVec 32 := Scalar.divsi v162 c8_i32_89
  let c1_i32_95 : BitVec 32 := 1#32
  let v178 : BitVec 32 := Scalar.subi v163 c1_i32_95
  let v179 : BitVec 32 := Scalar.select v177 v178 v163
  let v180 : BitVec 32 := Scalar.subi v179 c0_i32_96
  let c1_i32_97 : BitVec 32 := 1#32
  let v182 : BitVec 32 := Scalar.divsi v180 c1_i32_97
  let v183 : BitVec 32 := Scalar.muli v182 c1_i32_97
  let v184 : BitVec 32 := Scalar.addi c0_i32_96 v183
  let v181 : BitVec 32 := Scalar.addi c0_i32_96 v180
  let c1_i32_99 : BitVec 32 := 1#32
  ⟨v184, v181, c1_i32_99⟩
def k0_off140 (v52 : BitVec 32) (v105 : BitVec 32) (v158 : BitVec 32) (k0_t16 : Fin (k0_t16_loop v52 v105 v158).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c0_i32_96 : BitVec 32 := 0#32
  let c1_i32_86 : BitVec 32 := 1#32
  let v159 : BitVec 32 := Scalar.subi v158 c1_i32_86
  let c2049_i32_87 : BitVec 32 := 2049#32
  let v160 : BitVec 32 := Scalar.minsi v159 c2049_i32_87
  let v161 : BitVec 32 := Scalar.subi v160 v145
  let c0_i32_88 : BitVec 32 := 0#32
  let v162 : BitVec 32 := Scalar.maxsi v161 c0_i32_88
  let c0_i32_90 : BitVec 32 := 0#32
  let v164 : BitVec 1 := Scalar.cmpi .sgt v162 c0_i32_90
  let v165 : BitVec 32 := Scalar.extui v164
  let c0_i32_91 : BitVec 32 := 0#32
  let v166 : BitVec 1 := Scalar.cmpi .slt v162 c0_i32_91
  let v167 : BitVec 32 := Scalar.extui v166
  let v168 : BitVec 32 := Scalar.subi v165 v167
  let c8_i32_89 : BitVec 32 := 8#32
  let c0_i32_92 : BitVec 32 := 0#32
  let v169 : BitVec 1 := Scalar.cmpi .sgt c8_i32_89 c0_i32_92
  let v170 : BitVec 32 := Scalar.extui v169
  let c0_i32_93 : BitVec 32 := 0#32
  let v171 : BitVec 1 := Scalar.cmpi .slt c8_i32_89 c0_i32_93
  let v172 : BitVec 32 := Scalar.extui v171
  let v173 : BitVec 32 := Scalar.subi v170 v172
  let v174 : BitVec 1 := Scalar.cmpi .ne v168 v173
  let v175 : BitVec 32 := Scalar.remsi v162 c8_i32_89
  let c0_i32_94 : BitVec 32 := 0#32
  let v176 : BitVec 1 := Scalar.cmpi .ne v175 c0_i32_94
  let v177 : BitVec 1 := Scalar.andi v174 v176
  let v163 : BitVec 32 := Scalar.divsi v162 c8_i32_89
  let c1_i32_95 : BitVec 32 := 1#32
  let v178 : BitVec 32 := Scalar.subi v163 c1_i32_95
  let v179 : BitVec 32 := Scalar.select v177 v178 v163
  let v180 : BitVec 32 := Scalar.subi v179 c0_i32_96
  let c1_i32_97 : BitVec 32 := 1#32
  let v182 : BitVec 32 := Scalar.divsi v180 c1_i32_97
  let v183 : BitVec 32 := Scalar.muli v182 c1_i32_97
  let v184 : BitVec 32 := Scalar.addi c0_i32_96 v183
  let c1_i32_99 : BitVec 32 := 1#32
  let arg19 : BitVec 32 := Scf.iv v184 c1_i32_99 k0_t16
  let c8_i32_444 : BitVec 32 := 8#32
  let v893 : BitVec 32 := Scalar.muli arg19 c8_i32_444
  let v894 : BitVec 32 := Scalar.addi v145 v893
  let v895 : BitVec 32 := Scalar.addi v894 c1_i32_445
  let v896 : Index := Scalar.indexCast v895
  ![v896.toNat]
def k0_off141 (v912 : BitVec 32) : Fin 2 → Nat :=
  let c512_i32_451 : BitVec 32 := 512#32
  let v913 : BitVec 32 := Scalar.subi v912 c512_i32_451
  let v914 : Index := Scalar.indexCast v913
  let c0_452 : Index := 0#32
  ![v914.toNat, 0]

def k0_off142 (v912 : BitVec 32) : Fin 2 → Nat :=
  let c512_i32_451 : BitVec 32 := 512#32
  let v913 : BitVec 32 := Scalar.subi v912 c512_i32_451
  let v917 : Index := Scalar.indexCast v913
  let c16_453 : Index := 16#32
  ![v917.toNat, 16]

def k0_chk49 (v912 : BitVec 32) : Prop :=
  (∀ a, (k0_off141 v912) a + S1x16.size a ≤ S257x32.size a) ∧
  (∀ a, (k0_off142 v912) a + S1x16.size a ≤ S257x32.size a)
theorem k0_off141_inb : ∀ (v912 : BitVec 32) (k0_hw49 : k0_chk49 v912), ∀ a, (k0_off141 v912) a + S1x16.size a ≤ S257x32.size a := fun v912 k0_hw49 => k0_hw49.1
theorem k0_off142_inb : ∀ (v912 : BitVec 32) (k0_hw49 : k0_chk49 v912), ∀ a, (k0_off142 v912) a + S1x16.size a ≤ S257x32.size a := fun v912 k0_hw49 => k0_hw49.2

def k0_off143 (v921 : BitVec 32) : Fin 2 → Nat :=
  let c512_i32_454 : BitVec 32 := 512#32
  let v922 : BitVec 32 := Scalar.subi v921 c512_i32_454
  let v923 : Index := Scalar.indexCast v922
  let c0_455 : Index := 0#32
  ![v923.toNat, 0]

def k0_off144 (v921 : BitVec 32) : Fin 2 → Nat :=
  let c512_i32_454 : BitVec 32 := 512#32
  let v922 : BitVec 32 := Scalar.subi v921 c512_i32_454
  let v926 : Index := Scalar.indexCast v922
  let c16_456 : Index := 16#32
  ![v926.toNat, 16]

def k0_chk50 (v921 : BitVec 32) : Prop :=
  (∀ a, (k0_off143 v921) a + S1x16.size a ≤ S257x32.size a) ∧
  (∀ a, (k0_off144 v921) a + S1x16.size a ≤ S257x32.size a)
theorem k0_off143_inb : ∀ (v921 : BitVec 32) (k0_hw50 : k0_chk50 v921), ∀ a, (k0_off143 v921) a + S1x16.size a ≤ S257x32.size a := fun v921 k0_hw50 => k0_hw50.1
theorem k0_off144_inb : ∀ (v921 : BitVec 32) (k0_hw50 : k0_chk50 v921), ∀ a, (k0_off144 v921) a + S1x16.size a ≤ S257x32.size a := fun v921 k0_hw50 => k0_hw50.2

def k0_off145 (v930 : BitVec 32) : Fin 2 → Nat :=
  let c512_i32_457 : BitVec 32 := 512#32
  let v931 : BitVec 32 := Scalar.subi v930 c512_i32_457
  let v932 : Index := Scalar.indexCast v931
  let c0_458 : Index := 0#32
  ![v932.toNat, 0]

def k0_off146 (v930 : BitVec 32) : Fin 2 → Nat :=
  let c512_i32_457 : BitVec 32 := 512#32
  let v931 : BitVec 32 := Scalar.subi v930 c512_i32_457
  let v935 : Index := Scalar.indexCast v931
  let c16_459 : Index := 16#32
  ![v935.toNat, 16]

def k0_chk51 (v930 : BitVec 32) : Prop :=
  (∀ a, (k0_off145 v930) a + S1x16.size a ≤ S257x32.size a) ∧
  (∀ a, (k0_off146 v930) a + S1x16.size a ≤ S257x32.size a)
theorem k0_off145_inb : ∀ (v930 : BitVec 32) (k0_hw51 : k0_chk51 v930), ∀ a, (k0_off145 v930) a + S1x16.size a ≤ S257x32.size a := fun v930 k0_hw51 => k0_hw51.1
theorem k0_off146_inb : ∀ (v930 : BitVec 32) (k0_hw51 : k0_chk51 v930), ∀ a, (k0_off146 v930) a + S1x16.size a ≤ S257x32.size a := fun v930 k0_hw51 => k0_hw51.2

def k0_off147 (v939 : BitVec 32) : Fin 2 → Nat :=
  let c512_i32_460 : BitVec 32 := 512#32
  let v940 : BitVec 32 := Scalar.subi v939 c512_i32_460
  let v941 : Index := Scalar.indexCast v940
  let c0_461 : Index := 0#32
  ![v941.toNat, 0]

def k0_off148 (v939 : BitVec 32) : Fin 2 → Nat :=
  let c512_i32_460 : BitVec 32 := 512#32
  let v940 : BitVec 32 := Scalar.subi v939 c512_i32_460
  let v944 : Index := Scalar.indexCast v940
  let c16_462 : Index := 16#32
  ![v944.toNat, 16]

def k0_chk52 (v939 : BitVec 32) : Prop :=
  (∀ a, (k0_off147 v939) a + S1x16.size a ≤ S257x32.size a) ∧
  (∀ a, (k0_off148 v939) a + S1x16.size a ≤ S257x32.size a)
theorem k0_off147_inb : ∀ (v939 : BitVec 32) (k0_hw52 : k0_chk52 v939), ∀ a, (k0_off147 v939) a + S1x16.size a ≤ S257x32.size a := fun v939 k0_hw52 => k0_hw52.1
theorem k0_off148_inb : ∀ (v939 : BitVec 32) (k0_hw52 : k0_chk52 v939), ∀ a, (k0_off148 v939) a + S1x16.size a ≤ S257x32.size a := fun v939 k0_hw52 => k0_hw52.2

def k0_off149 (v948 : BitVec 32) : Fin 2 → Nat :=
  let c512_i32_463 : BitVec 32 := 512#32
  let v949 : BitVec 32 := Scalar.subi v948 c512_i32_463
  let v950 : Index := Scalar.indexCast v949
  let c0_464 : Index := 0#32
  ![v950.toNat, 0]

def k0_off150 (v948 : BitVec 32) : Fin 2 → Nat :=
  let c512_i32_463 : BitVec 32 := 512#32
  let v949 : BitVec 32 := Scalar.subi v948 c512_i32_463
  let v953 : Index := Scalar.indexCast v949
  let c16_465 : Index := 16#32
  ![v953.toNat, 16]

def k0_chk53 (v948 : BitVec 32) : Prop :=
  (∀ a, (k0_off149 v948) a + S1x16.size a ≤ S257x32.size a) ∧
  (∀ a, (k0_off150 v948) a + S1x16.size a ≤ S257x32.size a)
theorem k0_off149_inb : ∀ (v948 : BitVec 32) (k0_hw53 : k0_chk53 v948), ∀ a, (k0_off149 v948) a + S1x16.size a ≤ S257x32.size a := fun v948 k0_hw53 => k0_hw53.1
theorem k0_off150_inb : ∀ (v948 : BitVec 32) (k0_hw53 : k0_chk53 v948), ∀ a, (k0_off150 v948) a + S1x16.size a ≤ S257x32.size a := fun v948 k0_hw53 => k0_hw53.2

def k0_off151 (v957 : BitVec 32) : Fin 2 → Nat :=
  let c512_i32_466 : BitVec 32 := 512#32
  let v958 : BitVec 32 := Scalar.subi v957 c512_i32_466
  let v959 : Index := Scalar.indexCast v958
  let c0_467 : Index := 0#32
  ![v959.toNat, 0]

def k0_off152 (v957 : BitVec 32) : Fin 2 → Nat :=
  let c512_i32_466 : BitVec 32 := 512#32
  let v958 : BitVec 32 := Scalar.subi v957 c512_i32_466
  let v962 : Index := Scalar.indexCast v958
  let c16_468 : Index := 16#32
  ![v962.toNat, 16]

def k0_chk54 (v957 : BitVec 32) : Prop :=
  (∀ a, (k0_off151 v957) a + S1x16.size a ≤ S257x32.size a) ∧
  (∀ a, (k0_off152 v957) a + S1x16.size a ≤ S257x32.size a)
theorem k0_off151_inb : ∀ (v957 : BitVec 32) (k0_hw54 : k0_chk54 v957), ∀ a, (k0_off151 v957) a + S1x16.size a ≤ S257x32.size a := fun v957 k0_hw54 => k0_hw54.1
theorem k0_off152_inb : ∀ (v957 : BitVec 32) (k0_hw54 : k0_chk54 v957), ∀ a, (k0_off152 v957) a + S1x16.size a ≤ S257x32.size a := fun v957 k0_hw54 => k0_hw54.2

def k0_off153 (v966 : BitVec 32) : Fin 2 → Nat :=
  let c512_i32_469 : BitVec 32 := 512#32
  let v967 : BitVec 32 := Scalar.subi v966 c512_i32_469
  let v968 : Index := Scalar.indexCast v967
  let c0_470 : Index := 0#32
  ![v968.toNat, 0]

def k0_off154 (v966 : BitVec 32) : Fin 2 → Nat :=
  let c512_i32_469 : BitVec 32 := 512#32
  let v967 : BitVec 32 := Scalar.subi v966 c512_i32_469
  let v971 : Index := Scalar.indexCast v967
  let c16_471 : Index := 16#32
  ![v971.toNat, 16]

def k0_chk55 (v966 : BitVec 32) : Prop :=
  (∀ a, (k0_off153 v966) a + S1x16.size a ≤ S257x32.size a) ∧
  (∀ a, (k0_off154 v966) a + S1x16.size a ≤ S257x32.size a)
theorem k0_off153_inb : ∀ (v966 : BitVec 32) (k0_hw55 : k0_chk55 v966), ∀ a, (k0_off153 v966) a + S1x16.size a ≤ S257x32.size a := fun v966 k0_hw55 => k0_hw55.1
theorem k0_off154_inb : ∀ (v966 : BitVec 32) (k0_hw55 : k0_chk55 v966), ∀ a, (k0_off154 v966) a + S1x16.size a ≤ S257x32.size a := fun v966 k0_hw55 => k0_hw55.2

def k0_off155 (v975 : BitVec 32) : Fin 2 → Nat :=
  let c512_i32_472 : BitVec 32 := 512#32
  let v976 : BitVec 32 := Scalar.subi v975 c512_i32_472
  let v977 : Index := Scalar.indexCast v976
  let c0_473 : Index := 0#32
  ![v977.toNat, 0]

def k0_off156 (v975 : BitVec 32) : Fin 2 → Nat :=
  let c512_i32_472 : BitVec 32 := 512#32
  let v976 : BitVec 32 := Scalar.subi v975 c512_i32_472
  let v980 : Index := Scalar.indexCast v976
  let c16_474 : Index := 16#32
  ![v980.toNat, 16]

def k0_chk56 (v975 : BitVec 32) : Prop :=
  (∀ a, (k0_off155 v975) a + S1x16.size a ≤ S257x32.size a) ∧
  (∀ a, (k0_off156 v975) a + S1x16.size a ≤ S257x32.size a)
theorem k0_off155_inb : ∀ (v975 : BitVec 32) (k0_hw56 : k0_chk56 v975), ∀ a, (k0_off155 v975) a + S1x16.size a ≤ S257x32.size a := fun v975 k0_hw56 => k0_hw56.1
theorem k0_off156_inb : ∀ (v975 : BitVec 32) (k0_hw56 : k0_chk56 v975), ∀ a, (k0_off156 v975) a + S1x16.size a ≤ S257x32.size a := fun v975 k0_hw56 => k0_hw56.2

def k0_off157 (v52 : BitVec 32) (v105 : BitVec 32) (v158 : BitVec 32) (k0_t16 : Fin (k0_t16_loop v52 v105 v158).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c0_i32_96 : BitVec 32 := 0#32
  let c1_i32_86 : BitVec 32 := 1#32
  let v159 : BitVec 32 := Scalar.subi v158 c1_i32_86
  let c2049_i32_87 : BitVec 32 := 2049#32
  let v160 : BitVec 32 := Scalar.minsi v159 c2049_i32_87
  let v161 : BitVec 32 := Scalar.subi v160 v145
  let c0_i32_88 : BitVec 32 := 0#32
  let v162 : BitVec 32 := Scalar.maxsi v161 c0_i32_88
  let c0_i32_90 : BitVec 32 := 0#32
  let v164 : BitVec 1 := Scalar.cmpi .sgt v162 c0_i32_90
  let v165 : BitVec 32 := Scalar.extui v164
  let c0_i32_91 : BitVec 32 := 0#32
  let v166 : BitVec 1 := Scalar.cmpi .slt v162 c0_i32_91
  let v167 : BitVec 32 := Scalar.extui v166
  let v168 : BitVec 32 := Scalar.subi v165 v167
  let c8_i32_89 : BitVec 32 := 8#32
  let c0_i32_92 : BitVec 32 := 0#32
  let v169 : BitVec 1 := Scalar.cmpi .sgt c8_i32_89 c0_i32_92
  let v170 : BitVec 32 := Scalar.extui v169
  let c0_i32_93 : BitVec 32 := 0#32
  let v171 : BitVec 1 := Scalar.cmpi .slt c8_i32_89 c0_i32_93
  let v172 : BitVec 32 := Scalar.extui v171
  let v173 : BitVec 32 := Scalar.subi v170 v172
  let v174 : BitVec 1 := Scalar.cmpi .ne v168 v173
  let v175 : BitVec 32 := Scalar.remsi v162 c8_i32_89
  let c0_i32_94 : BitVec 32 := 0#32
  let v176 : BitVec 1 := Scalar.cmpi .ne v175 c0_i32_94
  let v177 : BitVec 1 := Scalar.andi v174 v176
  let v163 : BitVec 32 := Scalar.divsi v162 c8_i32_89
  let c1_i32_95 : BitVec 32 := 1#32
  let v178 : BitVec 32 := Scalar.subi v163 c1_i32_95
  let v179 : BitVec 32 := Scalar.select v177 v178 v163
  let v180 : BitVec 32 := Scalar.subi v179 c0_i32_96
  let c1_i32_97 : BitVec 32 := 1#32
  let v182 : BitVec 32 := Scalar.divsi v180 c1_i32_97
  let v183 : BitVec 32 := Scalar.muli v182 c1_i32_97
  let v184 : BitVec 32 := Scalar.addi c0_i32_96 v183
  let c1_i32_99 : BitVec 32 := 1#32
  let arg19 : BitVec 32 := Scf.iv v184 c1_i32_99 k0_t16
  let c8_i32_444 : BitVec 32 := 8#32
  let v893 : BitVec 32 := Scalar.muli arg19 c8_i32_444
  let v894 : BitVec 32 := Scalar.addi v145 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off158 (v52 : BitVec 32) (v105 : BitVec 32) (v158 : BitVec 32) (k0_t16 : Fin (k0_t16_loop v52 v105 v158).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c0_i32_96 : BitVec 32 := 0#32
  let c1_i32_86 : BitVec 32 := 1#32
  let v159 : BitVec 32 := Scalar.subi v158 c1_i32_86
  let c2049_i32_87 : BitVec 32 := 2049#32
  let v160 : BitVec 32 := Scalar.minsi v159 c2049_i32_87
  let v161 : BitVec 32 := Scalar.subi v160 v145
  let c0_i32_88 : BitVec 32 := 0#32
  let v162 : BitVec 32 := Scalar.maxsi v161 c0_i32_88
  let c0_i32_90 : BitVec 32 := 0#32
  let v164 : BitVec 1 := Scalar.cmpi .sgt v162 c0_i32_90
  let v165 : BitVec 32 := Scalar.extui v164
  let c0_i32_91 : BitVec 32 := 0#32
  let v166 : BitVec 1 := Scalar.cmpi .slt v162 c0_i32_91
  let v167 : BitVec 32 := Scalar.extui v166
  let v168 : BitVec 32 := Scalar.subi v165 v167
  let c8_i32_89 : BitVec 32 := 8#32
  let c0_i32_92 : BitVec 32 := 0#32
  let v169 : BitVec 1 := Scalar.cmpi .sgt c8_i32_89 c0_i32_92
  let v170 : BitVec 32 := Scalar.extui v169
  let c0_i32_93 : BitVec 32 := 0#32
  let v171 : BitVec 1 := Scalar.cmpi .slt c8_i32_89 c0_i32_93
  let v172 : BitVec 32 := Scalar.extui v171
  let v173 : BitVec 32 := Scalar.subi v170 v172
  let v174 : BitVec 1 := Scalar.cmpi .ne v168 v173
  let v175 : BitVec 32 := Scalar.remsi v162 c8_i32_89
  let c0_i32_94 : BitVec 32 := 0#32
  let v176 : BitVec 1 := Scalar.cmpi .ne v175 c0_i32_94
  let v177 : BitVec 1 := Scalar.andi v174 v176
  let v163 : BitVec 32 := Scalar.divsi v162 c8_i32_89
  let c1_i32_95 : BitVec 32 := 1#32
  let v178 : BitVec 32 := Scalar.subi v163 c1_i32_95
  let v179 : BitVec 32 := Scalar.select v177 v178 v163
  let v180 : BitVec 32 := Scalar.subi v179 c0_i32_96
  let c1_i32_97 : BitVec 32 := 1#32
  let v182 : BitVec 32 := Scalar.divsi v180 c1_i32_97
  let v183 : BitVec 32 := Scalar.muli v182 c1_i32_97
  let v184 : BitVec 32 := Scalar.addi c0_i32_96 v183
  let c1_i32_99 : BitVec 32 := 1#32
  let arg19 : BitVec 32 := Scf.iv v184 c1_i32_99 k0_t16
  let c8_i32_444 : BitVec 32 := 8#32
  let v893 : BitVec 32 := Scalar.muli arg19 c8_i32_444
  let v894 : BitVec 32 := Scalar.addi v145 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t17_loop (v52 : BitVec 32) (v105 : BitVec 32) (v158 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v161 : BitVec 32 := Scalar.subi v160 v145
  let c0_i32_88 : BitVec 32 := 0#32
  let v162 : BitVec 32 := Scalar.maxsi v161 c0_i32_88
  let c0_i32_90 : BitVec 32 := 0#32
  let v164 : BitVec 1 := Scalar.cmpi .sgt v162 c0_i32_90
  let v165 : BitVec 32 := Scalar.extui v164
  let c0_i32_91 : BitVec 32 := 0#32
  let v166 : BitVec 1 := Scalar.cmpi .slt v162 c0_i32_91
  let v167 : BitVec 32 := Scalar.extui v166
  let v168 : BitVec 32 := Scalar.subi v165 v167
  let c8_i32_89 : BitVec 32 := 8#32
  let c0_i32_92 : BitVec 32 := 0#32
  let v169 : BitVec 1 := Scalar.cmpi .sgt c8_i32_89 c0_i32_92
  let v170 : BitVec 32 := Scalar.extui v169
  let c0_i32_93 : BitVec 32 := 0#32
  let v171 : BitVec 1 := Scalar.cmpi .slt c8_i32_89 c0_i32_93
  let v172 : BitVec 32 := Scalar.extui v171
  let v173 : BitVec 32 := Scalar.subi v170 v172
  let v174 : BitVec 1 := Scalar.cmpi .ne v168 v173
  let v175 : BitVec 32 := Scalar.remsi v162 c8_i32_89
  let c0_i32_94 : BitVec 32 := 0#32
  let v176 : BitVec 1 := Scalar.cmpi .ne v175 c0_i32_94
  let v177 : BitVec 1 := Scalar.andi v174 v176
  let v163 : BitVec 32 := Scalar.divsi v162 c8_i32_89
  let c1_i32_95 : BitVec 32 := 1#32
  let v178 : BitVec 32 := Scalar.subi v163 c1_i32_95
  let v179 : BitVec 32 := Scalar.select v177 v178 v163
  let c8_i32_100 : BitVec 32 := 8#32
  let v187 : BitVec 32 := Scalar.muli v179 c8_i32_100
  let v188 : BitVec 32 := Scalar.addi v145 v187
  let v189 : BitVec 32 := Scalar.subi v160 v188
  let c1_i32_101 : BitVec 32 := 1#32
  let v191 : BitVec 32 := Scalar.divsi v189 c1_i32_101
  let v192 : BitVec 32 := Scalar.muli v191 c1_i32_101
  let v193 : BitVec 32 := Scalar.addi v188 v192
  let c1_i32_102 : BitVec 32 := 1#32
  ⟨v188, v193, c1_i32_102⟩
def k0_off159 (v52 : BitVec 32) (v105 : BitVec 32) (v158 : BitVec 32) (k0_t17 : Fin (k0_t17_loop v52 v105 v158).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v161 : BitVec 32 := Scalar.subi v160 v145
  let c0_i32_88 : BitVec 32 := 0#32
  let v162 : BitVec 32 := Scalar.maxsi v161 c0_i32_88
  let c0_i32_90 : BitVec 32 := 0#32
  let v164 : BitVec 1 := Scalar.cmpi .sgt v162 c0_i32_90
  let v165 : BitVec 32 := Scalar.extui v164
  let c0_i32_91 : BitVec 32 := 0#32
  let v166 : BitVec 1 := Scalar.cmpi .slt v162 c0_i32_91
  let v167 : BitVec 32 := Scalar.extui v166
  let v168 : BitVec 32 := Scalar.subi v165 v167
  let c8_i32_89 : BitVec 32 := 8#32
  let c0_i32_92 : BitVec 32 := 0#32
  let v169 : BitVec 1 := Scalar.cmpi .sgt c8_i32_89 c0_i32_92
  let v170 : BitVec 32 := Scalar.extui v169
  let c0_i32_93 : BitVec 32 := 0#32
  let v171 : BitVec 1 := Scalar.cmpi .slt c8_i32_89 c0_i32_93
  let v172 : BitVec 32 := Scalar.extui v171
  let v173 : BitVec 32 := Scalar.subi v170 v172
  let v174 : BitVec 1 := Scalar.cmpi .ne v168 v173
  let v175 : BitVec 32 := Scalar.remsi v162 c8_i32_89
  let c0_i32_94 : BitVec 32 := 0#32
  let v176 : BitVec 1 := Scalar.cmpi .ne v175 c0_i32_94
  let v177 : BitVec 1 := Scalar.andi v174 v176
  let v163 : BitVec 32 := Scalar.divsi v162 c8_i32_89
  let c1_i32_95 : BitVec 32 := 1#32
  let v178 : BitVec 32 := Scalar.subi v163 c1_i32_95
  let v179 : BitVec 32 := Scalar.select v177 v178 v163
  let c8_i32_100 : BitVec 32 := 8#32
  let v187 : BitVec 32 := Scalar.muli v179 c8_i32_100
  let v188 : BitVec 32 := Scalar.addi v145 v187
  let c1_i32_102 : BitVec 32 := 1#32
  let arg19 : BitVec 32 := Scf.iv v188 c1_i32_102 k0_t17
  let c1_i32_444 : BitVec 32 := 1#32
  let v893 : BitVec 32 := Scalar.addi arg19 c1_i32_444
  let v894 : Index := Scalar.indexCast v893
  ![v894.toNat]
def k0_off160 (v897 : BitVec 32) : Fin 2 → Nat :=
  let c512_i32_445 : BitVec 32 := 512#32
  let v898 : BitVec 32 := Scalar.subi v897 c512_i32_445
  let v912 : Index := Scalar.indexCast v898
  let c0_450 : Index := 0#32
  ![v912.toNat, 0]

def k0_off161 (v897 : BitVec 32) : Fin 2 → Nat :=
  let c512_i32_445 : BitVec 32 := 512#32
  let v898 : BitVec 32 := Scalar.subi v897 c512_i32_445
  let v915 : Index := Scalar.indexCast v898
  let c16_451 : Index := 16#32
  ![v915.toNat, 16]

def k0_chk57 (v897 : BitVec 32) : Prop :=
  (∀ a, (k0_off160 v897) a + S1x16.size a ≤ S257x32.size a) ∧
  (∀ a, (k0_off161 v897) a + S1x16.size a ≤ S257x32.size a)
theorem k0_off160_inb : ∀ (v897 : BitVec 32) (k0_hw57 : k0_chk57 v897), ∀ a, (k0_off160 v897) a + S1x16.size a ≤ S257x32.size a := fun v897 k0_hw57 => k0_hw57.1
theorem k0_off161_inb : ∀ (v897 : BitVec 32) (k0_hw57 : k0_chk57 v897), ∀ a, (k0_off161 v897) a + S1x16.size a ≤ S257x32.size a := fun v897 k0_hw57 => k0_hw57.2

def k0_off162 (v52 : BitVec 32) (v105 : BitVec 32) (v158 : BitVec 32) (k0_t17 : Fin (k0_t17_loop v52 v105 v158).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v161 : BitVec 32 := Scalar.subi v160 v145
  let c0_i32_88 : BitVec 32 := 0#32
  let v162 : BitVec 32 := Scalar.maxsi v161 c0_i32_88
  let c0_i32_90 : BitVec 32 := 0#32
  let v164 : BitVec 1 := Scalar.cmpi .sgt v162 c0_i32_90
  let v165 : BitVec 32 := Scalar.extui v164
  let c0_i32_91 : BitVec 32 := 0#32
  let v166 : BitVec 1 := Scalar.cmpi .slt v162 c0_i32_91
  let v167 : BitVec 32 := Scalar.extui v166
  let v168 : BitVec 32 := Scalar.subi v165 v167
  let c8_i32_89 : BitVec 32 := 8#32
  let c0_i32_92 : BitVec 32 := 0#32
  let v169 : BitVec 1 := Scalar.cmpi .sgt c8_i32_89 c0_i32_92
  let v170 : BitVec 32 := Scalar.extui v169
  let c0_i32_93 : BitVec 32 := 0#32
  let v171 : BitVec 1 := Scalar.cmpi .slt c8_i32_89 c0_i32_93
  let v172 : BitVec 32 := Scalar.extui v171
  let v173 : BitVec 32 := Scalar.subi v170 v172
  let v174 : BitVec 1 := Scalar.cmpi .ne v168 v173
  let v175 : BitVec 32 := Scalar.remsi v162 c8_i32_89
  let c0_i32_94 : BitVec 32 := 0#32
  let v176 : BitVec 1 := Scalar.cmpi .ne v175 c0_i32_94
  let v177 : BitVec 1 := Scalar.andi v174 v176
  let v163 : BitVec 32 := Scalar.divsi v162 c8_i32_89
  let c1_i32_95 : BitVec 32 := 1#32
  let v178 : BitVec 32 := Scalar.subi v163 c1_i32_95
  let v179 : BitVec 32 := Scalar.select v177 v178 v163
  let c8_i32_100 : BitVec 32 := 8#32
  let v187 : BitVec 32 := Scalar.muli v179 c8_i32_100
  let v188 : BitVec 32 := Scalar.addi v145 v187
  let c1_i32_102 : BitVec 32 := 1#32
  let arg19 : BitVec 32 := Scf.iv v188 c1_i32_102 k0_t17
  let c1_i32_452 : BitVec 32 := 1#32
  let v920 : BitVec 32 := Scalar.addi arg19 c1_i32_452
  let v921 : Index := Scalar.indexCast v920
  let c0_453 : Index := 0#32
  ![v921.toNat, 0]
def k0_off163 (v52 : BitVec 32) (v105 : BitVec 32) (v158 : BitVec 32) (k0_t17 : Fin (k0_t17_loop v52 v105 v158).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v161 : BitVec 32 := Scalar.subi v160 v145
  let c0_i32_88 : BitVec 32 := 0#32
  let v162 : BitVec 32 := Scalar.maxsi v161 c0_i32_88
  let c0_i32_90 : BitVec 32 := 0#32
  let v164 : BitVec 1 := Scalar.cmpi .sgt v162 c0_i32_90
  let v165 : BitVec 32 := Scalar.extui v164
  let c0_i32_91 : BitVec 32 := 0#32
  let v166 : BitVec 1 := Scalar.cmpi .slt v162 c0_i32_91
  let v167 : BitVec 32 := Scalar.extui v166
  let v168 : BitVec 32 := Scalar.subi v165 v167
  let c8_i32_89 : BitVec 32 := 8#32
  let c0_i32_92 : BitVec 32 := 0#32
  let v169 : BitVec 1 := Scalar.cmpi .sgt c8_i32_89 c0_i32_92
  let v170 : BitVec 32 := Scalar.extui v169
  let c0_i32_93 : BitVec 32 := 0#32
  let v171 : BitVec 1 := Scalar.cmpi .slt c8_i32_89 c0_i32_93
  let v172 : BitVec 32 := Scalar.extui v171
  let v173 : BitVec 32 := Scalar.subi v170 v172
  let v174 : BitVec 1 := Scalar.cmpi .ne v168 v173
  let v175 : BitVec 32 := Scalar.remsi v162 c8_i32_89
  let c0_i32_94 : BitVec 32 := 0#32
  let v176 : BitVec 1 := Scalar.cmpi .ne v175 c0_i32_94
  let v177 : BitVec 1 := Scalar.andi v174 v176
  let v163 : BitVec 32 := Scalar.divsi v162 c8_i32_89
  let c1_i32_95 : BitVec 32 := 1#32
  let v178 : BitVec 32 := Scalar.subi v163 c1_i32_95
  let v179 : BitVec 32 := Scalar.select v177 v178 v163
  let c8_i32_100 : BitVec 32 := 8#32
  let v187 : BitVec 32 := Scalar.muli v179 c8_i32_100
  let v188 : BitVec 32 := Scalar.addi v145 v187
  let c1_i32_102 : BitVec 32 := 1#32
  let arg19 : BitVec 32 := Scf.iv v188 c1_i32_102 k0_t17
  let c1_i32_454 : BitVec 32 := 1#32
  let v925 : BitVec 32 := Scalar.addi arg19 c1_i32_454
  let v926 : Index := Scalar.indexCast v925
  let c16_455 : Index := 16#32
  ![v926.toNat, 16]
@[reducible] def k0_t18_loop (v52 : BitVec 32) (v105 : BitVec 32) (v158 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v161 : BitVec 32 := Scalar.subi v160 v145
  let c0_i32_88 : BitVec 32 := 0#32
  let v162 : BitVec 32 := Scalar.maxsi v161 c0_i32_88
  let c0_i32_90 : BitVec 32 := 0#32
  let v164 : BitVec 1 := Scalar.cmpi .sgt v162 c0_i32_90
  let v165 : BitVec 32 := Scalar.extui v164
  let c0_i32_91 : BitVec 32 := 0#32
  let v166 : BitVec 1 := Scalar.cmpi .slt v162 c0_i32_91
  let v167 : BitVec 32 := Scalar.extui v166
  let v168 : BitVec 32 := Scalar.subi v165 v167
  let c8_i32_89 : BitVec 32 := 8#32
  let c0_i32_92 : BitVec 32 := 0#32
  let v169 : BitVec 1 := Scalar.cmpi .sgt c8_i32_89 c0_i32_92
  let v170 : BitVec 32 := Scalar.extui v169
  let c0_i32_93 : BitVec 32 := 0#32
  let v171 : BitVec 1 := Scalar.cmpi .slt c8_i32_89 c0_i32_93
  let v172 : BitVec 32 := Scalar.extui v171
  let v173 : BitVec 32 := Scalar.subi v170 v172
  let v174 : BitVec 1 := Scalar.cmpi .ne v168 v173
  let v175 : BitVec 32 := Scalar.remsi v162 c8_i32_89
  let c0_i32_94 : BitVec 32 := 0#32
  let v176 : BitVec 1 := Scalar.cmpi .ne v175 c0_i32_94
  let v177 : BitVec 1 := Scalar.andi v174 v176
  let v163 : BitVec 32 := Scalar.divsi v162 c8_i32_89
  let c1_i32_95 : BitVec 32 := 1#32
  let v178 : BitVec 32 := Scalar.subi v163 c1_i32_95
  let v179 : BitVec 32 := Scalar.select v177 v178 v163
  let c8_i32_100 : BitVec 32 := 8#32
  let v187 : BitVec 32 := Scalar.muli v179 c8_i32_100
  let v188 : BitVec 32 := Scalar.addi v145 v187
  let v189 : BitVec 32 := Scalar.subi v160 v188
  let c1_i32_101 : BitVec 32 := 1#32
  let v191 : BitVec 32 := Scalar.divsi v189 c1_i32_101
  let v192 : BitVec 32 := Scalar.muli v191 c1_i32_101
  let v193 : BitVec 32 := Scalar.addi v188 v192
  let v190 : BitVec 32 := Scalar.addi v188 v189
  let c1_i32_103 : BitVec 32 := 1#32
  ⟨v193, v190, c1_i32_103⟩
def k0_off164 (v52 : BitVec 32) (v105 : BitVec 32) (v158 : BitVec 32) (k0_t18 : Fin (k0_t18_loop v52 v105 v158).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v161 : BitVec 32 := Scalar.subi v160 v145
  let c0_i32_88 : BitVec 32 := 0#32
  let v162 : BitVec 32 := Scalar.maxsi v161 c0_i32_88
  let c0_i32_90 : BitVec 32 := 0#32
  let v164 : BitVec 1 := Scalar.cmpi .sgt v162 c0_i32_90
  let v165 : BitVec 32 := Scalar.extui v164
  let c0_i32_91 : BitVec 32 := 0#32
  let v166 : BitVec 1 := Scalar.cmpi .slt v162 c0_i32_91
  let v167 : BitVec 32 := Scalar.extui v166
  let v168 : BitVec 32 := Scalar.subi v165 v167
  let c8_i32_89 : BitVec 32 := 8#32
  let c0_i32_92 : BitVec 32 := 0#32
  let v169 : BitVec 1 := Scalar.cmpi .sgt c8_i32_89 c0_i32_92
  let v170 : BitVec 32 := Scalar.extui v169
  let c0_i32_93 : BitVec 32 := 0#32
  let v171 : BitVec 1 := Scalar.cmpi .slt c8_i32_89 c0_i32_93
  let v172 : BitVec 32 := Scalar.extui v171
  let v173 : BitVec 32 := Scalar.subi v170 v172
  let v174 : BitVec 1 := Scalar.cmpi .ne v168 v173
  let v175 : BitVec 32 := Scalar.remsi v162 c8_i32_89
  let c0_i32_94 : BitVec 32 := 0#32
  let v176 : BitVec 1 := Scalar.cmpi .ne v175 c0_i32_94
  let v177 : BitVec 1 := Scalar.andi v174 v176
  let v163 : BitVec 32 := Scalar.divsi v162 c8_i32_89
  let c1_i32_95 : BitVec 32 := 1#32
  let v178 : BitVec 32 := Scalar.subi v163 c1_i32_95
  let v179 : BitVec 32 := Scalar.select v177 v178 v163
  let c8_i32_100 : BitVec 32 := 8#32
  let v187 : BitVec 32 := Scalar.muli v179 c8_i32_100
  let v188 : BitVec 32 := Scalar.addi v145 v187
  let v189 : BitVec 32 := Scalar.subi v160 v188
  let c1_i32_101 : BitVec 32 := 1#32
  let v191 : BitVec 32 := Scalar.divsi v189 c1_i32_101
  let v192 : BitVec 32 := Scalar.muli v191 c1_i32_101
  let v193 : BitVec 32 := Scalar.addi v188 v192
  let c1_i32_103 : BitVec 32 := 1#32
  let arg19 : BitVec 32 := Scf.iv v193 c1_i32_103 k0_t18
  let c1_i32_444 : BitVec 32 := 1#32
  let v893 : BitVec 32 := Scalar.addi arg19 c1_i32_444
  let v894 : Index := Scalar.indexCast v893
  ![v894.toNat]
def k0_off165 (v897 : BitVec 32) : Fin 2 → Nat :=
  let c512_i32_445 : BitVec 32 := 512#32
  let v898 : BitVec 32 := Scalar.subi v897 c512_i32_445
  let v912 : Index := Scalar.indexCast v898
  let c0_450 : Index := 0#32
  ![v912.toNat, 0]

def k0_off166 (v897 : BitVec 32) : Fin 2 → Nat :=
  let c512_i32_445 : BitVec 32 := 512#32
  let v898 : BitVec 32 := Scalar.subi v897 c512_i32_445
  let v915 : Index := Scalar.indexCast v898
  let c16_451 : Index := 16#32
  ![v915.toNat, 16]

def k0_chk58 (v897 : BitVec 32) : Prop :=
  (∀ a, (k0_off165 v897) a + S1x16.size a ≤ S257x32.size a) ∧
  (∀ a, (k0_off166 v897) a + S1x16.size a ≤ S257x32.size a)
theorem k0_off165_inb : ∀ (v897 : BitVec 32) (k0_hw58 : k0_chk58 v897), ∀ a, (k0_off165 v897) a + S1x16.size a ≤ S257x32.size a := fun v897 k0_hw58 => k0_hw58.1
theorem k0_off166_inb : ∀ (v897 : BitVec 32) (k0_hw58 : k0_chk58 v897), ∀ a, (k0_off166 v897) a + S1x16.size a ≤ S257x32.size a := fun v897 k0_hw58 => k0_hw58.2

def k0_off167 (v52 : BitVec 32) (v105 : BitVec 32) (v158 : BitVec 32) (k0_t18 : Fin (k0_t18_loop v52 v105 v158).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v161 : BitVec 32 := Scalar.subi v160 v145
  let c0_i32_88 : BitVec 32 := 0#32
  let v162 : BitVec 32 := Scalar.maxsi v161 c0_i32_88
  let c0_i32_90 : BitVec 32 := 0#32
  let v164 : BitVec 1 := Scalar.cmpi .sgt v162 c0_i32_90
  let v165 : BitVec 32 := Scalar.extui v164
  let c0_i32_91 : BitVec 32 := 0#32
  let v166 : BitVec 1 := Scalar.cmpi .slt v162 c0_i32_91
  let v167 : BitVec 32 := Scalar.extui v166
  let v168 : BitVec 32 := Scalar.subi v165 v167
  let c8_i32_89 : BitVec 32 := 8#32
  let c0_i32_92 : BitVec 32 := 0#32
  let v169 : BitVec 1 := Scalar.cmpi .sgt c8_i32_89 c0_i32_92
  let v170 : BitVec 32 := Scalar.extui v169
  let c0_i32_93 : BitVec 32 := 0#32
  let v171 : BitVec 1 := Scalar.cmpi .slt c8_i32_89 c0_i32_93
  let v172 : BitVec 32 := Scalar.extui v171
  let v173 : BitVec 32 := Scalar.subi v170 v172
  let v174 : BitVec 1 := Scalar.cmpi .ne v168 v173
  let v175 : BitVec 32 := Scalar.remsi v162 c8_i32_89
  let c0_i32_94 : BitVec 32 := 0#32
  let v176 : BitVec 1 := Scalar.cmpi .ne v175 c0_i32_94
  let v177 : BitVec 1 := Scalar.andi v174 v176
  let v163 : BitVec 32 := Scalar.divsi v162 c8_i32_89
  let c1_i32_95 : BitVec 32 := 1#32
  let v178 : BitVec 32 := Scalar.subi v163 c1_i32_95
  let v179 : BitVec 32 := Scalar.select v177 v178 v163
  let c8_i32_100 : BitVec 32 := 8#32
  let v187 : BitVec 32 := Scalar.muli v179 c8_i32_100
  let v188 : BitVec 32 := Scalar.addi v145 v187
  let v189 : BitVec 32 := Scalar.subi v160 v188
  let c1_i32_101 : BitVec 32 := 1#32
  let v191 : BitVec 32 := Scalar.divsi v189 c1_i32_101
  let v192 : BitVec 32 := Scalar.muli v191 c1_i32_101
  let v193 : BitVec 32 := Scalar.addi v188 v192
  let c1_i32_103 : BitVec 32 := 1#32
  let arg19 : BitVec 32 := Scf.iv v193 c1_i32_103 k0_t18
  let c1_i32_452 : BitVec 32 := 1#32
  let v920 : BitVec 32 := Scalar.addi arg19 c1_i32_452
  let v921 : Index := Scalar.indexCast v920
  let c0_453 : Index := 0#32
  ![v921.toNat, 0]
def k0_off168 (v52 : BitVec 32) (v105 : BitVec 32) (v158 : BitVec 32) (k0_t18 : Fin (k0_t18_loop v52 v105 v158).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v161 : BitVec 32 := Scalar.subi v160 v145
  let c0_i32_88 : BitVec 32 := 0#32
  let v162 : BitVec 32 := Scalar.maxsi v161 c0_i32_88
  let c0_i32_90 : BitVec 32 := 0#32
  let v164 : BitVec 1 := Scalar.cmpi .sgt v162 c0_i32_90
  let v165 : BitVec 32 := Scalar.extui v164
  let c0_i32_91 : BitVec 32 := 0#32
  let v166 : BitVec 1 := Scalar.cmpi .slt v162 c0_i32_91
  let v167 : BitVec 32 := Scalar.extui v166
  let v168 : BitVec 32 := Scalar.subi v165 v167
  let c8_i32_89 : BitVec 32 := 8#32
  let c0_i32_92 : BitVec 32 := 0#32
  let v169 : BitVec 1 := Scalar.cmpi .sgt c8_i32_89 c0_i32_92
  let v170 : BitVec 32 := Scalar.extui v169
  let c0_i32_93 : BitVec 32 := 0#32
  let v171 : BitVec 1 := Scalar.cmpi .slt c8_i32_89 c0_i32_93
  let v172 : BitVec 32 := Scalar.extui v171
  let v173 : BitVec 32 := Scalar.subi v170 v172
  let v174 : BitVec 1 := Scalar.cmpi .ne v168 v173
  let v175 : BitVec 32 := Scalar.remsi v162 c8_i32_89
  let c0_i32_94 : BitVec 32 := 0#32
  let v176 : BitVec 1 := Scalar.cmpi .ne v175 c0_i32_94
  let v177 : BitVec 1 := Scalar.andi v174 v176
  let v163 : BitVec 32 := Scalar.divsi v162 c8_i32_89
  let c1_i32_95 : BitVec 32 := 1#32
  let v178 : BitVec 32 := Scalar.subi v163 c1_i32_95
  let v179 : BitVec 32 := Scalar.select v177 v178 v163
  let c8_i32_100 : BitVec 32 := 8#32
  let v187 : BitVec 32 := Scalar.muli v179 c8_i32_100
  let v188 : BitVec 32 := Scalar.addi v145 v187
  let v189 : BitVec 32 := Scalar.subi v160 v188
  let c1_i32_101 : BitVec 32 := 1#32
  let v191 : BitVec 32 := Scalar.divsi v189 c1_i32_101
  let v192 : BitVec 32 := Scalar.muli v191 c1_i32_101
  let v193 : BitVec 32 := Scalar.addi v188 v192
  let c1_i32_103 : BitVec 32 := 1#32
  let arg19 : BitVec 32 := Scf.iv v193 c1_i32_103 k0_t18
  let c1_i32_454 : BitVec 32 := 1#32
  let v925 : BitVec 32 := Scalar.addi arg19 c1_i32_454
  let v926 : Index := Scalar.indexCast v925
  let c16_455 : Index := 16#32
  ![v926.toNat, 16]

def k0_chk40 (v52 : BitVec 32) (v105 : BitVec 32) (v158 : BitVec 32) : Prop :=
  ((k0_t15_loop v52 v105 v158).OK) ∧
  (∀ k0_t15 : Fin (k0_t15_loop v52 v105 v158).trips, ∀ (r : Fin 2), ∀ a, (k0_off121 v52 v105 v158 k0_t15 (BitVec.ofNat 32 (1 + r.val))) a + S16.size a ≤ S4112.size a) ∧
  (∀ k0_t15 : Fin (k0_t15_loop v52 v105 v158).trips, ∀ (r : Fin 8), ∀ a, (k0_off138 v52 v105 v158 k0_t15 (BitVec.ofNat 32 r.val)) a + S1x16.size a ≤ S2050x32.size a) ∧
  (∀ k0_t15 : Fin (k0_t15_loop v52 v105 v158).trips, ∀ (r : Fin 8), ∀ a, (k0_off139 v52 v105 v158 k0_t15 (BitVec.ofNat 32 r.val)) a + S1x16.size a ≤ S2050x32.size a) ∧
  ((k0_t16_loop v52 v105 v158).OK) ∧
  (∀ k0_t16 : Fin (k0_t16_loop v52 v105 v158).trips, ∀ (r : Fin 2), ∀ a, (k0_off140 v52 v105 v158 k0_t16 (BitVec.ofNat 32 (1 + r.val))) a + S16.size a ≤ S4112.size a) ∧
  (∀ k0_t16 : Fin (k0_t16_loop v52 v105 v158).trips, ∀ (r : Fin 8), ∀ a, (k0_off157 v52 v105 v158 k0_t16 (BitVec.ofNat 32 r.val)) a + S1x16.size a ≤ S2050x32.size a) ∧
  (∀ k0_t16 : Fin (k0_t16_loop v52 v105 v158).trips, ∀ (r : Fin 8), ∀ a, (k0_off158 v52 v105 v158 k0_t16 (BitVec.ofNat 32 r.val)) a + S1x16.size a ≤ S2050x32.size a) ∧
  ((k0_t17_loop v52 v105 v158).OK) ∧
  (∀ k0_t17 : Fin (k0_t17_loop v52 v105 v158).trips, ∀ a, (k0_off159 v52 v105 v158 k0_t17) a + S16.size a ≤ S4112.size a) ∧
  (∀ k0_t17 : Fin (k0_t17_loop v52 v105 v158).trips, ∀ a, (k0_off162 v52 v105 v158 k0_t17) a + S1x16.size a ≤ S2050x32.size a) ∧
  (∀ k0_t17 : Fin (k0_t17_loop v52 v105 v158).trips, ∀ a, (k0_off163 v52 v105 v158 k0_t17) a + S1x16.size a ≤ S2050x32.size a) ∧
  ((k0_t18_loop v52 v105 v158).OK) ∧
  (∀ k0_t18 : Fin (k0_t18_loop v52 v105 v158).trips, ∀ a, (k0_off164 v52 v105 v158 k0_t18) a + S16.size a ≤ S4112.size a) ∧
  (∀ k0_t18 : Fin (k0_t18_loop v52 v105 v158).trips, ∀ a, (k0_off167 v52 v105 v158 k0_t18) a + S1x16.size a ≤ S2050x32.size a) ∧
  (∀ k0_t18 : Fin (k0_t18_loop v52 v105 v158).trips, ∀ a, (k0_off168 v52 v105 v158 k0_t18) a + S1x16.size a ≤ S2050x32.size a)
theorem k0_t15_ok : ∀ (v52 : BitVec 32) (v105 : BitVec 32) (v158 : BitVec 32) (k0_hw40 : k0_chk40 v52 v105 v158), (k0_t15_loop v52 v105 v158).OK := fun v52 v105 v158 k0_hw40 => k0_hw40.1
theorem k0_off121_inb : ∀ (v52 : BitVec 32) (v105 : BitVec 32) (v158 : BitVec 32) (k0_hw40 : k0_chk40 v52 v105 v158) (k0_t15 : Fin (k0_t15_loop v52 v105 v158).trips), ∀ (r : Fin 2), ∀ a, (k0_off121 v52 v105 v158 k0_t15 (BitVec.ofNat 32 (1 + r.val))) a + S16.size a ≤ S4112.size a := fun v52 v105 v158 k0_hw40 k0_t15 r => k0_hw40.2.1 k0_t15 r
theorem k0_off138_inb : ∀ (v52 : BitVec 32) (v105 : BitVec 32) (v158 : BitVec 32) (k0_hw40 : k0_chk40 v52 v105 v158) (k0_t15 : Fin (k0_t15_loop v52 v105 v158).trips), ∀ (r : Fin 8), ∀ a, (k0_off138 v52 v105 v158 k0_t15 (BitVec.ofNat 32 r.val)) a + S1x16.size a ≤ S2050x32.size a := fun v52 v105 v158 k0_hw40 k0_t15 r => k0_hw40.2.2.1 k0_t15 r
theorem k0_off139_inb : ∀ (v52 : BitVec 32) (v105 : BitVec 32) (v158 : BitVec 32) (k0_hw40 : k0_chk40 v52 v105 v158) (k0_t15 : Fin (k0_t15_loop v52 v105 v158).trips), ∀ (r : Fin 8), ∀ a, (k0_off139 v52 v105 v158 k0_t15 (BitVec.ofNat 32 r.val)) a + S1x16.size a ≤ S2050x32.size a := fun v52 v105 v158 k0_hw40 k0_t15 r => k0_hw40.2.2.2.1 k0_t15 r
theorem k0_t16_ok : ∀ (v52 : BitVec 32) (v105 : BitVec 32) (v158 : BitVec 32) (k0_hw40 : k0_chk40 v52 v105 v158), (k0_t16_loop v52 v105 v158).OK := fun v52 v105 v158 k0_hw40 => k0_hw40.2.2.2.2.1
theorem k0_off140_inb : ∀ (v52 : BitVec 32) (v105 : BitVec 32) (v158 : BitVec 32) (k0_hw40 : k0_chk40 v52 v105 v158) (k0_t16 : Fin (k0_t16_loop v52 v105 v158).trips), ∀ (r : Fin 2), ∀ a, (k0_off140 v52 v105 v158 k0_t16 (BitVec.ofNat 32 (1 + r.val))) a + S16.size a ≤ S4112.size a := fun v52 v105 v158 k0_hw40 k0_t16 r => k0_hw40.2.2.2.2.2.1 k0_t16 r
theorem k0_off157_inb : ∀ (v52 : BitVec 32) (v105 : BitVec 32) (v158 : BitVec 32) (k0_hw40 : k0_chk40 v52 v105 v158) (k0_t16 : Fin (k0_t16_loop v52 v105 v158).trips), ∀ (r : Fin 8), ∀ a, (k0_off157 v52 v105 v158 k0_t16 (BitVec.ofNat 32 r.val)) a + S1x16.size a ≤ S2050x32.size a := fun v52 v105 v158 k0_hw40 k0_t16 r => k0_hw40.2.2.2.2.2.2.1 k0_t16 r
theorem k0_off158_inb : ∀ (v52 : BitVec 32) (v105 : BitVec 32) (v158 : BitVec 32) (k0_hw40 : k0_chk40 v52 v105 v158) (k0_t16 : Fin (k0_t16_loop v52 v105 v158).trips), ∀ (r : Fin 8), ∀ a, (k0_off158 v52 v105 v158 k0_t16 (BitVec.ofNat 32 r.val)) a + S1x16.size a ≤ S2050x32.size a := fun v52 v105 v158 k0_hw40 k0_t16 r => k0_hw40.2.2.2.2.2.2.2.1 k0_t16 r
theorem k0_t17_ok : ∀ (v52 : BitVec 32) (v105 : BitVec 32) (v158 : BitVec 32) (k0_hw40 : k0_chk40 v52 v105 v158), (k0_t17_loop v52 v105 v158).OK := fun v52 v105 v158 k0_hw40 => k0_hw40.2.2.2.2.2.2.2.2.1
theorem k0_off159_inb : ∀ (v52 : BitVec 32) (v105 : BitVec 32) (v158 : BitVec 32) (k0_hw40 : k0_chk40 v52 v105 v158) (k0_t17 : Fin (k0_t17_loop v52 v105 v158).trips), ∀ a, (k0_off159 v52 v105 v158 k0_t17) a + S16.size a ≤ S4112.size a := fun v52 v105 v158 k0_hw40 k0_t17 => k0_hw40.2.2.2.2.2.2.2.2.2.1 k0_t17
theorem k0_off162_inb : ∀ (v52 : BitVec 32) (v105 : BitVec 32) (v158 : BitVec 32) (k0_hw40 : k0_chk40 v52 v105 v158) (k0_t17 : Fin (k0_t17_loop v52 v105 v158).trips), ∀ a, (k0_off162 v52 v105 v158 k0_t17) a + S1x16.size a ≤ S2050x32.size a := fun v52 v105 v158 k0_hw40 k0_t17 => k0_hw40.2.2.2.2.2.2.2.2.2.2.1 k0_t17
theorem k0_off163_inb : ∀ (v52 : BitVec 32) (v105 : BitVec 32) (v158 : BitVec 32) (k0_hw40 : k0_chk40 v52 v105 v158) (k0_t17 : Fin (k0_t17_loop v52 v105 v158).trips), ∀ a, (k0_off163 v52 v105 v158 k0_t17) a + S1x16.size a ≤ S2050x32.size a := fun v52 v105 v158 k0_hw40 k0_t17 => k0_hw40.2.2.2.2.2.2.2.2.2.2.2.1 k0_t17
theorem k0_t18_ok : ∀ (v52 : BitVec 32) (v105 : BitVec 32) (v158 : BitVec 32) (k0_hw40 : k0_chk40 v52 v105 v158), (k0_t18_loop v52 v105 v158).OK := fun v52 v105 v158 k0_hw40 => k0_hw40.2.2.2.2.2.2.2.2.2.2.2.2.1
theorem k0_off164_inb : ∀ (v52 : BitVec 32) (v105 : BitVec 32) (v158 : BitVec 32) (k0_hw40 : k0_chk40 v52 v105 v158) (k0_t18 : Fin (k0_t18_loop v52 v105 v158).trips), ∀ a, (k0_off164 v52 v105 v158 k0_t18) a + S16.size a ≤ S4112.size a := fun v52 v105 v158 k0_hw40 k0_t18 => k0_hw40.2.2.2.2.2.2.2.2.2.2.2.2.2.1 k0_t18
theorem k0_off167_inb : ∀ (v52 : BitVec 32) (v105 : BitVec 32) (v158 : BitVec 32) (k0_hw40 : k0_chk40 v52 v105 v158) (k0_t18 : Fin (k0_t18_loop v52 v105 v158).trips), ∀ a, (k0_off167 v52 v105 v158 k0_t18) a + S1x16.size a ≤ S2050x32.size a := fun v52 v105 v158 k0_hw40 k0_t18 => k0_hw40.2.2.2.2.2.2.2.2.2.2.2.2.2.2.1 k0_t18
theorem k0_off168_inb : ∀ (v52 : BitVec 32) (v105 : BitVec 32) (v158 : BitVec 32) (k0_hw40 : k0_chk40 v52 v105 v158) (k0_t18 : Fin (k0_t18_loop v52 v105 v158).trips), ∀ a, (k0_off168 v52 v105 v158 k0_t18) a + S1x16.size a ≤ S2050x32.size a := fun v52 v105 v158 k0_hw40 k0_t18 => k0_hw40.2.2.2.2.2.2.2.2.2.2.2.2.2.2.2 k0_t18

def k0_off169 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c768_i32_104 : BitVec 32 := 768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 768, v3.toNat]
@[reducible] def k0_t19_loop : Scf.Loop 32 :=
  let c0_i32_106 : BitVec 32 := 0#32
  let c16_i32_107 : BitVec 32 := 16#32
  let v203 : BitVec 32 := Scalar.addi c0_i32_106 c16_i32_107
  let c1_i32_108 : BitVec 32 := 1#32
  ⟨c0_i32_106, v203, c1_i32_108⟩
def k0_off170 (k0_t19 : Fin k0_t19_loop.trips) (c0_i32_445 : BitVec 32) : Fin 2 → Nat :=
  let c0_i32_106 : BitVec 32 := 0#32
  let c1_i32_108 : BitVec 32 := 1#32
  let arg19 : BitVec 32 := Scf.iv c0_i32_106 c1_i32_108 k0_t19
  let c16_i32_444 : BitVec 32 := 16#32
  let v893 : BitVec 32 := Scalar.muli arg19 c16_i32_444
  let v894 : BitVec 32 := Scalar.addi v893 c0_i32_445
  let v895 : Index := Scalar.indexCast v894
  let c0_446 : Index := 0#32
  ![v895.toNat, 0]
def k0_off171 (k0_t19 : Fin k0_t19_loop.trips) (c0_i32_447 : BitVec 32) : Fin 2 → Nat :=
  let c0_i32_106 : BitVec 32 := 0#32
  let c1_i32_108 : BitVec 32 := 1#32
  let arg19 : BitVec 32 := Scf.iv c0_i32_106 c1_i32_108 k0_t19
  let c16_i32_444 : BitVec 32 := 16#32
  let v893 : BitVec 32 := Scalar.muli arg19 c16_i32_444
  let v898 : BitVec 32 := Scalar.addi v893 c0_i32_447
  let v899 : Index := Scalar.indexCast v898
  let c16_448 : Index := 16#32
  ![v899.toNat, 16]
def k0_off172 (k0_t19 : Fin k0_t19_loop.trips) (c0_i32_449 : BitVec 32) : Fin 2 → Nat :=
  let c0_i32_106 : BitVec 32 := 0#32
  let c1_i32_108 : BitVec 32 := 1#32
  let arg19 : BitVec 32 := Scf.iv c0_i32_106 c1_i32_108 k0_t19
  let c16_i32_444 : BitVec 32 := 16#32
  let v893 : BitVec 32 := Scalar.muli arg19 c16_i32_444
  let v902 : BitVec 32 := Scalar.addi v893 c0_i32_449
  let c1_i32_450 : BitVec 32 := 1#32
  let v903 : BitVec 32 := Scalar.addi v902 c1_i32_450
  let v904 : Index := Scalar.indexCast v903
  let c0_451 : Index := 0#32
  ![v904.toNat, 0]
def k0_off173 (k0_t19 : Fin k0_t19_loop.trips) (c0_i32_452 : BitVec 32) : Fin 2 → Nat :=
  let c0_i32_106 : BitVec 32 := 0#32
  let c1_i32_108 : BitVec 32 := 1#32
  let arg19 : BitVec 32 := Scf.iv c0_i32_106 c1_i32_108 k0_t19
  let c16_i32_444 : BitVec 32 := 16#32
  let v893 : BitVec 32 := Scalar.muli arg19 c16_i32_444
  let v906 : BitVec 32 := Scalar.addi v893 c0_i32_452
  let c1_i32_453 : BitVec 32 := 1#32
  let v907 : BitVec 32 := Scalar.addi v906 c1_i32_453
  let v908 : Index := Scalar.indexCast v907
  let c16_454 : Index := 16#32
  ![v908.toNat, 16]
def k0_off174 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c1280_i32 : BitVec 32 := 1280#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 1280, v3.toNat]
@[reducible] def k0_t20_loop (v52 : BitVec 32) (v105 : BitVec 32) (v158 : BitVec 32) (v211 : BitVec 32) : Scf.Loop 32 :=
  let c0_i32_121 : BitVec 32 := 0#32
  let c1_i32_111 : BitVec 32 := 1#32
  let v212 : BitVec 32 := Scalar.subi v211 c1_i32_111
  let c2049_i32_112 : BitVec 32 := 2049#32
  let v213 : BitVec 32 := Scalar.minsi v212 c2049_i32_112
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let v214 : BitVec 32 := Scalar.subi v213 v198
  let c0_i32_113 : BitVec 32 := 0#32
  let v215 : BitVec 32 := Scalar.maxsi v214 c0_i32_113
  let c0_i32_115 : BitVec 32 := 0#32
  let v217 : BitVec 1 := Scalar.cmpi .sgt v215 c0_i32_115
  let v218 : BitVec 32 := Scalar.extui v217
  let c0_i32_116 : BitVec 32 := 0#32
  let v219 : BitVec 1 := Scalar.cmpi .slt v215 c0_i32_116
  let v220 : BitVec 32 := Scalar.extui v219
  let v221 : BitVec 32 := Scalar.subi v218 v220
  let c8_i32_114 : BitVec 32 := 8#32
  let c0_i32_117 : BitVec 32 := 0#32
  let v222 : BitVec 1 := Scalar.cmpi .sgt c8_i32_114 c0_i32_117
  let v223 : BitVec 32 := Scalar.extui v222
  let c0_i32_118 : BitVec 32 := 0#32
  let v224 : BitVec 1 := Scalar.cmpi .slt c8_i32_114 c0_i32_118
  let v225 : BitVec 32 := Scalar.extui v224
  let v226 : BitVec 32 := Scalar.subi v223 v225
  let v227 : BitVec 1 := Scalar.cmpi .ne v221 v226
  let v228 : BitVec 32 := Scalar.remsi v215 c8_i32_114
  let c0_i32_119 : BitVec 32 := 0#32
  let v229 : BitVec 1 := Scalar.cmpi .ne v228 c0_i32_119
  let v230 : BitVec 1 := Scalar.andi v227 v229
  let v216 : BitVec 32 := Scalar.divsi v215 c8_i32_114
  let c1_i32_120 : BitVec 32 := 1#32
  let v231 : BitVec 32 := Scalar.subi v216 c1_i32_120
  let v232 : BitVec 32 := Scalar.select v230 v231 v216
  let v233 : BitVec 32 := Scalar.subi v232 c0_i32_121
  let c1_i32_122 : BitVec 32 := 1#32
  let v235 : BitVec 32 := Scalar.divsi v233 c1_i32_122
  let v236 : BitVec 32 := Scalar.muli v235 c1_i32_122
  let v237 : BitVec 32 := Scalar.addi c0_i32_121 v236
  let c1_i32_123 : BitVec 32 := 1#32
  ⟨c0_i32_121, v237, c1_i32_123⟩

def k0_off175 (v52 : BitVec 32) (v105 : BitVec 32) (v158 : BitVec 32) (v211 : BitVec 32) (k0_t20 : Fin (k0_t20_loop v52 v105 v158 v211).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c0_i32_121 : BitVec 32 := 0#32
  let c1_i32_123 : BitVec 32 := 1#32
  let arg19 : BitVec 32 := Scf.iv c0_i32_121 c1_i32_123 k0_t20
  let c8_i32_444 : BitVec 32 := 8#32
  let v893 : BitVec 32 := Scalar.muli arg19 c8_i32_444
  let v894 : BitVec 32 := Scalar.addi v198 v893
  let v895 : BitVec 32 := Scalar.addi v894 c1_i32_445
  let v896 : Index := Scalar.indexCast v895
  ![v896.toNat]
def k0_off176 (v912 : BitVec 32) : Fin 2 → Nat :=
  let c768_i32_451 : BitVec 32 := 768#32
  let v913 : BitVec 32 := Scalar.subi v912 c768_i32_451
  let v914 : Index := Scalar.indexCast v913
  let c0_452 : Index := 0#32
  ![v914.toNat, 0]

def k0_off177 (v912 : BitVec 32) : Fin 2 → Nat :=
  let c768_i32_451 : BitVec 32 := 768#32
  let v913 : BitVec 32 := Scalar.subi v912 c768_i32_451
  let v917 : Index := Scalar.indexCast v913
  let c16_453 : Index := 16#32
  ![v917.toNat, 16]

def k0_chk60 (v912 : BitVec 32) : Prop :=
  (∀ a, (k0_off176 v912) a + S1x16.size a ≤ S257x32.size a) ∧
  (∀ a, (k0_off177 v912) a + S1x16.size a ≤ S257x32.size a)
theorem k0_off176_inb : ∀ (v912 : BitVec 32) (k0_hw60 : k0_chk60 v912), ∀ a, (k0_off176 v912) a + S1x16.size a ≤ S257x32.size a := fun v912 k0_hw60 => k0_hw60.1
theorem k0_off177_inb : ∀ (v912 : BitVec 32) (k0_hw60 : k0_chk60 v912), ∀ a, (k0_off177 v912) a + S1x16.size a ≤ S257x32.size a := fun v912 k0_hw60 => k0_hw60.2

def k0_off178 (v921 : BitVec 32) : Fin 2 → Nat :=
  let c768_i32_454 : BitVec 32 := 768#32
  let v922 : BitVec 32 := Scalar.subi v921 c768_i32_454
  let v923 : Index := Scalar.indexCast v922
  let c0_455 : Index := 0#32
  ![v923.toNat, 0]

def k0_off179 (v921 : BitVec 32) : Fin 2 → Nat :=
  let c768_i32_454 : BitVec 32 := 768#32
  let v922 : BitVec 32 := Scalar.subi v921 c768_i32_454
  let v926 : Index := Scalar.indexCast v922
  let c16_456 : Index := 16#32
  ![v926.toNat, 16]

def k0_chk61 (v921 : BitVec 32) : Prop :=
  (∀ a, (k0_off178 v921) a + S1x16.size a ≤ S257x32.size a) ∧
  (∀ a, (k0_off179 v921) a + S1x16.size a ≤ S257x32.size a)
theorem k0_off178_inb : ∀ (v921 : BitVec 32) (k0_hw61 : k0_chk61 v921), ∀ a, (k0_off178 v921) a + S1x16.size a ≤ S257x32.size a := fun v921 k0_hw61 => k0_hw61.1
theorem k0_off179_inb : ∀ (v921 : BitVec 32) (k0_hw61 : k0_chk61 v921), ∀ a, (k0_off179 v921) a + S1x16.size a ≤ S257x32.size a := fun v921 k0_hw61 => k0_hw61.2

def k0_off180 (v930 : BitVec 32) : Fin 2 → Nat :=
  let c768_i32_457 : BitVec 32 := 768#32
  let v931 : BitVec 32 := Scalar.subi v930 c768_i32_457
  let v932 : Index := Scalar.indexCast v931
  let c0_458 : Index := 0#32
  ![v932.toNat, 0]

def k0_off181 (v930 : BitVec 32) : Fin 2 → Nat :=
  let c768_i32_457 : BitVec 32 := 768#32
  let v931 : BitVec 32 := Scalar.subi v930 c768_i32_457
  let v935 : Index := Scalar.indexCast v931
  let c16_459 : Index := 16#32
  ![v935.toNat, 16]

def k0_chk62 (v930 : BitVec 32) : Prop :=
  (∀ a, (k0_off180 v930) a + S1x16.size a ≤ S257x32.size a) ∧
  (∀ a, (k0_off181 v930) a + S1x16.size a ≤ S257x32.size a)
theorem k0_off180_inb : ∀ (v930 : BitVec 32) (k0_hw62 : k0_chk62 v930), ∀ a, (k0_off180 v930) a + S1x16.size a ≤ S257x32.size a := fun v930 k0_hw62 => k0_hw62.1
theorem k0_off181_inb : ∀ (v930 : BitVec 32) (k0_hw62 : k0_chk62 v930), ∀ a, (k0_off181 v930) a + S1x16.size a ≤ S257x32.size a := fun v930 k0_hw62 => k0_hw62.2

def k0_off182 (v939 : BitVec 32) : Fin 2 → Nat :=
  let c768_i32_460 : BitVec 32 := 768#32
  let v940 : BitVec 32 := Scalar.subi v939 c768_i32_460
  let v941 : Index := Scalar.indexCast v940
  let c0_461 : Index := 0#32
  ![v941.toNat, 0]

def k0_off183 (v939 : BitVec 32) : Fin 2 → Nat :=
  let c768_i32_460 : BitVec 32 := 768#32
  let v940 : BitVec 32 := Scalar.subi v939 c768_i32_460
  let v944 : Index := Scalar.indexCast v940
  let c16_462 : Index := 16#32
  ![v944.toNat, 16]

def k0_chk63 (v939 : BitVec 32) : Prop :=
  (∀ a, (k0_off182 v939) a + S1x16.size a ≤ S257x32.size a) ∧
  (∀ a, (k0_off183 v939) a + S1x16.size a ≤ S257x32.size a)
theorem k0_off182_inb : ∀ (v939 : BitVec 32) (k0_hw63 : k0_chk63 v939), ∀ a, (k0_off182 v939) a + S1x16.size a ≤ S257x32.size a := fun v939 k0_hw63 => k0_hw63.1
theorem k0_off183_inb : ∀ (v939 : BitVec 32) (k0_hw63 : k0_chk63 v939), ∀ a, (k0_off183 v939) a + S1x16.size a ≤ S257x32.size a := fun v939 k0_hw63 => k0_hw63.2

def k0_off184 (v948 : BitVec 32) : Fin 2 → Nat :=
  let c768_i32_463 : BitVec 32 := 768#32
  let v949 : BitVec 32 := Scalar.subi v948 c768_i32_463
  let v950 : Index := Scalar.indexCast v949
  let c0_464 : Index := 0#32
  ![v950.toNat, 0]

def k0_off185 (v948 : BitVec 32) : Fin 2 → Nat :=
  let c768_i32_463 : BitVec 32 := 768#32
  let v949 : BitVec 32 := Scalar.subi v948 c768_i32_463
  let v953 : Index := Scalar.indexCast v949
  let c16_465 : Index := 16#32
  ![v953.toNat, 16]

def k0_chk64 (v948 : BitVec 32) : Prop :=
  (∀ a, (k0_off184 v948) a + S1x16.size a ≤ S257x32.size a) ∧
  (∀ a, (k0_off185 v948) a + S1x16.size a ≤ S257x32.size a)
theorem k0_off184_inb : ∀ (v948 : BitVec 32) (k0_hw64 : k0_chk64 v948), ∀ a, (k0_off184 v948) a + S1x16.size a ≤ S257x32.size a := fun v948 k0_hw64 => k0_hw64.1
theorem k0_off185_inb : ∀ (v948 : BitVec 32) (k0_hw64 : k0_chk64 v948), ∀ a, (k0_off185 v948) a + S1x16.size a ≤ S257x32.size a := fun v948 k0_hw64 => k0_hw64.2

def k0_off186 (v957 : BitVec 32) : Fin 2 → Nat :=
  let c768_i32_466 : BitVec 32 := 768#32
  let v958 : BitVec 32 := Scalar.subi v957 c768_i32_466
  let v959 : Index := Scalar.indexCast v958
  let c0_467 : Index := 0#32
  ![v959.toNat, 0]

def k0_off187 (v957 : BitVec 32) : Fin 2 → Nat :=
  let c768_i32_466 : BitVec 32 := 768#32
  let v958 : BitVec 32 := Scalar.subi v957 c768_i32_466
  let v962 : Index := Scalar.indexCast v958
  let c16_468 : Index := 16#32
  ![v962.toNat, 16]

def k0_chk65 (v957 : BitVec 32) : Prop :=
  (∀ a, (k0_off186 v957) a + S1x16.size a ≤ S257x32.size a) ∧
  (∀ a, (k0_off187 v957) a + S1x16.size a ≤ S257x32.size a)
theorem k0_off186_inb : ∀ (v957 : BitVec 32) (k0_hw65 : k0_chk65 v957), ∀ a, (k0_off186 v957) a + S1x16.size a ≤ S257x32.size a := fun v957 k0_hw65 => k0_hw65.1
theorem k0_off187_inb : ∀ (v957 : BitVec 32) (k0_hw65 : k0_chk65 v957), ∀ a, (k0_off187 v957) a + S1x16.size a ≤ S257x32.size a := fun v957 k0_hw65 => k0_hw65.2

def k0_off188 (v966 : BitVec 32) : Fin 2 → Nat :=
  let c768_i32_469 : BitVec 32 := 768#32
  let v967 : BitVec 32 := Scalar.subi v966 c768_i32_469
  let v968 : Index := Scalar.indexCast v967
  let c0_470 : Index := 0#32
  ![v968.toNat, 0]

def k0_off189 (v966 : BitVec 32) : Fin 2 → Nat :=
  let c768_i32_469 : BitVec 32 := 768#32
  let v967 : BitVec 32 := Scalar.subi v966 c768_i32_469
  let v971 : Index := Scalar.indexCast v967
  let c16_471 : Index := 16#32
  ![v971.toNat, 16]

def k0_chk66 (v966 : BitVec 32) : Prop :=
  (∀ a, (k0_off188 v966) a + S1x16.size a ≤ S257x32.size a) ∧
  (∀ a, (k0_off189 v966) a + S1x16.size a ≤ S257x32.size a)
theorem k0_off188_inb : ∀ (v966 : BitVec 32) (k0_hw66 : k0_chk66 v966), ∀ a, (k0_off188 v966) a + S1x16.size a ≤ S257x32.size a := fun v966 k0_hw66 => k0_hw66.1
theorem k0_off189_inb : ∀ (v966 : BitVec 32) (k0_hw66 : k0_chk66 v966), ∀ a, (k0_off189 v966) a + S1x16.size a ≤ S257x32.size a := fun v966 k0_hw66 => k0_hw66.2

def k0_off190 (v975 : BitVec 32) : Fin 2 → Nat :=
  let c768_i32_472 : BitVec 32 := 768#32
  let v976 : BitVec 32 := Scalar.subi v975 c768_i32_472
  let v977 : Index := Scalar.indexCast v976
  let c0_473 : Index := 0#32
  ![v977.toNat, 0]

def k0_off191 (v975 : BitVec 32) : Fin 2 → Nat :=
  let c768_i32_472 : BitVec 32 := 768#32
  let v976 : BitVec 32 := Scalar.subi v975 c768_i32_472
  let v980 : Index := Scalar.indexCast v976
  let c16_474 : Index := 16#32
  ![v980.toNat, 16]

def k0_chk67 (v975 : BitVec 32) : Prop :=
  (∀ a, (k0_off190 v975) a + S1x16.size a ≤ S257x32.size a) ∧
  (∀ a, (k0_off191 v975) a + S1x16.size a ≤ S257x32.size a)
theorem k0_off190_inb : ∀ (v975 : BitVec 32) (k0_hw67 : k0_chk67 v975), ∀ a, (k0_off190 v975) a + S1x16.size a ≤ S257x32.size a := fun v975 k0_hw67 => k0_hw67.1
theorem k0_off191_inb : ∀ (v975 : BitVec 32) (k0_hw67 : k0_chk67 v975), ∀ a, (k0_off191 v975) a + S1x16.size a ≤ S257x32.size a := fun v975 k0_hw67 => k0_hw67.2

def k0_off192 (v52 : BitVec 32) (v105 : BitVec 32) (v158 : BitVec 32) (v211 : BitVec 32) (k0_t20 : Fin (k0_t20_loop v52 v105 v158 v211).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c0_i32_121 : BitVec 32 := 0#32
  let c1_i32_123 : BitVec 32 := 1#32
  let arg19 : BitVec 32 := Scf.iv c0_i32_121 c1_i32_123 k0_t20
  let c8_i32_444 : BitVec 32 := 8#32
  let v893 : BitVec 32 := Scalar.muli arg19 c8_i32_444
  let v894 : BitVec 32 := Scalar.addi v198 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off193 (v52 : BitVec 32) (v105 : BitVec 32) (v158 : BitVec 32) (v211 : BitVec 32) (k0_t20 : Fin (k0_t20_loop v52 v105 v158 v211).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c0_i32_121 : BitVec 32 := 0#32
  let c1_i32_123 : BitVec 32 := 1#32
  let arg19 : BitVec 32 := Scf.iv c0_i32_121 c1_i32_123 k0_t20
  let c8_i32_444 : BitVec 32 := 8#32
  let v893 : BitVec 32 := Scalar.muli arg19 c8_i32_444
  let v894 : BitVec 32 := Scalar.addi v198 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t21_loop (v52 : BitVec 32) (v105 : BitVec 32) (v158 : BitVec 32) (v211 : BitVec 32) : Scf.Loop 32 :=
  let c0_i32_121 : BitVec 32 := 0#32
  let c1_i32_111 : BitVec 32 := 1#32
  let v212 : BitVec 32 := Scalar.subi v211 c1_i32_111
  let c2049_i32_112 : BitVec 32 := 2049#32
  let v213 : BitVec 32 := Scalar.minsi v212 c2049_i32_112
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let v214 : BitVec 32 := Scalar.subi v213 v198
  let c0_i32_113 : BitVec 32 := 0#32
  let v215 : BitVec 32 := Scalar.maxsi v214 c0_i32_113
  let c0_i32_115 : BitVec 32 := 0#32
  let v217 : BitVec 1 := Scalar.cmpi .sgt v215 c0_i32_115
  let v218 : BitVec 32 := Scalar.extui v217
  let c0_i32_116 : BitVec 32 := 0#32
  let v219 : BitVec 1 := Scalar.cmpi .slt v215 c0_i32_116
  let v220 : BitVec 32 := Scalar.extui v219
  let v221 : BitVec 32 := Scalar.subi v218 v220
  let c8_i32_114 : BitVec 32 := 8#32
  let c0_i32_117 : BitVec 32 := 0#32
  let v222 : BitVec 1 := Scalar.cmpi .sgt c8_i32_114 c0_i32_117
  let v223 : BitVec 32 := Scalar.extui v222
  let c0_i32_118 : BitVec 32 := 0#32
  let v224 : BitVec 1 := Scalar.cmpi .slt c8_i32_114 c0_i32_118
  let v225 : BitVec 32 := Scalar.extui v224
  let v226 : BitVec 32 := Scalar.subi v223 v225
  let v227 : BitVec 1 := Scalar.cmpi .ne v221 v226
  let v228 : BitVec 32 := Scalar.remsi v215 c8_i32_114
  let c0_i32_119 : BitVec 32 := 0#32
  let v229 : BitVec 1 := Scalar.cmpi .ne v228 c0_i32_119
  let v230 : BitVec 1 := Scalar.andi v227 v229
  let v216 : BitVec 32 := Scalar.divsi v215 c8_i32_114
  let c1_i32_120 : BitVec 32 := 1#32
  let v231 : BitVec 32 := Scalar.subi v216 c1_i32_120
  let v232 : BitVec 32 := Scalar.select v230 v231 v216
  let v233 : BitVec 32 := Scalar.subi v232 c0_i32_121
  let c1_i32_122 : BitVec 32 := 1#32
  let v235 : BitVec 32 := Scalar.divsi v233 c1_i32_122
  let v236 : BitVec 32 := Scalar.muli v235 c1_i32_122
  let v237 : BitVec 32 := Scalar.addi c0_i32_121 v236
  let v234 : BitVec 32 := Scalar.addi c0_i32_121 v233
  let c1_i32_124 : BitVec 32 := 1#32
  ⟨v237, v234, c1_i32_124⟩
def k0_off194 (v52 : BitVec 32) (v105 : BitVec 32) (v158 : BitVec 32) (v211 : BitVec 32) (k0_t21 : Fin (k0_t21_loop v52 v105 v158 v211).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c0_i32_121 : BitVec 32 := 0#32
  let c1_i32_111 : BitVec 32 := 1#32
  let v212 : BitVec 32 := Scalar.subi v211 c1_i32_111
  let c2049_i32_112 : BitVec 32 := 2049#32
  let v213 : BitVec 32 := Scalar.minsi v212 c2049_i32_112
  let v214 : BitVec 32 := Scalar.subi v213 v198
  let c0_i32_113 : BitVec 32 := 0#32
  let v215 : BitVec 32 := Scalar.maxsi v214 c0_i32_113
  let c0_i32_115 : BitVec 32 := 0#32
  let v217 : BitVec 1 := Scalar.cmpi .sgt v215 c0_i32_115
  let v218 : BitVec 32 := Scalar.extui v217
  let c0_i32_116 : BitVec 32 := 0#32
  let v219 : BitVec 1 := Scalar.cmpi .slt v215 c0_i32_116
  let v220 : BitVec 32 := Scalar.extui v219
  let v221 : BitVec 32 := Scalar.subi v218 v220
  let c8_i32_114 : BitVec 32 := 8#32
  let c0_i32_117 : BitVec 32 := 0#32
  let v222 : BitVec 1 := Scalar.cmpi .sgt c8_i32_114 c0_i32_117
  let v223 : BitVec 32 := Scalar.extui v222
  let c0_i32_118 : BitVec 32 := 0#32
  let v224 : BitVec 1 := Scalar.cmpi .slt c8_i32_114 c0_i32_118
  let v225 : BitVec 32 := Scalar.extui v224
  let v226 : BitVec 32 := Scalar.subi v223 v225
  let v227 : BitVec 1 := Scalar.cmpi .ne v221 v226
  let v228 : BitVec 32 := Scalar.remsi v215 c8_i32_114
  let c0_i32_119 : BitVec 32 := 0#32
  let v229 : BitVec 1 := Scalar.cmpi .ne v228 c0_i32_119
  let v230 : BitVec 1 := Scalar.andi v227 v229
  let v216 : BitVec 32 := Scalar.divsi v215 c8_i32_114
  let c1_i32_120 : BitVec 32 := 1#32
  let v231 : BitVec 32 := Scalar.subi v216 c1_i32_120
  let v232 : BitVec 32 := Scalar.select v230 v231 v216
  let v233 : BitVec 32 := Scalar.subi v232 c0_i32_121
  let c1_i32_122 : BitVec 32 := 1#32
  let v235 : BitVec 32 := Scalar.divsi v233 c1_i32_122
  let v236 : BitVec 32 := Scalar.muli v235 c1_i32_122
  let v237 : BitVec 32 := Scalar.addi c0_i32_121 v236
  let c1_i32_124 : BitVec 32 := 1#32
  let arg19 : BitVec 32 := Scf.iv v237 c1_i32_124 k0_t21
  let c8_i32_444 : BitVec 32 := 8#32
  let v893 : BitVec 32 := Scalar.muli arg19 c8_i32_444
  let v894 : BitVec 32 := Scalar.addi v198 v893
  let v895 : BitVec 32 := Scalar.addi v894 c1_i32_445
  let v896 : Index := Scalar.indexCast v895
  ![v896.toNat]
def k0_off195 (v912 : BitVec 32) : Fin 2 → Nat :=
  let c768_i32_451 : BitVec 32 := 768#32
  let v913 : BitVec 32 := Scalar.subi v912 c768_i32_451
  let v914 : Index := Scalar.indexCast v913
  let c0_452 : Index := 0#32
  ![v914.toNat, 0]

def k0_off196 (v912 : BitVec 32) : Fin 2 → Nat :=
  let c768_i32_451 : BitVec 32 := 768#32
  let v913 : BitVec 32 := Scalar.subi v912 c768_i32_451
  let v917 : Index := Scalar.indexCast v913
  let c16_453 : Index := 16#32
  ![v917.toNat, 16]

def k0_chk68 (v912 : BitVec 32) : Prop :=
  (∀ a, (k0_off195 v912) a + S1x16.size a ≤ S257x32.size a) ∧
  (∀ a, (k0_off196 v912) a + S1x16.size a ≤ S257x32.size a)
theorem k0_off195_inb : ∀ (v912 : BitVec 32) (k0_hw68 : k0_chk68 v912), ∀ a, (k0_off195 v912) a + S1x16.size a ≤ S257x32.size a := fun v912 k0_hw68 => k0_hw68.1
theorem k0_off196_inb : ∀ (v912 : BitVec 32) (k0_hw68 : k0_chk68 v912), ∀ a, (k0_off196 v912) a + S1x16.size a ≤ S257x32.size a := fun v912 k0_hw68 => k0_hw68.2

def k0_off197 (v921 : BitVec 32) : Fin 2 → Nat :=
  let c768_i32_454 : BitVec 32 := 768#32
  let v922 : BitVec 32 := Scalar.subi v921 c768_i32_454
  let v923 : Index := Scalar.indexCast v922
  let c0_455 : Index := 0#32
  ![v923.toNat, 0]

def k0_off198 (v921 : BitVec 32) : Fin 2 → Nat :=
  let c768_i32_454 : BitVec 32 := 768#32
  let v922 : BitVec 32 := Scalar.subi v921 c768_i32_454
  let v926 : Index := Scalar.indexCast v922
  let c16_456 : Index := 16#32
  ![v926.toNat, 16]

def k0_chk69 (v921 : BitVec 32) : Prop :=
  (∀ a, (k0_off197 v921) a + S1x16.size a ≤ S257x32.size a) ∧
  (∀ a, (k0_off198 v921) a + S1x16.size a ≤ S257x32.size a)
theorem k0_off197_inb : ∀ (v921 : BitVec 32) (k0_hw69 : k0_chk69 v921), ∀ a, (k0_off197 v921) a + S1x16.size a ≤ S257x32.size a := fun v921 k0_hw69 => k0_hw69.1
theorem k0_off198_inb : ∀ (v921 : BitVec 32) (k0_hw69 : k0_chk69 v921), ∀ a, (k0_off198 v921) a + S1x16.size a ≤ S257x32.size a := fun v921 k0_hw69 => k0_hw69.2

def k0_off199 (v930 : BitVec 32) : Fin 2 → Nat :=
  let c768_i32_457 : BitVec 32 := 768#32
  let v931 : BitVec 32 := Scalar.subi v930 c768_i32_457
  let v932 : Index := Scalar.indexCast v931
  let c0_458 : Index := 0#32
  ![v932.toNat, 0]

def k0_off200 (v930 : BitVec 32) : Fin 2 → Nat :=
  let c768_i32_457 : BitVec 32 := 768#32
  let v931 : BitVec 32 := Scalar.subi v930 c768_i32_457
  let v935 : Index := Scalar.indexCast v931
  let c16_459 : Index := 16#32
  ![v935.toNat, 16]

def k0_chk70 (v930 : BitVec 32) : Prop :=
  (∀ a, (k0_off199 v930) a + S1x16.size a ≤ S257x32.size a) ∧
  (∀ a, (k0_off200 v930) a + S1x16.size a ≤ S257x32.size a)
theorem k0_off199_inb : ∀ (v930 : BitVec 32) (k0_hw70 : k0_chk70 v930), ∀ a, (k0_off199 v930) a + S1x16.size a ≤ S257x32.size a := fun v930 k0_hw70 => k0_hw70.1
theorem k0_off200_inb : ∀ (v930 : BitVec 32) (k0_hw70 : k0_chk70 v930), ∀ a, (k0_off200 v930) a + S1x16.size a ≤ S257x32.size a := fun v930 k0_hw70 => k0_hw70.2

def k0_off201 (v939 : BitVec 32) : Fin 2 → Nat :=
  let c768_i32_460 : BitVec 32 := 768#32
  let v940 : BitVec 32 := Scalar.subi v939 c768_i32_460
  let v941 : Index := Scalar.indexCast v940
  let c0_461 : Index := 0#32
  ![v941.toNat, 0]

def k0_off202 (v939 : BitVec 32) : Fin 2 → Nat :=
  let c768_i32_460 : BitVec 32 := 768#32
  let v940 : BitVec 32 := Scalar.subi v939 c768_i32_460
  let v944 : Index := Scalar.indexCast v940
  let c16_462 : Index := 16#32
  ![v944.toNat, 16]

def k0_chk71 (v939 : BitVec 32) : Prop :=
  (∀ a, (k0_off201 v939) a + S1x16.size a ≤ S257x32.size a) ∧
  (∀ a, (k0_off202 v939) a + S1x16.size a ≤ S257x32.size a)
theorem k0_off201_inb : ∀ (v939 : BitVec 32) (k0_hw71 : k0_chk71 v939), ∀ a, (k0_off201 v939) a + S1x16.size a ≤ S257x32.size a := fun v939 k0_hw71 => k0_hw71.1
theorem k0_off202_inb : ∀ (v939 : BitVec 32) (k0_hw71 : k0_chk71 v939), ∀ a, (k0_off202 v939) a + S1x16.size a ≤ S257x32.size a := fun v939 k0_hw71 => k0_hw71.2

def k0_off203 (v948 : BitVec 32) : Fin 2 → Nat :=
  let c768_i32_463 : BitVec 32 := 768#32
  let v949 : BitVec 32 := Scalar.subi v948 c768_i32_463
  let v950 : Index := Scalar.indexCast v949
  let c0_464 : Index := 0#32
  ![v950.toNat, 0]

def k0_off204 (v948 : BitVec 32) : Fin 2 → Nat :=
  let c768_i32_463 : BitVec 32 := 768#32
  let v949 : BitVec 32 := Scalar.subi v948 c768_i32_463
  let v953 : Index := Scalar.indexCast v949
  let c16_465 : Index := 16#32
  ![v953.toNat, 16]

def k0_chk72 (v948 : BitVec 32) : Prop :=
  (∀ a, (k0_off203 v948) a + S1x16.size a ≤ S257x32.size a) ∧
  (∀ a, (k0_off204 v948) a + S1x16.size a ≤ S257x32.size a)
theorem k0_off203_inb : ∀ (v948 : BitVec 32) (k0_hw72 : k0_chk72 v948), ∀ a, (k0_off203 v948) a + S1x16.size a ≤ S257x32.size a := fun v948 k0_hw72 => k0_hw72.1
theorem k0_off204_inb : ∀ (v948 : BitVec 32) (k0_hw72 : k0_chk72 v948), ∀ a, (k0_off204 v948) a + S1x16.size a ≤ S257x32.size a := fun v948 k0_hw72 => k0_hw72.2

def k0_off205 (v957 : BitVec 32) : Fin 2 → Nat :=
  let c768_i32_466 : BitVec 32 := 768#32
  let v958 : BitVec 32 := Scalar.subi v957 c768_i32_466
  let v959 : Index := Scalar.indexCast v958
  let c0_467 : Index := 0#32
  ![v959.toNat, 0]

def k0_off206 (v957 : BitVec 32) : Fin 2 → Nat :=
  let c768_i32_466 : BitVec 32 := 768#32
  let v958 : BitVec 32 := Scalar.subi v957 c768_i32_466
  let v962 : Index := Scalar.indexCast v958
  let c16_468 : Index := 16#32
  ![v962.toNat, 16]

def k0_chk73 (v957 : BitVec 32) : Prop :=
  (∀ a, (k0_off205 v957) a + S1x16.size a ≤ S257x32.size a) ∧
  (∀ a, (k0_off206 v957) a + S1x16.size a ≤ S257x32.size a)
theorem k0_off205_inb : ∀ (v957 : BitVec 32) (k0_hw73 : k0_chk73 v957), ∀ a, (k0_off205 v957) a + S1x16.size a ≤ S257x32.size a := fun v957 k0_hw73 => k0_hw73.1
theorem k0_off206_inb : ∀ (v957 : BitVec 32) (k0_hw73 : k0_chk73 v957), ∀ a, (k0_off206 v957) a + S1x16.size a ≤ S257x32.size a := fun v957 k0_hw73 => k0_hw73.2

def k0_off207 (v966 : BitVec 32) : Fin 2 → Nat :=
  let c768_i32_469 : BitVec 32 := 768#32
  let v967 : BitVec 32 := Scalar.subi v966 c768_i32_469
  let v968 : Index := Scalar.indexCast v967
  let c0_470 : Index := 0#32
  ![v968.toNat, 0]

def k0_off208 (v966 : BitVec 32) : Fin 2 → Nat :=
  let c768_i32_469 : BitVec 32 := 768#32
  let v967 : BitVec 32 := Scalar.subi v966 c768_i32_469
  let v971 : Index := Scalar.indexCast v967
  let c16_471 : Index := 16#32
  ![v971.toNat, 16]

def k0_chk74 (v966 : BitVec 32) : Prop :=
  (∀ a, (k0_off207 v966) a + S1x16.size a ≤ S257x32.size a) ∧
  (∀ a, (k0_off208 v966) a + S1x16.size a ≤ S257x32.size a)
theorem k0_off207_inb : ∀ (v966 : BitVec 32) (k0_hw74 : k0_chk74 v966), ∀ a, (k0_off207 v966) a + S1x16.size a ≤ S257x32.size a := fun v966 k0_hw74 => k0_hw74.1
theorem k0_off208_inb : ∀ (v966 : BitVec 32) (k0_hw74 : k0_chk74 v966), ∀ a, (k0_off208 v966) a + S1x16.size a ≤ S257x32.size a := fun v966 k0_hw74 => k0_hw74.2

def k0_off209 (v975 : BitVec 32) : Fin 2 → Nat :=
  let c768_i32_472 : BitVec 32 := 768#32
  let v976 : BitVec 32 := Scalar.subi v975 c768_i32_472
  let v977 : Index := Scalar.indexCast v976
  let c0_473 : Index := 0#32
  ![v977.toNat, 0]

def k0_off210 (v975 : BitVec 32) : Fin 2 → Nat :=
  let c768_i32_472 : BitVec 32 := 768#32
  let v976 : BitVec 32 := Scalar.subi v975 c768_i32_472
  let v980 : Index := Scalar.indexCast v976
  let c16_474 : Index := 16#32
  ![v980.toNat, 16]

def k0_chk75 (v975 : BitVec 32) : Prop :=
  (∀ a, (k0_off209 v975) a + S1x16.size a ≤ S257x32.size a) ∧
  (∀ a, (k0_off210 v975) a + S1x16.size a ≤ S257x32.size a)
theorem k0_off209_inb : ∀ (v975 : BitVec 32) (k0_hw75 : k0_chk75 v975), ∀ a, (k0_off209 v975) a + S1x16.size a ≤ S257x32.size a := fun v975 k0_hw75 => k0_hw75.1
theorem k0_off210_inb : ∀ (v975 : BitVec 32) (k0_hw75 : k0_chk75 v975), ∀ a, (k0_off210 v975) a + S1x16.size a ≤ S257x32.size a := fun v975 k0_hw75 => k0_hw75.2

def k0_off211 (v52 : BitVec 32) (v105 : BitVec 32) (v158 : BitVec 32) (v211 : BitVec 32) (k0_t21 : Fin (k0_t21_loop v52 v105 v158 v211).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c0_i32_121 : BitVec 32 := 0#32
  let c1_i32_111 : BitVec 32 := 1#32
  let v212 : BitVec 32 := Scalar.subi v211 c1_i32_111
  let c2049_i32_112 : BitVec 32 := 2049#32
  let v213 : BitVec 32 := Scalar.minsi v212 c2049_i32_112
  let v214 : BitVec 32 := Scalar.subi v213 v198
  let c0_i32_113 : BitVec 32 := 0#32
  let v215 : BitVec 32 := Scalar.maxsi v214 c0_i32_113
  let c0_i32_115 : BitVec 32 := 0#32
  let v217 : BitVec 1 := Scalar.cmpi .sgt v215 c0_i32_115
  let v218 : BitVec 32 := Scalar.extui v217
  let c0_i32_116 : BitVec 32 := 0#32
  let v219 : BitVec 1 := Scalar.cmpi .slt v215 c0_i32_116
  let v220 : BitVec 32 := Scalar.extui v219
  let v221 : BitVec 32 := Scalar.subi v218 v220
  let c8_i32_114 : BitVec 32 := 8#32
  let c0_i32_117 : BitVec 32 := 0#32
  let v222 : BitVec 1 := Scalar.cmpi .sgt c8_i32_114 c0_i32_117
  let v223 : BitVec 32 := Scalar.extui v222
  let c0_i32_118 : BitVec 32 := 0#32
  let v224 : BitVec 1 := Scalar.cmpi .slt c8_i32_114 c0_i32_118
  let v225 : BitVec 32 := Scalar.extui v224
  let v226 : BitVec 32 := Scalar.subi v223 v225
  let v227 : BitVec 1 := Scalar.cmpi .ne v221 v226
  let v228 : BitVec 32 := Scalar.remsi v215 c8_i32_114
  let c0_i32_119 : BitVec 32 := 0#32
  let v229 : BitVec 1 := Scalar.cmpi .ne v228 c0_i32_119
  let v230 : BitVec 1 := Scalar.andi v227 v229
  let v216 : BitVec 32 := Scalar.divsi v215 c8_i32_114
  let c1_i32_120 : BitVec 32 := 1#32
  let v231 : BitVec 32 := Scalar.subi v216 c1_i32_120
  let v232 : BitVec 32 := Scalar.select v230 v231 v216
  let v233 : BitVec 32 := Scalar.subi v232 c0_i32_121
  let c1_i32_122 : BitVec 32 := 1#32
  let v235 : BitVec 32 := Scalar.divsi v233 c1_i32_122
  let v236 : BitVec 32 := Scalar.muli v235 c1_i32_122
  let v237 : BitVec 32 := Scalar.addi c0_i32_121 v236
  let c1_i32_124 : BitVec 32 := 1#32
  let arg19 : BitVec 32 := Scf.iv v237 c1_i32_124 k0_t21
  let c8_i32_444 : BitVec 32 := 8#32
  let v893 : BitVec 32 := Scalar.muli arg19 c8_i32_444
  let v894 : BitVec 32 := Scalar.addi v198 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off212 (v52 : BitVec 32) (v105 : BitVec 32) (v158 : BitVec 32) (v211 : BitVec 32) (k0_t21 : Fin (k0_t21_loop v52 v105 v158 v211).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c0_i32_121 : BitVec 32 := 0#32
  let c1_i32_111 : BitVec 32 := 1#32
  let v212 : BitVec 32 := Scalar.subi v211 c1_i32_111
  let c2049_i32_112 : BitVec 32 := 2049#32
  let v213 : BitVec 32 := Scalar.minsi v212 c2049_i32_112
  let v214 : BitVec 32 := Scalar.subi v213 v198
  let c0_i32_113 : BitVec 32 := 0#32
  let v215 : BitVec 32 := Scalar.maxsi v214 c0_i32_113
  let c0_i32_115 : BitVec 32 := 0#32
  let v217 : BitVec 1 := Scalar.cmpi .sgt v215 c0_i32_115
  let v218 : BitVec 32 := Scalar.extui v217
  let c0_i32_116 : BitVec 32 := 0#32
  let v219 : BitVec 1 := Scalar.cmpi .slt v215 c0_i32_116
  let v220 : BitVec 32 := Scalar.extui v219
  let v221 : BitVec 32 := Scalar.subi v218 v220
  let c8_i32_114 : BitVec 32 := 8#32
  let c0_i32_117 : BitVec 32 := 0#32
  let v222 : BitVec 1 := Scalar.cmpi .sgt c8_i32_114 c0_i32_117
  let v223 : BitVec 32 := Scalar.extui v222
  let c0_i32_118 : BitVec 32 := 0#32
  let v224 : BitVec 1 := Scalar.cmpi .slt c8_i32_114 c0_i32_118
  let v225 : BitVec 32 := Scalar.extui v224
  let v226 : BitVec 32 := Scalar.subi v223 v225
  let v227 : BitVec 1 := Scalar.cmpi .ne v221 v226
  let v228 : BitVec 32 := Scalar.remsi v215 c8_i32_114
  let c0_i32_119 : BitVec 32 := 0#32
  let v229 : BitVec 1 := Scalar.cmpi .ne v228 c0_i32_119
  let v230 : BitVec 1 := Scalar.andi v227 v229
  let v216 : BitVec 32 := Scalar.divsi v215 c8_i32_114
  let c1_i32_120 : BitVec 32 := 1#32
  let v231 : BitVec 32 := Scalar.subi v216 c1_i32_120
  let v232 : BitVec 32 := Scalar.select v230 v231 v216
  let v233 : BitVec 32 := Scalar.subi v232 c0_i32_121
  let c1_i32_122 : BitVec 32 := 1#32
  let v235 : BitVec 32 := Scalar.divsi v233 c1_i32_122
  let v236 : BitVec 32 := Scalar.muli v235 c1_i32_122
  let v237 : BitVec 32 := Scalar.addi c0_i32_121 v236
  let c1_i32_124 : BitVec 32 := 1#32
  let arg19 : BitVec 32 := Scf.iv v237 c1_i32_124 k0_t21
  let c8_i32_444 : BitVec 32 := 8#32
  let v893 : BitVec 32 := Scalar.muli arg19 c8_i32_444
  let v894 : BitVec 32 := Scalar.addi v198 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t22_loop (v52 : BitVec 32) (v105 : BitVec 32) (v158 : BitVec 32) (v211 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v214 : BitVec 32 := Scalar.subi v213 v198
  let c0_i32_113 : BitVec 32 := 0#32
  let v215 : BitVec 32 := Scalar.maxsi v214 c0_i32_113
  let c0_i32_115 : BitVec 32 := 0#32
  let v217 : BitVec 1 := Scalar.cmpi .sgt v215 c0_i32_115
  let v218 : BitVec 32 := Scalar.extui v217
  let c0_i32_116 : BitVec 32 := 0#32
  let v219 : BitVec 1 := Scalar.cmpi .slt v215 c0_i32_116
  let v220 : BitVec 32 := Scalar.extui v219
  let v221 : BitVec 32 := Scalar.subi v218 v220
  let c8_i32_114 : BitVec 32 := 8#32
  let c0_i32_117 : BitVec 32 := 0#32
  let v222 : BitVec 1 := Scalar.cmpi .sgt c8_i32_114 c0_i32_117
  let v223 : BitVec 32 := Scalar.extui v222
  let c0_i32_118 : BitVec 32 := 0#32
  let v224 : BitVec 1 := Scalar.cmpi .slt c8_i32_114 c0_i32_118
  let v225 : BitVec 32 := Scalar.extui v224
  let v226 : BitVec 32 := Scalar.subi v223 v225
  let v227 : BitVec 1 := Scalar.cmpi .ne v221 v226
  let v228 : BitVec 32 := Scalar.remsi v215 c8_i32_114
  let c0_i32_119 : BitVec 32 := 0#32
  let v229 : BitVec 1 := Scalar.cmpi .ne v228 c0_i32_119
  let v230 : BitVec 1 := Scalar.andi v227 v229
  let v216 : BitVec 32 := Scalar.divsi v215 c8_i32_114
  let c1_i32_120 : BitVec 32 := 1#32
  let v231 : BitVec 32 := Scalar.subi v216 c1_i32_120
  let v232 : BitVec 32 := Scalar.select v230 v231 v216
  let c8_i32_125 : BitVec 32 := 8#32
  let v240 : BitVec 32 := Scalar.muli v232 c8_i32_125
  let v241 : BitVec 32 := Scalar.addi v198 v240
  let v242 : BitVec 32 := Scalar.subi v213 v241
  let c1_i32_126 : BitVec 32 := 1#32
  let v244 : BitVec 32 := Scalar.divsi v242 c1_i32_126
  let v245 : BitVec 32 := Scalar.muli v244 c1_i32_126
  let v246 : BitVec 32 := Scalar.addi v241 v245
  let c1_i32_127 : BitVec 32 := 1#32
  ⟨v241, v246, c1_i32_127⟩
def k0_off213 (v52 : BitVec 32) (v105 : BitVec 32) (v158 : BitVec 32) (v211 : BitVec 32) (k0_t22 : Fin (k0_t22_loop v52 v105 v158 v211).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v214 : BitVec 32 := Scalar.subi v213 v198
  let c0_i32_113 : BitVec 32 := 0#32
  let v215 : BitVec 32 := Scalar.maxsi v214 c0_i32_113
  let c0_i32_115 : BitVec 32 := 0#32
  let v217 : BitVec 1 := Scalar.cmpi .sgt v215 c0_i32_115
  let v218 : BitVec 32 := Scalar.extui v217
  let c0_i32_116 : BitVec 32 := 0#32
  let v219 : BitVec 1 := Scalar.cmpi .slt v215 c0_i32_116
  let v220 : BitVec 32 := Scalar.extui v219
  let v221 : BitVec 32 := Scalar.subi v218 v220
  let c8_i32_114 : BitVec 32 := 8#32
  let c0_i32_117 : BitVec 32 := 0#32
  let v222 : BitVec 1 := Scalar.cmpi .sgt c8_i32_114 c0_i32_117
  let v223 : BitVec 32 := Scalar.extui v222
  let c0_i32_118 : BitVec 32 := 0#32
  let v224 : BitVec 1 := Scalar.cmpi .slt c8_i32_114 c0_i32_118
  let v225 : BitVec 32 := Scalar.extui v224
  let v226 : BitVec 32 := Scalar.subi v223 v225
  let v227 : BitVec 1 := Scalar.cmpi .ne v221 v226
  let v228 : BitVec 32 := Scalar.remsi v215 c8_i32_114
  let c0_i32_119 : BitVec 32 := 0#32
  let v229 : BitVec 1 := Scalar.cmpi .ne v228 c0_i32_119
  let v230 : BitVec 1 := Scalar.andi v227 v229
  let v216 : BitVec 32 := Scalar.divsi v215 c8_i32_114
  let c1_i32_120 : BitVec 32 := 1#32
  let v231 : BitVec 32 := Scalar.subi v216 c1_i32_120
  let v232 : BitVec 32 := Scalar.select v230 v231 v216
  let c8_i32_125 : BitVec 32 := 8#32
  let v240 : BitVec 32 := Scalar.muli v232 c8_i32_125
  let v241 : BitVec 32 := Scalar.addi v198 v240
  let c1_i32_127 : BitVec 32 := 1#32
  let arg19 : BitVec 32 := Scf.iv v241 c1_i32_127 k0_t22
  let c1_i32_444 : BitVec 32 := 1#32
  let v893 : BitVec 32 := Scalar.addi arg19 c1_i32_444
  let v894 : Index := Scalar.indexCast v893
  ![v894.toNat]
def k0_off214 (v897 : BitVec 32) : Fin 2 → Nat :=
  let c768_i32_445 : BitVec 32 := 768#32
  let v898 : BitVec 32 := Scalar.subi v897 c768_i32_445
  let v912 : Index := Scalar.indexCast v898
  let c0_450 : Index := 0#32
  ![v912.toNat, 0]

def k0_off215 (v897 : BitVec 32) : Fin 2 → Nat :=
  let c768_i32_445 : BitVec 32 := 768#32
  let v898 : BitVec 32 := Scalar.subi v897 c768_i32_445
  let v915 : Index := Scalar.indexCast v898
  let c16_451 : Index := 16#32
  ![v915.toNat, 16]

def k0_chk76 (v897 : BitVec 32) : Prop :=
  (∀ a, (k0_off214 v897) a + S1x16.size a ≤ S257x32.size a) ∧
  (∀ a, (k0_off215 v897) a + S1x16.size a ≤ S257x32.size a)
theorem k0_off214_inb : ∀ (v897 : BitVec 32) (k0_hw76 : k0_chk76 v897), ∀ a, (k0_off214 v897) a + S1x16.size a ≤ S257x32.size a := fun v897 k0_hw76 => k0_hw76.1
theorem k0_off215_inb : ∀ (v897 : BitVec 32) (k0_hw76 : k0_chk76 v897), ∀ a, (k0_off215 v897) a + S1x16.size a ≤ S257x32.size a := fun v897 k0_hw76 => k0_hw76.2

def k0_off216 (v52 : BitVec 32) (v105 : BitVec 32) (v158 : BitVec 32) (v211 : BitVec 32) (k0_t22 : Fin (k0_t22_loop v52 v105 v158 v211).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v214 : BitVec 32 := Scalar.subi v213 v198
  let c0_i32_113 : BitVec 32 := 0#32
  let v215 : BitVec 32 := Scalar.maxsi v214 c0_i32_113
  let c0_i32_115 : BitVec 32 := 0#32
  let v217 : BitVec 1 := Scalar.cmpi .sgt v215 c0_i32_115
  let v218 : BitVec 32 := Scalar.extui v217
  let c0_i32_116 : BitVec 32 := 0#32
  let v219 : BitVec 1 := Scalar.cmpi .slt v215 c0_i32_116
  let v220 : BitVec 32 := Scalar.extui v219
  let v221 : BitVec 32 := Scalar.subi v218 v220
  let c8_i32_114 : BitVec 32 := 8#32
  let c0_i32_117 : BitVec 32 := 0#32
  let v222 : BitVec 1 := Scalar.cmpi .sgt c8_i32_114 c0_i32_117
  let v223 : BitVec 32 := Scalar.extui v222
  let c0_i32_118 : BitVec 32 := 0#32
  let v224 : BitVec 1 := Scalar.cmpi .slt c8_i32_114 c0_i32_118
  let v225 : BitVec 32 := Scalar.extui v224
  let v226 : BitVec 32 := Scalar.subi v223 v225
  let v227 : BitVec 1 := Scalar.cmpi .ne v221 v226
  let v228 : BitVec 32 := Scalar.remsi v215 c8_i32_114
  let c0_i32_119 : BitVec 32 := 0#32
  let v229 : BitVec 1 := Scalar.cmpi .ne v228 c0_i32_119
  let v230 : BitVec 1 := Scalar.andi v227 v229
  let v216 : BitVec 32 := Scalar.divsi v215 c8_i32_114
  let c1_i32_120 : BitVec 32 := 1#32
  let v231 : BitVec 32 := Scalar.subi v216 c1_i32_120
  let v232 : BitVec 32 := Scalar.select v230 v231 v216
  let c8_i32_125 : BitVec 32 := 8#32
  let v240 : BitVec 32 := Scalar.muli v232 c8_i32_125
  let v241 : BitVec 32 := Scalar.addi v198 v240
  let c1_i32_127 : BitVec 32 := 1#32
  let arg19 : BitVec 32 := Scf.iv v241 c1_i32_127 k0_t22
  let c1_i32_452 : BitVec 32 := 1#32
  let v920 : BitVec 32 := Scalar.addi arg19 c1_i32_452
  let v921 : Index := Scalar.indexCast v920
  let c0_453 : Index := 0#32
  ![v921.toNat, 0]
def k0_off217 (v52 : BitVec 32) (v105 : BitVec 32) (v158 : BitVec 32) (v211 : BitVec 32) (k0_t22 : Fin (k0_t22_loop v52 v105 v158 v211).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v214 : BitVec 32 := Scalar.subi v213 v198
  let c0_i32_113 : BitVec 32 := 0#32
  let v215 : BitVec 32 := Scalar.maxsi v214 c0_i32_113
  let c0_i32_115 : BitVec 32 := 0#32
  let v217 : BitVec 1 := Scalar.cmpi .sgt v215 c0_i32_115
  let v218 : BitVec 32 := Scalar.extui v217
  let c0_i32_116 : BitVec 32 := 0#32
  let v219 : BitVec 1 := Scalar.cmpi .slt v215 c0_i32_116
  let v220 : BitVec 32 := Scalar.extui v219
  let v221 : BitVec 32 := Scalar.subi v218 v220
  let c8_i32_114 : BitVec 32 := 8#32
  let c0_i32_117 : BitVec 32 := 0#32
  let v222 : BitVec 1 := Scalar.cmpi .sgt c8_i32_114 c0_i32_117
  let v223 : BitVec 32 := Scalar.extui v222
  let c0_i32_118 : BitVec 32 := 0#32
  let v224 : BitVec 1 := Scalar.cmpi .slt c8_i32_114 c0_i32_118
  let v225 : BitVec 32 := Scalar.extui v224
  let v226 : BitVec 32 := Scalar.subi v223 v225
  let v227 : BitVec 1 := Scalar.cmpi .ne v221 v226
  let v228 : BitVec 32 := Scalar.remsi v215 c8_i32_114
  let c0_i32_119 : BitVec 32 := 0#32
  let v229 : BitVec 1 := Scalar.cmpi .ne v228 c0_i32_119
  let v230 : BitVec 1 := Scalar.andi v227 v229
  let v216 : BitVec 32 := Scalar.divsi v215 c8_i32_114
  let c1_i32_120 : BitVec 32 := 1#32
  let v231 : BitVec 32 := Scalar.subi v216 c1_i32_120
  let v232 : BitVec 32 := Scalar.select v230 v231 v216
  let c8_i32_125 : BitVec 32 := 8#32
  let v240 : BitVec 32 := Scalar.muli v232 c8_i32_125
  let v241 : BitVec 32 := Scalar.addi v198 v240
  let c1_i32_127 : BitVec 32 := 1#32
  let arg19 : BitVec 32 := Scf.iv v241 c1_i32_127 k0_t22
  let c1_i32_454 : BitVec 32 := 1#32
  let v925 : BitVec 32 := Scalar.addi arg19 c1_i32_454
  let v926 : Index := Scalar.indexCast v925
  let c16_455 : Index := 16#32
  ![v926.toNat, 16]
@[reducible] def k0_t23_loop (v52 : BitVec 32) (v105 : BitVec 32) (v158 : BitVec 32) (v211 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v214 : BitVec 32 := Scalar.subi v213 v198
  let c0_i32_113 : BitVec 32 := 0#32
  let v215 : BitVec 32 := Scalar.maxsi v214 c0_i32_113
  let c0_i32_115 : BitVec 32 := 0#32
  let v217 : BitVec 1 := Scalar.cmpi .sgt v215 c0_i32_115
  let v218 : BitVec 32 := Scalar.extui v217
  let c0_i32_116 : BitVec 32 := 0#32
  let v219 : BitVec 1 := Scalar.cmpi .slt v215 c0_i32_116
  let v220 : BitVec 32 := Scalar.extui v219
  let v221 : BitVec 32 := Scalar.subi v218 v220
  let c8_i32_114 : BitVec 32 := 8#32
  let c0_i32_117 : BitVec 32 := 0#32
  let v222 : BitVec 1 := Scalar.cmpi .sgt c8_i32_114 c0_i32_117
  let v223 : BitVec 32 := Scalar.extui v222
  let c0_i32_118 : BitVec 32 := 0#32
  let v224 : BitVec 1 := Scalar.cmpi .slt c8_i32_114 c0_i32_118
  let v225 : BitVec 32 := Scalar.extui v224
  let v226 : BitVec 32 := Scalar.subi v223 v225
  let v227 : BitVec 1 := Scalar.cmpi .ne v221 v226
  let v228 : BitVec 32 := Scalar.remsi v215 c8_i32_114
  let c0_i32_119 : BitVec 32 := 0#32
  let v229 : BitVec 1 := Scalar.cmpi .ne v228 c0_i32_119
  let v230 : BitVec 1 := Scalar.andi v227 v229
  let v216 : BitVec 32 := Scalar.divsi v215 c8_i32_114
  let c1_i32_120 : BitVec 32 := 1#32
  let v231 : BitVec 32 := Scalar.subi v216 c1_i32_120
  let v232 : BitVec 32 := Scalar.select v230 v231 v216
  let c8_i32_125 : BitVec 32 := 8#32
  let v240 : BitVec 32 := Scalar.muli v232 c8_i32_125
  let v241 : BitVec 32 := Scalar.addi v198 v240
  let v242 : BitVec 32 := Scalar.subi v213 v241
  let c1_i32_126 : BitVec 32 := 1#32
  let v244 : BitVec 32 := Scalar.divsi v242 c1_i32_126
  let v245 : BitVec 32 := Scalar.muli v244 c1_i32_126
  let v246 : BitVec 32 := Scalar.addi v241 v245
  let v243 : BitVec 32 := Scalar.addi v241 v242
  let c1_i32_128 : BitVec 32 := 1#32
  ⟨v246, v243, c1_i32_128⟩
def k0_off218 (v52 : BitVec 32) (v105 : BitVec 32) (v158 : BitVec 32) (v211 : BitVec 32) (k0_t23 : Fin (k0_t23_loop v52 v105 v158 v211).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v214 : BitVec 32 := Scalar.subi v213 v198
  let c0_i32_113 : BitVec 32 := 0#32
  let v215 : BitVec 32 := Scalar.maxsi v214 c0_i32_113
  let c0_i32_115 : BitVec 32 := 0#32
  let v217 : BitVec 1 := Scalar.cmpi .sgt v215 c0_i32_115
  let v218 : BitVec 32 := Scalar.extui v217
  let c0_i32_116 : BitVec 32 := 0#32
  let v219 : BitVec 1 := Scalar.cmpi .slt v215 c0_i32_116
  let v220 : BitVec 32 := Scalar.extui v219
  let v221 : BitVec 32 := Scalar.subi v218 v220
  let c8_i32_114 : BitVec 32 := 8#32
  let c0_i32_117 : BitVec 32 := 0#32
  let v222 : BitVec 1 := Scalar.cmpi .sgt c8_i32_114 c0_i32_117
  let v223 : BitVec 32 := Scalar.extui v222
  let c0_i32_118 : BitVec 32 := 0#32
  let v224 : BitVec 1 := Scalar.cmpi .slt c8_i32_114 c0_i32_118
  let v225 : BitVec 32 := Scalar.extui v224
  let v226 : BitVec 32 := Scalar.subi v223 v225
  let v227 : BitVec 1 := Scalar.cmpi .ne v221 v226
  let v228 : BitVec 32 := Scalar.remsi v215 c8_i32_114
  let c0_i32_119 : BitVec 32 := 0#32
  let v229 : BitVec 1 := Scalar.cmpi .ne v228 c0_i32_119
  let v230 : BitVec 1 := Scalar.andi v227 v229
  let v216 : BitVec 32 := Scalar.divsi v215 c8_i32_114
  let c1_i32_120 : BitVec 32 := 1#32
  let v231 : BitVec 32 := Scalar.subi v216 c1_i32_120
  let v232 : BitVec 32 := Scalar.select v230 v231 v216
  let c8_i32_125 : BitVec 32 := 8#32
  let v240 : BitVec 32 := Scalar.muli v232 c8_i32_125
  let v241 : BitVec 32 := Scalar.addi v198 v240
  let v242 : BitVec 32 := Scalar.subi v213 v241
  let c1_i32_126 : BitVec 32 := 1#32
  let v244 : BitVec 32 := Scalar.divsi v242 c1_i32_126
  let v245 : BitVec 32 := Scalar.muli v244 c1_i32_126
  let v246 : BitVec 32 := Scalar.addi v241 v245
  let c1_i32_128 : BitVec 32 := 1#32
  let arg19 : BitVec 32 := Scf.iv v246 c1_i32_128 k0_t23
  let c1_i32_444 : BitVec 32 := 1#32
  let v893 : BitVec 32 := Scalar.addi arg19 c1_i32_444
  let v894 : Index := Scalar.indexCast v893
  ![v894.toNat]
def k0_off219 (v897 : BitVec 32) : Fin 2 → Nat :=
  let c768_i32_445 : BitVec 32 := 768#32
  let v898 : BitVec 32 := Scalar.subi v897 c768_i32_445
  let v912 : Index := Scalar.indexCast v898
  let c0_450 : Index := 0#32
  ![v912.toNat, 0]

def k0_off220 (v897 : BitVec 32) : Fin 2 → Nat :=
  let c768_i32_445 : BitVec 32 := 768#32
  let v898 : BitVec 32 := Scalar.subi v897 c768_i32_445
  let v915 : Index := Scalar.indexCast v898
  let c16_451 : Index := 16#32
  ![v915.toNat, 16]

def k0_chk77 (v897 : BitVec 32) : Prop :=
  (∀ a, (k0_off219 v897) a + S1x16.size a ≤ S257x32.size a) ∧
  (∀ a, (k0_off220 v897) a + S1x16.size a ≤ S257x32.size a)
theorem k0_off219_inb : ∀ (v897 : BitVec 32) (k0_hw77 : k0_chk77 v897), ∀ a, (k0_off219 v897) a + S1x16.size a ≤ S257x32.size a := fun v897 k0_hw77 => k0_hw77.1
theorem k0_off220_inb : ∀ (v897 : BitVec 32) (k0_hw77 : k0_chk77 v897), ∀ a, (k0_off220 v897) a + S1x16.size a ≤ S257x32.size a := fun v897 k0_hw77 => k0_hw77.2

def k0_off221 (v52 : BitVec 32) (v105 : BitVec 32) (v158 : BitVec 32) (v211 : BitVec 32) (k0_t23 : Fin (k0_t23_loop v52 v105 v158 v211).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v214 : BitVec 32 := Scalar.subi v213 v198
  let c0_i32_113 : BitVec 32 := 0#32
  let v215 : BitVec 32 := Scalar.maxsi v214 c0_i32_113
  let c0_i32_115 : BitVec 32 := 0#32
  let v217 : BitVec 1 := Scalar.cmpi .sgt v215 c0_i32_115
  let v218 : BitVec 32 := Scalar.extui v217
  let c0_i32_116 : BitVec 32 := 0#32
  let v219 : BitVec 1 := Scalar.cmpi .slt v215 c0_i32_116
  let v220 : BitVec 32 := Scalar.extui v219
  let v221 : BitVec 32 := Scalar.subi v218 v220
  let c8_i32_114 : BitVec 32 := 8#32
  let c0_i32_117 : BitVec 32 := 0#32
  let v222 : BitVec 1 := Scalar.cmpi .sgt c8_i32_114 c0_i32_117
  let v223 : BitVec 32 := Scalar.extui v222
  let c0_i32_118 : BitVec 32 := 0#32
  let v224 : BitVec 1 := Scalar.cmpi .slt c8_i32_114 c0_i32_118
  let v225 : BitVec 32 := Scalar.extui v224
  let v226 : BitVec 32 := Scalar.subi v223 v225
  let v227 : BitVec 1 := Scalar.cmpi .ne v221 v226
  let v228 : BitVec 32 := Scalar.remsi v215 c8_i32_114
  let c0_i32_119 : BitVec 32 := 0#32
  let v229 : BitVec 1 := Scalar.cmpi .ne v228 c0_i32_119
  let v230 : BitVec 1 := Scalar.andi v227 v229
  let v216 : BitVec 32 := Scalar.divsi v215 c8_i32_114
  let c1_i32_120 : BitVec 32 := 1#32
  let v231 : BitVec 32 := Scalar.subi v216 c1_i32_120
  let v232 : BitVec 32 := Scalar.select v230 v231 v216
  let c8_i32_125 : BitVec 32 := 8#32
  let v240 : BitVec 32 := Scalar.muli v232 c8_i32_125
  let v241 : BitVec 32 := Scalar.addi v198 v240
  let v242 : BitVec 32 := Scalar.subi v213 v241
  let c1_i32_126 : BitVec 32 := 1#32
  let v244 : BitVec 32 := Scalar.divsi v242 c1_i32_126
  let v245 : BitVec 32 := Scalar.muli v244 c1_i32_126
  let v246 : BitVec 32 := Scalar.addi v241 v245
  let c1_i32_128 : BitVec 32 := 1#32
  let arg19 : BitVec 32 := Scf.iv v246 c1_i32_128 k0_t23
  let c1_i32_452 : BitVec 32 := 1#32
  let v920 : BitVec 32 := Scalar.addi arg19 c1_i32_452
  let v921 : Index := Scalar.indexCast v920
  let c0_453 : Index := 0#32
  ![v921.toNat, 0]
def k0_off222 (v52 : BitVec 32) (v105 : BitVec 32) (v158 : BitVec 32) (v211 : BitVec 32) (k0_t23 : Fin (k0_t23_loop v52 v105 v158 v211).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v214 : BitVec 32 := Scalar.subi v213 v198
  let c0_i32_113 : BitVec 32 := 0#32
  let v215 : BitVec 32 := Scalar.maxsi v214 c0_i32_113
  let c0_i32_115 : BitVec 32 := 0#32
  let v217 : BitVec 1 := Scalar.cmpi .sgt v215 c0_i32_115
  let v218 : BitVec 32 := Scalar.extui v217
  let c0_i32_116 : BitVec 32 := 0#32
  let v219 : BitVec 1 := Scalar.cmpi .slt v215 c0_i32_116
  let v220 : BitVec 32 := Scalar.extui v219
  let v221 : BitVec 32 := Scalar.subi v218 v220
  let c8_i32_114 : BitVec 32 := 8#32
  let c0_i32_117 : BitVec 32 := 0#32
  let v222 : BitVec 1 := Scalar.cmpi .sgt c8_i32_114 c0_i32_117
  let v223 : BitVec 32 := Scalar.extui v222
  let c0_i32_118 : BitVec 32 := 0#32
  let v224 : BitVec 1 := Scalar.cmpi .slt c8_i32_114 c0_i32_118
  let v225 : BitVec 32 := Scalar.extui v224
  let v226 : BitVec 32 := Scalar.subi v223 v225
  let v227 : BitVec 1 := Scalar.cmpi .ne v221 v226
  let v228 : BitVec 32 := Scalar.remsi v215 c8_i32_114
  let c0_i32_119 : BitVec 32 := 0#32
  let v229 : BitVec 1 := Scalar.cmpi .ne v228 c0_i32_119
  let v230 : BitVec 1 := Scalar.andi v227 v229
  let v216 : BitVec 32 := Scalar.divsi v215 c8_i32_114
  let c1_i32_120 : BitVec 32 := 1#32
  let v231 : BitVec 32 := Scalar.subi v216 c1_i32_120
  let v232 : BitVec 32 := Scalar.select v230 v231 v216
  let c8_i32_125 : BitVec 32 := 8#32
  let v240 : BitVec 32 := Scalar.muli v232 c8_i32_125
  let v241 : BitVec 32 := Scalar.addi v198 v240
  let v242 : BitVec 32 := Scalar.subi v213 v241
  let c1_i32_126 : BitVec 32 := 1#32
  let v244 : BitVec 32 := Scalar.divsi v242 c1_i32_126
  let v245 : BitVec 32 := Scalar.muli v244 c1_i32_126
  let v246 : BitVec 32 := Scalar.addi v241 v245
  let c1_i32_128 : BitVec 32 := 1#32
  let arg19 : BitVec 32 := Scf.iv v246 c1_i32_128 k0_t23
  let c1_i32_454 : BitVec 32 := 1#32
  let v925 : BitVec 32 := Scalar.addi arg19 c1_i32_454
  let v926 : Index := Scalar.indexCast v925
  let c16_455 : Index := 16#32
  ![v926.toNat, 16]

def k0_chk59 (v52 : BitVec 32) (v105 : BitVec 32) (v158 : BitVec 32) (v211 : BitVec 32) : Prop :=
  ((k0_t20_loop v52 v105 v158 v211).OK) ∧
  (∀ k0_t20 : Fin (k0_t20_loop v52 v105 v158 v211).trips, ∀ (r : Fin 2), ∀ a, (k0_off175 v52 v105 v158 v211 k0_t20 (BitVec.ofNat 32 (1 + r.val))) a + S16.size a ≤ S4112.size a) ∧
  (∀ k0_t20 : Fin (k0_t20_loop v52 v105 v158 v211).trips, ∀ (r : Fin 8), ∀ a, (k0_off192 v52 v105 v158 v211 k0_t20 (BitVec.ofNat 32 r.val)) a + S1x16.size a ≤ S2050x32.size a) ∧
  (∀ k0_t20 : Fin (k0_t20_loop v52 v105 v158 v211).trips, ∀ (r : Fin 8), ∀ a, (k0_off193 v52 v105 v158 v211 k0_t20 (BitVec.ofNat 32 r.val)) a + S1x16.size a ≤ S2050x32.size a) ∧
  ((k0_t21_loop v52 v105 v158 v211).OK) ∧
  (∀ k0_t21 : Fin (k0_t21_loop v52 v105 v158 v211).trips, ∀ (r : Fin 2), ∀ a, (k0_off194 v52 v105 v158 v211 k0_t21 (BitVec.ofNat 32 (1 + r.val))) a + S16.size a ≤ S4112.size a) ∧
  (∀ k0_t21 : Fin (k0_t21_loop v52 v105 v158 v211).trips, ∀ (r : Fin 8), ∀ a, (k0_off211 v52 v105 v158 v211 k0_t21 (BitVec.ofNat 32 r.val)) a + S1x16.size a ≤ S2050x32.size a) ∧
  (∀ k0_t21 : Fin (k0_t21_loop v52 v105 v158 v211).trips, ∀ (r : Fin 8), ∀ a, (k0_off212 v52 v105 v158 v211 k0_t21 (BitVec.ofNat 32 r.val)) a + S1x16.size a ≤ S2050x32.size a) ∧
  ((k0_t22_loop v52 v105 v158 v211).OK) ∧
  (∀ k0_t22 : Fin (k0_t22_loop v52 v105 v158 v211).trips, ∀ a, (k0_off213 v52 v105 v158 v211 k0_t22) a + S16.size a ≤ S4112.size a) ∧
  (∀ k0_t22 : Fin (k0_t22_loop v52 v105 v158 v211).trips, ∀ a, (k0_off216 v52 v105 v158 v211 k0_t22) a + S1x16.size a ≤ S2050x32.size a) ∧
  (∀ k0_t22 : Fin (k0_t22_loop v52 v105 v158 v211).trips, ∀ a, (k0_off217 v52 v105 v158 v211 k0_t22) a + S1x16.size a ≤ S2050x32.size a) ∧
  ((k0_t23_loop v52 v105 v158 v211).OK) ∧
  (∀ k0_t23 : Fin (k0_t23_loop v52 v105 v158 v211).trips, ∀ a, (k0_off218 v52 v105 v158 v211 k0_t23) a + S16.size a ≤ S4112.size a) ∧
  (∀ k0_t23 : Fin (k0_t23_loop v52 v105 v158 v211).trips, ∀ a, (k0_off221 v52 v105 v158 v211 k0_t23) a + S1x16.size a ≤ S2050x32.size a) ∧
  (∀ k0_t23 : Fin (k0_t23_loop v52 v105 v158 v211).trips, ∀ a, (k0_off222 v52 v105 v158 v211 k0_t23) a + S1x16.size a ≤ S2050x32.size a)
theorem k0_t20_ok : ∀ (v52 : BitVec 32) (v105 : BitVec 32) (v158 : BitVec 32) (v211 : BitVec 32) (k0_hw59 : k0_chk59 v52 v105 v158 v211), (k0_t20_loop v52 v105 v158 v211).OK := fun v52 v105 v158 v211 k0_hw59 => k0_hw59.1
theorem k0_off175_inb : ∀ (v52 : BitVec 32) (v105 : BitVec 32) (v158 : BitVec 32) (v211 : BitVec 32) (k0_hw59 : k0_chk59 v52 v105 v158 v211) (k0_t20 : Fin (k0_t20_loop v52 v105 v158 v211).trips), ∀ (r : Fin 2), ∀ a, (k0_off175 v52 v105 v158 v211 k0_t20 (BitVec.ofNat 32 (1 + r.val))) a + S16.size a ≤ S4112.size a := fun v52 v105 v158 v211 k0_hw59 k0_t20 r => k0_hw59.2.1 k0_t20 r
theorem k0_off192_inb : ∀ (v52 : BitVec 32) (v105 : BitVec 32) (v158 : BitVec 32) (v211 : BitVec 32) (k0_hw59 : k0_chk59 v52 v105 v158 v211) (k0_t20 : Fin (k0_t20_loop v52 v105 v158 v211).trips), ∀ (r : Fin 8), ∀ a, (k0_off192 v52 v105 v158 v211 k0_t20 (BitVec.ofNat 32 r.val)) a + S1x16.size a ≤ S2050x32.size a := fun v52 v105 v158 v211 k0_hw59 k0_t20 r => k0_hw59.2.2.1 k0_t20 r
theorem k0_off193_inb : ∀ (v52 : BitVec 32) (v105 : BitVec 32) (v158 : BitVec 32) (v211 : BitVec 32) (k0_hw59 : k0_chk59 v52 v105 v158 v211) (k0_t20 : Fin (k0_t20_loop v52 v105 v158 v211).trips), ∀ (r : Fin 8), ∀ a, (k0_off193 v52 v105 v158 v211 k0_t20 (BitVec.ofNat 32 r.val)) a + S1x16.size a ≤ S2050x32.size a := fun v52 v105 v158 v211 k0_hw59 k0_t20 r => k0_hw59.2.2.2.1 k0_t20 r
theorem k0_t21_ok : ∀ (v52 : BitVec 32) (v105 : BitVec 32) (v158 : BitVec 32) (v211 : BitVec 32) (k0_hw59 : k0_chk59 v52 v105 v158 v211), (k0_t21_loop v52 v105 v158 v211).OK := fun v52 v105 v158 v211 k0_hw59 => k0_hw59.2.2.2.2.1
theorem k0_off194_inb : ∀ (v52 : BitVec 32) (v105 : BitVec 32) (v158 : BitVec 32) (v211 : BitVec 32) (k0_hw59 : k0_chk59 v52 v105 v158 v211) (k0_t21 : Fin (k0_t21_loop v52 v105 v158 v211).trips), ∀ (r : Fin 2), ∀ a, (k0_off194 v52 v105 v158 v211 k0_t21 (BitVec.ofNat 32 (1 + r.val))) a + S16.size a ≤ S4112.size a := fun v52 v105 v158 v211 k0_hw59 k0_t21 r => k0_hw59.2.2.2.2.2.1 k0_t21 r
theorem k0_off211_inb : ∀ (v52 : BitVec 32) (v105 : BitVec 32) (v158 : BitVec 32) (v211 : BitVec 32) (k0_hw59 : k0_chk59 v52 v105 v158 v211) (k0_t21 : Fin (k0_t21_loop v52 v105 v158 v211).trips), ∀ (r : Fin 8), ∀ a, (k0_off211 v52 v105 v158 v211 k0_t21 (BitVec.ofNat 32 r.val)) a + S1x16.size a ≤ S2050x32.size a := fun v52 v105 v158 v211 k0_hw59 k0_t21 r => k0_hw59.2.2.2.2.2.2.1 k0_t21 r
theorem k0_off212_inb : ∀ (v52 : BitVec 32) (v105 : BitVec 32) (v158 : BitVec 32) (v211 : BitVec 32) (k0_hw59 : k0_chk59 v52 v105 v158 v211) (k0_t21 : Fin (k0_t21_loop v52 v105 v158 v211).trips), ∀ (r : Fin 8), ∀ a, (k0_off212 v52 v105 v158 v211 k0_t21 (BitVec.ofNat 32 r.val)) a + S1x16.size a ≤ S2050x32.size a := fun v52 v105 v158 v211 k0_hw59 k0_t21 r => k0_hw59.2.2.2.2.2.2.2.1 k0_t21 r
theorem k0_t22_ok : ∀ (v52 : BitVec 32) (v105 : BitVec 32) (v158 : BitVec 32) (v211 : BitVec 32) (k0_hw59 : k0_chk59 v52 v105 v158 v211), (k0_t22_loop v52 v105 v158 v211).OK := fun v52 v105 v158 v211 k0_hw59 => k0_hw59.2.2.2.2.2.2.2.2.1
theorem k0_off213_inb : ∀ (v52 : BitVec 32) (v105 : BitVec 32) (v158 : BitVec 32) (v211 : BitVec 32) (k0_hw59 : k0_chk59 v52 v105 v158 v211) (k0_t22 : Fin (k0_t22_loop v52 v105 v158 v211).trips), ∀ a, (k0_off213 v52 v105 v158 v211 k0_t22) a + S16.size a ≤ S4112.size a := fun v52 v105 v158 v211 k0_hw59 k0_t22 => k0_hw59.2.2.2.2.2.2.2.2.2.1 k0_t22
theorem k0_off216_inb : ∀ (v52 : BitVec 32) (v105 : BitVec 32) (v158 : BitVec 32) (v211 : BitVec 32) (k0_hw59 : k0_chk59 v52 v105 v158 v211) (k0_t22 : Fin (k0_t22_loop v52 v105 v158 v211).trips), ∀ a, (k0_off216 v52 v105 v158 v211 k0_t22) a + S1x16.size a ≤ S2050x32.size a := fun v52 v105 v158 v211 k0_hw59 k0_t22 => k0_hw59.2.2.2.2.2.2.2.2.2.2.1 k0_t22
theorem k0_off217_inb : ∀ (v52 : BitVec 32) (v105 : BitVec 32) (v158 : BitVec 32) (v211 : BitVec 32) (k0_hw59 : k0_chk59 v52 v105 v158 v211) (k0_t22 : Fin (k0_t22_loop v52 v105 v158 v211).trips), ∀ a, (k0_off217 v52 v105 v158 v211 k0_t22) a + S1x16.size a ≤ S2050x32.size a := fun v52 v105 v158 v211 k0_hw59 k0_t22 => k0_hw59.2.2.2.2.2.2.2.2.2.2.2.1 k0_t22
theorem k0_t23_ok : ∀ (v52 : BitVec 32) (v105 : BitVec 32) (v158 : BitVec 32) (v211 : BitVec 32) (k0_hw59 : k0_chk59 v52 v105 v158 v211), (k0_t23_loop v52 v105 v158 v211).OK := fun v52 v105 v158 v211 k0_hw59 => k0_hw59.2.2.2.2.2.2.2.2.2.2.2.2.1
theorem k0_off218_inb : ∀ (v52 : BitVec 32) (v105 : BitVec 32) (v158 : BitVec 32) (v211 : BitVec 32) (k0_hw59 : k0_chk59 v52 v105 v158 v211) (k0_t23 : Fin (k0_t23_loop v52 v105 v158 v211).trips), ∀ a, (k0_off218 v52 v105 v158 v211 k0_t23) a + S16.size a ≤ S4112.size a := fun v52 v105 v158 v211 k0_hw59 k0_t23 => k0_hw59.2.2.2.2.2.2.2.2.2.2.2.2.2.1 k0_t23
theorem k0_off221_inb : ∀ (v52 : BitVec 32) (v105 : BitVec 32) (v158 : BitVec 32) (v211 : BitVec 32) (k0_hw59 : k0_chk59 v52 v105 v158 v211) (k0_t23 : Fin (k0_t23_loop v52 v105 v158 v211).trips), ∀ a, (k0_off221 v52 v105 v158 v211 k0_t23) a + S1x16.size a ≤ S2050x32.size a := fun v52 v105 v158 v211 k0_hw59 k0_t23 => k0_hw59.2.2.2.2.2.2.2.2.2.2.2.2.2.2.1 k0_t23
theorem k0_off222_inb : ∀ (v52 : BitVec 32) (v105 : BitVec 32) (v158 : BitVec 32) (v211 : BitVec 32) (k0_hw59 : k0_chk59 v52 v105 v158 v211) (k0_t23 : Fin (k0_t23_loop v52 v105 v158 v211).trips), ∀ a, (k0_off222 v52 v105 v158 v211 k0_t23) a + S1x16.size a ≤ S2050x32.size a := fun v52 v105 v158 v211 k0_hw59 k0_t23 => k0_hw59.2.2.2.2.2.2.2.2.2.2.2.2.2.2.2 k0_t23

def k0_off223 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c1024_i32_129 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 1024, v3.toNat]
@[reducible] def k0_t24_loop : Scf.Loop 32 :=
  let c0_i32_131 : BitVec 32 := 0#32
  let c16_i32_132 : BitVec 32 := 16#32
  let v256 : BitVec 32 := Scalar.addi c0_i32_131 c16_i32_132
  let c1_i32_133 : BitVec 32 := 1#32
  ⟨c0_i32_131, v256, c1_i32_133⟩
def k0_off224 (k0_t24 : Fin k0_t24_loop.trips) (c0_i32_445 : BitVec 32) : Fin 2 → Nat :=
  let c0_i32_131 : BitVec 32 := 0#32
  let c1_i32_133 : BitVec 32 := 1#32
  let arg19 : BitVec 32 := Scf.iv c0_i32_131 c1_i32_133 k0_t24
  let c16_i32_444 : BitVec 32 := 16#32
  let v893 : BitVec 32 := Scalar.muli arg19 c16_i32_444
  let v894 : BitVec 32 := Scalar.addi v893 c0_i32_445
  let v895 : Index := Scalar.indexCast v894
  let c0_446 : Index := 0#32
  ![v895.toNat, 0]
def k0_off225 (k0_t24 : Fin k0_t24_loop.trips) (c0_i32_447 : BitVec 32) : Fin 2 → Nat :=
  let c0_i32_131 : BitVec 32 := 0#32
  let c1_i32_133 : BitVec 32 := 1#32
  let arg19 : BitVec 32 := Scf.iv c0_i32_131 c1_i32_133 k0_t24
  let c16_i32_444 : BitVec 32 := 16#32
  let v893 : BitVec 32 := Scalar.muli arg19 c16_i32_444
  let v898 : BitVec 32 := Scalar.addi v893 c0_i32_447
  let v899 : Index := Scalar.indexCast v898
  let c16_448 : Index := 16#32
  ![v899.toNat, 16]
def k0_off226 (k0_t24 : Fin k0_t24_loop.trips) (c0_i32_449 : BitVec 32) : Fin 2 → Nat :=
  let c0_i32_131 : BitVec 32 := 0#32
  let c1_i32_133 : BitVec 32 := 1#32
  let arg19 : BitVec 32 := Scf.iv c0_i32_131 c1_i32_133 k0_t24
  let c16_i32_444 : BitVec 32 := 16#32
  let v893 : BitVec 32 := Scalar.muli arg19 c16_i32_444
  let v902 : BitVec 32 := Scalar.addi v893 c0_i32_449
  let c1_i32_450 : BitVec 32 := 1#32
  let v903 : BitVec 32 := Scalar.addi v902 c1_i32_450
  let v904 : Index := Scalar.indexCast v903
  let c0_451 : Index := 0#32
  ![v904.toNat, 0]
def k0_off227 (k0_t24 : Fin k0_t24_loop.trips) (c0_i32_452 : BitVec 32) : Fin 2 → Nat :=
  let c0_i32_131 : BitVec 32 := 0#32
  let c1_i32_133 : BitVec 32 := 1#32
  let arg19 : BitVec 32 := Scf.iv c0_i32_131 c1_i32_133 k0_t24
  let c16_i32_444 : BitVec 32 := 16#32
  let v893 : BitVec 32 := Scalar.muli arg19 c16_i32_444
  let v906 : BitVec 32 := Scalar.addi v893 c0_i32_452
  let c1_i32_453 : BitVec 32 := 1#32
  let v907 : BitVec 32 := Scalar.addi v906 c1_i32_453
  let v908 : Index := Scalar.indexCast v907
  let c16_454 : Index := 16#32
  ![v908.toNat, 16]
def k0_off228 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c1536_i32 : BitVec 32 := 1536#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 1536, v3.toNat]
@[reducible] def k0_t25_loop (v52 : BitVec 32) (v105 : BitVec 32) (v158 : BitVec 32) (v211 : BitVec 32) (v264 : BitVec 32) : Scf.Loop 32 :=
  let c0_i32_146 : BitVec 32 := 0#32
  let c1_i32_136 : BitVec 32 := 1#32
  let v265 : BitVec 32 := Scalar.subi v264 c1_i32_136
  let c2049_i32_137 : BitVec 32 := 2049#32
  let v266 : BitVec 32 := Scalar.minsi v265 c2049_i32_137
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let v267 : BitVec 32 := Scalar.subi v266 v251
  let c0_i32_138 : BitVec 32 := 0#32
  let v268 : BitVec 32 := Scalar.maxsi v267 c0_i32_138
  let c0_i32_140 : BitVec 32 := 0#32
  let v270 : BitVec 1 := Scalar.cmpi .sgt v268 c0_i32_140
  let v271 : BitVec 32 := Scalar.extui v270
  let c0_i32_141 : BitVec 32 := 0#32
  let v272 : BitVec 1 := Scalar.cmpi .slt v268 c0_i32_141
  let v273 : BitVec 32 := Scalar.extui v272
  let v274 : BitVec 32 := Scalar.subi v271 v273
  let c8_i32_139 : BitVec 32 := 8#32
  let c0_i32_142 : BitVec 32 := 0#32
  let v275 : BitVec 1 := Scalar.cmpi .sgt c8_i32_139 c0_i32_142
  let v276 : BitVec 32 := Scalar.extui v275
  let c0_i32_143 : BitVec 32 := 0#32
  let v277 : BitVec 1 := Scalar.cmpi .slt c8_i32_139 c0_i32_143
  let v278 : BitVec 32 := Scalar.extui v277
  let v279 : BitVec 32 := Scalar.subi v276 v278
  let v280 : BitVec 1 := Scalar.cmpi .ne v274 v279
  let v281 : BitVec 32 := Scalar.remsi v268 c8_i32_139
  let c0_i32_144 : BitVec 32 := 0#32
  let v282 : BitVec 1 := Scalar.cmpi .ne v281 c0_i32_144
  let v283 : BitVec 1 := Scalar.andi v280 v282
  let v269 : BitVec 32 := Scalar.divsi v268 c8_i32_139
  let c1_i32_145 : BitVec 32 := 1#32
  let v284 : BitVec 32 := Scalar.subi v269 c1_i32_145
  let v285 : BitVec 32 := Scalar.select v283 v284 v269
  let v286 : BitVec 32 := Scalar.subi v285 c0_i32_146
  let c1_i32_147 : BitVec 32 := 1#32
  let v288 : BitVec 32 := Scalar.divsi v286 c1_i32_147
  let v289 : BitVec 32 := Scalar.muli v288 c1_i32_147
  let v290 : BitVec 32 := Scalar.addi c0_i32_146 v289
  let c1_i32_148 : BitVec 32 := 1#32
  ⟨c0_i32_146, v290, c1_i32_148⟩

def k0_off229 (v52 : BitVec 32) (v105 : BitVec 32) (v158 : BitVec 32) (v211 : BitVec 32) (v264 : BitVec 32) (k0_t25 : Fin (k0_t25_loop v52 v105 v158 v211 v264).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c0_i32_146 : BitVec 32 := 0#32
  let c1_i32_148 : BitVec 32 := 1#32
  let arg19 : BitVec 32 := Scf.iv c0_i32_146 c1_i32_148 k0_t25
  let c8_i32_444 : BitVec 32 := 8#32
  let v893 : BitVec 32 := Scalar.muli arg19 c8_i32_444
  let v894 : BitVec 32 := Scalar.addi v251 v893
  let v895 : BitVec 32 := Scalar.addi v894 c1_i32_445
  let v896 : Index := Scalar.indexCast v895
  ![v896.toNat]
def k0_off230 (v912 : BitVec 32) : Fin 2 → Nat :=
  let c1024_i32_451 : BitVec 32 := 1024#32
  let v913 : BitVec 32 := Scalar.subi v912 c1024_i32_451
  let v914 : Index := Scalar.indexCast v913
  let c0_452 : Index := 0#32
  ![v914.toNat, 0]

def k0_off231 (v912 : BitVec 32) : Fin 2 → Nat :=
  let c1024_i32_451 : BitVec 32 := 1024#32
  let v913 : BitVec 32 := Scalar.subi v912 c1024_i32_451
  let v917 : Index := Scalar.indexCast v913
  let c16_453 : Index := 16#32
  ![v917.toNat, 16]

def k0_chk79 (v912 : BitVec 32) : Prop :=
  (∀ a, (k0_off230 v912) a + S1x16.size a ≤ S257x32.size a) ∧
  (∀ a, (k0_off231 v912) a + S1x16.size a ≤ S257x32.size a)
theorem k0_off230_inb : ∀ (v912 : BitVec 32) (k0_hw79 : k0_chk79 v912), ∀ a, (k0_off230 v912) a + S1x16.size a ≤ S257x32.size a := fun v912 k0_hw79 => k0_hw79.1
theorem k0_off231_inb : ∀ (v912 : BitVec 32) (k0_hw79 : k0_chk79 v912), ∀ a, (k0_off231 v912) a + S1x16.size a ≤ S257x32.size a := fun v912 k0_hw79 => k0_hw79.2

def k0_off232 (v921 : BitVec 32) : Fin 2 → Nat :=
  let c1024_i32_454 : BitVec 32 := 1024#32
  let v922 : BitVec 32 := Scalar.subi v921 c1024_i32_454
  let v923 : Index := Scalar.indexCast v922
  let c0_455 : Index := 0#32
  ![v923.toNat, 0]

def k0_off233 (v921 : BitVec 32) : Fin 2 → Nat :=
  let c1024_i32_454 : BitVec 32 := 1024#32
  let v922 : BitVec 32 := Scalar.subi v921 c1024_i32_454
  let v926 : Index := Scalar.indexCast v922
  let c16_456 : Index := 16#32
  ![v926.toNat, 16]

def k0_chk80 (v921 : BitVec 32) : Prop :=
  (∀ a, (k0_off232 v921) a + S1x16.size a ≤ S257x32.size a) ∧
  (∀ a, (k0_off233 v921) a + S1x16.size a ≤ S257x32.size a)
theorem k0_off232_inb : ∀ (v921 : BitVec 32) (k0_hw80 : k0_chk80 v921), ∀ a, (k0_off232 v921) a + S1x16.size a ≤ S257x32.size a := fun v921 k0_hw80 => k0_hw80.1
theorem k0_off233_inb : ∀ (v921 : BitVec 32) (k0_hw80 : k0_chk80 v921), ∀ a, (k0_off233 v921) a + S1x16.size a ≤ S257x32.size a := fun v921 k0_hw80 => k0_hw80.2

def k0_off234 (v930 : BitVec 32) : Fin 2 → Nat :=
  let c1024_i32_457 : BitVec 32 := 1024#32
  let v931 : BitVec 32 := Scalar.subi v930 c1024_i32_457
  let v932 : Index := Scalar.indexCast v931
  let c0_458 : Index := 0#32
  ![v932.toNat, 0]

def k0_off235 (v930 : BitVec 32) : Fin 2 → Nat :=
  let c1024_i32_457 : BitVec 32 := 1024#32
  let v931 : BitVec 32 := Scalar.subi v930 c1024_i32_457
  let v935 : Index := Scalar.indexCast v931
  let c16_459 : Index := 16#32
  ![v935.toNat, 16]

def k0_chk81 (v930 : BitVec 32) : Prop :=
  (∀ a, (k0_off234 v930) a + S1x16.size a ≤ S257x32.size a) ∧
  (∀ a, (k0_off235 v930) a + S1x16.size a ≤ S257x32.size a)
theorem k0_off234_inb : ∀ (v930 : BitVec 32) (k0_hw81 : k0_chk81 v930), ∀ a, (k0_off234 v930) a + S1x16.size a ≤ S257x32.size a := fun v930 k0_hw81 => k0_hw81.1
theorem k0_off235_inb : ∀ (v930 : BitVec 32) (k0_hw81 : k0_chk81 v930), ∀ a, (k0_off235 v930) a + S1x16.size a ≤ S257x32.size a := fun v930 k0_hw81 => k0_hw81.2

def k0_off236 (v939 : BitVec 32) : Fin 2 → Nat :=
  let c1024_i32_460 : BitVec 32 := 1024#32
  let v940 : BitVec 32 := Scalar.subi v939 c1024_i32_460
  let v941 : Index := Scalar.indexCast v940
  let c0_461 : Index := 0#32
  ![v941.toNat, 0]

def k0_off237 (v939 : BitVec 32) : Fin 2 → Nat :=
  let c1024_i32_460 : BitVec 32 := 1024#32
  let v940 : BitVec 32 := Scalar.subi v939 c1024_i32_460
  let v944 : Index := Scalar.indexCast v940
  let c16_462 : Index := 16#32
  ![v944.toNat, 16]

def k0_chk82 (v939 : BitVec 32) : Prop :=
  (∀ a, (k0_off236 v939) a + S1x16.size a ≤ S257x32.size a) ∧
  (∀ a, (k0_off237 v939) a + S1x16.size a ≤ S257x32.size a)
theorem k0_off236_inb : ∀ (v939 : BitVec 32) (k0_hw82 : k0_chk82 v939), ∀ a, (k0_off236 v939) a + S1x16.size a ≤ S257x32.size a := fun v939 k0_hw82 => k0_hw82.1
theorem k0_off237_inb : ∀ (v939 : BitVec 32) (k0_hw82 : k0_chk82 v939), ∀ a, (k0_off237 v939) a + S1x16.size a ≤ S257x32.size a := fun v939 k0_hw82 => k0_hw82.2

def k0_off238 (v948 : BitVec 32) : Fin 2 → Nat :=
  let c1024_i32_463 : BitVec 32 := 1024#32
  let v949 : BitVec 32 := Scalar.subi v948 c1024_i32_463
  let v950 : Index := Scalar.indexCast v949
  let c0_464 : Index := 0#32
  ![v950.toNat, 0]

def k0_off239 (v948 : BitVec 32) : Fin 2 → Nat :=
  let c1024_i32_463 : BitVec 32 := 1024#32
  let v949 : BitVec 32 := Scalar.subi v948 c1024_i32_463
  let v953 : Index := Scalar.indexCast v949
  let c16_465 : Index := 16#32
  ![v953.toNat, 16]

def k0_chk83 (v948 : BitVec 32) : Prop :=
  (∀ a, (k0_off238 v948) a + S1x16.size a ≤ S257x32.size a) ∧
  (∀ a, (k0_off239 v948) a + S1x16.size a ≤ S257x32.size a)
theorem k0_off238_inb : ∀ (v948 : BitVec 32) (k0_hw83 : k0_chk83 v948), ∀ a, (k0_off238 v948) a + S1x16.size a ≤ S257x32.size a := fun v948 k0_hw83 => k0_hw83.1
theorem k0_off239_inb : ∀ (v948 : BitVec 32) (k0_hw83 : k0_chk83 v948), ∀ a, (k0_off239 v948) a + S1x16.size a ≤ S257x32.size a := fun v948 k0_hw83 => k0_hw83.2

def k0_off240 (v957 : BitVec 32) : Fin 2 → Nat :=
  let c1024_i32_466 : BitVec 32 := 1024#32
  let v958 : BitVec 32 := Scalar.subi v957 c1024_i32_466
  let v959 : Index := Scalar.indexCast v958
  let c0_467 : Index := 0#32
  ![v959.toNat, 0]

def k0_off241 (v957 : BitVec 32) : Fin 2 → Nat :=
  let c1024_i32_466 : BitVec 32 := 1024#32
  let v958 : BitVec 32 := Scalar.subi v957 c1024_i32_466
  let v962 : Index := Scalar.indexCast v958
  let c16_468 : Index := 16#32
  ![v962.toNat, 16]

def k0_chk84 (v957 : BitVec 32) : Prop :=
  (∀ a, (k0_off240 v957) a + S1x16.size a ≤ S257x32.size a) ∧
  (∀ a, (k0_off241 v957) a + S1x16.size a ≤ S257x32.size a)
theorem k0_off240_inb : ∀ (v957 : BitVec 32) (k0_hw84 : k0_chk84 v957), ∀ a, (k0_off240 v957) a + S1x16.size a ≤ S257x32.size a := fun v957 k0_hw84 => k0_hw84.1
theorem k0_off241_inb : ∀ (v957 : BitVec 32) (k0_hw84 : k0_chk84 v957), ∀ a, (k0_off241 v957) a + S1x16.size a ≤ S257x32.size a := fun v957 k0_hw84 => k0_hw84.2

def k0_off242 (v966 : BitVec 32) : Fin 2 → Nat :=
  let c1024_i32_469 : BitVec 32 := 1024#32
  let v967 : BitVec 32 := Scalar.subi v966 c1024_i32_469
  let v968 : Index := Scalar.indexCast v967
  let c0_470 : Index := 0#32
  ![v968.toNat, 0]

def k0_off243 (v966 : BitVec 32) : Fin 2 → Nat :=
  let c1024_i32_469 : BitVec 32 := 1024#32
  let v967 : BitVec 32 := Scalar.subi v966 c1024_i32_469
  let v971 : Index := Scalar.indexCast v967
  let c16_471 : Index := 16#32
  ![v971.toNat, 16]

def k0_chk85 (v966 : BitVec 32) : Prop :=
  (∀ a, (k0_off242 v966) a + S1x16.size a ≤ S257x32.size a) ∧
  (∀ a, (k0_off243 v966) a + S1x16.size a ≤ S257x32.size a)
theorem k0_off242_inb : ∀ (v966 : BitVec 32) (k0_hw85 : k0_chk85 v966), ∀ a, (k0_off242 v966) a + S1x16.size a ≤ S257x32.size a := fun v966 k0_hw85 => k0_hw85.1
theorem k0_off243_inb : ∀ (v966 : BitVec 32) (k0_hw85 : k0_chk85 v966), ∀ a, (k0_off243 v966) a + S1x16.size a ≤ S257x32.size a := fun v966 k0_hw85 => k0_hw85.2

def k0_off244 (v975 : BitVec 32) : Fin 2 → Nat :=
  let c1024_i32_472 : BitVec 32 := 1024#32
  let v976 : BitVec 32 := Scalar.subi v975 c1024_i32_472
  let v977 : Index := Scalar.indexCast v976
  let c0_473 : Index := 0#32
  ![v977.toNat, 0]

def k0_off245 (v975 : BitVec 32) : Fin 2 → Nat :=
  let c1024_i32_472 : BitVec 32 := 1024#32
  let v976 : BitVec 32 := Scalar.subi v975 c1024_i32_472
  let v980 : Index := Scalar.indexCast v976
  let c16_474 : Index := 16#32
  ![v980.toNat, 16]

def k0_chk86 (v975 : BitVec 32) : Prop :=
  (∀ a, (k0_off244 v975) a + S1x16.size a ≤ S257x32.size a) ∧
  (∀ a, (k0_off245 v975) a + S1x16.size a ≤ S257x32.size a)
theorem k0_off244_inb : ∀ (v975 : BitVec 32) (k0_hw86 : k0_chk86 v975), ∀ a, (k0_off244 v975) a + S1x16.size a ≤ S257x32.size a := fun v975 k0_hw86 => k0_hw86.1
theorem k0_off245_inb : ∀ (v975 : BitVec 32) (k0_hw86 : k0_chk86 v975), ∀ a, (k0_off245 v975) a + S1x16.size a ≤ S257x32.size a := fun v975 k0_hw86 => k0_hw86.2

def k0_off246 (v52 : BitVec 32) (v105 : BitVec 32) (v158 : BitVec 32) (v211 : BitVec 32) (v264 : BitVec 32) (k0_t25 : Fin (k0_t25_loop v52 v105 v158 v211 v264).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c0_i32_146 : BitVec 32 := 0#32
  let c1_i32_148 : BitVec 32 := 1#32
  let arg19 : BitVec 32 := Scf.iv c0_i32_146 c1_i32_148 k0_t25
  let c8_i32_444 : BitVec 32 := 8#32
  let v893 : BitVec 32 := Scalar.muli arg19 c8_i32_444
  let v894 : BitVec 32 := Scalar.addi v251 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off247 (v52 : BitVec 32) (v105 : BitVec 32) (v158 : BitVec 32) (v211 : BitVec 32) (v264 : BitVec 32) (k0_t25 : Fin (k0_t25_loop v52 v105 v158 v211 v264).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c0_i32_146 : BitVec 32 := 0#32
  let c1_i32_148 : BitVec 32 := 1#32
  let arg19 : BitVec 32 := Scf.iv c0_i32_146 c1_i32_148 k0_t25
  let c8_i32_444 : BitVec 32 := 8#32
  let v893 : BitVec 32 := Scalar.muli arg19 c8_i32_444
  let v894 : BitVec 32 := Scalar.addi v251 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t26_loop (v52 : BitVec 32) (v105 : BitVec 32) (v158 : BitVec 32) (v211 : BitVec 32) (v264 : BitVec 32) : Scf.Loop 32 :=
  let c0_i32_146 : BitVec 32 := 0#32
  let c1_i32_136 : BitVec 32 := 1#32
  let v265 : BitVec 32 := Scalar.subi v264 c1_i32_136
  let c2049_i32_137 : BitVec 32 := 2049#32
  let v266 : BitVec 32 := Scalar.minsi v265 c2049_i32_137
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let v267 : BitVec 32 := Scalar.subi v266 v251
  let c0_i32_138 : BitVec 32 := 0#32
  let v268 : BitVec 32 := Scalar.maxsi v267 c0_i32_138
  let c0_i32_140 : BitVec 32 := 0#32
  let v270 : BitVec 1 := Scalar.cmpi .sgt v268 c0_i32_140
  let v271 : BitVec 32 := Scalar.extui v270
  let c0_i32_141 : BitVec 32 := 0#32
  let v272 : BitVec 1 := Scalar.cmpi .slt v268 c0_i32_141
  let v273 : BitVec 32 := Scalar.extui v272
  let v274 : BitVec 32 := Scalar.subi v271 v273
  let c8_i32_139 : BitVec 32 := 8#32
  let c0_i32_142 : BitVec 32 := 0#32
  let v275 : BitVec 1 := Scalar.cmpi .sgt c8_i32_139 c0_i32_142
  let v276 : BitVec 32 := Scalar.extui v275
  let c0_i32_143 : BitVec 32 := 0#32
  let v277 : BitVec 1 := Scalar.cmpi .slt c8_i32_139 c0_i32_143
  let v278 : BitVec 32 := Scalar.extui v277
  let v279 : BitVec 32 := Scalar.subi v276 v278
  let v280 : BitVec 1 := Scalar.cmpi .ne v274 v279
  let v281 : BitVec 32 := Scalar.remsi v268 c8_i32_139
  let c0_i32_144 : BitVec 32 := 0#32
  let v282 : BitVec 1 := Scalar.cmpi .ne v281 c0_i32_144
  let v283 : BitVec 1 := Scalar.andi v280 v282
  let v269 : BitVec 32 := Scalar.divsi v268 c8_i32_139
  let c1_i32_145 : BitVec 32 := 1#32
  let v284 : BitVec 32 := Scalar.subi v269 c1_i32_145
  let v285 : BitVec 32 := Scalar.select v283 v284 v269
  let v286 : BitVec 32 := Scalar.subi v285 c0_i32_146
  let c1_i32_147 : BitVec 32 := 1#32
  let v288 : BitVec 32 := Scalar.divsi v286 c1_i32_147
  let v289 : BitVec 32 := Scalar.muli v288 c1_i32_147
  let v290 : BitVec 32 := Scalar.addi c0_i32_146 v289
  let v287 : BitVec 32 := Scalar.addi c0_i32_146 v286
  let c1_i32_149 : BitVec 32 := 1#32
  ⟨v290, v287, c1_i32_149⟩
def k0_off248 (v52 : BitVec 32) (v105 : BitVec 32) (v158 : BitVec 32) (v211 : BitVec 32) (v264 : BitVec 32) (k0_t26 : Fin (k0_t26_loop v52 v105 v158 v211 v264).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c0_i32_146 : BitVec 32 := 0#32
  let c1_i32_136 : BitVec 32 := 1#32
  let v265 : BitVec 32 := Scalar.subi v264 c1_i32_136
  let c2049_i32_137 : BitVec 32 := 2049#32
  let v266 : BitVec 32 := Scalar.minsi v265 c2049_i32_137
  let v267 : BitVec 32 := Scalar.subi v266 v251
  let c0_i32_138 : BitVec 32 := 0#32
  let v268 : BitVec 32 := Scalar.maxsi v267 c0_i32_138
  let c0_i32_140 : BitVec 32 := 0#32
  let v270 : BitVec 1 := Scalar.cmpi .sgt v268 c0_i32_140
  let v271 : BitVec 32 := Scalar.extui v270
  let c0_i32_141 : BitVec 32 := 0#32
  let v272 : BitVec 1 := Scalar.cmpi .slt v268 c0_i32_141
  let v273 : BitVec 32 := Scalar.extui v272
  let v274 : BitVec 32 := Scalar.subi v271 v273
  let c8_i32_139 : BitVec 32 := 8#32
  let c0_i32_142 : BitVec 32 := 0#32
  let v275 : BitVec 1 := Scalar.cmpi .sgt c8_i32_139 c0_i32_142
  let v276 : BitVec 32 := Scalar.extui v275
  let c0_i32_143 : BitVec 32 := 0#32
  let v277 : BitVec 1 := Scalar.cmpi .slt c8_i32_139 c0_i32_143
  let v278 : BitVec 32 := Scalar.extui v277
  let v279 : BitVec 32 := Scalar.subi v276 v278
  let v280 : BitVec 1 := Scalar.cmpi .ne v274 v279
  let v281 : BitVec 32 := Scalar.remsi v268 c8_i32_139
  let c0_i32_144 : BitVec 32 := 0#32
  let v282 : BitVec 1 := Scalar.cmpi .ne v281 c0_i32_144
  let v283 : BitVec 1 := Scalar.andi v280 v282
  let v269 : BitVec 32 := Scalar.divsi v268 c8_i32_139
  let c1_i32_145 : BitVec 32 := 1#32
  let v284 : BitVec 32 := Scalar.subi v269 c1_i32_145
  let v285 : BitVec 32 := Scalar.select v283 v284 v269
  let v286 : BitVec 32 := Scalar.subi v285 c0_i32_146
  let c1_i32_147 : BitVec 32 := 1#32
  let v288 : BitVec 32 := Scalar.divsi v286 c1_i32_147
  let v289 : BitVec 32 := Scalar.muli v288 c1_i32_147
  let v290 : BitVec 32 := Scalar.addi c0_i32_146 v289
  let c1_i32_149 : BitVec 32 := 1#32
  let arg19 : BitVec 32 := Scf.iv v290 c1_i32_149 k0_t26
  let c8_i32_444 : BitVec 32 := 8#32
  let v893 : BitVec 32 := Scalar.muli arg19 c8_i32_444
  let v894 : BitVec 32 := Scalar.addi v251 v893
  let v895 : BitVec 32 := Scalar.addi v894 c1_i32_445
  let v896 : Index := Scalar.indexCast v895
  ![v896.toNat]
def k0_off249 (v912 : BitVec 32) : Fin 2 → Nat :=
  let c1024_i32_451 : BitVec 32 := 1024#32
  let v913 : BitVec 32 := Scalar.subi v912 c1024_i32_451
  let v914 : Index := Scalar.indexCast v913
  let c0_452 : Index := 0#32
  ![v914.toNat, 0]

def k0_off250 (v912 : BitVec 32) : Fin 2 → Nat :=
  let c1024_i32_451 : BitVec 32 := 1024#32
  let v913 : BitVec 32 := Scalar.subi v912 c1024_i32_451
  let v917 : Index := Scalar.indexCast v913
  let c16_453 : Index := 16#32
  ![v917.toNat, 16]

def k0_chk87 (v912 : BitVec 32) : Prop :=
  (∀ a, (k0_off249 v912) a + S1x16.size a ≤ S257x32.size a) ∧
  (∀ a, (k0_off250 v912) a + S1x16.size a ≤ S257x32.size a)
theorem k0_off249_inb : ∀ (v912 : BitVec 32) (k0_hw87 : k0_chk87 v912), ∀ a, (k0_off249 v912) a + S1x16.size a ≤ S257x32.size a := fun v912 k0_hw87 => k0_hw87.1
theorem k0_off250_inb : ∀ (v912 : BitVec 32) (k0_hw87 : k0_chk87 v912), ∀ a, (k0_off250 v912) a + S1x16.size a ≤ S257x32.size a := fun v912 k0_hw87 => k0_hw87.2

def k0_off251 (v921 : BitVec 32) : Fin 2 → Nat :=
  let c1024_i32_454 : BitVec 32 := 1024#32
  let v922 : BitVec 32 := Scalar.subi v921 c1024_i32_454
  let v923 : Index := Scalar.indexCast v922
  let c0_455 : Index := 0#32
  ![v923.toNat, 0]

def k0_off252 (v921 : BitVec 32) : Fin 2 → Nat :=
  let c1024_i32_454 : BitVec 32 := 1024#32
  let v922 : BitVec 32 := Scalar.subi v921 c1024_i32_454
  let v926 : Index := Scalar.indexCast v922
  let c16_456 : Index := 16#32
  ![v926.toNat, 16]

def k0_chk88 (v921 : BitVec 32) : Prop :=
  (∀ a, (k0_off251 v921) a + S1x16.size a ≤ S257x32.size a) ∧
  (∀ a, (k0_off252 v921) a + S1x16.size a ≤ S257x32.size a)
theorem k0_off251_inb : ∀ (v921 : BitVec 32) (k0_hw88 : k0_chk88 v921), ∀ a, (k0_off251 v921) a + S1x16.size a ≤ S257x32.size a := fun v921 k0_hw88 => k0_hw88.1
theorem k0_off252_inb : ∀ (v921 : BitVec 32) (k0_hw88 : k0_chk88 v921), ∀ a, (k0_off252 v921) a + S1x16.size a ≤ S257x32.size a := fun v921 k0_hw88 => k0_hw88.2

def k0_off253 (v930 : BitVec 32) : Fin 2 → Nat :=
  let c1024_i32_457 : BitVec 32 := 1024#32
  let v931 : BitVec 32 := Scalar.subi v930 c1024_i32_457
  let v932 : Index := Scalar.indexCast v931
  let c0_458 : Index := 0#32
  ![v932.toNat, 0]

def k0_off254 (v930 : BitVec 32) : Fin 2 → Nat :=
  let c1024_i32_457 : BitVec 32 := 1024#32
  let v931 : BitVec 32 := Scalar.subi v930 c1024_i32_457
  let v935 : Index := Scalar.indexCast v931
  let c16_459 : Index := 16#32
  ![v935.toNat, 16]

def k0_chk89 (v930 : BitVec 32) : Prop :=
  (∀ a, (k0_off253 v930) a + S1x16.size a ≤ S257x32.size a) ∧
  (∀ a, (k0_off254 v930) a + S1x16.size a ≤ S257x32.size a)
theorem k0_off253_inb : ∀ (v930 : BitVec 32) (k0_hw89 : k0_chk89 v930), ∀ a, (k0_off253 v930) a + S1x16.size a ≤ S257x32.size a := fun v930 k0_hw89 => k0_hw89.1
theorem k0_off254_inb : ∀ (v930 : BitVec 32) (k0_hw89 : k0_chk89 v930), ∀ a, (k0_off254 v930) a + S1x16.size a ≤ S257x32.size a := fun v930 k0_hw89 => k0_hw89.2

def k0_off255 (v939 : BitVec 32) : Fin 2 → Nat :=
  let c1024_i32_460 : BitVec 32 := 1024#32
  let v940 : BitVec 32 := Scalar.subi v939 c1024_i32_460
  let v941 : Index := Scalar.indexCast v940
  let c0_461 : Index := 0#32
  ![v941.toNat, 0]

def k0_off256 (v939 : BitVec 32) : Fin 2 → Nat :=
  let c1024_i32_460 : BitVec 32 := 1024#32
  let v940 : BitVec 32 := Scalar.subi v939 c1024_i32_460
  let v944 : Index := Scalar.indexCast v940
  let c16_462 : Index := 16#32
  ![v944.toNat, 16]

def k0_chk90 (v939 : BitVec 32) : Prop :=
  (∀ a, (k0_off255 v939) a + S1x16.size a ≤ S257x32.size a) ∧
  (∀ a, (k0_off256 v939) a + S1x16.size a ≤ S257x32.size a)
theorem k0_off255_inb : ∀ (v939 : BitVec 32) (k0_hw90 : k0_chk90 v939), ∀ a, (k0_off255 v939) a + S1x16.size a ≤ S257x32.size a := fun v939 k0_hw90 => k0_hw90.1
theorem k0_off256_inb : ∀ (v939 : BitVec 32) (k0_hw90 : k0_chk90 v939), ∀ a, (k0_off256 v939) a + S1x16.size a ≤ S257x32.size a := fun v939 k0_hw90 => k0_hw90.2

def k0_off257 (v948 : BitVec 32) : Fin 2 → Nat :=
  let c1024_i32_463 : BitVec 32 := 1024#32
  let v949 : BitVec 32 := Scalar.subi v948 c1024_i32_463
  let v950 : Index := Scalar.indexCast v949
  let c0_464 : Index := 0#32
  ![v950.toNat, 0]

def k0_off258 (v948 : BitVec 32) : Fin 2 → Nat :=
  let c1024_i32_463 : BitVec 32 := 1024#32
  let v949 : BitVec 32 := Scalar.subi v948 c1024_i32_463
  let v953 : Index := Scalar.indexCast v949
  let c16_465 : Index := 16#32
  ![v953.toNat, 16]

def k0_chk91 (v948 : BitVec 32) : Prop :=
  (∀ a, (k0_off257 v948) a + S1x16.size a ≤ S257x32.size a) ∧
  (∀ a, (k0_off258 v948) a + S1x16.size a ≤ S257x32.size a)
theorem k0_off257_inb : ∀ (v948 : BitVec 32) (k0_hw91 : k0_chk91 v948), ∀ a, (k0_off257 v948) a + S1x16.size a ≤ S257x32.size a := fun v948 k0_hw91 => k0_hw91.1
theorem k0_off258_inb : ∀ (v948 : BitVec 32) (k0_hw91 : k0_chk91 v948), ∀ a, (k0_off258 v948) a + S1x16.size a ≤ S257x32.size a := fun v948 k0_hw91 => k0_hw91.2

def k0_off259 (v957 : BitVec 32) : Fin 2 → Nat :=
  let c1024_i32_466 : BitVec 32 := 1024#32
  let v958 : BitVec 32 := Scalar.subi v957 c1024_i32_466
  let v959 : Index := Scalar.indexCast v958
  let c0_467 : Index := 0#32
  ![v959.toNat, 0]

def k0_off260 (v957 : BitVec 32) : Fin 2 → Nat :=
  let c1024_i32_466 : BitVec 32 := 1024#32
  let v958 : BitVec 32 := Scalar.subi v957 c1024_i32_466
  let v962 : Index := Scalar.indexCast v958
  let c16_468 : Index := 16#32
  ![v962.toNat, 16]

def k0_chk92 (v957 : BitVec 32) : Prop :=
  (∀ a, (k0_off259 v957) a + S1x16.size a ≤ S257x32.size a) ∧
  (∀ a, (k0_off260 v957) a + S1x16.size a ≤ S257x32.size a)
theorem k0_off259_inb : ∀ (v957 : BitVec 32) (k0_hw92 : k0_chk92 v957), ∀ a, (k0_off259 v957) a + S1x16.size a ≤ S257x32.size a := fun v957 k0_hw92 => k0_hw92.1
theorem k0_off260_inb : ∀ (v957 : BitVec 32) (k0_hw92 : k0_chk92 v957), ∀ a, (k0_off260 v957) a + S1x16.size a ≤ S257x32.size a := fun v957 k0_hw92 => k0_hw92.2

def k0_off261 (v966 : BitVec 32) : Fin 2 → Nat :=
  let c1024_i32_469 : BitVec 32 := 1024#32
  let v967 : BitVec 32 := Scalar.subi v966 c1024_i32_469
  let v968 : Index := Scalar.indexCast v967
  let c0_470 : Index := 0#32
  ![v968.toNat, 0]

def k0_off262 (v966 : BitVec 32) : Fin 2 → Nat :=
  let c1024_i32_469 : BitVec 32 := 1024#32
  let v967 : BitVec 32 := Scalar.subi v966 c1024_i32_469
  let v971 : Index := Scalar.indexCast v967
  let c16_471 : Index := 16#32
  ![v971.toNat, 16]

def k0_chk93 (v966 : BitVec 32) : Prop :=
  (∀ a, (k0_off261 v966) a + S1x16.size a ≤ S257x32.size a) ∧
  (∀ a, (k0_off262 v966) a + S1x16.size a ≤ S257x32.size a)
theorem k0_off261_inb : ∀ (v966 : BitVec 32) (k0_hw93 : k0_chk93 v966), ∀ a, (k0_off261 v966) a + S1x16.size a ≤ S257x32.size a := fun v966 k0_hw93 => k0_hw93.1
theorem k0_off262_inb : ∀ (v966 : BitVec 32) (k0_hw93 : k0_chk93 v966), ∀ a, (k0_off262 v966) a + S1x16.size a ≤ S257x32.size a := fun v966 k0_hw93 => k0_hw93.2

def k0_off263 (v975 : BitVec 32) : Fin 2 → Nat :=
  let c1024_i32_472 : BitVec 32 := 1024#32
  let v976 : BitVec 32 := Scalar.subi v975 c1024_i32_472
  let v977 : Index := Scalar.indexCast v976
  let c0_473 : Index := 0#32
  ![v977.toNat, 0]

def k0_off264 (v975 : BitVec 32) : Fin 2 → Nat :=
  let c1024_i32_472 : BitVec 32 := 1024#32
  let v976 : BitVec 32 := Scalar.subi v975 c1024_i32_472
  let v980 : Index := Scalar.indexCast v976
  let c16_474 : Index := 16#32
  ![v980.toNat, 16]

def k0_chk94 (v975 : BitVec 32) : Prop :=
  (∀ a, (k0_off263 v975) a + S1x16.size a ≤ S257x32.size a) ∧
  (∀ a, (k0_off264 v975) a + S1x16.size a ≤ S257x32.size a)
theorem k0_off263_inb : ∀ (v975 : BitVec 32) (k0_hw94 : k0_chk94 v975), ∀ a, (k0_off263 v975) a + S1x16.size a ≤ S257x32.size a := fun v975 k0_hw94 => k0_hw94.1
theorem k0_off264_inb : ∀ (v975 : BitVec 32) (k0_hw94 : k0_chk94 v975), ∀ a, (k0_off264 v975) a + S1x16.size a ≤ S257x32.size a := fun v975 k0_hw94 => k0_hw94.2

def k0_off265 (v52 : BitVec 32) (v105 : BitVec 32) (v158 : BitVec 32) (v211 : BitVec 32) (v264 : BitVec 32) (k0_t26 : Fin (k0_t26_loop v52 v105 v158 v211 v264).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c0_i32_146 : BitVec 32 := 0#32
  let c1_i32_136 : BitVec 32 := 1#32
  let v265 : BitVec 32 := Scalar.subi v264 c1_i32_136
  let c2049_i32_137 : BitVec 32 := 2049#32
  let v266 : BitVec 32 := Scalar.minsi v265 c2049_i32_137
  let v267 : BitVec 32 := Scalar.subi v266 v251
  let c0_i32_138 : BitVec 32 := 0#32
  let v268 : BitVec 32 := Scalar.maxsi v267 c0_i32_138
  let c0_i32_140 : BitVec 32 := 0#32
  let v270 : BitVec 1 := Scalar.cmpi .sgt v268 c0_i32_140
  let v271 : BitVec 32 := Scalar.extui v270
  let c0_i32_141 : BitVec 32 := 0#32
  let v272 : BitVec 1 := Scalar.cmpi .slt v268 c0_i32_141
  let v273 : BitVec 32 := Scalar.extui v272
  let v274 : BitVec 32 := Scalar.subi v271 v273
  let c8_i32_139 : BitVec 32 := 8#32
  let c0_i32_142 : BitVec 32 := 0#32
  let v275 : BitVec 1 := Scalar.cmpi .sgt c8_i32_139 c0_i32_142
  let v276 : BitVec 32 := Scalar.extui v275
  let c0_i32_143 : BitVec 32 := 0#32
  let v277 : BitVec 1 := Scalar.cmpi .slt c8_i32_139 c0_i32_143
  let v278 : BitVec 32 := Scalar.extui v277
  let v279 : BitVec 32 := Scalar.subi v276 v278
  let v280 : BitVec 1 := Scalar.cmpi .ne v274 v279
  let v281 : BitVec 32 := Scalar.remsi v268 c8_i32_139
  let c0_i32_144 : BitVec 32 := 0#32
  let v282 : BitVec 1 := Scalar.cmpi .ne v281 c0_i32_144
  let v283 : BitVec 1 := Scalar.andi v280 v282
  let v269 : BitVec 32 := Scalar.divsi v268 c8_i32_139
  let c1_i32_145 : BitVec 32 := 1#32
  let v284 : BitVec 32 := Scalar.subi v269 c1_i32_145
  let v285 : BitVec 32 := Scalar.select v283 v284 v269
  let v286 : BitVec 32 := Scalar.subi v285 c0_i32_146
  let c1_i32_147 : BitVec 32 := 1#32
  let v288 : BitVec 32 := Scalar.divsi v286 c1_i32_147
  let v289 : BitVec 32 := Scalar.muli v288 c1_i32_147
  let v290 : BitVec 32 := Scalar.addi c0_i32_146 v289
  let c1_i32_149 : BitVec 32 := 1#32
  let arg19 : BitVec 32 := Scf.iv v290 c1_i32_149 k0_t26
  let c8_i32_444 : BitVec 32 := 8#32
  let v893 : BitVec 32 := Scalar.muli arg19 c8_i32_444
  let v894 : BitVec 32 := Scalar.addi v251 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off266 (v52 : BitVec 32) (v105 : BitVec 32) (v158 : BitVec 32) (v211 : BitVec 32) (v264 : BitVec 32) (k0_t26 : Fin (k0_t26_loop v52 v105 v158 v211 v264).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c0_i32_146 : BitVec 32 := 0#32
  let c1_i32_136 : BitVec 32 := 1#32
  let v265 : BitVec 32 := Scalar.subi v264 c1_i32_136
  let c2049_i32_137 : BitVec 32 := 2049#32
  let v266 : BitVec 32 := Scalar.minsi v265 c2049_i32_137
  let v267 : BitVec 32 := Scalar.subi v266 v251
  let c0_i32_138 : BitVec 32 := 0#32
  let v268 : BitVec 32 := Scalar.maxsi v267 c0_i32_138
  let c0_i32_140 : BitVec 32 := 0#32
  let v270 : BitVec 1 := Scalar.cmpi .sgt v268 c0_i32_140
  let v271 : BitVec 32 := Scalar.extui v270
  let c0_i32_141 : BitVec 32 := 0#32
  let v272 : BitVec 1 := Scalar.cmpi .slt v268 c0_i32_141
  let v273 : BitVec 32 := Scalar.extui v272
  let v274 : BitVec 32 := Scalar.subi v271 v273
  let c8_i32_139 : BitVec 32 := 8#32
  let c0_i32_142 : BitVec 32 := 0#32
  let v275 : BitVec 1 := Scalar.cmpi .sgt c8_i32_139 c0_i32_142
  let v276 : BitVec 32 := Scalar.extui v275
  let c0_i32_143 : BitVec 32 := 0#32
  let v277 : BitVec 1 := Scalar.cmpi .slt c8_i32_139 c0_i32_143
  let v278 : BitVec 32 := Scalar.extui v277
  let v279 : BitVec 32 := Scalar.subi v276 v278
  let v280 : BitVec 1 := Scalar.cmpi .ne v274 v279
  let v281 : BitVec 32 := Scalar.remsi v268 c8_i32_139
  let c0_i32_144 : BitVec 32 := 0#32
  let v282 : BitVec 1 := Scalar.cmpi .ne v281 c0_i32_144
  let v283 : BitVec 1 := Scalar.andi v280 v282
  let v269 : BitVec 32 := Scalar.divsi v268 c8_i32_139
  let c1_i32_145 : BitVec 32 := 1#32
  let v284 : BitVec 32 := Scalar.subi v269 c1_i32_145
  let v285 : BitVec 32 := Scalar.select v283 v284 v269
  let v286 : BitVec 32 := Scalar.subi v285 c0_i32_146
  let c1_i32_147 : BitVec 32 := 1#32
  let v288 : BitVec 32 := Scalar.divsi v286 c1_i32_147
  let v289 : BitVec 32 := Scalar.muli v288 c1_i32_147
  let v290 : BitVec 32 := Scalar.addi c0_i32_146 v289
  let c1_i32_149 : BitVec 32 := 1#32
  let arg19 : BitVec 32 := Scf.iv v290 c1_i32_149 k0_t26
  let c8_i32_444 : BitVec 32 := 8#32
  let v893 : BitVec 32 := Scalar.muli arg19 c8_i32_444
  let v894 : BitVec 32 := Scalar.addi v251 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t27_loop (v52 : BitVec 32) (v105 : BitVec 32) (v158 : BitVec 32) (v211 : BitVec 32) (v264 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v267 : BitVec 32 := Scalar.subi v266 v251
  let c0_i32_138 : BitVec 32 := 0#32
  let v268 : BitVec 32 := Scalar.maxsi v267 c0_i32_138
  let c0_i32_140 : BitVec 32 := 0#32
  let v270 : BitVec 1 := Scalar.cmpi .sgt v268 c0_i32_140
  let v271 : BitVec 32 := Scalar.extui v270
  let c0_i32_141 : BitVec 32 := 0#32
  let v272 : BitVec 1 := Scalar.cmpi .slt v268 c0_i32_141
  let v273 : BitVec 32 := Scalar.extui v272
  let v274 : BitVec 32 := Scalar.subi v271 v273
  let c8_i32_139 : BitVec 32 := 8#32
  let c0_i32_142 : BitVec 32 := 0#32
  let v275 : BitVec 1 := Scalar.cmpi .sgt c8_i32_139 c0_i32_142
  let v276 : BitVec 32 := Scalar.extui v275
  let c0_i32_143 : BitVec 32 := 0#32
  let v277 : BitVec 1 := Scalar.cmpi .slt c8_i32_139 c0_i32_143
  let v278 : BitVec 32 := Scalar.extui v277
  let v279 : BitVec 32 := Scalar.subi v276 v278
  let v280 : BitVec 1 := Scalar.cmpi .ne v274 v279
  let v281 : BitVec 32 := Scalar.remsi v268 c8_i32_139
  let c0_i32_144 : BitVec 32 := 0#32
  let v282 : BitVec 1 := Scalar.cmpi .ne v281 c0_i32_144
  let v283 : BitVec 1 := Scalar.andi v280 v282
  let v269 : BitVec 32 := Scalar.divsi v268 c8_i32_139
  let c1_i32_145 : BitVec 32 := 1#32
  let v284 : BitVec 32 := Scalar.subi v269 c1_i32_145
  let v285 : BitVec 32 := Scalar.select v283 v284 v269
  let c8_i32_150 : BitVec 32 := 8#32
  let v293 : BitVec 32 := Scalar.muli v285 c8_i32_150
  let v294 : BitVec 32 := Scalar.addi v251 v293
  let v295 : BitVec 32 := Scalar.subi v266 v294
  let c1_i32_151 : BitVec 32 := 1#32
  let v297 : BitVec 32 := Scalar.divsi v295 c1_i32_151
  let v298 : BitVec 32 := Scalar.muli v297 c1_i32_151
  let v299 : BitVec 32 := Scalar.addi v294 v298
  let c1_i32_152 : BitVec 32 := 1#32
  ⟨v294, v299, c1_i32_152⟩
def k0_off267 (v52 : BitVec 32) (v105 : BitVec 32) (v158 : BitVec 32) (v211 : BitVec 32) (v264 : BitVec 32) (k0_t27 : Fin (k0_t27_loop v52 v105 v158 v211 v264).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v267 : BitVec 32 := Scalar.subi v266 v251
  let c0_i32_138 : BitVec 32 := 0#32
  let v268 : BitVec 32 := Scalar.maxsi v267 c0_i32_138
  let c0_i32_140 : BitVec 32 := 0#32
  let v270 : BitVec 1 := Scalar.cmpi .sgt v268 c0_i32_140
  let v271 : BitVec 32 := Scalar.extui v270
  let c0_i32_141 : BitVec 32 := 0#32
  let v272 : BitVec 1 := Scalar.cmpi .slt v268 c0_i32_141
  let v273 : BitVec 32 := Scalar.extui v272
  let v274 : BitVec 32 := Scalar.subi v271 v273
  let c8_i32_139 : BitVec 32 := 8#32
  let c0_i32_142 : BitVec 32 := 0#32
  let v275 : BitVec 1 := Scalar.cmpi .sgt c8_i32_139 c0_i32_142
  let v276 : BitVec 32 := Scalar.extui v275
  let c0_i32_143 : BitVec 32 := 0#32
  let v277 : BitVec 1 := Scalar.cmpi .slt c8_i32_139 c0_i32_143
  let v278 : BitVec 32 := Scalar.extui v277
  let v279 : BitVec 32 := Scalar.subi v276 v278
  let v280 : BitVec 1 := Scalar.cmpi .ne v274 v279
  let v281 : BitVec 32 := Scalar.remsi v268 c8_i32_139
  let c0_i32_144 : BitVec 32 := 0#32
  let v282 : BitVec 1 := Scalar.cmpi .ne v281 c0_i32_144
  let v283 : BitVec 1 := Scalar.andi v280 v282
  let v269 : BitVec 32 := Scalar.divsi v268 c8_i32_139
  let c1_i32_145 : BitVec 32 := 1#32
  let v284 : BitVec 32 := Scalar.subi v269 c1_i32_145
  let v285 : BitVec 32 := Scalar.select v283 v284 v269
  let c8_i32_150 : BitVec 32 := 8#32
  let v293 : BitVec 32 := Scalar.muli v285 c8_i32_150
  let v294 : BitVec 32 := Scalar.addi v251 v293
  let c1_i32_152 : BitVec 32 := 1#32
  let arg19 : BitVec 32 := Scf.iv v294 c1_i32_152 k0_t27
  let c1_i32_444 : BitVec 32 := 1#32
  let v893 : BitVec 32 := Scalar.addi arg19 c1_i32_444
  let v894 : Index := Scalar.indexCast v893
  ![v894.toNat]
def k0_off268 (v897 : BitVec 32) : Fin 2 → Nat :=
  let c1024_i32_445 : BitVec 32 := 1024#32
  let v898 : BitVec 32 := Scalar.subi v897 c1024_i32_445
  let v912 : Index := Scalar.indexCast v898
  let c0_450 : Index := 0#32
  ![v912.toNat, 0]

def k0_off269 (v897 : BitVec 32) : Fin 2 → Nat :=
  let c1024_i32_445 : BitVec 32 := 1024#32
  let v898 : BitVec 32 := Scalar.subi v897 c1024_i32_445
  let v915 : Index := Scalar.indexCast v898
  let c16_451 : Index := 16#32
  ![v915.toNat, 16]

def k0_chk95 (v897 : BitVec 32) : Prop :=
  (∀ a, (k0_off268 v897) a + S1x16.size a ≤ S257x32.size a) ∧
  (∀ a, (k0_off269 v897) a + S1x16.size a ≤ S257x32.size a)
theorem k0_off268_inb : ∀ (v897 : BitVec 32) (k0_hw95 : k0_chk95 v897), ∀ a, (k0_off268 v897) a + S1x16.size a ≤ S257x32.size a := fun v897 k0_hw95 => k0_hw95.1
theorem k0_off269_inb : ∀ (v897 : BitVec 32) (k0_hw95 : k0_chk95 v897), ∀ a, (k0_off269 v897) a + S1x16.size a ≤ S257x32.size a := fun v897 k0_hw95 => k0_hw95.2

def k0_off270 (v52 : BitVec 32) (v105 : BitVec 32) (v158 : BitVec 32) (v211 : BitVec 32) (v264 : BitVec 32) (k0_t27 : Fin (k0_t27_loop v52 v105 v158 v211 v264).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v267 : BitVec 32 := Scalar.subi v266 v251
  let c0_i32_138 : BitVec 32 := 0#32
  let v268 : BitVec 32 := Scalar.maxsi v267 c0_i32_138
  let c0_i32_140 : BitVec 32 := 0#32
  let v270 : BitVec 1 := Scalar.cmpi .sgt v268 c0_i32_140
  let v271 : BitVec 32 := Scalar.extui v270
  let c0_i32_141 : BitVec 32 := 0#32
  let v272 : BitVec 1 := Scalar.cmpi .slt v268 c0_i32_141
  let v273 : BitVec 32 := Scalar.extui v272
  let v274 : BitVec 32 := Scalar.subi v271 v273
  let c8_i32_139 : BitVec 32 := 8#32
  let c0_i32_142 : BitVec 32 := 0#32
  let v275 : BitVec 1 := Scalar.cmpi .sgt c8_i32_139 c0_i32_142
  let v276 : BitVec 32 := Scalar.extui v275
  let c0_i32_143 : BitVec 32 := 0#32
  let v277 : BitVec 1 := Scalar.cmpi .slt c8_i32_139 c0_i32_143
  let v278 : BitVec 32 := Scalar.extui v277
  let v279 : BitVec 32 := Scalar.subi v276 v278
  let v280 : BitVec 1 := Scalar.cmpi .ne v274 v279
  let v281 : BitVec 32 := Scalar.remsi v268 c8_i32_139
  let c0_i32_144 : BitVec 32 := 0#32
  let v282 : BitVec 1 := Scalar.cmpi .ne v281 c0_i32_144
  let v283 : BitVec 1 := Scalar.andi v280 v282
  let v269 : BitVec 32 := Scalar.divsi v268 c8_i32_139
  let c1_i32_145 : BitVec 32 := 1#32
  let v284 : BitVec 32 := Scalar.subi v269 c1_i32_145
  let v285 : BitVec 32 := Scalar.select v283 v284 v269
  let c8_i32_150 : BitVec 32 := 8#32
  let v293 : BitVec 32 := Scalar.muli v285 c8_i32_150
  let v294 : BitVec 32 := Scalar.addi v251 v293
  let c1_i32_152 : BitVec 32 := 1#32
  let arg19 : BitVec 32 := Scf.iv v294 c1_i32_152 k0_t27
  let c1_i32_452 : BitVec 32 := 1#32
  let v920 : BitVec 32 := Scalar.addi arg19 c1_i32_452
  let v921 : Index := Scalar.indexCast v920
  let c0_453 : Index := 0#32
  ![v921.toNat, 0]
def k0_off271 (v52 : BitVec 32) (v105 : BitVec 32) (v158 : BitVec 32) (v211 : BitVec 32) (v264 : BitVec 32) (k0_t27 : Fin (k0_t27_loop v52 v105 v158 v211 v264).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v267 : BitVec 32 := Scalar.subi v266 v251
  let c0_i32_138 : BitVec 32 := 0#32
  let v268 : BitVec 32 := Scalar.maxsi v267 c0_i32_138
  let c0_i32_140 : BitVec 32 := 0#32
  let v270 : BitVec 1 := Scalar.cmpi .sgt v268 c0_i32_140
  let v271 : BitVec 32 := Scalar.extui v270
  let c0_i32_141 : BitVec 32 := 0#32
  let v272 : BitVec 1 := Scalar.cmpi .slt v268 c0_i32_141
  let v273 : BitVec 32 := Scalar.extui v272
  let v274 : BitVec 32 := Scalar.subi v271 v273
  let c8_i32_139 : BitVec 32 := 8#32
  let c0_i32_142 : BitVec 32 := 0#32
  let v275 : BitVec 1 := Scalar.cmpi .sgt c8_i32_139 c0_i32_142
  let v276 : BitVec 32 := Scalar.extui v275
  let c0_i32_143 : BitVec 32 := 0#32
  let v277 : BitVec 1 := Scalar.cmpi .slt c8_i32_139 c0_i32_143
  let v278 : BitVec 32 := Scalar.extui v277
  let v279 : BitVec 32 := Scalar.subi v276 v278
  let v280 : BitVec 1 := Scalar.cmpi .ne v274 v279
  let v281 : BitVec 32 := Scalar.remsi v268 c8_i32_139
  let c0_i32_144 : BitVec 32 := 0#32
  let v282 : BitVec 1 := Scalar.cmpi .ne v281 c0_i32_144
  let v283 : BitVec 1 := Scalar.andi v280 v282
  let v269 : BitVec 32 := Scalar.divsi v268 c8_i32_139
  let c1_i32_145 : BitVec 32 := 1#32
  let v284 : BitVec 32 := Scalar.subi v269 c1_i32_145
  let v285 : BitVec 32 := Scalar.select v283 v284 v269
  let c8_i32_150 : BitVec 32 := 8#32
  let v293 : BitVec 32 := Scalar.muli v285 c8_i32_150
  let v294 : BitVec 32 := Scalar.addi v251 v293
  let c1_i32_152 : BitVec 32 := 1#32
  let arg19 : BitVec 32 := Scf.iv v294 c1_i32_152 k0_t27
  let c1_i32_454 : BitVec 32 := 1#32
  let v925 : BitVec 32 := Scalar.addi arg19 c1_i32_454
  let v926 : Index := Scalar.indexCast v925
  let c16_455 : Index := 16#32
  ![v926.toNat, 16]
@[reducible] def k0_t28_loop (v52 : BitVec 32) (v105 : BitVec 32) (v158 : BitVec 32) (v211 : BitVec 32) (v264 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v267 : BitVec 32 := Scalar.subi v266 v251
  let c0_i32_138 : BitVec 32 := 0#32
  let v268 : BitVec 32 := Scalar.maxsi v267 c0_i32_138
  let c0_i32_140 : BitVec 32 := 0#32
  let v270 : BitVec 1 := Scalar.cmpi .sgt v268 c0_i32_140
  let v271 : BitVec 32 := Scalar.extui v270
  let c0_i32_141 : BitVec 32 := 0#32
  let v272 : BitVec 1 := Scalar.cmpi .slt v268 c0_i32_141
  let v273 : BitVec 32 := Scalar.extui v272
  let v274 : BitVec 32 := Scalar.subi v271 v273
  let c8_i32_139 : BitVec 32 := 8#32
  let c0_i32_142 : BitVec 32 := 0#32
  let v275 : BitVec 1 := Scalar.cmpi .sgt c8_i32_139 c0_i32_142
  let v276 : BitVec 32 := Scalar.extui v275
  let c0_i32_143 : BitVec 32 := 0#32
  let v277 : BitVec 1 := Scalar.cmpi .slt c8_i32_139 c0_i32_143
  let v278 : BitVec 32 := Scalar.extui v277
  let v279 : BitVec 32 := Scalar.subi v276 v278
  let v280 : BitVec 1 := Scalar.cmpi .ne v274 v279
  let v281 : BitVec 32 := Scalar.remsi v268 c8_i32_139
  let c0_i32_144 : BitVec 32 := 0#32
  let v282 : BitVec 1 := Scalar.cmpi .ne v281 c0_i32_144
  let v283 : BitVec 1 := Scalar.andi v280 v282
  let v269 : BitVec 32 := Scalar.divsi v268 c8_i32_139
  let c1_i32_145 : BitVec 32 := 1#32
  let v284 : BitVec 32 := Scalar.subi v269 c1_i32_145
  let v285 : BitVec 32 := Scalar.select v283 v284 v269
  let c8_i32_150 : BitVec 32 := 8#32
  let v293 : BitVec 32 := Scalar.muli v285 c8_i32_150
  let v294 : BitVec 32 := Scalar.addi v251 v293
  let v295 : BitVec 32 := Scalar.subi v266 v294
  let c1_i32_151 : BitVec 32 := 1#32
  let v297 : BitVec 32 := Scalar.divsi v295 c1_i32_151
  let v298 : BitVec 32 := Scalar.muli v297 c1_i32_151
  let v299 : BitVec 32 := Scalar.addi v294 v298
  let v296 : BitVec 32 := Scalar.addi v294 v295
  let c1_i32_153 : BitVec 32 := 1#32
  ⟨v299, v296, c1_i32_153⟩
def k0_off272 (v52 : BitVec 32) (v105 : BitVec 32) (v158 : BitVec 32) (v211 : BitVec 32) (v264 : BitVec 32) (k0_t28 : Fin (k0_t28_loop v52 v105 v158 v211 v264).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v267 : BitVec 32 := Scalar.subi v266 v251
  let c0_i32_138 : BitVec 32 := 0#32
  let v268 : BitVec 32 := Scalar.maxsi v267 c0_i32_138
  let c0_i32_140 : BitVec 32 := 0#32
  let v270 : BitVec 1 := Scalar.cmpi .sgt v268 c0_i32_140
  let v271 : BitVec 32 := Scalar.extui v270
  let c0_i32_141 : BitVec 32 := 0#32
  let v272 : BitVec 1 := Scalar.cmpi .slt v268 c0_i32_141
  let v273 : BitVec 32 := Scalar.extui v272
  let v274 : BitVec 32 := Scalar.subi v271 v273
  let c8_i32_139 : BitVec 32 := 8#32
  let c0_i32_142 : BitVec 32 := 0#32
  let v275 : BitVec 1 := Scalar.cmpi .sgt c8_i32_139 c0_i32_142
  let v276 : BitVec 32 := Scalar.extui v275
  let c0_i32_143 : BitVec 32 := 0#32
  let v277 : BitVec 1 := Scalar.cmpi .slt c8_i32_139 c0_i32_143
  let v278 : BitVec 32 := Scalar.extui v277
  let v279 : BitVec 32 := Scalar.subi v276 v278
  let v280 : BitVec 1 := Scalar.cmpi .ne v274 v279
  let v281 : BitVec 32 := Scalar.remsi v268 c8_i32_139
  let c0_i32_144 : BitVec 32 := 0#32
  let v282 : BitVec 1 := Scalar.cmpi .ne v281 c0_i32_144
  let v283 : BitVec 1 := Scalar.andi v280 v282
  let v269 : BitVec 32 := Scalar.divsi v268 c8_i32_139
  let c1_i32_145 : BitVec 32 := 1#32
  let v284 : BitVec 32 := Scalar.subi v269 c1_i32_145
  let v285 : BitVec 32 := Scalar.select v283 v284 v269
  let c8_i32_150 : BitVec 32 := 8#32
  let v293 : BitVec 32 := Scalar.muli v285 c8_i32_150
  let v294 : BitVec 32 := Scalar.addi v251 v293
  let v295 : BitVec 32 := Scalar.subi v266 v294
  let c1_i32_151 : BitVec 32 := 1#32
  let v297 : BitVec 32 := Scalar.divsi v295 c1_i32_151
  let v298 : BitVec 32 := Scalar.muli v297 c1_i32_151
  let v299 : BitVec 32 := Scalar.addi v294 v298
  let c1_i32_153 : BitVec 32 := 1#32
  let arg19 : BitVec 32 := Scf.iv v299 c1_i32_153 k0_t28
  let c1_i32_444 : BitVec 32 := 1#32
  let v893 : BitVec 32 := Scalar.addi arg19 c1_i32_444
  let v894 : Index := Scalar.indexCast v893
  ![v894.toNat]
def k0_off273 (v897 : BitVec 32) : Fin 2 → Nat :=
  let c1024_i32_445 : BitVec 32 := 1024#32
  let v898 : BitVec 32 := Scalar.subi v897 c1024_i32_445
  let v912 : Index := Scalar.indexCast v898
  let c0_450 : Index := 0#32
  ![v912.toNat, 0]

def k0_off274 (v897 : BitVec 32) : Fin 2 → Nat :=
  let c1024_i32_445 : BitVec 32 := 1024#32
  let v898 : BitVec 32 := Scalar.subi v897 c1024_i32_445
  let v915 : Index := Scalar.indexCast v898
  let c16_451 : Index := 16#32
  ![v915.toNat, 16]

def k0_chk96 (v897 : BitVec 32) : Prop :=
  (∀ a, (k0_off273 v897) a + S1x16.size a ≤ S257x32.size a) ∧
  (∀ a, (k0_off274 v897) a + S1x16.size a ≤ S257x32.size a)
theorem k0_off273_inb : ∀ (v897 : BitVec 32) (k0_hw96 : k0_chk96 v897), ∀ a, (k0_off273 v897) a + S1x16.size a ≤ S257x32.size a := fun v897 k0_hw96 => k0_hw96.1
theorem k0_off274_inb : ∀ (v897 : BitVec 32) (k0_hw96 : k0_chk96 v897), ∀ a, (k0_off274 v897) a + S1x16.size a ≤ S257x32.size a := fun v897 k0_hw96 => k0_hw96.2

def k0_off275 (v52 : BitVec 32) (v105 : BitVec 32) (v158 : BitVec 32) (v211 : BitVec 32) (v264 : BitVec 32) (k0_t28 : Fin (k0_t28_loop v52 v105 v158 v211 v264).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v267 : BitVec 32 := Scalar.subi v266 v251
  let c0_i32_138 : BitVec 32 := 0#32
  let v268 : BitVec 32 := Scalar.maxsi v267 c0_i32_138
  let c0_i32_140 : BitVec 32 := 0#32
  let v270 : BitVec 1 := Scalar.cmpi .sgt v268 c0_i32_140
  let v271 : BitVec 32 := Scalar.extui v270
  let c0_i32_141 : BitVec 32 := 0#32
  let v272 : BitVec 1 := Scalar.cmpi .slt v268 c0_i32_141
  let v273 : BitVec 32 := Scalar.extui v272
  let v274 : BitVec 32 := Scalar.subi v271 v273
  let c8_i32_139 : BitVec 32 := 8#32
  let c0_i32_142 : BitVec 32 := 0#32
  let v275 : BitVec 1 := Scalar.cmpi .sgt c8_i32_139 c0_i32_142
  let v276 : BitVec 32 := Scalar.extui v275
  let c0_i32_143 : BitVec 32 := 0#32
  let v277 : BitVec 1 := Scalar.cmpi .slt c8_i32_139 c0_i32_143
  let v278 : BitVec 32 := Scalar.extui v277
  let v279 : BitVec 32 := Scalar.subi v276 v278
  let v280 : BitVec 1 := Scalar.cmpi .ne v274 v279
  let v281 : BitVec 32 := Scalar.remsi v268 c8_i32_139
  let c0_i32_144 : BitVec 32 := 0#32
  let v282 : BitVec 1 := Scalar.cmpi .ne v281 c0_i32_144
  let v283 : BitVec 1 := Scalar.andi v280 v282
  let v269 : BitVec 32 := Scalar.divsi v268 c8_i32_139
  let c1_i32_145 : BitVec 32 := 1#32
  let v284 : BitVec 32 := Scalar.subi v269 c1_i32_145
  let v285 : BitVec 32 := Scalar.select v283 v284 v269
  let c8_i32_150 : BitVec 32 := 8#32
  let v293 : BitVec 32 := Scalar.muli v285 c8_i32_150
  let v294 : BitVec 32 := Scalar.addi v251 v293
  let v295 : BitVec 32 := Scalar.subi v266 v294
  let c1_i32_151 : BitVec 32 := 1#32
  let v297 : BitVec 32 := Scalar.divsi v295 c1_i32_151
  let v298 : BitVec 32 := Scalar.muli v297 c1_i32_151
  let v299 : BitVec 32 := Scalar.addi v294 v298
  let c1_i32_153 : BitVec 32 := 1#32
  let arg19 : BitVec 32 := Scf.iv v299 c1_i32_153 k0_t28
  let c1_i32_452 : BitVec 32 := 1#32
  let v920 : BitVec 32 := Scalar.addi arg19 c1_i32_452
  let v921 : Index := Scalar.indexCast v920
  let c0_453 : Index := 0#32
  ![v921.toNat, 0]
def k0_off276 (v52 : BitVec 32) (v105 : BitVec 32) (v158 : BitVec 32) (v211 : BitVec 32) (v264 : BitVec 32) (k0_t28 : Fin (k0_t28_loop v52 v105 v158 v211 v264).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v267 : BitVec 32 := Scalar.subi v266 v251
  let c0_i32_138 : BitVec 32 := 0#32
  let v268 : BitVec 32 := Scalar.maxsi v267 c0_i32_138
  let c0_i32_140 : BitVec 32 := 0#32
  let v270 : BitVec 1 := Scalar.cmpi .sgt v268 c0_i32_140
  let v271 : BitVec 32 := Scalar.extui v270
  let c0_i32_141 : BitVec 32 := 0#32
  let v272 : BitVec 1 := Scalar.cmpi .slt v268 c0_i32_141
  let v273 : BitVec 32 := Scalar.extui v272
  let v274 : BitVec 32 := Scalar.subi v271 v273
  let c8_i32_139 : BitVec 32 := 8#32
  let c0_i32_142 : BitVec 32 := 0#32
  let v275 : BitVec 1 := Scalar.cmpi .sgt c8_i32_139 c0_i32_142
  let v276 : BitVec 32 := Scalar.extui v275
  let c0_i32_143 : BitVec 32 := 0#32
  let v277 : BitVec 1 := Scalar.cmpi .slt c8_i32_139 c0_i32_143
  let v278 : BitVec 32 := Scalar.extui v277
  let v279 : BitVec 32 := Scalar.subi v276 v278
  let v280 : BitVec 1 := Scalar.cmpi .ne v274 v279
  let v281 : BitVec 32 := Scalar.remsi v268 c8_i32_139
  let c0_i32_144 : BitVec 32 := 0#32
  let v282 : BitVec 1 := Scalar.cmpi .ne v281 c0_i32_144
  let v283 : BitVec 1 := Scalar.andi v280 v282
  let v269 : BitVec 32 := Scalar.divsi v268 c8_i32_139
  let c1_i32_145 : BitVec 32 := 1#32
  let v284 : BitVec 32 := Scalar.subi v269 c1_i32_145
  let v285 : BitVec 32 := Scalar.select v283 v284 v269
  let c8_i32_150 : BitVec 32 := 8#32
  let v293 : BitVec 32 := Scalar.muli v285 c8_i32_150
  let v294 : BitVec 32 := Scalar.addi v251 v293
  let v295 : BitVec 32 := Scalar.subi v266 v294
  let c1_i32_151 : BitVec 32 := 1#32
  let v297 : BitVec 32 := Scalar.divsi v295 c1_i32_151
  let v298 : BitVec 32 := Scalar.muli v297 c1_i32_151
  let v299 : BitVec 32 := Scalar.addi v294 v298
  let c1_i32_153 : BitVec 32 := 1#32
  let arg19 : BitVec 32 := Scf.iv v299 c1_i32_153 k0_t28
  let c1_i32_454 : BitVec 32 := 1#32
  let v925 : BitVec 32 := Scalar.addi arg19 c1_i32_454
  let v926 : Index := Scalar.indexCast v925
  let c16_455 : Index := 16#32
  ![v926.toNat, 16]

def k0_chk78 (v52 : BitVec 32) (v105 : BitVec 32) (v158 : BitVec 32) (v211 : BitVec 32) (v264 : BitVec 32) : Prop :=
  ((k0_t25_loop v52 v105 v158 v211 v264).OK) ∧
  (∀ k0_t25 : Fin (k0_t25_loop v52 v105 v158 v211 v264).trips, ∀ (r : Fin 2), ∀ a, (k0_off229 v52 v105 v158 v211 v264 k0_t25 (BitVec.ofNat 32 (1 + r.val))) a + S16.size a ≤ S4112.size a) ∧
  (∀ k0_t25 : Fin (k0_t25_loop v52 v105 v158 v211 v264).trips, ∀ (r : Fin 8), ∀ a, (k0_off246 v52 v105 v158 v211 v264 k0_t25 (BitVec.ofNat 32 r.val)) a + S1x16.size a ≤ S2050x32.size a) ∧
  (∀ k0_t25 : Fin (k0_t25_loop v52 v105 v158 v211 v264).trips, ∀ (r : Fin 8), ∀ a, (k0_off247 v52 v105 v158 v211 v264 k0_t25 (BitVec.ofNat 32 r.val)) a + S1x16.size a ≤ S2050x32.size a) ∧
  ((k0_t26_loop v52 v105 v158 v211 v264).OK) ∧
  (∀ k0_t26 : Fin (k0_t26_loop v52 v105 v158 v211 v264).trips, ∀ (r : Fin 2), ∀ a, (k0_off248 v52 v105 v158 v211 v264 k0_t26 (BitVec.ofNat 32 (1 + r.val))) a + S16.size a ≤ S4112.size a) ∧
  (∀ k0_t26 : Fin (k0_t26_loop v52 v105 v158 v211 v264).trips, ∀ (r : Fin 8), ∀ a, (k0_off265 v52 v105 v158 v211 v264 k0_t26 (BitVec.ofNat 32 r.val)) a + S1x16.size a ≤ S2050x32.size a) ∧
  (∀ k0_t26 : Fin (k0_t26_loop v52 v105 v158 v211 v264).trips, ∀ (r : Fin 8), ∀ a, (k0_off266 v52 v105 v158 v211 v264 k0_t26 (BitVec.ofNat 32 r.val)) a + S1x16.size a ≤ S2050x32.size a) ∧
  ((k0_t27_loop v52 v105 v158 v211 v264).OK) ∧
  (∀ k0_t27 : Fin (k0_t27_loop v52 v105 v158 v211 v264).trips, ∀ a, (k0_off267 v52 v105 v158 v211 v264 k0_t27) a + S16.size a ≤ S4112.size a) ∧
  (∀ k0_t27 : Fin (k0_t27_loop v52 v105 v158 v211 v264).trips, ∀ a, (k0_off270 v52 v105 v158 v211 v264 k0_t27) a + S1x16.size a ≤ S2050x32.size a) ∧
  (∀ k0_t27 : Fin (k0_t27_loop v52 v105 v158 v211 v264).trips, ∀ a, (k0_off271 v52 v105 v158 v211 v264 k0_t27) a + S1x16.size a ≤ S2050x32.size a) ∧
  ((k0_t28_loop v52 v105 v158 v211 v264).OK) ∧
  (∀ k0_t28 : Fin (k0_t28_loop v52 v105 v158 v211 v264).trips, ∀ a, (k0_off272 v52 v105 v158 v211 v264 k0_t28) a + S16.size a ≤ S4112.size a) ∧
  (∀ k0_t28 : Fin (k0_t28_loop v52 v105 v158 v211 v264).trips, ∀ a, (k0_off275 v52 v105 v158 v211 v264 k0_t28) a + S1x16.size a ≤ S2050x32.size a) ∧
  (∀ k0_t28 : Fin (k0_t28_loop v52 v105 v158 v211 v264).trips, ∀ a, (k0_off276 v52 v105 v158 v211 v264 k0_t28) a + S1x16.size a ≤ S2050x32.size a)
theorem k0_t25_ok : ∀ (v52 : BitVec 32) (v105 : BitVec 32) (v158 : BitVec 32) (v211 : BitVec 32) (v264 : BitVec 32) (k0_hw78 : k0_chk78 v52 v105 v158 v211 v264), (k0_t25_loop v52 v105 v158 v211 v264).OK := fun v52 v105 v158 v211 v264 k0_hw78 => k0_hw78.1
theorem k0_off229_inb : ∀ (v52 : BitVec 32) (v105 : BitVec 32) (v158 : BitVec 32) (v211 : BitVec 32) (v264 : BitVec 32) (k0_hw78 : k0_chk78 v52 v105 v158 v211 v264) (k0_t25 : Fin (k0_t25_loop v52 v105 v158 v211 v264).trips), ∀ (r : Fin 2), ∀ a, (k0_off229 v52 v105 v158 v211 v264 k0_t25 (BitVec.ofNat 32 (1 + r.val))) a + S16.size a ≤ S4112.size a := fun v52 v105 v158 v211 v264 k0_hw78 k0_t25 r => k0_hw78.2.1 k0_t25 r
theorem k0_off246_inb : ∀ (v52 : BitVec 32) (v105 : BitVec 32) (v158 : BitVec 32) (v211 : BitVec 32) (v264 : BitVec 32) (k0_hw78 : k0_chk78 v52 v105 v158 v211 v264) (k0_t25 : Fin (k0_t25_loop v52 v105 v158 v211 v264).trips), ∀ (r : Fin 8), ∀ a, (k0_off246 v52 v105 v158 v211 v264 k0_t25 (BitVec.ofNat 32 r.val)) a + S1x16.size a ≤ S2050x32.size a := fun v52 v105 v158 v211 v264 k0_hw78 k0_t25 r => k0_hw78.2.2.1 k0_t25 r
theorem k0_off247_inb : ∀ (v52 : BitVec 32) (v105 : BitVec 32) (v158 : BitVec 32) (v211 : BitVec 32) (v264 : BitVec 32) (k0_hw78 : k0_chk78 v52 v105 v158 v211 v264) (k0_t25 : Fin (k0_t25_loop v52 v105 v158 v211 v264).trips), ∀ (r : Fin 8), ∀ a, (k0_off247 v52 v105 v158 v211 v264 k0_t25 (BitVec.ofNat 32 r.val)) a + S1x16.size a ≤ S2050x32.size a := fun v52 v105 v158 v211 v264 k0_hw78 k0_t25 r => k0_hw78.2.2.2.1 k0_t25 r
theorem k0_t26_ok : ∀ (v52 : BitVec 32) (v105 : BitVec 32) (v158 : BitVec 32) (v211 : BitVec 32) (v264 : BitVec 32) (k0_hw78 : k0_chk78 v52 v105 v158 v211 v264), (k0_t26_loop v52 v105 v158 v211 v264).OK := fun v52 v105 v158 v211 v264 k0_hw78 => k0_hw78.2.2.2.2.1
theorem k0_off248_inb : ∀ (v52 : BitVec 32) (v105 : BitVec 32) (v158 : BitVec 32) (v211 : BitVec 32) (v264 : BitVec 32) (k0_hw78 : k0_chk78 v52 v105 v158 v211 v264) (k0_t26 : Fin (k0_t26_loop v52 v105 v158 v211 v264).trips), ∀ (r : Fin 2), ∀ a, (k0_off248 v52 v105 v158 v211 v264 k0_t26 (BitVec.ofNat 32 (1 + r.val))) a + S16.size a ≤ S4112.size a := fun v52 v105 v158 v211 v264 k0_hw78 k0_t26 r => k0_hw78.2.2.2.2.2.1 k0_t26 r
theorem k0_off265_inb : ∀ (v52 : BitVec 32) (v105 : BitVec 32) (v158 : BitVec 32) (v211 : BitVec 32) (v264 : BitVec 32) (k0_hw78 : k0_chk78 v52 v105 v158 v211 v264) (k0_t26 : Fin (k0_t26_loop v52 v105 v158 v211 v264).trips), ∀ (r : Fin 8), ∀ a, (k0_off265 v52 v105 v158 v211 v264 k0_t26 (BitVec.ofNat 32 r.val)) a + S1x16.size a ≤ S2050x32.size a := fun v52 v105 v158 v211 v264 k0_hw78 k0_t26 r => k0_hw78.2.2.2.2.2.2.1 k0_t26 r
theorem k0_off266_inb : ∀ (v52 : BitVec 32) (v105 : BitVec 32) (v158 : BitVec 32) (v211 : BitVec 32) (v264 : BitVec 32) (k0_hw78 : k0_chk78 v52 v105 v158 v211 v264) (k0_t26 : Fin (k0_t26_loop v52 v105 v158 v211 v264).trips), ∀ (r : Fin 8), ∀ a, (k0_off266 v52 v105 v158 v211 v264 k0_t26 (BitVec.ofNat 32 r.val)) a + S1x16.size a ≤ S2050x32.size a := fun v52 v105 v158 v211 v264 k0_hw78 k0_t26 r => k0_hw78.2.2.2.2.2.2.2.1 k0_t26 r
theorem k0_t27_ok : ∀ (v52 : BitVec 32) (v105 : BitVec 32) (v158 : BitVec 32) (v211 : BitVec 32) (v264 : BitVec 32) (k0_hw78 : k0_chk78 v52 v105 v158 v211 v264), (k0_t27_loop v52 v105 v158 v211 v264).OK := fun v52 v105 v158 v211 v264 k0_hw78 => k0_hw78.2.2.2.2.2.2.2.2.1
theorem k0_off267_inb : ∀ (v52 : BitVec 32) (v105 : BitVec 32) (v158 : BitVec 32) (v211 : BitVec 32) (v264 : BitVec 32) (k0_hw78 : k0_chk78 v52 v105 v158 v211 v264) (k0_t27 : Fin (k0_t27_loop v52 v105 v158 v211 v264).trips), ∀ a, (k0_off267 v52 v105 v158 v211 v264 k0_t27) a + S16.size a ≤ S4112.size a := fun v52 v105 v158 v211 v264 k0_hw78 k0_t27 => k0_hw78.2.2.2.2.2.2.2.2.2.1 k0_t27
theorem k0_off270_inb : ∀ (v52 : BitVec 32) (v105 : BitVec 32) (v158 : BitVec 32) (v211 : BitVec 32) (v264 : BitVec 32) (k0_hw78 : k0_chk78 v52 v105 v158 v211 v264) (k0_t27 : Fin (k0_t27_loop v52 v105 v158 v211 v264).trips), ∀ a, (k0_off270 v52 v105 v158 v211 v264 k0_t27) a + S1x16.size a ≤ S2050x32.size a := fun v52 v105 v158 v211 v264 k0_hw78 k0_t27 => k0_hw78.2.2.2.2.2.2.2.2.2.2.1 k0_t27
theorem k0_off271_inb : ∀ (v52 : BitVec 32) (v105 : BitVec 32) (v158 : BitVec 32) (v211 : BitVec 32) (v264 : BitVec 32) (k0_hw78 : k0_chk78 v52 v105 v158 v211 v264) (k0_t27 : Fin (k0_t27_loop v52 v105 v158 v211 v264).trips), ∀ a, (k0_off271 v52 v105 v158 v211 v264 k0_t27) a + S1x16.size a ≤ S2050x32.size a := fun v52 v105 v158 v211 v264 k0_hw78 k0_t27 => k0_hw78.2.2.2.2.2.2.2.2.2.2.2.1 k0_t27
theorem k0_t28_ok : ∀ (v52 : BitVec 32) (v105 : BitVec 32) (v158 : BitVec 32) (v211 : BitVec 32) (v264 : BitVec 32) (k0_hw78 : k0_chk78 v52 v105 v158 v211 v264), (k0_t28_loop v52 v105 v158 v211 v264).OK := fun v52 v105 v158 v211 v264 k0_hw78 => k0_hw78.2.2.2.2.2.2.2.2.2.2.2.2.1
theorem k0_off272_inb : ∀ (v52 : BitVec 32) (v105 : BitVec 32) (v158 : BitVec 32) (v211 : BitVec 32) (v264 : BitVec 32) (k0_hw78 : k0_chk78 v52 v105 v158 v211 v264) (k0_t28 : Fin (k0_t28_loop v52 v105 v158 v211 v264).trips), ∀ a, (k0_off272 v52 v105 v158 v211 v264 k0_t28) a + S16.size a ≤ S4112.size a := fun v52 v105 v158 v211 v264 k0_hw78 k0_t28 => k0_hw78.2.2.2.2.2.2.2.2.2.2.2.2.2.1 k0_t28
theorem k0_off275_inb : ∀ (v52 : BitVec 32) (v105 : BitVec 32) (v158 : BitVec 32) (v211 : BitVec 32) (v264 : BitVec 32) (k0_hw78 : k0_chk78 v52 v105 v158 v211 v264) (k0_t28 : Fin (k0_t28_loop v52 v105 v158 v211 v264).trips), ∀ a, (k0_off275 v52 v105 v158 v211 v264 k0_t28) a + S1x16.size a ≤ S2050x32.size a := fun v52 v105 v158 v211 v264 k0_hw78 k0_t28 => k0_hw78.2.2.2.2.2.2.2.2.2.2.2.2.2.2.1 k0_t28
theorem k0_off276_inb : ∀ (v52 : BitVec 32) (v105 : BitVec 32) (v158 : BitVec 32) (v211 : BitVec 32) (v264 : BitVec 32) (k0_hw78 : k0_chk78 v52 v105 v158 v211 v264) (k0_t28 : Fin (k0_t28_loop v52 v105 v158 v211 v264).trips), ∀ a, (k0_off276 v52 v105 v158 v211 v264 k0_t28) a + S1x16.size a ≤ S2050x32.size a := fun v52 v105 v158 v211 v264 k0_hw78 k0_t28 => k0_hw78.2.2.2.2.2.2.2.2.2.2.2.2.2.2.2 k0_t28

def k0_off277 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c1280_i32_154 : BitVec 32 := 1280#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 1280, v3.toNat]
@[reducible] def k0_t29_loop : Scf.Loop 32 :=
  let c0_i32_156 : BitVec 32 := 0#32
  let c16_i32_157 : BitVec 32 := 16#32
  let v309 : BitVec 32 := Scalar.addi c0_i32_156 c16_i32_157
  let c1_i32_158 : BitVec 32 := 1#32
  ⟨c0_i32_156, v309, c1_i32_158⟩
def k0_off278 (k0_t29 : Fin k0_t29_loop.trips) (c0_i32_445 : BitVec 32) : Fin 2 → Nat :=
  let c0_i32_156 : BitVec 32 := 0#32
  let c1_i32_158 : BitVec 32 := 1#32
  let arg19 : BitVec 32 := Scf.iv c0_i32_156 c1_i32_158 k0_t29
  let c16_i32_444 : BitVec 32 := 16#32
  let v893 : BitVec 32 := Scalar.muli arg19 c16_i32_444
  let v894 : BitVec 32 := Scalar.addi v893 c0_i32_445
  let v895 : Index := Scalar.indexCast v894
  let c0_446 : Index := 0#32
  ![v895.toNat, 0]
def k0_off279 (k0_t29 : Fin k0_t29_loop.trips) (c0_i32_447 : BitVec 32) : Fin 2 → Nat :=
  let c0_i32_156 : BitVec 32 := 0#32
  let c1_i32_158 : BitVec 32 := 1#32
  let arg19 : BitVec 32 := Scf.iv c0_i32_156 c1_i32_158 k0_t29
  let c16_i32_444 : BitVec 32 := 16#32
  let v893 : BitVec 32 := Scalar.muli arg19 c16_i32_444
  let v898 : BitVec 32 := Scalar.addi v893 c0_i32_447
  let v899 : Index := Scalar.indexCast v898
  let c16_448 : Index := 16#32
  ![v899.toNat, 16]
def k0_off280 (k0_t29 : Fin k0_t29_loop.trips) (c0_i32_449 : BitVec 32) : Fin 2 → Nat :=
  let c0_i32_156 : BitVec 32 := 0#32
  let c1_i32_158 : BitVec 32 := 1#32
  let arg19 : BitVec 32 := Scf.iv c0_i32_156 c1_i32_158 k0_t29
  let c16_i32_444 : BitVec 32 := 16#32
  let v893 : BitVec 32 := Scalar.muli arg19 c16_i32_444
  let v902 : BitVec 32 := Scalar.addi v893 c0_i32_449
  let c1_i32_450 : BitVec 32 := 1#32
  let v903 : BitVec 32 := Scalar.addi v902 c1_i32_450
  let v904 : Index := Scalar.indexCast v903
  let c0_451 : Index := 0#32
  ![v904.toNat, 0]
def k0_off281 (k0_t29 : Fin k0_t29_loop.trips) (c0_i32_452 : BitVec 32) : Fin 2 → Nat :=
  let c0_i32_156 : BitVec 32 := 0#32
  let c1_i32_158 : BitVec 32 := 1#32
  let arg19 : BitVec 32 := Scf.iv c0_i32_156 c1_i32_158 k0_t29
  let c16_i32_444 : BitVec 32 := 16#32
  let v893 : BitVec 32 := Scalar.muli arg19 c16_i32_444
  let v906 : BitVec 32 := Scalar.addi v893 c0_i32_452
  let c1_i32_453 : BitVec 32 := 1#32
  let v907 : BitVec 32 := Scalar.addi v906 c1_i32_453
  let v908 : Index := Scalar.indexCast v907
  let c16_454 : Index := 16#32
  ![v908.toNat, 16]
def k0_off282 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c1792_i32 : BitVec 32 := 1792#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 1792, v3.toNat]
@[reducible] def k0_t30_loop (v52 : BitVec 32) (v105 : BitVec 32) (v158 : BitVec 32) (v211 : BitVec 32) (v264 : BitVec 32) (v317 : BitVec 32) : Scf.Loop 32 :=
  let c0_i32_171 : BitVec 32 := 0#32
  let c1_i32_161 : BitVec 32 := 1#32
  let v318 : BitVec 32 := Scalar.subi v317 c1_i32_161
  let c2049_i32_162 : BitVec 32 := 2049#32
  let v319 : BitVec 32 := Scalar.minsi v318 c2049_i32_162
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let v320 : BitVec 32 := Scalar.subi v319 v304
  let c0_i32_163 : BitVec 32 := 0#32
  let v321 : BitVec 32 := Scalar.maxsi v320 c0_i32_163
  let c0_i32_165 : BitVec 32 := 0#32
  let v323 : BitVec 1 := Scalar.cmpi .sgt v321 c0_i32_165
  let v324 : BitVec 32 := Scalar.extui v323
  let c0_i32_166 : BitVec 32 := 0#32
  let v325 : BitVec 1 := Scalar.cmpi .slt v321 c0_i32_166
  let v326 : BitVec 32 := Scalar.extui v325
  let v327 : BitVec 32 := Scalar.subi v324 v326
  let c8_i32_164 : BitVec 32 := 8#32
  let c0_i32_167 : BitVec 32 := 0#32
  let v328 : BitVec 1 := Scalar.cmpi .sgt c8_i32_164 c0_i32_167
  let v329 : BitVec 32 := Scalar.extui v328
  let c0_i32_168 : BitVec 32 := 0#32
  let v330 : BitVec 1 := Scalar.cmpi .slt c8_i32_164 c0_i32_168
  let v331 : BitVec 32 := Scalar.extui v330
  let v332 : BitVec 32 := Scalar.subi v329 v331
  let v333 : BitVec 1 := Scalar.cmpi .ne v327 v332
  let v334 : BitVec 32 := Scalar.remsi v321 c8_i32_164
  let c0_i32_169 : BitVec 32 := 0#32
  let v335 : BitVec 1 := Scalar.cmpi .ne v334 c0_i32_169
  let v336 : BitVec 1 := Scalar.andi v333 v335
  let v322 : BitVec 32 := Scalar.divsi v321 c8_i32_164
  let c1_i32_170 : BitVec 32 := 1#32
  let v337 : BitVec 32 := Scalar.subi v322 c1_i32_170
  let v338 : BitVec 32 := Scalar.select v336 v337 v322
  let v339 : BitVec 32 := Scalar.subi v338 c0_i32_171
  let c1_i32_172 : BitVec 32 := 1#32
  let v341 : BitVec 32 := Scalar.divsi v339 c1_i32_172
  let v342 : BitVec 32 := Scalar.muli v341 c1_i32_172
  let v343 : BitVec 32 := Scalar.addi c0_i32_171 v342
  let c1_i32_173 : BitVec 32 := 1#32
  ⟨c0_i32_171, v343, c1_i32_173⟩

def k0_off283 (v52 : BitVec 32) (v105 : BitVec 32) (v158 : BitVec 32) (v211 : BitVec 32) (v264 : BitVec 32) (v317 : BitVec 32) (k0_t30 : Fin (k0_t30_loop v52 v105 v158 v211 v264 v317).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c0_i32_171 : BitVec 32 := 0#32
  let c1_i32_173 : BitVec 32 := 1#32
  let arg19 : BitVec 32 := Scf.iv c0_i32_171 c1_i32_173 k0_t30
  let c8_i32_444 : BitVec 32 := 8#32
  let v893 : BitVec 32 := Scalar.muli arg19 c8_i32_444
  let v894 : BitVec 32 := Scalar.addi v304 v893
  let v895 : BitVec 32 := Scalar.addi v894 c1_i32_445
  let v896 : Index := Scalar.indexCast v895
  ![v896.toNat]
def k0_off284 (v912 : BitVec 32) : Fin 2 → Nat :=
  let c1280_i32_451 : BitVec 32 := 1280#32
  let v913 : BitVec 32 := Scalar.subi v912 c1280_i32_451
  let v914 : Index := Scalar.indexCast v913
  let c0_452 : Index := 0#32
  ![v914.toNat, 0]

def k0_off285 (v912 : BitVec 32) : Fin 2 → Nat :=
  let c1280_i32_451 : BitVec 32 := 1280#32
  let v913 : BitVec 32 := Scalar.subi v912 c1280_i32_451
  let v917 : Index := Scalar.indexCast v913
  let c16_453 : Index := 16#32
  ![v917.toNat, 16]

def k0_chk98 (v912 : BitVec 32) : Prop :=
  (∀ a, (k0_off284 v912) a + S1x16.size a ≤ S257x32.size a) ∧
  (∀ a, (k0_off285 v912) a + S1x16.size a ≤ S257x32.size a)
theorem k0_off284_inb : ∀ (v912 : BitVec 32) (k0_hw98 : k0_chk98 v912), ∀ a, (k0_off284 v912) a + S1x16.size a ≤ S257x32.size a := fun v912 k0_hw98 => k0_hw98.1
theorem k0_off285_inb : ∀ (v912 : BitVec 32) (k0_hw98 : k0_chk98 v912), ∀ a, (k0_off285 v912) a + S1x16.size a ≤ S257x32.size a := fun v912 k0_hw98 => k0_hw98.2

def k0_off286 (v921 : BitVec 32) : Fin 2 → Nat :=
  let c1280_i32_454 : BitVec 32 := 1280#32
  let v922 : BitVec 32 := Scalar.subi v921 c1280_i32_454
  let v923 : Index := Scalar.indexCast v922
  let c0_455 : Index := 0#32
  ![v923.toNat, 0]

def k0_off287 (v921 : BitVec 32) : Fin 2 → Nat :=
  let c1280_i32_454 : BitVec 32 := 1280#32
  let v922 : BitVec 32 := Scalar.subi v921 c1280_i32_454
  let v926 : Index := Scalar.indexCast v922
  let c16_456 : Index := 16#32
  ![v926.toNat, 16]

def k0_chk99 (v921 : BitVec 32) : Prop :=
  (∀ a, (k0_off286 v921) a + S1x16.size a ≤ S257x32.size a) ∧
  (∀ a, (k0_off287 v921) a + S1x16.size a ≤ S257x32.size a)
theorem k0_off286_inb : ∀ (v921 : BitVec 32) (k0_hw99 : k0_chk99 v921), ∀ a, (k0_off286 v921) a + S1x16.size a ≤ S257x32.size a := fun v921 k0_hw99 => k0_hw99.1
theorem k0_off287_inb : ∀ (v921 : BitVec 32) (k0_hw99 : k0_chk99 v921), ∀ a, (k0_off287 v921) a + S1x16.size a ≤ S257x32.size a := fun v921 k0_hw99 => k0_hw99.2

def k0_off288 (v930 : BitVec 32) : Fin 2 → Nat :=
  let c1280_i32_457 : BitVec 32 := 1280#32
  let v931 : BitVec 32 := Scalar.subi v930 c1280_i32_457
  let v932 : Index := Scalar.indexCast v931
  let c0_458 : Index := 0#32
  ![v932.toNat, 0]

def k0_off289 (v930 : BitVec 32) : Fin 2 → Nat :=
  let c1280_i32_457 : BitVec 32 := 1280#32
  let v931 : BitVec 32 := Scalar.subi v930 c1280_i32_457
  let v935 : Index := Scalar.indexCast v931
  let c16_459 : Index := 16#32
  ![v935.toNat, 16]

def k0_chk100 (v930 : BitVec 32) : Prop :=
  (∀ a, (k0_off288 v930) a + S1x16.size a ≤ S257x32.size a) ∧
  (∀ a, (k0_off289 v930) a + S1x16.size a ≤ S257x32.size a)
theorem k0_off288_inb : ∀ (v930 : BitVec 32) (k0_hw100 : k0_chk100 v930), ∀ a, (k0_off288 v930) a + S1x16.size a ≤ S257x32.size a := fun v930 k0_hw100 => k0_hw100.1
theorem k0_off289_inb : ∀ (v930 : BitVec 32) (k0_hw100 : k0_chk100 v930), ∀ a, (k0_off289 v930) a + S1x16.size a ≤ S257x32.size a := fun v930 k0_hw100 => k0_hw100.2

def k0_off290 (v939 : BitVec 32) : Fin 2 → Nat :=
  let c1280_i32_460 : BitVec 32 := 1280#32
  let v940 : BitVec 32 := Scalar.subi v939 c1280_i32_460
  let v941 : Index := Scalar.indexCast v940
  let c0_461 : Index := 0#32
  ![v941.toNat, 0]

def k0_off291 (v939 : BitVec 32) : Fin 2 → Nat :=
  let c1280_i32_460 : BitVec 32 := 1280#32
  let v940 : BitVec 32 := Scalar.subi v939 c1280_i32_460
  let v944 : Index := Scalar.indexCast v940
  let c16_462 : Index := 16#32
  ![v944.toNat, 16]

def k0_chk101 (v939 : BitVec 32) : Prop :=
  (∀ a, (k0_off290 v939) a + S1x16.size a ≤ S257x32.size a) ∧
  (∀ a, (k0_off291 v939) a + S1x16.size a ≤ S257x32.size a)
theorem k0_off290_inb : ∀ (v939 : BitVec 32) (k0_hw101 : k0_chk101 v939), ∀ a, (k0_off290 v939) a + S1x16.size a ≤ S257x32.size a := fun v939 k0_hw101 => k0_hw101.1
theorem k0_off291_inb : ∀ (v939 : BitVec 32) (k0_hw101 : k0_chk101 v939), ∀ a, (k0_off291 v939) a + S1x16.size a ≤ S257x32.size a := fun v939 k0_hw101 => k0_hw101.2

def k0_off292 (v948 : BitVec 32) : Fin 2 → Nat :=
  let c1280_i32_463 : BitVec 32 := 1280#32
  let v949 : BitVec 32 := Scalar.subi v948 c1280_i32_463
  let v950 : Index := Scalar.indexCast v949
  let c0_464 : Index := 0#32
  ![v950.toNat, 0]

def k0_off293 (v948 : BitVec 32) : Fin 2 → Nat :=
  let c1280_i32_463 : BitVec 32 := 1280#32
  let v949 : BitVec 32 := Scalar.subi v948 c1280_i32_463
  let v953 : Index := Scalar.indexCast v949
  let c16_465 : Index := 16#32
  ![v953.toNat, 16]

def k0_chk102 (v948 : BitVec 32) : Prop :=
  (∀ a, (k0_off292 v948) a + S1x16.size a ≤ S257x32.size a) ∧
  (∀ a, (k0_off293 v948) a + S1x16.size a ≤ S257x32.size a)
theorem k0_off292_inb : ∀ (v948 : BitVec 32) (k0_hw102 : k0_chk102 v948), ∀ a, (k0_off292 v948) a + S1x16.size a ≤ S257x32.size a := fun v948 k0_hw102 => k0_hw102.1
theorem k0_off293_inb : ∀ (v948 : BitVec 32) (k0_hw102 : k0_chk102 v948), ∀ a, (k0_off293 v948) a + S1x16.size a ≤ S257x32.size a := fun v948 k0_hw102 => k0_hw102.2

def k0_off294 (v957 : BitVec 32) : Fin 2 → Nat :=
  let c1280_i32_466 : BitVec 32 := 1280#32
  let v958 : BitVec 32 := Scalar.subi v957 c1280_i32_466
  let v959 : Index := Scalar.indexCast v958
  let c0_467 : Index := 0#32
  ![v959.toNat, 0]

def k0_off295 (v957 : BitVec 32) : Fin 2 → Nat :=
  let c1280_i32_466 : BitVec 32 := 1280#32
  let v958 : BitVec 32 := Scalar.subi v957 c1280_i32_466
  let v962 : Index := Scalar.indexCast v958
  let c16_468 : Index := 16#32
  ![v962.toNat, 16]

def k0_chk103 (v957 : BitVec 32) : Prop :=
  (∀ a, (k0_off294 v957) a + S1x16.size a ≤ S257x32.size a) ∧
  (∀ a, (k0_off295 v957) a + S1x16.size a ≤ S257x32.size a)
theorem k0_off294_inb : ∀ (v957 : BitVec 32) (k0_hw103 : k0_chk103 v957), ∀ a, (k0_off294 v957) a + S1x16.size a ≤ S257x32.size a := fun v957 k0_hw103 => k0_hw103.1
theorem k0_off295_inb : ∀ (v957 : BitVec 32) (k0_hw103 : k0_chk103 v957), ∀ a, (k0_off295 v957) a + S1x16.size a ≤ S257x32.size a := fun v957 k0_hw103 => k0_hw103.2

def k0_off296 (v966 : BitVec 32) : Fin 2 → Nat :=
  let c1280_i32_469 : BitVec 32 := 1280#32
  let v967 : BitVec 32 := Scalar.subi v966 c1280_i32_469
  let v968 : Index := Scalar.indexCast v967
  let c0_470 : Index := 0#32
  ![v968.toNat, 0]

def k0_off297 (v966 : BitVec 32) : Fin 2 → Nat :=
  let c1280_i32_469 : BitVec 32 := 1280#32
  let v967 : BitVec 32 := Scalar.subi v966 c1280_i32_469
  let v971 : Index := Scalar.indexCast v967
  let c16_471 : Index := 16#32
  ![v971.toNat, 16]

def k0_chk104 (v966 : BitVec 32) : Prop :=
  (∀ a, (k0_off296 v966) a + S1x16.size a ≤ S257x32.size a) ∧
  (∀ a, (k0_off297 v966) a + S1x16.size a ≤ S257x32.size a)
theorem k0_off296_inb : ∀ (v966 : BitVec 32) (k0_hw104 : k0_chk104 v966), ∀ a, (k0_off296 v966) a + S1x16.size a ≤ S257x32.size a := fun v966 k0_hw104 => k0_hw104.1
theorem k0_off297_inb : ∀ (v966 : BitVec 32) (k0_hw104 : k0_chk104 v966), ∀ a, (k0_off297 v966) a + S1x16.size a ≤ S257x32.size a := fun v966 k0_hw104 => k0_hw104.2

def k0_off298 (v975 : BitVec 32) : Fin 2 → Nat :=
  let c1280_i32_472 : BitVec 32 := 1280#32
  let v976 : BitVec 32 := Scalar.subi v975 c1280_i32_472
  let v977 : Index := Scalar.indexCast v976
  let c0_473 : Index := 0#32
  ![v977.toNat, 0]

def k0_off299 (v975 : BitVec 32) : Fin 2 → Nat :=
  let c1280_i32_472 : BitVec 32 := 1280#32
  let v976 : BitVec 32 := Scalar.subi v975 c1280_i32_472
  let v980 : Index := Scalar.indexCast v976
  let c16_474 : Index := 16#32
  ![v980.toNat, 16]

def k0_chk105 (v975 : BitVec 32) : Prop :=
  (∀ a, (k0_off298 v975) a + S1x16.size a ≤ S257x32.size a) ∧
  (∀ a, (k0_off299 v975) a + S1x16.size a ≤ S257x32.size a)
theorem k0_off298_inb : ∀ (v975 : BitVec 32) (k0_hw105 : k0_chk105 v975), ∀ a, (k0_off298 v975) a + S1x16.size a ≤ S257x32.size a := fun v975 k0_hw105 => k0_hw105.1
theorem k0_off299_inb : ∀ (v975 : BitVec 32) (k0_hw105 : k0_chk105 v975), ∀ a, (k0_off299 v975) a + S1x16.size a ≤ S257x32.size a := fun v975 k0_hw105 => k0_hw105.2

def k0_off300 (v52 : BitVec 32) (v105 : BitVec 32) (v158 : BitVec 32) (v211 : BitVec 32) (v264 : BitVec 32) (v317 : BitVec 32) (k0_t30 : Fin (k0_t30_loop v52 v105 v158 v211 v264 v317).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c0_i32_171 : BitVec 32 := 0#32
  let c1_i32_173 : BitVec 32 := 1#32
  let arg19 : BitVec 32 := Scf.iv c0_i32_171 c1_i32_173 k0_t30
  let c8_i32_444 : BitVec 32 := 8#32
  let v893 : BitVec 32 := Scalar.muli arg19 c8_i32_444
  let v894 : BitVec 32 := Scalar.addi v304 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off301 (v52 : BitVec 32) (v105 : BitVec 32) (v158 : BitVec 32) (v211 : BitVec 32) (v264 : BitVec 32) (v317 : BitVec 32) (k0_t30 : Fin (k0_t30_loop v52 v105 v158 v211 v264 v317).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c0_i32_171 : BitVec 32 := 0#32
  let c1_i32_173 : BitVec 32 := 1#32
  let arg19 : BitVec 32 := Scf.iv c0_i32_171 c1_i32_173 k0_t30
  let c8_i32_444 : BitVec 32 := 8#32
  let v893 : BitVec 32 := Scalar.muli arg19 c8_i32_444
  let v894 : BitVec 32 := Scalar.addi v304 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t31_loop (v52 : BitVec 32) (v105 : BitVec 32) (v158 : BitVec 32) (v211 : BitVec 32) (v264 : BitVec 32) (v317 : BitVec 32) : Scf.Loop 32 :=
  let c0_i32_171 : BitVec 32 := 0#32
  let c1_i32_161 : BitVec 32 := 1#32
  let v318 : BitVec 32 := Scalar.subi v317 c1_i32_161
  let c2049_i32_162 : BitVec 32 := 2049#32
  let v319 : BitVec 32 := Scalar.minsi v318 c2049_i32_162
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let v320 : BitVec 32 := Scalar.subi v319 v304
  let c0_i32_163 : BitVec 32 := 0#32
  let v321 : BitVec 32 := Scalar.maxsi v320 c0_i32_163
  let c0_i32_165 : BitVec 32 := 0#32
  let v323 : BitVec 1 := Scalar.cmpi .sgt v321 c0_i32_165
  let v324 : BitVec 32 := Scalar.extui v323
  let c0_i32_166 : BitVec 32 := 0#32
  let v325 : BitVec 1 := Scalar.cmpi .slt v321 c0_i32_166
  let v326 : BitVec 32 := Scalar.extui v325
  let v327 : BitVec 32 := Scalar.subi v324 v326
  let c8_i32_164 : BitVec 32 := 8#32
  let c0_i32_167 : BitVec 32 := 0#32
  let v328 : BitVec 1 := Scalar.cmpi .sgt c8_i32_164 c0_i32_167
  let v329 : BitVec 32 := Scalar.extui v328
  let c0_i32_168 : BitVec 32 := 0#32
  let v330 : BitVec 1 := Scalar.cmpi .slt c8_i32_164 c0_i32_168
  let v331 : BitVec 32 := Scalar.extui v330
  let v332 : BitVec 32 := Scalar.subi v329 v331
  let v333 : BitVec 1 := Scalar.cmpi .ne v327 v332
  let v334 : BitVec 32 := Scalar.remsi v321 c8_i32_164
  let c0_i32_169 : BitVec 32 := 0#32
  let v335 : BitVec 1 := Scalar.cmpi .ne v334 c0_i32_169
  let v336 : BitVec 1 := Scalar.andi v333 v335
  let v322 : BitVec 32 := Scalar.divsi v321 c8_i32_164
  let c1_i32_170 : BitVec 32 := 1#32
  let v337 : BitVec 32 := Scalar.subi v322 c1_i32_170
  let v338 : BitVec 32 := Scalar.select v336 v337 v322
  let v339 : BitVec 32 := Scalar.subi v338 c0_i32_171
  let c1_i32_172 : BitVec 32 := 1#32
  let v341 : BitVec 32 := Scalar.divsi v339 c1_i32_172
  let v342 : BitVec 32 := Scalar.muli v341 c1_i32_172
  let v343 : BitVec 32 := Scalar.addi c0_i32_171 v342
  let v340 : BitVec 32 := Scalar.addi c0_i32_171 v339
  let c1_i32_174 : BitVec 32 := 1#32
  ⟨v343, v340, c1_i32_174⟩
def k0_off302 (v52 : BitVec 32) (v105 : BitVec 32) (v158 : BitVec 32) (v211 : BitVec 32) (v264 : BitVec 32) (v317 : BitVec 32) (k0_t31 : Fin (k0_t31_loop v52 v105 v158 v211 v264 v317).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c0_i32_171 : BitVec 32 := 0#32
  let c1_i32_161 : BitVec 32 := 1#32
  let v318 : BitVec 32 := Scalar.subi v317 c1_i32_161
  let c2049_i32_162 : BitVec 32 := 2049#32
  let v319 : BitVec 32 := Scalar.minsi v318 c2049_i32_162
  let v320 : BitVec 32 := Scalar.subi v319 v304
  let c0_i32_163 : BitVec 32 := 0#32
  let v321 : BitVec 32 := Scalar.maxsi v320 c0_i32_163
  let c0_i32_165 : BitVec 32 := 0#32
  let v323 : BitVec 1 := Scalar.cmpi .sgt v321 c0_i32_165
  let v324 : BitVec 32 := Scalar.extui v323
  let c0_i32_166 : BitVec 32 := 0#32
  let v325 : BitVec 1 := Scalar.cmpi .slt v321 c0_i32_166
  let v326 : BitVec 32 := Scalar.extui v325
  let v327 : BitVec 32 := Scalar.subi v324 v326
  let c8_i32_164 : BitVec 32 := 8#32
  let c0_i32_167 : BitVec 32 := 0#32
  let v328 : BitVec 1 := Scalar.cmpi .sgt c8_i32_164 c0_i32_167
  let v329 : BitVec 32 := Scalar.extui v328
  let c0_i32_168 : BitVec 32 := 0#32
  let v330 : BitVec 1 := Scalar.cmpi .slt c8_i32_164 c0_i32_168
  let v331 : BitVec 32 := Scalar.extui v330
  let v332 : BitVec 32 := Scalar.subi v329 v331
  let v333 : BitVec 1 := Scalar.cmpi .ne v327 v332
  let v334 : BitVec 32 := Scalar.remsi v321 c8_i32_164
  let c0_i32_169 : BitVec 32 := 0#32
  let v335 : BitVec 1 := Scalar.cmpi .ne v334 c0_i32_169
  let v336 : BitVec 1 := Scalar.andi v333 v335
  let v322 : BitVec 32 := Scalar.divsi v321 c8_i32_164
  let c1_i32_170 : BitVec 32 := 1#32
  let v337 : BitVec 32 := Scalar.subi v322 c1_i32_170
  let v338 : BitVec 32 := Scalar.select v336 v337 v322
  let v339 : BitVec 32 := Scalar.subi v338 c0_i32_171
  let c1_i32_172 : BitVec 32 := 1#32
  let v341 : BitVec 32 := Scalar.divsi v339 c1_i32_172
  let v342 : BitVec 32 := Scalar.muli v341 c1_i32_172
  let v343 : BitVec 32 := Scalar.addi c0_i32_171 v342
  let c1_i32_174 : BitVec 32 := 1#32
  let arg19 : BitVec 32 := Scf.iv v343 c1_i32_174 k0_t31
  let c8_i32_444 : BitVec 32 := 8#32
  let v893 : BitVec 32 := Scalar.muli arg19 c8_i32_444
  let v894 : BitVec 32 := Scalar.addi v304 v893
  let v895 : BitVec 32 := Scalar.addi v894 c1_i32_445
  let v896 : Index := Scalar.indexCast v895
  ![v896.toNat]
def k0_off303 (v912 : BitVec 32) : Fin 2 → Nat :=
  let c1280_i32_451 : BitVec 32 := 1280#32
  let v913 : BitVec 32 := Scalar.subi v912 c1280_i32_451
  let v914 : Index := Scalar.indexCast v913
  let c0_452 : Index := 0#32
  ![v914.toNat, 0]

def k0_off304 (v912 : BitVec 32) : Fin 2 → Nat :=
  let c1280_i32_451 : BitVec 32 := 1280#32
  let v913 : BitVec 32 := Scalar.subi v912 c1280_i32_451
  let v917 : Index := Scalar.indexCast v913
  let c16_453 : Index := 16#32
  ![v917.toNat, 16]

def k0_chk106 (v912 : BitVec 32) : Prop :=
  (∀ a, (k0_off303 v912) a + S1x16.size a ≤ S257x32.size a) ∧
  (∀ a, (k0_off304 v912) a + S1x16.size a ≤ S257x32.size a)
theorem k0_off303_inb : ∀ (v912 : BitVec 32) (k0_hw106 : k0_chk106 v912), ∀ a, (k0_off303 v912) a + S1x16.size a ≤ S257x32.size a := fun v912 k0_hw106 => k0_hw106.1
theorem k0_off304_inb : ∀ (v912 : BitVec 32) (k0_hw106 : k0_chk106 v912), ∀ a, (k0_off304 v912) a + S1x16.size a ≤ S257x32.size a := fun v912 k0_hw106 => k0_hw106.2

def k0_off305 (v921 : BitVec 32) : Fin 2 → Nat :=
  let c1280_i32_454 : BitVec 32 := 1280#32
  let v922 : BitVec 32 := Scalar.subi v921 c1280_i32_454
  let v923 : Index := Scalar.indexCast v922
  let c0_455 : Index := 0#32
  ![v923.toNat, 0]

def k0_off306 (v921 : BitVec 32) : Fin 2 → Nat :=
  let c1280_i32_454 : BitVec 32 := 1280#32
  let v922 : BitVec 32 := Scalar.subi v921 c1280_i32_454
  let v926 : Index := Scalar.indexCast v922
  let c16_456 : Index := 16#32
  ![v926.toNat, 16]

def k0_chk107 (v921 : BitVec 32) : Prop :=
  (∀ a, (k0_off305 v921) a + S1x16.size a ≤ S257x32.size a) ∧
  (∀ a, (k0_off306 v921) a + S1x16.size a ≤ S257x32.size a)
theorem k0_off305_inb : ∀ (v921 : BitVec 32) (k0_hw107 : k0_chk107 v921), ∀ a, (k0_off305 v921) a + S1x16.size a ≤ S257x32.size a := fun v921 k0_hw107 => k0_hw107.1
theorem k0_off306_inb : ∀ (v921 : BitVec 32) (k0_hw107 : k0_chk107 v921), ∀ a, (k0_off306 v921) a + S1x16.size a ≤ S257x32.size a := fun v921 k0_hw107 => k0_hw107.2

def k0_off307 (v930 : BitVec 32) : Fin 2 → Nat :=
  let c1280_i32_457 : BitVec 32 := 1280#32
  let v931 : BitVec 32 := Scalar.subi v930 c1280_i32_457
  let v932 : Index := Scalar.indexCast v931
  let c0_458 : Index := 0#32
  ![v932.toNat, 0]

def k0_off308 (v930 : BitVec 32) : Fin 2 → Nat :=
  let c1280_i32_457 : BitVec 32 := 1280#32
  let v931 : BitVec 32 := Scalar.subi v930 c1280_i32_457
  let v935 : Index := Scalar.indexCast v931
  let c16_459 : Index := 16#32
  ![v935.toNat, 16]

def k0_chk108 (v930 : BitVec 32) : Prop :=
  (∀ a, (k0_off307 v930) a + S1x16.size a ≤ S257x32.size a) ∧
  (∀ a, (k0_off308 v930) a + S1x16.size a ≤ S257x32.size a)
theorem k0_off307_inb : ∀ (v930 : BitVec 32) (k0_hw108 : k0_chk108 v930), ∀ a, (k0_off307 v930) a + S1x16.size a ≤ S257x32.size a := fun v930 k0_hw108 => k0_hw108.1
theorem k0_off308_inb : ∀ (v930 : BitVec 32) (k0_hw108 : k0_chk108 v930), ∀ a, (k0_off308 v930) a + S1x16.size a ≤ S257x32.size a := fun v930 k0_hw108 => k0_hw108.2

def k0_off309 (v939 : BitVec 32) : Fin 2 → Nat :=
  let c1280_i32_460 : BitVec 32 := 1280#32
  let v940 : BitVec 32 := Scalar.subi v939 c1280_i32_460
  let v941 : Index := Scalar.indexCast v940
  let c0_461 : Index := 0#32
  ![v941.toNat, 0]

def k0_off310 (v939 : BitVec 32) : Fin 2 → Nat :=
  let c1280_i32_460 : BitVec 32 := 1280#32
  let v940 : BitVec 32 := Scalar.subi v939 c1280_i32_460
  let v944 : Index := Scalar.indexCast v940
  let c16_462 : Index := 16#32
  ![v944.toNat, 16]

def k0_chk109 (v939 : BitVec 32) : Prop :=
  (∀ a, (k0_off309 v939) a + S1x16.size a ≤ S257x32.size a) ∧
  (∀ a, (k0_off310 v939) a + S1x16.size a ≤ S257x32.size a)
theorem k0_off309_inb : ∀ (v939 : BitVec 32) (k0_hw109 : k0_chk109 v939), ∀ a, (k0_off309 v939) a + S1x16.size a ≤ S257x32.size a := fun v939 k0_hw109 => k0_hw109.1
theorem k0_off310_inb : ∀ (v939 : BitVec 32) (k0_hw109 : k0_chk109 v939), ∀ a, (k0_off310 v939) a + S1x16.size a ≤ S257x32.size a := fun v939 k0_hw109 => k0_hw109.2

def k0_off311 (v948 : BitVec 32) : Fin 2 → Nat :=
  let c1280_i32_463 : BitVec 32 := 1280#32
  let v949 : BitVec 32 := Scalar.subi v948 c1280_i32_463
  let v950 : Index := Scalar.indexCast v949
  let c0_464 : Index := 0#32
  ![v950.toNat, 0]

def k0_off312 (v948 : BitVec 32) : Fin 2 → Nat :=
  let c1280_i32_463 : BitVec 32 := 1280#32
  let v949 : BitVec 32 := Scalar.subi v948 c1280_i32_463
  let v953 : Index := Scalar.indexCast v949
  let c16_465 : Index := 16#32
  ![v953.toNat, 16]

def k0_chk110 (v948 : BitVec 32) : Prop :=
  (∀ a, (k0_off311 v948) a + S1x16.size a ≤ S257x32.size a) ∧
  (∀ a, (k0_off312 v948) a + S1x16.size a ≤ S257x32.size a)
theorem k0_off311_inb : ∀ (v948 : BitVec 32) (k0_hw110 : k0_chk110 v948), ∀ a, (k0_off311 v948) a + S1x16.size a ≤ S257x32.size a := fun v948 k0_hw110 => k0_hw110.1
theorem k0_off312_inb : ∀ (v948 : BitVec 32) (k0_hw110 : k0_chk110 v948), ∀ a, (k0_off312 v948) a + S1x16.size a ≤ S257x32.size a := fun v948 k0_hw110 => k0_hw110.2

def k0_off313 (v957 : BitVec 32) : Fin 2 → Nat :=
  let c1280_i32_466 : BitVec 32 := 1280#32
  let v958 : BitVec 32 := Scalar.subi v957 c1280_i32_466
  let v959 : Index := Scalar.indexCast v958
  let c0_467 : Index := 0#32
  ![v959.toNat, 0]

def k0_off314 (v957 : BitVec 32) : Fin 2 → Nat :=
  let c1280_i32_466 : BitVec 32 := 1280#32
  let v958 : BitVec 32 := Scalar.subi v957 c1280_i32_466
  let v962 : Index := Scalar.indexCast v958
  let c16_468 : Index := 16#32
  ![v962.toNat, 16]

def k0_chk111 (v957 : BitVec 32) : Prop :=
  (∀ a, (k0_off313 v957) a + S1x16.size a ≤ S257x32.size a) ∧
  (∀ a, (k0_off314 v957) a + S1x16.size a ≤ S257x32.size a)
theorem k0_off313_inb : ∀ (v957 : BitVec 32) (k0_hw111 : k0_chk111 v957), ∀ a, (k0_off313 v957) a + S1x16.size a ≤ S257x32.size a := fun v957 k0_hw111 => k0_hw111.1
theorem k0_off314_inb : ∀ (v957 : BitVec 32) (k0_hw111 : k0_chk111 v957), ∀ a, (k0_off314 v957) a + S1x16.size a ≤ S257x32.size a := fun v957 k0_hw111 => k0_hw111.2

def k0_off315 (v966 : BitVec 32) : Fin 2 → Nat :=
  let c1280_i32_469 : BitVec 32 := 1280#32
  let v967 : BitVec 32 := Scalar.subi v966 c1280_i32_469
  let v968 : Index := Scalar.indexCast v967
  let c0_470 : Index := 0#32
  ![v968.toNat, 0]

def k0_off316 (v966 : BitVec 32) : Fin 2 → Nat :=
  let c1280_i32_469 : BitVec 32 := 1280#32
  let v967 : BitVec 32 := Scalar.subi v966 c1280_i32_469
  let v971 : Index := Scalar.indexCast v967
  let c16_471 : Index := 16#32
  ![v971.toNat, 16]

def k0_chk112 (v966 : BitVec 32) : Prop :=
  (∀ a, (k0_off315 v966) a + S1x16.size a ≤ S257x32.size a) ∧
  (∀ a, (k0_off316 v966) a + S1x16.size a ≤ S257x32.size a)
theorem k0_off315_inb : ∀ (v966 : BitVec 32) (k0_hw112 : k0_chk112 v966), ∀ a, (k0_off315 v966) a + S1x16.size a ≤ S257x32.size a := fun v966 k0_hw112 => k0_hw112.1
theorem k0_off316_inb : ∀ (v966 : BitVec 32) (k0_hw112 : k0_chk112 v966), ∀ a, (k0_off316 v966) a + S1x16.size a ≤ S257x32.size a := fun v966 k0_hw112 => k0_hw112.2

def k0_off317 (v975 : BitVec 32) : Fin 2 → Nat :=
  let c1280_i32_472 : BitVec 32 := 1280#32
  let v976 : BitVec 32 := Scalar.subi v975 c1280_i32_472
  let v977 : Index := Scalar.indexCast v976
  let c0_473 : Index := 0#32
  ![v977.toNat, 0]

def k0_off318 (v975 : BitVec 32) : Fin 2 → Nat :=
  let c1280_i32_472 : BitVec 32 := 1280#32
  let v976 : BitVec 32 := Scalar.subi v975 c1280_i32_472
  let v980 : Index := Scalar.indexCast v976
  let c16_474 : Index := 16#32
  ![v980.toNat, 16]

def k0_chk113 (v975 : BitVec 32) : Prop :=
  (∀ a, (k0_off317 v975) a + S1x16.size a ≤ S257x32.size a) ∧
  (∀ a, (k0_off318 v975) a + S1x16.size a ≤ S257x32.size a)
theorem k0_off317_inb : ∀ (v975 : BitVec 32) (k0_hw113 : k0_chk113 v975), ∀ a, (k0_off317 v975) a + S1x16.size a ≤ S257x32.size a := fun v975 k0_hw113 => k0_hw113.1
theorem k0_off318_inb : ∀ (v975 : BitVec 32) (k0_hw113 : k0_chk113 v975), ∀ a, (k0_off318 v975) a + S1x16.size a ≤ S257x32.size a := fun v975 k0_hw113 => k0_hw113.2

def k0_off319 (v52 : BitVec 32) (v105 : BitVec 32) (v158 : BitVec 32) (v211 : BitVec 32) (v264 : BitVec 32) (v317 : BitVec 32) (k0_t31 : Fin (k0_t31_loop v52 v105 v158 v211 v264 v317).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c0_i32_171 : BitVec 32 := 0#32
  let c1_i32_161 : BitVec 32 := 1#32
  let v318 : BitVec 32 := Scalar.subi v317 c1_i32_161
  let c2049_i32_162 : BitVec 32 := 2049#32
  let v319 : BitVec 32 := Scalar.minsi v318 c2049_i32_162
  let v320 : BitVec 32 := Scalar.subi v319 v304
  let c0_i32_163 : BitVec 32 := 0#32
  let v321 : BitVec 32 := Scalar.maxsi v320 c0_i32_163
  let c0_i32_165 : BitVec 32 := 0#32
  let v323 : BitVec 1 := Scalar.cmpi .sgt v321 c0_i32_165
  let v324 : BitVec 32 := Scalar.extui v323
  let c0_i32_166 : BitVec 32 := 0#32
  let v325 : BitVec 1 := Scalar.cmpi .slt v321 c0_i32_166
  let v326 : BitVec 32 := Scalar.extui v325
  let v327 : BitVec 32 := Scalar.subi v324 v326
  let c8_i32_164 : BitVec 32 := 8#32
  let c0_i32_167 : BitVec 32 := 0#32
  let v328 : BitVec 1 := Scalar.cmpi .sgt c8_i32_164 c0_i32_167
  let v329 : BitVec 32 := Scalar.extui v328
  let c0_i32_168 : BitVec 32 := 0#32
  let v330 : BitVec 1 := Scalar.cmpi .slt c8_i32_164 c0_i32_168
  let v331 : BitVec 32 := Scalar.extui v330
  let v332 : BitVec 32 := Scalar.subi v329 v331
  let v333 : BitVec 1 := Scalar.cmpi .ne v327 v332
  let v334 : BitVec 32 := Scalar.remsi v321 c8_i32_164
  let c0_i32_169 : BitVec 32 := 0#32
  let v335 : BitVec 1 := Scalar.cmpi .ne v334 c0_i32_169
  let v336 : BitVec 1 := Scalar.andi v333 v335
  let v322 : BitVec 32 := Scalar.divsi v321 c8_i32_164
  let c1_i32_170 : BitVec 32 := 1#32
  let v337 : BitVec 32 := Scalar.subi v322 c1_i32_170
  let v338 : BitVec 32 := Scalar.select v336 v337 v322
  let v339 : BitVec 32 := Scalar.subi v338 c0_i32_171
  let c1_i32_172 : BitVec 32 := 1#32
  let v341 : BitVec 32 := Scalar.divsi v339 c1_i32_172
  let v342 : BitVec 32 := Scalar.muli v341 c1_i32_172
  let v343 : BitVec 32 := Scalar.addi c0_i32_171 v342
  let c1_i32_174 : BitVec 32 := 1#32
  let arg19 : BitVec 32 := Scf.iv v343 c1_i32_174 k0_t31
  let c8_i32_444 : BitVec 32 := 8#32
  let v893 : BitVec 32 := Scalar.muli arg19 c8_i32_444
  let v894 : BitVec 32 := Scalar.addi v304 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off320 (v52 : BitVec 32) (v105 : BitVec 32) (v158 : BitVec 32) (v211 : BitVec 32) (v264 : BitVec 32) (v317 : BitVec 32) (k0_t31 : Fin (k0_t31_loop v52 v105 v158 v211 v264 v317).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c0_i32_171 : BitVec 32 := 0#32
  let c1_i32_161 : BitVec 32 := 1#32
  let v318 : BitVec 32 := Scalar.subi v317 c1_i32_161
  let c2049_i32_162 : BitVec 32 := 2049#32
  let v319 : BitVec 32 := Scalar.minsi v318 c2049_i32_162
  let v320 : BitVec 32 := Scalar.subi v319 v304
  let c0_i32_163 : BitVec 32 := 0#32
  let v321 : BitVec 32 := Scalar.maxsi v320 c0_i32_163
  let c0_i32_165 : BitVec 32 := 0#32
  let v323 : BitVec 1 := Scalar.cmpi .sgt v321 c0_i32_165
  let v324 : BitVec 32 := Scalar.extui v323
  let c0_i32_166 : BitVec 32 := 0#32
  let v325 : BitVec 1 := Scalar.cmpi .slt v321 c0_i32_166
  let v326 : BitVec 32 := Scalar.extui v325
  let v327 : BitVec 32 := Scalar.subi v324 v326
  let c8_i32_164 : BitVec 32 := 8#32
  let c0_i32_167 : BitVec 32 := 0#32
  let v328 : BitVec 1 := Scalar.cmpi .sgt c8_i32_164 c0_i32_167
  let v329 : BitVec 32 := Scalar.extui v328
  let c0_i32_168 : BitVec 32 := 0#32
  let v330 : BitVec 1 := Scalar.cmpi .slt c8_i32_164 c0_i32_168
  let v331 : BitVec 32 := Scalar.extui v330
  let v332 : BitVec 32 := Scalar.subi v329 v331
  let v333 : BitVec 1 := Scalar.cmpi .ne v327 v332
  let v334 : BitVec 32 := Scalar.remsi v321 c8_i32_164
  let c0_i32_169 : BitVec 32 := 0#32
  let v335 : BitVec 1 := Scalar.cmpi .ne v334 c0_i32_169
  let v336 : BitVec 1 := Scalar.andi v333 v335
  let v322 : BitVec 32 := Scalar.divsi v321 c8_i32_164
  let c1_i32_170 : BitVec 32 := 1#32
  let v337 : BitVec 32 := Scalar.subi v322 c1_i32_170
  let v338 : BitVec 32 := Scalar.select v336 v337 v322
  let v339 : BitVec 32 := Scalar.subi v338 c0_i32_171
  let c1_i32_172 : BitVec 32 := 1#32
  let v341 : BitVec 32 := Scalar.divsi v339 c1_i32_172
  let v342 : BitVec 32 := Scalar.muli v341 c1_i32_172
  let v343 : BitVec 32 := Scalar.addi c0_i32_171 v342
  let c1_i32_174 : BitVec 32 := 1#32
  let arg19 : BitVec 32 := Scf.iv v343 c1_i32_174 k0_t31
  let c8_i32_444 : BitVec 32 := 8#32
  let v893 : BitVec 32 := Scalar.muli arg19 c8_i32_444
  let v894 : BitVec 32 := Scalar.addi v304 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t32_loop (v52 : BitVec 32) (v105 : BitVec 32) (v158 : BitVec 32) (v211 : BitVec 32) (v264 : BitVec 32) (v317 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v320 : BitVec 32 := Scalar.subi v319 v304
  let c0_i32_163 : BitVec 32 := 0#32
  let v321 : BitVec 32 := Scalar.maxsi v320 c0_i32_163
  let c0_i32_165 : BitVec 32 := 0#32
  let v323 : BitVec 1 := Scalar.cmpi .sgt v321 c0_i32_165
  let v324 : BitVec 32 := Scalar.extui v323
  let c0_i32_166 : BitVec 32 := 0#32
  let v325 : BitVec 1 := Scalar.cmpi .slt v321 c0_i32_166
  let v326 : BitVec 32 := Scalar.extui v325
  let v327 : BitVec 32 := Scalar.subi v324 v326
  let c8_i32_164 : BitVec 32 := 8#32
  let c0_i32_167 : BitVec 32 := 0#32
  let v328 : BitVec 1 := Scalar.cmpi .sgt c8_i32_164 c0_i32_167
  let v329 : BitVec 32 := Scalar.extui v328
  let c0_i32_168 : BitVec 32 := 0#32
  let v330 : BitVec 1 := Scalar.cmpi .slt c8_i32_164 c0_i32_168
  let v331 : BitVec 32 := Scalar.extui v330
  let v332 : BitVec 32 := Scalar.subi v329 v331
  let v333 : BitVec 1 := Scalar.cmpi .ne v327 v332
  let v334 : BitVec 32 := Scalar.remsi v321 c8_i32_164
  let c0_i32_169 : BitVec 32 := 0#32
  let v335 : BitVec 1 := Scalar.cmpi .ne v334 c0_i32_169
  let v336 : BitVec 1 := Scalar.andi v333 v335
  let v322 : BitVec 32 := Scalar.divsi v321 c8_i32_164
  let c1_i32_170 : BitVec 32 := 1#32
  let v337 : BitVec 32 := Scalar.subi v322 c1_i32_170
  let v338 : BitVec 32 := Scalar.select v336 v337 v322
  let c8_i32_175 : BitVec 32 := 8#32
  let v346 : BitVec 32 := Scalar.muli v338 c8_i32_175
  let v347 : BitVec 32 := Scalar.addi v304 v346
  let v348 : BitVec 32 := Scalar.subi v319 v347
  let c1_i32_176 : BitVec 32 := 1#32
  let v350 : BitVec 32 := Scalar.divsi v348 c1_i32_176
  let v351 : BitVec 32 := Scalar.muli v350 c1_i32_176
  let v352 : BitVec 32 := Scalar.addi v347 v351
  let c1_i32_177 : BitVec 32 := 1#32
  ⟨v347, v352, c1_i32_177⟩
def k0_off321 (v52 : BitVec 32) (v105 : BitVec 32) (v158 : BitVec 32) (v211 : BitVec 32) (v264 : BitVec 32) (v317 : BitVec 32) (k0_t32 : Fin (k0_t32_loop v52 v105 v158 v211 v264 v317).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v320 : BitVec 32 := Scalar.subi v319 v304
  let c0_i32_163 : BitVec 32 := 0#32
  let v321 : BitVec 32 := Scalar.maxsi v320 c0_i32_163
  let c0_i32_165 : BitVec 32 := 0#32
  let v323 : BitVec 1 := Scalar.cmpi .sgt v321 c0_i32_165
  let v324 : BitVec 32 := Scalar.extui v323
  let c0_i32_166 : BitVec 32 := 0#32
  let v325 : BitVec 1 := Scalar.cmpi .slt v321 c0_i32_166
  let v326 : BitVec 32 := Scalar.extui v325
  let v327 : BitVec 32 := Scalar.subi v324 v326
  let c8_i32_164 : BitVec 32 := 8#32
  let c0_i32_167 : BitVec 32 := 0#32
  let v328 : BitVec 1 := Scalar.cmpi .sgt c8_i32_164 c0_i32_167
  let v329 : BitVec 32 := Scalar.extui v328
  let c0_i32_168 : BitVec 32 := 0#32
  let v330 : BitVec 1 := Scalar.cmpi .slt c8_i32_164 c0_i32_168
  let v331 : BitVec 32 := Scalar.extui v330
  let v332 : BitVec 32 := Scalar.subi v329 v331
  let v333 : BitVec 1 := Scalar.cmpi .ne v327 v332
  let v334 : BitVec 32 := Scalar.remsi v321 c8_i32_164
  let c0_i32_169 : BitVec 32 := 0#32
  let v335 : BitVec 1 := Scalar.cmpi .ne v334 c0_i32_169
  let v336 : BitVec 1 := Scalar.andi v333 v335
  let v322 : BitVec 32 := Scalar.divsi v321 c8_i32_164
  let c1_i32_170 : BitVec 32 := 1#32
  let v337 : BitVec 32 := Scalar.subi v322 c1_i32_170
  let v338 : BitVec 32 := Scalar.select v336 v337 v322
  let c8_i32_175 : BitVec 32 := 8#32
  let v346 : BitVec 32 := Scalar.muli v338 c8_i32_175
  let v347 : BitVec 32 := Scalar.addi v304 v346
  let c1_i32_177 : BitVec 32 := 1#32
  let arg19 : BitVec 32 := Scf.iv v347 c1_i32_177 k0_t32
  let c1_i32_444 : BitVec 32 := 1#32
  let v893 : BitVec 32 := Scalar.addi arg19 c1_i32_444
  let v894 : Index := Scalar.indexCast v893
  ![v894.toNat]
def k0_off322 (v897 : BitVec 32) : Fin 2 → Nat :=
  let c1280_i32_445 : BitVec 32 := 1280#32
  let v898 : BitVec 32 := Scalar.subi v897 c1280_i32_445
  let v912 : Index := Scalar.indexCast v898
  let c0_450 : Index := 0#32
  ![v912.toNat, 0]

def k0_off323 (v897 : BitVec 32) : Fin 2 → Nat :=
  let c1280_i32_445 : BitVec 32 := 1280#32
  let v898 : BitVec 32 := Scalar.subi v897 c1280_i32_445
  let v915 : Index := Scalar.indexCast v898
  let c16_451 : Index := 16#32
  ![v915.toNat, 16]

def k0_chk114 (v897 : BitVec 32) : Prop :=
  (∀ a, (k0_off322 v897) a + S1x16.size a ≤ S257x32.size a) ∧
  (∀ a, (k0_off323 v897) a + S1x16.size a ≤ S257x32.size a)
theorem k0_off322_inb : ∀ (v897 : BitVec 32) (k0_hw114 : k0_chk114 v897), ∀ a, (k0_off322 v897) a + S1x16.size a ≤ S257x32.size a := fun v897 k0_hw114 => k0_hw114.1
theorem k0_off323_inb : ∀ (v897 : BitVec 32) (k0_hw114 : k0_chk114 v897), ∀ a, (k0_off323 v897) a + S1x16.size a ≤ S257x32.size a := fun v897 k0_hw114 => k0_hw114.2

def k0_off324 (v52 : BitVec 32) (v105 : BitVec 32) (v158 : BitVec 32) (v211 : BitVec 32) (v264 : BitVec 32) (v317 : BitVec 32) (k0_t32 : Fin (k0_t32_loop v52 v105 v158 v211 v264 v317).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v320 : BitVec 32 := Scalar.subi v319 v304
  let c0_i32_163 : BitVec 32 := 0#32
  let v321 : BitVec 32 := Scalar.maxsi v320 c0_i32_163
  let c0_i32_165 : BitVec 32 := 0#32
  let v323 : BitVec 1 := Scalar.cmpi .sgt v321 c0_i32_165
  let v324 : BitVec 32 := Scalar.extui v323
  let c0_i32_166 : BitVec 32 := 0#32
  let v325 : BitVec 1 := Scalar.cmpi .slt v321 c0_i32_166
  let v326 : BitVec 32 := Scalar.extui v325
  let v327 : BitVec 32 := Scalar.subi v324 v326
  let c8_i32_164 : BitVec 32 := 8#32
  let c0_i32_167 : BitVec 32 := 0#32
  let v328 : BitVec 1 := Scalar.cmpi .sgt c8_i32_164 c0_i32_167
  let v329 : BitVec 32 := Scalar.extui v328
  let c0_i32_168 : BitVec 32 := 0#32
  let v330 : BitVec 1 := Scalar.cmpi .slt c8_i32_164 c0_i32_168
  let v331 : BitVec 32 := Scalar.extui v330
  let v332 : BitVec 32 := Scalar.subi v329 v331
  let v333 : BitVec 1 := Scalar.cmpi .ne v327 v332
  let v334 : BitVec 32 := Scalar.remsi v321 c8_i32_164
  let c0_i32_169 : BitVec 32 := 0#32
  let v335 : BitVec 1 := Scalar.cmpi .ne v334 c0_i32_169
  let v336 : BitVec 1 := Scalar.andi v333 v335
  let v322 : BitVec 32 := Scalar.divsi v321 c8_i32_164
  let c1_i32_170 : BitVec 32 := 1#32
  let v337 : BitVec 32 := Scalar.subi v322 c1_i32_170
  let v338 : BitVec 32 := Scalar.select v336 v337 v322
  let c8_i32_175 : BitVec 32 := 8#32
  let v346 : BitVec 32 := Scalar.muli v338 c8_i32_175
  let v347 : BitVec 32 := Scalar.addi v304 v346
  let c1_i32_177 : BitVec 32 := 1#32
  let arg19 : BitVec 32 := Scf.iv v347 c1_i32_177 k0_t32
  let c1_i32_452 : BitVec 32 := 1#32
  let v920 : BitVec 32 := Scalar.addi arg19 c1_i32_452
  let v921 : Index := Scalar.indexCast v920
  let c0_453 : Index := 0#32
  ![v921.toNat, 0]
def k0_off325 (v52 : BitVec 32) (v105 : BitVec 32) (v158 : BitVec 32) (v211 : BitVec 32) (v264 : BitVec 32) (v317 : BitVec 32) (k0_t32 : Fin (k0_t32_loop v52 v105 v158 v211 v264 v317).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v320 : BitVec 32 := Scalar.subi v319 v304
  let c0_i32_163 : BitVec 32 := 0#32
  let v321 : BitVec 32 := Scalar.maxsi v320 c0_i32_163
  let c0_i32_165 : BitVec 32 := 0#32
  let v323 : BitVec 1 := Scalar.cmpi .sgt v321 c0_i32_165
  let v324 : BitVec 32 := Scalar.extui v323
  let c0_i32_166 : BitVec 32 := 0#32
  let v325 : BitVec 1 := Scalar.cmpi .slt v321 c0_i32_166
  let v326 : BitVec 32 := Scalar.extui v325
  let v327 : BitVec 32 := Scalar.subi v324 v326
  let c8_i32_164 : BitVec 32 := 8#32
  let c0_i32_167 : BitVec 32 := 0#32
  let v328 : BitVec 1 := Scalar.cmpi .sgt c8_i32_164 c0_i32_167
  let v329 : BitVec 32 := Scalar.extui v328
  let c0_i32_168 : BitVec 32 := 0#32
  let v330 : BitVec 1 := Scalar.cmpi .slt c8_i32_164 c0_i32_168
  let v331 : BitVec 32 := Scalar.extui v330
  let v332 : BitVec 32 := Scalar.subi v329 v331
  let v333 : BitVec 1 := Scalar.cmpi .ne v327 v332
  let v334 : BitVec 32 := Scalar.remsi v321 c8_i32_164
  let c0_i32_169 : BitVec 32 := 0#32
  let v335 : BitVec 1 := Scalar.cmpi .ne v334 c0_i32_169
  let v336 : BitVec 1 := Scalar.andi v333 v335
  let v322 : BitVec 32 := Scalar.divsi v321 c8_i32_164
  let c1_i32_170 : BitVec 32 := 1#32
  let v337 : BitVec 32 := Scalar.subi v322 c1_i32_170
  let v338 : BitVec 32 := Scalar.select v336 v337 v322
  let c8_i32_175 : BitVec 32 := 8#32
  let v346 : BitVec 32 := Scalar.muli v338 c8_i32_175
  let v347 : BitVec 32 := Scalar.addi v304 v346
  let c1_i32_177 : BitVec 32 := 1#32
  let arg19 : BitVec 32 := Scf.iv v347 c1_i32_177 k0_t32
  let c1_i32_454 : BitVec 32 := 1#32
  let v925 : BitVec 32 := Scalar.addi arg19 c1_i32_454
  let v926 : Index := Scalar.indexCast v925
  let c16_455 : Index := 16#32
  ![v926.toNat, 16]
@[reducible] def k0_t33_loop (v52 : BitVec 32) (v105 : BitVec 32) (v158 : BitVec 32) (v211 : BitVec 32) (v264 : BitVec 32) (v317 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v320 : BitVec 32 := Scalar.subi v319 v304
  let c0_i32_163 : BitVec 32 := 0#32
  let v321 : BitVec 32 := Scalar.maxsi v320 c0_i32_163
  let c0_i32_165 : BitVec 32 := 0#32
  let v323 : BitVec 1 := Scalar.cmpi .sgt v321 c0_i32_165
  let v324 : BitVec 32 := Scalar.extui v323
  let c0_i32_166 : BitVec 32 := 0#32
  let v325 : BitVec 1 := Scalar.cmpi .slt v321 c0_i32_166
  let v326 : BitVec 32 := Scalar.extui v325
  let v327 : BitVec 32 := Scalar.subi v324 v326
  let c8_i32_164 : BitVec 32 := 8#32
  let c0_i32_167 : BitVec 32 := 0#32
  let v328 : BitVec 1 := Scalar.cmpi .sgt c8_i32_164 c0_i32_167
  let v329 : BitVec 32 := Scalar.extui v328
  let c0_i32_168 : BitVec 32 := 0#32
  let v330 : BitVec 1 := Scalar.cmpi .slt c8_i32_164 c0_i32_168
  let v331 : BitVec 32 := Scalar.extui v330
  let v332 : BitVec 32 := Scalar.subi v329 v331
  let v333 : BitVec 1 := Scalar.cmpi .ne v327 v332
  let v334 : BitVec 32 := Scalar.remsi v321 c8_i32_164
  let c0_i32_169 : BitVec 32 := 0#32
  let v335 : BitVec 1 := Scalar.cmpi .ne v334 c0_i32_169
  let v336 : BitVec 1 := Scalar.andi v333 v335
  let v322 : BitVec 32 := Scalar.divsi v321 c8_i32_164
  let c1_i32_170 : BitVec 32 := 1#32
  let v337 : BitVec 32 := Scalar.subi v322 c1_i32_170
  let v338 : BitVec 32 := Scalar.select v336 v337 v322
  let c8_i32_175 : BitVec 32 := 8#32
  let v346 : BitVec 32 := Scalar.muli v338 c8_i32_175
  let v347 : BitVec 32 := Scalar.addi v304 v346
  let v348 : BitVec 32 := Scalar.subi v319 v347
  let c1_i32_176 : BitVec 32 := 1#32
  let v350 : BitVec 32 := Scalar.divsi v348 c1_i32_176
  let v351 : BitVec 32 := Scalar.muli v350 c1_i32_176
  let v352 : BitVec 32 := Scalar.addi v347 v351
  let v349 : BitVec 32 := Scalar.addi v347 v348
  let c1_i32_178 : BitVec 32 := 1#32
  ⟨v352, v349, c1_i32_178⟩
def k0_off326 (v52 : BitVec 32) (v105 : BitVec 32) (v158 : BitVec 32) (v211 : BitVec 32) (v264 : BitVec 32) (v317 : BitVec 32) (k0_t33 : Fin (k0_t33_loop v52 v105 v158 v211 v264 v317).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v320 : BitVec 32 := Scalar.subi v319 v304
  let c0_i32_163 : BitVec 32 := 0#32
  let v321 : BitVec 32 := Scalar.maxsi v320 c0_i32_163
  let c0_i32_165 : BitVec 32 := 0#32
  let v323 : BitVec 1 := Scalar.cmpi .sgt v321 c0_i32_165
  let v324 : BitVec 32 := Scalar.extui v323
  let c0_i32_166 : BitVec 32 := 0#32
  let v325 : BitVec 1 := Scalar.cmpi .slt v321 c0_i32_166
  let v326 : BitVec 32 := Scalar.extui v325
  let v327 : BitVec 32 := Scalar.subi v324 v326
  let c8_i32_164 : BitVec 32 := 8#32
  let c0_i32_167 : BitVec 32 := 0#32
  let v328 : BitVec 1 := Scalar.cmpi .sgt c8_i32_164 c0_i32_167
  let v329 : BitVec 32 := Scalar.extui v328
  let c0_i32_168 : BitVec 32 := 0#32
  let v330 : BitVec 1 := Scalar.cmpi .slt c8_i32_164 c0_i32_168
  let v331 : BitVec 32 := Scalar.extui v330
  let v332 : BitVec 32 := Scalar.subi v329 v331
  let v333 : BitVec 1 := Scalar.cmpi .ne v327 v332
  let v334 : BitVec 32 := Scalar.remsi v321 c8_i32_164
  let c0_i32_169 : BitVec 32 := 0#32
  let v335 : BitVec 1 := Scalar.cmpi .ne v334 c0_i32_169
  let v336 : BitVec 1 := Scalar.andi v333 v335
  let v322 : BitVec 32 := Scalar.divsi v321 c8_i32_164
  let c1_i32_170 : BitVec 32 := 1#32
  let v337 : BitVec 32 := Scalar.subi v322 c1_i32_170
  let v338 : BitVec 32 := Scalar.select v336 v337 v322
  let c8_i32_175 : BitVec 32 := 8#32
  let v346 : BitVec 32 := Scalar.muli v338 c8_i32_175
  let v347 : BitVec 32 := Scalar.addi v304 v346
  let v348 : BitVec 32 := Scalar.subi v319 v347
  let c1_i32_176 : BitVec 32 := 1#32
  let v350 : BitVec 32 := Scalar.divsi v348 c1_i32_176
  let v351 : BitVec 32 := Scalar.muli v350 c1_i32_176
  let v352 : BitVec 32 := Scalar.addi v347 v351
  let c1_i32_178 : BitVec 32 := 1#32
  let arg19 : BitVec 32 := Scf.iv v352 c1_i32_178 k0_t33
  let c1_i32_444 : BitVec 32 := 1#32
  let v893 : BitVec 32 := Scalar.addi arg19 c1_i32_444
  let v894 : Index := Scalar.indexCast v893
  ![v894.toNat]
def k0_off327 (v897 : BitVec 32) : Fin 2 → Nat :=
  let c1280_i32_445 : BitVec 32 := 1280#32
  let v898 : BitVec 32 := Scalar.subi v897 c1280_i32_445
  let v912 : Index := Scalar.indexCast v898
  let c0_450 : Index := 0#32
  ![v912.toNat, 0]

def k0_off328 (v897 : BitVec 32) : Fin 2 → Nat :=
  let c1280_i32_445 : BitVec 32 := 1280#32
  let v898 : BitVec 32 := Scalar.subi v897 c1280_i32_445
  let v915 : Index := Scalar.indexCast v898
  let c16_451 : Index := 16#32
  ![v915.toNat, 16]

def k0_chk115 (v897 : BitVec 32) : Prop :=
  (∀ a, (k0_off327 v897) a + S1x16.size a ≤ S257x32.size a) ∧
  (∀ a, (k0_off328 v897) a + S1x16.size a ≤ S257x32.size a)
theorem k0_off327_inb : ∀ (v897 : BitVec 32) (k0_hw115 : k0_chk115 v897), ∀ a, (k0_off327 v897) a + S1x16.size a ≤ S257x32.size a := fun v897 k0_hw115 => k0_hw115.1
theorem k0_off328_inb : ∀ (v897 : BitVec 32) (k0_hw115 : k0_chk115 v897), ∀ a, (k0_off328 v897) a + S1x16.size a ≤ S257x32.size a := fun v897 k0_hw115 => k0_hw115.2

def k0_off329 (v52 : BitVec 32) (v105 : BitVec 32) (v158 : BitVec 32) (v211 : BitVec 32) (v264 : BitVec 32) (v317 : BitVec 32) (k0_t33 : Fin (k0_t33_loop v52 v105 v158 v211 v264 v317).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v320 : BitVec 32 := Scalar.subi v319 v304
  let c0_i32_163 : BitVec 32 := 0#32
  let v321 : BitVec 32 := Scalar.maxsi v320 c0_i32_163
  let c0_i32_165 : BitVec 32 := 0#32
  let v323 : BitVec 1 := Scalar.cmpi .sgt v321 c0_i32_165
  let v324 : BitVec 32 := Scalar.extui v323
  let c0_i32_166 : BitVec 32 := 0#32
  let v325 : BitVec 1 := Scalar.cmpi .slt v321 c0_i32_166
  let v326 : BitVec 32 := Scalar.extui v325
  let v327 : BitVec 32 := Scalar.subi v324 v326
  let c8_i32_164 : BitVec 32 := 8#32
  let c0_i32_167 : BitVec 32 := 0#32
  let v328 : BitVec 1 := Scalar.cmpi .sgt c8_i32_164 c0_i32_167
  let v329 : BitVec 32 := Scalar.extui v328
  let c0_i32_168 : BitVec 32 := 0#32
  let v330 : BitVec 1 := Scalar.cmpi .slt c8_i32_164 c0_i32_168
  let v331 : BitVec 32 := Scalar.extui v330
  let v332 : BitVec 32 := Scalar.subi v329 v331
  let v333 : BitVec 1 := Scalar.cmpi .ne v327 v332
  let v334 : BitVec 32 := Scalar.remsi v321 c8_i32_164
  let c0_i32_169 : BitVec 32 := 0#32
  let v335 : BitVec 1 := Scalar.cmpi .ne v334 c0_i32_169
  let v336 : BitVec 1 := Scalar.andi v333 v335
  let v322 : BitVec 32 := Scalar.divsi v321 c8_i32_164
  let c1_i32_170 : BitVec 32 := 1#32
  let v337 : BitVec 32 := Scalar.subi v322 c1_i32_170
  let v338 : BitVec 32 := Scalar.select v336 v337 v322
  let c8_i32_175 : BitVec 32 := 8#32
  let v346 : BitVec 32 := Scalar.muli v338 c8_i32_175
  let v347 : BitVec 32 := Scalar.addi v304 v346
  let v348 : BitVec 32 := Scalar.subi v319 v347
  let c1_i32_176 : BitVec 32 := 1#32
  let v350 : BitVec 32 := Scalar.divsi v348 c1_i32_176
  let v351 : BitVec 32 := Scalar.muli v350 c1_i32_176
  let v352 : BitVec 32 := Scalar.addi v347 v351
  let c1_i32_178 : BitVec 32 := 1#32
  let arg19 : BitVec 32 := Scf.iv v352 c1_i32_178 k0_t33
  let c1_i32_452 : BitVec 32 := 1#32
  let v920 : BitVec 32 := Scalar.addi arg19 c1_i32_452
  let v921 : Index := Scalar.indexCast v920
  let c0_453 : Index := 0#32
  ![v921.toNat, 0]
def k0_off330 (v52 : BitVec 32) (v105 : BitVec 32) (v158 : BitVec 32) (v211 : BitVec 32) (v264 : BitVec 32) (v317 : BitVec 32) (k0_t33 : Fin (k0_t33_loop v52 v105 v158 v211 v264 v317).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v320 : BitVec 32 := Scalar.subi v319 v304
  let c0_i32_163 : BitVec 32 := 0#32
  let v321 : BitVec 32 := Scalar.maxsi v320 c0_i32_163
  let c0_i32_165 : BitVec 32 := 0#32
  let v323 : BitVec 1 := Scalar.cmpi .sgt v321 c0_i32_165
  let v324 : BitVec 32 := Scalar.extui v323
  let c0_i32_166 : BitVec 32 := 0#32
  let v325 : BitVec 1 := Scalar.cmpi .slt v321 c0_i32_166
  let v326 : BitVec 32 := Scalar.extui v325
  let v327 : BitVec 32 := Scalar.subi v324 v326
  let c8_i32_164 : BitVec 32 := 8#32
  let c0_i32_167 : BitVec 32 := 0#32
  let v328 : BitVec 1 := Scalar.cmpi .sgt c8_i32_164 c0_i32_167
  let v329 : BitVec 32 := Scalar.extui v328
  let c0_i32_168 : BitVec 32 := 0#32
  let v330 : BitVec 1 := Scalar.cmpi .slt c8_i32_164 c0_i32_168
  let v331 : BitVec 32 := Scalar.extui v330
  let v332 : BitVec 32 := Scalar.subi v329 v331
  let v333 : BitVec 1 := Scalar.cmpi .ne v327 v332
  let v334 : BitVec 32 := Scalar.remsi v321 c8_i32_164
  let c0_i32_169 : BitVec 32 := 0#32
  let v335 : BitVec 1 := Scalar.cmpi .ne v334 c0_i32_169
  let v336 : BitVec 1 := Scalar.andi v333 v335
  let v322 : BitVec 32 := Scalar.divsi v321 c8_i32_164
  let c1_i32_170 : BitVec 32 := 1#32
  let v337 : BitVec 32 := Scalar.subi v322 c1_i32_170
  let v338 : BitVec 32 := Scalar.select v336 v337 v322
  let c8_i32_175 : BitVec 32 := 8#32
  let v346 : BitVec 32 := Scalar.muli v338 c8_i32_175
  let v347 : BitVec 32 := Scalar.addi v304 v346
  let v348 : BitVec 32 := Scalar.subi v319 v347
  let c1_i32_176 : BitVec 32 := 1#32
  let v350 : BitVec 32 := Scalar.divsi v348 c1_i32_176
  let v351 : BitVec 32 := Scalar.muli v350 c1_i32_176
  let v352 : BitVec 32 := Scalar.addi v347 v351
  let c1_i32_178 : BitVec 32 := 1#32
  let arg19 : BitVec 32 := Scf.iv v352 c1_i32_178 k0_t33
  let c1_i32_454 : BitVec 32 := 1#32
  let v925 : BitVec 32 := Scalar.addi arg19 c1_i32_454
  let v926 : Index := Scalar.indexCast v925
  let c16_455 : Index := 16#32
  ![v926.toNat, 16]

def k0_chk97 (v52 : BitVec 32) (v105 : BitVec 32) (v158 : BitVec 32) (v211 : BitVec 32) (v264 : BitVec 32) (v317 : BitVec 32) : Prop :=
  ((k0_t30_loop v52 v105 v158 v211 v264 v317).OK) ∧
  (∀ k0_t30 : Fin (k0_t30_loop v52 v105 v158 v211 v264 v317).trips, ∀ (r : Fin 2), ∀ a, (k0_off283 v52 v105 v158 v211 v264 v317 k0_t30 (BitVec.ofNat 32 (1 + r.val))) a + S16.size a ≤ S4112.size a) ∧
  (∀ k0_t30 : Fin (k0_t30_loop v52 v105 v158 v211 v264 v317).trips, ∀ (r : Fin 8), ∀ a, (k0_off300 v52 v105 v158 v211 v264 v317 k0_t30 (BitVec.ofNat 32 r.val)) a + S1x16.size a ≤ S2050x32.size a) ∧
  (∀ k0_t30 : Fin (k0_t30_loop v52 v105 v158 v211 v264 v317).trips, ∀ (r : Fin 8), ∀ a, (k0_off301 v52 v105 v158 v211 v264 v317 k0_t30 (BitVec.ofNat 32 r.val)) a + S1x16.size a ≤ S2050x32.size a) ∧
  ((k0_t31_loop v52 v105 v158 v211 v264 v317).OK) ∧
  (∀ k0_t31 : Fin (k0_t31_loop v52 v105 v158 v211 v264 v317).trips, ∀ (r : Fin 2), ∀ a, (k0_off302 v52 v105 v158 v211 v264 v317 k0_t31 (BitVec.ofNat 32 (1 + r.val))) a + S16.size a ≤ S4112.size a) ∧
  (∀ k0_t31 : Fin (k0_t31_loop v52 v105 v158 v211 v264 v317).trips, ∀ (r : Fin 8), ∀ a, (k0_off319 v52 v105 v158 v211 v264 v317 k0_t31 (BitVec.ofNat 32 r.val)) a + S1x16.size a ≤ S2050x32.size a) ∧
  (∀ k0_t31 : Fin (k0_t31_loop v52 v105 v158 v211 v264 v317).trips, ∀ (r : Fin 8), ∀ a, (k0_off320 v52 v105 v158 v211 v264 v317 k0_t31 (BitVec.ofNat 32 r.val)) a + S1x16.size a ≤ S2050x32.size a) ∧
  ((k0_t32_loop v52 v105 v158 v211 v264 v317).OK) ∧
  (∀ k0_t32 : Fin (k0_t32_loop v52 v105 v158 v211 v264 v317).trips, ∀ a, (k0_off321 v52 v105 v158 v211 v264 v317 k0_t32) a + S16.size a ≤ S4112.size a) ∧
  (∀ k0_t32 : Fin (k0_t32_loop v52 v105 v158 v211 v264 v317).trips, ∀ a, (k0_off324 v52 v105 v158 v211 v264 v317 k0_t32) a + S1x16.size a ≤ S2050x32.size a) ∧
  (∀ k0_t32 : Fin (k0_t32_loop v52 v105 v158 v211 v264 v317).trips, ∀ a, (k0_off325 v52 v105 v158 v211 v264 v317 k0_t32) a + S1x16.size a ≤ S2050x32.size a) ∧
  ((k0_t33_loop v52 v105 v158 v211 v264 v317).OK) ∧
  (∀ k0_t33 : Fin (k0_t33_loop v52 v105 v158 v211 v264 v317).trips, ∀ a, (k0_off326 v52 v105 v158 v211 v264 v317 k0_t33) a + S16.size a ≤ S4112.size a) ∧
  (∀ k0_t33 : Fin (k0_t33_loop v52 v105 v158 v211 v264 v317).trips, ∀ a, (k0_off329 v52 v105 v158 v211 v264 v317 k0_t33) a + S1x16.size a ≤ S2050x32.size a) ∧
  (∀ k0_t33 : Fin (k0_t33_loop v52 v105 v158 v211 v264 v317).trips, ∀ a, (k0_off330 v52 v105 v158 v211 v264 v317 k0_t33) a + S1x16.size a ≤ S2050x32.size a)
theorem k0_t30_ok : ∀ (v52 : BitVec 32) (v105 : BitVec 32) (v158 : BitVec 32) (v211 : BitVec 32) (v264 : BitVec 32) (v317 : BitVec 32) (k0_hw97 : k0_chk97 v52 v105 v158 v211 v264 v317), (k0_t30_loop v52 v105 v158 v211 v264 v317).OK := fun v52 v105 v158 v211 v264 v317 k0_hw97 => k0_hw97.1
theorem k0_off283_inb : ∀ (v52 : BitVec 32) (v105 : BitVec 32) (v158 : BitVec 32) (v211 : BitVec 32) (v264 : BitVec 32) (v317 : BitVec 32) (k0_hw97 : k0_chk97 v52 v105 v158 v211 v264 v317) (k0_t30 : Fin (k0_t30_loop v52 v105 v158 v211 v264 v317).trips), ∀ (r : Fin 2), ∀ a, (k0_off283 v52 v105 v158 v211 v264 v317 k0_t30 (BitVec.ofNat 32 (1 + r.val))) a + S16.size a ≤ S4112.size a := fun v52 v105 v158 v211 v264 v317 k0_hw97 k0_t30 r => k0_hw97.2.1 k0_t30 r
theorem k0_off300_inb : ∀ (v52 : BitVec 32) (v105 : BitVec 32) (v158 : BitVec 32) (v211 : BitVec 32) (v264 : BitVec 32) (v317 : BitVec 32) (k0_hw97 : k0_chk97 v52 v105 v158 v211 v264 v317) (k0_t30 : Fin (k0_t30_loop v52 v105 v158 v211 v264 v317).trips), ∀ (r : Fin 8), ∀ a, (k0_off300 v52 v105 v158 v211 v264 v317 k0_t30 (BitVec.ofNat 32 r.val)) a + S1x16.size a ≤ S2050x32.size a := fun v52 v105 v158 v211 v264 v317 k0_hw97 k0_t30 r => k0_hw97.2.2.1 k0_t30 r
theorem k0_off301_inb : ∀ (v52 : BitVec 32) (v105 : BitVec 32) (v158 : BitVec 32) (v211 : BitVec 32) (v264 : BitVec 32) (v317 : BitVec 32) (k0_hw97 : k0_chk97 v52 v105 v158 v211 v264 v317) (k0_t30 : Fin (k0_t30_loop v52 v105 v158 v211 v264 v317).trips), ∀ (r : Fin 8), ∀ a, (k0_off301 v52 v105 v158 v211 v264 v317 k0_t30 (BitVec.ofNat 32 r.val)) a + S1x16.size a ≤ S2050x32.size a := fun v52 v105 v158 v211 v264 v317 k0_hw97 k0_t30 r => k0_hw97.2.2.2.1 k0_t30 r
theorem k0_t31_ok : ∀ (v52 : BitVec 32) (v105 : BitVec 32) (v158 : BitVec 32) (v211 : BitVec 32) (v264 : BitVec 32) (v317 : BitVec 32) (k0_hw97 : k0_chk97 v52 v105 v158 v211 v264 v317), (k0_t31_loop v52 v105 v158 v211 v264 v317).OK := fun v52 v105 v158 v211 v264 v317 k0_hw97 => k0_hw97.2.2.2.2.1
theorem k0_off302_inb : ∀ (v52 : BitVec 32) (v105 : BitVec 32) (v158 : BitVec 32) (v211 : BitVec 32) (v264 : BitVec 32) (v317 : BitVec 32) (k0_hw97 : k0_chk97 v52 v105 v158 v211 v264 v317) (k0_t31 : Fin (k0_t31_loop v52 v105 v158 v211 v264 v317).trips), ∀ (r : Fin 2), ∀ a, (k0_off302 v52 v105 v158 v211 v264 v317 k0_t31 (BitVec.ofNat 32 (1 + r.val))) a + S16.size a ≤ S4112.size a := fun v52 v105 v158 v211 v264 v317 k0_hw97 k0_t31 r => k0_hw97.2.2.2.2.2.1 k0_t31 r
theorem k0_off319_inb : ∀ (v52 : BitVec 32) (v105 : BitVec 32) (v158 : BitVec 32) (v211 : BitVec 32) (v264 : BitVec 32) (v317 : BitVec 32) (k0_hw97 : k0_chk97 v52 v105 v158 v211 v264 v317) (k0_t31 : Fin (k0_t31_loop v52 v105 v158 v211 v264 v317).trips), ∀ (r : Fin 8), ∀ a, (k0_off319 v52 v105 v158 v211 v264 v317 k0_t31 (BitVec.ofNat 32 r.val)) a + S1x16.size a ≤ S2050x32.size a := fun v52 v105 v158 v211 v264 v317 k0_hw97 k0_t31 r => k0_hw97.2.2.2.2.2.2.1 k0_t31 r
theorem k0_off320_inb : ∀ (v52 : BitVec 32) (v105 : BitVec 32) (v158 : BitVec 32) (v211 : BitVec 32) (v264 : BitVec 32) (v317 : BitVec 32) (k0_hw97 : k0_chk97 v52 v105 v158 v211 v264 v317) (k0_t31 : Fin (k0_t31_loop v52 v105 v158 v211 v264 v317).trips), ∀ (r : Fin 8), ∀ a, (k0_off320 v52 v105 v158 v211 v264 v317 k0_t31 (BitVec.ofNat 32 r.val)) a + S1x16.size a ≤ S2050x32.size a := fun v52 v105 v158 v211 v264 v317 k0_hw97 k0_t31 r => k0_hw97.2.2.2.2.2.2.2.1 k0_t31 r
theorem k0_t32_ok : ∀ (v52 : BitVec 32) (v105 : BitVec 32) (v158 : BitVec 32) (v211 : BitVec 32) (v264 : BitVec 32) (v317 : BitVec 32) (k0_hw97 : k0_chk97 v52 v105 v158 v211 v264 v317), (k0_t32_loop v52 v105 v158 v211 v264 v317).OK := fun v52 v105 v158 v211 v264 v317 k0_hw97 => k0_hw97.2.2.2.2.2.2.2.2.1
theorem k0_off321_inb : ∀ (v52 : BitVec 32) (v105 : BitVec 32) (v158 : BitVec 32) (v211 : BitVec 32) (v264 : BitVec 32) (v317 : BitVec 32) (k0_hw97 : k0_chk97 v52 v105 v158 v211 v264 v317) (k0_t32 : Fin (k0_t32_loop v52 v105 v158 v211 v264 v317).trips), ∀ a, (k0_off321 v52 v105 v158 v211 v264 v317 k0_t32) a + S16.size a ≤ S4112.size a := fun v52 v105 v158 v211 v264 v317 k0_hw97 k0_t32 => k0_hw97.2.2.2.2.2.2.2.2.2.1 k0_t32
theorem k0_off324_inb : ∀ (v52 : BitVec 32) (v105 : BitVec 32) (v158 : BitVec 32) (v211 : BitVec 32) (v264 : BitVec 32) (v317 : BitVec 32) (k0_hw97 : k0_chk97 v52 v105 v158 v211 v264 v317) (k0_t32 : Fin (k0_t32_loop v52 v105 v158 v211 v264 v317).trips), ∀ a, (k0_off324 v52 v105 v158 v211 v264 v317 k0_t32) a + S1x16.size a ≤ S2050x32.size a := fun v52 v105 v158 v211 v264 v317 k0_hw97 k0_t32 => k0_hw97.2.2.2.2.2.2.2.2.2.2.1 k0_t32
theorem k0_off325_inb : ∀ (v52 : BitVec 32) (v105 : BitVec 32) (v158 : BitVec 32) (v211 : BitVec 32) (v264 : BitVec 32) (v317 : BitVec 32) (k0_hw97 : k0_chk97 v52 v105 v158 v211 v264 v317) (k0_t32 : Fin (k0_t32_loop v52 v105 v158 v211 v264 v317).trips), ∀ a, (k0_off325 v52 v105 v158 v211 v264 v317 k0_t32) a + S1x16.size a ≤ S2050x32.size a := fun v52 v105 v158 v211 v264 v317 k0_hw97 k0_t32 => k0_hw97.2.2.2.2.2.2.2.2.2.2.2.1 k0_t32
theorem k0_t33_ok : ∀ (v52 : BitVec 32) (v105 : BitVec 32) (v158 : BitVec 32) (v211 : BitVec 32) (v264 : BitVec 32) (v317 : BitVec 32) (k0_hw97 : k0_chk97 v52 v105 v158 v211 v264 v317), (k0_t33_loop v52 v105 v158 v211 v264 v317).OK := fun v52 v105 v158 v211 v264 v317 k0_hw97 => k0_hw97.2.2.2.2.2.2.2.2.2.2.2.2.1
theorem k0_off326_inb : ∀ (v52 : BitVec 32) (v105 : BitVec 32) (v158 : BitVec 32) (v211 : BitVec 32) (v264 : BitVec 32) (v317 : BitVec 32) (k0_hw97 : k0_chk97 v52 v105 v158 v211 v264 v317) (k0_t33 : Fin (k0_t33_loop v52 v105 v158 v211 v264 v317).trips), ∀ a, (k0_off326 v52 v105 v158 v211 v264 v317 k0_t33) a + S16.size a ≤ S4112.size a := fun v52 v105 v158 v211 v264 v317 k0_hw97 k0_t33 => k0_hw97.2.2.2.2.2.2.2.2.2.2.2.2.2.1 k0_t33
theorem k0_off329_inb : ∀ (v52 : BitVec 32) (v105 : BitVec 32) (v158 : BitVec 32) (v211 : BitVec 32) (v264 : BitVec 32) (v317 : BitVec 32) (k0_hw97 : k0_chk97 v52 v105 v158 v211 v264 v317) (k0_t33 : Fin (k0_t33_loop v52 v105 v158 v211 v264 v317).trips), ∀ a, (k0_off329 v52 v105 v158 v211 v264 v317 k0_t33) a + S1x16.size a ≤ S2050x32.size a := fun v52 v105 v158 v211 v264 v317 k0_hw97 k0_t33 => k0_hw97.2.2.2.2.2.2.2.2.2.2.2.2.2.2.1 k0_t33
theorem k0_off330_inb : ∀ (v52 : BitVec 32) (v105 : BitVec 32) (v158 : BitVec 32) (v211 : BitVec 32) (v264 : BitVec 32) (v317 : BitVec 32) (k0_hw97 : k0_chk97 v52 v105 v158 v211 v264 v317) (k0_t33 : Fin (k0_t33_loop v52 v105 v158 v211 v264 v317).trips), ∀ a, (k0_off330 v52 v105 v158 v211 v264 v317 k0_t33) a + S1x16.size a ≤ S2050x32.size a := fun v52 v105 v158 v211 v264 v317 k0_hw97 k0_t33 => k0_hw97.2.2.2.2.2.2.2.2.2.2.2.2.2.2.2 k0_t33

def k0_off331 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c1536_i32_179 : BitVec 32 := 1536#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 1536, v3.toNat]
@[reducible] def k0_t34_loop : Scf.Loop 32 :=
  let c0_i32_181 : BitVec 32 := 0#32
  let c16_i32_182 : BitVec 32 := 16#32
  let v362 : BitVec 32 := Scalar.addi c0_i32_181 c16_i32_182
  let c1_i32_183 : BitVec 32 := 1#32
  ⟨c0_i32_181, v362, c1_i32_183⟩
def k0_off332 (k0_t34 : Fin k0_t34_loop.trips) (c0_i32_445 : BitVec 32) : Fin 2 → Nat :=
  let c0_i32_181 : BitVec 32 := 0#32
  let c1_i32_183 : BitVec 32 := 1#32
  let arg19 : BitVec 32 := Scf.iv c0_i32_181 c1_i32_183 k0_t34
  let c16_i32_444 : BitVec 32 := 16#32
  let v893 : BitVec 32 := Scalar.muli arg19 c16_i32_444
  let v894 : BitVec 32 := Scalar.addi v893 c0_i32_445
  let v895 : Index := Scalar.indexCast v894
  let c0_446 : Index := 0#32
  ![v895.toNat, 0]
def k0_off333 (k0_t34 : Fin k0_t34_loop.trips) (c0_i32_447 : BitVec 32) : Fin 2 → Nat :=
  let c0_i32_181 : BitVec 32 := 0#32
  let c1_i32_183 : BitVec 32 := 1#32
  let arg19 : BitVec 32 := Scf.iv c0_i32_181 c1_i32_183 k0_t34
  let c16_i32_444 : BitVec 32 := 16#32
  let v893 : BitVec 32 := Scalar.muli arg19 c16_i32_444
  let v898 : BitVec 32 := Scalar.addi v893 c0_i32_447
  let v899 : Index := Scalar.indexCast v898
  let c16_448 : Index := 16#32
  ![v899.toNat, 16]
def k0_off334 (k0_t34 : Fin k0_t34_loop.trips) (c0_i32_449 : BitVec 32) : Fin 2 → Nat :=
  let c0_i32_181 : BitVec 32 := 0#32
  let c1_i32_183 : BitVec 32 := 1#32
  let arg19 : BitVec 32 := Scf.iv c0_i32_181 c1_i32_183 k0_t34
  let c16_i32_444 : BitVec 32 := 16#32
  let v893 : BitVec 32 := Scalar.muli arg19 c16_i32_444
  let v902 : BitVec 32 := Scalar.addi v893 c0_i32_449
  let c1_i32_450 : BitVec 32 := 1#32
  let v903 : BitVec 32 := Scalar.addi v902 c1_i32_450
  let v904 : Index := Scalar.indexCast v903
  let c0_451 : Index := 0#32
  ![v904.toNat, 0]
def k0_off335 (k0_t34 : Fin k0_t34_loop.trips) (c0_i32_452 : BitVec 32) : Fin 2 → Nat :=
  let c0_i32_181 : BitVec 32 := 0#32
  let c1_i32_183 : BitVec 32 := 1#32
  let arg19 : BitVec 32 := Scf.iv c0_i32_181 c1_i32_183 k0_t34
  let c16_i32_444 : BitVec 32 := 16#32
  let v893 : BitVec 32 := Scalar.muli arg19 c16_i32_444
  let v906 : BitVec 32 := Scalar.addi v893 c0_i32_452
  let c1_i32_453 : BitVec 32 := 1#32
  let v907 : BitVec 32 := Scalar.addi v906 c1_i32_453
  let v908 : Index := Scalar.indexCast v907
  let c16_454 : Index := 16#32
  ![v908.toNat, 16]
def k0_off336 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c2048_i32 : BitVec 32 := 2048#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 2048, v3.toNat]
@[reducible] def k0_t35_loop (v52 : BitVec 32) (v105 : BitVec 32) (v158 : BitVec 32) (v211 : BitVec 32) (v264 : BitVec 32) (v317 : BitVec 32) (v370 : BitVec 32) : Scf.Loop 32 :=
  let c0_i32_196 : BitVec 32 := 0#32
  let c1_i32_186 : BitVec 32 := 1#32
  let v371 : BitVec 32 := Scalar.subi v370 c1_i32_186
  let c2049_i32_187 : BitVec 32 := 2049#32
  let v372 : BitVec 32 := Scalar.minsi v371 c2049_i32_187
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let v373 : BitVec 32 := Scalar.subi v372 v357
  let c0_i32_188 : BitVec 32 := 0#32
  let v374 : BitVec 32 := Scalar.maxsi v373 c0_i32_188
  let c0_i32_190 : BitVec 32 := 0#32
  let v376 : BitVec 1 := Scalar.cmpi .sgt v374 c0_i32_190
  let v377 : BitVec 32 := Scalar.extui v376
  let c0_i32_191 : BitVec 32 := 0#32
  let v378 : BitVec 1 := Scalar.cmpi .slt v374 c0_i32_191
  let v379 : BitVec 32 := Scalar.extui v378
  let v380 : BitVec 32 := Scalar.subi v377 v379
  let c8_i32_189 : BitVec 32 := 8#32
  let c0_i32_192 : BitVec 32 := 0#32
  let v381 : BitVec 1 := Scalar.cmpi .sgt c8_i32_189 c0_i32_192
  let v382 : BitVec 32 := Scalar.extui v381
  let c0_i32_193 : BitVec 32 := 0#32
  let v383 : BitVec 1 := Scalar.cmpi .slt c8_i32_189 c0_i32_193
  let v384 : BitVec 32 := Scalar.extui v383
  let v385 : BitVec 32 := Scalar.subi v382 v384
  let v386 : BitVec 1 := Scalar.cmpi .ne v380 v385
  let v387 : BitVec 32 := Scalar.remsi v374 c8_i32_189
  let c0_i32_194 : BitVec 32 := 0#32
  let v388 : BitVec 1 := Scalar.cmpi .ne v387 c0_i32_194
  let v389 : BitVec 1 := Scalar.andi v386 v388
  let v375 : BitVec 32 := Scalar.divsi v374 c8_i32_189
  let c1_i32_195 : BitVec 32 := 1#32
  let v390 : BitVec 32 := Scalar.subi v375 c1_i32_195
  let v391 : BitVec 32 := Scalar.select v389 v390 v375
  let v392 : BitVec 32 := Scalar.subi v391 c0_i32_196
  let c1_i32_197 : BitVec 32 := 1#32
  let v394 : BitVec 32 := Scalar.divsi v392 c1_i32_197
  let v395 : BitVec 32 := Scalar.muli v394 c1_i32_197
  let v396 : BitVec 32 := Scalar.addi c0_i32_196 v395
  let c1_i32_198 : BitVec 32 := 1#32
  ⟨c0_i32_196, v396, c1_i32_198⟩

def k0_off337 (v52 : BitVec 32) (v105 : BitVec 32) (v158 : BitVec 32) (v211 : BitVec 32) (v264 : BitVec 32) (v317 : BitVec 32) (v370 : BitVec 32) (k0_t35 : Fin (k0_t35_loop v52 v105 v158 v211 v264 v317 v370).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c0_i32_196 : BitVec 32 := 0#32
  let c1_i32_198 : BitVec 32 := 1#32
  let arg19 : BitVec 32 := Scf.iv c0_i32_196 c1_i32_198 k0_t35
  let c8_i32_444 : BitVec 32 := 8#32
  let v893 : BitVec 32 := Scalar.muli arg19 c8_i32_444
  let v894 : BitVec 32 := Scalar.addi v357 v893
  let v895 : BitVec 32 := Scalar.addi v894 c1_i32_445
  let v896 : Index := Scalar.indexCast v895
  ![v896.toNat]
def k0_off338 (v912 : BitVec 32) : Fin 2 → Nat :=
  let c1536_i32_451 : BitVec 32 := 1536#32
  let v913 : BitVec 32 := Scalar.subi v912 c1536_i32_451
  let v914 : Index := Scalar.indexCast v913
  let c0_452 : Index := 0#32
  ![v914.toNat, 0]

def k0_off339 (v912 : BitVec 32) : Fin 2 → Nat :=
  let c1536_i32_451 : BitVec 32 := 1536#32
  let v913 : BitVec 32 := Scalar.subi v912 c1536_i32_451
  let v917 : Index := Scalar.indexCast v913
  let c16_453 : Index := 16#32
  ![v917.toNat, 16]

def k0_chk117 (v912 : BitVec 32) : Prop :=
  (∀ a, (k0_off338 v912) a + S1x16.size a ≤ S257x32.size a) ∧
  (∀ a, (k0_off339 v912) a + S1x16.size a ≤ S257x32.size a)
theorem k0_off338_inb : ∀ (v912 : BitVec 32) (k0_hw117 : k0_chk117 v912), ∀ a, (k0_off338 v912) a + S1x16.size a ≤ S257x32.size a := fun v912 k0_hw117 => k0_hw117.1
theorem k0_off339_inb : ∀ (v912 : BitVec 32) (k0_hw117 : k0_chk117 v912), ∀ a, (k0_off339 v912) a + S1x16.size a ≤ S257x32.size a := fun v912 k0_hw117 => k0_hw117.2

def k0_off340 (v921 : BitVec 32) : Fin 2 → Nat :=
  let c1536_i32_454 : BitVec 32 := 1536#32
  let v922 : BitVec 32 := Scalar.subi v921 c1536_i32_454
  let v923 : Index := Scalar.indexCast v922
  let c0_455 : Index := 0#32
  ![v923.toNat, 0]

def k0_off341 (v921 : BitVec 32) : Fin 2 → Nat :=
  let c1536_i32_454 : BitVec 32 := 1536#32
  let v922 : BitVec 32 := Scalar.subi v921 c1536_i32_454
  let v926 : Index := Scalar.indexCast v922
  let c16_456 : Index := 16#32
  ![v926.toNat, 16]

def k0_chk118 (v921 : BitVec 32) : Prop :=
  (∀ a, (k0_off340 v921) a + S1x16.size a ≤ S257x32.size a) ∧
  (∀ a, (k0_off341 v921) a + S1x16.size a ≤ S257x32.size a)
theorem k0_off340_inb : ∀ (v921 : BitVec 32) (k0_hw118 : k0_chk118 v921), ∀ a, (k0_off340 v921) a + S1x16.size a ≤ S257x32.size a := fun v921 k0_hw118 => k0_hw118.1
theorem k0_off341_inb : ∀ (v921 : BitVec 32) (k0_hw118 : k0_chk118 v921), ∀ a, (k0_off341 v921) a + S1x16.size a ≤ S257x32.size a := fun v921 k0_hw118 => k0_hw118.2

def k0_off342 (v930 : BitVec 32) : Fin 2 → Nat :=
  let c1536_i32_457 : BitVec 32 := 1536#32
  let v931 : BitVec 32 := Scalar.subi v930 c1536_i32_457
  let v932 : Index := Scalar.indexCast v931
  let c0_458 : Index := 0#32
  ![v932.toNat, 0]

def k0_off343 (v930 : BitVec 32) : Fin 2 → Nat :=
  let c1536_i32_457 : BitVec 32 := 1536#32
  let v931 : BitVec 32 := Scalar.subi v930 c1536_i32_457
  let v935 : Index := Scalar.indexCast v931
  let c16_459 : Index := 16#32
  ![v935.toNat, 16]

def k0_chk119 (v930 : BitVec 32) : Prop :=
  (∀ a, (k0_off342 v930) a + S1x16.size a ≤ S257x32.size a) ∧
  (∀ a, (k0_off343 v930) a + S1x16.size a ≤ S257x32.size a)
theorem k0_off342_inb : ∀ (v930 : BitVec 32) (k0_hw119 : k0_chk119 v930), ∀ a, (k0_off342 v930) a + S1x16.size a ≤ S257x32.size a := fun v930 k0_hw119 => k0_hw119.1
theorem k0_off343_inb : ∀ (v930 : BitVec 32) (k0_hw119 : k0_chk119 v930), ∀ a, (k0_off343 v930) a + S1x16.size a ≤ S257x32.size a := fun v930 k0_hw119 => k0_hw119.2

def k0_off344 (v939 : BitVec 32) : Fin 2 → Nat :=
  let c1536_i32_460 : BitVec 32 := 1536#32
  let v940 : BitVec 32 := Scalar.subi v939 c1536_i32_460
  let v941 : Index := Scalar.indexCast v940
  let c0_461 : Index := 0#32
  ![v941.toNat, 0]

def k0_off345 (v939 : BitVec 32) : Fin 2 → Nat :=
  let c1536_i32_460 : BitVec 32 := 1536#32
  let v940 : BitVec 32 := Scalar.subi v939 c1536_i32_460
  let v944 : Index := Scalar.indexCast v940
  let c16_462 : Index := 16#32
  ![v944.toNat, 16]

def k0_chk120 (v939 : BitVec 32) : Prop :=
  (∀ a, (k0_off344 v939) a + S1x16.size a ≤ S257x32.size a) ∧
  (∀ a, (k0_off345 v939) a + S1x16.size a ≤ S257x32.size a)
theorem k0_off344_inb : ∀ (v939 : BitVec 32) (k0_hw120 : k0_chk120 v939), ∀ a, (k0_off344 v939) a + S1x16.size a ≤ S257x32.size a := fun v939 k0_hw120 => k0_hw120.1
theorem k0_off345_inb : ∀ (v939 : BitVec 32) (k0_hw120 : k0_chk120 v939), ∀ a, (k0_off345 v939) a + S1x16.size a ≤ S257x32.size a := fun v939 k0_hw120 => k0_hw120.2

def k0_off346 (v948 : BitVec 32) : Fin 2 → Nat :=
  let c1536_i32_463 : BitVec 32 := 1536#32
  let v949 : BitVec 32 := Scalar.subi v948 c1536_i32_463
  let v950 : Index := Scalar.indexCast v949
  let c0_464 : Index := 0#32
  ![v950.toNat, 0]

def k0_off347 (v948 : BitVec 32) : Fin 2 → Nat :=
  let c1536_i32_463 : BitVec 32 := 1536#32
  let v949 : BitVec 32 := Scalar.subi v948 c1536_i32_463
  let v953 : Index := Scalar.indexCast v949
  let c16_465 : Index := 16#32
  ![v953.toNat, 16]

def k0_chk121 (v948 : BitVec 32) : Prop :=
  (∀ a, (k0_off346 v948) a + S1x16.size a ≤ S257x32.size a) ∧
  (∀ a, (k0_off347 v948) a + S1x16.size a ≤ S257x32.size a)
theorem k0_off346_inb : ∀ (v948 : BitVec 32) (k0_hw121 : k0_chk121 v948), ∀ a, (k0_off346 v948) a + S1x16.size a ≤ S257x32.size a := fun v948 k0_hw121 => k0_hw121.1
theorem k0_off347_inb : ∀ (v948 : BitVec 32) (k0_hw121 : k0_chk121 v948), ∀ a, (k0_off347 v948) a + S1x16.size a ≤ S257x32.size a := fun v948 k0_hw121 => k0_hw121.2

def k0_off348 (v957 : BitVec 32) : Fin 2 → Nat :=
  let c1536_i32_466 : BitVec 32 := 1536#32
  let v958 : BitVec 32 := Scalar.subi v957 c1536_i32_466
  let v959 : Index := Scalar.indexCast v958
  let c0_467 : Index := 0#32
  ![v959.toNat, 0]

def k0_off349 (v957 : BitVec 32) : Fin 2 → Nat :=
  let c1536_i32_466 : BitVec 32 := 1536#32
  let v958 : BitVec 32 := Scalar.subi v957 c1536_i32_466
  let v962 : Index := Scalar.indexCast v958
  let c16_468 : Index := 16#32
  ![v962.toNat, 16]

def k0_chk122 (v957 : BitVec 32) : Prop :=
  (∀ a, (k0_off348 v957) a + S1x16.size a ≤ S257x32.size a) ∧
  (∀ a, (k0_off349 v957) a + S1x16.size a ≤ S257x32.size a)
theorem k0_off348_inb : ∀ (v957 : BitVec 32) (k0_hw122 : k0_chk122 v957), ∀ a, (k0_off348 v957) a + S1x16.size a ≤ S257x32.size a := fun v957 k0_hw122 => k0_hw122.1
theorem k0_off349_inb : ∀ (v957 : BitVec 32) (k0_hw122 : k0_chk122 v957), ∀ a, (k0_off349 v957) a + S1x16.size a ≤ S257x32.size a := fun v957 k0_hw122 => k0_hw122.2

def k0_off350 (v966 : BitVec 32) : Fin 2 → Nat :=
  let c1536_i32_469 : BitVec 32 := 1536#32
  let v967 : BitVec 32 := Scalar.subi v966 c1536_i32_469
  let v968 : Index := Scalar.indexCast v967
  let c0_470 : Index := 0#32
  ![v968.toNat, 0]

def k0_off351 (v966 : BitVec 32) : Fin 2 → Nat :=
  let c1536_i32_469 : BitVec 32 := 1536#32
  let v967 : BitVec 32 := Scalar.subi v966 c1536_i32_469
  let v971 : Index := Scalar.indexCast v967
  let c16_471 : Index := 16#32
  ![v971.toNat, 16]

def k0_chk123 (v966 : BitVec 32) : Prop :=
  (∀ a, (k0_off350 v966) a + S1x16.size a ≤ S257x32.size a) ∧
  (∀ a, (k0_off351 v966) a + S1x16.size a ≤ S257x32.size a)
theorem k0_off350_inb : ∀ (v966 : BitVec 32) (k0_hw123 : k0_chk123 v966), ∀ a, (k0_off350 v966) a + S1x16.size a ≤ S257x32.size a := fun v966 k0_hw123 => k0_hw123.1
theorem k0_off351_inb : ∀ (v966 : BitVec 32) (k0_hw123 : k0_chk123 v966), ∀ a, (k0_off351 v966) a + S1x16.size a ≤ S257x32.size a := fun v966 k0_hw123 => k0_hw123.2

def k0_off352 (v975 : BitVec 32) : Fin 2 → Nat :=
  let c1536_i32_472 : BitVec 32 := 1536#32
  let v976 : BitVec 32 := Scalar.subi v975 c1536_i32_472
  let v977 : Index := Scalar.indexCast v976
  let c0_473 : Index := 0#32
  ![v977.toNat, 0]

def k0_off353 (v975 : BitVec 32) : Fin 2 → Nat :=
  let c1536_i32_472 : BitVec 32 := 1536#32
  let v976 : BitVec 32 := Scalar.subi v975 c1536_i32_472
  let v980 : Index := Scalar.indexCast v976
  let c16_474 : Index := 16#32
  ![v980.toNat, 16]

def k0_chk124 (v975 : BitVec 32) : Prop :=
  (∀ a, (k0_off352 v975) a + S1x16.size a ≤ S257x32.size a) ∧
  (∀ a, (k0_off353 v975) a + S1x16.size a ≤ S257x32.size a)
theorem k0_off352_inb : ∀ (v975 : BitVec 32) (k0_hw124 : k0_chk124 v975), ∀ a, (k0_off352 v975) a + S1x16.size a ≤ S257x32.size a := fun v975 k0_hw124 => k0_hw124.1
theorem k0_off353_inb : ∀ (v975 : BitVec 32) (k0_hw124 : k0_chk124 v975), ∀ a, (k0_off353 v975) a + S1x16.size a ≤ S257x32.size a := fun v975 k0_hw124 => k0_hw124.2

def k0_off354 (v52 : BitVec 32) (v105 : BitVec 32) (v158 : BitVec 32) (v211 : BitVec 32) (v264 : BitVec 32) (v317 : BitVec 32) (v370 : BitVec 32) (k0_t35 : Fin (k0_t35_loop v52 v105 v158 v211 v264 v317 v370).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c0_i32_196 : BitVec 32 := 0#32
  let c1_i32_198 : BitVec 32 := 1#32
  let arg19 : BitVec 32 := Scf.iv c0_i32_196 c1_i32_198 k0_t35
  let c8_i32_444 : BitVec 32 := 8#32
  let v893 : BitVec 32 := Scalar.muli arg19 c8_i32_444
  let v894 : BitVec 32 := Scalar.addi v357 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off355 (v52 : BitVec 32) (v105 : BitVec 32) (v158 : BitVec 32) (v211 : BitVec 32) (v264 : BitVec 32) (v317 : BitVec 32) (v370 : BitVec 32) (k0_t35 : Fin (k0_t35_loop v52 v105 v158 v211 v264 v317 v370).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c0_i32_196 : BitVec 32 := 0#32
  let c1_i32_198 : BitVec 32 := 1#32
  let arg19 : BitVec 32 := Scf.iv c0_i32_196 c1_i32_198 k0_t35
  let c8_i32_444 : BitVec 32 := 8#32
  let v893 : BitVec 32 := Scalar.muli arg19 c8_i32_444
  let v894 : BitVec 32 := Scalar.addi v357 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t36_loop (v52 : BitVec 32) (v105 : BitVec 32) (v158 : BitVec 32) (v211 : BitVec 32) (v264 : BitVec 32) (v317 : BitVec 32) (v370 : BitVec 32) : Scf.Loop 32 :=
  let c0_i32_196 : BitVec 32 := 0#32
  let c1_i32_186 : BitVec 32 := 1#32
  let v371 : BitVec 32 := Scalar.subi v370 c1_i32_186
  let c2049_i32_187 : BitVec 32 := 2049#32
  let v372 : BitVec 32 := Scalar.minsi v371 c2049_i32_187
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let v373 : BitVec 32 := Scalar.subi v372 v357
  let c0_i32_188 : BitVec 32 := 0#32
  let v374 : BitVec 32 := Scalar.maxsi v373 c0_i32_188
  let c0_i32_190 : BitVec 32 := 0#32
  let v376 : BitVec 1 := Scalar.cmpi .sgt v374 c0_i32_190
  let v377 : BitVec 32 := Scalar.extui v376
  let c0_i32_191 : BitVec 32 := 0#32
  let v378 : BitVec 1 := Scalar.cmpi .slt v374 c0_i32_191
  let v379 : BitVec 32 := Scalar.extui v378
  let v380 : BitVec 32 := Scalar.subi v377 v379
  let c8_i32_189 : BitVec 32 := 8#32
  let c0_i32_192 : BitVec 32 := 0#32
  let v381 : BitVec 1 := Scalar.cmpi .sgt c8_i32_189 c0_i32_192
  let v382 : BitVec 32 := Scalar.extui v381
  let c0_i32_193 : BitVec 32 := 0#32
  let v383 : BitVec 1 := Scalar.cmpi .slt c8_i32_189 c0_i32_193
  let v384 : BitVec 32 := Scalar.extui v383
  let v385 : BitVec 32 := Scalar.subi v382 v384
  let v386 : BitVec 1 := Scalar.cmpi .ne v380 v385
  let v387 : BitVec 32 := Scalar.remsi v374 c8_i32_189
  let c0_i32_194 : BitVec 32 := 0#32
  let v388 : BitVec 1 := Scalar.cmpi .ne v387 c0_i32_194
  let v389 : BitVec 1 := Scalar.andi v386 v388
  let v375 : BitVec 32 := Scalar.divsi v374 c8_i32_189
  let c1_i32_195 : BitVec 32 := 1#32
  let v390 : BitVec 32 := Scalar.subi v375 c1_i32_195
  let v391 : BitVec 32 := Scalar.select v389 v390 v375
  let v392 : BitVec 32 := Scalar.subi v391 c0_i32_196
  let c1_i32_197 : BitVec 32 := 1#32
  let v394 : BitVec 32 := Scalar.divsi v392 c1_i32_197
  let v395 : BitVec 32 := Scalar.muli v394 c1_i32_197
  let v396 : BitVec 32 := Scalar.addi c0_i32_196 v395
  let v393 : BitVec 32 := Scalar.addi c0_i32_196 v392
  let c1_i32_199 : BitVec 32 := 1#32
  ⟨v396, v393, c1_i32_199⟩
def k0_off356 (v52 : BitVec 32) (v105 : BitVec 32) (v158 : BitVec 32) (v211 : BitVec 32) (v264 : BitVec 32) (v317 : BitVec 32) (v370 : BitVec 32) (k0_t36 : Fin (k0_t36_loop v52 v105 v158 v211 v264 v317 v370).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c0_i32_196 : BitVec 32 := 0#32
  let c1_i32_186 : BitVec 32 := 1#32
  let v371 : BitVec 32 := Scalar.subi v370 c1_i32_186
  let c2049_i32_187 : BitVec 32 := 2049#32
  let v372 : BitVec 32 := Scalar.minsi v371 c2049_i32_187
  let v373 : BitVec 32 := Scalar.subi v372 v357
  let c0_i32_188 : BitVec 32 := 0#32
  let v374 : BitVec 32 := Scalar.maxsi v373 c0_i32_188
  let c0_i32_190 : BitVec 32 := 0#32
  let v376 : BitVec 1 := Scalar.cmpi .sgt v374 c0_i32_190
  let v377 : BitVec 32 := Scalar.extui v376
  let c0_i32_191 : BitVec 32 := 0#32
  let v378 : BitVec 1 := Scalar.cmpi .slt v374 c0_i32_191
  let v379 : BitVec 32 := Scalar.extui v378
  let v380 : BitVec 32 := Scalar.subi v377 v379
  let c8_i32_189 : BitVec 32 := 8#32
  let c0_i32_192 : BitVec 32 := 0#32
  let v381 : BitVec 1 := Scalar.cmpi .sgt c8_i32_189 c0_i32_192
  let v382 : BitVec 32 := Scalar.extui v381
  let c0_i32_193 : BitVec 32 := 0#32
  let v383 : BitVec 1 := Scalar.cmpi .slt c8_i32_189 c0_i32_193
  let v384 : BitVec 32 := Scalar.extui v383
  let v385 : BitVec 32 := Scalar.subi v382 v384
  let v386 : BitVec 1 := Scalar.cmpi .ne v380 v385
  let v387 : BitVec 32 := Scalar.remsi v374 c8_i32_189
  let c0_i32_194 : BitVec 32 := 0#32
  let v388 : BitVec 1 := Scalar.cmpi .ne v387 c0_i32_194
  let v389 : BitVec 1 := Scalar.andi v386 v388
  let v375 : BitVec 32 := Scalar.divsi v374 c8_i32_189
  let c1_i32_195 : BitVec 32 := 1#32
  let v390 : BitVec 32 := Scalar.subi v375 c1_i32_195
  let v391 : BitVec 32 := Scalar.select v389 v390 v375
  let v392 : BitVec 32 := Scalar.subi v391 c0_i32_196
  let c1_i32_197 : BitVec 32 := 1#32
  let v394 : BitVec 32 := Scalar.divsi v392 c1_i32_197
  let v395 : BitVec 32 := Scalar.muli v394 c1_i32_197
  let v396 : BitVec 32 := Scalar.addi c0_i32_196 v395
  let c1_i32_199 : BitVec 32 := 1#32
  let arg19 : BitVec 32 := Scf.iv v396 c1_i32_199 k0_t36
  let c8_i32_444 : BitVec 32 := 8#32
  let v893 : BitVec 32 := Scalar.muli arg19 c8_i32_444
  let v894 : BitVec 32 := Scalar.addi v357 v893
  let v895 : BitVec 32 := Scalar.addi v894 c1_i32_445
  let v896 : Index := Scalar.indexCast v895
  ![v896.toNat]
def k0_off357 (v912 : BitVec 32) : Fin 2 → Nat :=
  let c1536_i32_451 : BitVec 32 := 1536#32
  let v913 : BitVec 32 := Scalar.subi v912 c1536_i32_451
  let v914 : Index := Scalar.indexCast v913
  let c0_452 : Index := 0#32
  ![v914.toNat, 0]

def k0_off358 (v912 : BitVec 32) : Fin 2 → Nat :=
  let c1536_i32_451 : BitVec 32 := 1536#32
  let v913 : BitVec 32 := Scalar.subi v912 c1536_i32_451
  let v917 : Index := Scalar.indexCast v913
  let c16_453 : Index := 16#32
  ![v917.toNat, 16]

def k0_chk125 (v912 : BitVec 32) : Prop :=
  (∀ a, (k0_off357 v912) a + S1x16.size a ≤ S257x32.size a) ∧
  (∀ a, (k0_off358 v912) a + S1x16.size a ≤ S257x32.size a)
theorem k0_off357_inb : ∀ (v912 : BitVec 32) (k0_hw125 : k0_chk125 v912), ∀ a, (k0_off357 v912) a + S1x16.size a ≤ S257x32.size a := fun v912 k0_hw125 => k0_hw125.1
theorem k0_off358_inb : ∀ (v912 : BitVec 32) (k0_hw125 : k0_chk125 v912), ∀ a, (k0_off358 v912) a + S1x16.size a ≤ S257x32.size a := fun v912 k0_hw125 => k0_hw125.2

def k0_off359 (v921 : BitVec 32) : Fin 2 → Nat :=
  let c1536_i32_454 : BitVec 32 := 1536#32
  let v922 : BitVec 32 := Scalar.subi v921 c1536_i32_454
  let v923 : Index := Scalar.indexCast v922
  let c0_455 : Index := 0#32
  ![v923.toNat, 0]

def k0_off360 (v921 : BitVec 32) : Fin 2 → Nat :=
  let c1536_i32_454 : BitVec 32 := 1536#32
  let v922 : BitVec 32 := Scalar.subi v921 c1536_i32_454
  let v926 : Index := Scalar.indexCast v922
  let c16_456 : Index := 16#32
  ![v926.toNat, 16]

def k0_chk126 (v921 : BitVec 32) : Prop :=
  (∀ a, (k0_off359 v921) a + S1x16.size a ≤ S257x32.size a) ∧
  (∀ a, (k0_off360 v921) a + S1x16.size a ≤ S257x32.size a)
theorem k0_off359_inb : ∀ (v921 : BitVec 32) (k0_hw126 : k0_chk126 v921), ∀ a, (k0_off359 v921) a + S1x16.size a ≤ S257x32.size a := fun v921 k0_hw126 => k0_hw126.1
theorem k0_off360_inb : ∀ (v921 : BitVec 32) (k0_hw126 : k0_chk126 v921), ∀ a, (k0_off360 v921) a + S1x16.size a ≤ S257x32.size a := fun v921 k0_hw126 => k0_hw126.2

def k0_off361 (v930 : BitVec 32) : Fin 2 → Nat :=
  let c1536_i32_457 : BitVec 32 := 1536#32
  let v931 : BitVec 32 := Scalar.subi v930 c1536_i32_457
  let v932 : Index := Scalar.indexCast v931
  let c0_458 : Index := 0#32
  ![v932.toNat, 0]

def k0_off362 (v930 : BitVec 32) : Fin 2 → Nat :=
  let c1536_i32_457 : BitVec 32 := 1536#32
  let v931 : BitVec 32 := Scalar.subi v930 c1536_i32_457
  let v935 : Index := Scalar.indexCast v931
  let c16_459 : Index := 16#32
  ![v935.toNat, 16]

def k0_chk127 (v930 : BitVec 32) : Prop :=
  (∀ a, (k0_off361 v930) a + S1x16.size a ≤ S257x32.size a) ∧
  (∀ a, (k0_off362 v930) a + S1x16.size a ≤ S257x32.size a)
theorem k0_off361_inb : ∀ (v930 : BitVec 32) (k0_hw127 : k0_chk127 v930), ∀ a, (k0_off361 v930) a + S1x16.size a ≤ S257x32.size a := fun v930 k0_hw127 => k0_hw127.1
theorem k0_off362_inb : ∀ (v930 : BitVec 32) (k0_hw127 : k0_chk127 v930), ∀ a, (k0_off362 v930) a + S1x16.size a ≤ S257x32.size a := fun v930 k0_hw127 => k0_hw127.2

def k0_off363 (v939 : BitVec 32) : Fin 2 → Nat :=
  let c1536_i32_460 : BitVec 32 := 1536#32
  let v940 : BitVec 32 := Scalar.subi v939 c1536_i32_460
  let v941 : Index := Scalar.indexCast v940
  let c0_461 : Index := 0#32
  ![v941.toNat, 0]

def k0_off364 (v939 : BitVec 32) : Fin 2 → Nat :=
  let c1536_i32_460 : BitVec 32 := 1536#32
  let v940 : BitVec 32 := Scalar.subi v939 c1536_i32_460
  let v944 : Index := Scalar.indexCast v940
  let c16_462 : Index := 16#32
  ![v944.toNat, 16]

def k0_chk128 (v939 : BitVec 32) : Prop :=
  (∀ a, (k0_off363 v939) a + S1x16.size a ≤ S257x32.size a) ∧
  (∀ a, (k0_off364 v939) a + S1x16.size a ≤ S257x32.size a)
theorem k0_off363_inb : ∀ (v939 : BitVec 32) (k0_hw128 : k0_chk128 v939), ∀ a, (k0_off363 v939) a + S1x16.size a ≤ S257x32.size a := fun v939 k0_hw128 => k0_hw128.1
theorem k0_off364_inb : ∀ (v939 : BitVec 32) (k0_hw128 : k0_chk128 v939), ∀ a, (k0_off364 v939) a + S1x16.size a ≤ S257x32.size a := fun v939 k0_hw128 => k0_hw128.2

def k0_off365 (v948 : BitVec 32) : Fin 2 → Nat :=
  let c1536_i32_463 : BitVec 32 := 1536#32
  let v949 : BitVec 32 := Scalar.subi v948 c1536_i32_463
  let v950 : Index := Scalar.indexCast v949
  let c0_464 : Index := 0#32
  ![v950.toNat, 0]

def k0_off366 (v948 : BitVec 32) : Fin 2 → Nat :=
  let c1536_i32_463 : BitVec 32 := 1536#32
  let v949 : BitVec 32 := Scalar.subi v948 c1536_i32_463
  let v953 : Index := Scalar.indexCast v949
  let c16_465 : Index := 16#32
  ![v953.toNat, 16]

def k0_chk129 (v948 : BitVec 32) : Prop :=
  (∀ a, (k0_off365 v948) a + S1x16.size a ≤ S257x32.size a) ∧
  (∀ a, (k0_off366 v948) a + S1x16.size a ≤ S257x32.size a)
theorem k0_off365_inb : ∀ (v948 : BitVec 32) (k0_hw129 : k0_chk129 v948), ∀ a, (k0_off365 v948) a + S1x16.size a ≤ S257x32.size a := fun v948 k0_hw129 => k0_hw129.1
theorem k0_off366_inb : ∀ (v948 : BitVec 32) (k0_hw129 : k0_chk129 v948), ∀ a, (k0_off366 v948) a + S1x16.size a ≤ S257x32.size a := fun v948 k0_hw129 => k0_hw129.2

def k0_off367 (v957 : BitVec 32) : Fin 2 → Nat :=
  let c1536_i32_466 : BitVec 32 := 1536#32
  let v958 : BitVec 32 := Scalar.subi v957 c1536_i32_466
  let v959 : Index := Scalar.indexCast v958
  let c0_467 : Index := 0#32
  ![v959.toNat, 0]

def k0_off368 (v957 : BitVec 32) : Fin 2 → Nat :=
  let c1536_i32_466 : BitVec 32 := 1536#32
  let v958 : BitVec 32 := Scalar.subi v957 c1536_i32_466
  let v962 : Index := Scalar.indexCast v958
  let c16_468 : Index := 16#32
  ![v962.toNat, 16]

def k0_chk130 (v957 : BitVec 32) : Prop :=
  (∀ a, (k0_off367 v957) a + S1x16.size a ≤ S257x32.size a) ∧
  (∀ a, (k0_off368 v957) a + S1x16.size a ≤ S257x32.size a)
theorem k0_off367_inb : ∀ (v957 : BitVec 32) (k0_hw130 : k0_chk130 v957), ∀ a, (k0_off367 v957) a + S1x16.size a ≤ S257x32.size a := fun v957 k0_hw130 => k0_hw130.1
theorem k0_off368_inb : ∀ (v957 : BitVec 32) (k0_hw130 : k0_chk130 v957), ∀ a, (k0_off368 v957) a + S1x16.size a ≤ S257x32.size a := fun v957 k0_hw130 => k0_hw130.2

def k0_off369 (v966 : BitVec 32) : Fin 2 → Nat :=
  let c1536_i32_469 : BitVec 32 := 1536#32
  let v967 : BitVec 32 := Scalar.subi v966 c1536_i32_469
  let v968 : Index := Scalar.indexCast v967
  let c0_470 : Index := 0#32
  ![v968.toNat, 0]

def k0_off370 (v966 : BitVec 32) : Fin 2 → Nat :=
  let c1536_i32_469 : BitVec 32 := 1536#32
  let v967 : BitVec 32 := Scalar.subi v966 c1536_i32_469
  let v971 : Index := Scalar.indexCast v967
  let c16_471 : Index := 16#32
  ![v971.toNat, 16]

def k0_chk131 (v966 : BitVec 32) : Prop :=
  (∀ a, (k0_off369 v966) a + S1x16.size a ≤ S257x32.size a) ∧
  (∀ a, (k0_off370 v966) a + S1x16.size a ≤ S257x32.size a)
theorem k0_off369_inb : ∀ (v966 : BitVec 32) (k0_hw131 : k0_chk131 v966), ∀ a, (k0_off369 v966) a + S1x16.size a ≤ S257x32.size a := fun v966 k0_hw131 => k0_hw131.1
theorem k0_off370_inb : ∀ (v966 : BitVec 32) (k0_hw131 : k0_chk131 v966), ∀ a, (k0_off370 v966) a + S1x16.size a ≤ S257x32.size a := fun v966 k0_hw131 => k0_hw131.2

def k0_off371 (v975 : BitVec 32) : Fin 2 → Nat :=
  let c1536_i32_472 : BitVec 32 := 1536#32
  let v976 : BitVec 32 := Scalar.subi v975 c1536_i32_472
  let v977 : Index := Scalar.indexCast v976
  let c0_473 : Index := 0#32
  ![v977.toNat, 0]

def k0_off372 (v975 : BitVec 32) : Fin 2 → Nat :=
  let c1536_i32_472 : BitVec 32 := 1536#32
  let v976 : BitVec 32 := Scalar.subi v975 c1536_i32_472
  let v980 : Index := Scalar.indexCast v976
  let c16_474 : Index := 16#32
  ![v980.toNat, 16]

def k0_chk132 (v975 : BitVec 32) : Prop :=
  (∀ a, (k0_off371 v975) a + S1x16.size a ≤ S257x32.size a) ∧
  (∀ a, (k0_off372 v975) a + S1x16.size a ≤ S257x32.size a)
theorem k0_off371_inb : ∀ (v975 : BitVec 32) (k0_hw132 : k0_chk132 v975), ∀ a, (k0_off371 v975) a + S1x16.size a ≤ S257x32.size a := fun v975 k0_hw132 => k0_hw132.1
theorem k0_off372_inb : ∀ (v975 : BitVec 32) (k0_hw132 : k0_chk132 v975), ∀ a, (k0_off372 v975) a + S1x16.size a ≤ S257x32.size a := fun v975 k0_hw132 => k0_hw132.2

def k0_off373 (v52 : BitVec 32) (v105 : BitVec 32) (v158 : BitVec 32) (v211 : BitVec 32) (v264 : BitVec 32) (v317 : BitVec 32) (v370 : BitVec 32) (k0_t36 : Fin (k0_t36_loop v52 v105 v158 v211 v264 v317 v370).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c0_i32_196 : BitVec 32 := 0#32
  let c1_i32_186 : BitVec 32 := 1#32
  let v371 : BitVec 32 := Scalar.subi v370 c1_i32_186
  let c2049_i32_187 : BitVec 32 := 2049#32
  let v372 : BitVec 32 := Scalar.minsi v371 c2049_i32_187
  let v373 : BitVec 32 := Scalar.subi v372 v357
  let c0_i32_188 : BitVec 32 := 0#32
  let v374 : BitVec 32 := Scalar.maxsi v373 c0_i32_188
  let c0_i32_190 : BitVec 32 := 0#32
  let v376 : BitVec 1 := Scalar.cmpi .sgt v374 c0_i32_190
  let v377 : BitVec 32 := Scalar.extui v376
  let c0_i32_191 : BitVec 32 := 0#32
  let v378 : BitVec 1 := Scalar.cmpi .slt v374 c0_i32_191
  let v379 : BitVec 32 := Scalar.extui v378
  let v380 : BitVec 32 := Scalar.subi v377 v379
  let c8_i32_189 : BitVec 32 := 8#32
  let c0_i32_192 : BitVec 32 := 0#32
  let v381 : BitVec 1 := Scalar.cmpi .sgt c8_i32_189 c0_i32_192
  let v382 : BitVec 32 := Scalar.extui v381
  let c0_i32_193 : BitVec 32 := 0#32
  let v383 : BitVec 1 := Scalar.cmpi .slt c8_i32_189 c0_i32_193
  let v384 : BitVec 32 := Scalar.extui v383
  let v385 : BitVec 32 := Scalar.subi v382 v384
  let v386 : BitVec 1 := Scalar.cmpi .ne v380 v385
  let v387 : BitVec 32 := Scalar.remsi v374 c8_i32_189
  let c0_i32_194 : BitVec 32 := 0#32
  let v388 : BitVec 1 := Scalar.cmpi .ne v387 c0_i32_194
  let v389 : BitVec 1 := Scalar.andi v386 v388
  let v375 : BitVec 32 := Scalar.divsi v374 c8_i32_189
  let c1_i32_195 : BitVec 32 := 1#32
  let v390 : BitVec 32 := Scalar.subi v375 c1_i32_195
  let v391 : BitVec 32 := Scalar.select v389 v390 v375
  let v392 : BitVec 32 := Scalar.subi v391 c0_i32_196
  let c1_i32_197 : BitVec 32 := 1#32
  let v394 : BitVec 32 := Scalar.divsi v392 c1_i32_197
  let v395 : BitVec 32 := Scalar.muli v394 c1_i32_197
  let v396 : BitVec 32 := Scalar.addi c0_i32_196 v395
  let c1_i32_199 : BitVec 32 := 1#32
  let arg19 : BitVec 32 := Scf.iv v396 c1_i32_199 k0_t36
  let c8_i32_444 : BitVec 32 := 8#32
  let v893 : BitVec 32 := Scalar.muli arg19 c8_i32_444
  let v894 : BitVec 32 := Scalar.addi v357 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off374 (v52 : BitVec 32) (v105 : BitVec 32) (v158 : BitVec 32) (v211 : BitVec 32) (v264 : BitVec 32) (v317 : BitVec 32) (v370 : BitVec 32) (k0_t36 : Fin (k0_t36_loop v52 v105 v158 v211 v264 v317 v370).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c0_i32_196 : BitVec 32 := 0#32
  let c1_i32_186 : BitVec 32 := 1#32
  let v371 : BitVec 32 := Scalar.subi v370 c1_i32_186
  let c2049_i32_187 : BitVec 32 := 2049#32
  let v372 : BitVec 32 := Scalar.minsi v371 c2049_i32_187
  let v373 : BitVec 32 := Scalar.subi v372 v357
  let c0_i32_188 : BitVec 32 := 0#32
  let v374 : BitVec 32 := Scalar.maxsi v373 c0_i32_188
  let c0_i32_190 : BitVec 32 := 0#32
  let v376 : BitVec 1 := Scalar.cmpi .sgt v374 c0_i32_190
  let v377 : BitVec 32 := Scalar.extui v376
  let c0_i32_191 : BitVec 32 := 0#32
  let v378 : BitVec 1 := Scalar.cmpi .slt v374 c0_i32_191
  let v379 : BitVec 32 := Scalar.extui v378
  let v380 : BitVec 32 := Scalar.subi v377 v379
  let c8_i32_189 : BitVec 32 := 8#32
  let c0_i32_192 : BitVec 32 := 0#32
  let v381 : BitVec 1 := Scalar.cmpi .sgt c8_i32_189 c0_i32_192
  let v382 : BitVec 32 := Scalar.extui v381
  let c0_i32_193 : BitVec 32 := 0#32
  let v383 : BitVec 1 := Scalar.cmpi .slt c8_i32_189 c0_i32_193
  let v384 : BitVec 32 := Scalar.extui v383
  let v385 : BitVec 32 := Scalar.subi v382 v384
  let v386 : BitVec 1 := Scalar.cmpi .ne v380 v385
  let v387 : BitVec 32 := Scalar.remsi v374 c8_i32_189
  let c0_i32_194 : BitVec 32 := 0#32
  let v388 : BitVec 1 := Scalar.cmpi .ne v387 c0_i32_194
  let v389 : BitVec 1 := Scalar.andi v386 v388
  let v375 : BitVec 32 := Scalar.divsi v374 c8_i32_189
  let c1_i32_195 : BitVec 32 := 1#32
  let v390 : BitVec 32 := Scalar.subi v375 c1_i32_195
  let v391 : BitVec 32 := Scalar.select v389 v390 v375
  let v392 : BitVec 32 := Scalar.subi v391 c0_i32_196
  let c1_i32_197 : BitVec 32 := 1#32
  let v394 : BitVec 32 := Scalar.divsi v392 c1_i32_197
  let v395 : BitVec 32 := Scalar.muli v394 c1_i32_197
  let v396 : BitVec 32 := Scalar.addi c0_i32_196 v395
  let c1_i32_199 : BitVec 32 := 1#32
  let arg19 : BitVec 32 := Scf.iv v396 c1_i32_199 k0_t36
  let c8_i32_444 : BitVec 32 := 8#32
  let v893 : BitVec 32 := Scalar.muli arg19 c8_i32_444
  let v894 : BitVec 32 := Scalar.addi v357 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t37_loop (v52 : BitVec 32) (v105 : BitVec 32) (v158 : BitVec 32) (v211 : BitVec 32) (v264 : BitVec 32) (v317 : BitVec 32) (v370 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v373 : BitVec 32 := Scalar.subi v372 v357
  let c0_i32_188 : BitVec 32 := 0#32
  let v374 : BitVec 32 := Scalar.maxsi v373 c0_i32_188
  let c0_i32_190 : BitVec 32 := 0#32
  let v376 : BitVec 1 := Scalar.cmpi .sgt v374 c0_i32_190
  let v377 : BitVec 32 := Scalar.extui v376
  let c0_i32_191 : BitVec 32 := 0#32
  let v378 : BitVec 1 := Scalar.cmpi .slt v374 c0_i32_191
  let v379 : BitVec 32 := Scalar.extui v378
  let v380 : BitVec 32 := Scalar.subi v377 v379
  let c8_i32_189 : BitVec 32 := 8#32
  let c0_i32_192 : BitVec 32 := 0#32
  let v381 : BitVec 1 := Scalar.cmpi .sgt c8_i32_189 c0_i32_192
  let v382 : BitVec 32 := Scalar.extui v381
  let c0_i32_193 : BitVec 32 := 0#32
  let v383 : BitVec 1 := Scalar.cmpi .slt c8_i32_189 c0_i32_193
  let v384 : BitVec 32 := Scalar.extui v383
  let v385 : BitVec 32 := Scalar.subi v382 v384
  let v386 : BitVec 1 := Scalar.cmpi .ne v380 v385
  let v387 : BitVec 32 := Scalar.remsi v374 c8_i32_189
  let c0_i32_194 : BitVec 32 := 0#32
  let v388 : BitVec 1 := Scalar.cmpi .ne v387 c0_i32_194
  let v389 : BitVec 1 := Scalar.andi v386 v388
  let v375 : BitVec 32 := Scalar.divsi v374 c8_i32_189
  let c1_i32_195 : BitVec 32 := 1#32
  let v390 : BitVec 32 := Scalar.subi v375 c1_i32_195
  let v391 : BitVec 32 := Scalar.select v389 v390 v375
  let c8_i32_200 : BitVec 32 := 8#32
  let v399 : BitVec 32 := Scalar.muli v391 c8_i32_200
  let v400 : BitVec 32 := Scalar.addi v357 v399
  let v401 : BitVec 32 := Scalar.subi v372 v400
  let c1_i32_201 : BitVec 32 := 1#32
  let v403 : BitVec 32 := Scalar.divsi v401 c1_i32_201
  let v404 : BitVec 32 := Scalar.muli v403 c1_i32_201
  let v405 : BitVec 32 := Scalar.addi v400 v404
  let c1_i32_202 : BitVec 32 := 1#32
  ⟨v400, v405, c1_i32_202⟩
def k0_off375 (v52 : BitVec 32) (v105 : BitVec 32) (v158 : BitVec 32) (v211 : BitVec 32) (v264 : BitVec 32) (v317 : BitVec 32) (v370 : BitVec 32) (k0_t37 : Fin (k0_t37_loop v52 v105 v158 v211 v264 v317 v370).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v373 : BitVec 32 := Scalar.subi v372 v357
  let c0_i32_188 : BitVec 32 := 0#32
  let v374 : BitVec 32 := Scalar.maxsi v373 c0_i32_188
  let c0_i32_190 : BitVec 32 := 0#32
  let v376 : BitVec 1 := Scalar.cmpi .sgt v374 c0_i32_190
  let v377 : BitVec 32 := Scalar.extui v376
  let c0_i32_191 : BitVec 32 := 0#32
  let v378 : BitVec 1 := Scalar.cmpi .slt v374 c0_i32_191
  let v379 : BitVec 32 := Scalar.extui v378
  let v380 : BitVec 32 := Scalar.subi v377 v379
  let c8_i32_189 : BitVec 32 := 8#32
  let c0_i32_192 : BitVec 32 := 0#32
  let v381 : BitVec 1 := Scalar.cmpi .sgt c8_i32_189 c0_i32_192
  let v382 : BitVec 32 := Scalar.extui v381
  let c0_i32_193 : BitVec 32 := 0#32
  let v383 : BitVec 1 := Scalar.cmpi .slt c8_i32_189 c0_i32_193
  let v384 : BitVec 32 := Scalar.extui v383
  let v385 : BitVec 32 := Scalar.subi v382 v384
  let v386 : BitVec 1 := Scalar.cmpi .ne v380 v385
  let v387 : BitVec 32 := Scalar.remsi v374 c8_i32_189
  let c0_i32_194 : BitVec 32 := 0#32
  let v388 : BitVec 1 := Scalar.cmpi .ne v387 c0_i32_194
  let v389 : BitVec 1 := Scalar.andi v386 v388
  let v375 : BitVec 32 := Scalar.divsi v374 c8_i32_189
  let c1_i32_195 : BitVec 32 := 1#32
  let v390 : BitVec 32 := Scalar.subi v375 c1_i32_195
  let v391 : BitVec 32 := Scalar.select v389 v390 v375
  let c8_i32_200 : BitVec 32 := 8#32
  let v399 : BitVec 32 := Scalar.muli v391 c8_i32_200
  let v400 : BitVec 32 := Scalar.addi v357 v399
  let c1_i32_202 : BitVec 32 := 1#32
  let arg19 : BitVec 32 := Scf.iv v400 c1_i32_202 k0_t37
  let c1_i32_444 : BitVec 32 := 1#32
  let v893 : BitVec 32 := Scalar.addi arg19 c1_i32_444
  let v894 : Index := Scalar.indexCast v893
  ![v894.toNat]
def k0_off376 (v897 : BitVec 32) : Fin 2 → Nat :=
  let c1536_i32_445 : BitVec 32 := 1536#32
  let v898 : BitVec 32 := Scalar.subi v897 c1536_i32_445
  let v912 : Index := Scalar.indexCast v898
  let c0_450 : Index := 0#32
  ![v912.toNat, 0]

def k0_off377 (v897 : BitVec 32) : Fin 2 → Nat :=
  let c1536_i32_445 : BitVec 32 := 1536#32
  let v898 : BitVec 32 := Scalar.subi v897 c1536_i32_445
  let v915 : Index := Scalar.indexCast v898
  let c16_451 : Index := 16#32
  ![v915.toNat, 16]

def k0_chk133 (v897 : BitVec 32) : Prop :=
  (∀ a, (k0_off376 v897) a + S1x16.size a ≤ S257x32.size a) ∧
  (∀ a, (k0_off377 v897) a + S1x16.size a ≤ S257x32.size a)
theorem k0_off376_inb : ∀ (v897 : BitVec 32) (k0_hw133 : k0_chk133 v897), ∀ a, (k0_off376 v897) a + S1x16.size a ≤ S257x32.size a := fun v897 k0_hw133 => k0_hw133.1
theorem k0_off377_inb : ∀ (v897 : BitVec 32) (k0_hw133 : k0_chk133 v897), ∀ a, (k0_off377 v897) a + S1x16.size a ≤ S257x32.size a := fun v897 k0_hw133 => k0_hw133.2

def k0_off378 (v52 : BitVec 32) (v105 : BitVec 32) (v158 : BitVec 32) (v211 : BitVec 32) (v264 : BitVec 32) (v317 : BitVec 32) (v370 : BitVec 32) (k0_t37 : Fin (k0_t37_loop v52 v105 v158 v211 v264 v317 v370).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v373 : BitVec 32 := Scalar.subi v372 v357
  let c0_i32_188 : BitVec 32 := 0#32
  let v374 : BitVec 32 := Scalar.maxsi v373 c0_i32_188
  let c0_i32_190 : BitVec 32 := 0#32
  let v376 : BitVec 1 := Scalar.cmpi .sgt v374 c0_i32_190
  let v377 : BitVec 32 := Scalar.extui v376
  let c0_i32_191 : BitVec 32 := 0#32
  let v378 : BitVec 1 := Scalar.cmpi .slt v374 c0_i32_191
  let v379 : BitVec 32 := Scalar.extui v378
  let v380 : BitVec 32 := Scalar.subi v377 v379
  let c8_i32_189 : BitVec 32 := 8#32
  let c0_i32_192 : BitVec 32 := 0#32
  let v381 : BitVec 1 := Scalar.cmpi .sgt c8_i32_189 c0_i32_192
  let v382 : BitVec 32 := Scalar.extui v381
  let c0_i32_193 : BitVec 32 := 0#32
  let v383 : BitVec 1 := Scalar.cmpi .slt c8_i32_189 c0_i32_193
  let v384 : BitVec 32 := Scalar.extui v383
  let v385 : BitVec 32 := Scalar.subi v382 v384
  let v386 : BitVec 1 := Scalar.cmpi .ne v380 v385
  let v387 : BitVec 32 := Scalar.remsi v374 c8_i32_189
  let c0_i32_194 : BitVec 32 := 0#32
  let v388 : BitVec 1 := Scalar.cmpi .ne v387 c0_i32_194
  let v389 : BitVec 1 := Scalar.andi v386 v388
  let v375 : BitVec 32 := Scalar.divsi v374 c8_i32_189
  let c1_i32_195 : BitVec 32 := 1#32
  let v390 : BitVec 32 := Scalar.subi v375 c1_i32_195
  let v391 : BitVec 32 := Scalar.select v389 v390 v375
  let c8_i32_200 : BitVec 32 := 8#32
  let v399 : BitVec 32 := Scalar.muli v391 c8_i32_200
  let v400 : BitVec 32 := Scalar.addi v357 v399
  let c1_i32_202 : BitVec 32 := 1#32
  let arg19 : BitVec 32 := Scf.iv v400 c1_i32_202 k0_t37
  let c1_i32_452 : BitVec 32 := 1#32
  let v920 : BitVec 32 := Scalar.addi arg19 c1_i32_452
  let v921 : Index := Scalar.indexCast v920
  let c0_453 : Index := 0#32
  ![v921.toNat, 0]
def k0_off379 (v52 : BitVec 32) (v105 : BitVec 32) (v158 : BitVec 32) (v211 : BitVec 32) (v264 : BitVec 32) (v317 : BitVec 32) (v370 : BitVec 32) (k0_t37 : Fin (k0_t37_loop v52 v105 v158 v211 v264 v317 v370).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v373 : BitVec 32 := Scalar.subi v372 v357
  let c0_i32_188 : BitVec 32 := 0#32
  let v374 : BitVec 32 := Scalar.maxsi v373 c0_i32_188
  let c0_i32_190 : BitVec 32 := 0#32
  let v376 : BitVec 1 := Scalar.cmpi .sgt v374 c0_i32_190
  let v377 : BitVec 32 := Scalar.extui v376
  let c0_i32_191 : BitVec 32 := 0#32
  let v378 : BitVec 1 := Scalar.cmpi .slt v374 c0_i32_191
  let v379 : BitVec 32 := Scalar.extui v378
  let v380 : BitVec 32 := Scalar.subi v377 v379
  let c8_i32_189 : BitVec 32 := 8#32
  let c0_i32_192 : BitVec 32 := 0#32
  let v381 : BitVec 1 := Scalar.cmpi .sgt c8_i32_189 c0_i32_192
  let v382 : BitVec 32 := Scalar.extui v381
  let c0_i32_193 : BitVec 32 := 0#32
  let v383 : BitVec 1 := Scalar.cmpi .slt c8_i32_189 c0_i32_193
  let v384 : BitVec 32 := Scalar.extui v383
  let v385 : BitVec 32 := Scalar.subi v382 v384
  let v386 : BitVec 1 := Scalar.cmpi .ne v380 v385
  let v387 : BitVec 32 := Scalar.remsi v374 c8_i32_189
  let c0_i32_194 : BitVec 32 := 0#32
  let v388 : BitVec 1 := Scalar.cmpi .ne v387 c0_i32_194
  let v389 : BitVec 1 := Scalar.andi v386 v388
  let v375 : BitVec 32 := Scalar.divsi v374 c8_i32_189
  let c1_i32_195 : BitVec 32 := 1#32
  let v390 : BitVec 32 := Scalar.subi v375 c1_i32_195
  let v391 : BitVec 32 := Scalar.select v389 v390 v375
  let c8_i32_200 : BitVec 32 := 8#32
  let v399 : BitVec 32 := Scalar.muli v391 c8_i32_200
  let v400 : BitVec 32 := Scalar.addi v357 v399
  let c1_i32_202 : BitVec 32 := 1#32
  let arg19 : BitVec 32 := Scf.iv v400 c1_i32_202 k0_t37
  let c1_i32_454 : BitVec 32 := 1#32
  let v925 : BitVec 32 := Scalar.addi arg19 c1_i32_454
  let v926 : Index := Scalar.indexCast v925
  let c16_455 : Index := 16#32
  ![v926.toNat, 16]
@[reducible] def k0_t38_loop (v52 : BitVec 32) (v105 : BitVec 32) (v158 : BitVec 32) (v211 : BitVec 32) (v264 : BitVec 32) (v317 : BitVec 32) (v370 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v373 : BitVec 32 := Scalar.subi v372 v357
  let c0_i32_188 : BitVec 32 := 0#32
  let v374 : BitVec 32 := Scalar.maxsi v373 c0_i32_188
  let c0_i32_190 : BitVec 32 := 0#32
  let v376 : BitVec 1 := Scalar.cmpi .sgt v374 c0_i32_190
  let v377 : BitVec 32 := Scalar.extui v376
  let c0_i32_191 : BitVec 32 := 0#32
  let v378 : BitVec 1 := Scalar.cmpi .slt v374 c0_i32_191
  let v379 : BitVec 32 := Scalar.extui v378
  let v380 : BitVec 32 := Scalar.subi v377 v379
  let c8_i32_189 : BitVec 32 := 8#32
  let c0_i32_192 : BitVec 32 := 0#32
  let v381 : BitVec 1 := Scalar.cmpi .sgt c8_i32_189 c0_i32_192
  let v382 : BitVec 32 := Scalar.extui v381
  let c0_i32_193 : BitVec 32 := 0#32
  let v383 : BitVec 1 := Scalar.cmpi .slt c8_i32_189 c0_i32_193
  let v384 : BitVec 32 := Scalar.extui v383
  let v385 : BitVec 32 := Scalar.subi v382 v384
  let v386 : BitVec 1 := Scalar.cmpi .ne v380 v385
  let v387 : BitVec 32 := Scalar.remsi v374 c8_i32_189
  let c0_i32_194 : BitVec 32 := 0#32
  let v388 : BitVec 1 := Scalar.cmpi .ne v387 c0_i32_194
  let v389 : BitVec 1 := Scalar.andi v386 v388
  let v375 : BitVec 32 := Scalar.divsi v374 c8_i32_189
  let c1_i32_195 : BitVec 32 := 1#32
  let v390 : BitVec 32 := Scalar.subi v375 c1_i32_195
  let v391 : BitVec 32 := Scalar.select v389 v390 v375
  let c8_i32_200 : BitVec 32 := 8#32
  let v399 : BitVec 32 := Scalar.muli v391 c8_i32_200
  let v400 : BitVec 32 := Scalar.addi v357 v399
  let v401 : BitVec 32 := Scalar.subi v372 v400
  let c1_i32_201 : BitVec 32 := 1#32
  let v403 : BitVec 32 := Scalar.divsi v401 c1_i32_201
  let v404 : BitVec 32 := Scalar.muli v403 c1_i32_201
  let v405 : BitVec 32 := Scalar.addi v400 v404
  let v402 : BitVec 32 := Scalar.addi v400 v401
  let c1_i32_203 : BitVec 32 := 1#32
  ⟨v405, v402, c1_i32_203⟩
def k0_off380 (v52 : BitVec 32) (v105 : BitVec 32) (v158 : BitVec 32) (v211 : BitVec 32) (v264 : BitVec 32) (v317 : BitVec 32) (v370 : BitVec 32) (k0_t38 : Fin (k0_t38_loop v52 v105 v158 v211 v264 v317 v370).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v373 : BitVec 32 := Scalar.subi v372 v357
  let c0_i32_188 : BitVec 32 := 0#32
  let v374 : BitVec 32 := Scalar.maxsi v373 c0_i32_188
  let c0_i32_190 : BitVec 32 := 0#32
  let v376 : BitVec 1 := Scalar.cmpi .sgt v374 c0_i32_190
  let v377 : BitVec 32 := Scalar.extui v376
  let c0_i32_191 : BitVec 32 := 0#32
  let v378 : BitVec 1 := Scalar.cmpi .slt v374 c0_i32_191
  let v379 : BitVec 32 := Scalar.extui v378
  let v380 : BitVec 32 := Scalar.subi v377 v379
  let c8_i32_189 : BitVec 32 := 8#32
  let c0_i32_192 : BitVec 32 := 0#32
  let v381 : BitVec 1 := Scalar.cmpi .sgt c8_i32_189 c0_i32_192
  let v382 : BitVec 32 := Scalar.extui v381
  let c0_i32_193 : BitVec 32 := 0#32
  let v383 : BitVec 1 := Scalar.cmpi .slt c8_i32_189 c0_i32_193
  let v384 : BitVec 32 := Scalar.extui v383
  let v385 : BitVec 32 := Scalar.subi v382 v384
  let v386 : BitVec 1 := Scalar.cmpi .ne v380 v385
  let v387 : BitVec 32 := Scalar.remsi v374 c8_i32_189
  let c0_i32_194 : BitVec 32 := 0#32
  let v388 : BitVec 1 := Scalar.cmpi .ne v387 c0_i32_194
  let v389 : BitVec 1 := Scalar.andi v386 v388
  let v375 : BitVec 32 := Scalar.divsi v374 c8_i32_189
  let c1_i32_195 : BitVec 32 := 1#32
  let v390 : BitVec 32 := Scalar.subi v375 c1_i32_195
  let v391 : BitVec 32 := Scalar.select v389 v390 v375
  let c8_i32_200 : BitVec 32 := 8#32
  let v399 : BitVec 32 := Scalar.muli v391 c8_i32_200
  let v400 : BitVec 32 := Scalar.addi v357 v399
  let v401 : BitVec 32 := Scalar.subi v372 v400
  let c1_i32_201 : BitVec 32 := 1#32
  let v403 : BitVec 32 := Scalar.divsi v401 c1_i32_201
  let v404 : BitVec 32 := Scalar.muli v403 c1_i32_201
  let v405 : BitVec 32 := Scalar.addi v400 v404
  let c1_i32_203 : BitVec 32 := 1#32
  let arg19 : BitVec 32 := Scf.iv v405 c1_i32_203 k0_t38
  let c1_i32_444 : BitVec 32 := 1#32
  let v893 : BitVec 32 := Scalar.addi arg19 c1_i32_444
  let v894 : Index := Scalar.indexCast v893
  ![v894.toNat]
def k0_off381 (v897 : BitVec 32) : Fin 2 → Nat :=
  let c1536_i32_445 : BitVec 32 := 1536#32
  let v898 : BitVec 32 := Scalar.subi v897 c1536_i32_445
  let v912 : Index := Scalar.indexCast v898
  let c0_450 : Index := 0#32
  ![v912.toNat, 0]

def k0_off382 (v897 : BitVec 32) : Fin 2 → Nat :=
  let c1536_i32_445 : BitVec 32 := 1536#32
  let v898 : BitVec 32 := Scalar.subi v897 c1536_i32_445
  let v915 : Index := Scalar.indexCast v898
  let c16_451 : Index := 16#32
  ![v915.toNat, 16]

def k0_chk134 (v897 : BitVec 32) : Prop :=
  (∀ a, (k0_off381 v897) a + S1x16.size a ≤ S257x32.size a) ∧
  (∀ a, (k0_off382 v897) a + S1x16.size a ≤ S257x32.size a)
theorem k0_off381_inb : ∀ (v897 : BitVec 32) (k0_hw134 : k0_chk134 v897), ∀ a, (k0_off381 v897) a + S1x16.size a ≤ S257x32.size a := fun v897 k0_hw134 => k0_hw134.1
theorem k0_off382_inb : ∀ (v897 : BitVec 32) (k0_hw134 : k0_chk134 v897), ∀ a, (k0_off382 v897) a + S1x16.size a ≤ S257x32.size a := fun v897 k0_hw134 => k0_hw134.2

def k0_off383 (v52 : BitVec 32) (v105 : BitVec 32) (v158 : BitVec 32) (v211 : BitVec 32) (v264 : BitVec 32) (v317 : BitVec 32) (v370 : BitVec 32) (k0_t38 : Fin (k0_t38_loop v52 v105 v158 v211 v264 v317 v370).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v373 : BitVec 32 := Scalar.subi v372 v357
  let c0_i32_188 : BitVec 32 := 0#32
  let v374 : BitVec 32 := Scalar.maxsi v373 c0_i32_188
  let c0_i32_190 : BitVec 32 := 0#32
  let v376 : BitVec 1 := Scalar.cmpi .sgt v374 c0_i32_190
  let v377 : BitVec 32 := Scalar.extui v376
  let c0_i32_191 : BitVec 32 := 0#32
  let v378 : BitVec 1 := Scalar.cmpi .slt v374 c0_i32_191
  let v379 : BitVec 32 := Scalar.extui v378
  let v380 : BitVec 32 := Scalar.subi v377 v379
  let c8_i32_189 : BitVec 32 := 8#32
  let c0_i32_192 : BitVec 32 := 0#32
  let v381 : BitVec 1 := Scalar.cmpi .sgt c8_i32_189 c0_i32_192
  let v382 : BitVec 32 := Scalar.extui v381
  let c0_i32_193 : BitVec 32 := 0#32
  let v383 : BitVec 1 := Scalar.cmpi .slt c8_i32_189 c0_i32_193
  let v384 : BitVec 32 := Scalar.extui v383
  let v385 : BitVec 32 := Scalar.subi v382 v384
  let v386 : BitVec 1 := Scalar.cmpi .ne v380 v385
  let v387 : BitVec 32 := Scalar.remsi v374 c8_i32_189
  let c0_i32_194 : BitVec 32 := 0#32
  let v388 : BitVec 1 := Scalar.cmpi .ne v387 c0_i32_194
  let v389 : BitVec 1 := Scalar.andi v386 v388
  let v375 : BitVec 32 := Scalar.divsi v374 c8_i32_189
  let c1_i32_195 : BitVec 32 := 1#32
  let v390 : BitVec 32 := Scalar.subi v375 c1_i32_195
  let v391 : BitVec 32 := Scalar.select v389 v390 v375
  let c8_i32_200 : BitVec 32 := 8#32
  let v399 : BitVec 32 := Scalar.muli v391 c8_i32_200
  let v400 : BitVec 32 := Scalar.addi v357 v399
  let v401 : BitVec 32 := Scalar.subi v372 v400
  let c1_i32_201 : BitVec 32 := 1#32
  let v403 : BitVec 32 := Scalar.divsi v401 c1_i32_201
  let v404 : BitVec 32 := Scalar.muli v403 c1_i32_201
  let v405 : BitVec 32 := Scalar.addi v400 v404
  let c1_i32_203 : BitVec 32 := 1#32
  let arg19 : BitVec 32 := Scf.iv v405 c1_i32_203 k0_t38
  let c1_i32_452 : BitVec 32 := 1#32
  let v920 : BitVec 32 := Scalar.addi arg19 c1_i32_452
  let v921 : Index := Scalar.indexCast v920
  let c0_453 : Index := 0#32
  ![v921.toNat, 0]
def k0_off384 (v52 : BitVec 32) (v105 : BitVec 32) (v158 : BitVec 32) (v211 : BitVec 32) (v264 : BitVec 32) (v317 : BitVec 32) (v370 : BitVec 32) (k0_t38 : Fin (k0_t38_loop v52 v105 v158 v211 v264 v317 v370).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v373 : BitVec 32 := Scalar.subi v372 v357
  let c0_i32_188 : BitVec 32 := 0#32
  let v374 : BitVec 32 := Scalar.maxsi v373 c0_i32_188
  let c0_i32_190 : BitVec 32 := 0#32
  let v376 : BitVec 1 := Scalar.cmpi .sgt v374 c0_i32_190
  let v377 : BitVec 32 := Scalar.extui v376
  let c0_i32_191 : BitVec 32 := 0#32
  let v378 : BitVec 1 := Scalar.cmpi .slt v374 c0_i32_191
  let v379 : BitVec 32 := Scalar.extui v378
  let v380 : BitVec 32 := Scalar.subi v377 v379
  let c8_i32_189 : BitVec 32 := 8#32
  let c0_i32_192 : BitVec 32 := 0#32
  let v381 : BitVec 1 := Scalar.cmpi .sgt c8_i32_189 c0_i32_192
  let v382 : BitVec 32 := Scalar.extui v381
  let c0_i32_193 : BitVec 32 := 0#32
  let v383 : BitVec 1 := Scalar.cmpi .slt c8_i32_189 c0_i32_193
  let v384 : BitVec 32 := Scalar.extui v383
  let v385 : BitVec 32 := Scalar.subi v382 v384
  let v386 : BitVec 1 := Scalar.cmpi .ne v380 v385
  let v387 : BitVec 32 := Scalar.remsi v374 c8_i32_189
  let c0_i32_194 : BitVec 32 := 0#32
  let v388 : BitVec 1 := Scalar.cmpi .ne v387 c0_i32_194
  let v389 : BitVec 1 := Scalar.andi v386 v388
  let v375 : BitVec 32 := Scalar.divsi v374 c8_i32_189
  let c1_i32_195 : BitVec 32 := 1#32
  let v390 : BitVec 32 := Scalar.subi v375 c1_i32_195
  let v391 : BitVec 32 := Scalar.select v389 v390 v375
  let c8_i32_200 : BitVec 32 := 8#32
  let v399 : BitVec 32 := Scalar.muli v391 c8_i32_200
  let v400 : BitVec 32 := Scalar.addi v357 v399
  let v401 : BitVec 32 := Scalar.subi v372 v400
  let c1_i32_201 : BitVec 32 := 1#32
  let v403 : BitVec 32 := Scalar.divsi v401 c1_i32_201
  let v404 : BitVec 32 := Scalar.muli v403 c1_i32_201
  let v405 : BitVec 32 := Scalar.addi v400 v404
  let c1_i32_203 : BitVec 32 := 1#32
  let arg19 : BitVec 32 := Scf.iv v405 c1_i32_203 k0_t38
  let c1_i32_454 : BitVec 32 := 1#32
  let v925 : BitVec 32 := Scalar.addi arg19 c1_i32_454
  let v926 : Index := Scalar.indexCast v925
  let c16_455 : Index := 16#32
  ![v926.toNat, 16]

def k0_chk116 (v52 : BitVec 32) (v105 : BitVec 32) (v158 : BitVec 32) (v211 : BitVec 32) (v264 : BitVec 32) (v317 : BitVec 32) (v370 : BitVec 32) : Prop :=
  ((k0_t35_loop v52 v105 v158 v211 v264 v317 v370).OK) ∧
  (∀ k0_t35 : Fin (k0_t35_loop v52 v105 v158 v211 v264 v317 v370).trips, ∀ (r : Fin 2), ∀ a, (k0_off337 v52 v105 v158 v211 v264 v317 v370 k0_t35 (BitVec.ofNat 32 (1 + r.val))) a + S16.size a ≤ S4112.size a) ∧
  (∀ k0_t35 : Fin (k0_t35_loop v52 v105 v158 v211 v264 v317 v370).trips, ∀ (r : Fin 8), ∀ a, (k0_off354 v52 v105 v158 v211 v264 v317 v370 k0_t35 (BitVec.ofNat 32 r.val)) a + S1x16.size a ≤ S2050x32.size a) ∧
  (∀ k0_t35 : Fin (k0_t35_loop v52 v105 v158 v211 v264 v317 v370).trips, ∀ (r : Fin 8), ∀ a, (k0_off355 v52 v105 v158 v211 v264 v317 v370 k0_t35 (BitVec.ofNat 32 r.val)) a + S1x16.size a ≤ S2050x32.size a) ∧
  ((k0_t36_loop v52 v105 v158 v211 v264 v317 v370).OK) ∧
  (∀ k0_t36 : Fin (k0_t36_loop v52 v105 v158 v211 v264 v317 v370).trips, ∀ (r : Fin 2), ∀ a, (k0_off356 v52 v105 v158 v211 v264 v317 v370 k0_t36 (BitVec.ofNat 32 (1 + r.val))) a + S16.size a ≤ S4112.size a) ∧
  (∀ k0_t36 : Fin (k0_t36_loop v52 v105 v158 v211 v264 v317 v370).trips, ∀ (r : Fin 8), ∀ a, (k0_off373 v52 v105 v158 v211 v264 v317 v370 k0_t36 (BitVec.ofNat 32 r.val)) a + S1x16.size a ≤ S2050x32.size a) ∧
  (∀ k0_t36 : Fin (k0_t36_loop v52 v105 v158 v211 v264 v317 v370).trips, ∀ (r : Fin 8), ∀ a, (k0_off374 v52 v105 v158 v211 v264 v317 v370 k0_t36 (BitVec.ofNat 32 r.val)) a + S1x16.size a ≤ S2050x32.size a) ∧
  ((k0_t37_loop v52 v105 v158 v211 v264 v317 v370).OK) ∧
  (∀ k0_t37 : Fin (k0_t37_loop v52 v105 v158 v211 v264 v317 v370).trips, ∀ a, (k0_off375 v52 v105 v158 v211 v264 v317 v370 k0_t37) a + S16.size a ≤ S4112.size a) ∧
  (∀ k0_t37 : Fin (k0_t37_loop v52 v105 v158 v211 v264 v317 v370).trips, ∀ a, (k0_off378 v52 v105 v158 v211 v264 v317 v370 k0_t37) a + S1x16.size a ≤ S2050x32.size a) ∧
  (∀ k0_t37 : Fin (k0_t37_loop v52 v105 v158 v211 v264 v317 v370).trips, ∀ a, (k0_off379 v52 v105 v158 v211 v264 v317 v370 k0_t37) a + S1x16.size a ≤ S2050x32.size a) ∧
  ((k0_t38_loop v52 v105 v158 v211 v264 v317 v370).OK) ∧
  (∀ k0_t38 : Fin (k0_t38_loop v52 v105 v158 v211 v264 v317 v370).trips, ∀ a, (k0_off380 v52 v105 v158 v211 v264 v317 v370 k0_t38) a + S16.size a ≤ S4112.size a) ∧
  (∀ k0_t38 : Fin (k0_t38_loop v52 v105 v158 v211 v264 v317 v370).trips, ∀ a, (k0_off383 v52 v105 v158 v211 v264 v317 v370 k0_t38) a + S1x16.size a ≤ S2050x32.size a) ∧
  (∀ k0_t38 : Fin (k0_t38_loop v52 v105 v158 v211 v264 v317 v370).trips, ∀ a, (k0_off384 v52 v105 v158 v211 v264 v317 v370 k0_t38) a + S1x16.size a ≤ S2050x32.size a)
theorem k0_t35_ok : ∀ (v52 : BitVec 32) (v105 : BitVec 32) (v158 : BitVec 32) (v211 : BitVec 32) (v264 : BitVec 32) (v317 : BitVec 32) (v370 : BitVec 32) (k0_hw116 : k0_chk116 v52 v105 v158 v211 v264 v317 v370), (k0_t35_loop v52 v105 v158 v211 v264 v317 v370).OK := fun v52 v105 v158 v211 v264 v317 v370 k0_hw116 => k0_hw116.1
theorem k0_off337_inb : ∀ (v52 : BitVec 32) (v105 : BitVec 32) (v158 : BitVec 32) (v211 : BitVec 32) (v264 : BitVec 32) (v317 : BitVec 32) (v370 : BitVec 32) (k0_hw116 : k0_chk116 v52 v105 v158 v211 v264 v317 v370) (k0_t35 : Fin (k0_t35_loop v52 v105 v158 v211 v264 v317 v370).trips), ∀ (r : Fin 2), ∀ a, (k0_off337 v52 v105 v158 v211 v264 v317 v370 k0_t35 (BitVec.ofNat 32 (1 + r.val))) a + S16.size a ≤ S4112.size a := fun v52 v105 v158 v211 v264 v317 v370 k0_hw116 k0_t35 r => k0_hw116.2.1 k0_t35 r
theorem k0_off354_inb : ∀ (v52 : BitVec 32) (v105 : BitVec 32) (v158 : BitVec 32) (v211 : BitVec 32) (v264 : BitVec 32) (v317 : BitVec 32) (v370 : BitVec 32) (k0_hw116 : k0_chk116 v52 v105 v158 v211 v264 v317 v370) (k0_t35 : Fin (k0_t35_loop v52 v105 v158 v211 v264 v317 v370).trips), ∀ (r : Fin 8), ∀ a, (k0_off354 v52 v105 v158 v211 v264 v317 v370 k0_t35 (BitVec.ofNat 32 r.val)) a + S1x16.size a ≤ S2050x32.size a := fun v52 v105 v158 v211 v264 v317 v370 k0_hw116 k0_t35 r => k0_hw116.2.2.1 k0_t35 r
theorem k0_off355_inb : ∀ (v52 : BitVec 32) (v105 : BitVec 32) (v158 : BitVec 32) (v211 : BitVec 32) (v264 : BitVec 32) (v317 : BitVec 32) (v370 : BitVec 32) (k0_hw116 : k0_chk116 v52 v105 v158 v211 v264 v317 v370) (k0_t35 : Fin (k0_t35_loop v52 v105 v158 v211 v264 v317 v370).trips), ∀ (r : Fin 8), ∀ a, (k0_off355 v52 v105 v158 v211 v264 v317 v370 k0_t35 (BitVec.ofNat 32 r.val)) a + S1x16.size a ≤ S2050x32.size a := fun v52 v105 v158 v211 v264 v317 v370 k0_hw116 k0_t35 r => k0_hw116.2.2.2.1 k0_t35 r
theorem k0_t36_ok : ∀ (v52 : BitVec 32) (v105 : BitVec 32) (v158 : BitVec 32) (v211 : BitVec 32) (v264 : BitVec 32) (v317 : BitVec 32) (v370 : BitVec 32) (k0_hw116 : k0_chk116 v52 v105 v158 v211 v264 v317 v370), (k0_t36_loop v52 v105 v158 v211 v264 v317 v370).OK := fun v52 v105 v158 v211 v264 v317 v370 k0_hw116 => k0_hw116.2.2.2.2.1
theorem k0_off356_inb : ∀ (v52 : BitVec 32) (v105 : BitVec 32) (v158 : BitVec 32) (v211 : BitVec 32) (v264 : BitVec 32) (v317 : BitVec 32) (v370 : BitVec 32) (k0_hw116 : k0_chk116 v52 v105 v158 v211 v264 v317 v370) (k0_t36 : Fin (k0_t36_loop v52 v105 v158 v211 v264 v317 v370).trips), ∀ (r : Fin 2), ∀ a, (k0_off356 v52 v105 v158 v211 v264 v317 v370 k0_t36 (BitVec.ofNat 32 (1 + r.val))) a + S16.size a ≤ S4112.size a := fun v52 v105 v158 v211 v264 v317 v370 k0_hw116 k0_t36 r => k0_hw116.2.2.2.2.2.1 k0_t36 r
theorem k0_off373_inb : ∀ (v52 : BitVec 32) (v105 : BitVec 32) (v158 : BitVec 32) (v211 : BitVec 32) (v264 : BitVec 32) (v317 : BitVec 32) (v370 : BitVec 32) (k0_hw116 : k0_chk116 v52 v105 v158 v211 v264 v317 v370) (k0_t36 : Fin (k0_t36_loop v52 v105 v158 v211 v264 v317 v370).trips), ∀ (r : Fin 8), ∀ a, (k0_off373 v52 v105 v158 v211 v264 v317 v370 k0_t36 (BitVec.ofNat 32 r.val)) a + S1x16.size a ≤ S2050x32.size a := fun v52 v105 v158 v211 v264 v317 v370 k0_hw116 k0_t36 r => k0_hw116.2.2.2.2.2.2.1 k0_t36 r
theorem k0_off374_inb : ∀ (v52 : BitVec 32) (v105 : BitVec 32) (v158 : BitVec 32) (v211 : BitVec 32) (v264 : BitVec 32) (v317 : BitVec 32) (v370 : BitVec 32) (k0_hw116 : k0_chk116 v52 v105 v158 v211 v264 v317 v370) (k0_t36 : Fin (k0_t36_loop v52 v105 v158 v211 v264 v317 v370).trips), ∀ (r : Fin 8), ∀ a, (k0_off374 v52 v105 v158 v211 v264 v317 v370 k0_t36 (BitVec.ofNat 32 r.val)) a + S1x16.size a ≤ S2050x32.size a := fun v52 v105 v158 v211 v264 v317 v370 k0_hw116 k0_t36 r => k0_hw116.2.2.2.2.2.2.2.1 k0_t36 r
theorem k0_t37_ok : ∀ (v52 : BitVec 32) (v105 : BitVec 32) (v158 : BitVec 32) (v211 : BitVec 32) (v264 : BitVec 32) (v317 : BitVec 32) (v370 : BitVec 32) (k0_hw116 : k0_chk116 v52 v105 v158 v211 v264 v317 v370), (k0_t37_loop v52 v105 v158 v211 v264 v317 v370).OK := fun v52 v105 v158 v211 v264 v317 v370 k0_hw116 => k0_hw116.2.2.2.2.2.2.2.2.1
theorem k0_off375_inb : ∀ (v52 : BitVec 32) (v105 : BitVec 32) (v158 : BitVec 32) (v211 : BitVec 32) (v264 : BitVec 32) (v317 : BitVec 32) (v370 : BitVec 32) (k0_hw116 : k0_chk116 v52 v105 v158 v211 v264 v317 v370) (k0_t37 : Fin (k0_t37_loop v52 v105 v158 v211 v264 v317 v370).trips), ∀ a, (k0_off375 v52 v105 v158 v211 v264 v317 v370 k0_t37) a + S16.size a ≤ S4112.size a := fun v52 v105 v158 v211 v264 v317 v370 k0_hw116 k0_t37 => k0_hw116.2.2.2.2.2.2.2.2.2.1 k0_t37
theorem k0_off378_inb : ∀ (v52 : BitVec 32) (v105 : BitVec 32) (v158 : BitVec 32) (v211 : BitVec 32) (v264 : BitVec 32) (v317 : BitVec 32) (v370 : BitVec 32) (k0_hw116 : k0_chk116 v52 v105 v158 v211 v264 v317 v370) (k0_t37 : Fin (k0_t37_loop v52 v105 v158 v211 v264 v317 v370).trips), ∀ a, (k0_off378 v52 v105 v158 v211 v264 v317 v370 k0_t37) a + S1x16.size a ≤ S2050x32.size a := fun v52 v105 v158 v211 v264 v317 v370 k0_hw116 k0_t37 => k0_hw116.2.2.2.2.2.2.2.2.2.2.1 k0_t37
theorem k0_off379_inb : ∀ (v52 : BitVec 32) (v105 : BitVec 32) (v158 : BitVec 32) (v211 : BitVec 32) (v264 : BitVec 32) (v317 : BitVec 32) (v370 : BitVec 32) (k0_hw116 : k0_chk116 v52 v105 v158 v211 v264 v317 v370) (k0_t37 : Fin (k0_t37_loop v52 v105 v158 v211 v264 v317 v370).trips), ∀ a, (k0_off379 v52 v105 v158 v211 v264 v317 v370 k0_t37) a + S1x16.size a ≤ S2050x32.size a := fun v52 v105 v158 v211 v264 v317 v370 k0_hw116 k0_t37 => k0_hw116.2.2.2.2.2.2.2.2.2.2.2.1 k0_t37
theorem k0_t38_ok : ∀ (v52 : BitVec 32) (v105 : BitVec 32) (v158 : BitVec 32) (v211 : BitVec 32) (v264 : BitVec 32) (v317 : BitVec 32) (v370 : BitVec 32) (k0_hw116 : k0_chk116 v52 v105 v158 v211 v264 v317 v370), (k0_t38_loop v52 v105 v158 v211 v264 v317 v370).OK := fun v52 v105 v158 v211 v264 v317 v370 k0_hw116 => k0_hw116.2.2.2.2.2.2.2.2.2.2.2.2.1
theorem k0_off380_inb : ∀ (v52 : BitVec 32) (v105 : BitVec 32) (v158 : BitVec 32) (v211 : BitVec 32) (v264 : BitVec 32) (v317 : BitVec 32) (v370 : BitVec 32) (k0_hw116 : k0_chk116 v52 v105 v158 v211 v264 v317 v370) (k0_t38 : Fin (k0_t38_loop v52 v105 v158 v211 v264 v317 v370).trips), ∀ a, (k0_off380 v52 v105 v158 v211 v264 v317 v370 k0_t38) a + S16.size a ≤ S4112.size a := fun v52 v105 v158 v211 v264 v317 v370 k0_hw116 k0_t38 => k0_hw116.2.2.2.2.2.2.2.2.2.2.2.2.2.1 k0_t38
theorem k0_off383_inb : ∀ (v52 : BitVec 32) (v105 : BitVec 32) (v158 : BitVec 32) (v211 : BitVec 32) (v264 : BitVec 32) (v317 : BitVec 32) (v370 : BitVec 32) (k0_hw116 : k0_chk116 v52 v105 v158 v211 v264 v317 v370) (k0_t38 : Fin (k0_t38_loop v52 v105 v158 v211 v264 v317 v370).trips), ∀ a, (k0_off383 v52 v105 v158 v211 v264 v317 v370 k0_t38) a + S1x16.size a ≤ S2050x32.size a := fun v52 v105 v158 v211 v264 v317 v370 k0_hw116 k0_t38 => k0_hw116.2.2.2.2.2.2.2.2.2.2.2.2.2.2.1 k0_t38
theorem k0_off384_inb : ∀ (v52 : BitVec 32) (v105 : BitVec 32) (v158 : BitVec 32) (v211 : BitVec 32) (v264 : BitVec 32) (v317 : BitVec 32) (v370 : BitVec 32) (k0_hw116 : k0_chk116 v52 v105 v158 v211 v264 v317 v370) (k0_t38 : Fin (k0_t38_loop v52 v105 v158 v211 v264 v317 v370).trips), ∀ a, (k0_off384 v52 v105 v158 v211 v264 v317 v370 k0_t38) a + S1x16.size a ≤ S2050x32.size a := fun v52 v105 v158 v211 v264 v317 v370 k0_hw116 k0_t38 => k0_hw116.2.2.2.2.2.2.2.2.2.2.2.2.2.2.2 k0_t38

def k0_off385 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c1792_i32_204 : BitVec 32 := 1792#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 1792, v3.toNat]
@[reducible] def k0_t39_loop : Scf.Loop 32 :=
  let c0_i32_206 : BitVec 32 := 0#32
  let c16_i32_207 : BitVec 32 := 16#32
  let v415 : BitVec 32 := Scalar.addi c0_i32_206 c16_i32_207
  let c1_i32_208 : BitVec 32 := 1#32
  ⟨c0_i32_206, v415, c1_i32_208⟩
def k0_off386 (k0_t39 : Fin k0_t39_loop.trips) (c0_i32_445 : BitVec 32) : Fin 2 → Nat :=
  let c0_i32_206 : BitVec 32 := 0#32
  let c1_i32_208 : BitVec 32 := 1#32
  let arg19 : BitVec 32 := Scf.iv c0_i32_206 c1_i32_208 k0_t39
  let c16_i32_444 : BitVec 32 := 16#32
  let v893 : BitVec 32 := Scalar.muli arg19 c16_i32_444
  let v894 : BitVec 32 := Scalar.addi v893 c0_i32_445
  let v895 : Index := Scalar.indexCast v894
  let c0_446 : Index := 0#32
  ![v895.toNat, 0]
def k0_off387 (k0_t39 : Fin k0_t39_loop.trips) (c0_i32_447 : BitVec 32) : Fin 2 → Nat :=
  let c0_i32_206 : BitVec 32 := 0#32
  let c1_i32_208 : BitVec 32 := 1#32
  let arg19 : BitVec 32 := Scf.iv c0_i32_206 c1_i32_208 k0_t39
  let c16_i32_444 : BitVec 32 := 16#32
  let v893 : BitVec 32 := Scalar.muli arg19 c16_i32_444
  let v898 : BitVec 32 := Scalar.addi v893 c0_i32_447
  let v899 : Index := Scalar.indexCast v898
  let c16_448 : Index := 16#32
  ![v899.toNat, 16]
def k0_off388 (k0_t39 : Fin k0_t39_loop.trips) (c0_i32_449 : BitVec 32) : Fin 2 → Nat :=
  let c0_i32_206 : BitVec 32 := 0#32
  let c1_i32_208 : BitVec 32 := 1#32
  let arg19 : BitVec 32 := Scf.iv c0_i32_206 c1_i32_208 k0_t39
  let c16_i32_444 : BitVec 32 := 16#32
  let v893 : BitVec 32 := Scalar.muli arg19 c16_i32_444
  let v902 : BitVec 32 := Scalar.addi v893 c0_i32_449
  let c1_i32_450 : BitVec 32 := 1#32
  let v903 : BitVec 32 := Scalar.addi v902 c1_i32_450
  let v904 : Index := Scalar.indexCast v903
  let c0_451 : Index := 0#32
  ![v904.toNat, 0]
def k0_off389 (k0_t39 : Fin k0_t39_loop.trips) (c0_i32_452 : BitVec 32) : Fin 2 → Nat :=
  let c0_i32_206 : BitVec 32 := 0#32
  let c1_i32_208 : BitVec 32 := 1#32
  let arg19 : BitVec 32 := Scf.iv c0_i32_206 c1_i32_208 k0_t39
  let c16_i32_444 : BitVec 32 := 16#32
  let v893 : BitVec 32 := Scalar.muli arg19 c16_i32_444
  let v906 : BitVec 32 := Scalar.addi v893 c0_i32_452
  let c1_i32_453 : BitVec 32 := 1#32
  let v907 : BitVec 32 := Scalar.addi v906 c1_i32_453
  let v908 : Index := Scalar.indexCast v907
  let c16_454 : Index := 16#32
  ![v908.toNat, 16]
def k0_off390 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c2304_i32 : BitVec 32 := 2304#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 2304, v3.toNat]
@[reducible] def k0_t40_loop (v52 : BitVec 32) (v105 : BitVec 32) (v158 : BitVec 32) (v211 : BitVec 32) (v264 : BitVec 32) (v317 : BitVec 32) (v370 : BitVec 32) (v423 : BitVec 32) : Scf.Loop 32 :=
  let c0_i32_221 : BitVec 32 := 0#32
  let c1_i32_211 : BitVec 32 := 1#32
  let v424 : BitVec 32 := Scalar.subi v423 c1_i32_211
  let c2049_i32_212 : BitVec 32 := 2049#32
  let v425 : BitVec 32 := Scalar.minsi v424 c2049_i32_212
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let v426 : BitVec 32 := Scalar.subi v425 v410
  let c0_i32_213 : BitVec 32 := 0#32
  let v427 : BitVec 32 := Scalar.maxsi v426 c0_i32_213
  let c0_i32_215 : BitVec 32 := 0#32
  let v429 : BitVec 1 := Scalar.cmpi .sgt v427 c0_i32_215
  let v430 : BitVec 32 := Scalar.extui v429
  let c0_i32_216 : BitVec 32 := 0#32
  let v431 : BitVec 1 := Scalar.cmpi .slt v427 c0_i32_216
  let v432 : BitVec 32 := Scalar.extui v431
  let v433 : BitVec 32 := Scalar.subi v430 v432
  let c8_i32_214 : BitVec 32 := 8#32
  let c0_i32_217 : BitVec 32 := 0#32
  let v434 : BitVec 1 := Scalar.cmpi .sgt c8_i32_214 c0_i32_217
  let v435 : BitVec 32 := Scalar.extui v434
  let c0_i32_218 : BitVec 32 := 0#32
  let v436 : BitVec 1 := Scalar.cmpi .slt c8_i32_214 c0_i32_218
  let v437 : BitVec 32 := Scalar.extui v436
  let v438 : BitVec 32 := Scalar.subi v435 v437
  let v439 : BitVec 1 := Scalar.cmpi .ne v433 v438
  let v440 : BitVec 32 := Scalar.remsi v427 c8_i32_214
  let c0_i32_219 : BitVec 32 := 0#32
  let v441 : BitVec 1 := Scalar.cmpi .ne v440 c0_i32_219
  let v442 : BitVec 1 := Scalar.andi v439 v441
  let v428 : BitVec 32 := Scalar.divsi v427 c8_i32_214
  let c1_i32_220 : BitVec 32 := 1#32
  let v443 : BitVec 32 := Scalar.subi v428 c1_i32_220
  let v444 : BitVec 32 := Scalar.select v442 v443 v428
  let v445 : BitVec 32 := Scalar.subi v444 c0_i32_221
  let c1_i32_222 : BitVec 32 := 1#32
  let v447 : BitVec 32 := Scalar.divsi v445 c1_i32_222
  let v448 : BitVec 32 := Scalar.muli v447 c1_i32_222
  let v449 : BitVec 32 := Scalar.addi c0_i32_221 v448
  let c1_i32_223 : BitVec 32 := 1#32
  ⟨c0_i32_221, v449, c1_i32_223⟩

def k0_off391 (v52 : BitVec 32) (v105 : BitVec 32) (v158 : BitVec 32) (v211 : BitVec 32) (v264 : BitVec 32) (v317 : BitVec 32) (v370 : BitVec 32) (v423 : BitVec 32) (k0_t40 : Fin (k0_t40_loop v52 v105 v158 v211 v264 v317 v370 v423).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c0_i32_221 : BitVec 32 := 0#32
  let c1_i32_223 : BitVec 32 := 1#32
  let arg19 : BitVec 32 := Scf.iv c0_i32_221 c1_i32_223 k0_t40
  let c8_i32_444 : BitVec 32 := 8#32
  let v893 : BitVec 32 := Scalar.muli arg19 c8_i32_444
  let v894 : BitVec 32 := Scalar.addi v410 v893
  let v895 : BitVec 32 := Scalar.addi v894 c1_i32_445
  let v896 : Index := Scalar.indexCast v895
  ![v896.toNat]
def k0_off392 (v912 : BitVec 32) : Fin 2 → Nat :=
  let c1792_i32_451 : BitVec 32 := 1792#32
  let v913 : BitVec 32 := Scalar.subi v912 c1792_i32_451
  let v914 : Index := Scalar.indexCast v913
  let c0_452 : Index := 0#32
  ![v914.toNat, 0]

def k0_off393 (v912 : BitVec 32) : Fin 2 → Nat :=
  let c1792_i32_451 : BitVec 32 := 1792#32
  let v913 : BitVec 32 := Scalar.subi v912 c1792_i32_451
  let v917 : Index := Scalar.indexCast v913
  let c16_453 : Index := 16#32
  ![v917.toNat, 16]

def k0_chk136 (v912 : BitVec 32) : Prop :=
  (∀ a, (k0_off392 v912) a + S1x16.size a ≤ S257x32.size a) ∧
  (∀ a, (k0_off393 v912) a + S1x16.size a ≤ S257x32.size a)
theorem k0_off392_inb : ∀ (v912 : BitVec 32) (k0_hw136 : k0_chk136 v912), ∀ a, (k0_off392 v912) a + S1x16.size a ≤ S257x32.size a := fun v912 k0_hw136 => k0_hw136.1
theorem k0_off393_inb : ∀ (v912 : BitVec 32) (k0_hw136 : k0_chk136 v912), ∀ a, (k0_off393 v912) a + S1x16.size a ≤ S257x32.size a := fun v912 k0_hw136 => k0_hw136.2

def k0_off394 (v921 : BitVec 32) : Fin 2 → Nat :=
  let c1792_i32_454 : BitVec 32 := 1792#32
  let v922 : BitVec 32 := Scalar.subi v921 c1792_i32_454
  let v923 : Index := Scalar.indexCast v922
  let c0_455 : Index := 0#32
  ![v923.toNat, 0]

def k0_off395 (v921 : BitVec 32) : Fin 2 → Nat :=
  let c1792_i32_454 : BitVec 32 := 1792#32
  let v922 : BitVec 32 := Scalar.subi v921 c1792_i32_454
  let v926 : Index := Scalar.indexCast v922
  let c16_456 : Index := 16#32
  ![v926.toNat, 16]

def k0_chk137 (v921 : BitVec 32) : Prop :=
  (∀ a, (k0_off394 v921) a + S1x16.size a ≤ S257x32.size a) ∧
  (∀ a, (k0_off395 v921) a + S1x16.size a ≤ S257x32.size a)
theorem k0_off394_inb : ∀ (v921 : BitVec 32) (k0_hw137 : k0_chk137 v921), ∀ a, (k0_off394 v921) a + S1x16.size a ≤ S257x32.size a := fun v921 k0_hw137 => k0_hw137.1
theorem k0_off395_inb : ∀ (v921 : BitVec 32) (k0_hw137 : k0_chk137 v921), ∀ a, (k0_off395 v921) a + S1x16.size a ≤ S257x32.size a := fun v921 k0_hw137 => k0_hw137.2

def k0_off396 (v930 : BitVec 32) : Fin 2 → Nat :=
  let c1792_i32_457 : BitVec 32 := 1792#32
  let v931 : BitVec 32 := Scalar.subi v930 c1792_i32_457
  let v932 : Index := Scalar.indexCast v931
  let c0_458 : Index := 0#32
  ![v932.toNat, 0]

def k0_off397 (v930 : BitVec 32) : Fin 2 → Nat :=
  let c1792_i32_457 : BitVec 32 := 1792#32
  let v931 : BitVec 32 := Scalar.subi v930 c1792_i32_457
  let v935 : Index := Scalar.indexCast v931
  let c16_459 : Index := 16#32
  ![v935.toNat, 16]

def k0_chk138 (v930 : BitVec 32) : Prop :=
  (∀ a, (k0_off396 v930) a + S1x16.size a ≤ S257x32.size a) ∧
  (∀ a, (k0_off397 v930) a + S1x16.size a ≤ S257x32.size a)
theorem k0_off396_inb : ∀ (v930 : BitVec 32) (k0_hw138 : k0_chk138 v930), ∀ a, (k0_off396 v930) a + S1x16.size a ≤ S257x32.size a := fun v930 k0_hw138 => k0_hw138.1
theorem k0_off397_inb : ∀ (v930 : BitVec 32) (k0_hw138 : k0_chk138 v930), ∀ a, (k0_off397 v930) a + S1x16.size a ≤ S257x32.size a := fun v930 k0_hw138 => k0_hw138.2

def k0_off398 (v939 : BitVec 32) : Fin 2 → Nat :=
  let c1792_i32_460 : BitVec 32 := 1792#32
  let v940 : BitVec 32 := Scalar.subi v939 c1792_i32_460
  let v941 : Index := Scalar.indexCast v940
  let c0_461 : Index := 0#32
  ![v941.toNat, 0]

def k0_off399 (v939 : BitVec 32) : Fin 2 → Nat :=
  let c1792_i32_460 : BitVec 32 := 1792#32
  let v940 : BitVec 32 := Scalar.subi v939 c1792_i32_460
  let v944 : Index := Scalar.indexCast v940
  let c16_462 : Index := 16#32
  ![v944.toNat, 16]

def k0_chk139 (v939 : BitVec 32) : Prop :=
  (∀ a, (k0_off398 v939) a + S1x16.size a ≤ S257x32.size a) ∧
  (∀ a, (k0_off399 v939) a + S1x16.size a ≤ S257x32.size a)
theorem k0_off398_inb : ∀ (v939 : BitVec 32) (k0_hw139 : k0_chk139 v939), ∀ a, (k0_off398 v939) a + S1x16.size a ≤ S257x32.size a := fun v939 k0_hw139 => k0_hw139.1
theorem k0_off399_inb : ∀ (v939 : BitVec 32) (k0_hw139 : k0_chk139 v939), ∀ a, (k0_off399 v939) a + S1x16.size a ≤ S257x32.size a := fun v939 k0_hw139 => k0_hw139.2

def k0_off400 (v948 : BitVec 32) : Fin 2 → Nat :=
  let c1792_i32_463 : BitVec 32 := 1792#32
  let v949 : BitVec 32 := Scalar.subi v948 c1792_i32_463
  let v950 : Index := Scalar.indexCast v949
  let c0_464 : Index := 0#32
  ![v950.toNat, 0]

def k0_off401 (v948 : BitVec 32) : Fin 2 → Nat :=
  let c1792_i32_463 : BitVec 32 := 1792#32
  let v949 : BitVec 32 := Scalar.subi v948 c1792_i32_463
  let v953 : Index := Scalar.indexCast v949
  let c16_465 : Index := 16#32
  ![v953.toNat, 16]

def k0_chk140 (v948 : BitVec 32) : Prop :=
  (∀ a, (k0_off400 v948) a + S1x16.size a ≤ S257x32.size a) ∧
  (∀ a, (k0_off401 v948) a + S1x16.size a ≤ S257x32.size a)
theorem k0_off400_inb : ∀ (v948 : BitVec 32) (k0_hw140 : k0_chk140 v948), ∀ a, (k0_off400 v948) a + S1x16.size a ≤ S257x32.size a := fun v948 k0_hw140 => k0_hw140.1
theorem k0_off401_inb : ∀ (v948 : BitVec 32) (k0_hw140 : k0_chk140 v948), ∀ a, (k0_off401 v948) a + S1x16.size a ≤ S257x32.size a := fun v948 k0_hw140 => k0_hw140.2

def k0_off402 (v957 : BitVec 32) : Fin 2 → Nat :=
  let c1792_i32_466 : BitVec 32 := 1792#32
  let v958 : BitVec 32 := Scalar.subi v957 c1792_i32_466
  let v959 : Index := Scalar.indexCast v958
  let c0_467 : Index := 0#32
  ![v959.toNat, 0]

def k0_off403 (v957 : BitVec 32) : Fin 2 → Nat :=
  let c1792_i32_466 : BitVec 32 := 1792#32
  let v958 : BitVec 32 := Scalar.subi v957 c1792_i32_466
  let v962 : Index := Scalar.indexCast v958
  let c16_468 : Index := 16#32
  ![v962.toNat, 16]

def k0_chk141 (v957 : BitVec 32) : Prop :=
  (∀ a, (k0_off402 v957) a + S1x16.size a ≤ S257x32.size a) ∧
  (∀ a, (k0_off403 v957) a + S1x16.size a ≤ S257x32.size a)
theorem k0_off402_inb : ∀ (v957 : BitVec 32) (k0_hw141 : k0_chk141 v957), ∀ a, (k0_off402 v957) a + S1x16.size a ≤ S257x32.size a := fun v957 k0_hw141 => k0_hw141.1
theorem k0_off403_inb : ∀ (v957 : BitVec 32) (k0_hw141 : k0_chk141 v957), ∀ a, (k0_off403 v957) a + S1x16.size a ≤ S257x32.size a := fun v957 k0_hw141 => k0_hw141.2

def k0_off404 (v966 : BitVec 32) : Fin 2 → Nat :=
  let c1792_i32_469 : BitVec 32 := 1792#32
  let v967 : BitVec 32 := Scalar.subi v966 c1792_i32_469
  let v968 : Index := Scalar.indexCast v967
  let c0_470 : Index := 0#32
  ![v968.toNat, 0]

def k0_off405 (v966 : BitVec 32) : Fin 2 → Nat :=
  let c1792_i32_469 : BitVec 32 := 1792#32
  let v967 : BitVec 32 := Scalar.subi v966 c1792_i32_469
  let v971 : Index := Scalar.indexCast v967
  let c16_471 : Index := 16#32
  ![v971.toNat, 16]

def k0_chk142 (v966 : BitVec 32) : Prop :=
  (∀ a, (k0_off404 v966) a + S1x16.size a ≤ S257x32.size a) ∧
  (∀ a, (k0_off405 v966) a + S1x16.size a ≤ S257x32.size a)
theorem k0_off404_inb : ∀ (v966 : BitVec 32) (k0_hw142 : k0_chk142 v966), ∀ a, (k0_off404 v966) a + S1x16.size a ≤ S257x32.size a := fun v966 k0_hw142 => k0_hw142.1
theorem k0_off405_inb : ∀ (v966 : BitVec 32) (k0_hw142 : k0_chk142 v966), ∀ a, (k0_off405 v966) a + S1x16.size a ≤ S257x32.size a := fun v966 k0_hw142 => k0_hw142.2

def k0_off406 (v975 : BitVec 32) : Fin 2 → Nat :=
  let c1792_i32_472 : BitVec 32 := 1792#32
  let v976 : BitVec 32 := Scalar.subi v975 c1792_i32_472
  let v977 : Index := Scalar.indexCast v976
  let c0_473 : Index := 0#32
  ![v977.toNat, 0]

def k0_off407 (v975 : BitVec 32) : Fin 2 → Nat :=
  let c1792_i32_472 : BitVec 32 := 1792#32
  let v976 : BitVec 32 := Scalar.subi v975 c1792_i32_472
  let v980 : Index := Scalar.indexCast v976
  let c16_474 : Index := 16#32
  ![v980.toNat, 16]

def k0_chk143 (v975 : BitVec 32) : Prop :=
  (∀ a, (k0_off406 v975) a + S1x16.size a ≤ S257x32.size a) ∧
  (∀ a, (k0_off407 v975) a + S1x16.size a ≤ S257x32.size a)
theorem k0_off406_inb : ∀ (v975 : BitVec 32) (k0_hw143 : k0_chk143 v975), ∀ a, (k0_off406 v975) a + S1x16.size a ≤ S257x32.size a := fun v975 k0_hw143 => k0_hw143.1
theorem k0_off407_inb : ∀ (v975 : BitVec 32) (k0_hw143 : k0_chk143 v975), ∀ a, (k0_off407 v975) a + S1x16.size a ≤ S257x32.size a := fun v975 k0_hw143 => k0_hw143.2

def k0_off408 (v52 : BitVec 32) (v105 : BitVec 32) (v158 : BitVec 32) (v211 : BitVec 32) (v264 : BitVec 32) (v317 : BitVec 32) (v370 : BitVec 32) (v423 : BitVec 32) (k0_t40 : Fin (k0_t40_loop v52 v105 v158 v211 v264 v317 v370 v423).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c0_i32_221 : BitVec 32 := 0#32
  let c1_i32_223 : BitVec 32 := 1#32
  let arg19 : BitVec 32 := Scf.iv c0_i32_221 c1_i32_223 k0_t40
  let c8_i32_444 : BitVec 32 := 8#32
  let v893 : BitVec 32 := Scalar.muli arg19 c8_i32_444
  let v894 : BitVec 32 := Scalar.addi v410 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off409 (v52 : BitVec 32) (v105 : BitVec 32) (v158 : BitVec 32) (v211 : BitVec 32) (v264 : BitVec 32) (v317 : BitVec 32) (v370 : BitVec 32) (v423 : BitVec 32) (k0_t40 : Fin (k0_t40_loop v52 v105 v158 v211 v264 v317 v370 v423).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c0_i32_221 : BitVec 32 := 0#32
  let c1_i32_223 : BitVec 32 := 1#32
  let arg19 : BitVec 32 := Scf.iv c0_i32_221 c1_i32_223 k0_t40
  let c8_i32_444 : BitVec 32 := 8#32
  let v893 : BitVec 32 := Scalar.muli arg19 c8_i32_444
  let v894 : BitVec 32 := Scalar.addi v410 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t41_loop (v52 : BitVec 32) (v105 : BitVec 32) (v158 : BitVec 32) (v211 : BitVec 32) (v264 : BitVec 32) (v317 : BitVec 32) (v370 : BitVec 32) (v423 : BitVec 32) : Scf.Loop 32 :=
  let c0_i32_221 : BitVec 32 := 0#32
  let c1_i32_211 : BitVec 32 := 1#32
  let v424 : BitVec 32 := Scalar.subi v423 c1_i32_211
  let c2049_i32_212 : BitVec 32 := 2049#32
  let v425 : BitVec 32 := Scalar.minsi v424 c2049_i32_212
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let v426 : BitVec 32 := Scalar.subi v425 v410
  let c0_i32_213 : BitVec 32 := 0#32
  let v427 : BitVec 32 := Scalar.maxsi v426 c0_i32_213
  let c0_i32_215 : BitVec 32 := 0#32
  let v429 : BitVec 1 := Scalar.cmpi .sgt v427 c0_i32_215
  let v430 : BitVec 32 := Scalar.extui v429
  let c0_i32_216 : BitVec 32 := 0#32
  let v431 : BitVec 1 := Scalar.cmpi .slt v427 c0_i32_216
  let v432 : BitVec 32 := Scalar.extui v431
  let v433 : BitVec 32 := Scalar.subi v430 v432
  let c8_i32_214 : BitVec 32 := 8#32
  let c0_i32_217 : BitVec 32 := 0#32
  let v434 : BitVec 1 := Scalar.cmpi .sgt c8_i32_214 c0_i32_217
  let v435 : BitVec 32 := Scalar.extui v434
  let c0_i32_218 : BitVec 32 := 0#32
  let v436 : BitVec 1 := Scalar.cmpi .slt c8_i32_214 c0_i32_218
  let v437 : BitVec 32 := Scalar.extui v436
  let v438 : BitVec 32 := Scalar.subi v435 v437
  let v439 : BitVec 1 := Scalar.cmpi .ne v433 v438
  let v440 : BitVec 32 := Scalar.remsi v427 c8_i32_214
  let c0_i32_219 : BitVec 32 := 0#32
  let v441 : BitVec 1 := Scalar.cmpi .ne v440 c0_i32_219
  let v442 : BitVec 1 := Scalar.andi v439 v441
  let v428 : BitVec 32 := Scalar.divsi v427 c8_i32_214
  let c1_i32_220 : BitVec 32 := 1#32
  let v443 : BitVec 32 := Scalar.subi v428 c1_i32_220
  let v444 : BitVec 32 := Scalar.select v442 v443 v428
  let v445 : BitVec 32 := Scalar.subi v444 c0_i32_221
  let c1_i32_222 : BitVec 32 := 1#32
  let v447 : BitVec 32 := Scalar.divsi v445 c1_i32_222
  let v448 : BitVec 32 := Scalar.muli v447 c1_i32_222
  let v449 : BitVec 32 := Scalar.addi c0_i32_221 v448
  let v446 : BitVec 32 := Scalar.addi c0_i32_221 v445
  let c1_i32_224 : BitVec 32 := 1#32
  ⟨v449, v446, c1_i32_224⟩
def k0_off410 (v52 : BitVec 32) (v105 : BitVec 32) (v158 : BitVec 32) (v211 : BitVec 32) (v264 : BitVec 32) (v317 : BitVec 32) (v370 : BitVec 32) (v423 : BitVec 32) (k0_t41 : Fin (k0_t41_loop v52 v105 v158 v211 v264 v317 v370 v423).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c0_i32_221 : BitVec 32 := 0#32
  let c1_i32_211 : BitVec 32 := 1#32
  let v424 : BitVec 32 := Scalar.subi v423 c1_i32_211
  let c2049_i32_212 : BitVec 32 := 2049#32
  let v425 : BitVec 32 := Scalar.minsi v424 c2049_i32_212
  let v426 : BitVec 32 := Scalar.subi v425 v410
  let c0_i32_213 : BitVec 32 := 0#32
  let v427 : BitVec 32 := Scalar.maxsi v426 c0_i32_213
  let c0_i32_215 : BitVec 32 := 0#32
  let v429 : BitVec 1 := Scalar.cmpi .sgt v427 c0_i32_215
  let v430 : BitVec 32 := Scalar.extui v429
  let c0_i32_216 : BitVec 32 := 0#32
  let v431 : BitVec 1 := Scalar.cmpi .slt v427 c0_i32_216
  let v432 : BitVec 32 := Scalar.extui v431
  let v433 : BitVec 32 := Scalar.subi v430 v432
  let c8_i32_214 : BitVec 32 := 8#32
  let c0_i32_217 : BitVec 32 := 0#32
  let v434 : BitVec 1 := Scalar.cmpi .sgt c8_i32_214 c0_i32_217
  let v435 : BitVec 32 := Scalar.extui v434
  let c0_i32_218 : BitVec 32 := 0#32
  let v436 : BitVec 1 := Scalar.cmpi .slt c8_i32_214 c0_i32_218
  let v437 : BitVec 32 := Scalar.extui v436
  let v438 : BitVec 32 := Scalar.subi v435 v437
  let v439 : BitVec 1 := Scalar.cmpi .ne v433 v438
  let v440 : BitVec 32 := Scalar.remsi v427 c8_i32_214
  let c0_i32_219 : BitVec 32 := 0#32
  let v441 : BitVec 1 := Scalar.cmpi .ne v440 c0_i32_219
  let v442 : BitVec 1 := Scalar.andi v439 v441
  let v428 : BitVec 32 := Scalar.divsi v427 c8_i32_214
  let c1_i32_220 : BitVec 32 := 1#32
  let v443 : BitVec 32 := Scalar.subi v428 c1_i32_220
  let v444 : BitVec 32 := Scalar.select v442 v443 v428
  let v445 : BitVec 32 := Scalar.subi v444 c0_i32_221
  let c1_i32_222 : BitVec 32 := 1#32
  let v447 : BitVec 32 := Scalar.divsi v445 c1_i32_222
  let v448 : BitVec 32 := Scalar.muli v447 c1_i32_222
  let v449 : BitVec 32 := Scalar.addi c0_i32_221 v448
  let c1_i32_224 : BitVec 32 := 1#32
  let arg19 : BitVec 32 := Scf.iv v449 c1_i32_224 k0_t41
  let c8_i32_444 : BitVec 32 := 8#32
  let v893 : BitVec 32 := Scalar.muli arg19 c8_i32_444
  let v894 : BitVec 32 := Scalar.addi v410 v893
  let v895 : BitVec 32 := Scalar.addi v894 c1_i32_445
  let v896 : Index := Scalar.indexCast v895
  ![v896.toNat]
def k0_off411 (v912 : BitVec 32) : Fin 2 → Nat :=
  let c1792_i32_451 : BitVec 32 := 1792#32
  let v913 : BitVec 32 := Scalar.subi v912 c1792_i32_451
  let v914 : Index := Scalar.indexCast v913
  let c0_452 : Index := 0#32
  ![v914.toNat, 0]

def k0_off412 (v912 : BitVec 32) : Fin 2 → Nat :=
  let c1792_i32_451 : BitVec 32 := 1792#32
  let v913 : BitVec 32 := Scalar.subi v912 c1792_i32_451
  let v917 : Index := Scalar.indexCast v913
  let c16_453 : Index := 16#32
  ![v917.toNat, 16]

def k0_chk144 (v912 : BitVec 32) : Prop :=
  (∀ a, (k0_off411 v912) a + S1x16.size a ≤ S257x32.size a) ∧
  (∀ a, (k0_off412 v912) a + S1x16.size a ≤ S257x32.size a)
theorem k0_off411_inb : ∀ (v912 : BitVec 32) (k0_hw144 : k0_chk144 v912), ∀ a, (k0_off411 v912) a + S1x16.size a ≤ S257x32.size a := fun v912 k0_hw144 => k0_hw144.1
theorem k0_off412_inb : ∀ (v912 : BitVec 32) (k0_hw144 : k0_chk144 v912), ∀ a, (k0_off412 v912) a + S1x16.size a ≤ S257x32.size a := fun v912 k0_hw144 => k0_hw144.2

def k0_off413 (v921 : BitVec 32) : Fin 2 → Nat :=
  let c1792_i32_454 : BitVec 32 := 1792#32
  let v922 : BitVec 32 := Scalar.subi v921 c1792_i32_454
  let v923 : Index := Scalar.indexCast v922
  let c0_455 : Index := 0#32
  ![v923.toNat, 0]

def k0_off414 (v921 : BitVec 32) : Fin 2 → Nat :=
  let c1792_i32_454 : BitVec 32 := 1792#32
  let v922 : BitVec 32 := Scalar.subi v921 c1792_i32_454
  let v926 : Index := Scalar.indexCast v922
  let c16_456 : Index := 16#32
  ![v926.toNat, 16]

def k0_chk145 (v921 : BitVec 32) : Prop :=
  (∀ a, (k0_off413 v921) a + S1x16.size a ≤ S257x32.size a) ∧
  (∀ a, (k0_off414 v921) a + S1x16.size a ≤ S257x32.size a)
theorem k0_off413_inb : ∀ (v921 : BitVec 32) (k0_hw145 : k0_chk145 v921), ∀ a, (k0_off413 v921) a + S1x16.size a ≤ S257x32.size a := fun v921 k0_hw145 => k0_hw145.1
theorem k0_off414_inb : ∀ (v921 : BitVec 32) (k0_hw145 : k0_chk145 v921), ∀ a, (k0_off414 v921) a + S1x16.size a ≤ S257x32.size a := fun v921 k0_hw145 => k0_hw145.2

def k0_off415 (v930 : BitVec 32) : Fin 2 → Nat :=
  let c1792_i32_457 : BitVec 32 := 1792#32
  let v931 : BitVec 32 := Scalar.subi v930 c1792_i32_457
  let v932 : Index := Scalar.indexCast v931
  let c0_458 : Index := 0#32
  ![v932.toNat, 0]

def k0_off416 (v930 : BitVec 32) : Fin 2 → Nat :=
  let c1792_i32_457 : BitVec 32 := 1792#32
  let v931 : BitVec 32 := Scalar.subi v930 c1792_i32_457
  let v935 : Index := Scalar.indexCast v931
  let c16_459 : Index := 16#32
  ![v935.toNat, 16]

def k0_chk146 (v930 : BitVec 32) : Prop :=
  (∀ a, (k0_off415 v930) a + S1x16.size a ≤ S257x32.size a) ∧
  (∀ a, (k0_off416 v930) a + S1x16.size a ≤ S257x32.size a)
theorem k0_off415_inb : ∀ (v930 : BitVec 32) (k0_hw146 : k0_chk146 v930), ∀ a, (k0_off415 v930) a + S1x16.size a ≤ S257x32.size a := fun v930 k0_hw146 => k0_hw146.1
theorem k0_off416_inb : ∀ (v930 : BitVec 32) (k0_hw146 : k0_chk146 v930), ∀ a, (k0_off416 v930) a + S1x16.size a ≤ S257x32.size a := fun v930 k0_hw146 => k0_hw146.2

def k0_off417 (v939 : BitVec 32) : Fin 2 → Nat :=
  let c1792_i32_460 : BitVec 32 := 1792#32
  let v940 : BitVec 32 := Scalar.subi v939 c1792_i32_460
  let v941 : Index := Scalar.indexCast v940
  let c0_461 : Index := 0#32
  ![v941.toNat, 0]

def k0_off418 (v939 : BitVec 32) : Fin 2 → Nat :=
  let c1792_i32_460 : BitVec 32 := 1792#32
  let v940 : BitVec 32 := Scalar.subi v939 c1792_i32_460
  let v944 : Index := Scalar.indexCast v940
  let c16_462 : Index := 16#32
  ![v944.toNat, 16]

def k0_chk147 (v939 : BitVec 32) : Prop :=
  (∀ a, (k0_off417 v939) a + S1x16.size a ≤ S257x32.size a) ∧
  (∀ a, (k0_off418 v939) a + S1x16.size a ≤ S257x32.size a)
theorem k0_off417_inb : ∀ (v939 : BitVec 32) (k0_hw147 : k0_chk147 v939), ∀ a, (k0_off417 v939) a + S1x16.size a ≤ S257x32.size a := fun v939 k0_hw147 => k0_hw147.1
theorem k0_off418_inb : ∀ (v939 : BitVec 32) (k0_hw147 : k0_chk147 v939), ∀ a, (k0_off418 v939) a + S1x16.size a ≤ S257x32.size a := fun v939 k0_hw147 => k0_hw147.2

def k0_off419 (v948 : BitVec 32) : Fin 2 → Nat :=
  let c1792_i32_463 : BitVec 32 := 1792#32
  let v949 : BitVec 32 := Scalar.subi v948 c1792_i32_463
  let v950 : Index := Scalar.indexCast v949
  let c0_464 : Index := 0#32
  ![v950.toNat, 0]

def k0_off420 (v948 : BitVec 32) : Fin 2 → Nat :=
  let c1792_i32_463 : BitVec 32 := 1792#32
  let v949 : BitVec 32 := Scalar.subi v948 c1792_i32_463
  let v953 : Index := Scalar.indexCast v949
  let c16_465 : Index := 16#32
  ![v953.toNat, 16]

def k0_chk148 (v948 : BitVec 32) : Prop :=
  (∀ a, (k0_off419 v948) a + S1x16.size a ≤ S257x32.size a) ∧
  (∀ a, (k0_off420 v948) a + S1x16.size a ≤ S257x32.size a)
theorem k0_off419_inb : ∀ (v948 : BitVec 32) (k0_hw148 : k0_chk148 v948), ∀ a, (k0_off419 v948) a + S1x16.size a ≤ S257x32.size a := fun v948 k0_hw148 => k0_hw148.1
theorem k0_off420_inb : ∀ (v948 : BitVec 32) (k0_hw148 : k0_chk148 v948), ∀ a, (k0_off420 v948) a + S1x16.size a ≤ S257x32.size a := fun v948 k0_hw148 => k0_hw148.2

def k0_off421 (v957 : BitVec 32) : Fin 2 → Nat :=
  let c1792_i32_466 : BitVec 32 := 1792#32
  let v958 : BitVec 32 := Scalar.subi v957 c1792_i32_466
  let v959 : Index := Scalar.indexCast v958
  let c0_467 : Index := 0#32
  ![v959.toNat, 0]

def k0_off422 (v957 : BitVec 32) : Fin 2 → Nat :=
  let c1792_i32_466 : BitVec 32 := 1792#32
  let v958 : BitVec 32 := Scalar.subi v957 c1792_i32_466
  let v962 : Index := Scalar.indexCast v958
  let c16_468 : Index := 16#32
  ![v962.toNat, 16]

def k0_chk149 (v957 : BitVec 32) : Prop :=
  (∀ a, (k0_off421 v957) a + S1x16.size a ≤ S257x32.size a) ∧
  (∀ a, (k0_off422 v957) a + S1x16.size a ≤ S257x32.size a)
theorem k0_off421_inb : ∀ (v957 : BitVec 32) (k0_hw149 : k0_chk149 v957), ∀ a, (k0_off421 v957) a + S1x16.size a ≤ S257x32.size a := fun v957 k0_hw149 => k0_hw149.1
theorem k0_off422_inb : ∀ (v957 : BitVec 32) (k0_hw149 : k0_chk149 v957), ∀ a, (k0_off422 v957) a + S1x16.size a ≤ S257x32.size a := fun v957 k0_hw149 => k0_hw149.2

def k0_off423 (v966 : BitVec 32) : Fin 2 → Nat :=
  let c1792_i32_469 : BitVec 32 := 1792#32
  let v967 : BitVec 32 := Scalar.subi v966 c1792_i32_469
  let v968 : Index := Scalar.indexCast v967
  let c0_470 : Index := 0#32
  ![v968.toNat, 0]

def k0_off424 (v966 : BitVec 32) : Fin 2 → Nat :=
  let c1792_i32_469 : BitVec 32 := 1792#32
  let v967 : BitVec 32 := Scalar.subi v966 c1792_i32_469
  let v971 : Index := Scalar.indexCast v967
  let c16_471 : Index := 16#32
  ![v971.toNat, 16]

def k0_chk150 (v966 : BitVec 32) : Prop :=
  (∀ a, (k0_off423 v966) a + S1x16.size a ≤ S257x32.size a) ∧
  (∀ a, (k0_off424 v966) a + S1x16.size a ≤ S257x32.size a)
theorem k0_off423_inb : ∀ (v966 : BitVec 32) (k0_hw150 : k0_chk150 v966), ∀ a, (k0_off423 v966) a + S1x16.size a ≤ S257x32.size a := fun v966 k0_hw150 => k0_hw150.1
theorem k0_off424_inb : ∀ (v966 : BitVec 32) (k0_hw150 : k0_chk150 v966), ∀ a, (k0_off424 v966) a + S1x16.size a ≤ S257x32.size a := fun v966 k0_hw150 => k0_hw150.2

def k0_off425 (v975 : BitVec 32) : Fin 2 → Nat :=
  let c1792_i32_472 : BitVec 32 := 1792#32
  let v976 : BitVec 32 := Scalar.subi v975 c1792_i32_472
  let v977 : Index := Scalar.indexCast v976
  let c0_473 : Index := 0#32
  ![v977.toNat, 0]

def k0_off426 (v975 : BitVec 32) : Fin 2 → Nat :=
  let c1792_i32_472 : BitVec 32 := 1792#32
  let v976 : BitVec 32 := Scalar.subi v975 c1792_i32_472
  let v980 : Index := Scalar.indexCast v976
  let c16_474 : Index := 16#32
  ![v980.toNat, 16]

def k0_chk151 (v975 : BitVec 32) : Prop :=
  (∀ a, (k0_off425 v975) a + S1x16.size a ≤ S257x32.size a) ∧
  (∀ a, (k0_off426 v975) a + S1x16.size a ≤ S257x32.size a)
theorem k0_off425_inb : ∀ (v975 : BitVec 32) (k0_hw151 : k0_chk151 v975), ∀ a, (k0_off425 v975) a + S1x16.size a ≤ S257x32.size a := fun v975 k0_hw151 => k0_hw151.1
theorem k0_off426_inb : ∀ (v975 : BitVec 32) (k0_hw151 : k0_chk151 v975), ∀ a, (k0_off426 v975) a + S1x16.size a ≤ S257x32.size a := fun v975 k0_hw151 => k0_hw151.2

def k0_off427 (v52 : BitVec 32) (v105 : BitVec 32) (v158 : BitVec 32) (v211 : BitVec 32) (v264 : BitVec 32) (v317 : BitVec 32) (v370 : BitVec 32) (v423 : BitVec 32) (k0_t41 : Fin (k0_t41_loop v52 v105 v158 v211 v264 v317 v370 v423).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c0_i32_221 : BitVec 32 := 0#32
  let c1_i32_211 : BitVec 32 := 1#32
  let v424 : BitVec 32 := Scalar.subi v423 c1_i32_211
  let c2049_i32_212 : BitVec 32 := 2049#32
  let v425 : BitVec 32 := Scalar.minsi v424 c2049_i32_212
  let v426 : BitVec 32 := Scalar.subi v425 v410
  let c0_i32_213 : BitVec 32 := 0#32
  let v427 : BitVec 32 := Scalar.maxsi v426 c0_i32_213
  let c0_i32_215 : BitVec 32 := 0#32
  let v429 : BitVec 1 := Scalar.cmpi .sgt v427 c0_i32_215
  let v430 : BitVec 32 := Scalar.extui v429
  let c0_i32_216 : BitVec 32 := 0#32
  let v431 : BitVec 1 := Scalar.cmpi .slt v427 c0_i32_216
  let v432 : BitVec 32 := Scalar.extui v431
  let v433 : BitVec 32 := Scalar.subi v430 v432
  let c8_i32_214 : BitVec 32 := 8#32
  let c0_i32_217 : BitVec 32 := 0#32
  let v434 : BitVec 1 := Scalar.cmpi .sgt c8_i32_214 c0_i32_217
  let v435 : BitVec 32 := Scalar.extui v434
  let c0_i32_218 : BitVec 32 := 0#32
  let v436 : BitVec 1 := Scalar.cmpi .slt c8_i32_214 c0_i32_218
  let v437 : BitVec 32 := Scalar.extui v436
  let v438 : BitVec 32 := Scalar.subi v435 v437
  let v439 : BitVec 1 := Scalar.cmpi .ne v433 v438
  let v440 : BitVec 32 := Scalar.remsi v427 c8_i32_214
  let c0_i32_219 : BitVec 32 := 0#32
  let v441 : BitVec 1 := Scalar.cmpi .ne v440 c0_i32_219
  let v442 : BitVec 1 := Scalar.andi v439 v441
  let v428 : BitVec 32 := Scalar.divsi v427 c8_i32_214
  let c1_i32_220 : BitVec 32 := 1#32
  let v443 : BitVec 32 := Scalar.subi v428 c1_i32_220
  let v444 : BitVec 32 := Scalar.select v442 v443 v428
  let v445 : BitVec 32 := Scalar.subi v444 c0_i32_221
  let c1_i32_222 : BitVec 32 := 1#32
  let v447 : BitVec 32 := Scalar.divsi v445 c1_i32_222
  let v448 : BitVec 32 := Scalar.muli v447 c1_i32_222
  let v449 : BitVec 32 := Scalar.addi c0_i32_221 v448
  let c1_i32_224 : BitVec 32 := 1#32
  let arg19 : BitVec 32 := Scf.iv v449 c1_i32_224 k0_t41
  let c8_i32_444 : BitVec 32 := 8#32
  let v893 : BitVec 32 := Scalar.muli arg19 c8_i32_444
  let v894 : BitVec 32 := Scalar.addi v410 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off428 (v52 : BitVec 32) (v105 : BitVec 32) (v158 : BitVec 32) (v211 : BitVec 32) (v264 : BitVec 32) (v317 : BitVec 32) (v370 : BitVec 32) (v423 : BitVec 32) (k0_t41 : Fin (k0_t41_loop v52 v105 v158 v211 v264 v317 v370 v423).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c0_i32_221 : BitVec 32 := 0#32
  let c1_i32_211 : BitVec 32 := 1#32
  let v424 : BitVec 32 := Scalar.subi v423 c1_i32_211
  let c2049_i32_212 : BitVec 32 := 2049#32
  let v425 : BitVec 32 := Scalar.minsi v424 c2049_i32_212
  let v426 : BitVec 32 := Scalar.subi v425 v410
  let c0_i32_213 : BitVec 32 := 0#32
  let v427 : BitVec 32 := Scalar.maxsi v426 c0_i32_213
  let c0_i32_215 : BitVec 32 := 0#32
  let v429 : BitVec 1 := Scalar.cmpi .sgt v427 c0_i32_215
  let v430 : BitVec 32 := Scalar.extui v429
  let c0_i32_216 : BitVec 32 := 0#32
  let v431 : BitVec 1 := Scalar.cmpi .slt v427 c0_i32_216
  let v432 : BitVec 32 := Scalar.extui v431
  let v433 : BitVec 32 := Scalar.subi v430 v432
  let c8_i32_214 : BitVec 32 := 8#32
  let c0_i32_217 : BitVec 32 := 0#32
  let v434 : BitVec 1 := Scalar.cmpi .sgt c8_i32_214 c0_i32_217
  let v435 : BitVec 32 := Scalar.extui v434
  let c0_i32_218 : BitVec 32 := 0#32
  let v436 : BitVec 1 := Scalar.cmpi .slt c8_i32_214 c0_i32_218
  let v437 : BitVec 32 := Scalar.extui v436
  let v438 : BitVec 32 := Scalar.subi v435 v437
  let v439 : BitVec 1 := Scalar.cmpi .ne v433 v438
  let v440 : BitVec 32 := Scalar.remsi v427 c8_i32_214
  let c0_i32_219 : BitVec 32 := 0#32
  let v441 : BitVec 1 := Scalar.cmpi .ne v440 c0_i32_219
  let v442 : BitVec 1 := Scalar.andi v439 v441
  let v428 : BitVec 32 := Scalar.divsi v427 c8_i32_214
  let c1_i32_220 : BitVec 32 := 1#32
  let v443 : BitVec 32 := Scalar.subi v428 c1_i32_220
  let v444 : BitVec 32 := Scalar.select v442 v443 v428
  let v445 : BitVec 32 := Scalar.subi v444 c0_i32_221
  let c1_i32_222 : BitVec 32 := 1#32
  let v447 : BitVec 32 := Scalar.divsi v445 c1_i32_222
  let v448 : BitVec 32 := Scalar.muli v447 c1_i32_222
  let v449 : BitVec 32 := Scalar.addi c0_i32_221 v448
  let c1_i32_224 : BitVec 32 := 1#32
  let arg19 : BitVec 32 := Scf.iv v449 c1_i32_224 k0_t41
  let c8_i32_444 : BitVec 32 := 8#32
  let v893 : BitVec 32 := Scalar.muli arg19 c8_i32_444
  let v894 : BitVec 32 := Scalar.addi v410 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t42_loop (v52 : BitVec 32) (v105 : BitVec 32) (v158 : BitVec 32) (v211 : BitVec 32) (v264 : BitVec 32) (v317 : BitVec 32) (v370 : BitVec 32) (v423 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v426 : BitVec 32 := Scalar.subi v425 v410
  let c0_i32_213 : BitVec 32 := 0#32
  let v427 : BitVec 32 := Scalar.maxsi v426 c0_i32_213
  let c0_i32_215 : BitVec 32 := 0#32
  let v429 : BitVec 1 := Scalar.cmpi .sgt v427 c0_i32_215
  let v430 : BitVec 32 := Scalar.extui v429
  let c0_i32_216 : BitVec 32 := 0#32
  let v431 : BitVec 1 := Scalar.cmpi .slt v427 c0_i32_216
  let v432 : BitVec 32 := Scalar.extui v431
  let v433 : BitVec 32 := Scalar.subi v430 v432
  let c8_i32_214 : BitVec 32 := 8#32
  let c0_i32_217 : BitVec 32 := 0#32
  let v434 : BitVec 1 := Scalar.cmpi .sgt c8_i32_214 c0_i32_217
  let v435 : BitVec 32 := Scalar.extui v434
  let c0_i32_218 : BitVec 32 := 0#32
  let v436 : BitVec 1 := Scalar.cmpi .slt c8_i32_214 c0_i32_218
  let v437 : BitVec 32 := Scalar.extui v436
  let v438 : BitVec 32 := Scalar.subi v435 v437
  let v439 : BitVec 1 := Scalar.cmpi .ne v433 v438
  let v440 : BitVec 32 := Scalar.remsi v427 c8_i32_214
  let c0_i32_219 : BitVec 32 := 0#32
  let v441 : BitVec 1 := Scalar.cmpi .ne v440 c0_i32_219
  let v442 : BitVec 1 := Scalar.andi v439 v441
  let v428 : BitVec 32 := Scalar.divsi v427 c8_i32_214
  let c1_i32_220 : BitVec 32 := 1#32
  let v443 : BitVec 32 := Scalar.subi v428 c1_i32_220
  let v444 : BitVec 32 := Scalar.select v442 v443 v428
  let c8_i32_225 : BitVec 32 := 8#32
  let v452 : BitVec 32 := Scalar.muli v444 c8_i32_225
  let v453 : BitVec 32 := Scalar.addi v410 v452
  let v454 : BitVec 32 := Scalar.subi v425 v453
  let c1_i32_226 : BitVec 32 := 1#32
  let v456 : BitVec 32 := Scalar.divsi v454 c1_i32_226
  let v457 : BitVec 32 := Scalar.muli v456 c1_i32_226
  let v458 : BitVec 32 := Scalar.addi v453 v457
  let c1_i32_227 : BitVec 32 := 1#32
  ⟨v453, v458, c1_i32_227⟩
def k0_off429 (v52 : BitVec 32) (v105 : BitVec 32) (v158 : BitVec 32) (v211 : BitVec 32) (v264 : BitVec 32) (v317 : BitVec 32) (v370 : BitVec 32) (v423 : BitVec 32) (k0_t42 : Fin (k0_t42_loop v52 v105 v158 v211 v264 v317 v370 v423).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v426 : BitVec 32 := Scalar.subi v425 v410
  let c0_i32_213 : BitVec 32 := 0#32
  let v427 : BitVec 32 := Scalar.maxsi v426 c0_i32_213
  let c0_i32_215 : BitVec 32 := 0#32
  let v429 : BitVec 1 := Scalar.cmpi .sgt v427 c0_i32_215
  let v430 : BitVec 32 := Scalar.extui v429
  let c0_i32_216 : BitVec 32 := 0#32
  let v431 : BitVec 1 := Scalar.cmpi .slt v427 c0_i32_216
  let v432 : BitVec 32 := Scalar.extui v431
  let v433 : BitVec 32 := Scalar.subi v430 v432
  let c8_i32_214 : BitVec 32 := 8#32
  let c0_i32_217 : BitVec 32 := 0#32
  let v434 : BitVec 1 := Scalar.cmpi .sgt c8_i32_214 c0_i32_217
  let v435 : BitVec 32 := Scalar.extui v434
  let c0_i32_218 : BitVec 32 := 0#32
  let v436 : BitVec 1 := Scalar.cmpi .slt c8_i32_214 c0_i32_218
  let v437 : BitVec 32 := Scalar.extui v436
  let v438 : BitVec 32 := Scalar.subi v435 v437
  let v439 : BitVec 1 := Scalar.cmpi .ne v433 v438
  let v440 : BitVec 32 := Scalar.remsi v427 c8_i32_214
  let c0_i32_219 : BitVec 32 := 0#32
  let v441 : BitVec 1 := Scalar.cmpi .ne v440 c0_i32_219
  let v442 : BitVec 1 := Scalar.andi v439 v441
  let v428 : BitVec 32 := Scalar.divsi v427 c8_i32_214
  let c1_i32_220 : BitVec 32 := 1#32
  let v443 : BitVec 32 := Scalar.subi v428 c1_i32_220
  let v444 : BitVec 32 := Scalar.select v442 v443 v428
  let c8_i32_225 : BitVec 32 := 8#32
  let v452 : BitVec 32 := Scalar.muli v444 c8_i32_225
  let v453 : BitVec 32 := Scalar.addi v410 v452
  let c1_i32_227 : BitVec 32 := 1#32
  let arg19 : BitVec 32 := Scf.iv v453 c1_i32_227 k0_t42
  let c1_i32_444 : BitVec 32 := 1#32
  let v893 : BitVec 32 := Scalar.addi arg19 c1_i32_444
  let v894 : Index := Scalar.indexCast v893
  ![v894.toNat]
def k0_off430 (v897 : BitVec 32) : Fin 2 → Nat :=
  let c1792_i32_445 : BitVec 32 := 1792#32
  let v898 : BitVec 32 := Scalar.subi v897 c1792_i32_445
  let v912 : Index := Scalar.indexCast v898
  let c0_450 : Index := 0#32
  ![v912.toNat, 0]

def k0_off431 (v897 : BitVec 32) : Fin 2 → Nat :=
  let c1792_i32_445 : BitVec 32 := 1792#32
  let v898 : BitVec 32 := Scalar.subi v897 c1792_i32_445
  let v915 : Index := Scalar.indexCast v898
  let c16_451 : Index := 16#32
  ![v915.toNat, 16]

def k0_chk152 (v897 : BitVec 32) : Prop :=
  (∀ a, (k0_off430 v897) a + S1x16.size a ≤ S257x32.size a) ∧
  (∀ a, (k0_off431 v897) a + S1x16.size a ≤ S257x32.size a)
theorem k0_off430_inb : ∀ (v897 : BitVec 32) (k0_hw152 : k0_chk152 v897), ∀ a, (k0_off430 v897) a + S1x16.size a ≤ S257x32.size a := fun v897 k0_hw152 => k0_hw152.1
theorem k0_off431_inb : ∀ (v897 : BitVec 32) (k0_hw152 : k0_chk152 v897), ∀ a, (k0_off431 v897) a + S1x16.size a ≤ S257x32.size a := fun v897 k0_hw152 => k0_hw152.2

def k0_off432 (v52 : BitVec 32) (v105 : BitVec 32) (v158 : BitVec 32) (v211 : BitVec 32) (v264 : BitVec 32) (v317 : BitVec 32) (v370 : BitVec 32) (v423 : BitVec 32) (k0_t42 : Fin (k0_t42_loop v52 v105 v158 v211 v264 v317 v370 v423).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v426 : BitVec 32 := Scalar.subi v425 v410
  let c0_i32_213 : BitVec 32 := 0#32
  let v427 : BitVec 32 := Scalar.maxsi v426 c0_i32_213
  let c0_i32_215 : BitVec 32 := 0#32
  let v429 : BitVec 1 := Scalar.cmpi .sgt v427 c0_i32_215
  let v430 : BitVec 32 := Scalar.extui v429
  let c0_i32_216 : BitVec 32 := 0#32
  let v431 : BitVec 1 := Scalar.cmpi .slt v427 c0_i32_216
  let v432 : BitVec 32 := Scalar.extui v431
  let v433 : BitVec 32 := Scalar.subi v430 v432
  let c8_i32_214 : BitVec 32 := 8#32
  let c0_i32_217 : BitVec 32 := 0#32
  let v434 : BitVec 1 := Scalar.cmpi .sgt c8_i32_214 c0_i32_217
  let v435 : BitVec 32 := Scalar.extui v434
  let c0_i32_218 : BitVec 32 := 0#32
  let v436 : BitVec 1 := Scalar.cmpi .slt c8_i32_214 c0_i32_218
  let v437 : BitVec 32 := Scalar.extui v436
  let v438 : BitVec 32 := Scalar.subi v435 v437
  let v439 : BitVec 1 := Scalar.cmpi .ne v433 v438
  let v440 : BitVec 32 := Scalar.remsi v427 c8_i32_214
  let c0_i32_219 : BitVec 32 := 0#32
  let v441 : BitVec 1 := Scalar.cmpi .ne v440 c0_i32_219
  let v442 : BitVec 1 := Scalar.andi v439 v441
  let v428 : BitVec 32 := Scalar.divsi v427 c8_i32_214
  let c1_i32_220 : BitVec 32 := 1#32
  let v443 : BitVec 32 := Scalar.subi v428 c1_i32_220
  let v444 : BitVec 32 := Scalar.select v442 v443 v428
  let c8_i32_225 : BitVec 32 := 8#32
  let v452 : BitVec 32 := Scalar.muli v444 c8_i32_225
  let v453 : BitVec 32 := Scalar.addi v410 v452
  let c1_i32_227 : BitVec 32 := 1#32
  let arg19 : BitVec 32 := Scf.iv v453 c1_i32_227 k0_t42
  let c1_i32_452 : BitVec 32 := 1#32
  let v920 : BitVec 32 := Scalar.addi arg19 c1_i32_452
  let v921 : Index := Scalar.indexCast v920
  let c0_453 : Index := 0#32
  ![v921.toNat, 0]
def k0_off433 (v52 : BitVec 32) (v105 : BitVec 32) (v158 : BitVec 32) (v211 : BitVec 32) (v264 : BitVec 32) (v317 : BitVec 32) (v370 : BitVec 32) (v423 : BitVec 32) (k0_t42 : Fin (k0_t42_loop v52 v105 v158 v211 v264 v317 v370 v423).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v426 : BitVec 32 := Scalar.subi v425 v410
  let c0_i32_213 : BitVec 32 := 0#32
  let v427 : BitVec 32 := Scalar.maxsi v426 c0_i32_213
  let c0_i32_215 : BitVec 32 := 0#32
  let v429 : BitVec 1 := Scalar.cmpi .sgt v427 c0_i32_215
  let v430 : BitVec 32 := Scalar.extui v429
  let c0_i32_216 : BitVec 32 := 0#32
  let v431 : BitVec 1 := Scalar.cmpi .slt v427 c0_i32_216
  let v432 : BitVec 32 := Scalar.extui v431
  let v433 : BitVec 32 := Scalar.subi v430 v432
  let c8_i32_214 : BitVec 32 := 8#32
  let c0_i32_217 : BitVec 32 := 0#32
  let v434 : BitVec 1 := Scalar.cmpi .sgt c8_i32_214 c0_i32_217
  let v435 : BitVec 32 := Scalar.extui v434
  let c0_i32_218 : BitVec 32 := 0#32
  let v436 : BitVec 1 := Scalar.cmpi .slt c8_i32_214 c0_i32_218
  let v437 : BitVec 32 := Scalar.extui v436
  let v438 : BitVec 32 := Scalar.subi v435 v437
  let v439 : BitVec 1 := Scalar.cmpi .ne v433 v438
  let v440 : BitVec 32 := Scalar.remsi v427 c8_i32_214
  let c0_i32_219 : BitVec 32 := 0#32
  let v441 : BitVec 1 := Scalar.cmpi .ne v440 c0_i32_219
  let v442 : BitVec 1 := Scalar.andi v439 v441
  let v428 : BitVec 32 := Scalar.divsi v427 c8_i32_214
  let c1_i32_220 : BitVec 32 := 1#32
  let v443 : BitVec 32 := Scalar.subi v428 c1_i32_220
  let v444 : BitVec 32 := Scalar.select v442 v443 v428
  let c8_i32_225 : BitVec 32 := 8#32
  let v452 : BitVec 32 := Scalar.muli v444 c8_i32_225
  let v453 : BitVec 32 := Scalar.addi v410 v452
  let c1_i32_227 : BitVec 32 := 1#32
  let arg19 : BitVec 32 := Scf.iv v453 c1_i32_227 k0_t42
  let c1_i32_454 : BitVec 32 := 1#32
  let v925 : BitVec 32 := Scalar.addi arg19 c1_i32_454
  let v926 : Index := Scalar.indexCast v925
  let c16_455 : Index := 16#32
  ![v926.toNat, 16]
@[reducible] def k0_t43_loop (v52 : BitVec 32) (v105 : BitVec 32) (v158 : BitVec 32) (v211 : BitVec 32) (v264 : BitVec 32) (v317 : BitVec 32) (v370 : BitVec 32) (v423 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v426 : BitVec 32 := Scalar.subi v425 v410
  let c0_i32_213 : BitVec 32 := 0#32
  let v427 : BitVec 32 := Scalar.maxsi v426 c0_i32_213
  let c0_i32_215 : BitVec 32 := 0#32
  let v429 : BitVec 1 := Scalar.cmpi .sgt v427 c0_i32_215
  let v430 : BitVec 32 := Scalar.extui v429
  let c0_i32_216 : BitVec 32 := 0#32
  let v431 : BitVec 1 := Scalar.cmpi .slt v427 c0_i32_216
  let v432 : BitVec 32 := Scalar.extui v431
  let v433 : BitVec 32 := Scalar.subi v430 v432
  let c8_i32_214 : BitVec 32 := 8#32
  let c0_i32_217 : BitVec 32 := 0#32
  let v434 : BitVec 1 := Scalar.cmpi .sgt c8_i32_214 c0_i32_217
  let v435 : BitVec 32 := Scalar.extui v434
  let c0_i32_218 : BitVec 32 := 0#32
  let v436 : BitVec 1 := Scalar.cmpi .slt c8_i32_214 c0_i32_218
  let v437 : BitVec 32 := Scalar.extui v436
  let v438 : BitVec 32 := Scalar.subi v435 v437
  let v439 : BitVec 1 := Scalar.cmpi .ne v433 v438
  let v440 : BitVec 32 := Scalar.remsi v427 c8_i32_214
  let c0_i32_219 : BitVec 32 := 0#32
  let v441 : BitVec 1 := Scalar.cmpi .ne v440 c0_i32_219
  let v442 : BitVec 1 := Scalar.andi v439 v441
  let v428 : BitVec 32 := Scalar.divsi v427 c8_i32_214
  let c1_i32_220 : BitVec 32 := 1#32
  let v443 : BitVec 32 := Scalar.subi v428 c1_i32_220
  let v444 : BitVec 32 := Scalar.select v442 v443 v428
  let c8_i32_225 : BitVec 32 := 8#32
  let v452 : BitVec 32 := Scalar.muli v444 c8_i32_225
  let v453 : BitVec 32 := Scalar.addi v410 v452
  let v454 : BitVec 32 := Scalar.subi v425 v453
  let c1_i32_226 : BitVec 32 := 1#32
  let v456 : BitVec 32 := Scalar.divsi v454 c1_i32_226
  let v457 : BitVec 32 := Scalar.muli v456 c1_i32_226
  let v458 : BitVec 32 := Scalar.addi v453 v457
  let v455 : BitVec 32 := Scalar.addi v453 v454
  let c1_i32_228 : BitVec 32 := 1#32
  ⟨v458, v455, c1_i32_228⟩
def k0_off434 (v52 : BitVec 32) (v105 : BitVec 32) (v158 : BitVec 32) (v211 : BitVec 32) (v264 : BitVec 32) (v317 : BitVec 32) (v370 : BitVec 32) (v423 : BitVec 32) (k0_t43 : Fin (k0_t43_loop v52 v105 v158 v211 v264 v317 v370 v423).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v426 : BitVec 32 := Scalar.subi v425 v410
  let c0_i32_213 : BitVec 32 := 0#32
  let v427 : BitVec 32 := Scalar.maxsi v426 c0_i32_213
  let c0_i32_215 : BitVec 32 := 0#32
  let v429 : BitVec 1 := Scalar.cmpi .sgt v427 c0_i32_215
  let v430 : BitVec 32 := Scalar.extui v429
  let c0_i32_216 : BitVec 32 := 0#32
  let v431 : BitVec 1 := Scalar.cmpi .slt v427 c0_i32_216
  let v432 : BitVec 32 := Scalar.extui v431
  let v433 : BitVec 32 := Scalar.subi v430 v432
  let c8_i32_214 : BitVec 32 := 8#32
  let c0_i32_217 : BitVec 32 := 0#32
  let v434 : BitVec 1 := Scalar.cmpi .sgt c8_i32_214 c0_i32_217
  let v435 : BitVec 32 := Scalar.extui v434
  let c0_i32_218 : BitVec 32 := 0#32
  let v436 : BitVec 1 := Scalar.cmpi .slt c8_i32_214 c0_i32_218
  let v437 : BitVec 32 := Scalar.extui v436
  let v438 : BitVec 32 := Scalar.subi v435 v437
  let v439 : BitVec 1 := Scalar.cmpi .ne v433 v438
  let v440 : BitVec 32 := Scalar.remsi v427 c8_i32_214
  let c0_i32_219 : BitVec 32 := 0#32
  let v441 : BitVec 1 := Scalar.cmpi .ne v440 c0_i32_219
  let v442 : BitVec 1 := Scalar.andi v439 v441
  let v428 : BitVec 32 := Scalar.divsi v427 c8_i32_214
  let c1_i32_220 : BitVec 32 := 1#32
  let v443 : BitVec 32 := Scalar.subi v428 c1_i32_220
  let v444 : BitVec 32 := Scalar.select v442 v443 v428
  let c8_i32_225 : BitVec 32 := 8#32
  let v452 : BitVec 32 := Scalar.muli v444 c8_i32_225
  let v453 : BitVec 32 := Scalar.addi v410 v452
  let v454 : BitVec 32 := Scalar.subi v425 v453
  let c1_i32_226 : BitVec 32 := 1#32
  let v456 : BitVec 32 := Scalar.divsi v454 c1_i32_226
  let v457 : BitVec 32 := Scalar.muli v456 c1_i32_226
  let v458 : BitVec 32 := Scalar.addi v453 v457
  let c1_i32_228 : BitVec 32 := 1#32
  let arg19 : BitVec 32 := Scf.iv v458 c1_i32_228 k0_t43
  let c1_i32_444 : BitVec 32 := 1#32
  let v893 : BitVec 32 := Scalar.addi arg19 c1_i32_444
  let v894 : Index := Scalar.indexCast v893
  ![v894.toNat]
def k0_off435 (v897 : BitVec 32) : Fin 2 → Nat :=
  let c1792_i32_445 : BitVec 32 := 1792#32
  let v898 : BitVec 32 := Scalar.subi v897 c1792_i32_445
  let v912 : Index := Scalar.indexCast v898
  let c0_450 : Index := 0#32
  ![v912.toNat, 0]

def k0_off436 (v897 : BitVec 32) : Fin 2 → Nat :=
  let c1792_i32_445 : BitVec 32 := 1792#32
  let v898 : BitVec 32 := Scalar.subi v897 c1792_i32_445
  let v915 : Index := Scalar.indexCast v898
  let c16_451 : Index := 16#32
  ![v915.toNat, 16]

def k0_chk153 (v897 : BitVec 32) : Prop :=
  (∀ a, (k0_off435 v897) a + S1x16.size a ≤ S257x32.size a) ∧
  (∀ a, (k0_off436 v897) a + S1x16.size a ≤ S257x32.size a)
theorem k0_off435_inb : ∀ (v897 : BitVec 32) (k0_hw153 : k0_chk153 v897), ∀ a, (k0_off435 v897) a + S1x16.size a ≤ S257x32.size a := fun v897 k0_hw153 => k0_hw153.1
theorem k0_off436_inb : ∀ (v897 : BitVec 32) (k0_hw153 : k0_chk153 v897), ∀ a, (k0_off436 v897) a + S1x16.size a ≤ S257x32.size a := fun v897 k0_hw153 => k0_hw153.2

def k0_off437 (v52 : BitVec 32) (v105 : BitVec 32) (v158 : BitVec 32) (v211 : BitVec 32) (v264 : BitVec 32) (v317 : BitVec 32) (v370 : BitVec 32) (v423 : BitVec 32) (k0_t43 : Fin (k0_t43_loop v52 v105 v158 v211 v264 v317 v370 v423).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v426 : BitVec 32 := Scalar.subi v425 v410
  let c0_i32_213 : BitVec 32 := 0#32
  let v427 : BitVec 32 := Scalar.maxsi v426 c0_i32_213
  let c0_i32_215 : BitVec 32 := 0#32
  let v429 : BitVec 1 := Scalar.cmpi .sgt v427 c0_i32_215
  let v430 : BitVec 32 := Scalar.extui v429
  let c0_i32_216 : BitVec 32 := 0#32
  let v431 : BitVec 1 := Scalar.cmpi .slt v427 c0_i32_216
  let v432 : BitVec 32 := Scalar.extui v431
  let v433 : BitVec 32 := Scalar.subi v430 v432
  let c8_i32_214 : BitVec 32 := 8#32
  let c0_i32_217 : BitVec 32 := 0#32
  let v434 : BitVec 1 := Scalar.cmpi .sgt c8_i32_214 c0_i32_217
  let v435 : BitVec 32 := Scalar.extui v434
  let c0_i32_218 : BitVec 32 := 0#32
  let v436 : BitVec 1 := Scalar.cmpi .slt c8_i32_214 c0_i32_218
  let v437 : BitVec 32 := Scalar.extui v436
  let v438 : BitVec 32 := Scalar.subi v435 v437
  let v439 : BitVec 1 := Scalar.cmpi .ne v433 v438
  let v440 : BitVec 32 := Scalar.remsi v427 c8_i32_214
  let c0_i32_219 : BitVec 32 := 0#32
  let v441 : BitVec 1 := Scalar.cmpi .ne v440 c0_i32_219
  let v442 : BitVec 1 := Scalar.andi v439 v441
  let v428 : BitVec 32 := Scalar.divsi v427 c8_i32_214
  let c1_i32_220 : BitVec 32 := 1#32
  let v443 : BitVec 32 := Scalar.subi v428 c1_i32_220
  let v444 : BitVec 32 := Scalar.select v442 v443 v428
  let c8_i32_225 : BitVec 32 := 8#32
  let v452 : BitVec 32 := Scalar.muli v444 c8_i32_225
  let v453 : BitVec 32 := Scalar.addi v410 v452
  let v454 : BitVec 32 := Scalar.subi v425 v453
  let c1_i32_226 : BitVec 32 := 1#32
  let v456 : BitVec 32 := Scalar.divsi v454 c1_i32_226
  let v457 : BitVec 32 := Scalar.muli v456 c1_i32_226
  let v458 : BitVec 32 := Scalar.addi v453 v457
  let c1_i32_228 : BitVec 32 := 1#32
  let arg19 : BitVec 32 := Scf.iv v458 c1_i32_228 k0_t43
  let c1_i32_452 : BitVec 32 := 1#32
  let v920 : BitVec 32 := Scalar.addi arg19 c1_i32_452
  let v921 : Index := Scalar.indexCast v920
  let c0_453 : Index := 0#32
  ![v921.toNat, 0]
def k0_off438 (v52 : BitVec 32) (v105 : BitVec 32) (v158 : BitVec 32) (v211 : BitVec 32) (v264 : BitVec 32) (v317 : BitVec 32) (v370 : BitVec 32) (v423 : BitVec 32) (k0_t43 : Fin (k0_t43_loop v52 v105 v158 v211 v264 v317 v370 v423).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v426 : BitVec 32 := Scalar.subi v425 v410
  let c0_i32_213 : BitVec 32 := 0#32
  let v427 : BitVec 32 := Scalar.maxsi v426 c0_i32_213
  let c0_i32_215 : BitVec 32 := 0#32
  let v429 : BitVec 1 := Scalar.cmpi .sgt v427 c0_i32_215
  let v430 : BitVec 32 := Scalar.extui v429
  let c0_i32_216 : BitVec 32 := 0#32
  let v431 : BitVec 1 := Scalar.cmpi .slt v427 c0_i32_216
  let v432 : BitVec 32 := Scalar.extui v431
  let v433 : BitVec 32 := Scalar.subi v430 v432
  let c8_i32_214 : BitVec 32 := 8#32
  let c0_i32_217 : BitVec 32 := 0#32
  let v434 : BitVec 1 := Scalar.cmpi .sgt c8_i32_214 c0_i32_217
  let v435 : BitVec 32 := Scalar.extui v434
  let c0_i32_218 : BitVec 32 := 0#32
  let v436 : BitVec 1 := Scalar.cmpi .slt c8_i32_214 c0_i32_218
  let v437 : BitVec 32 := Scalar.extui v436
  let v438 : BitVec 32 := Scalar.subi v435 v437
  let v439 : BitVec 1 := Scalar.cmpi .ne v433 v438
  let v440 : BitVec 32 := Scalar.remsi v427 c8_i32_214
  let c0_i32_219 : BitVec 32 := 0#32
  let v441 : BitVec 1 := Scalar.cmpi .ne v440 c0_i32_219
  let v442 : BitVec 1 := Scalar.andi v439 v441
  let v428 : BitVec 32 := Scalar.divsi v427 c8_i32_214
  let c1_i32_220 : BitVec 32 := 1#32
  let v443 : BitVec 32 := Scalar.subi v428 c1_i32_220
  let v444 : BitVec 32 := Scalar.select v442 v443 v428
  let c8_i32_225 : BitVec 32 := 8#32
  let v452 : BitVec 32 := Scalar.muli v444 c8_i32_225
  let v453 : BitVec 32 := Scalar.addi v410 v452
  let v454 : BitVec 32 := Scalar.subi v425 v453
  let c1_i32_226 : BitVec 32 := 1#32
  let v456 : BitVec 32 := Scalar.divsi v454 c1_i32_226
  let v457 : BitVec 32 := Scalar.muli v456 c1_i32_226
  let v458 : BitVec 32 := Scalar.addi v453 v457
  let c1_i32_228 : BitVec 32 := 1#32
  let arg19 : BitVec 32 := Scf.iv v458 c1_i32_228 k0_t43
  let c1_i32_454 : BitVec 32 := 1#32
  let v925 : BitVec 32 := Scalar.addi arg19 c1_i32_454
  let v926 : Index := Scalar.indexCast v925
  let c16_455 : Index := 16#32
  ![v926.toNat, 16]

def k0_chk135 (v52 : BitVec 32) (v105 : BitVec 32) (v158 : BitVec 32) (v211 : BitVec 32) (v264 : BitVec 32) (v317 : BitVec 32) (v370 : BitVec 32) (v423 : BitVec 32) : Prop :=
  ((k0_t40_loop v52 v105 v158 v211 v264 v317 v370 v423).OK) ∧
  (∀ k0_t40 : Fin (k0_t40_loop v52 v105 v158 v211 v264 v317 v370 v423).trips, ∀ (r : Fin 2), ∀ a, (k0_off391 v52 v105 v158 v211 v264 v317 v370 v423 k0_t40 (BitVec.ofNat 32 (1 + r.val))) a + S16.size a ≤ S4112.size a) ∧
  (∀ k0_t40 : Fin (k0_t40_loop v52 v105 v158 v211 v264 v317 v370 v423).trips, ∀ (r : Fin 8), ∀ a, (k0_off408 v52 v105 v158 v211 v264 v317 v370 v423 k0_t40 (BitVec.ofNat 32 r.val)) a + S1x16.size a ≤ S2050x32.size a) ∧
  (∀ k0_t40 : Fin (k0_t40_loop v52 v105 v158 v211 v264 v317 v370 v423).trips, ∀ (r : Fin 8), ∀ a, (k0_off409 v52 v105 v158 v211 v264 v317 v370 v423 k0_t40 (BitVec.ofNat 32 r.val)) a + S1x16.size a ≤ S2050x32.size a) ∧
  ((k0_t41_loop v52 v105 v158 v211 v264 v317 v370 v423).OK) ∧
  (∀ k0_t41 : Fin (k0_t41_loop v52 v105 v158 v211 v264 v317 v370 v423).trips, ∀ (r : Fin 2), ∀ a, (k0_off410 v52 v105 v158 v211 v264 v317 v370 v423 k0_t41 (BitVec.ofNat 32 (1 + r.val))) a + S16.size a ≤ S4112.size a) ∧
  (∀ k0_t41 : Fin (k0_t41_loop v52 v105 v158 v211 v264 v317 v370 v423).trips, ∀ (r : Fin 8), ∀ a, (k0_off427 v52 v105 v158 v211 v264 v317 v370 v423 k0_t41 (BitVec.ofNat 32 r.val)) a + S1x16.size a ≤ S2050x32.size a) ∧
  (∀ k0_t41 : Fin (k0_t41_loop v52 v105 v158 v211 v264 v317 v370 v423).trips, ∀ (r : Fin 8), ∀ a, (k0_off428 v52 v105 v158 v211 v264 v317 v370 v423 k0_t41 (BitVec.ofNat 32 r.val)) a + S1x16.size a ≤ S2050x32.size a) ∧
  ((k0_t42_loop v52 v105 v158 v211 v264 v317 v370 v423).OK) ∧
  (∀ k0_t42 : Fin (k0_t42_loop v52 v105 v158 v211 v264 v317 v370 v423).trips, ∀ a, (k0_off429 v52 v105 v158 v211 v264 v317 v370 v423 k0_t42) a + S16.size a ≤ S4112.size a) ∧
  (∀ k0_t42 : Fin (k0_t42_loop v52 v105 v158 v211 v264 v317 v370 v423).trips, ∀ a, (k0_off432 v52 v105 v158 v211 v264 v317 v370 v423 k0_t42) a + S1x16.size a ≤ S2050x32.size a) ∧
  (∀ k0_t42 : Fin (k0_t42_loop v52 v105 v158 v211 v264 v317 v370 v423).trips, ∀ a, (k0_off433 v52 v105 v158 v211 v264 v317 v370 v423 k0_t42) a + S1x16.size a ≤ S2050x32.size a) ∧
  ((k0_t43_loop v52 v105 v158 v211 v264 v317 v370 v423).OK) ∧
  (∀ k0_t43 : Fin (k0_t43_loop v52 v105 v158 v211 v264 v317 v370 v423).trips, ∀ a, (k0_off434 v52 v105 v158 v211 v264 v317 v370 v423 k0_t43) a + S16.size a ≤ S4112.size a) ∧
  (∀ k0_t43 : Fin (k0_t43_loop v52 v105 v158 v211 v264 v317 v370 v423).trips, ∀ a, (k0_off437 v52 v105 v158 v211 v264 v317 v370 v423 k0_t43) a + S1x16.size a ≤ S2050x32.size a) ∧
  (∀ k0_t43 : Fin (k0_t43_loop v52 v105 v158 v211 v264 v317 v370 v423).trips, ∀ a, (k0_off438 v52 v105 v158 v211 v264 v317 v370 v423 k0_t43) a + S1x16.size a ≤ S2050x32.size a)
theorem k0_t40_ok : ∀ (v52 : BitVec 32) (v105 : BitVec 32) (v158 : BitVec 32) (v211 : BitVec 32) (v264 : BitVec 32) (v317 : BitVec 32) (v370 : BitVec 32) (v423 : BitVec 32) (k0_hw135 : k0_chk135 v52 v105 v158 v211 v264 v317 v370 v423), (k0_t40_loop v52 v105 v158 v211 v264 v317 v370 v423).OK := fun v52 v105 v158 v211 v264 v317 v370 v423 k0_hw135 => k0_hw135.1
theorem k0_off391_inb : ∀ (v52 : BitVec 32) (v105 : BitVec 32) (v158 : BitVec 32) (v211 : BitVec 32) (v264 : BitVec 32) (v317 : BitVec 32) (v370 : BitVec 32) (v423 : BitVec 32) (k0_hw135 : k0_chk135 v52 v105 v158 v211 v264 v317 v370 v423) (k0_t40 : Fin (k0_t40_loop v52 v105 v158 v211 v264 v317 v370 v423).trips), ∀ (r : Fin 2), ∀ a, (k0_off391 v52 v105 v158 v211 v264 v317 v370 v423 k0_t40 (BitVec.ofNat 32 (1 + r.val))) a + S16.size a ≤ S4112.size a := fun v52 v105 v158 v211 v264 v317 v370 v423 k0_hw135 k0_t40 r => k0_hw135.2.1 k0_t40 r
theorem k0_off408_inb : ∀ (v52 : BitVec 32) (v105 : BitVec 32) (v158 : BitVec 32) (v211 : BitVec 32) (v264 : BitVec 32) (v317 : BitVec 32) (v370 : BitVec 32) (v423 : BitVec 32) (k0_hw135 : k0_chk135 v52 v105 v158 v211 v264 v317 v370 v423) (k0_t40 : Fin (k0_t40_loop v52 v105 v158 v211 v264 v317 v370 v423).trips), ∀ (r : Fin 8), ∀ a, (k0_off408 v52 v105 v158 v211 v264 v317 v370 v423 k0_t40 (BitVec.ofNat 32 r.val)) a + S1x16.size a ≤ S2050x32.size a := fun v52 v105 v158 v211 v264 v317 v370 v423 k0_hw135 k0_t40 r => k0_hw135.2.2.1 k0_t40 r
theorem k0_off409_inb : ∀ (v52 : BitVec 32) (v105 : BitVec 32) (v158 : BitVec 32) (v211 : BitVec 32) (v264 : BitVec 32) (v317 : BitVec 32) (v370 : BitVec 32) (v423 : BitVec 32) (k0_hw135 : k0_chk135 v52 v105 v158 v211 v264 v317 v370 v423) (k0_t40 : Fin (k0_t40_loop v52 v105 v158 v211 v264 v317 v370 v423).trips), ∀ (r : Fin 8), ∀ a, (k0_off409 v52 v105 v158 v211 v264 v317 v370 v423 k0_t40 (BitVec.ofNat 32 r.val)) a + S1x16.size a ≤ S2050x32.size a := fun v52 v105 v158 v211 v264 v317 v370 v423 k0_hw135 k0_t40 r => k0_hw135.2.2.2.1 k0_t40 r
theorem k0_t41_ok : ∀ (v52 : BitVec 32) (v105 : BitVec 32) (v158 : BitVec 32) (v211 : BitVec 32) (v264 : BitVec 32) (v317 : BitVec 32) (v370 : BitVec 32) (v423 : BitVec 32) (k0_hw135 : k0_chk135 v52 v105 v158 v211 v264 v317 v370 v423), (k0_t41_loop v52 v105 v158 v211 v264 v317 v370 v423).OK := fun v52 v105 v158 v211 v264 v317 v370 v423 k0_hw135 => k0_hw135.2.2.2.2.1
theorem k0_off410_inb : ∀ (v52 : BitVec 32) (v105 : BitVec 32) (v158 : BitVec 32) (v211 : BitVec 32) (v264 : BitVec 32) (v317 : BitVec 32) (v370 : BitVec 32) (v423 : BitVec 32) (k0_hw135 : k0_chk135 v52 v105 v158 v211 v264 v317 v370 v423) (k0_t41 : Fin (k0_t41_loop v52 v105 v158 v211 v264 v317 v370 v423).trips), ∀ (r : Fin 2), ∀ a, (k0_off410 v52 v105 v158 v211 v264 v317 v370 v423 k0_t41 (BitVec.ofNat 32 (1 + r.val))) a + S16.size a ≤ S4112.size a := fun v52 v105 v158 v211 v264 v317 v370 v423 k0_hw135 k0_t41 r => k0_hw135.2.2.2.2.2.1 k0_t41 r
theorem k0_off427_inb : ∀ (v52 : BitVec 32) (v105 : BitVec 32) (v158 : BitVec 32) (v211 : BitVec 32) (v264 : BitVec 32) (v317 : BitVec 32) (v370 : BitVec 32) (v423 : BitVec 32) (k0_hw135 : k0_chk135 v52 v105 v158 v211 v264 v317 v370 v423) (k0_t41 : Fin (k0_t41_loop v52 v105 v158 v211 v264 v317 v370 v423).trips), ∀ (r : Fin 8), ∀ a, (k0_off427 v52 v105 v158 v211 v264 v317 v370 v423 k0_t41 (BitVec.ofNat 32 r.val)) a + S1x16.size a ≤ S2050x32.size a := fun v52 v105 v158 v211 v264 v317 v370 v423 k0_hw135 k0_t41 r => k0_hw135.2.2.2.2.2.2.1 k0_t41 r
theorem k0_off428_inb : ∀ (v52 : BitVec 32) (v105 : BitVec 32) (v158 : BitVec 32) (v211 : BitVec 32) (v264 : BitVec 32) (v317 : BitVec 32) (v370 : BitVec 32) (v423 : BitVec 32) (k0_hw135 : k0_chk135 v52 v105 v158 v211 v264 v317 v370 v423) (k0_t41 : Fin (k0_t41_loop v52 v105 v158 v211 v264 v317 v370 v423).trips), ∀ (r : Fin 8), ∀ a, (k0_off428 v52 v105 v158 v211 v264 v317 v370 v423 k0_t41 (BitVec.ofNat 32 r.val)) a + S1x16.size a ≤ S2050x32.size a := fun v52 v105 v158 v211 v264 v317 v370 v423 k0_hw135 k0_t41 r => k0_hw135.2.2.2.2.2.2.2.1 k0_t41 r
theorem k0_t42_ok : ∀ (v52 : BitVec 32) (v105 : BitVec 32) (v158 : BitVec 32) (v211 : BitVec 32) (v264 : BitVec 32) (v317 : BitVec 32) (v370 : BitVec 32) (v423 : BitVec 32) (k0_hw135 : k0_chk135 v52 v105 v158 v211 v264 v317 v370 v423), (k0_t42_loop v52 v105 v158 v211 v264 v317 v370 v423).OK := fun v52 v105 v158 v211 v264 v317 v370 v423 k0_hw135 => k0_hw135.2.2.2.2.2.2.2.2.1
theorem k0_off429_inb : ∀ (v52 : BitVec 32) (v105 : BitVec 32) (v158 : BitVec 32) (v211 : BitVec 32) (v264 : BitVec 32) (v317 : BitVec 32) (v370 : BitVec 32) (v423 : BitVec 32) (k0_hw135 : k0_chk135 v52 v105 v158 v211 v264 v317 v370 v423) (k0_t42 : Fin (k0_t42_loop v52 v105 v158 v211 v264 v317 v370 v423).trips), ∀ a, (k0_off429 v52 v105 v158 v211 v264 v317 v370 v423 k0_t42) a + S16.size a ≤ S4112.size a := fun v52 v105 v158 v211 v264 v317 v370 v423 k0_hw135 k0_t42 => k0_hw135.2.2.2.2.2.2.2.2.2.1 k0_t42
theorem k0_off432_inb : ∀ (v52 : BitVec 32) (v105 : BitVec 32) (v158 : BitVec 32) (v211 : BitVec 32) (v264 : BitVec 32) (v317 : BitVec 32) (v370 : BitVec 32) (v423 : BitVec 32) (k0_hw135 : k0_chk135 v52 v105 v158 v211 v264 v317 v370 v423) (k0_t42 : Fin (k0_t42_loop v52 v105 v158 v211 v264 v317 v370 v423).trips), ∀ a, (k0_off432 v52 v105 v158 v211 v264 v317 v370 v423 k0_t42) a + S1x16.size a ≤ S2050x32.size a := fun v52 v105 v158 v211 v264 v317 v370 v423 k0_hw135 k0_t42 => k0_hw135.2.2.2.2.2.2.2.2.2.2.1 k0_t42
theorem k0_off433_inb : ∀ (v52 : BitVec 32) (v105 : BitVec 32) (v158 : BitVec 32) (v211 : BitVec 32) (v264 : BitVec 32) (v317 : BitVec 32) (v370 : BitVec 32) (v423 : BitVec 32) (k0_hw135 : k0_chk135 v52 v105 v158 v211 v264 v317 v370 v423) (k0_t42 : Fin (k0_t42_loop v52 v105 v158 v211 v264 v317 v370 v423).trips), ∀ a, (k0_off433 v52 v105 v158 v211 v264 v317 v370 v423 k0_t42) a + S1x16.size a ≤ S2050x32.size a := fun v52 v105 v158 v211 v264 v317 v370 v423 k0_hw135 k0_t42 => k0_hw135.2.2.2.2.2.2.2.2.2.2.2.1 k0_t42
theorem k0_t43_ok : ∀ (v52 : BitVec 32) (v105 : BitVec 32) (v158 : BitVec 32) (v211 : BitVec 32) (v264 : BitVec 32) (v317 : BitVec 32) (v370 : BitVec 32) (v423 : BitVec 32) (k0_hw135 : k0_chk135 v52 v105 v158 v211 v264 v317 v370 v423), (k0_t43_loop v52 v105 v158 v211 v264 v317 v370 v423).OK := fun v52 v105 v158 v211 v264 v317 v370 v423 k0_hw135 => k0_hw135.2.2.2.2.2.2.2.2.2.2.2.2.1
theorem k0_off434_inb : ∀ (v52 : BitVec 32) (v105 : BitVec 32) (v158 : BitVec 32) (v211 : BitVec 32) (v264 : BitVec 32) (v317 : BitVec 32) (v370 : BitVec 32) (v423 : BitVec 32) (k0_hw135 : k0_chk135 v52 v105 v158 v211 v264 v317 v370 v423) (k0_t43 : Fin (k0_t43_loop v52 v105 v158 v211 v264 v317 v370 v423).trips), ∀ a, (k0_off434 v52 v105 v158 v211 v264 v317 v370 v423 k0_t43) a + S16.size a ≤ S4112.size a := fun v52 v105 v158 v211 v264 v317 v370 v423 k0_hw135 k0_t43 => k0_hw135.2.2.2.2.2.2.2.2.2.2.2.2.2.1 k0_t43
theorem k0_off437_inb : ∀ (v52 : BitVec 32) (v105 : BitVec 32) (v158 : BitVec 32) (v211 : BitVec 32) (v264 : BitVec 32) (v317 : BitVec 32) (v370 : BitVec 32) (v423 : BitVec 32) (k0_hw135 : k0_chk135 v52 v105 v158 v211 v264 v317 v370 v423) (k0_t43 : Fin (k0_t43_loop v52 v105 v158 v211 v264 v317 v370 v423).trips), ∀ a, (k0_off437 v52 v105 v158 v211 v264 v317 v370 v423 k0_t43) a + S1x16.size a ≤ S2050x32.size a := fun v52 v105 v158 v211 v264 v317 v370 v423 k0_hw135 k0_t43 => k0_hw135.2.2.2.2.2.2.2.2.2.2.2.2.2.2.1 k0_t43
theorem k0_off438_inb : ∀ (v52 : BitVec 32) (v105 : BitVec 32) (v158 : BitVec 32) (v211 : BitVec 32) (v264 : BitVec 32) (v317 : BitVec 32) (v370 : BitVec 32) (v423 : BitVec 32) (k0_hw135 : k0_chk135 v52 v105 v158 v211 v264 v317 v370 v423) (k0_t43 : Fin (k0_t43_loop v52 v105 v158 v211 v264 v317 v370 v423).trips), ∀ a, (k0_off438 v52 v105 v158 v211 v264 v317 v370 v423 k0_t43) a + S1x16.size a ≤ S2050x32.size a := fun v52 v105 v158 v211 v264 v317 v370 v423 k0_hw135 k0_t43 => k0_hw135.2.2.2.2.2.2.2.2.2.2.2.2.2.2.2 k0_t43

def k0_off439 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c2048_i32_229 : BitVec 32 := 2048#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 2048, v3.toNat]
@[reducible] def k0_t44_loop : Scf.Loop 32 :=
  let c0_i32_231 : BitVec 32 := 0#32
  let c16_i32_232 : BitVec 32 := 16#32
  let v468 : BitVec 32 := Scalar.addi c0_i32_231 c16_i32_232
  let c1_i32_233 : BitVec 32 := 1#32
  ⟨c0_i32_231, v468, c1_i32_233⟩
def k0_off440 (k0_t44 : Fin k0_t44_loop.trips) (c0_i32_445 : BitVec 32) : Fin 2 → Nat :=
  let c0_i32_231 : BitVec 32 := 0#32
  let c1_i32_233 : BitVec 32 := 1#32
  let arg19 : BitVec 32 := Scf.iv c0_i32_231 c1_i32_233 k0_t44
  let c16_i32_444 : BitVec 32 := 16#32
  let v893 : BitVec 32 := Scalar.muli arg19 c16_i32_444
  let v894 : BitVec 32 := Scalar.addi v893 c0_i32_445
  let v895 : Index := Scalar.indexCast v894
  let c0_446 : Index := 0#32
  ![v895.toNat, 0]
def k0_off441 (k0_t44 : Fin k0_t44_loop.trips) (c0_i32_447 : BitVec 32) : Fin 2 → Nat :=
  let c0_i32_231 : BitVec 32 := 0#32
  let c1_i32_233 : BitVec 32 := 1#32
  let arg19 : BitVec 32 := Scf.iv c0_i32_231 c1_i32_233 k0_t44
  let c16_i32_444 : BitVec 32 := 16#32
  let v893 : BitVec 32 := Scalar.muli arg19 c16_i32_444
  let v898 : BitVec 32 := Scalar.addi v893 c0_i32_447
  let v899 : Index := Scalar.indexCast v898
  let c16_448 : Index := 16#32
  ![v899.toNat, 16]
def k0_off442 (k0_t44 : Fin k0_t44_loop.trips) (c0_i32_449 : BitVec 32) : Fin 2 → Nat :=
  let c0_i32_231 : BitVec 32 := 0#32
  let c1_i32_233 : BitVec 32 := 1#32
  let arg19 : BitVec 32 := Scf.iv c0_i32_231 c1_i32_233 k0_t44
  let c16_i32_444 : BitVec 32 := 16#32
  let v893 : BitVec 32 := Scalar.muli arg19 c16_i32_444
  let v902 : BitVec 32 := Scalar.addi v893 c0_i32_449
  let c1_i32_450 : BitVec 32 := 1#32
  let v903 : BitVec 32 := Scalar.addi v902 c1_i32_450
  let v904 : Index := Scalar.indexCast v903
  let c0_451 : Index := 0#32
  ![v904.toNat, 0]
def k0_off443 (k0_t44 : Fin k0_t44_loop.trips) (c0_i32_452 : BitVec 32) : Fin 2 → Nat :=
  let c0_i32_231 : BitVec 32 := 0#32
  let c1_i32_233 : BitVec 32 := 1#32
  let arg19 : BitVec 32 := Scf.iv c0_i32_231 c1_i32_233 k0_t44
  let c16_i32_444 : BitVec 32 := 16#32
  let v893 : BitVec 32 := Scalar.muli arg19 c16_i32_444
  let v906 : BitVec 32 := Scalar.addi v893 c0_i32_452
  let c1_i32_453 : BitVec 32 := 1#32
  let v907 : BitVec 32 := Scalar.addi v906 c1_i32_453
  let v908 : Index := Scalar.indexCast v907
  let c16_454 : Index := 16#32
  ![v908.toNat, 16]
def k0_off444 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c2560_i32 : BitVec 32 := 2560#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 2560, v3.toNat]
@[reducible] def k0_t45_loop (v52 : BitVec 32) (v105 : BitVec 32) (v158 : BitVec 32) (v211 : BitVec 32) (v264 : BitVec 32) (v317 : BitVec 32) (v370 : BitVec 32) (v423 : BitVec 32) (v476 : BitVec 32) : Scf.Loop 32 :=
  let c0_i32_246 : BitVec 32 := 0#32
  let c1_i32_236 : BitVec 32 := 1#32
  let v477 : BitVec 32 := Scalar.subi v476 c1_i32_236
  let c2049_i32_237 : BitVec 32 := 2049#32
  let v478 : BitVec 32 := Scalar.minsi v477 c2049_i32_237
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let v479 : BitVec 32 := Scalar.subi v478 v463
  let c0_i32_238 : BitVec 32 := 0#32
  let v480 : BitVec 32 := Scalar.maxsi v479 c0_i32_238
  let c0_i32_240 : BitVec 32 := 0#32
  let v482 : BitVec 1 := Scalar.cmpi .sgt v480 c0_i32_240
  let v483 : BitVec 32 := Scalar.extui v482
  let c0_i32_241 : BitVec 32 := 0#32
  let v484 : BitVec 1 := Scalar.cmpi .slt v480 c0_i32_241
  let v485 : BitVec 32 := Scalar.extui v484
  let v486 : BitVec 32 := Scalar.subi v483 v485
  let c8_i32_239 : BitVec 32 := 8#32
  let c0_i32_242 : BitVec 32 := 0#32
  let v487 : BitVec 1 := Scalar.cmpi .sgt c8_i32_239 c0_i32_242
  let v488 : BitVec 32 := Scalar.extui v487
  let c0_i32_243 : BitVec 32 := 0#32
  let v489 : BitVec 1 := Scalar.cmpi .slt c8_i32_239 c0_i32_243
  let v490 : BitVec 32 := Scalar.extui v489
  let v491 : BitVec 32 := Scalar.subi v488 v490
  let v492 : BitVec 1 := Scalar.cmpi .ne v486 v491
  let v493 : BitVec 32 := Scalar.remsi v480 c8_i32_239
  let c0_i32_244 : BitVec 32 := 0#32
  let v494 : BitVec 1 := Scalar.cmpi .ne v493 c0_i32_244
  let v495 : BitVec 1 := Scalar.andi v492 v494
  let v481 : BitVec 32 := Scalar.divsi v480 c8_i32_239
  let c1_i32_245 : BitVec 32 := 1#32
  let v496 : BitVec 32 := Scalar.subi v481 c1_i32_245
  let v497 : BitVec 32 := Scalar.select v495 v496 v481
  let v498 : BitVec 32 := Scalar.subi v497 c0_i32_246
  let c1_i32_247 : BitVec 32 := 1#32
  let v500 : BitVec 32 := Scalar.divsi v498 c1_i32_247
  let v501 : BitVec 32 := Scalar.muli v500 c1_i32_247
  let v502 : BitVec 32 := Scalar.addi c0_i32_246 v501
  let c1_i32_248 : BitVec 32 := 1#32
  ⟨c0_i32_246, v502, c1_i32_248⟩

def k0_off445 (v52 : BitVec 32) (v105 : BitVec 32) (v158 : BitVec 32) (v211 : BitVec 32) (v264 : BitVec 32) (v317 : BitVec 32) (v370 : BitVec 32) (v423 : BitVec 32) (v476 : BitVec 32) (k0_t45 : Fin (k0_t45_loop v52 v105 v158 v211 v264 v317 v370 v423 v476).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c0_i32_246 : BitVec 32 := 0#32
  let c1_i32_248 : BitVec 32 := 1#32
  let arg19 : BitVec 32 := Scf.iv c0_i32_246 c1_i32_248 k0_t45
  let c8_i32_444 : BitVec 32 := 8#32
  let v893 : BitVec 32 := Scalar.muli arg19 c8_i32_444
  let v894 : BitVec 32 := Scalar.addi v463 v893
  let v895 : BitVec 32 := Scalar.addi v894 c1_i32_445
  let v896 : Index := Scalar.indexCast v895
  ![v896.toNat]
def k0_off446 (v912 : BitVec 32) : Fin 2 → Nat :=
  let c2048_i32_451 : BitVec 32 := 2048#32
  let v913 : BitVec 32 := Scalar.subi v912 c2048_i32_451
  let v914 : Index := Scalar.indexCast v913
  let c0_452 : Index := 0#32
  ![v914.toNat, 0]

def k0_off447 (v912 : BitVec 32) : Fin 2 → Nat :=
  let c2048_i32_451 : BitVec 32 := 2048#32
  let v913 : BitVec 32 := Scalar.subi v912 c2048_i32_451
  let v917 : Index := Scalar.indexCast v913
  let c16_453 : Index := 16#32
  ![v917.toNat, 16]

def k0_chk155 (v912 : BitVec 32) : Prop :=
  (∀ a, (k0_off446 v912) a + S1x16.size a ≤ S257x32.size a) ∧
  (∀ a, (k0_off447 v912) a + S1x16.size a ≤ S257x32.size a)
theorem k0_off446_inb : ∀ (v912 : BitVec 32) (k0_hw155 : k0_chk155 v912), ∀ a, (k0_off446 v912) a + S1x16.size a ≤ S257x32.size a := fun v912 k0_hw155 => k0_hw155.1
theorem k0_off447_inb : ∀ (v912 : BitVec 32) (k0_hw155 : k0_chk155 v912), ∀ a, (k0_off447 v912) a + S1x16.size a ≤ S257x32.size a := fun v912 k0_hw155 => k0_hw155.2

def k0_off448 (v921 : BitVec 32) : Fin 2 → Nat :=
  let c2048_i32_454 : BitVec 32 := 2048#32
  let v922 : BitVec 32 := Scalar.subi v921 c2048_i32_454
  let v923 : Index := Scalar.indexCast v922
  let c0_455 : Index := 0#32
  ![v923.toNat, 0]

def k0_off449 (v921 : BitVec 32) : Fin 2 → Nat :=
  let c2048_i32_454 : BitVec 32 := 2048#32
  let v922 : BitVec 32 := Scalar.subi v921 c2048_i32_454
  let v926 : Index := Scalar.indexCast v922
  let c16_456 : Index := 16#32
  ![v926.toNat, 16]

def k0_chk156 (v921 : BitVec 32) : Prop :=
  (∀ a, (k0_off448 v921) a + S1x16.size a ≤ S257x32.size a) ∧
  (∀ a, (k0_off449 v921) a + S1x16.size a ≤ S257x32.size a)
theorem k0_off448_inb : ∀ (v921 : BitVec 32) (k0_hw156 : k0_chk156 v921), ∀ a, (k0_off448 v921) a + S1x16.size a ≤ S257x32.size a := fun v921 k0_hw156 => k0_hw156.1
theorem k0_off449_inb : ∀ (v921 : BitVec 32) (k0_hw156 : k0_chk156 v921), ∀ a, (k0_off449 v921) a + S1x16.size a ≤ S257x32.size a := fun v921 k0_hw156 => k0_hw156.2

def k0_off450 (v930 : BitVec 32) : Fin 2 → Nat :=
  let c2048_i32_457 : BitVec 32 := 2048#32
  let v931 : BitVec 32 := Scalar.subi v930 c2048_i32_457
  let v932 : Index := Scalar.indexCast v931
  let c0_458 : Index := 0#32
  ![v932.toNat, 0]

def k0_off451 (v930 : BitVec 32) : Fin 2 → Nat :=
  let c2048_i32_457 : BitVec 32 := 2048#32
  let v931 : BitVec 32 := Scalar.subi v930 c2048_i32_457
  let v935 : Index := Scalar.indexCast v931
  let c16_459 : Index := 16#32
  ![v935.toNat, 16]

def k0_chk157 (v930 : BitVec 32) : Prop :=
  (∀ a, (k0_off450 v930) a + S1x16.size a ≤ S257x32.size a) ∧
  (∀ a, (k0_off451 v930) a + S1x16.size a ≤ S257x32.size a)
theorem k0_off450_inb : ∀ (v930 : BitVec 32) (k0_hw157 : k0_chk157 v930), ∀ a, (k0_off450 v930) a + S1x16.size a ≤ S257x32.size a := fun v930 k0_hw157 => k0_hw157.1
theorem k0_off451_inb : ∀ (v930 : BitVec 32) (k0_hw157 : k0_chk157 v930), ∀ a, (k0_off451 v930) a + S1x16.size a ≤ S257x32.size a := fun v930 k0_hw157 => k0_hw157.2

def k0_off452 (v939 : BitVec 32) : Fin 2 → Nat :=
  let c2048_i32_460 : BitVec 32 := 2048#32
  let v940 : BitVec 32 := Scalar.subi v939 c2048_i32_460
  let v941 : Index := Scalar.indexCast v940
  let c0_461 : Index := 0#32
  ![v941.toNat, 0]

def k0_off453 (v939 : BitVec 32) : Fin 2 → Nat :=
  let c2048_i32_460 : BitVec 32 := 2048#32
  let v940 : BitVec 32 := Scalar.subi v939 c2048_i32_460
  let v944 : Index := Scalar.indexCast v940
  let c16_462 : Index := 16#32
  ![v944.toNat, 16]

def k0_chk158 (v939 : BitVec 32) : Prop :=
  (∀ a, (k0_off452 v939) a + S1x16.size a ≤ S257x32.size a) ∧
  (∀ a, (k0_off453 v939) a + S1x16.size a ≤ S257x32.size a)
theorem k0_off452_inb : ∀ (v939 : BitVec 32) (k0_hw158 : k0_chk158 v939), ∀ a, (k0_off452 v939) a + S1x16.size a ≤ S257x32.size a := fun v939 k0_hw158 => k0_hw158.1
theorem k0_off453_inb : ∀ (v939 : BitVec 32) (k0_hw158 : k0_chk158 v939), ∀ a, (k0_off453 v939) a + S1x16.size a ≤ S257x32.size a := fun v939 k0_hw158 => k0_hw158.2

def k0_off454 (v948 : BitVec 32) : Fin 2 → Nat :=
  let c2048_i32_463 : BitVec 32 := 2048#32
  let v949 : BitVec 32 := Scalar.subi v948 c2048_i32_463
  let v950 : Index := Scalar.indexCast v949
  let c0_464 : Index := 0#32
  ![v950.toNat, 0]

def k0_off455 (v948 : BitVec 32) : Fin 2 → Nat :=
  let c2048_i32_463 : BitVec 32 := 2048#32
  let v949 : BitVec 32 := Scalar.subi v948 c2048_i32_463
  let v953 : Index := Scalar.indexCast v949
  let c16_465 : Index := 16#32
  ![v953.toNat, 16]

def k0_chk159 (v948 : BitVec 32) : Prop :=
  (∀ a, (k0_off454 v948) a + S1x16.size a ≤ S257x32.size a) ∧
  (∀ a, (k0_off455 v948) a + S1x16.size a ≤ S257x32.size a)
theorem k0_off454_inb : ∀ (v948 : BitVec 32) (k0_hw159 : k0_chk159 v948), ∀ a, (k0_off454 v948) a + S1x16.size a ≤ S257x32.size a := fun v948 k0_hw159 => k0_hw159.1
theorem k0_off455_inb : ∀ (v948 : BitVec 32) (k0_hw159 : k0_chk159 v948), ∀ a, (k0_off455 v948) a + S1x16.size a ≤ S257x32.size a := fun v948 k0_hw159 => k0_hw159.2

def k0_off456 (v957 : BitVec 32) : Fin 2 → Nat :=
  let c2048_i32_466 : BitVec 32 := 2048#32
  let v958 : BitVec 32 := Scalar.subi v957 c2048_i32_466
  let v959 : Index := Scalar.indexCast v958
  let c0_467 : Index := 0#32
  ![v959.toNat, 0]

def k0_off457 (v957 : BitVec 32) : Fin 2 → Nat :=
  let c2048_i32_466 : BitVec 32 := 2048#32
  let v958 : BitVec 32 := Scalar.subi v957 c2048_i32_466
  let v962 : Index := Scalar.indexCast v958
  let c16_468 : Index := 16#32
  ![v962.toNat, 16]

def k0_chk160 (v957 : BitVec 32) : Prop :=
  (∀ a, (k0_off456 v957) a + S1x16.size a ≤ S257x32.size a) ∧
  (∀ a, (k0_off457 v957) a + S1x16.size a ≤ S257x32.size a)
theorem k0_off456_inb : ∀ (v957 : BitVec 32) (k0_hw160 : k0_chk160 v957), ∀ a, (k0_off456 v957) a + S1x16.size a ≤ S257x32.size a := fun v957 k0_hw160 => k0_hw160.1
theorem k0_off457_inb : ∀ (v957 : BitVec 32) (k0_hw160 : k0_chk160 v957), ∀ a, (k0_off457 v957) a + S1x16.size a ≤ S257x32.size a := fun v957 k0_hw160 => k0_hw160.2

def k0_off458 (v966 : BitVec 32) : Fin 2 → Nat :=
  let c2048_i32_469 : BitVec 32 := 2048#32
  let v967 : BitVec 32 := Scalar.subi v966 c2048_i32_469
  let v968 : Index := Scalar.indexCast v967
  let c0_470 : Index := 0#32
  ![v968.toNat, 0]

def k0_off459 (v966 : BitVec 32) : Fin 2 → Nat :=
  let c2048_i32_469 : BitVec 32 := 2048#32
  let v967 : BitVec 32 := Scalar.subi v966 c2048_i32_469
  let v971 : Index := Scalar.indexCast v967
  let c16_471 : Index := 16#32
  ![v971.toNat, 16]

def k0_chk161 (v966 : BitVec 32) : Prop :=
  (∀ a, (k0_off458 v966) a + S1x16.size a ≤ S257x32.size a) ∧
  (∀ a, (k0_off459 v966) a + S1x16.size a ≤ S257x32.size a)
theorem k0_off458_inb : ∀ (v966 : BitVec 32) (k0_hw161 : k0_chk161 v966), ∀ a, (k0_off458 v966) a + S1x16.size a ≤ S257x32.size a := fun v966 k0_hw161 => k0_hw161.1
theorem k0_off459_inb : ∀ (v966 : BitVec 32) (k0_hw161 : k0_chk161 v966), ∀ a, (k0_off459 v966) a + S1x16.size a ≤ S257x32.size a := fun v966 k0_hw161 => k0_hw161.2

def k0_off460 (v975 : BitVec 32) : Fin 2 → Nat :=
  let c2048_i32_472 : BitVec 32 := 2048#32
  let v976 : BitVec 32 := Scalar.subi v975 c2048_i32_472
  let v977 : Index := Scalar.indexCast v976
  let c0_473 : Index := 0#32
  ![v977.toNat, 0]

def k0_off461 (v975 : BitVec 32) : Fin 2 → Nat :=
  let c2048_i32_472 : BitVec 32 := 2048#32
  let v976 : BitVec 32 := Scalar.subi v975 c2048_i32_472
  let v980 : Index := Scalar.indexCast v976
  let c16_474 : Index := 16#32
  ![v980.toNat, 16]

def k0_chk162 (v975 : BitVec 32) : Prop :=
  (∀ a, (k0_off460 v975) a + S1x16.size a ≤ S257x32.size a) ∧
  (∀ a, (k0_off461 v975) a + S1x16.size a ≤ S257x32.size a)
theorem k0_off460_inb : ∀ (v975 : BitVec 32) (k0_hw162 : k0_chk162 v975), ∀ a, (k0_off460 v975) a + S1x16.size a ≤ S257x32.size a := fun v975 k0_hw162 => k0_hw162.1
theorem k0_off461_inb : ∀ (v975 : BitVec 32) (k0_hw162 : k0_chk162 v975), ∀ a, (k0_off461 v975) a + S1x16.size a ≤ S257x32.size a := fun v975 k0_hw162 => k0_hw162.2

def k0_off462 (v52 : BitVec 32) (v105 : BitVec 32) (v158 : BitVec 32) (v211 : BitVec 32) (v264 : BitVec 32) (v317 : BitVec 32) (v370 : BitVec 32) (v423 : BitVec 32) (v476 : BitVec 32) (k0_t45 : Fin (k0_t45_loop v52 v105 v158 v211 v264 v317 v370 v423 v476).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c0_i32_246 : BitVec 32 := 0#32
  let c1_i32_248 : BitVec 32 := 1#32
  let arg19 : BitVec 32 := Scf.iv c0_i32_246 c1_i32_248 k0_t45
  let c8_i32_444 : BitVec 32 := 8#32
  let v893 : BitVec 32 := Scalar.muli arg19 c8_i32_444
  let v894 : BitVec 32 := Scalar.addi v463 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off463 (v52 : BitVec 32) (v105 : BitVec 32) (v158 : BitVec 32) (v211 : BitVec 32) (v264 : BitVec 32) (v317 : BitVec 32) (v370 : BitVec 32) (v423 : BitVec 32) (v476 : BitVec 32) (k0_t45 : Fin (k0_t45_loop v52 v105 v158 v211 v264 v317 v370 v423 v476).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c0_i32_246 : BitVec 32 := 0#32
  let c1_i32_248 : BitVec 32 := 1#32
  let arg19 : BitVec 32 := Scf.iv c0_i32_246 c1_i32_248 k0_t45
  let c8_i32_444 : BitVec 32 := 8#32
  let v893 : BitVec 32 := Scalar.muli arg19 c8_i32_444
  let v894 : BitVec 32 := Scalar.addi v463 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t46_loop (v52 : BitVec 32) (v105 : BitVec 32) (v158 : BitVec 32) (v211 : BitVec 32) (v264 : BitVec 32) (v317 : BitVec 32) (v370 : BitVec 32) (v423 : BitVec 32) (v476 : BitVec 32) : Scf.Loop 32 :=
  let c0_i32_246 : BitVec 32 := 0#32
  let c1_i32_236 : BitVec 32 := 1#32
  let v477 : BitVec 32 := Scalar.subi v476 c1_i32_236
  let c2049_i32_237 : BitVec 32 := 2049#32
  let v478 : BitVec 32 := Scalar.minsi v477 c2049_i32_237
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let v479 : BitVec 32 := Scalar.subi v478 v463
  let c0_i32_238 : BitVec 32 := 0#32
  let v480 : BitVec 32 := Scalar.maxsi v479 c0_i32_238
  let c0_i32_240 : BitVec 32 := 0#32
  let v482 : BitVec 1 := Scalar.cmpi .sgt v480 c0_i32_240
  let v483 : BitVec 32 := Scalar.extui v482
  let c0_i32_241 : BitVec 32 := 0#32
  let v484 : BitVec 1 := Scalar.cmpi .slt v480 c0_i32_241
  let v485 : BitVec 32 := Scalar.extui v484
  let v486 : BitVec 32 := Scalar.subi v483 v485
  let c8_i32_239 : BitVec 32 := 8#32
  let c0_i32_242 : BitVec 32 := 0#32
  let v487 : BitVec 1 := Scalar.cmpi .sgt c8_i32_239 c0_i32_242
  let v488 : BitVec 32 := Scalar.extui v487
  let c0_i32_243 : BitVec 32 := 0#32
  let v489 : BitVec 1 := Scalar.cmpi .slt c8_i32_239 c0_i32_243
  let v490 : BitVec 32 := Scalar.extui v489
  let v491 : BitVec 32 := Scalar.subi v488 v490
  let v492 : BitVec 1 := Scalar.cmpi .ne v486 v491
  let v493 : BitVec 32 := Scalar.remsi v480 c8_i32_239
  let c0_i32_244 : BitVec 32 := 0#32
  let v494 : BitVec 1 := Scalar.cmpi .ne v493 c0_i32_244
  let v495 : BitVec 1 := Scalar.andi v492 v494
  let v481 : BitVec 32 := Scalar.divsi v480 c8_i32_239
  let c1_i32_245 : BitVec 32 := 1#32
  let v496 : BitVec 32 := Scalar.subi v481 c1_i32_245
  let v497 : BitVec 32 := Scalar.select v495 v496 v481
  let v498 : BitVec 32 := Scalar.subi v497 c0_i32_246
  let c1_i32_247 : BitVec 32 := 1#32
  let v500 : BitVec 32 := Scalar.divsi v498 c1_i32_247
  let v501 : BitVec 32 := Scalar.muli v500 c1_i32_247
  let v502 : BitVec 32 := Scalar.addi c0_i32_246 v501
  let v499 : BitVec 32 := Scalar.addi c0_i32_246 v498
  let c1_i32_249 : BitVec 32 := 1#32
  ⟨v502, v499, c1_i32_249⟩
def k0_off464 (v52 : BitVec 32) (v105 : BitVec 32) (v158 : BitVec 32) (v211 : BitVec 32) (v264 : BitVec 32) (v317 : BitVec 32) (v370 : BitVec 32) (v423 : BitVec 32) (v476 : BitVec 32) (k0_t46 : Fin (k0_t46_loop v52 v105 v158 v211 v264 v317 v370 v423 v476).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c0_i32_246 : BitVec 32 := 0#32
  let c1_i32_236 : BitVec 32 := 1#32
  let v477 : BitVec 32 := Scalar.subi v476 c1_i32_236
  let c2049_i32_237 : BitVec 32 := 2049#32
  let v478 : BitVec 32 := Scalar.minsi v477 c2049_i32_237
  let v479 : BitVec 32 := Scalar.subi v478 v463
  let c0_i32_238 : BitVec 32 := 0#32
  let v480 : BitVec 32 := Scalar.maxsi v479 c0_i32_238
  let c0_i32_240 : BitVec 32 := 0#32
  let v482 : BitVec 1 := Scalar.cmpi .sgt v480 c0_i32_240
  let v483 : BitVec 32 := Scalar.extui v482
  let c0_i32_241 : BitVec 32 := 0#32
  let v484 : BitVec 1 := Scalar.cmpi .slt v480 c0_i32_241
  let v485 : BitVec 32 := Scalar.extui v484
  let v486 : BitVec 32 := Scalar.subi v483 v485
  let c8_i32_239 : BitVec 32 := 8#32
  let c0_i32_242 : BitVec 32 := 0#32
  let v487 : BitVec 1 := Scalar.cmpi .sgt c8_i32_239 c0_i32_242
  let v488 : BitVec 32 := Scalar.extui v487
  let c0_i32_243 : BitVec 32 := 0#32
  let v489 : BitVec 1 := Scalar.cmpi .slt c8_i32_239 c0_i32_243
  let v490 : BitVec 32 := Scalar.extui v489
  let v491 : BitVec 32 := Scalar.subi v488 v490
  let v492 : BitVec 1 := Scalar.cmpi .ne v486 v491
  let v493 : BitVec 32 := Scalar.remsi v480 c8_i32_239
  let c0_i32_244 : BitVec 32 := 0#32
  let v494 : BitVec 1 := Scalar.cmpi .ne v493 c0_i32_244
  let v495 : BitVec 1 := Scalar.andi v492 v494
  let v481 : BitVec 32 := Scalar.divsi v480 c8_i32_239
  let c1_i32_245 : BitVec 32 := 1#32
  let v496 : BitVec 32 := Scalar.subi v481 c1_i32_245
  let v497 : BitVec 32 := Scalar.select v495 v496 v481
  let v498 : BitVec 32 := Scalar.subi v497 c0_i32_246
  let c1_i32_247 : BitVec 32 := 1#32
  let v500 : BitVec 32 := Scalar.divsi v498 c1_i32_247
  let v501 : BitVec 32 := Scalar.muli v500 c1_i32_247
  let v502 : BitVec 32 := Scalar.addi c0_i32_246 v501
  let c1_i32_249 : BitVec 32 := 1#32
  let arg19 : BitVec 32 := Scf.iv v502 c1_i32_249 k0_t46
  let c8_i32_444 : BitVec 32 := 8#32
  let v893 : BitVec 32 := Scalar.muli arg19 c8_i32_444
  let v894 : BitVec 32 := Scalar.addi v463 v893
  let v895 : BitVec 32 := Scalar.addi v894 c1_i32_445
  let v896 : Index := Scalar.indexCast v895
  ![v896.toNat]
def k0_off465 (v912 : BitVec 32) : Fin 2 → Nat :=
  let c2048_i32_451 : BitVec 32 := 2048#32
  let v913 : BitVec 32 := Scalar.subi v912 c2048_i32_451
  let v914 : Index := Scalar.indexCast v913
  let c0_452 : Index := 0#32
  ![v914.toNat, 0]

def k0_off466 (v912 : BitVec 32) : Fin 2 → Nat :=
  let c2048_i32_451 : BitVec 32 := 2048#32
  let v913 : BitVec 32 := Scalar.subi v912 c2048_i32_451
  let v917 : Index := Scalar.indexCast v913
  let c16_453 : Index := 16#32
  ![v917.toNat, 16]

def k0_chk163 (v912 : BitVec 32) : Prop :=
  (∀ a, (k0_off465 v912) a + S1x16.size a ≤ S257x32.size a) ∧
  (∀ a, (k0_off466 v912) a + S1x16.size a ≤ S257x32.size a)
theorem k0_off465_inb : ∀ (v912 : BitVec 32) (k0_hw163 : k0_chk163 v912), ∀ a, (k0_off465 v912) a + S1x16.size a ≤ S257x32.size a := fun v912 k0_hw163 => k0_hw163.1
theorem k0_off466_inb : ∀ (v912 : BitVec 32) (k0_hw163 : k0_chk163 v912), ∀ a, (k0_off466 v912) a + S1x16.size a ≤ S257x32.size a := fun v912 k0_hw163 => k0_hw163.2

def k0_off467 (v921 : BitVec 32) : Fin 2 → Nat :=
  let c2048_i32_454 : BitVec 32 := 2048#32
  let v922 : BitVec 32 := Scalar.subi v921 c2048_i32_454
  let v923 : Index := Scalar.indexCast v922
  let c0_455 : Index := 0#32
  ![v923.toNat, 0]

def k0_off468 (v921 : BitVec 32) : Fin 2 → Nat :=
  let c2048_i32_454 : BitVec 32 := 2048#32
  let v922 : BitVec 32 := Scalar.subi v921 c2048_i32_454
  let v926 : Index := Scalar.indexCast v922
  let c16_456 : Index := 16#32
  ![v926.toNat, 16]

def k0_chk164 (v921 : BitVec 32) : Prop :=
  (∀ a, (k0_off467 v921) a + S1x16.size a ≤ S257x32.size a) ∧
  (∀ a, (k0_off468 v921) a + S1x16.size a ≤ S257x32.size a)
theorem k0_off467_inb : ∀ (v921 : BitVec 32) (k0_hw164 : k0_chk164 v921), ∀ a, (k0_off467 v921) a + S1x16.size a ≤ S257x32.size a := fun v921 k0_hw164 => k0_hw164.1
theorem k0_off468_inb : ∀ (v921 : BitVec 32) (k0_hw164 : k0_chk164 v921), ∀ a, (k0_off468 v921) a + S1x16.size a ≤ S257x32.size a := fun v921 k0_hw164 => k0_hw164.2

def k0_off469 (v930 : BitVec 32) : Fin 2 → Nat :=
  let c2048_i32_457 : BitVec 32 := 2048#32
  let v931 : BitVec 32 := Scalar.subi v930 c2048_i32_457
  let v932 : Index := Scalar.indexCast v931
  let c0_458 : Index := 0#32
  ![v932.toNat, 0]

def k0_off470 (v930 : BitVec 32) : Fin 2 → Nat :=
  let c2048_i32_457 : BitVec 32 := 2048#32
  let v931 : BitVec 32 := Scalar.subi v930 c2048_i32_457
  let v935 : Index := Scalar.indexCast v931
  let c16_459 : Index := 16#32
  ![v935.toNat, 16]

def k0_chk165 (v930 : BitVec 32) : Prop :=
  (∀ a, (k0_off469 v930) a + S1x16.size a ≤ S257x32.size a) ∧
  (∀ a, (k0_off470 v930) a + S1x16.size a ≤ S257x32.size a)
theorem k0_off469_inb : ∀ (v930 : BitVec 32) (k0_hw165 : k0_chk165 v930), ∀ a, (k0_off469 v930) a + S1x16.size a ≤ S257x32.size a := fun v930 k0_hw165 => k0_hw165.1
theorem k0_off470_inb : ∀ (v930 : BitVec 32) (k0_hw165 : k0_chk165 v930), ∀ a, (k0_off470 v930) a + S1x16.size a ≤ S257x32.size a := fun v930 k0_hw165 => k0_hw165.2

def k0_off471 (v939 : BitVec 32) : Fin 2 → Nat :=
  let c2048_i32_460 : BitVec 32 := 2048#32
  let v940 : BitVec 32 := Scalar.subi v939 c2048_i32_460
  let v941 : Index := Scalar.indexCast v940
  let c0_461 : Index := 0#32
  ![v941.toNat, 0]

def k0_off472 (v939 : BitVec 32) : Fin 2 → Nat :=
  let c2048_i32_460 : BitVec 32 := 2048#32
  let v940 : BitVec 32 := Scalar.subi v939 c2048_i32_460
  let v944 : Index := Scalar.indexCast v940
  let c16_462 : Index := 16#32
  ![v944.toNat, 16]

def k0_chk166 (v939 : BitVec 32) : Prop :=
  (∀ a, (k0_off471 v939) a + S1x16.size a ≤ S257x32.size a) ∧
  (∀ a, (k0_off472 v939) a + S1x16.size a ≤ S257x32.size a)
theorem k0_off471_inb : ∀ (v939 : BitVec 32) (k0_hw166 : k0_chk166 v939), ∀ a, (k0_off471 v939) a + S1x16.size a ≤ S257x32.size a := fun v939 k0_hw166 => k0_hw166.1
theorem k0_off472_inb : ∀ (v939 : BitVec 32) (k0_hw166 : k0_chk166 v939), ∀ a, (k0_off472 v939) a + S1x16.size a ≤ S257x32.size a := fun v939 k0_hw166 => k0_hw166.2

def k0_off473 (v948 : BitVec 32) : Fin 2 → Nat :=
  let c2048_i32_463 : BitVec 32 := 2048#32
  let v949 : BitVec 32 := Scalar.subi v948 c2048_i32_463
  let v950 : Index := Scalar.indexCast v949
  let c0_464 : Index := 0#32
  ![v950.toNat, 0]

def k0_off474 (v948 : BitVec 32) : Fin 2 → Nat :=
  let c2048_i32_463 : BitVec 32 := 2048#32
  let v949 : BitVec 32 := Scalar.subi v948 c2048_i32_463
  let v953 : Index := Scalar.indexCast v949
  let c16_465 : Index := 16#32
  ![v953.toNat, 16]

def k0_chk167 (v948 : BitVec 32) : Prop :=
  (∀ a, (k0_off473 v948) a + S1x16.size a ≤ S257x32.size a) ∧
  (∀ a, (k0_off474 v948) a + S1x16.size a ≤ S257x32.size a)
theorem k0_off473_inb : ∀ (v948 : BitVec 32) (k0_hw167 : k0_chk167 v948), ∀ a, (k0_off473 v948) a + S1x16.size a ≤ S257x32.size a := fun v948 k0_hw167 => k0_hw167.1
theorem k0_off474_inb : ∀ (v948 : BitVec 32) (k0_hw167 : k0_chk167 v948), ∀ a, (k0_off474 v948) a + S1x16.size a ≤ S257x32.size a := fun v948 k0_hw167 => k0_hw167.2

def k0_off475 (v957 : BitVec 32) : Fin 2 → Nat :=
  let c2048_i32_466 : BitVec 32 := 2048#32
  let v958 : BitVec 32 := Scalar.subi v957 c2048_i32_466
  let v959 : Index := Scalar.indexCast v958
  let c0_467 : Index := 0#32
  ![v959.toNat, 0]

def k0_off476 (v957 : BitVec 32) : Fin 2 → Nat :=
  let c2048_i32_466 : BitVec 32 := 2048#32
  let v958 : BitVec 32 := Scalar.subi v957 c2048_i32_466
  let v962 : Index := Scalar.indexCast v958
  let c16_468 : Index := 16#32
  ![v962.toNat, 16]

def k0_chk168 (v957 : BitVec 32) : Prop :=
  (∀ a, (k0_off475 v957) a + S1x16.size a ≤ S257x32.size a) ∧
  (∀ a, (k0_off476 v957) a + S1x16.size a ≤ S257x32.size a)
theorem k0_off475_inb : ∀ (v957 : BitVec 32) (k0_hw168 : k0_chk168 v957), ∀ a, (k0_off475 v957) a + S1x16.size a ≤ S257x32.size a := fun v957 k0_hw168 => k0_hw168.1
theorem k0_off476_inb : ∀ (v957 : BitVec 32) (k0_hw168 : k0_chk168 v957), ∀ a, (k0_off476 v957) a + S1x16.size a ≤ S257x32.size a := fun v957 k0_hw168 => k0_hw168.2

def k0_off477 (v966 : BitVec 32) : Fin 2 → Nat :=
  let c2048_i32_469 : BitVec 32 := 2048#32
  let v967 : BitVec 32 := Scalar.subi v966 c2048_i32_469
  let v968 : Index := Scalar.indexCast v967
  let c0_470 : Index := 0#32
  ![v968.toNat, 0]

def k0_off478 (v966 : BitVec 32) : Fin 2 → Nat :=
  let c2048_i32_469 : BitVec 32 := 2048#32
  let v967 : BitVec 32 := Scalar.subi v966 c2048_i32_469
  let v971 : Index := Scalar.indexCast v967
  let c16_471 : Index := 16#32
  ![v971.toNat, 16]

def k0_chk169 (v966 : BitVec 32) : Prop :=
  (∀ a, (k0_off477 v966) a + S1x16.size a ≤ S257x32.size a) ∧
  (∀ a, (k0_off478 v966) a + S1x16.size a ≤ S257x32.size a)
theorem k0_off477_inb : ∀ (v966 : BitVec 32) (k0_hw169 : k0_chk169 v966), ∀ a, (k0_off477 v966) a + S1x16.size a ≤ S257x32.size a := fun v966 k0_hw169 => k0_hw169.1
theorem k0_off478_inb : ∀ (v966 : BitVec 32) (k0_hw169 : k0_chk169 v966), ∀ a, (k0_off478 v966) a + S1x16.size a ≤ S257x32.size a := fun v966 k0_hw169 => k0_hw169.2

def k0_off479 (v975 : BitVec 32) : Fin 2 → Nat :=
  let c2048_i32_472 : BitVec 32 := 2048#32
  let v976 : BitVec 32 := Scalar.subi v975 c2048_i32_472
  let v977 : Index := Scalar.indexCast v976
  let c0_473 : Index := 0#32
  ![v977.toNat, 0]

def k0_off480 (v975 : BitVec 32) : Fin 2 → Nat :=
  let c2048_i32_472 : BitVec 32 := 2048#32
  let v976 : BitVec 32 := Scalar.subi v975 c2048_i32_472
  let v980 : Index := Scalar.indexCast v976
  let c16_474 : Index := 16#32
  ![v980.toNat, 16]

def k0_chk170 (v975 : BitVec 32) : Prop :=
  (∀ a, (k0_off479 v975) a + S1x16.size a ≤ S257x32.size a) ∧
  (∀ a, (k0_off480 v975) a + S1x16.size a ≤ S257x32.size a)
theorem k0_off479_inb : ∀ (v975 : BitVec 32) (k0_hw170 : k0_chk170 v975), ∀ a, (k0_off479 v975) a + S1x16.size a ≤ S257x32.size a := fun v975 k0_hw170 => k0_hw170.1
theorem k0_off480_inb : ∀ (v975 : BitVec 32) (k0_hw170 : k0_chk170 v975), ∀ a, (k0_off480 v975) a + S1x16.size a ≤ S257x32.size a := fun v975 k0_hw170 => k0_hw170.2

def k0_off481 (v52 : BitVec 32) (v105 : BitVec 32) (v158 : BitVec 32) (v211 : BitVec 32) (v264 : BitVec 32) (v317 : BitVec 32) (v370 : BitVec 32) (v423 : BitVec 32) (v476 : BitVec 32) (k0_t46 : Fin (k0_t46_loop v52 v105 v158 v211 v264 v317 v370 v423 v476).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c0_i32_246 : BitVec 32 := 0#32
  let c1_i32_236 : BitVec 32 := 1#32
  let v477 : BitVec 32 := Scalar.subi v476 c1_i32_236
  let c2049_i32_237 : BitVec 32 := 2049#32
  let v478 : BitVec 32 := Scalar.minsi v477 c2049_i32_237
  let v479 : BitVec 32 := Scalar.subi v478 v463
  let c0_i32_238 : BitVec 32 := 0#32
  let v480 : BitVec 32 := Scalar.maxsi v479 c0_i32_238
  let c0_i32_240 : BitVec 32 := 0#32
  let v482 : BitVec 1 := Scalar.cmpi .sgt v480 c0_i32_240
  let v483 : BitVec 32 := Scalar.extui v482
  let c0_i32_241 : BitVec 32 := 0#32
  let v484 : BitVec 1 := Scalar.cmpi .slt v480 c0_i32_241
  let v485 : BitVec 32 := Scalar.extui v484
  let v486 : BitVec 32 := Scalar.subi v483 v485
  let c8_i32_239 : BitVec 32 := 8#32
  let c0_i32_242 : BitVec 32 := 0#32
  let v487 : BitVec 1 := Scalar.cmpi .sgt c8_i32_239 c0_i32_242
  let v488 : BitVec 32 := Scalar.extui v487
  let c0_i32_243 : BitVec 32 := 0#32
  let v489 : BitVec 1 := Scalar.cmpi .slt c8_i32_239 c0_i32_243
  let v490 : BitVec 32 := Scalar.extui v489
  let v491 : BitVec 32 := Scalar.subi v488 v490
  let v492 : BitVec 1 := Scalar.cmpi .ne v486 v491
  let v493 : BitVec 32 := Scalar.remsi v480 c8_i32_239
  let c0_i32_244 : BitVec 32 := 0#32
  let v494 : BitVec 1 := Scalar.cmpi .ne v493 c0_i32_244
  let v495 : BitVec 1 := Scalar.andi v492 v494
  let v481 : BitVec 32 := Scalar.divsi v480 c8_i32_239
  let c1_i32_245 : BitVec 32 := 1#32
  let v496 : BitVec 32 := Scalar.subi v481 c1_i32_245
  let v497 : BitVec 32 := Scalar.select v495 v496 v481
  let v498 : BitVec 32 := Scalar.subi v497 c0_i32_246
  let c1_i32_247 : BitVec 32 := 1#32
  let v500 : BitVec 32 := Scalar.divsi v498 c1_i32_247
  let v501 : BitVec 32 := Scalar.muli v500 c1_i32_247
  let v502 : BitVec 32 := Scalar.addi c0_i32_246 v501
  let c1_i32_249 : BitVec 32 := 1#32
  let arg19 : BitVec 32 := Scf.iv v502 c1_i32_249 k0_t46
  let c8_i32_444 : BitVec 32 := 8#32
  let v893 : BitVec 32 := Scalar.muli arg19 c8_i32_444
  let v894 : BitVec 32 := Scalar.addi v463 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off482 (v52 : BitVec 32) (v105 : BitVec 32) (v158 : BitVec 32) (v211 : BitVec 32) (v264 : BitVec 32) (v317 : BitVec 32) (v370 : BitVec 32) (v423 : BitVec 32) (v476 : BitVec 32) (k0_t46 : Fin (k0_t46_loop v52 v105 v158 v211 v264 v317 v370 v423 v476).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c0_i32_246 : BitVec 32 := 0#32
  let c1_i32_236 : BitVec 32 := 1#32
  let v477 : BitVec 32 := Scalar.subi v476 c1_i32_236
  let c2049_i32_237 : BitVec 32 := 2049#32
  let v478 : BitVec 32 := Scalar.minsi v477 c2049_i32_237
  let v479 : BitVec 32 := Scalar.subi v478 v463
  let c0_i32_238 : BitVec 32 := 0#32
  let v480 : BitVec 32 := Scalar.maxsi v479 c0_i32_238
  let c0_i32_240 : BitVec 32 := 0#32
  let v482 : BitVec 1 := Scalar.cmpi .sgt v480 c0_i32_240
  let v483 : BitVec 32 := Scalar.extui v482
  let c0_i32_241 : BitVec 32 := 0#32
  let v484 : BitVec 1 := Scalar.cmpi .slt v480 c0_i32_241
  let v485 : BitVec 32 := Scalar.extui v484
  let v486 : BitVec 32 := Scalar.subi v483 v485
  let c8_i32_239 : BitVec 32 := 8#32
  let c0_i32_242 : BitVec 32 := 0#32
  let v487 : BitVec 1 := Scalar.cmpi .sgt c8_i32_239 c0_i32_242
  let v488 : BitVec 32 := Scalar.extui v487
  let c0_i32_243 : BitVec 32 := 0#32
  let v489 : BitVec 1 := Scalar.cmpi .slt c8_i32_239 c0_i32_243
  let v490 : BitVec 32 := Scalar.extui v489
  let v491 : BitVec 32 := Scalar.subi v488 v490
  let v492 : BitVec 1 := Scalar.cmpi .ne v486 v491
  let v493 : BitVec 32 := Scalar.remsi v480 c8_i32_239
  let c0_i32_244 : BitVec 32 := 0#32
  let v494 : BitVec 1 := Scalar.cmpi .ne v493 c0_i32_244
  let v495 : BitVec 1 := Scalar.andi v492 v494
  let v481 : BitVec 32 := Scalar.divsi v480 c8_i32_239
  let c1_i32_245 : BitVec 32 := 1#32
  let v496 : BitVec 32 := Scalar.subi v481 c1_i32_245
  let v497 : BitVec 32 := Scalar.select v495 v496 v481
  let v498 : BitVec 32 := Scalar.subi v497 c0_i32_246
  let c1_i32_247 : BitVec 32 := 1#32
  let v500 : BitVec 32 := Scalar.divsi v498 c1_i32_247
  let v501 : BitVec 32 := Scalar.muli v500 c1_i32_247
  let v502 : BitVec 32 := Scalar.addi c0_i32_246 v501
  let c1_i32_249 : BitVec 32 := 1#32
  let arg19 : BitVec 32 := Scf.iv v502 c1_i32_249 k0_t46
  let c8_i32_444 : BitVec 32 := 8#32
  let v893 : BitVec 32 := Scalar.muli arg19 c8_i32_444
  let v894 : BitVec 32 := Scalar.addi v463 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t47_loop (v52 : BitVec 32) (v105 : BitVec 32) (v158 : BitVec 32) (v211 : BitVec 32) (v264 : BitVec 32) (v317 : BitVec 32) (v370 : BitVec 32) (v423 : BitVec 32) (v476 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v479 : BitVec 32 := Scalar.subi v478 v463
  let c0_i32_238 : BitVec 32 := 0#32
  let v480 : BitVec 32 := Scalar.maxsi v479 c0_i32_238
  let c0_i32_240 : BitVec 32 := 0#32
  let v482 : BitVec 1 := Scalar.cmpi .sgt v480 c0_i32_240
  let v483 : BitVec 32 := Scalar.extui v482
  let c0_i32_241 : BitVec 32 := 0#32
  let v484 : BitVec 1 := Scalar.cmpi .slt v480 c0_i32_241
  let v485 : BitVec 32 := Scalar.extui v484
  let v486 : BitVec 32 := Scalar.subi v483 v485
  let c8_i32_239 : BitVec 32 := 8#32
  let c0_i32_242 : BitVec 32 := 0#32
  let v487 : BitVec 1 := Scalar.cmpi .sgt c8_i32_239 c0_i32_242
  let v488 : BitVec 32 := Scalar.extui v487
  let c0_i32_243 : BitVec 32 := 0#32
  let v489 : BitVec 1 := Scalar.cmpi .slt c8_i32_239 c0_i32_243
  let v490 : BitVec 32 := Scalar.extui v489
  let v491 : BitVec 32 := Scalar.subi v488 v490
  let v492 : BitVec 1 := Scalar.cmpi .ne v486 v491
  let v493 : BitVec 32 := Scalar.remsi v480 c8_i32_239
  let c0_i32_244 : BitVec 32 := 0#32
  let v494 : BitVec 1 := Scalar.cmpi .ne v493 c0_i32_244
  let v495 : BitVec 1 := Scalar.andi v492 v494
  let v481 : BitVec 32 := Scalar.divsi v480 c8_i32_239
  let c1_i32_245 : BitVec 32 := 1#32
  let v496 : BitVec 32 := Scalar.subi v481 c1_i32_245
  let v497 : BitVec 32 := Scalar.select v495 v496 v481
  let c8_i32_250 : BitVec 32 := 8#32
  let v505 : BitVec 32 := Scalar.muli v497 c8_i32_250
  let v506 : BitVec 32 := Scalar.addi v463 v505
  let v507 : BitVec 32 := Scalar.subi v478 v506
  let c1_i32_251 : BitVec 32 := 1#32
  let v509 : BitVec 32 := Scalar.divsi v507 c1_i32_251
  let v510 : BitVec 32 := Scalar.muli v509 c1_i32_251
  let v511 : BitVec 32 := Scalar.addi v506 v510
  let c1_i32_252 : BitVec 32 := 1#32
  ⟨v506, v511, c1_i32_252⟩
def k0_off483 (v52 : BitVec 32) (v105 : BitVec 32) (v158 : BitVec 32) (v211 : BitVec 32) (v264 : BitVec 32) (v317 : BitVec 32) (v370 : BitVec 32) (v423 : BitVec 32) (v476 : BitVec 32) (k0_t47 : Fin (k0_t47_loop v52 v105 v158 v211 v264 v317 v370 v423 v476).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v479 : BitVec 32 := Scalar.subi v478 v463
  let c0_i32_238 : BitVec 32 := 0#32
  let v480 : BitVec 32 := Scalar.maxsi v479 c0_i32_238
  let c0_i32_240 : BitVec 32 := 0#32
  let v482 : BitVec 1 := Scalar.cmpi .sgt v480 c0_i32_240
  let v483 : BitVec 32 := Scalar.extui v482
  let c0_i32_241 : BitVec 32 := 0#32
  let v484 : BitVec 1 := Scalar.cmpi .slt v480 c0_i32_241
  let v485 : BitVec 32 := Scalar.extui v484
  let v486 : BitVec 32 := Scalar.subi v483 v485
  let c8_i32_239 : BitVec 32 := 8#32
  let c0_i32_242 : BitVec 32 := 0#32
  let v487 : BitVec 1 := Scalar.cmpi .sgt c8_i32_239 c0_i32_242
  let v488 : BitVec 32 := Scalar.extui v487
  let c0_i32_243 : BitVec 32 := 0#32
  let v489 : BitVec 1 := Scalar.cmpi .slt c8_i32_239 c0_i32_243
  let v490 : BitVec 32 := Scalar.extui v489
  let v491 : BitVec 32 := Scalar.subi v488 v490
  let v492 : BitVec 1 := Scalar.cmpi .ne v486 v491
  let v493 : BitVec 32 := Scalar.remsi v480 c8_i32_239
  let c0_i32_244 : BitVec 32 := 0#32
  let v494 : BitVec 1 := Scalar.cmpi .ne v493 c0_i32_244
  let v495 : BitVec 1 := Scalar.andi v492 v494
  let v481 : BitVec 32 := Scalar.divsi v480 c8_i32_239
  let c1_i32_245 : BitVec 32 := 1#32
  let v496 : BitVec 32 := Scalar.subi v481 c1_i32_245
  let v497 : BitVec 32 := Scalar.select v495 v496 v481
  let c8_i32_250 : BitVec 32 := 8#32
  let v505 : BitVec 32 := Scalar.muli v497 c8_i32_250
  let v506 : BitVec 32 := Scalar.addi v463 v505
  let c1_i32_252 : BitVec 32 := 1#32
  let arg19 : BitVec 32 := Scf.iv v506 c1_i32_252 k0_t47
  let c1_i32_444 : BitVec 32 := 1#32
  let v893 : BitVec 32 := Scalar.addi arg19 c1_i32_444
  let v894 : Index := Scalar.indexCast v893
  ![v894.toNat]
def k0_off484 (v897 : BitVec 32) : Fin 2 → Nat :=
  let c2048_i32_445 : BitVec 32 := 2048#32
  let v898 : BitVec 32 := Scalar.subi v897 c2048_i32_445
  let v912 : Index := Scalar.indexCast v898
  let c0_450 : Index := 0#32
  ![v912.toNat, 0]

def k0_off485 (v897 : BitVec 32) : Fin 2 → Nat :=
  let c2048_i32_445 : BitVec 32 := 2048#32
  let v898 : BitVec 32 := Scalar.subi v897 c2048_i32_445
  let v915 : Index := Scalar.indexCast v898
  let c16_451 : Index := 16#32
  ![v915.toNat, 16]

def k0_chk171 (v897 : BitVec 32) : Prop :=
  (∀ a, (k0_off484 v897) a + S1x16.size a ≤ S257x32.size a) ∧
  (∀ a, (k0_off485 v897) a + S1x16.size a ≤ S257x32.size a)
theorem k0_off484_inb : ∀ (v897 : BitVec 32) (k0_hw171 : k0_chk171 v897), ∀ a, (k0_off484 v897) a + S1x16.size a ≤ S257x32.size a := fun v897 k0_hw171 => k0_hw171.1
theorem k0_off485_inb : ∀ (v897 : BitVec 32) (k0_hw171 : k0_chk171 v897), ∀ a, (k0_off485 v897) a + S1x16.size a ≤ S257x32.size a := fun v897 k0_hw171 => k0_hw171.2

def k0_off486 (v52 : BitVec 32) (v105 : BitVec 32) (v158 : BitVec 32) (v211 : BitVec 32) (v264 : BitVec 32) (v317 : BitVec 32) (v370 : BitVec 32) (v423 : BitVec 32) (v476 : BitVec 32) (k0_t47 : Fin (k0_t47_loop v52 v105 v158 v211 v264 v317 v370 v423 v476).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v479 : BitVec 32 := Scalar.subi v478 v463
  let c0_i32_238 : BitVec 32 := 0#32
  let v480 : BitVec 32 := Scalar.maxsi v479 c0_i32_238
  let c0_i32_240 : BitVec 32 := 0#32
  let v482 : BitVec 1 := Scalar.cmpi .sgt v480 c0_i32_240
  let v483 : BitVec 32 := Scalar.extui v482
  let c0_i32_241 : BitVec 32 := 0#32
  let v484 : BitVec 1 := Scalar.cmpi .slt v480 c0_i32_241
  let v485 : BitVec 32 := Scalar.extui v484
  let v486 : BitVec 32 := Scalar.subi v483 v485
  let c8_i32_239 : BitVec 32 := 8#32
  let c0_i32_242 : BitVec 32 := 0#32
  let v487 : BitVec 1 := Scalar.cmpi .sgt c8_i32_239 c0_i32_242
  let v488 : BitVec 32 := Scalar.extui v487
  let c0_i32_243 : BitVec 32 := 0#32
  let v489 : BitVec 1 := Scalar.cmpi .slt c8_i32_239 c0_i32_243
  let v490 : BitVec 32 := Scalar.extui v489
  let v491 : BitVec 32 := Scalar.subi v488 v490
  let v492 : BitVec 1 := Scalar.cmpi .ne v486 v491
  let v493 : BitVec 32 := Scalar.remsi v480 c8_i32_239
  let c0_i32_244 : BitVec 32 := 0#32
  let v494 : BitVec 1 := Scalar.cmpi .ne v493 c0_i32_244
  let v495 : BitVec 1 := Scalar.andi v492 v494
  let v481 : BitVec 32 := Scalar.divsi v480 c8_i32_239
  let c1_i32_245 : BitVec 32 := 1#32
  let v496 : BitVec 32 := Scalar.subi v481 c1_i32_245
  let v497 : BitVec 32 := Scalar.select v495 v496 v481
  let c8_i32_250 : BitVec 32 := 8#32
  let v505 : BitVec 32 := Scalar.muli v497 c8_i32_250
  let v506 : BitVec 32 := Scalar.addi v463 v505
  let c1_i32_252 : BitVec 32 := 1#32
  let arg19 : BitVec 32 := Scf.iv v506 c1_i32_252 k0_t47
  let c1_i32_452 : BitVec 32 := 1#32
  let v920 : BitVec 32 := Scalar.addi arg19 c1_i32_452
  let v921 : Index := Scalar.indexCast v920
  let c0_453 : Index := 0#32
  ![v921.toNat, 0]
def k0_off487 (v52 : BitVec 32) (v105 : BitVec 32) (v158 : BitVec 32) (v211 : BitVec 32) (v264 : BitVec 32) (v317 : BitVec 32) (v370 : BitVec 32) (v423 : BitVec 32) (v476 : BitVec 32) (k0_t47 : Fin (k0_t47_loop v52 v105 v158 v211 v264 v317 v370 v423 v476).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v479 : BitVec 32 := Scalar.subi v478 v463
  let c0_i32_238 : BitVec 32 := 0#32
  let v480 : BitVec 32 := Scalar.maxsi v479 c0_i32_238
  let c0_i32_240 : BitVec 32 := 0#32
  let v482 : BitVec 1 := Scalar.cmpi .sgt v480 c0_i32_240
  let v483 : BitVec 32 := Scalar.extui v482
  let c0_i32_241 : BitVec 32 := 0#32
  let v484 : BitVec 1 := Scalar.cmpi .slt v480 c0_i32_241
  let v485 : BitVec 32 := Scalar.extui v484
  let v486 : BitVec 32 := Scalar.subi v483 v485
  let c8_i32_239 : BitVec 32 := 8#32
  let c0_i32_242 : BitVec 32 := 0#32
  let v487 : BitVec 1 := Scalar.cmpi .sgt c8_i32_239 c0_i32_242
  let v488 : BitVec 32 := Scalar.extui v487
  let c0_i32_243 : BitVec 32 := 0#32
  let v489 : BitVec 1 := Scalar.cmpi .slt c8_i32_239 c0_i32_243
  let v490 : BitVec 32 := Scalar.extui v489
  let v491 : BitVec 32 := Scalar.subi v488 v490
  let v492 : BitVec 1 := Scalar.cmpi .ne v486 v491
  let v493 : BitVec 32 := Scalar.remsi v480 c8_i32_239
  let c0_i32_244 : BitVec 32 := 0#32
  let v494 : BitVec 1 := Scalar.cmpi .ne v493 c0_i32_244
  let v495 : BitVec 1 := Scalar.andi v492 v494
  let v481 : BitVec 32 := Scalar.divsi v480 c8_i32_239
  let c1_i32_245 : BitVec 32 := 1#32
  let v496 : BitVec 32 := Scalar.subi v481 c1_i32_245
  let v497 : BitVec 32 := Scalar.select v495 v496 v481
  let c8_i32_250 : BitVec 32 := 8#32
  let v505 : BitVec 32 := Scalar.muli v497 c8_i32_250
  let v506 : BitVec 32 := Scalar.addi v463 v505
  let c1_i32_252 : BitVec 32 := 1#32
  let arg19 : BitVec 32 := Scf.iv v506 c1_i32_252 k0_t47
  let c1_i32_454 : BitVec 32 := 1#32
  let v925 : BitVec 32 := Scalar.addi arg19 c1_i32_454
  let v926 : Index := Scalar.indexCast v925
  let c16_455 : Index := 16#32
  ![v926.toNat, 16]
@[reducible] def k0_t48_loop (v52 : BitVec 32) (v105 : BitVec 32) (v158 : BitVec 32) (v211 : BitVec 32) (v264 : BitVec 32) (v317 : BitVec 32) (v370 : BitVec 32) (v423 : BitVec 32) (v476 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v479 : BitVec 32 := Scalar.subi v478 v463
  let c0_i32_238 : BitVec 32 := 0#32
  let v480 : BitVec 32 := Scalar.maxsi v479 c0_i32_238
  let c0_i32_240 : BitVec 32 := 0#32
  let v482 : BitVec 1 := Scalar.cmpi .sgt v480 c0_i32_240
  let v483 : BitVec 32 := Scalar.extui v482
  let c0_i32_241 : BitVec 32 := 0#32
  let v484 : BitVec 1 := Scalar.cmpi .slt v480 c0_i32_241
  let v485 : BitVec 32 := Scalar.extui v484
  let v486 : BitVec 32 := Scalar.subi v483 v485
  let c8_i32_239 : BitVec 32 := 8#32
  let c0_i32_242 : BitVec 32 := 0#32
  let v487 : BitVec 1 := Scalar.cmpi .sgt c8_i32_239 c0_i32_242
  let v488 : BitVec 32 := Scalar.extui v487
  let c0_i32_243 : BitVec 32 := 0#32
  let v489 : BitVec 1 := Scalar.cmpi .slt c8_i32_239 c0_i32_243
  let v490 : BitVec 32 := Scalar.extui v489
  let v491 : BitVec 32 := Scalar.subi v488 v490
  let v492 : BitVec 1 := Scalar.cmpi .ne v486 v491
  let v493 : BitVec 32 := Scalar.remsi v480 c8_i32_239
  let c0_i32_244 : BitVec 32 := 0#32
  let v494 : BitVec 1 := Scalar.cmpi .ne v493 c0_i32_244
  let v495 : BitVec 1 := Scalar.andi v492 v494
  let v481 : BitVec 32 := Scalar.divsi v480 c8_i32_239
  let c1_i32_245 : BitVec 32 := 1#32
  let v496 : BitVec 32 := Scalar.subi v481 c1_i32_245
  let v497 : BitVec 32 := Scalar.select v495 v496 v481
  let c8_i32_250 : BitVec 32 := 8#32
  let v505 : BitVec 32 := Scalar.muli v497 c8_i32_250
  let v506 : BitVec 32 := Scalar.addi v463 v505
  let v507 : BitVec 32 := Scalar.subi v478 v506
  let c1_i32_251 : BitVec 32 := 1#32
  let v509 : BitVec 32 := Scalar.divsi v507 c1_i32_251
  let v510 : BitVec 32 := Scalar.muli v509 c1_i32_251
  let v511 : BitVec 32 := Scalar.addi v506 v510
  let v508 : BitVec 32 := Scalar.addi v506 v507
  let c1_i32_253 : BitVec 32 := 1#32
  ⟨v511, v508, c1_i32_253⟩
def k0_off488 (v52 : BitVec 32) (v105 : BitVec 32) (v158 : BitVec 32) (v211 : BitVec 32) (v264 : BitVec 32) (v317 : BitVec 32) (v370 : BitVec 32) (v423 : BitVec 32) (v476 : BitVec 32) (k0_t48 : Fin (k0_t48_loop v52 v105 v158 v211 v264 v317 v370 v423 v476).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v479 : BitVec 32 := Scalar.subi v478 v463
  let c0_i32_238 : BitVec 32 := 0#32
  let v480 : BitVec 32 := Scalar.maxsi v479 c0_i32_238
  let c0_i32_240 : BitVec 32 := 0#32
  let v482 : BitVec 1 := Scalar.cmpi .sgt v480 c0_i32_240
  let v483 : BitVec 32 := Scalar.extui v482
  let c0_i32_241 : BitVec 32 := 0#32
  let v484 : BitVec 1 := Scalar.cmpi .slt v480 c0_i32_241
  let v485 : BitVec 32 := Scalar.extui v484
  let v486 : BitVec 32 := Scalar.subi v483 v485
  let c8_i32_239 : BitVec 32 := 8#32
  let c0_i32_242 : BitVec 32 := 0#32
  let v487 : BitVec 1 := Scalar.cmpi .sgt c8_i32_239 c0_i32_242
  let v488 : BitVec 32 := Scalar.extui v487
  let c0_i32_243 : BitVec 32 := 0#32
  let v489 : BitVec 1 := Scalar.cmpi .slt c8_i32_239 c0_i32_243
  let v490 : BitVec 32 := Scalar.extui v489
  let v491 : BitVec 32 := Scalar.subi v488 v490
  let v492 : BitVec 1 := Scalar.cmpi .ne v486 v491
  let v493 : BitVec 32 := Scalar.remsi v480 c8_i32_239
  let c0_i32_244 : BitVec 32 := 0#32
  let v494 : BitVec 1 := Scalar.cmpi .ne v493 c0_i32_244
  let v495 : BitVec 1 := Scalar.andi v492 v494
  let v481 : BitVec 32 := Scalar.divsi v480 c8_i32_239
  let c1_i32_245 : BitVec 32 := 1#32
  let v496 : BitVec 32 := Scalar.subi v481 c1_i32_245
  let v497 : BitVec 32 := Scalar.select v495 v496 v481
  let c8_i32_250 : BitVec 32 := 8#32
  let v505 : BitVec 32 := Scalar.muli v497 c8_i32_250
  let v506 : BitVec 32 := Scalar.addi v463 v505
  let v507 : BitVec 32 := Scalar.subi v478 v506
  let c1_i32_251 : BitVec 32 := 1#32
  let v509 : BitVec 32 := Scalar.divsi v507 c1_i32_251
  let v510 : BitVec 32 := Scalar.muli v509 c1_i32_251
  let v511 : BitVec 32 := Scalar.addi v506 v510
  let c1_i32_253 : BitVec 32 := 1#32
  let arg19 : BitVec 32 := Scf.iv v511 c1_i32_253 k0_t48
  let c1_i32_444 : BitVec 32 := 1#32
  let v893 : BitVec 32 := Scalar.addi arg19 c1_i32_444
  let v894 : Index := Scalar.indexCast v893
  ![v894.toNat]
def k0_off489 (v897 : BitVec 32) : Fin 2 → Nat :=
  let c2048_i32_445 : BitVec 32 := 2048#32
  let v898 : BitVec 32 := Scalar.subi v897 c2048_i32_445
  let v912 : Index := Scalar.indexCast v898
  let c0_450 : Index := 0#32
  ![v912.toNat, 0]

def k0_off490 (v897 : BitVec 32) : Fin 2 → Nat :=
  let c2048_i32_445 : BitVec 32 := 2048#32
  let v898 : BitVec 32 := Scalar.subi v897 c2048_i32_445
  let v915 : Index := Scalar.indexCast v898
  let c16_451 : Index := 16#32
  ![v915.toNat, 16]

def k0_chk172 (v897 : BitVec 32) : Prop :=
  (∀ a, (k0_off489 v897) a + S1x16.size a ≤ S257x32.size a) ∧
  (∀ a, (k0_off490 v897) a + S1x16.size a ≤ S257x32.size a)
theorem k0_off489_inb : ∀ (v897 : BitVec 32) (k0_hw172 : k0_chk172 v897), ∀ a, (k0_off489 v897) a + S1x16.size a ≤ S257x32.size a := fun v897 k0_hw172 => k0_hw172.1
theorem k0_off490_inb : ∀ (v897 : BitVec 32) (k0_hw172 : k0_chk172 v897), ∀ a, (k0_off490 v897) a + S1x16.size a ≤ S257x32.size a := fun v897 k0_hw172 => k0_hw172.2

def k0_off491 (v52 : BitVec 32) (v105 : BitVec 32) (v158 : BitVec 32) (v211 : BitVec 32) (v264 : BitVec 32) (v317 : BitVec 32) (v370 : BitVec 32) (v423 : BitVec 32) (v476 : BitVec 32) (k0_t48 : Fin (k0_t48_loop v52 v105 v158 v211 v264 v317 v370 v423 v476).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v479 : BitVec 32 := Scalar.subi v478 v463
  let c0_i32_238 : BitVec 32 := 0#32
  let v480 : BitVec 32 := Scalar.maxsi v479 c0_i32_238
  let c0_i32_240 : BitVec 32 := 0#32
  let v482 : BitVec 1 := Scalar.cmpi .sgt v480 c0_i32_240
  let v483 : BitVec 32 := Scalar.extui v482
  let c0_i32_241 : BitVec 32 := 0#32
  let v484 : BitVec 1 := Scalar.cmpi .slt v480 c0_i32_241
  let v485 : BitVec 32 := Scalar.extui v484
  let v486 : BitVec 32 := Scalar.subi v483 v485
  let c8_i32_239 : BitVec 32 := 8#32
  let c0_i32_242 : BitVec 32 := 0#32
  let v487 : BitVec 1 := Scalar.cmpi .sgt c8_i32_239 c0_i32_242
  let v488 : BitVec 32 := Scalar.extui v487
  let c0_i32_243 : BitVec 32 := 0#32
  let v489 : BitVec 1 := Scalar.cmpi .slt c8_i32_239 c0_i32_243
  let v490 : BitVec 32 := Scalar.extui v489
  let v491 : BitVec 32 := Scalar.subi v488 v490
  let v492 : BitVec 1 := Scalar.cmpi .ne v486 v491
  let v493 : BitVec 32 := Scalar.remsi v480 c8_i32_239
  let c0_i32_244 : BitVec 32 := 0#32
  let v494 : BitVec 1 := Scalar.cmpi .ne v493 c0_i32_244
  let v495 : BitVec 1 := Scalar.andi v492 v494
  let v481 : BitVec 32 := Scalar.divsi v480 c8_i32_239
  let c1_i32_245 : BitVec 32 := 1#32
  let v496 : BitVec 32 := Scalar.subi v481 c1_i32_245
  let v497 : BitVec 32 := Scalar.select v495 v496 v481
  let c8_i32_250 : BitVec 32 := 8#32
  let v505 : BitVec 32 := Scalar.muli v497 c8_i32_250
  let v506 : BitVec 32 := Scalar.addi v463 v505
  let v507 : BitVec 32 := Scalar.subi v478 v506
  let c1_i32_251 : BitVec 32 := 1#32
  let v509 : BitVec 32 := Scalar.divsi v507 c1_i32_251
  let v510 : BitVec 32 := Scalar.muli v509 c1_i32_251
  let v511 : BitVec 32 := Scalar.addi v506 v510
  let c1_i32_253 : BitVec 32 := 1#32
  let arg19 : BitVec 32 := Scf.iv v511 c1_i32_253 k0_t48
  let c1_i32_452 : BitVec 32 := 1#32
  let v920 : BitVec 32 := Scalar.addi arg19 c1_i32_452
  let v921 : Index := Scalar.indexCast v920
  let c0_453 : Index := 0#32
  ![v921.toNat, 0]
def k0_off492 (v52 : BitVec 32) (v105 : BitVec 32) (v158 : BitVec 32) (v211 : BitVec 32) (v264 : BitVec 32) (v317 : BitVec 32) (v370 : BitVec 32) (v423 : BitVec 32) (v476 : BitVec 32) (k0_t48 : Fin (k0_t48_loop v52 v105 v158 v211 v264 v317 v370 v423 v476).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v479 : BitVec 32 := Scalar.subi v478 v463
  let c0_i32_238 : BitVec 32 := 0#32
  let v480 : BitVec 32 := Scalar.maxsi v479 c0_i32_238
  let c0_i32_240 : BitVec 32 := 0#32
  let v482 : BitVec 1 := Scalar.cmpi .sgt v480 c0_i32_240
  let v483 : BitVec 32 := Scalar.extui v482
  let c0_i32_241 : BitVec 32 := 0#32
  let v484 : BitVec 1 := Scalar.cmpi .slt v480 c0_i32_241
  let v485 : BitVec 32 := Scalar.extui v484
  let v486 : BitVec 32 := Scalar.subi v483 v485
  let c8_i32_239 : BitVec 32 := 8#32
  let c0_i32_242 : BitVec 32 := 0#32
  let v487 : BitVec 1 := Scalar.cmpi .sgt c8_i32_239 c0_i32_242
  let v488 : BitVec 32 := Scalar.extui v487
  let c0_i32_243 : BitVec 32 := 0#32
  let v489 : BitVec 1 := Scalar.cmpi .slt c8_i32_239 c0_i32_243
  let v490 : BitVec 32 := Scalar.extui v489
  let v491 : BitVec 32 := Scalar.subi v488 v490
  let v492 : BitVec 1 := Scalar.cmpi .ne v486 v491
  let v493 : BitVec 32 := Scalar.remsi v480 c8_i32_239
  let c0_i32_244 : BitVec 32 := 0#32
  let v494 : BitVec 1 := Scalar.cmpi .ne v493 c0_i32_244
  let v495 : BitVec 1 := Scalar.andi v492 v494
  let v481 : BitVec 32 := Scalar.divsi v480 c8_i32_239
  let c1_i32_245 : BitVec 32 := 1#32
  let v496 : BitVec 32 := Scalar.subi v481 c1_i32_245
  let v497 : BitVec 32 := Scalar.select v495 v496 v481
  let c8_i32_250 : BitVec 32 := 8#32
  let v505 : BitVec 32 := Scalar.muli v497 c8_i32_250
  let v506 : BitVec 32 := Scalar.addi v463 v505
  let v507 : BitVec 32 := Scalar.subi v478 v506
  let c1_i32_251 : BitVec 32 := 1#32
  let v509 : BitVec 32 := Scalar.divsi v507 c1_i32_251
  let v510 : BitVec 32 := Scalar.muli v509 c1_i32_251
  let v511 : BitVec 32 := Scalar.addi v506 v510
  let c1_i32_253 : BitVec 32 := 1#32
  let arg19 : BitVec 32 := Scf.iv v511 c1_i32_253 k0_t48
  let c1_i32_454 : BitVec 32 := 1#32
  let v925 : BitVec 32 := Scalar.addi arg19 c1_i32_454
  let v926 : Index := Scalar.indexCast v925
  let c16_455 : Index := 16#32
  ![v926.toNat, 16]

def k0_chk154 (v52 : BitVec 32) (v105 : BitVec 32) (v158 : BitVec 32) (v211 : BitVec 32) (v264 : BitVec 32) (v317 : BitVec 32) (v370 : BitVec 32) (v423 : BitVec 32) (v476 : BitVec 32) : Prop :=
  ((k0_t45_loop v52 v105 v158 v211 v264 v317 v370 v423 v476).OK) ∧
  (∀ k0_t45 : Fin (k0_t45_loop v52 v105 v158 v211 v264 v317 v370 v423 v476).trips, ∀ (r : Fin 2), ∀ a, (k0_off445 v52 v105 v158 v211 v264 v317 v370 v423 v476 k0_t45 (BitVec.ofNat 32 (1 + r.val))) a + S16.size a ≤ S4112.size a) ∧
  (∀ k0_t45 : Fin (k0_t45_loop v52 v105 v158 v211 v264 v317 v370 v423 v476).trips, ∀ (r : Fin 8), ∀ a, (k0_off462 v52 v105 v158 v211 v264 v317 v370 v423 v476 k0_t45 (BitVec.ofNat 32 r.val)) a + S1x16.size a ≤ S2050x32.size a) ∧
  (∀ k0_t45 : Fin (k0_t45_loop v52 v105 v158 v211 v264 v317 v370 v423 v476).trips, ∀ (r : Fin 8), ∀ a, (k0_off463 v52 v105 v158 v211 v264 v317 v370 v423 v476 k0_t45 (BitVec.ofNat 32 r.val)) a + S1x16.size a ≤ S2050x32.size a) ∧
  ((k0_t46_loop v52 v105 v158 v211 v264 v317 v370 v423 v476).OK) ∧
  (∀ k0_t46 : Fin (k0_t46_loop v52 v105 v158 v211 v264 v317 v370 v423 v476).trips, ∀ (r : Fin 2), ∀ a, (k0_off464 v52 v105 v158 v211 v264 v317 v370 v423 v476 k0_t46 (BitVec.ofNat 32 (1 + r.val))) a + S16.size a ≤ S4112.size a) ∧
  (∀ k0_t46 : Fin (k0_t46_loop v52 v105 v158 v211 v264 v317 v370 v423 v476).trips, ∀ (r : Fin 8), ∀ a, (k0_off481 v52 v105 v158 v211 v264 v317 v370 v423 v476 k0_t46 (BitVec.ofNat 32 r.val)) a + S1x16.size a ≤ S2050x32.size a) ∧
  (∀ k0_t46 : Fin (k0_t46_loop v52 v105 v158 v211 v264 v317 v370 v423 v476).trips, ∀ (r : Fin 8), ∀ a, (k0_off482 v52 v105 v158 v211 v264 v317 v370 v423 v476 k0_t46 (BitVec.ofNat 32 r.val)) a + S1x16.size a ≤ S2050x32.size a) ∧
  ((k0_t47_loop v52 v105 v158 v211 v264 v317 v370 v423 v476).OK) ∧
  (∀ k0_t47 : Fin (k0_t47_loop v52 v105 v158 v211 v264 v317 v370 v423 v476).trips, ∀ a, (k0_off483 v52 v105 v158 v211 v264 v317 v370 v423 v476 k0_t47) a + S16.size a ≤ S4112.size a) ∧
  (∀ k0_t47 : Fin (k0_t47_loop v52 v105 v158 v211 v264 v317 v370 v423 v476).trips, ∀ a, (k0_off486 v52 v105 v158 v211 v264 v317 v370 v423 v476 k0_t47) a + S1x16.size a ≤ S2050x32.size a) ∧
  (∀ k0_t47 : Fin (k0_t47_loop v52 v105 v158 v211 v264 v317 v370 v423 v476).trips, ∀ a, (k0_off487 v52 v105 v158 v211 v264 v317 v370 v423 v476 k0_t47) a + S1x16.size a ≤ S2050x32.size a) ∧
  ((k0_t48_loop v52 v105 v158 v211 v264 v317 v370 v423 v476).OK) ∧
  (∀ k0_t48 : Fin (k0_t48_loop v52 v105 v158 v211 v264 v317 v370 v423 v476).trips, ∀ a, (k0_off488 v52 v105 v158 v211 v264 v317 v370 v423 v476 k0_t48) a + S16.size a ≤ S4112.size a) ∧
  (∀ k0_t48 : Fin (k0_t48_loop v52 v105 v158 v211 v264 v317 v370 v423 v476).trips, ∀ a, (k0_off491 v52 v105 v158 v211 v264 v317 v370 v423 v476 k0_t48) a + S1x16.size a ≤ S2050x32.size a) ∧
  (∀ k0_t48 : Fin (k0_t48_loop v52 v105 v158 v211 v264 v317 v370 v423 v476).trips, ∀ a, (k0_off492 v52 v105 v158 v211 v264 v317 v370 v423 v476 k0_t48) a + S1x16.size a ≤ S2050x32.size a)
theorem k0_t45_ok : ∀ (v52 : BitVec 32) (v105 : BitVec 32) (v158 : BitVec 32) (v211 : BitVec 32) (v264 : BitVec 32) (v317 : BitVec 32) (v370 : BitVec 32) (v423 : BitVec 32) (v476 : BitVec 32) (k0_hw154 : k0_chk154 v52 v105 v158 v211 v264 v317 v370 v423 v476), (k0_t45_loop v52 v105 v158 v211 v264 v317 v370 v423 v476).OK := fun v52 v105 v158 v211 v264 v317 v370 v423 v476 k0_hw154 => k0_hw154.1
theorem k0_off445_inb : ∀ (v52 : BitVec 32) (v105 : BitVec 32) (v158 : BitVec 32) (v211 : BitVec 32) (v264 : BitVec 32) (v317 : BitVec 32) (v370 : BitVec 32) (v423 : BitVec 32) (v476 : BitVec 32) (k0_hw154 : k0_chk154 v52 v105 v158 v211 v264 v317 v370 v423 v476) (k0_t45 : Fin (k0_t45_loop v52 v105 v158 v211 v264 v317 v370 v423 v476).trips), ∀ (r : Fin 2), ∀ a, (k0_off445 v52 v105 v158 v211 v264 v317 v370 v423 v476 k0_t45 (BitVec.ofNat 32 (1 + r.val))) a + S16.size a ≤ S4112.size a := fun v52 v105 v158 v211 v264 v317 v370 v423 v476 k0_hw154 k0_t45 r => k0_hw154.2.1 k0_t45 r
theorem k0_off462_inb : ∀ (v52 : BitVec 32) (v105 : BitVec 32) (v158 : BitVec 32) (v211 : BitVec 32) (v264 : BitVec 32) (v317 : BitVec 32) (v370 : BitVec 32) (v423 : BitVec 32) (v476 : BitVec 32) (k0_hw154 : k0_chk154 v52 v105 v158 v211 v264 v317 v370 v423 v476) (k0_t45 : Fin (k0_t45_loop v52 v105 v158 v211 v264 v317 v370 v423 v476).trips), ∀ (r : Fin 8), ∀ a, (k0_off462 v52 v105 v158 v211 v264 v317 v370 v423 v476 k0_t45 (BitVec.ofNat 32 r.val)) a + S1x16.size a ≤ S2050x32.size a := fun v52 v105 v158 v211 v264 v317 v370 v423 v476 k0_hw154 k0_t45 r => k0_hw154.2.2.1 k0_t45 r
theorem k0_off463_inb : ∀ (v52 : BitVec 32) (v105 : BitVec 32) (v158 : BitVec 32) (v211 : BitVec 32) (v264 : BitVec 32) (v317 : BitVec 32) (v370 : BitVec 32) (v423 : BitVec 32) (v476 : BitVec 32) (k0_hw154 : k0_chk154 v52 v105 v158 v211 v264 v317 v370 v423 v476) (k0_t45 : Fin (k0_t45_loop v52 v105 v158 v211 v264 v317 v370 v423 v476).trips), ∀ (r : Fin 8), ∀ a, (k0_off463 v52 v105 v158 v211 v264 v317 v370 v423 v476 k0_t45 (BitVec.ofNat 32 r.val)) a + S1x16.size a ≤ S2050x32.size a := fun v52 v105 v158 v211 v264 v317 v370 v423 v476 k0_hw154 k0_t45 r => k0_hw154.2.2.2.1 k0_t45 r
theorem k0_t46_ok : ∀ (v52 : BitVec 32) (v105 : BitVec 32) (v158 : BitVec 32) (v211 : BitVec 32) (v264 : BitVec 32) (v317 : BitVec 32) (v370 : BitVec 32) (v423 : BitVec 32) (v476 : BitVec 32) (k0_hw154 : k0_chk154 v52 v105 v158 v211 v264 v317 v370 v423 v476), (k0_t46_loop v52 v105 v158 v211 v264 v317 v370 v423 v476).OK := fun v52 v105 v158 v211 v264 v317 v370 v423 v476 k0_hw154 => k0_hw154.2.2.2.2.1
theorem k0_off464_inb : ∀ (v52 : BitVec 32) (v105 : BitVec 32) (v158 : BitVec 32) (v211 : BitVec 32) (v264 : BitVec 32) (v317 : BitVec 32) (v370 : BitVec 32) (v423 : BitVec 32) (v476 : BitVec 32) (k0_hw154 : k0_chk154 v52 v105 v158 v211 v264 v317 v370 v423 v476) (k0_t46 : Fin (k0_t46_loop v52 v105 v158 v211 v264 v317 v370 v423 v476).trips), ∀ (r : Fin 2), ∀ a, (k0_off464 v52 v105 v158 v211 v264 v317 v370 v423 v476 k0_t46 (BitVec.ofNat 32 (1 + r.val))) a + S16.size a ≤ S4112.size a := fun v52 v105 v158 v211 v264 v317 v370 v423 v476 k0_hw154 k0_t46 r => k0_hw154.2.2.2.2.2.1 k0_t46 r
theorem k0_off481_inb : ∀ (v52 : BitVec 32) (v105 : BitVec 32) (v158 : BitVec 32) (v211 : BitVec 32) (v264 : BitVec 32) (v317 : BitVec 32) (v370 : BitVec 32) (v423 : BitVec 32) (v476 : BitVec 32) (k0_hw154 : k0_chk154 v52 v105 v158 v211 v264 v317 v370 v423 v476) (k0_t46 : Fin (k0_t46_loop v52 v105 v158 v211 v264 v317 v370 v423 v476).trips), ∀ (r : Fin 8), ∀ a, (k0_off481 v52 v105 v158 v211 v264 v317 v370 v423 v476 k0_t46 (BitVec.ofNat 32 r.val)) a + S1x16.size a ≤ S2050x32.size a := fun v52 v105 v158 v211 v264 v317 v370 v423 v476 k0_hw154 k0_t46 r => k0_hw154.2.2.2.2.2.2.1 k0_t46 r
theorem k0_off482_inb : ∀ (v52 : BitVec 32) (v105 : BitVec 32) (v158 : BitVec 32) (v211 : BitVec 32) (v264 : BitVec 32) (v317 : BitVec 32) (v370 : BitVec 32) (v423 : BitVec 32) (v476 : BitVec 32) (k0_hw154 : k0_chk154 v52 v105 v158 v211 v264 v317 v370 v423 v476) (k0_t46 : Fin (k0_t46_loop v52 v105 v158 v211 v264 v317 v370 v423 v476).trips), ∀ (r : Fin 8), ∀ a, (k0_off482 v52 v105 v158 v211 v264 v317 v370 v423 v476 k0_t46 (BitVec.ofNat 32 r.val)) a + S1x16.size a ≤ S2050x32.size a := fun v52 v105 v158 v211 v264 v317 v370 v423 v476 k0_hw154 k0_t46 r => k0_hw154.2.2.2.2.2.2.2.1 k0_t46 r
theorem k0_t47_ok : ∀ (v52 : BitVec 32) (v105 : BitVec 32) (v158 : BitVec 32) (v211 : BitVec 32) (v264 : BitVec 32) (v317 : BitVec 32) (v370 : BitVec 32) (v423 : BitVec 32) (v476 : BitVec 32) (k0_hw154 : k0_chk154 v52 v105 v158 v211 v264 v317 v370 v423 v476), (k0_t47_loop v52 v105 v158 v211 v264 v317 v370 v423 v476).OK := fun v52 v105 v158 v211 v264 v317 v370 v423 v476 k0_hw154 => k0_hw154.2.2.2.2.2.2.2.2.1
theorem k0_off483_inb : ∀ (v52 : BitVec 32) (v105 : BitVec 32) (v158 : BitVec 32) (v211 : BitVec 32) (v264 : BitVec 32) (v317 : BitVec 32) (v370 : BitVec 32) (v423 : BitVec 32) (v476 : BitVec 32) (k0_hw154 : k0_chk154 v52 v105 v158 v211 v264 v317 v370 v423 v476) (k0_t47 : Fin (k0_t47_loop v52 v105 v158 v211 v264 v317 v370 v423 v476).trips), ∀ a, (k0_off483 v52 v105 v158 v211 v264 v317 v370 v423 v476 k0_t47) a + S16.size a ≤ S4112.size a := fun v52 v105 v158 v211 v264 v317 v370 v423 v476 k0_hw154 k0_t47 => k0_hw154.2.2.2.2.2.2.2.2.2.1 k0_t47
theorem k0_off486_inb : ∀ (v52 : BitVec 32) (v105 : BitVec 32) (v158 : BitVec 32) (v211 : BitVec 32) (v264 : BitVec 32) (v317 : BitVec 32) (v370 : BitVec 32) (v423 : BitVec 32) (v476 : BitVec 32) (k0_hw154 : k0_chk154 v52 v105 v158 v211 v264 v317 v370 v423 v476) (k0_t47 : Fin (k0_t47_loop v52 v105 v158 v211 v264 v317 v370 v423 v476).trips), ∀ a, (k0_off486 v52 v105 v158 v211 v264 v317 v370 v423 v476 k0_t47) a + S1x16.size a ≤ S2050x32.size a := fun v52 v105 v158 v211 v264 v317 v370 v423 v476 k0_hw154 k0_t47 => k0_hw154.2.2.2.2.2.2.2.2.2.2.1 k0_t47
theorem k0_off487_inb : ∀ (v52 : BitVec 32) (v105 : BitVec 32) (v158 : BitVec 32) (v211 : BitVec 32) (v264 : BitVec 32) (v317 : BitVec 32) (v370 : BitVec 32) (v423 : BitVec 32) (v476 : BitVec 32) (k0_hw154 : k0_chk154 v52 v105 v158 v211 v264 v317 v370 v423 v476) (k0_t47 : Fin (k0_t47_loop v52 v105 v158 v211 v264 v317 v370 v423 v476).trips), ∀ a, (k0_off487 v52 v105 v158 v211 v264 v317 v370 v423 v476 k0_t47) a + S1x16.size a ≤ S2050x32.size a := fun v52 v105 v158 v211 v264 v317 v370 v423 v476 k0_hw154 k0_t47 => k0_hw154.2.2.2.2.2.2.2.2.2.2.2.1 k0_t47
theorem k0_t48_ok : ∀ (v52 : BitVec 32) (v105 : BitVec 32) (v158 : BitVec 32) (v211 : BitVec 32) (v264 : BitVec 32) (v317 : BitVec 32) (v370 : BitVec 32) (v423 : BitVec 32) (v476 : BitVec 32) (k0_hw154 : k0_chk154 v52 v105 v158 v211 v264 v317 v370 v423 v476), (k0_t48_loop v52 v105 v158 v211 v264 v317 v370 v423 v476).OK := fun v52 v105 v158 v211 v264 v317 v370 v423 v476 k0_hw154 => k0_hw154.2.2.2.2.2.2.2.2.2.2.2.2.1
theorem k0_off488_inb : ∀ (v52 : BitVec 32) (v105 : BitVec 32) (v158 : BitVec 32) (v211 : BitVec 32) (v264 : BitVec 32) (v317 : BitVec 32) (v370 : BitVec 32) (v423 : BitVec 32) (v476 : BitVec 32) (k0_hw154 : k0_chk154 v52 v105 v158 v211 v264 v317 v370 v423 v476) (k0_t48 : Fin (k0_t48_loop v52 v105 v158 v211 v264 v317 v370 v423 v476).trips), ∀ a, (k0_off488 v52 v105 v158 v211 v264 v317 v370 v423 v476 k0_t48) a + S16.size a ≤ S4112.size a := fun v52 v105 v158 v211 v264 v317 v370 v423 v476 k0_hw154 k0_t48 => k0_hw154.2.2.2.2.2.2.2.2.2.2.2.2.2.1 k0_t48
theorem k0_off491_inb : ∀ (v52 : BitVec 32) (v105 : BitVec 32) (v158 : BitVec 32) (v211 : BitVec 32) (v264 : BitVec 32) (v317 : BitVec 32) (v370 : BitVec 32) (v423 : BitVec 32) (v476 : BitVec 32) (k0_hw154 : k0_chk154 v52 v105 v158 v211 v264 v317 v370 v423 v476) (k0_t48 : Fin (k0_t48_loop v52 v105 v158 v211 v264 v317 v370 v423 v476).trips), ∀ a, (k0_off491 v52 v105 v158 v211 v264 v317 v370 v423 v476 k0_t48) a + S1x16.size a ≤ S2050x32.size a := fun v52 v105 v158 v211 v264 v317 v370 v423 v476 k0_hw154 k0_t48 => k0_hw154.2.2.2.2.2.2.2.2.2.2.2.2.2.2.1 k0_t48
theorem k0_off492_inb : ∀ (v52 : BitVec 32) (v105 : BitVec 32) (v158 : BitVec 32) (v211 : BitVec 32) (v264 : BitVec 32) (v317 : BitVec 32) (v370 : BitVec 32) (v423 : BitVec 32) (v476 : BitVec 32) (k0_hw154 : k0_chk154 v52 v105 v158 v211 v264 v317 v370 v423 v476) (k0_t48 : Fin (k0_t48_loop v52 v105 v158 v211 v264 v317 v370 v423 v476).trips), ∀ a, (k0_off492 v52 v105 v158 v211 v264 v317 v370 v423 v476 k0_t48) a + S1x16.size a ≤ S2050x32.size a := fun v52 v105 v158 v211 v264 v317 v370 v423 v476 k0_hw154 k0_t48 => k0_hw154.2.2.2.2.2.2.2.2.2.2.2.2.2.2.2 k0_t48

def k0_off493 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c2304_i32_254 : BitVec 32 := 2304#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 2304, v3.toNat]
@[reducible] def k0_t49_loop : Scf.Loop 32 :=
  let c0_i32_256 : BitVec 32 := 0#32
  let c16_i32_257 : BitVec 32 := 16#32
  let v521 : BitVec 32 := Scalar.addi c0_i32_256 c16_i32_257
  let c1_i32_258 : BitVec 32 := 1#32
  ⟨c0_i32_256, v521, c1_i32_258⟩
def k0_off494 (k0_t49 : Fin k0_t49_loop.trips) (c0_i32_445 : BitVec 32) : Fin 2 → Nat :=
  let c0_i32_256 : BitVec 32 := 0#32
  let c1_i32_258 : BitVec 32 := 1#32
  let arg19 : BitVec 32 := Scf.iv c0_i32_256 c1_i32_258 k0_t49
  let c16_i32_444 : BitVec 32 := 16#32
  let v893 : BitVec 32 := Scalar.muli arg19 c16_i32_444
  let v894 : BitVec 32 := Scalar.addi v893 c0_i32_445
  let v895 : Index := Scalar.indexCast v894
  let c0_446 : Index := 0#32
  ![v895.toNat, 0]
def k0_off495 (k0_t49 : Fin k0_t49_loop.trips) (c0_i32_447 : BitVec 32) : Fin 2 → Nat :=
  let c0_i32_256 : BitVec 32 := 0#32
  let c1_i32_258 : BitVec 32 := 1#32
  let arg19 : BitVec 32 := Scf.iv c0_i32_256 c1_i32_258 k0_t49
  let c16_i32_444 : BitVec 32 := 16#32
  let v893 : BitVec 32 := Scalar.muli arg19 c16_i32_444
  let v898 : BitVec 32 := Scalar.addi v893 c0_i32_447
  let v899 : Index := Scalar.indexCast v898
  let c16_448 : Index := 16#32
  ![v899.toNat, 16]
def k0_off496 (k0_t49 : Fin k0_t49_loop.trips) (c0_i32_449 : BitVec 32) : Fin 2 → Nat :=
  let c0_i32_256 : BitVec 32 := 0#32
  let c1_i32_258 : BitVec 32 := 1#32
  let arg19 : BitVec 32 := Scf.iv c0_i32_256 c1_i32_258 k0_t49
  let c16_i32_444 : BitVec 32 := 16#32
  let v893 : BitVec 32 := Scalar.muli arg19 c16_i32_444
  let v902 : BitVec 32 := Scalar.addi v893 c0_i32_449
  let c1_i32_450 : BitVec 32 := 1#32
  let v903 : BitVec 32 := Scalar.addi v902 c1_i32_450
  let v904 : Index := Scalar.indexCast v903
  let c0_451 : Index := 0#32
  ![v904.toNat, 0]
def k0_off497 (k0_t49 : Fin k0_t49_loop.trips) (c0_i32_452 : BitVec 32) : Fin 2 → Nat :=
  let c0_i32_256 : BitVec 32 := 0#32
  let c1_i32_258 : BitVec 32 := 1#32
  let arg19 : BitVec 32 := Scf.iv c0_i32_256 c1_i32_258 k0_t49
  let c16_i32_444 : BitVec 32 := 16#32
  let v893 : BitVec 32 := Scalar.muli arg19 c16_i32_444
  let v906 : BitVec 32 := Scalar.addi v893 c0_i32_452
  let c1_i32_453 : BitVec 32 := 1#32
  let v907 : BitVec 32 := Scalar.addi v906 c1_i32_453
  let v908 : Index := Scalar.indexCast v907
  let c16_454 : Index := 16#32
  ![v908.toNat, 16]
def k0_off498 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c2816_i32 : BitVec 32 := 2816#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 2816, v3.toNat]
@[reducible] def k0_t50_loop (v52 : BitVec 32) (v105 : BitVec 32) (v158 : BitVec 32) (v211 : BitVec 32) (v264 : BitVec 32) (v317 : BitVec 32) (v370 : BitVec 32) (v423 : BitVec 32) (v476 : BitVec 32) (v529 : BitVec 32) : Scf.Loop 32 :=
  let c0_i32_271 : BitVec 32 := 0#32
  let c1_i32_261 : BitVec 32 := 1#32
  let v530 : BitVec 32 := Scalar.subi v529 c1_i32_261
  let c2049_i32_262 : BitVec 32 := 2049#32
  let v531 : BitVec 32 := Scalar.minsi v530 c2049_i32_262
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let v532 : BitVec 32 := Scalar.subi v531 v516
  let c0_i32_263 : BitVec 32 := 0#32
  let v533 : BitVec 32 := Scalar.maxsi v532 c0_i32_263
  let c0_i32_265 : BitVec 32 := 0#32
  let v535 : BitVec 1 := Scalar.cmpi .sgt v533 c0_i32_265
  let v536 : BitVec 32 := Scalar.extui v535
  let c0_i32_266 : BitVec 32 := 0#32
  let v537 : BitVec 1 := Scalar.cmpi .slt v533 c0_i32_266
  let v538 : BitVec 32 := Scalar.extui v537
  let v539 : BitVec 32 := Scalar.subi v536 v538
  let c8_i32_264 : BitVec 32 := 8#32
  let c0_i32_267 : BitVec 32 := 0#32
  let v540 : BitVec 1 := Scalar.cmpi .sgt c8_i32_264 c0_i32_267
  let v541 : BitVec 32 := Scalar.extui v540
  let c0_i32_268 : BitVec 32 := 0#32
  let v542 : BitVec 1 := Scalar.cmpi .slt c8_i32_264 c0_i32_268
  let v543 : BitVec 32 := Scalar.extui v542
  let v544 : BitVec 32 := Scalar.subi v541 v543
  let v545 : BitVec 1 := Scalar.cmpi .ne v539 v544
  let v546 : BitVec 32 := Scalar.remsi v533 c8_i32_264
  let c0_i32_269 : BitVec 32 := 0#32
  let v547 : BitVec 1 := Scalar.cmpi .ne v546 c0_i32_269
  let v548 : BitVec 1 := Scalar.andi v545 v547
  let v534 : BitVec 32 := Scalar.divsi v533 c8_i32_264
  let c1_i32_270 : BitVec 32 := 1#32
  let v549 : BitVec 32 := Scalar.subi v534 c1_i32_270
  let v550 : BitVec 32 := Scalar.select v548 v549 v534
  let v551 : BitVec 32 := Scalar.subi v550 c0_i32_271
  let c1_i32_272 : BitVec 32 := 1#32
  let v553 : BitVec 32 := Scalar.divsi v551 c1_i32_272
  let v554 : BitVec 32 := Scalar.muli v553 c1_i32_272
  let v555 : BitVec 32 := Scalar.addi c0_i32_271 v554
  let c1_i32_273 : BitVec 32 := 1#32
  ⟨c0_i32_271, v555, c1_i32_273⟩

def k0_off499 (v52 : BitVec 32) (v105 : BitVec 32) (v158 : BitVec 32) (v211 : BitVec 32) (v264 : BitVec 32) (v317 : BitVec 32) (v370 : BitVec 32) (v423 : BitVec 32) (v476 : BitVec 32) (v529 : BitVec 32) (k0_t50 : Fin (k0_t50_loop v52 v105 v158 v211 v264 v317 v370 v423 v476 v529).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c0_i32_271 : BitVec 32 := 0#32
  let c1_i32_273 : BitVec 32 := 1#32
  let arg19 : BitVec 32 := Scf.iv c0_i32_271 c1_i32_273 k0_t50
  let c8_i32_444 : BitVec 32 := 8#32
  let v893 : BitVec 32 := Scalar.muli arg19 c8_i32_444
  let v894 : BitVec 32 := Scalar.addi v516 v893
  let v895 : BitVec 32 := Scalar.addi v894 c1_i32_445
  let v896 : Index := Scalar.indexCast v895
  ![v896.toNat]
def k0_off500 (v912 : BitVec 32) : Fin 2 → Nat :=
  let c2304_i32_451 : BitVec 32 := 2304#32
  let v913 : BitVec 32 := Scalar.subi v912 c2304_i32_451
  let v914 : Index := Scalar.indexCast v913
  let c0_452 : Index := 0#32
  ![v914.toNat, 0]

def k0_off501 (v912 : BitVec 32) : Fin 2 → Nat :=
  let c2304_i32_451 : BitVec 32 := 2304#32
  let v913 : BitVec 32 := Scalar.subi v912 c2304_i32_451
  let v917 : Index := Scalar.indexCast v913
  let c16_453 : Index := 16#32
  ![v917.toNat, 16]

def k0_chk174 (v912 : BitVec 32) : Prop :=
  (∀ a, (k0_off500 v912) a + S1x16.size a ≤ S257x32.size a) ∧
  (∀ a, (k0_off501 v912) a + S1x16.size a ≤ S257x32.size a)
theorem k0_off500_inb : ∀ (v912 : BitVec 32) (k0_hw174 : k0_chk174 v912), ∀ a, (k0_off500 v912) a + S1x16.size a ≤ S257x32.size a := fun v912 k0_hw174 => k0_hw174.1
theorem k0_off501_inb : ∀ (v912 : BitVec 32) (k0_hw174 : k0_chk174 v912), ∀ a, (k0_off501 v912) a + S1x16.size a ≤ S257x32.size a := fun v912 k0_hw174 => k0_hw174.2

def k0_off502 (v921 : BitVec 32) : Fin 2 → Nat :=
  let c2304_i32_454 : BitVec 32 := 2304#32
  let v922 : BitVec 32 := Scalar.subi v921 c2304_i32_454
  let v923 : Index := Scalar.indexCast v922
  let c0_455 : Index := 0#32
  ![v923.toNat, 0]

def k0_off503 (v921 : BitVec 32) : Fin 2 → Nat :=
  let c2304_i32_454 : BitVec 32 := 2304#32
  let v922 : BitVec 32 := Scalar.subi v921 c2304_i32_454
  let v926 : Index := Scalar.indexCast v922
  let c16_456 : Index := 16#32
  ![v926.toNat, 16]

def k0_chk175 (v921 : BitVec 32) : Prop :=
  (∀ a, (k0_off502 v921) a + S1x16.size a ≤ S257x32.size a) ∧
  (∀ a, (k0_off503 v921) a + S1x16.size a ≤ S257x32.size a)
theorem k0_off502_inb : ∀ (v921 : BitVec 32) (k0_hw175 : k0_chk175 v921), ∀ a, (k0_off502 v921) a + S1x16.size a ≤ S257x32.size a := fun v921 k0_hw175 => k0_hw175.1
theorem k0_off503_inb : ∀ (v921 : BitVec 32) (k0_hw175 : k0_chk175 v921), ∀ a, (k0_off503 v921) a + S1x16.size a ≤ S257x32.size a := fun v921 k0_hw175 => k0_hw175.2

def k0_off504 (v930 : BitVec 32) : Fin 2 → Nat :=
  let c2304_i32_457 : BitVec 32 := 2304#32
  let v931 : BitVec 32 := Scalar.subi v930 c2304_i32_457
  let v932 : Index := Scalar.indexCast v931
  let c0_458 : Index := 0#32
  ![v932.toNat, 0]

def k0_off505 (v930 : BitVec 32) : Fin 2 → Nat :=
  let c2304_i32_457 : BitVec 32 := 2304#32
  let v931 : BitVec 32 := Scalar.subi v930 c2304_i32_457
  let v935 : Index := Scalar.indexCast v931
  let c16_459 : Index := 16#32
  ![v935.toNat, 16]

def k0_chk176 (v930 : BitVec 32) : Prop :=
  (∀ a, (k0_off504 v930) a + S1x16.size a ≤ S257x32.size a) ∧
  (∀ a, (k0_off505 v930) a + S1x16.size a ≤ S257x32.size a)
theorem k0_off504_inb : ∀ (v930 : BitVec 32) (k0_hw176 : k0_chk176 v930), ∀ a, (k0_off504 v930) a + S1x16.size a ≤ S257x32.size a := fun v930 k0_hw176 => k0_hw176.1
theorem k0_off505_inb : ∀ (v930 : BitVec 32) (k0_hw176 : k0_chk176 v930), ∀ a, (k0_off505 v930) a + S1x16.size a ≤ S257x32.size a := fun v930 k0_hw176 => k0_hw176.2

def k0_off506 (v939 : BitVec 32) : Fin 2 → Nat :=
  let c2304_i32_460 : BitVec 32 := 2304#32
  let v940 : BitVec 32 := Scalar.subi v939 c2304_i32_460
  let v941 : Index := Scalar.indexCast v940
  let c0_461 : Index := 0#32
  ![v941.toNat, 0]

def k0_off507 (v939 : BitVec 32) : Fin 2 → Nat :=
  let c2304_i32_460 : BitVec 32 := 2304#32
  let v940 : BitVec 32 := Scalar.subi v939 c2304_i32_460
  let v944 : Index := Scalar.indexCast v940
  let c16_462 : Index := 16#32
  ![v944.toNat, 16]

def k0_chk177 (v939 : BitVec 32) : Prop :=
  (∀ a, (k0_off506 v939) a + S1x16.size a ≤ S257x32.size a) ∧
  (∀ a, (k0_off507 v939) a + S1x16.size a ≤ S257x32.size a)
theorem k0_off506_inb : ∀ (v939 : BitVec 32) (k0_hw177 : k0_chk177 v939), ∀ a, (k0_off506 v939) a + S1x16.size a ≤ S257x32.size a := fun v939 k0_hw177 => k0_hw177.1
theorem k0_off507_inb : ∀ (v939 : BitVec 32) (k0_hw177 : k0_chk177 v939), ∀ a, (k0_off507 v939) a + S1x16.size a ≤ S257x32.size a := fun v939 k0_hw177 => k0_hw177.2

def k0_off508 (v948 : BitVec 32) : Fin 2 → Nat :=
  let c2304_i32_463 : BitVec 32 := 2304#32
  let v949 : BitVec 32 := Scalar.subi v948 c2304_i32_463
  let v950 : Index := Scalar.indexCast v949
  let c0_464 : Index := 0#32
  ![v950.toNat, 0]

def k0_off509 (v948 : BitVec 32) : Fin 2 → Nat :=
  let c2304_i32_463 : BitVec 32 := 2304#32
  let v949 : BitVec 32 := Scalar.subi v948 c2304_i32_463
  let v953 : Index := Scalar.indexCast v949
  let c16_465 : Index := 16#32
  ![v953.toNat, 16]

def k0_chk178 (v948 : BitVec 32) : Prop :=
  (∀ a, (k0_off508 v948) a + S1x16.size a ≤ S257x32.size a) ∧
  (∀ a, (k0_off509 v948) a + S1x16.size a ≤ S257x32.size a)
theorem k0_off508_inb : ∀ (v948 : BitVec 32) (k0_hw178 : k0_chk178 v948), ∀ a, (k0_off508 v948) a + S1x16.size a ≤ S257x32.size a := fun v948 k0_hw178 => k0_hw178.1
theorem k0_off509_inb : ∀ (v948 : BitVec 32) (k0_hw178 : k0_chk178 v948), ∀ a, (k0_off509 v948) a + S1x16.size a ≤ S257x32.size a := fun v948 k0_hw178 => k0_hw178.2

def k0_off510 (v957 : BitVec 32) : Fin 2 → Nat :=
  let c2304_i32_466 : BitVec 32 := 2304#32
  let v958 : BitVec 32 := Scalar.subi v957 c2304_i32_466
  let v959 : Index := Scalar.indexCast v958
  let c0_467 : Index := 0#32
  ![v959.toNat, 0]

def k0_off511 (v957 : BitVec 32) : Fin 2 → Nat :=
  let c2304_i32_466 : BitVec 32 := 2304#32
  let v958 : BitVec 32 := Scalar.subi v957 c2304_i32_466
  let v962 : Index := Scalar.indexCast v958
  let c16_468 : Index := 16#32
  ![v962.toNat, 16]

def k0_chk179 (v957 : BitVec 32) : Prop :=
  (∀ a, (k0_off510 v957) a + S1x16.size a ≤ S257x32.size a) ∧
  (∀ a, (k0_off511 v957) a + S1x16.size a ≤ S257x32.size a)
theorem k0_off510_inb : ∀ (v957 : BitVec 32) (k0_hw179 : k0_chk179 v957), ∀ a, (k0_off510 v957) a + S1x16.size a ≤ S257x32.size a := fun v957 k0_hw179 => k0_hw179.1
theorem k0_off511_inb : ∀ (v957 : BitVec 32) (k0_hw179 : k0_chk179 v957), ∀ a, (k0_off511 v957) a + S1x16.size a ≤ S257x32.size a := fun v957 k0_hw179 => k0_hw179.2

def k0_off512 (v966 : BitVec 32) : Fin 2 → Nat :=
  let c2304_i32_469 : BitVec 32 := 2304#32
  let v967 : BitVec 32 := Scalar.subi v966 c2304_i32_469
  let v968 : Index := Scalar.indexCast v967
  let c0_470 : Index := 0#32
  ![v968.toNat, 0]

def k0_off513 (v966 : BitVec 32) : Fin 2 → Nat :=
  let c2304_i32_469 : BitVec 32 := 2304#32
  let v967 : BitVec 32 := Scalar.subi v966 c2304_i32_469
  let v971 : Index := Scalar.indexCast v967
  let c16_471 : Index := 16#32
  ![v971.toNat, 16]

def k0_chk180 (v966 : BitVec 32) : Prop :=
  (∀ a, (k0_off512 v966) a + S1x16.size a ≤ S257x32.size a) ∧
  (∀ a, (k0_off513 v966) a + S1x16.size a ≤ S257x32.size a)
theorem k0_off512_inb : ∀ (v966 : BitVec 32) (k0_hw180 : k0_chk180 v966), ∀ a, (k0_off512 v966) a + S1x16.size a ≤ S257x32.size a := fun v966 k0_hw180 => k0_hw180.1
theorem k0_off513_inb : ∀ (v966 : BitVec 32) (k0_hw180 : k0_chk180 v966), ∀ a, (k0_off513 v966) a + S1x16.size a ≤ S257x32.size a := fun v966 k0_hw180 => k0_hw180.2

def k0_off514 (v975 : BitVec 32) : Fin 2 → Nat :=
  let c2304_i32_472 : BitVec 32 := 2304#32
  let v976 : BitVec 32 := Scalar.subi v975 c2304_i32_472
  let v977 : Index := Scalar.indexCast v976
  let c0_473 : Index := 0#32
  ![v977.toNat, 0]

def k0_off515 (v975 : BitVec 32) : Fin 2 → Nat :=
  let c2304_i32_472 : BitVec 32 := 2304#32
  let v976 : BitVec 32 := Scalar.subi v975 c2304_i32_472
  let v980 : Index := Scalar.indexCast v976
  let c16_474 : Index := 16#32
  ![v980.toNat, 16]

def k0_chk181 (v975 : BitVec 32) : Prop :=
  (∀ a, (k0_off514 v975) a + S1x16.size a ≤ S257x32.size a) ∧
  (∀ a, (k0_off515 v975) a + S1x16.size a ≤ S257x32.size a)
theorem k0_off514_inb : ∀ (v975 : BitVec 32) (k0_hw181 : k0_chk181 v975), ∀ a, (k0_off514 v975) a + S1x16.size a ≤ S257x32.size a := fun v975 k0_hw181 => k0_hw181.1
theorem k0_off515_inb : ∀ (v975 : BitVec 32) (k0_hw181 : k0_chk181 v975), ∀ a, (k0_off515 v975) a + S1x16.size a ≤ S257x32.size a := fun v975 k0_hw181 => k0_hw181.2

def k0_off516 (v52 : BitVec 32) (v105 : BitVec 32) (v158 : BitVec 32) (v211 : BitVec 32) (v264 : BitVec 32) (v317 : BitVec 32) (v370 : BitVec 32) (v423 : BitVec 32) (v476 : BitVec 32) (v529 : BitVec 32) (k0_t50 : Fin (k0_t50_loop v52 v105 v158 v211 v264 v317 v370 v423 v476 v529).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c0_i32_271 : BitVec 32 := 0#32
  let c1_i32_273 : BitVec 32 := 1#32
  let arg19 : BitVec 32 := Scf.iv c0_i32_271 c1_i32_273 k0_t50
  let c8_i32_444 : BitVec 32 := 8#32
  let v893 : BitVec 32 := Scalar.muli arg19 c8_i32_444
  let v894 : BitVec 32 := Scalar.addi v516 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off517 (v52 : BitVec 32) (v105 : BitVec 32) (v158 : BitVec 32) (v211 : BitVec 32) (v264 : BitVec 32) (v317 : BitVec 32) (v370 : BitVec 32) (v423 : BitVec 32) (v476 : BitVec 32) (v529 : BitVec 32) (k0_t50 : Fin (k0_t50_loop v52 v105 v158 v211 v264 v317 v370 v423 v476 v529).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c0_i32_271 : BitVec 32 := 0#32
  let c1_i32_273 : BitVec 32 := 1#32
  let arg19 : BitVec 32 := Scf.iv c0_i32_271 c1_i32_273 k0_t50
  let c8_i32_444 : BitVec 32 := 8#32
  let v893 : BitVec 32 := Scalar.muli arg19 c8_i32_444
  let v894 : BitVec 32 := Scalar.addi v516 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t51_loop (v52 : BitVec 32) (v105 : BitVec 32) (v158 : BitVec 32) (v211 : BitVec 32) (v264 : BitVec 32) (v317 : BitVec 32) (v370 : BitVec 32) (v423 : BitVec 32) (v476 : BitVec 32) (v529 : BitVec 32) : Scf.Loop 32 :=
  let c0_i32_271 : BitVec 32 := 0#32
  let c1_i32_261 : BitVec 32 := 1#32
  let v530 : BitVec 32 := Scalar.subi v529 c1_i32_261
  let c2049_i32_262 : BitVec 32 := 2049#32
  let v531 : BitVec 32 := Scalar.minsi v530 c2049_i32_262
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let v532 : BitVec 32 := Scalar.subi v531 v516
  let c0_i32_263 : BitVec 32 := 0#32
  let v533 : BitVec 32 := Scalar.maxsi v532 c0_i32_263
  let c0_i32_265 : BitVec 32 := 0#32
  let v535 : BitVec 1 := Scalar.cmpi .sgt v533 c0_i32_265
  let v536 : BitVec 32 := Scalar.extui v535
  let c0_i32_266 : BitVec 32 := 0#32
  let v537 : BitVec 1 := Scalar.cmpi .slt v533 c0_i32_266
  let v538 : BitVec 32 := Scalar.extui v537
  let v539 : BitVec 32 := Scalar.subi v536 v538
  let c8_i32_264 : BitVec 32 := 8#32
  let c0_i32_267 : BitVec 32 := 0#32
  let v540 : BitVec 1 := Scalar.cmpi .sgt c8_i32_264 c0_i32_267
  let v541 : BitVec 32 := Scalar.extui v540
  let c0_i32_268 : BitVec 32 := 0#32
  let v542 : BitVec 1 := Scalar.cmpi .slt c8_i32_264 c0_i32_268
  let v543 : BitVec 32 := Scalar.extui v542
  let v544 : BitVec 32 := Scalar.subi v541 v543
  let v545 : BitVec 1 := Scalar.cmpi .ne v539 v544
  let v546 : BitVec 32 := Scalar.remsi v533 c8_i32_264
  let c0_i32_269 : BitVec 32 := 0#32
  let v547 : BitVec 1 := Scalar.cmpi .ne v546 c0_i32_269
  let v548 : BitVec 1 := Scalar.andi v545 v547
  let v534 : BitVec 32 := Scalar.divsi v533 c8_i32_264
  let c1_i32_270 : BitVec 32 := 1#32
  let v549 : BitVec 32 := Scalar.subi v534 c1_i32_270
  let v550 : BitVec 32 := Scalar.select v548 v549 v534
  let v551 : BitVec 32 := Scalar.subi v550 c0_i32_271
  let c1_i32_272 : BitVec 32 := 1#32
  let v553 : BitVec 32 := Scalar.divsi v551 c1_i32_272
  let v554 : BitVec 32 := Scalar.muli v553 c1_i32_272
  let v555 : BitVec 32 := Scalar.addi c0_i32_271 v554
  let v552 : BitVec 32 := Scalar.addi c0_i32_271 v551
  let c1_i32_274 : BitVec 32 := 1#32
  ⟨v555, v552, c1_i32_274⟩
def k0_off518 (v52 : BitVec 32) (v105 : BitVec 32) (v158 : BitVec 32) (v211 : BitVec 32) (v264 : BitVec 32) (v317 : BitVec 32) (v370 : BitVec 32) (v423 : BitVec 32) (v476 : BitVec 32) (v529 : BitVec 32) (k0_t51 : Fin (k0_t51_loop v52 v105 v158 v211 v264 v317 v370 v423 v476 v529).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c0_i32_271 : BitVec 32 := 0#32
  let c1_i32_261 : BitVec 32 := 1#32
  let v530 : BitVec 32 := Scalar.subi v529 c1_i32_261
  let c2049_i32_262 : BitVec 32 := 2049#32
  let v531 : BitVec 32 := Scalar.minsi v530 c2049_i32_262
  let v532 : BitVec 32 := Scalar.subi v531 v516
  let c0_i32_263 : BitVec 32 := 0#32
  let v533 : BitVec 32 := Scalar.maxsi v532 c0_i32_263
  let c0_i32_265 : BitVec 32 := 0#32
  let v535 : BitVec 1 := Scalar.cmpi .sgt v533 c0_i32_265
  let v536 : BitVec 32 := Scalar.extui v535
  let c0_i32_266 : BitVec 32 := 0#32
  let v537 : BitVec 1 := Scalar.cmpi .slt v533 c0_i32_266
  let v538 : BitVec 32 := Scalar.extui v537
  let v539 : BitVec 32 := Scalar.subi v536 v538
  let c8_i32_264 : BitVec 32 := 8#32
  let c0_i32_267 : BitVec 32 := 0#32
  let v540 : BitVec 1 := Scalar.cmpi .sgt c8_i32_264 c0_i32_267
  let v541 : BitVec 32 := Scalar.extui v540
  let c0_i32_268 : BitVec 32 := 0#32
  let v542 : BitVec 1 := Scalar.cmpi .slt c8_i32_264 c0_i32_268
  let v543 : BitVec 32 := Scalar.extui v542
  let v544 : BitVec 32 := Scalar.subi v541 v543
  let v545 : BitVec 1 := Scalar.cmpi .ne v539 v544
  let v546 : BitVec 32 := Scalar.remsi v533 c8_i32_264
  let c0_i32_269 : BitVec 32 := 0#32
  let v547 : BitVec 1 := Scalar.cmpi .ne v546 c0_i32_269
  let v548 : BitVec 1 := Scalar.andi v545 v547
  let v534 : BitVec 32 := Scalar.divsi v533 c8_i32_264
  let c1_i32_270 : BitVec 32 := 1#32
  let v549 : BitVec 32 := Scalar.subi v534 c1_i32_270
  let v550 : BitVec 32 := Scalar.select v548 v549 v534
  let v551 : BitVec 32 := Scalar.subi v550 c0_i32_271
  let c1_i32_272 : BitVec 32 := 1#32
  let v553 : BitVec 32 := Scalar.divsi v551 c1_i32_272
  let v554 : BitVec 32 := Scalar.muli v553 c1_i32_272
  let v555 : BitVec 32 := Scalar.addi c0_i32_271 v554
  let c1_i32_274 : BitVec 32 := 1#32
  let arg19 : BitVec 32 := Scf.iv v555 c1_i32_274 k0_t51
  let c8_i32_444 : BitVec 32 := 8#32
  let v893 : BitVec 32 := Scalar.muli arg19 c8_i32_444
  let v894 : BitVec 32 := Scalar.addi v516 v893
  let v895 : BitVec 32 := Scalar.addi v894 c1_i32_445
  let v896 : Index := Scalar.indexCast v895
  ![v896.toNat]
def k0_off519 (v912 : BitVec 32) : Fin 2 → Nat :=
  let c2304_i32_451 : BitVec 32 := 2304#32
  let v913 : BitVec 32 := Scalar.subi v912 c2304_i32_451
  let v914 : Index := Scalar.indexCast v913
  let c0_452 : Index := 0#32
  ![v914.toNat, 0]

def k0_off520 (v912 : BitVec 32) : Fin 2 → Nat :=
  let c2304_i32_451 : BitVec 32 := 2304#32
  let v913 : BitVec 32 := Scalar.subi v912 c2304_i32_451
  let v917 : Index := Scalar.indexCast v913
  let c16_453 : Index := 16#32
  ![v917.toNat, 16]

def k0_chk182 (v912 : BitVec 32) : Prop :=
  (∀ a, (k0_off519 v912) a + S1x16.size a ≤ S257x32.size a) ∧
  (∀ a, (k0_off520 v912) a + S1x16.size a ≤ S257x32.size a)
theorem k0_off519_inb : ∀ (v912 : BitVec 32) (k0_hw182 : k0_chk182 v912), ∀ a, (k0_off519 v912) a + S1x16.size a ≤ S257x32.size a := fun v912 k0_hw182 => k0_hw182.1
theorem k0_off520_inb : ∀ (v912 : BitVec 32) (k0_hw182 : k0_chk182 v912), ∀ a, (k0_off520 v912) a + S1x16.size a ≤ S257x32.size a := fun v912 k0_hw182 => k0_hw182.2

def k0_off521 (v921 : BitVec 32) : Fin 2 → Nat :=
  let c2304_i32_454 : BitVec 32 := 2304#32
  let v922 : BitVec 32 := Scalar.subi v921 c2304_i32_454
  let v923 : Index := Scalar.indexCast v922
  let c0_455 : Index := 0#32
  ![v923.toNat, 0]

def k0_off522 (v921 : BitVec 32) : Fin 2 → Nat :=
  let c2304_i32_454 : BitVec 32 := 2304#32
  let v922 : BitVec 32 := Scalar.subi v921 c2304_i32_454
  let v926 : Index := Scalar.indexCast v922
  let c16_456 : Index := 16#32
  ![v926.toNat, 16]

def k0_chk183 (v921 : BitVec 32) : Prop :=
  (∀ a, (k0_off521 v921) a + S1x16.size a ≤ S257x32.size a) ∧
  (∀ a, (k0_off522 v921) a + S1x16.size a ≤ S257x32.size a)
theorem k0_off521_inb : ∀ (v921 : BitVec 32) (k0_hw183 : k0_chk183 v921), ∀ a, (k0_off521 v921) a + S1x16.size a ≤ S257x32.size a := fun v921 k0_hw183 => k0_hw183.1
theorem k0_off522_inb : ∀ (v921 : BitVec 32) (k0_hw183 : k0_chk183 v921), ∀ a, (k0_off522 v921) a + S1x16.size a ≤ S257x32.size a := fun v921 k0_hw183 => k0_hw183.2

def k0_off523 (v930 : BitVec 32) : Fin 2 → Nat :=
  let c2304_i32_457 : BitVec 32 := 2304#32
  let v931 : BitVec 32 := Scalar.subi v930 c2304_i32_457
  let v932 : Index := Scalar.indexCast v931
  let c0_458 : Index := 0#32
  ![v932.toNat, 0]

def k0_off524 (v930 : BitVec 32) : Fin 2 → Nat :=
  let c2304_i32_457 : BitVec 32 := 2304#32
  let v931 : BitVec 32 := Scalar.subi v930 c2304_i32_457
  let v935 : Index := Scalar.indexCast v931
  let c16_459 : Index := 16#32
  ![v935.toNat, 16]

def k0_chk184 (v930 : BitVec 32) : Prop :=
  (∀ a, (k0_off523 v930) a + S1x16.size a ≤ S257x32.size a) ∧
  (∀ a, (k0_off524 v930) a + S1x16.size a ≤ S257x32.size a)
theorem k0_off523_inb : ∀ (v930 : BitVec 32) (k0_hw184 : k0_chk184 v930), ∀ a, (k0_off523 v930) a + S1x16.size a ≤ S257x32.size a := fun v930 k0_hw184 => k0_hw184.1
theorem k0_off524_inb : ∀ (v930 : BitVec 32) (k0_hw184 : k0_chk184 v930), ∀ a, (k0_off524 v930) a + S1x16.size a ≤ S257x32.size a := fun v930 k0_hw184 => k0_hw184.2

def k0_off525 (v939 : BitVec 32) : Fin 2 → Nat :=
  let c2304_i32_460 : BitVec 32 := 2304#32
  let v940 : BitVec 32 := Scalar.subi v939 c2304_i32_460
  let v941 : Index := Scalar.indexCast v940
  let c0_461 : Index := 0#32
  ![v941.toNat, 0]

def k0_off526 (v939 : BitVec 32) : Fin 2 → Nat :=
  let c2304_i32_460 : BitVec 32 := 2304#32
  let v940 : BitVec 32 := Scalar.subi v939 c2304_i32_460
  let v944 : Index := Scalar.indexCast v940
  let c16_462 : Index := 16#32
  ![v944.toNat, 16]

def k0_chk185 (v939 : BitVec 32) : Prop :=
  (∀ a, (k0_off525 v939) a + S1x16.size a ≤ S257x32.size a) ∧
  (∀ a, (k0_off526 v939) a + S1x16.size a ≤ S257x32.size a)
theorem k0_off525_inb : ∀ (v939 : BitVec 32) (k0_hw185 : k0_chk185 v939), ∀ a, (k0_off525 v939) a + S1x16.size a ≤ S257x32.size a := fun v939 k0_hw185 => k0_hw185.1
theorem k0_off526_inb : ∀ (v939 : BitVec 32) (k0_hw185 : k0_chk185 v939), ∀ a, (k0_off526 v939) a + S1x16.size a ≤ S257x32.size a := fun v939 k0_hw185 => k0_hw185.2

def k0_off527 (v948 : BitVec 32) : Fin 2 → Nat :=
  let c2304_i32_463 : BitVec 32 := 2304#32
  let v949 : BitVec 32 := Scalar.subi v948 c2304_i32_463
  let v950 : Index := Scalar.indexCast v949
  let c0_464 : Index := 0#32
  ![v950.toNat, 0]

def k0_off528 (v948 : BitVec 32) : Fin 2 → Nat :=
  let c2304_i32_463 : BitVec 32 := 2304#32
  let v949 : BitVec 32 := Scalar.subi v948 c2304_i32_463
  let v953 : Index := Scalar.indexCast v949
  let c16_465 : Index := 16#32
  ![v953.toNat, 16]

def k0_chk186 (v948 : BitVec 32) : Prop :=
  (∀ a, (k0_off527 v948) a + S1x16.size a ≤ S257x32.size a) ∧
  (∀ a, (k0_off528 v948) a + S1x16.size a ≤ S257x32.size a)
theorem k0_off527_inb : ∀ (v948 : BitVec 32) (k0_hw186 : k0_chk186 v948), ∀ a, (k0_off527 v948) a + S1x16.size a ≤ S257x32.size a := fun v948 k0_hw186 => k0_hw186.1
theorem k0_off528_inb : ∀ (v948 : BitVec 32) (k0_hw186 : k0_chk186 v948), ∀ a, (k0_off528 v948) a + S1x16.size a ≤ S257x32.size a := fun v948 k0_hw186 => k0_hw186.2

def k0_off529 (v957 : BitVec 32) : Fin 2 → Nat :=
  let c2304_i32_466 : BitVec 32 := 2304#32
  let v958 : BitVec 32 := Scalar.subi v957 c2304_i32_466
  let v959 : Index := Scalar.indexCast v958
  let c0_467 : Index := 0#32
  ![v959.toNat, 0]

def k0_off530 (v957 : BitVec 32) : Fin 2 → Nat :=
  let c2304_i32_466 : BitVec 32 := 2304#32
  let v958 : BitVec 32 := Scalar.subi v957 c2304_i32_466
  let v962 : Index := Scalar.indexCast v958
  let c16_468 : Index := 16#32
  ![v962.toNat, 16]

def k0_chk187 (v957 : BitVec 32) : Prop :=
  (∀ a, (k0_off529 v957) a + S1x16.size a ≤ S257x32.size a) ∧
  (∀ a, (k0_off530 v957) a + S1x16.size a ≤ S257x32.size a)
theorem k0_off529_inb : ∀ (v957 : BitVec 32) (k0_hw187 : k0_chk187 v957), ∀ a, (k0_off529 v957) a + S1x16.size a ≤ S257x32.size a := fun v957 k0_hw187 => k0_hw187.1
theorem k0_off530_inb : ∀ (v957 : BitVec 32) (k0_hw187 : k0_chk187 v957), ∀ a, (k0_off530 v957) a + S1x16.size a ≤ S257x32.size a := fun v957 k0_hw187 => k0_hw187.2

def k0_off531 (v966 : BitVec 32) : Fin 2 → Nat :=
  let c2304_i32_469 : BitVec 32 := 2304#32
  let v967 : BitVec 32 := Scalar.subi v966 c2304_i32_469
  let v968 : Index := Scalar.indexCast v967
  let c0_470 : Index := 0#32
  ![v968.toNat, 0]

def k0_off532 (v966 : BitVec 32) : Fin 2 → Nat :=
  let c2304_i32_469 : BitVec 32 := 2304#32
  let v967 : BitVec 32 := Scalar.subi v966 c2304_i32_469
  let v971 : Index := Scalar.indexCast v967
  let c16_471 : Index := 16#32
  ![v971.toNat, 16]

def k0_chk188 (v966 : BitVec 32) : Prop :=
  (∀ a, (k0_off531 v966) a + S1x16.size a ≤ S257x32.size a) ∧
  (∀ a, (k0_off532 v966) a + S1x16.size a ≤ S257x32.size a)
theorem k0_off531_inb : ∀ (v966 : BitVec 32) (k0_hw188 : k0_chk188 v966), ∀ a, (k0_off531 v966) a + S1x16.size a ≤ S257x32.size a := fun v966 k0_hw188 => k0_hw188.1
theorem k0_off532_inb : ∀ (v966 : BitVec 32) (k0_hw188 : k0_chk188 v966), ∀ a, (k0_off532 v966) a + S1x16.size a ≤ S257x32.size a := fun v966 k0_hw188 => k0_hw188.2

def k0_off533 (v975 : BitVec 32) : Fin 2 → Nat :=
  let c2304_i32_472 : BitVec 32 := 2304#32
  let v976 : BitVec 32 := Scalar.subi v975 c2304_i32_472
  let v977 : Index := Scalar.indexCast v976
  let c0_473 : Index := 0#32
  ![v977.toNat, 0]

def k0_off534 (v975 : BitVec 32) : Fin 2 → Nat :=
  let c2304_i32_472 : BitVec 32 := 2304#32
  let v976 : BitVec 32 := Scalar.subi v975 c2304_i32_472
  let v980 : Index := Scalar.indexCast v976
  let c16_474 : Index := 16#32
  ![v980.toNat, 16]

def k0_chk189 (v975 : BitVec 32) : Prop :=
  (∀ a, (k0_off533 v975) a + S1x16.size a ≤ S257x32.size a) ∧
  (∀ a, (k0_off534 v975) a + S1x16.size a ≤ S257x32.size a)
theorem k0_off533_inb : ∀ (v975 : BitVec 32) (k0_hw189 : k0_chk189 v975), ∀ a, (k0_off533 v975) a + S1x16.size a ≤ S257x32.size a := fun v975 k0_hw189 => k0_hw189.1
theorem k0_off534_inb : ∀ (v975 : BitVec 32) (k0_hw189 : k0_chk189 v975), ∀ a, (k0_off534 v975) a + S1x16.size a ≤ S257x32.size a := fun v975 k0_hw189 => k0_hw189.2

def k0_off535 (v52 : BitVec 32) (v105 : BitVec 32) (v158 : BitVec 32) (v211 : BitVec 32) (v264 : BitVec 32) (v317 : BitVec 32) (v370 : BitVec 32) (v423 : BitVec 32) (v476 : BitVec 32) (v529 : BitVec 32) (k0_t51 : Fin (k0_t51_loop v52 v105 v158 v211 v264 v317 v370 v423 v476 v529).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c0_i32_271 : BitVec 32 := 0#32
  let c1_i32_261 : BitVec 32 := 1#32
  let v530 : BitVec 32 := Scalar.subi v529 c1_i32_261
  let c2049_i32_262 : BitVec 32 := 2049#32
  let v531 : BitVec 32 := Scalar.minsi v530 c2049_i32_262
  let v532 : BitVec 32 := Scalar.subi v531 v516
  let c0_i32_263 : BitVec 32 := 0#32
  let v533 : BitVec 32 := Scalar.maxsi v532 c0_i32_263
  let c0_i32_265 : BitVec 32 := 0#32
  let v535 : BitVec 1 := Scalar.cmpi .sgt v533 c0_i32_265
  let v536 : BitVec 32 := Scalar.extui v535
  let c0_i32_266 : BitVec 32 := 0#32
  let v537 : BitVec 1 := Scalar.cmpi .slt v533 c0_i32_266
  let v538 : BitVec 32 := Scalar.extui v537
  let v539 : BitVec 32 := Scalar.subi v536 v538
  let c8_i32_264 : BitVec 32 := 8#32
  let c0_i32_267 : BitVec 32 := 0#32
  let v540 : BitVec 1 := Scalar.cmpi .sgt c8_i32_264 c0_i32_267
  let v541 : BitVec 32 := Scalar.extui v540
  let c0_i32_268 : BitVec 32 := 0#32
  let v542 : BitVec 1 := Scalar.cmpi .slt c8_i32_264 c0_i32_268
  let v543 : BitVec 32 := Scalar.extui v542
  let v544 : BitVec 32 := Scalar.subi v541 v543
  let v545 : BitVec 1 := Scalar.cmpi .ne v539 v544
  let v546 : BitVec 32 := Scalar.remsi v533 c8_i32_264
  let c0_i32_269 : BitVec 32 := 0#32
  let v547 : BitVec 1 := Scalar.cmpi .ne v546 c0_i32_269
  let v548 : BitVec 1 := Scalar.andi v545 v547
  let v534 : BitVec 32 := Scalar.divsi v533 c8_i32_264
  let c1_i32_270 : BitVec 32 := 1#32
  let v549 : BitVec 32 := Scalar.subi v534 c1_i32_270
  let v550 : BitVec 32 := Scalar.select v548 v549 v534
  let v551 : BitVec 32 := Scalar.subi v550 c0_i32_271
  let c1_i32_272 : BitVec 32 := 1#32
  let v553 : BitVec 32 := Scalar.divsi v551 c1_i32_272
  let v554 : BitVec 32 := Scalar.muli v553 c1_i32_272
  let v555 : BitVec 32 := Scalar.addi c0_i32_271 v554
  let c1_i32_274 : BitVec 32 := 1#32
  let arg19 : BitVec 32 := Scf.iv v555 c1_i32_274 k0_t51
  let c8_i32_444 : BitVec 32 := 8#32
  let v893 : BitVec 32 := Scalar.muli arg19 c8_i32_444
  let v894 : BitVec 32 := Scalar.addi v516 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off536 (v52 : BitVec 32) (v105 : BitVec 32) (v158 : BitVec 32) (v211 : BitVec 32) (v264 : BitVec 32) (v317 : BitVec 32) (v370 : BitVec 32) (v423 : BitVec 32) (v476 : BitVec 32) (v529 : BitVec 32) (k0_t51 : Fin (k0_t51_loop v52 v105 v158 v211 v264 v317 v370 v423 v476 v529).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c0_i32_271 : BitVec 32 := 0#32
  let c1_i32_261 : BitVec 32 := 1#32
  let v530 : BitVec 32 := Scalar.subi v529 c1_i32_261
  let c2049_i32_262 : BitVec 32 := 2049#32
  let v531 : BitVec 32 := Scalar.minsi v530 c2049_i32_262
  let v532 : BitVec 32 := Scalar.subi v531 v516
  let c0_i32_263 : BitVec 32 := 0#32
  let v533 : BitVec 32 := Scalar.maxsi v532 c0_i32_263
  let c0_i32_265 : BitVec 32 := 0#32
  let v535 : BitVec 1 := Scalar.cmpi .sgt v533 c0_i32_265
  let v536 : BitVec 32 := Scalar.extui v535
  let c0_i32_266 : BitVec 32 := 0#32
  let v537 : BitVec 1 := Scalar.cmpi .slt v533 c0_i32_266
  let v538 : BitVec 32 := Scalar.extui v537
  let v539 : BitVec 32 := Scalar.subi v536 v538
  let c8_i32_264 : BitVec 32 := 8#32
  let c0_i32_267 : BitVec 32 := 0#32
  let v540 : BitVec 1 := Scalar.cmpi .sgt c8_i32_264 c0_i32_267
  let v541 : BitVec 32 := Scalar.extui v540
  let c0_i32_268 : BitVec 32 := 0#32
  let v542 : BitVec 1 := Scalar.cmpi .slt c8_i32_264 c0_i32_268
  let v543 : BitVec 32 := Scalar.extui v542
  let v544 : BitVec 32 := Scalar.subi v541 v543
  let v545 : BitVec 1 := Scalar.cmpi .ne v539 v544
  let v546 : BitVec 32 := Scalar.remsi v533 c8_i32_264
  let c0_i32_269 : BitVec 32 := 0#32
  let v547 : BitVec 1 := Scalar.cmpi .ne v546 c0_i32_269
  let v548 : BitVec 1 := Scalar.andi v545 v547
  let v534 : BitVec 32 := Scalar.divsi v533 c8_i32_264
  let c1_i32_270 : BitVec 32 := 1#32
  let v549 : BitVec 32 := Scalar.subi v534 c1_i32_270
  let v550 : BitVec 32 := Scalar.select v548 v549 v534
  let v551 : BitVec 32 := Scalar.subi v550 c0_i32_271
  let c1_i32_272 : BitVec 32 := 1#32
  let v553 : BitVec 32 := Scalar.divsi v551 c1_i32_272
  let v554 : BitVec 32 := Scalar.muli v553 c1_i32_272
  let v555 : BitVec 32 := Scalar.addi c0_i32_271 v554
  let c1_i32_274 : BitVec 32 := 1#32
  let arg19 : BitVec 32 := Scf.iv v555 c1_i32_274 k0_t51
  let c8_i32_444 : BitVec 32 := 8#32
  let v893 : BitVec 32 := Scalar.muli arg19 c8_i32_444
  let v894 : BitVec 32 := Scalar.addi v516 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t52_loop (v52 : BitVec 32) (v105 : BitVec 32) (v158 : BitVec 32) (v211 : BitVec 32) (v264 : BitVec 32) (v317 : BitVec 32) (v370 : BitVec 32) (v423 : BitVec 32) (v476 : BitVec 32) (v529 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v532 : BitVec 32 := Scalar.subi v531 v516
  let c0_i32_263 : BitVec 32 := 0#32
  let v533 : BitVec 32 := Scalar.maxsi v532 c0_i32_263
  let c0_i32_265 : BitVec 32 := 0#32
  let v535 : BitVec 1 := Scalar.cmpi .sgt v533 c0_i32_265
  let v536 : BitVec 32 := Scalar.extui v535
  let c0_i32_266 : BitVec 32 := 0#32
  let v537 : BitVec 1 := Scalar.cmpi .slt v533 c0_i32_266
  let v538 : BitVec 32 := Scalar.extui v537
  let v539 : BitVec 32 := Scalar.subi v536 v538
  let c8_i32_264 : BitVec 32 := 8#32
  let c0_i32_267 : BitVec 32 := 0#32
  let v540 : BitVec 1 := Scalar.cmpi .sgt c8_i32_264 c0_i32_267
  let v541 : BitVec 32 := Scalar.extui v540
  let c0_i32_268 : BitVec 32 := 0#32
  let v542 : BitVec 1 := Scalar.cmpi .slt c8_i32_264 c0_i32_268
  let v543 : BitVec 32 := Scalar.extui v542
  let v544 : BitVec 32 := Scalar.subi v541 v543
  let v545 : BitVec 1 := Scalar.cmpi .ne v539 v544
  let v546 : BitVec 32 := Scalar.remsi v533 c8_i32_264
  let c0_i32_269 : BitVec 32 := 0#32
  let v547 : BitVec 1 := Scalar.cmpi .ne v546 c0_i32_269
  let v548 : BitVec 1 := Scalar.andi v545 v547
  let v534 : BitVec 32 := Scalar.divsi v533 c8_i32_264
  let c1_i32_270 : BitVec 32 := 1#32
  let v549 : BitVec 32 := Scalar.subi v534 c1_i32_270
  let v550 : BitVec 32 := Scalar.select v548 v549 v534
  let c8_i32_275 : BitVec 32 := 8#32
  let v558 : BitVec 32 := Scalar.muli v550 c8_i32_275
  let v559 : BitVec 32 := Scalar.addi v516 v558
  let v560 : BitVec 32 := Scalar.subi v531 v559
  let c1_i32_276 : BitVec 32 := 1#32
  let v562 : BitVec 32 := Scalar.divsi v560 c1_i32_276
  let v563 : BitVec 32 := Scalar.muli v562 c1_i32_276
  let v564 : BitVec 32 := Scalar.addi v559 v563
  let c1_i32_277 : BitVec 32 := 1#32
  ⟨v559, v564, c1_i32_277⟩
def k0_off537 (v52 : BitVec 32) (v105 : BitVec 32) (v158 : BitVec 32) (v211 : BitVec 32) (v264 : BitVec 32) (v317 : BitVec 32) (v370 : BitVec 32) (v423 : BitVec 32) (v476 : BitVec 32) (v529 : BitVec 32) (k0_t52 : Fin (k0_t52_loop v52 v105 v158 v211 v264 v317 v370 v423 v476 v529).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v532 : BitVec 32 := Scalar.subi v531 v516
  let c0_i32_263 : BitVec 32 := 0#32
  let v533 : BitVec 32 := Scalar.maxsi v532 c0_i32_263
  let c0_i32_265 : BitVec 32 := 0#32
  let v535 : BitVec 1 := Scalar.cmpi .sgt v533 c0_i32_265
  let v536 : BitVec 32 := Scalar.extui v535
  let c0_i32_266 : BitVec 32 := 0#32
  let v537 : BitVec 1 := Scalar.cmpi .slt v533 c0_i32_266
  let v538 : BitVec 32 := Scalar.extui v537
  let v539 : BitVec 32 := Scalar.subi v536 v538
  let c8_i32_264 : BitVec 32 := 8#32
  let c0_i32_267 : BitVec 32 := 0#32
  let v540 : BitVec 1 := Scalar.cmpi .sgt c8_i32_264 c0_i32_267
  let v541 : BitVec 32 := Scalar.extui v540
  let c0_i32_268 : BitVec 32 := 0#32
  let v542 : BitVec 1 := Scalar.cmpi .slt c8_i32_264 c0_i32_268
  let v543 : BitVec 32 := Scalar.extui v542
  let v544 : BitVec 32 := Scalar.subi v541 v543
  let v545 : BitVec 1 := Scalar.cmpi .ne v539 v544
  let v546 : BitVec 32 := Scalar.remsi v533 c8_i32_264
  let c0_i32_269 : BitVec 32 := 0#32
  let v547 : BitVec 1 := Scalar.cmpi .ne v546 c0_i32_269
  let v548 : BitVec 1 := Scalar.andi v545 v547
  let v534 : BitVec 32 := Scalar.divsi v533 c8_i32_264
  let c1_i32_270 : BitVec 32 := 1#32
  let v549 : BitVec 32 := Scalar.subi v534 c1_i32_270
  let v550 : BitVec 32 := Scalar.select v548 v549 v534
  let c8_i32_275 : BitVec 32 := 8#32
  let v558 : BitVec 32 := Scalar.muli v550 c8_i32_275
  let v559 : BitVec 32 := Scalar.addi v516 v558
  let c1_i32_277 : BitVec 32 := 1#32
  let arg19 : BitVec 32 := Scf.iv v559 c1_i32_277 k0_t52
  let c1_i32_444 : BitVec 32 := 1#32
  let v893 : BitVec 32 := Scalar.addi arg19 c1_i32_444
  let v894 : Index := Scalar.indexCast v893
  ![v894.toNat]
def k0_off538 (v897 : BitVec 32) : Fin 2 → Nat :=
  let c2304_i32_445 : BitVec 32 := 2304#32
  let v898 : BitVec 32 := Scalar.subi v897 c2304_i32_445
  let v912 : Index := Scalar.indexCast v898
  let c0_450 : Index := 0#32
  ![v912.toNat, 0]

def k0_off539 (v897 : BitVec 32) : Fin 2 → Nat :=
  let c2304_i32_445 : BitVec 32 := 2304#32
  let v898 : BitVec 32 := Scalar.subi v897 c2304_i32_445
  let v915 : Index := Scalar.indexCast v898
  let c16_451 : Index := 16#32
  ![v915.toNat, 16]

def k0_chk190 (v897 : BitVec 32) : Prop :=
  (∀ a, (k0_off538 v897) a + S1x16.size a ≤ S257x32.size a) ∧
  (∀ a, (k0_off539 v897) a + S1x16.size a ≤ S257x32.size a)
theorem k0_off538_inb : ∀ (v897 : BitVec 32) (k0_hw190 : k0_chk190 v897), ∀ a, (k0_off538 v897) a + S1x16.size a ≤ S257x32.size a := fun v897 k0_hw190 => k0_hw190.1
theorem k0_off539_inb : ∀ (v897 : BitVec 32) (k0_hw190 : k0_chk190 v897), ∀ a, (k0_off539 v897) a + S1x16.size a ≤ S257x32.size a := fun v897 k0_hw190 => k0_hw190.2

def k0_off540 (v52 : BitVec 32) (v105 : BitVec 32) (v158 : BitVec 32) (v211 : BitVec 32) (v264 : BitVec 32) (v317 : BitVec 32) (v370 : BitVec 32) (v423 : BitVec 32) (v476 : BitVec 32) (v529 : BitVec 32) (k0_t52 : Fin (k0_t52_loop v52 v105 v158 v211 v264 v317 v370 v423 v476 v529).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v532 : BitVec 32 := Scalar.subi v531 v516
  let c0_i32_263 : BitVec 32 := 0#32
  let v533 : BitVec 32 := Scalar.maxsi v532 c0_i32_263
  let c0_i32_265 : BitVec 32 := 0#32
  let v535 : BitVec 1 := Scalar.cmpi .sgt v533 c0_i32_265
  let v536 : BitVec 32 := Scalar.extui v535
  let c0_i32_266 : BitVec 32 := 0#32
  let v537 : BitVec 1 := Scalar.cmpi .slt v533 c0_i32_266
  let v538 : BitVec 32 := Scalar.extui v537
  let v539 : BitVec 32 := Scalar.subi v536 v538
  let c8_i32_264 : BitVec 32 := 8#32
  let c0_i32_267 : BitVec 32 := 0#32
  let v540 : BitVec 1 := Scalar.cmpi .sgt c8_i32_264 c0_i32_267
  let v541 : BitVec 32 := Scalar.extui v540
  let c0_i32_268 : BitVec 32 := 0#32
  let v542 : BitVec 1 := Scalar.cmpi .slt c8_i32_264 c0_i32_268
  let v543 : BitVec 32 := Scalar.extui v542
  let v544 : BitVec 32 := Scalar.subi v541 v543
  let v545 : BitVec 1 := Scalar.cmpi .ne v539 v544
  let v546 : BitVec 32 := Scalar.remsi v533 c8_i32_264
  let c0_i32_269 : BitVec 32 := 0#32
  let v547 : BitVec 1 := Scalar.cmpi .ne v546 c0_i32_269
  let v548 : BitVec 1 := Scalar.andi v545 v547
  let v534 : BitVec 32 := Scalar.divsi v533 c8_i32_264
  let c1_i32_270 : BitVec 32 := 1#32
  let v549 : BitVec 32 := Scalar.subi v534 c1_i32_270
  let v550 : BitVec 32 := Scalar.select v548 v549 v534
  let c8_i32_275 : BitVec 32 := 8#32
  let v558 : BitVec 32 := Scalar.muli v550 c8_i32_275
  let v559 : BitVec 32 := Scalar.addi v516 v558
  let c1_i32_277 : BitVec 32 := 1#32
  let arg19 : BitVec 32 := Scf.iv v559 c1_i32_277 k0_t52
  let c1_i32_452 : BitVec 32 := 1#32
  let v920 : BitVec 32 := Scalar.addi arg19 c1_i32_452
  let v921 : Index := Scalar.indexCast v920
  let c0_453 : Index := 0#32
  ![v921.toNat, 0]
def k0_off541 (v52 : BitVec 32) (v105 : BitVec 32) (v158 : BitVec 32) (v211 : BitVec 32) (v264 : BitVec 32) (v317 : BitVec 32) (v370 : BitVec 32) (v423 : BitVec 32) (v476 : BitVec 32) (v529 : BitVec 32) (k0_t52 : Fin (k0_t52_loop v52 v105 v158 v211 v264 v317 v370 v423 v476 v529).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v532 : BitVec 32 := Scalar.subi v531 v516
  let c0_i32_263 : BitVec 32 := 0#32
  let v533 : BitVec 32 := Scalar.maxsi v532 c0_i32_263
  let c0_i32_265 : BitVec 32 := 0#32
  let v535 : BitVec 1 := Scalar.cmpi .sgt v533 c0_i32_265
  let v536 : BitVec 32 := Scalar.extui v535
  let c0_i32_266 : BitVec 32 := 0#32
  let v537 : BitVec 1 := Scalar.cmpi .slt v533 c0_i32_266
  let v538 : BitVec 32 := Scalar.extui v537
  let v539 : BitVec 32 := Scalar.subi v536 v538
  let c8_i32_264 : BitVec 32 := 8#32
  let c0_i32_267 : BitVec 32 := 0#32
  let v540 : BitVec 1 := Scalar.cmpi .sgt c8_i32_264 c0_i32_267
  let v541 : BitVec 32 := Scalar.extui v540
  let c0_i32_268 : BitVec 32 := 0#32
  let v542 : BitVec 1 := Scalar.cmpi .slt c8_i32_264 c0_i32_268
  let v543 : BitVec 32 := Scalar.extui v542
  let v544 : BitVec 32 := Scalar.subi v541 v543
  let v545 : BitVec 1 := Scalar.cmpi .ne v539 v544
  let v546 : BitVec 32 := Scalar.remsi v533 c8_i32_264
  let c0_i32_269 : BitVec 32 := 0#32
  let v547 : BitVec 1 := Scalar.cmpi .ne v546 c0_i32_269
  let v548 : BitVec 1 := Scalar.andi v545 v547
  let v534 : BitVec 32 := Scalar.divsi v533 c8_i32_264
  let c1_i32_270 : BitVec 32 := 1#32
  let v549 : BitVec 32 := Scalar.subi v534 c1_i32_270
  let v550 : BitVec 32 := Scalar.select v548 v549 v534
  let c8_i32_275 : BitVec 32 := 8#32
  let v558 : BitVec 32 := Scalar.muli v550 c8_i32_275
  let v559 : BitVec 32 := Scalar.addi v516 v558
  let c1_i32_277 : BitVec 32 := 1#32
  let arg19 : BitVec 32 := Scf.iv v559 c1_i32_277 k0_t52
  let c1_i32_454 : BitVec 32 := 1#32
  let v925 : BitVec 32 := Scalar.addi arg19 c1_i32_454
  let v926 : Index := Scalar.indexCast v925
  let c16_455 : Index := 16#32
  ![v926.toNat, 16]
@[reducible] def k0_t53_loop (v52 : BitVec 32) (v105 : BitVec 32) (v158 : BitVec 32) (v211 : BitVec 32) (v264 : BitVec 32) (v317 : BitVec 32) (v370 : BitVec 32) (v423 : BitVec 32) (v476 : BitVec 32) (v529 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v532 : BitVec 32 := Scalar.subi v531 v516
  let c0_i32_263 : BitVec 32 := 0#32
  let v533 : BitVec 32 := Scalar.maxsi v532 c0_i32_263
  let c0_i32_265 : BitVec 32 := 0#32
  let v535 : BitVec 1 := Scalar.cmpi .sgt v533 c0_i32_265
  let v536 : BitVec 32 := Scalar.extui v535
  let c0_i32_266 : BitVec 32 := 0#32
  let v537 : BitVec 1 := Scalar.cmpi .slt v533 c0_i32_266
  let v538 : BitVec 32 := Scalar.extui v537
  let v539 : BitVec 32 := Scalar.subi v536 v538
  let c8_i32_264 : BitVec 32 := 8#32
  let c0_i32_267 : BitVec 32 := 0#32
  let v540 : BitVec 1 := Scalar.cmpi .sgt c8_i32_264 c0_i32_267
  let v541 : BitVec 32 := Scalar.extui v540
  let c0_i32_268 : BitVec 32 := 0#32
  let v542 : BitVec 1 := Scalar.cmpi .slt c8_i32_264 c0_i32_268
  let v543 : BitVec 32 := Scalar.extui v542
  let v544 : BitVec 32 := Scalar.subi v541 v543
  let v545 : BitVec 1 := Scalar.cmpi .ne v539 v544
  let v546 : BitVec 32 := Scalar.remsi v533 c8_i32_264
  let c0_i32_269 : BitVec 32 := 0#32
  let v547 : BitVec 1 := Scalar.cmpi .ne v546 c0_i32_269
  let v548 : BitVec 1 := Scalar.andi v545 v547
  let v534 : BitVec 32 := Scalar.divsi v533 c8_i32_264
  let c1_i32_270 : BitVec 32 := 1#32
  let v549 : BitVec 32 := Scalar.subi v534 c1_i32_270
  let v550 : BitVec 32 := Scalar.select v548 v549 v534
  let c8_i32_275 : BitVec 32 := 8#32
  let v558 : BitVec 32 := Scalar.muli v550 c8_i32_275
  let v559 : BitVec 32 := Scalar.addi v516 v558
  let v560 : BitVec 32 := Scalar.subi v531 v559
  let c1_i32_276 : BitVec 32 := 1#32
  let v562 : BitVec 32 := Scalar.divsi v560 c1_i32_276
  let v563 : BitVec 32 := Scalar.muli v562 c1_i32_276
  let v564 : BitVec 32 := Scalar.addi v559 v563
  let v561 : BitVec 32 := Scalar.addi v559 v560
  let c1_i32_278 : BitVec 32 := 1#32
  ⟨v564, v561, c1_i32_278⟩
def k0_off542 (v52 : BitVec 32) (v105 : BitVec 32) (v158 : BitVec 32) (v211 : BitVec 32) (v264 : BitVec 32) (v317 : BitVec 32) (v370 : BitVec 32) (v423 : BitVec 32) (v476 : BitVec 32) (v529 : BitVec 32) (k0_t53 : Fin (k0_t53_loop v52 v105 v158 v211 v264 v317 v370 v423 v476 v529).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v532 : BitVec 32 := Scalar.subi v531 v516
  let c0_i32_263 : BitVec 32 := 0#32
  let v533 : BitVec 32 := Scalar.maxsi v532 c0_i32_263
  let c0_i32_265 : BitVec 32 := 0#32
  let v535 : BitVec 1 := Scalar.cmpi .sgt v533 c0_i32_265
  let v536 : BitVec 32 := Scalar.extui v535
  let c0_i32_266 : BitVec 32 := 0#32
  let v537 : BitVec 1 := Scalar.cmpi .slt v533 c0_i32_266
  let v538 : BitVec 32 := Scalar.extui v537
  let v539 : BitVec 32 := Scalar.subi v536 v538
  let c8_i32_264 : BitVec 32 := 8#32
  let c0_i32_267 : BitVec 32 := 0#32
  let v540 : BitVec 1 := Scalar.cmpi .sgt c8_i32_264 c0_i32_267
  let v541 : BitVec 32 := Scalar.extui v540
  let c0_i32_268 : BitVec 32 := 0#32
  let v542 : BitVec 1 := Scalar.cmpi .slt c8_i32_264 c0_i32_268
  let v543 : BitVec 32 := Scalar.extui v542
  let v544 : BitVec 32 := Scalar.subi v541 v543
  let v545 : BitVec 1 := Scalar.cmpi .ne v539 v544
  let v546 : BitVec 32 := Scalar.remsi v533 c8_i32_264
  let c0_i32_269 : BitVec 32 := 0#32
  let v547 : BitVec 1 := Scalar.cmpi .ne v546 c0_i32_269
  let v548 : BitVec 1 := Scalar.andi v545 v547
  let v534 : BitVec 32 := Scalar.divsi v533 c8_i32_264
  let c1_i32_270 : BitVec 32 := 1#32
  let v549 : BitVec 32 := Scalar.subi v534 c1_i32_270
  let v550 : BitVec 32 := Scalar.select v548 v549 v534
  let c8_i32_275 : BitVec 32 := 8#32
  let v558 : BitVec 32 := Scalar.muli v550 c8_i32_275
  let v559 : BitVec 32 := Scalar.addi v516 v558
  let v560 : BitVec 32 := Scalar.subi v531 v559
  let c1_i32_276 : BitVec 32 := 1#32
  let v562 : BitVec 32 := Scalar.divsi v560 c1_i32_276
  let v563 : BitVec 32 := Scalar.muli v562 c1_i32_276
  let v564 : BitVec 32 := Scalar.addi v559 v563
  let c1_i32_278 : BitVec 32 := 1#32
  let arg19 : BitVec 32 := Scf.iv v564 c1_i32_278 k0_t53
  let c1_i32_444 : BitVec 32 := 1#32
  let v893 : BitVec 32 := Scalar.addi arg19 c1_i32_444
  let v894 : Index := Scalar.indexCast v893
  ![v894.toNat]
def k0_off543 (v897 : BitVec 32) : Fin 2 → Nat :=
  let c2304_i32_445 : BitVec 32 := 2304#32
  let v898 : BitVec 32 := Scalar.subi v897 c2304_i32_445
  let v912 : Index := Scalar.indexCast v898
  let c0_450 : Index := 0#32
  ![v912.toNat, 0]

def k0_off544 (v897 : BitVec 32) : Fin 2 → Nat :=
  let c2304_i32_445 : BitVec 32 := 2304#32
  let v898 : BitVec 32 := Scalar.subi v897 c2304_i32_445
  let v915 : Index := Scalar.indexCast v898
  let c16_451 : Index := 16#32
  ![v915.toNat, 16]

def k0_chk191 (v897 : BitVec 32) : Prop :=
  (∀ a, (k0_off543 v897) a + S1x16.size a ≤ S257x32.size a) ∧
  (∀ a, (k0_off544 v897) a + S1x16.size a ≤ S257x32.size a)
theorem k0_off543_inb : ∀ (v897 : BitVec 32) (k0_hw191 : k0_chk191 v897), ∀ a, (k0_off543 v897) a + S1x16.size a ≤ S257x32.size a := fun v897 k0_hw191 => k0_hw191.1
theorem k0_off544_inb : ∀ (v897 : BitVec 32) (k0_hw191 : k0_chk191 v897), ∀ a, (k0_off544 v897) a + S1x16.size a ≤ S257x32.size a := fun v897 k0_hw191 => k0_hw191.2

def k0_off545 (v52 : BitVec 32) (v105 : BitVec 32) (v158 : BitVec 32) (v211 : BitVec 32) (v264 : BitVec 32) (v317 : BitVec 32) (v370 : BitVec 32) (v423 : BitVec 32) (v476 : BitVec 32) (v529 : BitVec 32) (k0_t53 : Fin (k0_t53_loop v52 v105 v158 v211 v264 v317 v370 v423 v476 v529).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v532 : BitVec 32 := Scalar.subi v531 v516
  let c0_i32_263 : BitVec 32 := 0#32
  let v533 : BitVec 32 := Scalar.maxsi v532 c0_i32_263
  let c0_i32_265 : BitVec 32 := 0#32
  let v535 : BitVec 1 := Scalar.cmpi .sgt v533 c0_i32_265
  let v536 : BitVec 32 := Scalar.extui v535
  let c0_i32_266 : BitVec 32 := 0#32
  let v537 : BitVec 1 := Scalar.cmpi .slt v533 c0_i32_266
  let v538 : BitVec 32 := Scalar.extui v537
  let v539 : BitVec 32 := Scalar.subi v536 v538
  let c8_i32_264 : BitVec 32 := 8#32
  let c0_i32_267 : BitVec 32 := 0#32
  let v540 : BitVec 1 := Scalar.cmpi .sgt c8_i32_264 c0_i32_267
  let v541 : BitVec 32 := Scalar.extui v540
  let c0_i32_268 : BitVec 32 := 0#32
  let v542 : BitVec 1 := Scalar.cmpi .slt c8_i32_264 c0_i32_268
  let v543 : BitVec 32 := Scalar.extui v542
  let v544 : BitVec 32 := Scalar.subi v541 v543
  let v545 : BitVec 1 := Scalar.cmpi .ne v539 v544
  let v546 : BitVec 32 := Scalar.remsi v533 c8_i32_264
  let c0_i32_269 : BitVec 32 := 0#32
  let v547 : BitVec 1 := Scalar.cmpi .ne v546 c0_i32_269
  let v548 : BitVec 1 := Scalar.andi v545 v547
  let v534 : BitVec 32 := Scalar.divsi v533 c8_i32_264
  let c1_i32_270 : BitVec 32 := 1#32
  let v549 : BitVec 32 := Scalar.subi v534 c1_i32_270
  let v550 : BitVec 32 := Scalar.select v548 v549 v534
  let c8_i32_275 : BitVec 32 := 8#32
  let v558 : BitVec 32 := Scalar.muli v550 c8_i32_275
  let v559 : BitVec 32 := Scalar.addi v516 v558
  let v560 : BitVec 32 := Scalar.subi v531 v559
  let c1_i32_276 : BitVec 32 := 1#32
  let v562 : BitVec 32 := Scalar.divsi v560 c1_i32_276
  let v563 : BitVec 32 := Scalar.muli v562 c1_i32_276
  let v564 : BitVec 32 := Scalar.addi v559 v563
  let c1_i32_278 : BitVec 32 := 1#32
  let arg19 : BitVec 32 := Scf.iv v564 c1_i32_278 k0_t53
  let c1_i32_452 : BitVec 32 := 1#32
  let v920 : BitVec 32 := Scalar.addi arg19 c1_i32_452
  let v921 : Index := Scalar.indexCast v920
  let c0_453 : Index := 0#32
  ![v921.toNat, 0]
def k0_off546 (v52 : BitVec 32) (v105 : BitVec 32) (v158 : BitVec 32) (v211 : BitVec 32) (v264 : BitVec 32) (v317 : BitVec 32) (v370 : BitVec 32) (v423 : BitVec 32) (v476 : BitVec 32) (v529 : BitVec 32) (k0_t53 : Fin (k0_t53_loop v52 v105 v158 v211 v264 v317 v370 v423 v476 v529).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v532 : BitVec 32 := Scalar.subi v531 v516
  let c0_i32_263 : BitVec 32 := 0#32
  let v533 : BitVec 32 := Scalar.maxsi v532 c0_i32_263
  let c0_i32_265 : BitVec 32 := 0#32
  let v535 : BitVec 1 := Scalar.cmpi .sgt v533 c0_i32_265
  let v536 : BitVec 32 := Scalar.extui v535
  let c0_i32_266 : BitVec 32 := 0#32
  let v537 : BitVec 1 := Scalar.cmpi .slt v533 c0_i32_266
  let v538 : BitVec 32 := Scalar.extui v537
  let v539 : BitVec 32 := Scalar.subi v536 v538
  let c8_i32_264 : BitVec 32 := 8#32
  let c0_i32_267 : BitVec 32 := 0#32
  let v540 : BitVec 1 := Scalar.cmpi .sgt c8_i32_264 c0_i32_267
  let v541 : BitVec 32 := Scalar.extui v540
  let c0_i32_268 : BitVec 32 := 0#32
  let v542 : BitVec 1 := Scalar.cmpi .slt c8_i32_264 c0_i32_268
  let v543 : BitVec 32 := Scalar.extui v542
  let v544 : BitVec 32 := Scalar.subi v541 v543
  let v545 : BitVec 1 := Scalar.cmpi .ne v539 v544
  let v546 : BitVec 32 := Scalar.remsi v533 c8_i32_264
  let c0_i32_269 : BitVec 32 := 0#32
  let v547 : BitVec 1 := Scalar.cmpi .ne v546 c0_i32_269
  let v548 : BitVec 1 := Scalar.andi v545 v547
  let v534 : BitVec 32 := Scalar.divsi v533 c8_i32_264
  let c1_i32_270 : BitVec 32 := 1#32
  let v549 : BitVec 32 := Scalar.subi v534 c1_i32_270
  let v550 : BitVec 32 := Scalar.select v548 v549 v534
  let c8_i32_275 : BitVec 32 := 8#32
  let v558 : BitVec 32 := Scalar.muli v550 c8_i32_275
  let v559 : BitVec 32 := Scalar.addi v516 v558
  let v560 : BitVec 32 := Scalar.subi v531 v559
  let c1_i32_276 : BitVec 32 := 1#32
  let v562 : BitVec 32 := Scalar.divsi v560 c1_i32_276
  let v563 : BitVec 32 := Scalar.muli v562 c1_i32_276
  let v564 : BitVec 32 := Scalar.addi v559 v563
  let c1_i32_278 : BitVec 32 := 1#32
  let arg19 : BitVec 32 := Scf.iv v564 c1_i32_278 k0_t53
  let c1_i32_454 : BitVec 32 := 1#32
  let v925 : BitVec 32 := Scalar.addi arg19 c1_i32_454
  let v926 : Index := Scalar.indexCast v925
  let c16_455 : Index := 16#32
  ![v926.toNat, 16]

def k0_chk173 (v52 : BitVec 32) (v105 : BitVec 32) (v158 : BitVec 32) (v211 : BitVec 32) (v264 : BitVec 32) (v317 : BitVec 32) (v370 : BitVec 32) (v423 : BitVec 32) (v476 : BitVec 32) (v529 : BitVec 32) : Prop :=
  ((k0_t50_loop v52 v105 v158 v211 v264 v317 v370 v423 v476 v529).OK) ∧
  (∀ k0_t50 : Fin (k0_t50_loop v52 v105 v158 v211 v264 v317 v370 v423 v476 v529).trips, ∀ (r : Fin 2), ∀ a, (k0_off499 v52 v105 v158 v211 v264 v317 v370 v423 v476 v529 k0_t50 (BitVec.ofNat 32 (1 + r.val))) a + S16.size a ≤ S4112.size a) ∧
  (∀ k0_t50 : Fin (k0_t50_loop v52 v105 v158 v211 v264 v317 v370 v423 v476 v529).trips, ∀ (r : Fin 8), ∀ a, (k0_off516 v52 v105 v158 v211 v264 v317 v370 v423 v476 v529 k0_t50 (BitVec.ofNat 32 r.val)) a + S1x16.size a ≤ S2050x32.size a) ∧
  (∀ k0_t50 : Fin (k0_t50_loop v52 v105 v158 v211 v264 v317 v370 v423 v476 v529).trips, ∀ (r : Fin 8), ∀ a, (k0_off517 v52 v105 v158 v211 v264 v317 v370 v423 v476 v529 k0_t50 (BitVec.ofNat 32 r.val)) a + S1x16.size a ≤ S2050x32.size a) ∧
  ((k0_t51_loop v52 v105 v158 v211 v264 v317 v370 v423 v476 v529).OK) ∧
  (∀ k0_t51 : Fin (k0_t51_loop v52 v105 v158 v211 v264 v317 v370 v423 v476 v529).trips, ∀ (r : Fin 2), ∀ a, (k0_off518 v52 v105 v158 v211 v264 v317 v370 v423 v476 v529 k0_t51 (BitVec.ofNat 32 (1 + r.val))) a + S16.size a ≤ S4112.size a) ∧
  (∀ k0_t51 : Fin (k0_t51_loop v52 v105 v158 v211 v264 v317 v370 v423 v476 v529).trips, ∀ (r : Fin 8), ∀ a, (k0_off535 v52 v105 v158 v211 v264 v317 v370 v423 v476 v529 k0_t51 (BitVec.ofNat 32 r.val)) a + S1x16.size a ≤ S2050x32.size a) ∧
  (∀ k0_t51 : Fin (k0_t51_loop v52 v105 v158 v211 v264 v317 v370 v423 v476 v529).trips, ∀ (r : Fin 8), ∀ a, (k0_off536 v52 v105 v158 v211 v264 v317 v370 v423 v476 v529 k0_t51 (BitVec.ofNat 32 r.val)) a + S1x16.size a ≤ S2050x32.size a) ∧
  ((k0_t52_loop v52 v105 v158 v211 v264 v317 v370 v423 v476 v529).OK) ∧
  (∀ k0_t52 : Fin (k0_t52_loop v52 v105 v158 v211 v264 v317 v370 v423 v476 v529).trips, ∀ a, (k0_off537 v52 v105 v158 v211 v264 v317 v370 v423 v476 v529 k0_t52) a + S16.size a ≤ S4112.size a) ∧
  (∀ k0_t52 : Fin (k0_t52_loop v52 v105 v158 v211 v264 v317 v370 v423 v476 v529).trips, ∀ a, (k0_off540 v52 v105 v158 v211 v264 v317 v370 v423 v476 v529 k0_t52) a + S1x16.size a ≤ S2050x32.size a) ∧
  (∀ k0_t52 : Fin (k0_t52_loop v52 v105 v158 v211 v264 v317 v370 v423 v476 v529).trips, ∀ a, (k0_off541 v52 v105 v158 v211 v264 v317 v370 v423 v476 v529 k0_t52) a + S1x16.size a ≤ S2050x32.size a) ∧
  ((k0_t53_loop v52 v105 v158 v211 v264 v317 v370 v423 v476 v529).OK) ∧
  (∀ k0_t53 : Fin (k0_t53_loop v52 v105 v158 v211 v264 v317 v370 v423 v476 v529).trips, ∀ a, (k0_off542 v52 v105 v158 v211 v264 v317 v370 v423 v476 v529 k0_t53) a + S16.size a ≤ S4112.size a) ∧
  (∀ k0_t53 : Fin (k0_t53_loop v52 v105 v158 v211 v264 v317 v370 v423 v476 v529).trips, ∀ a, (k0_off545 v52 v105 v158 v211 v264 v317 v370 v423 v476 v529 k0_t53) a + S1x16.size a ≤ S2050x32.size a) ∧
  (∀ k0_t53 : Fin (k0_t53_loop v52 v105 v158 v211 v264 v317 v370 v423 v476 v529).trips, ∀ a, (k0_off546 v52 v105 v158 v211 v264 v317 v370 v423 v476 v529 k0_t53) a + S1x16.size a ≤ S2050x32.size a)
theorem k0_t50_ok : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (k0_hw173 : k0_chk173 v52 v105 v158 v211 v264 v317 v370 v423 v476 v529), (k0_t50_loop v52 v105 v158 v211 v264 v317 v370 v423 v476 v529).OK := fun v52 v105 v158 v211 v264 v317 v370 v423 v476 v529 k0_hw173 => k0_hw173.1
theorem k0_off499_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (k0_hw173 : k0_chk173 v52 v105 v158 v211 v264 v317 v370 v423 v476 v529) (k0_t50 : Fin (k0_t50_loop v52 v105 v158 v211 v264 v317 v370 v423 v476 v529).trips), ∀ (r : Fin 2), ∀ a, (k0_off499 v52 v105 v158 v211 v264 v317 v370 v423 v476 v529 k0_t50 (BitVec.ofNat 32 (1 + r.val))) a + S16.size a ≤ S4112.size a := fun v52 v105 v158 v211 v264 v317 v370 v423 v476 v529 k0_hw173 k0_t50 r => k0_hw173.2.1 k0_t50 r
theorem k0_off516_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (k0_hw173 : k0_chk173 v52 v105 v158 v211 v264 v317 v370 v423 v476 v529) (k0_t50 : Fin (k0_t50_loop v52 v105 v158 v211 v264 v317 v370 v423 v476 v529).trips), ∀ (r : Fin 8), ∀ a, (k0_off516 v52 v105 v158 v211 v264 v317 v370 v423 v476 v529 k0_t50 (BitVec.ofNat 32 r.val)) a + S1x16.size a ≤ S2050x32.size a := fun v52 v105 v158 v211 v264 v317 v370 v423 v476 v529 k0_hw173 k0_t50 r => k0_hw173.2.2.1 k0_t50 r
theorem k0_off517_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (k0_hw173 : k0_chk173 v52 v105 v158 v211 v264 v317 v370 v423 v476 v529) (k0_t50 : Fin (k0_t50_loop v52 v105 v158 v211 v264 v317 v370 v423 v476 v529).trips), ∀ (r : Fin 8), ∀ a, (k0_off517 v52 v105 v158 v211 v264 v317 v370 v423 v476 v529 k0_t50 (BitVec.ofNat 32 r.val)) a + S1x16.size a ≤ S2050x32.size a := fun v52 v105 v158 v211 v264 v317 v370 v423 v476 v529 k0_hw173 k0_t50 r => k0_hw173.2.2.2.1 k0_t50 r
theorem k0_t51_ok : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (k0_hw173 : k0_chk173 v52 v105 v158 v211 v264 v317 v370 v423 v476 v529), (k0_t51_loop v52 v105 v158 v211 v264 v317 v370 v423 v476 v529).OK := fun v52 v105 v158 v211 v264 v317 v370 v423 v476 v529 k0_hw173 => k0_hw173.2.2.2.2.1
theorem k0_off518_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (k0_hw173 : k0_chk173 v52 v105 v158 v211 v264 v317 v370 v423 v476 v529) (k0_t51 : Fin (k0_t51_loop v52 v105 v158 v211 v264 v317 v370 v423 v476 v529).trips), ∀ (r : Fin 2), ∀ a, (k0_off518 v52 v105 v158 v211 v264 v317 v370 v423 v476 v529 k0_t51 (BitVec.ofNat 32 (1 + r.val))) a + S16.size a ≤ S4112.size a := fun v52 v105 v158 v211 v264 v317 v370 v423 v476 v529 k0_hw173 k0_t51 r => k0_hw173.2.2.2.2.2.1 k0_t51 r
theorem k0_off535_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (k0_hw173 : k0_chk173 v52 v105 v158 v211 v264 v317 v370 v423 v476 v529) (k0_t51 : Fin (k0_t51_loop v52 v105 v158 v211 v264 v317 v370 v423 v476 v529).trips), ∀ (r : Fin 8), ∀ a, (k0_off535 v52 v105 v158 v211 v264 v317 v370 v423 v476 v529 k0_t51 (BitVec.ofNat 32 r.val)) a + S1x16.size a ≤ S2050x32.size a := fun v52 v105 v158 v211 v264 v317 v370 v423 v476 v529 k0_hw173 k0_t51 r => k0_hw173.2.2.2.2.2.2.1 k0_t51 r
theorem k0_off536_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (k0_hw173 : k0_chk173 v52 v105 v158 v211 v264 v317 v370 v423 v476 v529) (k0_t51 : Fin (k0_t51_loop v52 v105 v158 v211 v264 v317 v370 v423 v476 v529).trips), ∀ (r : Fin 8), ∀ a, (k0_off536 v52 v105 v158 v211 v264 v317 v370 v423 v476 v529 k0_t51 (BitVec.ofNat 32 r.val)) a + S1x16.size a ≤ S2050x32.size a := fun v52 v105 v158 v211 v264 v317 v370 v423 v476 v529 k0_hw173 k0_t51 r => k0_hw173.2.2.2.2.2.2.2.1 k0_t51 r
theorem k0_t52_ok : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (k0_hw173 : k0_chk173 v52 v105 v158 v211 v264 v317 v370 v423 v476 v529), (k0_t52_loop v52 v105 v158 v211 v264 v317 v370 v423 v476 v529).OK := fun v52 v105 v158 v211 v264 v317 v370 v423 v476 v529 k0_hw173 => k0_hw173.2.2.2.2.2.2.2.2.1
theorem k0_off537_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (k0_hw173 : k0_chk173 v52 v105 v158 v211 v264 v317 v370 v423 v476 v529) (k0_t52 : Fin (k0_t52_loop v52 v105 v158 v211 v264 v317 v370 v423 v476 v529).trips), ∀ a, (k0_off537 v52 v105 v158 v211 v264 v317 v370 v423 v476 v529 k0_t52) a + S16.size a ≤ S4112.size a := fun v52 v105 v158 v211 v264 v317 v370 v423 v476 v529 k0_hw173 k0_t52 => k0_hw173.2.2.2.2.2.2.2.2.2.1 k0_t52
theorem k0_off540_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (k0_hw173 : k0_chk173 v52 v105 v158 v211 v264 v317 v370 v423 v476 v529) (k0_t52 : Fin (k0_t52_loop v52 v105 v158 v211 v264 v317 v370 v423 v476 v529).trips), ∀ a, (k0_off540 v52 v105 v158 v211 v264 v317 v370 v423 v476 v529 k0_t52) a + S1x16.size a ≤ S2050x32.size a := fun v52 v105 v158 v211 v264 v317 v370 v423 v476 v529 k0_hw173 k0_t52 => k0_hw173.2.2.2.2.2.2.2.2.2.2.1 k0_t52
theorem k0_off541_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (k0_hw173 : k0_chk173 v52 v105 v158 v211 v264 v317 v370 v423 v476 v529) (k0_t52 : Fin (k0_t52_loop v52 v105 v158 v211 v264 v317 v370 v423 v476 v529).trips), ∀ a, (k0_off541 v52 v105 v158 v211 v264 v317 v370 v423 v476 v529 k0_t52) a + S1x16.size a ≤ S2050x32.size a := fun v52 v105 v158 v211 v264 v317 v370 v423 v476 v529 k0_hw173 k0_t52 => k0_hw173.2.2.2.2.2.2.2.2.2.2.2.1 k0_t52
theorem k0_t53_ok : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (k0_hw173 : k0_chk173 v52 v105 v158 v211 v264 v317 v370 v423 v476 v529), (k0_t53_loop v52 v105 v158 v211 v264 v317 v370 v423 v476 v529).OK := fun v52 v105 v158 v211 v264 v317 v370 v423 v476 v529 k0_hw173 => k0_hw173.2.2.2.2.2.2.2.2.2.2.2.2.1
theorem k0_off542_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (k0_hw173 : k0_chk173 v52 v105 v158 v211 v264 v317 v370 v423 v476 v529) (k0_t53 : Fin (k0_t53_loop v52 v105 v158 v211 v264 v317 v370 v423 v476 v529).trips), ∀ a, (k0_off542 v52 v105 v158 v211 v264 v317 v370 v423 v476 v529 k0_t53) a + S16.size a ≤ S4112.size a := fun v52 v105 v158 v211 v264 v317 v370 v423 v476 v529 k0_hw173 k0_t53 => k0_hw173.2.2.2.2.2.2.2.2.2.2.2.2.2.1 k0_t53
theorem k0_off545_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (k0_hw173 : k0_chk173 v52 v105 v158 v211 v264 v317 v370 v423 v476 v529) (k0_t53 : Fin (k0_t53_loop v52 v105 v158 v211 v264 v317 v370 v423 v476 v529).trips), ∀ a, (k0_off545 v52 v105 v158 v211 v264 v317 v370 v423 v476 v529 k0_t53) a + S1x16.size a ≤ S2050x32.size a := fun v52 v105 v158 v211 v264 v317 v370 v423 v476 v529 k0_hw173 k0_t53 => k0_hw173.2.2.2.2.2.2.2.2.2.2.2.2.2.2.1 k0_t53
theorem k0_off546_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (k0_hw173 : k0_chk173 v52 v105 v158 v211 v264 v317 v370 v423 v476 v529) (k0_t53 : Fin (k0_t53_loop v52 v105 v158 v211 v264 v317 v370 v423 v476 v529).trips), ∀ a, (k0_off546 v52 v105 v158 v211 v264 v317 v370 v423 v476 v529 k0_t53) a + S1x16.size a ≤ S2050x32.size a := fun v52 v105 v158 v211 v264 v317 v370 v423 v476 v529 k0_hw173 k0_t53 => k0_hw173.2.2.2.2.2.2.2.2.2.2.2.2.2.2.2 k0_t53

def k0_off547 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c2560_i32_279 : BitVec 32 := 2560#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 2560, v3.toNat]
@[reducible] def k0_t54_loop : Scf.Loop 32 :=
  let c0_i32_281 : BitVec 32 := 0#32
  let c16_i32_282 : BitVec 32 := 16#32
  let v574 : BitVec 32 := Scalar.addi c0_i32_281 c16_i32_282
  let c1_i32_283 : BitVec 32 := 1#32
  ⟨c0_i32_281, v574, c1_i32_283⟩
def k0_off548 (k0_t54 : Fin k0_t54_loop.trips) (c0_i32_445 : BitVec 32) : Fin 2 → Nat :=
  let c0_i32_281 : BitVec 32 := 0#32
  let c1_i32_283 : BitVec 32 := 1#32
  let arg19 : BitVec 32 := Scf.iv c0_i32_281 c1_i32_283 k0_t54
  let c16_i32_444 : BitVec 32 := 16#32
  let v893 : BitVec 32 := Scalar.muli arg19 c16_i32_444
  let v894 : BitVec 32 := Scalar.addi v893 c0_i32_445
  let v895 : Index := Scalar.indexCast v894
  let c0_446 : Index := 0#32
  ![v895.toNat, 0]
def k0_off549 (k0_t54 : Fin k0_t54_loop.trips) (c0_i32_447 : BitVec 32) : Fin 2 → Nat :=
  let c0_i32_281 : BitVec 32 := 0#32
  let c1_i32_283 : BitVec 32 := 1#32
  let arg19 : BitVec 32 := Scf.iv c0_i32_281 c1_i32_283 k0_t54
  let c16_i32_444 : BitVec 32 := 16#32
  let v893 : BitVec 32 := Scalar.muli arg19 c16_i32_444
  let v898 : BitVec 32 := Scalar.addi v893 c0_i32_447
  let v899 : Index := Scalar.indexCast v898
  let c16_448 : Index := 16#32
  ![v899.toNat, 16]
def k0_off550 (k0_t54 : Fin k0_t54_loop.trips) (c0_i32_449 : BitVec 32) : Fin 2 → Nat :=
  let c0_i32_281 : BitVec 32 := 0#32
  let c1_i32_283 : BitVec 32 := 1#32
  let arg19 : BitVec 32 := Scf.iv c0_i32_281 c1_i32_283 k0_t54
  let c16_i32_444 : BitVec 32 := 16#32
  let v893 : BitVec 32 := Scalar.muli arg19 c16_i32_444
  let v902 : BitVec 32 := Scalar.addi v893 c0_i32_449
  let c1_i32_450 : BitVec 32 := 1#32
  let v903 : BitVec 32 := Scalar.addi v902 c1_i32_450
  let v904 : Index := Scalar.indexCast v903
  let c0_451 : Index := 0#32
  ![v904.toNat, 0]
def k0_off551 (k0_t54 : Fin k0_t54_loop.trips) (c0_i32_452 : BitVec 32) : Fin 2 → Nat :=
  let c0_i32_281 : BitVec 32 := 0#32
  let c1_i32_283 : BitVec 32 := 1#32
  let arg19 : BitVec 32 := Scf.iv c0_i32_281 c1_i32_283 k0_t54
  let c16_i32_444 : BitVec 32 := 16#32
  let v893 : BitVec 32 := Scalar.muli arg19 c16_i32_444
  let v906 : BitVec 32 := Scalar.addi v893 c0_i32_452
  let c1_i32_453 : BitVec 32 := 1#32
  let v907 : BitVec 32 := Scalar.addi v906 c1_i32_453
  let v908 : Index := Scalar.indexCast v907
  let c16_454 : Index := 16#32
  ![v908.toNat, 16]
def k0_off552 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c3072_i32 : BitVec 32 := 3072#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 3072, v3.toNat]
@[reducible] def k0_t55_loop (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) : Scf.Loop 32 :=
  let c0_i32_296 : BitVec 32 := 0#32
  let c1_i32_286 : BitVec 32 := 1#32
  let v583 : BitVec 32 := Scalar.subi v582 c1_i32_286
  let c2049_i32_287 : BitVec 32 := 2049#32
  let v584 : BitVec 32 := Scalar.minsi v583 c2049_i32_287
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let v585 : BitVec 32 := Scalar.subi v584 v569
  let c0_i32_288 : BitVec 32 := 0#32
  let v586 : BitVec 32 := Scalar.maxsi v585 c0_i32_288
  let c0_i32_290 : BitVec 32 := 0#32
  let v588 : BitVec 1 := Scalar.cmpi .sgt v586 c0_i32_290
  let v589 : BitVec 32 := Scalar.extui v588
  let c0_i32_291 : BitVec 32 := 0#32
  let v590 : BitVec 1 := Scalar.cmpi .slt v586 c0_i32_291
  let v591 : BitVec 32 := Scalar.extui v590
  let v592 : BitVec 32 := Scalar.subi v589 v591
  let c8_i32_289 : BitVec 32 := 8#32
  let c0_i32_292 : BitVec 32 := 0#32
  let v593 : BitVec 1 := Scalar.cmpi .sgt c8_i32_289 c0_i32_292
  let v594 : BitVec 32 := Scalar.extui v593
  let c0_i32_293 : BitVec 32 := 0#32
  let v595 : BitVec 1 := Scalar.cmpi .slt c8_i32_289 c0_i32_293
  let v596 : BitVec 32 := Scalar.extui v595
  let v597 : BitVec 32 := Scalar.subi v594 v596
  let v598 : BitVec 1 := Scalar.cmpi .ne v592 v597
  let v599 : BitVec 32 := Scalar.remsi v586 c8_i32_289
  let c0_i32_294 : BitVec 32 := 0#32
  let v600 : BitVec 1 := Scalar.cmpi .ne v599 c0_i32_294
  let v601 : BitVec 1 := Scalar.andi v598 v600
  let v587 : BitVec 32 := Scalar.divsi v586 c8_i32_289
  let c1_i32_295 : BitVec 32 := 1#32
  let v602 : BitVec 32 := Scalar.subi v587 c1_i32_295
  let v603 : BitVec 32 := Scalar.select v601 v602 v587
  let v604 : BitVec 32 := Scalar.subi v603 c0_i32_296
  let c1_i32_297 : BitVec 32 := 1#32
  let v606 : BitVec 32 := Scalar.divsi v604 c1_i32_297
  let v607 : BitVec 32 := Scalar.muli v606 c1_i32_297
  let v608 : BitVec 32 := Scalar.addi c0_i32_296 v607
  let c1_i32_298 : BitVec 32 := 1#32
  ⟨c0_i32_296, v608, c1_i32_298⟩

def k0_off553 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_t55 : Fin (k0_t55_loop v52 v105 v158 v211 v264 v317 v370 v423 v476 v529 v582).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c0_i32_296 : BitVec 32 := 0#32
  let c1_i32_298 : BitVec 32 := 1#32
  let arg19 : BitVec 32 := Scf.iv c0_i32_296 c1_i32_298 k0_t55
  let c8_i32_444 : BitVec 32 := 8#32
  let v893 : BitVec 32 := Scalar.muli arg19 c8_i32_444
  let v894 : BitVec 32 := Scalar.addi v569 v893
  let v895 : BitVec 32 := Scalar.addi v894 c1_i32_445
  let v896 : Index := Scalar.indexCast v895
  ![v896.toNat]
def k0_off554 (v912 : BitVec 32) : Fin 2 → Nat :=
  let c2560_i32_451 : BitVec 32 := 2560#32
  let v913 : BitVec 32 := Scalar.subi v912 c2560_i32_451
  let v914 : Index := Scalar.indexCast v913
  let c0_452 : Index := 0#32
  ![v914.toNat, 0]

def k0_off555 (v912 : BitVec 32) : Fin 2 → Nat :=
  let c2560_i32_451 : BitVec 32 := 2560#32
  let v913 : BitVec 32 := Scalar.subi v912 c2560_i32_451
  let v917 : Index := Scalar.indexCast v913
  let c16_453 : Index := 16#32
  ![v917.toNat, 16]

def k0_chk193 (v912 : BitVec 32) : Prop :=
  (∀ a, (k0_off554 v912) a + S1x16.size a ≤ S257x32.size a) ∧
  (∀ a, (k0_off555 v912) a + S1x16.size a ≤ S257x32.size a)
theorem k0_off554_inb : ∀ (v912 : BitVec 32) (k0_hw193 : k0_chk193 v912), ∀ a, (k0_off554 v912) a + S1x16.size a ≤ S257x32.size a := fun v912 k0_hw193 => k0_hw193.1
theorem k0_off555_inb : ∀ (v912 : BitVec 32) (k0_hw193 : k0_chk193 v912), ∀ a, (k0_off555 v912) a + S1x16.size a ≤ S257x32.size a := fun v912 k0_hw193 => k0_hw193.2

def k0_off556 (v921 : BitVec 32) : Fin 2 → Nat :=
  let c2560_i32_454 : BitVec 32 := 2560#32
  let v922 : BitVec 32 := Scalar.subi v921 c2560_i32_454
  let v923 : Index := Scalar.indexCast v922
  let c0_455 : Index := 0#32
  ![v923.toNat, 0]

def k0_off557 (v921 : BitVec 32) : Fin 2 → Nat :=
  let c2560_i32_454 : BitVec 32 := 2560#32
  let v922 : BitVec 32 := Scalar.subi v921 c2560_i32_454
  let v926 : Index := Scalar.indexCast v922
  let c16_456 : Index := 16#32
  ![v926.toNat, 16]

def k0_chk194 (v921 : BitVec 32) : Prop :=
  (∀ a, (k0_off556 v921) a + S1x16.size a ≤ S257x32.size a) ∧
  (∀ a, (k0_off557 v921) a + S1x16.size a ≤ S257x32.size a)
theorem k0_off556_inb : ∀ (v921 : BitVec 32) (k0_hw194 : k0_chk194 v921), ∀ a, (k0_off556 v921) a + S1x16.size a ≤ S257x32.size a := fun v921 k0_hw194 => k0_hw194.1
theorem k0_off557_inb : ∀ (v921 : BitVec 32) (k0_hw194 : k0_chk194 v921), ∀ a, (k0_off557 v921) a + S1x16.size a ≤ S257x32.size a := fun v921 k0_hw194 => k0_hw194.2

def k0_off558 (v930 : BitVec 32) : Fin 2 → Nat :=
  let c2560_i32_457 : BitVec 32 := 2560#32
  let v931 : BitVec 32 := Scalar.subi v930 c2560_i32_457
  let v932 : Index := Scalar.indexCast v931
  let c0_458 : Index := 0#32
  ![v932.toNat, 0]

def k0_off559 (v930 : BitVec 32) : Fin 2 → Nat :=
  let c2560_i32_457 : BitVec 32 := 2560#32
  let v931 : BitVec 32 := Scalar.subi v930 c2560_i32_457
  let v935 : Index := Scalar.indexCast v931
  let c16_459 : Index := 16#32
  ![v935.toNat, 16]

def k0_chk195 (v930 : BitVec 32) : Prop :=
  (∀ a, (k0_off558 v930) a + S1x16.size a ≤ S257x32.size a) ∧
  (∀ a, (k0_off559 v930) a + S1x16.size a ≤ S257x32.size a)
theorem k0_off558_inb : ∀ (v930 : BitVec 32) (k0_hw195 : k0_chk195 v930), ∀ a, (k0_off558 v930) a + S1x16.size a ≤ S257x32.size a := fun v930 k0_hw195 => k0_hw195.1
theorem k0_off559_inb : ∀ (v930 : BitVec 32) (k0_hw195 : k0_chk195 v930), ∀ a, (k0_off559 v930) a + S1x16.size a ≤ S257x32.size a := fun v930 k0_hw195 => k0_hw195.2

def k0_off560 (v939 : BitVec 32) : Fin 2 → Nat :=
  let c2560_i32_460 : BitVec 32 := 2560#32
  let v940 : BitVec 32 := Scalar.subi v939 c2560_i32_460
  let v941 : Index := Scalar.indexCast v940
  let c0_461 : Index := 0#32
  ![v941.toNat, 0]

def k0_off561 (v939 : BitVec 32) : Fin 2 → Nat :=
  let c2560_i32_460 : BitVec 32 := 2560#32
  let v940 : BitVec 32 := Scalar.subi v939 c2560_i32_460
  let v944 : Index := Scalar.indexCast v940
  let c16_462 : Index := 16#32
  ![v944.toNat, 16]

def k0_chk196 (v939 : BitVec 32) : Prop :=
  (∀ a, (k0_off560 v939) a + S1x16.size a ≤ S257x32.size a) ∧
  (∀ a, (k0_off561 v939) a + S1x16.size a ≤ S257x32.size a)
theorem k0_off560_inb : ∀ (v939 : BitVec 32) (k0_hw196 : k0_chk196 v939), ∀ a, (k0_off560 v939) a + S1x16.size a ≤ S257x32.size a := fun v939 k0_hw196 => k0_hw196.1
theorem k0_off561_inb : ∀ (v939 : BitVec 32) (k0_hw196 : k0_chk196 v939), ∀ a, (k0_off561 v939) a + S1x16.size a ≤ S257x32.size a := fun v939 k0_hw196 => k0_hw196.2

def k0_off562 (v948 : BitVec 32) : Fin 2 → Nat :=
  let c2560_i32_463 : BitVec 32 := 2560#32
  let v949 : BitVec 32 := Scalar.subi v948 c2560_i32_463
  let v950 : Index := Scalar.indexCast v949
  let c0_464 : Index := 0#32
  ![v950.toNat, 0]

def k0_off563 (v948 : BitVec 32) : Fin 2 → Nat :=
  let c2560_i32_463 : BitVec 32 := 2560#32
  let v949 : BitVec 32 := Scalar.subi v948 c2560_i32_463
  let v953 : Index := Scalar.indexCast v949
  let c16_465 : Index := 16#32
  ![v953.toNat, 16]

def k0_chk197 (v948 : BitVec 32) : Prop :=
  (∀ a, (k0_off562 v948) a + S1x16.size a ≤ S257x32.size a) ∧
  (∀ a, (k0_off563 v948) a + S1x16.size a ≤ S257x32.size a)
theorem k0_off562_inb : ∀ (v948 : BitVec 32) (k0_hw197 : k0_chk197 v948), ∀ a, (k0_off562 v948) a + S1x16.size a ≤ S257x32.size a := fun v948 k0_hw197 => k0_hw197.1
theorem k0_off563_inb : ∀ (v948 : BitVec 32) (k0_hw197 : k0_chk197 v948), ∀ a, (k0_off563 v948) a + S1x16.size a ≤ S257x32.size a := fun v948 k0_hw197 => k0_hw197.2

def k0_off564 (v957 : BitVec 32) : Fin 2 → Nat :=
  let c2560_i32_466 : BitVec 32 := 2560#32
  let v958 : BitVec 32 := Scalar.subi v957 c2560_i32_466
  let v959 : Index := Scalar.indexCast v958
  let c0_467 : Index := 0#32
  ![v959.toNat, 0]

def k0_off565 (v957 : BitVec 32) : Fin 2 → Nat :=
  let c2560_i32_466 : BitVec 32 := 2560#32
  let v958 : BitVec 32 := Scalar.subi v957 c2560_i32_466
  let v962 : Index := Scalar.indexCast v958
  let c16_468 : Index := 16#32
  ![v962.toNat, 16]

def k0_chk198 (v957 : BitVec 32) : Prop :=
  (∀ a, (k0_off564 v957) a + S1x16.size a ≤ S257x32.size a) ∧
  (∀ a, (k0_off565 v957) a + S1x16.size a ≤ S257x32.size a)
theorem k0_off564_inb : ∀ (v957 : BitVec 32) (k0_hw198 : k0_chk198 v957), ∀ a, (k0_off564 v957) a + S1x16.size a ≤ S257x32.size a := fun v957 k0_hw198 => k0_hw198.1
theorem k0_off565_inb : ∀ (v957 : BitVec 32) (k0_hw198 : k0_chk198 v957), ∀ a, (k0_off565 v957) a + S1x16.size a ≤ S257x32.size a := fun v957 k0_hw198 => k0_hw198.2

def k0_off566 (v966 : BitVec 32) : Fin 2 → Nat :=
  let c2560_i32_469 : BitVec 32 := 2560#32
  let v967 : BitVec 32 := Scalar.subi v966 c2560_i32_469
  let v968 : Index := Scalar.indexCast v967
  let c0_470 : Index := 0#32
  ![v968.toNat, 0]

def k0_off567 (v966 : BitVec 32) : Fin 2 → Nat :=
  let c2560_i32_469 : BitVec 32 := 2560#32
  let v967 : BitVec 32 := Scalar.subi v966 c2560_i32_469
  let v971 : Index := Scalar.indexCast v967
  let c16_471 : Index := 16#32
  ![v971.toNat, 16]

def k0_chk199 (v966 : BitVec 32) : Prop :=
  (∀ a, (k0_off566 v966) a + S1x16.size a ≤ S257x32.size a) ∧
  (∀ a, (k0_off567 v966) a + S1x16.size a ≤ S257x32.size a)
theorem k0_off566_inb : ∀ (v966 : BitVec 32) (k0_hw199 : k0_chk199 v966), ∀ a, (k0_off566 v966) a + S1x16.size a ≤ S257x32.size a := fun v966 k0_hw199 => k0_hw199.1
theorem k0_off567_inb : ∀ (v966 : BitVec 32) (k0_hw199 : k0_chk199 v966), ∀ a, (k0_off567 v966) a + S1x16.size a ≤ S257x32.size a := fun v966 k0_hw199 => k0_hw199.2

def k0_off568 (v975 : BitVec 32) : Fin 2 → Nat :=
  let c2560_i32_472 : BitVec 32 := 2560#32
  let v976 : BitVec 32 := Scalar.subi v975 c2560_i32_472
  let v977 : Index := Scalar.indexCast v976
  let c0_473 : Index := 0#32
  ![v977.toNat, 0]

def k0_off569 (v975 : BitVec 32) : Fin 2 → Nat :=
  let c2560_i32_472 : BitVec 32 := 2560#32
  let v976 : BitVec 32 := Scalar.subi v975 c2560_i32_472
  let v980 : Index := Scalar.indexCast v976
  let c16_474 : Index := 16#32
  ![v980.toNat, 16]

def k0_chk200 (v975 : BitVec 32) : Prop :=
  (∀ a, (k0_off568 v975) a + S1x16.size a ≤ S257x32.size a) ∧
  (∀ a, (k0_off569 v975) a + S1x16.size a ≤ S257x32.size a)
theorem k0_off568_inb : ∀ (v975 : BitVec 32) (k0_hw200 : k0_chk200 v975), ∀ a, (k0_off568 v975) a + S1x16.size a ≤ S257x32.size a := fun v975 k0_hw200 => k0_hw200.1
theorem k0_off569_inb : ∀ (v975 : BitVec 32) (k0_hw200 : k0_chk200 v975), ∀ a, (k0_off569 v975) a + S1x16.size a ≤ S257x32.size a := fun v975 k0_hw200 => k0_hw200.2

def k0_off570 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_t55 : Fin (k0_t55_loop v52 v105 v158 v211 v264 v317 v370 v423 v476 v529 v582).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c0_i32_296 : BitVec 32 := 0#32
  let c1_i32_298 : BitVec 32 := 1#32
  let arg19 : BitVec 32 := Scf.iv c0_i32_296 c1_i32_298 k0_t55
  let c8_i32_444 : BitVec 32 := 8#32
  let v893 : BitVec 32 := Scalar.muli arg19 c8_i32_444
  let v894 : BitVec 32 := Scalar.addi v569 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off571 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_t55 : Fin (k0_t55_loop v52 v105 v158 v211 v264 v317 v370 v423 v476 v529 v582).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c0_i32_296 : BitVec 32 := 0#32
  let c1_i32_298 : BitVec 32 := 1#32
  let arg19 : BitVec 32 := Scf.iv c0_i32_296 c1_i32_298 k0_t55
  let c8_i32_444 : BitVec 32 := 8#32
  let v893 : BitVec 32 := Scalar.muli arg19 c8_i32_444
  let v894 : BitVec 32 := Scalar.addi v569 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t56_loop (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) : Scf.Loop 32 :=
  let c0_i32_296 : BitVec 32 := 0#32
  let c1_i32_286 : BitVec 32 := 1#32
  let v583 : BitVec 32 := Scalar.subi v582 c1_i32_286
  let c2049_i32_287 : BitVec 32 := 2049#32
  let v584 : BitVec 32 := Scalar.minsi v583 c2049_i32_287
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let v585 : BitVec 32 := Scalar.subi v584 v569
  let c0_i32_288 : BitVec 32 := 0#32
  let v586 : BitVec 32 := Scalar.maxsi v585 c0_i32_288
  let c0_i32_290 : BitVec 32 := 0#32
  let v588 : BitVec 1 := Scalar.cmpi .sgt v586 c0_i32_290
  let v589 : BitVec 32 := Scalar.extui v588
  let c0_i32_291 : BitVec 32 := 0#32
  let v590 : BitVec 1 := Scalar.cmpi .slt v586 c0_i32_291
  let v591 : BitVec 32 := Scalar.extui v590
  let v592 : BitVec 32 := Scalar.subi v589 v591
  let c8_i32_289 : BitVec 32 := 8#32
  let c0_i32_292 : BitVec 32 := 0#32
  let v593 : BitVec 1 := Scalar.cmpi .sgt c8_i32_289 c0_i32_292
  let v594 : BitVec 32 := Scalar.extui v593
  let c0_i32_293 : BitVec 32 := 0#32
  let v595 : BitVec 1 := Scalar.cmpi .slt c8_i32_289 c0_i32_293
  let v596 : BitVec 32 := Scalar.extui v595
  let v597 : BitVec 32 := Scalar.subi v594 v596
  let v598 : BitVec 1 := Scalar.cmpi .ne v592 v597
  let v599 : BitVec 32 := Scalar.remsi v586 c8_i32_289
  let c0_i32_294 : BitVec 32 := 0#32
  let v600 : BitVec 1 := Scalar.cmpi .ne v599 c0_i32_294
  let v601 : BitVec 1 := Scalar.andi v598 v600
  let v587 : BitVec 32 := Scalar.divsi v586 c8_i32_289
  let c1_i32_295 : BitVec 32 := 1#32
  let v602 : BitVec 32 := Scalar.subi v587 c1_i32_295
  let v603 : BitVec 32 := Scalar.select v601 v602 v587
  let v604 : BitVec 32 := Scalar.subi v603 c0_i32_296
  let c1_i32_297 : BitVec 32 := 1#32
  let v606 : BitVec 32 := Scalar.divsi v604 c1_i32_297
  let v607 : BitVec 32 := Scalar.muli v606 c1_i32_297
  let v608 : BitVec 32 := Scalar.addi c0_i32_296 v607
  let v605 : BitVec 32 := Scalar.addi c0_i32_296 v604
  let c1_i32_299 : BitVec 32 := 1#32
  ⟨v608, v605, c1_i32_299⟩
def k0_off572 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_t56 : Fin (k0_t56_loop v52 v105 v158 v211 v264 v317 v370 v423 v476 v529 v582).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c0_i32_296 : BitVec 32 := 0#32
  let c1_i32_286 : BitVec 32 := 1#32
  let v583 : BitVec 32 := Scalar.subi v582 c1_i32_286
  let c2049_i32_287 : BitVec 32 := 2049#32
  let v584 : BitVec 32 := Scalar.minsi v583 c2049_i32_287
  let v585 : BitVec 32 := Scalar.subi v584 v569
  let c0_i32_288 : BitVec 32 := 0#32
  let v586 : BitVec 32 := Scalar.maxsi v585 c0_i32_288
  let c0_i32_290 : BitVec 32 := 0#32
  let v588 : BitVec 1 := Scalar.cmpi .sgt v586 c0_i32_290
  let v589 : BitVec 32 := Scalar.extui v588
  let c0_i32_291 : BitVec 32 := 0#32
  let v590 : BitVec 1 := Scalar.cmpi .slt v586 c0_i32_291
  let v591 : BitVec 32 := Scalar.extui v590
  let v592 : BitVec 32 := Scalar.subi v589 v591
  let c8_i32_289 : BitVec 32 := 8#32
  let c0_i32_292 : BitVec 32 := 0#32
  let v593 : BitVec 1 := Scalar.cmpi .sgt c8_i32_289 c0_i32_292
  let v594 : BitVec 32 := Scalar.extui v593
  let c0_i32_293 : BitVec 32 := 0#32
  let v595 : BitVec 1 := Scalar.cmpi .slt c8_i32_289 c0_i32_293
  let v596 : BitVec 32 := Scalar.extui v595
  let v597 : BitVec 32 := Scalar.subi v594 v596
  let v598 : BitVec 1 := Scalar.cmpi .ne v592 v597
  let v599 : BitVec 32 := Scalar.remsi v586 c8_i32_289
  let c0_i32_294 : BitVec 32 := 0#32
  let v600 : BitVec 1 := Scalar.cmpi .ne v599 c0_i32_294
  let v601 : BitVec 1 := Scalar.andi v598 v600
  let v587 : BitVec 32 := Scalar.divsi v586 c8_i32_289
  let c1_i32_295 : BitVec 32 := 1#32
  let v602 : BitVec 32 := Scalar.subi v587 c1_i32_295
  let v603 : BitVec 32 := Scalar.select v601 v602 v587
  let v604 : BitVec 32 := Scalar.subi v603 c0_i32_296
  let c1_i32_297 : BitVec 32 := 1#32
  let v606 : BitVec 32 := Scalar.divsi v604 c1_i32_297
  let v607 : BitVec 32 := Scalar.muli v606 c1_i32_297
  let v608 : BitVec 32 := Scalar.addi c0_i32_296 v607
  let c1_i32_299 : BitVec 32 := 1#32
  let arg19 : BitVec 32 := Scf.iv v608 c1_i32_299 k0_t56
  let c8_i32_444 : BitVec 32 := 8#32
  let v893 : BitVec 32 := Scalar.muli arg19 c8_i32_444
  let v894 : BitVec 32 := Scalar.addi v569 v893
  let v895 : BitVec 32 := Scalar.addi v894 c1_i32_445
  let v896 : Index := Scalar.indexCast v895
  ![v896.toNat]
def k0_off573 (v912 : BitVec 32) : Fin 2 → Nat :=
  let c2560_i32_451 : BitVec 32 := 2560#32
  let v913 : BitVec 32 := Scalar.subi v912 c2560_i32_451
  let v914 : Index := Scalar.indexCast v913
  let c0_452 : Index := 0#32
  ![v914.toNat, 0]

def k0_off574 (v912 : BitVec 32) : Fin 2 → Nat :=
  let c2560_i32_451 : BitVec 32 := 2560#32
  let v913 : BitVec 32 := Scalar.subi v912 c2560_i32_451
  let v917 : Index := Scalar.indexCast v913
  let c16_453 : Index := 16#32
  ![v917.toNat, 16]

def k0_chk201 (v912 : BitVec 32) : Prop :=
  (∀ a, (k0_off573 v912) a + S1x16.size a ≤ S257x32.size a) ∧
  (∀ a, (k0_off574 v912) a + S1x16.size a ≤ S257x32.size a)
theorem k0_off573_inb : ∀ (v912 : BitVec 32) (k0_hw201 : k0_chk201 v912), ∀ a, (k0_off573 v912) a + S1x16.size a ≤ S257x32.size a := fun v912 k0_hw201 => k0_hw201.1
theorem k0_off574_inb : ∀ (v912 : BitVec 32) (k0_hw201 : k0_chk201 v912), ∀ a, (k0_off574 v912) a + S1x16.size a ≤ S257x32.size a := fun v912 k0_hw201 => k0_hw201.2

def k0_off575 (v921 : BitVec 32) : Fin 2 → Nat :=
  let c2560_i32_454 : BitVec 32 := 2560#32
  let v922 : BitVec 32 := Scalar.subi v921 c2560_i32_454
  let v923 : Index := Scalar.indexCast v922
  let c0_455 : Index := 0#32
  ![v923.toNat, 0]

def k0_off576 (v921 : BitVec 32) : Fin 2 → Nat :=
  let c2560_i32_454 : BitVec 32 := 2560#32
  let v922 : BitVec 32 := Scalar.subi v921 c2560_i32_454
  let v926 : Index := Scalar.indexCast v922
  let c16_456 : Index := 16#32
  ![v926.toNat, 16]

def k0_chk202 (v921 : BitVec 32) : Prop :=
  (∀ a, (k0_off575 v921) a + S1x16.size a ≤ S257x32.size a) ∧
  (∀ a, (k0_off576 v921) a + S1x16.size a ≤ S257x32.size a)
theorem k0_off575_inb : ∀ (v921 : BitVec 32) (k0_hw202 : k0_chk202 v921), ∀ a, (k0_off575 v921) a + S1x16.size a ≤ S257x32.size a := fun v921 k0_hw202 => k0_hw202.1
theorem k0_off576_inb : ∀ (v921 : BitVec 32) (k0_hw202 : k0_chk202 v921), ∀ a, (k0_off576 v921) a + S1x16.size a ≤ S257x32.size a := fun v921 k0_hw202 => k0_hw202.2

def k0_off577 (v930 : BitVec 32) : Fin 2 → Nat :=
  let c2560_i32_457 : BitVec 32 := 2560#32
  let v931 : BitVec 32 := Scalar.subi v930 c2560_i32_457
  let v932 : Index := Scalar.indexCast v931
  let c0_458 : Index := 0#32
  ![v932.toNat, 0]

def k0_off578 (v930 : BitVec 32) : Fin 2 → Nat :=
  let c2560_i32_457 : BitVec 32 := 2560#32
  let v931 : BitVec 32 := Scalar.subi v930 c2560_i32_457
  let v935 : Index := Scalar.indexCast v931
  let c16_459 : Index := 16#32
  ![v935.toNat, 16]

def k0_chk203 (v930 : BitVec 32) : Prop :=
  (∀ a, (k0_off577 v930) a + S1x16.size a ≤ S257x32.size a) ∧
  (∀ a, (k0_off578 v930) a + S1x16.size a ≤ S257x32.size a)
theorem k0_off577_inb : ∀ (v930 : BitVec 32) (k0_hw203 : k0_chk203 v930), ∀ a, (k0_off577 v930) a + S1x16.size a ≤ S257x32.size a := fun v930 k0_hw203 => k0_hw203.1
theorem k0_off578_inb : ∀ (v930 : BitVec 32) (k0_hw203 : k0_chk203 v930), ∀ a, (k0_off578 v930) a + S1x16.size a ≤ S257x32.size a := fun v930 k0_hw203 => k0_hw203.2

def k0_off579 (v939 : BitVec 32) : Fin 2 → Nat :=
  let c2560_i32_460 : BitVec 32 := 2560#32
  let v940 : BitVec 32 := Scalar.subi v939 c2560_i32_460
  let v941 : Index := Scalar.indexCast v940
  let c0_461 : Index := 0#32
  ![v941.toNat, 0]

def k0_off580 (v939 : BitVec 32) : Fin 2 → Nat :=
  let c2560_i32_460 : BitVec 32 := 2560#32
  let v940 : BitVec 32 := Scalar.subi v939 c2560_i32_460
  let v944 : Index := Scalar.indexCast v940
  let c16_462 : Index := 16#32
  ![v944.toNat, 16]

def k0_chk204 (v939 : BitVec 32) : Prop :=
  (∀ a, (k0_off579 v939) a + S1x16.size a ≤ S257x32.size a) ∧
  (∀ a, (k0_off580 v939) a + S1x16.size a ≤ S257x32.size a)
theorem k0_off579_inb : ∀ (v939 : BitVec 32) (k0_hw204 : k0_chk204 v939), ∀ a, (k0_off579 v939) a + S1x16.size a ≤ S257x32.size a := fun v939 k0_hw204 => k0_hw204.1
theorem k0_off580_inb : ∀ (v939 : BitVec 32) (k0_hw204 : k0_chk204 v939), ∀ a, (k0_off580 v939) a + S1x16.size a ≤ S257x32.size a := fun v939 k0_hw204 => k0_hw204.2

def k0_off581 (v948 : BitVec 32) : Fin 2 → Nat :=
  let c2560_i32_463 : BitVec 32 := 2560#32
  let v949 : BitVec 32 := Scalar.subi v948 c2560_i32_463
  let v950 : Index := Scalar.indexCast v949
  let c0_464 : Index := 0#32
  ![v950.toNat, 0]

def k0_off582 (v948 : BitVec 32) : Fin 2 → Nat :=
  let c2560_i32_463 : BitVec 32 := 2560#32
  let v949 : BitVec 32 := Scalar.subi v948 c2560_i32_463
  let v953 : Index := Scalar.indexCast v949
  let c16_465 : Index := 16#32
  ![v953.toNat, 16]

def k0_chk205 (v948 : BitVec 32) : Prop :=
  (∀ a, (k0_off581 v948) a + S1x16.size a ≤ S257x32.size a) ∧
  (∀ a, (k0_off582 v948) a + S1x16.size a ≤ S257x32.size a)
theorem k0_off581_inb : ∀ (v948 : BitVec 32) (k0_hw205 : k0_chk205 v948), ∀ a, (k0_off581 v948) a + S1x16.size a ≤ S257x32.size a := fun v948 k0_hw205 => k0_hw205.1
theorem k0_off582_inb : ∀ (v948 : BitVec 32) (k0_hw205 : k0_chk205 v948), ∀ a, (k0_off582 v948) a + S1x16.size a ≤ S257x32.size a := fun v948 k0_hw205 => k0_hw205.2

def k0_off583 (v957 : BitVec 32) : Fin 2 → Nat :=
  let c2560_i32_466 : BitVec 32 := 2560#32
  let v958 : BitVec 32 := Scalar.subi v957 c2560_i32_466
  let v959 : Index := Scalar.indexCast v958
  let c0_467 : Index := 0#32
  ![v959.toNat, 0]

def k0_off584 (v957 : BitVec 32) : Fin 2 → Nat :=
  let c2560_i32_466 : BitVec 32 := 2560#32
  let v958 : BitVec 32 := Scalar.subi v957 c2560_i32_466
  let v962 : Index := Scalar.indexCast v958
  let c16_468 : Index := 16#32
  ![v962.toNat, 16]

def k0_chk206 (v957 : BitVec 32) : Prop :=
  (∀ a, (k0_off583 v957) a + S1x16.size a ≤ S257x32.size a) ∧
  (∀ a, (k0_off584 v957) a + S1x16.size a ≤ S257x32.size a)
theorem k0_off583_inb : ∀ (v957 : BitVec 32) (k0_hw206 : k0_chk206 v957), ∀ a, (k0_off583 v957) a + S1x16.size a ≤ S257x32.size a := fun v957 k0_hw206 => k0_hw206.1
theorem k0_off584_inb : ∀ (v957 : BitVec 32) (k0_hw206 : k0_chk206 v957), ∀ a, (k0_off584 v957) a + S1x16.size a ≤ S257x32.size a := fun v957 k0_hw206 => k0_hw206.2

def k0_off585 (v966 : BitVec 32) : Fin 2 → Nat :=
  let c2560_i32_469 : BitVec 32 := 2560#32
  let v967 : BitVec 32 := Scalar.subi v966 c2560_i32_469
  let v968 : Index := Scalar.indexCast v967
  let c0_470 : Index := 0#32
  ![v968.toNat, 0]

def k0_off586 (v966 : BitVec 32) : Fin 2 → Nat :=
  let c2560_i32_469 : BitVec 32 := 2560#32
  let v967 : BitVec 32 := Scalar.subi v966 c2560_i32_469
  let v971 : Index := Scalar.indexCast v967
  let c16_471 : Index := 16#32
  ![v971.toNat, 16]

def k0_chk207 (v966 : BitVec 32) : Prop :=
  (∀ a, (k0_off585 v966) a + S1x16.size a ≤ S257x32.size a) ∧
  (∀ a, (k0_off586 v966) a + S1x16.size a ≤ S257x32.size a)
theorem k0_off585_inb : ∀ (v966 : BitVec 32) (k0_hw207 : k0_chk207 v966), ∀ a, (k0_off585 v966) a + S1x16.size a ≤ S257x32.size a := fun v966 k0_hw207 => k0_hw207.1
theorem k0_off586_inb : ∀ (v966 : BitVec 32) (k0_hw207 : k0_chk207 v966), ∀ a, (k0_off586 v966) a + S1x16.size a ≤ S257x32.size a := fun v966 k0_hw207 => k0_hw207.2

def k0_off587 (v975 : BitVec 32) : Fin 2 → Nat :=
  let c2560_i32_472 : BitVec 32 := 2560#32
  let v976 : BitVec 32 := Scalar.subi v975 c2560_i32_472
  let v977 : Index := Scalar.indexCast v976
  let c0_473 : Index := 0#32
  ![v977.toNat, 0]

def k0_off588 (v975 : BitVec 32) : Fin 2 → Nat :=
  let c2560_i32_472 : BitVec 32 := 2560#32
  let v976 : BitVec 32 := Scalar.subi v975 c2560_i32_472
  let v980 : Index := Scalar.indexCast v976
  let c16_474 : Index := 16#32
  ![v980.toNat, 16]

def k0_chk208 (v975 : BitVec 32) : Prop :=
  (∀ a, (k0_off587 v975) a + S1x16.size a ≤ S257x32.size a) ∧
  (∀ a, (k0_off588 v975) a + S1x16.size a ≤ S257x32.size a)
theorem k0_off587_inb : ∀ (v975 : BitVec 32) (k0_hw208 : k0_chk208 v975), ∀ a, (k0_off587 v975) a + S1x16.size a ≤ S257x32.size a := fun v975 k0_hw208 => k0_hw208.1
theorem k0_off588_inb : ∀ (v975 : BitVec 32) (k0_hw208 : k0_chk208 v975), ∀ a, (k0_off588 v975) a + S1x16.size a ≤ S257x32.size a := fun v975 k0_hw208 => k0_hw208.2

def k0_off589 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_t56 : Fin (k0_t56_loop v52 v105 v158 v211 v264 v317 v370 v423 v476 v529 v582).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c0_i32_296 : BitVec 32 := 0#32
  let c1_i32_286 : BitVec 32 := 1#32
  let v583 : BitVec 32 := Scalar.subi v582 c1_i32_286
  let c2049_i32_287 : BitVec 32 := 2049#32
  let v584 : BitVec 32 := Scalar.minsi v583 c2049_i32_287
  let v585 : BitVec 32 := Scalar.subi v584 v569
  let c0_i32_288 : BitVec 32 := 0#32
  let v586 : BitVec 32 := Scalar.maxsi v585 c0_i32_288
  let c0_i32_290 : BitVec 32 := 0#32
  let v588 : BitVec 1 := Scalar.cmpi .sgt v586 c0_i32_290
  let v589 : BitVec 32 := Scalar.extui v588
  let c0_i32_291 : BitVec 32 := 0#32
  let v590 : BitVec 1 := Scalar.cmpi .slt v586 c0_i32_291
  let v591 : BitVec 32 := Scalar.extui v590
  let v592 : BitVec 32 := Scalar.subi v589 v591
  let c8_i32_289 : BitVec 32 := 8#32
  let c0_i32_292 : BitVec 32 := 0#32
  let v593 : BitVec 1 := Scalar.cmpi .sgt c8_i32_289 c0_i32_292
  let v594 : BitVec 32 := Scalar.extui v593
  let c0_i32_293 : BitVec 32 := 0#32
  let v595 : BitVec 1 := Scalar.cmpi .slt c8_i32_289 c0_i32_293
  let v596 : BitVec 32 := Scalar.extui v595
  let v597 : BitVec 32 := Scalar.subi v594 v596
  let v598 : BitVec 1 := Scalar.cmpi .ne v592 v597
  let v599 : BitVec 32 := Scalar.remsi v586 c8_i32_289
  let c0_i32_294 : BitVec 32 := 0#32
  let v600 : BitVec 1 := Scalar.cmpi .ne v599 c0_i32_294
  let v601 : BitVec 1 := Scalar.andi v598 v600
  let v587 : BitVec 32 := Scalar.divsi v586 c8_i32_289
  let c1_i32_295 : BitVec 32 := 1#32
  let v602 : BitVec 32 := Scalar.subi v587 c1_i32_295
  let v603 : BitVec 32 := Scalar.select v601 v602 v587
  let v604 : BitVec 32 := Scalar.subi v603 c0_i32_296
  let c1_i32_297 : BitVec 32 := 1#32
  let v606 : BitVec 32 := Scalar.divsi v604 c1_i32_297
  let v607 : BitVec 32 := Scalar.muli v606 c1_i32_297
  let v608 : BitVec 32 := Scalar.addi c0_i32_296 v607
  let c1_i32_299 : BitVec 32 := 1#32
  let arg19 : BitVec 32 := Scf.iv v608 c1_i32_299 k0_t56
  let c8_i32_444 : BitVec 32 := 8#32
  let v893 : BitVec 32 := Scalar.muli arg19 c8_i32_444
  let v894 : BitVec 32 := Scalar.addi v569 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off590 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_t56 : Fin (k0_t56_loop v52 v105 v158 v211 v264 v317 v370 v423 v476 v529 v582).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c0_i32_296 : BitVec 32 := 0#32
  let c1_i32_286 : BitVec 32 := 1#32
  let v583 : BitVec 32 := Scalar.subi v582 c1_i32_286
  let c2049_i32_287 : BitVec 32 := 2049#32
  let v584 : BitVec 32 := Scalar.minsi v583 c2049_i32_287
  let v585 : BitVec 32 := Scalar.subi v584 v569
  let c0_i32_288 : BitVec 32 := 0#32
  let v586 : BitVec 32 := Scalar.maxsi v585 c0_i32_288
  let c0_i32_290 : BitVec 32 := 0#32
  let v588 : BitVec 1 := Scalar.cmpi .sgt v586 c0_i32_290
  let v589 : BitVec 32 := Scalar.extui v588
  let c0_i32_291 : BitVec 32 := 0#32
  let v590 : BitVec 1 := Scalar.cmpi .slt v586 c0_i32_291
  let v591 : BitVec 32 := Scalar.extui v590
  let v592 : BitVec 32 := Scalar.subi v589 v591
  let c8_i32_289 : BitVec 32 := 8#32
  let c0_i32_292 : BitVec 32 := 0#32
  let v593 : BitVec 1 := Scalar.cmpi .sgt c8_i32_289 c0_i32_292
  let v594 : BitVec 32 := Scalar.extui v593
  let c0_i32_293 : BitVec 32 := 0#32
  let v595 : BitVec 1 := Scalar.cmpi .slt c8_i32_289 c0_i32_293
  let v596 : BitVec 32 := Scalar.extui v595
  let v597 : BitVec 32 := Scalar.subi v594 v596
  let v598 : BitVec 1 := Scalar.cmpi .ne v592 v597
  let v599 : BitVec 32 := Scalar.remsi v586 c8_i32_289
  let c0_i32_294 : BitVec 32 := 0#32
  let v600 : BitVec 1 := Scalar.cmpi .ne v599 c0_i32_294
  let v601 : BitVec 1 := Scalar.andi v598 v600
  let v587 : BitVec 32 := Scalar.divsi v586 c8_i32_289
  let c1_i32_295 : BitVec 32 := 1#32
  let v602 : BitVec 32 := Scalar.subi v587 c1_i32_295
  let v603 : BitVec 32 := Scalar.select v601 v602 v587
  let v604 : BitVec 32 := Scalar.subi v603 c0_i32_296
  let c1_i32_297 : BitVec 32 := 1#32
  let v606 : BitVec 32 := Scalar.divsi v604 c1_i32_297
  let v607 : BitVec 32 := Scalar.muli v606 c1_i32_297
  let v608 : BitVec 32 := Scalar.addi c0_i32_296 v607
  let c1_i32_299 : BitVec 32 := 1#32
  let arg19 : BitVec 32 := Scf.iv v608 c1_i32_299 k0_t56
  let c8_i32_444 : BitVec 32 := 8#32
  let v893 : BitVec 32 := Scalar.muli arg19 c8_i32_444
  let v894 : BitVec 32 := Scalar.addi v569 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t57_loop (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v585 : BitVec 32 := Scalar.subi v584 v569
  let c0_i32_288 : BitVec 32 := 0#32
  let v586 : BitVec 32 := Scalar.maxsi v585 c0_i32_288
  let c0_i32_290 : BitVec 32 := 0#32
  let v588 : BitVec 1 := Scalar.cmpi .sgt v586 c0_i32_290
  let v589 : BitVec 32 := Scalar.extui v588
  let c0_i32_291 : BitVec 32 := 0#32
  let v590 : BitVec 1 := Scalar.cmpi .slt v586 c0_i32_291
  let v591 : BitVec 32 := Scalar.extui v590
  let v592 : BitVec 32 := Scalar.subi v589 v591
  let c8_i32_289 : BitVec 32 := 8#32
  let c0_i32_292 : BitVec 32 := 0#32
  let v593 : BitVec 1 := Scalar.cmpi .sgt c8_i32_289 c0_i32_292
  let v594 : BitVec 32 := Scalar.extui v593
  let c0_i32_293 : BitVec 32 := 0#32
  let v595 : BitVec 1 := Scalar.cmpi .slt c8_i32_289 c0_i32_293
  let v596 : BitVec 32 := Scalar.extui v595
  let v597 : BitVec 32 := Scalar.subi v594 v596
  let v598 : BitVec 1 := Scalar.cmpi .ne v592 v597
  let v599 : BitVec 32 := Scalar.remsi v586 c8_i32_289
  let c0_i32_294 : BitVec 32 := 0#32
  let v600 : BitVec 1 := Scalar.cmpi .ne v599 c0_i32_294
  let v601 : BitVec 1 := Scalar.andi v598 v600
  let v587 : BitVec 32 := Scalar.divsi v586 c8_i32_289
  let c1_i32_295 : BitVec 32 := 1#32
  let v602 : BitVec 32 := Scalar.subi v587 c1_i32_295
  let v603 : BitVec 32 := Scalar.select v601 v602 v587
  let c8_i32_300 : BitVec 32 := 8#32
  let v611 : BitVec 32 := Scalar.muli v603 c8_i32_300
  let v612 : BitVec 32 := Scalar.addi v569 v611
  let v613 : BitVec 32 := Scalar.subi v584 v612
  let c1_i32_301 : BitVec 32 := 1#32
  let v615 : BitVec 32 := Scalar.divsi v613 c1_i32_301
  let v616 : BitVec 32 := Scalar.muli v615 c1_i32_301
  let v617 : BitVec 32 := Scalar.addi v612 v616
  let c1_i32_302 : BitVec 32 := 1#32
  ⟨v612, v617, c1_i32_302⟩
def k0_off591 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_t57 : Fin (k0_t57_loop v52 v105 v158 v211 v264 v317 v370 v423 v476 v529 v582).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v585 : BitVec 32 := Scalar.subi v584 v569
  let c0_i32_288 : BitVec 32 := 0#32
  let v586 : BitVec 32 := Scalar.maxsi v585 c0_i32_288
  let c0_i32_290 : BitVec 32 := 0#32
  let v588 : BitVec 1 := Scalar.cmpi .sgt v586 c0_i32_290
  let v589 : BitVec 32 := Scalar.extui v588
  let c0_i32_291 : BitVec 32 := 0#32
  let v590 : BitVec 1 := Scalar.cmpi .slt v586 c0_i32_291
  let v591 : BitVec 32 := Scalar.extui v590
  let v592 : BitVec 32 := Scalar.subi v589 v591
  let c8_i32_289 : BitVec 32 := 8#32
  let c0_i32_292 : BitVec 32 := 0#32
  let v593 : BitVec 1 := Scalar.cmpi .sgt c8_i32_289 c0_i32_292
  let v594 : BitVec 32 := Scalar.extui v593
  let c0_i32_293 : BitVec 32 := 0#32
  let v595 : BitVec 1 := Scalar.cmpi .slt c8_i32_289 c0_i32_293
  let v596 : BitVec 32 := Scalar.extui v595
  let v597 : BitVec 32 := Scalar.subi v594 v596
  let v598 : BitVec 1 := Scalar.cmpi .ne v592 v597
  let v599 : BitVec 32 := Scalar.remsi v586 c8_i32_289
  let c0_i32_294 : BitVec 32 := 0#32
  let v600 : BitVec 1 := Scalar.cmpi .ne v599 c0_i32_294
  let v601 : BitVec 1 := Scalar.andi v598 v600
  let v587 : BitVec 32 := Scalar.divsi v586 c8_i32_289
  let c1_i32_295 : BitVec 32 := 1#32
  let v602 : BitVec 32 := Scalar.subi v587 c1_i32_295
  let v603 : BitVec 32 := Scalar.select v601 v602 v587
  let c8_i32_300 : BitVec 32 := 8#32
  let v611 : BitVec 32 := Scalar.muli v603 c8_i32_300
  let v612 : BitVec 32 := Scalar.addi v569 v611
  let c1_i32_302 : BitVec 32 := 1#32
  let arg19 : BitVec 32 := Scf.iv v612 c1_i32_302 k0_t57
  let c1_i32_444 : BitVec 32 := 1#32
  let v893 : BitVec 32 := Scalar.addi arg19 c1_i32_444
  let v894 : Index := Scalar.indexCast v893
  ![v894.toNat]
def k0_off592 (v897 : BitVec 32) : Fin 2 → Nat :=
  let c2560_i32_445 : BitVec 32 := 2560#32
  let v898 : BitVec 32 := Scalar.subi v897 c2560_i32_445
  let v912 : Index := Scalar.indexCast v898
  let c0_450 : Index := 0#32
  ![v912.toNat, 0]

def k0_off593 (v897 : BitVec 32) : Fin 2 → Nat :=
  let c2560_i32_445 : BitVec 32 := 2560#32
  let v898 : BitVec 32 := Scalar.subi v897 c2560_i32_445
  let v915 : Index := Scalar.indexCast v898
  let c16_451 : Index := 16#32
  ![v915.toNat, 16]

def k0_chk209 (v897 : BitVec 32) : Prop :=
  (∀ a, (k0_off592 v897) a + S1x16.size a ≤ S257x32.size a) ∧
  (∀ a, (k0_off593 v897) a + S1x16.size a ≤ S257x32.size a)
theorem k0_off592_inb : ∀ (v897 : BitVec 32) (k0_hw209 : k0_chk209 v897), ∀ a, (k0_off592 v897) a + S1x16.size a ≤ S257x32.size a := fun v897 k0_hw209 => k0_hw209.1
theorem k0_off593_inb : ∀ (v897 : BitVec 32) (k0_hw209 : k0_chk209 v897), ∀ a, (k0_off593 v897) a + S1x16.size a ≤ S257x32.size a := fun v897 k0_hw209 => k0_hw209.2

def k0_off594 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_t57 : Fin (k0_t57_loop v52 v105 v158 v211 v264 v317 v370 v423 v476 v529 v582).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v585 : BitVec 32 := Scalar.subi v584 v569
  let c0_i32_288 : BitVec 32 := 0#32
  let v586 : BitVec 32 := Scalar.maxsi v585 c0_i32_288
  let c0_i32_290 : BitVec 32 := 0#32
  let v588 : BitVec 1 := Scalar.cmpi .sgt v586 c0_i32_290
  let v589 : BitVec 32 := Scalar.extui v588
  let c0_i32_291 : BitVec 32 := 0#32
  let v590 : BitVec 1 := Scalar.cmpi .slt v586 c0_i32_291
  let v591 : BitVec 32 := Scalar.extui v590
  let v592 : BitVec 32 := Scalar.subi v589 v591
  let c8_i32_289 : BitVec 32 := 8#32
  let c0_i32_292 : BitVec 32 := 0#32
  let v593 : BitVec 1 := Scalar.cmpi .sgt c8_i32_289 c0_i32_292
  let v594 : BitVec 32 := Scalar.extui v593
  let c0_i32_293 : BitVec 32 := 0#32
  let v595 : BitVec 1 := Scalar.cmpi .slt c8_i32_289 c0_i32_293
  let v596 : BitVec 32 := Scalar.extui v595
  let v597 : BitVec 32 := Scalar.subi v594 v596
  let v598 : BitVec 1 := Scalar.cmpi .ne v592 v597
  let v599 : BitVec 32 := Scalar.remsi v586 c8_i32_289
  let c0_i32_294 : BitVec 32 := 0#32
  let v600 : BitVec 1 := Scalar.cmpi .ne v599 c0_i32_294
  let v601 : BitVec 1 := Scalar.andi v598 v600
  let v587 : BitVec 32 := Scalar.divsi v586 c8_i32_289
  let c1_i32_295 : BitVec 32 := 1#32
  let v602 : BitVec 32 := Scalar.subi v587 c1_i32_295
  let v603 : BitVec 32 := Scalar.select v601 v602 v587
  let c8_i32_300 : BitVec 32 := 8#32
  let v611 : BitVec 32 := Scalar.muli v603 c8_i32_300
  let v612 : BitVec 32 := Scalar.addi v569 v611
  let c1_i32_302 : BitVec 32 := 1#32
  let arg19 : BitVec 32 := Scf.iv v612 c1_i32_302 k0_t57
  let c1_i32_452 : BitVec 32 := 1#32
  let v920 : BitVec 32 := Scalar.addi arg19 c1_i32_452
  let v921 : Index := Scalar.indexCast v920
  let c0_453 : Index := 0#32
  ![v921.toNat, 0]
def k0_off595 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_t57 : Fin (k0_t57_loop v52 v105 v158 v211 v264 v317 v370 v423 v476 v529 v582).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v585 : BitVec 32 := Scalar.subi v584 v569
  let c0_i32_288 : BitVec 32 := 0#32
  let v586 : BitVec 32 := Scalar.maxsi v585 c0_i32_288
  let c0_i32_290 : BitVec 32 := 0#32
  let v588 : BitVec 1 := Scalar.cmpi .sgt v586 c0_i32_290
  let v589 : BitVec 32 := Scalar.extui v588
  let c0_i32_291 : BitVec 32 := 0#32
  let v590 : BitVec 1 := Scalar.cmpi .slt v586 c0_i32_291
  let v591 : BitVec 32 := Scalar.extui v590
  let v592 : BitVec 32 := Scalar.subi v589 v591
  let c8_i32_289 : BitVec 32 := 8#32
  let c0_i32_292 : BitVec 32 := 0#32
  let v593 : BitVec 1 := Scalar.cmpi .sgt c8_i32_289 c0_i32_292
  let v594 : BitVec 32 := Scalar.extui v593
  let c0_i32_293 : BitVec 32 := 0#32
  let v595 : BitVec 1 := Scalar.cmpi .slt c8_i32_289 c0_i32_293
  let v596 : BitVec 32 := Scalar.extui v595
  let v597 : BitVec 32 := Scalar.subi v594 v596
  let v598 : BitVec 1 := Scalar.cmpi .ne v592 v597
  let v599 : BitVec 32 := Scalar.remsi v586 c8_i32_289
  let c0_i32_294 : BitVec 32 := 0#32
  let v600 : BitVec 1 := Scalar.cmpi .ne v599 c0_i32_294
  let v601 : BitVec 1 := Scalar.andi v598 v600
  let v587 : BitVec 32 := Scalar.divsi v586 c8_i32_289
  let c1_i32_295 : BitVec 32 := 1#32
  let v602 : BitVec 32 := Scalar.subi v587 c1_i32_295
  let v603 : BitVec 32 := Scalar.select v601 v602 v587
  let c8_i32_300 : BitVec 32 := 8#32
  let v611 : BitVec 32 := Scalar.muli v603 c8_i32_300
  let v612 : BitVec 32 := Scalar.addi v569 v611
  let c1_i32_302 : BitVec 32 := 1#32
  let arg19 : BitVec 32 := Scf.iv v612 c1_i32_302 k0_t57
  let c1_i32_454 : BitVec 32 := 1#32
  let v925 : BitVec 32 := Scalar.addi arg19 c1_i32_454
  let v926 : Index := Scalar.indexCast v925
  let c16_455 : Index := 16#32
  ![v926.toNat, 16]
@[reducible] def k0_t58_loop (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v585 : BitVec 32 := Scalar.subi v584 v569
  let c0_i32_288 : BitVec 32 := 0#32
  let v586 : BitVec 32 := Scalar.maxsi v585 c0_i32_288
  let c0_i32_290 : BitVec 32 := 0#32
  let v588 : BitVec 1 := Scalar.cmpi .sgt v586 c0_i32_290
  let v589 : BitVec 32 := Scalar.extui v588
  let c0_i32_291 : BitVec 32 := 0#32
  let v590 : BitVec 1 := Scalar.cmpi .slt v586 c0_i32_291
  let v591 : BitVec 32 := Scalar.extui v590
  let v592 : BitVec 32 := Scalar.subi v589 v591
  let c8_i32_289 : BitVec 32 := 8#32
  let c0_i32_292 : BitVec 32 := 0#32
  let v593 : BitVec 1 := Scalar.cmpi .sgt c8_i32_289 c0_i32_292
  let v594 : BitVec 32 := Scalar.extui v593
  let c0_i32_293 : BitVec 32 := 0#32
  let v595 : BitVec 1 := Scalar.cmpi .slt c8_i32_289 c0_i32_293
  let v596 : BitVec 32 := Scalar.extui v595
  let v597 : BitVec 32 := Scalar.subi v594 v596
  let v598 : BitVec 1 := Scalar.cmpi .ne v592 v597
  let v599 : BitVec 32 := Scalar.remsi v586 c8_i32_289
  let c0_i32_294 : BitVec 32 := 0#32
  let v600 : BitVec 1 := Scalar.cmpi .ne v599 c0_i32_294
  let v601 : BitVec 1 := Scalar.andi v598 v600
  let v587 : BitVec 32 := Scalar.divsi v586 c8_i32_289
  let c1_i32_295 : BitVec 32 := 1#32
  let v602 : BitVec 32 := Scalar.subi v587 c1_i32_295
  let v603 : BitVec 32 := Scalar.select v601 v602 v587
  let c8_i32_300 : BitVec 32 := 8#32
  let v611 : BitVec 32 := Scalar.muli v603 c8_i32_300
  let v612 : BitVec 32 := Scalar.addi v569 v611
  let v613 : BitVec 32 := Scalar.subi v584 v612
  let c1_i32_301 : BitVec 32 := 1#32
  let v615 : BitVec 32 := Scalar.divsi v613 c1_i32_301
  let v616 : BitVec 32 := Scalar.muli v615 c1_i32_301
  let v617 : BitVec 32 := Scalar.addi v612 v616
  let v614 : BitVec 32 := Scalar.addi v612 v613
  let c1_i32_303 : BitVec 32 := 1#32
  ⟨v617, v614, c1_i32_303⟩
def k0_off596 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_t58 : Fin (k0_t58_loop v52 v105 v158 v211 v264 v317 v370 v423 v476 v529 v582).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v585 : BitVec 32 := Scalar.subi v584 v569
  let c0_i32_288 : BitVec 32 := 0#32
  let v586 : BitVec 32 := Scalar.maxsi v585 c0_i32_288
  let c0_i32_290 : BitVec 32 := 0#32
  let v588 : BitVec 1 := Scalar.cmpi .sgt v586 c0_i32_290
  let v589 : BitVec 32 := Scalar.extui v588
  let c0_i32_291 : BitVec 32 := 0#32
  let v590 : BitVec 1 := Scalar.cmpi .slt v586 c0_i32_291
  let v591 : BitVec 32 := Scalar.extui v590
  let v592 : BitVec 32 := Scalar.subi v589 v591
  let c8_i32_289 : BitVec 32 := 8#32
  let c0_i32_292 : BitVec 32 := 0#32
  let v593 : BitVec 1 := Scalar.cmpi .sgt c8_i32_289 c0_i32_292
  let v594 : BitVec 32 := Scalar.extui v593
  let c0_i32_293 : BitVec 32 := 0#32
  let v595 : BitVec 1 := Scalar.cmpi .slt c8_i32_289 c0_i32_293
  let v596 : BitVec 32 := Scalar.extui v595
  let v597 : BitVec 32 := Scalar.subi v594 v596
  let v598 : BitVec 1 := Scalar.cmpi .ne v592 v597
  let v599 : BitVec 32 := Scalar.remsi v586 c8_i32_289
  let c0_i32_294 : BitVec 32 := 0#32
  let v600 : BitVec 1 := Scalar.cmpi .ne v599 c0_i32_294
  let v601 : BitVec 1 := Scalar.andi v598 v600
  let v587 : BitVec 32 := Scalar.divsi v586 c8_i32_289
  let c1_i32_295 : BitVec 32 := 1#32
  let v602 : BitVec 32 := Scalar.subi v587 c1_i32_295
  let v603 : BitVec 32 := Scalar.select v601 v602 v587
  let c8_i32_300 : BitVec 32 := 8#32
  let v611 : BitVec 32 := Scalar.muli v603 c8_i32_300
  let v612 : BitVec 32 := Scalar.addi v569 v611
  let v613 : BitVec 32 := Scalar.subi v584 v612
  let c1_i32_301 : BitVec 32 := 1#32
  let v615 : BitVec 32 := Scalar.divsi v613 c1_i32_301
  let v616 : BitVec 32 := Scalar.muli v615 c1_i32_301
  let v617 : BitVec 32 := Scalar.addi v612 v616
  let c1_i32_303 : BitVec 32 := 1#32
  let arg19 : BitVec 32 := Scf.iv v617 c1_i32_303 k0_t58
  let c1_i32_444 : BitVec 32 := 1#32
  let v893 : BitVec 32 := Scalar.addi arg19 c1_i32_444
  let v894 : Index := Scalar.indexCast v893
  ![v894.toNat]
def k0_off597 (v897 : BitVec 32) : Fin 2 → Nat :=
  let c2560_i32_445 : BitVec 32 := 2560#32
  let v898 : BitVec 32 := Scalar.subi v897 c2560_i32_445
  let v912 : Index := Scalar.indexCast v898
  let c0_450 : Index := 0#32
  ![v912.toNat, 0]

def k0_off598 (v897 : BitVec 32) : Fin 2 → Nat :=
  let c2560_i32_445 : BitVec 32 := 2560#32
  let v898 : BitVec 32 := Scalar.subi v897 c2560_i32_445
  let v915 : Index := Scalar.indexCast v898
  let c16_451 : Index := 16#32
  ![v915.toNat, 16]

def k0_chk210 (v897 : BitVec 32) : Prop :=
  (∀ a, (k0_off597 v897) a + S1x16.size a ≤ S257x32.size a) ∧
  (∀ a, (k0_off598 v897) a + S1x16.size a ≤ S257x32.size a)
theorem k0_off597_inb : ∀ (v897 : BitVec 32) (k0_hw210 : k0_chk210 v897), ∀ a, (k0_off597 v897) a + S1x16.size a ≤ S257x32.size a := fun v897 k0_hw210 => k0_hw210.1
theorem k0_off598_inb : ∀ (v897 : BitVec 32) (k0_hw210 : k0_chk210 v897), ∀ a, (k0_off598 v897) a + S1x16.size a ≤ S257x32.size a := fun v897 k0_hw210 => k0_hw210.2

def k0_off599 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_t58 : Fin (k0_t58_loop v52 v105 v158 v211 v264 v317 v370 v423 v476 v529 v582).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v585 : BitVec 32 := Scalar.subi v584 v569
  let c0_i32_288 : BitVec 32 := 0#32
  let v586 : BitVec 32 := Scalar.maxsi v585 c0_i32_288
  let c0_i32_290 : BitVec 32 := 0#32
  let v588 : BitVec 1 := Scalar.cmpi .sgt v586 c0_i32_290
  let v589 : BitVec 32 := Scalar.extui v588
  let c0_i32_291 : BitVec 32 := 0#32
  let v590 : BitVec 1 := Scalar.cmpi .slt v586 c0_i32_291
  let v591 : BitVec 32 := Scalar.extui v590
  let v592 : BitVec 32 := Scalar.subi v589 v591
  let c8_i32_289 : BitVec 32 := 8#32
  let c0_i32_292 : BitVec 32 := 0#32
  let v593 : BitVec 1 := Scalar.cmpi .sgt c8_i32_289 c0_i32_292
  let v594 : BitVec 32 := Scalar.extui v593
  let c0_i32_293 : BitVec 32 := 0#32
  let v595 : BitVec 1 := Scalar.cmpi .slt c8_i32_289 c0_i32_293
  let v596 : BitVec 32 := Scalar.extui v595
  let v597 : BitVec 32 := Scalar.subi v594 v596
  let v598 : BitVec 1 := Scalar.cmpi .ne v592 v597
  let v599 : BitVec 32 := Scalar.remsi v586 c8_i32_289
  let c0_i32_294 : BitVec 32 := 0#32
  let v600 : BitVec 1 := Scalar.cmpi .ne v599 c0_i32_294
  let v601 : BitVec 1 := Scalar.andi v598 v600
  let v587 : BitVec 32 := Scalar.divsi v586 c8_i32_289
  let c1_i32_295 : BitVec 32 := 1#32
  let v602 : BitVec 32 := Scalar.subi v587 c1_i32_295
  let v603 : BitVec 32 := Scalar.select v601 v602 v587
  let c8_i32_300 : BitVec 32 := 8#32
  let v611 : BitVec 32 := Scalar.muli v603 c8_i32_300
  let v612 : BitVec 32 := Scalar.addi v569 v611
  let v613 : BitVec 32 := Scalar.subi v584 v612
  let c1_i32_301 : BitVec 32 := 1#32
  let v615 : BitVec 32 := Scalar.divsi v613 c1_i32_301
  let v616 : BitVec 32 := Scalar.muli v615 c1_i32_301
  let v617 : BitVec 32 := Scalar.addi v612 v616
  let c1_i32_303 : BitVec 32 := 1#32
  let arg19 : BitVec 32 := Scf.iv v617 c1_i32_303 k0_t58
  let c1_i32_452 : BitVec 32 := 1#32
  let v920 : BitVec 32 := Scalar.addi arg19 c1_i32_452
  let v921 : Index := Scalar.indexCast v920
  let c0_453 : Index := 0#32
  ![v921.toNat, 0]
def k0_off600 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_t58 : Fin (k0_t58_loop v52 v105 v158 v211 v264 v317 v370 v423 v476 v529 v582).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v585 : BitVec 32 := Scalar.subi v584 v569
  let c0_i32_288 : BitVec 32 := 0#32
  let v586 : BitVec 32 := Scalar.maxsi v585 c0_i32_288
  let c0_i32_290 : BitVec 32 := 0#32
  let v588 : BitVec 1 := Scalar.cmpi .sgt v586 c0_i32_290
  let v589 : BitVec 32 := Scalar.extui v588
  let c0_i32_291 : BitVec 32 := 0#32
  let v590 : BitVec 1 := Scalar.cmpi .slt v586 c0_i32_291
  let v591 : BitVec 32 := Scalar.extui v590
  let v592 : BitVec 32 := Scalar.subi v589 v591
  let c8_i32_289 : BitVec 32 := 8#32
  let c0_i32_292 : BitVec 32 := 0#32
  let v593 : BitVec 1 := Scalar.cmpi .sgt c8_i32_289 c0_i32_292
  let v594 : BitVec 32 := Scalar.extui v593
  let c0_i32_293 : BitVec 32 := 0#32
  let v595 : BitVec 1 := Scalar.cmpi .slt c8_i32_289 c0_i32_293
  let v596 : BitVec 32 := Scalar.extui v595
  let v597 : BitVec 32 := Scalar.subi v594 v596
  let v598 : BitVec 1 := Scalar.cmpi .ne v592 v597
  let v599 : BitVec 32 := Scalar.remsi v586 c8_i32_289
  let c0_i32_294 : BitVec 32 := 0#32
  let v600 : BitVec 1 := Scalar.cmpi .ne v599 c0_i32_294
  let v601 : BitVec 1 := Scalar.andi v598 v600
  let v587 : BitVec 32 := Scalar.divsi v586 c8_i32_289
  let c1_i32_295 : BitVec 32 := 1#32
  let v602 : BitVec 32 := Scalar.subi v587 c1_i32_295
  let v603 : BitVec 32 := Scalar.select v601 v602 v587
  let c8_i32_300 : BitVec 32 := 8#32
  let v611 : BitVec 32 := Scalar.muli v603 c8_i32_300
  let v612 : BitVec 32 := Scalar.addi v569 v611
  let v613 : BitVec 32 := Scalar.subi v584 v612
  let c1_i32_301 : BitVec 32 := 1#32
  let v615 : BitVec 32 := Scalar.divsi v613 c1_i32_301
  let v616 : BitVec 32 := Scalar.muli v615 c1_i32_301
  let v617 : BitVec 32 := Scalar.addi v612 v616
  let c1_i32_303 : BitVec 32 := 1#32
  let arg19 : BitVec 32 := Scf.iv v617 c1_i32_303 k0_t58
  let c1_i32_454 : BitVec 32 := 1#32
  let v925 : BitVec 32 := Scalar.addi arg19 c1_i32_454
  let v926 : Index := Scalar.indexCast v925
  let c16_455 : Index := 16#32
  ![v926.toNat, 16]

def k0_chk192 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) : Prop :=
  ((k0_t55_loop v52 v105 v158 v211 v264 v317 v370 v423 v476 v529 v582).OK) ∧
  (∀ k0_t55 : Fin (k0_t55_loop v52 v105 v158 v211 v264 v317 v370 v423 v476 v529 v582).trips, ∀ (r : Fin 2), ∀ a, (k0_off553 v52 v105 v158 v211 v264 v317 v370 v423 v476 v529 v582 k0_t55 (BitVec.ofNat 32 (1 + r.val))) a + S16.size a ≤ S4112.size a) ∧
  (∀ k0_t55 : Fin (k0_t55_loop v52 v105 v158 v211 v264 v317 v370 v423 v476 v529 v582).trips, ∀ (r : Fin 8), ∀ a, (k0_off570 v52 v105 v158 v211 v264 v317 v370 v423 v476 v529 v582 k0_t55 (BitVec.ofNat 32 r.val)) a + S1x16.size a ≤ S2050x32.size a) ∧
  (∀ k0_t55 : Fin (k0_t55_loop v52 v105 v158 v211 v264 v317 v370 v423 v476 v529 v582).trips, ∀ (r : Fin 8), ∀ a, (k0_off571 v52 v105 v158 v211 v264 v317 v370 v423 v476 v529 v582 k0_t55 (BitVec.ofNat 32 r.val)) a + S1x16.size a ≤ S2050x32.size a) ∧
  ((k0_t56_loop v52 v105 v158 v211 v264 v317 v370 v423 v476 v529 v582).OK) ∧
  (∀ k0_t56 : Fin (k0_t56_loop v52 v105 v158 v211 v264 v317 v370 v423 v476 v529 v582).trips, ∀ (r : Fin 2), ∀ a, (k0_off572 v52 v105 v158 v211 v264 v317 v370 v423 v476 v529 v582 k0_t56 (BitVec.ofNat 32 (1 + r.val))) a + S16.size a ≤ S4112.size a) ∧
  (∀ k0_t56 : Fin (k0_t56_loop v52 v105 v158 v211 v264 v317 v370 v423 v476 v529 v582).trips, ∀ (r : Fin 8), ∀ a, (k0_off589 v52 v105 v158 v211 v264 v317 v370 v423 v476 v529 v582 k0_t56 (BitVec.ofNat 32 r.val)) a + S1x16.size a ≤ S2050x32.size a) ∧
  (∀ k0_t56 : Fin (k0_t56_loop v52 v105 v158 v211 v264 v317 v370 v423 v476 v529 v582).trips, ∀ (r : Fin 8), ∀ a, (k0_off590 v52 v105 v158 v211 v264 v317 v370 v423 v476 v529 v582 k0_t56 (BitVec.ofNat 32 r.val)) a + S1x16.size a ≤ S2050x32.size a) ∧
  ((k0_t57_loop v52 v105 v158 v211 v264 v317 v370 v423 v476 v529 v582).OK) ∧
  (∀ k0_t57 : Fin (k0_t57_loop v52 v105 v158 v211 v264 v317 v370 v423 v476 v529 v582).trips, ∀ a, (k0_off591 v52 v105 v158 v211 v264 v317 v370 v423 v476 v529 v582 k0_t57) a + S16.size a ≤ S4112.size a) ∧
  (∀ k0_t57 : Fin (k0_t57_loop v52 v105 v158 v211 v264 v317 v370 v423 v476 v529 v582).trips, ∀ a, (k0_off594 v52 v105 v158 v211 v264 v317 v370 v423 v476 v529 v582 k0_t57) a + S1x16.size a ≤ S2050x32.size a) ∧
  (∀ k0_t57 : Fin (k0_t57_loop v52 v105 v158 v211 v264 v317 v370 v423 v476 v529 v582).trips, ∀ a, (k0_off595 v52 v105 v158 v211 v264 v317 v370 v423 v476 v529 v582 k0_t57) a + S1x16.size a ≤ S2050x32.size a) ∧
  ((k0_t58_loop v52 v105 v158 v211 v264 v317 v370 v423 v476 v529 v582).OK) ∧
  (∀ k0_t58 : Fin (k0_t58_loop v52 v105 v158 v211 v264 v317 v370 v423 v476 v529 v582).trips, ∀ a, (k0_off596 v52 v105 v158 v211 v264 v317 v370 v423 v476 v529 v582 k0_t58) a + S16.size a ≤ S4112.size a) ∧
  (∀ k0_t58 : Fin (k0_t58_loop v52 v105 v158 v211 v264 v317 v370 v423 v476 v529 v582).trips, ∀ a, (k0_off599 v52 v105 v158 v211 v264 v317 v370 v423 v476 v529 v582 k0_t58) a + S1x16.size a ≤ S2050x32.size a) ∧
  (∀ k0_t58 : Fin (k0_t58_loop v52 v105 v158 v211 v264 v317 v370 v423 v476 v529 v582).trips, ∀ a, (k0_off600 v52 v105 v158 v211 v264 v317 v370 v423 v476 v529 v582 k0_t58) a + S1x16.size a ≤ S2050x32.size a)
theorem k0_t55_ok : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_hw192 : k0_chk192 v52 v105 v158 v211 v264 v317 v370 v423 v476 v529 v582), (k0_t55_loop v52 v105 v158 v211 v264 v317 v370 v423 v476 v529 v582).OK := fun v52 v105 v158 v211 v264 v317 v370 v423 v476 v529 v582 k0_hw192 => k0_hw192.1
theorem k0_off553_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_hw192 : k0_chk192 v52 v105 v158 v211 v264 v317 v370 v423 v476 v529 v582) (k0_t55 : Fin (k0_t55_loop v52 v105 v158 v211 v264 v317 v370 v423 v476 v529 v582).trips), ∀ (r : Fin 2), ∀ a, (k0_off553 v52 v105 v158 v211 v264 v317 v370 v423 v476 v529 v582 k0_t55 (BitVec.ofNat 32 (1 + r.val))) a + S16.size a ≤ S4112.size a := fun v52 v105 v158 v211 v264 v317 v370 v423 v476 v529 v582 k0_hw192 k0_t55 r => k0_hw192.2.1 k0_t55 r
theorem k0_off570_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_hw192 : k0_chk192 v52 v105 v158 v211 v264 v317 v370 v423 v476 v529 v582) (k0_t55 : Fin (k0_t55_loop v52 v105 v158 v211 v264 v317 v370 v423 v476 v529 v582).trips), ∀ (r : Fin 8), ∀ a, (k0_off570 v52 v105 v158 v211 v264 v317 v370 v423 v476 v529 v582 k0_t55 (BitVec.ofNat 32 r.val)) a + S1x16.size a ≤ S2050x32.size a := fun v52 v105 v158 v211 v264 v317 v370 v423 v476 v529 v582 k0_hw192 k0_t55 r => k0_hw192.2.2.1 k0_t55 r
theorem k0_off571_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_hw192 : k0_chk192 v52 v105 v158 v211 v264 v317 v370 v423 v476 v529 v582) (k0_t55 : Fin (k0_t55_loop v52 v105 v158 v211 v264 v317 v370 v423 v476 v529 v582).trips), ∀ (r : Fin 8), ∀ a, (k0_off571 v52 v105 v158 v211 v264 v317 v370 v423 v476 v529 v582 k0_t55 (BitVec.ofNat 32 r.val)) a + S1x16.size a ≤ S2050x32.size a := fun v52 v105 v158 v211 v264 v317 v370 v423 v476 v529 v582 k0_hw192 k0_t55 r => k0_hw192.2.2.2.1 k0_t55 r
theorem k0_t56_ok : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_hw192 : k0_chk192 v52 v105 v158 v211 v264 v317 v370 v423 v476 v529 v582), (k0_t56_loop v52 v105 v158 v211 v264 v317 v370 v423 v476 v529 v582).OK := fun v52 v105 v158 v211 v264 v317 v370 v423 v476 v529 v582 k0_hw192 => k0_hw192.2.2.2.2.1
theorem k0_off572_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_hw192 : k0_chk192 v52 v105 v158 v211 v264 v317 v370 v423 v476 v529 v582) (k0_t56 : Fin (k0_t56_loop v52 v105 v158 v211 v264 v317 v370 v423 v476 v529 v582).trips), ∀ (r : Fin 2), ∀ a, (k0_off572 v52 v105 v158 v211 v264 v317 v370 v423 v476 v529 v582 k0_t56 (BitVec.ofNat 32 (1 + r.val))) a + S16.size a ≤ S4112.size a := fun v52 v105 v158 v211 v264 v317 v370 v423 v476 v529 v582 k0_hw192 k0_t56 r => k0_hw192.2.2.2.2.2.1 k0_t56 r
theorem k0_off589_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_hw192 : k0_chk192 v52 v105 v158 v211 v264 v317 v370 v423 v476 v529 v582) (k0_t56 : Fin (k0_t56_loop v52 v105 v158 v211 v264 v317 v370 v423 v476 v529 v582).trips), ∀ (r : Fin 8), ∀ a, (k0_off589 v52 v105 v158 v211 v264 v317 v370 v423 v476 v529 v582 k0_t56 (BitVec.ofNat 32 r.val)) a + S1x16.size a ≤ S2050x32.size a := fun v52 v105 v158 v211 v264 v317 v370 v423 v476 v529 v582 k0_hw192 k0_t56 r => k0_hw192.2.2.2.2.2.2.1 k0_t56 r
theorem k0_off590_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_hw192 : k0_chk192 v52 v105 v158 v211 v264 v317 v370 v423 v476 v529 v582) (k0_t56 : Fin (k0_t56_loop v52 v105 v158 v211 v264 v317 v370 v423 v476 v529 v582).trips), ∀ (r : Fin 8), ∀ a, (k0_off590 v52 v105 v158 v211 v264 v317 v370 v423 v476 v529 v582 k0_t56 (BitVec.ofNat 32 r.val)) a + S1x16.size a ≤ S2050x32.size a := fun v52 v105 v158 v211 v264 v317 v370 v423 v476 v529 v582 k0_hw192 k0_t56 r => k0_hw192.2.2.2.2.2.2.2.1 k0_t56 r
theorem k0_t57_ok : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_hw192 : k0_chk192 v52 v105 v158 v211 v264 v317 v370 v423 v476 v529 v582), (k0_t57_loop v52 v105 v158 v211 v264 v317 v370 v423 v476 v529 v582).OK := fun v52 v105 v158 v211 v264 v317 v370 v423 v476 v529 v582 k0_hw192 => k0_hw192.2.2.2.2.2.2.2.2.1
theorem k0_off591_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_hw192 : k0_chk192 v52 v105 v158 v211 v264 v317 v370 v423 v476 v529 v582) (k0_t57 : Fin (k0_t57_loop v52 v105 v158 v211 v264 v317 v370 v423 v476 v529 v582).trips), ∀ a, (k0_off591 v52 v105 v158 v211 v264 v317 v370 v423 v476 v529 v582 k0_t57) a + S16.size a ≤ S4112.size a := fun v52 v105 v158 v211 v264 v317 v370 v423 v476 v529 v582 k0_hw192 k0_t57 => k0_hw192.2.2.2.2.2.2.2.2.2.1 k0_t57
theorem k0_off594_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_hw192 : k0_chk192 v52 v105 v158 v211 v264 v317 v370 v423 v476 v529 v582) (k0_t57 : Fin (k0_t57_loop v52 v105 v158 v211 v264 v317 v370 v423 v476 v529 v582).trips), ∀ a, (k0_off594 v52 v105 v158 v211 v264 v317 v370 v423 v476 v529 v582 k0_t57) a + S1x16.size a ≤ S2050x32.size a := fun v52 v105 v158 v211 v264 v317 v370 v423 v476 v529 v582 k0_hw192 k0_t57 => k0_hw192.2.2.2.2.2.2.2.2.2.2.1 k0_t57
theorem k0_off595_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_hw192 : k0_chk192 v52 v105 v158 v211 v264 v317 v370 v423 v476 v529 v582) (k0_t57 : Fin (k0_t57_loop v52 v105 v158 v211 v264 v317 v370 v423 v476 v529 v582).trips), ∀ a, (k0_off595 v52 v105 v158 v211 v264 v317 v370 v423 v476 v529 v582 k0_t57) a + S1x16.size a ≤ S2050x32.size a := fun v52 v105 v158 v211 v264 v317 v370 v423 v476 v529 v582 k0_hw192 k0_t57 => k0_hw192.2.2.2.2.2.2.2.2.2.2.2.1 k0_t57
theorem k0_t58_ok : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_hw192 : k0_chk192 v52 v105 v158 v211 v264 v317 v370 v423 v476 v529 v582), (k0_t58_loop v52 v105 v158 v211 v264 v317 v370 v423 v476 v529 v582).OK := fun v52 v105 v158 v211 v264 v317 v370 v423 v476 v529 v582 k0_hw192 => k0_hw192.2.2.2.2.2.2.2.2.2.2.2.2.1
theorem k0_off596_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_hw192 : k0_chk192 v52 v105 v158 v211 v264 v317 v370 v423 v476 v529 v582) (k0_t58 : Fin (k0_t58_loop v52 v105 v158 v211 v264 v317 v370 v423 v476 v529 v582).trips), ∀ a, (k0_off596 v52 v105 v158 v211 v264 v317 v370 v423 v476 v529 v582 k0_t58) a + S16.size a ≤ S4112.size a := fun v52 v105 v158 v211 v264 v317 v370 v423 v476 v529 v582 k0_hw192 k0_t58 => k0_hw192.2.2.2.2.2.2.2.2.2.2.2.2.2.1 k0_t58
theorem k0_off599_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_hw192 : k0_chk192 v52 v105 v158 v211 v264 v317 v370 v423 v476 v529 v582) (k0_t58 : Fin (k0_t58_loop v52 v105 v158 v211 v264 v317 v370 v423 v476 v529 v582).trips), ∀ a, (k0_off599 v52 v105 v158 v211 v264 v317 v370 v423 v476 v529 v582 k0_t58) a + S1x16.size a ≤ S2050x32.size a := fun v52 v105 v158 v211 v264 v317 v370 v423 v476 v529 v582 k0_hw192 k0_t58 => k0_hw192.2.2.2.2.2.2.2.2.2.2.2.2.2.2.1 k0_t58
theorem k0_off600_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (k0_hw192 : k0_chk192 v52 v105 v158 v211 v264 v317 v370 v423 v476 v529 v582) (k0_t58 : Fin (k0_t58_loop v52 v105 v158 v211 v264 v317 v370 v423 v476 v529 v582).trips), ∀ a, (k0_off600 v52 v105 v158 v211 v264 v317 v370 v423 v476 v529 v582 k0_t58) a + S1x16.size a ≤ S2050x32.size a := fun v52 v105 v158 v211 v264 v317 v370 v423 v476 v529 v582 k0_hw192 k0_t58 => k0_hw192.2.2.2.2.2.2.2.2.2.2.2.2.2.2.2 k0_t58

def k0_off601 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c2816_i32_304 : BitVec 32 := 2816#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 2816, v3.toNat]
@[reducible] def k0_t59_loop : Scf.Loop 32 :=
  let c0_i32_306 : BitVec 32 := 0#32
  let c16_i32_307 : BitVec 32 := 16#32
  let v627 : BitVec 32 := Scalar.addi c0_i32_306 c16_i32_307
  let c1_i32_308 : BitVec 32 := 1#32
  ⟨c0_i32_306, v627, c1_i32_308⟩
def k0_off602 (k0_t59 : Fin k0_t59_loop.trips) (c0_i32_445 : BitVec 32) : Fin 2 → Nat :=
  let c0_i32_306 : BitVec 32 := 0#32
  let c1_i32_308 : BitVec 32 := 1#32
  let arg19 : BitVec 32 := Scf.iv c0_i32_306 c1_i32_308 k0_t59
  let c16_i32_444 : BitVec 32 := 16#32
  let v893 : BitVec 32 := Scalar.muli arg19 c16_i32_444
  let v894 : BitVec 32 := Scalar.addi v893 c0_i32_445
  let v895 : Index := Scalar.indexCast v894
  let c0_446 : Index := 0#32
  ![v895.toNat, 0]
def k0_off603 (k0_t59 : Fin k0_t59_loop.trips) (c0_i32_447 : BitVec 32) : Fin 2 → Nat :=
  let c0_i32_306 : BitVec 32 := 0#32
  let c1_i32_308 : BitVec 32 := 1#32
  let arg19 : BitVec 32 := Scf.iv c0_i32_306 c1_i32_308 k0_t59
  let c16_i32_444 : BitVec 32 := 16#32
  let v893 : BitVec 32 := Scalar.muli arg19 c16_i32_444
  let v898 : BitVec 32 := Scalar.addi v893 c0_i32_447
  let v899 : Index := Scalar.indexCast v898
  let c16_448 : Index := 16#32
  ![v899.toNat, 16]
def k0_off604 (k0_t59 : Fin k0_t59_loop.trips) (c0_i32_449 : BitVec 32) : Fin 2 → Nat :=
  let c0_i32_306 : BitVec 32 := 0#32
  let c1_i32_308 : BitVec 32 := 1#32
  let arg19 : BitVec 32 := Scf.iv c0_i32_306 c1_i32_308 k0_t59
  let c16_i32_444 : BitVec 32 := 16#32
  let v893 : BitVec 32 := Scalar.muli arg19 c16_i32_444
  let v902 : BitVec 32 := Scalar.addi v893 c0_i32_449
  let c1_i32_450 : BitVec 32 := 1#32
  let v903 : BitVec 32 := Scalar.addi v902 c1_i32_450
  let v904 : Index := Scalar.indexCast v903
  let c0_451 : Index := 0#32
  ![v904.toNat, 0]
def k0_off605 (k0_t59 : Fin k0_t59_loop.trips) (c0_i32_452 : BitVec 32) : Fin 2 → Nat :=
  let c0_i32_306 : BitVec 32 := 0#32
  let c1_i32_308 : BitVec 32 := 1#32
  let arg19 : BitVec 32 := Scf.iv c0_i32_306 c1_i32_308 k0_t59
  let c16_i32_444 : BitVec 32 := 16#32
  let v893 : BitVec 32 := Scalar.muli arg19 c16_i32_444
  let v906 : BitVec 32 := Scalar.addi v893 c0_i32_452
  let c1_i32_453 : BitVec 32 := 1#32
  let v907 : BitVec 32 := Scalar.addi v906 c1_i32_453
  let v908 : Index := Scalar.indexCast v907
  let c16_454 : Index := 16#32
  ![v908.toNat, 16]
def k0_off606 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c3328_i32 : BitVec 32 := 3328#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 3328, v3.toNat]
@[reducible] def k0_t60_loop (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) : Scf.Loop 32 :=
  let c0_i32_321 : BitVec 32 := 0#32
  let c1_i32_311 : BitVec 32 := 1#32
  let v636 : BitVec 32 := Scalar.subi v635 c1_i32_311
  let c2049_i32_312 : BitVec 32 := 2049#32
  let v637 : BitVec 32 := Scalar.minsi v636 c2049_i32_312
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let v638 : BitVec 32 := Scalar.subi v637 v622
  let c0_i32_313 : BitVec 32 := 0#32
  let v639 : BitVec 32 := Scalar.maxsi v638 c0_i32_313
  let c0_i32_315 : BitVec 32 := 0#32
  let v641 : BitVec 1 := Scalar.cmpi .sgt v639 c0_i32_315
  let v642 : BitVec 32 := Scalar.extui v641
  let c0_i32_316 : BitVec 32 := 0#32
  let v643 : BitVec 1 := Scalar.cmpi .slt v639 c0_i32_316
  let v644 : BitVec 32 := Scalar.extui v643
  let v645 : BitVec 32 := Scalar.subi v642 v644
  let c8_i32_314 : BitVec 32 := 8#32
  let c0_i32_317 : BitVec 32 := 0#32
  let v646 : BitVec 1 := Scalar.cmpi .sgt c8_i32_314 c0_i32_317
  let v647 : BitVec 32 := Scalar.extui v646
  let c0_i32_318 : BitVec 32 := 0#32
  let v648 : BitVec 1 := Scalar.cmpi .slt c8_i32_314 c0_i32_318
  let v649 : BitVec 32 := Scalar.extui v648
  let v650 : BitVec 32 := Scalar.subi v647 v649
  let v651 : BitVec 1 := Scalar.cmpi .ne v645 v650
  let v652 : BitVec 32 := Scalar.remsi v639 c8_i32_314
  let c0_i32_319 : BitVec 32 := 0#32
  let v653 : BitVec 1 := Scalar.cmpi .ne v652 c0_i32_319
  let v654 : BitVec 1 := Scalar.andi v651 v653
  let v640 : BitVec 32 := Scalar.divsi v639 c8_i32_314
  let c1_i32_320 : BitVec 32 := 1#32
  let v655 : BitVec 32 := Scalar.subi v640 c1_i32_320
  let v656 : BitVec 32 := Scalar.select v654 v655 v640
  let v657 : BitVec 32 := Scalar.subi v656 c0_i32_321
  let c1_i32_322 : BitVec 32 := 1#32
  let v659 : BitVec 32 := Scalar.divsi v657 c1_i32_322
  let v660 : BitVec 32 := Scalar.muli v659 c1_i32_322
  let v661 : BitVec 32 := Scalar.addi c0_i32_321 v660
  let c1_i32_323 : BitVec 32 := 1#32
  ⟨c0_i32_321, v661, c1_i32_323⟩

def k0_off607 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_t60 : Fin (k0_t60_loop v52 v105 v158 v211 v264 v317 v370 v423 v476 v529 v582 v635).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c0_i32_321 : BitVec 32 := 0#32
  let c1_i32_323 : BitVec 32 := 1#32
  let arg19 : BitVec 32 := Scf.iv c0_i32_321 c1_i32_323 k0_t60
  let c8_i32_444 : BitVec 32 := 8#32
  let v893 : BitVec 32 := Scalar.muli arg19 c8_i32_444
  let v894 : BitVec 32 := Scalar.addi v622 v893
  let v895 : BitVec 32 := Scalar.addi v894 c1_i32_445
  let v896 : Index := Scalar.indexCast v895
  ![v896.toNat]
def k0_off608 (v912 : BitVec 32) : Fin 2 → Nat :=
  let c2816_i32_451 : BitVec 32 := 2816#32
  let v913 : BitVec 32 := Scalar.subi v912 c2816_i32_451
  let v914 : Index := Scalar.indexCast v913
  let c0_452 : Index := 0#32
  ![v914.toNat, 0]

def k0_off609 (v912 : BitVec 32) : Fin 2 → Nat :=
  let c2816_i32_451 : BitVec 32 := 2816#32
  let v913 : BitVec 32 := Scalar.subi v912 c2816_i32_451
  let v917 : Index := Scalar.indexCast v913
  let c16_453 : Index := 16#32
  ![v917.toNat, 16]

def k0_chk212 (v912 : BitVec 32) : Prop :=
  (∀ a, (k0_off608 v912) a + S1x16.size a ≤ S257x32.size a) ∧
  (∀ a, (k0_off609 v912) a + S1x16.size a ≤ S257x32.size a)
theorem k0_off608_inb : ∀ (v912 : BitVec 32) (k0_hw212 : k0_chk212 v912), ∀ a, (k0_off608 v912) a + S1x16.size a ≤ S257x32.size a := fun v912 k0_hw212 => k0_hw212.1
theorem k0_off609_inb : ∀ (v912 : BitVec 32) (k0_hw212 : k0_chk212 v912), ∀ a, (k0_off609 v912) a + S1x16.size a ≤ S257x32.size a := fun v912 k0_hw212 => k0_hw212.2

def k0_off610 (v921 : BitVec 32) : Fin 2 → Nat :=
  let c2816_i32_454 : BitVec 32 := 2816#32
  let v922 : BitVec 32 := Scalar.subi v921 c2816_i32_454
  let v923 : Index := Scalar.indexCast v922
  let c0_455 : Index := 0#32
  ![v923.toNat, 0]

def k0_off611 (v921 : BitVec 32) : Fin 2 → Nat :=
  let c2816_i32_454 : BitVec 32 := 2816#32
  let v922 : BitVec 32 := Scalar.subi v921 c2816_i32_454
  let v926 : Index := Scalar.indexCast v922
  let c16_456 : Index := 16#32
  ![v926.toNat, 16]

def k0_chk213 (v921 : BitVec 32) : Prop :=
  (∀ a, (k0_off610 v921) a + S1x16.size a ≤ S257x32.size a) ∧
  (∀ a, (k0_off611 v921) a + S1x16.size a ≤ S257x32.size a)
theorem k0_off610_inb : ∀ (v921 : BitVec 32) (k0_hw213 : k0_chk213 v921), ∀ a, (k0_off610 v921) a + S1x16.size a ≤ S257x32.size a := fun v921 k0_hw213 => k0_hw213.1
theorem k0_off611_inb : ∀ (v921 : BitVec 32) (k0_hw213 : k0_chk213 v921), ∀ a, (k0_off611 v921) a + S1x16.size a ≤ S257x32.size a := fun v921 k0_hw213 => k0_hw213.2

def k0_off612 (v930 : BitVec 32) : Fin 2 → Nat :=
  let c2816_i32_457 : BitVec 32 := 2816#32
  let v931 : BitVec 32 := Scalar.subi v930 c2816_i32_457
  let v932 : Index := Scalar.indexCast v931
  let c0_458 : Index := 0#32
  ![v932.toNat, 0]

def k0_off613 (v930 : BitVec 32) : Fin 2 → Nat :=
  let c2816_i32_457 : BitVec 32 := 2816#32
  let v931 : BitVec 32 := Scalar.subi v930 c2816_i32_457
  let v935 : Index := Scalar.indexCast v931
  let c16_459 : Index := 16#32
  ![v935.toNat, 16]

def k0_chk214 (v930 : BitVec 32) : Prop :=
  (∀ a, (k0_off612 v930) a + S1x16.size a ≤ S257x32.size a) ∧
  (∀ a, (k0_off613 v930) a + S1x16.size a ≤ S257x32.size a)
theorem k0_off612_inb : ∀ (v930 : BitVec 32) (k0_hw214 : k0_chk214 v930), ∀ a, (k0_off612 v930) a + S1x16.size a ≤ S257x32.size a := fun v930 k0_hw214 => k0_hw214.1
theorem k0_off613_inb : ∀ (v930 : BitVec 32) (k0_hw214 : k0_chk214 v930), ∀ a, (k0_off613 v930) a + S1x16.size a ≤ S257x32.size a := fun v930 k0_hw214 => k0_hw214.2

def k0_off614 (v939 : BitVec 32) : Fin 2 → Nat :=
  let c2816_i32_460 : BitVec 32 := 2816#32
  let v940 : BitVec 32 := Scalar.subi v939 c2816_i32_460
  let v941 : Index := Scalar.indexCast v940
  let c0_461 : Index := 0#32
  ![v941.toNat, 0]

def k0_off615 (v939 : BitVec 32) : Fin 2 → Nat :=
  let c2816_i32_460 : BitVec 32 := 2816#32
  let v940 : BitVec 32 := Scalar.subi v939 c2816_i32_460
  let v944 : Index := Scalar.indexCast v940
  let c16_462 : Index := 16#32
  ![v944.toNat, 16]

def k0_chk215 (v939 : BitVec 32) : Prop :=
  (∀ a, (k0_off614 v939) a + S1x16.size a ≤ S257x32.size a) ∧
  (∀ a, (k0_off615 v939) a + S1x16.size a ≤ S257x32.size a)
theorem k0_off614_inb : ∀ (v939 : BitVec 32) (k0_hw215 : k0_chk215 v939), ∀ a, (k0_off614 v939) a + S1x16.size a ≤ S257x32.size a := fun v939 k0_hw215 => k0_hw215.1
theorem k0_off615_inb : ∀ (v939 : BitVec 32) (k0_hw215 : k0_chk215 v939), ∀ a, (k0_off615 v939) a + S1x16.size a ≤ S257x32.size a := fun v939 k0_hw215 => k0_hw215.2

def k0_off616 (v948 : BitVec 32) : Fin 2 → Nat :=
  let c2816_i32_463 : BitVec 32 := 2816#32
  let v949 : BitVec 32 := Scalar.subi v948 c2816_i32_463
  let v950 : Index := Scalar.indexCast v949
  let c0_464 : Index := 0#32
  ![v950.toNat, 0]

def k0_off617 (v948 : BitVec 32) : Fin 2 → Nat :=
  let c2816_i32_463 : BitVec 32 := 2816#32
  let v949 : BitVec 32 := Scalar.subi v948 c2816_i32_463
  let v953 : Index := Scalar.indexCast v949
  let c16_465 : Index := 16#32
  ![v953.toNat, 16]

def k0_chk216 (v948 : BitVec 32) : Prop :=
  (∀ a, (k0_off616 v948) a + S1x16.size a ≤ S257x32.size a) ∧
  (∀ a, (k0_off617 v948) a + S1x16.size a ≤ S257x32.size a)
theorem k0_off616_inb : ∀ (v948 : BitVec 32) (k0_hw216 : k0_chk216 v948), ∀ a, (k0_off616 v948) a + S1x16.size a ≤ S257x32.size a := fun v948 k0_hw216 => k0_hw216.1
theorem k0_off617_inb : ∀ (v948 : BitVec 32) (k0_hw216 : k0_chk216 v948), ∀ a, (k0_off617 v948) a + S1x16.size a ≤ S257x32.size a := fun v948 k0_hw216 => k0_hw216.2

def k0_off618 (v957 : BitVec 32) : Fin 2 → Nat :=
  let c2816_i32_466 : BitVec 32 := 2816#32
  let v958 : BitVec 32 := Scalar.subi v957 c2816_i32_466
  let v959 : Index := Scalar.indexCast v958
  let c0_467 : Index := 0#32
  ![v959.toNat, 0]

def k0_off619 (v957 : BitVec 32) : Fin 2 → Nat :=
  let c2816_i32_466 : BitVec 32 := 2816#32
  let v958 : BitVec 32 := Scalar.subi v957 c2816_i32_466
  let v962 : Index := Scalar.indexCast v958
  let c16_468 : Index := 16#32
  ![v962.toNat, 16]

def k0_chk217 (v957 : BitVec 32) : Prop :=
  (∀ a, (k0_off618 v957) a + S1x16.size a ≤ S257x32.size a) ∧
  (∀ a, (k0_off619 v957) a + S1x16.size a ≤ S257x32.size a)
theorem k0_off618_inb : ∀ (v957 : BitVec 32) (k0_hw217 : k0_chk217 v957), ∀ a, (k0_off618 v957) a + S1x16.size a ≤ S257x32.size a := fun v957 k0_hw217 => k0_hw217.1
theorem k0_off619_inb : ∀ (v957 : BitVec 32) (k0_hw217 : k0_chk217 v957), ∀ a, (k0_off619 v957) a + S1x16.size a ≤ S257x32.size a := fun v957 k0_hw217 => k0_hw217.2

def k0_off620 (v966 : BitVec 32) : Fin 2 → Nat :=
  let c2816_i32_469 : BitVec 32 := 2816#32
  let v967 : BitVec 32 := Scalar.subi v966 c2816_i32_469
  let v968 : Index := Scalar.indexCast v967
  let c0_470 : Index := 0#32
  ![v968.toNat, 0]

def k0_off621 (v966 : BitVec 32) : Fin 2 → Nat :=
  let c2816_i32_469 : BitVec 32 := 2816#32
  let v967 : BitVec 32 := Scalar.subi v966 c2816_i32_469
  let v971 : Index := Scalar.indexCast v967
  let c16_471 : Index := 16#32
  ![v971.toNat, 16]

def k0_chk218 (v966 : BitVec 32) : Prop :=
  (∀ a, (k0_off620 v966) a + S1x16.size a ≤ S257x32.size a) ∧
  (∀ a, (k0_off621 v966) a + S1x16.size a ≤ S257x32.size a)
theorem k0_off620_inb : ∀ (v966 : BitVec 32) (k0_hw218 : k0_chk218 v966), ∀ a, (k0_off620 v966) a + S1x16.size a ≤ S257x32.size a := fun v966 k0_hw218 => k0_hw218.1
theorem k0_off621_inb : ∀ (v966 : BitVec 32) (k0_hw218 : k0_chk218 v966), ∀ a, (k0_off621 v966) a + S1x16.size a ≤ S257x32.size a := fun v966 k0_hw218 => k0_hw218.2

def k0_off622 (v975 : BitVec 32) : Fin 2 → Nat :=
  let c2816_i32_472 : BitVec 32 := 2816#32
  let v976 : BitVec 32 := Scalar.subi v975 c2816_i32_472
  let v977 : Index := Scalar.indexCast v976
  let c0_473 : Index := 0#32
  ![v977.toNat, 0]

def k0_off623 (v975 : BitVec 32) : Fin 2 → Nat :=
  let c2816_i32_472 : BitVec 32 := 2816#32
  let v976 : BitVec 32 := Scalar.subi v975 c2816_i32_472
  let v980 : Index := Scalar.indexCast v976
  let c16_474 : Index := 16#32
  ![v980.toNat, 16]

def k0_chk219 (v975 : BitVec 32) : Prop :=
  (∀ a, (k0_off622 v975) a + S1x16.size a ≤ S257x32.size a) ∧
  (∀ a, (k0_off623 v975) a + S1x16.size a ≤ S257x32.size a)
theorem k0_off622_inb : ∀ (v975 : BitVec 32) (k0_hw219 : k0_chk219 v975), ∀ a, (k0_off622 v975) a + S1x16.size a ≤ S257x32.size a := fun v975 k0_hw219 => k0_hw219.1
theorem k0_off623_inb : ∀ (v975 : BitVec 32) (k0_hw219 : k0_chk219 v975), ∀ a, (k0_off623 v975) a + S1x16.size a ≤ S257x32.size a := fun v975 k0_hw219 => k0_hw219.2

def k0_off624 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_t60 : Fin (k0_t60_loop v52 v105 v158 v211 v264 v317 v370 v423 v476 v529 v582 v635).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c0_i32_321 : BitVec 32 := 0#32
  let c1_i32_323 : BitVec 32 := 1#32
  let arg19 : BitVec 32 := Scf.iv c0_i32_321 c1_i32_323 k0_t60
  let c8_i32_444 : BitVec 32 := 8#32
  let v893 : BitVec 32 := Scalar.muli arg19 c8_i32_444
  let v894 : BitVec 32 := Scalar.addi v622 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off625 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_t60 : Fin (k0_t60_loop v52 v105 v158 v211 v264 v317 v370 v423 v476 v529 v582 v635).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c0_i32_321 : BitVec 32 := 0#32
  let c1_i32_323 : BitVec 32 := 1#32
  let arg19 : BitVec 32 := Scf.iv c0_i32_321 c1_i32_323 k0_t60
  let c8_i32_444 : BitVec 32 := 8#32
  let v893 : BitVec 32 := Scalar.muli arg19 c8_i32_444
  let v894 : BitVec 32 := Scalar.addi v622 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t61_loop (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) : Scf.Loop 32 :=
  let c0_i32_321 : BitVec 32 := 0#32
  let c1_i32_311 : BitVec 32 := 1#32
  let v636 : BitVec 32 := Scalar.subi v635 c1_i32_311
  let c2049_i32_312 : BitVec 32 := 2049#32
  let v637 : BitVec 32 := Scalar.minsi v636 c2049_i32_312
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let v638 : BitVec 32 := Scalar.subi v637 v622
  let c0_i32_313 : BitVec 32 := 0#32
  let v639 : BitVec 32 := Scalar.maxsi v638 c0_i32_313
  let c0_i32_315 : BitVec 32 := 0#32
  let v641 : BitVec 1 := Scalar.cmpi .sgt v639 c0_i32_315
  let v642 : BitVec 32 := Scalar.extui v641
  let c0_i32_316 : BitVec 32 := 0#32
  let v643 : BitVec 1 := Scalar.cmpi .slt v639 c0_i32_316
  let v644 : BitVec 32 := Scalar.extui v643
  let v645 : BitVec 32 := Scalar.subi v642 v644
  let c8_i32_314 : BitVec 32 := 8#32
  let c0_i32_317 : BitVec 32 := 0#32
  let v646 : BitVec 1 := Scalar.cmpi .sgt c8_i32_314 c0_i32_317
  let v647 : BitVec 32 := Scalar.extui v646
  let c0_i32_318 : BitVec 32 := 0#32
  let v648 : BitVec 1 := Scalar.cmpi .slt c8_i32_314 c0_i32_318
  let v649 : BitVec 32 := Scalar.extui v648
  let v650 : BitVec 32 := Scalar.subi v647 v649
  let v651 : BitVec 1 := Scalar.cmpi .ne v645 v650
  let v652 : BitVec 32 := Scalar.remsi v639 c8_i32_314
  let c0_i32_319 : BitVec 32 := 0#32
  let v653 : BitVec 1 := Scalar.cmpi .ne v652 c0_i32_319
  let v654 : BitVec 1 := Scalar.andi v651 v653
  let v640 : BitVec 32 := Scalar.divsi v639 c8_i32_314
  let c1_i32_320 : BitVec 32 := 1#32
  let v655 : BitVec 32 := Scalar.subi v640 c1_i32_320
  let v656 : BitVec 32 := Scalar.select v654 v655 v640
  let v657 : BitVec 32 := Scalar.subi v656 c0_i32_321
  let c1_i32_322 : BitVec 32 := 1#32
  let v659 : BitVec 32 := Scalar.divsi v657 c1_i32_322
  let v660 : BitVec 32 := Scalar.muli v659 c1_i32_322
  let v661 : BitVec 32 := Scalar.addi c0_i32_321 v660
  let v658 : BitVec 32 := Scalar.addi c0_i32_321 v657
  let c1_i32_324 : BitVec 32 := 1#32
  ⟨v661, v658, c1_i32_324⟩
def k0_off626 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_t61 : Fin (k0_t61_loop v52 v105 v158 v211 v264 v317 v370 v423 v476 v529 v582 v635).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c0_i32_321 : BitVec 32 := 0#32
  let c1_i32_311 : BitVec 32 := 1#32
  let v636 : BitVec 32 := Scalar.subi v635 c1_i32_311
  let c2049_i32_312 : BitVec 32 := 2049#32
  let v637 : BitVec 32 := Scalar.minsi v636 c2049_i32_312
  let v638 : BitVec 32 := Scalar.subi v637 v622
  let c0_i32_313 : BitVec 32 := 0#32
  let v639 : BitVec 32 := Scalar.maxsi v638 c0_i32_313
  let c0_i32_315 : BitVec 32 := 0#32
  let v641 : BitVec 1 := Scalar.cmpi .sgt v639 c0_i32_315
  let v642 : BitVec 32 := Scalar.extui v641
  let c0_i32_316 : BitVec 32 := 0#32
  let v643 : BitVec 1 := Scalar.cmpi .slt v639 c0_i32_316
  let v644 : BitVec 32 := Scalar.extui v643
  let v645 : BitVec 32 := Scalar.subi v642 v644
  let c8_i32_314 : BitVec 32 := 8#32
  let c0_i32_317 : BitVec 32 := 0#32
  let v646 : BitVec 1 := Scalar.cmpi .sgt c8_i32_314 c0_i32_317
  let v647 : BitVec 32 := Scalar.extui v646
  let c0_i32_318 : BitVec 32 := 0#32
  let v648 : BitVec 1 := Scalar.cmpi .slt c8_i32_314 c0_i32_318
  let v649 : BitVec 32 := Scalar.extui v648
  let v650 : BitVec 32 := Scalar.subi v647 v649
  let v651 : BitVec 1 := Scalar.cmpi .ne v645 v650
  let v652 : BitVec 32 := Scalar.remsi v639 c8_i32_314
  let c0_i32_319 : BitVec 32 := 0#32
  let v653 : BitVec 1 := Scalar.cmpi .ne v652 c0_i32_319
  let v654 : BitVec 1 := Scalar.andi v651 v653
  let v640 : BitVec 32 := Scalar.divsi v639 c8_i32_314
  let c1_i32_320 : BitVec 32 := 1#32
  let v655 : BitVec 32 := Scalar.subi v640 c1_i32_320
  let v656 : BitVec 32 := Scalar.select v654 v655 v640
  let v657 : BitVec 32 := Scalar.subi v656 c0_i32_321
  let c1_i32_322 : BitVec 32 := 1#32
  let v659 : BitVec 32 := Scalar.divsi v657 c1_i32_322
  let v660 : BitVec 32 := Scalar.muli v659 c1_i32_322
  let v661 : BitVec 32 := Scalar.addi c0_i32_321 v660
  let c1_i32_324 : BitVec 32 := 1#32
  let arg19 : BitVec 32 := Scf.iv v661 c1_i32_324 k0_t61
  let c8_i32_444 : BitVec 32 := 8#32
  let v893 : BitVec 32 := Scalar.muli arg19 c8_i32_444
  let v894 : BitVec 32 := Scalar.addi v622 v893
  let v895 : BitVec 32 := Scalar.addi v894 c1_i32_445
  let v896 : Index := Scalar.indexCast v895
  ![v896.toNat]
def k0_off627 (v912 : BitVec 32) : Fin 2 → Nat :=
  let c2816_i32_451 : BitVec 32 := 2816#32
  let v913 : BitVec 32 := Scalar.subi v912 c2816_i32_451
  let v914 : Index := Scalar.indexCast v913
  let c0_452 : Index := 0#32
  ![v914.toNat, 0]

def k0_off628 (v912 : BitVec 32) : Fin 2 → Nat :=
  let c2816_i32_451 : BitVec 32 := 2816#32
  let v913 : BitVec 32 := Scalar.subi v912 c2816_i32_451
  let v917 : Index := Scalar.indexCast v913
  let c16_453 : Index := 16#32
  ![v917.toNat, 16]

def k0_chk220 (v912 : BitVec 32) : Prop :=
  (∀ a, (k0_off627 v912) a + S1x16.size a ≤ S257x32.size a) ∧
  (∀ a, (k0_off628 v912) a + S1x16.size a ≤ S257x32.size a)
theorem k0_off627_inb : ∀ (v912 : BitVec 32) (k0_hw220 : k0_chk220 v912), ∀ a, (k0_off627 v912) a + S1x16.size a ≤ S257x32.size a := fun v912 k0_hw220 => k0_hw220.1
theorem k0_off628_inb : ∀ (v912 : BitVec 32) (k0_hw220 : k0_chk220 v912), ∀ a, (k0_off628 v912) a + S1x16.size a ≤ S257x32.size a := fun v912 k0_hw220 => k0_hw220.2

def k0_off629 (v921 : BitVec 32) : Fin 2 → Nat :=
  let c2816_i32_454 : BitVec 32 := 2816#32
  let v922 : BitVec 32 := Scalar.subi v921 c2816_i32_454
  let v923 : Index := Scalar.indexCast v922
  let c0_455 : Index := 0#32
  ![v923.toNat, 0]

def k0_off630 (v921 : BitVec 32) : Fin 2 → Nat :=
  let c2816_i32_454 : BitVec 32 := 2816#32
  let v922 : BitVec 32 := Scalar.subi v921 c2816_i32_454
  let v926 : Index := Scalar.indexCast v922
  let c16_456 : Index := 16#32
  ![v926.toNat, 16]

def k0_chk221 (v921 : BitVec 32) : Prop :=
  (∀ a, (k0_off629 v921) a + S1x16.size a ≤ S257x32.size a) ∧
  (∀ a, (k0_off630 v921) a + S1x16.size a ≤ S257x32.size a)
theorem k0_off629_inb : ∀ (v921 : BitVec 32) (k0_hw221 : k0_chk221 v921), ∀ a, (k0_off629 v921) a + S1x16.size a ≤ S257x32.size a := fun v921 k0_hw221 => k0_hw221.1
theorem k0_off630_inb : ∀ (v921 : BitVec 32) (k0_hw221 : k0_chk221 v921), ∀ a, (k0_off630 v921) a + S1x16.size a ≤ S257x32.size a := fun v921 k0_hw221 => k0_hw221.2

def k0_off631 (v930 : BitVec 32) : Fin 2 → Nat :=
  let c2816_i32_457 : BitVec 32 := 2816#32
  let v931 : BitVec 32 := Scalar.subi v930 c2816_i32_457
  let v932 : Index := Scalar.indexCast v931
  let c0_458 : Index := 0#32
  ![v932.toNat, 0]

def k0_off632 (v930 : BitVec 32) : Fin 2 → Nat :=
  let c2816_i32_457 : BitVec 32 := 2816#32
  let v931 : BitVec 32 := Scalar.subi v930 c2816_i32_457
  let v935 : Index := Scalar.indexCast v931
  let c16_459 : Index := 16#32
  ![v935.toNat, 16]

def k0_chk222 (v930 : BitVec 32) : Prop :=
  (∀ a, (k0_off631 v930) a + S1x16.size a ≤ S257x32.size a) ∧
  (∀ a, (k0_off632 v930) a + S1x16.size a ≤ S257x32.size a)
theorem k0_off631_inb : ∀ (v930 : BitVec 32) (k0_hw222 : k0_chk222 v930), ∀ a, (k0_off631 v930) a + S1x16.size a ≤ S257x32.size a := fun v930 k0_hw222 => k0_hw222.1
theorem k0_off632_inb : ∀ (v930 : BitVec 32) (k0_hw222 : k0_chk222 v930), ∀ a, (k0_off632 v930) a + S1x16.size a ≤ S257x32.size a := fun v930 k0_hw222 => k0_hw222.2

def k0_off633 (v939 : BitVec 32) : Fin 2 → Nat :=
  let c2816_i32_460 : BitVec 32 := 2816#32
  let v940 : BitVec 32 := Scalar.subi v939 c2816_i32_460
  let v941 : Index := Scalar.indexCast v940
  let c0_461 : Index := 0#32
  ![v941.toNat, 0]

def k0_off634 (v939 : BitVec 32) : Fin 2 → Nat :=
  let c2816_i32_460 : BitVec 32 := 2816#32
  let v940 : BitVec 32 := Scalar.subi v939 c2816_i32_460
  let v944 : Index := Scalar.indexCast v940
  let c16_462 : Index := 16#32
  ![v944.toNat, 16]

def k0_chk223 (v939 : BitVec 32) : Prop :=
  (∀ a, (k0_off633 v939) a + S1x16.size a ≤ S257x32.size a) ∧
  (∀ a, (k0_off634 v939) a + S1x16.size a ≤ S257x32.size a)
theorem k0_off633_inb : ∀ (v939 : BitVec 32) (k0_hw223 : k0_chk223 v939), ∀ a, (k0_off633 v939) a + S1x16.size a ≤ S257x32.size a := fun v939 k0_hw223 => k0_hw223.1
theorem k0_off634_inb : ∀ (v939 : BitVec 32) (k0_hw223 : k0_chk223 v939), ∀ a, (k0_off634 v939) a + S1x16.size a ≤ S257x32.size a := fun v939 k0_hw223 => k0_hw223.2

def k0_off635 (v948 : BitVec 32) : Fin 2 → Nat :=
  let c2816_i32_463 : BitVec 32 := 2816#32
  let v949 : BitVec 32 := Scalar.subi v948 c2816_i32_463
  let v950 : Index := Scalar.indexCast v949
  let c0_464 : Index := 0#32
  ![v950.toNat, 0]

def k0_off636 (v948 : BitVec 32) : Fin 2 → Nat :=
  let c2816_i32_463 : BitVec 32 := 2816#32
  let v949 : BitVec 32 := Scalar.subi v948 c2816_i32_463
  let v953 : Index := Scalar.indexCast v949
  let c16_465 : Index := 16#32
  ![v953.toNat, 16]

def k0_chk224 (v948 : BitVec 32) : Prop :=
  (∀ a, (k0_off635 v948) a + S1x16.size a ≤ S257x32.size a) ∧
  (∀ a, (k0_off636 v948) a + S1x16.size a ≤ S257x32.size a)
theorem k0_off635_inb : ∀ (v948 : BitVec 32) (k0_hw224 : k0_chk224 v948), ∀ a, (k0_off635 v948) a + S1x16.size a ≤ S257x32.size a := fun v948 k0_hw224 => k0_hw224.1
theorem k0_off636_inb : ∀ (v948 : BitVec 32) (k0_hw224 : k0_chk224 v948), ∀ a, (k0_off636 v948) a + S1x16.size a ≤ S257x32.size a := fun v948 k0_hw224 => k0_hw224.2

def k0_off637 (v957 : BitVec 32) : Fin 2 → Nat :=
  let c2816_i32_466 : BitVec 32 := 2816#32
  let v958 : BitVec 32 := Scalar.subi v957 c2816_i32_466
  let v959 : Index := Scalar.indexCast v958
  let c0_467 : Index := 0#32
  ![v959.toNat, 0]

def k0_off638 (v957 : BitVec 32) : Fin 2 → Nat :=
  let c2816_i32_466 : BitVec 32 := 2816#32
  let v958 : BitVec 32 := Scalar.subi v957 c2816_i32_466
  let v962 : Index := Scalar.indexCast v958
  let c16_468 : Index := 16#32
  ![v962.toNat, 16]

def k0_chk225 (v957 : BitVec 32) : Prop :=
  (∀ a, (k0_off637 v957) a + S1x16.size a ≤ S257x32.size a) ∧
  (∀ a, (k0_off638 v957) a + S1x16.size a ≤ S257x32.size a)
theorem k0_off637_inb : ∀ (v957 : BitVec 32) (k0_hw225 : k0_chk225 v957), ∀ a, (k0_off637 v957) a + S1x16.size a ≤ S257x32.size a := fun v957 k0_hw225 => k0_hw225.1
theorem k0_off638_inb : ∀ (v957 : BitVec 32) (k0_hw225 : k0_chk225 v957), ∀ a, (k0_off638 v957) a + S1x16.size a ≤ S257x32.size a := fun v957 k0_hw225 => k0_hw225.2

def k0_off639 (v966 : BitVec 32) : Fin 2 → Nat :=
  let c2816_i32_469 : BitVec 32 := 2816#32
  let v967 : BitVec 32 := Scalar.subi v966 c2816_i32_469
  let v968 : Index := Scalar.indexCast v967
  let c0_470 : Index := 0#32
  ![v968.toNat, 0]

def k0_off640 (v966 : BitVec 32) : Fin 2 → Nat :=
  let c2816_i32_469 : BitVec 32 := 2816#32
  let v967 : BitVec 32 := Scalar.subi v966 c2816_i32_469
  let v971 : Index := Scalar.indexCast v967
  let c16_471 : Index := 16#32
  ![v971.toNat, 16]

def k0_chk226 (v966 : BitVec 32) : Prop :=
  (∀ a, (k0_off639 v966) a + S1x16.size a ≤ S257x32.size a) ∧
  (∀ a, (k0_off640 v966) a + S1x16.size a ≤ S257x32.size a)
theorem k0_off639_inb : ∀ (v966 : BitVec 32) (k0_hw226 : k0_chk226 v966), ∀ a, (k0_off639 v966) a + S1x16.size a ≤ S257x32.size a := fun v966 k0_hw226 => k0_hw226.1
theorem k0_off640_inb : ∀ (v966 : BitVec 32) (k0_hw226 : k0_chk226 v966), ∀ a, (k0_off640 v966) a + S1x16.size a ≤ S257x32.size a := fun v966 k0_hw226 => k0_hw226.2

def k0_off641 (v975 : BitVec 32) : Fin 2 → Nat :=
  let c2816_i32_472 : BitVec 32 := 2816#32
  let v976 : BitVec 32 := Scalar.subi v975 c2816_i32_472
  let v977 : Index := Scalar.indexCast v976
  let c0_473 : Index := 0#32
  ![v977.toNat, 0]

def k0_off642 (v975 : BitVec 32) : Fin 2 → Nat :=
  let c2816_i32_472 : BitVec 32 := 2816#32
  let v976 : BitVec 32 := Scalar.subi v975 c2816_i32_472
  let v980 : Index := Scalar.indexCast v976
  let c16_474 : Index := 16#32
  ![v980.toNat, 16]

def k0_chk227 (v975 : BitVec 32) : Prop :=
  (∀ a, (k0_off641 v975) a + S1x16.size a ≤ S257x32.size a) ∧
  (∀ a, (k0_off642 v975) a + S1x16.size a ≤ S257x32.size a)
theorem k0_off641_inb : ∀ (v975 : BitVec 32) (k0_hw227 : k0_chk227 v975), ∀ a, (k0_off641 v975) a + S1x16.size a ≤ S257x32.size a := fun v975 k0_hw227 => k0_hw227.1
theorem k0_off642_inb : ∀ (v975 : BitVec 32) (k0_hw227 : k0_chk227 v975), ∀ a, (k0_off642 v975) a + S1x16.size a ≤ S257x32.size a := fun v975 k0_hw227 => k0_hw227.2

def k0_off643 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_t61 : Fin (k0_t61_loop v52 v105 v158 v211 v264 v317 v370 v423 v476 v529 v582 v635).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c0_i32_321 : BitVec 32 := 0#32
  let c1_i32_311 : BitVec 32 := 1#32
  let v636 : BitVec 32 := Scalar.subi v635 c1_i32_311
  let c2049_i32_312 : BitVec 32 := 2049#32
  let v637 : BitVec 32 := Scalar.minsi v636 c2049_i32_312
  let v638 : BitVec 32 := Scalar.subi v637 v622
  let c0_i32_313 : BitVec 32 := 0#32
  let v639 : BitVec 32 := Scalar.maxsi v638 c0_i32_313
  let c0_i32_315 : BitVec 32 := 0#32
  let v641 : BitVec 1 := Scalar.cmpi .sgt v639 c0_i32_315
  let v642 : BitVec 32 := Scalar.extui v641
  let c0_i32_316 : BitVec 32 := 0#32
  let v643 : BitVec 1 := Scalar.cmpi .slt v639 c0_i32_316
  let v644 : BitVec 32 := Scalar.extui v643
  let v645 : BitVec 32 := Scalar.subi v642 v644
  let c8_i32_314 : BitVec 32 := 8#32
  let c0_i32_317 : BitVec 32 := 0#32
  let v646 : BitVec 1 := Scalar.cmpi .sgt c8_i32_314 c0_i32_317
  let v647 : BitVec 32 := Scalar.extui v646
  let c0_i32_318 : BitVec 32 := 0#32
  let v648 : BitVec 1 := Scalar.cmpi .slt c8_i32_314 c0_i32_318
  let v649 : BitVec 32 := Scalar.extui v648
  let v650 : BitVec 32 := Scalar.subi v647 v649
  let v651 : BitVec 1 := Scalar.cmpi .ne v645 v650
  let v652 : BitVec 32 := Scalar.remsi v639 c8_i32_314
  let c0_i32_319 : BitVec 32 := 0#32
  let v653 : BitVec 1 := Scalar.cmpi .ne v652 c0_i32_319
  let v654 : BitVec 1 := Scalar.andi v651 v653
  let v640 : BitVec 32 := Scalar.divsi v639 c8_i32_314
  let c1_i32_320 : BitVec 32 := 1#32
  let v655 : BitVec 32 := Scalar.subi v640 c1_i32_320
  let v656 : BitVec 32 := Scalar.select v654 v655 v640
  let v657 : BitVec 32 := Scalar.subi v656 c0_i32_321
  let c1_i32_322 : BitVec 32 := 1#32
  let v659 : BitVec 32 := Scalar.divsi v657 c1_i32_322
  let v660 : BitVec 32 := Scalar.muli v659 c1_i32_322
  let v661 : BitVec 32 := Scalar.addi c0_i32_321 v660
  let c1_i32_324 : BitVec 32 := 1#32
  let arg19 : BitVec 32 := Scf.iv v661 c1_i32_324 k0_t61
  let c8_i32_444 : BitVec 32 := 8#32
  let v893 : BitVec 32 := Scalar.muli arg19 c8_i32_444
  let v894 : BitVec 32 := Scalar.addi v622 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off644 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_t61 : Fin (k0_t61_loop v52 v105 v158 v211 v264 v317 v370 v423 v476 v529 v582 v635).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c0_i32_321 : BitVec 32 := 0#32
  let c1_i32_311 : BitVec 32 := 1#32
  let v636 : BitVec 32 := Scalar.subi v635 c1_i32_311
  let c2049_i32_312 : BitVec 32 := 2049#32
  let v637 : BitVec 32 := Scalar.minsi v636 c2049_i32_312
  let v638 : BitVec 32 := Scalar.subi v637 v622
  let c0_i32_313 : BitVec 32 := 0#32
  let v639 : BitVec 32 := Scalar.maxsi v638 c0_i32_313
  let c0_i32_315 : BitVec 32 := 0#32
  let v641 : BitVec 1 := Scalar.cmpi .sgt v639 c0_i32_315
  let v642 : BitVec 32 := Scalar.extui v641
  let c0_i32_316 : BitVec 32 := 0#32
  let v643 : BitVec 1 := Scalar.cmpi .slt v639 c0_i32_316
  let v644 : BitVec 32 := Scalar.extui v643
  let v645 : BitVec 32 := Scalar.subi v642 v644
  let c8_i32_314 : BitVec 32 := 8#32
  let c0_i32_317 : BitVec 32 := 0#32
  let v646 : BitVec 1 := Scalar.cmpi .sgt c8_i32_314 c0_i32_317
  let v647 : BitVec 32 := Scalar.extui v646
  let c0_i32_318 : BitVec 32 := 0#32
  let v648 : BitVec 1 := Scalar.cmpi .slt c8_i32_314 c0_i32_318
  let v649 : BitVec 32 := Scalar.extui v648
  let v650 : BitVec 32 := Scalar.subi v647 v649
  let v651 : BitVec 1 := Scalar.cmpi .ne v645 v650
  let v652 : BitVec 32 := Scalar.remsi v639 c8_i32_314
  let c0_i32_319 : BitVec 32 := 0#32
  let v653 : BitVec 1 := Scalar.cmpi .ne v652 c0_i32_319
  let v654 : BitVec 1 := Scalar.andi v651 v653
  let v640 : BitVec 32 := Scalar.divsi v639 c8_i32_314
  let c1_i32_320 : BitVec 32 := 1#32
  let v655 : BitVec 32 := Scalar.subi v640 c1_i32_320
  let v656 : BitVec 32 := Scalar.select v654 v655 v640
  let v657 : BitVec 32 := Scalar.subi v656 c0_i32_321
  let c1_i32_322 : BitVec 32 := 1#32
  let v659 : BitVec 32 := Scalar.divsi v657 c1_i32_322
  let v660 : BitVec 32 := Scalar.muli v659 c1_i32_322
  let v661 : BitVec 32 := Scalar.addi c0_i32_321 v660
  let c1_i32_324 : BitVec 32 := 1#32
  let arg19 : BitVec 32 := Scf.iv v661 c1_i32_324 k0_t61
  let c8_i32_444 : BitVec 32 := 8#32
  let v893 : BitVec 32 := Scalar.muli arg19 c8_i32_444
  let v894 : BitVec 32 := Scalar.addi v622 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t62_loop (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v638 : BitVec 32 := Scalar.subi v637 v622
  let c0_i32_313 : BitVec 32 := 0#32
  let v639 : BitVec 32 := Scalar.maxsi v638 c0_i32_313
  let c0_i32_315 : BitVec 32 := 0#32
  let v641 : BitVec 1 := Scalar.cmpi .sgt v639 c0_i32_315
  let v642 : BitVec 32 := Scalar.extui v641
  let c0_i32_316 : BitVec 32 := 0#32
  let v643 : BitVec 1 := Scalar.cmpi .slt v639 c0_i32_316
  let v644 : BitVec 32 := Scalar.extui v643
  let v645 : BitVec 32 := Scalar.subi v642 v644
  let c8_i32_314 : BitVec 32 := 8#32
  let c0_i32_317 : BitVec 32 := 0#32
  let v646 : BitVec 1 := Scalar.cmpi .sgt c8_i32_314 c0_i32_317
  let v647 : BitVec 32 := Scalar.extui v646
  let c0_i32_318 : BitVec 32 := 0#32
  let v648 : BitVec 1 := Scalar.cmpi .slt c8_i32_314 c0_i32_318
  let v649 : BitVec 32 := Scalar.extui v648
  let v650 : BitVec 32 := Scalar.subi v647 v649
  let v651 : BitVec 1 := Scalar.cmpi .ne v645 v650
  let v652 : BitVec 32 := Scalar.remsi v639 c8_i32_314
  let c0_i32_319 : BitVec 32 := 0#32
  let v653 : BitVec 1 := Scalar.cmpi .ne v652 c0_i32_319
  let v654 : BitVec 1 := Scalar.andi v651 v653
  let v640 : BitVec 32 := Scalar.divsi v639 c8_i32_314
  let c1_i32_320 : BitVec 32 := 1#32
  let v655 : BitVec 32 := Scalar.subi v640 c1_i32_320
  let v656 : BitVec 32 := Scalar.select v654 v655 v640
  let c8_i32_325 : BitVec 32 := 8#32
  let v664 : BitVec 32 := Scalar.muli v656 c8_i32_325
  let v665 : BitVec 32 := Scalar.addi v622 v664
  let v666 : BitVec 32 := Scalar.subi v637 v665
  let c1_i32_326 : BitVec 32 := 1#32
  let v668 : BitVec 32 := Scalar.divsi v666 c1_i32_326
  let v669 : BitVec 32 := Scalar.muli v668 c1_i32_326
  let v670 : BitVec 32 := Scalar.addi v665 v669
  let c1_i32_327 : BitVec 32 := 1#32
  ⟨v665, v670, c1_i32_327⟩
def k0_off645 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_t62 : Fin (k0_t62_loop v52 v105 v158 v211 v264 v317 v370 v423 v476 v529 v582 v635).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v638 : BitVec 32 := Scalar.subi v637 v622
  let c0_i32_313 : BitVec 32 := 0#32
  let v639 : BitVec 32 := Scalar.maxsi v638 c0_i32_313
  let c0_i32_315 : BitVec 32 := 0#32
  let v641 : BitVec 1 := Scalar.cmpi .sgt v639 c0_i32_315
  let v642 : BitVec 32 := Scalar.extui v641
  let c0_i32_316 : BitVec 32 := 0#32
  let v643 : BitVec 1 := Scalar.cmpi .slt v639 c0_i32_316
  let v644 : BitVec 32 := Scalar.extui v643
  let v645 : BitVec 32 := Scalar.subi v642 v644
  let c8_i32_314 : BitVec 32 := 8#32
  let c0_i32_317 : BitVec 32 := 0#32
  let v646 : BitVec 1 := Scalar.cmpi .sgt c8_i32_314 c0_i32_317
  let v647 : BitVec 32 := Scalar.extui v646
  let c0_i32_318 : BitVec 32 := 0#32
  let v648 : BitVec 1 := Scalar.cmpi .slt c8_i32_314 c0_i32_318
  let v649 : BitVec 32 := Scalar.extui v648
  let v650 : BitVec 32 := Scalar.subi v647 v649
  let v651 : BitVec 1 := Scalar.cmpi .ne v645 v650
  let v652 : BitVec 32 := Scalar.remsi v639 c8_i32_314
  let c0_i32_319 : BitVec 32 := 0#32
  let v653 : BitVec 1 := Scalar.cmpi .ne v652 c0_i32_319
  let v654 : BitVec 1 := Scalar.andi v651 v653
  let v640 : BitVec 32 := Scalar.divsi v639 c8_i32_314
  let c1_i32_320 : BitVec 32 := 1#32
  let v655 : BitVec 32 := Scalar.subi v640 c1_i32_320
  let v656 : BitVec 32 := Scalar.select v654 v655 v640
  let c8_i32_325 : BitVec 32 := 8#32
  let v664 : BitVec 32 := Scalar.muli v656 c8_i32_325
  let v665 : BitVec 32 := Scalar.addi v622 v664
  let c1_i32_327 : BitVec 32 := 1#32
  let arg19 : BitVec 32 := Scf.iv v665 c1_i32_327 k0_t62
  let c1_i32_444 : BitVec 32 := 1#32
  let v893 : BitVec 32 := Scalar.addi arg19 c1_i32_444
  let v894 : Index := Scalar.indexCast v893
  ![v894.toNat]
def k0_off646 (v897 : BitVec 32) : Fin 2 → Nat :=
  let c2816_i32_445 : BitVec 32 := 2816#32
  let v898 : BitVec 32 := Scalar.subi v897 c2816_i32_445
  let v912 : Index := Scalar.indexCast v898
  let c0_450 : Index := 0#32
  ![v912.toNat, 0]

def k0_off647 (v897 : BitVec 32) : Fin 2 → Nat :=
  let c2816_i32_445 : BitVec 32 := 2816#32
  let v898 : BitVec 32 := Scalar.subi v897 c2816_i32_445
  let v915 : Index := Scalar.indexCast v898
  let c16_451 : Index := 16#32
  ![v915.toNat, 16]

def k0_chk228 (v897 : BitVec 32) : Prop :=
  (∀ a, (k0_off646 v897) a + S1x16.size a ≤ S257x32.size a) ∧
  (∀ a, (k0_off647 v897) a + S1x16.size a ≤ S257x32.size a)
theorem k0_off646_inb : ∀ (v897 : BitVec 32) (k0_hw228 : k0_chk228 v897), ∀ a, (k0_off646 v897) a + S1x16.size a ≤ S257x32.size a := fun v897 k0_hw228 => k0_hw228.1
theorem k0_off647_inb : ∀ (v897 : BitVec 32) (k0_hw228 : k0_chk228 v897), ∀ a, (k0_off647 v897) a + S1x16.size a ≤ S257x32.size a := fun v897 k0_hw228 => k0_hw228.2

def k0_off648 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_t62 : Fin (k0_t62_loop v52 v105 v158 v211 v264 v317 v370 v423 v476 v529 v582 v635).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v638 : BitVec 32 := Scalar.subi v637 v622
  let c0_i32_313 : BitVec 32 := 0#32
  let v639 : BitVec 32 := Scalar.maxsi v638 c0_i32_313
  let c0_i32_315 : BitVec 32 := 0#32
  let v641 : BitVec 1 := Scalar.cmpi .sgt v639 c0_i32_315
  let v642 : BitVec 32 := Scalar.extui v641
  let c0_i32_316 : BitVec 32 := 0#32
  let v643 : BitVec 1 := Scalar.cmpi .slt v639 c0_i32_316
  let v644 : BitVec 32 := Scalar.extui v643
  let v645 : BitVec 32 := Scalar.subi v642 v644
  let c8_i32_314 : BitVec 32 := 8#32
  let c0_i32_317 : BitVec 32 := 0#32
  let v646 : BitVec 1 := Scalar.cmpi .sgt c8_i32_314 c0_i32_317
  let v647 : BitVec 32 := Scalar.extui v646
  let c0_i32_318 : BitVec 32 := 0#32
  let v648 : BitVec 1 := Scalar.cmpi .slt c8_i32_314 c0_i32_318
  let v649 : BitVec 32 := Scalar.extui v648
  let v650 : BitVec 32 := Scalar.subi v647 v649
  let v651 : BitVec 1 := Scalar.cmpi .ne v645 v650
  let v652 : BitVec 32 := Scalar.remsi v639 c8_i32_314
  let c0_i32_319 : BitVec 32 := 0#32
  let v653 : BitVec 1 := Scalar.cmpi .ne v652 c0_i32_319
  let v654 : BitVec 1 := Scalar.andi v651 v653
  let v640 : BitVec 32 := Scalar.divsi v639 c8_i32_314
  let c1_i32_320 : BitVec 32 := 1#32
  let v655 : BitVec 32 := Scalar.subi v640 c1_i32_320
  let v656 : BitVec 32 := Scalar.select v654 v655 v640
  let c8_i32_325 : BitVec 32 := 8#32
  let v664 : BitVec 32 := Scalar.muli v656 c8_i32_325
  let v665 : BitVec 32 := Scalar.addi v622 v664
  let c1_i32_327 : BitVec 32 := 1#32
  let arg19 : BitVec 32 := Scf.iv v665 c1_i32_327 k0_t62
  let c1_i32_452 : BitVec 32 := 1#32
  let v920 : BitVec 32 := Scalar.addi arg19 c1_i32_452
  let v921 : Index := Scalar.indexCast v920
  let c0_453 : Index := 0#32
  ![v921.toNat, 0]
def k0_off649 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_t62 : Fin (k0_t62_loop v52 v105 v158 v211 v264 v317 v370 v423 v476 v529 v582 v635).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v638 : BitVec 32 := Scalar.subi v637 v622
  let c0_i32_313 : BitVec 32 := 0#32
  let v639 : BitVec 32 := Scalar.maxsi v638 c0_i32_313
  let c0_i32_315 : BitVec 32 := 0#32
  let v641 : BitVec 1 := Scalar.cmpi .sgt v639 c0_i32_315
  let v642 : BitVec 32 := Scalar.extui v641
  let c0_i32_316 : BitVec 32 := 0#32
  let v643 : BitVec 1 := Scalar.cmpi .slt v639 c0_i32_316
  let v644 : BitVec 32 := Scalar.extui v643
  let v645 : BitVec 32 := Scalar.subi v642 v644
  let c8_i32_314 : BitVec 32 := 8#32
  let c0_i32_317 : BitVec 32 := 0#32
  let v646 : BitVec 1 := Scalar.cmpi .sgt c8_i32_314 c0_i32_317
  let v647 : BitVec 32 := Scalar.extui v646
  let c0_i32_318 : BitVec 32 := 0#32
  let v648 : BitVec 1 := Scalar.cmpi .slt c8_i32_314 c0_i32_318
  let v649 : BitVec 32 := Scalar.extui v648
  let v650 : BitVec 32 := Scalar.subi v647 v649
  let v651 : BitVec 1 := Scalar.cmpi .ne v645 v650
  let v652 : BitVec 32 := Scalar.remsi v639 c8_i32_314
  let c0_i32_319 : BitVec 32 := 0#32
  let v653 : BitVec 1 := Scalar.cmpi .ne v652 c0_i32_319
  let v654 : BitVec 1 := Scalar.andi v651 v653
  let v640 : BitVec 32 := Scalar.divsi v639 c8_i32_314
  let c1_i32_320 : BitVec 32 := 1#32
  let v655 : BitVec 32 := Scalar.subi v640 c1_i32_320
  let v656 : BitVec 32 := Scalar.select v654 v655 v640
  let c8_i32_325 : BitVec 32 := 8#32
  let v664 : BitVec 32 := Scalar.muli v656 c8_i32_325
  let v665 : BitVec 32 := Scalar.addi v622 v664
  let c1_i32_327 : BitVec 32 := 1#32
  let arg19 : BitVec 32 := Scf.iv v665 c1_i32_327 k0_t62
  let c1_i32_454 : BitVec 32 := 1#32
  let v925 : BitVec 32 := Scalar.addi arg19 c1_i32_454
  let v926 : Index := Scalar.indexCast v925
  let c16_455 : Index := 16#32
  ![v926.toNat, 16]
@[reducible] def k0_t63_loop (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v638 : BitVec 32 := Scalar.subi v637 v622
  let c0_i32_313 : BitVec 32 := 0#32
  let v639 : BitVec 32 := Scalar.maxsi v638 c0_i32_313
  let c0_i32_315 : BitVec 32 := 0#32
  let v641 : BitVec 1 := Scalar.cmpi .sgt v639 c0_i32_315
  let v642 : BitVec 32 := Scalar.extui v641
  let c0_i32_316 : BitVec 32 := 0#32
  let v643 : BitVec 1 := Scalar.cmpi .slt v639 c0_i32_316
  let v644 : BitVec 32 := Scalar.extui v643
  let v645 : BitVec 32 := Scalar.subi v642 v644
  let c8_i32_314 : BitVec 32 := 8#32
  let c0_i32_317 : BitVec 32 := 0#32
  let v646 : BitVec 1 := Scalar.cmpi .sgt c8_i32_314 c0_i32_317
  let v647 : BitVec 32 := Scalar.extui v646
  let c0_i32_318 : BitVec 32 := 0#32
  let v648 : BitVec 1 := Scalar.cmpi .slt c8_i32_314 c0_i32_318
  let v649 : BitVec 32 := Scalar.extui v648
  let v650 : BitVec 32 := Scalar.subi v647 v649
  let v651 : BitVec 1 := Scalar.cmpi .ne v645 v650
  let v652 : BitVec 32 := Scalar.remsi v639 c8_i32_314
  let c0_i32_319 : BitVec 32 := 0#32
  let v653 : BitVec 1 := Scalar.cmpi .ne v652 c0_i32_319
  let v654 : BitVec 1 := Scalar.andi v651 v653
  let v640 : BitVec 32 := Scalar.divsi v639 c8_i32_314
  let c1_i32_320 : BitVec 32 := 1#32
  let v655 : BitVec 32 := Scalar.subi v640 c1_i32_320
  let v656 : BitVec 32 := Scalar.select v654 v655 v640
  let c8_i32_325 : BitVec 32 := 8#32
  let v664 : BitVec 32 := Scalar.muli v656 c8_i32_325
  let v665 : BitVec 32 := Scalar.addi v622 v664
  let v666 : BitVec 32 := Scalar.subi v637 v665
  let c1_i32_326 : BitVec 32 := 1#32
  let v668 : BitVec 32 := Scalar.divsi v666 c1_i32_326
  let v669 : BitVec 32 := Scalar.muli v668 c1_i32_326
  let v670 : BitVec 32 := Scalar.addi v665 v669
  let v667 : BitVec 32 := Scalar.addi v665 v666
  let c1_i32_328 : BitVec 32 := 1#32
  ⟨v670, v667, c1_i32_328⟩
def k0_off650 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_t63 : Fin (k0_t63_loop v52 v105 v158 v211 v264 v317 v370 v423 v476 v529 v582 v635).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v638 : BitVec 32 := Scalar.subi v637 v622
  let c0_i32_313 : BitVec 32 := 0#32
  let v639 : BitVec 32 := Scalar.maxsi v638 c0_i32_313
  let c0_i32_315 : BitVec 32 := 0#32
  let v641 : BitVec 1 := Scalar.cmpi .sgt v639 c0_i32_315
  let v642 : BitVec 32 := Scalar.extui v641
  let c0_i32_316 : BitVec 32 := 0#32
  let v643 : BitVec 1 := Scalar.cmpi .slt v639 c0_i32_316
  let v644 : BitVec 32 := Scalar.extui v643
  let v645 : BitVec 32 := Scalar.subi v642 v644
  let c8_i32_314 : BitVec 32 := 8#32
  let c0_i32_317 : BitVec 32 := 0#32
  let v646 : BitVec 1 := Scalar.cmpi .sgt c8_i32_314 c0_i32_317
  let v647 : BitVec 32 := Scalar.extui v646
  let c0_i32_318 : BitVec 32 := 0#32
  let v648 : BitVec 1 := Scalar.cmpi .slt c8_i32_314 c0_i32_318
  let v649 : BitVec 32 := Scalar.extui v648
  let v650 : BitVec 32 := Scalar.subi v647 v649
  let v651 : BitVec 1 := Scalar.cmpi .ne v645 v650
  let v652 : BitVec 32 := Scalar.remsi v639 c8_i32_314
  let c0_i32_319 : BitVec 32 := 0#32
  let v653 : BitVec 1 := Scalar.cmpi .ne v652 c0_i32_319
  let v654 : BitVec 1 := Scalar.andi v651 v653
  let v640 : BitVec 32 := Scalar.divsi v639 c8_i32_314
  let c1_i32_320 : BitVec 32 := 1#32
  let v655 : BitVec 32 := Scalar.subi v640 c1_i32_320
  let v656 : BitVec 32 := Scalar.select v654 v655 v640
  let c8_i32_325 : BitVec 32 := 8#32
  let v664 : BitVec 32 := Scalar.muli v656 c8_i32_325
  let v665 : BitVec 32 := Scalar.addi v622 v664
  let v666 : BitVec 32 := Scalar.subi v637 v665
  let c1_i32_326 : BitVec 32 := 1#32
  let v668 : BitVec 32 := Scalar.divsi v666 c1_i32_326
  let v669 : BitVec 32 := Scalar.muli v668 c1_i32_326
  let v670 : BitVec 32 := Scalar.addi v665 v669
  let c1_i32_328 : BitVec 32 := 1#32
  let arg19 : BitVec 32 := Scf.iv v670 c1_i32_328 k0_t63
  let c1_i32_444 : BitVec 32 := 1#32
  let v893 : BitVec 32 := Scalar.addi arg19 c1_i32_444
  let v894 : Index := Scalar.indexCast v893
  ![v894.toNat]
def k0_off651 (v897 : BitVec 32) : Fin 2 → Nat :=
  let c2816_i32_445 : BitVec 32 := 2816#32
  let v898 : BitVec 32 := Scalar.subi v897 c2816_i32_445
  let v912 : Index := Scalar.indexCast v898
  let c0_450 : Index := 0#32
  ![v912.toNat, 0]

def k0_off652 (v897 : BitVec 32) : Fin 2 → Nat :=
  let c2816_i32_445 : BitVec 32 := 2816#32
  let v898 : BitVec 32 := Scalar.subi v897 c2816_i32_445
  let v915 : Index := Scalar.indexCast v898
  let c16_451 : Index := 16#32
  ![v915.toNat, 16]

def k0_chk229 (v897 : BitVec 32) : Prop :=
  (∀ a, (k0_off651 v897) a + S1x16.size a ≤ S257x32.size a) ∧
  (∀ a, (k0_off652 v897) a + S1x16.size a ≤ S257x32.size a)
theorem k0_off651_inb : ∀ (v897 : BitVec 32) (k0_hw229 : k0_chk229 v897), ∀ a, (k0_off651 v897) a + S1x16.size a ≤ S257x32.size a := fun v897 k0_hw229 => k0_hw229.1
theorem k0_off652_inb : ∀ (v897 : BitVec 32) (k0_hw229 : k0_chk229 v897), ∀ a, (k0_off652 v897) a + S1x16.size a ≤ S257x32.size a := fun v897 k0_hw229 => k0_hw229.2

def k0_off653 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_t63 : Fin (k0_t63_loop v52 v105 v158 v211 v264 v317 v370 v423 v476 v529 v582 v635).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v638 : BitVec 32 := Scalar.subi v637 v622
  let c0_i32_313 : BitVec 32 := 0#32
  let v639 : BitVec 32 := Scalar.maxsi v638 c0_i32_313
  let c0_i32_315 : BitVec 32 := 0#32
  let v641 : BitVec 1 := Scalar.cmpi .sgt v639 c0_i32_315
  let v642 : BitVec 32 := Scalar.extui v641
  let c0_i32_316 : BitVec 32 := 0#32
  let v643 : BitVec 1 := Scalar.cmpi .slt v639 c0_i32_316
  let v644 : BitVec 32 := Scalar.extui v643
  let v645 : BitVec 32 := Scalar.subi v642 v644
  let c8_i32_314 : BitVec 32 := 8#32
  let c0_i32_317 : BitVec 32 := 0#32
  let v646 : BitVec 1 := Scalar.cmpi .sgt c8_i32_314 c0_i32_317
  let v647 : BitVec 32 := Scalar.extui v646
  let c0_i32_318 : BitVec 32 := 0#32
  let v648 : BitVec 1 := Scalar.cmpi .slt c8_i32_314 c0_i32_318
  let v649 : BitVec 32 := Scalar.extui v648
  let v650 : BitVec 32 := Scalar.subi v647 v649
  let v651 : BitVec 1 := Scalar.cmpi .ne v645 v650
  let v652 : BitVec 32 := Scalar.remsi v639 c8_i32_314
  let c0_i32_319 : BitVec 32 := 0#32
  let v653 : BitVec 1 := Scalar.cmpi .ne v652 c0_i32_319
  let v654 : BitVec 1 := Scalar.andi v651 v653
  let v640 : BitVec 32 := Scalar.divsi v639 c8_i32_314
  let c1_i32_320 : BitVec 32 := 1#32
  let v655 : BitVec 32 := Scalar.subi v640 c1_i32_320
  let v656 : BitVec 32 := Scalar.select v654 v655 v640
  let c8_i32_325 : BitVec 32 := 8#32
  let v664 : BitVec 32 := Scalar.muli v656 c8_i32_325
  let v665 : BitVec 32 := Scalar.addi v622 v664
  let v666 : BitVec 32 := Scalar.subi v637 v665
  let c1_i32_326 : BitVec 32 := 1#32
  let v668 : BitVec 32 := Scalar.divsi v666 c1_i32_326
  let v669 : BitVec 32 := Scalar.muli v668 c1_i32_326
  let v670 : BitVec 32 := Scalar.addi v665 v669
  let c1_i32_328 : BitVec 32 := 1#32
  let arg19 : BitVec 32 := Scf.iv v670 c1_i32_328 k0_t63
  let c1_i32_452 : BitVec 32 := 1#32
  let v920 : BitVec 32 := Scalar.addi arg19 c1_i32_452
  let v921 : Index := Scalar.indexCast v920
  let c0_453 : Index := 0#32
  ![v921.toNat, 0]
def k0_off654 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_t63 : Fin (k0_t63_loop v52 v105 v158 v211 v264 v317 v370 v423 v476 v529 v582 v635).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v638 : BitVec 32 := Scalar.subi v637 v622
  let c0_i32_313 : BitVec 32 := 0#32
  let v639 : BitVec 32 := Scalar.maxsi v638 c0_i32_313
  let c0_i32_315 : BitVec 32 := 0#32
  let v641 : BitVec 1 := Scalar.cmpi .sgt v639 c0_i32_315
  let v642 : BitVec 32 := Scalar.extui v641
  let c0_i32_316 : BitVec 32 := 0#32
  let v643 : BitVec 1 := Scalar.cmpi .slt v639 c0_i32_316
  let v644 : BitVec 32 := Scalar.extui v643
  let v645 : BitVec 32 := Scalar.subi v642 v644
  let c8_i32_314 : BitVec 32 := 8#32
  let c0_i32_317 : BitVec 32 := 0#32
  let v646 : BitVec 1 := Scalar.cmpi .sgt c8_i32_314 c0_i32_317
  let v647 : BitVec 32 := Scalar.extui v646
  let c0_i32_318 : BitVec 32 := 0#32
  let v648 : BitVec 1 := Scalar.cmpi .slt c8_i32_314 c0_i32_318
  let v649 : BitVec 32 := Scalar.extui v648
  let v650 : BitVec 32 := Scalar.subi v647 v649
  let v651 : BitVec 1 := Scalar.cmpi .ne v645 v650
  let v652 : BitVec 32 := Scalar.remsi v639 c8_i32_314
  let c0_i32_319 : BitVec 32 := 0#32
  let v653 : BitVec 1 := Scalar.cmpi .ne v652 c0_i32_319
  let v654 : BitVec 1 := Scalar.andi v651 v653
  let v640 : BitVec 32 := Scalar.divsi v639 c8_i32_314
  let c1_i32_320 : BitVec 32 := 1#32
  let v655 : BitVec 32 := Scalar.subi v640 c1_i32_320
  let v656 : BitVec 32 := Scalar.select v654 v655 v640
  let c8_i32_325 : BitVec 32 := 8#32
  let v664 : BitVec 32 := Scalar.muli v656 c8_i32_325
  let v665 : BitVec 32 := Scalar.addi v622 v664
  let v666 : BitVec 32 := Scalar.subi v637 v665
  let c1_i32_326 : BitVec 32 := 1#32
  let v668 : BitVec 32 := Scalar.divsi v666 c1_i32_326
  let v669 : BitVec 32 := Scalar.muli v668 c1_i32_326
  let v670 : BitVec 32 := Scalar.addi v665 v669
  let c1_i32_328 : BitVec 32 := 1#32
  let arg19 : BitVec 32 := Scf.iv v670 c1_i32_328 k0_t63
  let c1_i32_454 : BitVec 32 := 1#32
  let v925 : BitVec 32 := Scalar.addi arg19 c1_i32_454
  let v926 : Index := Scalar.indexCast v925
  let c16_455 : Index := 16#32
  ![v926.toNat, 16]

def k0_chk211 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) : Prop :=
  ((k0_t60_loop v52 v105 v158 v211 v264 v317 v370 v423 v476 v529 v582 v635).OK) ∧
  (∀ k0_t60 : Fin (k0_t60_loop v52 v105 v158 v211 v264 v317 v370 v423 v476 v529 v582 v635).trips, ∀ (r : Fin 2), ∀ a, (k0_off607 v52 v105 v158 v211 v264 v317 v370 v423 v476 v529 v582 v635 k0_t60 (BitVec.ofNat 32 (1 + r.val))) a + S16.size a ≤ S4112.size a) ∧
  (∀ k0_t60 : Fin (k0_t60_loop v52 v105 v158 v211 v264 v317 v370 v423 v476 v529 v582 v635).trips, ∀ (r : Fin 8), ∀ a, (k0_off624 v52 v105 v158 v211 v264 v317 v370 v423 v476 v529 v582 v635 k0_t60 (BitVec.ofNat 32 r.val)) a + S1x16.size a ≤ S2050x32.size a) ∧
  (∀ k0_t60 : Fin (k0_t60_loop v52 v105 v158 v211 v264 v317 v370 v423 v476 v529 v582 v635).trips, ∀ (r : Fin 8), ∀ a, (k0_off625 v52 v105 v158 v211 v264 v317 v370 v423 v476 v529 v582 v635 k0_t60 (BitVec.ofNat 32 r.val)) a + S1x16.size a ≤ S2050x32.size a) ∧
  ((k0_t61_loop v52 v105 v158 v211 v264 v317 v370 v423 v476 v529 v582 v635).OK) ∧
  (∀ k0_t61 : Fin (k0_t61_loop v52 v105 v158 v211 v264 v317 v370 v423 v476 v529 v582 v635).trips, ∀ (r : Fin 2), ∀ a, (k0_off626 v52 v105 v158 v211 v264 v317 v370 v423 v476 v529 v582 v635 k0_t61 (BitVec.ofNat 32 (1 + r.val))) a + S16.size a ≤ S4112.size a) ∧
  (∀ k0_t61 : Fin (k0_t61_loop v52 v105 v158 v211 v264 v317 v370 v423 v476 v529 v582 v635).trips, ∀ (r : Fin 8), ∀ a, (k0_off643 v52 v105 v158 v211 v264 v317 v370 v423 v476 v529 v582 v635 k0_t61 (BitVec.ofNat 32 r.val)) a + S1x16.size a ≤ S2050x32.size a) ∧
  (∀ k0_t61 : Fin (k0_t61_loop v52 v105 v158 v211 v264 v317 v370 v423 v476 v529 v582 v635).trips, ∀ (r : Fin 8), ∀ a, (k0_off644 v52 v105 v158 v211 v264 v317 v370 v423 v476 v529 v582 v635 k0_t61 (BitVec.ofNat 32 r.val)) a + S1x16.size a ≤ S2050x32.size a) ∧
  ((k0_t62_loop v52 v105 v158 v211 v264 v317 v370 v423 v476 v529 v582 v635).OK) ∧
  (∀ k0_t62 : Fin (k0_t62_loop v52 v105 v158 v211 v264 v317 v370 v423 v476 v529 v582 v635).trips, ∀ a, (k0_off645 v52 v105 v158 v211 v264 v317 v370 v423 v476 v529 v582 v635 k0_t62) a + S16.size a ≤ S4112.size a) ∧
  (∀ k0_t62 : Fin (k0_t62_loop v52 v105 v158 v211 v264 v317 v370 v423 v476 v529 v582 v635).trips, ∀ a, (k0_off648 v52 v105 v158 v211 v264 v317 v370 v423 v476 v529 v582 v635 k0_t62) a + S1x16.size a ≤ S2050x32.size a) ∧
  (∀ k0_t62 : Fin (k0_t62_loop v52 v105 v158 v211 v264 v317 v370 v423 v476 v529 v582 v635).trips, ∀ a, (k0_off649 v52 v105 v158 v211 v264 v317 v370 v423 v476 v529 v582 v635 k0_t62) a + S1x16.size a ≤ S2050x32.size a) ∧
  ((k0_t63_loop v52 v105 v158 v211 v264 v317 v370 v423 v476 v529 v582 v635).OK) ∧
  (∀ k0_t63 : Fin (k0_t63_loop v52 v105 v158 v211 v264 v317 v370 v423 v476 v529 v582 v635).trips, ∀ a, (k0_off650 v52 v105 v158 v211 v264 v317 v370 v423 v476 v529 v582 v635 k0_t63) a + S16.size a ≤ S4112.size a) ∧
  (∀ k0_t63 : Fin (k0_t63_loop v52 v105 v158 v211 v264 v317 v370 v423 v476 v529 v582 v635).trips, ∀ a, (k0_off653 v52 v105 v158 v211 v264 v317 v370 v423 v476 v529 v582 v635 k0_t63) a + S1x16.size a ≤ S2050x32.size a) ∧
  (∀ k0_t63 : Fin (k0_t63_loop v52 v105 v158 v211 v264 v317 v370 v423 v476 v529 v582 v635).trips, ∀ a, (k0_off654 v52 v105 v158 v211 v264 v317 v370 v423 v476 v529 v582 v635 k0_t63) a + S1x16.size a ≤ S2050x32.size a)
theorem k0_t60_ok : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_hw211 : k0_chk211 v52 v105 v158 v211 v264 v317 v370 v423 v476 v529 v582 v635), (k0_t60_loop v52 v105 v158 v211 v264 v317 v370 v423 v476 v529 v582 v635).OK := fun v52 v105 v158 v211 v264 v317 v370 v423 v476 v529 v582 v635 k0_hw211 => k0_hw211.1
theorem k0_off607_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_hw211 : k0_chk211 v52 v105 v158 v211 v264 v317 v370 v423 v476 v529 v582 v635) (k0_t60 : Fin (k0_t60_loop v52 v105 v158 v211 v264 v317 v370 v423 v476 v529 v582 v635).trips), ∀ (r : Fin 2), ∀ a, (k0_off607 v52 v105 v158 v211 v264 v317 v370 v423 v476 v529 v582 v635 k0_t60 (BitVec.ofNat 32 (1 + r.val))) a + S16.size a ≤ S4112.size a := fun v52 v105 v158 v211 v264 v317 v370 v423 v476 v529 v582 v635 k0_hw211 k0_t60 r => k0_hw211.2.1 k0_t60 r
theorem k0_off624_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_hw211 : k0_chk211 v52 v105 v158 v211 v264 v317 v370 v423 v476 v529 v582 v635) (k0_t60 : Fin (k0_t60_loop v52 v105 v158 v211 v264 v317 v370 v423 v476 v529 v582 v635).trips), ∀ (r : Fin 8), ∀ a, (k0_off624 v52 v105 v158 v211 v264 v317 v370 v423 v476 v529 v582 v635 k0_t60 (BitVec.ofNat 32 r.val)) a + S1x16.size a ≤ S2050x32.size a := fun v52 v105 v158 v211 v264 v317 v370 v423 v476 v529 v582 v635 k0_hw211 k0_t60 r => k0_hw211.2.2.1 k0_t60 r
theorem k0_off625_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_hw211 : k0_chk211 v52 v105 v158 v211 v264 v317 v370 v423 v476 v529 v582 v635) (k0_t60 : Fin (k0_t60_loop v52 v105 v158 v211 v264 v317 v370 v423 v476 v529 v582 v635).trips), ∀ (r : Fin 8), ∀ a, (k0_off625 v52 v105 v158 v211 v264 v317 v370 v423 v476 v529 v582 v635 k0_t60 (BitVec.ofNat 32 r.val)) a + S1x16.size a ≤ S2050x32.size a := fun v52 v105 v158 v211 v264 v317 v370 v423 v476 v529 v582 v635 k0_hw211 k0_t60 r => k0_hw211.2.2.2.1 k0_t60 r
theorem k0_t61_ok : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_hw211 : k0_chk211 v52 v105 v158 v211 v264 v317 v370 v423 v476 v529 v582 v635), (k0_t61_loop v52 v105 v158 v211 v264 v317 v370 v423 v476 v529 v582 v635).OK := fun v52 v105 v158 v211 v264 v317 v370 v423 v476 v529 v582 v635 k0_hw211 => k0_hw211.2.2.2.2.1
theorem k0_off626_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_hw211 : k0_chk211 v52 v105 v158 v211 v264 v317 v370 v423 v476 v529 v582 v635) (k0_t61 : Fin (k0_t61_loop v52 v105 v158 v211 v264 v317 v370 v423 v476 v529 v582 v635).trips), ∀ (r : Fin 2), ∀ a, (k0_off626 v52 v105 v158 v211 v264 v317 v370 v423 v476 v529 v582 v635 k0_t61 (BitVec.ofNat 32 (1 + r.val))) a + S16.size a ≤ S4112.size a := fun v52 v105 v158 v211 v264 v317 v370 v423 v476 v529 v582 v635 k0_hw211 k0_t61 r => k0_hw211.2.2.2.2.2.1 k0_t61 r
theorem k0_off643_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_hw211 : k0_chk211 v52 v105 v158 v211 v264 v317 v370 v423 v476 v529 v582 v635) (k0_t61 : Fin (k0_t61_loop v52 v105 v158 v211 v264 v317 v370 v423 v476 v529 v582 v635).trips), ∀ (r : Fin 8), ∀ a, (k0_off643 v52 v105 v158 v211 v264 v317 v370 v423 v476 v529 v582 v635 k0_t61 (BitVec.ofNat 32 r.val)) a + S1x16.size a ≤ S2050x32.size a := fun v52 v105 v158 v211 v264 v317 v370 v423 v476 v529 v582 v635 k0_hw211 k0_t61 r => k0_hw211.2.2.2.2.2.2.1 k0_t61 r
theorem k0_off644_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_hw211 : k0_chk211 v52 v105 v158 v211 v264 v317 v370 v423 v476 v529 v582 v635) (k0_t61 : Fin (k0_t61_loop v52 v105 v158 v211 v264 v317 v370 v423 v476 v529 v582 v635).trips), ∀ (r : Fin 8), ∀ a, (k0_off644 v52 v105 v158 v211 v264 v317 v370 v423 v476 v529 v582 v635 k0_t61 (BitVec.ofNat 32 r.val)) a + S1x16.size a ≤ S2050x32.size a := fun v52 v105 v158 v211 v264 v317 v370 v423 v476 v529 v582 v635 k0_hw211 k0_t61 r => k0_hw211.2.2.2.2.2.2.2.1 k0_t61 r
theorem k0_t62_ok : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_hw211 : k0_chk211 v52 v105 v158 v211 v264 v317 v370 v423 v476 v529 v582 v635), (k0_t62_loop v52 v105 v158 v211 v264 v317 v370 v423 v476 v529 v582 v635).OK := fun v52 v105 v158 v211 v264 v317 v370 v423 v476 v529 v582 v635 k0_hw211 => k0_hw211.2.2.2.2.2.2.2.2.1
theorem k0_off645_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_hw211 : k0_chk211 v52 v105 v158 v211 v264 v317 v370 v423 v476 v529 v582 v635) (k0_t62 : Fin (k0_t62_loop v52 v105 v158 v211 v264 v317 v370 v423 v476 v529 v582 v635).trips), ∀ a, (k0_off645 v52 v105 v158 v211 v264 v317 v370 v423 v476 v529 v582 v635 k0_t62) a + S16.size a ≤ S4112.size a := fun v52 v105 v158 v211 v264 v317 v370 v423 v476 v529 v582 v635 k0_hw211 k0_t62 => k0_hw211.2.2.2.2.2.2.2.2.2.1 k0_t62
theorem k0_off648_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_hw211 : k0_chk211 v52 v105 v158 v211 v264 v317 v370 v423 v476 v529 v582 v635) (k0_t62 : Fin (k0_t62_loop v52 v105 v158 v211 v264 v317 v370 v423 v476 v529 v582 v635).trips), ∀ a, (k0_off648 v52 v105 v158 v211 v264 v317 v370 v423 v476 v529 v582 v635 k0_t62) a + S1x16.size a ≤ S2050x32.size a := fun v52 v105 v158 v211 v264 v317 v370 v423 v476 v529 v582 v635 k0_hw211 k0_t62 => k0_hw211.2.2.2.2.2.2.2.2.2.2.1 k0_t62
theorem k0_off649_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_hw211 : k0_chk211 v52 v105 v158 v211 v264 v317 v370 v423 v476 v529 v582 v635) (k0_t62 : Fin (k0_t62_loop v52 v105 v158 v211 v264 v317 v370 v423 v476 v529 v582 v635).trips), ∀ a, (k0_off649 v52 v105 v158 v211 v264 v317 v370 v423 v476 v529 v582 v635 k0_t62) a + S1x16.size a ≤ S2050x32.size a := fun v52 v105 v158 v211 v264 v317 v370 v423 v476 v529 v582 v635 k0_hw211 k0_t62 => k0_hw211.2.2.2.2.2.2.2.2.2.2.2.1 k0_t62
theorem k0_t63_ok : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_hw211 : k0_chk211 v52 v105 v158 v211 v264 v317 v370 v423 v476 v529 v582 v635), (k0_t63_loop v52 v105 v158 v211 v264 v317 v370 v423 v476 v529 v582 v635).OK := fun v52 v105 v158 v211 v264 v317 v370 v423 v476 v529 v582 v635 k0_hw211 => k0_hw211.2.2.2.2.2.2.2.2.2.2.2.2.1
theorem k0_off650_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_hw211 : k0_chk211 v52 v105 v158 v211 v264 v317 v370 v423 v476 v529 v582 v635) (k0_t63 : Fin (k0_t63_loop v52 v105 v158 v211 v264 v317 v370 v423 v476 v529 v582 v635).trips), ∀ a, (k0_off650 v52 v105 v158 v211 v264 v317 v370 v423 v476 v529 v582 v635 k0_t63) a + S16.size a ≤ S4112.size a := fun v52 v105 v158 v211 v264 v317 v370 v423 v476 v529 v582 v635 k0_hw211 k0_t63 => k0_hw211.2.2.2.2.2.2.2.2.2.2.2.2.2.1 k0_t63
theorem k0_off653_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_hw211 : k0_chk211 v52 v105 v158 v211 v264 v317 v370 v423 v476 v529 v582 v635) (k0_t63 : Fin (k0_t63_loop v52 v105 v158 v211 v264 v317 v370 v423 v476 v529 v582 v635).trips), ∀ a, (k0_off653 v52 v105 v158 v211 v264 v317 v370 v423 v476 v529 v582 v635 k0_t63) a + S1x16.size a ≤ S2050x32.size a := fun v52 v105 v158 v211 v264 v317 v370 v423 v476 v529 v582 v635 k0_hw211 k0_t63 => k0_hw211.2.2.2.2.2.2.2.2.2.2.2.2.2.2.1 k0_t63
theorem k0_off654_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (k0_hw211 : k0_chk211 v52 v105 v158 v211 v264 v317 v370 v423 v476 v529 v582 v635) (k0_t63 : Fin (k0_t63_loop v52 v105 v158 v211 v264 v317 v370 v423 v476 v529 v582 v635).trips), ∀ a, (k0_off654 v52 v105 v158 v211 v264 v317 v370 v423 v476 v529 v582 v635 k0_t63) a + S1x16.size a ≤ S2050x32.size a := fun v52 v105 v158 v211 v264 v317 v370 v423 v476 v529 v582 v635 k0_hw211 k0_t63 => k0_hw211.2.2.2.2.2.2.2.2.2.2.2.2.2.2.2 k0_t63

def k0_off655 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c3072_i32_329 : BitVec 32 := 3072#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 3072, v3.toNat]
@[reducible] def k0_t64_loop : Scf.Loop 32 :=
  let c0_i32_331 : BitVec 32 := 0#32
  let c16_i32_332 : BitVec 32 := 16#32
  let v680 : BitVec 32 := Scalar.addi c0_i32_331 c16_i32_332
  let c1_i32_333 : BitVec 32 := 1#32
  ⟨c0_i32_331, v680, c1_i32_333⟩
def k0_off656 (k0_t64 : Fin k0_t64_loop.trips) (c0_i32_445 : BitVec 32) : Fin 2 → Nat :=
  let c0_i32_331 : BitVec 32 := 0#32
  let c1_i32_333 : BitVec 32 := 1#32
  let arg19 : BitVec 32 := Scf.iv c0_i32_331 c1_i32_333 k0_t64
  let c16_i32_444 : BitVec 32 := 16#32
  let v893 : BitVec 32 := Scalar.muli arg19 c16_i32_444
  let v894 : BitVec 32 := Scalar.addi v893 c0_i32_445
  let v895 : Index := Scalar.indexCast v894
  let c0_446 : Index := 0#32
  ![v895.toNat, 0]
def k0_off657 (k0_t64 : Fin k0_t64_loop.trips) (c0_i32_447 : BitVec 32) : Fin 2 → Nat :=
  let c0_i32_331 : BitVec 32 := 0#32
  let c1_i32_333 : BitVec 32 := 1#32
  let arg19 : BitVec 32 := Scf.iv c0_i32_331 c1_i32_333 k0_t64
  let c16_i32_444 : BitVec 32 := 16#32
  let v893 : BitVec 32 := Scalar.muli arg19 c16_i32_444
  let v898 : BitVec 32 := Scalar.addi v893 c0_i32_447
  let v899 : Index := Scalar.indexCast v898
  let c16_448 : Index := 16#32
  ![v899.toNat, 16]
def k0_off658 (k0_t64 : Fin k0_t64_loop.trips) (c0_i32_449 : BitVec 32) : Fin 2 → Nat :=
  let c0_i32_331 : BitVec 32 := 0#32
  let c1_i32_333 : BitVec 32 := 1#32
  let arg19 : BitVec 32 := Scf.iv c0_i32_331 c1_i32_333 k0_t64
  let c16_i32_444 : BitVec 32 := 16#32
  let v893 : BitVec 32 := Scalar.muli arg19 c16_i32_444
  let v902 : BitVec 32 := Scalar.addi v893 c0_i32_449
  let c1_i32_450 : BitVec 32 := 1#32
  let v903 : BitVec 32 := Scalar.addi v902 c1_i32_450
  let v904 : Index := Scalar.indexCast v903
  let c0_451 : Index := 0#32
  ![v904.toNat, 0]
def k0_off659 (k0_t64 : Fin k0_t64_loop.trips) (c0_i32_452 : BitVec 32) : Fin 2 → Nat :=
  let c0_i32_331 : BitVec 32 := 0#32
  let c1_i32_333 : BitVec 32 := 1#32
  let arg19 : BitVec 32 := Scf.iv c0_i32_331 c1_i32_333 k0_t64
  let c16_i32_444 : BitVec 32 := 16#32
  let v893 : BitVec 32 := Scalar.muli arg19 c16_i32_444
  let v906 : BitVec 32 := Scalar.addi v893 c0_i32_452
  let c1_i32_453 : BitVec 32 := 1#32
  let v907 : BitVec 32 := Scalar.addi v906 c1_i32_453
  let v908 : Index := Scalar.indexCast v907
  let c16_454 : Index := 16#32
  ![v908.toNat, 16]
def k0_off660 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c3584_i32 : BitVec 32 := 3584#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 3584, v3.toNat]
@[reducible] def k0_t65_loop (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) : Scf.Loop 32 :=
  let c0_i32_346 : BitVec 32 := 0#32
  let c1_i32_336 : BitVec 32 := 1#32
  let v689 : BitVec 32 := Scalar.subi v688 c1_i32_336
  let c2049_i32_337 : BitVec 32 := 2049#32
  let v690 : BitVec 32 := Scalar.minsi v689 c2049_i32_337
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let v691 : BitVec 32 := Scalar.subi v690 v675
  let c0_i32_338 : BitVec 32 := 0#32
  let v692 : BitVec 32 := Scalar.maxsi v691 c0_i32_338
  let c0_i32_340 : BitVec 32 := 0#32
  let v694 : BitVec 1 := Scalar.cmpi .sgt v692 c0_i32_340
  let v695 : BitVec 32 := Scalar.extui v694
  let c0_i32_341 : BitVec 32 := 0#32
  let v696 : BitVec 1 := Scalar.cmpi .slt v692 c0_i32_341
  let v697 : BitVec 32 := Scalar.extui v696
  let v698 : BitVec 32 := Scalar.subi v695 v697
  let c8_i32_339 : BitVec 32 := 8#32
  let c0_i32_342 : BitVec 32 := 0#32
  let v699 : BitVec 1 := Scalar.cmpi .sgt c8_i32_339 c0_i32_342
  let v700 : BitVec 32 := Scalar.extui v699
  let c0_i32_343 : BitVec 32 := 0#32
  let v701 : BitVec 1 := Scalar.cmpi .slt c8_i32_339 c0_i32_343
  let v702 : BitVec 32 := Scalar.extui v701
  let v703 : BitVec 32 := Scalar.subi v700 v702
  let v704 : BitVec 1 := Scalar.cmpi .ne v698 v703
  let v705 : BitVec 32 := Scalar.remsi v692 c8_i32_339
  let c0_i32_344 : BitVec 32 := 0#32
  let v706 : BitVec 1 := Scalar.cmpi .ne v705 c0_i32_344
  let v707 : BitVec 1 := Scalar.andi v704 v706
  let v693 : BitVec 32 := Scalar.divsi v692 c8_i32_339
  let c1_i32_345 : BitVec 32 := 1#32
  let v708 : BitVec 32 := Scalar.subi v693 c1_i32_345
  let v709 : BitVec 32 := Scalar.select v707 v708 v693
  let v710 : BitVec 32 := Scalar.subi v709 c0_i32_346
  let c1_i32_347 : BitVec 32 := 1#32
  let v712 : BitVec 32 := Scalar.divsi v710 c1_i32_347
  let v713 : BitVec 32 := Scalar.muli v712 c1_i32_347
  let v714 : BitVec 32 := Scalar.addi c0_i32_346 v713
  let c1_i32_348 : BitVec 32 := 1#32
  ⟨c0_i32_346, v714, c1_i32_348⟩

def k0_off661 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_t65 : Fin (k0_t65_loop v52 v105 v158 v211 v264 v317 v370 v423 v476 v529 v582 v635 v688).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c0_i32_346 : BitVec 32 := 0#32
  let c1_i32_348 : BitVec 32 := 1#32
  let arg19 : BitVec 32 := Scf.iv c0_i32_346 c1_i32_348 k0_t65
  let c8_i32_444 : BitVec 32 := 8#32
  let v893 : BitVec 32 := Scalar.muli arg19 c8_i32_444
  let v894 : BitVec 32 := Scalar.addi v675 v893
  let v895 : BitVec 32 := Scalar.addi v894 c1_i32_445
  let v896 : Index := Scalar.indexCast v895
  ![v896.toNat]
def k0_off662 (v912 : BitVec 32) : Fin 2 → Nat :=
  let c3072_i32_451 : BitVec 32 := 3072#32
  let v913 : BitVec 32 := Scalar.subi v912 c3072_i32_451
  let v914 : Index := Scalar.indexCast v913
  let c0_452 : Index := 0#32
  ![v914.toNat, 0]

def k0_off663 (v912 : BitVec 32) : Fin 2 → Nat :=
  let c3072_i32_451 : BitVec 32 := 3072#32
  let v913 : BitVec 32 := Scalar.subi v912 c3072_i32_451
  let v917 : Index := Scalar.indexCast v913
  let c16_453 : Index := 16#32
  ![v917.toNat, 16]

def k0_chk231 (v912 : BitVec 32) : Prop :=
  (∀ a, (k0_off662 v912) a + S1x16.size a ≤ S257x32.size a) ∧
  (∀ a, (k0_off663 v912) a + S1x16.size a ≤ S257x32.size a)
theorem k0_off662_inb : ∀ (v912 : BitVec 32) (k0_hw231 : k0_chk231 v912), ∀ a, (k0_off662 v912) a + S1x16.size a ≤ S257x32.size a := fun v912 k0_hw231 => k0_hw231.1
theorem k0_off663_inb : ∀ (v912 : BitVec 32) (k0_hw231 : k0_chk231 v912), ∀ a, (k0_off663 v912) a + S1x16.size a ≤ S257x32.size a := fun v912 k0_hw231 => k0_hw231.2

def k0_off664 (v921 : BitVec 32) : Fin 2 → Nat :=
  let c3072_i32_454 : BitVec 32 := 3072#32
  let v922 : BitVec 32 := Scalar.subi v921 c3072_i32_454
  let v923 : Index := Scalar.indexCast v922
  let c0_455 : Index := 0#32
  ![v923.toNat, 0]

def k0_off665 (v921 : BitVec 32) : Fin 2 → Nat :=
  let c3072_i32_454 : BitVec 32 := 3072#32
  let v922 : BitVec 32 := Scalar.subi v921 c3072_i32_454
  let v926 : Index := Scalar.indexCast v922
  let c16_456 : Index := 16#32
  ![v926.toNat, 16]

def k0_chk232 (v921 : BitVec 32) : Prop :=
  (∀ a, (k0_off664 v921) a + S1x16.size a ≤ S257x32.size a) ∧
  (∀ a, (k0_off665 v921) a + S1x16.size a ≤ S257x32.size a)
theorem k0_off664_inb : ∀ (v921 : BitVec 32) (k0_hw232 : k0_chk232 v921), ∀ a, (k0_off664 v921) a + S1x16.size a ≤ S257x32.size a := fun v921 k0_hw232 => k0_hw232.1
theorem k0_off665_inb : ∀ (v921 : BitVec 32) (k0_hw232 : k0_chk232 v921), ∀ a, (k0_off665 v921) a + S1x16.size a ≤ S257x32.size a := fun v921 k0_hw232 => k0_hw232.2

def k0_off666 (v930 : BitVec 32) : Fin 2 → Nat :=
  let c3072_i32_457 : BitVec 32 := 3072#32
  let v931 : BitVec 32 := Scalar.subi v930 c3072_i32_457
  let v932 : Index := Scalar.indexCast v931
  let c0_458 : Index := 0#32
  ![v932.toNat, 0]

def k0_off667 (v930 : BitVec 32) : Fin 2 → Nat :=
  let c3072_i32_457 : BitVec 32 := 3072#32
  let v931 : BitVec 32 := Scalar.subi v930 c3072_i32_457
  let v935 : Index := Scalar.indexCast v931
  let c16_459 : Index := 16#32
  ![v935.toNat, 16]

def k0_chk233 (v930 : BitVec 32) : Prop :=
  (∀ a, (k0_off666 v930) a + S1x16.size a ≤ S257x32.size a) ∧
  (∀ a, (k0_off667 v930) a + S1x16.size a ≤ S257x32.size a)
theorem k0_off666_inb : ∀ (v930 : BitVec 32) (k0_hw233 : k0_chk233 v930), ∀ a, (k0_off666 v930) a + S1x16.size a ≤ S257x32.size a := fun v930 k0_hw233 => k0_hw233.1
theorem k0_off667_inb : ∀ (v930 : BitVec 32) (k0_hw233 : k0_chk233 v930), ∀ a, (k0_off667 v930) a + S1x16.size a ≤ S257x32.size a := fun v930 k0_hw233 => k0_hw233.2

def k0_off668 (v939 : BitVec 32) : Fin 2 → Nat :=
  let c3072_i32_460 : BitVec 32 := 3072#32
  let v940 : BitVec 32 := Scalar.subi v939 c3072_i32_460
  let v941 : Index := Scalar.indexCast v940
  let c0_461 : Index := 0#32
  ![v941.toNat, 0]

def k0_off669 (v939 : BitVec 32) : Fin 2 → Nat :=
  let c3072_i32_460 : BitVec 32 := 3072#32
  let v940 : BitVec 32 := Scalar.subi v939 c3072_i32_460
  let v944 : Index := Scalar.indexCast v940
  let c16_462 : Index := 16#32
  ![v944.toNat, 16]

def k0_chk234 (v939 : BitVec 32) : Prop :=
  (∀ a, (k0_off668 v939) a + S1x16.size a ≤ S257x32.size a) ∧
  (∀ a, (k0_off669 v939) a + S1x16.size a ≤ S257x32.size a)
theorem k0_off668_inb : ∀ (v939 : BitVec 32) (k0_hw234 : k0_chk234 v939), ∀ a, (k0_off668 v939) a + S1x16.size a ≤ S257x32.size a := fun v939 k0_hw234 => k0_hw234.1
theorem k0_off669_inb : ∀ (v939 : BitVec 32) (k0_hw234 : k0_chk234 v939), ∀ a, (k0_off669 v939) a + S1x16.size a ≤ S257x32.size a := fun v939 k0_hw234 => k0_hw234.2

def k0_off670 (v948 : BitVec 32) : Fin 2 → Nat :=
  let c3072_i32_463 : BitVec 32 := 3072#32
  let v949 : BitVec 32 := Scalar.subi v948 c3072_i32_463
  let v950 : Index := Scalar.indexCast v949
  let c0_464 : Index := 0#32
  ![v950.toNat, 0]

def k0_off671 (v948 : BitVec 32) : Fin 2 → Nat :=
  let c3072_i32_463 : BitVec 32 := 3072#32
  let v949 : BitVec 32 := Scalar.subi v948 c3072_i32_463
  let v953 : Index := Scalar.indexCast v949
  let c16_465 : Index := 16#32
  ![v953.toNat, 16]

def k0_chk235 (v948 : BitVec 32) : Prop :=
  (∀ a, (k0_off670 v948) a + S1x16.size a ≤ S257x32.size a) ∧
  (∀ a, (k0_off671 v948) a + S1x16.size a ≤ S257x32.size a)
theorem k0_off670_inb : ∀ (v948 : BitVec 32) (k0_hw235 : k0_chk235 v948), ∀ a, (k0_off670 v948) a + S1x16.size a ≤ S257x32.size a := fun v948 k0_hw235 => k0_hw235.1
theorem k0_off671_inb : ∀ (v948 : BitVec 32) (k0_hw235 : k0_chk235 v948), ∀ a, (k0_off671 v948) a + S1x16.size a ≤ S257x32.size a := fun v948 k0_hw235 => k0_hw235.2

def k0_off672 (v957 : BitVec 32) : Fin 2 → Nat :=
  let c3072_i32_466 : BitVec 32 := 3072#32
  let v958 : BitVec 32 := Scalar.subi v957 c3072_i32_466
  let v959 : Index := Scalar.indexCast v958
  let c0_467 : Index := 0#32
  ![v959.toNat, 0]

def k0_off673 (v957 : BitVec 32) : Fin 2 → Nat :=
  let c3072_i32_466 : BitVec 32 := 3072#32
  let v958 : BitVec 32 := Scalar.subi v957 c3072_i32_466
  let v962 : Index := Scalar.indexCast v958
  let c16_468 : Index := 16#32
  ![v962.toNat, 16]

def k0_chk236 (v957 : BitVec 32) : Prop :=
  (∀ a, (k0_off672 v957) a + S1x16.size a ≤ S257x32.size a) ∧
  (∀ a, (k0_off673 v957) a + S1x16.size a ≤ S257x32.size a)
theorem k0_off672_inb : ∀ (v957 : BitVec 32) (k0_hw236 : k0_chk236 v957), ∀ a, (k0_off672 v957) a + S1x16.size a ≤ S257x32.size a := fun v957 k0_hw236 => k0_hw236.1
theorem k0_off673_inb : ∀ (v957 : BitVec 32) (k0_hw236 : k0_chk236 v957), ∀ a, (k0_off673 v957) a + S1x16.size a ≤ S257x32.size a := fun v957 k0_hw236 => k0_hw236.2

def k0_off674 (v966 : BitVec 32) : Fin 2 → Nat :=
  let c3072_i32_469 : BitVec 32 := 3072#32
  let v967 : BitVec 32 := Scalar.subi v966 c3072_i32_469
  let v968 : Index := Scalar.indexCast v967
  let c0_470 : Index := 0#32
  ![v968.toNat, 0]

def k0_off675 (v966 : BitVec 32) : Fin 2 → Nat :=
  let c3072_i32_469 : BitVec 32 := 3072#32
  let v967 : BitVec 32 := Scalar.subi v966 c3072_i32_469
  let v971 : Index := Scalar.indexCast v967
  let c16_471 : Index := 16#32
  ![v971.toNat, 16]

def k0_chk237 (v966 : BitVec 32) : Prop :=
  (∀ a, (k0_off674 v966) a + S1x16.size a ≤ S257x32.size a) ∧
  (∀ a, (k0_off675 v966) a + S1x16.size a ≤ S257x32.size a)
theorem k0_off674_inb : ∀ (v966 : BitVec 32) (k0_hw237 : k0_chk237 v966), ∀ a, (k0_off674 v966) a + S1x16.size a ≤ S257x32.size a := fun v966 k0_hw237 => k0_hw237.1
theorem k0_off675_inb : ∀ (v966 : BitVec 32) (k0_hw237 : k0_chk237 v966), ∀ a, (k0_off675 v966) a + S1x16.size a ≤ S257x32.size a := fun v966 k0_hw237 => k0_hw237.2

def k0_off676 (v975 : BitVec 32) : Fin 2 → Nat :=
  let c3072_i32_472 : BitVec 32 := 3072#32
  let v976 : BitVec 32 := Scalar.subi v975 c3072_i32_472
  let v977 : Index := Scalar.indexCast v976
  let c0_473 : Index := 0#32
  ![v977.toNat, 0]

def k0_off677 (v975 : BitVec 32) : Fin 2 → Nat :=
  let c3072_i32_472 : BitVec 32 := 3072#32
  let v976 : BitVec 32 := Scalar.subi v975 c3072_i32_472
  let v980 : Index := Scalar.indexCast v976
  let c16_474 : Index := 16#32
  ![v980.toNat, 16]

def k0_chk238 (v975 : BitVec 32) : Prop :=
  (∀ a, (k0_off676 v975) a + S1x16.size a ≤ S257x32.size a) ∧
  (∀ a, (k0_off677 v975) a + S1x16.size a ≤ S257x32.size a)
theorem k0_off676_inb : ∀ (v975 : BitVec 32) (k0_hw238 : k0_chk238 v975), ∀ a, (k0_off676 v975) a + S1x16.size a ≤ S257x32.size a := fun v975 k0_hw238 => k0_hw238.1
theorem k0_off677_inb : ∀ (v975 : BitVec 32) (k0_hw238 : k0_chk238 v975), ∀ a, (k0_off677 v975) a + S1x16.size a ≤ S257x32.size a := fun v975 k0_hw238 => k0_hw238.2

def k0_off678 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_t65 : Fin (k0_t65_loop v52 v105 v158 v211 v264 v317 v370 v423 v476 v529 v582 v635 v688).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c0_i32_346 : BitVec 32 := 0#32
  let c1_i32_348 : BitVec 32 := 1#32
  let arg19 : BitVec 32 := Scf.iv c0_i32_346 c1_i32_348 k0_t65
  let c8_i32_444 : BitVec 32 := 8#32
  let v893 : BitVec 32 := Scalar.muli arg19 c8_i32_444
  let v894 : BitVec 32 := Scalar.addi v675 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off679 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_t65 : Fin (k0_t65_loop v52 v105 v158 v211 v264 v317 v370 v423 v476 v529 v582 v635 v688).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c0_i32_346 : BitVec 32 := 0#32
  let c1_i32_348 : BitVec 32 := 1#32
  let arg19 : BitVec 32 := Scf.iv c0_i32_346 c1_i32_348 k0_t65
  let c8_i32_444 : BitVec 32 := 8#32
  let v893 : BitVec 32 := Scalar.muli arg19 c8_i32_444
  let v894 : BitVec 32 := Scalar.addi v675 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t66_loop (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) : Scf.Loop 32 :=
  let c0_i32_346 : BitVec 32 := 0#32
  let c1_i32_336 : BitVec 32 := 1#32
  let v689 : BitVec 32 := Scalar.subi v688 c1_i32_336
  let c2049_i32_337 : BitVec 32 := 2049#32
  let v690 : BitVec 32 := Scalar.minsi v689 c2049_i32_337
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let v691 : BitVec 32 := Scalar.subi v690 v675
  let c0_i32_338 : BitVec 32 := 0#32
  let v692 : BitVec 32 := Scalar.maxsi v691 c0_i32_338
  let c0_i32_340 : BitVec 32 := 0#32
  let v694 : BitVec 1 := Scalar.cmpi .sgt v692 c0_i32_340
  let v695 : BitVec 32 := Scalar.extui v694
  let c0_i32_341 : BitVec 32 := 0#32
  let v696 : BitVec 1 := Scalar.cmpi .slt v692 c0_i32_341
  let v697 : BitVec 32 := Scalar.extui v696
  let v698 : BitVec 32 := Scalar.subi v695 v697
  let c8_i32_339 : BitVec 32 := 8#32
  let c0_i32_342 : BitVec 32 := 0#32
  let v699 : BitVec 1 := Scalar.cmpi .sgt c8_i32_339 c0_i32_342
  let v700 : BitVec 32 := Scalar.extui v699
  let c0_i32_343 : BitVec 32 := 0#32
  let v701 : BitVec 1 := Scalar.cmpi .slt c8_i32_339 c0_i32_343
  let v702 : BitVec 32 := Scalar.extui v701
  let v703 : BitVec 32 := Scalar.subi v700 v702
  let v704 : BitVec 1 := Scalar.cmpi .ne v698 v703
  let v705 : BitVec 32 := Scalar.remsi v692 c8_i32_339
  let c0_i32_344 : BitVec 32 := 0#32
  let v706 : BitVec 1 := Scalar.cmpi .ne v705 c0_i32_344
  let v707 : BitVec 1 := Scalar.andi v704 v706
  let v693 : BitVec 32 := Scalar.divsi v692 c8_i32_339
  let c1_i32_345 : BitVec 32 := 1#32
  let v708 : BitVec 32 := Scalar.subi v693 c1_i32_345
  let v709 : BitVec 32 := Scalar.select v707 v708 v693
  let v710 : BitVec 32 := Scalar.subi v709 c0_i32_346
  let c1_i32_347 : BitVec 32 := 1#32
  let v712 : BitVec 32 := Scalar.divsi v710 c1_i32_347
  let v713 : BitVec 32 := Scalar.muli v712 c1_i32_347
  let v714 : BitVec 32 := Scalar.addi c0_i32_346 v713
  let v711 : BitVec 32 := Scalar.addi c0_i32_346 v710
  let c1_i32_349 : BitVec 32 := 1#32
  ⟨v714, v711, c1_i32_349⟩
def k0_off680 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_t66 : Fin (k0_t66_loop v52 v105 v158 v211 v264 v317 v370 v423 v476 v529 v582 v635 v688).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c0_i32_346 : BitVec 32 := 0#32
  let c1_i32_336 : BitVec 32 := 1#32
  let v689 : BitVec 32 := Scalar.subi v688 c1_i32_336
  let c2049_i32_337 : BitVec 32 := 2049#32
  let v690 : BitVec 32 := Scalar.minsi v689 c2049_i32_337
  let v691 : BitVec 32 := Scalar.subi v690 v675
  let c0_i32_338 : BitVec 32 := 0#32
  let v692 : BitVec 32 := Scalar.maxsi v691 c0_i32_338
  let c0_i32_340 : BitVec 32 := 0#32
  let v694 : BitVec 1 := Scalar.cmpi .sgt v692 c0_i32_340
  let v695 : BitVec 32 := Scalar.extui v694
  let c0_i32_341 : BitVec 32 := 0#32
  let v696 : BitVec 1 := Scalar.cmpi .slt v692 c0_i32_341
  let v697 : BitVec 32 := Scalar.extui v696
  let v698 : BitVec 32 := Scalar.subi v695 v697
  let c8_i32_339 : BitVec 32 := 8#32
  let c0_i32_342 : BitVec 32 := 0#32
  let v699 : BitVec 1 := Scalar.cmpi .sgt c8_i32_339 c0_i32_342
  let v700 : BitVec 32 := Scalar.extui v699
  let c0_i32_343 : BitVec 32 := 0#32
  let v701 : BitVec 1 := Scalar.cmpi .slt c8_i32_339 c0_i32_343
  let v702 : BitVec 32 := Scalar.extui v701
  let v703 : BitVec 32 := Scalar.subi v700 v702
  let v704 : BitVec 1 := Scalar.cmpi .ne v698 v703
  let v705 : BitVec 32 := Scalar.remsi v692 c8_i32_339
  let c0_i32_344 : BitVec 32 := 0#32
  let v706 : BitVec 1 := Scalar.cmpi .ne v705 c0_i32_344
  let v707 : BitVec 1 := Scalar.andi v704 v706
  let v693 : BitVec 32 := Scalar.divsi v692 c8_i32_339
  let c1_i32_345 : BitVec 32 := 1#32
  let v708 : BitVec 32 := Scalar.subi v693 c1_i32_345
  let v709 : BitVec 32 := Scalar.select v707 v708 v693
  let v710 : BitVec 32 := Scalar.subi v709 c0_i32_346
  let c1_i32_347 : BitVec 32 := 1#32
  let v712 : BitVec 32 := Scalar.divsi v710 c1_i32_347
  let v713 : BitVec 32 := Scalar.muli v712 c1_i32_347
  let v714 : BitVec 32 := Scalar.addi c0_i32_346 v713
  let c1_i32_349 : BitVec 32 := 1#32
  let arg19 : BitVec 32 := Scf.iv v714 c1_i32_349 k0_t66
  let c8_i32_444 : BitVec 32 := 8#32
  let v893 : BitVec 32 := Scalar.muli arg19 c8_i32_444
  let v894 : BitVec 32 := Scalar.addi v675 v893
  let v895 : BitVec 32 := Scalar.addi v894 c1_i32_445
  let v896 : Index := Scalar.indexCast v895
  ![v896.toNat]
def k0_off681 (v912 : BitVec 32) : Fin 2 → Nat :=
  let c3072_i32_451 : BitVec 32 := 3072#32
  let v913 : BitVec 32 := Scalar.subi v912 c3072_i32_451
  let v914 : Index := Scalar.indexCast v913
  let c0_452 : Index := 0#32
  ![v914.toNat, 0]

def k0_off682 (v912 : BitVec 32) : Fin 2 → Nat :=
  let c3072_i32_451 : BitVec 32 := 3072#32
  let v913 : BitVec 32 := Scalar.subi v912 c3072_i32_451
  let v917 : Index := Scalar.indexCast v913
  let c16_453 : Index := 16#32
  ![v917.toNat, 16]

def k0_chk239 (v912 : BitVec 32) : Prop :=
  (∀ a, (k0_off681 v912) a + S1x16.size a ≤ S257x32.size a) ∧
  (∀ a, (k0_off682 v912) a + S1x16.size a ≤ S257x32.size a)
theorem k0_off681_inb : ∀ (v912 : BitVec 32) (k0_hw239 : k0_chk239 v912), ∀ a, (k0_off681 v912) a + S1x16.size a ≤ S257x32.size a := fun v912 k0_hw239 => k0_hw239.1
theorem k0_off682_inb : ∀ (v912 : BitVec 32) (k0_hw239 : k0_chk239 v912), ∀ a, (k0_off682 v912) a + S1x16.size a ≤ S257x32.size a := fun v912 k0_hw239 => k0_hw239.2

def k0_off683 (v921 : BitVec 32) : Fin 2 → Nat :=
  let c3072_i32_454 : BitVec 32 := 3072#32
  let v922 : BitVec 32 := Scalar.subi v921 c3072_i32_454
  let v923 : Index := Scalar.indexCast v922
  let c0_455 : Index := 0#32
  ![v923.toNat, 0]

def k0_off684 (v921 : BitVec 32) : Fin 2 → Nat :=
  let c3072_i32_454 : BitVec 32 := 3072#32
  let v922 : BitVec 32 := Scalar.subi v921 c3072_i32_454
  let v926 : Index := Scalar.indexCast v922
  let c16_456 : Index := 16#32
  ![v926.toNat, 16]

def k0_chk240 (v921 : BitVec 32) : Prop :=
  (∀ a, (k0_off683 v921) a + S1x16.size a ≤ S257x32.size a) ∧
  (∀ a, (k0_off684 v921) a + S1x16.size a ≤ S257x32.size a)
theorem k0_off683_inb : ∀ (v921 : BitVec 32) (k0_hw240 : k0_chk240 v921), ∀ a, (k0_off683 v921) a + S1x16.size a ≤ S257x32.size a := fun v921 k0_hw240 => k0_hw240.1
theorem k0_off684_inb : ∀ (v921 : BitVec 32) (k0_hw240 : k0_chk240 v921), ∀ a, (k0_off684 v921) a + S1x16.size a ≤ S257x32.size a := fun v921 k0_hw240 => k0_hw240.2

def k0_off685 (v930 : BitVec 32) : Fin 2 → Nat :=
  let c3072_i32_457 : BitVec 32 := 3072#32
  let v931 : BitVec 32 := Scalar.subi v930 c3072_i32_457
  let v932 : Index := Scalar.indexCast v931
  let c0_458 : Index := 0#32
  ![v932.toNat, 0]

def k0_off686 (v930 : BitVec 32) : Fin 2 → Nat :=
  let c3072_i32_457 : BitVec 32 := 3072#32
  let v931 : BitVec 32 := Scalar.subi v930 c3072_i32_457
  let v935 : Index := Scalar.indexCast v931
  let c16_459 : Index := 16#32
  ![v935.toNat, 16]

def k0_chk241 (v930 : BitVec 32) : Prop :=
  (∀ a, (k0_off685 v930) a + S1x16.size a ≤ S257x32.size a) ∧
  (∀ a, (k0_off686 v930) a + S1x16.size a ≤ S257x32.size a)
theorem k0_off685_inb : ∀ (v930 : BitVec 32) (k0_hw241 : k0_chk241 v930), ∀ a, (k0_off685 v930) a + S1x16.size a ≤ S257x32.size a := fun v930 k0_hw241 => k0_hw241.1
theorem k0_off686_inb : ∀ (v930 : BitVec 32) (k0_hw241 : k0_chk241 v930), ∀ a, (k0_off686 v930) a + S1x16.size a ≤ S257x32.size a := fun v930 k0_hw241 => k0_hw241.2

def k0_off687 (v939 : BitVec 32) : Fin 2 → Nat :=
  let c3072_i32_460 : BitVec 32 := 3072#32
  let v940 : BitVec 32 := Scalar.subi v939 c3072_i32_460
  let v941 : Index := Scalar.indexCast v940
  let c0_461 : Index := 0#32
  ![v941.toNat, 0]

def k0_off688 (v939 : BitVec 32) : Fin 2 → Nat :=
  let c3072_i32_460 : BitVec 32 := 3072#32
  let v940 : BitVec 32 := Scalar.subi v939 c3072_i32_460
  let v944 : Index := Scalar.indexCast v940
  let c16_462 : Index := 16#32
  ![v944.toNat, 16]

def k0_chk242 (v939 : BitVec 32) : Prop :=
  (∀ a, (k0_off687 v939) a + S1x16.size a ≤ S257x32.size a) ∧
  (∀ a, (k0_off688 v939) a + S1x16.size a ≤ S257x32.size a)
theorem k0_off687_inb : ∀ (v939 : BitVec 32) (k0_hw242 : k0_chk242 v939), ∀ a, (k0_off687 v939) a + S1x16.size a ≤ S257x32.size a := fun v939 k0_hw242 => k0_hw242.1
theorem k0_off688_inb : ∀ (v939 : BitVec 32) (k0_hw242 : k0_chk242 v939), ∀ a, (k0_off688 v939) a + S1x16.size a ≤ S257x32.size a := fun v939 k0_hw242 => k0_hw242.2

def k0_off689 (v948 : BitVec 32) : Fin 2 → Nat :=
  let c3072_i32_463 : BitVec 32 := 3072#32
  let v949 : BitVec 32 := Scalar.subi v948 c3072_i32_463
  let v950 : Index := Scalar.indexCast v949
  let c0_464 : Index := 0#32
  ![v950.toNat, 0]

def k0_off690 (v948 : BitVec 32) : Fin 2 → Nat :=
  let c3072_i32_463 : BitVec 32 := 3072#32
  let v949 : BitVec 32 := Scalar.subi v948 c3072_i32_463
  let v953 : Index := Scalar.indexCast v949
  let c16_465 : Index := 16#32
  ![v953.toNat, 16]

def k0_chk243 (v948 : BitVec 32) : Prop :=
  (∀ a, (k0_off689 v948) a + S1x16.size a ≤ S257x32.size a) ∧
  (∀ a, (k0_off690 v948) a + S1x16.size a ≤ S257x32.size a)
theorem k0_off689_inb : ∀ (v948 : BitVec 32) (k0_hw243 : k0_chk243 v948), ∀ a, (k0_off689 v948) a + S1x16.size a ≤ S257x32.size a := fun v948 k0_hw243 => k0_hw243.1
theorem k0_off690_inb : ∀ (v948 : BitVec 32) (k0_hw243 : k0_chk243 v948), ∀ a, (k0_off690 v948) a + S1x16.size a ≤ S257x32.size a := fun v948 k0_hw243 => k0_hw243.2

def k0_off691 (v957 : BitVec 32) : Fin 2 → Nat :=
  let c3072_i32_466 : BitVec 32 := 3072#32
  let v958 : BitVec 32 := Scalar.subi v957 c3072_i32_466
  let v959 : Index := Scalar.indexCast v958
  let c0_467 : Index := 0#32
  ![v959.toNat, 0]

def k0_off692 (v957 : BitVec 32) : Fin 2 → Nat :=
  let c3072_i32_466 : BitVec 32 := 3072#32
  let v958 : BitVec 32 := Scalar.subi v957 c3072_i32_466
  let v962 : Index := Scalar.indexCast v958
  let c16_468 : Index := 16#32
  ![v962.toNat, 16]

def k0_chk244 (v957 : BitVec 32) : Prop :=
  (∀ a, (k0_off691 v957) a + S1x16.size a ≤ S257x32.size a) ∧
  (∀ a, (k0_off692 v957) a + S1x16.size a ≤ S257x32.size a)
theorem k0_off691_inb : ∀ (v957 : BitVec 32) (k0_hw244 : k0_chk244 v957), ∀ a, (k0_off691 v957) a + S1x16.size a ≤ S257x32.size a := fun v957 k0_hw244 => k0_hw244.1
theorem k0_off692_inb : ∀ (v957 : BitVec 32) (k0_hw244 : k0_chk244 v957), ∀ a, (k0_off692 v957) a + S1x16.size a ≤ S257x32.size a := fun v957 k0_hw244 => k0_hw244.2

def k0_off693 (v966 : BitVec 32) : Fin 2 → Nat :=
  let c3072_i32_469 : BitVec 32 := 3072#32
  let v967 : BitVec 32 := Scalar.subi v966 c3072_i32_469
  let v968 : Index := Scalar.indexCast v967
  let c0_470 : Index := 0#32
  ![v968.toNat, 0]

def k0_off694 (v966 : BitVec 32) : Fin 2 → Nat :=
  let c3072_i32_469 : BitVec 32 := 3072#32
  let v967 : BitVec 32 := Scalar.subi v966 c3072_i32_469
  let v971 : Index := Scalar.indexCast v967
  let c16_471 : Index := 16#32
  ![v971.toNat, 16]

def k0_chk245 (v966 : BitVec 32) : Prop :=
  (∀ a, (k0_off693 v966) a + S1x16.size a ≤ S257x32.size a) ∧
  (∀ a, (k0_off694 v966) a + S1x16.size a ≤ S257x32.size a)
theorem k0_off693_inb : ∀ (v966 : BitVec 32) (k0_hw245 : k0_chk245 v966), ∀ a, (k0_off693 v966) a + S1x16.size a ≤ S257x32.size a := fun v966 k0_hw245 => k0_hw245.1
theorem k0_off694_inb : ∀ (v966 : BitVec 32) (k0_hw245 : k0_chk245 v966), ∀ a, (k0_off694 v966) a + S1x16.size a ≤ S257x32.size a := fun v966 k0_hw245 => k0_hw245.2

def k0_off695 (v975 : BitVec 32) : Fin 2 → Nat :=
  let c3072_i32_472 : BitVec 32 := 3072#32
  let v976 : BitVec 32 := Scalar.subi v975 c3072_i32_472
  let v977 : Index := Scalar.indexCast v976
  let c0_473 : Index := 0#32
  ![v977.toNat, 0]

def k0_off696 (v975 : BitVec 32) : Fin 2 → Nat :=
  let c3072_i32_472 : BitVec 32 := 3072#32
  let v976 : BitVec 32 := Scalar.subi v975 c3072_i32_472
  let v980 : Index := Scalar.indexCast v976
  let c16_474 : Index := 16#32
  ![v980.toNat, 16]

def k0_chk246 (v975 : BitVec 32) : Prop :=
  (∀ a, (k0_off695 v975) a + S1x16.size a ≤ S257x32.size a) ∧
  (∀ a, (k0_off696 v975) a + S1x16.size a ≤ S257x32.size a)
theorem k0_off695_inb : ∀ (v975 : BitVec 32) (k0_hw246 : k0_chk246 v975), ∀ a, (k0_off695 v975) a + S1x16.size a ≤ S257x32.size a := fun v975 k0_hw246 => k0_hw246.1
theorem k0_off696_inb : ∀ (v975 : BitVec 32) (k0_hw246 : k0_chk246 v975), ∀ a, (k0_off696 v975) a + S1x16.size a ≤ S257x32.size a := fun v975 k0_hw246 => k0_hw246.2

def k0_off697 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_t66 : Fin (k0_t66_loop v52 v105 v158 v211 v264 v317 v370 v423 v476 v529 v582 v635 v688).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c0_i32_346 : BitVec 32 := 0#32
  let c1_i32_336 : BitVec 32 := 1#32
  let v689 : BitVec 32 := Scalar.subi v688 c1_i32_336
  let c2049_i32_337 : BitVec 32 := 2049#32
  let v690 : BitVec 32 := Scalar.minsi v689 c2049_i32_337
  let v691 : BitVec 32 := Scalar.subi v690 v675
  let c0_i32_338 : BitVec 32 := 0#32
  let v692 : BitVec 32 := Scalar.maxsi v691 c0_i32_338
  let c0_i32_340 : BitVec 32 := 0#32
  let v694 : BitVec 1 := Scalar.cmpi .sgt v692 c0_i32_340
  let v695 : BitVec 32 := Scalar.extui v694
  let c0_i32_341 : BitVec 32 := 0#32
  let v696 : BitVec 1 := Scalar.cmpi .slt v692 c0_i32_341
  let v697 : BitVec 32 := Scalar.extui v696
  let v698 : BitVec 32 := Scalar.subi v695 v697
  let c8_i32_339 : BitVec 32 := 8#32
  let c0_i32_342 : BitVec 32 := 0#32
  let v699 : BitVec 1 := Scalar.cmpi .sgt c8_i32_339 c0_i32_342
  let v700 : BitVec 32 := Scalar.extui v699
  let c0_i32_343 : BitVec 32 := 0#32
  let v701 : BitVec 1 := Scalar.cmpi .slt c8_i32_339 c0_i32_343
  let v702 : BitVec 32 := Scalar.extui v701
  let v703 : BitVec 32 := Scalar.subi v700 v702
  let v704 : BitVec 1 := Scalar.cmpi .ne v698 v703
  let v705 : BitVec 32 := Scalar.remsi v692 c8_i32_339
  let c0_i32_344 : BitVec 32 := 0#32
  let v706 : BitVec 1 := Scalar.cmpi .ne v705 c0_i32_344
  let v707 : BitVec 1 := Scalar.andi v704 v706
  let v693 : BitVec 32 := Scalar.divsi v692 c8_i32_339
  let c1_i32_345 : BitVec 32 := 1#32
  let v708 : BitVec 32 := Scalar.subi v693 c1_i32_345
  let v709 : BitVec 32 := Scalar.select v707 v708 v693
  let v710 : BitVec 32 := Scalar.subi v709 c0_i32_346
  let c1_i32_347 : BitVec 32 := 1#32
  let v712 : BitVec 32 := Scalar.divsi v710 c1_i32_347
  let v713 : BitVec 32 := Scalar.muli v712 c1_i32_347
  let v714 : BitVec 32 := Scalar.addi c0_i32_346 v713
  let c1_i32_349 : BitVec 32 := 1#32
  let arg19 : BitVec 32 := Scf.iv v714 c1_i32_349 k0_t66
  let c8_i32_444 : BitVec 32 := 8#32
  let v893 : BitVec 32 := Scalar.muli arg19 c8_i32_444
  let v894 : BitVec 32 := Scalar.addi v675 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off698 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_t66 : Fin (k0_t66_loop v52 v105 v158 v211 v264 v317 v370 v423 v476 v529 v582 v635 v688).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c0_i32_346 : BitVec 32 := 0#32
  let c1_i32_336 : BitVec 32 := 1#32
  let v689 : BitVec 32 := Scalar.subi v688 c1_i32_336
  let c2049_i32_337 : BitVec 32 := 2049#32
  let v690 : BitVec 32 := Scalar.minsi v689 c2049_i32_337
  let v691 : BitVec 32 := Scalar.subi v690 v675
  let c0_i32_338 : BitVec 32 := 0#32
  let v692 : BitVec 32 := Scalar.maxsi v691 c0_i32_338
  let c0_i32_340 : BitVec 32 := 0#32
  let v694 : BitVec 1 := Scalar.cmpi .sgt v692 c0_i32_340
  let v695 : BitVec 32 := Scalar.extui v694
  let c0_i32_341 : BitVec 32 := 0#32
  let v696 : BitVec 1 := Scalar.cmpi .slt v692 c0_i32_341
  let v697 : BitVec 32 := Scalar.extui v696
  let v698 : BitVec 32 := Scalar.subi v695 v697
  let c8_i32_339 : BitVec 32 := 8#32
  let c0_i32_342 : BitVec 32 := 0#32
  let v699 : BitVec 1 := Scalar.cmpi .sgt c8_i32_339 c0_i32_342
  let v700 : BitVec 32 := Scalar.extui v699
  let c0_i32_343 : BitVec 32 := 0#32
  let v701 : BitVec 1 := Scalar.cmpi .slt c8_i32_339 c0_i32_343
  let v702 : BitVec 32 := Scalar.extui v701
  let v703 : BitVec 32 := Scalar.subi v700 v702
  let v704 : BitVec 1 := Scalar.cmpi .ne v698 v703
  let v705 : BitVec 32 := Scalar.remsi v692 c8_i32_339
  let c0_i32_344 : BitVec 32 := 0#32
  let v706 : BitVec 1 := Scalar.cmpi .ne v705 c0_i32_344
  let v707 : BitVec 1 := Scalar.andi v704 v706
  let v693 : BitVec 32 := Scalar.divsi v692 c8_i32_339
  let c1_i32_345 : BitVec 32 := 1#32
  let v708 : BitVec 32 := Scalar.subi v693 c1_i32_345
  let v709 : BitVec 32 := Scalar.select v707 v708 v693
  let v710 : BitVec 32 := Scalar.subi v709 c0_i32_346
  let c1_i32_347 : BitVec 32 := 1#32
  let v712 : BitVec 32 := Scalar.divsi v710 c1_i32_347
  let v713 : BitVec 32 := Scalar.muli v712 c1_i32_347
  let v714 : BitVec 32 := Scalar.addi c0_i32_346 v713
  let c1_i32_349 : BitVec 32 := 1#32
  let arg19 : BitVec 32 := Scf.iv v714 c1_i32_349 k0_t66
  let c8_i32_444 : BitVec 32 := 8#32
  let v893 : BitVec 32 := Scalar.muli arg19 c8_i32_444
  let v894 : BitVec 32 := Scalar.addi v675 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t67_loop (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v691 : BitVec 32 := Scalar.subi v690 v675
  let c0_i32_338 : BitVec 32 := 0#32
  let v692 : BitVec 32 := Scalar.maxsi v691 c0_i32_338
  let c0_i32_340 : BitVec 32 := 0#32
  let v694 : BitVec 1 := Scalar.cmpi .sgt v692 c0_i32_340
  let v695 : BitVec 32 := Scalar.extui v694
  let c0_i32_341 : BitVec 32 := 0#32
  let v696 : BitVec 1 := Scalar.cmpi .slt v692 c0_i32_341
  let v697 : BitVec 32 := Scalar.extui v696
  let v698 : BitVec 32 := Scalar.subi v695 v697
  let c8_i32_339 : BitVec 32 := 8#32
  let c0_i32_342 : BitVec 32 := 0#32
  let v699 : BitVec 1 := Scalar.cmpi .sgt c8_i32_339 c0_i32_342
  let v700 : BitVec 32 := Scalar.extui v699
  let c0_i32_343 : BitVec 32 := 0#32
  let v701 : BitVec 1 := Scalar.cmpi .slt c8_i32_339 c0_i32_343
  let v702 : BitVec 32 := Scalar.extui v701
  let v703 : BitVec 32 := Scalar.subi v700 v702
  let v704 : BitVec 1 := Scalar.cmpi .ne v698 v703
  let v705 : BitVec 32 := Scalar.remsi v692 c8_i32_339
  let c0_i32_344 : BitVec 32 := 0#32
  let v706 : BitVec 1 := Scalar.cmpi .ne v705 c0_i32_344
  let v707 : BitVec 1 := Scalar.andi v704 v706
  let v693 : BitVec 32 := Scalar.divsi v692 c8_i32_339
  let c1_i32_345 : BitVec 32 := 1#32
  let v708 : BitVec 32 := Scalar.subi v693 c1_i32_345
  let v709 : BitVec 32 := Scalar.select v707 v708 v693
  let c8_i32_350 : BitVec 32 := 8#32
  let v717 : BitVec 32 := Scalar.muli v709 c8_i32_350
  let v718 : BitVec 32 := Scalar.addi v675 v717
  let v719 : BitVec 32 := Scalar.subi v690 v718
  let c1_i32_351 : BitVec 32 := 1#32
  let v721 : BitVec 32 := Scalar.divsi v719 c1_i32_351
  let v722 : BitVec 32 := Scalar.muli v721 c1_i32_351
  let v723 : BitVec 32 := Scalar.addi v718 v722
  let c1_i32_352 : BitVec 32 := 1#32
  ⟨v718, v723, c1_i32_352⟩
def k0_off699 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_t67 : Fin (k0_t67_loop v52 v105 v158 v211 v264 v317 v370 v423 v476 v529 v582 v635 v688).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v691 : BitVec 32 := Scalar.subi v690 v675
  let c0_i32_338 : BitVec 32 := 0#32
  let v692 : BitVec 32 := Scalar.maxsi v691 c0_i32_338
  let c0_i32_340 : BitVec 32 := 0#32
  let v694 : BitVec 1 := Scalar.cmpi .sgt v692 c0_i32_340
  let v695 : BitVec 32 := Scalar.extui v694
  let c0_i32_341 : BitVec 32 := 0#32
  let v696 : BitVec 1 := Scalar.cmpi .slt v692 c0_i32_341
  let v697 : BitVec 32 := Scalar.extui v696
  let v698 : BitVec 32 := Scalar.subi v695 v697
  let c8_i32_339 : BitVec 32 := 8#32
  let c0_i32_342 : BitVec 32 := 0#32
  let v699 : BitVec 1 := Scalar.cmpi .sgt c8_i32_339 c0_i32_342
  let v700 : BitVec 32 := Scalar.extui v699
  let c0_i32_343 : BitVec 32 := 0#32
  let v701 : BitVec 1 := Scalar.cmpi .slt c8_i32_339 c0_i32_343
  let v702 : BitVec 32 := Scalar.extui v701
  let v703 : BitVec 32 := Scalar.subi v700 v702
  let v704 : BitVec 1 := Scalar.cmpi .ne v698 v703
  let v705 : BitVec 32 := Scalar.remsi v692 c8_i32_339
  let c0_i32_344 : BitVec 32 := 0#32
  let v706 : BitVec 1 := Scalar.cmpi .ne v705 c0_i32_344
  let v707 : BitVec 1 := Scalar.andi v704 v706
  let v693 : BitVec 32 := Scalar.divsi v692 c8_i32_339
  let c1_i32_345 : BitVec 32 := 1#32
  let v708 : BitVec 32 := Scalar.subi v693 c1_i32_345
  let v709 : BitVec 32 := Scalar.select v707 v708 v693
  let c8_i32_350 : BitVec 32 := 8#32
  let v717 : BitVec 32 := Scalar.muli v709 c8_i32_350
  let v718 : BitVec 32 := Scalar.addi v675 v717
  let c1_i32_352 : BitVec 32 := 1#32
  let arg19 : BitVec 32 := Scf.iv v718 c1_i32_352 k0_t67
  let c1_i32_444 : BitVec 32 := 1#32
  let v893 : BitVec 32 := Scalar.addi arg19 c1_i32_444
  let v894 : Index := Scalar.indexCast v893
  ![v894.toNat]
def k0_off700 (v897 : BitVec 32) : Fin 2 → Nat :=
  let c3072_i32_445 : BitVec 32 := 3072#32
  let v898 : BitVec 32 := Scalar.subi v897 c3072_i32_445
  let v912 : Index := Scalar.indexCast v898
  let c0_450 : Index := 0#32
  ![v912.toNat, 0]

def k0_off701 (v897 : BitVec 32) : Fin 2 → Nat :=
  let c3072_i32_445 : BitVec 32 := 3072#32
  let v898 : BitVec 32 := Scalar.subi v897 c3072_i32_445
  let v915 : Index := Scalar.indexCast v898
  let c16_451 : Index := 16#32
  ![v915.toNat, 16]

def k0_chk247 (v897 : BitVec 32) : Prop :=
  (∀ a, (k0_off700 v897) a + S1x16.size a ≤ S257x32.size a) ∧
  (∀ a, (k0_off701 v897) a + S1x16.size a ≤ S257x32.size a)
theorem k0_off700_inb : ∀ (v897 : BitVec 32) (k0_hw247 : k0_chk247 v897), ∀ a, (k0_off700 v897) a + S1x16.size a ≤ S257x32.size a := fun v897 k0_hw247 => k0_hw247.1
theorem k0_off701_inb : ∀ (v897 : BitVec 32) (k0_hw247 : k0_chk247 v897), ∀ a, (k0_off701 v897) a + S1x16.size a ≤ S257x32.size a := fun v897 k0_hw247 => k0_hw247.2

def k0_off702 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_t67 : Fin (k0_t67_loop v52 v105 v158 v211 v264 v317 v370 v423 v476 v529 v582 v635 v688).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v691 : BitVec 32 := Scalar.subi v690 v675
  let c0_i32_338 : BitVec 32 := 0#32
  let v692 : BitVec 32 := Scalar.maxsi v691 c0_i32_338
  let c0_i32_340 : BitVec 32 := 0#32
  let v694 : BitVec 1 := Scalar.cmpi .sgt v692 c0_i32_340
  let v695 : BitVec 32 := Scalar.extui v694
  let c0_i32_341 : BitVec 32 := 0#32
  let v696 : BitVec 1 := Scalar.cmpi .slt v692 c0_i32_341
  let v697 : BitVec 32 := Scalar.extui v696
  let v698 : BitVec 32 := Scalar.subi v695 v697
  let c8_i32_339 : BitVec 32 := 8#32
  let c0_i32_342 : BitVec 32 := 0#32
  let v699 : BitVec 1 := Scalar.cmpi .sgt c8_i32_339 c0_i32_342
  let v700 : BitVec 32 := Scalar.extui v699
  let c0_i32_343 : BitVec 32 := 0#32
  let v701 : BitVec 1 := Scalar.cmpi .slt c8_i32_339 c0_i32_343
  let v702 : BitVec 32 := Scalar.extui v701
  let v703 : BitVec 32 := Scalar.subi v700 v702
  let v704 : BitVec 1 := Scalar.cmpi .ne v698 v703
  let v705 : BitVec 32 := Scalar.remsi v692 c8_i32_339
  let c0_i32_344 : BitVec 32 := 0#32
  let v706 : BitVec 1 := Scalar.cmpi .ne v705 c0_i32_344
  let v707 : BitVec 1 := Scalar.andi v704 v706
  let v693 : BitVec 32 := Scalar.divsi v692 c8_i32_339
  let c1_i32_345 : BitVec 32 := 1#32
  let v708 : BitVec 32 := Scalar.subi v693 c1_i32_345
  let v709 : BitVec 32 := Scalar.select v707 v708 v693
  let c8_i32_350 : BitVec 32 := 8#32
  let v717 : BitVec 32 := Scalar.muli v709 c8_i32_350
  let v718 : BitVec 32 := Scalar.addi v675 v717
  let c1_i32_352 : BitVec 32 := 1#32
  let arg19 : BitVec 32 := Scf.iv v718 c1_i32_352 k0_t67
  let c1_i32_452 : BitVec 32 := 1#32
  let v920 : BitVec 32 := Scalar.addi arg19 c1_i32_452
  let v921 : Index := Scalar.indexCast v920
  let c0_453 : Index := 0#32
  ![v921.toNat, 0]
def k0_off703 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_t67 : Fin (k0_t67_loop v52 v105 v158 v211 v264 v317 v370 v423 v476 v529 v582 v635 v688).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v691 : BitVec 32 := Scalar.subi v690 v675
  let c0_i32_338 : BitVec 32 := 0#32
  let v692 : BitVec 32 := Scalar.maxsi v691 c0_i32_338
  let c0_i32_340 : BitVec 32 := 0#32
  let v694 : BitVec 1 := Scalar.cmpi .sgt v692 c0_i32_340
  let v695 : BitVec 32 := Scalar.extui v694
  let c0_i32_341 : BitVec 32 := 0#32
  let v696 : BitVec 1 := Scalar.cmpi .slt v692 c0_i32_341
  let v697 : BitVec 32 := Scalar.extui v696
  let v698 : BitVec 32 := Scalar.subi v695 v697
  let c8_i32_339 : BitVec 32 := 8#32
  let c0_i32_342 : BitVec 32 := 0#32
  let v699 : BitVec 1 := Scalar.cmpi .sgt c8_i32_339 c0_i32_342
  let v700 : BitVec 32 := Scalar.extui v699
  let c0_i32_343 : BitVec 32 := 0#32
  let v701 : BitVec 1 := Scalar.cmpi .slt c8_i32_339 c0_i32_343
  let v702 : BitVec 32 := Scalar.extui v701
  let v703 : BitVec 32 := Scalar.subi v700 v702
  let v704 : BitVec 1 := Scalar.cmpi .ne v698 v703
  let v705 : BitVec 32 := Scalar.remsi v692 c8_i32_339
  let c0_i32_344 : BitVec 32 := 0#32
  let v706 : BitVec 1 := Scalar.cmpi .ne v705 c0_i32_344
  let v707 : BitVec 1 := Scalar.andi v704 v706
  let v693 : BitVec 32 := Scalar.divsi v692 c8_i32_339
  let c1_i32_345 : BitVec 32 := 1#32
  let v708 : BitVec 32 := Scalar.subi v693 c1_i32_345
  let v709 : BitVec 32 := Scalar.select v707 v708 v693
  let c8_i32_350 : BitVec 32 := 8#32
  let v717 : BitVec 32 := Scalar.muli v709 c8_i32_350
  let v718 : BitVec 32 := Scalar.addi v675 v717
  let c1_i32_352 : BitVec 32 := 1#32
  let arg19 : BitVec 32 := Scf.iv v718 c1_i32_352 k0_t67
  let c1_i32_454 : BitVec 32 := 1#32
  let v925 : BitVec 32 := Scalar.addi arg19 c1_i32_454
  let v926 : Index := Scalar.indexCast v925
  let c16_455 : Index := 16#32
  ![v926.toNat, 16]
@[reducible] def k0_t68_loop (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v691 : BitVec 32 := Scalar.subi v690 v675
  let c0_i32_338 : BitVec 32 := 0#32
  let v692 : BitVec 32 := Scalar.maxsi v691 c0_i32_338
  let c0_i32_340 : BitVec 32 := 0#32
  let v694 : BitVec 1 := Scalar.cmpi .sgt v692 c0_i32_340
  let v695 : BitVec 32 := Scalar.extui v694
  let c0_i32_341 : BitVec 32 := 0#32
  let v696 : BitVec 1 := Scalar.cmpi .slt v692 c0_i32_341
  let v697 : BitVec 32 := Scalar.extui v696
  let v698 : BitVec 32 := Scalar.subi v695 v697
  let c8_i32_339 : BitVec 32 := 8#32
  let c0_i32_342 : BitVec 32 := 0#32
  let v699 : BitVec 1 := Scalar.cmpi .sgt c8_i32_339 c0_i32_342
  let v700 : BitVec 32 := Scalar.extui v699
  let c0_i32_343 : BitVec 32 := 0#32
  let v701 : BitVec 1 := Scalar.cmpi .slt c8_i32_339 c0_i32_343
  let v702 : BitVec 32 := Scalar.extui v701
  let v703 : BitVec 32 := Scalar.subi v700 v702
  let v704 : BitVec 1 := Scalar.cmpi .ne v698 v703
  let v705 : BitVec 32 := Scalar.remsi v692 c8_i32_339
  let c0_i32_344 : BitVec 32 := 0#32
  let v706 : BitVec 1 := Scalar.cmpi .ne v705 c0_i32_344
  let v707 : BitVec 1 := Scalar.andi v704 v706
  let v693 : BitVec 32 := Scalar.divsi v692 c8_i32_339
  let c1_i32_345 : BitVec 32 := 1#32
  let v708 : BitVec 32 := Scalar.subi v693 c1_i32_345
  let v709 : BitVec 32 := Scalar.select v707 v708 v693
  let c8_i32_350 : BitVec 32 := 8#32
  let v717 : BitVec 32 := Scalar.muli v709 c8_i32_350
  let v718 : BitVec 32 := Scalar.addi v675 v717
  let v719 : BitVec 32 := Scalar.subi v690 v718
  let c1_i32_351 : BitVec 32 := 1#32
  let v721 : BitVec 32 := Scalar.divsi v719 c1_i32_351
  let v722 : BitVec 32 := Scalar.muli v721 c1_i32_351
  let v723 : BitVec 32 := Scalar.addi v718 v722
  let v720 : BitVec 32 := Scalar.addi v718 v719
  let c1_i32_353 : BitVec 32 := 1#32
  ⟨v723, v720, c1_i32_353⟩
def k0_off704 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_t68 : Fin (k0_t68_loop v52 v105 v158 v211 v264 v317 v370 v423 v476 v529 v582 v635 v688).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v691 : BitVec 32 := Scalar.subi v690 v675
  let c0_i32_338 : BitVec 32 := 0#32
  let v692 : BitVec 32 := Scalar.maxsi v691 c0_i32_338
  let c0_i32_340 : BitVec 32 := 0#32
  let v694 : BitVec 1 := Scalar.cmpi .sgt v692 c0_i32_340
  let v695 : BitVec 32 := Scalar.extui v694
  let c0_i32_341 : BitVec 32 := 0#32
  let v696 : BitVec 1 := Scalar.cmpi .slt v692 c0_i32_341
  let v697 : BitVec 32 := Scalar.extui v696
  let v698 : BitVec 32 := Scalar.subi v695 v697
  let c8_i32_339 : BitVec 32 := 8#32
  let c0_i32_342 : BitVec 32 := 0#32
  let v699 : BitVec 1 := Scalar.cmpi .sgt c8_i32_339 c0_i32_342
  let v700 : BitVec 32 := Scalar.extui v699
  let c0_i32_343 : BitVec 32 := 0#32
  let v701 : BitVec 1 := Scalar.cmpi .slt c8_i32_339 c0_i32_343
  let v702 : BitVec 32 := Scalar.extui v701
  let v703 : BitVec 32 := Scalar.subi v700 v702
  let v704 : BitVec 1 := Scalar.cmpi .ne v698 v703
  let v705 : BitVec 32 := Scalar.remsi v692 c8_i32_339
  let c0_i32_344 : BitVec 32 := 0#32
  let v706 : BitVec 1 := Scalar.cmpi .ne v705 c0_i32_344
  let v707 : BitVec 1 := Scalar.andi v704 v706
  let v693 : BitVec 32 := Scalar.divsi v692 c8_i32_339
  let c1_i32_345 : BitVec 32 := 1#32
  let v708 : BitVec 32 := Scalar.subi v693 c1_i32_345
  let v709 : BitVec 32 := Scalar.select v707 v708 v693
  let c8_i32_350 : BitVec 32 := 8#32
  let v717 : BitVec 32 := Scalar.muli v709 c8_i32_350
  let v718 : BitVec 32 := Scalar.addi v675 v717
  let v719 : BitVec 32 := Scalar.subi v690 v718
  let c1_i32_351 : BitVec 32 := 1#32
  let v721 : BitVec 32 := Scalar.divsi v719 c1_i32_351
  let v722 : BitVec 32 := Scalar.muli v721 c1_i32_351
  let v723 : BitVec 32 := Scalar.addi v718 v722
  let c1_i32_353 : BitVec 32 := 1#32
  let arg19 : BitVec 32 := Scf.iv v723 c1_i32_353 k0_t68
  let c1_i32_444 : BitVec 32 := 1#32
  let v893 : BitVec 32 := Scalar.addi arg19 c1_i32_444
  let v894 : Index := Scalar.indexCast v893
  ![v894.toNat]
def k0_off705 (v897 : BitVec 32) : Fin 2 → Nat :=
  let c3072_i32_445 : BitVec 32 := 3072#32
  let v898 : BitVec 32 := Scalar.subi v897 c3072_i32_445
  let v912 : Index := Scalar.indexCast v898
  let c0_450 : Index := 0#32
  ![v912.toNat, 0]

def k0_off706 (v897 : BitVec 32) : Fin 2 → Nat :=
  let c3072_i32_445 : BitVec 32 := 3072#32
  let v898 : BitVec 32 := Scalar.subi v897 c3072_i32_445
  let v915 : Index := Scalar.indexCast v898
  let c16_451 : Index := 16#32
  ![v915.toNat, 16]

def k0_chk248 (v897 : BitVec 32) : Prop :=
  (∀ a, (k0_off705 v897) a + S1x16.size a ≤ S257x32.size a) ∧
  (∀ a, (k0_off706 v897) a + S1x16.size a ≤ S257x32.size a)
theorem k0_off705_inb : ∀ (v897 : BitVec 32) (k0_hw248 : k0_chk248 v897), ∀ a, (k0_off705 v897) a + S1x16.size a ≤ S257x32.size a := fun v897 k0_hw248 => k0_hw248.1
theorem k0_off706_inb : ∀ (v897 : BitVec 32) (k0_hw248 : k0_chk248 v897), ∀ a, (k0_off706 v897) a + S1x16.size a ≤ S257x32.size a := fun v897 k0_hw248 => k0_hw248.2

def k0_off707 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_t68 : Fin (k0_t68_loop v52 v105 v158 v211 v264 v317 v370 v423 v476 v529 v582 v635 v688).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v691 : BitVec 32 := Scalar.subi v690 v675
  let c0_i32_338 : BitVec 32 := 0#32
  let v692 : BitVec 32 := Scalar.maxsi v691 c0_i32_338
  let c0_i32_340 : BitVec 32 := 0#32
  let v694 : BitVec 1 := Scalar.cmpi .sgt v692 c0_i32_340
  let v695 : BitVec 32 := Scalar.extui v694
  let c0_i32_341 : BitVec 32 := 0#32
  let v696 : BitVec 1 := Scalar.cmpi .slt v692 c0_i32_341
  let v697 : BitVec 32 := Scalar.extui v696
  let v698 : BitVec 32 := Scalar.subi v695 v697
  let c8_i32_339 : BitVec 32 := 8#32
  let c0_i32_342 : BitVec 32 := 0#32
  let v699 : BitVec 1 := Scalar.cmpi .sgt c8_i32_339 c0_i32_342
  let v700 : BitVec 32 := Scalar.extui v699
  let c0_i32_343 : BitVec 32 := 0#32
  let v701 : BitVec 1 := Scalar.cmpi .slt c8_i32_339 c0_i32_343
  let v702 : BitVec 32 := Scalar.extui v701
  let v703 : BitVec 32 := Scalar.subi v700 v702
  let v704 : BitVec 1 := Scalar.cmpi .ne v698 v703
  let v705 : BitVec 32 := Scalar.remsi v692 c8_i32_339
  let c0_i32_344 : BitVec 32 := 0#32
  let v706 : BitVec 1 := Scalar.cmpi .ne v705 c0_i32_344
  let v707 : BitVec 1 := Scalar.andi v704 v706
  let v693 : BitVec 32 := Scalar.divsi v692 c8_i32_339
  let c1_i32_345 : BitVec 32 := 1#32
  let v708 : BitVec 32 := Scalar.subi v693 c1_i32_345
  let v709 : BitVec 32 := Scalar.select v707 v708 v693
  let c8_i32_350 : BitVec 32 := 8#32
  let v717 : BitVec 32 := Scalar.muli v709 c8_i32_350
  let v718 : BitVec 32 := Scalar.addi v675 v717
  let v719 : BitVec 32 := Scalar.subi v690 v718
  let c1_i32_351 : BitVec 32 := 1#32
  let v721 : BitVec 32 := Scalar.divsi v719 c1_i32_351
  let v722 : BitVec 32 := Scalar.muli v721 c1_i32_351
  let v723 : BitVec 32 := Scalar.addi v718 v722
  let c1_i32_353 : BitVec 32 := 1#32
  let arg19 : BitVec 32 := Scf.iv v723 c1_i32_353 k0_t68
  let c1_i32_452 : BitVec 32 := 1#32
  let v920 : BitVec 32 := Scalar.addi arg19 c1_i32_452
  let v921 : Index := Scalar.indexCast v920
  let c0_453 : Index := 0#32
  ![v921.toNat, 0]
def k0_off708 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_t68 : Fin (k0_t68_loop v52 v105 v158 v211 v264 v317 v370 v423 v476 v529 v582 v635 v688).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v691 : BitVec 32 := Scalar.subi v690 v675
  let c0_i32_338 : BitVec 32 := 0#32
  let v692 : BitVec 32 := Scalar.maxsi v691 c0_i32_338
  let c0_i32_340 : BitVec 32 := 0#32
  let v694 : BitVec 1 := Scalar.cmpi .sgt v692 c0_i32_340
  let v695 : BitVec 32 := Scalar.extui v694
  let c0_i32_341 : BitVec 32 := 0#32
  let v696 : BitVec 1 := Scalar.cmpi .slt v692 c0_i32_341
  let v697 : BitVec 32 := Scalar.extui v696
  let v698 : BitVec 32 := Scalar.subi v695 v697
  let c8_i32_339 : BitVec 32 := 8#32
  let c0_i32_342 : BitVec 32 := 0#32
  let v699 : BitVec 1 := Scalar.cmpi .sgt c8_i32_339 c0_i32_342
  let v700 : BitVec 32 := Scalar.extui v699
  let c0_i32_343 : BitVec 32 := 0#32
  let v701 : BitVec 1 := Scalar.cmpi .slt c8_i32_339 c0_i32_343
  let v702 : BitVec 32 := Scalar.extui v701
  let v703 : BitVec 32 := Scalar.subi v700 v702
  let v704 : BitVec 1 := Scalar.cmpi .ne v698 v703
  let v705 : BitVec 32 := Scalar.remsi v692 c8_i32_339
  let c0_i32_344 : BitVec 32 := 0#32
  let v706 : BitVec 1 := Scalar.cmpi .ne v705 c0_i32_344
  let v707 : BitVec 1 := Scalar.andi v704 v706
  let v693 : BitVec 32 := Scalar.divsi v692 c8_i32_339
  let c1_i32_345 : BitVec 32 := 1#32
  let v708 : BitVec 32 := Scalar.subi v693 c1_i32_345
  let v709 : BitVec 32 := Scalar.select v707 v708 v693
  let c8_i32_350 : BitVec 32 := 8#32
  let v717 : BitVec 32 := Scalar.muli v709 c8_i32_350
  let v718 : BitVec 32 := Scalar.addi v675 v717
  let v719 : BitVec 32 := Scalar.subi v690 v718
  let c1_i32_351 : BitVec 32 := 1#32
  let v721 : BitVec 32 := Scalar.divsi v719 c1_i32_351
  let v722 : BitVec 32 := Scalar.muli v721 c1_i32_351
  let v723 : BitVec 32 := Scalar.addi v718 v722
  let c1_i32_353 : BitVec 32 := 1#32
  let arg19 : BitVec 32 := Scf.iv v723 c1_i32_353 k0_t68
  let c1_i32_454 : BitVec 32 := 1#32
  let v925 : BitVec 32 := Scalar.addi arg19 c1_i32_454
  let v926 : Index := Scalar.indexCast v925
  let c16_455 : Index := 16#32
  ![v926.toNat, 16]

def k0_chk230 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) : Prop :=
  ((k0_t65_loop v52 v105 v158 v211 v264 v317 v370 v423 v476 v529 v582 v635 v688).OK) ∧
  (∀ k0_t65 : Fin (k0_t65_loop v52 v105 v158 v211 v264 v317 v370 v423 v476 v529 v582 v635 v688).trips, ∀ (r : Fin 2), ∀ a, (k0_off661 v52 v105 v158 v211 v264 v317 v370 v423 v476 v529 v582 v635 v688 k0_t65 (BitVec.ofNat 32 (1 + r.val))) a + S16.size a ≤ S4112.size a) ∧
  (∀ k0_t65 : Fin (k0_t65_loop v52 v105 v158 v211 v264 v317 v370 v423 v476 v529 v582 v635 v688).trips, ∀ (r : Fin 8), ∀ a, (k0_off678 v52 v105 v158 v211 v264 v317 v370 v423 v476 v529 v582 v635 v688 k0_t65 (BitVec.ofNat 32 r.val)) a + S1x16.size a ≤ S2050x32.size a) ∧
  (∀ k0_t65 : Fin (k0_t65_loop v52 v105 v158 v211 v264 v317 v370 v423 v476 v529 v582 v635 v688).trips, ∀ (r : Fin 8), ∀ a, (k0_off679 v52 v105 v158 v211 v264 v317 v370 v423 v476 v529 v582 v635 v688 k0_t65 (BitVec.ofNat 32 r.val)) a + S1x16.size a ≤ S2050x32.size a) ∧
  ((k0_t66_loop v52 v105 v158 v211 v264 v317 v370 v423 v476 v529 v582 v635 v688).OK) ∧
  (∀ k0_t66 : Fin (k0_t66_loop v52 v105 v158 v211 v264 v317 v370 v423 v476 v529 v582 v635 v688).trips, ∀ (r : Fin 2), ∀ a, (k0_off680 v52 v105 v158 v211 v264 v317 v370 v423 v476 v529 v582 v635 v688 k0_t66 (BitVec.ofNat 32 (1 + r.val))) a + S16.size a ≤ S4112.size a) ∧
  (∀ k0_t66 : Fin (k0_t66_loop v52 v105 v158 v211 v264 v317 v370 v423 v476 v529 v582 v635 v688).trips, ∀ (r : Fin 8), ∀ a, (k0_off697 v52 v105 v158 v211 v264 v317 v370 v423 v476 v529 v582 v635 v688 k0_t66 (BitVec.ofNat 32 r.val)) a + S1x16.size a ≤ S2050x32.size a) ∧
  (∀ k0_t66 : Fin (k0_t66_loop v52 v105 v158 v211 v264 v317 v370 v423 v476 v529 v582 v635 v688).trips, ∀ (r : Fin 8), ∀ a, (k0_off698 v52 v105 v158 v211 v264 v317 v370 v423 v476 v529 v582 v635 v688 k0_t66 (BitVec.ofNat 32 r.val)) a + S1x16.size a ≤ S2050x32.size a) ∧
  ((k0_t67_loop v52 v105 v158 v211 v264 v317 v370 v423 v476 v529 v582 v635 v688).OK) ∧
  (∀ k0_t67 : Fin (k0_t67_loop v52 v105 v158 v211 v264 v317 v370 v423 v476 v529 v582 v635 v688).trips, ∀ a, (k0_off699 v52 v105 v158 v211 v264 v317 v370 v423 v476 v529 v582 v635 v688 k0_t67) a + S16.size a ≤ S4112.size a) ∧
  (∀ k0_t67 : Fin (k0_t67_loop v52 v105 v158 v211 v264 v317 v370 v423 v476 v529 v582 v635 v688).trips, ∀ a, (k0_off702 v52 v105 v158 v211 v264 v317 v370 v423 v476 v529 v582 v635 v688 k0_t67) a + S1x16.size a ≤ S2050x32.size a) ∧
  (∀ k0_t67 : Fin (k0_t67_loop v52 v105 v158 v211 v264 v317 v370 v423 v476 v529 v582 v635 v688).trips, ∀ a, (k0_off703 v52 v105 v158 v211 v264 v317 v370 v423 v476 v529 v582 v635 v688 k0_t67) a + S1x16.size a ≤ S2050x32.size a) ∧
  ((k0_t68_loop v52 v105 v158 v211 v264 v317 v370 v423 v476 v529 v582 v635 v688).OK) ∧
  (∀ k0_t68 : Fin (k0_t68_loop v52 v105 v158 v211 v264 v317 v370 v423 v476 v529 v582 v635 v688).trips, ∀ a, (k0_off704 v52 v105 v158 v211 v264 v317 v370 v423 v476 v529 v582 v635 v688 k0_t68) a + S16.size a ≤ S4112.size a) ∧
  (∀ k0_t68 : Fin (k0_t68_loop v52 v105 v158 v211 v264 v317 v370 v423 v476 v529 v582 v635 v688).trips, ∀ a, (k0_off707 v52 v105 v158 v211 v264 v317 v370 v423 v476 v529 v582 v635 v688 k0_t68) a + S1x16.size a ≤ S2050x32.size a) ∧
  (∀ k0_t68 : Fin (k0_t68_loop v52 v105 v158 v211 v264 v317 v370 v423 v476 v529 v582 v635 v688).trips, ∀ a, (k0_off708 v52 v105 v158 v211 v264 v317 v370 v423 v476 v529 v582 v635 v688 k0_t68) a + S1x16.size a ≤ S2050x32.size a)
theorem k0_t65_ok : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_hw230 : k0_chk230 v52 v105 v158 v211 v264 v317 v370 v423 v476 v529 v582 v635 v688), (k0_t65_loop v52 v105 v158 v211 v264 v317 v370 v423 v476 v529 v582 v635 v688).OK := fun v52 v105 v158 v211 v264 v317 v370 v423 v476 v529 v582 v635 v688 k0_hw230 => k0_hw230.1
theorem k0_off661_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_hw230 : k0_chk230 v52 v105 v158 v211 v264 v317 v370 v423 v476 v529 v582 v635 v688) (k0_t65 : Fin (k0_t65_loop v52 v105 v158 v211 v264 v317 v370 v423 v476 v529 v582 v635 v688).trips), ∀ (r : Fin 2), ∀ a, (k0_off661 v52 v105 v158 v211 v264 v317 v370 v423 v476 v529 v582 v635 v688 k0_t65 (BitVec.ofNat 32 (1 + r.val))) a + S16.size a ≤ S4112.size a := fun v52 v105 v158 v211 v264 v317 v370 v423 v476 v529 v582 v635 v688 k0_hw230 k0_t65 r => k0_hw230.2.1 k0_t65 r
theorem k0_off678_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_hw230 : k0_chk230 v52 v105 v158 v211 v264 v317 v370 v423 v476 v529 v582 v635 v688) (k0_t65 : Fin (k0_t65_loop v52 v105 v158 v211 v264 v317 v370 v423 v476 v529 v582 v635 v688).trips), ∀ (r : Fin 8), ∀ a, (k0_off678 v52 v105 v158 v211 v264 v317 v370 v423 v476 v529 v582 v635 v688 k0_t65 (BitVec.ofNat 32 r.val)) a + S1x16.size a ≤ S2050x32.size a := fun v52 v105 v158 v211 v264 v317 v370 v423 v476 v529 v582 v635 v688 k0_hw230 k0_t65 r => k0_hw230.2.2.1 k0_t65 r
theorem k0_off679_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_hw230 : k0_chk230 v52 v105 v158 v211 v264 v317 v370 v423 v476 v529 v582 v635 v688) (k0_t65 : Fin (k0_t65_loop v52 v105 v158 v211 v264 v317 v370 v423 v476 v529 v582 v635 v688).trips), ∀ (r : Fin 8), ∀ a, (k0_off679 v52 v105 v158 v211 v264 v317 v370 v423 v476 v529 v582 v635 v688 k0_t65 (BitVec.ofNat 32 r.val)) a + S1x16.size a ≤ S2050x32.size a := fun v52 v105 v158 v211 v264 v317 v370 v423 v476 v529 v582 v635 v688 k0_hw230 k0_t65 r => k0_hw230.2.2.2.1 k0_t65 r
theorem k0_t66_ok : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_hw230 : k0_chk230 v52 v105 v158 v211 v264 v317 v370 v423 v476 v529 v582 v635 v688), (k0_t66_loop v52 v105 v158 v211 v264 v317 v370 v423 v476 v529 v582 v635 v688).OK := fun v52 v105 v158 v211 v264 v317 v370 v423 v476 v529 v582 v635 v688 k0_hw230 => k0_hw230.2.2.2.2.1
theorem k0_off680_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_hw230 : k0_chk230 v52 v105 v158 v211 v264 v317 v370 v423 v476 v529 v582 v635 v688) (k0_t66 : Fin (k0_t66_loop v52 v105 v158 v211 v264 v317 v370 v423 v476 v529 v582 v635 v688).trips), ∀ (r : Fin 2), ∀ a, (k0_off680 v52 v105 v158 v211 v264 v317 v370 v423 v476 v529 v582 v635 v688 k0_t66 (BitVec.ofNat 32 (1 + r.val))) a + S16.size a ≤ S4112.size a := fun v52 v105 v158 v211 v264 v317 v370 v423 v476 v529 v582 v635 v688 k0_hw230 k0_t66 r => k0_hw230.2.2.2.2.2.1 k0_t66 r
theorem k0_off697_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_hw230 : k0_chk230 v52 v105 v158 v211 v264 v317 v370 v423 v476 v529 v582 v635 v688) (k0_t66 : Fin (k0_t66_loop v52 v105 v158 v211 v264 v317 v370 v423 v476 v529 v582 v635 v688).trips), ∀ (r : Fin 8), ∀ a, (k0_off697 v52 v105 v158 v211 v264 v317 v370 v423 v476 v529 v582 v635 v688 k0_t66 (BitVec.ofNat 32 r.val)) a + S1x16.size a ≤ S2050x32.size a := fun v52 v105 v158 v211 v264 v317 v370 v423 v476 v529 v582 v635 v688 k0_hw230 k0_t66 r => k0_hw230.2.2.2.2.2.2.1 k0_t66 r
theorem k0_off698_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_hw230 : k0_chk230 v52 v105 v158 v211 v264 v317 v370 v423 v476 v529 v582 v635 v688) (k0_t66 : Fin (k0_t66_loop v52 v105 v158 v211 v264 v317 v370 v423 v476 v529 v582 v635 v688).trips), ∀ (r : Fin 8), ∀ a, (k0_off698 v52 v105 v158 v211 v264 v317 v370 v423 v476 v529 v582 v635 v688 k0_t66 (BitVec.ofNat 32 r.val)) a + S1x16.size a ≤ S2050x32.size a := fun v52 v105 v158 v211 v264 v317 v370 v423 v476 v529 v582 v635 v688 k0_hw230 k0_t66 r => k0_hw230.2.2.2.2.2.2.2.1 k0_t66 r
theorem k0_t67_ok : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_hw230 : k0_chk230 v52 v105 v158 v211 v264 v317 v370 v423 v476 v529 v582 v635 v688), (k0_t67_loop v52 v105 v158 v211 v264 v317 v370 v423 v476 v529 v582 v635 v688).OK := fun v52 v105 v158 v211 v264 v317 v370 v423 v476 v529 v582 v635 v688 k0_hw230 => k0_hw230.2.2.2.2.2.2.2.2.1
theorem k0_off699_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_hw230 : k0_chk230 v52 v105 v158 v211 v264 v317 v370 v423 v476 v529 v582 v635 v688) (k0_t67 : Fin (k0_t67_loop v52 v105 v158 v211 v264 v317 v370 v423 v476 v529 v582 v635 v688).trips), ∀ a, (k0_off699 v52 v105 v158 v211 v264 v317 v370 v423 v476 v529 v582 v635 v688 k0_t67) a + S16.size a ≤ S4112.size a := fun v52 v105 v158 v211 v264 v317 v370 v423 v476 v529 v582 v635 v688 k0_hw230 k0_t67 => k0_hw230.2.2.2.2.2.2.2.2.2.1 k0_t67
theorem k0_off702_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_hw230 : k0_chk230 v52 v105 v158 v211 v264 v317 v370 v423 v476 v529 v582 v635 v688) (k0_t67 : Fin (k0_t67_loop v52 v105 v158 v211 v264 v317 v370 v423 v476 v529 v582 v635 v688).trips), ∀ a, (k0_off702 v52 v105 v158 v211 v264 v317 v370 v423 v476 v529 v582 v635 v688 k0_t67) a + S1x16.size a ≤ S2050x32.size a := fun v52 v105 v158 v211 v264 v317 v370 v423 v476 v529 v582 v635 v688 k0_hw230 k0_t67 => k0_hw230.2.2.2.2.2.2.2.2.2.2.1 k0_t67
theorem k0_off703_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_hw230 : k0_chk230 v52 v105 v158 v211 v264 v317 v370 v423 v476 v529 v582 v635 v688) (k0_t67 : Fin (k0_t67_loop v52 v105 v158 v211 v264 v317 v370 v423 v476 v529 v582 v635 v688).trips), ∀ a, (k0_off703 v52 v105 v158 v211 v264 v317 v370 v423 v476 v529 v582 v635 v688 k0_t67) a + S1x16.size a ≤ S2050x32.size a := fun v52 v105 v158 v211 v264 v317 v370 v423 v476 v529 v582 v635 v688 k0_hw230 k0_t67 => k0_hw230.2.2.2.2.2.2.2.2.2.2.2.1 k0_t67
theorem k0_t68_ok : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_hw230 : k0_chk230 v52 v105 v158 v211 v264 v317 v370 v423 v476 v529 v582 v635 v688), (k0_t68_loop v52 v105 v158 v211 v264 v317 v370 v423 v476 v529 v582 v635 v688).OK := fun v52 v105 v158 v211 v264 v317 v370 v423 v476 v529 v582 v635 v688 k0_hw230 => k0_hw230.2.2.2.2.2.2.2.2.2.2.2.2.1
theorem k0_off704_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_hw230 : k0_chk230 v52 v105 v158 v211 v264 v317 v370 v423 v476 v529 v582 v635 v688) (k0_t68 : Fin (k0_t68_loop v52 v105 v158 v211 v264 v317 v370 v423 v476 v529 v582 v635 v688).trips), ∀ a, (k0_off704 v52 v105 v158 v211 v264 v317 v370 v423 v476 v529 v582 v635 v688 k0_t68) a + S16.size a ≤ S4112.size a := fun v52 v105 v158 v211 v264 v317 v370 v423 v476 v529 v582 v635 v688 k0_hw230 k0_t68 => k0_hw230.2.2.2.2.2.2.2.2.2.2.2.2.2.1 k0_t68
theorem k0_off707_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_hw230 : k0_chk230 v52 v105 v158 v211 v264 v317 v370 v423 v476 v529 v582 v635 v688) (k0_t68 : Fin (k0_t68_loop v52 v105 v158 v211 v264 v317 v370 v423 v476 v529 v582 v635 v688).trips), ∀ a, (k0_off707 v52 v105 v158 v211 v264 v317 v370 v423 v476 v529 v582 v635 v688 k0_t68) a + S1x16.size a ≤ S2050x32.size a := fun v52 v105 v158 v211 v264 v317 v370 v423 v476 v529 v582 v635 v688 k0_hw230 k0_t68 => k0_hw230.2.2.2.2.2.2.2.2.2.2.2.2.2.2.1 k0_t68
theorem k0_off708_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (k0_hw230 : k0_chk230 v52 v105 v158 v211 v264 v317 v370 v423 v476 v529 v582 v635 v688) (k0_t68 : Fin (k0_t68_loop v52 v105 v158 v211 v264 v317 v370 v423 v476 v529 v582 v635 v688).trips), ∀ a, (k0_off708 v52 v105 v158 v211 v264 v317 v370 v423 v476 v529 v582 v635 v688 k0_t68) a + S1x16.size a ≤ S2050x32.size a := fun v52 v105 v158 v211 v264 v317 v370 v423 v476 v529 v582 v635 v688 k0_hw230 k0_t68 => k0_hw230.2.2.2.2.2.2.2.2.2.2.2.2.2.2.2 k0_t68

def k0_off709 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c3328_i32_354 : BitVec 32 := 3328#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 3328, v3.toNat]
@[reducible] def k0_t69_loop : Scf.Loop 32 :=
  let c0_i32_356 : BitVec 32 := 0#32
  let c16_i32_357 : BitVec 32 := 16#32
  let v733 : BitVec 32 := Scalar.addi c0_i32_356 c16_i32_357
  let c1_i32_358 : BitVec 32 := 1#32
  ⟨c0_i32_356, v733, c1_i32_358⟩
def k0_off710 (k0_t69 : Fin k0_t69_loop.trips) (c0_i32_445 : BitVec 32) : Fin 2 → Nat :=
  let c0_i32_356 : BitVec 32 := 0#32
  let c1_i32_358 : BitVec 32 := 1#32
  let arg19 : BitVec 32 := Scf.iv c0_i32_356 c1_i32_358 k0_t69
  let c16_i32_444 : BitVec 32 := 16#32
  let v893 : BitVec 32 := Scalar.muli arg19 c16_i32_444
  let v894 : BitVec 32 := Scalar.addi v893 c0_i32_445
  let v895 : Index := Scalar.indexCast v894
  let c0_446 : Index := 0#32
  ![v895.toNat, 0]
def k0_off711 (k0_t69 : Fin k0_t69_loop.trips) (c0_i32_447 : BitVec 32) : Fin 2 → Nat :=
  let c0_i32_356 : BitVec 32 := 0#32
  let c1_i32_358 : BitVec 32 := 1#32
  let arg19 : BitVec 32 := Scf.iv c0_i32_356 c1_i32_358 k0_t69
  let c16_i32_444 : BitVec 32 := 16#32
  let v893 : BitVec 32 := Scalar.muli arg19 c16_i32_444
  let v898 : BitVec 32 := Scalar.addi v893 c0_i32_447
  let v899 : Index := Scalar.indexCast v898
  let c16_448 : Index := 16#32
  ![v899.toNat, 16]
def k0_off712 (k0_t69 : Fin k0_t69_loop.trips) (c0_i32_449 : BitVec 32) : Fin 2 → Nat :=
  let c0_i32_356 : BitVec 32 := 0#32
  let c1_i32_358 : BitVec 32 := 1#32
  let arg19 : BitVec 32 := Scf.iv c0_i32_356 c1_i32_358 k0_t69
  let c16_i32_444 : BitVec 32 := 16#32
  let v893 : BitVec 32 := Scalar.muli arg19 c16_i32_444
  let v902 : BitVec 32 := Scalar.addi v893 c0_i32_449
  let c1_i32_450 : BitVec 32 := 1#32
  let v903 : BitVec 32 := Scalar.addi v902 c1_i32_450
  let v904 : Index := Scalar.indexCast v903
  let c0_451 : Index := 0#32
  ![v904.toNat, 0]
def k0_off713 (k0_t69 : Fin k0_t69_loop.trips) (c0_i32_452 : BitVec 32) : Fin 2 → Nat :=
  let c0_i32_356 : BitVec 32 := 0#32
  let c1_i32_358 : BitVec 32 := 1#32
  let arg19 : BitVec 32 := Scf.iv c0_i32_356 c1_i32_358 k0_t69
  let c16_i32_444 : BitVec 32 := 16#32
  let v893 : BitVec 32 := Scalar.muli arg19 c16_i32_444
  let v906 : BitVec 32 := Scalar.addi v893 c0_i32_452
  let c1_i32_453 : BitVec 32 := 1#32
  let v907 : BitVec 32 := Scalar.addi v906 c1_i32_453
  let v908 : Index := Scalar.indexCast v907
  let c16_454 : Index := 16#32
  ![v908.toNat, 16]
def k0_off714 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c3840_i32 : BitVec 32 := 3840#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 3840, v3.toNat]
@[reducible] def k0_t70_loop (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) : Scf.Loop 32 :=
  let c0_i32_371 : BitVec 32 := 0#32
  let c1_i32_361 : BitVec 32 := 1#32
  let v742 : BitVec 32 := Scalar.subi v741 c1_i32_361
  let c2049_i32_362 : BitVec 32 := 2049#32
  let v743 : BitVec 32 := Scalar.minsi v742 c2049_i32_362
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let v744 : BitVec 32 := Scalar.subi v743 v728
  let c0_i32_363 : BitVec 32 := 0#32
  let v745 : BitVec 32 := Scalar.maxsi v744 c0_i32_363
  let c0_i32_365 : BitVec 32 := 0#32
  let v747 : BitVec 1 := Scalar.cmpi .sgt v745 c0_i32_365
  let v748 : BitVec 32 := Scalar.extui v747
  let c0_i32_366 : BitVec 32 := 0#32
  let v749 : BitVec 1 := Scalar.cmpi .slt v745 c0_i32_366
  let v750 : BitVec 32 := Scalar.extui v749
  let v751 : BitVec 32 := Scalar.subi v748 v750
  let c8_i32_364 : BitVec 32 := 8#32
  let c0_i32_367 : BitVec 32 := 0#32
  let v752 : BitVec 1 := Scalar.cmpi .sgt c8_i32_364 c0_i32_367
  let v753 : BitVec 32 := Scalar.extui v752
  let c0_i32_368 : BitVec 32 := 0#32
  let v754 : BitVec 1 := Scalar.cmpi .slt c8_i32_364 c0_i32_368
  let v755 : BitVec 32 := Scalar.extui v754
  let v756 : BitVec 32 := Scalar.subi v753 v755
  let v757 : BitVec 1 := Scalar.cmpi .ne v751 v756
  let v758 : BitVec 32 := Scalar.remsi v745 c8_i32_364
  let c0_i32_369 : BitVec 32 := 0#32
  let v759 : BitVec 1 := Scalar.cmpi .ne v758 c0_i32_369
  let v760 : BitVec 1 := Scalar.andi v757 v759
  let v746 : BitVec 32 := Scalar.divsi v745 c8_i32_364
  let c1_i32_370 : BitVec 32 := 1#32
  let v761 : BitVec 32 := Scalar.subi v746 c1_i32_370
  let v762 : BitVec 32 := Scalar.select v760 v761 v746
  let v763 : BitVec 32 := Scalar.subi v762 c0_i32_371
  let c1_i32_372 : BitVec 32 := 1#32
  let v765 : BitVec 32 := Scalar.divsi v763 c1_i32_372
  let v766 : BitVec 32 := Scalar.muli v765 c1_i32_372
  let v767 : BitVec 32 := Scalar.addi c0_i32_371 v766
  let c1_i32_373 : BitVec 32 := 1#32
  ⟨c0_i32_371, v767, c1_i32_373⟩

def k0_off715 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_t70 : Fin (k0_t70_loop v52 v105 v158 v211 v264 v317 v370 v423 v476 v529 v582 v635 v688 v741).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c0_i32_371 : BitVec 32 := 0#32
  let c1_i32_373 : BitVec 32 := 1#32
  let arg19 : BitVec 32 := Scf.iv c0_i32_371 c1_i32_373 k0_t70
  let c8_i32_444 : BitVec 32 := 8#32
  let v893 : BitVec 32 := Scalar.muli arg19 c8_i32_444
  let v894 : BitVec 32 := Scalar.addi v728 v893
  let v895 : BitVec 32 := Scalar.addi v894 c1_i32_445
  let v896 : Index := Scalar.indexCast v895
  ![v896.toNat]
def k0_off716 (v912 : BitVec 32) : Fin 2 → Nat :=
  let c3328_i32_451 : BitVec 32 := 3328#32
  let v913 : BitVec 32 := Scalar.subi v912 c3328_i32_451
  let v914 : Index := Scalar.indexCast v913
  let c0_452 : Index := 0#32
  ![v914.toNat, 0]

def k0_off717 (v912 : BitVec 32) : Fin 2 → Nat :=
  let c3328_i32_451 : BitVec 32 := 3328#32
  let v913 : BitVec 32 := Scalar.subi v912 c3328_i32_451
  let v917 : Index := Scalar.indexCast v913
  let c16_453 : Index := 16#32
  ![v917.toNat, 16]

def k0_chk250 (v912 : BitVec 32) : Prop :=
  (∀ a, (k0_off716 v912) a + S1x16.size a ≤ S257x32.size a) ∧
  (∀ a, (k0_off717 v912) a + S1x16.size a ≤ S257x32.size a)
theorem k0_off716_inb : ∀ (v912 : BitVec 32) (k0_hw250 : k0_chk250 v912), ∀ a, (k0_off716 v912) a + S1x16.size a ≤ S257x32.size a := fun v912 k0_hw250 => k0_hw250.1
theorem k0_off717_inb : ∀ (v912 : BitVec 32) (k0_hw250 : k0_chk250 v912), ∀ a, (k0_off717 v912) a + S1x16.size a ≤ S257x32.size a := fun v912 k0_hw250 => k0_hw250.2

def k0_off718 (v921 : BitVec 32) : Fin 2 → Nat :=
  let c3328_i32_454 : BitVec 32 := 3328#32
  let v922 : BitVec 32 := Scalar.subi v921 c3328_i32_454
  let v923 : Index := Scalar.indexCast v922
  let c0_455 : Index := 0#32
  ![v923.toNat, 0]

def k0_off719 (v921 : BitVec 32) : Fin 2 → Nat :=
  let c3328_i32_454 : BitVec 32 := 3328#32
  let v922 : BitVec 32 := Scalar.subi v921 c3328_i32_454
  let v926 : Index := Scalar.indexCast v922
  let c16_456 : Index := 16#32
  ![v926.toNat, 16]

def k0_chk251 (v921 : BitVec 32) : Prop :=
  (∀ a, (k0_off718 v921) a + S1x16.size a ≤ S257x32.size a) ∧
  (∀ a, (k0_off719 v921) a + S1x16.size a ≤ S257x32.size a)
theorem k0_off718_inb : ∀ (v921 : BitVec 32) (k0_hw251 : k0_chk251 v921), ∀ a, (k0_off718 v921) a + S1x16.size a ≤ S257x32.size a := fun v921 k0_hw251 => k0_hw251.1
theorem k0_off719_inb : ∀ (v921 : BitVec 32) (k0_hw251 : k0_chk251 v921), ∀ a, (k0_off719 v921) a + S1x16.size a ≤ S257x32.size a := fun v921 k0_hw251 => k0_hw251.2

def k0_off720 (v930 : BitVec 32) : Fin 2 → Nat :=
  let c3328_i32_457 : BitVec 32 := 3328#32
  let v931 : BitVec 32 := Scalar.subi v930 c3328_i32_457
  let v932 : Index := Scalar.indexCast v931
  let c0_458 : Index := 0#32
  ![v932.toNat, 0]

def k0_off721 (v930 : BitVec 32) : Fin 2 → Nat :=
  let c3328_i32_457 : BitVec 32 := 3328#32
  let v931 : BitVec 32 := Scalar.subi v930 c3328_i32_457
  let v935 : Index := Scalar.indexCast v931
  let c16_459 : Index := 16#32
  ![v935.toNat, 16]

def k0_chk252 (v930 : BitVec 32) : Prop :=
  (∀ a, (k0_off720 v930) a + S1x16.size a ≤ S257x32.size a) ∧
  (∀ a, (k0_off721 v930) a + S1x16.size a ≤ S257x32.size a)
theorem k0_off720_inb : ∀ (v930 : BitVec 32) (k0_hw252 : k0_chk252 v930), ∀ a, (k0_off720 v930) a + S1x16.size a ≤ S257x32.size a := fun v930 k0_hw252 => k0_hw252.1
theorem k0_off721_inb : ∀ (v930 : BitVec 32) (k0_hw252 : k0_chk252 v930), ∀ a, (k0_off721 v930) a + S1x16.size a ≤ S257x32.size a := fun v930 k0_hw252 => k0_hw252.2

def k0_off722 (v939 : BitVec 32) : Fin 2 → Nat :=
  let c3328_i32_460 : BitVec 32 := 3328#32
  let v940 : BitVec 32 := Scalar.subi v939 c3328_i32_460
  let v941 : Index := Scalar.indexCast v940
  let c0_461 : Index := 0#32
  ![v941.toNat, 0]

def k0_off723 (v939 : BitVec 32) : Fin 2 → Nat :=
  let c3328_i32_460 : BitVec 32 := 3328#32
  let v940 : BitVec 32 := Scalar.subi v939 c3328_i32_460
  let v944 : Index := Scalar.indexCast v940
  let c16_462 : Index := 16#32
  ![v944.toNat, 16]

def k0_chk253 (v939 : BitVec 32) : Prop :=
  (∀ a, (k0_off722 v939) a + S1x16.size a ≤ S257x32.size a) ∧
  (∀ a, (k0_off723 v939) a + S1x16.size a ≤ S257x32.size a)
theorem k0_off722_inb : ∀ (v939 : BitVec 32) (k0_hw253 : k0_chk253 v939), ∀ a, (k0_off722 v939) a + S1x16.size a ≤ S257x32.size a := fun v939 k0_hw253 => k0_hw253.1
theorem k0_off723_inb : ∀ (v939 : BitVec 32) (k0_hw253 : k0_chk253 v939), ∀ a, (k0_off723 v939) a + S1x16.size a ≤ S257x32.size a := fun v939 k0_hw253 => k0_hw253.2

def k0_off724 (v948 : BitVec 32) : Fin 2 → Nat :=
  let c3328_i32_463 : BitVec 32 := 3328#32
  let v949 : BitVec 32 := Scalar.subi v948 c3328_i32_463
  let v950 : Index := Scalar.indexCast v949
  let c0_464 : Index := 0#32
  ![v950.toNat, 0]

def k0_off725 (v948 : BitVec 32) : Fin 2 → Nat :=
  let c3328_i32_463 : BitVec 32 := 3328#32
  let v949 : BitVec 32 := Scalar.subi v948 c3328_i32_463
  let v953 : Index := Scalar.indexCast v949
  let c16_465 : Index := 16#32
  ![v953.toNat, 16]

def k0_chk254 (v948 : BitVec 32) : Prop :=
  (∀ a, (k0_off724 v948) a + S1x16.size a ≤ S257x32.size a) ∧
  (∀ a, (k0_off725 v948) a + S1x16.size a ≤ S257x32.size a)
theorem k0_off724_inb : ∀ (v948 : BitVec 32) (k0_hw254 : k0_chk254 v948), ∀ a, (k0_off724 v948) a + S1x16.size a ≤ S257x32.size a := fun v948 k0_hw254 => k0_hw254.1
theorem k0_off725_inb : ∀ (v948 : BitVec 32) (k0_hw254 : k0_chk254 v948), ∀ a, (k0_off725 v948) a + S1x16.size a ≤ S257x32.size a := fun v948 k0_hw254 => k0_hw254.2

def k0_off726 (v957 : BitVec 32) : Fin 2 → Nat :=
  let c3328_i32_466 : BitVec 32 := 3328#32
  let v958 : BitVec 32 := Scalar.subi v957 c3328_i32_466
  let v959 : Index := Scalar.indexCast v958
  let c0_467 : Index := 0#32
  ![v959.toNat, 0]

def k0_off727 (v957 : BitVec 32) : Fin 2 → Nat :=
  let c3328_i32_466 : BitVec 32 := 3328#32
  let v958 : BitVec 32 := Scalar.subi v957 c3328_i32_466
  let v962 : Index := Scalar.indexCast v958
  let c16_468 : Index := 16#32
  ![v962.toNat, 16]

def k0_chk255 (v957 : BitVec 32) : Prop :=
  (∀ a, (k0_off726 v957) a + S1x16.size a ≤ S257x32.size a) ∧
  (∀ a, (k0_off727 v957) a + S1x16.size a ≤ S257x32.size a)
theorem k0_off726_inb : ∀ (v957 : BitVec 32) (k0_hw255 : k0_chk255 v957), ∀ a, (k0_off726 v957) a + S1x16.size a ≤ S257x32.size a := fun v957 k0_hw255 => k0_hw255.1
theorem k0_off727_inb : ∀ (v957 : BitVec 32) (k0_hw255 : k0_chk255 v957), ∀ a, (k0_off727 v957) a + S1x16.size a ≤ S257x32.size a := fun v957 k0_hw255 => k0_hw255.2

def k0_off728 (v966 : BitVec 32) : Fin 2 → Nat :=
  let c3328_i32_469 : BitVec 32 := 3328#32
  let v967 : BitVec 32 := Scalar.subi v966 c3328_i32_469
  let v968 : Index := Scalar.indexCast v967
  let c0_470 : Index := 0#32
  ![v968.toNat, 0]

def k0_off729 (v966 : BitVec 32) : Fin 2 → Nat :=
  let c3328_i32_469 : BitVec 32 := 3328#32
  let v967 : BitVec 32 := Scalar.subi v966 c3328_i32_469
  let v971 : Index := Scalar.indexCast v967
  let c16_471 : Index := 16#32
  ![v971.toNat, 16]

def k0_chk256 (v966 : BitVec 32) : Prop :=
  (∀ a, (k0_off728 v966) a + S1x16.size a ≤ S257x32.size a) ∧
  (∀ a, (k0_off729 v966) a + S1x16.size a ≤ S257x32.size a)
theorem k0_off728_inb : ∀ (v966 : BitVec 32) (k0_hw256 : k0_chk256 v966), ∀ a, (k0_off728 v966) a + S1x16.size a ≤ S257x32.size a := fun v966 k0_hw256 => k0_hw256.1
theorem k0_off729_inb : ∀ (v966 : BitVec 32) (k0_hw256 : k0_chk256 v966), ∀ a, (k0_off729 v966) a + S1x16.size a ≤ S257x32.size a := fun v966 k0_hw256 => k0_hw256.2

def k0_off730 (v975 : BitVec 32) : Fin 2 → Nat :=
  let c3328_i32_472 : BitVec 32 := 3328#32
  let v976 : BitVec 32 := Scalar.subi v975 c3328_i32_472
  let v977 : Index := Scalar.indexCast v976
  let c0_473 : Index := 0#32
  ![v977.toNat, 0]

def k0_off731 (v975 : BitVec 32) : Fin 2 → Nat :=
  let c3328_i32_472 : BitVec 32 := 3328#32
  let v976 : BitVec 32 := Scalar.subi v975 c3328_i32_472
  let v980 : Index := Scalar.indexCast v976
  let c16_474 : Index := 16#32
  ![v980.toNat, 16]

def k0_chk257 (v975 : BitVec 32) : Prop :=
  (∀ a, (k0_off730 v975) a + S1x16.size a ≤ S257x32.size a) ∧
  (∀ a, (k0_off731 v975) a + S1x16.size a ≤ S257x32.size a)
theorem k0_off730_inb : ∀ (v975 : BitVec 32) (k0_hw257 : k0_chk257 v975), ∀ a, (k0_off730 v975) a + S1x16.size a ≤ S257x32.size a := fun v975 k0_hw257 => k0_hw257.1
theorem k0_off731_inb : ∀ (v975 : BitVec 32) (k0_hw257 : k0_chk257 v975), ∀ a, (k0_off731 v975) a + S1x16.size a ≤ S257x32.size a := fun v975 k0_hw257 => k0_hw257.2

def k0_off732 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_t70 : Fin (k0_t70_loop v52 v105 v158 v211 v264 v317 v370 v423 v476 v529 v582 v635 v688 v741).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c0_i32_371 : BitVec 32 := 0#32
  let c1_i32_373 : BitVec 32 := 1#32
  let arg19 : BitVec 32 := Scf.iv c0_i32_371 c1_i32_373 k0_t70
  let c8_i32_444 : BitVec 32 := 8#32
  let v893 : BitVec 32 := Scalar.muli arg19 c8_i32_444
  let v894 : BitVec 32 := Scalar.addi v728 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off733 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_t70 : Fin (k0_t70_loop v52 v105 v158 v211 v264 v317 v370 v423 v476 v529 v582 v635 v688 v741).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c0_i32_371 : BitVec 32 := 0#32
  let c1_i32_373 : BitVec 32 := 1#32
  let arg19 : BitVec 32 := Scf.iv c0_i32_371 c1_i32_373 k0_t70
  let c8_i32_444 : BitVec 32 := 8#32
  let v893 : BitVec 32 := Scalar.muli arg19 c8_i32_444
  let v894 : BitVec 32 := Scalar.addi v728 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t71_loop (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) : Scf.Loop 32 :=
  let c0_i32_371 : BitVec 32 := 0#32
  let c1_i32_361 : BitVec 32 := 1#32
  let v742 : BitVec 32 := Scalar.subi v741 c1_i32_361
  let c2049_i32_362 : BitVec 32 := 2049#32
  let v743 : BitVec 32 := Scalar.minsi v742 c2049_i32_362
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let v744 : BitVec 32 := Scalar.subi v743 v728
  let c0_i32_363 : BitVec 32 := 0#32
  let v745 : BitVec 32 := Scalar.maxsi v744 c0_i32_363
  let c0_i32_365 : BitVec 32 := 0#32
  let v747 : BitVec 1 := Scalar.cmpi .sgt v745 c0_i32_365
  let v748 : BitVec 32 := Scalar.extui v747
  let c0_i32_366 : BitVec 32 := 0#32
  let v749 : BitVec 1 := Scalar.cmpi .slt v745 c0_i32_366
  let v750 : BitVec 32 := Scalar.extui v749
  let v751 : BitVec 32 := Scalar.subi v748 v750
  let c8_i32_364 : BitVec 32 := 8#32
  let c0_i32_367 : BitVec 32 := 0#32
  let v752 : BitVec 1 := Scalar.cmpi .sgt c8_i32_364 c0_i32_367
  let v753 : BitVec 32 := Scalar.extui v752
  let c0_i32_368 : BitVec 32 := 0#32
  let v754 : BitVec 1 := Scalar.cmpi .slt c8_i32_364 c0_i32_368
  let v755 : BitVec 32 := Scalar.extui v754
  let v756 : BitVec 32 := Scalar.subi v753 v755
  let v757 : BitVec 1 := Scalar.cmpi .ne v751 v756
  let v758 : BitVec 32 := Scalar.remsi v745 c8_i32_364
  let c0_i32_369 : BitVec 32 := 0#32
  let v759 : BitVec 1 := Scalar.cmpi .ne v758 c0_i32_369
  let v760 : BitVec 1 := Scalar.andi v757 v759
  let v746 : BitVec 32 := Scalar.divsi v745 c8_i32_364
  let c1_i32_370 : BitVec 32 := 1#32
  let v761 : BitVec 32 := Scalar.subi v746 c1_i32_370
  let v762 : BitVec 32 := Scalar.select v760 v761 v746
  let v763 : BitVec 32 := Scalar.subi v762 c0_i32_371
  let c1_i32_372 : BitVec 32 := 1#32
  let v765 : BitVec 32 := Scalar.divsi v763 c1_i32_372
  let v766 : BitVec 32 := Scalar.muli v765 c1_i32_372
  let v767 : BitVec 32 := Scalar.addi c0_i32_371 v766
  let v764 : BitVec 32 := Scalar.addi c0_i32_371 v763
  let c1_i32_374 : BitVec 32 := 1#32
  ⟨v767, v764, c1_i32_374⟩
def k0_off734 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_t71 : Fin (k0_t71_loop v52 v105 v158 v211 v264 v317 v370 v423 v476 v529 v582 v635 v688 v741).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c0_i32_371 : BitVec 32 := 0#32
  let c1_i32_361 : BitVec 32 := 1#32
  let v742 : BitVec 32 := Scalar.subi v741 c1_i32_361
  let c2049_i32_362 : BitVec 32 := 2049#32
  let v743 : BitVec 32 := Scalar.minsi v742 c2049_i32_362
  let v744 : BitVec 32 := Scalar.subi v743 v728
  let c0_i32_363 : BitVec 32 := 0#32
  let v745 : BitVec 32 := Scalar.maxsi v744 c0_i32_363
  let c0_i32_365 : BitVec 32 := 0#32
  let v747 : BitVec 1 := Scalar.cmpi .sgt v745 c0_i32_365
  let v748 : BitVec 32 := Scalar.extui v747
  let c0_i32_366 : BitVec 32 := 0#32
  let v749 : BitVec 1 := Scalar.cmpi .slt v745 c0_i32_366
  let v750 : BitVec 32 := Scalar.extui v749
  let v751 : BitVec 32 := Scalar.subi v748 v750
  let c8_i32_364 : BitVec 32 := 8#32
  let c0_i32_367 : BitVec 32 := 0#32
  let v752 : BitVec 1 := Scalar.cmpi .sgt c8_i32_364 c0_i32_367
  let v753 : BitVec 32 := Scalar.extui v752
  let c0_i32_368 : BitVec 32 := 0#32
  let v754 : BitVec 1 := Scalar.cmpi .slt c8_i32_364 c0_i32_368
  let v755 : BitVec 32 := Scalar.extui v754
  let v756 : BitVec 32 := Scalar.subi v753 v755
  let v757 : BitVec 1 := Scalar.cmpi .ne v751 v756
  let v758 : BitVec 32 := Scalar.remsi v745 c8_i32_364
  let c0_i32_369 : BitVec 32 := 0#32
  let v759 : BitVec 1 := Scalar.cmpi .ne v758 c0_i32_369
  let v760 : BitVec 1 := Scalar.andi v757 v759
  let v746 : BitVec 32 := Scalar.divsi v745 c8_i32_364
  let c1_i32_370 : BitVec 32 := 1#32
  let v761 : BitVec 32 := Scalar.subi v746 c1_i32_370
  let v762 : BitVec 32 := Scalar.select v760 v761 v746
  let v763 : BitVec 32 := Scalar.subi v762 c0_i32_371
  let c1_i32_372 : BitVec 32 := 1#32
  let v765 : BitVec 32 := Scalar.divsi v763 c1_i32_372
  let v766 : BitVec 32 := Scalar.muli v765 c1_i32_372
  let v767 : BitVec 32 := Scalar.addi c0_i32_371 v766
  let c1_i32_374 : BitVec 32 := 1#32
  let arg19 : BitVec 32 := Scf.iv v767 c1_i32_374 k0_t71
  let c8_i32_444 : BitVec 32 := 8#32
  let v893 : BitVec 32 := Scalar.muli arg19 c8_i32_444
  let v894 : BitVec 32 := Scalar.addi v728 v893
  let v895 : BitVec 32 := Scalar.addi v894 c1_i32_445
  let v896 : Index := Scalar.indexCast v895
  ![v896.toNat]
def k0_off735 (v912 : BitVec 32) : Fin 2 → Nat :=
  let c3328_i32_451 : BitVec 32 := 3328#32
  let v913 : BitVec 32 := Scalar.subi v912 c3328_i32_451
  let v914 : Index := Scalar.indexCast v913
  let c0_452 : Index := 0#32
  ![v914.toNat, 0]

def k0_off736 (v912 : BitVec 32) : Fin 2 → Nat :=
  let c3328_i32_451 : BitVec 32 := 3328#32
  let v913 : BitVec 32 := Scalar.subi v912 c3328_i32_451
  let v917 : Index := Scalar.indexCast v913
  let c16_453 : Index := 16#32
  ![v917.toNat, 16]

def k0_chk258 (v912 : BitVec 32) : Prop :=
  (∀ a, (k0_off735 v912) a + S1x16.size a ≤ S257x32.size a) ∧
  (∀ a, (k0_off736 v912) a + S1x16.size a ≤ S257x32.size a)
theorem k0_off735_inb : ∀ (v912 : BitVec 32) (k0_hw258 : k0_chk258 v912), ∀ a, (k0_off735 v912) a + S1x16.size a ≤ S257x32.size a := fun v912 k0_hw258 => k0_hw258.1
theorem k0_off736_inb : ∀ (v912 : BitVec 32) (k0_hw258 : k0_chk258 v912), ∀ a, (k0_off736 v912) a + S1x16.size a ≤ S257x32.size a := fun v912 k0_hw258 => k0_hw258.2

def k0_off737 (v921 : BitVec 32) : Fin 2 → Nat :=
  let c3328_i32_454 : BitVec 32 := 3328#32
  let v922 : BitVec 32 := Scalar.subi v921 c3328_i32_454
  let v923 : Index := Scalar.indexCast v922
  let c0_455 : Index := 0#32
  ![v923.toNat, 0]

def k0_off738 (v921 : BitVec 32) : Fin 2 → Nat :=
  let c3328_i32_454 : BitVec 32 := 3328#32
  let v922 : BitVec 32 := Scalar.subi v921 c3328_i32_454
  let v926 : Index := Scalar.indexCast v922
  let c16_456 : Index := 16#32
  ![v926.toNat, 16]

def k0_chk259 (v921 : BitVec 32) : Prop :=
  (∀ a, (k0_off737 v921) a + S1x16.size a ≤ S257x32.size a) ∧
  (∀ a, (k0_off738 v921) a + S1x16.size a ≤ S257x32.size a)
theorem k0_off737_inb : ∀ (v921 : BitVec 32) (k0_hw259 : k0_chk259 v921), ∀ a, (k0_off737 v921) a + S1x16.size a ≤ S257x32.size a := fun v921 k0_hw259 => k0_hw259.1
theorem k0_off738_inb : ∀ (v921 : BitVec 32) (k0_hw259 : k0_chk259 v921), ∀ a, (k0_off738 v921) a + S1x16.size a ≤ S257x32.size a := fun v921 k0_hw259 => k0_hw259.2

def k0_off739 (v930 : BitVec 32) : Fin 2 → Nat :=
  let c3328_i32_457 : BitVec 32 := 3328#32
  let v931 : BitVec 32 := Scalar.subi v930 c3328_i32_457
  let v932 : Index := Scalar.indexCast v931
  let c0_458 : Index := 0#32
  ![v932.toNat, 0]

def k0_off740 (v930 : BitVec 32) : Fin 2 → Nat :=
  let c3328_i32_457 : BitVec 32 := 3328#32
  let v931 : BitVec 32 := Scalar.subi v930 c3328_i32_457
  let v935 : Index := Scalar.indexCast v931
  let c16_459 : Index := 16#32
  ![v935.toNat, 16]

def k0_chk260 (v930 : BitVec 32) : Prop :=
  (∀ a, (k0_off739 v930) a + S1x16.size a ≤ S257x32.size a) ∧
  (∀ a, (k0_off740 v930) a + S1x16.size a ≤ S257x32.size a)
theorem k0_off739_inb : ∀ (v930 : BitVec 32) (k0_hw260 : k0_chk260 v930), ∀ a, (k0_off739 v930) a + S1x16.size a ≤ S257x32.size a := fun v930 k0_hw260 => k0_hw260.1
theorem k0_off740_inb : ∀ (v930 : BitVec 32) (k0_hw260 : k0_chk260 v930), ∀ a, (k0_off740 v930) a + S1x16.size a ≤ S257x32.size a := fun v930 k0_hw260 => k0_hw260.2

def k0_off741 (v939 : BitVec 32) : Fin 2 → Nat :=
  let c3328_i32_460 : BitVec 32 := 3328#32
  let v940 : BitVec 32 := Scalar.subi v939 c3328_i32_460
  let v941 : Index := Scalar.indexCast v940
  let c0_461 : Index := 0#32
  ![v941.toNat, 0]

def k0_off742 (v939 : BitVec 32) : Fin 2 → Nat :=
  let c3328_i32_460 : BitVec 32 := 3328#32
  let v940 : BitVec 32 := Scalar.subi v939 c3328_i32_460
  let v944 : Index := Scalar.indexCast v940
  let c16_462 : Index := 16#32
  ![v944.toNat, 16]

def k0_chk261 (v939 : BitVec 32) : Prop :=
  (∀ a, (k0_off741 v939) a + S1x16.size a ≤ S257x32.size a) ∧
  (∀ a, (k0_off742 v939) a + S1x16.size a ≤ S257x32.size a)
theorem k0_off741_inb : ∀ (v939 : BitVec 32) (k0_hw261 : k0_chk261 v939), ∀ a, (k0_off741 v939) a + S1x16.size a ≤ S257x32.size a := fun v939 k0_hw261 => k0_hw261.1
theorem k0_off742_inb : ∀ (v939 : BitVec 32) (k0_hw261 : k0_chk261 v939), ∀ a, (k0_off742 v939) a + S1x16.size a ≤ S257x32.size a := fun v939 k0_hw261 => k0_hw261.2

def k0_off743 (v948 : BitVec 32) : Fin 2 → Nat :=
  let c3328_i32_463 : BitVec 32 := 3328#32
  let v949 : BitVec 32 := Scalar.subi v948 c3328_i32_463
  let v950 : Index := Scalar.indexCast v949
  let c0_464 : Index := 0#32
  ![v950.toNat, 0]

def k0_off744 (v948 : BitVec 32) : Fin 2 → Nat :=
  let c3328_i32_463 : BitVec 32 := 3328#32
  let v949 : BitVec 32 := Scalar.subi v948 c3328_i32_463
  let v953 : Index := Scalar.indexCast v949
  let c16_465 : Index := 16#32
  ![v953.toNat, 16]

def k0_chk262 (v948 : BitVec 32) : Prop :=
  (∀ a, (k0_off743 v948) a + S1x16.size a ≤ S257x32.size a) ∧
  (∀ a, (k0_off744 v948) a + S1x16.size a ≤ S257x32.size a)
theorem k0_off743_inb : ∀ (v948 : BitVec 32) (k0_hw262 : k0_chk262 v948), ∀ a, (k0_off743 v948) a + S1x16.size a ≤ S257x32.size a := fun v948 k0_hw262 => k0_hw262.1
theorem k0_off744_inb : ∀ (v948 : BitVec 32) (k0_hw262 : k0_chk262 v948), ∀ a, (k0_off744 v948) a + S1x16.size a ≤ S257x32.size a := fun v948 k0_hw262 => k0_hw262.2

def k0_off745 (v957 : BitVec 32) : Fin 2 → Nat :=
  let c3328_i32_466 : BitVec 32 := 3328#32
  let v958 : BitVec 32 := Scalar.subi v957 c3328_i32_466
  let v959 : Index := Scalar.indexCast v958
  let c0_467 : Index := 0#32
  ![v959.toNat, 0]

def k0_off746 (v957 : BitVec 32) : Fin 2 → Nat :=
  let c3328_i32_466 : BitVec 32 := 3328#32
  let v958 : BitVec 32 := Scalar.subi v957 c3328_i32_466
  let v962 : Index := Scalar.indexCast v958
  let c16_468 : Index := 16#32
  ![v962.toNat, 16]

def k0_chk263 (v957 : BitVec 32) : Prop :=
  (∀ a, (k0_off745 v957) a + S1x16.size a ≤ S257x32.size a) ∧
  (∀ a, (k0_off746 v957) a + S1x16.size a ≤ S257x32.size a)
theorem k0_off745_inb : ∀ (v957 : BitVec 32) (k0_hw263 : k0_chk263 v957), ∀ a, (k0_off745 v957) a + S1x16.size a ≤ S257x32.size a := fun v957 k0_hw263 => k0_hw263.1
theorem k0_off746_inb : ∀ (v957 : BitVec 32) (k0_hw263 : k0_chk263 v957), ∀ a, (k0_off746 v957) a + S1x16.size a ≤ S257x32.size a := fun v957 k0_hw263 => k0_hw263.2

def k0_off747 (v966 : BitVec 32) : Fin 2 → Nat :=
  let c3328_i32_469 : BitVec 32 := 3328#32
  let v967 : BitVec 32 := Scalar.subi v966 c3328_i32_469
  let v968 : Index := Scalar.indexCast v967
  let c0_470 : Index := 0#32
  ![v968.toNat, 0]

def k0_off748 (v966 : BitVec 32) : Fin 2 → Nat :=
  let c3328_i32_469 : BitVec 32 := 3328#32
  let v967 : BitVec 32 := Scalar.subi v966 c3328_i32_469
  let v971 : Index := Scalar.indexCast v967
  let c16_471 : Index := 16#32
  ![v971.toNat, 16]

def k0_chk264 (v966 : BitVec 32) : Prop :=
  (∀ a, (k0_off747 v966) a + S1x16.size a ≤ S257x32.size a) ∧
  (∀ a, (k0_off748 v966) a + S1x16.size a ≤ S257x32.size a)
theorem k0_off747_inb : ∀ (v966 : BitVec 32) (k0_hw264 : k0_chk264 v966), ∀ a, (k0_off747 v966) a + S1x16.size a ≤ S257x32.size a := fun v966 k0_hw264 => k0_hw264.1
theorem k0_off748_inb : ∀ (v966 : BitVec 32) (k0_hw264 : k0_chk264 v966), ∀ a, (k0_off748 v966) a + S1x16.size a ≤ S257x32.size a := fun v966 k0_hw264 => k0_hw264.2

def k0_off749 (v975 : BitVec 32) : Fin 2 → Nat :=
  let c3328_i32_472 : BitVec 32 := 3328#32
  let v976 : BitVec 32 := Scalar.subi v975 c3328_i32_472
  let v977 : Index := Scalar.indexCast v976
  let c0_473 : Index := 0#32
  ![v977.toNat, 0]

def k0_off750 (v975 : BitVec 32) : Fin 2 → Nat :=
  let c3328_i32_472 : BitVec 32 := 3328#32
  let v976 : BitVec 32 := Scalar.subi v975 c3328_i32_472
  let v980 : Index := Scalar.indexCast v976
  let c16_474 : Index := 16#32
  ![v980.toNat, 16]

def k0_chk265 (v975 : BitVec 32) : Prop :=
  (∀ a, (k0_off749 v975) a + S1x16.size a ≤ S257x32.size a) ∧
  (∀ a, (k0_off750 v975) a + S1x16.size a ≤ S257x32.size a)
theorem k0_off749_inb : ∀ (v975 : BitVec 32) (k0_hw265 : k0_chk265 v975), ∀ a, (k0_off749 v975) a + S1x16.size a ≤ S257x32.size a := fun v975 k0_hw265 => k0_hw265.1
theorem k0_off750_inb : ∀ (v975 : BitVec 32) (k0_hw265 : k0_chk265 v975), ∀ a, (k0_off750 v975) a + S1x16.size a ≤ S257x32.size a := fun v975 k0_hw265 => k0_hw265.2

def k0_off751 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_t71 : Fin (k0_t71_loop v52 v105 v158 v211 v264 v317 v370 v423 v476 v529 v582 v635 v688 v741).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c0_i32_371 : BitVec 32 := 0#32
  let c1_i32_361 : BitVec 32 := 1#32
  let v742 : BitVec 32 := Scalar.subi v741 c1_i32_361
  let c2049_i32_362 : BitVec 32 := 2049#32
  let v743 : BitVec 32 := Scalar.minsi v742 c2049_i32_362
  let v744 : BitVec 32 := Scalar.subi v743 v728
  let c0_i32_363 : BitVec 32 := 0#32
  let v745 : BitVec 32 := Scalar.maxsi v744 c0_i32_363
  let c0_i32_365 : BitVec 32 := 0#32
  let v747 : BitVec 1 := Scalar.cmpi .sgt v745 c0_i32_365
  let v748 : BitVec 32 := Scalar.extui v747
  let c0_i32_366 : BitVec 32 := 0#32
  let v749 : BitVec 1 := Scalar.cmpi .slt v745 c0_i32_366
  let v750 : BitVec 32 := Scalar.extui v749
  let v751 : BitVec 32 := Scalar.subi v748 v750
  let c8_i32_364 : BitVec 32 := 8#32
  let c0_i32_367 : BitVec 32 := 0#32
  let v752 : BitVec 1 := Scalar.cmpi .sgt c8_i32_364 c0_i32_367
  let v753 : BitVec 32 := Scalar.extui v752
  let c0_i32_368 : BitVec 32 := 0#32
  let v754 : BitVec 1 := Scalar.cmpi .slt c8_i32_364 c0_i32_368
  let v755 : BitVec 32 := Scalar.extui v754
  let v756 : BitVec 32 := Scalar.subi v753 v755
  let v757 : BitVec 1 := Scalar.cmpi .ne v751 v756
  let v758 : BitVec 32 := Scalar.remsi v745 c8_i32_364
  let c0_i32_369 : BitVec 32 := 0#32
  let v759 : BitVec 1 := Scalar.cmpi .ne v758 c0_i32_369
  let v760 : BitVec 1 := Scalar.andi v757 v759
  let v746 : BitVec 32 := Scalar.divsi v745 c8_i32_364
  let c1_i32_370 : BitVec 32 := 1#32
  let v761 : BitVec 32 := Scalar.subi v746 c1_i32_370
  let v762 : BitVec 32 := Scalar.select v760 v761 v746
  let v763 : BitVec 32 := Scalar.subi v762 c0_i32_371
  let c1_i32_372 : BitVec 32 := 1#32
  let v765 : BitVec 32 := Scalar.divsi v763 c1_i32_372
  let v766 : BitVec 32 := Scalar.muli v765 c1_i32_372
  let v767 : BitVec 32 := Scalar.addi c0_i32_371 v766
  let c1_i32_374 : BitVec 32 := 1#32
  let arg19 : BitVec 32 := Scf.iv v767 c1_i32_374 k0_t71
  let c8_i32_444 : BitVec 32 := 8#32
  let v893 : BitVec 32 := Scalar.muli arg19 c8_i32_444
  let v894 : BitVec 32 := Scalar.addi v728 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off752 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_t71 : Fin (k0_t71_loop v52 v105 v158 v211 v264 v317 v370 v423 v476 v529 v582 v635 v688 v741).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c0_i32_371 : BitVec 32 := 0#32
  let c1_i32_361 : BitVec 32 := 1#32
  let v742 : BitVec 32 := Scalar.subi v741 c1_i32_361
  let c2049_i32_362 : BitVec 32 := 2049#32
  let v743 : BitVec 32 := Scalar.minsi v742 c2049_i32_362
  let v744 : BitVec 32 := Scalar.subi v743 v728
  let c0_i32_363 : BitVec 32 := 0#32
  let v745 : BitVec 32 := Scalar.maxsi v744 c0_i32_363
  let c0_i32_365 : BitVec 32 := 0#32
  let v747 : BitVec 1 := Scalar.cmpi .sgt v745 c0_i32_365
  let v748 : BitVec 32 := Scalar.extui v747
  let c0_i32_366 : BitVec 32 := 0#32
  let v749 : BitVec 1 := Scalar.cmpi .slt v745 c0_i32_366
  let v750 : BitVec 32 := Scalar.extui v749
  let v751 : BitVec 32 := Scalar.subi v748 v750
  let c8_i32_364 : BitVec 32 := 8#32
  let c0_i32_367 : BitVec 32 := 0#32
  let v752 : BitVec 1 := Scalar.cmpi .sgt c8_i32_364 c0_i32_367
  let v753 : BitVec 32 := Scalar.extui v752
  let c0_i32_368 : BitVec 32 := 0#32
  let v754 : BitVec 1 := Scalar.cmpi .slt c8_i32_364 c0_i32_368
  let v755 : BitVec 32 := Scalar.extui v754
  let v756 : BitVec 32 := Scalar.subi v753 v755
  let v757 : BitVec 1 := Scalar.cmpi .ne v751 v756
  let v758 : BitVec 32 := Scalar.remsi v745 c8_i32_364
  let c0_i32_369 : BitVec 32 := 0#32
  let v759 : BitVec 1 := Scalar.cmpi .ne v758 c0_i32_369
  let v760 : BitVec 1 := Scalar.andi v757 v759
  let v746 : BitVec 32 := Scalar.divsi v745 c8_i32_364
  let c1_i32_370 : BitVec 32 := 1#32
  let v761 : BitVec 32 := Scalar.subi v746 c1_i32_370
  let v762 : BitVec 32 := Scalar.select v760 v761 v746
  let v763 : BitVec 32 := Scalar.subi v762 c0_i32_371
  let c1_i32_372 : BitVec 32 := 1#32
  let v765 : BitVec 32 := Scalar.divsi v763 c1_i32_372
  let v766 : BitVec 32 := Scalar.muli v765 c1_i32_372
  let v767 : BitVec 32 := Scalar.addi c0_i32_371 v766
  let c1_i32_374 : BitVec 32 := 1#32
  let arg19 : BitVec 32 := Scf.iv v767 c1_i32_374 k0_t71
  let c8_i32_444 : BitVec 32 := 8#32
  let v893 : BitVec 32 := Scalar.muli arg19 c8_i32_444
  let v894 : BitVec 32 := Scalar.addi v728 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t72_loop (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v744 : BitVec 32 := Scalar.subi v743 v728
  let c0_i32_363 : BitVec 32 := 0#32
  let v745 : BitVec 32 := Scalar.maxsi v744 c0_i32_363
  let c0_i32_365 : BitVec 32 := 0#32
  let v747 : BitVec 1 := Scalar.cmpi .sgt v745 c0_i32_365
  let v748 : BitVec 32 := Scalar.extui v747
  let c0_i32_366 : BitVec 32 := 0#32
  let v749 : BitVec 1 := Scalar.cmpi .slt v745 c0_i32_366
  let v750 : BitVec 32 := Scalar.extui v749
  let v751 : BitVec 32 := Scalar.subi v748 v750
  let c8_i32_364 : BitVec 32 := 8#32
  let c0_i32_367 : BitVec 32 := 0#32
  let v752 : BitVec 1 := Scalar.cmpi .sgt c8_i32_364 c0_i32_367
  let v753 : BitVec 32 := Scalar.extui v752
  let c0_i32_368 : BitVec 32 := 0#32
  let v754 : BitVec 1 := Scalar.cmpi .slt c8_i32_364 c0_i32_368
  let v755 : BitVec 32 := Scalar.extui v754
  let v756 : BitVec 32 := Scalar.subi v753 v755
  let v757 : BitVec 1 := Scalar.cmpi .ne v751 v756
  let v758 : BitVec 32 := Scalar.remsi v745 c8_i32_364
  let c0_i32_369 : BitVec 32 := 0#32
  let v759 : BitVec 1 := Scalar.cmpi .ne v758 c0_i32_369
  let v760 : BitVec 1 := Scalar.andi v757 v759
  let v746 : BitVec 32 := Scalar.divsi v745 c8_i32_364
  let c1_i32_370 : BitVec 32 := 1#32
  let v761 : BitVec 32 := Scalar.subi v746 c1_i32_370
  let v762 : BitVec 32 := Scalar.select v760 v761 v746
  let c8_i32_375 : BitVec 32 := 8#32
  let v770 : BitVec 32 := Scalar.muli v762 c8_i32_375
  let v771 : BitVec 32 := Scalar.addi v728 v770
  let v772 : BitVec 32 := Scalar.subi v743 v771
  let c1_i32_376 : BitVec 32 := 1#32
  let v774 : BitVec 32 := Scalar.divsi v772 c1_i32_376
  let v775 : BitVec 32 := Scalar.muli v774 c1_i32_376
  let v776 : BitVec 32 := Scalar.addi v771 v775
  let c1_i32_377 : BitVec 32 := 1#32
  ⟨v771, v776, c1_i32_377⟩
def k0_off753 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_t72 : Fin (k0_t72_loop v52 v105 v158 v211 v264 v317 v370 v423 v476 v529 v582 v635 v688 v741).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v744 : BitVec 32 := Scalar.subi v743 v728
  let c0_i32_363 : BitVec 32 := 0#32
  let v745 : BitVec 32 := Scalar.maxsi v744 c0_i32_363
  let c0_i32_365 : BitVec 32 := 0#32
  let v747 : BitVec 1 := Scalar.cmpi .sgt v745 c0_i32_365
  let v748 : BitVec 32 := Scalar.extui v747
  let c0_i32_366 : BitVec 32 := 0#32
  let v749 : BitVec 1 := Scalar.cmpi .slt v745 c0_i32_366
  let v750 : BitVec 32 := Scalar.extui v749
  let v751 : BitVec 32 := Scalar.subi v748 v750
  let c8_i32_364 : BitVec 32 := 8#32
  let c0_i32_367 : BitVec 32 := 0#32
  let v752 : BitVec 1 := Scalar.cmpi .sgt c8_i32_364 c0_i32_367
  let v753 : BitVec 32 := Scalar.extui v752
  let c0_i32_368 : BitVec 32 := 0#32
  let v754 : BitVec 1 := Scalar.cmpi .slt c8_i32_364 c0_i32_368
  let v755 : BitVec 32 := Scalar.extui v754
  let v756 : BitVec 32 := Scalar.subi v753 v755
  let v757 : BitVec 1 := Scalar.cmpi .ne v751 v756
  let v758 : BitVec 32 := Scalar.remsi v745 c8_i32_364
  let c0_i32_369 : BitVec 32 := 0#32
  let v759 : BitVec 1 := Scalar.cmpi .ne v758 c0_i32_369
  let v760 : BitVec 1 := Scalar.andi v757 v759
  let v746 : BitVec 32 := Scalar.divsi v745 c8_i32_364
  let c1_i32_370 : BitVec 32 := 1#32
  let v761 : BitVec 32 := Scalar.subi v746 c1_i32_370
  let v762 : BitVec 32 := Scalar.select v760 v761 v746
  let c8_i32_375 : BitVec 32 := 8#32
  let v770 : BitVec 32 := Scalar.muli v762 c8_i32_375
  let v771 : BitVec 32 := Scalar.addi v728 v770
  let c1_i32_377 : BitVec 32 := 1#32
  let arg19 : BitVec 32 := Scf.iv v771 c1_i32_377 k0_t72
  let c1_i32_444 : BitVec 32 := 1#32
  let v893 : BitVec 32 := Scalar.addi arg19 c1_i32_444
  let v894 : Index := Scalar.indexCast v893
  ![v894.toNat]
def k0_off754 (v897 : BitVec 32) : Fin 2 → Nat :=
  let c3328_i32_445 : BitVec 32 := 3328#32
  let v898 : BitVec 32 := Scalar.subi v897 c3328_i32_445
  let v912 : Index := Scalar.indexCast v898
  let c0_450 : Index := 0#32
  ![v912.toNat, 0]

def k0_off755 (v897 : BitVec 32) : Fin 2 → Nat :=
  let c3328_i32_445 : BitVec 32 := 3328#32
  let v898 : BitVec 32 := Scalar.subi v897 c3328_i32_445
  let v915 : Index := Scalar.indexCast v898
  let c16_451 : Index := 16#32
  ![v915.toNat, 16]

def k0_chk266 (v897 : BitVec 32) : Prop :=
  (∀ a, (k0_off754 v897) a + S1x16.size a ≤ S257x32.size a) ∧
  (∀ a, (k0_off755 v897) a + S1x16.size a ≤ S257x32.size a)
theorem k0_off754_inb : ∀ (v897 : BitVec 32) (k0_hw266 : k0_chk266 v897), ∀ a, (k0_off754 v897) a + S1x16.size a ≤ S257x32.size a := fun v897 k0_hw266 => k0_hw266.1
theorem k0_off755_inb : ∀ (v897 : BitVec 32) (k0_hw266 : k0_chk266 v897), ∀ a, (k0_off755 v897) a + S1x16.size a ≤ S257x32.size a := fun v897 k0_hw266 => k0_hw266.2

def k0_off756 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_t72 : Fin (k0_t72_loop v52 v105 v158 v211 v264 v317 v370 v423 v476 v529 v582 v635 v688 v741).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v744 : BitVec 32 := Scalar.subi v743 v728
  let c0_i32_363 : BitVec 32 := 0#32
  let v745 : BitVec 32 := Scalar.maxsi v744 c0_i32_363
  let c0_i32_365 : BitVec 32 := 0#32
  let v747 : BitVec 1 := Scalar.cmpi .sgt v745 c0_i32_365
  let v748 : BitVec 32 := Scalar.extui v747
  let c0_i32_366 : BitVec 32 := 0#32
  let v749 : BitVec 1 := Scalar.cmpi .slt v745 c0_i32_366
  let v750 : BitVec 32 := Scalar.extui v749
  let v751 : BitVec 32 := Scalar.subi v748 v750
  let c8_i32_364 : BitVec 32 := 8#32
  let c0_i32_367 : BitVec 32 := 0#32
  let v752 : BitVec 1 := Scalar.cmpi .sgt c8_i32_364 c0_i32_367
  let v753 : BitVec 32 := Scalar.extui v752
  let c0_i32_368 : BitVec 32 := 0#32
  let v754 : BitVec 1 := Scalar.cmpi .slt c8_i32_364 c0_i32_368
  let v755 : BitVec 32 := Scalar.extui v754
  let v756 : BitVec 32 := Scalar.subi v753 v755
  let v757 : BitVec 1 := Scalar.cmpi .ne v751 v756
  let v758 : BitVec 32 := Scalar.remsi v745 c8_i32_364
  let c0_i32_369 : BitVec 32 := 0#32
  let v759 : BitVec 1 := Scalar.cmpi .ne v758 c0_i32_369
  let v760 : BitVec 1 := Scalar.andi v757 v759
  let v746 : BitVec 32 := Scalar.divsi v745 c8_i32_364
  let c1_i32_370 : BitVec 32 := 1#32
  let v761 : BitVec 32 := Scalar.subi v746 c1_i32_370
  let v762 : BitVec 32 := Scalar.select v760 v761 v746
  let c8_i32_375 : BitVec 32 := 8#32
  let v770 : BitVec 32 := Scalar.muli v762 c8_i32_375
  let v771 : BitVec 32 := Scalar.addi v728 v770
  let c1_i32_377 : BitVec 32 := 1#32
  let arg19 : BitVec 32 := Scf.iv v771 c1_i32_377 k0_t72
  let c1_i32_452 : BitVec 32 := 1#32
  let v920 : BitVec 32 := Scalar.addi arg19 c1_i32_452
  let v921 : Index := Scalar.indexCast v920
  let c0_453 : Index := 0#32
  ![v921.toNat, 0]
def k0_off757 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_t72 : Fin (k0_t72_loop v52 v105 v158 v211 v264 v317 v370 v423 v476 v529 v582 v635 v688 v741).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v744 : BitVec 32 := Scalar.subi v743 v728
  let c0_i32_363 : BitVec 32 := 0#32
  let v745 : BitVec 32 := Scalar.maxsi v744 c0_i32_363
  let c0_i32_365 : BitVec 32 := 0#32
  let v747 : BitVec 1 := Scalar.cmpi .sgt v745 c0_i32_365
  let v748 : BitVec 32 := Scalar.extui v747
  let c0_i32_366 : BitVec 32 := 0#32
  let v749 : BitVec 1 := Scalar.cmpi .slt v745 c0_i32_366
  let v750 : BitVec 32 := Scalar.extui v749
  let v751 : BitVec 32 := Scalar.subi v748 v750
  let c8_i32_364 : BitVec 32 := 8#32
  let c0_i32_367 : BitVec 32 := 0#32
  let v752 : BitVec 1 := Scalar.cmpi .sgt c8_i32_364 c0_i32_367
  let v753 : BitVec 32 := Scalar.extui v752
  let c0_i32_368 : BitVec 32 := 0#32
  let v754 : BitVec 1 := Scalar.cmpi .slt c8_i32_364 c0_i32_368
  let v755 : BitVec 32 := Scalar.extui v754
  let v756 : BitVec 32 := Scalar.subi v753 v755
  let v757 : BitVec 1 := Scalar.cmpi .ne v751 v756
  let v758 : BitVec 32 := Scalar.remsi v745 c8_i32_364
  let c0_i32_369 : BitVec 32 := 0#32
  let v759 : BitVec 1 := Scalar.cmpi .ne v758 c0_i32_369
  let v760 : BitVec 1 := Scalar.andi v757 v759
  let v746 : BitVec 32 := Scalar.divsi v745 c8_i32_364
  let c1_i32_370 : BitVec 32 := 1#32
  let v761 : BitVec 32 := Scalar.subi v746 c1_i32_370
  let v762 : BitVec 32 := Scalar.select v760 v761 v746
  let c8_i32_375 : BitVec 32 := 8#32
  let v770 : BitVec 32 := Scalar.muli v762 c8_i32_375
  let v771 : BitVec 32 := Scalar.addi v728 v770
  let c1_i32_377 : BitVec 32 := 1#32
  let arg19 : BitVec 32 := Scf.iv v771 c1_i32_377 k0_t72
  let c1_i32_454 : BitVec 32 := 1#32
  let v925 : BitVec 32 := Scalar.addi arg19 c1_i32_454
  let v926 : Index := Scalar.indexCast v925
  let c16_455 : Index := 16#32
  ![v926.toNat, 16]
@[reducible] def k0_t73_loop (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v744 : BitVec 32 := Scalar.subi v743 v728
  let c0_i32_363 : BitVec 32 := 0#32
  let v745 : BitVec 32 := Scalar.maxsi v744 c0_i32_363
  let c0_i32_365 : BitVec 32 := 0#32
  let v747 : BitVec 1 := Scalar.cmpi .sgt v745 c0_i32_365
  let v748 : BitVec 32 := Scalar.extui v747
  let c0_i32_366 : BitVec 32 := 0#32
  let v749 : BitVec 1 := Scalar.cmpi .slt v745 c0_i32_366
  let v750 : BitVec 32 := Scalar.extui v749
  let v751 : BitVec 32 := Scalar.subi v748 v750
  let c8_i32_364 : BitVec 32 := 8#32
  let c0_i32_367 : BitVec 32 := 0#32
  let v752 : BitVec 1 := Scalar.cmpi .sgt c8_i32_364 c0_i32_367
  let v753 : BitVec 32 := Scalar.extui v752
  let c0_i32_368 : BitVec 32 := 0#32
  let v754 : BitVec 1 := Scalar.cmpi .slt c8_i32_364 c0_i32_368
  let v755 : BitVec 32 := Scalar.extui v754
  let v756 : BitVec 32 := Scalar.subi v753 v755
  let v757 : BitVec 1 := Scalar.cmpi .ne v751 v756
  let v758 : BitVec 32 := Scalar.remsi v745 c8_i32_364
  let c0_i32_369 : BitVec 32 := 0#32
  let v759 : BitVec 1 := Scalar.cmpi .ne v758 c0_i32_369
  let v760 : BitVec 1 := Scalar.andi v757 v759
  let v746 : BitVec 32 := Scalar.divsi v745 c8_i32_364
  let c1_i32_370 : BitVec 32 := 1#32
  let v761 : BitVec 32 := Scalar.subi v746 c1_i32_370
  let v762 : BitVec 32 := Scalar.select v760 v761 v746
  let c8_i32_375 : BitVec 32 := 8#32
  let v770 : BitVec 32 := Scalar.muli v762 c8_i32_375
  let v771 : BitVec 32 := Scalar.addi v728 v770
  let v772 : BitVec 32 := Scalar.subi v743 v771
  let c1_i32_376 : BitVec 32 := 1#32
  let v774 : BitVec 32 := Scalar.divsi v772 c1_i32_376
  let v775 : BitVec 32 := Scalar.muli v774 c1_i32_376
  let v776 : BitVec 32 := Scalar.addi v771 v775
  let v773 : BitVec 32 := Scalar.addi v771 v772
  let c1_i32_378 : BitVec 32 := 1#32
  ⟨v776, v773, c1_i32_378⟩
def k0_off758 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_t73 : Fin (k0_t73_loop v52 v105 v158 v211 v264 v317 v370 v423 v476 v529 v582 v635 v688 v741).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v744 : BitVec 32 := Scalar.subi v743 v728
  let c0_i32_363 : BitVec 32 := 0#32
  let v745 : BitVec 32 := Scalar.maxsi v744 c0_i32_363
  let c0_i32_365 : BitVec 32 := 0#32
  let v747 : BitVec 1 := Scalar.cmpi .sgt v745 c0_i32_365
  let v748 : BitVec 32 := Scalar.extui v747
  let c0_i32_366 : BitVec 32 := 0#32
  let v749 : BitVec 1 := Scalar.cmpi .slt v745 c0_i32_366
  let v750 : BitVec 32 := Scalar.extui v749
  let v751 : BitVec 32 := Scalar.subi v748 v750
  let c8_i32_364 : BitVec 32 := 8#32
  let c0_i32_367 : BitVec 32 := 0#32
  let v752 : BitVec 1 := Scalar.cmpi .sgt c8_i32_364 c0_i32_367
  let v753 : BitVec 32 := Scalar.extui v752
  let c0_i32_368 : BitVec 32 := 0#32
  let v754 : BitVec 1 := Scalar.cmpi .slt c8_i32_364 c0_i32_368
  let v755 : BitVec 32 := Scalar.extui v754
  let v756 : BitVec 32 := Scalar.subi v753 v755
  let v757 : BitVec 1 := Scalar.cmpi .ne v751 v756
  let v758 : BitVec 32 := Scalar.remsi v745 c8_i32_364
  let c0_i32_369 : BitVec 32 := 0#32
  let v759 : BitVec 1 := Scalar.cmpi .ne v758 c0_i32_369
  let v760 : BitVec 1 := Scalar.andi v757 v759
  let v746 : BitVec 32 := Scalar.divsi v745 c8_i32_364
  let c1_i32_370 : BitVec 32 := 1#32
  let v761 : BitVec 32 := Scalar.subi v746 c1_i32_370
  let v762 : BitVec 32 := Scalar.select v760 v761 v746
  let c8_i32_375 : BitVec 32 := 8#32
  let v770 : BitVec 32 := Scalar.muli v762 c8_i32_375
  let v771 : BitVec 32 := Scalar.addi v728 v770
  let v772 : BitVec 32 := Scalar.subi v743 v771
  let c1_i32_376 : BitVec 32 := 1#32
  let v774 : BitVec 32 := Scalar.divsi v772 c1_i32_376
  let v775 : BitVec 32 := Scalar.muli v774 c1_i32_376
  let v776 : BitVec 32 := Scalar.addi v771 v775
  let c1_i32_378 : BitVec 32 := 1#32
  let arg19 : BitVec 32 := Scf.iv v776 c1_i32_378 k0_t73
  let c1_i32_444 : BitVec 32 := 1#32
  let v893 : BitVec 32 := Scalar.addi arg19 c1_i32_444
  let v894 : Index := Scalar.indexCast v893
  ![v894.toNat]
def k0_off759 (v897 : BitVec 32) : Fin 2 → Nat :=
  let c3328_i32_445 : BitVec 32 := 3328#32
  let v898 : BitVec 32 := Scalar.subi v897 c3328_i32_445
  let v912 : Index := Scalar.indexCast v898
  let c0_450 : Index := 0#32
  ![v912.toNat, 0]

def k0_off760 (v897 : BitVec 32) : Fin 2 → Nat :=
  let c3328_i32_445 : BitVec 32 := 3328#32
  let v898 : BitVec 32 := Scalar.subi v897 c3328_i32_445
  let v915 : Index := Scalar.indexCast v898
  let c16_451 : Index := 16#32
  ![v915.toNat, 16]

def k0_chk267 (v897 : BitVec 32) : Prop :=
  (∀ a, (k0_off759 v897) a + S1x16.size a ≤ S257x32.size a) ∧
  (∀ a, (k0_off760 v897) a + S1x16.size a ≤ S257x32.size a)
theorem k0_off759_inb : ∀ (v897 : BitVec 32) (k0_hw267 : k0_chk267 v897), ∀ a, (k0_off759 v897) a + S1x16.size a ≤ S257x32.size a := fun v897 k0_hw267 => k0_hw267.1
theorem k0_off760_inb : ∀ (v897 : BitVec 32) (k0_hw267 : k0_chk267 v897), ∀ a, (k0_off760 v897) a + S1x16.size a ≤ S257x32.size a := fun v897 k0_hw267 => k0_hw267.2

def k0_off761 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_t73 : Fin (k0_t73_loop v52 v105 v158 v211 v264 v317 v370 v423 v476 v529 v582 v635 v688 v741).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v744 : BitVec 32 := Scalar.subi v743 v728
  let c0_i32_363 : BitVec 32 := 0#32
  let v745 : BitVec 32 := Scalar.maxsi v744 c0_i32_363
  let c0_i32_365 : BitVec 32 := 0#32
  let v747 : BitVec 1 := Scalar.cmpi .sgt v745 c0_i32_365
  let v748 : BitVec 32 := Scalar.extui v747
  let c0_i32_366 : BitVec 32 := 0#32
  let v749 : BitVec 1 := Scalar.cmpi .slt v745 c0_i32_366
  let v750 : BitVec 32 := Scalar.extui v749
  let v751 : BitVec 32 := Scalar.subi v748 v750
  let c8_i32_364 : BitVec 32 := 8#32
  let c0_i32_367 : BitVec 32 := 0#32
  let v752 : BitVec 1 := Scalar.cmpi .sgt c8_i32_364 c0_i32_367
  let v753 : BitVec 32 := Scalar.extui v752
  let c0_i32_368 : BitVec 32 := 0#32
  let v754 : BitVec 1 := Scalar.cmpi .slt c8_i32_364 c0_i32_368
  let v755 : BitVec 32 := Scalar.extui v754
  let v756 : BitVec 32 := Scalar.subi v753 v755
  let v757 : BitVec 1 := Scalar.cmpi .ne v751 v756
  let v758 : BitVec 32 := Scalar.remsi v745 c8_i32_364
  let c0_i32_369 : BitVec 32 := 0#32
  let v759 : BitVec 1 := Scalar.cmpi .ne v758 c0_i32_369
  let v760 : BitVec 1 := Scalar.andi v757 v759
  let v746 : BitVec 32 := Scalar.divsi v745 c8_i32_364
  let c1_i32_370 : BitVec 32 := 1#32
  let v761 : BitVec 32 := Scalar.subi v746 c1_i32_370
  let v762 : BitVec 32 := Scalar.select v760 v761 v746
  let c8_i32_375 : BitVec 32 := 8#32
  let v770 : BitVec 32 := Scalar.muli v762 c8_i32_375
  let v771 : BitVec 32 := Scalar.addi v728 v770
  let v772 : BitVec 32 := Scalar.subi v743 v771
  let c1_i32_376 : BitVec 32 := 1#32
  let v774 : BitVec 32 := Scalar.divsi v772 c1_i32_376
  let v775 : BitVec 32 := Scalar.muli v774 c1_i32_376
  let v776 : BitVec 32 := Scalar.addi v771 v775
  let c1_i32_378 : BitVec 32 := 1#32
  let arg19 : BitVec 32 := Scf.iv v776 c1_i32_378 k0_t73
  let c1_i32_452 : BitVec 32 := 1#32
  let v920 : BitVec 32 := Scalar.addi arg19 c1_i32_452
  let v921 : Index := Scalar.indexCast v920
  let c0_453 : Index := 0#32
  ![v921.toNat, 0]
def k0_off762 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_t73 : Fin (k0_t73_loop v52 v105 v158 v211 v264 v317 v370 v423 v476 v529 v582 v635 v688 v741).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v744 : BitVec 32 := Scalar.subi v743 v728
  let c0_i32_363 : BitVec 32 := 0#32
  let v745 : BitVec 32 := Scalar.maxsi v744 c0_i32_363
  let c0_i32_365 : BitVec 32 := 0#32
  let v747 : BitVec 1 := Scalar.cmpi .sgt v745 c0_i32_365
  let v748 : BitVec 32 := Scalar.extui v747
  let c0_i32_366 : BitVec 32 := 0#32
  let v749 : BitVec 1 := Scalar.cmpi .slt v745 c0_i32_366
  let v750 : BitVec 32 := Scalar.extui v749
  let v751 : BitVec 32 := Scalar.subi v748 v750
  let c8_i32_364 : BitVec 32 := 8#32
  let c0_i32_367 : BitVec 32 := 0#32
  let v752 : BitVec 1 := Scalar.cmpi .sgt c8_i32_364 c0_i32_367
  let v753 : BitVec 32 := Scalar.extui v752
  let c0_i32_368 : BitVec 32 := 0#32
  let v754 : BitVec 1 := Scalar.cmpi .slt c8_i32_364 c0_i32_368
  let v755 : BitVec 32 := Scalar.extui v754
  let v756 : BitVec 32 := Scalar.subi v753 v755
  let v757 : BitVec 1 := Scalar.cmpi .ne v751 v756
  let v758 : BitVec 32 := Scalar.remsi v745 c8_i32_364
  let c0_i32_369 : BitVec 32 := 0#32
  let v759 : BitVec 1 := Scalar.cmpi .ne v758 c0_i32_369
  let v760 : BitVec 1 := Scalar.andi v757 v759
  let v746 : BitVec 32 := Scalar.divsi v745 c8_i32_364
  let c1_i32_370 : BitVec 32 := 1#32
  let v761 : BitVec 32 := Scalar.subi v746 c1_i32_370
  let v762 : BitVec 32 := Scalar.select v760 v761 v746
  let c8_i32_375 : BitVec 32 := 8#32
  let v770 : BitVec 32 := Scalar.muli v762 c8_i32_375
  let v771 : BitVec 32 := Scalar.addi v728 v770
  let v772 : BitVec 32 := Scalar.subi v743 v771
  let c1_i32_376 : BitVec 32 := 1#32
  let v774 : BitVec 32 := Scalar.divsi v772 c1_i32_376
  let v775 : BitVec 32 := Scalar.muli v774 c1_i32_376
  let v776 : BitVec 32 := Scalar.addi v771 v775
  let c1_i32_378 : BitVec 32 := 1#32
  let arg19 : BitVec 32 := Scf.iv v776 c1_i32_378 k0_t73
  let c1_i32_454 : BitVec 32 := 1#32
  let v925 : BitVec 32 := Scalar.addi arg19 c1_i32_454
  let v926 : Index := Scalar.indexCast v925
  let c16_455 : Index := 16#32
  ![v926.toNat, 16]

def k0_chk249 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) : Prop :=
  ((k0_t70_loop v52 v105 v158 v211 v264 v317 v370 v423 v476 v529 v582 v635 v688 v741).OK) ∧
  (∀ k0_t70 : Fin (k0_t70_loop v52 v105 v158 v211 v264 v317 v370 v423 v476 v529 v582 v635 v688 v741).trips, ∀ (r : Fin 2), ∀ a, (k0_off715 v52 v105 v158 v211 v264 v317 v370 v423 v476 v529 v582 v635 v688 v741 k0_t70 (BitVec.ofNat 32 (1 + r.val))) a + S16.size a ≤ S4112.size a) ∧
  (∀ k0_t70 : Fin (k0_t70_loop v52 v105 v158 v211 v264 v317 v370 v423 v476 v529 v582 v635 v688 v741).trips, ∀ (r : Fin 8), ∀ a, (k0_off732 v52 v105 v158 v211 v264 v317 v370 v423 v476 v529 v582 v635 v688 v741 k0_t70 (BitVec.ofNat 32 r.val)) a + S1x16.size a ≤ S2050x32.size a) ∧
  (∀ k0_t70 : Fin (k0_t70_loop v52 v105 v158 v211 v264 v317 v370 v423 v476 v529 v582 v635 v688 v741).trips, ∀ (r : Fin 8), ∀ a, (k0_off733 v52 v105 v158 v211 v264 v317 v370 v423 v476 v529 v582 v635 v688 v741 k0_t70 (BitVec.ofNat 32 r.val)) a + S1x16.size a ≤ S2050x32.size a) ∧
  ((k0_t71_loop v52 v105 v158 v211 v264 v317 v370 v423 v476 v529 v582 v635 v688 v741).OK) ∧
  (∀ k0_t71 : Fin (k0_t71_loop v52 v105 v158 v211 v264 v317 v370 v423 v476 v529 v582 v635 v688 v741).trips, ∀ (r : Fin 2), ∀ a, (k0_off734 v52 v105 v158 v211 v264 v317 v370 v423 v476 v529 v582 v635 v688 v741 k0_t71 (BitVec.ofNat 32 (1 + r.val))) a + S16.size a ≤ S4112.size a) ∧
  (∀ k0_t71 : Fin (k0_t71_loop v52 v105 v158 v211 v264 v317 v370 v423 v476 v529 v582 v635 v688 v741).trips, ∀ (r : Fin 8), ∀ a, (k0_off751 v52 v105 v158 v211 v264 v317 v370 v423 v476 v529 v582 v635 v688 v741 k0_t71 (BitVec.ofNat 32 r.val)) a + S1x16.size a ≤ S2050x32.size a) ∧
  (∀ k0_t71 : Fin (k0_t71_loop v52 v105 v158 v211 v264 v317 v370 v423 v476 v529 v582 v635 v688 v741).trips, ∀ (r : Fin 8), ∀ a, (k0_off752 v52 v105 v158 v211 v264 v317 v370 v423 v476 v529 v582 v635 v688 v741 k0_t71 (BitVec.ofNat 32 r.val)) a + S1x16.size a ≤ S2050x32.size a) ∧
  ((k0_t72_loop v52 v105 v158 v211 v264 v317 v370 v423 v476 v529 v582 v635 v688 v741).OK) ∧
  (∀ k0_t72 : Fin (k0_t72_loop v52 v105 v158 v211 v264 v317 v370 v423 v476 v529 v582 v635 v688 v741).trips, ∀ a, (k0_off753 v52 v105 v158 v211 v264 v317 v370 v423 v476 v529 v582 v635 v688 v741 k0_t72) a + S16.size a ≤ S4112.size a) ∧
  (∀ k0_t72 : Fin (k0_t72_loop v52 v105 v158 v211 v264 v317 v370 v423 v476 v529 v582 v635 v688 v741).trips, ∀ a, (k0_off756 v52 v105 v158 v211 v264 v317 v370 v423 v476 v529 v582 v635 v688 v741 k0_t72) a + S1x16.size a ≤ S2050x32.size a) ∧
  (∀ k0_t72 : Fin (k0_t72_loop v52 v105 v158 v211 v264 v317 v370 v423 v476 v529 v582 v635 v688 v741).trips, ∀ a, (k0_off757 v52 v105 v158 v211 v264 v317 v370 v423 v476 v529 v582 v635 v688 v741 k0_t72) a + S1x16.size a ≤ S2050x32.size a) ∧
  ((k0_t73_loop v52 v105 v158 v211 v264 v317 v370 v423 v476 v529 v582 v635 v688 v741).OK) ∧
  (∀ k0_t73 : Fin (k0_t73_loop v52 v105 v158 v211 v264 v317 v370 v423 v476 v529 v582 v635 v688 v741).trips, ∀ a, (k0_off758 v52 v105 v158 v211 v264 v317 v370 v423 v476 v529 v582 v635 v688 v741 k0_t73) a + S16.size a ≤ S4112.size a) ∧
  (∀ k0_t73 : Fin (k0_t73_loop v52 v105 v158 v211 v264 v317 v370 v423 v476 v529 v582 v635 v688 v741).trips, ∀ a, (k0_off761 v52 v105 v158 v211 v264 v317 v370 v423 v476 v529 v582 v635 v688 v741 k0_t73) a + S1x16.size a ≤ S2050x32.size a) ∧
  (∀ k0_t73 : Fin (k0_t73_loop v52 v105 v158 v211 v264 v317 v370 v423 v476 v529 v582 v635 v688 v741).trips, ∀ a, (k0_off762 v52 v105 v158 v211 v264 v317 v370 v423 v476 v529 v582 v635 v688 v741 k0_t73) a + S1x16.size a ≤ S2050x32.size a)
theorem k0_t70_ok : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_hw249 : k0_chk249 v52 v105 v158 v211 v264 v317 v370 v423 v476 v529 v582 v635 v688 v741), (k0_t70_loop v52 v105 v158 v211 v264 v317 v370 v423 v476 v529 v582 v635 v688 v741).OK := fun v52 v105 v158 v211 v264 v317 v370 v423 v476 v529 v582 v635 v688 v741 k0_hw249 => k0_hw249.1
theorem k0_off715_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_hw249 : k0_chk249 v52 v105 v158 v211 v264 v317 v370 v423 v476 v529 v582 v635 v688 v741) (k0_t70 : Fin (k0_t70_loop v52 v105 v158 v211 v264 v317 v370 v423 v476 v529 v582 v635 v688 v741).trips), ∀ (r : Fin 2), ∀ a, (k0_off715 v52 v105 v158 v211 v264 v317 v370 v423 v476 v529 v582 v635 v688 v741 k0_t70 (BitVec.ofNat 32 (1 + r.val))) a + S16.size a ≤ S4112.size a := fun v52 v105 v158 v211 v264 v317 v370 v423 v476 v529 v582 v635 v688 v741 k0_hw249 k0_t70 r => k0_hw249.2.1 k0_t70 r
theorem k0_off732_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_hw249 : k0_chk249 v52 v105 v158 v211 v264 v317 v370 v423 v476 v529 v582 v635 v688 v741) (k0_t70 : Fin (k0_t70_loop v52 v105 v158 v211 v264 v317 v370 v423 v476 v529 v582 v635 v688 v741).trips), ∀ (r : Fin 8), ∀ a, (k0_off732 v52 v105 v158 v211 v264 v317 v370 v423 v476 v529 v582 v635 v688 v741 k0_t70 (BitVec.ofNat 32 r.val)) a + S1x16.size a ≤ S2050x32.size a := fun v52 v105 v158 v211 v264 v317 v370 v423 v476 v529 v582 v635 v688 v741 k0_hw249 k0_t70 r => k0_hw249.2.2.1 k0_t70 r
theorem k0_off733_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_hw249 : k0_chk249 v52 v105 v158 v211 v264 v317 v370 v423 v476 v529 v582 v635 v688 v741) (k0_t70 : Fin (k0_t70_loop v52 v105 v158 v211 v264 v317 v370 v423 v476 v529 v582 v635 v688 v741).trips), ∀ (r : Fin 8), ∀ a, (k0_off733 v52 v105 v158 v211 v264 v317 v370 v423 v476 v529 v582 v635 v688 v741 k0_t70 (BitVec.ofNat 32 r.val)) a + S1x16.size a ≤ S2050x32.size a := fun v52 v105 v158 v211 v264 v317 v370 v423 v476 v529 v582 v635 v688 v741 k0_hw249 k0_t70 r => k0_hw249.2.2.2.1 k0_t70 r
theorem k0_t71_ok : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_hw249 : k0_chk249 v52 v105 v158 v211 v264 v317 v370 v423 v476 v529 v582 v635 v688 v741), (k0_t71_loop v52 v105 v158 v211 v264 v317 v370 v423 v476 v529 v582 v635 v688 v741).OK := fun v52 v105 v158 v211 v264 v317 v370 v423 v476 v529 v582 v635 v688 v741 k0_hw249 => k0_hw249.2.2.2.2.1
theorem k0_off734_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_hw249 : k0_chk249 v52 v105 v158 v211 v264 v317 v370 v423 v476 v529 v582 v635 v688 v741) (k0_t71 : Fin (k0_t71_loop v52 v105 v158 v211 v264 v317 v370 v423 v476 v529 v582 v635 v688 v741).trips), ∀ (r : Fin 2), ∀ a, (k0_off734 v52 v105 v158 v211 v264 v317 v370 v423 v476 v529 v582 v635 v688 v741 k0_t71 (BitVec.ofNat 32 (1 + r.val))) a + S16.size a ≤ S4112.size a := fun v52 v105 v158 v211 v264 v317 v370 v423 v476 v529 v582 v635 v688 v741 k0_hw249 k0_t71 r => k0_hw249.2.2.2.2.2.1 k0_t71 r
theorem k0_off751_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_hw249 : k0_chk249 v52 v105 v158 v211 v264 v317 v370 v423 v476 v529 v582 v635 v688 v741) (k0_t71 : Fin (k0_t71_loop v52 v105 v158 v211 v264 v317 v370 v423 v476 v529 v582 v635 v688 v741).trips), ∀ (r : Fin 8), ∀ a, (k0_off751 v52 v105 v158 v211 v264 v317 v370 v423 v476 v529 v582 v635 v688 v741 k0_t71 (BitVec.ofNat 32 r.val)) a + S1x16.size a ≤ S2050x32.size a := fun v52 v105 v158 v211 v264 v317 v370 v423 v476 v529 v582 v635 v688 v741 k0_hw249 k0_t71 r => k0_hw249.2.2.2.2.2.2.1 k0_t71 r
theorem k0_off752_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_hw249 : k0_chk249 v52 v105 v158 v211 v264 v317 v370 v423 v476 v529 v582 v635 v688 v741) (k0_t71 : Fin (k0_t71_loop v52 v105 v158 v211 v264 v317 v370 v423 v476 v529 v582 v635 v688 v741).trips), ∀ (r : Fin 8), ∀ a, (k0_off752 v52 v105 v158 v211 v264 v317 v370 v423 v476 v529 v582 v635 v688 v741 k0_t71 (BitVec.ofNat 32 r.val)) a + S1x16.size a ≤ S2050x32.size a := fun v52 v105 v158 v211 v264 v317 v370 v423 v476 v529 v582 v635 v688 v741 k0_hw249 k0_t71 r => k0_hw249.2.2.2.2.2.2.2.1 k0_t71 r
theorem k0_t72_ok : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_hw249 : k0_chk249 v52 v105 v158 v211 v264 v317 v370 v423 v476 v529 v582 v635 v688 v741), (k0_t72_loop v52 v105 v158 v211 v264 v317 v370 v423 v476 v529 v582 v635 v688 v741).OK := fun v52 v105 v158 v211 v264 v317 v370 v423 v476 v529 v582 v635 v688 v741 k0_hw249 => k0_hw249.2.2.2.2.2.2.2.2.1
theorem k0_off753_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_hw249 : k0_chk249 v52 v105 v158 v211 v264 v317 v370 v423 v476 v529 v582 v635 v688 v741) (k0_t72 : Fin (k0_t72_loop v52 v105 v158 v211 v264 v317 v370 v423 v476 v529 v582 v635 v688 v741).trips), ∀ a, (k0_off753 v52 v105 v158 v211 v264 v317 v370 v423 v476 v529 v582 v635 v688 v741 k0_t72) a + S16.size a ≤ S4112.size a := fun v52 v105 v158 v211 v264 v317 v370 v423 v476 v529 v582 v635 v688 v741 k0_hw249 k0_t72 => k0_hw249.2.2.2.2.2.2.2.2.2.1 k0_t72
theorem k0_off756_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_hw249 : k0_chk249 v52 v105 v158 v211 v264 v317 v370 v423 v476 v529 v582 v635 v688 v741) (k0_t72 : Fin (k0_t72_loop v52 v105 v158 v211 v264 v317 v370 v423 v476 v529 v582 v635 v688 v741).trips), ∀ a, (k0_off756 v52 v105 v158 v211 v264 v317 v370 v423 v476 v529 v582 v635 v688 v741 k0_t72) a + S1x16.size a ≤ S2050x32.size a := fun v52 v105 v158 v211 v264 v317 v370 v423 v476 v529 v582 v635 v688 v741 k0_hw249 k0_t72 => k0_hw249.2.2.2.2.2.2.2.2.2.2.1 k0_t72
theorem k0_off757_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_hw249 : k0_chk249 v52 v105 v158 v211 v264 v317 v370 v423 v476 v529 v582 v635 v688 v741) (k0_t72 : Fin (k0_t72_loop v52 v105 v158 v211 v264 v317 v370 v423 v476 v529 v582 v635 v688 v741).trips), ∀ a, (k0_off757 v52 v105 v158 v211 v264 v317 v370 v423 v476 v529 v582 v635 v688 v741 k0_t72) a + S1x16.size a ≤ S2050x32.size a := fun v52 v105 v158 v211 v264 v317 v370 v423 v476 v529 v582 v635 v688 v741 k0_hw249 k0_t72 => k0_hw249.2.2.2.2.2.2.2.2.2.2.2.1 k0_t72
theorem k0_t73_ok : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_hw249 : k0_chk249 v52 v105 v158 v211 v264 v317 v370 v423 v476 v529 v582 v635 v688 v741), (k0_t73_loop v52 v105 v158 v211 v264 v317 v370 v423 v476 v529 v582 v635 v688 v741).OK := fun v52 v105 v158 v211 v264 v317 v370 v423 v476 v529 v582 v635 v688 v741 k0_hw249 => k0_hw249.2.2.2.2.2.2.2.2.2.2.2.2.1
theorem k0_off758_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_hw249 : k0_chk249 v52 v105 v158 v211 v264 v317 v370 v423 v476 v529 v582 v635 v688 v741) (k0_t73 : Fin (k0_t73_loop v52 v105 v158 v211 v264 v317 v370 v423 v476 v529 v582 v635 v688 v741).trips), ∀ a, (k0_off758 v52 v105 v158 v211 v264 v317 v370 v423 v476 v529 v582 v635 v688 v741 k0_t73) a + S16.size a ≤ S4112.size a := fun v52 v105 v158 v211 v264 v317 v370 v423 v476 v529 v582 v635 v688 v741 k0_hw249 k0_t73 => k0_hw249.2.2.2.2.2.2.2.2.2.2.2.2.2.1 k0_t73
theorem k0_off761_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_hw249 : k0_chk249 v52 v105 v158 v211 v264 v317 v370 v423 v476 v529 v582 v635 v688 v741) (k0_t73 : Fin (k0_t73_loop v52 v105 v158 v211 v264 v317 v370 v423 v476 v529 v582 v635 v688 v741).trips), ∀ a, (k0_off761 v52 v105 v158 v211 v264 v317 v370 v423 v476 v529 v582 v635 v688 v741 k0_t73) a + S1x16.size a ≤ S2050x32.size a := fun v52 v105 v158 v211 v264 v317 v370 v423 v476 v529 v582 v635 v688 v741 k0_hw249 k0_t73 => k0_hw249.2.2.2.2.2.2.2.2.2.2.2.2.2.2.1 k0_t73
theorem k0_off762_inb : ∀ (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (k0_hw249 : k0_chk249 v52 v105 v158 v211 v264 v317 v370 v423 v476 v529 v582 v635 v688 v741) (k0_t73 : Fin (k0_t73_loop v52 v105 v158 v211 v264 v317 v370 v423 v476 v529 v582 v635 v688 v741).trips), ∀ a, (k0_off762 v52 v105 v158 v211 v264 v317 v370 v423 v476 v529 v582 v635 v688 v741 k0_t73) a + S1x16.size a ≤ S2050x32.size a := fun v52 v105 v158 v211 v264 v317 v370 v423 v476 v529 v582 v635 v688 v741 k0_hw249 k0_t73 => k0_hw249.2.2.2.2.2.2.2.2.2.2.2.2.2.2.2 k0_t73

def k0_off763 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c3584_i32_379 : BitVec 32 := 3584#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 3584, v3.toNat]
@[reducible] def k0_t74_loop : Scf.Loop 32 :=
  let c0_i32_381 : BitVec 32 := 0#32
  let c16_i32_382 : BitVec 32 := 16#32
  let v786 : BitVec 32 := Scalar.addi c0_i32_381 c16_i32_382
  let c1_i32_383 : BitVec 32 := 1#32
  ⟨c0_i32_381, v786, c1_i32_383⟩
def k0_off764 (k0_t74 : Fin k0_t74_loop.trips) (c0_i32_445 : BitVec 32) : Fin 2 → Nat :=
  let c0_i32_381 : BitVec 32 := 0#32
  let c1_i32_383 : BitVec 32 := 1#32
  let arg19 : BitVec 32 := Scf.iv c0_i32_381 c1_i32_383 k0_t74
  let c16_i32_444 : BitVec 32 := 16#32
  let v893 : BitVec 32 := Scalar.muli arg19 c16_i32_444
  let v894 : BitVec 32 := Scalar.addi v893 c0_i32_445
  let v895 : Index := Scalar.indexCast v894
  let c0_446 : Index := 0#32
  ![v895.toNat, 0]
def k0_off765 (k0_t74 : Fin k0_t74_loop.trips) (c0_i32_447 : BitVec 32) : Fin 2 → Nat :=
  let c0_i32_381 : BitVec 32 := 0#32
  let c1_i32_383 : BitVec 32 := 1#32
  let arg19 : BitVec 32 := Scf.iv c0_i32_381 c1_i32_383 k0_t74
  let c16_i32_444 : BitVec 32 := 16#32
  let v893 : BitVec 32 := Scalar.muli arg19 c16_i32_444
  let v898 : BitVec 32 := Scalar.addi v893 c0_i32_447
  let v899 : Index := Scalar.indexCast v898
  let c16_448 : Index := 16#32
  ![v899.toNat, 16]
def k0_off766 (k0_t74 : Fin k0_t74_loop.trips) (c0_i32_449 : BitVec 32) : Fin 2 → Nat :=
  let c0_i32_381 : BitVec 32 := 0#32
  let c1_i32_383 : BitVec 32 := 1#32
  let arg19 : BitVec 32 := Scf.iv c0_i32_381 c1_i32_383 k0_t74
  let c16_i32_444 : BitVec 32 := 16#32
  let v893 : BitVec 32 := Scalar.muli arg19 c16_i32_444
  let v902 : BitVec 32 := Scalar.addi v893 c0_i32_449
  let c1_i32_450 : BitVec 32 := 1#32
  let v903 : BitVec 32 := Scalar.addi v902 c1_i32_450
  let v904 : Index := Scalar.indexCast v903
  let c0_451 : Index := 0#32
  ![v904.toNat, 0]
def k0_off767 (k0_t74 : Fin k0_t74_loop.trips) (c0_i32_452 : BitVec 32) : Fin 2 → Nat :=
  let c0_i32_381 : BitVec 32 := 0#32
  let c1_i32_383 : BitVec 32 := 1#32
  let arg19 : BitVec 32 := Scf.iv c0_i32_381 c1_i32_383 k0_t74
  let c16_i32_444 : BitVec 32 := 16#32
  let v893 : BitVec 32 := Scalar.muli arg19 c16_i32_444
  let v906 : BitVec 32 := Scalar.addi v893 c0_i32_452
  let c1_i32_453 : BitVec 32 := 1#32
  let v907 : BitVec 32 := Scalar.addi v906 c1_i32_453
  let v908 : Index := Scalar.indexCast v907
  let c16_454 : Index := 16#32
  ![v908.toNat, 16]
@[reducible] def k0_t75_loop (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) : Scf.Loop 32 :=
  let c0_i32_395 : BitVec 32 := 0#32
  let c1_i32_385 : BitVec 32 := 1#32
  let v791 : BitVec 32 := Scalar.subi v790 c1_i32_385
  let c2049_i32_386 : BitVec 32 := 2049#32
  let v792 : BitVec 32 := Scalar.minsi v791 c2049_i32_386
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let v793 : BitVec 32 := Scalar.subi v792 v781
  let c0_i32_387 : BitVec 32 := 0#32
  let v794 : BitVec 32 := Scalar.maxsi v793 c0_i32_387
  let c0_i32_389 : BitVec 32 := 0#32
  let v796 : BitVec 1 := Scalar.cmpi .sgt v794 c0_i32_389
  let v797 : BitVec 32 := Scalar.extui v796
  let c0_i32_390 : BitVec 32 := 0#32
  let v798 : BitVec 1 := Scalar.cmpi .slt v794 c0_i32_390
  let v799 : BitVec 32 := Scalar.extui v798
  let v800 : BitVec 32 := Scalar.subi v797 v799
  let c8_i32_388 : BitVec 32 := 8#32
  let c0_i32_391 : BitVec 32 := 0#32
  let v801 : BitVec 1 := Scalar.cmpi .sgt c8_i32_388 c0_i32_391
  let v802 : BitVec 32 := Scalar.extui v801
  let c0_i32_392 : BitVec 32 := 0#32
  let v803 : BitVec 1 := Scalar.cmpi .slt c8_i32_388 c0_i32_392
  let v804 : BitVec 32 := Scalar.extui v803
  let v805 : BitVec 32 := Scalar.subi v802 v804
  let v806 : BitVec 1 := Scalar.cmpi .ne v800 v805
  let v807 : BitVec 32 := Scalar.remsi v794 c8_i32_388
  let c0_i32_393 : BitVec 32 := 0#32
  let v808 : BitVec 1 := Scalar.cmpi .ne v807 c0_i32_393
  let v809 : BitVec 1 := Scalar.andi v806 v808
  let v795 : BitVec 32 := Scalar.divsi v794 c8_i32_388
  let c1_i32_394 : BitVec 32 := 1#32
  let v810 : BitVec 32 := Scalar.subi v795 c1_i32_394
  let v811 : BitVec 32 := Scalar.select v809 v810 v795
  let v812 : BitVec 32 := Scalar.subi v811 c0_i32_395
  let c1_i32_396 : BitVec 32 := 1#32
  let v814 : BitVec 32 := Scalar.divsi v812 c1_i32_396
  let v815 : BitVec 32 := Scalar.muli v814 c1_i32_396
  let v816 : BitVec 32 := Scalar.addi c0_i32_395 v815
  let c1_i32_397 : BitVec 32 := 1#32
  ⟨c0_i32_395, v816, c1_i32_397⟩

def k0_off768 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t75 : Fin (k0_t75_loop v52 v105 v158 v211 v264 v317 v370 v423 v476 v529 v582 v635 v688 v741 v790).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c0_i32_395 : BitVec 32 := 0#32
  let c1_i32_397 : BitVec 32 := 1#32
  let arg19 : BitVec 32 := Scf.iv c0_i32_395 c1_i32_397 k0_t75
  let c8_i32_444 : BitVec 32 := 8#32
  let v893 : BitVec 32 := Scalar.muli arg19 c8_i32_444
  let v894 : BitVec 32 := Scalar.addi v781 v893
  let v895 : BitVec 32 := Scalar.addi v894 c1_i32_445
  let v896 : Index := Scalar.indexCast v895
  ![v896.toNat]
def k0_off769 (v912 : BitVec 32) : Fin 2 → Nat :=
  let c3584_i32_451 : BitVec 32 := 3584#32
  let v913 : BitVec 32 := Scalar.subi v912 c3584_i32_451
  let v914 : Index := Scalar.indexCast v913
  let c0_452 : Index := 0#32
  ![v914.toNat, 0]

def k0_off770 (v912 : BitVec 32) : Fin 2 → Nat :=
  let c3584_i32_451 : BitVec 32 := 3584#32
  let v913 : BitVec 32 := Scalar.subi v912 c3584_i32_451
  let v917 : Index := Scalar.indexCast v913
  let c16_453 : Index := 16#32
  ![v917.toNat, 16]

def k0_chk269 (v912 : BitVec 32) : Prop :=
  (∀ a, (k0_off769 v912) a + S1x16.size a ≤ S257x32.size a) ∧
  (∀ a, (k0_off770 v912) a + S1x16.size a ≤ S257x32.size a)
theorem k0_off769_inb : ∀ (v912 : BitVec 32) (k0_hw269 : k0_chk269 v912), ∀ a, (k0_off769 v912) a + S1x16.size a ≤ S257x32.size a := fun v912 k0_hw269 => k0_hw269.1
theorem k0_off770_inb : ∀ (v912 : BitVec 32) (k0_hw269 : k0_chk269 v912), ∀ a, (k0_off770 v912) a + S1x16.size a ≤ S257x32.size a := fun v912 k0_hw269 => k0_hw269.2

def k0_off771 (v921 : BitVec 32) : Fin 2 → Nat :=
  let c3584_i32_454 : BitVec 32 := 3584#32
  let v922 : BitVec 32 := Scalar.subi v921 c3584_i32_454
  let v923 : Index := Scalar.indexCast v922
  let c0_455 : Index := 0#32
  ![v923.toNat, 0]

def k0_off772 (v921 : BitVec 32) : Fin 2 → Nat :=
  let c3584_i32_454 : BitVec 32 := 3584#32
  let v922 : BitVec 32 := Scalar.subi v921 c3584_i32_454
  let v926 : Index := Scalar.indexCast v922
  let c16_456 : Index := 16#32
  ![v926.toNat, 16]

def k0_chk270 (v921 : BitVec 32) : Prop :=
  (∀ a, (k0_off771 v921) a + S1x16.size a ≤ S257x32.size a) ∧
  (∀ a, (k0_off772 v921) a + S1x16.size a ≤ S257x32.size a)
theorem k0_off771_inb : ∀ (v921 : BitVec 32) (k0_hw270 : k0_chk270 v921), ∀ a, (k0_off771 v921) a + S1x16.size a ≤ S257x32.size a := fun v921 k0_hw270 => k0_hw270.1
theorem k0_off772_inb : ∀ (v921 : BitVec 32) (k0_hw270 : k0_chk270 v921), ∀ a, (k0_off772 v921) a + S1x16.size a ≤ S257x32.size a := fun v921 k0_hw270 => k0_hw270.2

def k0_off773 (v930 : BitVec 32) : Fin 2 → Nat :=
  let c3584_i32_457 : BitVec 32 := 3584#32
  let v931 : BitVec 32 := Scalar.subi v930 c3584_i32_457
  let v932 : Index := Scalar.indexCast v931
  let c0_458 : Index := 0#32
  ![v932.toNat, 0]

def k0_off774 (v930 : BitVec 32) : Fin 2 → Nat :=
  let c3584_i32_457 : BitVec 32 := 3584#32
  let v931 : BitVec 32 := Scalar.subi v930 c3584_i32_457
  let v935 : Index := Scalar.indexCast v931
  let c16_459 : Index := 16#32
  ![v935.toNat, 16]

def k0_chk271 (v930 : BitVec 32) : Prop :=
  (∀ a, (k0_off773 v930) a + S1x16.size a ≤ S257x32.size a) ∧
  (∀ a, (k0_off774 v930) a + S1x16.size a ≤ S257x32.size a)
theorem k0_off773_inb : ∀ (v930 : BitVec 32) (k0_hw271 : k0_chk271 v930), ∀ a, (k0_off773 v930) a + S1x16.size a ≤ S257x32.size a := fun v930 k0_hw271 => k0_hw271.1
theorem k0_off774_inb : ∀ (v930 : BitVec 32) (k0_hw271 : k0_chk271 v930), ∀ a, (k0_off774 v930) a + S1x16.size a ≤ S257x32.size a := fun v930 k0_hw271 => k0_hw271.2

def k0_off775 (v939 : BitVec 32) : Fin 2 → Nat :=
  let c3584_i32_460 : BitVec 32 := 3584#32
  let v940 : BitVec 32 := Scalar.subi v939 c3584_i32_460
  let v941 : Index := Scalar.indexCast v940
  let c0_461 : Index := 0#32
  ![v941.toNat, 0]

def k0_off776 (v939 : BitVec 32) : Fin 2 → Nat :=
  let c3584_i32_460 : BitVec 32 := 3584#32
  let v940 : BitVec 32 := Scalar.subi v939 c3584_i32_460
  let v944 : Index := Scalar.indexCast v940
  let c16_462 : Index := 16#32
  ![v944.toNat, 16]

def k0_chk272 (v939 : BitVec 32) : Prop :=
  (∀ a, (k0_off775 v939) a + S1x16.size a ≤ S257x32.size a) ∧
  (∀ a, (k0_off776 v939) a + S1x16.size a ≤ S257x32.size a)
theorem k0_off775_inb : ∀ (v939 : BitVec 32) (k0_hw272 : k0_chk272 v939), ∀ a, (k0_off775 v939) a + S1x16.size a ≤ S257x32.size a := fun v939 k0_hw272 => k0_hw272.1
theorem k0_off776_inb : ∀ (v939 : BitVec 32) (k0_hw272 : k0_chk272 v939), ∀ a, (k0_off776 v939) a + S1x16.size a ≤ S257x32.size a := fun v939 k0_hw272 => k0_hw272.2

def k0_off777 (v948 : BitVec 32) : Fin 2 → Nat :=
  let c3584_i32_463 : BitVec 32 := 3584#32
  let v949 : BitVec 32 := Scalar.subi v948 c3584_i32_463
  let v950 : Index := Scalar.indexCast v949
  let c0_464 : Index := 0#32
  ![v950.toNat, 0]

def k0_off778 (v948 : BitVec 32) : Fin 2 → Nat :=
  let c3584_i32_463 : BitVec 32 := 3584#32
  let v949 : BitVec 32 := Scalar.subi v948 c3584_i32_463
  let v953 : Index := Scalar.indexCast v949
  let c16_465 : Index := 16#32
  ![v953.toNat, 16]

def k0_chk273 (v948 : BitVec 32) : Prop :=
  (∀ a, (k0_off777 v948) a + S1x16.size a ≤ S257x32.size a) ∧
  (∀ a, (k0_off778 v948) a + S1x16.size a ≤ S257x32.size a)
theorem k0_off777_inb : ∀ (v948 : BitVec 32) (k0_hw273 : k0_chk273 v948), ∀ a, (k0_off777 v948) a + S1x16.size a ≤ S257x32.size a := fun v948 k0_hw273 => k0_hw273.1
theorem k0_off778_inb : ∀ (v948 : BitVec 32) (k0_hw273 : k0_chk273 v948), ∀ a, (k0_off778 v948) a + S1x16.size a ≤ S257x32.size a := fun v948 k0_hw273 => k0_hw273.2

def k0_off779 (v957 : BitVec 32) : Fin 2 → Nat :=
  let c3584_i32_466 : BitVec 32 := 3584#32
  let v958 : BitVec 32 := Scalar.subi v957 c3584_i32_466
  let v959 : Index := Scalar.indexCast v958
  let c0_467 : Index := 0#32
  ![v959.toNat, 0]

def k0_off780 (v957 : BitVec 32) : Fin 2 → Nat :=
  let c3584_i32_466 : BitVec 32 := 3584#32
  let v958 : BitVec 32 := Scalar.subi v957 c3584_i32_466
  let v962 : Index := Scalar.indexCast v958
  let c16_468 : Index := 16#32
  ![v962.toNat, 16]

def k0_chk274 (v957 : BitVec 32) : Prop :=
  (∀ a, (k0_off779 v957) a + S1x16.size a ≤ S257x32.size a) ∧
  (∀ a, (k0_off780 v957) a + S1x16.size a ≤ S257x32.size a)
theorem k0_off779_inb : ∀ (v957 : BitVec 32) (k0_hw274 : k0_chk274 v957), ∀ a, (k0_off779 v957) a + S1x16.size a ≤ S257x32.size a := fun v957 k0_hw274 => k0_hw274.1
theorem k0_off780_inb : ∀ (v957 : BitVec 32) (k0_hw274 : k0_chk274 v957), ∀ a, (k0_off780 v957) a + S1x16.size a ≤ S257x32.size a := fun v957 k0_hw274 => k0_hw274.2

def k0_off781 (v966 : BitVec 32) : Fin 2 → Nat :=
  let c3584_i32_469 : BitVec 32 := 3584#32
  let v967 : BitVec 32 := Scalar.subi v966 c3584_i32_469
  let v968 : Index := Scalar.indexCast v967
  let c0_470 : Index := 0#32
  ![v968.toNat, 0]

def k0_off782 (v966 : BitVec 32) : Fin 2 → Nat :=
  let c3584_i32_469 : BitVec 32 := 3584#32
  let v967 : BitVec 32 := Scalar.subi v966 c3584_i32_469
  let v971 : Index := Scalar.indexCast v967
  let c16_471 : Index := 16#32
  ![v971.toNat, 16]

def k0_chk275 (v966 : BitVec 32) : Prop :=
  (∀ a, (k0_off781 v966) a + S1x16.size a ≤ S257x32.size a) ∧
  (∀ a, (k0_off782 v966) a + S1x16.size a ≤ S257x32.size a)
theorem k0_off781_inb : ∀ (v966 : BitVec 32) (k0_hw275 : k0_chk275 v966), ∀ a, (k0_off781 v966) a + S1x16.size a ≤ S257x32.size a := fun v966 k0_hw275 => k0_hw275.1
theorem k0_off782_inb : ∀ (v966 : BitVec 32) (k0_hw275 : k0_chk275 v966), ∀ a, (k0_off782 v966) a + S1x16.size a ≤ S257x32.size a := fun v966 k0_hw275 => k0_hw275.2

def k0_off783 (v975 : BitVec 32) : Fin 2 → Nat :=
  let c3584_i32_472 : BitVec 32 := 3584#32
  let v976 : BitVec 32 := Scalar.subi v975 c3584_i32_472
  let v977 : Index := Scalar.indexCast v976
  let c0_473 : Index := 0#32
  ![v977.toNat, 0]

def k0_off784 (v975 : BitVec 32) : Fin 2 → Nat :=
  let c3584_i32_472 : BitVec 32 := 3584#32
  let v976 : BitVec 32 := Scalar.subi v975 c3584_i32_472
  let v980 : Index := Scalar.indexCast v976
  let c16_474 : Index := 16#32
  ![v980.toNat, 16]

def k0_chk276 (v975 : BitVec 32) : Prop :=
  (∀ a, (k0_off783 v975) a + S1x16.size a ≤ S257x32.size a) ∧
  (∀ a, (k0_off784 v975) a + S1x16.size a ≤ S257x32.size a)
theorem k0_off783_inb : ∀ (v975 : BitVec 32) (k0_hw276 : k0_chk276 v975), ∀ a, (k0_off783 v975) a + S1x16.size a ≤ S257x32.size a := fun v975 k0_hw276 => k0_hw276.1
theorem k0_off784_inb : ∀ (v975 : BitVec 32) (k0_hw276 : k0_chk276 v975), ∀ a, (k0_off784 v975) a + S1x16.size a ≤ S257x32.size a := fun v975 k0_hw276 => k0_hw276.2

def k0_off785 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t75 : Fin (k0_t75_loop v52 v105 v158 v211 v264 v317 v370 v423 v476 v529 v582 v635 v688 v741 v790).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c0_i32_395 : BitVec 32 := 0#32
  let c1_i32_397 : BitVec 32 := 1#32
  let arg19 : BitVec 32 := Scf.iv c0_i32_395 c1_i32_397 k0_t75
  let c8_i32_444 : BitVec 32 := 8#32
  let v893 : BitVec 32 := Scalar.muli arg19 c8_i32_444
  let v894 : BitVec 32 := Scalar.addi v781 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off786 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t75 : Fin (k0_t75_loop v52 v105 v158 v211 v264 v317 v370 v423 v476 v529 v582 v635 v688 v741 v790).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c0_i32_395 : BitVec 32 := 0#32
  let c1_i32_397 : BitVec 32 := 1#32
  let arg19 : BitVec 32 := Scf.iv c0_i32_395 c1_i32_397 k0_t75
  let c8_i32_444 : BitVec 32 := 8#32
  let v893 : BitVec 32 := Scalar.muli arg19 c8_i32_444
  let v894 : BitVec 32 := Scalar.addi v781 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t76_loop (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) : Scf.Loop 32 :=
  let c0_i32_395 : BitVec 32 := 0#32
  let c1_i32_385 : BitVec 32 := 1#32
  let v791 : BitVec 32 := Scalar.subi v790 c1_i32_385
  let c2049_i32_386 : BitVec 32 := 2049#32
  let v792 : BitVec 32 := Scalar.minsi v791 c2049_i32_386
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let v793 : BitVec 32 := Scalar.subi v792 v781
  let c0_i32_387 : BitVec 32 := 0#32
  let v794 : BitVec 32 := Scalar.maxsi v793 c0_i32_387
  let c0_i32_389 : BitVec 32 := 0#32
  let v796 : BitVec 1 := Scalar.cmpi .sgt v794 c0_i32_389
  let v797 : BitVec 32 := Scalar.extui v796
  let c0_i32_390 : BitVec 32 := 0#32
  let v798 : BitVec 1 := Scalar.cmpi .slt v794 c0_i32_390
  let v799 : BitVec 32 := Scalar.extui v798
  let v800 : BitVec 32 := Scalar.subi v797 v799
  let c8_i32_388 : BitVec 32 := 8#32
  let c0_i32_391 : BitVec 32 := 0#32
  let v801 : BitVec 1 := Scalar.cmpi .sgt c8_i32_388 c0_i32_391
  let v802 : BitVec 32 := Scalar.extui v801
  let c0_i32_392 : BitVec 32 := 0#32
  let v803 : BitVec 1 := Scalar.cmpi .slt c8_i32_388 c0_i32_392
  let v804 : BitVec 32 := Scalar.extui v803
  let v805 : BitVec 32 := Scalar.subi v802 v804
  let v806 : BitVec 1 := Scalar.cmpi .ne v800 v805
  let v807 : BitVec 32 := Scalar.remsi v794 c8_i32_388
  let c0_i32_393 : BitVec 32 := 0#32
  let v808 : BitVec 1 := Scalar.cmpi .ne v807 c0_i32_393
  let v809 : BitVec 1 := Scalar.andi v806 v808
  let v795 : BitVec 32 := Scalar.divsi v794 c8_i32_388
  let c1_i32_394 : BitVec 32 := 1#32
  let v810 : BitVec 32 := Scalar.subi v795 c1_i32_394
  let v811 : BitVec 32 := Scalar.select v809 v810 v795
  let v812 : BitVec 32 := Scalar.subi v811 c0_i32_395
  let c1_i32_396 : BitVec 32 := 1#32
  let v814 : BitVec 32 := Scalar.divsi v812 c1_i32_396
  let v815 : BitVec 32 := Scalar.muli v814 c1_i32_396
  let v816 : BitVec 32 := Scalar.addi c0_i32_395 v815
  let v813 : BitVec 32 := Scalar.addi c0_i32_395 v812
  let c1_i32_398 : BitVec 32 := 1#32
  ⟨v816, v813, c1_i32_398⟩
def k0_off787 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t76 : Fin (k0_t76_loop v52 v105 v158 v211 v264 v317 v370 v423 v476 v529 v582 v635 v688 v741 v790).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c0_i32_395 : BitVec 32 := 0#32
  let c1_i32_385 : BitVec 32 := 1#32
  let v791 : BitVec 32 := Scalar.subi v790 c1_i32_385
  let c2049_i32_386 : BitVec 32 := 2049#32
  let v792 : BitVec 32 := Scalar.minsi v791 c2049_i32_386
  let v793 : BitVec 32 := Scalar.subi v792 v781
  let c0_i32_387 : BitVec 32 := 0#32
  let v794 : BitVec 32 := Scalar.maxsi v793 c0_i32_387
  let c0_i32_389 : BitVec 32 := 0#32
  let v796 : BitVec 1 := Scalar.cmpi .sgt v794 c0_i32_389
  let v797 : BitVec 32 := Scalar.extui v796
  let c0_i32_390 : BitVec 32 := 0#32
  let v798 : BitVec 1 := Scalar.cmpi .slt v794 c0_i32_390
  let v799 : BitVec 32 := Scalar.extui v798
  let v800 : BitVec 32 := Scalar.subi v797 v799
  let c8_i32_388 : BitVec 32 := 8#32
  let c0_i32_391 : BitVec 32 := 0#32
  let v801 : BitVec 1 := Scalar.cmpi .sgt c8_i32_388 c0_i32_391
  let v802 : BitVec 32 := Scalar.extui v801
  let c0_i32_392 : BitVec 32 := 0#32
  let v803 : BitVec 1 := Scalar.cmpi .slt c8_i32_388 c0_i32_392
  let v804 : BitVec 32 := Scalar.extui v803
  let v805 : BitVec 32 := Scalar.subi v802 v804
  let v806 : BitVec 1 := Scalar.cmpi .ne v800 v805
  let v807 : BitVec 32 := Scalar.remsi v794 c8_i32_388
  let c0_i32_393 : BitVec 32 := 0#32
  let v808 : BitVec 1 := Scalar.cmpi .ne v807 c0_i32_393
  let v809 : BitVec 1 := Scalar.andi v806 v808
  let v795 : BitVec 32 := Scalar.divsi v794 c8_i32_388
  let c1_i32_394 : BitVec 32 := 1#32
  let v810 : BitVec 32 := Scalar.subi v795 c1_i32_394
  let v811 : BitVec 32 := Scalar.select v809 v810 v795
  let v812 : BitVec 32 := Scalar.subi v811 c0_i32_395
  let c1_i32_396 : BitVec 32 := 1#32
  let v814 : BitVec 32 := Scalar.divsi v812 c1_i32_396
  let v815 : BitVec 32 := Scalar.muli v814 c1_i32_396
  let v816 : BitVec 32 := Scalar.addi c0_i32_395 v815
  let c1_i32_398 : BitVec 32 := 1#32
  let arg19 : BitVec 32 := Scf.iv v816 c1_i32_398 k0_t76
  let c8_i32_444 : BitVec 32 := 8#32
  let v893 : BitVec 32 := Scalar.muli arg19 c8_i32_444
  let v894 : BitVec 32 := Scalar.addi v781 v893
  let v895 : BitVec 32 := Scalar.addi v894 c1_i32_445
  let v896 : Index := Scalar.indexCast v895
  ![v896.toNat]
def k0_off788 (v912 : BitVec 32) : Fin 2 → Nat :=
  let c3584_i32_451 : BitVec 32 := 3584#32
  let v913 : BitVec 32 := Scalar.subi v912 c3584_i32_451
  let v914 : Index := Scalar.indexCast v913
  let c0_452 : Index := 0#32
  ![v914.toNat, 0]

def k0_off789 (v912 : BitVec 32) : Fin 2 → Nat :=
  let c3584_i32_451 : BitVec 32 := 3584#32
  let v913 : BitVec 32 := Scalar.subi v912 c3584_i32_451
  let v917 : Index := Scalar.indexCast v913
  let c16_453 : Index := 16#32
  ![v917.toNat, 16]

def k0_chk277 (v912 : BitVec 32) : Prop :=
  (∀ a, (k0_off788 v912) a + S1x16.size a ≤ S257x32.size a) ∧
  (∀ a, (k0_off789 v912) a + S1x16.size a ≤ S257x32.size a)
theorem k0_off788_inb : ∀ (v912 : BitVec 32) (k0_hw277 : k0_chk277 v912), ∀ a, (k0_off788 v912) a + S1x16.size a ≤ S257x32.size a := fun v912 k0_hw277 => k0_hw277.1
theorem k0_off789_inb : ∀ (v912 : BitVec 32) (k0_hw277 : k0_chk277 v912), ∀ a, (k0_off789 v912) a + S1x16.size a ≤ S257x32.size a := fun v912 k0_hw277 => k0_hw277.2

def k0_off790 (v921 : BitVec 32) : Fin 2 → Nat :=
  let c3584_i32_454 : BitVec 32 := 3584#32
  let v922 : BitVec 32 := Scalar.subi v921 c3584_i32_454
  let v923 : Index := Scalar.indexCast v922
  let c0_455 : Index := 0#32
  ![v923.toNat, 0]

def k0_off791 (v921 : BitVec 32) : Fin 2 → Nat :=
  let c3584_i32_454 : BitVec 32 := 3584#32
  let v922 : BitVec 32 := Scalar.subi v921 c3584_i32_454
  let v926 : Index := Scalar.indexCast v922
  let c16_456 : Index := 16#32
  ![v926.toNat, 16]

def k0_chk278 (v921 : BitVec 32) : Prop :=
  (∀ a, (k0_off790 v921) a + S1x16.size a ≤ S257x32.size a) ∧
  (∀ a, (k0_off791 v921) a + S1x16.size a ≤ S257x32.size a)
theorem k0_off790_inb : ∀ (v921 : BitVec 32) (k0_hw278 : k0_chk278 v921), ∀ a, (k0_off790 v921) a + S1x16.size a ≤ S257x32.size a := fun v921 k0_hw278 => k0_hw278.1
theorem k0_off791_inb : ∀ (v921 : BitVec 32) (k0_hw278 : k0_chk278 v921), ∀ a, (k0_off791 v921) a + S1x16.size a ≤ S257x32.size a := fun v921 k0_hw278 => k0_hw278.2

def k0_off792 (v930 : BitVec 32) : Fin 2 → Nat :=
  let c3584_i32_457 : BitVec 32 := 3584#32
  let v931 : BitVec 32 := Scalar.subi v930 c3584_i32_457
  let v932 : Index := Scalar.indexCast v931
  let c0_458 : Index := 0#32
  ![v932.toNat, 0]

def k0_off793 (v930 : BitVec 32) : Fin 2 → Nat :=
  let c3584_i32_457 : BitVec 32 := 3584#32
  let v931 : BitVec 32 := Scalar.subi v930 c3584_i32_457
  let v935 : Index := Scalar.indexCast v931
  let c16_459 : Index := 16#32
  ![v935.toNat, 16]

def k0_chk279 (v930 : BitVec 32) : Prop :=
  (∀ a, (k0_off792 v930) a + S1x16.size a ≤ S257x32.size a) ∧
  (∀ a, (k0_off793 v930) a + S1x16.size a ≤ S257x32.size a)
theorem k0_off792_inb : ∀ (v930 : BitVec 32) (k0_hw279 : k0_chk279 v930), ∀ a, (k0_off792 v930) a + S1x16.size a ≤ S257x32.size a := fun v930 k0_hw279 => k0_hw279.1
theorem k0_off793_inb : ∀ (v930 : BitVec 32) (k0_hw279 : k0_chk279 v930), ∀ a, (k0_off793 v930) a + S1x16.size a ≤ S257x32.size a := fun v930 k0_hw279 => k0_hw279.2

def k0_off794 (v939 : BitVec 32) : Fin 2 → Nat :=
  let c3584_i32_460 : BitVec 32 := 3584#32
  let v940 : BitVec 32 := Scalar.subi v939 c3584_i32_460
  let v941 : Index := Scalar.indexCast v940
  let c0_461 : Index := 0#32
  ![v941.toNat, 0]

def k0_off795 (v939 : BitVec 32) : Fin 2 → Nat :=
  let c3584_i32_460 : BitVec 32 := 3584#32
  let v940 : BitVec 32 := Scalar.subi v939 c3584_i32_460
  let v944 : Index := Scalar.indexCast v940
  let c16_462 : Index := 16#32
  ![v944.toNat, 16]

def k0_chk280 (v939 : BitVec 32) : Prop :=
  (∀ a, (k0_off794 v939) a + S1x16.size a ≤ S257x32.size a) ∧
  (∀ a, (k0_off795 v939) a + S1x16.size a ≤ S257x32.size a)
theorem k0_off794_inb : ∀ (v939 : BitVec 32) (k0_hw280 : k0_chk280 v939), ∀ a, (k0_off794 v939) a + S1x16.size a ≤ S257x32.size a := fun v939 k0_hw280 => k0_hw280.1
theorem k0_off795_inb : ∀ (v939 : BitVec 32) (k0_hw280 : k0_chk280 v939), ∀ a, (k0_off795 v939) a + S1x16.size a ≤ S257x32.size a := fun v939 k0_hw280 => k0_hw280.2

def k0_off796 (v948 : BitVec 32) : Fin 2 → Nat :=
  let c3584_i32_463 : BitVec 32 := 3584#32
  let v949 : BitVec 32 := Scalar.subi v948 c3584_i32_463
  let v950 : Index := Scalar.indexCast v949
  let c0_464 : Index := 0#32
  ![v950.toNat, 0]

def k0_off797 (v948 : BitVec 32) : Fin 2 → Nat :=
  let c3584_i32_463 : BitVec 32 := 3584#32
  let v949 : BitVec 32 := Scalar.subi v948 c3584_i32_463
  let v953 : Index := Scalar.indexCast v949
  let c16_465 : Index := 16#32
  ![v953.toNat, 16]

def k0_chk281 (v948 : BitVec 32) : Prop :=
  (∀ a, (k0_off796 v948) a + S1x16.size a ≤ S257x32.size a) ∧
  (∀ a, (k0_off797 v948) a + S1x16.size a ≤ S257x32.size a)
theorem k0_off796_inb : ∀ (v948 : BitVec 32) (k0_hw281 : k0_chk281 v948), ∀ a, (k0_off796 v948) a + S1x16.size a ≤ S257x32.size a := fun v948 k0_hw281 => k0_hw281.1
theorem k0_off797_inb : ∀ (v948 : BitVec 32) (k0_hw281 : k0_chk281 v948), ∀ a, (k0_off797 v948) a + S1x16.size a ≤ S257x32.size a := fun v948 k0_hw281 => k0_hw281.2

def k0_off798 (v957 : BitVec 32) : Fin 2 → Nat :=
  let c3584_i32_466 : BitVec 32 := 3584#32
  let v958 : BitVec 32 := Scalar.subi v957 c3584_i32_466
  let v959 : Index := Scalar.indexCast v958
  let c0_467 : Index := 0#32
  ![v959.toNat, 0]

def k0_off799 (v957 : BitVec 32) : Fin 2 → Nat :=
  let c3584_i32_466 : BitVec 32 := 3584#32
  let v958 : BitVec 32 := Scalar.subi v957 c3584_i32_466
  let v962 : Index := Scalar.indexCast v958
  let c16_468 : Index := 16#32
  ![v962.toNat, 16]

def k0_chk282 (v957 : BitVec 32) : Prop :=
  (∀ a, (k0_off798 v957) a + S1x16.size a ≤ S257x32.size a) ∧
  (∀ a, (k0_off799 v957) a + S1x16.size a ≤ S257x32.size a)
theorem k0_off798_inb : ∀ (v957 : BitVec 32) (k0_hw282 : k0_chk282 v957), ∀ a, (k0_off798 v957) a + S1x16.size a ≤ S257x32.size a := fun v957 k0_hw282 => k0_hw282.1
theorem k0_off799_inb : ∀ (v957 : BitVec 32) (k0_hw282 : k0_chk282 v957), ∀ a, (k0_off799 v957) a + S1x16.size a ≤ S257x32.size a := fun v957 k0_hw282 => k0_hw282.2

def k0_off800 (v966 : BitVec 32) : Fin 2 → Nat :=
  let c3584_i32_469 : BitVec 32 := 3584#32
  let v967 : BitVec 32 := Scalar.subi v966 c3584_i32_469
  let v968 : Index := Scalar.indexCast v967
  let c0_470 : Index := 0#32
  ![v968.toNat, 0]

def k0_off801 (v966 : BitVec 32) : Fin 2 → Nat :=
  let c3584_i32_469 : BitVec 32 := 3584#32
  let v967 : BitVec 32 := Scalar.subi v966 c3584_i32_469
  let v971 : Index := Scalar.indexCast v967
  let c16_471 : Index := 16#32
  ![v971.toNat, 16]

def k0_chk283 (v966 : BitVec 32) : Prop :=
  (∀ a, (k0_off800 v966) a + S1x16.size a ≤ S257x32.size a) ∧
  (∀ a, (k0_off801 v966) a + S1x16.size a ≤ S257x32.size a)
theorem k0_off800_inb : ∀ (v966 : BitVec 32) (k0_hw283 : k0_chk283 v966), ∀ a, (k0_off800 v966) a + S1x16.size a ≤ S257x32.size a := fun v966 k0_hw283 => k0_hw283.1
theorem k0_off801_inb : ∀ (v966 : BitVec 32) (k0_hw283 : k0_chk283 v966), ∀ a, (k0_off801 v966) a + S1x16.size a ≤ S257x32.size a := fun v966 k0_hw283 => k0_hw283.2

def k0_off802 (v975 : BitVec 32) : Fin 2 → Nat :=
  let c3584_i32_472 : BitVec 32 := 3584#32
  let v976 : BitVec 32 := Scalar.subi v975 c3584_i32_472
  let v977 : Index := Scalar.indexCast v976
  let c0_473 : Index := 0#32
  ![v977.toNat, 0]

def k0_off803 (v975 : BitVec 32) : Fin 2 → Nat :=
  let c3584_i32_472 : BitVec 32 := 3584#32
  let v976 : BitVec 32 := Scalar.subi v975 c3584_i32_472
  let v980 : Index := Scalar.indexCast v976
  let c16_474 : Index := 16#32
  ![v980.toNat, 16]

def k0_chk284 (v975 : BitVec 32) : Prop :=
  (∀ a, (k0_off802 v975) a + S1x16.size a ≤ S257x32.size a) ∧
  (∀ a, (k0_off803 v975) a + S1x16.size a ≤ S257x32.size a)
theorem k0_off802_inb : ∀ (v975 : BitVec 32) (k0_hw284 : k0_chk284 v975), ∀ a, (k0_off802 v975) a + S1x16.size a ≤ S257x32.size a := fun v975 k0_hw284 => k0_hw284.1
theorem k0_off803_inb : ∀ (v975 : BitVec 32) (k0_hw284 : k0_chk284 v975), ∀ a, (k0_off803 v975) a + S1x16.size a ≤ S257x32.size a := fun v975 k0_hw284 => k0_hw284.2

def k0_off804 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t76 : Fin (k0_t76_loop v52 v105 v158 v211 v264 v317 v370 v423 v476 v529 v582 v635 v688 v741 v790).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c0_i32_395 : BitVec 32 := 0#32
  let c1_i32_385 : BitVec 32 := 1#32
  let v791 : BitVec 32 := Scalar.subi v790 c1_i32_385
  let c2049_i32_386 : BitVec 32 := 2049#32
  let v792 : BitVec 32 := Scalar.minsi v791 c2049_i32_386
  let v793 : BitVec 32 := Scalar.subi v792 v781
  let c0_i32_387 : BitVec 32 := 0#32
  let v794 : BitVec 32 := Scalar.maxsi v793 c0_i32_387
  let c0_i32_389 : BitVec 32 := 0#32
  let v796 : BitVec 1 := Scalar.cmpi .sgt v794 c0_i32_389
  let v797 : BitVec 32 := Scalar.extui v796
  let c0_i32_390 : BitVec 32 := 0#32
  let v798 : BitVec 1 := Scalar.cmpi .slt v794 c0_i32_390
  let v799 : BitVec 32 := Scalar.extui v798
  let v800 : BitVec 32 := Scalar.subi v797 v799
  let c8_i32_388 : BitVec 32 := 8#32
  let c0_i32_391 : BitVec 32 := 0#32
  let v801 : BitVec 1 := Scalar.cmpi .sgt c8_i32_388 c0_i32_391
  let v802 : BitVec 32 := Scalar.extui v801
  let c0_i32_392 : BitVec 32 := 0#32
  let v803 : BitVec 1 := Scalar.cmpi .slt c8_i32_388 c0_i32_392
  let v804 : BitVec 32 := Scalar.extui v803
  let v805 : BitVec 32 := Scalar.subi v802 v804
  let v806 : BitVec 1 := Scalar.cmpi .ne v800 v805
  let v807 : BitVec 32 := Scalar.remsi v794 c8_i32_388
  let c0_i32_393 : BitVec 32 := 0#32
  let v808 : BitVec 1 := Scalar.cmpi .ne v807 c0_i32_393
  let v809 : BitVec 1 := Scalar.andi v806 v808
  let v795 : BitVec 32 := Scalar.divsi v794 c8_i32_388
  let c1_i32_394 : BitVec 32 := 1#32
  let v810 : BitVec 32 := Scalar.subi v795 c1_i32_394
  let v811 : BitVec 32 := Scalar.select v809 v810 v795
  let v812 : BitVec 32 := Scalar.subi v811 c0_i32_395
  let c1_i32_396 : BitVec 32 := 1#32
  let v814 : BitVec 32 := Scalar.divsi v812 c1_i32_396
  let v815 : BitVec 32 := Scalar.muli v814 c1_i32_396
  let v816 : BitVec 32 := Scalar.addi c0_i32_395 v815
  let c1_i32_398 : BitVec 32 := 1#32
  let arg19 : BitVec 32 := Scf.iv v816 c1_i32_398 k0_t76
  let c8_i32_444 : BitVec 32 := 8#32
  let v893 : BitVec 32 := Scalar.muli arg19 c8_i32_444
  let v894 : BitVec 32 := Scalar.addi v781 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off805 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t76 : Fin (k0_t76_loop v52 v105 v158 v211 v264 v317 v370 v423 v476 v529 v582 v635 v688 v741 v790).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c0_i32_395 : BitVec 32 := 0#32
  let c1_i32_385 : BitVec 32 := 1#32
  let v791 : BitVec 32 := Scalar.subi v790 c1_i32_385
  let c2049_i32_386 : BitVec 32 := 2049#32
  let v792 : BitVec 32 := Scalar.minsi v791 c2049_i32_386
  let v793 : BitVec 32 := Scalar.subi v792 v781
  let c0_i32_387 : BitVec 32 := 0#32
  let v794 : BitVec 32 := Scalar.maxsi v793 c0_i32_387
  let c0_i32_389 : BitVec 32 := 0#32
  let v796 : BitVec 1 := Scalar.cmpi .sgt v794 c0_i32_389
  let v797 : BitVec 32 := Scalar.extui v796
  let c0_i32_390 : BitVec 32 := 0#32
  let v798 : BitVec 1 := Scalar.cmpi .slt v794 c0_i32_390
  let v799 : BitVec 32 := Scalar.extui v798
  let v800 : BitVec 32 := Scalar.subi v797 v799
  let c8_i32_388 : BitVec 32 := 8#32
  let c0_i32_391 : BitVec 32 := 0#32
  let v801 : BitVec 1 := Scalar.cmpi .sgt c8_i32_388 c0_i32_391
  let v802 : BitVec 32 := Scalar.extui v801
  let c0_i32_392 : BitVec 32 := 0#32
  let v803 : BitVec 1 := Scalar.cmpi .slt c8_i32_388 c0_i32_392
  let v804 : BitVec 32 := Scalar.extui v803
  let v805 : BitVec 32 := Scalar.subi v802 v804
  let v806 : BitVec 1 := Scalar.cmpi .ne v800 v805
  let v807 : BitVec 32 := Scalar.remsi v794 c8_i32_388
  let c0_i32_393 : BitVec 32 := 0#32
  let v808 : BitVec 1 := Scalar.cmpi .ne v807 c0_i32_393
  let v809 : BitVec 1 := Scalar.andi v806 v808
  let v795 : BitVec 32 := Scalar.divsi v794 c8_i32_388
  let c1_i32_394 : BitVec 32 := 1#32
  let v810 : BitVec 32 := Scalar.subi v795 c1_i32_394
  let v811 : BitVec 32 := Scalar.select v809 v810 v795
  let v812 : BitVec 32 := Scalar.subi v811 c0_i32_395
  let c1_i32_396 : BitVec 32 := 1#32
  let v814 : BitVec 32 := Scalar.divsi v812 c1_i32_396
  let v815 : BitVec 32 := Scalar.muli v814 c1_i32_396
  let v816 : BitVec 32 := Scalar.addi c0_i32_395 v815
  let c1_i32_398 : BitVec 32 := 1#32
  let arg19 : BitVec 32 := Scf.iv v816 c1_i32_398 k0_t76
  let c8_i32_444 : BitVec 32 := 8#32
  let v893 : BitVec 32 := Scalar.muli arg19 c8_i32_444
  let v894 : BitVec 32 := Scalar.addi v781 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t77_loop (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v793 : BitVec 32 := Scalar.subi v792 v781
  let c0_i32_387 : BitVec 32 := 0#32
  let v794 : BitVec 32 := Scalar.maxsi v793 c0_i32_387
  let c0_i32_389 : BitVec 32 := 0#32
  let v796 : BitVec 1 := Scalar.cmpi .sgt v794 c0_i32_389
  let v797 : BitVec 32 := Scalar.extui v796
  let c0_i32_390 : BitVec 32 := 0#32
  let v798 : BitVec 1 := Scalar.cmpi .slt v794 c0_i32_390
  let v799 : BitVec 32 := Scalar.extui v798
  let v800 : BitVec 32 := Scalar.subi v797 v799
  let c8_i32_388 : BitVec 32 := 8#32
  let c0_i32_391 : BitVec 32 := 0#32
  let v801 : BitVec 1 := Scalar.cmpi .sgt c8_i32_388 c0_i32_391
  let v802 : BitVec 32 := Scalar.extui v801
  let c0_i32_392 : BitVec 32 := 0#32
  let v803 : BitVec 1 := Scalar.cmpi .slt c8_i32_388 c0_i32_392
  let v804 : BitVec 32 := Scalar.extui v803
  let v805 : BitVec 32 := Scalar.subi v802 v804
  let v806 : BitVec 1 := Scalar.cmpi .ne v800 v805
  let v807 : BitVec 32 := Scalar.remsi v794 c8_i32_388
  let c0_i32_393 : BitVec 32 := 0#32
  let v808 : BitVec 1 := Scalar.cmpi .ne v807 c0_i32_393
  let v809 : BitVec 1 := Scalar.andi v806 v808
  let v795 : BitVec 32 := Scalar.divsi v794 c8_i32_388
  let c1_i32_394 : BitVec 32 := 1#32
  let v810 : BitVec 32 := Scalar.subi v795 c1_i32_394
  let v811 : BitVec 32 := Scalar.select v809 v810 v795
  let c8_i32_399 : BitVec 32 := 8#32
  let v819 : BitVec 32 := Scalar.muli v811 c8_i32_399
  let v820 : BitVec 32 := Scalar.addi v781 v819
  let v821 : BitVec 32 := Scalar.subi v792 v820
  let c1_i32_400 : BitVec 32 := 1#32
  let v823 : BitVec 32 := Scalar.divsi v821 c1_i32_400
  let v824 : BitVec 32 := Scalar.muli v823 c1_i32_400
  let v825 : BitVec 32 := Scalar.addi v820 v824
  let c1_i32_401 : BitVec 32 := 1#32
  ⟨v820, v825, c1_i32_401⟩
def k0_off806 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t77 : Fin (k0_t77_loop v52 v105 v158 v211 v264 v317 v370 v423 v476 v529 v582 v635 v688 v741 v790).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v793 : BitVec 32 := Scalar.subi v792 v781
  let c0_i32_387 : BitVec 32 := 0#32
  let v794 : BitVec 32 := Scalar.maxsi v793 c0_i32_387
  let c0_i32_389 : BitVec 32 := 0#32
  let v796 : BitVec 1 := Scalar.cmpi .sgt v794 c0_i32_389
  let v797 : BitVec 32 := Scalar.extui v796
  let c0_i32_390 : BitVec 32 := 0#32
  let v798 : BitVec 1 := Scalar.cmpi .slt v794 c0_i32_390
  let v799 : BitVec 32 := Scalar.extui v798
  let v800 : BitVec 32 := Scalar.subi v797 v799
  let c8_i32_388 : BitVec 32 := 8#32
  let c0_i32_391 : BitVec 32 := 0#32
  let v801 : BitVec 1 := Scalar.cmpi .sgt c8_i32_388 c0_i32_391
  let v802 : BitVec 32 := Scalar.extui v801
  let c0_i32_392 : BitVec 32 := 0#32
  let v803 : BitVec 1 := Scalar.cmpi .slt c8_i32_388 c0_i32_392
  let v804 : BitVec 32 := Scalar.extui v803
  let v805 : BitVec 32 := Scalar.subi v802 v804
  let v806 : BitVec 1 := Scalar.cmpi .ne v800 v805
  let v807 : BitVec 32 := Scalar.remsi v794 c8_i32_388
  let c0_i32_393 : BitVec 32 := 0#32
  let v808 : BitVec 1 := Scalar.cmpi .ne v807 c0_i32_393
  let v809 : BitVec 1 := Scalar.andi v806 v808
  let v795 : BitVec 32 := Scalar.divsi v794 c8_i32_388
  let c1_i32_394 : BitVec 32 := 1#32
  let v810 : BitVec 32 := Scalar.subi v795 c1_i32_394
  let v811 : BitVec 32 := Scalar.select v809 v810 v795
  let c8_i32_399 : BitVec 32 := 8#32
  let v819 : BitVec 32 := Scalar.muli v811 c8_i32_399
  let v820 : BitVec 32 := Scalar.addi v781 v819
  let c1_i32_401 : BitVec 32 := 1#32
  let arg19 : BitVec 32 := Scf.iv v820 c1_i32_401 k0_t77
  let c1_i32_444 : BitVec 32 := 1#32
  let v893 : BitVec 32 := Scalar.addi arg19 c1_i32_444
  let v894 : Index := Scalar.indexCast v893
  ![v894.toNat]
def k0_off807 (v897 : BitVec 32) : Fin 2 → Nat :=
  let c3584_i32_445 : BitVec 32 := 3584#32
  let v898 : BitVec 32 := Scalar.subi v897 c3584_i32_445
  let v912 : Index := Scalar.indexCast v898
  let c0_450 : Index := 0#32
  ![v912.toNat, 0]

def k0_off808 (v897 : BitVec 32) : Fin 2 → Nat :=
  let c3584_i32_445 : BitVec 32 := 3584#32
  let v898 : BitVec 32 := Scalar.subi v897 c3584_i32_445
  let v915 : Index := Scalar.indexCast v898
  let c16_451 : Index := 16#32
  ![v915.toNat, 16]

def k0_chk285 (v897 : BitVec 32) : Prop :=
  (∀ a, (k0_off807 v897) a + S1x16.size a ≤ S257x32.size a) ∧
  (∀ a, (k0_off808 v897) a + S1x16.size a ≤ S257x32.size a)
theorem k0_off807_inb : ∀ (v897 : BitVec 32) (k0_hw285 : k0_chk285 v897), ∀ a, (k0_off807 v897) a + S1x16.size a ≤ S257x32.size a := fun v897 k0_hw285 => k0_hw285.1
theorem k0_off808_inb : ∀ (v897 : BitVec 32) (k0_hw285 : k0_chk285 v897), ∀ a, (k0_off808 v897) a + S1x16.size a ≤ S257x32.size a := fun v897 k0_hw285 => k0_hw285.2

def k0_off809 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t77 : Fin (k0_t77_loop v52 v105 v158 v211 v264 v317 v370 v423 v476 v529 v582 v635 v688 v741 v790).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v793 : BitVec 32 := Scalar.subi v792 v781
  let c0_i32_387 : BitVec 32 := 0#32
  let v794 : BitVec 32 := Scalar.maxsi v793 c0_i32_387
  let c0_i32_389 : BitVec 32 := 0#32
  let v796 : BitVec 1 := Scalar.cmpi .sgt v794 c0_i32_389
  let v797 : BitVec 32 := Scalar.extui v796
  let c0_i32_390 : BitVec 32 := 0#32
  let v798 : BitVec 1 := Scalar.cmpi .slt v794 c0_i32_390
  let v799 : BitVec 32 := Scalar.extui v798
  let v800 : BitVec 32 := Scalar.subi v797 v799
  let c8_i32_388 : BitVec 32 := 8#32
  let c0_i32_391 : BitVec 32 := 0#32
  let v801 : BitVec 1 := Scalar.cmpi .sgt c8_i32_388 c0_i32_391
  let v802 : BitVec 32 := Scalar.extui v801
  let c0_i32_392 : BitVec 32 := 0#32
  let v803 : BitVec 1 := Scalar.cmpi .slt c8_i32_388 c0_i32_392
  let v804 : BitVec 32 := Scalar.extui v803
  let v805 : BitVec 32 := Scalar.subi v802 v804
  let v806 : BitVec 1 := Scalar.cmpi .ne v800 v805
  let v807 : BitVec 32 := Scalar.remsi v794 c8_i32_388
  let c0_i32_393 : BitVec 32 := 0#32
  let v808 : BitVec 1 := Scalar.cmpi .ne v807 c0_i32_393
  let v809 : BitVec 1 := Scalar.andi v806 v808
  let v795 : BitVec 32 := Scalar.divsi v794 c8_i32_388
  let c1_i32_394 : BitVec 32 := 1#32
  let v810 : BitVec 32 := Scalar.subi v795 c1_i32_394
  let v811 : BitVec 32 := Scalar.select v809 v810 v795
  let c8_i32_399 : BitVec 32 := 8#32
  let v819 : BitVec 32 := Scalar.muli v811 c8_i32_399
  let v820 : BitVec 32 := Scalar.addi v781 v819
  let c1_i32_401 : BitVec 32 := 1#32
  let arg19 : BitVec 32 := Scf.iv v820 c1_i32_401 k0_t77
  let c1_i32_452 : BitVec 32 := 1#32
  let v920 : BitVec 32 := Scalar.addi arg19 c1_i32_452
  let v921 : Index := Scalar.indexCast v920
  let c0_453 : Index := 0#32
  ![v921.toNat, 0]
def k0_off810 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t77 : Fin (k0_t77_loop v52 v105 v158 v211 v264 v317 v370 v423 v476 v529 v582 v635 v688 v741 v790).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v793 : BitVec 32 := Scalar.subi v792 v781
  let c0_i32_387 : BitVec 32 := 0#32
  let v794 : BitVec 32 := Scalar.maxsi v793 c0_i32_387
  let c0_i32_389 : BitVec 32 := 0#32
  let v796 : BitVec 1 := Scalar.cmpi .sgt v794 c0_i32_389
  let v797 : BitVec 32 := Scalar.extui v796
  let c0_i32_390 : BitVec 32 := 0#32
  let v798 : BitVec 1 := Scalar.cmpi .slt v794 c0_i32_390
  let v799 : BitVec 32 := Scalar.extui v798
  let v800 : BitVec 32 := Scalar.subi v797 v799
  let c8_i32_388 : BitVec 32 := 8#32
  let c0_i32_391 : BitVec 32 := 0#32
  let v801 : BitVec 1 := Scalar.cmpi .sgt c8_i32_388 c0_i32_391
  let v802 : BitVec 32 := Scalar.extui v801
  let c0_i32_392 : BitVec 32 := 0#32
  let v803 : BitVec 1 := Scalar.cmpi .slt c8_i32_388 c0_i32_392
  let v804 : BitVec 32 := Scalar.extui v803
  let v805 : BitVec 32 := Scalar.subi v802 v804
  let v806 : BitVec 1 := Scalar.cmpi .ne v800 v805
  let v807 : BitVec 32 := Scalar.remsi v794 c8_i32_388
  let c0_i32_393 : BitVec 32 := 0#32
  let v808 : BitVec 1 := Scalar.cmpi .ne v807 c0_i32_393
  let v809 : BitVec 1 := Scalar.andi v806 v808
  let v795 : BitVec 32 := Scalar.divsi v794 c8_i32_388
  let c1_i32_394 : BitVec 32 := 1#32
  let v810 : BitVec 32 := Scalar.subi v795 c1_i32_394
  let v811 : BitVec 32 := Scalar.select v809 v810 v795
  let c8_i32_399 : BitVec 32 := 8#32
  let v819 : BitVec 32 := Scalar.muli v811 c8_i32_399
  let v820 : BitVec 32 := Scalar.addi v781 v819
  let c1_i32_401 : BitVec 32 := 1#32
  let arg19 : BitVec 32 := Scf.iv v820 c1_i32_401 k0_t77
  let c1_i32_454 : BitVec 32 := 1#32
  let v925 : BitVec 32 := Scalar.addi arg19 c1_i32_454
  let v926 : Index := Scalar.indexCast v925
  let c16_455 : Index := 16#32
  ![v926.toNat, 16]
@[reducible] def k0_t78_loop (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v793 : BitVec 32 := Scalar.subi v792 v781
  let c0_i32_387 : BitVec 32 := 0#32
  let v794 : BitVec 32 := Scalar.maxsi v793 c0_i32_387
  let c0_i32_389 : BitVec 32 := 0#32
  let v796 : BitVec 1 := Scalar.cmpi .sgt v794 c0_i32_389
  let v797 : BitVec 32 := Scalar.extui v796
  let c0_i32_390 : BitVec 32 := 0#32
  let v798 : BitVec 1 := Scalar.cmpi .slt v794 c0_i32_390
  let v799 : BitVec 32 := Scalar.extui v798
  let v800 : BitVec 32 := Scalar.subi v797 v799
  let c8_i32_388 : BitVec 32 := 8#32
  let c0_i32_391 : BitVec 32 := 0#32
  let v801 : BitVec 1 := Scalar.cmpi .sgt c8_i32_388 c0_i32_391
  let v802 : BitVec 32 := Scalar.extui v801
  let c0_i32_392 : BitVec 32 := 0#32
  let v803 : BitVec 1 := Scalar.cmpi .slt c8_i32_388 c0_i32_392
  let v804 : BitVec 32 := Scalar.extui v803
  let v805 : BitVec 32 := Scalar.subi v802 v804
  let v806 : BitVec 1 := Scalar.cmpi .ne v800 v805
  let v807 : BitVec 32 := Scalar.remsi v794 c8_i32_388
  let c0_i32_393 : BitVec 32 := 0#32
  let v808 : BitVec 1 := Scalar.cmpi .ne v807 c0_i32_393
  let v809 : BitVec 1 := Scalar.andi v806 v808
  let v795 : BitVec 32 := Scalar.divsi v794 c8_i32_388
  let c1_i32_394 : BitVec 32 := 1#32
  let v810 : BitVec 32 := Scalar.subi v795 c1_i32_394
  let v811 : BitVec 32 := Scalar.select v809 v810 v795
  let c8_i32_399 : BitVec 32 := 8#32
  let v819 : BitVec 32 := Scalar.muli v811 c8_i32_399
  let v820 : BitVec 32 := Scalar.addi v781 v819
  let v821 : BitVec 32 := Scalar.subi v792 v820
  let c1_i32_400 : BitVec 32 := 1#32
  let v823 : BitVec 32 := Scalar.divsi v821 c1_i32_400
  let v824 : BitVec 32 := Scalar.muli v823 c1_i32_400
  let v825 : BitVec 32 := Scalar.addi v820 v824
  let v822 : BitVec 32 := Scalar.addi v820 v821
  let c1_i32_402 : BitVec 32 := 1#32
  ⟨v825, v822, c1_i32_402⟩
def k0_off811 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t78 : Fin (k0_t78_loop v52 v105 v158 v211 v264 v317 v370 v423 v476 v529 v582 v635 v688 v741 v790).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v793 : BitVec 32 := Scalar.subi v792 v781
  let c0_i32_387 : BitVec 32 := 0#32
  let v794 : BitVec 32 := Scalar.maxsi v793 c0_i32_387
  let c0_i32_389 : BitVec 32 := 0#32
  let v796 : BitVec 1 := Scalar.cmpi .sgt v794 c0_i32_389
  let v797 : BitVec 32 := Scalar.extui v796
  let c0_i32_390 : BitVec 32 := 0#32
  let v798 : BitVec 1 := Scalar.cmpi .slt v794 c0_i32_390
  let v799 : BitVec 32 := Scalar.extui v798
  let v800 : BitVec 32 := Scalar.subi v797 v799
  let c8_i32_388 : BitVec 32 := 8#32
  let c0_i32_391 : BitVec 32 := 0#32
  let v801 : BitVec 1 := Scalar.cmpi .sgt c8_i32_388 c0_i32_391
  let v802 : BitVec 32 := Scalar.extui v801
  let c0_i32_392 : BitVec 32 := 0#32
  let v803 : BitVec 1 := Scalar.cmpi .slt c8_i32_388 c0_i32_392
  let v804 : BitVec 32 := Scalar.extui v803
  let v805 : BitVec 32 := Scalar.subi v802 v804
  let v806 : BitVec 1 := Scalar.cmpi .ne v800 v805
  let v807 : BitVec 32 := Scalar.remsi v794 c8_i32_388
  let c0_i32_393 : BitVec 32 := 0#32
  let v808 : BitVec 1 := Scalar.cmpi .ne v807 c0_i32_393
  let v809 : BitVec 1 := Scalar.andi v806 v808
  let v795 : BitVec 32 := Scalar.divsi v794 c8_i32_388
  let c1_i32_394 : BitVec 32 := 1#32
  let v810 : BitVec 32 := Scalar.subi v795 c1_i32_394
  let v811 : BitVec 32 := Scalar.select v809 v810 v795
  let c8_i32_399 : BitVec 32 := 8#32
  let v819 : BitVec 32 := Scalar.muli v811 c8_i32_399
  let v820 : BitVec 32 := Scalar.addi v781 v819
  let v821 : BitVec 32 := Scalar.subi v792 v820
  let c1_i32_400 : BitVec 32 := 1#32
  let v823 : BitVec 32 := Scalar.divsi v821 c1_i32_400
  let v824 : BitVec 32 := Scalar.muli v823 c1_i32_400
  let v825 : BitVec 32 := Scalar.addi v820 v824
  let c1_i32_402 : BitVec 32 := 1#32
  let arg19 : BitVec 32 := Scf.iv v825 c1_i32_402 k0_t78
  let c1_i32_444 : BitVec 32 := 1#32
  let v893 : BitVec 32 := Scalar.addi arg19 c1_i32_444
  let v894 : Index := Scalar.indexCast v893
  ![v894.toNat]
def k0_off812 (v897 : BitVec 32) : Fin 2 → Nat :=
  let c3584_i32_445 : BitVec 32 := 3584#32
  let v898 : BitVec 32 := Scalar.subi v897 c3584_i32_445
  let v912 : Index := Scalar.indexCast v898
  let c0_450 : Index := 0#32
  ![v912.toNat, 0]

def k0_off813 (v897 : BitVec 32) : Fin 2 → Nat :=
  let c3584_i32_445 : BitVec 32 := 3584#32
  let v898 : BitVec 32 := Scalar.subi v897 c3584_i32_445
  let v915 : Index := Scalar.indexCast v898
  let c16_451 : Index := 16#32
  ![v915.toNat, 16]

def k0_chk286 (v897 : BitVec 32) : Prop :=
  (∀ a, (k0_off812 v897) a + S1x16.size a ≤ S257x32.size a) ∧
  (∀ a, (k0_off813 v897) a + S1x16.size a ≤ S257x32.size a)
theorem k0_off812_inb : ∀ (v897 : BitVec 32) (k0_hw286 : k0_chk286 v897), ∀ a, (k0_off812 v897) a + S1x16.size a ≤ S257x32.size a := fun v897 k0_hw286 => k0_hw286.1
theorem k0_off813_inb : ∀ (v897 : BitVec 32) (k0_hw286 : k0_chk286 v897), ∀ a, (k0_off813 v897) a + S1x16.size a ≤ S257x32.size a := fun v897 k0_hw286 => k0_hw286.2

def k0_off814 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t78 : Fin (k0_t78_loop v52 v105 v158 v211 v264 v317 v370 v423 v476 v529 v582 v635 v688 v741 v790).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v793 : BitVec 32 := Scalar.subi v792 v781
  let c0_i32_387 : BitVec 32 := 0#32
  let v794 : BitVec 32 := Scalar.maxsi v793 c0_i32_387
  let c0_i32_389 : BitVec 32 := 0#32
  let v796 : BitVec 1 := Scalar.cmpi .sgt v794 c0_i32_389
  let v797 : BitVec 32 := Scalar.extui v796
  let c0_i32_390 : BitVec 32 := 0#32
  let v798 : BitVec 1 := Scalar.cmpi .slt v794 c0_i32_390
  let v799 : BitVec 32 := Scalar.extui v798
  let v800 : BitVec 32 := Scalar.subi v797 v799
  let c8_i32_388 : BitVec 32 := 8#32
  let c0_i32_391 : BitVec 32 := 0#32
  let v801 : BitVec 1 := Scalar.cmpi .sgt c8_i32_388 c0_i32_391
  let v802 : BitVec 32 := Scalar.extui v801
  let c0_i32_392 : BitVec 32 := 0#32
  let v803 : BitVec 1 := Scalar.cmpi .slt c8_i32_388 c0_i32_392
  let v804 : BitVec 32 := Scalar.extui v803
  let v805 : BitVec 32 := Scalar.subi v802 v804
  let v806 : BitVec 1 := Scalar.cmpi .ne v800 v805
  let v807 : BitVec 32 := Scalar.remsi v794 c8_i32_388
  let c0_i32_393 : BitVec 32 := 0#32
  let v808 : BitVec 1 := Scalar.cmpi .ne v807 c0_i32_393
  let v809 : BitVec 1 := Scalar.andi v806 v808
  let v795 : BitVec 32 := Scalar.divsi v794 c8_i32_388
  let c1_i32_394 : BitVec 32 := 1#32
  let v810 : BitVec 32 := Scalar.subi v795 c1_i32_394
  let v811 : BitVec 32 := Scalar.select v809 v810 v795
  let c8_i32_399 : BitVec 32 := 8#32
  let v819 : BitVec 32 := Scalar.muli v811 c8_i32_399
  let v820 : BitVec 32 := Scalar.addi v781 v819
  let v821 : BitVec 32 := Scalar.subi v792 v820
  let c1_i32_400 : BitVec 32 := 1#32
  let v823 : BitVec 32 := Scalar.divsi v821 c1_i32_400
  let v824 : BitVec 32 := Scalar.muli v823 c1_i32_400
  let v825 : BitVec 32 := Scalar.addi v820 v824
  let c1_i32_402 : BitVec 32 := 1#32
  let arg19 : BitVec 32 := Scf.iv v825 c1_i32_402 k0_t78
  let c1_i32_452 : BitVec 32 := 1#32
  let v920 : BitVec 32 := Scalar.addi arg19 c1_i32_452
  let v921 : Index := Scalar.indexCast v920
  let c0_453 : Index := 0#32
  ![v921.toNat, 0]
def k0_off815 (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t78 : Fin (k0_t78_loop v52 v105 v158 v211 v264 v317 v370 v423 v476 v529 v582 v635 v688 v741 v790).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v793 : BitVec 32 := Scalar.subi v792 v781
  let c0_i32_387 : BitVec 32 := 0#32
  let v794 : BitVec 32 := Scalar.maxsi v793 c0_i32_387
  let c0_i32_389 : BitVec 32 := 0#32
  let v796 : BitVec 1 := Scalar.cmpi .sgt v794 c0_i32_389
  let v797 : BitVec 32 := Scalar.extui v796
  let c0_i32_390 : BitVec 32 := 0#32
  let v798 : BitVec 1 := Scalar.cmpi .slt v794 c0_i32_390
  let v799 : BitVec 32 := Scalar.extui v798
  let v800 : BitVec 32 := Scalar.subi v797 v799
  let c8_i32_388 : BitVec 32 := 8#32
  let c0_i32_391 : BitVec 32 := 0#32
  let v801 : BitVec 1 := Scalar.cmpi .sgt c8_i32_388 c0_i32_391
  let v802 : BitVec 32 := Scalar.extui v801
  let c0_i32_392 : BitVec 32 := 0#32
  let v803 : BitVec 1 := Scalar.cmpi .slt c8_i32_388 c0_i32_392
  let v804 : BitVec 32 := Scalar.extui v803
  let v805 : BitVec 32 := Scalar.subi v802 v804
  let v806 : BitVec 1 := Scalar.cmpi .ne v800 v805
  let v807 : BitVec 32 := Scalar.remsi v794 c8_i32_388
  let c0_i32_393 : BitVec 32 := 0#32
  let v808 : BitVec 1 := Scalar.cmpi .ne v807 c0_i32_393
  let v809 : BitVec 1 := Scalar.andi v806 v808
  let v795 : BitVec 32 := Scalar.divsi v794 c8_i32_388
  let c1_i32_394 : BitVec 32 := 1#32
  let v810 : BitVec 32 := Scalar.subi v795 c1_i32_394
  let v811 : BitVec 32 := Scalar.select v809 v810 v795
  let c8_i32_399 : BitVec 32 := 8#32
  let v819 : BitVec 32 := Scalar.muli v811 c8_i32_399
  let v820 : BitVec 32 := Scalar.addi v781 v819
  let v821 : BitVec 32 := Scalar.subi v792 v820
  let c1_i32_400 : BitVec 32 := 1#32
  let v823 : BitVec 32 := Scalar.divsi v821 c1_i32_400
  let v824 : BitVec 32 := Scalar.muli v823 c1_i32_400
  let v825 : BitVec 32 := Scalar.addi v820 v824
  let c1_i32_402 : BitVec 32 := 1#32
  let arg19 : BitVec 32 := Scf.iv v825 c1_i32_402 k0_t78
  let c1_i32_454 : BitVec 32 := 1#32
  let v925 : BitVec 32 := Scalar.addi arg19 c1_i32_454
  let v926 : Index := Scalar.indexCast v925
  let c16_455 : Index := 16#32
  ![v926.toNat, 16]
def k0_off816 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c3840_i32_403 : BitVec 32 := 3840#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 3840, v3.toNat]
@[reducible] def k0_t79_loop : Scf.Loop 32 :=
  let c0_i32_405 : BitVec 32 := 0#32
  let c16_i32_406 : BitVec 32 := 16#32
  let v835 : BitVec 32 := Scalar.addi c0_i32_405 c16_i32_406
  let c1_i32_407 : BitVec 32 := 1#32
  ⟨c0_i32_405, v835, c1_i32_407⟩
def k0_off817 (k0_t79 : Fin k0_t79_loop.trips) (c0_i32_445 : BitVec 32) : Fin 2 → Nat :=
  let c0_i32_405 : BitVec 32 := 0#32
  let c1_i32_407 : BitVec 32 := 1#32
  let arg19 : BitVec 32 := Scf.iv c0_i32_405 c1_i32_407 k0_t79
  let c16_i32_444 : BitVec 32 := 16#32
  let v893 : BitVec 32 := Scalar.muli arg19 c16_i32_444
  let v894 : BitVec 32 := Scalar.addi v893 c0_i32_445
  let v895 : Index := Scalar.indexCast v894
  let c0_446 : Index := 0#32
  ![v895.toNat, 0]
def k0_off818 (k0_t79 : Fin k0_t79_loop.trips) (c0_i32_447 : BitVec 32) : Fin 2 → Nat :=
  let c0_i32_405 : BitVec 32 := 0#32
  let c1_i32_407 : BitVec 32 := 1#32
  let arg19 : BitVec 32 := Scf.iv c0_i32_405 c1_i32_407 k0_t79
  let c16_i32_444 : BitVec 32 := 16#32
  let v893 : BitVec 32 := Scalar.muli arg19 c16_i32_444
  let v898 : BitVec 32 := Scalar.addi v893 c0_i32_447
  let v899 : Index := Scalar.indexCast v898
  let c16_448 : Index := 16#32
  ![v899.toNat, 16]
def k0_off819 (k0_t79 : Fin k0_t79_loop.trips) (c0_i32_449 : BitVec 32) : Fin 2 → Nat :=
  let c0_i32_405 : BitVec 32 := 0#32
  let c1_i32_407 : BitVec 32 := 1#32
  let arg19 : BitVec 32 := Scf.iv c0_i32_405 c1_i32_407 k0_t79
  let c16_i32_444 : BitVec 32 := 16#32
  let v893 : BitVec 32 := Scalar.muli arg19 c16_i32_444
  let v902 : BitVec 32 := Scalar.addi v893 c0_i32_449
  let c1_i32_450 : BitVec 32 := 1#32
  let v903 : BitVec 32 := Scalar.addi v902 c1_i32_450
  let v904 : Index := Scalar.indexCast v903
  let c0_451 : Index := 0#32
  ![v904.toNat, 0]
def k0_off820 (k0_t79 : Fin k0_t79_loop.trips) (c0_i32_452 : BitVec 32) : Fin 2 → Nat :=
  let c0_i32_405 : BitVec 32 := 0#32
  let c1_i32_407 : BitVec 32 := 1#32
  let arg19 : BitVec 32 := Scf.iv c0_i32_405 c1_i32_407 k0_t79
  let c16_i32_444 : BitVec 32 := 16#32
  let v893 : BitVec 32 := Scalar.muli arg19 c16_i32_444
  let v906 : BitVec 32 := Scalar.addi v893 c0_i32_452
  let c1_i32_453 : BitVec 32 := 1#32
  let v907 : BitVec 32 := Scalar.addi v906 c1_i32_453
  let v908 : Index := Scalar.indexCast v907
  let c16_454 : Index := 16#32
  ![v908.toNat, 16]
@[reducible] def k0_t80_loop (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) : Scf.Loop 32 :=
  let c0_i32_418 : BitVec 32 := 0#32
  let c2049_i32_409 : BitVec 32 := 2049#32
  let v837 : BitVec 32 := Scalar.minsi v36 c2049_i32_409
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v830 : BitVec 32 := Scalar.maxsi v781 v792
  let v838 : BitVec 32 := Scalar.subi v837 v830
  let c0_i32_410 : BitVec 32 := 0#32
  let v839 : BitVec 32 := Scalar.maxsi v838 c0_i32_410
  let c0_i32_412 : BitVec 32 := 0#32
  let v841 : BitVec 1 := Scalar.cmpi .sgt v839 c0_i32_412
  let v842 : BitVec 32 := Scalar.extui v841
  let c0_i32_413 : BitVec 32 := 0#32
  let v843 : BitVec 1 := Scalar.cmpi .slt v839 c0_i32_413
  let v844 : BitVec 32 := Scalar.extui v843
  let v845 : BitVec 32 := Scalar.subi v842 v844
  let c8_i32_411 : BitVec 32 := 8#32
  let c0_i32_414 : BitVec 32 := 0#32
  let v846 : BitVec 1 := Scalar.cmpi .sgt c8_i32_411 c0_i32_414
  let v847 : BitVec 32 := Scalar.extui v846
  let c0_i32_415 : BitVec 32 := 0#32
  let v848 : BitVec 1 := Scalar.cmpi .slt c8_i32_411 c0_i32_415
  let v849 : BitVec 32 := Scalar.extui v848
  let v850 : BitVec 32 := Scalar.subi v847 v849
  let v851 : BitVec 1 := Scalar.cmpi .ne v845 v850
  let v852 : BitVec 32 := Scalar.remsi v839 c8_i32_411
  let c0_i32_416 : BitVec 32 := 0#32
  let v853 : BitVec 1 := Scalar.cmpi .ne v852 c0_i32_416
  let v854 : BitVec 1 := Scalar.andi v851 v853
  let v840 : BitVec 32 := Scalar.divsi v839 c8_i32_411
  let c1_i32_417 : BitVec 32 := 1#32
  let v855 : BitVec 32 := Scalar.subi v840 c1_i32_417
  let v856 : BitVec 32 := Scalar.select v854 v855 v840
  let v857 : BitVec 32 := Scalar.subi v856 c0_i32_418
  let c1_i32_419 : BitVec 32 := 1#32
  let v859 : BitVec 32 := Scalar.divsi v857 c1_i32_419
  let v860 : BitVec 32 := Scalar.muli v859 c1_i32_419
  let v861 : BitVec 32 := Scalar.addi c0_i32_418 v860
  let c1_i32_420 : BitVec 32 := 1#32
  ⟨c0_i32_418, v861, c1_i32_420⟩
def k0_off821 (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t80 : Fin (k0_t80_loop v36 v52 v105 v158 v211 v264 v317 v370 v423 v476 v529 v582 v635 v688 v741 v790).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v830 : BitVec 32 := Scalar.maxsi v781 v792
  let c0_i32_418 : BitVec 32 := 0#32
  let c1_i32_420 : BitVec 32 := 1#32
  let arg19 : BitVec 32 := Scf.iv c0_i32_418 c1_i32_420 k0_t80
  let c8_i32_444 : BitVec 32 := 8#32
  let v893 : BitVec 32 := Scalar.muli arg19 c8_i32_444
  let v894 : BitVec 32 := Scalar.addi v830 v893
  let v895 : BitVec 32 := Scalar.addi v894 c1_i32_445
  let v896 : Index := Scalar.indexCast v895
  ![v896.toNat]
def k0_off822 (v912 : BitVec 32) : Fin 2 → Nat :=
  let c3840_i32_451 : BitVec 32 := 3840#32
  let v913 : BitVec 32 := Scalar.subi v912 c3840_i32_451
  let v914 : Index := Scalar.indexCast v913
  let c0_452 : Index := 0#32
  ![v914.toNat, 0]

def k0_off823 (v912 : BitVec 32) : Fin 2 → Nat :=
  let c3840_i32_451 : BitVec 32 := 3840#32
  let v913 : BitVec 32 := Scalar.subi v912 c3840_i32_451
  let v917 : Index := Scalar.indexCast v913
  let c16_453 : Index := 16#32
  ![v917.toNat, 16]

def k0_chk287 (v912 : BitVec 32) : Prop :=
  (∀ a, (k0_off822 v912) a + S1x16.size a ≤ S257x32.size a) ∧
  (∀ a, (k0_off823 v912) a + S1x16.size a ≤ S257x32.size a)
theorem k0_off822_inb : ∀ (v912 : BitVec 32) (k0_hw287 : k0_chk287 v912), ∀ a, (k0_off822 v912) a + S1x16.size a ≤ S257x32.size a := fun v912 k0_hw287 => k0_hw287.1
theorem k0_off823_inb : ∀ (v912 : BitVec 32) (k0_hw287 : k0_chk287 v912), ∀ a, (k0_off823 v912) a + S1x16.size a ≤ S257x32.size a := fun v912 k0_hw287 => k0_hw287.2

def k0_off824 (v921 : BitVec 32) : Fin 2 → Nat :=
  let c3840_i32_454 : BitVec 32 := 3840#32
  let v922 : BitVec 32 := Scalar.subi v921 c3840_i32_454
  let v923 : Index := Scalar.indexCast v922
  let c0_455 : Index := 0#32
  ![v923.toNat, 0]

def k0_off825 (v921 : BitVec 32) : Fin 2 → Nat :=
  let c3840_i32_454 : BitVec 32 := 3840#32
  let v922 : BitVec 32 := Scalar.subi v921 c3840_i32_454
  let v926 : Index := Scalar.indexCast v922
  let c16_456 : Index := 16#32
  ![v926.toNat, 16]

def k0_chk288 (v921 : BitVec 32) : Prop :=
  (∀ a, (k0_off824 v921) a + S1x16.size a ≤ S257x32.size a) ∧
  (∀ a, (k0_off825 v921) a + S1x16.size a ≤ S257x32.size a)
theorem k0_off824_inb : ∀ (v921 : BitVec 32) (k0_hw288 : k0_chk288 v921), ∀ a, (k0_off824 v921) a + S1x16.size a ≤ S257x32.size a := fun v921 k0_hw288 => k0_hw288.1
theorem k0_off825_inb : ∀ (v921 : BitVec 32) (k0_hw288 : k0_chk288 v921), ∀ a, (k0_off825 v921) a + S1x16.size a ≤ S257x32.size a := fun v921 k0_hw288 => k0_hw288.2

def k0_off826 (v930 : BitVec 32) : Fin 2 → Nat :=
  let c3840_i32_457 : BitVec 32 := 3840#32
  let v931 : BitVec 32 := Scalar.subi v930 c3840_i32_457
  let v932 : Index := Scalar.indexCast v931
  let c0_458 : Index := 0#32
  ![v932.toNat, 0]

def k0_off827 (v930 : BitVec 32) : Fin 2 → Nat :=
  let c3840_i32_457 : BitVec 32 := 3840#32
  let v931 : BitVec 32 := Scalar.subi v930 c3840_i32_457
  let v935 : Index := Scalar.indexCast v931
  let c16_459 : Index := 16#32
  ![v935.toNat, 16]

def k0_chk289 (v930 : BitVec 32) : Prop :=
  (∀ a, (k0_off826 v930) a + S1x16.size a ≤ S257x32.size a) ∧
  (∀ a, (k0_off827 v930) a + S1x16.size a ≤ S257x32.size a)
theorem k0_off826_inb : ∀ (v930 : BitVec 32) (k0_hw289 : k0_chk289 v930), ∀ a, (k0_off826 v930) a + S1x16.size a ≤ S257x32.size a := fun v930 k0_hw289 => k0_hw289.1
theorem k0_off827_inb : ∀ (v930 : BitVec 32) (k0_hw289 : k0_chk289 v930), ∀ a, (k0_off827 v930) a + S1x16.size a ≤ S257x32.size a := fun v930 k0_hw289 => k0_hw289.2

def k0_off828 (v939 : BitVec 32) : Fin 2 → Nat :=
  let c3840_i32_460 : BitVec 32 := 3840#32
  let v940 : BitVec 32 := Scalar.subi v939 c3840_i32_460
  let v941 : Index := Scalar.indexCast v940
  let c0_461 : Index := 0#32
  ![v941.toNat, 0]

def k0_off829 (v939 : BitVec 32) : Fin 2 → Nat :=
  let c3840_i32_460 : BitVec 32 := 3840#32
  let v940 : BitVec 32 := Scalar.subi v939 c3840_i32_460
  let v944 : Index := Scalar.indexCast v940
  let c16_462 : Index := 16#32
  ![v944.toNat, 16]

def k0_chk290 (v939 : BitVec 32) : Prop :=
  (∀ a, (k0_off828 v939) a + S1x16.size a ≤ S257x32.size a) ∧
  (∀ a, (k0_off829 v939) a + S1x16.size a ≤ S257x32.size a)
theorem k0_off828_inb : ∀ (v939 : BitVec 32) (k0_hw290 : k0_chk290 v939), ∀ a, (k0_off828 v939) a + S1x16.size a ≤ S257x32.size a := fun v939 k0_hw290 => k0_hw290.1
theorem k0_off829_inb : ∀ (v939 : BitVec 32) (k0_hw290 : k0_chk290 v939), ∀ a, (k0_off829 v939) a + S1x16.size a ≤ S257x32.size a := fun v939 k0_hw290 => k0_hw290.2

def k0_off830 (v948 : BitVec 32) : Fin 2 → Nat :=
  let c3840_i32_463 : BitVec 32 := 3840#32
  let v949 : BitVec 32 := Scalar.subi v948 c3840_i32_463
  let v950 : Index := Scalar.indexCast v949
  let c0_464 : Index := 0#32
  ![v950.toNat, 0]

def k0_off831 (v948 : BitVec 32) : Fin 2 → Nat :=
  let c3840_i32_463 : BitVec 32 := 3840#32
  let v949 : BitVec 32 := Scalar.subi v948 c3840_i32_463
  let v953 : Index := Scalar.indexCast v949
  let c16_465 : Index := 16#32
  ![v953.toNat, 16]

def k0_chk291 (v948 : BitVec 32) : Prop :=
  (∀ a, (k0_off830 v948) a + S1x16.size a ≤ S257x32.size a) ∧
  (∀ a, (k0_off831 v948) a + S1x16.size a ≤ S257x32.size a)
theorem k0_off830_inb : ∀ (v948 : BitVec 32) (k0_hw291 : k0_chk291 v948), ∀ a, (k0_off830 v948) a + S1x16.size a ≤ S257x32.size a := fun v948 k0_hw291 => k0_hw291.1
theorem k0_off831_inb : ∀ (v948 : BitVec 32) (k0_hw291 : k0_chk291 v948), ∀ a, (k0_off831 v948) a + S1x16.size a ≤ S257x32.size a := fun v948 k0_hw291 => k0_hw291.2

def k0_off832 (v957 : BitVec 32) : Fin 2 → Nat :=
  let c3840_i32_466 : BitVec 32 := 3840#32
  let v958 : BitVec 32 := Scalar.subi v957 c3840_i32_466
  let v959 : Index := Scalar.indexCast v958
  let c0_467 : Index := 0#32
  ![v959.toNat, 0]

def k0_off833 (v957 : BitVec 32) : Fin 2 → Nat :=
  let c3840_i32_466 : BitVec 32 := 3840#32
  let v958 : BitVec 32 := Scalar.subi v957 c3840_i32_466
  let v962 : Index := Scalar.indexCast v958
  let c16_468 : Index := 16#32
  ![v962.toNat, 16]

def k0_chk292 (v957 : BitVec 32) : Prop :=
  (∀ a, (k0_off832 v957) a + S1x16.size a ≤ S257x32.size a) ∧
  (∀ a, (k0_off833 v957) a + S1x16.size a ≤ S257x32.size a)
theorem k0_off832_inb : ∀ (v957 : BitVec 32) (k0_hw292 : k0_chk292 v957), ∀ a, (k0_off832 v957) a + S1x16.size a ≤ S257x32.size a := fun v957 k0_hw292 => k0_hw292.1
theorem k0_off833_inb : ∀ (v957 : BitVec 32) (k0_hw292 : k0_chk292 v957), ∀ a, (k0_off833 v957) a + S1x16.size a ≤ S257x32.size a := fun v957 k0_hw292 => k0_hw292.2

def k0_off834 (v966 : BitVec 32) : Fin 2 → Nat :=
  let c3840_i32_469 : BitVec 32 := 3840#32
  let v967 : BitVec 32 := Scalar.subi v966 c3840_i32_469
  let v968 : Index := Scalar.indexCast v967
  let c0_470 : Index := 0#32
  ![v968.toNat, 0]

def k0_off835 (v966 : BitVec 32) : Fin 2 → Nat :=
  let c3840_i32_469 : BitVec 32 := 3840#32
  let v967 : BitVec 32 := Scalar.subi v966 c3840_i32_469
  let v971 : Index := Scalar.indexCast v967
  let c16_471 : Index := 16#32
  ![v971.toNat, 16]

def k0_chk293 (v966 : BitVec 32) : Prop :=
  (∀ a, (k0_off834 v966) a + S1x16.size a ≤ S257x32.size a) ∧
  (∀ a, (k0_off835 v966) a + S1x16.size a ≤ S257x32.size a)
theorem k0_off834_inb : ∀ (v966 : BitVec 32) (k0_hw293 : k0_chk293 v966), ∀ a, (k0_off834 v966) a + S1x16.size a ≤ S257x32.size a := fun v966 k0_hw293 => k0_hw293.1
theorem k0_off835_inb : ∀ (v966 : BitVec 32) (k0_hw293 : k0_chk293 v966), ∀ a, (k0_off835 v966) a + S1x16.size a ≤ S257x32.size a := fun v966 k0_hw293 => k0_hw293.2

def k0_off836 (v975 : BitVec 32) : Fin 2 → Nat :=
  let c3840_i32_472 : BitVec 32 := 3840#32
  let v976 : BitVec 32 := Scalar.subi v975 c3840_i32_472
  let v977 : Index := Scalar.indexCast v976
  let c0_473 : Index := 0#32
  ![v977.toNat, 0]

def k0_off837 (v975 : BitVec 32) : Fin 2 → Nat :=
  let c3840_i32_472 : BitVec 32 := 3840#32
  let v976 : BitVec 32 := Scalar.subi v975 c3840_i32_472
  let v980 : Index := Scalar.indexCast v976
  let c16_474 : Index := 16#32
  ![v980.toNat, 16]

def k0_chk294 (v975 : BitVec 32) : Prop :=
  (∀ a, (k0_off836 v975) a + S1x16.size a ≤ S257x32.size a) ∧
  (∀ a, (k0_off837 v975) a + S1x16.size a ≤ S257x32.size a)
theorem k0_off836_inb : ∀ (v975 : BitVec 32) (k0_hw294 : k0_chk294 v975), ∀ a, (k0_off836 v975) a + S1x16.size a ≤ S257x32.size a := fun v975 k0_hw294 => k0_hw294.1
theorem k0_off837_inb : ∀ (v975 : BitVec 32) (k0_hw294 : k0_chk294 v975), ∀ a, (k0_off837 v975) a + S1x16.size a ≤ S257x32.size a := fun v975 k0_hw294 => k0_hw294.2

def k0_off838 (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t80 : Fin (k0_t80_loop v36 v52 v105 v158 v211 v264 v317 v370 v423 v476 v529 v582 v635 v688 v741 v790).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v830 : BitVec 32 := Scalar.maxsi v781 v792
  let c0_i32_418 : BitVec 32 := 0#32
  let c1_i32_420 : BitVec 32 := 1#32
  let arg19 : BitVec 32 := Scf.iv c0_i32_418 c1_i32_420 k0_t80
  let c8_i32_444 : BitVec 32 := 8#32
  let v893 : BitVec 32 := Scalar.muli arg19 c8_i32_444
  let v894 : BitVec 32 := Scalar.addi v830 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off839 (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t80 : Fin (k0_t80_loop v36 v52 v105 v158 v211 v264 v317 v370 v423 v476 v529 v582 v635 v688 v741 v790).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v830 : BitVec 32 := Scalar.maxsi v781 v792
  let c0_i32_418 : BitVec 32 := 0#32
  let c1_i32_420 : BitVec 32 := 1#32
  let arg19 : BitVec 32 := Scf.iv c0_i32_418 c1_i32_420 k0_t80
  let c8_i32_444 : BitVec 32 := 8#32
  let v893 : BitVec 32 := Scalar.muli arg19 c8_i32_444
  let v894 : BitVec 32 := Scalar.addi v830 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t81_loop (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) : Scf.Loop 32 :=
  let c0_i32_418 : BitVec 32 := 0#32
  let c2049_i32_409 : BitVec 32 := 2049#32
  let v837 : BitVec 32 := Scalar.minsi v36 c2049_i32_409
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v830 : BitVec 32 := Scalar.maxsi v781 v792
  let v838 : BitVec 32 := Scalar.subi v837 v830
  let c0_i32_410 : BitVec 32 := 0#32
  let v839 : BitVec 32 := Scalar.maxsi v838 c0_i32_410
  let c0_i32_412 : BitVec 32 := 0#32
  let v841 : BitVec 1 := Scalar.cmpi .sgt v839 c0_i32_412
  let v842 : BitVec 32 := Scalar.extui v841
  let c0_i32_413 : BitVec 32 := 0#32
  let v843 : BitVec 1 := Scalar.cmpi .slt v839 c0_i32_413
  let v844 : BitVec 32 := Scalar.extui v843
  let v845 : BitVec 32 := Scalar.subi v842 v844
  let c8_i32_411 : BitVec 32 := 8#32
  let c0_i32_414 : BitVec 32 := 0#32
  let v846 : BitVec 1 := Scalar.cmpi .sgt c8_i32_411 c0_i32_414
  let v847 : BitVec 32 := Scalar.extui v846
  let c0_i32_415 : BitVec 32 := 0#32
  let v848 : BitVec 1 := Scalar.cmpi .slt c8_i32_411 c0_i32_415
  let v849 : BitVec 32 := Scalar.extui v848
  let v850 : BitVec 32 := Scalar.subi v847 v849
  let v851 : BitVec 1 := Scalar.cmpi .ne v845 v850
  let v852 : BitVec 32 := Scalar.remsi v839 c8_i32_411
  let c0_i32_416 : BitVec 32 := 0#32
  let v853 : BitVec 1 := Scalar.cmpi .ne v852 c0_i32_416
  let v854 : BitVec 1 := Scalar.andi v851 v853
  let v840 : BitVec 32 := Scalar.divsi v839 c8_i32_411
  let c1_i32_417 : BitVec 32 := 1#32
  let v855 : BitVec 32 := Scalar.subi v840 c1_i32_417
  let v856 : BitVec 32 := Scalar.select v854 v855 v840
  let v857 : BitVec 32 := Scalar.subi v856 c0_i32_418
  let c1_i32_419 : BitVec 32 := 1#32
  let v859 : BitVec 32 := Scalar.divsi v857 c1_i32_419
  let v860 : BitVec 32 := Scalar.muli v859 c1_i32_419
  let v861 : BitVec 32 := Scalar.addi c0_i32_418 v860
  let v858 : BitVec 32 := Scalar.addi c0_i32_418 v857
  let c1_i32_421 : BitVec 32 := 1#32
  ⟨v861, v858, c1_i32_421⟩
def k0_off840 (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t81 : Fin (k0_t81_loop v36 v52 v105 v158 v211 v264 v317 v370 v423 v476 v529 v582 v635 v688 v741 v790).trips) (c1_i32_445 : BitVec 32) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v830 : BitVec 32 := Scalar.maxsi v781 v792
  let c0_i32_418 : BitVec 32 := 0#32
  let c2049_i32_409 : BitVec 32 := 2049#32
  let v837 : BitVec 32 := Scalar.minsi v36 c2049_i32_409
  let v838 : BitVec 32 := Scalar.subi v837 v830
  let c0_i32_410 : BitVec 32 := 0#32
  let v839 : BitVec 32 := Scalar.maxsi v838 c0_i32_410
  let c0_i32_412 : BitVec 32 := 0#32
  let v841 : BitVec 1 := Scalar.cmpi .sgt v839 c0_i32_412
  let v842 : BitVec 32 := Scalar.extui v841
  let c0_i32_413 : BitVec 32 := 0#32
  let v843 : BitVec 1 := Scalar.cmpi .slt v839 c0_i32_413
  let v844 : BitVec 32 := Scalar.extui v843
  let v845 : BitVec 32 := Scalar.subi v842 v844
  let c8_i32_411 : BitVec 32 := 8#32
  let c0_i32_414 : BitVec 32 := 0#32
  let v846 : BitVec 1 := Scalar.cmpi .sgt c8_i32_411 c0_i32_414
  let v847 : BitVec 32 := Scalar.extui v846
  let c0_i32_415 : BitVec 32 := 0#32
  let v848 : BitVec 1 := Scalar.cmpi .slt c8_i32_411 c0_i32_415
  let v849 : BitVec 32 := Scalar.extui v848
  let v850 : BitVec 32 := Scalar.subi v847 v849
  let v851 : BitVec 1 := Scalar.cmpi .ne v845 v850
  let v852 : BitVec 32 := Scalar.remsi v839 c8_i32_411
  let c0_i32_416 : BitVec 32 := 0#32
  let v853 : BitVec 1 := Scalar.cmpi .ne v852 c0_i32_416
  let v854 : BitVec 1 := Scalar.andi v851 v853
  let v840 : BitVec 32 := Scalar.divsi v839 c8_i32_411
  let c1_i32_417 : BitVec 32 := 1#32
  let v855 : BitVec 32 := Scalar.subi v840 c1_i32_417
  let v856 : BitVec 32 := Scalar.select v854 v855 v840
  let v857 : BitVec 32 := Scalar.subi v856 c0_i32_418
  let c1_i32_419 : BitVec 32 := 1#32
  let v859 : BitVec 32 := Scalar.divsi v857 c1_i32_419
  let v860 : BitVec 32 := Scalar.muli v859 c1_i32_419
  let v861 : BitVec 32 := Scalar.addi c0_i32_418 v860
  let c1_i32_421 : BitVec 32 := 1#32
  let arg19 : BitVec 32 := Scf.iv v861 c1_i32_421 k0_t81
  let c8_i32_444 : BitVec 32 := 8#32
  let v893 : BitVec 32 := Scalar.muli arg19 c8_i32_444
  let v894 : BitVec 32 := Scalar.addi v830 v893
  let v895 : BitVec 32 := Scalar.addi v894 c1_i32_445
  let v896 : Index := Scalar.indexCast v895
  ![v896.toNat]
def k0_off841 (v912 : BitVec 32) : Fin 2 → Nat :=
  let c3840_i32_451 : BitVec 32 := 3840#32
  let v913 : BitVec 32 := Scalar.subi v912 c3840_i32_451
  let v914 : Index := Scalar.indexCast v913
  let c0_452 : Index := 0#32
  ![v914.toNat, 0]

def k0_off842 (v912 : BitVec 32) : Fin 2 → Nat :=
  let c3840_i32_451 : BitVec 32 := 3840#32
  let v913 : BitVec 32 := Scalar.subi v912 c3840_i32_451
  let v917 : Index := Scalar.indexCast v913
  let c16_453 : Index := 16#32
  ![v917.toNat, 16]

def k0_chk295 (v912 : BitVec 32) : Prop :=
  (∀ a, (k0_off841 v912) a + S1x16.size a ≤ S257x32.size a) ∧
  (∀ a, (k0_off842 v912) a + S1x16.size a ≤ S257x32.size a)
theorem k0_off841_inb : ∀ (v912 : BitVec 32) (k0_hw295 : k0_chk295 v912), ∀ a, (k0_off841 v912) a + S1x16.size a ≤ S257x32.size a := fun v912 k0_hw295 => k0_hw295.1
theorem k0_off842_inb : ∀ (v912 : BitVec 32) (k0_hw295 : k0_chk295 v912), ∀ a, (k0_off842 v912) a + S1x16.size a ≤ S257x32.size a := fun v912 k0_hw295 => k0_hw295.2

def k0_off843 (v921 : BitVec 32) : Fin 2 → Nat :=
  let c3840_i32_454 : BitVec 32 := 3840#32
  let v922 : BitVec 32 := Scalar.subi v921 c3840_i32_454
  let v923 : Index := Scalar.indexCast v922
  let c0_455 : Index := 0#32
  ![v923.toNat, 0]

def k0_off844 (v921 : BitVec 32) : Fin 2 → Nat :=
  let c3840_i32_454 : BitVec 32 := 3840#32
  let v922 : BitVec 32 := Scalar.subi v921 c3840_i32_454
  let v926 : Index := Scalar.indexCast v922
  let c16_456 : Index := 16#32
  ![v926.toNat, 16]

def k0_chk296 (v921 : BitVec 32) : Prop :=
  (∀ a, (k0_off843 v921) a + S1x16.size a ≤ S257x32.size a) ∧
  (∀ a, (k0_off844 v921) a + S1x16.size a ≤ S257x32.size a)
theorem k0_off843_inb : ∀ (v921 : BitVec 32) (k0_hw296 : k0_chk296 v921), ∀ a, (k0_off843 v921) a + S1x16.size a ≤ S257x32.size a := fun v921 k0_hw296 => k0_hw296.1
theorem k0_off844_inb : ∀ (v921 : BitVec 32) (k0_hw296 : k0_chk296 v921), ∀ a, (k0_off844 v921) a + S1x16.size a ≤ S257x32.size a := fun v921 k0_hw296 => k0_hw296.2

def k0_off845 (v930 : BitVec 32) : Fin 2 → Nat :=
  let c3840_i32_457 : BitVec 32 := 3840#32
  let v931 : BitVec 32 := Scalar.subi v930 c3840_i32_457
  let v932 : Index := Scalar.indexCast v931
  let c0_458 : Index := 0#32
  ![v932.toNat, 0]

def k0_off846 (v930 : BitVec 32) : Fin 2 → Nat :=
  let c3840_i32_457 : BitVec 32 := 3840#32
  let v931 : BitVec 32 := Scalar.subi v930 c3840_i32_457
  let v935 : Index := Scalar.indexCast v931
  let c16_459 : Index := 16#32
  ![v935.toNat, 16]

def k0_chk297 (v930 : BitVec 32) : Prop :=
  (∀ a, (k0_off845 v930) a + S1x16.size a ≤ S257x32.size a) ∧
  (∀ a, (k0_off846 v930) a + S1x16.size a ≤ S257x32.size a)
theorem k0_off845_inb : ∀ (v930 : BitVec 32) (k0_hw297 : k0_chk297 v930), ∀ a, (k0_off845 v930) a + S1x16.size a ≤ S257x32.size a := fun v930 k0_hw297 => k0_hw297.1
theorem k0_off846_inb : ∀ (v930 : BitVec 32) (k0_hw297 : k0_chk297 v930), ∀ a, (k0_off846 v930) a + S1x16.size a ≤ S257x32.size a := fun v930 k0_hw297 => k0_hw297.2

def k0_off847 (v939 : BitVec 32) : Fin 2 → Nat :=
  let c3840_i32_460 : BitVec 32 := 3840#32
  let v940 : BitVec 32 := Scalar.subi v939 c3840_i32_460
  let v941 : Index := Scalar.indexCast v940
  let c0_461 : Index := 0#32
  ![v941.toNat, 0]

def k0_off848 (v939 : BitVec 32) : Fin 2 → Nat :=
  let c3840_i32_460 : BitVec 32 := 3840#32
  let v940 : BitVec 32 := Scalar.subi v939 c3840_i32_460
  let v944 : Index := Scalar.indexCast v940
  let c16_462 : Index := 16#32
  ![v944.toNat, 16]

def k0_chk298 (v939 : BitVec 32) : Prop :=
  (∀ a, (k0_off847 v939) a + S1x16.size a ≤ S257x32.size a) ∧
  (∀ a, (k0_off848 v939) a + S1x16.size a ≤ S257x32.size a)
theorem k0_off847_inb : ∀ (v939 : BitVec 32) (k0_hw298 : k0_chk298 v939), ∀ a, (k0_off847 v939) a + S1x16.size a ≤ S257x32.size a := fun v939 k0_hw298 => k0_hw298.1
theorem k0_off848_inb : ∀ (v939 : BitVec 32) (k0_hw298 : k0_chk298 v939), ∀ a, (k0_off848 v939) a + S1x16.size a ≤ S257x32.size a := fun v939 k0_hw298 => k0_hw298.2

def k0_off849 (v948 : BitVec 32) : Fin 2 → Nat :=
  let c3840_i32_463 : BitVec 32 := 3840#32
  let v949 : BitVec 32 := Scalar.subi v948 c3840_i32_463
  let v950 : Index := Scalar.indexCast v949
  let c0_464 : Index := 0#32
  ![v950.toNat, 0]

def k0_off850 (v948 : BitVec 32) : Fin 2 → Nat :=
  let c3840_i32_463 : BitVec 32 := 3840#32
  let v949 : BitVec 32 := Scalar.subi v948 c3840_i32_463
  let v953 : Index := Scalar.indexCast v949
  let c16_465 : Index := 16#32
  ![v953.toNat, 16]

def k0_chk299 (v948 : BitVec 32) : Prop :=
  (∀ a, (k0_off849 v948) a + S1x16.size a ≤ S257x32.size a) ∧
  (∀ a, (k0_off850 v948) a + S1x16.size a ≤ S257x32.size a)
theorem k0_off849_inb : ∀ (v948 : BitVec 32) (k0_hw299 : k0_chk299 v948), ∀ a, (k0_off849 v948) a + S1x16.size a ≤ S257x32.size a := fun v948 k0_hw299 => k0_hw299.1
theorem k0_off850_inb : ∀ (v948 : BitVec 32) (k0_hw299 : k0_chk299 v948), ∀ a, (k0_off850 v948) a + S1x16.size a ≤ S257x32.size a := fun v948 k0_hw299 => k0_hw299.2

def k0_off851 (v957 : BitVec 32) : Fin 2 → Nat :=
  let c3840_i32_466 : BitVec 32 := 3840#32
  let v958 : BitVec 32 := Scalar.subi v957 c3840_i32_466
  let v959 : Index := Scalar.indexCast v958
  let c0_467 : Index := 0#32
  ![v959.toNat, 0]

def k0_off852 (v957 : BitVec 32) : Fin 2 → Nat :=
  let c3840_i32_466 : BitVec 32 := 3840#32
  let v958 : BitVec 32 := Scalar.subi v957 c3840_i32_466
  let v962 : Index := Scalar.indexCast v958
  let c16_468 : Index := 16#32
  ![v962.toNat, 16]

def k0_chk300 (v957 : BitVec 32) : Prop :=
  (∀ a, (k0_off851 v957) a + S1x16.size a ≤ S257x32.size a) ∧
  (∀ a, (k0_off852 v957) a + S1x16.size a ≤ S257x32.size a)
theorem k0_off851_inb : ∀ (v957 : BitVec 32) (k0_hw300 : k0_chk300 v957), ∀ a, (k0_off851 v957) a + S1x16.size a ≤ S257x32.size a := fun v957 k0_hw300 => k0_hw300.1
theorem k0_off852_inb : ∀ (v957 : BitVec 32) (k0_hw300 : k0_chk300 v957), ∀ a, (k0_off852 v957) a + S1x16.size a ≤ S257x32.size a := fun v957 k0_hw300 => k0_hw300.2

def k0_off853 (v966 : BitVec 32) : Fin 2 → Nat :=
  let c3840_i32_469 : BitVec 32 := 3840#32
  let v967 : BitVec 32 := Scalar.subi v966 c3840_i32_469
  let v968 : Index := Scalar.indexCast v967
  let c0_470 : Index := 0#32
  ![v968.toNat, 0]

def k0_off854 (v966 : BitVec 32) : Fin 2 → Nat :=
  let c3840_i32_469 : BitVec 32 := 3840#32
  let v967 : BitVec 32 := Scalar.subi v966 c3840_i32_469
  let v971 : Index := Scalar.indexCast v967
  let c16_471 : Index := 16#32
  ![v971.toNat, 16]

def k0_chk301 (v966 : BitVec 32) : Prop :=
  (∀ a, (k0_off853 v966) a + S1x16.size a ≤ S257x32.size a) ∧
  (∀ a, (k0_off854 v966) a + S1x16.size a ≤ S257x32.size a)
theorem k0_off853_inb : ∀ (v966 : BitVec 32) (k0_hw301 : k0_chk301 v966), ∀ a, (k0_off853 v966) a + S1x16.size a ≤ S257x32.size a := fun v966 k0_hw301 => k0_hw301.1
theorem k0_off854_inb : ∀ (v966 : BitVec 32) (k0_hw301 : k0_chk301 v966), ∀ a, (k0_off854 v966) a + S1x16.size a ≤ S257x32.size a := fun v966 k0_hw301 => k0_hw301.2

def k0_off855 (v975 : BitVec 32) : Fin 2 → Nat :=
  let c3840_i32_472 : BitVec 32 := 3840#32
  let v976 : BitVec 32 := Scalar.subi v975 c3840_i32_472
  let v977 : Index := Scalar.indexCast v976
  let c0_473 : Index := 0#32
  ![v977.toNat, 0]

def k0_off856 (v975 : BitVec 32) : Fin 2 → Nat :=
  let c3840_i32_472 : BitVec 32 := 3840#32
  let v976 : BitVec 32 := Scalar.subi v975 c3840_i32_472
  let v980 : Index := Scalar.indexCast v976
  let c16_474 : Index := 16#32
  ![v980.toNat, 16]

def k0_chk302 (v975 : BitVec 32) : Prop :=
  (∀ a, (k0_off855 v975) a + S1x16.size a ≤ S257x32.size a) ∧
  (∀ a, (k0_off856 v975) a + S1x16.size a ≤ S257x32.size a)
theorem k0_off855_inb : ∀ (v975 : BitVec 32) (k0_hw302 : k0_chk302 v975), ∀ a, (k0_off855 v975) a + S1x16.size a ≤ S257x32.size a := fun v975 k0_hw302 => k0_hw302.1
theorem k0_off856_inb : ∀ (v975 : BitVec 32) (k0_hw302 : k0_chk302 v975), ∀ a, (k0_off856 v975) a + S1x16.size a ≤ S257x32.size a := fun v975 k0_hw302 => k0_hw302.2

def k0_off857 (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t81 : Fin (k0_t81_loop v36 v52 v105 v158 v211 v264 v317 v370 v423 v476 v529 v582 v635 v688 v741 v790).trips) (c0_i32_475 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v830 : BitVec 32 := Scalar.maxsi v781 v792
  let c0_i32_418 : BitVec 32 := 0#32
  let c2049_i32_409 : BitVec 32 := 2049#32
  let v837 : BitVec 32 := Scalar.minsi v36 c2049_i32_409
  let v838 : BitVec 32 := Scalar.subi v837 v830
  let c0_i32_410 : BitVec 32 := 0#32
  let v839 : BitVec 32 := Scalar.maxsi v838 c0_i32_410
  let c0_i32_412 : BitVec 32 := 0#32
  let v841 : BitVec 1 := Scalar.cmpi .sgt v839 c0_i32_412
  let v842 : BitVec 32 := Scalar.extui v841
  let c0_i32_413 : BitVec 32 := 0#32
  let v843 : BitVec 1 := Scalar.cmpi .slt v839 c0_i32_413
  let v844 : BitVec 32 := Scalar.extui v843
  let v845 : BitVec 32 := Scalar.subi v842 v844
  let c8_i32_411 : BitVec 32 := 8#32
  let c0_i32_414 : BitVec 32 := 0#32
  let v846 : BitVec 1 := Scalar.cmpi .sgt c8_i32_411 c0_i32_414
  let v847 : BitVec 32 := Scalar.extui v846
  let c0_i32_415 : BitVec 32 := 0#32
  let v848 : BitVec 1 := Scalar.cmpi .slt c8_i32_411 c0_i32_415
  let v849 : BitVec 32 := Scalar.extui v848
  let v850 : BitVec 32 := Scalar.subi v847 v849
  let v851 : BitVec 1 := Scalar.cmpi .ne v845 v850
  let v852 : BitVec 32 := Scalar.remsi v839 c8_i32_411
  let c0_i32_416 : BitVec 32 := 0#32
  let v853 : BitVec 1 := Scalar.cmpi .ne v852 c0_i32_416
  let v854 : BitVec 1 := Scalar.andi v851 v853
  let v840 : BitVec 32 := Scalar.divsi v839 c8_i32_411
  let c1_i32_417 : BitVec 32 := 1#32
  let v855 : BitVec 32 := Scalar.subi v840 c1_i32_417
  let v856 : BitVec 32 := Scalar.select v854 v855 v840
  let v857 : BitVec 32 := Scalar.subi v856 c0_i32_418
  let c1_i32_419 : BitVec 32 := 1#32
  let v859 : BitVec 32 := Scalar.divsi v857 c1_i32_419
  let v860 : BitVec 32 := Scalar.muli v859 c1_i32_419
  let v861 : BitVec 32 := Scalar.addi c0_i32_418 v860
  let c1_i32_421 : BitVec 32 := 1#32
  let arg19 : BitVec 32 := Scf.iv v861 c1_i32_421 k0_t81
  let c8_i32_444 : BitVec 32 := 8#32
  let v893 : BitVec 32 := Scalar.muli arg19 c8_i32_444
  let v894 : BitVec 32 := Scalar.addi v830 v893
  let v988 : BitVec 32 := Scalar.addi v894 c0_i32_475
  let c1_i32_476 : BitVec 32 := 1#32
  let v989 : BitVec 32 := Scalar.addi v988 c1_i32_476
  let v990 : Index := Scalar.indexCast v989
  let c0_477 : Index := 0#32
  ![v990.toNat, 0]
def k0_off858 (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t81 : Fin (k0_t81_loop v36 v52 v105 v158 v211 v264 v317 v370 v423 v476 v529 v582 v635 v688 v741 v790).trips) (c0_i32_478 : BitVec 32) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v830 : BitVec 32 := Scalar.maxsi v781 v792
  let c0_i32_418 : BitVec 32 := 0#32
  let c2049_i32_409 : BitVec 32 := 2049#32
  let v837 : BitVec 32 := Scalar.minsi v36 c2049_i32_409
  let v838 : BitVec 32 := Scalar.subi v837 v830
  let c0_i32_410 : BitVec 32 := 0#32
  let v839 : BitVec 32 := Scalar.maxsi v838 c0_i32_410
  let c0_i32_412 : BitVec 32 := 0#32
  let v841 : BitVec 1 := Scalar.cmpi .sgt v839 c0_i32_412
  let v842 : BitVec 32 := Scalar.extui v841
  let c0_i32_413 : BitVec 32 := 0#32
  let v843 : BitVec 1 := Scalar.cmpi .slt v839 c0_i32_413
  let v844 : BitVec 32 := Scalar.extui v843
  let v845 : BitVec 32 := Scalar.subi v842 v844
  let c8_i32_411 : BitVec 32 := 8#32
  let c0_i32_414 : BitVec 32 := 0#32
  let v846 : BitVec 1 := Scalar.cmpi .sgt c8_i32_411 c0_i32_414
  let v847 : BitVec 32 := Scalar.extui v846
  let c0_i32_415 : BitVec 32 := 0#32
  let v848 : BitVec 1 := Scalar.cmpi .slt c8_i32_411 c0_i32_415
  let v849 : BitVec 32 := Scalar.extui v848
  let v850 : BitVec 32 := Scalar.subi v847 v849
  let v851 : BitVec 1 := Scalar.cmpi .ne v845 v850
  let v852 : BitVec 32 := Scalar.remsi v839 c8_i32_411
  let c0_i32_416 : BitVec 32 := 0#32
  let v853 : BitVec 1 := Scalar.cmpi .ne v852 c0_i32_416
  let v854 : BitVec 1 := Scalar.andi v851 v853
  let v840 : BitVec 32 := Scalar.divsi v839 c8_i32_411
  let c1_i32_417 : BitVec 32 := 1#32
  let v855 : BitVec 32 := Scalar.subi v840 c1_i32_417
  let v856 : BitVec 32 := Scalar.select v854 v855 v840
  let v857 : BitVec 32 := Scalar.subi v856 c0_i32_418
  let c1_i32_419 : BitVec 32 := 1#32
  let v859 : BitVec 32 := Scalar.divsi v857 c1_i32_419
  let v860 : BitVec 32 := Scalar.muli v859 c1_i32_419
  let v861 : BitVec 32 := Scalar.addi c0_i32_418 v860
  let c1_i32_421 : BitVec 32 := 1#32
  let arg19 : BitVec 32 := Scf.iv v861 c1_i32_421 k0_t81
  let c8_i32_444 : BitVec 32 := 8#32
  let v893 : BitVec 32 := Scalar.muli arg19 c8_i32_444
  let v894 : BitVec 32 := Scalar.addi v830 v893
  let v994 : BitVec 32 := Scalar.addi v894 c0_i32_478
  let c1_i32_479 : BitVec 32 := 1#32
  let v995 : BitVec 32 := Scalar.addi v994 c1_i32_479
  let v996 : Index := Scalar.indexCast v995
  let c16_480 : Index := 16#32
  ![v996.toNat, 16]
@[reducible] def k0_t82_loop (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v830 : BitVec 32 := Scalar.maxsi v781 v792
  let c2049_i32_409 : BitVec 32 := 2049#32
  let v837 : BitVec 32 := Scalar.minsi v36 c2049_i32_409
  let v838 : BitVec 32 := Scalar.subi v837 v830
  let c0_i32_410 : BitVec 32 := 0#32
  let v839 : BitVec 32 := Scalar.maxsi v838 c0_i32_410
  let c0_i32_412 : BitVec 32 := 0#32
  let v841 : BitVec 1 := Scalar.cmpi .sgt v839 c0_i32_412
  let v842 : BitVec 32 := Scalar.extui v841
  let c0_i32_413 : BitVec 32 := 0#32
  let v843 : BitVec 1 := Scalar.cmpi .slt v839 c0_i32_413
  let v844 : BitVec 32 := Scalar.extui v843
  let v845 : BitVec 32 := Scalar.subi v842 v844
  let c8_i32_411 : BitVec 32 := 8#32
  let c0_i32_414 : BitVec 32 := 0#32
  let v846 : BitVec 1 := Scalar.cmpi .sgt c8_i32_411 c0_i32_414
  let v847 : BitVec 32 := Scalar.extui v846
  let c0_i32_415 : BitVec 32 := 0#32
  let v848 : BitVec 1 := Scalar.cmpi .slt c8_i32_411 c0_i32_415
  let v849 : BitVec 32 := Scalar.extui v848
  let v850 : BitVec 32 := Scalar.subi v847 v849
  let v851 : BitVec 1 := Scalar.cmpi .ne v845 v850
  let v852 : BitVec 32 := Scalar.remsi v839 c8_i32_411
  let c0_i32_416 : BitVec 32 := 0#32
  let v853 : BitVec 1 := Scalar.cmpi .ne v852 c0_i32_416
  let v854 : BitVec 1 := Scalar.andi v851 v853
  let v840 : BitVec 32 := Scalar.divsi v839 c8_i32_411
  let c1_i32_417 : BitVec 32 := 1#32
  let v855 : BitVec 32 := Scalar.subi v840 c1_i32_417
  let v856 : BitVec 32 := Scalar.select v854 v855 v840
  let c8_i32_422 : BitVec 32 := 8#32
  let v864 : BitVec 32 := Scalar.muli v856 c8_i32_422
  let v865 : BitVec 32 := Scalar.addi v830 v864
  let v866 : BitVec 32 := Scalar.subi v837 v865
  let c1_i32_423 : BitVec 32 := 1#32
  let v868 : BitVec 32 := Scalar.divsi v866 c1_i32_423
  let v869 : BitVec 32 := Scalar.muli v868 c1_i32_423
  let v870 : BitVec 32 := Scalar.addi v865 v869
  let c1_i32_424 : BitVec 32 := 1#32
  ⟨v865, v870, c1_i32_424⟩
def k0_off859 (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t82 : Fin (k0_t82_loop v36 v52 v105 v158 v211 v264 v317 v370 v423 v476 v529 v582 v635 v688 v741 v790).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v830 : BitVec 32 := Scalar.maxsi v781 v792
  let c2049_i32_409 : BitVec 32 := 2049#32
  let v837 : BitVec 32 := Scalar.minsi v36 c2049_i32_409
  let v838 : BitVec 32 := Scalar.subi v837 v830
  let c0_i32_410 : BitVec 32 := 0#32
  let v839 : BitVec 32 := Scalar.maxsi v838 c0_i32_410
  let c0_i32_412 : BitVec 32 := 0#32
  let v841 : BitVec 1 := Scalar.cmpi .sgt v839 c0_i32_412
  let v842 : BitVec 32 := Scalar.extui v841
  let c0_i32_413 : BitVec 32 := 0#32
  let v843 : BitVec 1 := Scalar.cmpi .slt v839 c0_i32_413
  let v844 : BitVec 32 := Scalar.extui v843
  let v845 : BitVec 32 := Scalar.subi v842 v844
  let c8_i32_411 : BitVec 32 := 8#32
  let c0_i32_414 : BitVec 32 := 0#32
  let v846 : BitVec 1 := Scalar.cmpi .sgt c8_i32_411 c0_i32_414
  let v847 : BitVec 32 := Scalar.extui v846
  let c0_i32_415 : BitVec 32 := 0#32
  let v848 : BitVec 1 := Scalar.cmpi .slt c8_i32_411 c0_i32_415
  let v849 : BitVec 32 := Scalar.extui v848
  let v850 : BitVec 32 := Scalar.subi v847 v849
  let v851 : BitVec 1 := Scalar.cmpi .ne v845 v850
  let v852 : BitVec 32 := Scalar.remsi v839 c8_i32_411
  let c0_i32_416 : BitVec 32 := 0#32
  let v853 : BitVec 1 := Scalar.cmpi .ne v852 c0_i32_416
  let v854 : BitVec 1 := Scalar.andi v851 v853
  let v840 : BitVec 32 := Scalar.divsi v839 c8_i32_411
  let c1_i32_417 : BitVec 32 := 1#32
  let v855 : BitVec 32 := Scalar.subi v840 c1_i32_417
  let v856 : BitVec 32 := Scalar.select v854 v855 v840
  let c8_i32_422 : BitVec 32 := 8#32
  let v864 : BitVec 32 := Scalar.muli v856 c8_i32_422
  let v865 : BitVec 32 := Scalar.addi v830 v864
  let c1_i32_424 : BitVec 32 := 1#32
  let arg19 : BitVec 32 := Scf.iv v865 c1_i32_424 k0_t82
  let c1_i32_444 : BitVec 32 := 1#32
  let v893 : BitVec 32 := Scalar.addi arg19 c1_i32_444
  let v894 : Index := Scalar.indexCast v893
  ![v894.toNat]
def k0_off860 (v897 : BitVec 32) : Fin 2 → Nat :=
  let c3840_i32_445 : BitVec 32 := 3840#32
  let v898 : BitVec 32 := Scalar.subi v897 c3840_i32_445
  let v912 : Index := Scalar.indexCast v898
  let c0_450 : Index := 0#32
  ![v912.toNat, 0]

def k0_off861 (v897 : BitVec 32) : Fin 2 → Nat :=
  let c3840_i32_445 : BitVec 32 := 3840#32
  let v898 : BitVec 32 := Scalar.subi v897 c3840_i32_445
  let v915 : Index := Scalar.indexCast v898
  let c16_451 : Index := 16#32
  ![v915.toNat, 16]

def k0_chk303 (v897 : BitVec 32) : Prop :=
  (∀ a, (k0_off860 v897) a + S1x16.size a ≤ S257x32.size a) ∧
  (∀ a, (k0_off861 v897) a + S1x16.size a ≤ S257x32.size a)
theorem k0_off860_inb : ∀ (v897 : BitVec 32) (k0_hw303 : k0_chk303 v897), ∀ a, (k0_off860 v897) a + S1x16.size a ≤ S257x32.size a := fun v897 k0_hw303 => k0_hw303.1
theorem k0_off861_inb : ∀ (v897 : BitVec 32) (k0_hw303 : k0_chk303 v897), ∀ a, (k0_off861 v897) a + S1x16.size a ≤ S257x32.size a := fun v897 k0_hw303 => k0_hw303.2

def k0_off862 (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t82 : Fin (k0_t82_loop v36 v52 v105 v158 v211 v264 v317 v370 v423 v476 v529 v582 v635 v688 v741 v790).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v830 : BitVec 32 := Scalar.maxsi v781 v792
  let c2049_i32_409 : BitVec 32 := 2049#32
  let v837 : BitVec 32 := Scalar.minsi v36 c2049_i32_409
  let v838 : BitVec 32 := Scalar.subi v837 v830
  let c0_i32_410 : BitVec 32 := 0#32
  let v839 : BitVec 32 := Scalar.maxsi v838 c0_i32_410
  let c0_i32_412 : BitVec 32 := 0#32
  let v841 : BitVec 1 := Scalar.cmpi .sgt v839 c0_i32_412
  let v842 : BitVec 32 := Scalar.extui v841
  let c0_i32_413 : BitVec 32 := 0#32
  let v843 : BitVec 1 := Scalar.cmpi .slt v839 c0_i32_413
  let v844 : BitVec 32 := Scalar.extui v843
  let v845 : BitVec 32 := Scalar.subi v842 v844
  let c8_i32_411 : BitVec 32 := 8#32
  let c0_i32_414 : BitVec 32 := 0#32
  let v846 : BitVec 1 := Scalar.cmpi .sgt c8_i32_411 c0_i32_414
  let v847 : BitVec 32 := Scalar.extui v846
  let c0_i32_415 : BitVec 32 := 0#32
  let v848 : BitVec 1 := Scalar.cmpi .slt c8_i32_411 c0_i32_415
  let v849 : BitVec 32 := Scalar.extui v848
  let v850 : BitVec 32 := Scalar.subi v847 v849
  let v851 : BitVec 1 := Scalar.cmpi .ne v845 v850
  let v852 : BitVec 32 := Scalar.remsi v839 c8_i32_411
  let c0_i32_416 : BitVec 32 := 0#32
  let v853 : BitVec 1 := Scalar.cmpi .ne v852 c0_i32_416
  let v854 : BitVec 1 := Scalar.andi v851 v853
  let v840 : BitVec 32 := Scalar.divsi v839 c8_i32_411
  let c1_i32_417 : BitVec 32 := 1#32
  let v855 : BitVec 32 := Scalar.subi v840 c1_i32_417
  let v856 : BitVec 32 := Scalar.select v854 v855 v840
  let c8_i32_422 : BitVec 32 := 8#32
  let v864 : BitVec 32 := Scalar.muli v856 c8_i32_422
  let v865 : BitVec 32 := Scalar.addi v830 v864
  let c1_i32_424 : BitVec 32 := 1#32
  let arg19 : BitVec 32 := Scf.iv v865 c1_i32_424 k0_t82
  let c1_i32_452 : BitVec 32 := 1#32
  let v920 : BitVec 32 := Scalar.addi arg19 c1_i32_452
  let v921 : Index := Scalar.indexCast v920
  let c0_453 : Index := 0#32
  ![v921.toNat, 0]
def k0_off863 (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t82 : Fin (k0_t82_loop v36 v52 v105 v158 v211 v264 v317 v370 v423 v476 v529 v582 v635 v688 v741 v790).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v830 : BitVec 32 := Scalar.maxsi v781 v792
  let c2049_i32_409 : BitVec 32 := 2049#32
  let v837 : BitVec 32 := Scalar.minsi v36 c2049_i32_409
  let v838 : BitVec 32 := Scalar.subi v837 v830
  let c0_i32_410 : BitVec 32 := 0#32
  let v839 : BitVec 32 := Scalar.maxsi v838 c0_i32_410
  let c0_i32_412 : BitVec 32 := 0#32
  let v841 : BitVec 1 := Scalar.cmpi .sgt v839 c0_i32_412
  let v842 : BitVec 32 := Scalar.extui v841
  let c0_i32_413 : BitVec 32 := 0#32
  let v843 : BitVec 1 := Scalar.cmpi .slt v839 c0_i32_413
  let v844 : BitVec 32 := Scalar.extui v843
  let v845 : BitVec 32 := Scalar.subi v842 v844
  let c8_i32_411 : BitVec 32 := 8#32
  let c0_i32_414 : BitVec 32 := 0#32
  let v846 : BitVec 1 := Scalar.cmpi .sgt c8_i32_411 c0_i32_414
  let v847 : BitVec 32 := Scalar.extui v846
  let c0_i32_415 : BitVec 32 := 0#32
  let v848 : BitVec 1 := Scalar.cmpi .slt c8_i32_411 c0_i32_415
  let v849 : BitVec 32 := Scalar.extui v848
  let v850 : BitVec 32 := Scalar.subi v847 v849
  let v851 : BitVec 1 := Scalar.cmpi .ne v845 v850
  let v852 : BitVec 32 := Scalar.remsi v839 c8_i32_411
  let c0_i32_416 : BitVec 32 := 0#32
  let v853 : BitVec 1 := Scalar.cmpi .ne v852 c0_i32_416
  let v854 : BitVec 1 := Scalar.andi v851 v853
  let v840 : BitVec 32 := Scalar.divsi v839 c8_i32_411
  let c1_i32_417 : BitVec 32 := 1#32
  let v855 : BitVec 32 := Scalar.subi v840 c1_i32_417
  let v856 : BitVec 32 := Scalar.select v854 v855 v840
  let c8_i32_422 : BitVec 32 := 8#32
  let v864 : BitVec 32 := Scalar.muli v856 c8_i32_422
  let v865 : BitVec 32 := Scalar.addi v830 v864
  let c1_i32_424 : BitVec 32 := 1#32
  let arg19 : BitVec 32 := Scf.iv v865 c1_i32_424 k0_t82
  let c1_i32_454 : BitVec 32 := 1#32
  let v925 : BitVec 32 := Scalar.addi arg19 c1_i32_454
  let v926 : Index := Scalar.indexCast v925
  let c16_455 : Index := 16#32
  ![v926.toNat, 16]
@[reducible] def k0_t83_loop (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) : Scf.Loop 32 :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v830 : BitVec 32 := Scalar.maxsi v781 v792
  let c2049_i32_409 : BitVec 32 := 2049#32
  let v837 : BitVec 32 := Scalar.minsi v36 c2049_i32_409
  let v838 : BitVec 32 := Scalar.subi v837 v830
  let c0_i32_410 : BitVec 32 := 0#32
  let v839 : BitVec 32 := Scalar.maxsi v838 c0_i32_410
  let c0_i32_412 : BitVec 32 := 0#32
  let v841 : BitVec 1 := Scalar.cmpi .sgt v839 c0_i32_412
  let v842 : BitVec 32 := Scalar.extui v841
  let c0_i32_413 : BitVec 32 := 0#32
  let v843 : BitVec 1 := Scalar.cmpi .slt v839 c0_i32_413
  let v844 : BitVec 32 := Scalar.extui v843
  let v845 : BitVec 32 := Scalar.subi v842 v844
  let c8_i32_411 : BitVec 32 := 8#32
  let c0_i32_414 : BitVec 32 := 0#32
  let v846 : BitVec 1 := Scalar.cmpi .sgt c8_i32_411 c0_i32_414
  let v847 : BitVec 32 := Scalar.extui v846
  let c0_i32_415 : BitVec 32 := 0#32
  let v848 : BitVec 1 := Scalar.cmpi .slt c8_i32_411 c0_i32_415
  let v849 : BitVec 32 := Scalar.extui v848
  let v850 : BitVec 32 := Scalar.subi v847 v849
  let v851 : BitVec 1 := Scalar.cmpi .ne v845 v850
  let v852 : BitVec 32 := Scalar.remsi v839 c8_i32_411
  let c0_i32_416 : BitVec 32 := 0#32
  let v853 : BitVec 1 := Scalar.cmpi .ne v852 c0_i32_416
  let v854 : BitVec 1 := Scalar.andi v851 v853
  let v840 : BitVec 32 := Scalar.divsi v839 c8_i32_411
  let c1_i32_417 : BitVec 32 := 1#32
  let v855 : BitVec 32 := Scalar.subi v840 c1_i32_417
  let v856 : BitVec 32 := Scalar.select v854 v855 v840
  let c8_i32_422 : BitVec 32 := 8#32
  let v864 : BitVec 32 := Scalar.muli v856 c8_i32_422
  let v865 : BitVec 32 := Scalar.addi v830 v864
  let v866 : BitVec 32 := Scalar.subi v837 v865
  let c1_i32_423 : BitVec 32 := 1#32
  let v868 : BitVec 32 := Scalar.divsi v866 c1_i32_423
  let v869 : BitVec 32 := Scalar.muli v868 c1_i32_423
  let v870 : BitVec 32 := Scalar.addi v865 v869
  let v867 : BitVec 32 := Scalar.addi v865 v866
  let c1_i32_425 : BitVec 32 := 1#32
  ⟨v870, v867, c1_i32_425⟩
def k0_off864 (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t83 : Fin (k0_t83_loop v36 v52 v105 v158 v211 v264 v317 v370 v423 v476 v529 v582 v635 v688 v741 v790).trips) : Fin 1 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v830 : BitVec 32 := Scalar.maxsi v781 v792
  let c2049_i32_409 : BitVec 32 := 2049#32
  let v837 : BitVec 32 := Scalar.minsi v36 c2049_i32_409
  let v838 : BitVec 32 := Scalar.subi v837 v830
  let c0_i32_410 : BitVec 32 := 0#32
  let v839 : BitVec 32 := Scalar.maxsi v838 c0_i32_410
  let c0_i32_412 : BitVec 32 := 0#32
  let v841 : BitVec 1 := Scalar.cmpi .sgt v839 c0_i32_412
  let v842 : BitVec 32 := Scalar.extui v841
  let c0_i32_413 : BitVec 32 := 0#32
  let v843 : BitVec 1 := Scalar.cmpi .slt v839 c0_i32_413
  let v844 : BitVec 32 := Scalar.extui v843
  let v845 : BitVec 32 := Scalar.subi v842 v844
  let c8_i32_411 : BitVec 32 := 8#32
  let c0_i32_414 : BitVec 32 := 0#32
  let v846 : BitVec 1 := Scalar.cmpi .sgt c8_i32_411 c0_i32_414
  let v847 : BitVec 32 := Scalar.extui v846
  let c0_i32_415 : BitVec 32 := 0#32
  let v848 : BitVec 1 := Scalar.cmpi .slt c8_i32_411 c0_i32_415
  let v849 : BitVec 32 := Scalar.extui v848
  let v850 : BitVec 32 := Scalar.subi v847 v849
  let v851 : BitVec 1 := Scalar.cmpi .ne v845 v850
  let v852 : BitVec 32 := Scalar.remsi v839 c8_i32_411
  let c0_i32_416 : BitVec 32 := 0#32
  let v853 : BitVec 1 := Scalar.cmpi .ne v852 c0_i32_416
  let v854 : BitVec 1 := Scalar.andi v851 v853
  let v840 : BitVec 32 := Scalar.divsi v839 c8_i32_411
  let c1_i32_417 : BitVec 32 := 1#32
  let v855 : BitVec 32 := Scalar.subi v840 c1_i32_417
  let v856 : BitVec 32 := Scalar.select v854 v855 v840
  let c8_i32_422 : BitVec 32 := 8#32
  let v864 : BitVec 32 := Scalar.muli v856 c8_i32_422
  let v865 : BitVec 32 := Scalar.addi v830 v864
  let v866 : BitVec 32 := Scalar.subi v837 v865
  let c1_i32_423 : BitVec 32 := 1#32
  let v868 : BitVec 32 := Scalar.divsi v866 c1_i32_423
  let v869 : BitVec 32 := Scalar.muli v868 c1_i32_423
  let v870 : BitVec 32 := Scalar.addi v865 v869
  let c1_i32_425 : BitVec 32 := 1#32
  let arg19 : BitVec 32 := Scf.iv v870 c1_i32_425 k0_t83
  let c1_i32_444 : BitVec 32 := 1#32
  let v893 : BitVec 32 := Scalar.addi arg19 c1_i32_444
  let v894 : Index := Scalar.indexCast v893
  ![v894.toNat]
def k0_off865 (v897 : BitVec 32) : Fin 2 → Nat :=
  let c3840_i32_445 : BitVec 32 := 3840#32
  let v898 : BitVec 32 := Scalar.subi v897 c3840_i32_445
  let v912 : Index := Scalar.indexCast v898
  let c0_450 : Index := 0#32
  ![v912.toNat, 0]

def k0_off866 (v897 : BitVec 32) : Fin 2 → Nat :=
  let c3840_i32_445 : BitVec 32 := 3840#32
  let v898 : BitVec 32 := Scalar.subi v897 c3840_i32_445
  let v915 : Index := Scalar.indexCast v898
  let c16_451 : Index := 16#32
  ![v915.toNat, 16]

def k0_chk304 (v897 : BitVec 32) : Prop :=
  (∀ a, (k0_off865 v897) a + S1x16.size a ≤ S257x32.size a) ∧
  (∀ a, (k0_off866 v897) a + S1x16.size a ≤ S257x32.size a)
theorem k0_off865_inb : ∀ (v897 : BitVec 32) (k0_hw304 : k0_chk304 v897), ∀ a, (k0_off865 v897) a + S1x16.size a ≤ S257x32.size a := fun v897 k0_hw304 => k0_hw304.1
theorem k0_off866_inb : ∀ (v897 : BitVec 32) (k0_hw304 : k0_chk304 v897), ∀ a, (k0_off866 v897) a + S1x16.size a ≤ S257x32.size a := fun v897 k0_hw304 => k0_hw304.2

def k0_off867 (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t83 : Fin (k0_t83_loop v36 v52 v105 v158 v211 v264 v317 v370 v423 v476 v529 v582 v635 v688 v741 v790).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v830 : BitVec 32 := Scalar.maxsi v781 v792
  let c2049_i32_409 : BitVec 32 := 2049#32
  let v837 : BitVec 32 := Scalar.minsi v36 c2049_i32_409
  let v838 : BitVec 32 := Scalar.subi v837 v830
  let c0_i32_410 : BitVec 32 := 0#32
  let v839 : BitVec 32 := Scalar.maxsi v838 c0_i32_410
  let c0_i32_412 : BitVec 32 := 0#32
  let v841 : BitVec 1 := Scalar.cmpi .sgt v839 c0_i32_412
  let v842 : BitVec 32 := Scalar.extui v841
  let c0_i32_413 : BitVec 32 := 0#32
  let v843 : BitVec 1 := Scalar.cmpi .slt v839 c0_i32_413
  let v844 : BitVec 32 := Scalar.extui v843
  let v845 : BitVec 32 := Scalar.subi v842 v844
  let c8_i32_411 : BitVec 32 := 8#32
  let c0_i32_414 : BitVec 32 := 0#32
  let v846 : BitVec 1 := Scalar.cmpi .sgt c8_i32_411 c0_i32_414
  let v847 : BitVec 32 := Scalar.extui v846
  let c0_i32_415 : BitVec 32 := 0#32
  let v848 : BitVec 1 := Scalar.cmpi .slt c8_i32_411 c0_i32_415
  let v849 : BitVec 32 := Scalar.extui v848
  let v850 : BitVec 32 := Scalar.subi v847 v849
  let v851 : BitVec 1 := Scalar.cmpi .ne v845 v850
  let v852 : BitVec 32 := Scalar.remsi v839 c8_i32_411
  let c0_i32_416 : BitVec 32 := 0#32
  let v853 : BitVec 1 := Scalar.cmpi .ne v852 c0_i32_416
  let v854 : BitVec 1 := Scalar.andi v851 v853
  let v840 : BitVec 32 := Scalar.divsi v839 c8_i32_411
  let c1_i32_417 : BitVec 32 := 1#32
  let v855 : BitVec 32 := Scalar.subi v840 c1_i32_417
  let v856 : BitVec 32 := Scalar.select v854 v855 v840
  let c8_i32_422 : BitVec 32 := 8#32
  let v864 : BitVec 32 := Scalar.muli v856 c8_i32_422
  let v865 : BitVec 32 := Scalar.addi v830 v864
  let v866 : BitVec 32 := Scalar.subi v837 v865
  let c1_i32_423 : BitVec 32 := 1#32
  let v868 : BitVec 32 := Scalar.divsi v866 c1_i32_423
  let v869 : BitVec 32 := Scalar.muli v868 c1_i32_423
  let v870 : BitVec 32 := Scalar.addi v865 v869
  let c1_i32_425 : BitVec 32 := 1#32
  let arg19 : BitVec 32 := Scf.iv v870 c1_i32_425 k0_t83
  let c1_i32_452 : BitVec 32 := 1#32
  let v920 : BitVec 32 := Scalar.addi arg19 c1_i32_452
  let v921 : Index := Scalar.indexCast v920
  let c0_453 : Index := 0#32
  ![v921.toNat, 0]
def k0_off868 (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_t83 : Fin (k0_t83_loop v36 v52 v105 v158 v211 v264 v317 v370 v423 v476 v529 v582 v635 v688 v741 v790).trips) : Fin 2 → Nat :=
  let c_m1_i32_53 : BitVec 32 := 4294967295#32
  let c1_i32_35 : BitVec 32 := 1#32
  let v53 : BitVec 32 := Scalar.subi v52 c1_i32_35
  let c2049_i32 : BitVec 32 := 2049#32
  let v54 : BitVec 32 := Scalar.minsi v53 c2049_i32
  let v92 : BitVec 32 := Scalar.maxsi c_m1_i32_53 v54
  let c1_i32_61 : BitVec 32 := 1#32
  let v106 : BitVec 32 := Scalar.subi v105 c1_i32_61
  let c2049_i32_62 : BitVec 32 := 2049#32
  let v107 : BitVec 32 := Scalar.minsi v106 c2049_i32_62
  let v145 : BitVec 32 := Scalar.maxsi v92 v107
  let c1_i32_86 : BitVec 32 := 1#32
  let v159 : BitVec 32 := Scalar.subi v158 c1_i32_86
  let c2049_i32_87 : BitVec 32 := 2049#32
  let v160 : BitVec 32 := Scalar.minsi v159 c2049_i32_87
  let v198 : BitVec 32 := Scalar.maxsi v145 v160
  let c1_i32_111 : BitVec 32 := 1#32
  let v212 : BitVec 32 := Scalar.subi v211 c1_i32_111
  let c2049_i32_112 : BitVec 32 := 2049#32
  let v213 : BitVec 32 := Scalar.minsi v212 c2049_i32_112
  let v251 : BitVec 32 := Scalar.maxsi v198 v213
  let c1_i32_136 : BitVec 32 := 1#32
  let v265 : BitVec 32 := Scalar.subi v264 c1_i32_136
  let c2049_i32_137 : BitVec 32 := 2049#32
  let v266 : BitVec 32 := Scalar.minsi v265 c2049_i32_137
  let v304 : BitVec 32 := Scalar.maxsi v251 v266
  let c1_i32_161 : BitVec 32 := 1#32
  let v318 : BitVec 32 := Scalar.subi v317 c1_i32_161
  let c2049_i32_162 : BitVec 32 := 2049#32
  let v319 : BitVec 32 := Scalar.minsi v318 c2049_i32_162
  let v357 : BitVec 32 := Scalar.maxsi v304 v319
  let c1_i32_186 : BitVec 32 := 1#32
  let v371 : BitVec 32 := Scalar.subi v370 c1_i32_186
  let c2049_i32_187 : BitVec 32 := 2049#32
  let v372 : BitVec 32 := Scalar.minsi v371 c2049_i32_187
  let v410 : BitVec 32 := Scalar.maxsi v357 v372
  let c1_i32_211 : BitVec 32 := 1#32
  let v424 : BitVec 32 := Scalar.subi v423 c1_i32_211
  let c2049_i32_212 : BitVec 32 := 2049#32
  let v425 : BitVec 32 := Scalar.minsi v424 c2049_i32_212
  let v463 : BitVec 32 := Scalar.maxsi v410 v425
  let c1_i32_236 : BitVec 32 := 1#32
  let v477 : BitVec 32 := Scalar.subi v476 c1_i32_236
  let c2049_i32_237 : BitVec 32 := 2049#32
  let v478 : BitVec 32 := Scalar.minsi v477 c2049_i32_237
  let v516 : BitVec 32 := Scalar.maxsi v463 v478
  let c1_i32_261 : BitVec 32 := 1#32
  let v530 : BitVec 32 := Scalar.subi v529 c1_i32_261
  let c2049_i32_262 : BitVec 32 := 2049#32
  let v531 : BitVec 32 := Scalar.minsi v530 c2049_i32_262
  let v569 : BitVec 32 := Scalar.maxsi v516 v531
  let c1_i32_286 : BitVec 32 := 1#32
  let v583 : BitVec 32 := Scalar.subi v582 c1_i32_286
  let c2049_i32_287 : BitVec 32 := 2049#32
  let v584 : BitVec 32 := Scalar.minsi v583 c2049_i32_287
  let v622 : BitVec 32 := Scalar.maxsi v569 v584
  let c1_i32_311 : BitVec 32 := 1#32
  let v636 : BitVec 32 := Scalar.subi v635 c1_i32_311
  let c2049_i32_312 : BitVec 32 := 2049#32
  let v637 : BitVec 32 := Scalar.minsi v636 c2049_i32_312
  let v675 : BitVec 32 := Scalar.maxsi v622 v637
  let c1_i32_336 : BitVec 32 := 1#32
  let v689 : BitVec 32 := Scalar.subi v688 c1_i32_336
  let c2049_i32_337 : BitVec 32 := 2049#32
  let v690 : BitVec 32 := Scalar.minsi v689 c2049_i32_337
  let v728 : BitVec 32 := Scalar.maxsi v675 v690
  let c1_i32_361 : BitVec 32 := 1#32
  let v742 : BitVec 32 := Scalar.subi v741 c1_i32_361
  let c2049_i32_362 : BitVec 32 := 2049#32
  let v743 : BitVec 32 := Scalar.minsi v742 c2049_i32_362
  let v781 : BitVec 32 := Scalar.maxsi v728 v743
  let c1_i32_385 : BitVec 32 := 1#32
  let v791 : BitVec 32 := Scalar.subi v790 c1_i32_385
  let c2049_i32_386 : BitVec 32 := 2049#32
  let v792 : BitVec 32 := Scalar.minsi v791 c2049_i32_386
  let v830 : BitVec 32 := Scalar.maxsi v781 v792
  let c2049_i32_409 : BitVec 32 := 2049#32
  let v837 : BitVec 32 := Scalar.minsi v36 c2049_i32_409
  let v838 : BitVec 32 := Scalar.subi v837 v830
  let c0_i32_410 : BitVec 32 := 0#32
  let v839 : BitVec 32 := Scalar.maxsi v838 c0_i32_410
  let c0_i32_412 : BitVec 32 := 0#32
  let v841 : BitVec 1 := Scalar.cmpi .sgt v839 c0_i32_412
  let v842 : BitVec 32 := Scalar.extui v841
  let c0_i32_413 : BitVec 32 := 0#32
  let v843 : BitVec 1 := Scalar.cmpi .slt v839 c0_i32_413
  let v844 : BitVec 32 := Scalar.extui v843
  let v845 : BitVec 32 := Scalar.subi v842 v844
  let c8_i32_411 : BitVec 32 := 8#32
  let c0_i32_414 : BitVec 32 := 0#32
  let v846 : BitVec 1 := Scalar.cmpi .sgt c8_i32_411 c0_i32_414
  let v847 : BitVec 32 := Scalar.extui v846
  let c0_i32_415 : BitVec 32 := 0#32
  let v848 : BitVec 1 := Scalar.cmpi .slt c8_i32_411 c0_i32_415
  let v849 : BitVec 32 := Scalar.extui v848
  let v850 : BitVec 32 := Scalar.subi v847 v849
  let v851 : BitVec 1 := Scalar.cmpi .ne v845 v850
  let v852 : BitVec 32 := Scalar.remsi v839 c8_i32_411
  let c0_i32_416 : BitVec 32 := 0#32
  let v853 : BitVec 1 := Scalar.cmpi .ne v852 c0_i32_416
  let v854 : BitVec 1 := Scalar.andi v851 v853
  let v840 : BitVec 32 := Scalar.divsi v839 c8_i32_411
  let c1_i32_417 : BitVec 32 := 1#32
  let v855 : BitVec 32 := Scalar.subi v840 c1_i32_417
  let v856 : BitVec 32 := Scalar.select v854 v855 v840
  let c8_i32_422 : BitVec 32 := 8#32
  let v864 : BitVec 32 := Scalar.muli v856 c8_i32_422
  let v865 : BitVec 32 := Scalar.addi v830 v864
  let v866 : BitVec 32 := Scalar.subi v837 v865
  let c1_i32_423 : BitVec 32 := 1#32
  let v868 : BitVec 32 := Scalar.divsi v866 c1_i32_423
  let v869 : BitVec 32 := Scalar.muli v868 c1_i32_423
  let v870 : BitVec 32 := Scalar.addi v865 v869
  let c1_i32_425 : BitVec 32 := 1#32
  let arg19 : BitVec 32 := Scf.iv v870 c1_i32_425 k0_t83
  let c1_i32_454 : BitVec 32 := 1#32
  let v925 : BitVec 32 := Scalar.addi arg19 c1_i32_454
  let v926 : Index := Scalar.indexCast v925
  let c16_455 : Index := 16#32
  ![v926.toNat, 16]

variable {F : FTy → Type} [FloatOps F]

def k0_chk268 (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) : Prop :=
  ((k0_t75_loop v52 v105 v158 v211 v264 v317 v370 v423 v476 v529 v582 v635 v688 v741 v790).OK) ∧
  (∀ k0_t75 : Fin (k0_t75_loop v52 v105 v158 v211 v264 v317 v370 v423 v476 v529 v582 v635 v688 v741 v790).trips, ∀ (r : Fin 2), ∀ a, (k0_off768 v52 v105 v158 v211 v264 v317 v370 v423 v476 v529 v582 v635 v688 v741 v790 k0_t75 (BitVec.ofNat 32 (1 + r.val))) a + S16.size a ≤ S4112.size a) ∧
  (∀ k0_t75 : Fin (k0_t75_loop v52 v105 v158 v211 v264 v317 v370 v423 v476 v529 v582 v635 v688 v741 v790).trips, ∀ (r : Fin 8), ∀ a, (k0_off785 v52 v105 v158 v211 v264 v317 v370 v423 v476 v529 v582 v635 v688 v741 v790 k0_t75 (BitVec.ofNat 32 r.val)) a + S1x16.size a ≤ S2050x32.size a) ∧
  (∀ k0_t75 : Fin (k0_t75_loop v52 v105 v158 v211 v264 v317 v370 v423 v476 v529 v582 v635 v688 v741 v790).trips, ∀ (r : Fin 8), ∀ a, (k0_off786 v52 v105 v158 v211 v264 v317 v370 v423 v476 v529 v582 v635 v688 v741 v790 k0_t75 (BitVec.ofNat 32 r.val)) a + S1x16.size a ≤ S2050x32.size a) ∧
  ((k0_t76_loop v52 v105 v158 v211 v264 v317 v370 v423 v476 v529 v582 v635 v688 v741 v790).OK) ∧
  (∀ k0_t76 : Fin (k0_t76_loop v52 v105 v158 v211 v264 v317 v370 v423 v476 v529 v582 v635 v688 v741 v790).trips, ∀ (r : Fin 2), ∀ a, (k0_off787 v52 v105 v158 v211 v264 v317 v370 v423 v476 v529 v582 v635 v688 v741 v790 k0_t76 (BitVec.ofNat 32 (1 + r.val))) a + S16.size a ≤ S4112.size a) ∧
  (∀ k0_t76 : Fin (k0_t76_loop v52 v105 v158 v211 v264 v317 v370 v423 v476 v529 v582 v635 v688 v741 v790).trips, ∀ (r : Fin 8), ∀ a, (k0_off804 v52 v105 v158 v211 v264 v317 v370 v423 v476 v529 v582 v635 v688 v741 v790 k0_t76 (BitVec.ofNat 32 r.val)) a + S1x16.size a ≤ S2050x32.size a) ∧
  (∀ k0_t76 : Fin (k0_t76_loop v52 v105 v158 v211 v264 v317 v370 v423 v476 v529 v582 v635 v688 v741 v790).trips, ∀ (r : Fin 8), ∀ a, (k0_off805 v52 v105 v158 v211 v264 v317 v370 v423 v476 v529 v582 v635 v688 v741 v790 k0_t76 (BitVec.ofNat 32 r.val)) a + S1x16.size a ≤ S2050x32.size a) ∧
  ((k0_t77_loop v52 v105 v158 v211 v264 v317 v370 v423 v476 v529 v582 v635 v688 v741 v790).OK) ∧
  (∀ k0_t77 : Fin (k0_t77_loop v52 v105 v158 v211 v264 v317 v370 v423 v476 v529 v582 v635 v688 v741 v790).trips, ∀ a, (k0_off806 v52 v105 v158 v211 v264 v317 v370 v423 v476 v529 v582 v635 v688 v741 v790 k0_t77) a + S16.size a ≤ S4112.size a) ∧
  (∀ k0_t77 : Fin (k0_t77_loop v52 v105 v158 v211 v264 v317 v370 v423 v476 v529 v582 v635 v688 v741 v790).trips, ∀ a, (k0_off809 v52 v105 v158 v211 v264 v317 v370 v423 v476 v529 v582 v635 v688 v741 v790 k0_t77) a + S1x16.size a ≤ S2050x32.size a) ∧
  (∀ k0_t77 : Fin (k0_t77_loop v52 v105 v158 v211 v264 v317 v370 v423 v476 v529 v582 v635 v688 v741 v790).trips, ∀ a, (k0_off810 v52 v105 v158 v211 v264 v317 v370 v423 v476 v529 v582 v635 v688 v741 v790 k0_t77) a + S1x16.size a ≤ S2050x32.size a) ∧
  ((k0_t78_loop v52 v105 v158 v211 v264 v317 v370 v423 v476 v529 v582 v635 v688 v741 v790).OK) ∧
  (∀ k0_t78 : Fin (k0_t78_loop v52 v105 v158 v211 v264 v317 v370 v423 v476 v529 v582 v635 v688 v741 v790).trips, ∀ a, (k0_off811 v52 v105 v158 v211 v264 v317 v370 v423 v476 v529 v582 v635 v688 v741 v790 k0_t78) a + S16.size a ≤ S4112.size a) ∧
  (∀ k0_t78 : Fin (k0_t78_loop v52 v105 v158 v211 v264 v317 v370 v423 v476 v529 v582 v635 v688 v741 v790).trips, ∀ a, (k0_off814 v52 v105 v158 v211 v264 v317 v370 v423 v476 v529 v582 v635 v688 v741 v790 k0_t78) a + S1x16.size a ≤ S2050x32.size a) ∧
  (∀ k0_t78 : Fin (k0_t78_loop v52 v105 v158 v211 v264 v317 v370 v423 v476 v529 v582 v635 v688 v741 v790).trips, ∀ a, (k0_off815 v52 v105 v158 v211 v264 v317 v370 v423 v476 v529 v582 v635 v688 v741 v790 k0_t78) a + S1x16.size a ≤ S2050x32.size a) ∧
  ((k0_t80_loop v36 v52 v105 v158 v211 v264 v317 v370 v423 v476 v529 v582 v635 v688 v741 v790).OK) ∧
  (∀ k0_t80 : Fin (k0_t80_loop v36 v52 v105 v158 v211 v264 v317 v370 v423 v476 v529 v582 v635 v688 v741 v790).trips, ∀ (r : Fin 2), ∀ a, (k0_off821 v36 v52 v105 v158 v211 v264 v317 v370 v423 v476 v529 v582 v635 v688 v741 v790 k0_t80 (BitVec.ofNat 32 (1 + r.val))) a + S16.size a ≤ S4112.size a) ∧
  (∀ k0_t80 : Fin (k0_t80_loop v36 v52 v105 v158 v211 v264 v317 v370 v423 v476 v529 v582 v635 v688 v741 v790).trips, ∀ (r : Fin 8), ∀ a, (k0_off838 v36 v52 v105 v158 v211 v264 v317 v370 v423 v476 v529 v582 v635 v688 v741 v790 k0_t80 (BitVec.ofNat 32 r.val)) a + S1x16.size a ≤ S2050x32.size a) ∧
  (∀ k0_t80 : Fin (k0_t80_loop v36 v52 v105 v158 v211 v264 v317 v370 v423 v476 v529 v582 v635 v688 v741 v790).trips, ∀ (r : Fin 8), ∀ a, (k0_off839 v36 v52 v105 v158 v211 v264 v317 v370 v423 v476 v529 v582 v635 v688 v741 v790 k0_t80 (BitVec.ofNat 32 r.val)) a + S1x16.size a ≤ S2050x32.size a) ∧
  ((k0_t81_loop v36 v52 v105 v158 v211 v264 v317 v370 v423 v476 v529 v582 v635 v688 v741 v790).OK) ∧
  (∀ k0_t81 : Fin (k0_t81_loop v36 v52 v105 v158 v211 v264 v317 v370 v423 v476 v529 v582 v635 v688 v741 v790).trips, ∀ (r : Fin 2), ∀ a, (k0_off840 v36 v52 v105 v158 v211 v264 v317 v370 v423 v476 v529 v582 v635 v688 v741 v790 k0_t81 (BitVec.ofNat 32 (1 + r.val))) a + S16.size a ≤ S4112.size a) ∧
  (∀ k0_t81 : Fin (k0_t81_loop v36 v52 v105 v158 v211 v264 v317 v370 v423 v476 v529 v582 v635 v688 v741 v790).trips, ∀ (r : Fin 8), ∀ a, (k0_off857 v36 v52 v105 v158 v211 v264 v317 v370 v423 v476 v529 v582 v635 v688 v741 v790 k0_t81 (BitVec.ofNat 32 r.val)) a + S1x16.size a ≤ S2050x32.size a) ∧
  (∀ k0_t81 : Fin (k0_t81_loop v36 v52 v105 v158 v211 v264 v317 v370 v423 v476 v529 v582 v635 v688 v741 v790).trips, ∀ (r : Fin 8), ∀ a, (k0_off858 v36 v52 v105 v158 v211 v264 v317 v370 v423 v476 v529 v582 v635 v688 v741 v790 k0_t81 (BitVec.ofNat 32 r.val)) a + S1x16.size a ≤ S2050x32.size a) ∧
  ((k0_t82_loop v36 v52 v105 v158 v211 v264 v317 v370 v423 v476 v529 v582 v635 v688 v741 v790).OK) ∧
  (∀ k0_t82 : Fin (k0_t82_loop v36 v52 v105 v158 v211 v264 v317 v370 v423 v476 v529 v582 v635 v688 v741 v790).trips, ∀ a, (k0_off859 v36 v52 v105 v158 v211 v264 v317 v370 v423 v476 v529 v582 v635 v688 v741 v790 k0_t82) a + S16.size a ≤ S4112.size a) ∧
  (∀ k0_t82 : Fin (k0_t82_loop v36 v52 v105 v158 v211 v264 v317 v370 v423 v476 v529 v582 v635 v688 v741 v790).trips, ∀ a, (k0_off862 v36 v52 v105 v158 v211 v264 v317 v370 v423 v476 v529 v582 v635 v688 v741 v790 k0_t82) a + S1x16.size a ≤ S2050x32.size a) ∧
  (∀ k0_t82 : Fin (k0_t82_loop v36 v52 v105 v158 v211 v264 v317 v370 v423 v476 v529 v582 v635 v688 v741 v790).trips, ∀ a, (k0_off863 v36 v52 v105 v158 v211 v264 v317 v370 v423 v476 v529 v582 v635 v688 v741 v790 k0_t82) a + S1x16.size a ≤ S2050x32.size a) ∧
  ((k0_t83_loop v36 v52 v105 v158 v211 v264 v317 v370 v423 v476 v529 v582 v635 v688 v741 v790).OK) ∧
  (∀ k0_t83 : Fin (k0_t83_loop v36 v52 v105 v158 v211 v264 v317 v370 v423 v476 v529 v582 v635 v688 v741 v790).trips, ∀ a, (k0_off864 v36 v52 v105 v158 v211 v264 v317 v370 v423 v476 v529 v582 v635 v688 v741 v790 k0_t83) a + S16.size a ≤ S4112.size a) ∧
  (∀ k0_t83 : Fin (k0_t83_loop v36 v52 v105 v158 v211 v264 v317 v370 v423 v476 v529 v582 v635 v688 v741 v790).trips, ∀ a, (k0_off867 v36 v52 v105 v158 v211 v264 v317 v370 v423 v476 v529 v582 v635 v688 v741 v790 k0_t83) a + S1x16.size a ≤ S2050x32.size a) ∧
  (∀ k0_t83 : Fin (k0_t83_loop v36 v52 v105 v158 v211 v264 v317 v370 v423 v476 v529 v582 v635 v688 v741 v790).trips, ∀ a, (k0_off868 v36 v52 v105 v158 v211 v264 v317 v370 v423 v476 v529 v582 v635 v688 v741 v790 k0_t83) a + S1x16.size a ≤ S2050x32.size a)
theorem k0_t75_ok : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790), (k0_t75_loop v52 v105 v158 v211 v264 v317 v370 v423 v476 v529 v582 v635 v688 v741 v790).OK := fun v36 v52 v105 v158 v211 v264 v317 v370 v423 v476 v529 v582 v635 v688 v741 v790 k0_hw268 => k0_hw268.1
theorem k0_off768_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t75 : Fin (k0_t75_loop v52 v105 v158 v211 v264 v317 v370 v423 v476 v529 v582 v635 v688 v741 v790).trips), ∀ (r : Fin 2), ∀ a, (k0_off768 v52 v105 v158 v211 v264 v317 v370 v423 v476 v529 v582 v635 v688 v741 v790 k0_t75 (BitVec.ofNat 32 (1 + r.val))) a + S16.size a ≤ S4112.size a := fun v36 v52 v105 v158 v211 v264 v317 v370 v423 v476 v529 v582 v635 v688 v741 v790 k0_hw268 k0_t75 r => k0_hw268.2.1 k0_t75 r
theorem k0_off785_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t75 : Fin (k0_t75_loop v52 v105 v158 v211 v264 v317 v370 v423 v476 v529 v582 v635 v688 v741 v790).trips), ∀ (r : Fin 8), ∀ a, (k0_off785 v52 v105 v158 v211 v264 v317 v370 v423 v476 v529 v582 v635 v688 v741 v790 k0_t75 (BitVec.ofNat 32 r.val)) a + S1x16.size a ≤ S2050x32.size a := fun v36 v52 v105 v158 v211 v264 v317 v370 v423 v476 v529 v582 v635 v688 v741 v790 k0_hw268 k0_t75 r => k0_hw268.2.2.1 k0_t75 r
theorem k0_off786_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t75 : Fin (k0_t75_loop v52 v105 v158 v211 v264 v317 v370 v423 v476 v529 v582 v635 v688 v741 v790).trips), ∀ (r : Fin 8), ∀ a, (k0_off786 v52 v105 v158 v211 v264 v317 v370 v423 v476 v529 v582 v635 v688 v741 v790 k0_t75 (BitVec.ofNat 32 r.val)) a + S1x16.size a ≤ S2050x32.size a := fun v36 v52 v105 v158 v211 v264 v317 v370 v423 v476 v529 v582 v635 v688 v741 v790 k0_hw268 k0_t75 r => k0_hw268.2.2.2.1 k0_t75 r
theorem k0_t76_ok : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790), (k0_t76_loop v52 v105 v158 v211 v264 v317 v370 v423 v476 v529 v582 v635 v688 v741 v790).OK := fun v36 v52 v105 v158 v211 v264 v317 v370 v423 v476 v529 v582 v635 v688 v741 v790 k0_hw268 => k0_hw268.2.2.2.2.1
theorem k0_off787_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t76 : Fin (k0_t76_loop v52 v105 v158 v211 v264 v317 v370 v423 v476 v529 v582 v635 v688 v741 v790).trips), ∀ (r : Fin 2), ∀ a, (k0_off787 v52 v105 v158 v211 v264 v317 v370 v423 v476 v529 v582 v635 v688 v741 v790 k0_t76 (BitVec.ofNat 32 (1 + r.val))) a + S16.size a ≤ S4112.size a := fun v36 v52 v105 v158 v211 v264 v317 v370 v423 v476 v529 v582 v635 v688 v741 v790 k0_hw268 k0_t76 r => k0_hw268.2.2.2.2.2.1 k0_t76 r
theorem k0_off804_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t76 : Fin (k0_t76_loop v52 v105 v158 v211 v264 v317 v370 v423 v476 v529 v582 v635 v688 v741 v790).trips), ∀ (r : Fin 8), ∀ a, (k0_off804 v52 v105 v158 v211 v264 v317 v370 v423 v476 v529 v582 v635 v688 v741 v790 k0_t76 (BitVec.ofNat 32 r.val)) a + S1x16.size a ≤ S2050x32.size a := fun v36 v52 v105 v158 v211 v264 v317 v370 v423 v476 v529 v582 v635 v688 v741 v790 k0_hw268 k0_t76 r => k0_hw268.2.2.2.2.2.2.1 k0_t76 r
theorem k0_off805_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t76 : Fin (k0_t76_loop v52 v105 v158 v211 v264 v317 v370 v423 v476 v529 v582 v635 v688 v741 v790).trips), ∀ (r : Fin 8), ∀ a, (k0_off805 v52 v105 v158 v211 v264 v317 v370 v423 v476 v529 v582 v635 v688 v741 v790 k0_t76 (BitVec.ofNat 32 r.val)) a + S1x16.size a ≤ S2050x32.size a := fun v36 v52 v105 v158 v211 v264 v317 v370 v423 v476 v529 v582 v635 v688 v741 v790 k0_hw268 k0_t76 r => k0_hw268.2.2.2.2.2.2.2.1 k0_t76 r
theorem k0_t77_ok : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790), (k0_t77_loop v52 v105 v158 v211 v264 v317 v370 v423 v476 v529 v582 v635 v688 v741 v790).OK := fun v36 v52 v105 v158 v211 v264 v317 v370 v423 v476 v529 v582 v635 v688 v741 v790 k0_hw268 => k0_hw268.2.2.2.2.2.2.2.2.1
theorem k0_off806_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t77 : Fin (k0_t77_loop v52 v105 v158 v211 v264 v317 v370 v423 v476 v529 v582 v635 v688 v741 v790).trips), ∀ a, (k0_off806 v52 v105 v158 v211 v264 v317 v370 v423 v476 v529 v582 v635 v688 v741 v790 k0_t77) a + S16.size a ≤ S4112.size a := fun v36 v52 v105 v158 v211 v264 v317 v370 v423 v476 v529 v582 v635 v688 v741 v790 k0_hw268 k0_t77 => k0_hw268.2.2.2.2.2.2.2.2.2.1 k0_t77
theorem k0_off809_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t77 : Fin (k0_t77_loop v52 v105 v158 v211 v264 v317 v370 v423 v476 v529 v582 v635 v688 v741 v790).trips), ∀ a, (k0_off809 v52 v105 v158 v211 v264 v317 v370 v423 v476 v529 v582 v635 v688 v741 v790 k0_t77) a + S1x16.size a ≤ S2050x32.size a := fun v36 v52 v105 v158 v211 v264 v317 v370 v423 v476 v529 v582 v635 v688 v741 v790 k0_hw268 k0_t77 => k0_hw268.2.2.2.2.2.2.2.2.2.2.1 k0_t77
theorem k0_off810_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t77 : Fin (k0_t77_loop v52 v105 v158 v211 v264 v317 v370 v423 v476 v529 v582 v635 v688 v741 v790).trips), ∀ a, (k0_off810 v52 v105 v158 v211 v264 v317 v370 v423 v476 v529 v582 v635 v688 v741 v790 k0_t77) a + S1x16.size a ≤ S2050x32.size a := fun v36 v52 v105 v158 v211 v264 v317 v370 v423 v476 v529 v582 v635 v688 v741 v790 k0_hw268 k0_t77 => k0_hw268.2.2.2.2.2.2.2.2.2.2.2.1 k0_t77
theorem k0_t78_ok : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790), (k0_t78_loop v52 v105 v158 v211 v264 v317 v370 v423 v476 v529 v582 v635 v688 v741 v790).OK := fun v36 v52 v105 v158 v211 v264 v317 v370 v423 v476 v529 v582 v635 v688 v741 v790 k0_hw268 => k0_hw268.2.2.2.2.2.2.2.2.2.2.2.2.1
theorem k0_off811_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t78 : Fin (k0_t78_loop v52 v105 v158 v211 v264 v317 v370 v423 v476 v529 v582 v635 v688 v741 v790).trips), ∀ a, (k0_off811 v52 v105 v158 v211 v264 v317 v370 v423 v476 v529 v582 v635 v688 v741 v790 k0_t78) a + S16.size a ≤ S4112.size a := fun v36 v52 v105 v158 v211 v264 v317 v370 v423 v476 v529 v582 v635 v688 v741 v790 k0_hw268 k0_t78 => k0_hw268.2.2.2.2.2.2.2.2.2.2.2.2.2.1 k0_t78
theorem k0_off814_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t78 : Fin (k0_t78_loop v52 v105 v158 v211 v264 v317 v370 v423 v476 v529 v582 v635 v688 v741 v790).trips), ∀ a, (k0_off814 v52 v105 v158 v211 v264 v317 v370 v423 v476 v529 v582 v635 v688 v741 v790 k0_t78) a + S1x16.size a ≤ S2050x32.size a := fun v36 v52 v105 v158 v211 v264 v317 v370 v423 v476 v529 v582 v635 v688 v741 v790 k0_hw268 k0_t78 => k0_hw268.2.2.2.2.2.2.2.2.2.2.2.2.2.2.1 k0_t78
theorem k0_off815_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t78 : Fin (k0_t78_loop v52 v105 v158 v211 v264 v317 v370 v423 v476 v529 v582 v635 v688 v741 v790).trips), ∀ a, (k0_off815 v52 v105 v158 v211 v264 v317 v370 v423 v476 v529 v582 v635 v688 v741 v790 k0_t78) a + S1x16.size a ≤ S2050x32.size a := fun v36 v52 v105 v158 v211 v264 v317 v370 v423 v476 v529 v582 v635 v688 v741 v790 k0_hw268 k0_t78 => k0_hw268.2.2.2.2.2.2.2.2.2.2.2.2.2.2.2.1 k0_t78
theorem k0_t80_ok : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790), (k0_t80_loop v36 v52 v105 v158 v211 v264 v317 v370 v423 v476 v529 v582 v635 v688 v741 v790).OK := fun v36 v52 v105 v158 v211 v264 v317 v370 v423 v476 v529 v582 v635 v688 v741 v790 k0_hw268 => k0_hw268.2.2.2.2.2.2.2.2.2.2.2.2.2.2.2.2.1
theorem k0_off821_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t80 : Fin (k0_t80_loop v36 v52 v105 v158 v211 v264 v317 v370 v423 v476 v529 v582 v635 v688 v741 v790).trips), ∀ (r : Fin 2), ∀ a, (k0_off821 v36 v52 v105 v158 v211 v264 v317 v370 v423 v476 v529 v582 v635 v688 v741 v790 k0_t80 (BitVec.ofNat 32 (1 + r.val))) a + S16.size a ≤ S4112.size a := fun v36 v52 v105 v158 v211 v264 v317 v370 v423 v476 v529 v582 v635 v688 v741 v790 k0_hw268 k0_t80 r => k0_hw268.2.2.2.2.2.2.2.2.2.2.2.2.2.2.2.2.2.1 k0_t80 r
theorem k0_off838_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t80 : Fin (k0_t80_loop v36 v52 v105 v158 v211 v264 v317 v370 v423 v476 v529 v582 v635 v688 v741 v790).trips), ∀ (r : Fin 8), ∀ a, (k0_off838 v36 v52 v105 v158 v211 v264 v317 v370 v423 v476 v529 v582 v635 v688 v741 v790 k0_t80 (BitVec.ofNat 32 r.val)) a + S1x16.size a ≤ S2050x32.size a := fun v36 v52 v105 v158 v211 v264 v317 v370 v423 v476 v529 v582 v635 v688 v741 v790 k0_hw268 k0_t80 r => k0_hw268.2.2.2.2.2.2.2.2.2.2.2.2.2.2.2.2.2.2.1 k0_t80 r
theorem k0_off839_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t80 : Fin (k0_t80_loop v36 v52 v105 v158 v211 v264 v317 v370 v423 v476 v529 v582 v635 v688 v741 v790).trips), ∀ (r : Fin 8), ∀ a, (k0_off839 v36 v52 v105 v158 v211 v264 v317 v370 v423 v476 v529 v582 v635 v688 v741 v790 k0_t80 (BitVec.ofNat 32 r.val)) a + S1x16.size a ≤ S2050x32.size a := fun v36 v52 v105 v158 v211 v264 v317 v370 v423 v476 v529 v582 v635 v688 v741 v790 k0_hw268 k0_t80 r => k0_hw268.2.2.2.2.2.2.2.2.2.2.2.2.2.2.2.2.2.2.2.1 k0_t80 r
theorem k0_t81_ok : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790), (k0_t81_loop v36 v52 v105 v158 v211 v264 v317 v370 v423 v476 v529 v582 v635 v688 v741 v790).OK := fun v36 v52 v105 v158 v211 v264 v317 v370 v423 v476 v529 v582 v635 v688 v741 v790 k0_hw268 => k0_hw268.2.2.2.2.2.2.2.2.2.2.2.2.2.2.2.2.2.2.2.2.1
theorem k0_off840_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t81 : Fin (k0_t81_loop v36 v52 v105 v158 v211 v264 v317 v370 v423 v476 v529 v582 v635 v688 v741 v790).trips), ∀ (r : Fin 2), ∀ a, (k0_off840 v36 v52 v105 v158 v211 v264 v317 v370 v423 v476 v529 v582 v635 v688 v741 v790 k0_t81 (BitVec.ofNat 32 (1 + r.val))) a + S16.size a ≤ S4112.size a := fun v36 v52 v105 v158 v211 v264 v317 v370 v423 v476 v529 v582 v635 v688 v741 v790 k0_hw268 k0_t81 r => k0_hw268.2.2.2.2.2.2.2.2.2.2.2.2.2.2.2.2.2.2.2.2.2.1 k0_t81 r
theorem k0_off857_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t81 : Fin (k0_t81_loop v36 v52 v105 v158 v211 v264 v317 v370 v423 v476 v529 v582 v635 v688 v741 v790).trips), ∀ (r : Fin 8), ∀ a, (k0_off857 v36 v52 v105 v158 v211 v264 v317 v370 v423 v476 v529 v582 v635 v688 v741 v790 k0_t81 (BitVec.ofNat 32 r.val)) a + S1x16.size a ≤ S2050x32.size a := fun v36 v52 v105 v158 v211 v264 v317 v370 v423 v476 v529 v582 v635 v688 v741 v790 k0_hw268 k0_t81 r => k0_hw268.2.2.2.2.2.2.2.2.2.2.2.2.2.2.2.2.2.2.2.2.2.2.1 k0_t81 r
theorem k0_off858_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t81 : Fin (k0_t81_loop v36 v52 v105 v158 v211 v264 v317 v370 v423 v476 v529 v582 v635 v688 v741 v790).trips), ∀ (r : Fin 8), ∀ a, (k0_off858 v36 v52 v105 v158 v211 v264 v317 v370 v423 v476 v529 v582 v635 v688 v741 v790 k0_t81 (BitVec.ofNat 32 r.val)) a + S1x16.size a ≤ S2050x32.size a := fun v36 v52 v105 v158 v211 v264 v317 v370 v423 v476 v529 v582 v635 v688 v741 v790 k0_hw268 k0_t81 r => k0_hw268.2.2.2.2.2.2.2.2.2.2.2.2.2.2.2.2.2.2.2.2.2.2.2.1 k0_t81 r
theorem k0_t82_ok : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790), (k0_t82_loop v36 v52 v105 v158 v211 v264 v317 v370 v423 v476 v529 v582 v635 v688 v741 v790).OK := fun v36 v52 v105 v158 v211 v264 v317 v370 v423 v476 v529 v582 v635 v688 v741 v790 k0_hw268 => k0_hw268.2.2.2.2.2.2.2.2.2.2.2.2.2.2.2.2.2.2.2.2.2.2.2.2.1
theorem k0_off859_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t82 : Fin (k0_t82_loop v36 v52 v105 v158 v211 v264 v317 v370 v423 v476 v529 v582 v635 v688 v741 v790).trips), ∀ a, (k0_off859 v36 v52 v105 v158 v211 v264 v317 v370 v423 v476 v529 v582 v635 v688 v741 v790 k0_t82) a + S16.size a ≤ S4112.size a := fun v36 v52 v105 v158 v211 v264 v317 v370 v423 v476 v529 v582 v635 v688 v741 v790 k0_hw268 k0_t82 => k0_hw268.2.2.2.2.2.2.2.2.2.2.2.2.2.2.2.2.2.2.2.2.2.2.2.2.2.1 k0_t82
theorem k0_off862_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t82 : Fin (k0_t82_loop v36 v52 v105 v158 v211 v264 v317 v370 v423 v476 v529 v582 v635 v688 v741 v790).trips), ∀ a, (k0_off862 v36 v52 v105 v158 v211 v264 v317 v370 v423 v476 v529 v582 v635 v688 v741 v790 k0_t82) a + S1x16.size a ≤ S2050x32.size a := fun v36 v52 v105 v158 v211 v264 v317 v370 v423 v476 v529 v582 v635 v688 v741 v790 k0_hw268 k0_t82 => k0_hw268.2.2.2.2.2.2.2.2.2.2.2.2.2.2.2.2.2.2.2.2.2.2.2.2.2.2.1 k0_t82
theorem k0_off863_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t82 : Fin (k0_t82_loop v36 v52 v105 v158 v211 v264 v317 v370 v423 v476 v529 v582 v635 v688 v741 v790).trips), ∀ a, (k0_off863 v36 v52 v105 v158 v211 v264 v317 v370 v423 v476 v529 v582 v635 v688 v741 v790 k0_t82) a + S1x16.size a ≤ S2050x32.size a := fun v36 v52 v105 v158 v211 v264 v317 v370 v423 v476 v529 v582 v635 v688 v741 v790 k0_hw268 k0_t82 => k0_hw268.2.2.2.2.2.2.2.2.2.2.2.2.2.2.2.2.2.2.2.2.2.2.2.2.2.2.2.1 k0_t82
theorem k0_t83_ok : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790), (k0_t83_loop v36 v52 v105 v158 v211 v264 v317 v370 v423 v476 v529 v582 v635 v688 v741 v790).OK := fun v36 v52 v105 v158 v211 v264 v317 v370 v423 v476 v529 v582 v635 v688 v741 v790 k0_hw268 => k0_hw268.2.2.2.2.2.2.2.2.2.2.2.2.2.2.2.2.2.2.2.2.2.2.2.2.2.2.2.2.1
theorem k0_off864_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t83 : Fin (k0_t83_loop v36 v52 v105 v158 v211 v264 v317 v370 v423 v476 v529 v582 v635 v688 v741 v790).trips), ∀ a, (k0_off864 v36 v52 v105 v158 v211 v264 v317 v370 v423 v476 v529 v582 v635 v688 v741 v790 k0_t83) a + S16.size a ≤ S4112.size a := fun v36 v52 v105 v158 v211 v264 v317 v370 v423 v476 v529 v582 v635 v688 v741 v790 k0_hw268 k0_t83 => k0_hw268.2.2.2.2.2.2.2.2.2.2.2.2.2.2.2.2.2.2.2.2.2.2.2.2.2.2.2.2.2.1 k0_t83
theorem k0_off867_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t83 : Fin (k0_t83_loop v36 v52 v105 v158 v211 v264 v317 v370 v423 v476 v529 v582 v635 v688 v741 v790).trips), ∀ a, (k0_off867 v36 v52 v105 v158 v211 v264 v317 v370 v423 v476 v529 v582 v635 v688 v741 v790 k0_t83) a + S1x16.size a ≤ S2050x32.size a := fun v36 v52 v105 v158 v211 v264 v317 v370 v423 v476 v529 v582 v635 v688 v741 v790 k0_hw268 k0_t83 => k0_hw268.2.2.2.2.2.2.2.2.2.2.2.2.2.2.2.2.2.2.2.2.2.2.2.2.2.2.2.2.2.2.1 k0_t83
theorem k0_off868_inb : ∀ (v36 : BitVec 32) (v52 : BitVec 32) (v105 : BitVec 32) (v158 : BitVec 32) (v211 : BitVec 32) (v264 : BitVec 32) (v317 : BitVec 32) (v370 : BitVec 32) (v423 : BitVec 32) (v476 : BitVec 32) (v529 : BitVec 32) (v582 : BitVec 32) (v635 : BitVec 32) (v688 : BitVec 32) (v741 : BitVec 32) (v790 : BitVec 32) (k0_hw268 : k0_chk268 v36 v52 v105 v158 v211 v264 v317 v370 v423 v476 v529 v582 v635 v688 v741 v790) (k0_t83 : Fin (k0_t83_loop v36 v52 v105 v158 v211 v264 v317 v370 v423 v476 v529 v582 v635 v688 v741 v790).trips), ∀ a, (k0_off868 v36 v52 v105 v158 v211 v264 v317 v370 v423 v476 v529 v582 v635 v688 v741 v790 k0_t83) a + S1x16.size a ≤ S2050x32.size a := fun v36 v52 v105 v158 v211 v264 v317 v370 v423 v476 v529 v582 v635 v688 v741 v790 k0_hw268 k0_t83 => k0_hw268.2.2.2.2.2.2.2.2.2.2.2.2.2.2.2.2.2.2.2.2.2.2.2.2.2.2.2.2.2.2.2 k0_t83

@[reducible] def k0_t84_loop : Scf.Loop 32 :=
  let c0_i32_427 : BitVec 32 := 0#32
  let c128_i32 : BitVec 32 := 128#32
  let v876 : BitVec 32 := Scalar.addi c0_i32_427 c128_i32
  let c1_i32_428 : BitVec 32 := 1#32
  ⟨c0_i32_427, v876, c1_i32_428⟩
def k0_off869 (k0_t84 : Fin k0_t84_loop.trips) (c2_i32_445 : BitVec 32) : Fin 1 → Nat :=
  let c0_i32_427 : BitVec 32 := 0#32
  let c1_i32_428 : BitVec 32 := 1#32
  let arg19 : BitVec 32 := Scf.iv c0_i32_427 c1_i32_428 k0_t84
  let c16_i32_444 : BitVec 32 := 16#32
  let v893 : BitVec 32 := Scalar.muli arg19 c16_i32_444
  let v894 : BitVec 32 := Scalar.addi v893 c2_i32_445
  let v895 : Index := Scalar.indexCast v894
  ![v895.toNat]
def k0_off870 (k0_t84 : Fin k0_t84_loop.trips) : Fin 1 → Nat :=
  let c0_i32_427 : BitVec 32 := 0#32
  let c1_i32_428 : BitVec 32 := 1#32
  let arg19 : BitVec 32 := Scf.iv c0_i32_427 c1_i32_428 k0_t84
  let c16_i32_444 : BitVec 32 := 16#32
  let v893 : BitVec 32 := Scalar.muli arg19 c16_i32_444
  let v901 : Index := Scalar.indexCast v893
  ![v901.toNat]
@[reducible] def k0_t85_loop (v36 : BitVec 32) : Scf.Loop 32 :=
  let c2049_i32_430 : BitVec 32 := 2049#32
  let v877 : BitVec 32 := Scalar.minsi v36 c2049_i32_430
  let c1_i32_431 : BitVec 32 := 1#32
  let v878 : BitVec 32 := Scalar.addi v877 c1_i32_431
  let c2050_i32 : BitVec 32 := 2050#32
  let v879 : BitVec 32 := Scalar.subi c2050_i32 v878
  let c1_i32_433 : BitVec 32 := 1#32
  let v881 : BitVec 32 := Scalar.divsi v879 c1_i32_433
  let v882 : BitVec 32 := Scalar.muli v881 c1_i32_433
  let v883 : BitVec 32 := Scalar.addi v878 v882
  let c1_i32_434 : BitVec 32 := 1#32
  ⟨v878, v883, c1_i32_434⟩

def k0_off871 (v36 : BitVec 32) (k0_t85 : Fin (k0_t85_loop v36).trips) : Fin 2 → Nat :=
  let c2049_i32_430 : BitVec 32 := 2049#32
  let v877 : BitVec 32 := Scalar.minsi v36 c2049_i32_430
  let c1_i32_431 : BitVec 32 := 1#32
  let v878 : BitVec 32 := Scalar.addi v877 c1_i32_431
  let c1_i32_434 : BitVec 32 := 1#32
  let arg19 : BitVec 32 := Scf.iv v878 c1_i32_434 k0_t85
  let v893 : Index := Scalar.indexCast arg19
  let c0_444 : Index := 0#32
  ![v893.toNat, 0]
def k0_off872 (v36 : BitVec 32) (k0_t85 : Fin (k0_t85_loop v36).trips) : Fin 2 → Nat :=
  let c2049_i32_430 : BitVec 32 := 2049#32
  let v877 : BitVec 32 := Scalar.minsi v36 c2049_i32_430
  let c1_i32_431 : BitVec 32 := 1#32
  let v878 : BitVec 32 := Scalar.addi v877 c1_i32_431
  let c1_i32_434 : BitVec 32 := 1#32
  let arg19 : BitVec 32 := Scf.iv v878 c1_i32_434 k0_t85
  let v895 : Index := Scalar.indexCast arg19
  let c16_445 : Index := 16#32
  ![v895.toNat, 16]
@[reducible] def k0_t86_loop (v36 : BitVec 32) : Scf.Loop 32 :=
  let c2049_i32_430 : BitVec 32 := 2049#32
  let v877 : BitVec 32 := Scalar.minsi v36 c2049_i32_430
  let c1_i32_431 : BitVec 32 := 1#32
  let v878 : BitVec 32 := Scalar.addi v877 c1_i32_431
  let c2050_i32 : BitVec 32 := 2050#32
  let v879 : BitVec 32 := Scalar.subi c2050_i32 v878
  let c1_i32_433 : BitVec 32 := 1#32
  let v881 : BitVec 32 := Scalar.divsi v879 c1_i32_433
  let v882 : BitVec 32 := Scalar.muli v881 c1_i32_433
  let v883 : BitVec 32 := Scalar.addi v878 v882
  let v880 : BitVec 32 := Scalar.addi v878 v879
  let c1_i32_435 : BitVec 32 := 1#32
  ⟨v883, v880, c1_i32_435⟩
def k0_off873 (v36 : BitVec 32) (k0_t86 : Fin (k0_t86_loop v36).trips) : Fin 2 → Nat :=
  let c2049_i32_430 : BitVec 32 := 2049#32
  let v877 : BitVec 32 := Scalar.minsi v36 c2049_i32_430
  let c1_i32_431 : BitVec 32 := 1#32
  let v878 : BitVec 32 := Scalar.addi v877 c1_i32_431
  let c2050_i32 : BitVec 32 := 2050#32
  let v879 : BitVec 32 := Scalar.subi c2050_i32 v878
  let c1_i32_433 : BitVec 32 := 1#32
  let v881 : BitVec 32 := Scalar.divsi v879 c1_i32_433
  let v882 : BitVec 32 := Scalar.muli v881 c1_i32_433
  let v883 : BitVec 32 := Scalar.addi v878 v882
  let c1_i32_435 : BitVec 32 := 1#32
  let arg19 : BitVec 32 := Scf.iv v883 c1_i32_435 k0_t86
  let v893 : Index := Scalar.indexCast arg19
  let c0_444 : Index := 0#32
  ![v893.toNat, 0]
def k0_off874 (v36 : BitVec 32) (k0_t86 : Fin (k0_t86_loop v36).trips) : Fin 2 → Nat :=
  let c2049_i32_430 : BitVec 32 := 2049#32
  let v877 : BitVec 32 := Scalar.minsi v36 c2049_i32_430
  let c1_i32_431 : BitVec 32 := 1#32
  let v878 : BitVec 32 := Scalar.addi v877 c1_i32_431
  let c2050_i32 : BitVec 32 := 2050#32
  let v879 : BitVec 32 := Scalar.subi c2050_i32 v878
  let c1_i32_433 : BitVec 32 := 1#32
  let v881 : BitVec 32 := Scalar.divsi v879 c1_i32_433
  let v882 : BitVec 32 := Scalar.muli v881 c1_i32_433
  let v883 : BitVec 32 := Scalar.addi v878 v882
  let c1_i32_435 : BitVec 32 := 1#32
  let arg19 : BitVec 32 := Scf.iv v883 c1_i32_435 k0_t86
  let v895 : Index := Scalar.indexCast arg19
  let c16_445 : Index := 16#32
  ![v895.toNat, 16]

def k0_chk305 (v36 : BitVec 32) : Prop :=
  ((k0_t85_loop v36).OK) ∧
  (∀ k0_t85 : Fin (k0_t85_loop v36).trips, ∀ a, (k0_off871 v36 k0_t85) a + S1x16.size a ≤ S2050x32.size a) ∧
  (∀ k0_t85 : Fin (k0_t85_loop v36).trips, ∀ a, (k0_off872 v36 k0_t85) a + S1x16.size a ≤ S2050x32.size a) ∧
  ((k0_t86_loop v36).OK) ∧
  (∀ k0_t86 : Fin (k0_t86_loop v36).trips, ∀ a, (k0_off873 v36 k0_t86) a + S1x16.size a ≤ S2050x32.size a) ∧
  (∀ k0_t86 : Fin (k0_t86_loop v36).trips, ∀ a, (k0_off874 v36 k0_t86) a + S1x16.size a ≤ S2050x32.size a)
theorem k0_t85_ok : ∀ (v36 : BitVec 32) (k0_hw305 : k0_chk305 v36), (k0_t85_loop v36).OK := fun v36 k0_hw305 => k0_hw305.1
theorem k0_off871_inb : ∀ (v36 : BitVec 32) (k0_hw305 : k0_chk305 v36) (k0_t85 : Fin (k0_t85_loop v36).trips), ∀ a, (k0_off871 v36 k0_t85) a + S1x16.size a ≤ S2050x32.size a := fun v36 k0_hw305 k0_t85 => k0_hw305.2.1 k0_t85
theorem k0_off872_inb : ∀ (v36 : BitVec 32) (k0_hw305 : k0_chk305 v36) (k0_t85 : Fin (k0_t85_loop v36).trips), ∀ a, (k0_off872 v36 k0_t85) a + S1x16.size a ≤ S2050x32.size a := fun v36 k0_hw305 k0_t85 => k0_hw305.2.2.1 k0_t85
theorem k0_t86_ok : ∀ (v36 : BitVec 32) (k0_hw305 : k0_chk305 v36), (k0_t86_loop v36).OK := fun v36 k0_hw305 => k0_hw305.2.2.2.1
theorem k0_off873_inb : ∀ (v36 : BitVec 32) (k0_hw305 : k0_chk305 v36) (k0_t86 : Fin (k0_t86_loop v36).trips), ∀ a, (k0_off873 v36 k0_t86) a + S1x16.size a ≤ S2050x32.size a := fun v36 k0_hw305 k0_t86 => k0_hw305.2.2.2.2.1 k0_t86
theorem k0_off874_inb : ∀ (v36 : BitVec 32) (k0_hw305 : k0_chk305 v36) (k0_t86 : Fin (k0_t86_loop v36).trips), ∀ a, (k0_off874 v36 k0_t86) a + S1x16.size a ≤ S2050x32.size a := fun v36 k0_hw305 k0_t86 => k0_hw305.2.2.2.2.2 k0_t86

def k0_off875 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let c0_i32_438 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![arg18.toNat, 0, v3.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_442 : BitVec 32 := 0#32
  let v890 : BitVec 1 := Scalar.cmpi .eq v1 c0_i32_442
  let v891 : BitVec 32 := Scalar.extui v890
  let c0_i32_443 : BitVec 32 := 0#32
  let v892 : BitVec 1 := Scalar.cmpi .ne v891 c0_i32_443
  v892

def k0_off876 (k0_t1 : Fin k0_t1_loop.trips) : Fin 2 → Nat :=
  let c0_i32_2 : BitVec 32 := 0#32
  let c1_i32 : BitVec 32 := 1#32
  let arg18 : BitVec 32 := Scf.iv c0_i32_2 c1_i32 k0_t1
  let c0_i32_444_r0 : BitVec 32 := 0#32
  ![arg18.toNat, 0]
def k0_off877 (i : grid0.Coords) : Fin 3 → Nat :=
  let c15_i32 : BitVec 32 := 15#32
  let c0_i32_6 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![15, 0, v3.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096x1024 : Shape := ⟨3, ![16, 4096, 1024]⟩
abbrev S16x4096 : Shape := ⟨2, ![16, 4096]⟩
abbrev S_ : Shape := ⟨0, ![]⟩
abbrev S16 : Shape := ⟨1, ![16]⟩
abbrev S16x1 : Shape := ⟨2, ![16, 1]⟩
abbrev S65536 : Shape := ⟨1, ![65536]⟩
abbrev S65536x1024 : Shape := ⟨2, ![65536, 1024]⟩
abbrev S32784x1024 : Shape := ⟨2, ![32784, 1024]⟩
abbrev S65536x1 : Shape := ⟨2, ![65536, 1]⟩
abbrev S32784 : Shape := ⟨1, ![32784]⟩
abbrev S16x2049x1024 : Shape := ⟨3, ![16, 2049, 1024]⟩
abbrev S16x2048x1024 : Shape := ⟨3, ![16, 2048, 1024]⟩
abbrev S16x2049 : Shape := ⟨2, ![16, 2049]⟩
abbrev S16x2048 : Shape := ⟨2, ![16, 2048]⟩
abbrev S16x2048x1 : Shape := ⟨3, ![16, 2048, 1]⟩

abbrev nBuf : Space → Nat
  | .hbm => 62
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096, .f32⟩
  | .hbm, ⟨2, _⟩ => ⟨S_, .f32⟩
  | .hbm, ⟨3, _⟩ => ⟨S16x4096, .f32⟩
  | .hbm, ⟨4, _⟩ => ⟨S16x4096, .i1⟩
  | .hbm, ⟨5, _⟩ => ⟨S16x4096, .i32⟩
  | .hbm, ⟨6, _⟩ => ⟨S_, .i32⟩
  | .hbm, ⟨7, _⟩ => ⟨S_, .i32⟩
  | .hbm, ⟨8, _⟩ => ⟨S16x4096, .i32⟩
  | .hbm, ⟨9, _⟩ => ⟨S_, .i32⟩
  | .hbm, ⟨10, _⟩ => ⟨S16x4096, .i32⟩
  | .hbm, ⟨11, _⟩ => ⟨S16x4096, .i32⟩
  | .hbm, ⟨12, _⟩ => ⟨S_, .i32⟩
  | .hbm, ⟨13, _⟩ => ⟨S16x4096, .i32⟩
  | .hbm, ⟨14, _⟩ => ⟨S16x4096, .i1⟩
  | .hbm, ⟨15, _⟩ => ⟨S_, .i32⟩
  | .hbm, ⟨16, _⟩ => ⟨S16x4096, .i32⟩
  | .hbm, ⟨17, _⟩ => ⟨S16x4096, .i1⟩
  | .hbm, ⟨18, _⟩ => ⟨S16x4096, .i1⟩
  | .hbm, ⟨19, _⟩ => ⟨S_, .i32⟩
  | .hbm, ⟨20, _⟩ => ⟨S_, .i32⟩
  | .hbm, ⟨21, _⟩ => ⟨S16x4096, .i32⟩
  | .hbm, ⟨22, _⟩ => ⟨S16x4096, .i32⟩
  | .hbm, ⟨23, _⟩ => ⟨S16, .i32⟩
  | .hbm, ⟨24, _⟩ => ⟨S16x1, .i32⟩
  | .hbm, ⟨25, _⟩ => ⟨S_, .i32⟩
  | .hbm, ⟨26, _⟩ => ⟨S16x1, .i32⟩
  | .hbm, ⟨27, _⟩ => ⟨S16x1, .i32⟩
  | .hbm, ⟨28, _⟩ => ⟨S16x4096, .i32⟩
  | .hbm, ⟨29, _⟩ => ⟨S16x4096, .i32⟩
  | .hbm, ⟨30, _⟩ => ⟨S65536, .i32⟩
  | .hbm, ⟨31, _⟩ => ⟨S65536x1024, .f32⟩
  | .hbm, ⟨32, _⟩ => ⟨S_, .f32⟩
  | .hbm, ⟨33, _⟩ => ⟨S32784x1024, .f32⟩
  | .hbm, ⟨34, _⟩ => ⟨S65536x1, .i32⟩
  | .hbm, ⟨35, _⟩ => ⟨S32784x1024, .f32⟩
  | .hbm, ⟨36, _⟩ => ⟨S_, .f32⟩
  | .hbm, ⟨37, _⟩ => ⟨S65536, .f32⟩
  | .hbm, ⟨38, _⟩ => ⟨S_, .f32⟩
  | .hbm, ⟨39, _⟩ => ⟨S32784, .f32⟩
  | .hbm, ⟨40, _⟩ => ⟨S65536x1, .i32⟩
  | .hbm, ⟨41, _⟩ => ⟨S32784, .f32⟩
  | .hbm, ⟨42, _⟩ => ⟨S16x2049x1024, .f32⟩
  | .hbm, ⟨43, _⟩ => ⟨S16x2048x1024, .f32⟩
  | .hbm, ⟨44, _⟩ => ⟨S16x2049, .f32⟩
  | .hbm, ⟨45, _⟩ => ⟨S16x2048, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .i1⟩
  | .hbm, ⟨50, _⟩ => ⟨S16x2048x1, .f32⟩
  | .hbm, ⟨51, _⟩ => ⟨S_, .f32⟩
  | .hbm, ⟨52, _⟩ => ⟨S16x2048x1, .f32⟩
  | .hbm, ⟨53, _⟩ => ⟨S16x2048x1, .f32⟩
  | .hbm, ⟨54, _⟩ => ⟨S16x2048x1024, .f32⟩
  | .hbm, ⟨55, _⟩ => ⟨S16x2048x1024, .f32⟩
  | .hbm, ⟨56, _⟩ => ⟨S_, .f32⟩
  | .hbm, ⟨57, _⟩ => ⟨S_, .f32⟩
  | .hbm, ⟨58, _⟩ => ⟨S16x2048x1024, .i1⟩
  | .hbm, ⟨59, _⟩ => ⟨S16x2048x1024, .f32⟩
  | .hbm, ⟨60, _⟩ => ⟨S16x2048x1024, .f32⟩
  | .hbm, ⟨61, _⟩ => ⟨S16x2048, .i32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_c : Ref sig .tc := ⟨.hbm, 6, rfl⟩
abbrev main_call0_call0_v0 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_call1_v0 : Ref sig .tc := ⟨.hbm, 20, rfl⟩
abbrev main_call1_v1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Proof.Mirror.lean ====
/-
  The kernel's batch step in this proof's own words: the pieces that every column slice of every batch runs, each
  written once, with the tile of the token axis, its start, and its segment range as parameters.

  A batch reads its boundary row, scatters the positions of the boundaries into a table (`scanBody`), and then runs
  sixteen tiles of 256 tokens. A tile forms the running sums of its rows (`prefixBody`) and writes one row of the result
  for each segment that ends in the tile, eight segments at a time (`blockBody`) and then one at a time (`segBody`).
-/
module

public import proofs.«01_k».proof.Proof.Gen.KernelIdeal
public import Idealize.ShloMosaic.Lib.Tactic

@[expose] public section

noncomputable section

namespace Cert.KernelIdeal.Mean

open Cert.KernelIdeal Cert.KernelIdeal.Gen
open Idealize.ShloMosaic Idealize.SL.Sem

variable {F : FTy → Type} [FloatOps F]

/-- The effects of the tile at grid point `i`. -/
abbrev TileEff (F : FTy → Type) (i : grid0.Coords) :=
  TpuEff nD τ sig (Elt F) Λ₀ (.scVector ((i 0).castLE hcore0) ((i 1).castLE hsub0))

/-! ## The buffers -/

abbrev xArr : Memref sig .scVector .hbm S16x4096x1024 .f32 := Memref.whole main_arg0_scv
abbrev bArr : Memref sig .scVector .hbm S16x4096 .f32 := Memref.whole main_arg1_scv
abbrev oArr : Memref sig .scVector .hbm S16x2048x1024 .f32 := Memref.whole main_v0_0_scv
abbrev nArr : Memref sig .scVector .hbm S16x2048 .i32 := Memref.whole main_v0_1_scv
abbrev bBuf : Memref sig .scVector .vmem S4096 .f32 := Memref.whole cc0_scratch0
abbrev xBuf0 : Memref sig .scVector .vmem S256x32 .f32 := Memref.whole cc0_scratch1
abbrev xBuf1 : Memref sig .scVector .vmem S256x32 .f32 := Memref.whole cc0_scratch2
abbrev oBuf : Memref sig .scVector .vmem S2050x32 .f32 := Memref.whole cc0_scratch3
abbrev pBuf : Memref sig .scVector .vmem S257x32 .f32 := Memref.whole cc0_scratch4
abbrev posBuf : Memref sig .scVector .vmem S4112 .i32 := Memref.whole cc0_scratch5
abbrev cBuf : Memref sig .scVector .vmem S4096 .i32 := Memref.whole cc0_scratch6
abbrev nBuf : Memref sig .scVector .vmem S2048 .i32 := Memref.whole cc0_scratch7

/-- A vector of sixteen numbers. -/
abbrev V (F : FTy → Type) := FVec F S16 .f32

/-- A vector of sixteen zeros. -/
def zeroV : V F := broadcast S16 (Scalar.ofBits .f32 0x00000000#32 : F .f32)

/-- The positions in a vector of sixteen. -/
def iotaV : IVec S16 32 := iota .scVector S16 32 [0] iota_S16_d0_w32_scVector

theorem slicesLane (j : Fin 16) : S16.Slices ![j.val] S1 := by revert j; decide

/-- Lane `j` of sixteen words. -/
def laneI (v : IVec S16 32) (j : Fin 16) : BitVec 32 := extractAt ![0] (extractStridedSlice S1 ![j.val] v (slicesLane j)) inpos_S1_p0

/-- Lane `j` of sixteen numbers, repeated sixteen times. -/
def laneF (v : V F) (j : Fin 16) : V F :=
  broadcast S16 (extractAt ![0] (extractStridedSlice S1 ![j.val] v (slicesLane j)) inpos_S1_p0)

/-! ## Accesses to sixteen columns of a row, and to sixteen words -/

section
variable {i : grid0.Coords} {α : Type} {d : Fin 2 → Nat} {n : Fin 1 → Nat}

/-- Loads sixteen columns of a row and goes on with them. -/
def ldRow (m : Memref sig .scVector .vmem ⟨2, d⟩ .f32) (off : Fin 2 → Nat) (h : ∀ a, off a + S1x16.size a ≤ d a)
    (κ : V F → Prog (TileEff F i) α) : Prog (TileEff F i) α :=
  .op (.load m (Rect.unit (s := ⟨2, d⟩) off S1x16.size h).toLoadRect (View.loadsAt_vmem h_S1x16))
    fun x => κ (shapeCast S16 x shapeCasts_S1x16_S16)

/-- Overwrites sixteen columns of a row (the old ones are loaded and dropped). -/
def putRow (m : Memref sig .scVector .vmem ⟨2, d⟩ .f32) (off : Fin 2 → Nat) (h : ∀ a, off a + S1x16.size a ≤ d a)
    (w : V F) (κ : Prog (TileEff F i) α) : Prog (TileEff F i) α :=
  .op (.load m (Rect.unit (s := ⟨2, d⟩) off S1x16.size h).toLoadRect (View.loadsAt_vmem h_S1x16)) fun _ =>
  .op (.store m (Rect.unit (s := ⟨2, d⟩) off S1x16.size h) (shapeCast S1x16 w shapeCasts_S16_S1x16) Finset.univ
    (View.stores_vmem_bits_univ h_S1x16 rfl) (.inl rfl)) fun _ => κ

/-- Loads sixteen elements of a vector buffer. -/
def ldVec {e : EltTy} (m : Memref sig .scVector .vmem ⟨1, n⟩ e) (off : Fin 1 → Nat) (h : ∀ a, off a + S16.size a ≤ n a)
    (κ : Vec F S16 e → Prog (TileEff F i) α) : Prog (TileEff F i) α :=
  .op (.load m (Rect.unit (s := ⟨1, n⟩) off S16.size h).toLoadRect (View.loadsAt_vmem h_S16)) κ

/-- Overwrites sixteen words of a vector buffer (the old ones are loaded and dropped). -/
def putVec (m : Memref sig .scVector .vmem ⟨1, n⟩ .i32) (off : Fin 1 → Nat) (h : ∀ a, off a + S16.size a ≤ n a)
    (w : IVec S16 32) (κ : Prog (TileEff F i) α) : Prog (TileEff F i) α :=
  .op (.load m (Rect.unit (s := ⟨1, n⟩) off S16.size h).toLoadRect (View.loadsAt_vmem h_S16)) fun _ =>
  .op (.store m (Rect.unit (s := ⟨1, n⟩) off S16.size h) w Finset.univ (View.stores_vmem_bits_univ h_S16 rfl) (.inl rfl)) fun _ => κ

/-! ## The running sums of one tile -/

/-- `m` more rows of sixteen: each is added to the running sums, which are stored one row further on. -/
def prefixRows (xb : Memref sig .scVector .vmem S256x32 .f32) (k : Fin k0_t4_loop.trips) :
    (m : Nat) → m ≤ 16 → V F → V F → (V F → V F → Prog (TileEff F i) α) → Prog (TileEff F i) α
  | 0, _, a, b, κ => κ a b
  | m + 1, h, a, b, κ =>
    ldRow xb (k0_off8 k (BitVec.ofNat 32 (15 - m))) (k0_off8_inb k ⟨15 - m, by omega⟩) fun x =>
    ldRow xb (k0_off9 k (BitVec.ofNat 32 (15 - m))) (k0_off9_inb k ⟨15 - m, by omega⟩) fun y =>
    putRow pBuf (k0_off10 k (BitVec.ofNat 32 (15 - m))) (k0_off10_inb k ⟨15 - m, by omega⟩) (addf a x) <|
    putRow pBuf (k0_off11 k (BitVec.ofNat 32 (15 - m))) (k0_off11_inb k ⟨15 - m, by omega⟩) (addf b y) <|
    prefixRows xb k m (by omega) (addf a x) (addf b y) κ

/-- One trip of the loop that forms the running sums: sixteen rows. -/
def prefixBody (xb : Memref sig .scVector .vmem S256x32 .f32) (k : Fin k0_t4_loop.trips) (acc : V F × V F) : Prog (TileEff F i) (V F × V F) :=
  prefixRows xb k 16 (le_refl _) acc.1 acc.2 fun a b => .ret (a, b)

end

/-! ## The words that bound the loops over segments -/

/-- How many blocks of eight the segments `slo … shi` hold. -/
def fullBlocks (slo shi : BitVec 32) : BitVec 32 :=
  let n : BitVec 32 := Scalar.maxsi (Scalar.subi shi slo) 0#32
  let q : BitVec 32 := Scalar.divsi n 8#32
  let sn : BitVec 32 := Scalar.subi (Scalar.extui (Scalar.cmpi .sgt n 0#32)) (Scalar.extui (Scalar.cmpi .slt n 0#32))
  let s8 : BitVec 32 := Scalar.subi (Scalar.extui (Scalar.cmpi .sgt (8#32 : BitVec 32) 0#32)) (Scalar.extui (Scalar.cmpi .slt (8#32 : BitVec 32) 0#32))
  Scalar.select (Scalar.andi (Scalar.cmpi .ne sn s8) (Scalar.cmpi .ne (Scalar.remsi n 8#32) 0#32)) (Scalar.subi q 1#32) q

/-- Where the main part of a loop from `lo` over `n` steps of one ends. -/
def mainEnd (lo n : BitVec 32) : BitVec 32 := Scalar.addi lo (Scalar.muli (Scalar.divsi n 1#32) 1#32)

/-- The blocks of eight segments, and what a loop unrolled by one leaves over: nothing. -/
def blkLoop (slo shi : BitVec 32) : Scf.Loop 32 := ⟨0#32, mainEnd 0#32 (Scalar.subi (fullBlocks slo shi) 0#32), 1#32⟩
def blkRest (slo shi : BitVec 32) : Scf.Loop 32 :=
  ⟨mainEnd 0#32 (Scalar.subi (fullBlocks slo shi) 0#32), Scalar.addi 0#32 (Scalar.subi (fullBlocks slo shi) 0#32), 1#32⟩

/-- The first segment after the blocks. -/
def segLo (slo shi : BitVec 32) : BitVec 32 := Scalar.addi slo (Scalar.muli (fullBlocks slo shi) 8#32)
/-- The segments after the blocks, and what that loop leaves over: nothing. -/
def segLoop (slo shi : BitVec 32) : Scf.Loop 32 := ⟨segLo slo shi, mainEnd (segLo slo shi) (Scalar.subi shi (segLo slo shi)), 1#32⟩
def segRest (slo shi : BitVec 32) : Scf.Loop 32 :=
  ⟨mainEnd (segLo slo shi) (Scalar.subi shi (segLo slo shi)), Scalar.addi (segLo slo shi) (Scalar.subi shi (segLo slo shi)), 1#32⟩

/-- The value of a loop's counter at trip `k`. -/
abbrev ivOf (L : Scf.Loop 32) (k : Fin L.trips) : BitVec 32 := Scf.iv L.lb L.st k

/-- Where block `q` reads the table of positions, and the rows that it writes. -/
def posOff (slo q c : BitVec 32) : Fin 1 → Nat := ![(Scalar.indexCast (Scalar.addi (Scalar.addi slo (Scalar.muli q 8#32)) c)).toNat]
def rowOffL (slo q j : BitVec 32) : Fin 2 → Nat :=
  ![(Scalar.indexCast (Scalar.addi (Scalar.addi (Scalar.addi slo (Scalar.muli q 8#32)) j) 1#32)).toNat, 0]
def rowOffR (slo q j : BitVec 32) : Fin 2 → Nat :=
  ![(Scalar.indexCast (Scalar.addi (Scalar.addi (Scalar.addi slo (Scalar.muli q 8#32)) j) 1#32)).toNat, 16]
/-- The same for the single segment `s`. -/
def sposOff (s : BitVec 32) : Fin 1 → Nat := ![(Scalar.indexCast (Scalar.addi s 1#32)).toNat]
def srowOffL (s : BitVec 32) : Fin 2 → Nat := ![(Scalar.indexCast (Scalar.addi s 1#32)).toNat, 0]
def srowOffR (s : BitVec 32) : Fin 2 → Nat := ![(Scalar.indexCast (Scalar.addi s 1#32)).toNat, 16]
/-- Where the running sums of a tile starting at `t0` hold the end `v` of a segment. -/
def elOffL (t0 v : BitVec 32) : Fin 2 → Nat := ![(Scalar.indexCast (Scalar.subi v t0)).toNat, 0]
def elOffR (t0 v : BitVec 32) : Fin 2 → Nat := ![(Scalar.indexCast (Scalar.subi v t0)).toNat, 16]

/-- What the kernel assumes of a tile's segment range before its loops. -/
def TileChk (slo shi : BitVec 32) : Prop :=
  ((blkLoop slo shi).OK) ∧
  (∀ k : Fin (blkLoop slo shi).trips, ∀ (r : Fin 2), ∀ a, (posOff slo (ivOf _ k) (BitVec.ofNat 32 (1 + r.val))) a + S16.size a ≤ S4112.size a) ∧
  (∀ k : Fin (blkLoop slo shi).trips, ∀ (r : Fin 8), ∀ a, (rowOffL slo (ivOf _ k) (BitVec.ofNat 32 r.val)) a + S1x16.size a ≤ S2050x32.size a) ∧
  (∀ k : Fin (blkLoop slo shi).trips, ∀ (r : Fin 8), ∀ a, (rowOffR slo (ivOf _ k) (BitVec.ofNat 32 r.val)) a + S1x16.size a ≤ S2050x32.size a) ∧
  ((blkRest slo shi).OK) ∧
  (∀ k : Fin (blkRest slo shi).trips, ∀ (r : Fin 2), ∀ a, (posOff slo (ivOf _ k) (BitVec.ofNat 32 (1 + r.val))) a + S16.size a ≤ S4112.size a) ∧
  (∀ k : Fin (blkRest slo shi).trips, ∀ (r : Fin 8), ∀ a, (rowOffL slo (ivOf _ k) (BitVec.ofNat 32 r.val)) a + S1x16.size a ≤ S2050x32.size a) ∧
  (∀ k : Fin (blkRest slo shi).trips, ∀ (r : Fin 8), ∀ a, (rowOffR slo (ivOf _ k) (BitVec.ofNat 32 r.val)) a + S1x16.size a ≤ S2050x32.size a) ∧
  ((segLoop slo shi).OK) ∧
  (∀ k : Fin (segLoop slo shi).trips, ∀ a, (sposOff (ivOf _ k)) a + S16.size a ≤ S4112.size a) ∧
  (∀ k : Fin (segLoop slo shi).trips, ∀ a, (srowOffL (ivOf _ k)) a + S1x16.size a ≤ S2050x32.size a) ∧
  (∀ k : Fin (segLoop slo shi).trips, ∀ a, (srowOffR (ivOf _ k)) a + S1x16.size a ≤ S2050x32.size a) ∧
  ((segRest slo shi).OK) ∧
  (∀ k : Fin (segRest slo shi).trips, ∀ a, (sposOff (ivOf _ k)) a + S16.size a ≤ S4112.size a) ∧
  (∀ k : Fin (segRest slo shi).trips, ∀ a, (srowOffL (ivOf _ k)) a + S1x16.size a ≤ S2050x32.size a) ∧
  (∀ k : Fin (segRest slo shi).trips, ∀ a, (srowOffR (ivOf _ k)) a + S1x16.size a ≤ S2050x32.size a)
set_option synthInstance.maxSize 1000000 in set_option synthInstance.maxHeartbeats 0 in
instance TileChk.dec : ∀ (slo shi : BitVec 32), Decidable (TileChk slo shi) := fun slo shi => decidable_of_iff' _ (Iff.of_eq (TileChk.eq_1 slo shi))

/-- The same for the last two tiles together. -/
def TileChk2 (slo shi slo2 shi2 : BitVec 32) : Prop :=
  ((blkLoop slo shi).OK) ∧
  (∀ k : Fin (blkLoop slo shi).trips, ∀ (r : Fin 2), ∀ a, (posOff slo (ivOf _ k) (BitVec.ofNat 32 (1 + r.val))) a + S16.size a ≤ S4112.size a) ∧
  (∀ k : Fin (blkLoop slo shi).trips, ∀ (r : Fin 8), ∀ a, (rowOffL slo (ivOf _ k) (BitVec.ofNat 32 r.val)) a + S1x16.size a ≤ S2050x32.size a) ∧
  (∀ k : Fin (blkLoop slo shi).trips, ∀ (r : Fin 8), ∀ a, (rowOffR slo (ivOf _ k) (BitVec.ofNat 32 r.val)) a + S1x16.size a ≤ S2050x32.size a) ∧
  ((blkRest slo shi).OK) ∧
  (∀ k : Fin (blkRest slo shi).trips, ∀ (r : Fin 2), ∀ a, (posOff slo (ivOf _ k) (BitVec.ofNat 32 (1 + r.val))) a + S16.size a ≤ S4112.size a) ∧
  (∀ k : Fin (blkRest slo shi).trips, ∀ (r : Fin 8), ∀ a, (rowOffL slo (ivOf _ k) (BitVec.ofNat 32 r.val)) a + S1x16.size a ≤ S2050x32.size a) ∧
  (∀ k : Fin (blkRest slo shi).trips, ∀ (r : Fin 8), ∀ a, (rowOffR slo (ivOf _ k) (BitVec.ofNat 32 r.val)) a + S1x16.size a ≤ S2050x32.size a) ∧
  ((segLoop slo shi).OK) ∧
  (∀ k : Fin (segLoop slo shi).trips, ∀ a, (sposOff (ivOf _ k)) a + S16.size a ≤ S4112.size a) ∧
  (∀ k : Fin (segLoop slo shi).trips, ∀ a, (srowOffL (ivOf _ k)) a + S1x16.size a ≤ S2050x32.size a) ∧
  (∀ k : Fin (segLoop slo shi).trips, ∀ a, (srowOffR (ivOf _ k)) a + S1x16.size a ≤ S2050x32.size a) ∧
  ((segRest slo shi).OK) ∧
  (∀ k : Fin (segRest slo shi).trips, ∀ a, (sposOff (ivOf _ k)) a + S16.size a ≤ S4112.size a) ∧
  (∀ k : Fin (segRest slo shi).trips, ∀ a, (srowOffL (ivOf _ k)) a + S1x16.size a ≤ S2050x32.size a) ∧
  (∀ k : Fin (segRest slo shi).trips, ∀ a, (srowOffR (ivOf _ k)) a + S1x16.size a ≤ S2050x32.size a) ∧
  ((blkLoop slo2 shi2).OK) ∧
  (∀ k : Fin (blkLoop slo2 shi2).trips, ∀ (r : Fin 2), ∀ a, (posOff slo2 (ivOf _ k) (BitVec.ofNat 32 (1 + r.val))) a + S16.size a ≤ S4112.size a) ∧
  (∀ k : Fin (blkLoop slo2 shi2).trips, ∀ (r : Fin 8), ∀ a, (rowOffL slo2 (ivOf _ k) (BitVec.ofNat 32 r.val)) a + S1x16.size a ≤ S2050x32.size a) ∧
  (∀ k : Fin (blkLoop slo2 shi2).trips, ∀ (r : Fin 8), ∀ a, (rowOffR slo2 (ivOf _ k) (BitVec.ofNat 32 r.val)) a + S1x16.size a ≤ S2050x32.size a) ∧
  ((blkRest slo2 shi2).OK) ∧
  (∀ k : Fin (blkRest slo2 shi2).trips, ∀ (r : Fin 2), ∀ a, (posOff slo2 (ivOf _ k) (BitVec.ofNat 32 (1 + r.val))) a + S16.size a ≤ S4112.size a) ∧
  (∀ k : Fin (blkRest slo2 shi2).trips, ∀ (r : Fin 8), ∀ a, (rowOffL slo2 (ivOf _ k) (BitVec.ofNat 32 r.val)) a + S1x16.size a ≤ S2050x32.size a) ∧
  (∀ k : Fin (blkRest slo2 shi2).trips, ∀ (r : Fin 8), ∀ a, (rowOffR slo2 (ivOf _ k) (BitVec.ofNat 32 r.val)) a + S1x16.size a ≤ S2050x32.size a) ∧
  ((segLoop slo2 shi2).OK) ∧
  (∀ k : Fin (segLoop slo2 shi2).trips, ∀ a, (sposOff (ivOf _ k)) a + S16.size a ≤ S4112.size a) ∧
  (∀ k : Fin (segLoop slo2 shi2).trips, ∀ a, (srowOffL (ivOf _ k)) a + S1x16.size a ≤ S2050x32.size a) ∧
  (∀ k : Fin (segLoop slo2 shi2).trips, ∀ a, (srowOffR (ivOf _ k)) a + S1x16.size a ≤ S2050x32.size a) ∧
  ((segRest slo2 shi2).OK) ∧
  (∀ k : Fin (segRest slo2 shi2).trips, ∀ a, (sposOff (ivOf _ k)) a + S16.size a ≤ S4112.size a) ∧
  (∀ k : Fin (segRest slo2 shi2).trips, ∀ a, (srowOffL (ivOf _ k)) a + S1x16.size a ≤ S2050x32.size a) ∧
  (∀ k : Fin (segRest slo2 shi2).trips, ∀ a, (srowOffR (ivOf _ k)) a + S1x16.size a ≤ S2050x32.size a)
set_option synthInstance.maxSize 1000000 in set_option synthInstance.maxHeartbeats 0 in
instance TileChk2.dec : ∀ (slo shi slo2 shi2 : BitVec 32), Decidable (TileChk2 slo shi slo2 shi2) := fun slo shi slo2 shi2 => decidable_of_iff' _ (Iff.of_eq (TileChk2.eq_1 slo shi slo2 shi2))

theorem tileChk2_iff {slo shi slo2 shi2 : BitVec 32} : TileChk2 slo shi slo2 shi2 ↔ TileChk slo shi ∧ TileChk slo2 shi2 := by
  unfold TileChk2 TileChk; simp only [and_assoc]

theorem TileChk2.left {slo shi slo2 shi2 : BitVec 32} (h : TileChk2 slo shi slo2 shi2) : TileChk slo shi := (tileChk2_iff.mp h).1
theorem TileChk2.right {slo shi slo2 shi2 : BitVec 32} (h : TileChk2 slo shi slo2 shi2) : TileChk slo2 shi2 := (tileChk2_iff.mp h).2

/-- What it assumes of the end of a segment before it reads the running sums there. -/
def ElChk (t0 v : BitVec 32) : Prop :=
  (∀ a, (elOffL t0 v) a + S1x16.size a ≤ S257x32.size a) ∧
  (∀ a, (elOffR t0 v) a + S1x16.size a ≤ S257x32.size a)
set_option synthInstance.maxSize 1000000 in set_option synthInstance.maxHeartbeats 0 in
instance ElChk.dec : ∀ (t0 v : BitVec 32), Decidable (ElChk t0 v) := fun t0 v => decidable_of_iff' _ (Iff.of_eq (ElChk.eq_1 t0 v))

/-! ## The segments of one tile -/

/-- The factors of eight segments, from their starts and their ends. -/
def facBlock (p0 p1 : IVec S16 32) : V F :=
  select (cmpi .sgt (subi p1 p0) (broadcast S16 0#32))
    (divf (broadcast S16 (Scalar.ofBits .f32 0x3F800000#32 : F .f32))
      (maximumf (sitofp .f32 (subi p1 p0)) (broadcast S16 (Scalar.ofBits .f32 0x3F800000#32 : F .f32))))
    (broadcast S16 (Scalar.ofBits .f32 0x00000000#32 : F .f32))

/-- The factor of one segment, from its length. -/
def facSeg (n : BitVec 32) : V F :=
  Scalar.select (Scalar.cmpi .sgt n 0#32)
    (divf (broadcast S16 (Scalar.ofBits .f32 0x3F800000#32 : F .f32))
      (broadcast S16 (Scalar.sitofp .f32 (Scalar.maxsi n 1#32) : F .f32)))
    (broadcast S16 (Scalar.ofBits .f32 0x00000000#32 : F .f32))

section
variable {i : grid0.Coords} {α : Type}

/-- Reads the running sums at the end `v` of a segment and adds what the tiles before hold. -/
def elRow (t0 : BitVec 32) (ca cb : V F) (v : BitVec 32) (κ : V F → V F → Prog (TileEff F i) α) : Prog (TileEff F i) α :=
  .op (.assume (ElChk t0 v) (ElChk.dec t0 v)) fun h =>
  ldRow pBuf (elOffL t0 v) h.down.1 fun a =>
  ldRow pBuf (elOffR t0 v) h.down.2 fun b =>
  κ (addf a ca) (addf b cb)

/-- `m` more of the eight ends of a block: end `j` is kept as entry `j + 1` of `A` and `B`. -/
def elRows (t0 : BitVec 32) (ca cb : V F) (p : IVec S16 32) :
    (m : Nat) → m ≤ 8 → (Nat → V F) → (Nat → V F) → ((Nat → V F) → (Nat → V F) → Prog (TileEff F i) α) → Prog (TileEff F i) α
  | 0, _, A, B, κ => κ A B
  | m + 1, h, A, B, κ =>
    elRow t0 ca cb (laneI p ⟨8 - m, by omega⟩) fun a b =>
    elRows t0 ca cb p m (by omega) (fun n => if n = 8 - m then a else A n) (fun n => if n = 8 - m then b else B n) κ

/-- `m` more of the eight rows of a block: the differences of successive ends times the factors. -/
def outRows (slo q : BitVec 32) (fac : V F)
    (hl : ∀ (r : Fin 8), ∀ a, (rowOffL slo q (BitVec.ofNat 32 r.val)) a + S1x16.size a ≤ S2050x32.size a)
    (hr : ∀ (r : Fin 8), ∀ a, (rowOffR slo q (BitVec.ofNat 32 r.val)) a + S1x16.size a ≤ S2050x32.size a) (A B : Nat → V F) :
    (m : Nat) → m ≤ 8 → Prog (TileEff F i) α → Prog (TileEff F i) α
  | 0, _, κ => κ
  | m + 1, h, κ =>
    putRow oBuf (rowOffL slo q (BitVec.ofNat 32 (7 - m))) (hl ⟨7 - m, by omega⟩)
      (mulf (subf (A (8 - m)) (A (7 - m))) (laneF fac ⟨7 - m, by omega⟩)) <|
    putRow oBuf (rowOffR slo q (BitVec.ofNat 32 (7 - m))) (hr ⟨7 - m, by omega⟩)
      (mulf (subf (B (8 - m)) (B (7 - m))) (laneF fac ⟨7 - m, by omega⟩)) <|
    outRows slo q fac hl hr A B m (by omega) κ

/-- One block: eight segments. -/
def blockBody (slo t0 : BitVec 32) (ca cb : V F) (q : BitVec 32)
    (hp : ∀ (r : Fin 2), ∀ a, (posOff slo q (BitVec.ofNat 32 (1 + r.val))) a + S16.size a ≤ S4112.size a)
    (hl : ∀ (r : Fin 8), ∀ a, (rowOffL slo q (BitVec.ofNat 32 r.val)) a + S1x16.size a ≤ S2050x32.size a)
    (hr : ∀ (r : Fin 8), ∀ a, (rowOffR slo q (BitVec.ofNat 32 r.val)) a + S1x16.size a ≤ S2050x32.size a)
    (acc : V F × V F) : Prog (TileEff F i) (V F × V F) :=
  ldVec (e := .i32) posBuf (posOff slo q 1#32) (hp 0) fun p0 =>
  ldVec (e := .i32) posBuf (posOff slo q 2#32) (hp 1) fun p1 =>
  elRows t0 ca cb p0 8 (le_refl _) (fun _ => acc.1) (fun _ => acc.2) fun A B =>
  outRows slo q (facBlock p0 p1) hl hr A B 8 (le_refl _) <|
  .ret (A 8, B 8)

/-- One segment. -/
def segBody (t0 : BitVec 32) (ca cb : V F) (s : BitVec 32)
    (hp : ∀ a, (sposOff s) a + S16.size a ≤ S4112.size a)
    (hl : ∀ a, (srowOffL s) a + S1x16.size a ≤ S2050x32.size a)
    (hr : ∀ a, (srowOffR s) a + S1x16.size a ≤ S2050x32.size a)
    (acc : V F × V F) : Prog (TileEff F i) (V F × V F) :=
  ldVec (e := .i32) posBuf (sposOff s) hp fun p =>
  elRow t0 ca cb (laneI p 1) fun a b =>
  putRow oBuf (srowOffL s) hl (mulf (subf a acc.1) (facSeg (Scalar.subi (laneI p 1) (laneI p 0)))) <|
  putRow oBuf (srowOffR s) hr (mulf (subf b acc.2) (facSeg (Scalar.subi (laneI p 1) (laneI p 0)))) <|
  .ret (a, b)

/-- All segments of one tile. -/
def segments (t0 : BitVec 32) (ca cb : V F) (slo shi : BitVec 32) (hc : TileChk slo shi) (acc : V F × V F)
    (κ : V F × V F → Prog (TileEff F i) α) : Prog (TileEff F i) α :=
  (Scf.Loop.for (blkLoop slo shi) hc.1 acc fun k acc =>
    blockBody slo t0 ca cb (ivOf _ k) (hc.2.1 k) (hc.2.2.1 k) (hc.2.2.2.1 k) acc) >>= fun acc =>
  (Scf.Loop.for (blkRest slo shi) hc.2.2.2.2.1 acc fun k acc =>
    blockBody slo t0 ca cb (ivOf _ k) (hc.2.2.2.2.2.1 k) (hc.2.2.2.2.2.2.1 k) (hc.2.2.2.2.2.2.2.1 k) acc) >>= fun acc =>
  (Scf.Loop.for (segLoop slo shi) hc.2.2.2.2.2.2.2.2.1 acc fun k acc =>
    segBody t0 ca cb (ivOf _ k) (hc.2.2.2.2.2.2.2.2.2.1 k) (hc.2.2.2.2.2.2.2.2.2.2.1 k) (hc.2.2.2.2.2.2.2.2.2.2.2.1 k) acc) >>= fun acc =>
  (Scf.Loop.for (segRest slo shi) hc.2.2.2.2.2.2.2.2.2.2.2.2.1 acc fun k acc =>
    segBody t0 ca cb (ivOf _ k) (hc.2.2.2.2.2.2.2.2.2.2.2.2.2.1 k) (hc.2.2.2.2.2.2.2.2.2.2.2.2.2.2.1 k)
      (hc.2.2.2.2.2.2.2.2.2.2.2.2.2.2.2 k) acc) >>= κ

/-! ## The transfers of the token rows -/

/-- Where tile `ti` of batch `t` begins in the token array, for the column slice of grid point `i`. -/
def xOff (i : grid0.Coords) (t : Fin k0_t1_loop.trips) (ti : Nat) : Fin 3 → Nat :=
  ![(Scf.iv 0#32 1#32 t).toNat, 256 * ti, (k0_off2 i t) 2]

theorem xOff_inb (i : grid0.Coords) (t : Fin k0_t1_loop.trips) (ti : Fin 16) (a) : xOff i t ti.val a + S1x256x32.size a ≤ S16x4096x1024.size a := by
  have h := k0_off2_inb i t
  have h0 := h 0
  have h2 := h 2
  have hti := ti.isLt
  fin_cases a
  · exact h0
  · change 256 * ti.val + 256 ≤ 4096; omega
  · exact h2

/-- The rows of tile `ti`. -/
abbrev xRows (i : grid0.Coords) (t : Fin k0_t1_loop.trips) (ti : Fin 16) : Memref sig .scVector .hbm S256x32 .f32 :=
  (xArr.slice (Rect.unit (s := S16x4096x1024) (xOff i t ti.val) S1x256x32.size (xOff_inb i t ti)) (fun _ => rfl)).squeeze S256x32
    squeezes_S1x256x32_S256x32

/-- Starts the copy of a tile's rows. -/
def startX (t : Fin k0_t1_loop.trips) (ti : Fin 16) (xb : Memref sig .scVector .vmem S256x32 .f32) (hxb : xb.IsWhole)
    (sm : DmaSems sig S_) (κ : Prog (TileEff F i) α) : Prog (TileEff F i) α :=
  .op (.enqueueDma (xRows i t ti) (.here xb) (.dma sm.sem) ((View.wordExact_bits rfl).reshape _ _) hxb.wordExact ⟨Or.inl rfl, trivial⟩)
    fun _ => κ

/-- Waits for it. -/
def waitX (t : Fin k0_t1_loop.trips) (ti : Fin 16) (xb : Memref sig .scVector .vmem S256x32 .f32) (hxb : xb.IsWhole)
    (sm : DmaSems sig S_) (κ : Prog (TileEff F i) α) : Prog (TileEff F i) α :=
  .op (.waitDma2 sm.sem (xRows i t ti) xb ((View.wordExact_bits rfl).reshape _ _) hxb.wordExact) fun _ => κ

/-- The running sums of a tile, once its rows have arrived. -/
def tileSums (t : Fin k0_t1_loop.trips) (ti : Fin 16) (xb : Memref sig .scVector .vmem S256x32 .f32) (hxb : xb.IsWhole)
    (sm : DmaSems sig S_) (κ : V F × V F → Prog (TileEff F i) α) : Prog (TileEff F i) α :=
  waitX t ti xb hxb sm <|
  (Scf.Loop.for k0_t4_loop k0_t4_ok (zeroV, zeroV) fun k acc => prefixBody xb k acc) >>= κ

/-- The last segment of a tile, from the number of boundaries up to the next tile's first token. -/
def shiOf (w : BitVec 32) : BitVec 32 := Scalar.minsi (Scalar.subi w 1#32) 2049#32

/-- One of the first fifteen tiles: its sums; the next copy into its buffer (`nxt`); the number of boundaries up to the
    next tile's first token; its segments. It goes on with that number, the last end, the total and the next first segment. -/
def tileStep (t : Fin k0_t1_loop.trips) (ti : Fin 16) (xb : Memref sig .scVector .vmem S256x32 .f32) (hxb : xb.IsWhole)
    (sm : DmaSems sig S_) (nxt : Prog (TileEff F i) α → Prog (TileEff F i) α)
    (off : Fin 1 → Nat) (hoff : ∀ a, off a + S16.size a ≤ S4096.size a) (t0 slo : BitVec 32)
    (C : BitVec 32 → Prop) (dec : ∀ w, Decidable (C w)) (hC : ∀ w, C w → TileChk slo (shiOf w))
    (ca cb : V F) (acc : V F × V F)
    (κ : (w : BitVec 32) → C w → V F → V F → V F × V F → Prog (TileEff F i) α) : Prog (TileEff F i) α :=
  tileSums t ti xb hxb sm fun p =>
  nxt <|
  ldVec (e := .i32) cBuf off hoff fun c =>
  .op (.assume (C (laneI c 0)) (dec (laneI c 0))) fun h =>
  segments t0 ca cb slo (shiOf (laneI c 0)) (hC _ h.down) acc fun acc' =>
  κ (laneI c 0) h.down (addf ca p.1) (addf cb p.2) acc'

theorem cOff_inb (ti : Fin 15) (a) : (![256 * (ti.val + 1)] : Fin 1 → Nat) a + S16.size a ≤ S4096.size a := by
  fin_cases a; change 256 * (ti.val + 1) + 16 ≤ 4096; omega

/-- `m` more pairs of the first fourteen tiles. -/
def tilePairs (t : Fin k0_t1_loop.trips) :
    (m : Nat) → m ≤ 7 → (slo : BitVec 32) → V F → V F → V F × V F →
      ((slo : BitVec 32) → V F → V F → V F × V F → Prog (TileEff F i) α) → Prog (TileEff F i) α
  | 0, _, slo, ca, cb, acc, κ => κ slo ca cb acc
  | m + 1, h, slo, ca, cb, acc, κ =>
    tileStep t ⟨12 - 2 * m, by omega⟩ xBuf0 (Memref.isWhole_whole _) cc0_scratch9
      (startX t ⟨14 - 2 * m, by omega⟩ xBuf0 (Memref.isWhole_whole _) cc0_scratch9)
      ![256 * (13 - 2 * m)] (fun a => by have := cOff_inb ⟨12 - 2 * m, by omega⟩ a; revert this; rw [show 12 - 2 * m + 1 = 13 - 2 * m by omega]; exact id)
      (BitVec.ofNat 32 (256 * (12 - 2 * m))) slo
      (fun w => TileChk slo (shiOf w)) (fun w => TileChk.dec slo (shiOf w)) (fun _ h => h) ca cb acc fun w _ ca cb acc =>
    tileStep t ⟨13 - 2 * m, by omega⟩ xBuf1 (Memref.isWhole_whole _) cc0_scratch10
      (startX t ⟨15 - 2 * m, by omega⟩ xBuf1 (Memref.isWhole_whole _) cc0_scratch10)
      ![256 * (14 - 2 * m)] (fun a => by have := cOff_inb ⟨13 - 2 * m, by omega⟩ a; revert this; rw [show 13 - 2 * m + 1 = 14 - 2 * m by omega]; exact id)
      (BitVec.ofNat 32 (256 * (13 - 2 * m))) (Scalar.maxsi slo (shiOf w))
      (fun w' => TileChk (Scalar.maxsi slo (shiOf w)) (shiOf w')) (fun w' => TileChk.dec _ (shiOf w')) (fun _ h => h) ca cb acc fun w' _ ca cb acc =>
    tilePairs t m (by omega) (Scalar.maxsi (Scalar.maxsi slo (shiOf w)) (shiOf w')) ca cb acc κ

/-- The last two tiles; the last one's segments end at the number of all boundaries `nb`. -/
def lastTiles (t : Fin k0_t1_loop.trips) (nb slo : BitVec 32) (ca cb : V F) (acc : V F × V F)
    (κ : Prog (TileEff F i) α) : Prog (TileEff F i) α :=
  tileStep t 14 xBuf0 (Memref.isWhole_whole _) cc0_scratch9 id ![3840] (cOff_inb 14) 3584#32 slo
    (fun w => TileChk2 slo (shiOf w) (Scalar.maxsi slo (shiOf w)) (Scalar.minsi nb 2049#32))
    (fun w => TileChk2.dec _ _ _ _) (fun _ h => h.left) ca cb acc fun w h ca cb acc =>
  tileSums t 15 xBuf1 (Memref.isWhole_whole _) cc0_scratch10 fun _ =>
  segments 3840#32 ca cb (Scalar.maxsi slo (shiOf w)) (Scalar.minsi nb 2049#32) h.right acc fun _ => κ

/-! ## The boundary row -/

/-- The boundary row of batch `t`. -/
abbrev bRow (t : Fin k0_t1_loop.trips) : Memref sig .scVector .hbm S4096 .f32 :=
  (bArr.slice (Rect.unit (s := S16x4096) (k0_off1 t) S1x4096.size (k0_off1_inb t)) (fun _ => rfl)).squeeze S4096 squeezes_S1x4096_S4096

/-- Fills sixteen entries of the table of positions with 4096. -/
def fillBody (k : Fin k0_t2_loop.trips) : Prog (TileEff F i) PUnit :=
  putVec posBuf (k0_off4 k) (k0_off4_inb k) (broadcast S16 4096#32) <| .ret ⟨⟩

/-- Which of sixteen tokens are boundaries. -/
def maskOf (b : V F) : IVec S16 1 := cmpf .ogt b (broadcast S16 (Scalar.ofBits .f32 0x3F000000#32 : F .f32))

/-- The running counts of boundaries over sixteen tokens, from `ptr` on. -/
def countsOf (b : V F) (ptr : BitVec 32) : IVec S16 32 := addi (scan .sum (extui 32 (maskOf b) natLt_1_32)) (broadcast S16 ptr)

/-- Sixteen tokens of the boundary row: their counts, their positions scattered at the counts, the last count. -/
def scanBody (k : Fin k0_t3_loop.trips) (ptr : BitVec 32) : Prog (TileEff F i) (BitVec 32) :=
  ldVec (e := .f32) bBuf (k0_off5 k) (k0_off5_inb k) fun b =>
  .op (.assume (k0_chk1 (countsOf b ptr)) (k0_chk1.dec (countsOf b ptr))) fun h =>
  SparseCore.vectorStoreIdx posBuf ![countsOf b ptr]
    (addi iotaV (broadcast S16 (Scalar.muli (ivOf k0_t3_loop k) 16#32))) (maskOf b) false
    (k0_idx1_inb (countsOf b ptr) h.down) (View.stores_vmem_bits_univ h_S4112 rfl) >>= fun _ =>
  putVec cBuf (k0_off6 k) (k0_off6_inb k) (countsOf b ptr) <|
  .ret (laneI (countsOf b ptr) 15)

/-- Sixteen segment lengths. -/
def lensBody (k : Fin k0_t84_loop.trips) : Prog (TileEff F i) PUnit :=
  ldVec (e := .i32) posBuf (k0_off869 k 2#32) (k0_off869_inb k 1) fun p1 =>
  ldVec (e := .i32) posBuf (k0_off869 k 1#32) (k0_off869_inb k 0) fun p0 =>
  putVec nBuf (k0_off870 k) (k0_off870_inb k) (subi p1 p0) <| .ret ⟨⟩

/-- Clears one row of the result after the last segment. -/
def clearBody (offL offR : Fin 2 → Nat) (hl : ∀ a, offL a + S1x16.size a ≤ S2050x32.size a) (hr : ∀ a, offR a + S1x16.size a ≤ S2050x32.size a) :
    Prog (TileEff F i) PUnit :=
  putRow oBuf offL hl zeroV <| putRow oBuf offR hr zeroV <| .ret ⟨⟩

/-! ## One batch -/

/-- The rows of the result that a batch fills. -/
abbrev oRows : Memref sig .scVector .vmem S2048x32 .f32 :=
  oBuf.slice (Rect.unit (s := S2050x32) ![1, 0] S2048x32.size inb_S2050x32_S2048x32_1_0) (fun _ => rfl)

/-- A block of the result array. -/
abbrev oPart (off : Fin 3 → Nat) (h : ∀ a, off a + S1x2048x32.size a ≤ S16x2048x1024.size a) : Memref sig .scVector .hbm S2048x32 .f32 :=
  (oArr.slice (Rect.unit (s := S16x2048x1024) off S1x2048x32.size h) (fun _ => rfl)).squeeze S2048x32 squeezes_S1x2048x32_S2048x32

/-- A row of the counts array. -/
abbrev nRow (off : Fin 2 → Nat) (h : ∀ a, off a + S1x2048.size a ≤ S16x2048.size a) : Memref sig .scVector .hbm S2048 .i32 :=
  (nArr.slice (Rect.unit (s := S16x2048) off S1x2048.size h) (fun _ => rfl)).squeeze S2048 squeezes_S1x2048_S2048

/-- Waits for the copy of a batch's result. -/
def waitOut (off : Fin 3 → Nat) (h : ∀ a, off a + S1x2048x32.size a ≤ S16x2048x1024.size a) (κ : Prog (TileEff F i) α) :
    Prog (TileEff F i) α :=
  .op (.waitDma2 cc0_scratch11.sem oRows (oPart off h) (View.wordExact_bits rfl) ((View.wordExact_bits rfl).reshape _ _)) fun _ => κ

/-- The lengths, and the rows after the last segment. -/
def finishRows (nb : BitVec 32) (hz : k0_chk305 nb) (κ : Prog (TileEff F i) α) : Prog (TileEff F i) α :=
  (Scf.Loop.for k0_t84_loop k0_t84_ok (⟨⟩ : PUnit) fun k _ => lensBody k) >>= fun _ =>
  (Scf.Loop.for (k0_t85_loop nb) (k0_t85_ok nb hz) (⟨⟩ : PUnit) fun k _ =>
    clearBody (k0_off871 nb k) (k0_off872 nb k) (k0_off871_inb nb hz k) (k0_off872_inb nb hz k)) >>= fun _ =>
  (Scf.Loop.for (k0_t86_loop nb) (k0_t86_ok nb hz) (⟨⟩ : PUnit) fun k _ =>
    clearBody (k0_off873 nb k) (k0_off874 nb k) (k0_off873_inb nb hz k) (k0_off874_inb nb hz k)) >>= fun _ => κ

/-- Starts the copy of the result; the first tile also copies the lengths out and waits for that. -/
def sendRows (i : grid0.Coords) (t : Fin k0_t1_loop.trips) : Prog (TileEff F i) PUnit :=
  .op (.enqueueDma oRows (.here (oPart (k0_off875 i t) (k0_off875_inb i t))) (.dma cc0_scratch11.sem) (View.wordExact_bits rfl)
    ((View.wordExact_bits rfl).reshape _ _) ⟨Or.inl rfl, trivial⟩) fun _ =>
  if h : k0_cond2 i = 1#1 then
    .op (.enqueueDma nBuf (.here (nRow (k0_off876 t) (k0_off876_inb i t h))) (.dma cc0_scoped0.sem) (Memref.isWhole_whole _).wordExact
      ((View.wordExact_bits rfl).reshape _ _) ⟨Or.inl rfl, trivial⟩) fun _ =>
    .op (.waitDma2 cc0_scoped0.sem nBuf (nRow (k0_off876 t) (k0_off876_inb i t h)) (Memref.isWhole_whole _).wordExact
      ((View.wordExact_bits rfl).reshape _ _)) fun _ => .ret ⟨⟩
  else .ret ⟨⟩

/-- What follows the wait for the batch before: the tiles, the lengths, the copies out. -/
def batchTiles (i : grid0.Coords) (t : Fin k0_t1_loop.trips) (nb : BitVec 32) (hz : k0_chk305 nb) : Prog (TileEff F i) PUnit :=
  tilePairs t 7 (le_refl _) 4294967295#32 zeroV zeroV (zeroV, zeroV) fun slo ca cb acc =>
  lastTiles t nb slo ca cb acc <|
  finishRows nb hz <|
  sendRows i t

/-- One batch. -/
def batch (i : grid0.Coords) (t : Fin k0_t1_loop.trips) : Prog (TileEff F i) PUnit :=
  .op (.enqueueDma (bRow t) (.here bBuf) (.dma cc0_scratch8.sem) ((View.wordExact_bits rfl).reshape _ _) (Memref.isWhole_whole _).wordExact
    ⟨Or.inl rfl, trivial⟩) fun _ =>
  startX t 0 xBuf0 (Memref.isWhole_whole _) cc0_scratch9 <|
  startX t 1 xBuf1 (Memref.isWhole_whole _) cc0_scratch10 <|
  (Scf.Loop.for k0_t2_loop k0_t2_ok (⟨⟩ : PUnit) fun k _ => fillBody k) >>= fun _ =>
  .op (.waitDma2 cc0_scratch8.sem (bRow t) bBuf ((View.wordExact_bits rfl).reshape _ _) (Memref.isWhole_whole _).wordExact) fun _ =>
  (Scf.Loop.for k0_t3_loop k0_t3_ok 0#32 fun k ptr => scanBody k ptr) >>= fun nb =>
  .op (.assume (k0_chk305 nb) (k0_chk305.dec nb)) fun hz =>
  if h : k0_cond1 t = 1#1 then
    waitOut (k0_off7 i t) (k0_off7_inb i t h) (batchTiles i t nb hz.down)
  else batchTiles i t nb hz.down

end

end Cert.KernelIdeal.Mean
-- ==== Proof.Words.lean ====
/-
  The words that bound the loops over segments, as natural numbers. A tile's segments are the rows `lo … hi - 1` of the
  result; the kernel counts them from minus one (`rw`).
-/
module

public import proofs.«01_k».proof.Proof.Mirror
public import Idealize.ShloMosaic.Lib.LoopRemainder

@[expose] public section

namespace Cert.KernelIdeal.Mean

open Cert.KernelIdeal Cert.KernelIdeal.Gen
open Idealize.ShloMosaic

/-- The segment whose row is `J`. -/
def sgm (J : ℕ) : BitVec 32 := BitVec.ofNat 32 J - 1#32

theorem sgm_zero : sgm 0 = 4294967295#32 := rfl

theorem toInt_ofNat {n : ℕ} (h : n < 2 ^ 31) : (BitVec.ofNat 32 n).toInt = n := by
  rw [BitVec.toInt_eq_toNat_cond, BitVec.toNat_ofNat]; rw [Nat.mod_eq_of_lt (by omega)]; split <;> omega

theorem toInt_sgm {J : ℕ} (h : J < 2 ^ 31) : (sgm J).toInt = (J : ℤ) - 1 := by
  unfold sgm
  have e : (BitVec.ofNat 32 J).toNat = J := by rw [BitVec.toNat_ofNat]; exact Nat.mod_eq_of_lt (by omega)
  rw [BitVec.toInt_eq_toNat_cond, BitVec.toNat_sub, e, show BitVec.toNat 1#32 = 1 from rfl]
  split <;> omega

theorem shiOf_eq {w : ℕ} (h : w ≤ 4096) : shiOf (BitVec.ofNat 32 w) = sgm (min w 2050) := by
  apply BitVec.eq_of_toInt_eq
  rw [toInt_sgm (by omega)]
  have e : Scalar.subi (BitVec.ofNat 32 w) 1#32 = sgm w := rfl
  unfold shiOf
  rw [e]
  show BitVec.toInt (if (sgm w).slt 2049#32 then sgm w else 2049#32) = _
  rw [BitVec.slt_eq_decide, toInt_sgm (by omega)]
  rw [show BitVec.toInt 2049#32 = 2049 from rfl]
  split <;> rename_i hh <;> simp at hh
  · rw [toInt_sgm (by omega)]; omega
  · rw [show BitVec.toInt 2049#32 = 2049 from rfl]; omega

theorem shiLast_eq {nb : ℕ} (h : nb ≤ 4096) : Scalar.minsi (BitVec.ofNat 32 nb) 2049#32 = sgm (min (nb + 1) 2050) := by
  apply BitVec.eq_of_toInt_eq
  rw [toInt_sgm (by omega)]
  show BitVec.toInt (if (BitVec.ofNat 32 nb).slt 2049#32 then BitVec.ofNat 32 nb else 2049#32) = _
  rw [BitVec.slt_eq_decide, toInt_ofNat (by omega)]
  rw [show BitVec.toInt 2049#32 = 2049 from rfl]
  split <;> rename_i hh <;> simp at hh
  · rw [toInt_ofNat (by omega)]; omega
  · rw [show BitVec.toInt 2049#32 = 2049 from rfl]; omega

theorem maxsi_sgm {J J' : ℕ} (h : J ≤ J') (h' : J' ≤ 2050) : Scalar.maxsi (sgm J) (sgm J') = sgm J' := by
  show (if (sgm J').slt (sgm J) then sgm J else sgm J') = _
  rw [BitVec.slt_eq_decide, toInt_sgm (by omega), toInt_sgm (by omega)]
  rw [if_neg]; simp; omega

theorem subi_sgm {J J' : ℕ} (h : J ≤ J') : Scalar.subi (sgm J') (sgm J) = BitVec.ofNat 32 (J' - J) := by
  show sgm J' - sgm J = _
  unfold sgm
  obtain ⟨m, rfl⟩ := Nat.exists_eq_add_of_le h
  rw [Nat.add_sub_cancel_left, BitVec.ofNat_add]
  generalize BitVec.ofNat 32 J = a
  generalize BitVec.ofNat 32 m = b
  apply BitVec.eq_of_toNat_eq
  simp only [BitVec.toNat_sub, BitVec.toNat_add]
  have := a.isLt; have := b.isLt
  omega

/-- `fullBlocks` from the number of segments alone. -/
def fullOf (d : BitVec 32) : BitVec 32 :=
  let n : BitVec 32 := Scalar.maxsi d 0#32
  let q : BitVec 32 := Scalar.divsi n 8#32
  let sn : BitVec 32 := Scalar.subi (Scalar.extui (Scalar.cmpi .sgt n 0#32)) (Scalar.extui (Scalar.cmpi .slt n 0#32))
  let s8 : BitVec 32 := Scalar.subi (Scalar.extui (Scalar.cmpi .sgt (8#32 : BitVec 32) 0#32)) (Scalar.extui (Scalar.cmpi .slt (8#32 : BitVec 32) 0#32))
  Scalar.select (Scalar.andi (Scalar.cmpi .ne sn s8) (Scalar.cmpi .ne (Scalar.remsi n 8#32) 0#32)) (Scalar.subi q 1#32) q

theorem fullOf_eq : ∀ m : Fin 2051, fullOf (BitVec.ofNat 32 m.val) = BitVec.ofNat 32 (m.val / 8) := by decide +kernel

theorem fullBlocks_eq {J J' : ℕ} (h : J ≤ J') (h' : J' ≤ 2050) : fullBlocks (sgm J) (sgm J') = BitVec.ofNat 32 ((J' - J) / 8) := by
  have := fullOf_eq ⟨J' - J, by omega⟩
  rw [← this, ← subi_sgm h]; rfl

theorem mainEnd_eq (lo n : BitVec 32) : mainEnd lo n = lo + n := by
  unfold mainEnd; rw [Scalar.muli_divsi_one]; rfl

theorem sgm_add (J m : ℕ) : sgm J + BitVec.ofNat 32 m = sgm (J + m) := by
  unfold sgm; rw [BitVec.ofNat_add]
  generalize BitVec.ofNat 32 J = a
  generalize BitVec.ofNat 32 m = b
  apply BitVec.eq_of_toNat_eq
  simp only [BitVec.toNat_sub, BitVec.toNat_add]
  have := a.isLt; have := b.isLt
  omega

theorem segLo_eq {J J' : ℕ} (h : J ≤ J') (h' : J' ≤ 2050) : segLo (sgm J) (sgm J') = sgm (J + 8 * ((J' - J) / 8)) := by
  unfold segLo; rw [fullBlocks_eq h h', ← sgm_add]
  show sgm J + BitVec.ofNat 32 _ * 8#32 = _
  rw [show (8#32 : BitVec 32) = BitVec.ofNat 32 8 from rfl, ← BitVec.ofNat_mul, Nat.mul_comm]

theorem trips_one {lb ub : BitVec 32} {a b : ℤ} (ha : lb.toInt = a) (hb : ub.toInt = b) : Scf.trips lb ub 1#32 = (b - a).toNat := by
  unfold Scf.trips; rw [ha, hb, show BitVec.toInt 1#32 = 1 from rfl]; congr 1; omega

theorem ok_one {lb ub : BitVec 32} {a b : ℤ} (ha : lb.toInt = a) (hb : ub.toInt = b) (h : a < 2 ^ 31) (h' : b < 2 ^ 31) : Scf.OK lb ub 1#32 := by
  unfold Scf.OK; rw [trips_one ha hb, ha, show BitVec.toInt 1#32 = 1 from rfl]; refine ⟨by omega, ?_⟩; show a + ((b - a).toNat : ℤ) * 1 < 2147483648; omega

theorem subi_zero (x : BitVec 32) : Scalar.subi x 0#32 = x := by show x - 0#32 = x; simp
theorem zero_add_w (x : BitVec 32) : (0#32 : BitVec 32) + x = x := by simp

theorem blkLoop_eq {J J' : ℕ} (h : J ≤ J') (h' : J' ≤ 2050) :
    blkLoop (sgm J) (sgm J') = ⟨0#32, BitVec.ofNat 32 ((J' - J) / 8), 1#32⟩ := by
  unfold blkLoop; rw [mainEnd_eq, subi_zero, zero_add_w, fullBlocks_eq h h']

theorem blkLoop_trips {J J' : ℕ} (h : J ≤ J') (h' : J' ≤ 2050) : (blkLoop (sgm J) (sgm J')).trips = (J' - J) / 8 := by
  rw [blkLoop_eq h h']
  refine (trips_one (a := 0) rfl (toInt_ofNat (by omega))).trans (by omega)

theorem blkLoop_ok {J J' : ℕ} (h : J ≤ J') (h' : J' ≤ 2050) : (blkLoop (sgm J) (sgm J')).OK := by
  rw [blkLoop_eq h h']
  exact ok_one (a := 0) rfl (toInt_ofNat (by omega)) (by omega) (by omega)

theorem iv_one (lb ub : BitVec 32) (k : ℕ) : Scf.iv lb 1#32 k = lb + BitVec.ofNat 32 k := by
  unfold Scf.iv; simp

theorem blkLoop_iv (slo shi : BitVec 32) (k : Fin (blkLoop slo shi).trips) : ivOf (blkLoop slo shi) k = BitVec.ofNat 32 k.val := by
  show Scf.iv 0#32 1#32 k.val = _
  rw [iv_one 0#32 0#32, zero_add_w]

theorem blkRest_trips (slo shi : BitVec 32) : (blkRest slo shi).trips = 0 := Scf.rem_trips _ _
theorem blkRest_ok (slo shi : BitVec 32) : (blkRest slo shi).OK := Scf.rem_ok _ _
theorem segRest_trips (slo shi : BitVec 32) : (segRest slo shi).trips = 0 := Scf.rem_trips _ _
theorem segRest_ok (slo shi : BitVec 32) : (segRest slo shi).OK := Scf.rem_ok _ _

theorem segLoop_eq {J J' : ℕ} (h : J ≤ J') (h' : J' ≤ 2050) :
    segLoop (sgm J) (sgm J') = ⟨sgm (J + 8 * ((J' - J) / 8)), sgm J', 1#32⟩ := by
  unfold segLoop; rw [mainEnd_eq, segLo_eq h h', subi_sgm (by omega), sgm_add]
  congr 2; omega

theorem segLoop_trips {J J' : ℕ} (h : J ≤ J') (h' : J' ≤ 2050) : (segLoop (sgm J) (sgm J')).trips = (J' - J) % 8 := by
  rw [segLoop_eq h h']
  refine (trips_one (toInt_sgm (by omega)) (toInt_sgm (by omega))).trans (by omega)

theorem segLoop_ok {J J' : ℕ} (h : J ≤ J') (h' : J' ≤ 2050) : (segLoop (sgm J) (sgm J')).OK := by
  rw [segLoop_eq h h']
  exact ok_one (toInt_sgm (by omega)) (toInt_sgm (by omega)) (by omega) (by omega)

theorem segLoop_iv {J J' : ℕ} (h : J ≤ J') (h' : J' ≤ 2050) (k : Fin (segLoop (sgm J) (sgm J')).trips) :
    ivOf (segLoop (sgm J) (sgm J')) k = sgm (J + 8 * ((J' - J) / 8) + k.val) := by
  show Scf.iv (segLo (sgm J) (sgm J')) 1#32 k.val = _
  rw [iv_one _ 0#32, segLo_eq h h', sgm_add]

/-! ## Offsets -/

theorem toNat_ofNat {n : ℕ} (h : n < 2 ^ 32) : (BitVec.ofNat 32 n).toNat = n := by
  rw [BitVec.toNat_ofNat]; exact Nat.mod_eq_of_lt h

theorem toNat_sgm_succ {J : ℕ} (h : J < 2 ^ 31) : (sgm J + 1#32).toNat = J := by
  unfold sgm; rw [show BitVec.ofNat 32 J - 1#32 + 1#32 = BitVec.ofNat 32 J by simp]
  exact toNat_ofNat (by omega)

theorem blk_word (J k : ℕ) : Scalar.addi (sgm J) (Scalar.muli (BitVec.ofNat 32 k) 8#32) = sgm (J + 8 * k) := by
  rw [← sgm_add]
  show sgm J + BitVec.ofNat 32 k * 8#32 = _
  rw [show (8#32 : BitVec 32) = BitVec.ofNat 32 8 from rfl, ← BitVec.ofNat_mul, Nat.mul_comm]

theorem posOff_eq {J k c : ℕ} (h : J + 8 * k + c < 2 ^ 31) : posOff (sgm J) (BitVec.ofNat 32 k) (BitVec.ofNat 32 (1 + c)) = ![J + 8 * k + c] := by
  unfold posOff; rw [blk_word]
  show ![((sgm (J + 8 * k)) + BitVec.ofNat 32 (1 + c)).toNat] = _
  rw [Nat.add_comm 1 c, BitVec.ofNat_add, ← BitVec.add_assoc, sgm_add]
  exact congrArg (fun n => ![n]) (toNat_sgm_succ h)

theorem rowWord {J k j : ℕ} (h : J + 8 * k + j < 2 ^ 31) :
    (Scalar.addi (Scalar.addi (Scalar.addi (sgm J) (Scalar.muli (BitVec.ofNat 32 k) 8#32)) (BitVec.ofNat 32 j)) 1#32).toNat = J + 8 * k + j := by
  rw [blk_word]
  show ((sgm (J + 8 * k)) + BitVec.ofNat 32 j + 1#32).toNat = _
  rw [sgm_add]; exact toNat_sgm_succ h

theorem rowOffL_eq {J k j : ℕ} (h : J + 8 * k + j < 2 ^ 31) : rowOffL (sgm J) (BitVec.ofNat 32 k) (BitVec.ofNat 32 j) = ![J + 8 * k + j, 0] :=
  congrArg (fun n => ![n, 0]) (rowWord h)
theorem rowOffR_eq {J k j : ℕ} (h : J + 8 * k + j < 2 ^ 31) : rowOffR (sgm J) (BitVec.ofNat 32 k) (BitVec.ofNat 32 j) = ![J + 8 * k + j, 16] :=
  congrArg (fun n => ![n, 16]) (rowWord h)

theorem sposOff_eq {J : ℕ} (h : J < 2 ^ 31) : sposOff (sgm J) = ![J] := congrArg (fun n => ![n]) (toNat_sgm_succ h)
theorem srowOffL_eq {J : ℕ} (h : J < 2 ^ 31) : srowOffL (sgm J) = ![J, 0] := congrArg (fun n => ![n, 0]) (toNat_sgm_succ h)
theorem srowOffR_eq {J : ℕ} (h : J < 2 ^ 31) : srowOffR (sgm J) = ![J, 16] := congrArg (fun n => ![n, 16]) (toNat_sgm_succ h)

theorem elWord {t v : ℕ} (h : t ≤ v) (h' : v < 2 ^ 31) : (Scalar.subi (BitVec.ofNat 32 v) (BitVec.ofNat 32 t)).toNat = v - t := by
  show (BitVec.ofNat 32 v - BitVec.ofNat 32 t).toNat = _
  rw [BitVec.toNat_sub, toNat_ofNat (by omega), toNat_ofNat (by omega)]; omega

theorem elOffL_eq {t v : ℕ} (h : t ≤ v) (h' : v < 2 ^ 31) : elOffL (BitVec.ofNat 32 t) (BitVec.ofNat 32 v) = ![v - t, 0] :=
  congrArg (fun n => ![n, 0]) (elWord h h')
theorem elOffR_eq {t v : ℕ} (h : t ≤ v) (h' : v < 2 ^ 31) : elOffR (BitVec.ofNat 32 t) (BitVec.ofNat 32 v) = ![v - t, 16] :=
  congrArg (fun n => ![n, 16]) (elWord h h')

/-! ## The kernel's assumptions hold -/

theorem elChk {t v : ℕ} (h : t ≤ v) (h' : v ≤ t + 256) (hv : v < 2 ^ 31) : ElChk (BitVec.ofNat 32 t) (BitVec.ofNat 32 v) := by
  unfold ElChk; rw [elOffL_eq h hv, elOffR_eq h hv]
  constructor <;> intro a <;> fin_cases a
  · show v - t + 1 ≤ 257; omega
  · show 0 + 16 ≤ 32; omega
  · show v - t + 1 ≤ 257; omega
  · show 16 + 16 ≤ 32; omega

theorem tileChk {J J' : ℕ} (h : J ≤ J') (h' : J' ≤ 2050) : TileChk (sgm J) (sgm J') := by
  have z : ∀ {n : ℕ} (k : Fin n), n = 0 → False := fun k hk => by have := k.isLt; omega
  refine ⟨blkLoop_ok h h', ?_, ?_, ?_, blkRest_ok _ _, fun k => (z k (blkRest_trips _ _)).elim, fun k => (z k (blkRest_trips _ _)).elim,
    fun k => (z k (blkRest_trips _ _)).elim, segLoop_ok h h', ?_, ?_, ?_, segRest_ok _ _, fun k => (z k (segRest_trips _ _)).elim,
    fun k => (z k (segRest_trips _ _)).elim, fun k => (z k (segRest_trips _ _)).elim⟩
  · intro k r a
    have hk : k.val < _ := lt_of_lt_of_eq k.isLt (blkLoop_trips h h')
    have hr := r.isLt
    rw [blkLoop_iv, posOff_eq (by omega)]; fin_cases a
    show J + 8 * k.val + r.val + 16 ≤ 4112; omega
  · intro k r a
    have hk : k.val < _ := lt_of_lt_of_eq k.isLt (blkLoop_trips h h')
    have hr := r.isLt
    rw [blkLoop_iv, rowOffL_eq (by omega)]; fin_cases a
    · show J + 8 * k.val + r.val + 1 ≤ 2050; omega
    · show 0 + 16 ≤ 32; omega
  · intro k r a
    have hk : k.val < _ := lt_of_lt_of_eq k.isLt (blkLoop_trips h h')
    have hr := r.isLt
    rw [blkLoop_iv, rowOffR_eq (by omega)]; fin_cases a
    · show J + 8 * k.val + r.val + 1 ≤ 2050; omega
    · show 16 + 16 ≤ 32; omega
  · intro k a
    have hk : k.val < _ := lt_of_lt_of_eq k.isLt (segLoop_trips h h')
    rw [segLoop_iv h h', sposOff_eq (by omega)]; fin_cases a
    show J + 8 * ((J' - J) / 8) + k.val + 16 ≤ 4112; omega
  · intro k a
    have hk : k.val < _ := lt_of_lt_of_eq k.isLt (segLoop_trips h h')
    rw [segLoop_iv h h', srowOffL_eq (by omega)]; fin_cases a
    · show J + 8 * ((J' - J) / 8) + k.val + 1 ≤ 2050; omega
    · show 0 + 16 ≤ 32; omega
  · intro k a
    have hk : k.val < _ := lt_of_lt_of_eq k.isLt (segLoop_trips h h')
    rw [segLoop_iv h h', srowOffR_eq (by omega)]; fin_cases a
    · show J + 8 * ((J' - J) / 8) + k.val + 1 ≤ 2050; omega
    · show 16 + 16 ≤ 32; omega

theorem tileChk2 {J J' J'' : ℕ} (h : J ≤ J') (h' : J' ≤ J'') (h'' : J'' ≤ 2050) : TileChk2 (sgm J) (sgm J') (sgm J') (sgm J'') :=
  tileChk2_iff.mpr ⟨tileChk h (by omega), tileChk h' h''⟩

/-! ## The rows after the last segment -/

theorem clear_lb {nb : ℕ} (h : nb ≤ 4096) :
    Scalar.addi (Scalar.minsi (BitVec.ofNat 32 nb) 2049#32) 1#32 = BitVec.ofNat 32 (min (nb + 1) 2050) := by
  rw [shiLast_eq h]
  show sgm _ + 1#32 = _
  unfold sgm; simp

theorem clearLoop_eq {nb : ℕ} (h : nb ≤ 4096) :
    k0_t85_loop (BitVec.ofNat 32 nb) = ⟨BitVec.ofNat 32 (min (nb + 1) 2050), BitVec.ofNat 32 2050, 1#32⟩ := by
  show (⟨Scalar.addi (Scalar.minsi (BitVec.ofNat 32 nb) 2049#32) 1#32,
    mainEnd (Scalar.addi (Scalar.minsi (BitVec.ofNat 32 nb) 2049#32) 1#32)
      (Scalar.subi 2050#32 (Scalar.addi (Scalar.minsi (BitVec.ofNat 32 nb) 2049#32) 1#32)), 1#32⟩ : Scf.Loop 32) = _
  rw [mainEnd_eq, clear_lb h]
  congr 1
  show BitVec.ofNat 32 (min (nb + 1) 2050) + (2050#32 - BitVec.ofNat 32 (min (nb + 1) 2050)) = _
  rw [BitVec.add_comm, BitVec.sub_add_cancel]

theorem clearLoop_trips {nb : ℕ} (h : nb ≤ 4096) : (k0_t85_loop (BitVec.ofNat 32 nb)).trips = 2050 - min (nb + 1) 2050 := by
  rw [clearLoop_eq h]
  refine (trips_one (toInt_ofNat (by omega)) (toInt_ofNat (by omega))).trans (by omega)

theorem clearLoop_ok {nb : ℕ} (h : nb ≤ 4096) : (k0_t85_loop (BitVec.ofNat 32 nb)).OK := by
  rw [clearLoop_eq h]
  exact ok_one (toInt_ofNat (by omega)) (toInt_ofNat (by omega)) (by omega) (by omega)

theorem clearWord {nb : ℕ} (h : nb ≤ 4096) (k : ℕ) (hk : k < 2050) :
    (Scf.iv (Scalar.addi (Scalar.minsi (BitVec.ofNat 32 nb) 2049#32) 1#32) 1#32 k).toNat = min (nb + 1) 2050 + k := by
  rw [iv_one _ 0#32, clear_lb h, ← BitVec.ofNat_add]; exact toNat_ofNat (by omega)

theorem clearOffL_eq {nb : ℕ} (h : nb ≤ 4096) (k : Fin (k0_t85_loop (BitVec.ofNat 32 nb)).trips) :
    k0_off871 (BitVec.ofNat 32 nb) k = ![min (nb + 1) 2050 + k.val, 0] :=
  congrArg (fun n => ![n, 0]) (clearWord h k.val (by have : k.val < _ := lt_of_lt_of_eq k.isLt (clearLoop_trips h); omega))
theorem clearOffR_eq {nb : ℕ} (h : nb ≤ 4096) (k : Fin (k0_t85_loop (BitVec.ofNat 32 nb)).trips) :
    k0_off872 (BitVec.ofNat 32 nb) k = ![min (nb + 1) 2050 + k.val, 16] :=
  congrArg (fun n => ![n, 16]) (clearWord h k.val (by have : k.val < _ := lt_of_lt_of_eq k.isLt (clearLoop_trips h); omega))

theorem clearRest_trips (v : BitVec 32) : (k0_t86_loop v).trips = 0 := Scf.rem_trips _ _
theorem clearRest_ok (v : BitVec 32) : (k0_t86_loop v).OK := Scf.rem_ok _ _

theorem clearChk {nb : ℕ} (h : nb ≤ 4096) : k0_chk305 (BitVec.ofNat 32 nb) := by
  refine ⟨clearLoop_ok h, ?_, ?_, clearRest_ok _, fun k => ?_, fun k => ?_⟩
  · intro k a
    have hk : k.val < _ := lt_of_lt_of_eq k.isLt (clearLoop_trips h)
    rw [clearOffL_eq h]; fin_cases a
    · show min (nb + 1) 2050 + k.val + 1 ≤ 2050; omega
    · show 0 + 16 ≤ 32; omega
  · intro k a
    have hk : k.val < _ := lt_of_lt_of_eq k.isLt (clearLoop_trips h)
    rw [clearOffR_eq h]; fin_cases a
    · show min (nb + 1) 2050 + k.val + 1 ≤ 2050; omega
    · show 16 + 16 ≤ 32; omega
  · exact absurd (lt_of_lt_of_eq k.isLt (clearRest_trips _)) (Nat.not_lt_zero _)
  · exact absurd (lt_of_lt_of_eq k.isLt (clearRest_trips _)) (Nat.not_lt_zero _)

end Cert.KernelIdeal.Mean
-- ==== Proof.Own.lean ====
/-
  A tile's buffers as functions of a row and a column (or of a position), and what its accesses do to them: a load reads
  sixteen neighbours, a store replaces sixteen neighbours.
-/
module

public import proofs.«01_k».proof.Proof.Mirror
public import Idealize.ShloMosaic.Lib.SparseCore.Quiescent
public import Idealize.ShloMosaic.Lib.Writes
public import Idealize.ShloMosaic.Lib.ValueLayout

@[expose] public section

noncomputable section

namespace Cert.KernelIdeal.Mean

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

/-! ## The setting -/

abbrev UH : Type := URounds (GSem nD τ sig) ℕ
abbrev UU : Type := UH × Counters

local notation "𝕄" => MT nD τ sig (HIx 1) (Elt F) ℕ UU ℕ

abbrev cV (i : grid0.Coords) : Fin τ.nSC := (i 0).castLE hcore0
abbrev jV (i : grid0.Coords) : Fin τ.nSub := (i 1).castLE hsub0
/-- The thread of the tile at grid point `i` of device `d`. -/
abbrev thr (d : Dev nD) (i : grid0.Coords) : Thread nD τ := SparseCore.V d (cV i) (jV i)

/-- Running `p` on the tile at grid point `i` of device `d` ends in `Q`. -/
abbrev WP (d : Dev nD) (i : grid0.Coords) {α : Type} (p : Prog (TileEff F i) α) (Q : α → sProp 𝕄) : sProp 𝕄 :=
  wp frame (wpE (defs₀ (F := F)) Variants.none (thr d i) none) Set.univ p Q

/-! ## Vectors of sixteen as functions of the lane -/

/-- Sixteen values, from a function of the lane. -/
def vec {β : Type} (g : ℕ → β) : S16.Idx → β := fun y => g (y 0).val

theorem vec_congr {β : Type} {g g' : ℕ → β} (h : ∀ n < 16, g n = g' n) : vec g = vec g' := funext fun y => h _ (y 0).isLt

/-! ## Ownership of a buffer at contents given by row and column -/

section
variable (d : Dev nD) (i : grid0.Coords)

/-- The two-axis buffer `m` of the tile holds `G r c` at row `r` and column `c`. -/
def Own2 {dd : Fin 2 → ℕ} (m : Memref sig .scVector .vmem ⟨2, dd⟩ .f32) (G : ℕ → ℕ → F .f32) : sProp 𝕄 :=
  iprop(∃ f : Buf (Elt F) (m.view.loc (thr d i)),
    ⌜∀ y : (⟨2, dd⟩ : Shape).Idx, m.view.read (Elt F) f y = G (y 0).val (y 1).val⌝ ∗ (m.view.loc (thr d i) ↦[m.view.set]{fullShare} f))

/-- The one-axis buffer `m` of the tile holds `G n` at position `n`. -/
def Own1 {dd : Fin 1 → ℕ} {e : EltTy} (m : Memref sig .scVector .vmem ⟨1, dd⟩ e) (G : ℕ → Elt F e) : sProp 𝕄 :=
  iprop(∃ f : Buf (Elt F) (m.view.loc (thr d i)),
    ⌜∀ y : (⟨1, dd⟩ : Shape).Idx, m.view.read (Elt F) f y = G (y 0).val⌝ ∗ (m.view.loc (thr d i) ↦[m.view.set]{fullShare} f))

variable {d i}

theorem Own2_congr {dd : Fin 2 → ℕ} {m : Memref sig .scVector .vmem ⟨2, dd⟩ .f32} {G G' : ℕ → ℕ → F .f32}
    (h : ∀ r < dd 0, ∀ c < dd 1, G r c = G' r c) : Own2 d i m G ⊢ Own2 d i m G' := by
  unfold Own2
  iintro ⟨%f, %hf, H⟩
  iexists f; isplitr
  · ipureintro; intro y; rw [hf y]; exact h _ (y 0).isLt _ (y 1).isLt
  · iexact H

theorem Own1_congr {dd : Fin 1 → ℕ} {e : EltTy} {m : Memref sig .scVector .vmem ⟨1, dd⟩ e} {G G' : ℕ → Elt F e}
    (h : ∀ n < dd 0, G n = G' n) : Own1 d i m G ⊢ Own1 d i m G' := by
  unfold Own1
  iintro ⟨%f, %hf, H⟩
  iexists f; isplitr
  · ipureintro; intro y; rw [hf y]; exact h _ (y 0).isLt
  · iexact H

/-- Contents with the sixteen columns from `c` of row `r` replaced by `w`. -/
def put2 {β : Type} (G : ℕ → ℕ → β) (r c : ℕ) (w : ℕ → β) : ℕ → ℕ → β :=
  fun r' c' => if r' = r ∧ c ≤ c' ∧ c' < c + 16 then w (c' - c) else G r' c'

/-- Contents with the sixteen entries from `o` replaced by `w`. -/
def put1 {β : Type} (G : ℕ → β) (o : ℕ) (w : ℕ → β) : ℕ → β := fun n => if o ≤ n ∧ n < o + 16 then w (n - o) else G n

theorem shapeCast_S16 {β : Type} (x : S1x16.Idx → β) (y : S16.Idx) :
    shapeCast S16 x shapeCasts_S1x16_S16 y = x (ix2 (0 : Fin 1) (y 0)) := by
  have h := shapeCast_1a_a_apply (a := 16) x shapeCasts_S1x16_S16 (y 0)
  rw [← h]; congr 1; exact funext fun a => by fin_cases a; rfl

theorem shapeCast_S1x16 {β : Type} (x : S16.Idx → β) (y : S1x16.Idx) :
    shapeCast S1x16 x shapeCasts_S16_S1x16 y = x (ix1 (y 1)) := by
  have h := shapeCast_a_1a_apply (a := 16) x shapeCasts_S16_S1x16 (y 0) (y 1)
  rw [← h]; congr 1; exact funext fun a => by fin_cases a <;> rfl

theorem wp_ldRow {α : Type} {Q : α → sProp 𝕄} {dd : Fin 2 → ℕ} {m : Memref sig .scVector .vmem ⟨2, dd⟩ .f32} {off : Fin 2 → ℕ} {h : ∀ a, off a + S1x16.size a ≤ dd a}
    {κ : V F → Prog (TileEff F i) α} {G : ℕ → ℕ → F .f32} (r c : ℕ) (ho : off = ![r, c]) :
    Own2 d i m G ⊢ iprop((Own2 d i m G -∗ WP d i (κ (vec fun n => G r (c + n))) Q) -∗ WP d i (ldRow m off h κ) Q) := by
  subst ho
  unfold Own2 ldRow
  iintro ⟨%f, %hf, H⟩ Hk
  iapply (wp_load_rect (defs := defs₀ (F := F)) Variants.none (thr d i) none Set.univ (Q := Q) (m := m)
    (r := Rect.unit (s := ⟨2, dd⟩) ![r, c] S1x16.size h) (q := fullShare) (f := f) (S := m.view.set) (m.view.set_slice_subset _)) $$ H
  iintro H
  have e : shapeCast S16 ((m.access (Rect.unit (s := ⟨2, dd⟩) ![r, c] S1x16.size h)).read (Elt F) f) shapeCasts_S1x16_S16
      = vec fun n => G r (c + n) := by
    funext y
    rw [shapeCast_S16]
    refine (hf _).trans ?_
    show G (r + 1 * 0) (c + 1 * (y 0).val) = _
    simp [vec]
  rw [e]
  iapply Hk
  iexists f; isplitr
  · ipureintro; exact hf
  · iexact H

theorem wp_putRow {α : Type} {Q : α → sProp 𝕄} {dd : Fin 2 → ℕ} {m : Memref sig .scVector .vmem ⟨2, dd⟩ .f32} {off : Fin 2 → ℕ} {h : ∀ a, off a + S1x16.size a ≤ dd a}
    {w : V F} {κ : Prog (TileEff F i) α} {G : ℕ → ℕ → F .f32} (r c : ℕ) (ho : off = ![r, c]) (g : ℕ → F .f32) (hw : w = vec g) :
    Own2 d i m G ⊢ iprop((Own2 d i m (put2 G r c g) -∗ WP d i κ Q) -∗ WP d i (putRow m off h w κ) Q) := by
  subst ho
  unfold Own2 putRow
  iintro ⟨%f, %hf, H⟩ Hk
  iapply (wp_load_rect (defs := defs₀ (F := F)) Variants.none (thr d i) none Set.univ (Q := Q) (m := m)
    (r := Rect.unit (s := ⟨2, dd⟩) ![r, c] S1x16.size h) (q := fullShare) (f := f) (S := m.view.set) (m.view.set_slice_subset _)) $$ H
  iintro H
  iapply (wp_store (defs := defs₀ (F := F)) Variants.none (thr d i) none Set.univ (Q := Q) (m := m)
    (r := Rect.unit (s := ⟨2, dd⟩) ![r, c] S1x16.size h) (f := f) (S := m.view.set) (m.view.set_slice_subset _)) $$ H
  iintro H
  iapply Hk
  iexists _; isplitr
  swap; · iexact H
  ipureintro; intro y
  by_cases hy : (y 0).val = r ∧ c ≤ (y 1).val ∧ (y 1).val < c + 16
  · have e : (Rect.unit (s := ⟨2, dd⟩) ![r, c] S1x16.size h).emb (ix2 (0 : Fin 1) (⟨(y 1).val - c, by omega⟩ : Fin 16)) = y := by
      refine Rect.emb_eq_of_coords _ _ _ fun a => ?_
      fin_cases a
      · show (y 0).val = r + 1 * 0; omega
      · show (y 1).val = c + 1 * ((y 1).val - c); omega
    rw [put2, if_pos hy]
    conv_lhs => rw [← e]
    refine (View.read_slice_write_emb (v := m.view) (Rect.unit (s := ⟨2, dd⟩) ![r, c] S1x16.size h) f _ (Finset.mem_univ _)).trans ?_
    rw [shapeCast_S1x16, hw]
    rfl
  · rw [put2, if_neg hy, ← hf y]
    refine View.read_slice_write_of_not_mem (v := m.view) (Rect.unit (s := ⟨2, dd⟩) ![r, c] S1x16.size h) f _ _ ?_
    rw [Rect.map_emb_univ]
    by_cases h0 : (y 0).val = r
    · exact Rect.not_mem_set_of_axis _ y 1 c 16 rfl rfl rfl (by omega)
    · exact Rect.not_mem_set_of_axis _ y 0 r 1 rfl rfl rfl (by omega)

theorem wp_ldVec {α : Type} {Q : α → sProp 𝕄} {dd : Fin 1 → ℕ} {e : EltTy} {m : Memref sig .scVector .vmem ⟨1, dd⟩ e} {off : Fin 1 → ℕ}
    {h : ∀ a, off a + S16.size a ≤ dd a} {κ : Vec F S16 e → Prog (TileEff F i) α} {G : ℕ → Elt F e} (o : ℕ) (ho : off = ![o]) :
    Own1 d i m G ⊢ iprop((Own1 d i m G -∗ WP d i (κ (vec fun n => G (o + n))) Q) -∗ WP d i (ldVec m off h κ) Q) := by
  subst ho
  unfold Own1 ldVec
  iintro ⟨%f, %hf, H⟩ Hk
  iapply (wp_load_rect (defs := defs₀ (F := F)) Variants.none (thr d i) none Set.univ (Q := Q) (m := m)
    (r := Rect.unit (s := ⟨1, dd⟩) ![o] S16.size h) (q := fullShare) (f := f) (S := m.view.set) (m.view.set_slice_subset _)) $$ H
  iintro H
  have e : (m.access (Rect.unit (s := ⟨1, dd⟩) ![o] S16.size h)).read (Elt F) f = vec fun n => G (o + n) := by
    funext y
    refine (hf _).trans ?_
    show G (o + 1 * (y 0).val) = _
    simp [vec]
  rw [e]
  iapply Hk
  iexists f; isplitr
  · ipureintro; exact hf
  · iexact H

theorem wp_putVec {α : Type} {Q : α → sProp 𝕄} {dd : Fin 1 → ℕ} {m : Memref sig .scVector .vmem ⟨1, dd⟩ .i32} {off : Fin 1 → ℕ}
    {h : ∀ a, off a + S16.size a ≤ dd a} {w : IVec S16 32} {κ : Prog (TileEff F i) α} {G : ℕ → BitVec 32} (o : ℕ) (ho : off = ![o])
    (g : ℕ → BitVec 32) (hw : w = vec g) :
    Own1 d i m G ⊢ iprop((Own1 d i m (put1 G o g) -∗ WP d i κ Q) -∗ WP d i (putVec m off h w κ) Q) := by
  subst ho
  unfold Own1 putVec
  iintro ⟨%f, %hf, H⟩ Hk
  iapply (wp_load_rect (defs := defs₀ (F := F)) Variants.none (thr d i) none Set.univ (Q := Q) (m := m)
    (r := Rect.unit (s := ⟨1, dd⟩) ![o] S16.size h) (q := fullShare) (f := f) (S := m.view.set) (m.view.set_slice_subset _)) $$ H
  iintro H
  iapply (wp_store (defs := defs₀ (F := F)) Variants.none (thr d i) none Set.univ (Q := Q) (m := m)
    (r := Rect.unit (s := ⟨1, dd⟩) ![o] S16.size h) (f := f) (S := m.view.set) (m.view.set_slice_subset _)) $$ H
  iintro H
  iapply Hk
  iexists _; isplitr
  swap; · iexact H
  ipureintro; intro y
  by_cases hy : o ≤ (y 0).val ∧ (y 0).val < o + 16
  · have e : (Rect.unit (s := ⟨1, dd⟩) ![o] S16.size h).emb (ix1 (⟨(y 0).val - o, by omega⟩ : Fin 16)) = y := by
      refine Rect.emb_eq_of_coords _ _ _ fun a => ?_
      fin_cases a
      show (y 0).val = o + 1 * ((y 0).val - o); omega
    rw [put1, if_pos hy]
    conv_lhs => rw [← e]
    refine (View.read_slice_write_emb (v := m.view) (Rect.unit (s := ⟨1, dd⟩) ![o] S16.size h) f _ (Finset.mem_univ _)).trans ?_
    rw [hw]
    rfl
  · rw [put1, if_neg hy, ← hf y]
    refine View.read_slice_write_of_not_mem (v := m.view) (Rect.unit (s := ⟨1, dd⟩) ![o] S16.size h) f _ _ ?_
    rw [Rect.map_emb_univ]
    exact Rect.not_mem_set_of_axis _ y 0 o 16 rfl rfl rfl (by omega)

end

end Cert.KernelIdeal.Mean
-- ==== Proof.Counts.lean ====
/-
  Boundaries of one batch: how many come before a token (`cnt`), and where the `j`-th one is (`pos`); what one step of
  sixteen tokens adds to both.
-/
module

public import proofs.«01_k».proof.Proof.Words
public import proofs.«01_k».proof.Proof.Own

@[expose] public section

namespace Cert.KernelIdeal.Mean

open Cert.KernelIdeal Cert.KernelIdeal.Gen
open Idealize.ShloMosaic

section
variable (bd : ℕ → Bool)

/-- How many of the first `n` tokens are boundaries. -/
def cnt : ℕ → ℕ
  | 0 => 0
  | n + 1 => cnt n + if bd n then 1 else 0

/-- The token that is the `j`-th boundary of the first `n` tokens, counted from one; 4096 where there is none. -/
def pos : ℕ → ℕ → ℕ
  | 0, _ => 4096
  | n + 1, j => if bd n ∧ j = cnt bd (n + 1) then n else pos n j

variable {bd}

theorem cnt_le (n : ℕ) : cnt bd n ≤ n := by
  induction n with
  | zero => exact le_refl _
  | succ n ih => unfold cnt; split <;> omega

theorem cnt_mono {m n : ℕ} (h : m ≤ n) : cnt bd m ≤ cnt bd n := by
  induction n with
  | zero => rw [Nat.le_zero.mp h]
  | succ n ih =>
    rcases Nat.lt_or_ge m (n + 1) with h' | h'
    · have := ih (by omega); conv_rhs => unfold cnt
      omega
    · rw [show m = n + 1 by omega]

theorem pos_le {n : ℕ} (hn : n ≤ 4096) (j : ℕ) : pos bd n j ≤ 4096 := by
  induction n with
  | zero => exact le_refl _
  | succ n ih =>
    unfold pos; split
    · omega
    · exact ih (by omega)

theorem pos_of_gt {n j : ℕ} (h : cnt bd n < j) : pos bd n j = 4096 := by
  induction n with
  | zero => rfl
  | succ n ih =>
    unfold pos; rw [if_neg (by omega)]
    exact ih (lt_of_le_of_lt (cnt_mono (Nat.le_succ n)) h)

theorem pos_zero (n : ℕ) : pos bd n 0 = 4096 := by
  induction n with
  | zero => rfl
  | succ n ih =>
    unfold pos; rw [if_neg, ih]
    rintro ⟨hb, h⟩
    unfold cnt at h; rw [if_pos hb] at h; omega

theorem pos_lt {n j : ℕ} (h1 : 1 ≤ j) (h : j ≤ cnt bd n) : pos bd n j < n := by
  induction n with
  | zero => unfold cnt at h; omega
  | succ n ih =>
    unfold pos; split
    · omega
    · rename_i hh
      refine lt_of_lt_of_le (ih ?_) (Nat.le_succ n)
      by_cases hb : bd n = true
      · have : j ≠ cnt bd (n + 1) := fun e => hh ⟨hb, e⟩
        unfold cnt at this h; rw [if_pos hb] at this h; omega
      · unfold cnt at h; rw [if_neg hb] at h; omega

theorem pos_stable {m n j : ℕ} (hmn : m ≤ n) (h : j ≤ cnt bd m) : pos bd n j = pos bd m j := by
  induction n with
  | zero => rw [Nat.le_zero.mp hmn]
  | succ n ih =>
    rcases Nat.lt_or_ge m (n + 1) with h' | h'
    · rw [← ih (by omega)]
      conv_lhs => unfold pos
      rw [if_neg]
      rintro ⟨hb, e⟩
      have := cnt_mono (bd := bd) (show m ≤ n by omega)
      unfold cnt at e; rw [if_pos hb] at e; omega
    · rw [show m = n + 1 by omega]

theorem pos_ge {m n j : ℕ} (hmn : m ≤ n) (hn : n ≤ 4096) (h : cnt bd m < j) : m ≤ pos bd n j := by
  induction n with
  | zero => show m ≤ 4096; omega
  | succ n ih =>
    unfold pos; split
    · rename_i hh
      by_contra hc
      have : m = n + 1 := by omega
      subst this; omega
    · rcases Nat.lt_or_ge m (n + 1) with h' | h'
      · exact ih (by omega) (by omega)
      · have e : m = n + 1 := by omega
        rw [pos_of_gt]; omega
        exact lt_of_le_of_lt (cnt_mono (by omega)) h

/-- The `j`-th boundary is at or before token `t` exactly if `j` boundaries have been seen by then. -/
theorem pos_le_iff {t j : ℕ} (ht : t < 4096) (h1 : 1 ≤ j) : pos bd 4096 j ≤ t ↔ j ≤ cnt bd (t + 1) := by
  constructor
  · intro h; by_contra hc
    have := pos_ge (bd := bd) (m := t + 1) (n := 4096) (j := j) (by omega) (le_refl _) (by omega)
    omega
  · intro h
    rw [pos_stable (m := t + 1) (by omega) h]
    have := pos_lt h1 h; omega

theorem pos_mono {j : ℕ} : pos bd 4096 (j + 1) ≤ pos bd 4096 (j + 2) := by
  by_cases h : pos bd 4096 (j + 2) < 4096
  · rw [pos_le_iff h (by omega)]
    have := (pos_le_iff (bd := bd) h (show 1 ≤ j + 2 by omega)).mp (le_refl _)
    omega
  · have := pos_le (bd := bd) (le_refl 4096) (j + 1); omega

/-- A table of positions after `n` tokens: right at the boundaries seen, and at every entry below 2080. -/
def PosOK (bd : ℕ → Bool) (n : ℕ) (G : ℕ → BitVec 32) : Prop := ∀ j, j < 2080 ∨ (1 ≤ j ∧ j ≤ cnt bd n) → G j = BitVec.ofNat 32 (pos bd n j)

theorem PosOK.step {n : ℕ} {G : ℕ → BitVec 32} (h : PosOK bd n G) :
    PosOK bd (n + 1) (if bd n then (fun j => if j = cnt bd (n + 1) then BitVec.ofNat 32 n else G j) else G) := by
  intro j hj
  by_cases hb : bd n = true
  · rw [if_pos hb]
    unfold pos
    by_cases e : j = cnt bd (n + 1)
    · rw [if_pos e, if_pos ⟨hb, e⟩]
    · rw [if_neg e, if_neg (fun hh => e hh.2)]
      refine h j (hj.imp_right fun hh => ⟨hh.1, ?_⟩)
      have h2 := hh.2
      unfold cnt at e h2; rw [if_pos hb] at e h2; omega
  · rw [if_neg hb]
    unfold pos; rw [if_neg (fun hh => hb hh.1)]
    refine h j (hj.imp_right fun hh => ⟨hh.1, ?_⟩)
    have h2 := hh.2
    unfold cnt at h2; rw [if_neg hb] at h2; omega

end

/-! ## Folds over the lanes -/

theorem foldl_finRange {β : Type} (st : ℕ → β → β) (a : β) (m : ℕ) :
    (List.finRange m).foldl (fun r k => st k.val r) a = Nat.rec (motive := fun _ => β) a (fun k r => st k r) m := by
  induction m with
  | zero => rfl
  | succ m ih =>
    rw [List.finRange_succ_last, List.foldl_append, List.foldl_map]
    simp only [Fin.val_castSucc, List.foldl_cons, List.foldl_nil, Fin.val_last]
    rw [ih]

theorem lanes_upTo : ∀ j : Fin 16, ((List.finRange 16).filter fun k : Fin 16 => decide (0 < k.val ∧ k.val ≤ j.val))
    = (List.finRange j.val).map fun k => (⟨k.val + 1, by have := k.isLt; have := j.isLt; omega⟩ : Fin 16) := by decide +kernel

/-- The running sum over the lanes. -/
theorem scan_vec (g P : ℕ → BitVec 32) (h0 : P 0 = g 0) (hs : ∀ m, m < 15 → P (m + 1) = P m + g (m + 1)) :
    scan .sum (vec g : IVec S16 32) = vec P := by
  funext y
  have hy : (y 0).val < 16 := (y 0).isLt
  have key : ∀ m, m < 16 → Nat.rec (motive := fun _ => BitVec 32) (g 0) (fun k r => r + g (k + 1)) m = P m := by
    intro m hm
    induction m with
    | zero => exact h0.symm
    | succ m ih => rw [hs m (by omega), ← ih (by omega)]
  show ((List.finRange 16).filter fun k : Fin 16 => decide (0 < k.val ∧ k.val ≤ (y 0).val)).foldl
      (fun r k => r + g k.val) (g 0) = P (y 0).val
  rw [lanes_upTo ⟨(y 0).val, hy⟩, List.foldl_map, foldl_finRange (fun k r => r + g (k + 1))]
  exact key _ hy

theorem natRec_succ {β : Type} (a : β) (f : ℕ → β → β) (m : ℕ) :
    Nat.rec (motive := fun _ => β) a (fun k r => f k r) (m + 1) = f m (Nat.rec (motive := fun _ => β) a (fun k r => f k r) m) := rfl

/-- Whether a token is a boundary, from the word of the comparison. -/
def isSet (w : BitVec 1) : Bool := decide (w = 1#1)

theorem isSet_ext (w : BitVec 1) : w.setWidth 32 = if isSet w then 1#32 else 0#32 := by revert w; decide

section
variable {F : FTy → Type} [FloatOps F]

/-- Whether a number of the boundary row marks a boundary: whether it exceeds one half. -/
def marks (b : F .f32) : Bool := isSet (FloatOps.cmpf .ogt b (Scalar.ofBits .f32 0x3F000000#32 : F .f32))

/-- The counts of sixteen tokens from `n` on. -/
theorem countsOf_eq (b : ℕ → F .f32) (n : ℕ) :
    countsOf (vec fun l => b (n + l)) (BitVec.ofNat 32 (cnt (fun t => marks (b t)) n))
      = vec fun l => BitVec.ofNat 32 (cnt (fun t => marks (b t)) (n + l + 1)) := by
  have e := scan_vec (fun l => if marks (b (n + l)) then 1#32 else 0#32)
    (fun l => BitVec.ofNat 32 (cnt (fun t => marks (b t)) (n + l + 1)) - BitVec.ofNat 32 (cnt (fun t => marks (b t)) n))
    (by
      show BitVec.ofNat 32 (cnt _ n + _) - _ = _
      rw [BitVec.ofNat_add, BitVec.add_comm, BitVec.add_sub_cancel]
      show BitVec.ofNat 32 (if marks (b n) then 1 else 0) = if marks (b (n + 0)) then 1#32 else 0#32
      rw [Nat.add_zero]; split <;> rfl)
    (fun m hm => by
      show BitVec.ofNat 32 (cnt _ (n + m + 1) + _) - _ = _
      rw [BitVec.ofNat_add, ← BitVec.sub_add_comm]
      congr 1
      show BitVec.ofNat 32 (if marks (b (n + m + 1)) then 1 else 0) = if marks (b (n + (m + 1))) then 1#32 else 0#32
      rw [← Nat.add_assoc]; split <;> rfl)
  have e' : extui 32 (maskOf (vec fun l => b (n + l))) natLt_1_32 = (vec fun l => if marks (b (n + l)) then 1#32 else 0#32 : IVec S16 32) :=
    funext fun y => isSet_ext (maskOf (vec fun l => b (n + l)) y)
  unfold countsOf
  rw [e', e]
  funext y
  show _ - _ + _ = _
  exact BitVec.sub_add_cancel _ _

/-- Scattering sixteen words: lane after lane, each that is set replaces one entry. -/
theorem storeIdx_vec (f : IVec S4112 32) (G : ℕ → BitVec 32) (hf : ∀ y, f y = G (y 0).val) (idxs : Fin 1 → IVec S16 32) (v : IVec S16 32)
    (mask : IVec S16 1) (h : ∀ a x, (idxs a x).toNat < S4112.size a) (ix : ℕ → ℕ) (w : ℕ → BitVec 32) (mk : ℕ → Bool)
    (hix : ∀ k : Fin 16, (idxs 0 (Shape.ofLane (d := ![16]) k)).toNat = ix k.val)
    (hv : ∀ k : Fin 16, v (Shape.ofLane (d := ![16]) k) = w k.val)
    (hm : ∀ k : Fin 16, mask (Shape.ofLane (d := ![16]) k) = 1 ↔ mk k.val = true) (y : S4112.Idx) :
    storeIdx (F := F) (s := S4112) (e := .i32) f idxs v mask false h y
      = Nat.rec (motive := fun _ => ℕ → BitVec 32) G (fun k g => if mk k then (fun j => if j = ix k then w k else g j) else g) 16 (y 0).val := by
  have hfold : ∀ (L : List (Fin 16)) (f : IVec S4112 32) (G : ℕ → BitVec 32), (∀ y, f y = G (y 0).val) → ∀ y,
      (L.foldl (fun (g : IVec S4112 32) (k : Fin 16) =>
        if mask (Shape.ofLane (d := ![16]) k) = 1 then
          fun j => if (∀ a, (j a).val = (idxAt (s := S4112) idxs h (Shape.ofLane (d := ![16]) k) a).val) then v (Shape.ofLane (d := ![16]) k) else g j
        else g) f) y
        = (L.foldl (fun g (k : Fin 16) => if mk k.val then (fun j => if j = ix k.val then w k.val else g j) else g) G) (y 0).val := by
    intro L
    induction L with
    | nil => intro f G hf y; exact hf y
    | cons k L ih =>
      intro f G hf y
      rw [List.foldl_cons, List.foldl_cons]
      refine ih _ _ ?_ y
      intro y
      by_cases hb : mk k.val = true
      · rw [if_pos ((hm k).mpr hb), if_pos hb, hv k]
        have hi : (∀ a, (y a).val = (idxAt (s := S4112) idxs h (Shape.ofLane (d := ![16]) k) a).val) ↔ (y 0).val = ix k.val := by
          constructor
          · intro hh; rw [← hix k]; exact hh 0
          · intro hh a; have e : a = 0 := Subsingleton.elim _ _
            subst e; rw [← hix k] at hh; exact hh
        by_cases e : (y 0).val = ix k.val
        · rw [if_pos e]; exact if_pos (hi.mpr e)
        · rw [if_neg e, ← hf y]; exact if_neg (fun hh => e (hi.mp hh))
      · rw [if_neg (fun hh => hb ((hm k).mp hh)), if_neg hb]; exact hf y
  rw [← foldl_finRange (fun k g => if mk k then (fun j => if j = ix k then w k else g j) else g) G 16]
  refine Eq.trans ?_ (hfold (List.finRange 16) f G hf y)
  refine congrFun (congrArg (fun st => List.foldl st f (List.finRange 16)) (funext fun g => funext fun k => ?_)) y
  by_cases hb : mask (Shape.ofLane (d := ![16]) k) = 1
  · refine (if_pos hb).trans (Eq.trans ?_ (if_pos hb).symm)
    funext j
    by_cases hj : ∀ a, (j a).val = (idxAt (s := S4112) idxs h (Shape.ofLane (d := ![16]) k) a).val
    · exact (if_pos hj).trans (if_pos hj).symm
    · exact (if_neg hj).trans (if_neg hj).symm
  · exact (if_neg hb).trans (if_neg hb).symm

/-- Scattering the positions of sixteen tokens from `n` on extends the table. -/
theorem PosOK.step16 {bd : ℕ → Bool} {n : ℕ} {G : ℕ → BitVec 32} (hG : PosOK bd n G) (m : ℕ) :
    PosOK bd (n + m) (Nat.rec (motive := fun _ => ℕ → BitVec 32) G
      (fun k g => if bd (n + k) then (fun j => if j = cnt bd (n + k + 1) then BitVec.ofNat 32 (n + k) else g j) else g) m) := by
  induction m with
  | zero => exact hG
  | succ m ih => exact ih.step

end

end Cert.KernelIdeal.Mean
-- ==== Proof.Sums.lean ====
/-
  What a batch's buffers hold, as functions: the running sums of a tile (`run`), the totals of the tiles before (`total`),
  the sum up to a token (`upTo`), the sum up to the start of a row's segment (`start`), and the rows of the result (`RowOK`).
-/
module

public import proofs.«01_k».proof.Proof.Counts

@[expose] public section

namespace Cert.KernelIdeal.Mean

open Cert.KernelIdeal Cert.KernelIdeal.Gen
open Idealize.ShloMosaic

variable {F : FTy → Type} [FloatOps F]

/-- Zero and one. -/
def z0 : F .f32 := Scalar.ofBits .f32 0x00000000#32
def o1 : F .f32 := Scalar.ofBits .f32 0x3F800000#32

/-- The sum of the first `r` rows of a tile at column `c`. -/
def run (X : ℕ → ℕ → F .f32) : ℕ → ℕ → F .f32
  | 0, _ => z0
  | r + 1, c => FloatOps.addf (run X r c) (X r c)

theorem run_succ (X : ℕ → ℕ → F .f32) (r c : ℕ) : run X (r + 1) c = FloatOps.addf (run X r c) (X r c) := rfl

/-- The rows of tile `t` of a batch. -/
def tile (X : ℕ → ℕ → F .f32) (t : ℕ) : ℕ → ℕ → F .f32 := fun r c => X (256 * t + r) c

/-- The sum of the first `t` tiles. -/
def total (X : ℕ → ℕ → F .f32) : ℕ → ℕ → F .f32
  | 0, _ => z0
  | t + 1, c => FloatOps.addf (total X t c) (run (tile X t) 256 c)

/-- The sum of the first `e` rows, as the kernel forms it. -/
def upTo (X : ℕ → ℕ → F .f32) (e c : ℕ) : F .f32 :=
  FloatOps.addf (run (tile X ((e - 1) / 256)) (e - 256 * ((e - 1) / 256)) c) (total X ((e - 1) / 256) c)

/-- The sum of the rows before the `j`-th boundary; nothing before the first row of the result. -/
def start (X : ℕ → ℕ → F .f32) (bd : ℕ → Bool) (j c : ℕ) : F .f32 := if j = 0 then z0 else upTo X (pos bd 4096 j) c

/-- One over a length, and zero for an empty segment: as a block forms it, and as a single segment does. -/
def facA (n : BitVec 32) : F .f32 :=
  Scalar.select (IntOp.cmpi .sgt n 0#32) (FloatOps.divf o1 (FloatOps.maximumf (FloatOps.sitofp .f32 n) o1)) z0
def facB (n : BitVec 32) : F .f32 :=
  Scalar.select (IntOp.cmpi .sgt n 0#32) (FloatOps.divf o1 (Scalar.sitofp .f32 (Scalar.maxsi n 1#32))) z0

/-- The length of segment `j`, as a word. -/
def lenW (bd : ℕ → Bool) (j : ℕ) : BitVec 32 := BitVec.ofNat 32 (pos bd 4096 (j + 1)) - BitVec.ofNat 32 (pos bd 4096 j)

/-- A row of the result from its factor. -/
def rowVal (X : ℕ → ℕ → F .f32) (bd : ℕ → Bool) (fac : F .f32) (j c : ℕ) : F .f32 :=
  FloatOps.mulf (FloatOps.subf (start X bd (j + 1) c) (start X bd j c)) fac

/-- Row `j` holds segment `j`. -/
def RowOK (X : ℕ → ℕ → F .f32) (bd : ℕ → Bool) (O : ℕ → ℕ → F .f32) (j : ℕ) : Prop :=
  ∀ c < 32, O j c = rowVal X bd (facA (lenW bd j)) j c ∨ O j c = rowVal X bd (facB (lenW bd j)) j c

/-- The rows before `J` are done (row 0 counts for nothing). -/
def RowsOK (X : ℕ → ℕ → F .f32) (bd : ℕ → Bool) (O : ℕ → ℕ → F .f32) (J : ℕ) : Prop := ∀ j, 1 ≤ j → j < J → RowOK X bd O j

/-- The running sums of a tile up to row `n`. -/
def RunOK (X P : ℕ → ℕ → F .f32) (n : ℕ) : Prop := ∀ r ≤ n, ∀ c < 32, P r c = run X r c

/-- Where the rows of tile `t` begin in the result. -/
def lo (bd : ℕ → Bool) (t : ℕ) : ℕ :=
  if t = 0 then 0 else if t < 16 then min (cnt bd (256 * t + 1)) 2050 else min (cnt bd 4096 + 1) 2050

theorem lo_le (bd : ℕ → Bool) (t : ℕ) : lo bd t ≤ 2050 := by unfold lo; split <;> (try split) <;> omega

theorem lo_mono {bd : ℕ → Bool} {t : ℕ} (ht : t < 16) : lo bd t ≤ lo bd (t + 1) := by
  unfold lo
  by_cases h0 : t = 0
  · rw [if_pos h0]; omega
  · rw [if_neg h0, if_pos ht, if_neg (by omega)]
    split
    · have := cnt_mono (bd := bd) (show 256 * t + 1 ≤ 256 * (t + 1) + 1 by omega); omega
    · have := cnt_mono (bd := bd) (show 256 * t + 1 ≤ 4096 by omega); omega

theorem upTo_tile {X : ℕ → ℕ → F .f32} {t e : ℕ} (h : 256 * t < e ∨ t = 0) (h' : e ≤ 256 * t + 256) (c : ℕ) :
    upTo X e c = FloatOps.addf (run (tile X t) (e - 256 * t) c) (total X t c) := by
  have : (e - 1) / 256 = t := by omega
  unfold upTo; rw [this]

/-- The ends of the rows of tile `t` lie in it. -/
def Ends (X : ℕ → ℕ → F .f32) (bd : ℕ → Bool) (t J J' : ℕ) : Prop :=
  ∀ j, J ≤ j → j < J' → 256 * t ≤ pos bd 4096 (j + 1) ∧ pos bd 4096 (j + 1) ≤ 256 * t + 256 ∧
    ∀ c, start X bd (j + 1) c = FloatOps.addf (run (tile X t) (pos bd 4096 (j + 1) - 256 * t) c) (total X t c)

theorem ends {X : ℕ → ℕ → F .f32} {bd : ℕ → Bool} {t : ℕ} (ht : t < 16) : Ends X bd t (lo bd t) (lo bd (t + 1)) := by
  intro j h1 h2
  have hlt := lt_of_lt_of_le h2 (lo_le bd (t + 1))
  have hu : pos bd 4096 (j + 1) ≤ 256 * t + 256 := by
    unfold lo at h2; rw [if_neg (by omega)] at h2
    split at h2
    · exact (pos_le_iff (by omega) (by omega)).mpr (by
        rw [show 256 * t + 256 + 1 = 256 * (t + 1) + 1 by omega]; omega)
    · have := pos_le (bd := bd) (le_refl 4096) (j + 1); omega
  have hl : 256 * t < pos bd 4096 (j + 1) ∨ t = 0 := by
    by_cases h0 : t = 0
    · exact .inr h0
    · refine .inl (pos_ge (m := 256 * t + 1) (by omega) (le_refl _) ?_)
      unfold lo at h1; rw [if_neg h0, if_pos ht] at h1; omega
  refine ⟨by omega, hu, fun c => ?_⟩
  unfold start; rw [if_neg (by omega)]; exact upTo_tile hl hu c

end Cert.KernelIdeal.Mean
-- ==== Proof.Loops.lean ====
/-
  The loops of a batch: the running sums of a tile, and the rows of the result that end in it.
-/
module

public import proofs.«01_k».proof.Proof.Sums

@[expose] public section

noncomputable section

namespace Cert.KernelIdeal.Mean

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable {d : Dev nD} {i : grid0.Coords}

/-- A row of 32 as its two halves. -/
def left (g : ℕ → F .f32) : Mean.V F := vec g
def right (g : ℕ → F .f32) : Mean.V F := vec fun n => g (16 + n)

theorem zeroV_left : (zeroV : Mean.V F) = left fun _ => z0 := rfl
theorem zeroV_right : (zeroV : Mean.V F) = right fun _ => z0 := rfl

theorem left_congr {g g' : ℕ → F .f32} (h : ∀ c < 32, g c = g' c) : left g = left g' := vec_congr fun n hn => h n (by omega)
theorem right_congr {g g' : ℕ → F .f32} (h : ∀ c < 32, g c = g' c) : right g = right g' := vec_congr fun n hn => h (16 + n) (by omega)

/-- A row stored as its two halves: that row is the new one, the others are the old ones. -/
theorem put2_row {β : Type} (G : ℕ → ℕ → β) (r : ℕ) (g : ℕ → β) :
    (∀ c < 32, put2 (put2 G r 0 g) r 16 (fun n => g (16 + n)) r c = g c)
      ∧ ∀ r', r' ≠ r → ∀ c, put2 (put2 G r 0 g) r 16 (fun n => g (16 + n)) r' c = G r' c := by
  unfold put2
  refine ⟨fun c hc => ?_, fun r' hr c => by rw [if_neg (fun h => hr h.1), if_neg (fun h => hr h.1)]⟩
  by_cases h : 16 ≤ c
  · rw [if_pos ⟨rfl, h, by omega⟩]; show g (16 + (c - 16)) = g c; rw [Nat.add_sub_cancel' h]
  · rw [if_neg (fun hh => h hh.2.1), if_pos ⟨rfl, by omega, by omega⟩]; rfl

/-- A program that returns. -/
theorem ret_intro {α : Type} {Q : α → sProp 𝕄} (a : α) : Q a ⊢ WP d i (.ret a) Q := by
  unfold WP; rw [wp_ret]; iintro H; imodintro; iassumption

/-! ## The running sums -/

theorem addf_vec (g h : ℕ → F .f32) : addf (vec g : Mean.V F) (vec h) = vec fun c => FloatOps.addf (g c) (h c) := rfl

theorem left_run (X : ℕ → ℕ → F .f32) (n : ℕ) : addf (left (run X n)) (vec fun c => X n (0 + c)) = left (run X (n + 1)) := by
  unfold left; rw [addf_vec]; exact vec_congr fun c _ => by rw [Nat.zero_add, run_succ]

theorem right_run (X : ℕ → ℕ → F .f32) (n : ℕ) : addf (right (run X n)) (vec fun c => X n (16 + c)) = right (run X (n + 1)) := by
  unfold right; rw [addf_vec]; exact vec_congr fun c _ => by rw [run_succ]

theorem RunOK.put {X P : ℕ → ℕ → F .f32} {n : ℕ} (h : RunOK X P n) :
    RunOK X (put2 (put2 P (n + 1) 0 (run X (n + 1))) (n + 1) 16 fun c => run X (n + 1) (16 + c)) (n + 1) := by
  have hput := put2_row P (n + 1) (run X (n + 1))
  intro r hr c hc
  by_cases h' : r = n + 1
  · subst h'; exact hput.1 c hc
  · rw [hput.2 r h']; exact h r (by omega) c hc

theorem wp_prefixRows {α : Type} {Q : α → sProp 𝕄} {xb : Memref sig .scVector .vmem S256x32 .f32} {k : Fin k0_t4_loop.trips}
    {X : ℕ → ℕ → F .f32} {κ : Mean.V F → Mean.V F → Prog (TileEff F i) α} :
    ∀ (m : ℕ) (hm : m ≤ 16) (P : ℕ → ℕ → F .f32), RunOK X P (16 * k.val + (16 - m)) →
      iprop(Own2 d i xb X ∗ Own2 d i pBuf P)
        ⊢ iprop((∀ P', ⌜RunOK X P' (16 * k.val + 16)⌝ -∗ Own2 d i xb X -∗ Own2 d i pBuf P' -∗
              WP d i (κ (left (run X (16 * k.val + 16))) (right (run X (16 * k.val + 16)))) Q)
            -∗ WP d i (prefixRows xb k m hm (left (run X (16 * k.val + (16 - m)))) (right (run X (16 * k.val + (16 - m)))) κ) Q) := by
  intro m
  induction m with
  | zero =>
    intro hm P hP
    unfold prefixRows
    iintro ⟨Hx, Hp⟩ Hk
    iapply Hk $$ [] Hx Hp
    ipureintro; exact hP
  | succ m ih =>
    intro hm P hP
    unfold prefixRows
    obtain ⟨n, hn⟩ : ∃ n, n = 16 * k.val + (15 - m) := ⟨_, rfl⟩
    have hr : 16 * k.val + (16 - (m + 1)) = n := by omega
    have e : 16 * k.val + (16 - m) = n + 1 := by omega
    rw [hr] at hP ⊢
    have hih := ih (by omega) _ (by rw [e]; exact hP.put)
    rw [e] at hih
    iintro ⟨Hx, Hp⟩ Hk
    iapply (wp_ldRow n 0 (hn ▸ k0_off8_eq k ⟨15 - m, by omega⟩)) $$ Hx
    iintro Hx
    iapply (wp_ldRow n 16 (hn ▸ k0_off9_eq k ⟨15 - m, by omega⟩)) $$ Hx
    iintro Hx
    rw [left_run, right_run]
    iapply (wp_putRow (n + 1) 0 (hn ▸ k0_off10_eq k ⟨15 - m, by omega⟩) (run X (n + 1)) rfl) $$ Hp
    iintro Hp
    iapply (wp_putRow (n + 1) 16 (hn ▸ k0_off11_eq k ⟨15 - m, by omega⟩) (fun c => run X (n + 1) (16 + c)) rfl) $$ Hp
    iintro Hp
    iapply hih $$ [Hx Hp] Hk
    isplitl [Hx] <;> iassumption

/-- One trip of the loop over a tile's rows. -/
theorem wp_prefixBody {xb : Memref sig .scVector .vmem S256x32 .f32} (k : Fin k0_t4_loop.trips)
    {X : ℕ → ℕ → F .f32} (acc : Mean.V F × Mean.V F) {P : ℕ → ℕ → F .f32} (hacc : acc = (left (run X (16 * k.val)), right (run X (16 * k.val))))
    (hP : RunOK X P (16 * k.val)) :
    iprop(Own2 d i xb X ∗ Own2 d i pBuf P)
      ⊢ WP d i (prefixBody xb k acc) fun acc' => iprop(⌜acc' = (left (run X (16 * (k.val + 1))), right (run X (16 * (k.val + 1))))⌝ ∗ Own2 d i xb X ∗
          ∃ P', ⌜RunOK X P' (16 * (k.val + 1))⌝ ∗ Own2 d i pBuf P') := by
  subst hacc
  have e : 16 * (k.val + 1) = 16 * k.val + 16 := by omega
  rw [e]
  unfold prefixBody
  iintro H
  iapply (wp_prefixRows (k := k) 16 (le_refl _) P hP) $$ H
  iintro %P' %hP' Hx Hp
  iapply ret_intro
  isplitr
  · ipureintro; rfl
  isplitl [Hx]
  · iassumption
  iexists P'
  isplitr
  · ipureintro; exact hP'
  iassumption

theorem trips_t4 : k0_t4_loop.trips = 16 := by decide +kernel

/-- The loop over a tile's rows: the running sums of the tile. -/
theorem wp_prefix {α : Type} {Q : α → sProp 𝕄} {xb : Memref sig .scVector .vmem S256x32 .f32}
    {X P : ℕ → ℕ → F .f32} {κ : Mean.V F × Mean.V F → Prog (TileEff F i) α} (hP : RunOK X P 0) :
    iprop(Own2 d i xb X ∗ Own2 d i pBuf P)
      ⊢ iprop((∀ P', ⌜RunOK X P' 256⌝ -∗ Own2 d i xb X -∗ Own2 d i pBuf P' -∗
            WP d i (κ (left (run X 256), right (run X 256))) Q)
          -∗ WP d i ((Scf.Loop.for k0_t4_loop k0_t4_ok (zeroV, zeroV) fun k acc => prefixBody xb k acc) >>= κ) Q) := by
  iintro ⟨Hx, Hp⟩ Hk
  iapply (Scf.wp_for_bind _ _ _ _ _ _ _ _ _
    (fun n (acc : Mean.V F × Mean.V F) => iprop(⌜acc = (left (run X (16 * n)), right (run X (16 * n)))⌝ ∗ Own2 d i xb X ∗
      ∃ P', ⌜RunOK X P' (16 * n)⌝ ∗ Own2 d i pBuf P')) (fun k acc => by
        iintro ⟨%hacc, Hx, %P', %hP', Hp⟩
        iapply (wp_prefixBody k acc hacc hP') $$ [Hx Hp]
        isplitl [Hx] <;> iassumption)) $$ [Hx Hp]
  · isplitr
    · ipureintro; rfl
    isplitl [Hx]
    · iassumption
    iexists P
    isplitr
    · ipureintro; exact hP
    iassumption
  iintro %acc ⟨%hacc, Hx, %P', %hP', Hp⟩
  subst hacc
  have e : 16 * Scf.trips k0_t4_loop.lb k0_t4_loop.ub k0_t4_loop.st = 256 := by rw [show Scf.trips _ _ _ = _ from trips_t4]
  rw [e] at hP' ⊢
  iapply Hk $$ [] Hx Hp
  ipureintro; exact hP'

end Cert.KernelIdeal.Mean
-- ==== Proof.Segs.lean ====
/-
  The rows of the result that end in one tile.
-/
module

public import proofs.«01_k».proof.Proof.Loops

@[expose] public section

noncomputable section

namespace Cert.KernelIdeal.Mean

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable {d : Dev nD} {i : grid0.Coords}

/-! ## Rows and lanes -/

theorem laneI_vec (g : ℕ → BitVec 32) (j : Fin 16) : laneI (vec g) j = g j.val := by
  show g (j.val + 1 * 0) = g j.val; rfl

theorem left_start {X P : ℕ → ℕ → F .f32} {bd : ℕ → Bool} {t j : ℕ} (hP : RunOK (tile X t) P 256)
    (h' : pos bd 4096 (j + 1) ≤ 256 * t + 256)
    (hs : ∀ c, start X bd (j + 1) c = FloatOps.addf (run (tile X t) (pos bd 4096 (j + 1) - 256 * t) c) (total X t c)) :
    addf (vec fun n => P (pos bd 4096 (j + 1) - 256 * t) (0 + n)) (left (total X t)) = left (start X bd (j + 1)) := by
  unfold left; rw [addf_vec]
  exact vec_congr fun c hc => by rw [Nat.zero_add, hs c, hP _ (by omega) c (by omega)]

theorem right_start {X P : ℕ → ℕ → F .f32} {bd : ℕ → Bool} {t j : ℕ} (hP : RunOK (tile X t) P 256)
    (h' : pos bd 4096 (j + 1) ≤ 256 * t + 256)
    (hs : ∀ c, start X bd (j + 1) c = FloatOps.addf (run (tile X t) (pos bd 4096 (j + 1) - 256 * t) c) (total X t c)) :
    addf (vec fun n => P (pos bd 4096 (j + 1) - 256 * t) (16 + n)) (right (total X t)) = right (start X bd (j + 1)) := by
  unfold right; rw [addf_vec]
  exact vec_congr fun c hc => by rw [hs (16 + c), hP _ (by omega) (16 + c) (by omega)]

/-- The read of the running sums at the end of segment `j`. -/
theorem wp_elRow {α : Type} {Q : α → sProp 𝕄} {X P : ℕ → ℕ → F .f32} {bd : ℕ → Bool} {t j J J' : ℕ}
    {κ : Mean.V F → Mean.V F → Prog (TileEff F i) α} (ht : t < 16)
    (hP : RunOK (tile X t) P 256) (hE : Ends X bd t J J') (h1 : J ≤ j) (h2 : j < J') :
    Own2 d i pBuf P
      ⊢ iprop((Own2 d i pBuf P -∗ WP d i (κ (left (start X bd (j + 1))) (right (start X bd (j + 1)))) Q)
          -∗ WP d i (elRow (BitVec.ofNat 32 (256 * t)) (left (total X t)) (right (total X t)) (BitVec.ofNat 32 (pos bd 4096 (j + 1))) κ) Q) := by
  obtain ⟨ha, hb, hs⟩ := hE j h1 h2
  unfold elRow
  iintro Hp Hk
  iapply (wp_assume (defs := defs₀ (F := F)) Variants.none (thr d i) none Set.univ (elChk ha hb (by omega)))
  iapply (wp_ldRow _ _ (elOffL_eq ha (by omega))) $$ Hp
  iintro Hp
  iapply (wp_ldRow _ _ (elOffR_eq ha (by omega))) $$ Hp
  rw [left_start hP hb hs, right_start hP hb hs]
  iexact Hk

/-- The ends of the segments of a block. -/
def Got (X : ℕ → ℕ → F .f32) (bd : ℕ → Bool) (j N : ℕ) (A B : ℕ → Mean.V F) : Prop :=
  ∀ n ≤ N, A n = left (start X bd (j + n)) ∧ B n = right (start X bd (j + n))

theorem wp_elRows {α : Type} {Q : α → sProp 𝕄} {X P : ℕ → ℕ → F .f32} {bd : ℕ → Bool} {t j J J' : ℕ} {p : IVec S16 32}
    {κ : (ℕ → Mean.V F) → (ℕ → Mean.V F) → Prog (TileEff F i) α} (ht : t < 16)
    (hP : RunOK (tile X t) P 256) (hE : Ends X bd t J J') (h1 : J ≤ j) (h2 : j + 8 ≤ J')
    (hp : ∀ n, n ≤ 8 → ∀ (hn : n < 16), laneI p ⟨n, hn⟩ = BitVec.ofNat 32 (pos bd 4096 (j + n))) :
    ∀ (m : ℕ) (hm : m ≤ 8) (A B : ℕ → Mean.V F), Got X bd j (8 - m) A B →
      Own2 d i pBuf P
        ⊢ iprop((∀ A' B', ⌜Got X bd j 8 A' B'⌝ -∗ Own2 d i pBuf P -∗ WP d i (κ A' B') Q)
            -∗ WP d i (elRows (BitVec.ofNat 32 (256 * t)) (left (total X t)) (right (total X t)) p m hm A B κ) Q) := by
  intro m
  induction m with
  | zero =>
    intro hm A B hA
    unfold elRows
    iintro Hp Hk
    iapply Hk $$ [] Hp
    ipureintro; exact hA
  | succ m ih =>
    intro hm A B hA
    unfold elRows
    obtain ⟨n, hn⟩ : ∃ n, n = 7 - m := ⟨_, rfl⟩
    have e8 : 8 - m = n + 1 := by omega
    have el : laneI p ⟨8 - m, by omega⟩ = BitVec.ofNat 32 (pos bd 4096 (j + n + 1)) := by
      rw [hp (8 - m) (by omega) (by omega), e8]; rfl
    rw [el]
    iintro Hp Hk
    iapply (wp_elRow (j := j + n) ht hP hE (by omega) (by omega)) $$ Hp
    iintro Hp
    iapply (ih _ _ _ ?_) $$ Hp Hk
    rw [e8]
    intro q hq
    by_cases h : q = n + 1
    · subst h; simp only [if_true]; exact ⟨rfl, rfl⟩
    · simp only [if_neg h]; exact hA q (by omega)

/-- A row of the result, stored as its two halves. -/
theorem RowsOK.put {X : ℕ → ℕ → F .f32} {bd : ℕ → Bool} {O : ℕ → ℕ → F .f32} {j : ℕ} (h : RowsOK X bd O j) (f : F .f32)
    (hf : f = facA (lenW bd j) ∨ f = facB (lenW bd j)) :
    RowsOK X bd (put2 (put2 O j 0 (rowVal X bd f j)) j 16 fun c => rowVal X bd f j (16 + c)) (j + 1) := by
  have hput := put2_row O j (rowVal X bd f j)
  intro j' h1 h2 c hc
  by_cases h' : j' = j
  · subst h'; rw [hput.1 c hc]
    rcases hf with rfl | rfl
    · exact .inl rfl
    · exact .inr rfl
  · rw [hput.2 j' h']; exact h j' h1 (by omega) c hc

theorem wp_outRows {α : Type} {Q : α → sProp 𝕄} {X : ℕ → ℕ → F .f32} {bd : ℕ → Bool} {J k : ℕ} {fac : ℕ → F .f32}
    {hl : ∀ (r : Fin 8), ∀ a, (rowOffL (sgm J) (BitVec.ofNat 32 k) (BitVec.ofNat 32 r.val)) a + S1x16.size a ≤ S2050x32.size a}
    {hr : ∀ (r : Fin 8), ∀ a, (rowOffR (sgm J) (BitVec.ofNat 32 k) (BitVec.ofNat 32 r.val)) a + S1x16.size a ≤ S2050x32.size a}
    {A B : ℕ → Mean.V F} {κ : Prog (TileEff F i) α} (hb : J + 8 * k + 8 < 2 ^ 31)
    (hA : Got X bd (J + 8 * k) 8 A B) (hf : ∀ n < 8, fac n = facA (lenW bd (J + 8 * k + n))) :
    ∀ (m : ℕ) (hm : m ≤ 8) (O : ℕ → ℕ → F .f32), RowsOK X bd O (J + 8 * k + (8 - m)) →
      Own2 d i oBuf O
        ⊢ iprop((∀ O', ⌜RowsOK X bd O' (J + 8 * k + 8)⌝ -∗ Own2 d i oBuf O' -∗ WP d i κ Q)
            -∗ WP d i (outRows (sgm J) (BitVec.ofNat 32 k) (vec fac) hl hr A B m hm κ) Q) := by
  intro m
  induction m with
  | zero =>
    intro hm O hO
    unfold outRows
    iintro Ho Hk
    iapply Hk $$ [] Ho
    ipureintro; exact hO
  | succ m ih =>
    intro hm O hO
    unfold outRows
    obtain ⟨n, hn⟩ : ∃ n, n = 7 - m := ⟨_, rfl⟩
    have h8 : 8 - m = n + 1 := by omega
    have hO' : RowsOK X bd O (J + 8 * k + n) := by rw [show n = 8 - (m + 1) by omega]; exact hO
    have eL : mulf (subf (A (8 - m)) (A (7 - m))) (laneF (vec fac) ⟨7 - m, by omega⟩) = vec (rowVal X bd (fac n) (J + 8 * k + n)) := by
      subst hn; rw [h8, (hA (7 - m + 1) (by omega)).1, (hA (7 - m) (by omega)).1]; rfl
    have eR : mulf (subf (B (8 - m)) (B (7 - m))) (laneF (vec fac) ⟨7 - m, by omega⟩) = vec fun c => rowVal X bd (fac n) (J + 8 * k + n) (16 + c) := by
      subst hn; rw [h8, (hA (7 - m + 1) (by omega)).2, (hA (7 - m) (by omega)).2]; rfl
    iintro Ho Hk
    iapply (wp_putRow (J + 8 * k + n) 0 (hn ▸ rowOffL_eq (by omega)) _ eL) $$ Ho
    iintro Ho
    iapply (wp_putRow (J + 8 * k + n) 16 (hn ▸ rowOffR_eq (by omega)) _ eR) $$ Ho
    iintro Ho
    iapply (ih _ _ (by rw [h8]; exact hO'.put _ (.inl (hf n (by omega))))) $$ Ho Hk

theorem lane_pos {bd : ℕ → Bool} {G : ℕ → BitVec 32} (hG : PosOK bd 4096 G) {o n : ℕ} (h : o + n < 2080) (hn : n < 16) :
    laneI (vec fun l => G (o + l)) ⟨n, hn⟩ = BitVec.ofNat 32 (pos bd 4096 (o + n)) := by
  rw [laneI_vec]; exact hG _ (.inl h)

/-- The factors of a block. -/
theorem facBlock_vec (g h : ℕ → BitVec 32) : facBlock (F := F) (vec g) (vec h) = vec fun n => facA (h n - g n) := rfl

/-- One block: eight rows of the result. -/
theorem wp_blockBody {X P O : ℕ → ℕ → F .f32} {bd : ℕ → Bool} {G : ℕ → BitVec 32} {t J k J' : ℕ} {q : BitVec 32}
    {hp : ∀ (r : Fin 2), ∀ a, (posOff (sgm J) q (BitVec.ofNat 32 (1 + r.val))) a + S16.size a ≤ S4112.size a}
    {hl : ∀ (r : Fin 8), ∀ a, (rowOffL (sgm J) q (BitVec.ofNat 32 r.val)) a + S1x16.size a ≤ S2050x32.size a}
    {hr : ∀ (r : Fin 8), ∀ a, (rowOffR (sgm J) q (BitVec.ofNat 32 r.val)) a + S1x16.size a ≤ S2050x32.size a}
    (hq : q = BitVec.ofNat 32 k) (ht : t < 16) (hP : RunOK (tile X t) P 256) (hE : Ends X bd t J J') (hG : PosOK bd 4096 G) (h1 : J + 8 * k + 8 ≤ J') (h2 : J' ≤ 2050)
    (hO : RowsOK X bd O (J + 8 * k)) (acc : Mean.V F × Mean.V F) (hacc : acc = (left (start X bd (J + 8 * k)), right (start X bd (J + 8 * k)))) :
    iprop(Own2 d i pBuf P ∗ Own1 d i posBuf G ∗ Own2 d i oBuf O)
      ⊢ WP d i (blockBody (sgm J) (BitVec.ofNat 32 (256 * t)) (left (total X t)) (right (total X t)) q hp hl hr acc) fun acc' =>
          iprop(⌜acc' = (left (start X bd (J + 8 * k + 8)), right (start X bd (J + 8 * k + 8)))⌝ ∗ Own2 d i pBuf P ∗ Own1 d i posBuf G ∗
            ∃ O', ⌜RowsOK X bd O' (J + 8 * k + 8)⌝ ∗ Own2 d i oBuf O') := by
  subst hacc; subst hq
  unfold blockBody
  iintro ⟨Hp, Hg, Ho⟩
  iapply (wp_ldVec (J + 8 * k) (posOff_eq (c := 0) (by omega))) $$ Hg
  iintro Hg
  iapply (wp_ldVec (J + 8 * k + 1) (posOff_eq (c := 1) (by omega))) $$ Hg
  iintro Hg
  iapply (wp_elRows (j := J + 8 * k) ht hP hE (by omega) h1 (fun n hn hn' => lane_pos hG (by omega) hn') 8 (le_refl _) _ _
    (show Got X bd (J + 8 * k) 0 _ _ from fun n hn => by obtain rfl : n = 0 := by omega
                                                         exact ⟨rfl, rfl⟩)) $$ Hp
  iintro %A %B %hA Hp
  rw [facBlock_vec]
  iapply (wp_outRows (X := X) (bd := bd) (by omega) hA (fun n hn => by
      show facA (G (J + 8 * k + 1 + n) - G (J + 8 * k + n)) = _
      rw [hG _ (.inl (by omega)), hG (J + 8 * k + n) (.inl (by omega)), lenW, Nat.add_right_comm]) 8 (le_refl _) O hO) $$ Ho
  iintro %O' %hO' Ho
  iapply ret_intro
  isplitr
  · ipureintro; rw [(hA 8 (le_refl _)).1, (hA 8 (le_refl _)).2]
  isplitl [Hp]
  · iassumption
  isplitl [Hg]
  · iassumption
  iexists O'
  isplitr
  · ipureintro; exact hO'
  iassumption

theorem left_row (X : ℕ → ℕ → F .f32) (bd : ℕ → Bool) (j : ℕ) (n : BitVec 32) (hn : n = lenW bd j) :
    mulf (subf (left (start X bd (j + 1))) (left (start X bd j))) (facSeg n) = vec (rowVal X bd (facB (lenW bd j)) j) := by
  subst hn
  funext y
  show FloatOps.mulf _ (facSeg (lenW bd j) y) = FloatOps.mulf _ _
  congr 1
  unfold facSeg facB Scalar.select Scalar.cmpi
  split <;> rfl

theorem right_row (X : ℕ → ℕ → F .f32) (bd : ℕ → Bool) (j : ℕ) (n : BitVec 32) (hn : n = lenW bd j) :
    mulf (subf (right (start X bd (j + 1))) (right (start X bd j))) (facSeg n) = vec fun c => rowVal X bd (facB (lenW bd j)) j (16 + c) := by
  subst hn
  funext y
  show FloatOps.mulf _ (facSeg (lenW bd j) y) = FloatOps.mulf _ _
  congr 1
  unfold facSeg facB Scalar.select Scalar.cmpi
  split <;> rfl

/-- One segment: a row of the result. -/
theorem wp_segBody {X P O : ℕ → ℕ → F .f32} {bd : ℕ → Bool} {G : ℕ → BitVec 32} {t j J J' : ℕ} {s : BitVec 32}
    {hp : ∀ a, (sposOff s) a + S16.size a ≤ S4112.size a}
    {hl : ∀ a, (srowOffL s) a + S1x16.size a ≤ S2050x32.size a}
    {hr : ∀ a, (srowOffR s) a + S1x16.size a ≤ S2050x32.size a}
    (hs : s = sgm j) (ht : t < 16) (hP : RunOK (tile X t) P 256) (hE : Ends X bd t J J') (hG : PosOK bd 4096 G) (h0 : J ≤ j) (h1 : j < J') (h2 : J' ≤ 2050)
    (hO : RowsOK X bd O j) (acc : Mean.V F × Mean.V F) (hacc : acc = (left (start X bd j), right (start X bd j))) :
    iprop(Own2 d i pBuf P ∗ Own1 d i posBuf G ∗ Own2 d i oBuf O)
      ⊢ WP d i (segBody (BitVec.ofNat 32 (256 * t)) (left (total X t)) (right (total X t)) s hp hl hr acc) fun acc' =>
          iprop(⌜acc' = (left (start X bd (j + 1)), right (start X bd (j + 1)))⌝ ∗ Own2 d i pBuf P ∗ Own1 d i posBuf G ∗
            ∃ O', ⌜RowsOK X bd O' (j + 1)⌝ ∗ Own2 d i oBuf O') := by
  subst hacc; subst hs
  unfold segBody
  iintro ⟨Hp, Hg, Ho⟩
  iapply (wp_ldVec j (sposOff_eq (by omega))) $$ Hg
  iintro Hg
  have e1 : laneI (vec fun n => G (j + n)) 1 = BitVec.ofNat 32 (pos bd 4096 (j + 1)) := lane_pos hG (by omega) (by omega)
  have e0 : laneI (vec fun n => G (j + n)) 0 = BitVec.ofNat 32 (pos bd 4096 j) := lane_pos hG (n := 0) (by omega) (by omega)
  have en : Scalar.subi (laneI (vec fun n => G (j + n)) 1) (laneI (vec fun n => G (j + n)) 0) = lenW bd j := by rw [e1, e0]; rfl
  rw [en, e1]
  iapply (wp_elRow (j := j) ht hP hE h0 h1) $$ Hp
  iintro Hp
  iapply (wp_putRow j 0 (srowOffL_eq (by omega)) _ (left_row X bd j _ rfl)) $$ Ho
  iintro Ho
  iapply (wp_putRow j 16 (srowOffR_eq (by omega)) _ (right_row X bd j _ rfl)) $$ Ho
  iintro Ho
  iapply ret_intro
  isplitr
  · ipureintro; rfl
  isplitl [Hp]
  · iassumption
  isplitl [Hg]
  · iassumption
  iexists _
  isplitr [Ho]
  · ipureintro; exact hO.put _ (.inr rfl)
  iassumption

/-- A loop of no trips. -/
theorem wp_for_none {α β : Type} {Q : α → sProp 𝕄} (L : Scf.Loop 32) (ok : L.OK) (h : L.trips = 0) (a : β)
    (body : Fin L.trips → β → Prog (TileEff F i) β) (κ : β → Prog (TileEff F i) α) :
    WP d i (κ a) Q ⊢ WP d i ((Scf.Loop.for L ok a body) >>= κ) Q := by
  have e : (Scf.Loop.for L ok a body) = .ret a := by
    show Scf.for L.lb L.ub L.st ok a body = _
    rw [Scf.for_eq]
    have : List.finRange (Scf.trips L.lb L.ub L.st) = [] := List.eq_nil_of_length_eq_zero (by rw [List.length_finRange]; exact h)
    rw [this]; rfl
  rw [e]; exact .rfl

/-- What the rows of a result hold, with what they are made from. -/
def SegInv (d : Dev nD) (i : grid0.Coords) (X : ℕ → ℕ → F .f32) (bd : ℕ → Bool) (P : ℕ → ℕ → F .f32) (G : ℕ → BitVec 32) (j : ℕ)
    (acc : Mean.V F × Mean.V F) : sProp 𝕄 :=
  iprop(⌜acc = (left (start X bd j), right (start X bd j))⌝ ∗ Own2 d i pBuf P ∗ Own1 d i posBuf G ∗
    ∃ O', ⌜RowsOK X bd O' j⌝ ∗ Own2 d i oBuf O')

/-- The segments of a tile. -/
theorem wp_segments {α : Type} {Q : α → sProp 𝕄} {X P O : ℕ → ℕ → F .f32} {bd : ℕ → Bool} {G : ℕ → BitVec 32} {t J J' : ℕ}
    {hc : TileChk (sgm J) (sgm J')} {κ : Mean.V F × Mean.V F → Prog (TileEff F i) α}
    (ht : t < 16) (hP : RunOK (tile X t) P 256) (hE : Ends X bd t J J') (hG : PosOK bd 4096 G) (h1 : J ≤ J') (h2 : J' ≤ 2050)
    (hO : RowsOK X bd O J) :
    iprop(Own2 d i pBuf P ∗ Own1 d i posBuf G ∗ Own2 d i oBuf O)
      ⊢ iprop((∀ O', ⌜RowsOK X bd O' J'⌝ -∗ Own2 d i pBuf P -∗ Own1 d i posBuf G -∗ Own2 d i oBuf O' -∗
            WP d i (κ (left (start X bd J'), right (start X bd J'))) Q)
          -∗ WP d i (segments (BitVec.ofNat 32 (256 * t)) (left (total X t)) (right (total X t)) (sgm J) (sgm J') hc
              (left (start X bd J), right (start X bd J)) κ) Q) := by
  unfold segments
  iintro ⟨Hp, Hg, Ho⟩ Hk
  iapply (Scf.wp_for_bind _ _ _ _ _ _ _ _ _ (fun n acc => SegInv d i X bd P G (J + 8 * n) acc) (fun k acc => by
      unfold SegInv
      iintro ⟨%hacc, Hp, Hg, %O', %hO', Ho⟩
      have hk : k.val < _ := lt_of_lt_of_eq k.isLt (blkLoop_trips h1 h2)
      rw [show J + 8 * (k.val + 1) = J + 8 * k.val + 8 by omega]
      iapply (wp_blockBody (k := k.val) (blkLoop_iv _ _ k) ht hP hE hG (by omega) h2 hO' acc hacc) $$ [Hp Hg Ho]
      isplitl [Hp]
      · iassumption
      isplitl [Hg] <;> iassumption)) $$ [Hp Hg Ho]
  · unfold SegInv
    isplitr
    · ipureintro; rfl
    isplitl [Hp]
    · iassumption
    isplitl [Hg]
    · iassumption
    iexists O
    isplitr
    · ipureintro; exact hO
    iassumption
  iintro %acc H
  rw [show Scf.trips (blkLoop (sgm J) (sgm J')).lb (blkLoop (sgm J) (sgm J')).ub (blkLoop (sgm J) (sgm J')).st = _ from blkLoop_trips h1 h2]
  iapply (wp_for_none (blkRest (sgm J) (sgm J')) _ (blkRest_trips _ _))
  iapply (Scf.wp_for_bind _ _ _ _ _ _ _ _ _ (fun n acc => SegInv d i X bd P G (J + 8 * ((J' - J) / 8) + n) acc) (fun k acc => by
      unfold SegInv
      iintro ⟨%hacc, Hp, Hg, %O', %hO', Ho⟩
      have hk : k.val < _ := lt_of_lt_of_eq k.isLt (segLoop_trips h1 h2)
      rw [← Nat.add_assoc]
      iapply (wp_segBody (segLoop_iv h1 h2 k) ht hP hE hG (by omega) (by omega) h2 hO' acc hacc) $$ [Hp Hg Ho]
      isplitl [Hp]
      · iassumption
      isplitl [Hg] <;> iassumption)) $$ H
  iintro %acc' H
  rw [show Scf.trips (segLoop (sgm J) (sgm J')).lb (segLoop (sgm J) (sgm J')).ub (segLoop (sgm J) (sgm J')).st = _ from segLoop_trips h1 h2,
    show J + 8 * ((J' - J) / 8) + (J' - J) % 8 = J' by omega]
  iapply (wp_for_none (segRest (sgm J) (sgm J')) _ (segRest_trips _ _))
  unfold SegInv
  icases H with ⟨%hacc, Hp, Hg, %O', %hO', Ho⟩
  subst hacc
  iapply Hk $$ [] Hp Hg Ho
  ipureintro; exact hO'

end Cert.KernelIdeal.Mean
-- ==== Proof.Scan.lean ====
/-
  The counts of boundaries and the table of positions.
-/
module

public import proofs.«01_k».proof.Proof.Segs
public import Idealize.ShloMosaic.Lib.SparseCore.Ops

@[expose] public section

noncomputable section

namespace Cert.KernelIdeal.Mean

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable {d : Dev nD} {i : grid0.Coords}

theorem access_whole (f : Buf (Elt F) (posBuf.view.loc (thr d i))) :
    (((posBuf : Memref sig .scVector .vmem S4112 .i32).access (.whole S4112)).loc (thr d i)
        ↦[((posBuf : Memref sig .scVector .vmem S4112 .i32).access (.whole S4112)).set]{fullShare} f : sProp 𝕄)
      = (posBuf.view.loc (thr d i) ↦[posBuf.view.set]{fullShare} f) := by
  rw [show ((posBuf : Memref sig .scVector .vmem S4112 .i32).access (.whole S4112)).set = Finset.univ from Memref.set_access_whole (cc0_scratch5 : Ref sig .scVector),
    (Memref.isWhole_whole cc0_scratch5).set_eq_univ]

/-- Scattering the positions of sixteen tokens into the table. -/
theorem wp_scatter {α : Type} {Q : α → sProp 𝕄} {idxs : Fin 1 → IVec S16 32} {v : IVec S16 32} {mask : IVec S16 1}
    {h : ∀ a x, (idxs a x).toNat < S4112.size a} {hs : ((posBuf : Memref sig .scVector .vmem S4112 .i32).access (.whole S4112)).Stores Finset.univ}
    {κ : PUnit → Prog (TileEff F i) α} {G : ℕ → BitVec 32} (ix : ℕ → ℕ) (w : ℕ → BitVec 32) (mk : ℕ → Bool)
    (hix : ∀ k : Fin 16, (idxs 0 (Shape.ofLane (d := ![16]) k)).toNat = ix k.val)
    (hv : ∀ k : Fin 16, v (Shape.ofLane (d := ![16]) k) = w k.val)
    (hm : ∀ k : Fin 16, mask (Shape.ofLane (d := ![16]) k) = 1 ↔ mk k.val = true) :
    Own1 (F := F) d i posBuf G
      ⊢ iprop((Own1 (F := F) d i posBuf (Nat.rec (motive := fun _ => ℕ → BitVec 32) G
              (fun k g => if mk k then (fun j => if j = ix k then w k else g j) else g) 16) -∗ WP d i (κ ⟨⟩) Q)
          -∗ WP d i ((SparseCore.vectorStoreIdx (posBuf : Memref sig .scVector .vmem S4112 .i32) idxs v mask false h hs : Prog (TileEff F i) PUnit) >>= κ) Q) := by
  unfold Own1
  iintro ⟨%f, %hf, H⟩ Hk
  ihave H' := (Entails.of_eq (access_whole (F := F) (d := d) (i := i) f).symm) $$ H
  iapply (SparseCore.wp_vectorStoreIdx (defs := defs₀ (F := F)) Variants.none (thr d i) none Set.univ (base := posBuf)) $$ H'
  iintro H
  ihave H' := (Entails.of_eq (access_whole (F := F) (d := d) (i := i) _)) $$ H
  iapply Hk
  iexists _
  isplitr
  swap
  · iexact H'
  ipureintro
  intro y
  refine (congrFun (Memref.write_access_whole_univ (Elt F) (cc0_scratch5 : Ref sig .scVector) f _) y).trans ?_
  refine storeIdx_vec (F := F) _ G (fun y => ?_) idxs v mask h ix w mk hix hv hm y
  exact (congrFun (Memref.read_access_whole (Elt F) (cc0_scratch5 : Ref sig .scVector) f) y).trans (hf y)

/-! ## The table of positions, filled -/

theorem trips_t2 : k0_t2_loop.trips = 130 := by decide +kernel
theorem trips_t3 : k0_t3_loop.trips = 256 := by decide +kernel
theorem trips_t84 : k0_t84_loop.trips = 128 := by decide +kernel

/-- The first `n` entries are 4096. -/
def Filled (G : ℕ → BitVec 32) (n : ℕ) : Prop := ∀ j < n, G j = 4096#32

theorem Filled.put {G : ℕ → BitVec 32} {n : ℕ} (h : Filled G n) : Filled (put1 G n fun _ => 4096#32) (n + 16) := by
  intro j hj
  unfold put1
  split
  · rfl
  · exact h j (by omega)

theorem Filled.posOK {G : ℕ → BitVec 32} (h : Filled G 2080) (bd : ℕ → Bool) : PosOK bd 0 G := by
  intro j hj
  have : j < 2080 := by
    have : cnt bd 0 = 0 := rfl
    omega
  rw [h j this]; rfl

theorem wp_fill {α : Type} {Q : α → sProp 𝕄} {G : ℕ → BitVec 32} {κ : PUnit → Prog (TileEff F i) α} :
    Own1 (F := F) d i posBuf G
      ⊢ iprop((∀ G', ⌜Filled G' 2080⌝ -∗ Own1 (F := F) d i posBuf G' -∗ WP d i (κ ⟨⟩) Q)
          -∗ WP d i ((Scf.Loop.for k0_t2_loop k0_t2_ok (⟨⟩ : PUnit) fun k _ => fillBody k) >>= κ) Q) := by
  iintro Hg Hk
  iapply (Scf.wp_for_bind _ _ _ _ _ _ _ _ _
    (fun n (_ : PUnit) => iprop(∃ G', ⌜Filled G' (16 * n)⌝ ∗ Own1 (F := F) d i posBuf G')) (fun k acc => by
        iintro ⟨%G', %hG', Hg⟩
        unfold fillBody
        iapply (wp_putVec (16 * k.val) (k0_off4_eq k) (fun _ => 4096#32) rfl) $$ Hg
        iintro Hg
        iapply ret_intro
        iexists _
        isplitr [Hg]
        · ipureintro; exact (show 16 * (k.val + 1) = 16 * k.val + 16 by omega) ▸ hG'.put
        iassumption)) $$ [Hg]
  · iexists G
    isplitr
    · ipureintro; intro j hj; omega
    iassumption
  iintro %acc ⟨%G', %hG', Hg⟩
  rw [show Scf.trips k0_t2_loop.lb k0_t2_loop.ub k0_t2_loop.st = _ from trips_t2] at hG'
  iapply Hk $$ [] Hg
  ipureintro; exact hG'

/-! ## The scan of the boundary row -/

theorem iota_lane : ∀ l : Fin 16, iotaV (Shape.ofLane (d := ![16]) l) = BitVec.ofNat 32 l.val := by decide +kernel

/-- The boundaries of a row. -/
abbrev bds (B : ℕ → F .f32) : ℕ → Bool := fun t => marks (B t)

/-- The counts of the first `n` tokens. -/
def CntOK (bd : ℕ → Bool) (C : ℕ → BitVec 32) (n : ℕ) : Prop := ∀ t < n, C t = BitVec.ofNat 32 (cnt bd (t + 1))

theorem CntOK.put {bd : ℕ → Bool} {C : ℕ → BitVec 32} {n : ℕ} (h : CntOK bd C n) :
    CntOK bd (put1 C n fun l => BitVec.ofNat 32 (cnt bd (n + l + 1))) (n + 16) := by
  intro t ht
  unfold put1
  split
  · next h' => show BitVec.ofNat 32 (cnt bd (n + (t - n) + 1)) = _; rw [Nat.add_sub_cancel' h'.1]
  · exact h t (by omega)

theorem wp_scanBody {B : ℕ → F .f32} {G C : ℕ → BitVec 32} (k : Fin k0_t3_loop.trips) (ptr : BitVec 32)
    (hptr : ptr = BitVec.ofNat 32 (cnt (bds B) (16 * k.val))) (hG : PosOK (bds B) (16 * k.val) G) (hC : CntOK (bds B) C (16 * k.val)) :
    iprop(Own1 d i bBuf B ∗ Own1 (F := F) d i posBuf G ∗ Own1 (F := F) d i cBuf C)
      ⊢ WP d i (scanBody k ptr) fun ptr' => iprop(⌜ptr' = BitVec.ofNat 32 (cnt (bds B) (16 * (k.val + 1)))⌝ ∗ Own1 d i bBuf B ∗
          (∃ G', ⌜PosOK (bds B) (16 * (k.val + 1)) G'⌝ ∗ Own1 (F := F) d i posBuf G') ∗
          ∃ C', ⌜CntOK (bds B) C' (16 * (k.val + 1))⌝ ∗ Own1 (F := F) d i cBuf C') := by
  subst hptr
  have hk : k.val < 256 := lt_of_lt_of_eq k.isLt trips_t3
  have e16 : 16 * (k.val + 1) = 16 * k.val + 16 := by omega
  have ec := countsOf_eq B (16 * k.val)
  have hle : ∀ n, n < 16 → cnt (bds B) (16 * k.val + n + 1) ≤ 4096 := fun n hn => by
    have := cnt_le (bd := bds B) (16 * k.val + n + 1); omega
  have chk : k0_chk1 (countsOf (vec fun l => B (16 * k.val + l)) (BitVec.ofNat 32 (cnt (bds B) (16 * k.val)))) := by
    rw [ec]
    intro a x
    obtain rfl : a = 0 := by fin_cases a; rfl
    show (BitVec.ofNat 32 (cnt (bds B) (16 * k.val + (x 0).val + 1))).toNat < 4112
    have := hle (x 0).val (x 0).isLt
    rw [toNat_ofNat (by omega)]; omega
  unfold scanBody
  iintro ⟨Hb, Hg, Hc⟩
  iapply (wp_ldVec (16 * k.val) (k0_off5_eq k)) $$ Hb
  iintro Hb
  iapply (wp_assume (defs := defs₀ (F := F)) Variants.none (thr d i) none Set.univ chk)
  iapply (wp_scatter (fun l => cnt (bds B) (16 * k.val + l + 1)) (fun l => BitVec.ofNat 32 (16 * k.val + l)) (fun l => bds B (16 * k.val + l))
    (fun l => by
      show (countsOf (vec fun l => B (16 * k.val + l)) (BitVec.ofNat 32 (cnt (bds B) (16 * k.val))) (Shape.ofLane (d := ![16]) l)).toNat = _
      rw [ec]
      show (BitVec.ofNat 32 (cnt (bds B) (16 * k.val + l.val + 1))).toNat = _
      have := hle l.val l.isLt
      exact toNat_ofNat (by omega))
    (fun l => by
      have : ivOf k0_t3_loop k = BitVec.ofNat 32 k.val := by
        show Scf.iv 0#32 1#32 k.val = _
        rw [iv_one 0#32 0#32]; simp
      show iotaV (Shape.ofLane (d := ![16]) l) + ivOf k0_t3_loop k * 16#32 = _
      rw [this, iota_lane, show (16#32 : BitVec 32) = BitVec.ofNat 32 16 from rfl, ← BitVec.ofNat_mul, ← BitVec.ofNat_add]
      congr 1; omega)
    (fun l => by
      show _ ↔ isSet _ = true
      unfold isSet; exact decide_eq_true_iff.symm)) $$ Hg
  iintro Hg
  iapply (wp_putVec (16 * k.val) (k0_off6_eq k) _ ec) $$ Hc
  iintro Hc
  iapply ret_intro
  isplitr
  · ipureintro; rw [ec, laneI_vec, e16]; rfl
  isplitl [Hb]
  · iassumption
  isplitl [Hg]
  · iexists _
    isplitr [Hg]
    · ipureintro; rw [e16]; exact hG.step16 16
    iassumption
  · iexists _
    isplitr [Hc]
    · ipureintro; rw [e16]; exact hC.put
    iassumption

/-- The scan of a row: the counts, the table of positions, the number of boundaries. -/
theorem wp_scan {α : Type} {Q : α → sProp 𝕄} {B : ℕ → F .f32} {G C : ℕ → BitVec 32} {κ : BitVec 32 → Prog (TileEff F i) α} (hG : PosOK (bds B) 0 G) :
    iprop(Own1 d i bBuf B ∗ Own1 (F := F) d i posBuf G ∗ Own1 (F := F) d i cBuf C)
      ⊢ iprop((∀ G' C', ⌜PosOK (bds B) 4096 G' ∧ CntOK (bds B) C' 4096⌝ -∗ Own1 d i bBuf B -∗ Own1 (F := F) d i posBuf G' -∗ Own1 (F := F) d i cBuf C' -∗
            WP d i (κ (BitVec.ofNat 32 (cnt (bds B) 4096))) Q)
          -∗ WP d i ((Scf.Loop.for k0_t3_loop k0_t3_ok 0#32 fun k ptr => scanBody k ptr) >>= κ) Q) := by
  iintro ⟨Hb, Hg, Hc⟩ Hk
  iapply (Scf.wp_for_bind _ _ _ _ _ _ _ _ _
    (fun n (ptr : BitVec 32) => iprop(⌜ptr = BitVec.ofNat 32 (cnt (bds B) (16 * n))⌝ ∗ Own1 d i bBuf B ∗
          (∃ G', ⌜PosOK (bds B) (16 * n) G'⌝ ∗ Own1 (F := F) d i posBuf G') ∗
          ∃ C', ⌜CntOK (bds B) C' (16 * n)⌝ ∗ Own1 (F := F) d i cBuf C')) (fun k acc => by
        iintro ⟨%hacc, Hb, ⟨%G', %hG', Hg⟩, %C', %hC', Hc⟩
        iapply (wp_scanBody k acc hacc hG' hC') $$ [Hb Hg Hc]
        isplitl [Hb]
        · iassumption
        isplitl [Hg] <;> iassumption)) $$ [Hb Hg Hc]
  · isplitr
    · ipureintro; rfl
    isplitl [Hb]
    · iassumption
    isplitl [Hg]
    · iexists G
      isplitr
      · ipureintro; exact hG
      iassumption
    · iexists C
      isplitr
      · ipureintro; intro t ht; omega
      iassumption
  iintro %acc ⟨%hacc, Hb, ⟨%G', %hG', Hg⟩, %C', %hC', Hc⟩
  subst hacc
  rw [show Scf.trips k0_t3_loop.lb k0_t3_loop.ub k0_t3_loop.st = _ from trips_t3] at hG' hC' ⊢
  iapply Hk $$ [] Hb Hg Hc
  ipureintro; exact ⟨hG', hC'⟩

/-! ## The lengths, and the rows after the last segment -/

/-- The lengths of the first `n` segments. -/
def LenOK (bd : ℕ → Bool) (N : ℕ → BitVec 32) (n : ℕ) : Prop := ∀ r < n, N r = lenW bd (r + 1)

theorem wp_lens {α : Type} {Q : α → sProp 𝕄} {bd : ℕ → Bool} {G N : ℕ → BitVec 32} {κ : PUnit → Prog (TileEff F i) α} (hG : PosOK bd 4096 G) :
    iprop(Own1 (F := F) d i posBuf G ∗ Own1 (F := F) d i nBuf N)
      ⊢ iprop((∀ N', ⌜LenOK bd N' 2048⌝ -∗ Own1 (F := F) d i posBuf G -∗ Own1 (F := F) d i nBuf N' -∗ WP d i (κ ⟨⟩) Q)
          -∗ WP d i ((Scf.Loop.for k0_t84_loop k0_t84_ok (⟨⟩ : PUnit) fun k _ => lensBody k) >>= κ) Q) := by
  iintro ⟨Hg, Hn⟩ Hk
  iapply (Scf.wp_for_bind _ _ _ _ _ _ _ _ _
    (fun n (_ : PUnit) => iprop(Own1 (F := F) d i posBuf G ∗ ∃ N', ⌜LenOK bd N' (16 * n)⌝ ∗ Own1 (F := F) d i nBuf N')) (fun k acc => by
        have hk : k.val < 128 := lt_of_lt_of_eq k.isLt trips_t84
        iintro ⟨Hg, %N', %hN', Hn⟩
        unfold lensBody
        iapply (wp_ldVec (16 * k.val + 1 + 1) (k0_off869_eq k 1)) $$ Hg
        iintro Hg
        iapply (wp_ldVec (16 * k.val + 0 + 1) (k0_off869_eq k 0)) $$ Hg
        iintro Hg
        iapply (wp_putVec (16 * k.val) (k0_off870_eq k) (fun n => G (16 * k.val + 1 + 1 + n) - G (16 * k.val + 0 + 1 + n)) rfl) $$ Hn
        iintro Hn
        iapply ret_intro
        isplitl [Hg]
        · iassumption
        iexists _
        isplitr
        swap
        · iassumption
        ipureintro
        intro r hr
        unfold put1
        split
        · next h =>
          show G _ - G _ = _
          rw [show 16 * k.val + 1 + 1 + (r - 16 * k.val) = r + 2 by omega, show 16 * k.val + 0 + 1 + (r - 16 * k.val) = r + 1 by omega,
            hG _ (.inl (by omega)), hG _ (.inl (by omega))]; rfl
        · exact hN' r (by omega))) $$ [Hg Hn]
  · isplitl [Hg]
    · iassumption
    iexists N
    isplitr
    · ipureintro; intro j hj; omega
    iassumption
  iintro %acc ⟨Hg, %N', %hN', Hn⟩
  rw [show Scf.trips k0_t84_loop.lb k0_t84_loop.ub k0_t84_loop.st = _ from trips_t84] at hN'
  iapply Hk $$ [] Hg Hn
  ipureintro; exact hN'

/-- The rows from the first without a segment are zero, up to row `n`. -/
def ZeroOK (bd : ℕ → Bool) (O : ℕ → ℕ → F .f32) (n : ℕ) : Prop := ∀ j, min (cnt bd 4096 + 1) 2050 ≤ j → j < n → ∀ c < 32, O j c = z0

theorem wp_clear {α : Type} {Q : α → sProp 𝕄} {X O : ℕ → ℕ → F .f32} {bd : ℕ → Bool} {hz : k0_chk305 (BitVec.ofNat 32 (cnt bd 4096))}
    {κ : PUnit → Prog (TileEff F i) α} (hO : RowsOK X bd O (min (cnt bd 4096 + 1) 2050)) :
    Own2 d i oBuf O
      ⊢ iprop((∀ O', ⌜RowsOK X bd O' (min (cnt bd 4096 + 1) 2050) ∧ ZeroOK bd O' 2050⌝ -∗ Own2 d i oBuf O' -∗ WP d i (κ ⟨⟩) Q)
          -∗ WP d i ((Scf.Loop.for (k0_t85_loop (BitVec.ofNat 32 (cnt bd 4096))) (k0_t85_ok _ hz) (⟨⟩ : PUnit) fun k _ =>
              clearBody (k0_off871 _ k) (k0_off872 _ k) (k0_off871_inb _ hz k) (k0_off872_inb _ hz k)) >>= κ) Q) := by
  have hnb := cnt_le (bd := bd) 4096
  iintro Ho Hk
  iapply (Scf.wp_for_bind _ _ _ _ _ _ _ _ _
    (fun n (_ : PUnit) => iprop(∃ O', ⌜RowsOK X bd O' (min (cnt bd 4096 + 1) 2050) ∧ ZeroOK bd O' (min (cnt bd 4096 + 1) 2050 + n)⌝ ∗ Own2 d i oBuf O')) (fun k acc => by
        iintro ⟨%O', %hO', Ho⟩
        unfold clearBody
        iapply (wp_putRow (min (cnt bd 4096 + 1) 2050 + k.val) 0 (clearOffL_eq hnb k) _ zeroV_left) $$ Ho
        iintro Ho
        iapply (wp_putRow (min (cnt bd 4096 + 1) 2050 + k.val) 16 (clearOffR_eq hnb k) _ zeroV_right) $$ Ho
        iintro Ho
        iapply ret_intro
        iexists _
        isplitr
        swap
        · iassumption
        ipureintro
        have hput := put2_row O' (min (cnt bd 4096 + 1) 2050 + k.val) (fun _ => z0)
        refine ⟨fun j h1 h2 c hc => ?_, fun j h1 h2 c hc => ?_⟩
        · rw [hput.2 j (by omega)]; exact hO'.1 j h1 h2 c hc
        · by_cases h : j = min (cnt bd 4096 + 1) 2050 + k.val
          · subst h; exact hput.1 c hc
          · rw [hput.2 j h]; exact hO'.2 j h1 (by omega) c hc)) $$ [Ho]
  · iexists O
    isplitr
    · ipureintro; exact ⟨hO, fun j h1 h2 => by omega⟩
    iassumption
  iintro %acc ⟨%O', %hO', Ho⟩
  rw [show Scf.trips (k0_t85_loop (BitVec.ofNat 32 (cnt bd 4096))).lb (k0_t85_loop (BitVec.ofNat 32 (cnt bd 4096))).ub
    (k0_t85_loop (BitVec.ofNat 32 (cnt bd 4096))).st = _ from clearLoop_trips hnb,
    show min (cnt bd 4096 + 1) 2050 + (2050 - min (cnt bd 4096 + 1) 2050) = 2050 by omega] at hO'
  iapply Hk $$ [] Ho
  ipureintro; exact hO'

end Cert.KernelIdeal.Mean
-- ==== Proof.Moves.lean ====
/-
  Transfers that a tile starts, and later waits for.
-/
module

public import proofs.«01_k».proof.Proof.Scan
public import Idealize.ShloMosaic.Lib.Transfers

@[expose] public section

noncomputable section

namespace Cert.KernelIdeal.Mean

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable {d : Dev nD} {i : grid0.Coords}

/-- What the tile owes its launch; it may be waited for whatever was waited for before. -/
def Owes (d : Dev nD) (i : grid0.Coords) (O : CellTallies nD τ sig (HIx 1)) : sProp 𝕄 :=
  iprop(Transfers.MayWaits (thr d i) (none : HIx 1) O ∗ ∃ W, owes (thr d i) O W)

/-- A transfer on its way: at the wait it hands out `D` and the part of the source that it reads; the rest of the source is kept here. -/
def Fly (d : Dev nD) (i : grid0.Coords) {sp : Space} {s : Shape} {e : EltTy} (src : Memref sig .scVector sp s e) (sm : DmaSem sig) (N : ℕ)
    (q : PosShare TreeShare) (S : Finset (Idx (src.view.loc (thr d i)))) (fs : Buf (Elt F) (src.view.loc (thr d i))) (D : sProp 𝕄) : sProp 𝕄 :=
  iprop(Transfers.Flight (countersEmb (Val := Elt F) (Name := ℕ) (Lvl := ℕ) (Ix := HIx 1)) (thr d i) (.dma sm) (none : HIx 1) N iprop(D ∗ (src.view.loc (thr d i) ↦[src.view.set]{q} fs))
    ∗ (src.view.loc (thr d i) ↦[S \ src.view.set]{q} fs))

theorem Fly_mono {sp : Space} {s : Shape} {e : EltTy} {src : Memref sig .scVector sp s e} {sm : DmaSem sig} {N : ℕ}
    {q : PosShare TreeShare} {S : Finset (Idx (src.view.loc (thr d i)))} {fs : Buf (Elt F) (src.view.loc (thr d i))} {D D' : sProp 𝕄} (h : D ⊢ D') :
    Fly d i src sm N q S fs D ⊢ Fly d i src sm N q S fs D' := by
  unfold Fly
  iintro ⟨Hf, Hs⟩
  isplitl [Hf]
  · iapply (Transfers.Flight_mono _ _ (show iprop(D ∗ (src.view.loc (thr d i) ↦[src.view.set]{q} fs)) ⊢ iprop(D' ∗ (src.view.loc (thr d i) ↦[src.view.set]{q} fs)) from by
      iintro ⟨Hd, H⟩
      isplitl [Hd]
      · iapply h $$ Hd
      iassumption)) $$ Hf
  iassumption

/-- Starting a transfer. -/
theorem wp_send {α : Type} {Q : α → sProp 𝕄} {sp sp' : Space} {s : Shape} {e : EltTy} {src : Memref sig .scVector sp s e}
    {dst : Memref sig .scVector sp' s e} {sm : DmaSem sig} {hsrc : src.view.WordExact} {hdst : dst.view.WordExact}
    {hsem : DmaTarget.Typed (nD := nD) (τ := τ) (p := .scVector (cV i) (jV i)) sp (.dma sm) (.here dst)}
    {κ : PUnit → Prog (TileEff F i) α} {q : PosShare TreeShare} {S : Finset (Idx (src.view.loc (thr d i)))} {fs : Buf (Elt F) (src.view.loc (thr d i))}
    {Sd : Finset (Idx (dst.view.loc (thr d i)))} {fd : Buf (Elt F) (dst.view.loc (thr d i))} (hS : src.view.set ⊆ S) (hSd : dst.view.set ⊆ Sd)
    (hn : 0 < s.numel) :
    iprop((src.view.loc (thr d i) ↦[S]{q} fs) ∗ (dst.view.loc (thr d i) ↦[Sd]{fullShare} fd) ∗ semVal (thr d i, .dma sm) 0)
      ⊢ iprop((Fly d i src sm dst.view.dmaCredit q S fs
              (dst.view.loc (thr d i) ↦[Sd]{fullShare} (dst.view.write (Elt F) fd (src.view.read (Elt F) fs) Finset.univ)) -∗ WP d i (κ ⟨⟩) Q)
          -∗ WP d i (.op (.enqueueDma src (.here dst) (.dma sm) hsrc hdst hsem) κ) Q) := by
  iintro ⟨Hs, Hd, Hv⟩ Hk
  ihave H := ((pointsTo_split_subset hS).1) $$ Hs
  icases H with ⟨Hs, Hr⟩
  iapply (Transfers.wp_dmaLocal (countersEmb (Val := Elt F) (Name := ℕ) (Lvl := ℕ) (Ix := HIx 1)) (defs := defs₀ (F := F)) Variants.none (thr d i) none
    (none : HIx 1) dst.view.dmaCredit rfl (View.amount_pos dst.view (.dma sm) hn) hSd) $$ [Hs Hd Hv]
  · isplitl [Hs]
    · iassumption
    isplitl [Hd] <;> iassumption
  iintro Hf
  iapply Hk
  unfold Fly
  isplitl [Hf] <;> iassumption

/-- Waiting for it. -/
theorem wp_land {α : Type} {Q : α → sProp 𝕄} {sp sp' : Space} {s : Shape} {e : EltTy} {src : Memref sig .scVector sp s e}
    {dst : Memref sig .scVector sp' s e} {srcw : Memref sig .scVector sp s e} {dstw : Memref sig .scVector sp' s e} {sm : DmaSem sig} {hsrc : srcw.view.WordExact} {hdst : dstw.view.WordExact}
    {κ : PUnit → Prog (TileEff F i) α} {q : PosShare TreeShare} {S : Finset (Idx (src.view.loc (thr d i)))} {fs : Buf (Elt F) (src.view.loc (thr d i))}
    {D : sProp 𝕄} {O : CellTallies nD τ sig (HIx 1)} (hS : src.view.set ⊆ S) (hN : dstw.view.dmaCredit = dst.view.dmaCredit) :
    iprop(Fly d i src sm dst.view.dmaCredit q S fs D ∗ Owes d i O)
      ⊢ iprop((D -∗ (src.view.loc (thr d i) ↦[S]{q} fs) -∗ semVal (thr d i, .dma sm) 0 -∗ Owes d i O -∗ WP d i (κ ⟨⟩) Q)
          -∗ WP d i (.op (.waitDma2 sm srcw dstw hsrc hdst) κ) Q) := by
  unfold Fly Owes
  iintro ⟨⟨Hf, Hr⟩, #Hmw, %W, HO⟩ Hk
  iapply (Transfers.wp_waitLocalO (countersEmb (Val := Elt F) (Name := ℕ) (Lvl := ℕ) (Ix := HIx 1)) (defs := defs₀ (F := F)) Variants.none (thr d i) none
    (none : HIx 1) hN) $$ [Hf HO]
  · isplitl [Hf]
    · iassumption
    isplitl [HO]
    · iassumption
    iapply (Transfers.MayWaits.elim (.dma sm)) $$ Hmw
  iintro ⟨⟨HD, Hs⟩, Hv, HO⟩
  iapply Hk $$ HD [Hs Hr] Hv [HO]
  · iapply ((pointsTo_split_subset hS).2)
    isplitl [Hs] <;> iassumption
  · isplitr
    · iexact Hmw
    iexists _; iassumption

end Cert.KernelIdeal.Mean
-- ==== Proof.Tiles.lean ====
/-
  The tiles of a batch: the copies of their rows, their running sums, the rows of the result that end in them.
-/
module

public import proofs.«01_k».proof.Proof.Moves

@[expose] public section

noncomputable section

namespace Cert.KernelIdeal.Mean

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable {d : Dev nD} {i : grid0.Coords}

/-! ## The token array -/

/-- The first column of a tile's slice. -/
def col0 (i : grid0.Coords) : ℕ := 64 * (i 1).val + 32 * (i 0).val

/-- A number of the token array, by batch, token and column. -/
def xAt (f : S16x4096x1024.Idx → F .f32) (b t c : ℕ) : F .f32 := f (ix3 (Fin.ofNat 16 b) (Fin.ofNat 4096 t) (Fin.ofNat 1024 c))

/-- The tile's columns of a batch. -/
def xCols (f : S16x4096x1024.Idx → F .f32) (i : grid0.Coords) (b : ℕ) : ℕ → ℕ → F .f32 := fun t c => xAt f b t (col0 i + c)

theorem trips_t1 : k0_t1_loop.trips = 16 := by decide +kernel

theorem col0_lt (i : grid0.Coords) : col0 i + 32 ≤ 1024 := by
  have h0 : (i 0).val < 2 := (i 0).isLt
  have h1 : (i 1).val < 16 := (i 1).isLt
  unfold col0; omega

theorem xRows_read (t : Fin k0_t1_loop.trips) (ti : Fin 16) (f : S16x4096x1024.Idx → F .f32) (y : S256x32.Idx) :
    (xRows i t ti).view.read (Elt F) f y = tile (xCols f i t.val) ti.val (y 0).val (y 1).val := by
  have ht : t.val < 16 := lt_of_lt_of_eq t.isLt trips_t1
  have h0 : (y 0).val < 256 := (y 0).isLt
  have h1 : (y 1).val < 32 := (y 1).isLt
  have hc := col0_lt i
  have hti := ti.isLt
  obtain ⟨r, c, rfl⟩ : ∃ (r : Fin 256) (c : Fin 32), y = ix2 r c := ⟨y 0, y 1, funext fun a => by fin_cases a <;> rfl⟩
  have e := shapeCast_1ab_ab_apply (a := 256) (b := 32)
    ((xArr.slice (Rect.unit (s := S16x4096x1024) (xOff i t ti.val) S1x256x32.size (xOff_inb i t ti)) (fun _ => rfl)).view.read (Elt F) f)
    (by decide) r c
  refine e.trans ?_
  show f _ = f _
  congr 1
  have h7 := k0_off2_eq i t
  funext a
  refine Fin.ext ?_
  fin_cases a
  · show (Scf.iv 0#32 1#32 t.val).toNat + 1 * 0 = t.val % 16
    have h : (Scf.iv 0#32 1#32 t.val).toNat = t.val := congrFun h7 0
    rw [h]; omega
  · show 256 * ti.val + 1 * r.val = (256 * ti.val + r.val) % 4096
    omega
  · show (k0_off2 i t) 2 + 1 * c.val = (col0 i + c.val) % 1024
    rw [h7]
    show col0 i + 1 * c.val = _
    have : c.val < 32 := c.isLt
    omega

/-! ## The copies of the rows -/

/-- Rows of the token array on their way into a buffer. -/
def XFly (d : Dev nD) (i : grid0.Coords) (q : PosShare TreeShare) (fx : Buf (Elt F) (xArr.view.loc (thr d i))) (t : Fin k0_t1_loop.trips) (ti : Fin 16)
    (xb : Memref sig .scVector .vmem S256x32 .f32) (sm : DmaSems sig S_) : sProp 𝕄 :=
  Fly d i (xRows i t ti) sm.sem xb.view.dmaCredit q Finset.univ fx (Own2 d i xb (tile (xCols fx i t.val) ti.val))

/-- What such a copy starts from: the token array's share, the buffer, the semaphore. -/
def XIdle (d : Dev nD) (i : grid0.Coords) (q : PosShare TreeShare) (fx : Buf (Elt F) (xArr.view.loc (thr d i)))
    (xb : Memref sig .scVector .vmem S256x32 .f32) (sm : DmaSems sig S_) : sProp 𝕄 :=
  iprop((xArr.view.loc (thr d i) ↦[Finset.univ]{q} fx) ∗ (∃ G, Own2 (F := F) d i xb G) ∗ semVal (thr d i, .dma sm.sem) 0)

theorem wp_startX {α : Type} {Q : α → sProp 𝕄} {q : PosShare TreeShare} {fx : Buf (Elt F) (xArr.view.loc (thr d i))} {t : Fin k0_t1_loop.trips} {ti : Fin 16}
    {xb : Memref sig .scVector .vmem S256x32 .f32} {hxb : xb.IsWhole} {sm : DmaSems sig S_} {κ : Prog (TileEff F i) α} :
    XIdle d i q fx xb sm ⊢ iprop((XFly d i q fx t ti xb sm -∗ WP d i κ Q) -∗ WP d i (startX t ti xb hxb sm κ) Q) := by
  unfold XIdle startX
  iintro ⟨Hx, ⟨%G, Hb⟩, Hv⟩ Hk
  unfold Own2
  icases Hb with ⟨%f, %hf, Hb⟩
  iapply (wp_send (κ := fun _ => κ) (src := xRows i t ti) (dst := xb) (S := Finset.univ) (Sd := xb.view.set) (fs := fx) (fd := f)
    (Finset.subset_univ _) (Finset.Subset.refl _) (by decide)) $$ [Hx Hb Hv]
  · isplitl [Hx]
    · iassumption
    isplitl [Hb] <;> iassumption
  iintro Hf
  iapply Hk
  unfold XFly
  iapply (Fly_mono (d := d) (i := i) ?_) $$ Hf
  unfold Own2
  iintro H
  iexists _
  isplitr
  swap
  · iassumption
  ipureintro
  intro y
  rw [View.read_write_univ]
  exact xRows_read t ti fx y

theorem wp_waitX {α : Type} {Q : α → sProp 𝕄} {q : PosShare TreeShare} {fx : Buf (Elt F) (xArr.view.loc (thr d i))} {t : Fin k0_t1_loop.trips} {ti : Fin 16}
    {xb : Memref sig .scVector .vmem S256x32 .f32} {hxb : xb.IsWhole} {sm : DmaSems sig S_} {κ : Prog (TileEff F i) α} {O : CellTallies nD τ sig (HIx 1)} :
    iprop(XFly d i q fx t ti xb sm ∗ Owes (F := F) d i O)
      ⊢ iprop((Own2 d i xb (tile (xCols fx i t.val) ti.val) -∗ (xArr.view.loc (thr d i) ↦[Finset.univ]{q} fx) -∗ semVal (thr d i, .dma sm.sem) 0
            -∗ Owes (F := F) d i O -∗ WP d i κ Q)
          -∗ WP d i (waitX t ti xb hxb sm κ) Q) := by
  unfold XFly waitX
  exact wp_land (κ := fun _ => κ) (src := xRows i t ti) (dst := xb) (Finset.subset_univ _) rfl

/-! ## A tile -/

theorem RunOK.reset {X Y : ℕ → ℕ → F .f32} {P : ℕ → ℕ → F .f32} {n : ℕ} (h : RunOK X P n) : RunOK Y P 0 := by
  intro r hr c hc
  obtain rfl : r = 0 := by omega
  exact h 0 (Nat.zero_le _) c hc

theorem wp_tileSums {α : Type} {Q : α → sProp 𝕄} {q : PosShare TreeShare} {fx : Buf (Elt F) (xArr.view.loc (thr d i))} {t : Fin k0_t1_loop.trips} {ti : Fin 16}
    {xb : Memref sig .scVector .vmem S256x32 .f32} {hxb : xb.IsWhole} {sm : DmaSems sig S_} {κ : V F × V F → Prog (TileEff F i) α}
    {O : CellTallies nD τ sig (HIx 1)} {P Y : ℕ → ℕ → F .f32} (hP : RunOK Y P 0) :
    iprop(XFly d i q fx t ti xb sm ∗ Own2 d i pBuf P ∗ Owes (F := F) d i O)
      ⊢ iprop((∀ P', ⌜RunOK (tile (xCols fx i t.val) ti.val) P' 256⌝ -∗ XIdle d i q fx xb sm -∗ Own2 d i pBuf P' -∗ Owes (F := F) d i O
            -∗ WP d i (κ (left (run (tile (xCols fx i t.val) ti.val) 256), right (run (tile (xCols fx i t.val) ti.val) 256))) Q)
          -∗ WP d i (tileSums t ti xb hxb sm κ) Q) := by
  unfold tileSums
  iintro ⟨Hf, Hp, HO⟩ Hk
  iapply wp_waitX $$ [Hf HO]
  · isplitl [Hf] <;> iassumption
  iintro Hb Hx Hv HO
  iapply (wp_prefix (X := tile (xCols fx i t.val) ti.val) hP.reset) $$ [Hb Hp]
  · isplitl [Hb] <;> iassumption
  iintro %P' %hP' Hb Hp
  iapply Hk $$ %P' %hP' [Hb Hx Hv] Hp HO
  unfold XIdle
  isplitl [Hx]
  · iassumption
  isplitl [Hb]
  · iexists _; iassumption
  iassumption

theorem left_total (X : ℕ → ℕ → F .f32) (n : ℕ) : addf (left (total X n)) (left (run (tile X n) 256)) = left (total X (n + 1)) := by
  unfold left; rw [addf_vec]; rfl

theorem right_total (X : ℕ → ℕ → F .f32) (n : ℕ) : addf (right (total X n)) (right (run (tile X n) 256)) = right (total X (n + 1)) := by
  unfold right; rw [addf_vec]; rfl

theorem shiOf_lo (bd : ℕ → Bool) {t : ℕ} (ht : t < 15) : shiOf (BitVec.ofNat 32 (cnt bd (256 * (t + 1) + 1))) = sgm (lo bd (t + 1)) := by
  have h : cnt bd (256 * (t + 1) + 1) ≤ 4096 := (cnt_le _).trans (by omega)
  rw [shiOf_eq h, lo, if_neg (by omega), if_pos (by omega)]

/-- What the tiles of a batch work on: the running sums, the positions, the counts and the rows of the result so far. -/
def Work (d : Dev nD) (i : grid0.Coords) (X : ℕ → ℕ → F .f32) (bd : ℕ → Bool) (G Cn : ℕ → BitVec 32) (J : ℕ) : sProp 𝕄 :=
  iprop((∃ P, ⌜RunOK X P 0⌝ ∗ Own2 d i pBuf P) ∗ Own1 (F := F) d i posBuf G ∗ Own1 (F := F) d i cBuf Cn ∗ (∃ O, ⌜RowsOK X bd O J⌝ ∗ Own2 d i oBuf O))

theorem wp_tileStep {α : Type} {Q : α → sProp 𝕄} {q : PosShare TreeShare} {fx : Buf (Elt F) (xArr.view.loc (thr d i))} {t : Fin k0_t1_loop.trips} {ti : Fin 16}
    {xb : Memref sig .scVector .vmem S256x32 .f32} {hxb : xb.IsWhole} {sm : DmaSems sig S_} {nxt : Prog (TileEff F i) α → Prog (TileEff F i) α}
    {off : Fin 1 → Nat} {hoff : ∀ a, off a + S16.size a ≤ S4096.size a} {t0 slo : BitVec 32} {C : BitVec 32 → Prop} {dec : ∀ w, Decidable (C w)}
    {hC : ∀ w, C w → TileChk slo (shiOf w)} {ca cb : V F} {acc : V F × V F}
    {κ : (w : BitVec 32) → C w → V F → V F → V F × V F → Prog (TileEff F i) α}
    {O : CellTallies nD τ sig (HIx 1)} {bd : ℕ → Bool} {G Cn : ℕ → BitVec 32} (n : ℕ) (hn : ti.val = n) (hn' : n < 15) (R : sProp 𝕄)
    (hnxt : ∀ κ', XIdle d i q fx xb sm ⊢ iprop((R -∗ WP d i κ' Q) -∗ WP d i (nxt κ') Q))
    (ho : off = ![256 * (n + 1)]) (ht0 : t0 = BitVec.ofNat 32 (256 * n)) (hslo : slo = sgm (lo bd n))
    (hca : ca = left (total (xCols fx i t.val) n)) (hcb : cb = right (total (xCols fx i t.val) n))
    (hacc : acc = (left (start (xCols fx i t.val) bd (lo bd n)), right (start (xCols fx i t.val) bd (lo bd n))))
    (hG : PosOK bd 4096 G) (hN : CntOK bd Cn 4096) (hCw : C (BitVec.ofNat 32 (cnt bd (256 * (n + 1) + 1)))) :
    iprop(XFly d i q fx t ti xb sm ∗ Work d i (xCols fx i t.val) bd G Cn (lo bd n) ∗ Owes (F := F) d i O)
      ⊢ iprop((∀ (w : BitVec 32) (hw : C w), ⌜shiOf w = sgm (lo bd (n + 1))⌝ -∗ R -∗ Work d i (xCols fx i t.val) bd G Cn (lo bd (n + 1)) -∗ Owes (F := F) d i O
            -∗ WP d i (κ w hw (left (total (xCols fx i t.val) (n + 1))) (right (total (xCols fx i t.val) (n + 1)))
                (left (start (xCols fx i t.val) bd (lo bd (n + 1))), right (start (xCols fx i t.val) bd (lo bd (n + 1))))) Q)
          -∗ WP d i (tileStep t ti xb hxb sm nxt off hoff t0 slo C dec hC ca cb acc κ) Q) := by
  subst hn ht0 hca hcb hacc
  unfold Work tileStep
  iintro ⟨Hf, ⟨⟨%P, %hP, Hp⟩, Hg, Hc, %Ob, %hO, Ho⟩, HO⟩ Hk
  iapply (wp_tileSums hP) $$ [Hf Hp HO]
  · isplitl [Hf]
    · iassumption
    isplitl [Hp] <;> iassumption
  iintro %P' %hP' Hx Hp HO
  iapply (hnxt _) $$ Hx
  iintro HR
  iapply (wp_ldVec _ ho) $$ Hc
  iintro Hc
  have hw : laneI (vec fun m => Cn (256 * (ti.val + 1) + m)) 0 = BitVec.ofNat 32 (cnt bd (256 * (ti.val + 1) + 1)) := by
    rw [laneI_vec]; exact hN _ (by show 256 * (ti.val + 1) + 0 < 4096; omega)
  have hs := shiOf_lo bd hn'
  rw [← hw] at hCw hs
  iapply (wp_assume (defs := defs₀ (F := F)) Variants.none (thr d i) none Set.univ hCw)
  have key : ∀ (slo shi : BitVec 32) (hc : TileChk slo shi) (κ' : V F × V F → Prog (TileEff F i) α), slo = sgm (lo bd ti.val) → shi = sgm (lo bd (ti.val + 1)) →
      iprop(Own2 d i pBuf P' ∗ Own1 d i posBuf G ∗ Own2 d i oBuf Ob)
      ⊢ iprop((∀ O', ⌜RowsOK (xCols fx i t.val) bd O' (lo bd (ti.val + 1))⌝ -∗ Own2 d i pBuf P' -∗ Own1 d i posBuf G -∗ Own2 d i oBuf O' -∗
            WP d i (κ' (left (start (xCols fx i t.val) bd (lo bd (ti.val + 1))), right (start (xCols fx i t.val) bd (lo bd (ti.val + 1))))) Q)
          -∗ WP d i (segments (BitVec.ofNat 32 (256 * ti.val)) (left (total (xCols fx i t.val) ti.val)) (right (total (xCols fx i t.val) ti.val)) slo shi hc
              (left (start (xCols fx i t.val) bd (lo bd ti.val)), right (start (xCols fx i t.val) bd (lo bd ti.val))) κ') Q) := by
    rintro _ _ hc κ' rfl rfl
    exact wp_segments (by omega) hP' (ends (by omega)) hG (lo_mono (by omega)) (lo_le _ _) hO
  iapply (key _ _ _ _ hslo hs) $$ [Hp Hg Ho]
  · isplitl [Hp]
    · iassumption
    isplitl [Hg] <;> iassumption
  iintro %O' %hO' Hp Hg Ho
  rw [left_total, right_total]
  iapply Hk $$ %(laneI (vec fun m => Cn (256 * (ti.val + 1) + m)) 0) %hCw %hs HR [Hp Hg Hc Ho] HO
  isplitl [Hp]
  · iexists P'
    isplitr
    · ipureintro; exact hP'.reset
    iassumption
  isplitl [Hg]
  · iassumption
  isplitl [Hc]
  · iassumption
  iexists O'
  isplitr
  · ipureintro; exact hO'
  iassumption

/-! ## The sixteen tiles -/

theorem wp_tilePairs {α : Type} {Q : α → sProp 𝕄} {q0 q1 : PosShare TreeShare} {fx : Buf (Elt F) (xArr.view.loc (thr d i))} {t : Fin k0_t1_loop.trips}
    {κ : (slo : BitVec 32) → V F → V F → V F × V F → Prog (TileEff F i) α}
    {O : CellTallies nD τ sig (HIx 1)} {bd : ℕ → Bool} {G Cn : ℕ → BitVec 32} (hG : PosOK bd 4096 G) (hN : CntOK bd Cn 4096) :
    ∀ (m : ℕ) (hm : m ≤ 7) (T : ℕ) (hT : T + 2 * m = 14),
    iprop(XFly d i q0 fx t ⟨T, by omega⟩ xBuf0 cc0_scratch9 ∗ XFly d i q1 fx t ⟨T + 1, by omega⟩ xBuf1 cc0_scratch10
        ∗ Work d i (xCols fx i t.val) bd G Cn (lo bd T) ∗ Owes (F := F) d i O)
      ⊢ iprop((XFly d i q0 fx t 14 xBuf0 cc0_scratch9 -∗ XFly d i q1 fx t 15 xBuf1 cc0_scratch10
            -∗ Work d i (xCols fx i t.val) bd G Cn (lo bd 14) -∗ Owes (F := F) d i O
            -∗ WP d i (κ (sgm (lo bd 14)) (left (total (xCols fx i t.val) 14)) (right (total (xCols fx i t.val) 14))
                (left (start (xCols fx i t.val) bd (lo bd 14)), right (start (xCols fx i t.val) bd (lo bd 14)))) Q)
          -∗ WP d i (tilePairs t m hm (sgm (lo bd T)) (left (total (xCols fx i t.val) T)) (right (total (xCols fx i t.val) T))
                (left (start (xCols fx i t.val) bd (lo bd T)), right (start (xCols fx i t.val) bd (lo bd T))) κ) Q) := by
  intro m
  induction m with
  | zero =>
    intro hm T hT
    obtain rfl : T = 14 := by omega
    rw [show (⟨14, by omega⟩ : Fin 16) = 14 from rfl, show (⟨14 + 1, by omega⟩ : Fin 16) = 15 from rfl]
    unfold tilePairs
    iintro ⟨H0, H1, Hw, HO⟩ Hk
    iapply Hk $$ H0 H1 Hw HO
  | succ m ih =>
    intro hm T hT
    obtain rfl : T = 12 - 2 * m := by omega
    have e1 : 12 - 2 * m + 1 = 13 - 2 * m := by omega
    have e2 : 13 - 2 * m + 1 = 14 - 2 * m := by omega
    have e3 : 14 - 2 * m + 1 = 15 - 2 * m := by omega
    have f1 : (⟨12 - 2 * m + 1, by omega⟩ : Fin 16) = ⟨13 - 2 * m, by omega⟩ := Fin.ext e1
    rw [f1]
    unfold tilePairs
    iintro ⟨H0, H1, Hw, HO⟩ Hk
    iapply (wp_tileStep (12 - 2 * m) rfl (by omega) (XFly d i q0 fx t ⟨14 - 2 * m, _⟩ xBuf0 cc0_scratch9) (fun κ' => wp_startX)
      (by rw [e1]) rfl rfl rfl rfl rfl hG hN (by rw [shiOf_lo bd (by omega)]; exact tileChk (lo_mono (by omega)) (lo_le _ _))) $$ [H0 Hw HO]
    · isplitl [H0]
      · iassumption
      isplitl [Hw] <;> iassumption
    iintro %w %hw %hs H0 Hw HO
    rw [e1]
    rw [e1] at hs
    iapply (wp_tileStep (13 - 2 * m) rfl (by omega) (XFly d i q1 fx t ⟨15 - 2 * m, _⟩ xBuf1 cc0_scratch10) (fun κ' => wp_startX)
      (by rw [e2]) rfl (by rw [hs, ← e1]; exact maxsi_sgm (lo_mono (by omega)) (lo_le _ _)) rfl rfl rfl hG hN
      (by rw [shiOf_lo bd (by omega), hs, ← e1, maxsi_sgm (lo_mono (by omega)) (lo_le _ _)]; exact tileChk (lo_mono (by omega)) (lo_le _ _))) $$ [H1 Hw HO]
    · isplitl [H1]
      · iassumption
      isplitl [Hw] <;> iassumption
    iintro %w' %hw' %hs' H1 Hw HO
    rw [e2]
    rw [e2] at hs'
    have h3 : Scalar.maxsi (Scalar.maxsi (sgm (lo bd (12 - 2 * m))) (shiOf w)) (shiOf w') = sgm (lo bd (14 - 2 * m)) := by
      rw [hs, hs', ← e2, ← e1, maxsi_sgm (lo_mono (by omega)) (lo_le _ _), maxsi_sgm (lo_mono (by omega)) (lo_le _ _)]
    rw [h3]
    have f3 : (⟨14 - 2 * m + 1, by omega⟩ : Fin 16) = ⟨15 - 2 * m, by omega⟩ := Fin.ext e3
    have := ih (by omega) (14 - 2 * m) (by omega)
    rw [f3] at this
    iapply this $$ [H0 H1 Hw HO]
    · isplitl [H0]
      · iassumption
      isplitl [H1]
      · iassumption
      isplitl [Hw] <;> iassumption
    iassumption

theorem wp_lastTiles {α : Type} {Q : α → sProp 𝕄} {q0 q1 : PosShare TreeShare} {fx : Buf (Elt F) (xArr.view.loc (thr d i))} {t : Fin k0_t1_loop.trips}
    {κ : Prog (TileEff F i) α} {O : CellTallies nD τ sig (HIx 1)} {bd : ℕ → Bool} {G Cn : ℕ → BitVec 32} (hG : PosOK bd 4096 G) (hN : CntOK bd Cn 4096) :
    iprop(XFly d i q0 fx t 14 xBuf0 cc0_scratch9 ∗ XFly d i q1 fx t 15 xBuf1 cc0_scratch10
        ∗ Work d i (xCols fx i t.val) bd G Cn (lo bd 14) ∗ Owes (F := F) d i O)
      ⊢ iprop((XIdle d i q0 fx xBuf0 cc0_scratch9 -∗ XIdle d i q1 fx xBuf1 cc0_scratch10
            -∗ Work d i (xCols fx i t.val) bd G Cn (min (cnt bd 4096 + 1) 2050) -∗ Owes (F := F) d i O -∗ WP d i κ Q)
          -∗ WP d i (lastTiles t (BitVec.ofNat 32 (cnt bd 4096)) (sgm (lo bd 14)) (left (total (xCols fx i t.val) 14)) (right (total (xCols fx i t.val) 14))
                (left (start (xCols fx i t.val) bd (lo bd 14)), right (start (xCols fx i t.val) bd (lo bd 14))) κ) Q) := by
  have h16 : min (cnt bd 4096 + 1) 2050 = lo bd 16 := by unfold lo; rw [if_neg (by omega), if_neg (by omega)]
  have hlast : Scalar.minsi (BitVec.ofNat 32 (cnt bd 4096)) 2049#32 = sgm (lo bd 16) := by rw [shiLast_eq (cnt_le _), h16]
  rw [h16]
  unfold lastTiles
  iintro ⟨H0, H1, Hw, HO⟩ Hk
  iapply (wp_tileStep 14 rfl (by omega) (XIdle d i q0 fx xBuf0 cc0_scratch9) (fun κ' => by
      iintro H Hk
      iapply Hk $$ H)
    rfl rfl rfl rfl rfl rfl hG hN (by
      rw [shiOf_lo bd (by omega), hlast, maxsi_sgm (lo_mono (by omega)) (lo_le _ _)]
      exact tileChk2 (lo_mono (by omega)) (lo_mono (by omega)) (lo_le _ _))) $$ [H0 Hw HO]
  · isplitl [H0]
    · iassumption
    isplitl [Hw] <;> iassumption
  iintro %w %hw %hs H0 Hw HO
  unfold Work
  icases Hw with ⟨⟨%P, %hP, Hp⟩, Hg, Hc, %Ob, %hO, Ho⟩
  iapply (wp_tileSums hP) $$ [H1 Hp HO]
  · isplitl [H1]
    · iassumption
    isplitl [Hp] <;> iassumption
  iintro %P' %hP' H1 Hp HO
  have key : ∀ (slo shi : BitVec 32) (hc : TileChk slo shi) (κ' : V F × V F → Prog (TileEff F i) α), slo = sgm (lo bd 15) → shi = sgm (lo bd 16) →
      iprop(Own2 d i pBuf P' ∗ Own1 d i posBuf G ∗ Own2 d i oBuf Ob)
      ⊢ iprop((∀ O', ⌜RowsOK (xCols fx i t.val) bd O' (lo bd 16)⌝ -∗ Own2 d i pBuf P' -∗ Own1 d i posBuf G -∗ Own2 d i oBuf O' -∗
            WP d i (κ' (left (start (xCols fx i t.val) bd (lo bd 16)), right (start (xCols fx i t.val) bd (lo bd 16)))) Q)
          -∗ WP d i (segments 3840#32 (left (total (xCols fx i t.val) 15)) (right (total (xCols fx i t.val) 15)) slo shi hc
              (left (start (xCols fx i t.val) bd (lo bd 15)), right (start (xCols fx i t.val) bd (lo bd 15))) κ') Q) := by
    rintro _ _ hc κ' rfl rfl
    exact wp_segments (t := 15) (by omega) hP' (ends (by omega)) hG (lo_mono (by omega)) (lo_le _ _) hO
  iapply (key _ _ _ _ (by rw [hs]; exact maxsi_sgm (lo_mono (by omega)) (lo_le _ _)) hlast) $$ [Hp Hg Ho]
  · isplitl [Hp]
    · iassumption
    isplitl [Hg] <;> iassumption
  iintro %O' %hO' Hp Hg Ho
  iapply Hk $$ H0 H1 [Hp Hg Hc Ho] HO
  isplitl [Hp]
  · iexists P'
    isplitr
    · ipureintro; exact hP'.reset
    iassumption
  isplitl [Hg]
  · iassumption
  isplitl [Hc]
  · iassumption
  iexists O'
  isplitr
  · ipureintro; exact hO'
  iassumption

end Cert.KernelIdeal.Mean
-- ==== Proof.Rows.lean ====
/-
  What the kernel leaves in its two result arrays, and how a copy of one batch adds to it.
-/
module

public import proofs.«01_k».proof.Proof.Tiles

@[expose] public section

noncomputable section

namespace Cert.KernelIdeal.Mean

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable {d : Dev nD} {i : grid0.Coords}

/-! ## The boundary rows -/

/-- An entry of the boundary array. -/
def bAt (f : S16x4096.Idx → F .f32) (b t : ℕ) : F .f32 := f (ix2 (Fin.ofNat 16 b) (Fin.ofNat 4096 t))

/-- The boundaries of a batch. -/
abbrev bdOf (f : S16x4096.Idx → F .f32) (b : ℕ) : ℕ → Bool := bds (bAt f b)

theorem bRow_read (t : Fin k0_t1_loop.trips) (f : S16x4096.Idx → F .f32) (y : S4096.Idx) :
    (bRow t).view.read (Elt F) f y = bAt f t.val (y 0).val := by
  have ht : t.val < 16 := lt_of_lt_of_eq t.isLt trips_t1
  obtain ⟨n, rfl⟩ : ∃ n : Fin 4096, y = ix1 n := ⟨y 0, funext fun a => by fin_cases a; rfl⟩
  refine (shapeCast_1a_a_apply (a := 4096)
    ((bArr.slice (Rect.unit (s := S16x4096) (k0_off1 t) S1x4096.size (k0_off1_inb t)) (fun _ => rfl)).view.read (Elt F) f) (by decide) n).trans ?_
  show f _ = f _
  congr 1
  have h7 := k0_off1_eq t
  funext a
  refine Fin.ext ?_
  fin_cases a
  · show (k0_off1 t) 0 + 1 * 0 = t.val % 16
    rw [h7]; show t.val + 1 * 0 = _; omega
  · show (k0_off1 t) 1 + 1 * n.val = n.val % 4096
    rw [h7]; show 0 + 1 * n.val = _
    have := n.isLt; omega

/-! ## The result -/

/-- A number of the result. -/
def oAt (f : S16x2048x1024.Idx → F .f32) (b r c : ℕ) : F .f32 := f (ix3 (Fin.ofNat 16 b) (Fin.ofNat 2048 r) (Fin.ofNat 1024 c))

/-- A count. -/
def nAt (f : S16x2048.Idx → BitVec 32) (b r : ℕ) : BitVec 32 := f (ix2 (Fin.ofNat 16 b) (Fin.ofNat 2048 r))

/-- Row `r` of a batch's result at column `c`: segment `r + 1`, and zero after the last segment. -/
def ElemOK (X : ℕ → ℕ → F .f32) (bd : ℕ → Bool) (r c : ℕ) (v : F .f32) : Prop :=
  if r + 1 < min (cnt bd 4096 + 1) 2050 then
    v = rowVal X bd (facA (lenW bd (r + 1))) (r + 1) c ∨ v = rowVal X bd (facB (lenW bd (r + 1))) (r + 1) c
  else v = z0

/-- The first `n` batches of a tile's columns are done. -/
def OutOK (fx : S16x4096x1024.Idx → F .f32) (fb : S16x4096.Idx → F .f32) (i : grid0.Coords) (n : ℕ) (f : S16x2048x1024.Idx → F .f32) : Prop :=
  ∀ t < n, ∀ r < 2048, ∀ c < 32, ElemOK (xCols fx i t) (bdOf fb t) r c (oAt f t r (col0 i + c))

/-- The first `n` batches of the counts are done. -/
def CountsOK (fb : S16x4096.Idx → F .f32) (n : ℕ) (f : S16x2048.Idx → BitVec 32) : Prop :=
  ∀ t < n, ∀ r < 2048, nAt f t r = lenW (bdOf fb t) (r + 1)

/-- The columns of the result that a tile fills. -/
def oCols (i : grid0.Coords) : Finset S16x2048x1024.Idx := Finset.univ.filter fun y => (y 2).val / 32 = 2 * (i 1).val + (i 0).val

theorem oPart_emb {off : Fin 3 → Nat} (h : ∀ a, off a + S1x2048x32.size a ≤ S16x2048x1024.size a) {t col : ℕ} (ho : off = ![t, 0, col])
    (r : Fin 2048) (c : Fin 32) : (oPart off h).view.emb (ix2 r c) = ix3 (Fin.ofNat 16 t) (Fin.ofNat 2048 r.val) (Fin.ofNat 1024 (col + c.val)) := by
  subst ho
  have h0 : t + 1 ≤ 16 := h 0
  have h2 : col + 32 ≤ 1024 := h 2
  refine (shapeCast_1ab_ab_apply (a := 2048) (b := 32)
    (fun y => (oArr.slice (Rect.unit (s := S16x2048x1024) ![t, 0, col] S1x2048x32.size h) (fun _ => rfl)).view.emb y) (by decide) r c).trans ?_
  have := r.isLt
  have := c.isLt
  funext a
  refine Fin.ext ?_
  fin_cases a
  · show t + 1 * 0 = t % 16
    omega
  · show 0 + 1 * r.val = r.val % 2048
    omega
  · show col + 1 * c.val = (col + c.val) % 1024
    omega

theorem ix2_eta {a b : ℕ} (y : (⟨2, ![a, b]⟩ : Shape).Idx) : ∃ (r : Fin a) (c : Fin b), y = ix2 r c :=
  ⟨y 0, y 1, funext fun k => by fin_cases k <;> rfl⟩

theorem oPart_subset {i : grid0.Coords} {off : Fin 3 → Nat} (h : ∀ a, off a + S1x2048x32.size a ≤ S16x2048x1024.size a) {t : ℕ}
    (ho : off = ![t, 0, col0 i]) : (oPart off h).view.set ⊆ oCols i := by
  intro y hy
  obtain ⟨x, -, rfl⟩ := Finset.mem_map.mp hy
  obtain ⟨r, c, rfl⟩ := ix2_eta x
  rw [oPart_emb h ho]
  unfold oCols
  rw [Finset.mem_filter]
  refine ⟨Finset.mem_univ _, ?_⟩
  show (col0 i + c.val) % 1024 / 32 = _
  have := col0_lt i
  have := c.isLt
  unfold col0 at *
  omega

theorem OutOK.put {fx : S16x4096x1024.Idx → F .f32} {fb : S16x4096.Idx → F .f32} {i : grid0.Coords} {t : ℕ} {f : S16x2048x1024.Idx → F .f32}
    (hf : OutOK fx fb i t f) {off : Fin 3 → Nat} {h : ∀ a, off a + S1x2048x32.size a ≤ S16x2048x1024.size a} (ho : off = ![t, 0, col0 i])
    {O : ℕ → ℕ → F .f32} (hr : RowsOK (xCols fx i t) (bdOf fb t) O (min (cnt (bdOf fb t) 4096 + 1) 2050)) (hz : ZeroOK (bdOf fb t) O 2050)
    {w : S2048x32.Idx → F .f32} (hw : ∀ (r : Fin 2048) (c : Fin 32), w (ix2 r c) = O (r.val + 1) c.val) :
    OutOK fx fb i (t + 1) ((oPart off h).view.write (Elt F) f w Finset.univ) := by
  have h0 : t + 1 ≤ 16 := by have := h 0; rw [ho] at this; exact this
  intro t' ht' r hr' c hc
  by_cases e : t' = t
  · subst e
    have e1 := oPart_emb h ho ⟨r, hr'⟩ ⟨c, hc⟩
    have e2 : oAt ((oPart off h).view.write (Elt F) f w Finset.univ) t' r (col0 i + c) = O (r + 1) c := by
      unfold oAt
      refine (congrArg _ e1).symm.trans ?_
      refine Eq.trans ?_ (hw ⟨r, hr'⟩ ⟨c, hc⟩)
      exact congrFun (View.read_write_univ (Val := Elt F) (v := (oPart off h).view) f w) (ix2 ⟨r, hr'⟩ ⟨c, hc⟩)
    rw [e2]
    unfold ElemOK
    split
    · rename_i hlt
      exact hr (r + 1) (by omega) hlt c hc
    · rename_i hge
      exact hz (r + 1) (by omega) (by omega) c hc
  · have e2 : oAt ((oPart off h).view.write (Elt F) f w Finset.univ) t' r (col0 i + c) = oAt f t' r (col0 i + c) := by
      unfold oAt
      refine View.write_of_not_mem _ _ _ ?_
      intro hy
      obtain ⟨x, -, hx⟩ := Finset.mem_map.mp hy
      obtain ⟨r', c', rfl⟩ := ix2_eta x
      rw [oPart_emb h ho] at hx
      have : t % 16 = t' % 16 := congrArg Fin.val (congrFun hx 0)
      omega
    rw [e2]
    exact hf t' (by omega) r hr' c hc

theorem nRow_emb {off : Fin 2 → Nat} (h : ∀ a, off a + S1x2048.size a ≤ S16x2048.size a) {t : ℕ} (ho : off = ![t, 0]) (r : Fin 2048) :
    (nRow off h).view.emb (ix1 r) = ix2 (Fin.ofNat 16 t) (Fin.ofNat 2048 r.val) := by
  subst ho
  have h0 : t + 1 ≤ 16 := h 0
  refine (shapeCast_1a_a_apply (a := 2048)
    (fun y => (nArr.slice (Rect.unit (s := S16x2048) ![t, 0] S1x2048.size h) (fun _ => rfl)).view.emb y) (by decide) r).trans ?_
  have := r.isLt
  funext a
  refine Fin.ext ?_
  fin_cases a
  · show t + 1 * 0 = t % 16
    omega
  · show 0 + 1 * r.val = r.val % 2048
    omega

theorem CountsOK.put {fb : S16x4096.Idx → F .f32} {t : ℕ} {f : S16x2048.Idx → BitVec 32} (hf : CountsOK fb t f) {off : Fin 2 → Nat}
    {h : ∀ a, off a + S1x2048.size a ≤ S16x2048.size a} (ho : off = ![t, 0]) {N : ℕ → BitVec 32} (hN : LenOK (bdOf fb t) N 2048)
    {w : S2048.Idx → BitVec 32} (hw : ∀ r : Fin 2048, w (ix1 r) = N r.val) :
    CountsOK fb (t + 1) ((nRow off h).view.write (Elt F) f w Finset.univ) := by
  have h0 : t + 1 ≤ 16 := by have := h 0; rw [ho] at this; exact this
  intro t' ht' r hr'
  by_cases e : t' = t
  · subst e
    have e1 := nRow_emb h ho ⟨r, hr'⟩
    refine Eq.trans ?_ (hN r hr')
    unfold nAt
    refine (congrArg _ e1).symm.trans ?_
    refine Eq.trans ?_ (hw ⟨r, hr'⟩)
    exact congrFun (View.read_write_univ (Val := Elt F) (v := (nRow off h).view) f w) (ix1 ⟨r, hr'⟩)
  · refine Eq.trans ?_ (hf t' (by omega) r hr')
    unfold nAt
    refine View.write_of_not_mem _ _ _ ?_
    intro hy
    obtain ⟨x, -, hx⟩ := Finset.mem_map.mp hy
    obtain ⟨r', rfl⟩ : ∃ n : Fin 2048, x = ix1 n := ⟨x 0, funext fun a => by fin_cases a; rfl⟩
    rw [nRow_emb h ho] at hx
    have : t % 16 = t' % 16 := congrArg Fin.val (congrFun hx 0)
    omega

theorem oRows_read (f : S2050x32.Idx → F .f32) {O : ℕ → ℕ → F .f32} (hf : ∀ y : S2050x32.Idx, oBuf.view.read (Elt F) f y = O (y 0).val (y 1).val)
    (r : Fin 2048) (c : Fin 32) : oRows.view.read (Elt F) f (ix2 r c) = O (r.val + 1) c.val := by
  refine (hf ((Rect.unit (s := S2050x32) ![1, 0] S2048x32.size inb_S2050x32_S2048x32_1_0).emb (ix2 r c))).trans ?_
  show O (1 + 1 * r.val) (0 + 1 * c.val) = _
  rw [show 1 + 1 * r.val = r.val + 1 by omega, show 0 + 1 * c.val = c.val by omega]

end Cert.KernelIdeal.Mean
-- ==== Proof.Region.lean ====
/-
  One batch of the kernel's outer loop as a definition of its own, with the printed parts of its chain opened into
  one chain (`batchChain`). Nothing is changed: `body_eq` says that the printed kernel is the two opening
  stores, the loop over the batches with this step, and the last wait.
-/
module

public import proofs.«01_k».proof.Proof.Gen.KernelIdeal
public import Idealize.ShloMosaic.Lib.Tactic
public import Idealize.ShloMosaic.Lib.Tactic.OpenCalls

@[expose] public section

set_option cleanup.letToHave false
set_option maxHeartbeats 40000000
set_option maxRecDepth 100000

noncomputable section

namespace Cert.KernelIdeal.Mean

open Cert.KernelIdeal Cert.KernelIdeal.Gen
open Idealize.ShloMosaic Idealize.SL.Sem

variable {F : FTy → Type} [FloatOps F]

/-- What the kernel does for one batch `k0_t1`. -/
def batchStep (i : grid0.Coords)
    (arg2 : Memref sig .scVector .hbm S16x4096x1024 .f32) (harg2 : arg2.IsWhole)
    (arg3 : Memref sig .scVector .hbm S16x4096 .f32) (harg3 : arg3.IsWhole)
    (arg4 : Memref sig .scVector .hbm S16x2048x1024 .f32) (harg4 : arg4.IsWhole)
    (arg5 : Memref sig .scVector .hbm S16x2048 .i32) (harg5 : arg5.IsWhole)
    (arg6 : Memref sig .scVector .vmem S4096 .f32) (harg6 : arg6.IsWhole)
    (arg7 : Memref sig .scVector .vmem S256x32 .f32) (harg7 : arg7.IsWhole)
    (arg8 : Memref sig .scVector .vmem S256x32 .f32) (harg8 : arg8.IsWhole)
    (arg9 : Memref sig .scVector .vmem S2050x32 .f32) (harg9 : arg9.IsWhole)
    (arg10 : Memref sig .scVector .vmem S257x32 .f32) (harg10 : arg10.IsWhole)
    (arg11 : Memref sig .scVector .vmem S4112 .i32) (harg11 : arg11.IsWhole)
    (arg12 : Memref sig .scVector .vmem S4096 .i32) (harg12 : arg12.IsWhole)
    (arg13 : Memref sig .scVector .vmem S2048 .i32) (harg13 : arg13.IsWhole)
    (arg14 : DmaSems sig S_)
    (arg15 : DmaSems sig S_)
    (arg16 : DmaSems sig S_)
    (arg17 : DmaSems sig S_) (v893_r0 : DmaSems sig S_)
    (v4 : IVec S16 32) (v5 : FVec F S16 .f32) (k0_t1 : Fin k0_t1_loop.trips) :
    Prog (TpuEff nD τ sig (Elt F) Λ₀ (.scVector ((i 0).castLE hcore0) ((i 1).castLE hsub0))) PUnit := do
  let c0_i32_2 : BitVec 32 := 0#32
  let c1_i32 : BitVec 32 := 1#32
  let ⟨v36, k0_hw305, c0_i32_30⟩ ← k0_part289 i arg2 harg2 arg3 harg3 arg4 harg4 arg5 harg5 arg6 harg6 arg7 harg7 arg8 harg8 arg9 harg9 arg10 harg10 arg11 harg11 arg12 harg12 arg13 harg13 arg14 arg15 arg16 arg17 v893_r0 v4 c0_i32_2 c1_i32 k0_t1
  let ⟨v45_0, v45_1, v52, k0_hw2, v54, v73, c_m1_i32_43, v78, v79_0, v79_1, c1_i32_47⟩ ← k0_part290 i arg2 harg2 arg3 harg3 arg4 harg4 arg5 harg5 arg6 harg6 arg7 harg7 arg8 harg8 arg9 harg9 arg10 harg10 arg11 harg11 arg12 harg12 arg13 harg13 arg14 arg15 arg16 arg17 v893_r0 v5 k0_t1 c0_i32_30
  let ⟨v89_0, v89_1, v90, v91, v92, v98_0, v98_1, v105, k0_hw21, v107, v109, c8_i32_64, v110, v115⟩ ← k0_part291 i arg2 harg2 arg3 harg3 arg4 harg4 arg5 harg5 arg6 harg6 arg7 harg7 arg8 harg8 arg9 harg9 arg10 harg10 arg11 harg11 arg12 harg12 arg13 harg13 arg14 arg15 arg16 arg17 v893_r0 v5 k0_t1 v45_0 v45_1 v52 k0_hw2 v54 v73 c_m1_i32_43 v78 v79_0 v79_1 c1_i32_47
  let ⟨v142_0, v142_1, v143, v144, v145, v151_0, v151_1⟩ ← k0_part292 i arg2 harg2 arg3 harg3 arg4 harg4 arg5 harg5 arg6 harg6 arg7 harg7 arg8 harg8 arg9 harg9 arg10 harg10 arg11 harg11 arg12 harg12 arg13 harg13 arg14 arg15 arg16 arg17 v893_r0 v5 k0_t1 v52 v89_0 v89_1 v90 v91 v92 v98_0 v98_1 v105 k0_hw21 v107 v109 c8_i32_64 v110 v115
  let ⟨v158, k0_hw40, v160, v193, v194_0, v194_1⟩ ← k0_part293 i arg2 harg2 arg3 harg3 arg4 harg4 arg5 harg5 arg6 harg6 arg7 harg7 arg8 harg8 arg9 harg9 arg10 harg10 arg11 harg11 arg12 harg12 arg13 harg13 arg14 arg15 arg16 arg17 v893_r0 k0_t1 v52 v105 v142_0 v142_1 v143 v144 v145
  let ⟨v195_0, v195_1, v196, v197, v198, v204_0, v204_1, v211, k0_hw59, v213, v216, v230, v231⟩ ← k0_part294 i arg2 harg2 arg3 harg3 arg4 harg4 arg5 harg5 arg6 harg6 arg7 harg7 arg8 harg8 arg9 harg9 arg10 harg10 arg11 harg11 arg12 harg12 arg13 harg13 arg14 arg15 arg16 arg17 v893_r0 v5 k0_t1 v52 v105 v143 v144 v145 v151_0 v151_1 v158 k0_hw40 v160 v193 v194_0 v194_1
  let ⟨v248_0, v248_1, v249, v250, v251, v257_0, v257_1, v264, k0_hw78, v266, v268⟩ ← k0_part295 i arg2 harg2 arg3 harg3 arg4 harg4 arg5 harg5 arg6 harg6 arg7 harg7 arg8 harg8 arg9 harg9 arg10 harg10 arg11 harg11 arg12 harg12 arg13 harg13 arg14 arg15 arg16 arg17 v893_r0 v5 k0_t1 v52 v105 v158 v195_0 v195_1 v196 v197 v198 v204_0 v204_1 v211 k0_hw59 v213 v216 v230 v231
  let ⟨v301_0, v301_1, v302, v303, v304, c0_i32_156, c16_i32_157⟩ ← k0_part296 i arg2 harg2 arg3 harg3 arg4 harg4 arg5 harg5 arg6 harg6 arg7 harg7 arg8 harg8 arg9 harg9 arg10 harg10 arg11 harg11 arg12 harg12 arg13 harg13 arg14 arg15 arg16 arg17 v893_r0 k0_t1 v52 v105 v158 v211 v248_0 v248_1 v249 v250 v251 v257_0 v257_1 v264 k0_hw78 v266 v268
  let ⟨v310_0, v310_1, v317, k0_hw97, v319, v345_0, v345_1, v346⟩ ← k0_part297 i arg2 harg2 arg3 harg3 arg4 harg4 arg5 harg5 arg6 harg6 arg7 harg7 arg8 harg8 arg9 harg9 arg10 harg10 arg11 harg11 arg12 harg12 arg13 harg13 arg14 arg15 arg16 arg17 v893_r0 v5 k0_t1 v52 v105 v158 v211 v264 v301_0 v301_1 v302 v303 v304 c0_i32_156 c16_i32_157
  let ⟨v354_0, v354_1, v355, v356, v357, v363_0, v363_1, v370, k0_hw116, v372, v374, c8_i32_189, v375, v380, v382, v383⟩ ← k0_part298 i arg2 harg2 arg3 harg3 arg4 harg4 arg5 harg5 arg6 harg6 arg7 harg7 arg8 harg8 arg9 harg9 arg10 harg10 arg11 harg11 arg12 harg12 arg13 harg13 arg14 arg15 arg16 arg17 v893_r0 v5 k0_t1 v52 v105 v158 v211 v264 v302 v303 v304 v310_0 v310_1 v317 k0_hw97 v319 v345_0 v345_1 v346
  let ⟨v407_0, v407_1, v408, v409, v410, v416_0, v416_1, v422⟩ ← k0_part299 i arg2 harg2 arg3 harg3 arg4 harg4 arg5 harg5 arg6 harg6 arg7 harg7 arg8 harg8 arg9 harg9 arg10 harg10 arg11 harg11 arg12 harg12 arg13 harg13 arg14 arg15 arg16 arg17 v893_r0 v5 k0_t1 v52 v105 v158 v211 v264 v317 v354_0 v354_1 v355 v356 v357 v363_0 v363_1 v370 k0_hw116 v372 v374 c8_i32_189 v375 v380 v382 v383
  let ⟨v423, v460_0, v460_1, v461, v462, v463⟩ ← k0_part300 i arg2 harg2 arg3 harg3 arg4 harg4 arg5 harg5 arg6 harg6 arg7 harg7 arg8 harg8 arg9 harg9 arg10 harg10 arg11 harg11 arg12 harg12 arg13 harg13 arg14 arg15 arg16 arg17 v893_r0 v52 v105 v158 v211 v264 v317 v370 v407_0 v407_1 v408 v409 v410 v416_0 v416_1 v422
  let ⟨v469_0, v469_1, v476, k0_hw154, v478, v497, c0_i32_246, v498, c1_i32_247⟩ ← k0_part301 i arg2 harg2 arg3 harg3 arg4 harg4 arg5 harg5 arg6 harg6 arg7 harg7 arg8 harg8 arg9 harg9 arg10 harg10 arg11 harg11 arg12 harg12 arg13 harg13 arg14 arg15 arg16 arg17 v893_r0 v5 k0_t1 v52 v105 v158 v211 v264 v317 v370 v423 v463
  let ⟨v513_0, v513_1, v514, v515, v516, v522_0, v522_1, v529, k0_hw173, v531, v533, c8_i32_264, v534, v536⟩ ← k0_part302 i arg2 harg2 arg3 harg3 arg4 harg4 arg5 harg5 arg6 harg6 arg7 harg7 arg8 harg8 arg9 harg9 arg10 harg10 arg11 harg11 arg12 harg12 arg13 harg13 arg14 arg15 arg16 arg17 v893_r0 v5 k0_t1 v52 v105 v158 v211 v264 v317 v370 v423 v460_0 v460_1 v461 v462 v463 v469_0 v469_1 v476 k0_hw154 v478 v497 c0_i32_246 v498 c1_i32_247
  let ⟨v566_0, v566_1, v567, v568, v569, v575_0, v575_1⟩ ← k0_part303 i arg2 harg2 arg3 harg3 arg4 harg4 arg5 harg5 arg6 harg6 arg7 harg7 arg8 harg8 arg9 harg9 arg10 harg10 arg11 harg11 arg12 harg12 arg13 harg13 arg14 arg15 arg16 arg17 v893_r0 v5 k0_t1 v52 v105 v158 v211 v264 v317 v370 v423 v476 v513_0 v513_1 v514 v515 v516 v522_0 v522_1 v529 k0_hw173 v531 v533 c8_i32_264 v534 v536
  let ⟨v582, k0_hw192, v584, v610_0, v610_1, v612, c1_i32_301, v615⟩ ← k0_part304 i arg2 harg2 arg3 harg3 arg4 harg4 arg5 harg5 arg6 harg6 arg7 harg7 arg8 harg8 arg9 harg9 arg10 harg10 arg11 harg11 arg12 harg12 arg13 harg13 arg14 arg15 arg16 arg17 v893_r0 k0_t1 v52 v105 v158 v211 v264 v317 v370 v423 v476 v529 v566_0 v566_1 v567 v568 v569
  let ⟨v619_0, v619_1, v620, v621, v622, v628_0, v628_1, v635, k0_hw211, v637, v640, v651, v652, c0_i32_319⟩ ← k0_part305 i arg2 harg2 arg3 harg3 arg4 harg4 arg5 harg5 arg6 harg6 arg7 harg7 arg8 harg8 arg9 harg9 arg10 harg10 arg11 harg11 arg12 harg12 arg13 harg13 arg14 arg15 arg16 arg17 v893_r0 v5 k0_t1 v52 v105 v158 v211 v264 v317 v370 v423 v476 v529 v567 v568 v569 v575_0 v575_1 v582 k0_hw192 v584 v610_0 v610_1 v612 c1_i32_301 v615
  let ⟨v672_0, v672_1, v673, v674, v675, v681_0, v681_1, v688, k0_hw230, v689, c2049_i32_337⟩ ← k0_part306 i arg2 harg2 arg3 harg3 arg4 harg4 arg5 harg5 arg6 harg6 arg7 harg7 arg8 harg8 arg9 harg9 arg10 harg10 arg11 harg11 arg12 harg12 arg13 harg13 arg14 arg15 arg16 arg17 v893_r0 v5 k0_t1 v52 v105 v158 v211 v264 v317 v370 v423 v476 v529 v582 v619_0 v619_1 v620 v621 v622 v628_0 v628_1 v635 k0_hw211 v637 v640 v651 v652 c0_i32_319
  let ⟨v725_0, v725_1, v726, v727, v728⟩ ← k0_part307 i arg2 harg2 arg3 harg3 arg4 harg4 arg5 harg5 arg6 harg6 arg7 harg7 arg8 harg8 arg9 harg9 arg10 harg10 arg11 harg11 arg12 harg12 arg13 harg13 arg14 arg15 arg16 arg17 v893_r0 k0_t1 v52 v105 v158 v211 v264 v317 v370 v423 v476 v529 v582 v635 v672_0 v672_1 v673 v674 v675 v681_0 v681_1 v688 k0_hw230 v689 c2049_i32_337
  let ⟨v734_0, v734_1, v741, k0_hw249, v743, v762, v767, v768_0, v768_1⟩ ← k0_part308 i arg2 harg2 arg3 harg3 arg4 harg4 arg5 harg5 arg6 harg6 arg7 harg7 arg8 harg8 arg9 harg9 arg10 harg10 arg11 harg11 arg12 harg12 arg13 harg13 arg14 arg15 arg16 arg17 v893_r0 v5 k0_t1 v52 v105 v158 v211 v264 v317 v370 v423 v476 v529 v582 v635 v688 v725_0 v725_1 v726 v727 v728
  let ⟨v778_0, v778_1, v779, v780, v781, v787_0, v787_1, v790, k0_hw268, v792, v794, c8_i32_388, v795, v806⟩ ← k0_part309 i arg2 harg2 arg3 harg3 arg4 harg4 arg5 harg5 arg6 harg6 arg7 harg7 arg8 harg8 arg9 harg9 arg10 harg10 arg11 harg11 arg12 harg12 arg13 harg13 arg14 arg15 arg16 arg17 v893_r0 v5 k0_t1 v36 v52 v105 v158 v211 v264 v317 v370 v423 v476 v529 v582 v635 v688 v726 v727 v728 v734_0 v734_1 v741 k0_hw249 v743 v762 v767 v768_0 v768_1
  let ⟨v827_0, v827_1, v828, v829, v830, v836_0, v836_1, v837, v839, c8_i32_411, v840, v842, v844⟩ ← k0_part310 i arg2 harg2 arg3 harg3 arg4 harg4 arg5 harg5 arg6 harg6 arg7 harg7 arg8 harg8 arg9 harg9 arg10 harg10 arg11 harg11 arg12 harg12 arg13 harg13 arg14 arg15 arg16 arg17 v893_r0 v5 k0_t1 v36 v52 v105 v158 v211 v264 v317 v370 v423 v476 v529 v582 v635 v688 v741 v778_0 v778_1 v779 v780 v781 v787_0 v787_1 v790 k0_hw268 v792 v794 c8_i32_388 v795 v806
  let ⟨v878, c1_i32_433, v881⟩ ← k0_part311 i arg2 harg2 arg3 harg3 arg4 harg4 arg5 harg5 arg6 harg6 arg7 harg7 arg8 harg8 arg9 harg9 arg10 harg10 arg11 harg11 arg12 harg12 arg13 harg13 arg14 arg15 arg16 arg17 v893_r0 v36 v52 v105 v158 v211 v264 v317 v370 v423 v476 v529 v582 v635 v688 v741 v790 k0_hw268 v827_0 v827_1 v828 v829 v830 v836_0 v836_1 v837 v839 c8_i32_411 v840 v842 v844
  Scf.Loop.for (k0_t85_loop v36) (k0_t85_ok v36 k0_hw305) ⟨⟩ fun k0_t85 _ => do
    let v894_ld : Vec F S1x16 .f32 ← Prog.lift (.load arg9 (Rect.unit (s := S2050x32) (k0_off871 v36 k0_t85) S1x16.size (k0_off871_inb v36 k0_hw305 k0_t85)).toLoadRect (View.loadsAt_vmem h_S1x16))
    have v894 : Vec F S16 .f32 := shapeCast S16 v894_ld shapeCasts_S1x16_S16
    Prog.lift (.store arg9 (Rect.unit (s := S2050x32) (k0_off871 v36 k0_t85) S1x16.size (k0_off871_inb v36 k0_hw305 k0_t85)) (shapeCast S1x16 v5 shapeCasts_S16_S1x16) Finset.univ (View.stores_vmem_bits_univ h_S1x16 rfl) (.inl rfl))
    let v896_ld : Vec F S1x16 .f32 ← Prog.lift (.load arg9 (Rect.unit (s := S2050x32) (k0_off872 v36 k0_t85) S1x16.size (k0_off872_inb v36 k0_hw305 k0_t85)).toLoadRect (View.loadsAt_vmem h_S1x16))
    have v896 : Vec F S16 .f32 := shapeCast S16 v896_ld shapeCasts_S1x16_S16
    Prog.lift (.store arg9 (Rect.unit (s := S2050x32) (k0_off872 v36 k0_t85) S1x16.size (k0_off872_inb v36 k0_hw305 k0_t85)) (shapeCast S1x16 v5 shapeCasts_S16_S1x16) Finset.univ (View.stores_vmem_bits_univ h_S1x16 rfl) (.inl rfl))
    pure ⟨⟩
  Scf.Loop.for (k0_t86_loop v36) (k0_t86_ok v36 k0_hw305) ⟨⟩ fun k0_t86 _ => do
    let v894_ld : Vec F S1x16 .f32 ← Prog.lift (.load arg9 (Rect.unit (s := S2050x32) (k0_off873 v36 k0_t86) S1x16.size (k0_off873_inb v36 k0_hw305 k0_t86)).toLoadRect (View.loadsAt_vmem h_S1x16))
    have v894 : Vec F S16 .f32 := shapeCast S16 v894_ld shapeCasts_S1x16_S16
    Prog.lift (.store arg9 (Rect.unit (s := S2050x32) (k0_off873 v36 k0_t86) S1x16.size (k0_off873_inb v36 k0_hw305 k0_t86)) (shapeCast S1x16 v5 shapeCasts_S16_S1x16) Finset.univ (View.stores_vmem_bits_univ h_S1x16 rfl) (.inl rfl))
    let v896_ld : Vec F S1x16 .f32 ← Prog.lift (.load arg9 (Rect.unit (s := S2050x32) (k0_off874 v36 k0_t86) S1x16.size (k0_off874_inb v36 k0_hw305 k0_t86)).toLoadRect (View.loadsAt_vmem h_S1x16))
    have v896 : Vec F S16 .f32 := shapeCast S16 v896_ld shapeCasts_S1x16_S16
    Prog.lift (.store arg9 (Rect.unit (s := S2050x32) (k0_off874 v36 k0_t86) S1x16.size (k0_off874_inb v36 k0_hw305 k0_t86)) (shapeCast S1x16 v5 shapeCasts_S16_S1x16) Finset.univ (View.stores_vmem_bits_univ h_S1x16 rfl) (.inl rfl))
    pure ⟨⟩
  let v887 : Memref sig .scVector .hbm S1x2048x32 .f32 := arg4.slice (Rect.unit (s := S16x2048x1024) (k0_off875 i k0_t1) S1x2048x32.size (k0_off875_inb i k0_t1)) (fun _ => rfl)
  let v888 : Memref sig .scVector .hbm S2048x32 .f32 := v887.squeeze S2048x32 squeezes_S1x2048x32_S2048x32
  let v889 : Memref sig .scVector .vmem S2048x32 .f32 := arg9.slice (Rect.unit (s := S2050x32) ![1, 0] S2048x32.size inb_S2050x32_S2048x32_1_0) (fun _ => rfl)
  Prog.lift (.enqueueDma v889 (.here v888) (.dma arg17.sem) (View.wordExact_bits rfl) ((View.wordExact_bits rfl).reshape _ _) ⟨Or.inl rfl, trivial⟩)
  if k0_h2 : k0_cond2 i = 1#1 then do
    let v896_r0 : Memref sig .scVector .hbm S1x2048 .i32 := arg5.slice (Rect.unit (s := S16x2048) (k0_off876 k0_t1) S1x2048.size (k0_off876_inb i k0_t1 k0_h2)) (fun _ => rfl)
    let v897_r0 : Memref sig .scVector .hbm S2048 .i32 := v896_r0.squeeze S2048 squeezes_S1x2048_S2048
    Prog.lift (.enqueueDma arg13 (.here v897_r0) (.dma v893_r0.sem) harg13.wordExact ((View.wordExact_bits rfl).reshape _ _) ⟨Or.inl rfl, trivial⟩)
    let v900_r0 : Memref sig .scVector .hbm S1x2048 .i32 := arg5.slice (Rect.unit (s := S16x2048) (k0_off876 k0_t1) S1x2048.size (k0_off876_inb i k0_t1 k0_h2)) (fun _ => rfl)
    let v901_r0 : Memref sig .scVector .hbm S2048 .i32 := v900_r0.squeeze S2048 squeezes_S1x2048_S2048
    Prog.lift (.waitDma2 v893_r0.sem arg13 v901_r0 harg13.wordExact ((View.wordExact_bits rfl).reshape _ _))
    pure ⟨⟩
  else do
    pure ⟨⟩
  pure ⟨⟩

open_calls batchChain := batchStep [k0_part289, k0_part290, k0_part291, k0_part292, k0_part293, k0_part294, k0_part295, k0_part296, k0_part297, k0_part298, k0_part299, k0_part300, k0_part301, k0_part302, k0_part303, k0_part304, k0_part305, k0_part306, k0_part307, k0_part308, k0_part309, k0_part310, k0_part311]

end Cert.KernelIdeal.Mean
-- ==== Proof.Chain.lean ====
/-
  The kernel's batch step is the one of `Mirror`: the printed chain and `batch` make the same effects with the same
  values, and differ only in how the text is divided.
-/
module

public import proofs.«01_k».proof.Proof.Region
public import proofs.«01_k».proof.Proof.Mirror

@[expose] public section

set_option maxHeartbeats 40000000
set_option maxRecDepth 100000

noncomputable section

namespace Cert.KernelIdeal.Mean

open Cert.KernelIdeal Cert.KernelIdeal.Gen
open Idealize.ShloMosaic Idealize.SL.Sem

variable {F : FTy → Type} [FloatOps F]

theorem batchChain_eq (i : grid0.Coords) (t : Fin k0_t1_loop.trips) :
    batchChain (F := F) i xArr (Memref.isWhole_whole _) bArr (Memref.isWhole_whole _) oArr (Memref.isWhole_whole _) nArr (Memref.isWhole_whole _)
      bBuf (Memref.isWhole_whole _) xBuf0 (Memref.isWhole_whole _) xBuf1 (Memref.isWhole_whole _) oBuf (Memref.isWhole_whole _)
      pBuf (Memref.isWhole_whole _) posBuf (Memref.isWhole_whole _) cBuf (Memref.isWhole_whole _) nBuf (Memref.isWhole_whole _)
      cc0_scratch8 cc0_scratch9 cc0_scratch10 cc0_scratch11 cc0_scoped0 iotaV zeroV t = batch i t := by
  sl_kernel_rfl

/-- A tile's whole work, from its step for one batch. -/
def bodyWith (i : grid0.Coords) (step : Fin k0_t1_loop.trips → Prog (TileEff F i) PUnit) : Prog (TileEff F i) PUnit :=
  putRow pBuf ![0, 0] inb_S257x32_S1x16_0_0 zeroV <|
  putRow pBuf ![0, 16] inb_S257x32_S1x16_0_16 zeroV <|
  (Scf.Loop.for k0_t1_loop k0_t1_ok (⟨⟩ : PUnit) fun t _ => step t) >>= fun _ =>
  waitOut (k0_off877 i) (k0_off877_inb i) (.ret ⟨⟩)

theorem body_eq (i : grid0.Coords) :
    cc0__body (F := F) i xArr (Memref.isWhole_whole _) bArr (Memref.isWhole_whole _) oArr (Memref.isWhole_whole _) nArr (Memref.isWhole_whole _)
      bBuf (Memref.isWhole_whole _) xBuf0 (Memref.isWhole_whole _) xBuf1 (Memref.isWhole_whole _) oBuf (Memref.isWhole_whole _)
      pBuf (Memref.isWhole_whole _) posBuf (Memref.isWhole_whole _) cBuf (Memref.isWhole_whole _) nBuf (Memref.isWhole_whole _)
      cc0_scratch8 cc0_scratch9 cc0_scratch10 cc0_scratch11 cc0_scoped0 = bodyWith i (batch i) := by
  have h : (fun t => batchStep (F := F) i xArr (Memref.isWhole_whole _) bArr (Memref.isWhole_whole _) oArr (Memref.isWhole_whole _) nArr
      (Memref.isWhole_whole _) bBuf (Memref.isWhole_whole _) xBuf0 (Memref.isWhole_whole _) xBuf1 (Memref.isWhole_whole _) oBuf
      (Memref.isWhole_whole _) pBuf (Memref.isWhole_whole _) posBuf (Memref.isWhole_whole _) cBuf (Memref.isWhole_whole _) nBuf
      (Memref.isWhole_whole _) cc0_scratch8 cc0_scratch9 cc0_scratch10 cc0_scratch11 cc0_scoped0 iotaV zeroV t) = batch i :=
    funext fun t => by rw [batchChain.eq]; exact batchChain_eq i t
  rw [← h]
  sl_kernel_rfl

end Cert.KernelIdeal.Mean
-- ==== Proof.Batch.lean ====
/-
  One batch, and the loop over the sixteen batches: what a tile does from start to end.
-/
module

public import proofs.«01_k».proof.Proof.Rows
public import proofs.«01_k».proof.Proof.Chain

@[expose] public section

noncomputable section

namespace Cert.KernelIdeal.Mean

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable {d : Dev nD} {i : grid0.Coords}

theorem wp_finishRows {α : Type} {Q : α → sProp 𝕄} {X O : ℕ → ℕ → F .f32} {bd : ℕ → Bool} {G N : ℕ → BitVec 32} {hz : k0_chk305 (BitVec.ofNat 32 (cnt bd 4096))}
    {κ : Prog (TileEff F i) α} (hG : PosOK bd 4096 G) (hO : RowsOK X bd O (min (cnt bd 4096 + 1) 2050)) :
    iprop(Own1 (F := F) d i posBuf G ∗ Own1 (F := F) d i nBuf N ∗ Own2 d i oBuf O)
      ⊢ iprop((∀ N' O', ⌜LenOK bd N' 2048⌝ -∗ ⌜RowsOK X bd O' (min (cnt bd 4096 + 1) 2050) ∧ ZeroOK bd O' 2050⌝ -∗ Own1 (F := F) d i posBuf G
            -∗ Own1 (F := F) d i nBuf N' -∗ Own2 d i oBuf O' -∗ WP d i κ Q)
          -∗ WP d i (finishRows (BitVec.ofNat 32 (cnt bd 4096)) hz κ) Q) := by
  unfold finishRows
  iintro ⟨Hg, Hn, Ho⟩ Hk
  iapply (wp_lens hG) $$ [Hg Hn]
  · isplitl [Hg] <;> iassumption
  iintro %N' %hN' Hg Hn
  iapply (wp_clear (hz := hz) hO) $$ Ho
  iintro %O' %hO' Ho
  iapply (wp_for_none _ _ (clearRest_trips _) _ _ _)
  iapply Hk $$ %N' %O' %hN' %hO' Hg Hn Ho

/-! ## The result on its way out -/

/-- The size of a copy of a batch's result. -/
abbrev outAmount (i : grid0.Coords) : ℕ := (oPart (k0_off877 i) (k0_off877_inb i)).view.dmaCredit

/-- The tile's columns of the result, the first `n` batches done. -/
def OutCols (d : Dev nD) (i : grid0.Coords) (fx : S16x4096x1024.Idx → F .f32) (fb : S16x4096.Idx → F .f32) (n : ℕ) : sProp 𝕄 :=
  iprop(∃ f : Buf (Elt F) (oArr.view.loc (thr d i)), ⌜OutOK fx fb i n f⌝ ∗ (oArr.view.loc (thr d i) ↦[oCols i]{fullShare} f))

/-- No copy of a result is on its way. -/
def OutIdle (d : Dev nD) (i : grid0.Coords) (fx : S16x4096x1024.Idx → F .f32) (fb : S16x4096.Idx → F .f32) (n : ℕ) : sProp 𝕄 :=
  iprop(OutCols d i fx fb n ∗ (∃ O, Own2 d i oBuf O) ∗ semVal (thr d i, .dma cc0_scratch11.sem) 0)

/-- The copy of the last of `n` batches is on its way. -/
def OutFly (d : Dev nD) (i : grid0.Coords) (fx : S16x4096x1024.Idx → F .f32) (fb : S16x4096.Idx → F .f32) (n : ℕ) : sProp 𝕄 :=
  iprop(∃ fs : Buf (Elt F) (oBuf.view.loc (thr d i)), Fly d i oRows cc0_scratch11.sem (outAmount i) fullShare oBuf.view.set fs (OutCols d i fx fb n))

theorem own2_of_rows (fs : Buf (Elt F) (oRows.view.loc (thr d i))) :
    (oRows.view.loc (thr d i) ↦[oBuf.view.set]{fullShare} fs : sProp 𝕄) ⊢ iprop(∃ O, Own2 d i oBuf O) := by
  show (oBuf.view.loc (thr d i) ↦[oBuf.view.set]{fullShare} fs : sProp 𝕄) ⊢ _
  iintro Hs
  iexists fun r c => oBuf.view.read (Elt F) fs (ix2 (Fin.ofNat 2050 r) (Fin.ofNat 32 c))
  unfold Own2
  iexists fs
  isplitr
  · ipureintro
    intro y
    obtain ⟨r, c, rfl⟩ := ix2_eta y
    congr 1
    funext a
    refine Fin.ext ?_
    fin_cases a
    · exact (Nat.mod_eq_of_lt r.isLt).symm
    · exact (Nat.mod_eq_of_lt c.isLt).symm
  iassumption

theorem wp_waitOut {α : Type} {Q : α → sProp 𝕄} {fx : S16x4096x1024.Idx → F .f32} {fb : S16x4096.Idx → F .f32} {n : ℕ} {κ : Prog (TileEff F i) α}
    {O : CellTallies nD τ sig (HIx 1)} {off : Fin 3 → Nat} {h : ∀ a, off a + S1x2048x32.size a ≤ S16x2048x1024.size a} :
    iprop(OutFly d i fx fb n ∗ Owes (F := F) d i O)
      ⊢ iprop((OutIdle d i fx fb n -∗ Owes (F := F) d i O -∗ WP d i κ Q) -∗ WP d i (waitOut off h κ) Q) := by
  unfold OutFly OutIdle waitOut
  iintro ⟨⟨%fs, Hf⟩, HO⟩ Hk
  iapply (wp_land (κ := fun _ => κ) (hsrc := View.wordExact_bits rfl) (hdst := (View.wordExact_bits rfl).reshape _ _) (src := oRows) (srcw := oRows) (dstw := oPart off h) (dst := oPart (k0_off877 i) (k0_off877_inb i)) (S := oBuf.view.set) (fs := fs) (D := OutCols d i fx fb n)
    (oBuf.view.set_slice_subset _) rfl) $$ [Hf HO]
  · isplitl [Hf] <;> iassumption
  iintro HD Hs Hv HO
  iapply Hk $$ [HD Hs Hv] HO
  isplitl [HD]
  · iassumption
  isplitl [Hs]
  · iapply own2_of_rows $$ Hs
  iassumption

/-- The counts array, which the first tile alone holds, the first `n` batches done. -/
def Counts (d : Dev nD) (i : grid0.Coords) (fb : S16x4096.Idx → F .f32) (n : ℕ) : sProp 𝕄 :=
  iprop(⌜¬ k0_cond2 i = 1#1⌝ ∨ (∃ f : Buf (Elt F) (nArr.view.loc (thr d i)), ⌜CountsOK fb n f⌝ ∗ (nArr.view.loc (thr d i) ↦[Finset.univ]{fullShare} f)))

theorem cond1_iff : ∀ t : Fin k0_t1_loop.trips, k0_cond1 t = 1#1 ↔ t.val ≠ 0 := by decide +kernel

theorem wp_sendRows {Q : PUnit → sProp 𝕄} {fx : S16x4096x1024.Idx → F .f32} {fb : S16x4096.Idx → F .f32} {t : Fin k0_t1_loop.trips}
    {O : CellTallies nD τ sig (HIx 1)} {Ob : ℕ → ℕ → F .f32} {N : ℕ → BitVec 32}
    (hN : LenOK (bdOf fb t.val) N 2048) (hr : RowsOK (xCols fx i t.val) (bdOf fb t.val) Ob (min (cnt (bdOf fb t.val) 4096 + 1) 2050))
    (hz : ZeroOK (bdOf fb t.val) Ob 2050) :
    iprop(OutCols d i fx fb t.val ∗ Own2 d i oBuf Ob ∗ semVal (thr d i, .dma cc0_scratch11.sem) 0
        ∗ Own1 (F := F) d i nBuf N ∗ semVal (thr d i, .dma cc0_scoped0.sem) 0 ∗ Counts d i fb t.val ∗ Owes (F := F) d i O)
      ⊢ iprop((OutFly d i fx fb (t.val + 1) -∗ (∃ N, Own1 (F := F) d i nBuf N) -∗ semVal (thr d i, .dma cc0_scoped0.sem) 0
            -∗ Counts d i fb (t.val + 1) -∗ Owes (F := F) d i O -∗ Q ⟨⟩)
          -∗ WP d i (sendRows i t) Q) := by
  unfold sendRows
  iintro ⟨Hout, Ho, Hv, Hn, Hs, Hc, HO⟩ Hk
  unfold OutCols Own2
  icases Hout with ⟨%f, %hf, Hout⟩
  icases Ho with ⟨%fs, %hfs, Ho⟩
  have hoff := k0_off875_eq i t
  iapply (wp_send (src := oRows) (dst := oPart (k0_off875 i t) (k0_off875_inb i t)) (S := oBuf.view.set) (Sd := oCols i) (fs := fs) (fd := f)
    (oBuf.view.set_slice_subset _) (oPart_subset _ hoff) (by decide)) $$ [Ho Hout Hv]
  · isplitl [Ho]
    · iassumption
    isplitl [Hout] <;> iassumption
  iintro Hf
  ihave Hfly := (show Fly d i oRows cc0_scratch11.sem (outAmount i) fullShare oBuf.view.set fs
        ((oPart (k0_off875 i t) (k0_off875_inb i t)).view.loc (thr d i) ↦[oCols i]{fullShare}
          ((oPart (k0_off875 i t) (k0_off875_inb i t)).view.write (Elt F) f (oRows.view.read (Elt F) fs) Finset.univ)) ⊢ OutFly d i fx fb (t.val + 1) from by
    unfold OutFly
    iintro Hf
    iexists fs
    iapply (Fly_mono (d := d) (i := i) ?_) $$ Hf
    unfold OutCols
    iintro H
    iexists _
    isplitr
    swap
    · iexact H
    ipureintro
    exact hf.put hoff hr hz (fun r c => oRows_read fs hfs r c)) $$ Hf
  by_cases h : k0_cond2 i = 1#1
  · rw [dif_pos h]
    unfold Counts
    icases Hc with ⟨%hn | ⟨%g, %hg, Hc⟩⟩
    · exact absurd h hn
    unfold Own1
    icases Hn with ⟨%fn, %hfn, Hn⟩
    iapply (wp_send (src := nBuf) (dst := nRow (k0_off876 t) (k0_off876_inb i t h)) (S := nBuf.view.set) (Sd := Finset.univ) (fs := fn) (fd := g)
      (Finset.Subset.refl _) (Finset.subset_univ _) (by decide)) $$ [Hn Hc Hs]
    · isplitl [Hn]
      · iassumption
      isplitl [Hc] <;> iassumption
    iintro Hf
    iapply (wp_land (hsrc := (Memref.isWhole_whole _).wordExact) (hdst := (View.wordExact_bits rfl).reshape _ _) (src := nBuf)
      (dst := nRow (k0_off876 t) (k0_off876_inb i t h)) (Finset.Subset.refl _) rfl) $$ [Hf HO]
    · isplitl [Hf] <;> iassumption
    iintro Hc Hn Hs HO
    iapply ret_intro
    iapply Hk $$ Hfly [Hn] Hs [Hc] HO
    · iexists N
      iexists fn
      isplitr
      · ipureintro; exact hfn
      iassumption
    iright
    iexists _
    isplitr
    swap
    · iexact Hc
    ipureintro
    exact hg.put (k0_off876_eq t) hN (fun r => hfn (ix1 r))
  · rw [dif_neg h]
    iapply ret_intro
    iapply Hk $$ Hfly [Hn] Hs [Hc] HO
    · iexists _; iassumption
    unfold Counts
    ileft
    ipureintro; exact h

/-! ## A batch -/

/-- What a tile shares and owns besides the result: the boundary array and its buffer, the token array and its two buffers, the tables. -/
def Rest (d : Dev nD) (i : grid0.Coords) (q q0 q1 : PosShare TreeShare) (fx : Buf (Elt F) (xArr.view.loc (thr d i))) (fb : Buf (Elt F) (bArr.view.loc (thr d i)))
    (O : CellTallies nD τ sig (HIx 1)) : sProp 𝕄 :=
  iprop(((bArr.view.loc (thr d i) ↦[Finset.univ]{q} fb) ∗ (∃ B, Own1 d i bBuf B) ∗ semVal (thr d i, .dma cc0_scratch8.sem) 0)
    ∗ XIdle d i q0 fx xBuf0 cc0_scratch9 ∗ XIdle d i q1 fx xBuf1 cc0_scratch10
    ∗ (∃ P, ⌜RunOK (xCols fx i 0) P 0⌝ ∗ Own2 d i pBuf P) ∗ (∃ G, Own1 (F := F) d i posBuf G) ∗ (∃ C, Own1 (F := F) d i cBuf C)
    ∗ (∃ N, Own1 (F := F) d i nBuf N) ∗ semVal (thr d i, .dma cc0_scoped0.sem) 0 ∗ Owes (F := F) d i O)

/-- The result after `n` batches: nothing on its way before the first, the last one's copy afterwards. -/
def OutSt (d : Dev nD) (i : grid0.Coords) (fx : S16x4096x1024.Idx → F .f32) (fb : S16x4096.Idx → F .f32) (n : ℕ) : sProp 𝕄 :=
  iprop((⌜n = 0⌝ ∗ OutIdle d i fx fb n) ∨ (⌜n ≠ 0⌝ ∗ OutFly d i fx fb n))

theorem own1_open {B : ℕ → F .f32} : Own1 d i bBuf B ⊢ iprop(∃ f : Buf (Elt F) (bBuf.view.loc (thr d i)), bBuf.view.loc (thr d i) ↦[bBuf.view.set]{fullShare} f) := by
  unfold Own1
  iintro ⟨%f, -, H⟩
  iexists f
  iassumption

theorem bBuf_landed {t : Fin k0_t1_loop.trips} {fb : Buf (Elt F) (bArr.view.loc (thr d i))} {f : Buf (Elt F) (bBuf.view.loc (thr d i))} :
    (bBuf.view.loc (thr d i) ↦[bBuf.view.set]{fullShare} (bBuf.view.write (Elt F) f ((bRow t).view.read (Elt F) fb) Finset.univ) : sProp 𝕄)
      ⊢ Own1 d i bBuf (bAt fb t.val) := by
  unfold Own1
  iintro H
  iexists _
  isplitr
  swap
  · iassumption
  ipureintro
  intro y
  rw [View.read_write_univ]
  exact bRow_read t fb y

theorem wp_batchTiles {q0 q1 : PosShare TreeShare} {fx : Buf (Elt F) (xArr.view.loc (thr d i))} {fb : S16x4096.Idx → F .f32} {t : Fin k0_t1_loop.trips}
    {O : CellTallies nD τ sig (HIx 1)} {G Cn : ℕ → BitVec 32} {hz : k0_chk305 (BitVec.ofNat 32 (cnt (bdOf fb t.val) 4096))} {Q : PUnit → sProp 𝕄}
    (hG : PosOK (bdOf fb t.val) 4096 G) (hN : CntOK (bdOf fb t.val) Cn 4096) :
    iprop(XFly d i q0 fx t 0 xBuf0 cc0_scratch9 ∗ XFly d i q1 fx t 1 xBuf1 cc0_scratch10
        ∗ (∃ P, ⌜RunOK (xCols fx i 0) P 0⌝ ∗ Own2 d i pBuf P) ∗ Own1 (F := F) d i posBuf G ∗ Own1 (F := F) d i cBuf Cn
        ∗ (∃ N, Own1 (F := F) d i nBuf N) ∗ semVal (thr d i, .dma cc0_scoped0.sem) 0 ∗ Counts d i fb t.val
        ∗ OutIdle d i fx fb t.val ∗ Owes (F := F) d i O)
      ⊢ iprop((XIdle d i q0 fx xBuf0 cc0_scratch9 -∗ XIdle d i q1 fx xBuf1 cc0_scratch10
            -∗ (∃ P, ⌜RunOK (xCols fx i 0) P 0⌝ ∗ Own2 d i pBuf P) -∗ Own1 (F := F) d i posBuf G -∗ Own1 (F := F) d i cBuf Cn
            -∗ (∃ N, Own1 (F := F) d i nBuf N) -∗ semVal (thr d i, .dma cc0_scoped0.sem) 0 -∗ Counts d i fb (t.val + 1)
            -∗ OutFly d i fx fb (t.val + 1) -∗ Owes (F := F) d i O -∗ Q ⟨⟩)
          -∗ WP d i (batchTiles i t (BitVec.ofNat 32 (cnt (bdOf fb t.val) 4096)) hz) Q) := by
  have e0 : lo (bdOf fb t.val) 0 = 0 := rfl
  have hz0 : (zeroV : V F) = left (total (xCols fx i t.val) 0) := zeroV_left
  have hz1 : (zeroV : V F) = right (total (xCols fx i t.val) 0) := zeroV_right
  have hz2 : ((zeroV, zeroV) : V F × V F) = (left (start (xCols fx i t.val) (bdOf fb t.val) (lo (bdOf fb t.val) 0)), right (start (xCols fx i t.val) (bdOf fb t.val) (lo (bdOf fb t.val) 0))) := by
    rw [e0]; exact Prod.ext zeroV_left zeroV_right
  unfold batchTiles OutIdle
  iintro ⟨H0, H1, ⟨%P, %hP, Hp⟩, Hg, Hc, ⟨%N, Hn⟩, Hs, Hcnt, ⟨Hout, ⟨%Ob, Ho⟩, Hv⟩, HO⟩ Hk
  have key : ∀ (slo : BitVec 32) (ca cb : V F) (acc : V F × V F) (κ : BitVec 32 → V F → V F → V F × V F → Prog (TileEff F i) PUnit),
      slo = sgm (lo (bdOf fb t.val) 0) → ca = left (total (xCols fx i t.val) 0) → cb = right (total (xCols fx i t.val) 0) →
      acc = (left (start (xCols fx i t.val) (bdOf fb t.val) (lo (bdOf fb t.val) 0)), right (start (xCols fx i t.val) (bdOf fb t.val) (lo (bdOf fb t.val) 0))) →
      iprop(XFly d i q0 fx t 0 xBuf0 cc0_scratch9 ∗ XFly d i q1 fx t 1 xBuf1 cc0_scratch10
        ∗ Work d i (xCols fx i t.val) (bdOf fb t.val) G Cn (lo (bdOf fb t.val) 0) ∗ Owes (F := F) d i O)
      ⊢ iprop((XFly d i q0 fx t 14 xBuf0 cc0_scratch9 -∗ XFly d i q1 fx t 15 xBuf1 cc0_scratch10
            -∗ Work d i (xCols fx i t.val) (bdOf fb t.val) G Cn (lo (bdOf fb t.val) 14) -∗ Owes (F := F) d i O
            -∗ WP d i (κ (sgm (lo (bdOf fb t.val) 14)) (left (total (xCols fx i t.val) 14)) (right (total (xCols fx i t.val) 14))
                (left (start (xCols fx i t.val) (bdOf fb t.val) (lo (bdOf fb t.val) 14)), right (start (xCols fx i t.val) (bdOf fb t.val) (lo (bdOf fb t.val) 14)))) Q)
          -∗ WP d i (tilePairs t 7 (le_refl _) slo ca cb acc κ) Q) := by
    rintro _ _ _ _ κ rfl rfl rfl rfl
    exact wp_tilePairs hG hN 7 (le_refl _) 0 rfl
  iapply (key _ _ _ _ _ rfl hz0 hz1 hz2) $$ [H0 H1 Hp Hg Hc Ho HO]
  · isplitl [H0]
    · iassumption
    isplitl [H1]
    · iassumption
    isplitl [Hp Hg Hc Ho]
    · unfold Work
      isplitl [Hp]
      · iexists P
        isplitr
        · ipureintro; exact hP.reset
        iassumption
      isplitl [Hg]
      · iassumption
      isplitl [Hc]
      · iassumption
      iexists Ob
      isplitr
      · ipureintro
        intro j h1 h2
        rw [e0] at h2
        omega
      iassumption
    iassumption
  iintro H0 H1 Hw HO
  iapply (wp_lastTiles hG hN) $$ [H0 H1 Hw HO]
  · isplitl [H0]
    · iassumption
    isplitl [H1]
    · iassumption
    isplitl [Hw] <;> iassumption
  iintro H0 H1 Hw HO
  unfold Work
  icases Hw with ⟨⟨%P', %hP', Hp⟩, Hg, Hc, %Ob', %hO', Ho⟩
  iapply (wp_finishRows (hz := hz) hG hO') $$ [Hg Hn Ho]
  · isplitl [Hg]
    · iassumption
    isplitl [Hn] <;> iassumption
  iintro %N' %O'' %hN' %hO'' Hg Hn Ho
  iapply (wp_sendRows hN' hO''.1 hO''.2) $$ [Hout Ho Hv Hn Hs Hcnt HO]
  · isplitl [Hout]
    · iassumption
    isplitl [Ho]
    · iassumption
    isplitl [Hv]
    · iassumption
    isplitl [Hn]
    · iassumption
    isplitl [Hs]
    · iassumption
    isplitl [Hcnt] <;> iassumption
  iintro Hf Hn Hs Hcnt HO
  iapply Hk $$ H0 H1 [Hp] Hg Hc Hn Hs Hcnt Hf HO
  iexists P'
  isplitr
  · ipureintro; exact hP'.reset
  iassumption

theorem wp_batch {q q0 q1 : PosShare TreeShare} {fx : Buf (Elt F) (xArr.view.loc (thr d i))} {fb : Buf (Elt F) (bArr.view.loc (thr d i))} {t : Fin k0_t1_loop.trips}
    {O : CellTallies nD τ sig (HIx 1)} :
    iprop(Rest d i q q0 q1 fx fb O ∗ Counts d i fb t.val ∗ OutSt d i fx fb t.val)
      ⊢ WP d i (batch i t) fun _ => iprop(Rest d i q q0 q1 fx fb O ∗ Counts d i fb (t.val + 1) ∗ OutSt d i fx fb (t.val + 1)) := by
  unfold Rest batch
  iintro ⟨⟨⟨Hb, ⟨%B, Hbb⟩, Hbv⟩, H0, H1, Hp, ⟨%G, Hg⟩, ⟨%C, Hc⟩, Hn, Hs, HO⟩, Hcnt, Hout⟩
  ihave Hbb := own1_open $$ Hbb
  icases Hbb with ⟨%f, Hbb⟩
  iapply (wp_send (src := bRow t) (dst := bBuf) (S := Finset.univ) (Sd := bBuf.view.set) (fs := fb) (fd := f)
    (Finset.subset_univ _) (Finset.Subset.refl _) (by decide)) $$ [Hb Hbb Hbv]
  · isplitl [Hb]
    · iassumption
    isplitl [Hbb] <;> iassumption
  iintro Hf
  iapply wp_startX $$ H0
  iintro H0
  iapply wp_startX $$ H1
  iintro H1
  iapply wp_fill $$ Hg
  iintro %G' %hG' Hg
  iapply (wp_land (hsrc := (View.wordExact_bits rfl).reshape _ _) (hdst := (Memref.isWhole_whole _).wordExact) (src := bRow t) (dst := bBuf)
    (Finset.subset_univ _) rfl) $$ [Hf HO]
  · isplitl [Hf] <;> iassumption
  iintro Hbb Hb Hbv HO
  ihave Hbb := bBuf_landed $$ Hbb
  iapply (wp_scan (hG'.posOK _)) $$ [Hbb Hg Hc]
  · isplitl [Hbb]
    · iassumption
    isplitl [Hg] <;> iassumption
  iintro %G'' %C'' %hGC Hbb Hg Hc
  iapply (wp_assume (defs := defs₀ (F := F)) Variants.none (thr d i) none Set.univ (clearChk (cnt_le _)))
  have fin : ∀ hz : k0_chk305 (BitVec.ofNat 32 (cnt (bdOf fb t.val) 4096)),
      iprop(XFly d i q0 fx t 0 xBuf0 cc0_scratch9 ∗ XFly d i q1 fx t 1 xBuf1 cc0_scratch10
        ∗ (∃ P, ⌜RunOK (xCols fx i 0) P 0⌝ ∗ Own2 d i pBuf P) ∗ Own1 (F := F) d i posBuf G'' ∗ Own1 (F := F) d i cBuf C''
        ∗ (∃ N, Own1 (F := F) d i nBuf N) ∗ semVal (thr d i, .dma cc0_scoped0.sem) 0 ∗ Counts d i fb t.val
        ∗ (bArr.view.loc (thr d i) ↦[Finset.univ]{q} fb) ∗ Own1 d i bBuf (bAt fb t.val) ∗ semVal (thr d i, .dma cc0_scratch8.sem) 0
        ∗ OutIdle d i fx fb t.val ∗ Owes (F := F) d i O)
      ⊢ WP d i (batchTiles i t (BitVec.ofNat 32 (cnt (bdOf fb t.val) 4096)) hz)
          fun _ => iprop(Rest d i q q0 q1 fx fb O ∗ Counts d i fb (t.val + 1) ∗ OutSt d i fx fb (t.val + 1)) := by
    intro hz
    iintro ⟨H0, H1, Hp, Hg, Hc, Hn, Hs, Hcnt, Hb, Hbb, Hbv, Hout, HO⟩
    iapply (wp_batchTiles hGC.1 hGC.2) $$ [H0 H1 Hp Hg Hc Hn Hs Hcnt Hout HO]
    · isplitl [H0]
      · iassumption
      isplitl [H1]
      · iassumption
      isplitl [Hp]
      · iassumption
      isplitl [Hg]
      · iassumption
      isplitl [Hc]
      · iassumption
      isplitl [Hn]
      · iassumption
      isplitl [Hs]
      · iassumption
      isplitl [Hcnt]
      · iassumption
      isplitl [Hout] <;> iassumption
    iintro H0 H1 Hp Hg Hc Hn Hs Hcnt Hout HO
    unfold Rest OutSt
    isplitr [Hcnt Hout]
    · isplitl [Hb Hbb Hbv]
      · isplitl [Hb]
        · iassumption
        isplitl [Hbb]
        · iexists _; iassumption
        iassumption
      isplitl [H0]
      · iassumption
      isplitl [H1]
      · iassumption
      isplitl [Hp]
      · iassumption
      isplitl [Hg]
      · iexists _; iassumption
      isplitl [Hc]
      · iexists _; iassumption
      isplitl [Hn]
      · iassumption
      isplitl [Hs] <;> iassumption
    isplitl [Hcnt]
    · iassumption
    iright
    isplitr
    · ipureintro; omega
    iassumption
  unfold OutSt
  by_cases h : k0_cond1 t = 1#1
  · rw [dif_pos h]
    have h' := (cond1_iff t).mp h
    icases Hout with ⟨⟨%h0, -⟩ | ⟨-, Hout⟩⟩
    · exact absurd h0 h'
    iapply wp_waitOut $$ [Hout HO]
    · isplitl [Hout] <;> iassumption
    iintro Hout HO
    iapply (fin _) $$ [H0 H1 Hp Hg Hc Hn Hs Hcnt Hb Hbb Hbv Hout HO]
    isplitl [H0]
    · iassumption
    isplitl [H1]
    · iassumption
    isplitl [Hp]
    · iassumption
    isplitl [Hg]
    · iassumption
    isplitl [Hc]
    · iassumption
    isplitl [Hn]
    · iassumption
    isplitl [Hs]
    · iassumption
    isplitl [Hcnt]
    · iassumption
    isplitl [Hb]
    · iassumption
    isplitl [Hbb]
    · iassumption
    isplitl [Hbv]
    · iassumption
    isplitl [Hout] <;> iassumption
  · rw [dif_neg h]
    have h' := fun hc => h ((cond1_iff t).mpr hc)
    icases Hout with ⟨⟨-, Hout⟩ | ⟨%h0, -⟩⟩
    swap
    · exact absurd h0 h'
    iapply (fin _) $$ [H0 H1 Hp Hg Hc Hn Hs Hcnt Hb Hbb Hbv Hout HO]
    isplitl [H0]
    · iassumption
    isplitl [H1]
    · iassumption
    isplitl [Hp]
    · iassumption
    isplitl [Hg]
    · iassumption
    isplitl [Hc]
    · iassumption
    isplitl [Hn]
    · iassumption
    isplitl [Hs]
    · iassumption
    isplitl [Hcnt]
    · iassumption
    isplitl [Hb]
    · iassumption
    isplitl [Hbb]
    · iassumption
    isplitl [Hbv]
    · iassumption
    isplitl [Hout] <;> iassumption

/-! ## The whole body -/

theorem wp_body {q q0 q1 : PosShare TreeShare} {fx : Buf (Elt F) (xArr.view.loc (thr d i))} {fb : Buf (Elt F) (bArr.view.loc (thr d i))}
    {O : CellTallies nD τ sig (HIx 1)} :
    iprop(((bArr.view.loc (thr d i) ↦[Finset.univ]{q} fb) ∗ (∃ B, Own1 d i bBuf B) ∗ semVal (thr d i, .dma cc0_scratch8.sem) 0)
    ∗ XIdle d i q0 fx xBuf0 cc0_scratch9 ∗ XIdle d i q1 fx xBuf1 cc0_scratch10
    ∗ (∃ P, Own2 d i pBuf P) ∗ (∃ G, Own1 (F := F) d i posBuf G) ∗ (∃ C, Own1 (F := F) d i cBuf C)
    ∗ (∃ N, Own1 (F := F) d i nBuf N) ∗ semVal (thr d i, .dma cc0_scoped0.sem) 0 ∗ Owes (F := F) d i O
    ∗ Counts d i fb 0 ∗ OutIdle d i fx fb 0)
      ⊢ WP d i (bodyWith i (batch i)) fun _ => iprop(Rest d i q q0 q1 fx fb O ∗ Counts d i fb 16 ∗ OutIdle d i fx fb 16) := by
  unfold bodyWith
  iintro ⟨Hb, H0, H1, ⟨%P, Hp⟩, Hg, Hc, Hn, Hs, HO, Hcnt, Hout⟩
  iapply (wp_putRow 0 0 rfl _ zeroV_left) $$ Hp
  iintro Hp
  iapply (wp_putRow 0 16 rfl _ zeroV_right) $$ Hp
  iintro Hp
  iapply (Scf.wp_for_bind _ _ _ _ _ _ _ _ _
    (fun n (_ : PUnit) => iprop(Rest d i q q0 q1 fx fb O ∗ Counts d i fb n ∗ OutSt d i fx fb n)) (fun k acc => wp_batch)) $$ [Hb H0 H1 Hp Hg Hc Hn Hs HO Hcnt Hout]
  · unfold Rest OutSt
    isplitr [Hcnt Hout]
    · isplitl [Hb]
      · iassumption
      isplitl [H0]
      · iassumption
      isplitl [H1]
      · iassumption
      isplitl [Hp]
      · iexists _
        isplitr
        swap
        · iassumption
        ipureintro
        intro r hr c hc
        obtain rfl : r = 0 := by omega
        exact (put2_row P 0 fun _ => z0).1 c hc
      isplitl [Hg]
      · iassumption
      isplitl [Hc]
      · iassumption
      isplitl [Hn]
      · iassumption
      isplitl [Hs] <;> iassumption
    isplitl [Hcnt]
    · iassumption
    ileft
    isplitr
    · ipureintro; rfl
    iassumption
  iintro %acc ⟨HR, Hcnt, Hout⟩
  rw [show Scf.trips k0_t1_loop.lb k0_t1_loop.ub k0_t1_loop.st = 16 from trips_t1]
  unfold Rest OutSt
  icases Hout with ⟨⟨%h0, -⟩ | ⟨-, Hout⟩⟩
  · exact absurd h0 (by decide)
  icases HR with ⟨Hb, H0, H1, Hp, Hg, Hc, Hn, Hs, HO⟩
  iapply wp_waitOut $$ [Hout HO]
  · isplitl [Hout] <;> iassumption
  iintro Hout HO
  iapply ret_intro
  isplitr [Hcnt Hout]
  · isplitl [Hb]
    · iassumption
    isplitl [H0]
    · iassumption
    isplitl [H1]
    · iassumption
    isplitl [Hp]
    · iassumption
    isplitl [Hg]
    · iassumption
    isplitl [Hc]
    · iassumption
    isplitl [Hn]
    · iassumption
    isplitl [Hs] <;> iassumption
  isplitl [Hcnt] <;> iassumption

end Cert.KernelIdeal.Mean
-- ==== Proof.Tile.lean ====
/-
  A tile as the launch sees it: its share of the arrays, its own buffers and semaphores, its body.
-/
module

public import proofs.«01_k».proof.Proof.Batch
public import Idealize.ShloMosaic.Lib.SparseCore.Ops
public import Idealize.ShloMosaic.Lib.StableHlo.Run
public import Idealize.ShloMosaic.Lib.Pipeline.Kit

@[expose] public section

noncomputable section

namespace Cert.KernelIdeal.Mean

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable {d : Dev nD} {i : grid0.Coords}

/-! ## The program as the launch takes it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := Variants.none.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The tile's own buffers and semaphores -/

section
variable (d : Dev nD) (i : grid0.Coords)

/-- A tile's eight buffers. -/
def bufs : Finset (Ref sig .scVector) := {cc0_scratch0, cc0_scratch1, cc0_scratch2, cc0_scratch3, cc0_scratch4, cc0_scratch5, cc0_scratch6, cc0_scratch7}

/-- A tile's five semaphores. -/
def sems : Finset (DmaSem sig) := {cc0_scratch8.sem, cc0_scratch9.sem, cc0_scratch10.sem, cc0_scratch11.sem, cc0_scoped0.sem}

/-- Its buffers among all that it owns. -/
def ownedBufs : Finset (DevRef τ sig) := bufs.map ⟨(Proc.scVector (cV i) (jV i)).devRef, Proc.devRef_injective _⟩

/-- Its semaphores among all that it owns. -/
def ownedSems : Finset (GSem nD τ sig) := sems.map ⟨fun s => (thr d i, .dma s), fun s s' h => by simpa using h⟩

theorem ownedBufs_subset : ownedBufs i ⊆ ownRefs (τ := τ) (.scVector (cV i) (jV i)) := by
  intro b hb
  obtain ⟨r, hr, rfl⟩ := Finset.mem_map.mp hb
  refine SparseCore.Cfg.mem_ownRefs_of_owner ?_
  revert r
  unfold bufs
  intro r hr _
  simp only [Finset.mem_insert, Finset.mem_singleton] at hr
  rcases hr with rfl | rfl | rfl | rfl | rfl | rfl | rfl | rfl <;> rfl

theorem ownedSems_subset : ownedSems d i ⊆ ownCells (thr d i) := by
  intro b hb
  obtain ⟨s, hs, rfl⟩ := Finset.mem_map.mp hb
  refine mem_ownCells.mpr ⟨rfl, ?_⟩
  show (SemLoc.dma s : SemLoc sig).isScoped .scVector = true
  have : ∀ s ∈ sems, (SemLoc.dma s : SemLoc sig).isScoped .scVector = true := by decide
  exact this s hs

theorem ownBufs_eq :
    (ownBufs (thr d i) : sProp 𝕄)
      = iprop((bigSep bufs fun r => iprop(∃ f, (thr d i).loc r ↦{fullShare} f))
          ∗ bigSep (ownRefs (τ := τ) (.scVector (cV i) (jV i)) \ ownedBufs i) fun b => iprop(∃ f, ((d, b) : Loc nD τ sig) ↦{fullShare} f)) := by
  unfold SparseCore.Cfg.ownBufs
  refine (SparseCore.bigSep_sdiff_split' (ownedBufs_subset i)).trans ?_
  congr 1

theorem ownSems_eq :
    (ownSems0 (thr d i) : sProp 𝕄)
      = iprop((bigSep sems fun s => semVal (thr d i, .dma s) 0) ∗ bigSep (ownCells (thr d i) \ ownedSems d i) fun g => semVal g 0) := by
  unfold SparseCore.Cfg.ownSems0
  refine (SparseCore.bigSep_sdiff_split' (ownedSems_subset d i)).trans ?_
  congr 1

theorem bufs_sep (Φ : Ref sig .scVector → sProp 𝕄) :
    bigSep bufs Φ = iprop(Φ cc0_scratch0 ∗ Φ cc0_scratch1 ∗ Φ cc0_scratch2 ∗ Φ cc0_scratch3 ∗ Φ cc0_scratch4 ∗ Φ cc0_scratch5 ∗ Φ cc0_scratch6 ∗ Φ cc0_scratch7) := by
  unfold bufs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem sems_sep (Φ : DmaSem sig → sProp 𝕄) :
    bigSep sems Φ = iprop(Φ cc0_scratch8.sem ∗ Φ cc0_scratch9.sem ∗ Φ cc0_scratch10.sem ∗ Φ cc0_scratch11.sem ∗ Φ cc0_scoped0.sem) := by
  unfold sems
  rw [SparseCore.bigSep_insert' (by decide), SparseCore.bigSep_insert' (by decide), SparseCore.bigSep_insert' (by decide), SparseCore.bigSep_insert' (by decide),
    bigSep_singleton]

end

/-! ## Contents of a whole buffer -/

theorem own1_of {dd : Fin 1 → ℕ} {e : EltTy} (m : Memref sig .scVector .vmem ⟨1, dd⟩ e) (hm : m.view.set = Finset.univ) (v : Elt F e) (f : Buf (Elt F) (m.view.loc (thr d i))) :
    (m.view.loc (thr d i) ↦{fullShare} f : sProp 𝕄) ⊢ iprop(∃ G, Own1 (F := F) d i m G) := by
  have hinj : Function.Injective fun y : (⟨1, dd⟩ : Shape).Idx => (y 0).val := fun y y' h => funext fun a => by
    fin_cases a; exact Fin.ext h
  iintro H
  iexists Function.extend (fun y : (⟨1, dd⟩ : Shape).Idx => (y 0).val) (m.view.read (Elt F) f) (fun _ => v)
  unfold Own1
  iexists f
  isplitr
  · ipureintro
    intro y
    exact (hinj.extend_apply _ _ y).symm
  rw [hm]
  iassumption

theorem own2_of {dd : Fin 2 → ℕ} (m : Memref sig .scVector .vmem ⟨2, dd⟩ .f32) (hm : m.view.set = Finset.univ) (f : Buf (Elt F) (m.view.loc (thr d i))) :
    (m.view.loc (thr d i) ↦{fullShare} f : sProp 𝕄) ⊢ iprop(∃ G, Own2 (F := F) d i m G) := by
  have hinj : Function.Injective fun y : (⟨2, dd⟩ : Shape).Idx => ((y 0).val, (y 1).val) := fun y y' h => funext fun a => by
    fin_cases a
    · exact Fin.ext (congrArg Prod.fst h)
    · exact Fin.ext (congrArg Prod.snd h)
  iintro H
  iexists fun r c => Function.extend (fun y : (⟨2, dd⟩ : Shape).Idx => ((y 0).val, (y 1).val)) (m.view.read (Elt F) f) (fun _ => z0) (r, c)
  unfold Own2
  iexists f
  isplitr
  · ipureintro
    intro y
    exact (hinj.extend_apply _ _ y).symm
  rw [hm]
  iassumption

theorem of_own1 {dd : Fin 1 → ℕ} {e : EltTy} (m : Memref sig .scVector .vmem ⟨1, dd⟩ e) (hm : m.view.set = Finset.univ) :
    iprop(∃ G, Own1 (F := F) d i m G) ⊢ (iprop(∃ f, m.view.loc (thr d i) ↦{fullShare} f) : sProp 𝕄) := by
  unfold Own1
  rw [hm]
  iintro ⟨%G, %f, -, H⟩
  iexists f
  iassumption

theorem of_own2 {dd : Fin 2 → ℕ} (m : Memref sig .scVector .vmem ⟨2, dd⟩ .f32) (hm : m.view.set = Finset.univ) :
    iprop(∃ G, Own2 (F := F) d i m G) ⊢ (iprop(∃ f, m.view.loc (thr d i) ↦{fullShare} f) : sProp 𝕄) := by
  unfold Own2
  rw [hm]
  iintro ⟨%G, %f, -, H⟩
  iexists f
  iassumption

/-! ## The task of a tile -/

/-- The tile's part of the read share of an array that all tiles read: a part of its SparseCore's part. -/
def part (i : grid0.Coords) : PosShare TreeShare :=
  Transfers.dealOf (Transfers.dealOf fullShare (Finset.univ : Finset (Fin 2)) (i 0)) (Finset.univ : Finset (Fin 16)) (i 1)

/-- What a tile holds of the four arrays when `n` batches are done: shares of the inputs, its columns of the means, and (one tile) the counts. -/
def Piece (i : grid0.Coords) (n : ℕ) (d : Dev nD) (fx : Buf (Elt F) (xArr.view.loc (thr d i))) (fb : Buf (Elt F) (bArr.view.loc (thr d i))) : sProp 𝕄 :=
  iprop((xArr.view.loc (thr d i) ↦[Finset.univ]{part i} fx) ∗ (bArr.view.loc (thr d i) ↦[Finset.univ]{part i} fb) ∗ OutCols d i fx fb n ∗ Counts d i fb n)

theorem share_split {ℓ : Loc nD τ sig} {q : PosShare TreeShare} (f : Buf (Elt F) ℓ) :
    (ℓ ↦[Finset.univ]{q} f : sProp 𝕄) ⊢ iprop((ℓ ↦[Finset.univ]{q.left} f) ∗ (ℓ ↦[Finset.univ]{q.right} f)) :=
  (pointsTo_share (PosShare.mem_left_op_right q)).1

theorem share_join {ℓ : Loc nD τ sig} {q : PosShare TreeShare} (f : Buf (Elt F) ℓ) :
    iprop((ℓ ↦[Finset.univ]{q.left} f) ∗ (ℓ ↦[Finset.univ]{q.right} f)) ⊢ (ℓ ↦[Finset.univ]{q} f : sProp 𝕄) :=
  (pointsTo_share (PosShare.mem_left_op_right q)).2

/-- The whole task: from its part of the arrays with nothing written to its part with all sixteen batches written. -/
theorem tile_body {fx : Buf (Elt F) (xArr.view.loc (thr d i))} {fb : Buf (Elt F) (bArr.view.loc (thr d i))}
    (hF : (K (F := F)).Facts) (O : CellTallies nD τ sig (HIx 1)) (W : Waits sig (HIx 1)) (hO : ∀ g, O g none = 0) :
    iprop(levAts (K (F := F)).L (K (F := F)).lev ∗ emp ∗ Piece i 0 d fx fb ∗ scopedBufs (thr d i) ∗ scopedSems0 (thr d i) ∗ owes (thr d i) O W)
      ⊢ WP d i (bodyWith i (batch i)) fun _ => iprop(Piece i 16 d fx fb ∗ scopedBufs (thr d i) ∗ scopedSems0 (thr d i)
          ∗ ∃ W', ⌜∀ p ∈ W', p ∈ W ∨ p.2 = none ∨ p.2 = some (0 : Fin 1)⌝ ∗ owes (thr d i) O W') := by
  rw [(K (F := F)).scopedBufs_V hF d (cV i) (jV i), SparseCore.Cfg.scopedSems0_V (Val := Elt F) d (cV i) (jV i), ownBufs_eq, ownSems_eq, bufs_sep, sems_sep]
  unfold Piece
  iintro ⟨#Hlv, -, ⟨Hx, Hb, Hout, Hcnt⟩, ⟨⟨⟨%f0, B0⟩, ⟨%f1, B1⟩, ⟨%f2, B2⟩, ⟨%f3, B3⟩, ⟨%f4, B4⟩, ⟨%f5, B5⟩, ⟨%f6, B6⟩, ⟨%f7, B7⟩⟩, Hbufs⟩,
    ⟨⟨S8, S9, S10, S11, S12⟩, Hsems⟩, HO⟩
  ihave Hmw := (show levAts (K (F := F)).L (K (F := F)).lev ⊢ Transfers.MayWaits (thr d i) (none : HIx 1) O from
    (K (F := F)).mayWaits_none (thr := thr d i) hO) $$ Hlv
  ihave Hx := share_split fx $$ Hx
  icases Hx with ⟨Hx0, Hx1⟩
  ihave B0 := own1_of bBuf (View.set_whole _) (z0 : F .f32) f0 $$ B0
  ihave B1 := own2_of xBuf0 (View.set_whole _) f1 $$ B1
  ihave B2 := own2_of xBuf1 (View.set_whole _) f2 $$ B2
  ihave B3 := own2_of oBuf (View.set_whole _) f3 $$ B3
  ihave B4 := own2_of pBuf (View.set_whole _) f4 $$ B4
  ihave B5 := own1_of posBuf (View.set_whole _) (0#32) f5 $$ B5
  ihave B6 := own1_of cBuf (View.set_whole _) (0#32) f6 $$ B6
  ihave B7 := own1_of nBuf (View.set_whole _) (0#32) f7 $$ B7
  iapply (wp_wand_r frame _ _)
  isplitl [Hb Hx0 Hx1 Hout Hcnt B0 B1 B2 B3 B4 B5 B6 B7 S8 S9 S10 S11 S12 HO Hmw]
  · iapply (wp_body (q := part i) (q0 := (part i).left) (q1 := (part i).right) (fx := fx) (fb := fb) (O := O))
    unfold XIdle OutIdle Owes
    isplitl [Hb B0 S8]
    · isplitl [Hb]
      · iassumption
      isplitl [B0] <;> iassumption
    isplitl [Hx0 B1 S9]
    · isplitl [Hx0]
      · iassumption
      isplitl [B1] <;> iassumption
    isplitl [Hx1 B2 S10]
    · isplitl [Hx1]
      · iassumption
      isplitl [B2] <;> iassumption
    isplitl [B4]
    · iassumption
    isplitl [B5]
    · iassumption
    isplitl [B6]
    · iassumption
    isplitl [B7]
    · iassumption
    isplitl [S12]
    · iassumption
    isplitl [HO Hmw]
    · isplitl [Hmw]
      · iassumption
      iexists W
      iassumption
    isplitl [Hcnt]
    · iassumption
    isplitl [Hout]
    · iassumption
    isplitl [B3] <;> iassumption
  unfold Rest XIdle OutIdle Owes
  iintro %_ ⟨⟨⟨Hb, B0, S8⟩, ⟨Hx0, B1, S9⟩, ⟨Hx1, B2, S10⟩, ⟨%P, -, B4⟩, B5, B6, B7, S12, -, ⟨%W', HO⟩⟩, Hcnt, Hout, B3, S11⟩
  isplitl [Hb Hx0 Hx1 Hcnt Hout]
  · isplitl [Hx0 Hx1]
    · iapply (share_join fx)
      isplitl [Hx0] <;> iassumption
    isplitl [Hb]
    · iassumption
    isplitl [Hout] <;> iassumption
  isplitl [B0 B1 B2 B3 B4 B5 B6 B7 Hbufs]
  · isplitr [Hbufs]
    · isplitl [B0]
      · iapply (of_own1 bBuf (View.set_whole _)) $$ B0
      isplitl [B1]
      · iapply (of_own2 xBuf0 (View.set_whole _)) $$ B1
      isplitl [B2]
      · iapply (of_own2 xBuf1 (View.set_whole _)) $$ B2
      isplitl [B3]
      · iapply (of_own2 oBuf (View.set_whole _)) $$ B3
      isplitl [B4]
      · iapply (of_own2 pBuf (View.set_whole _))
        iexists P
        iassumption
      isplitl [B5]
      · iapply (of_own1 posBuf (View.set_whole _)) $$ B5
      isplitl [B6]
      · iapply (of_own1 cBuf (View.set_whole _)) $$ B6
      iapply (of_own1 nBuf (View.set_whole _)) $$ B7
    iassumption
  isplitr [HO]
  · isplitr [Hsems]
    · isplitl [S8]
      · iassumption
      isplitl [S9]
      · iassumption
      isplitl [S10]
      · iassumption
      isplitl [S11] <;> iassumption
    iassumption
  iexists W'
  isplitr
  · ipureintro
    intro p _
    rcases p.2 with _ | a
    · exact .inr (.inl rfl)
    · exact .inr (.inr (congrArg some (Subsingleton.elim a 0)))
  iassumption

end Cert.KernelIdeal.Mean
-- ==== Proof.Split.lean ====
/-
  The four arrays of a device, dealt to its thirty-two tiles and put together again.
-/
module

public import proofs.«01_k».proof.Proof.Tile

@[expose] public section

noncomputable section

namespace Cert.KernelIdeal.Mean

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable {d : Dev nD} {i : grid0.Coords}

abbrev xLoc (d : Dev nD) : Loc nD τ sig := (SparseCore.T d).loc main_arg0
abbrev bLoc (d : Dev nD) : Loc nD τ sig := (SparseCore.T d).loc main_arg1
abbrev oLoc (d : Dev nD) : Loc nD τ sig := (SparseCore.T d).loc main_v0_0
abbrev nLoc (d : Dev nD) : Loc nD τ sig := (SparseCore.T d).loc main_v0_1

/-- The grid point of tile `s` of SparseCore `c`. -/
def crd (c : Fin (grid0.bound 0)) (s : Fin (grid0.bound 1)) : grid0.Coords :=
  fun | 0 => c | 1 => s | ⟨_ + 2, h⟩ => absurd h (Nat.not_lt.2 (Nat.le_add_left _ _))

/-- The grid point by the pair of its numbers. -/
abbrev crd' (p : Fin 2 × Fin 16) : grid0.Coords := crd p.1 p.2

/-- A conjunct for every tile. -/
abbrev tiles (Φ : Fin 2 × Fin 16 → sProp 𝕄) : sProp 𝕄 := bigSep Finset.univ Φ

theorem crd'_eta (i : grid0.Coords) : ∃ p, crd' p = i := ⟨(i 0, i 1), funext fun a => by fin_cases a <;> rfl⟩

/-! ## Read shares -/

theorem deal_share {ℓ : Loc nD τ sig} (f : Buf (Elt F) ℓ) :
    (ℓ ↦[Finset.univ]{fullShare} f : sProp 𝕄) = tiles fun p => ℓ ↦[Finset.univ]{part (crd' p)} f := by
  unfold tiles
  rw [bigSep_univ_prod, Transfers.pointsTo_deal (Finset.univ : Finset (Fin 2)) ⟨0, Finset.mem_univ _⟩]
  exact bigSep_congr fun c _ => Transfers.pointsTo_deal (Finset.univ : Finset (Fin 16)) ⟨0, Finset.mem_univ _⟩ _

/-! ## Columns of the means -/

theorem mem_oCols {y : S16x2048x1024.Idx} : y ∈ oCols i ↔ (y 2).val / 32 = 2 * (i 1).val + (i 0).val := by
  unfold oCols
  rw [Finset.mem_filter]
  exact ⟨fun h => h.2, fun h => ⟨Finset.mem_univ _, h⟩⟩

theorem oCols_disjoint : ∀ p ∈ (Finset.univ : Finset (Fin 2 × Fin 16)), ∀ p' ∈ (Finset.univ : Finset (Fin 2 × Fin 16)), p ≠ p' →
    Disjoint (oCols (crd' p)) (oCols (crd' p')) := by
  intro p _ p' _ h
  refine Finset.disjoint_left.mpr fun y hy hy' => h ?_
  rw [mem_oCols] at hy hy'
  have e := hy.symm.trans hy'
  change 2 * p.2.val + p.1.val = 2 * p'.2.val + p'.1.val at e
  have := p.1.isLt
  have := p'.1.isLt
  exact Prod.ext (Fin.ext (by omega)) (Fin.ext (by omega))

theorem oCols_cover : (Finset.univ : Finset (Fin 2 × Fin 16)).biUnion (fun p => oCols (crd' p)) = Finset.univ := by
  refine Finset.eq_univ_iff_forall.mpr fun y => Finset.mem_biUnion.mpr ?_
  have hy : (y 2).val < 1024 := (y 2).isLt
  refine ⟨(⟨(y 2).val / 32 % 2, by omega⟩, ⟨(y 2).val / 64, by omega⟩), Finset.mem_univ _, mem_oCols.mpr ?_⟩
  show (y 2).val / 32 = 2 * ((y 2).val / 64) + (y 2).val / 32 % 2
  omega

theorem OutOK.congr {fx : S16x4096x1024.Idx → F .f32} {fb : S16x4096.Idx → F .f32} {n : ℕ} {f g : S16x2048x1024.Idx → F .f32}
    (h : ∀ y ∈ oCols i, g y = f y) (hf : OutOK fx fb i n f) : OutOK fx fb i n g := by
  intro t ht r hr c hc
  have e : oAt g t r (col0 i + c) = oAt f t r (col0 i + c) := h _ (mem_oCols.mpr (by
    show (col0 i + c) % 1024 / 32 = _
    have := col0_lt i
    unfold col0 at *
    omega))
  rw [e]
  exact hf t ht r hr c hc

theorem deal_out (f : Buf (Elt F) (oLoc d)) :
    (oLoc d ↦[Finset.univ]{fullShare} f : sProp 𝕄) = tiles fun p => oLoc d ↦[oCols (crd' p)]{fullShare} f := by
  unfold tiles
  rw [← pointsTo_biUnion (ℓ := oLoc d) Finset.univ (fun p => oCols (crd' p)) oCols_disjoint]
  exact congrArg (fun S => (oLoc d ↦[S]{fullShare} f : sProp 𝕄)) oCols_cover.symm

variable {fx : S16x4096x1024.Idx → F .f32} {fb : S16x4096.Idx → F .f32}

theorem start_out (f : Buf (Elt F) (oLoc d)) :
    (oLoc d ↦[oCols i]{fullShare} f : sProp 𝕄) ⊢ OutCols d i fx fb 0 := by
  unfold OutCols
  iintro H
  iexists f
  isplitr
  · ipureintro
    intro t ht
    omega
  iassumption

theorem start_outs (f : Buf (Elt F) (oLoc d)) :
    (tiles fun p => oLoc d ↦[oCols (crd' p)]{fullShare} f : sProp 𝕄) ⊢ tiles fun p => OutCols d (crd' p) fx fb 0 :=
  bigSep_mono fun p _ => start_out f

theorem join_out {n : ℕ} :
    (tiles fun p => OutCols d (crd' p) fx fb n) ⊢ iprop(∃ f : Buf (Elt F) (oLoc d), ⌜∀ i, OutOK fx fb i n f⌝ ∗ (oLoc d ↦[Finset.univ]{fullShare} f)) := by
  refine (bigSep_exists_pi Finset.univ (fun (p : Fin 2 × Fin 16) (f : Buf (Elt F) (oLoc d)) =>
    iprop(⌜OutOK fx fb (crd' p) n f⌝ ∗ (oLoc d ↦[oCols (crd' p)]{fullShare} f)))).trans ?_
  iintro ⟨%fs, H⟩
  ihave H := (bigSep_pure_sep Finset.univ (fun p => OutOK fx fb (crd' p) n (fs p)) fun p => (oLoc d ↦[oCols (crd' p)]{fullShare} (fs p) : sProp 𝕄)) $$ H
  icases H with ⟨%hfs, H⟩
  have : Nonempty (Buf (Elt F) (oLoc d)) := ⟨fs (0, 0)⟩
  ihave H := (pointsTo_biUnion_join (ℓ := oLoc d) (q := fullShare) (Val := Elt F) Finset.univ (fun p => oCols (crd' p)) fs (fs (0, 0)) oCols_disjoint) $$ H
  icases H with ⟨%g, %hg, Hg⟩
  iexists g
  isplitr
  · ipureintro
    intro i
    obtain ⟨p, rfl⟩ := crd'_eta i
    exact (hfs p (Finset.mem_univ p)).congr (hg p (Finset.mem_univ p))
  iapply (Entails.of_eq (congrArg (fun S => (oLoc d ↦[S]{fullShare} g : sProp 𝕄)) oCols_cover)) $$ Hg

/-! ## The counts, all to one tile -/

theorem cond2_iff (p : Fin 2 × Fin 16) : k0_cond2 (crd' p) = 1#1 ↔ p = (0, 0) := by
  revert p
  decide

theorem counts_none {n : ℕ} (h : ¬ k0_cond2 i = 1#1) : (iprop(emp) : sProp 𝕄) ⊢ Counts d i fb n := by
  unfold Counts
  iintro -
  ileft
  ipureintro
  exact h

theorem counts_rest (n : ℕ) : (iprop(emp) : sProp 𝕄) ⊢ bigSep (Finset.univ.erase (0, 0)) fun p => Counts d (crd' p) fb n := by
  exact (Entails.of_eq (bigSep_emp_const _).symm).trans (bigSep_mono fun p hp => counts_none fun h => (Finset.mem_erase.mp hp).1 ((cond2_iff p).mp h))

theorem deal_counts (f : Buf (Elt F) (nLoc d)) :
    (nLoc d ↦[Finset.univ]{fullShare} f : sProp 𝕄) ⊢ tiles fun p => Counts d (crd' p) fb 0 := by
  unfold tiles
  rw [SparseCore.bigSep_erase' (Finset.mem_univ (0, 0))]
  iintro H
  isplitl [H]
  · unfold Counts
    iright
    iexists f
    isplitr
    · ipureintro
      intro t ht
      omega
    iassumption
  iapply (counts_rest 0)
  iempintro

theorem join_counts {n : ℕ} :
    (tiles fun p => Counts d (crd' p) fb n) ⊢ iprop(∃ f : Buf (Elt F) (nLoc d), ⌜CountsOK fb n f⌝ ∗ (nLoc d ↦[Finset.univ]{fullShare} f)) := by
  unfold tiles
  rw [SparseCore.bigSep_erase' (Finset.mem_univ (0, 0))]
  unfold Counts
  iintro ⟨⟨%h | H⟩, -⟩
  · exact absurd ((cond2_iff (0, 0)).mpr rfl) h
  iassumption

/-! ## All four -/

theorem deal_all (fo : Buf (Elt F) (oLoc d)) (fn : Buf (Elt F) (nLoc d)) :
    iprop((xLoc d ↦[Finset.univ]{fullShare} fx) ∗ (bLoc d ↦[Finset.univ]{fullShare} fb) ∗ (oLoc d ↦[Finset.univ]{fullShare} fo) ∗ (nLoc d ↦[Finset.univ]{fullShare} fn))
      ⊢ (tiles fun p => Piece (crd' p) 0 d fx fb : sProp 𝕄) := by
  unfold Piece tiles
  rw [bigSep_sep', bigSep_sep', bigSep_sep']
  iintro ⟨Hx, Hb, Ho, Hn⟩
  isplitl [Hx]
  · iapply (Entails.of_eq (deal_share (ℓ := xLoc d) fx)) $$ Hx
  isplitl [Hb]
  · iapply (Entails.of_eq (deal_share (ℓ := bLoc d) fb)) $$ Hb
  isplitl [Ho]
  · ihave Ho := (Entails.of_eq (deal_out fo)) $$ Ho
    iapply (start_outs fo) $$ Ho
  iapply (deal_counts fn) $$ Hn

theorem join_all :
    (tiles fun p => Piece (crd' p) 16 d fx fb : sProp 𝕄)
      ⊢ iprop((xLoc d ↦[Finset.univ]{fullShare} fx) ∗ (bLoc d ↦[Finset.univ]{fullShare} fb)
        ∗ (∃ f : Buf (Elt F) (oLoc d), ⌜∀ i, OutOK fx fb i 16 f⌝ ∗ (oLoc d ↦[Finset.univ]{fullShare} f))
        ∗ (∃ f : Buf (Elt F) (nLoc d), ⌜CountsOK fb 16 f⌝ ∗ (nLoc d ↦[Finset.univ]{fullShare} f))) := by
  unfold Piece tiles
  rw [bigSep_sep', bigSep_sep', bigSep_sep']
  iintro ⟨Hx, Hb, Ho, Hn⟩
  isplitl [Hx]
  · iapply (Entails.of_eq (deal_share (ℓ := xLoc d) fx).symm) $$ Hx
  isplitl [Hb]
  · iapply (Entails.of_eq (deal_share (ℓ := bLoc d) fb).symm) $$ Hb
  isplitl [Ho]
  · iapply join_out $$ Ho
  iapply join_counts $$ Hn

end Cert.KernelIdeal.Mean
-- ==== Proof.Launch.lean ====
/-
  The whole program: the launch of the tiles, and what the memory holds when all is done.
-/
module

public import proofs.«01_k».proof.Proof.Split
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.KernelIdeal.Mean

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

abbrev EH : Emb UH 𝕄 := embL

variable (m : (ℓ : Loc nD τ sig) → Buf (Elt F) ℓ) (ρ : Dev nD → PrngReg)

/-! ## What the handshakes carry -/

/-- The part of a tile when `n` batches are done, from the launch memory `m`. -/
abbrev Part (n : ℕ) (d : Dev nD) (c : Fin 2) (s : Fin 16) : sProp 𝕄 := Piece (crd c s) n d (m (xLoc d)) (m (bLoc d))

/-- A SparseCore's tiles' parts. -/
abbrev Parts (n : ℕ) (d : Dev nD) (c : Fin 2) : sProp 𝕄 := bigSep (Finset.univ : Finset (Fin 16)) fun s => Part m n d c s

def P : (K (F := F)).Pay (nD := nD) (Val := Elt F) (Name := ℕ) (U := UU) where
  st := fun q d c => match q with | 0 => Parts m 0 d c
  dn := fun q d c => match q with | 0 => Parts m 16 d c
  go := fun q d c s => match q with | 0 => Part m 0 d c s
  td := fun q d c s => match q with | 0 => Part m 16 d c s
  x := fun _ _ => iprop(emp)

instance part_storable (n : ℕ) (d : Dev nD) (c : Fin 2) (s : Fin 16) : BI.Storable (upEmb : UEmb _ 𝕄) (Part m n d c s) := by
  unfold Part Piece OutCols Counts
  infer_instance

instance P_storable : (P (F := F) m).IsStorable where
  st q d c := match q with | 0 => (inferInstance : BI.Storable (upEmb : UEmb _ 𝕄) (Parts m 0 d c))
  dn q d c := match q with | 0 => (inferInstance : BI.Storable (upEmb : UEmb _ 𝕄) (Parts m 16 d c))
  go q d c s := match q with | 0 => part_storable m 0 d c s
  td q d c s := match q with | 0 => part_storable m 16 d c s

/-! ## The tiles -/

theorem defs₀_vector (c : Fin τ.nSC) (s : Fin τ.nSub) :
    defs₀ (F := F) (.scVector c s) 0 () = SparseCore.onTile hcore0 hsub0 (fun c s => cc0__body (crd c s)
      xArr (Memref.isWhole_whole _) bArr (Memref.isWhole_whole _) oArr (Memref.isWhole_whole _) nArr (Memref.isWhole_whole _)
      bBuf (Memref.isWhole_whole _) xBuf0 (Memref.isWhole_whole _) xBuf1 (Memref.isWhole_whole _) oBuf (Memref.isWhole_whole _)
      pBuf (Memref.isWhole_whole _) posBuf (Memref.isWhole_whole _) cBuf (Memref.isWhole_whole _) nBuf (Memref.isWhole_whole _)
      cc0_scratch8 cc0_scratch9 cc0_scratch10 cc0_scratch11 cc0_scoped0) ⟨⟩ c s := rfl

set_option maxRecDepth 16384 in
theorem tileObl : (K (F := F)).TileObl (D (F := F)) 𝒱 (P m) v₀ 0 := by
  intro d c s O W hO _ _
  simp only [show (P m).ox = fun _ _ => 0 from rfl, add_zero]
  have hci : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) Variants.none _ Set.univ none _ _)
  rw [defs₀_vector]
  simp only [SparseCore.onTile, hci, and_self, ↓reduceDIte]
  rw [body_eq]
  exact tile_body (i := crd ⟨_, hci.1⟩ ⟨_, hci.2⟩) facts O W hO

theorem vecSplit : (K (F := F)).VecSplit' (P m) 0 := by
  intro d c
  show Parts m 0 d c ⊢ |={Set.univ}=> iprop(Parts m 0 d c ∗ (Parts m 16 d c -∗ Parts m 16 d c))
  iintro H
  imodintro
  isplitl [H]
  · iassumption
  iintro H
  iassumption

/-! ## The launch -/

def u₀ : UU := (initOf (K (F := F)).hsCells (K (F := F)).hsToks, 1)

theorem no_parts {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]
  · iexact HH
  isplitr
  · rw [no_parts]
    iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), no_parts]
  iempintro

/-! ## The host's side -/

theorem unscopedBufs_eq (d : Dev nD) (W : (b : Ref sig .tc) → Buf (Elt F) ((d.tc : Thread nD τ).loc b)) :
    (unscopedBufs d W : sProp 𝕄) = iprop((xLoc d ↦{fullShare} W main_arg0) ∗ (bLoc d ↦{fullShare} W main_arg1)
      ∗ (oLoc d ↦{fullShare} W main_v0_0) ∗ nLoc d ↦{fullShare} W main_v0_1) := by
  unfold unscopedBufs
  rw [show (Finset.univ.filter fun b : Ref sig .tc => ¬ b.isScoped) = {main_arg0, main_arg1, main_v0_0, main_v0_1} by decide,
    SparseCore.bigSep_insert' (by decide), SparseCore.bigSep_insert' (by decide), SparseCore.bigSep_insert' (by decide), bigSep_singleton]

theorem st_eq (d : Dev nD) : (bigSep Finset.univ fun c : Fin ((K (F := F)).nCore 0) => (P m).st 0 d c) = (tiles fun p => Part m 0 d p.1 p.2 : sProp 𝕄) :=
  (bigSep_univ_prod fun p : Fin 2 × Fin 16 => Part m 0 d p.1 p.2).symm

theorem dn_eq (d : Dev nD) : (bigSep Finset.univ fun c : Fin ((K (F := F)).nCore 0) => (P m).dn 0 d c) = (tiles fun p => Part m 16 d p.1 p.2 : sProp 𝕄) :=
  (bigSep_univ_prod fun p : Fin 2 × Fin 16 => Part m 16 d p.1 p.2).symm

/-- What the host has in the end. -/
abbrev FIN (d : Dev nD) : sProp 𝕄 :=
  iprop((xLoc d ↦[Finset.univ]{fullShare} (m (xLoc d))) ∗ (bLoc d ↦[Finset.univ]{fullShare} (m (bLoc d)))
    ∗ (∃ f : Buf (Elt F) (oLoc d), ⌜∀ i, OutOK (m (xLoc d)) (m (bLoc d)) i 16 f⌝ ∗ (oLoc d ↦[Finset.univ]{fullShare} f))
    ∗ (∃ f : Buf (Elt F) (nLoc d), ⌜CountsOK (m (bLoc d)) 16 f⌝ ∗ (nLoc d ↦[Finset.univ]{fullShare} f)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, H, Hts, -⟩, -⟩
  iapply ((K (F := F)).wp_run (D (F := F)) 𝒱 (EH := EH) (P := P m) κ d 0) $$ [Hst H Hb Hts]
  isplitr
  · iexact Hctx
  isplitl [Hst]
  · iexact Hst
  isplitl [H]
  · rw [st_eq]
    iapply (deal_all (fx := m (xLoc d)) (fb := m (bLoc d)) (m (oLoc d)) (m (nLoc d))) $$ H
  iintro ⟨Hst, Hdn⟩
  ihave Hdn := (Entails.of_eq (dn_eq m d)) $$ Hdn
  ihave Hdn := (join_all (fx := m (xLoc d)) (fb := m (bLoc d))) $$ Hdn
  imodintro
  isplitl [Hst]
  · iexact Hst
  isplitl [Hdn]
  · iexact Hdn
  isplitl [Hb] <;> iassumption

/-- What the memory holds in the end of a device's arrays. -/
def Ends' (d : Dev nD) (s' : MemSt nD τ sig (Elt F)) : Prop :=
  s'.mem (xLoc d) = m (xLoc d) ∧ s'.mem (bLoc d) = m (bLoc d)
    ∧ (∀ i, OutOK (m (xLoc d)) (m (bLoc d)) i 16 (s'.mem (oLoc d))) ∧ CountsOK (m (bLoc d)) 16 (s'.mem (nLoc d))

theorem read_all {ℓ : Loc nD τ sig} {f : Buf (Elt F) ℓ} (s' : Phys nD τ sig (Elt F)) :
    iprop(SI s' ∗ ℓ ↦[Finset.univ]{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro
    exact funext fun y => h y (Finset.mem_univ y)
  iassumption

set_option maxRecDepth 16384 in
theorem hfin (d : Dev nD) (s' : Phys nD τ sig (Elt F)) : iprop(FIN m d ∗ SI s') ⊢ (⌜Ends' m d s'.mem⌝ : sProp 𝕄) := by
  iintro ⟨⟨Hx, Hb, ⟨%fo, %ho, Ho⟩, ⟨%fn, %hn, Hn⟩⟩, HSI⟩
  ihave H := (read_all (ℓ := xLoc d) (f := m (xLoc d)) s') $$ [HSI Hx]
  · isplitl [HSI] <;> iassumption
  icases H with ⟨%h1, HSI⟩
  ihave H := (read_all (ℓ := bLoc d) (f := m (bLoc d)) s') $$ [HSI Hb]
  · isplitl [HSI] <;> iassumption
  icases H with ⟨%h2, HSI⟩
  ihave H := (read_all (ℓ := oLoc d) (f := fo) s') $$ [HSI Ho]
  · isplitl [HSI] <;> iassumption
  icases H with ⟨%h3, HSI⟩
  ihave H := (read_all (ℓ := nLoc d) (f := fn) s') $$ [HSI Hn]
  · isplitl [HSI] <;> iassumption
  icases H with ⟨%h4, -⟩
  ipureintro
  subst h3 h4
  exact ⟨h1, h2, ho, hn⟩

/-- Every run of the program ends, with the arguments unchanged, the results as specified and every semaphore at zero. -/
theorem run_main [∀ e, Nonempty (Elt F e)] :
    θ_run (Cert.KernelIdeal.defs (F := F)) (Cert.KernelIdeal.threads (F := F)) ⟨m, fun _ => 0, ρ⟩
      fun r => (∀ d : Dev nD, Ends' m d r.2) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fun d s' => Ends' m d s'.mem) (hfin m)
    (fun r => (∀ d : Dev nD, Ends' m d r.2) ∧ r.2.sem = fun _ => 0) (fun _ h hz => ⟨h, hz⟩)

end Cert.KernelIdeal.Mean
-- ==== Proof.Frames.lean ====
/-
  The frames of the kernel: its arguments end unchanged and its semaphores at zero.
-/
module

public import proofs.«01_k».proof.Proof.Launch
public import proofs.«01_k».proof.Proof.Gen.Kernel
public import proofs.«01_k».proof.Proof.Gen.ReferenceIdeal
public import proofs.«01_k».proof.Proof.Gen.Pre_finite
public import proofs.«01_k».proof.Defs

@[expose] public section

noncomputable section

namespace Cert.KernelIdeal.Mean

open Idealize.ShloMosaic Idealize.SL.Sem

/-- At every precondition, on every representation of the floats: the one run, the results dropped. -/
theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

theorem frame_kernelIdeal_finite : Cert.quiescent_KernelIdeal_pre_finite := fun m ρ _ => frame_kernelIdeal m ρ trivial

set_option maxRecDepth 16384 in
set_option maxHeartbeats 0 in
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

theorem preserves : Cert.preserves_Kernel_KernelIdeal := trivial

end Cert.KernelIdeal.Mean
-- ==== Proof.RefIds.lean ====
/-
  The reference's bucket numbers: which bucket each token of each batch falls in, and where an update of its two
  segment sums lands.
-/
module

public import proofs.«01_k».proof.Proof.Rows
public import proofs.«01_k».proof.Proof.Gen.ReferenceIdeal
public import Idealize.ShloMosaic.Lib.Routing.Ops
public import Idealize.ShloMosaic.Lib.Routing.OpsPair
public import Idealize.ShloMosaic.Lib.WordCmp

@[expose] public section

noncomputable section

namespace Cert.ReferenceIdeal.Mean

open Cert.ReferenceIdeal Cert.ReferenceIdeal.Gen
open Cert.KernelIdeal.Mean (cnt cnt_le pos marks isSet isSet_ext foldl_finRange bAt bdOf)
open Idealize.ShloMosaic Idealize.ShloMosaic.ValueIdx

variable {F : FTy → Type} [FloatOps F]

/-! ## The running count of boundaries -/

/-- One for each boundary. -/
def ones (b : S16x4096.Idx → F .f32) : IVec S16x4096 32 :=
  extui 32 (cmpf .ogt b (broadcastInDim S16x4096 ![] bcast_S_S16x4096 (constant S_ .f32 0x3F000000#32))) natLt_1_32

/-- The running sum of the ones along a batch. -/
def counted (b : S16x4096.Idx → F .f32) : IVec S16x4096 32 :=
  Host.reduceWindow IntOp.addi ![1, 4096] ![1, 1] ![0, 4095] ![0, 0] (ones b) (broadcastInDim S_ ![] bcast_S_S_ (constantI S_ 32 0#32))
    reduceWindows_S16x4096_S16x4096_w1s1p0_0_w4096s1p4095_0 h_S_

theorem ones_at (b : S16x4096.Idx → F .f32) (i : Fin 16) (t : ℕ) (ht : t < 4096) :
    ones b (ix2 i ⟨t, ht⟩) = if bdOf b i.val t then 1#32 else 0#32 := by
  have e : bAt b i.val t = b (ix2 i ⟨t, ht⟩) := by
    unfold bAt
    rw [show Fin.ofNat 16 i.val = i from Fin.ext (Nat.mod_eq_of_lt i.isLt), show Fin.ofNat 4096 t = ⟨t, ht⟩ from Fin.ext (Nat.mod_eq_of_lt ht)]
  show (BitVec.setWidth 32 (FloatOps.cmpf .ogt (b (ix2 i ⟨t, ht⟩)) (Scalar.ofBits .f32 0x3F000000#32 : F .f32))) = _
  rw [isSet_ext, ← e]; rfl

theorem foldl_upTo {β : Type} (st : ℕ → β → β) (a : β) {m n : ℕ} (h : m = n) :
    (List.finRange m).foldl (fun r k => st k.val r) a = Nat.rec (motive := fun _ => β) a (fun k r => st k r) n := by
  subst h; exact foldl_finRange st a m

theorem counted_at (b : S16x4096.Idx → F .f32) (i : Fin 16) (j : Fin 4096) :
    counted b (ix2 i j) = BitVec.ofNat 32 (cnt (bdOf b i.val) (j.val + 1)) := by
  have hj := j.isLt
  have hn : (⟨2, ![1, 4096]⟩ : Shape).numel = 4096 := Routing.numel2 4096
  have key : ∀ m, m ≤ 4096 → Nat.rec (motive := fun _ => BitVec 32) 0#32
      (fun k r => r + if 4095 ≤ j.val + k ∧ bdOf b i.val (j.val + k - 4095) then 1#32 else 0#32) m
        = BitVec.ofNat 32 (cnt (bdOf b i.val) (j.val + m - 4095)) := by
    intro m hm
    induction m with
    | zero => rw [show j.val + 0 - 4095 = 0 by omega]; rfl
    | succ m ih =>
      show _ + _ = _
      rw [ih (by omega)]
      by_cases h : 4095 ≤ j.val + m
      · rw [show j.val + (m + 1) - 4095 = (j.val + m - 4095) + 1 by omega]
        conv_rhs => unfold cnt
        by_cases hb : bdOf b i.val (j.val + m - 4095) = true
        · rw [if_pos ⟨h, hb⟩, if_pos hb]; exact (BitVec.ofNat_add _ 1).symm
        · rw [if_neg (fun h' => hb h'.2), if_neg hb, Nat.add_zero, BitVec.add_zero]
      · rw [if_neg (fun h' => h h'.1), show j.val + (m + 1) - 4095 = j.val + m - 4095 by omega, BitVec.add_zero]
  refine Eq.trans ?_ ((foldl_upTo (fun k r => r + if 4095 ≤ j.val + k ∧ bdOf b i.val (j.val + k - 4095) then 1#32 else 0#32) 0#32 hn).trans
    ((key 4096 (le_refl _)).trans (by rw [show j.val + 4096 - 4095 = j.val + 1 by omega])))
  unfold counted Host.reduceWindow
  refine congrArg (fun g => List.foldl g (0#32 : BitVec 32) (List.finRange (⟨2, ![1, 4096]⟩ : Shape).numel)) (funext fun r => funext fun n => ?_)
  have hw0 : ((⟨2, ![1, 4096]⟩ : Shape).rowMajor.symm n 0).val = 0 := by rw [Routing.symm2]; rfl
  have hw1 : ((⟨2, ![1, 4096]⟩ : Shape).rowMajor.symm n 1).val = n.val := by rw [Routing.symm2]; rfl
  have hnl : n.val < 4096 := lt_of_lt_of_eq n.isLt hn
  refine congrArg (fun w : BitVec 32 => r + w) ?_
  dsimp only
  split
  · next hin =>
    have h1 := hin 1
    change 4095 ≤ j.val * 1 + ((⟨2, ![1, 4096]⟩ : Shape).rowMajor.symm n 1).val
      ∧ j.val * 1 + ((⟨2, ![1, 4096]⟩ : Shape).rowMajor.symm n 1).val - 4095 < 4096 at h1
    rw [hw1] at h1
    refine Eq.trans (congrArg (ones b) (funext fun a => Fin.ext ?_)) ((ones_at b i (j.val + n.val - 4095) (by omega)).trans ?_)
    · match a with
      | ⟨0, _⟩ =>
        show i.val * 1 + ((⟨2, ![1, 4096]⟩ : Shape).rowMajor.symm n 0).val - 0 = i.val
        rw [hw0]; omega
      | ⟨1, _⟩ =>
        show j.val * 1 + ((⟨2, ![1, 4096]⟩ : Shape).rowMajor.symm n 1).val - 4095 = j.val + n.val - 4095
        rw [hw1]; omega
    · by_cases hb : bdOf b i.val (j.val + n.val - 4095) = true
      · rw [if_pos hb, if_pos ⟨by omega, hb⟩]
      · rw [if_neg hb, if_neg (fun h' => hb h'.2)]
  · next hin =>
    rw [if_neg fun h' => hin fun a => by
      have h1 := h'.1
      match a with
      | ⟨0, _⟩ =>
        show 0 ≤ i.val * 1 + ((⟨2, ![1, 4096]⟩ : Shape).rowMajor.symm n 0).val ∧ i.val * 1 + ((⟨2, ![1, 4096]⟩ : Shape).rowMajor.symm n 0).val - 0 < 16
        rw [hw0]; have := i.isLt; omega
      | ⟨1, _⟩ =>
        show 4095 ≤ j.val * 1 + ((⟨2, ![1, 4096]⟩ : Shape).rowMajor.symm n 1).val
          ∧ j.val * 1 + ((⟨2, ![1, 4096]⟩ : Shape).rowMajor.symm n 1).val - 4095 < 4096
        rw [hw1]; omega]
    rfl

/-! ## The bucket numbers -/

/-- The segment of each token, from zero; −1 before the first boundary. -/
def segs (b : S16x4096.Idx → F .f32) : IVec S16x4096 32 :=
  subi (counted b) (broadcastInDim S16x4096 ![] bcast_S_S16x4096 (constantI S_ 32 1#32))

/-- The bucket of each token: 2049 to a batch, the last of them for the tokens outside the 2048 segments. -/
def buckets (b : S16x4096.Idx → F .f32) : IVec S16x4096 32 :=
  addi (select (ori (cmpi .slt (segs b) (broadcastInDim S16x4096 ![] bcast_S_S16x4096 (constantI S_ 32 0#32)))
      (cmpi .sge (segs b) (broadcastInDim S16x4096 ![] bcast_S_S16x4096 (constantI S_ 32 2048#32))))
      (broadcastInDim S16x4096 ![] bcast_S_S16x4096 (id (constantI S_ 32 2048#32))) (segs b))
    (broadcastInDim S16x4096 ![0, 1] bcast_S16x1_S16x4096_0_1 (muli (broadcastInDim S16x1 ![0] bcast_S16_S16x1_0 (iotaInDim S16 32 0))
      (broadcastInDim S16x1 ![] bcast_S_S16x1 (constantI S_ 32 2049#32))))

/-- The same in one column, batch after batch. -/
def bucketCol (b : S16x4096.Idx → F .f32) : IVec S65536x1 32 :=
  broadcastInDim S65536x1 ![0] bcast_S65536_S65536x1_0 (shapeCast S65536 (buckets b) shapeCasts_S16x4096_S65536)

/-- The bucket within the batch after `n` boundaries. -/
def bucketOf (n : ℕ) : ℕ := if n = 0 ∨ 2048 < n then 2048 else n - 1

theorem bucket_word {n : ℕ} (hn : n ≤ 4096) :
    Scalar.select (IntOp.ori (IntOp.cmpi .slt (IntOp.subi (BitVec.ofNat 32 n) 1#32) 0#32) (IntOp.cmpi .sge (IntOp.subi (BitVec.ofNat 32 n) 1#32) 2048#32))
      2048#32 (IntOp.subi (BitVec.ofNat 32 n) 1#32) = BitVec.ofNat 32 (bucketOf n) := by
  rcases Nat.eq_zero_or_pos n with rfl | h0
  · decide
  · have e : IntOp.subi (BitVec.ofNat 32 n) 1#32 = BitVec.ofNat 32 (n - 1) := StableHlo.Predicate.sub_one_ofNat n h0 (by omega)
    rw [e, WordCmp.cmpi_slt_ofNat (by omega) (by omega), WordCmp.cmpi_sge_ofNat (by omega) (by omega)]
    unfold bucketOf
    by_cases h : 2048 < n
    · rw [if_pos (.inr h), decide_eq_true (by omega : 2048 ≤ n - 1), decide_eq_false (by omega : ¬ n - 1 < 0)]; rfl
    · rw [if_neg (by omega), decide_eq_false (by omega : ¬ 2048 ≤ n - 1), decide_eq_false (by omega : ¬ n - 1 < 0)]; rfl

theorem buckets_at (b : S16x4096.Idx → F .f32) (i : Fin 16) (t : Fin 4096) :
    buckets b (ix2 i t) = BitVec.ofNat 32 (bucketOf (cnt (bdOf b i.val) (t.val + 1)) + i.val * 2049) := by
  have h := bucket_word (n := cnt (bdOf b i.val) (t.val + 1)) (le_trans (cnt_le _) t.isLt)
  rw [← counted_at b i t] at h
  refine Eq.trans (b := BitVec.ofNat 32 (bucketOf (cnt (bdOf b i.val) (t.val + 1))) + BitVec.ofNat 32 i.val * 2049#32) ?_ ?_
  · exact congrArg (· + _) h
  · rw [BitVec.ofNat_add, BitVec.ofNat_mul]

theorem bucketOf_le (n : ℕ) : bucketOf n ≤ 2048 := by unfold bucketOf; split <;> omega

/-- Token `t` of batch `i` stands at `4096 i + t` in the column. -/
theorem bucketCol_at (b : S16x4096.Idx → F .f32) (i : Fin 16) (t : Fin 4096) (n : Fin 65536) (hn : n.val = i.val * 4096 + t.val) :
    (bucketCol b (ix2 n (0 : Fin 1))).toInt = ((bucketOf (cnt (bdOf b i.val) (t.val + 1)) + i.val * 2049 : ℕ) : ℤ) := by
  have e : bucketCol b (ix2 n (0 : Fin 1)) = buckets b (ix2 i t) :=
    (Routing.bcCol bcast_S65536_S65536x1_0 _ n).trans (Routing.cast21 (buckets b) shapeCasts_S16x4096_S65536 i t n hn)
  rw [e, buckets_at]
  refine StableHlo.Predicate.toInt_ofNat_small _ ?_
  have := bucketOf_le (cnt (bdOf b i.val) (t.val + 1)); have := i.isLt; omega

/-- Token `t` of batch `i'` is counted at row `r` of batch `i` exactly if it is of that batch and in that segment. -/
theorem bucket_iff {i i' n r : ℕ} (hr : r < 2048) : bucketOf n + i' * 2049 = i * 2049 + r ↔ i' = i ∧ n = r + 1 := by
  have := bucketOf_le n
  constructor
  · intro h
    have hi : i' = i := by omega
    refine ⟨hi, ?_⟩
    subst hi
    unfold bucketOf at h
    split at h <;> omega
  · rintro ⟨rfl, rfl⟩
    unfold bucketOf; rw [if_neg (by omega)]; omega

/-! ## Where an update lands -/

theorem lands1 (idx : IVec S65536x1 32) (n : Fin 65536) (p : Fin 32784) :
    scatter_S32784_S65536x1_S65536_n_0_0_1.resultIdx? (ix1 n) idx = some (ix1 p) ↔ (idx (ix2 n (0 : Fin 1))).toInt = (p.val : ℤ) := by
  rw [Routing.resultIdx?_ix1]
  have h1 : scatter_S32784_S65536x1_S65536_n_0_0_1.start (ix1 n) idx 0 = (idx (ix2 n (0 : Fin 1))).toInt := by
    refine congrArg (fun y => (idx y).toInt) (funext fun a => ?_)
    match a with
    | ⟨0, _⟩ => rfl
    | ⟨1, _⟩ => rfl
  have h2 : scatter_S32784_S65536x1_S65536_n_0_0_1.window (ix1 n) 0 = 0 := rfl
  rw [h1, h2]; simp

theorem lands2 (idx : IVec S65536x1 32) (n : Fin 65536) (c' : Fin 1024) (p : Fin 32784) (c : Fin 1024) :
    scatter_S32784x1024_S65536x1_S65536x1024_1_0_0_1.resultIdx? (ix2 n c') idx = some (ix2 p c)
      ↔ (idx (ix2 n (0 : Fin 1))).toInt = (p.val : ℤ) ∧ c' = c := by
  rw [Routing.resultIdx?_ix2]
  have h1 : scatter_S32784x1024_S65536x1_S65536x1024_1_0_0_1.start (ix2 n c') idx 0 = (idx (ix2 n (0 : Fin 1))).toInt := by
    refine congrArg (fun y => (idx y).toInt) (funext fun a => ?_)
    match a with
    | ⟨0, _⟩ => rfl
    | ⟨1, _⟩ => rfl
  have h2 : scatter_S32784x1024_S65536x1_S65536x1024_1_0_0_1.window (ix2 n c') 0 = 0 := rfl
  have h3 : scatter_S32784x1024_S65536x1_S65536x1024_1_0_0_1.start (ix2 n c') idx 1 = 0 := rfl
  have h4 : scatter_S32784x1024_S65536x1_S65536x1024_1_0_0_1.window (ix2 n c') 1 = c'.val := rfl
  rw [h1, h2, h3, h4, Fin.ext_iff]
  omega

end Cert.ReferenceIdeal.Mean
-- ==== Proof.RefValues.lean ====
/-
  The reference's segment sums at exact arithmetic: each is the sum over the tokens of its segment.
-/
module

public import proofs.«01_k».proof.Proof.RefIds
public import Idealize.ShloMosaic.PureOps.IdealRules
public import Idealize.ShloMosaic.Lib.Pipeline.Value

@[expose] public section

noncomputable section

namespace Cert.ReferenceIdeal.Mean

open Cert.ReferenceIdeal Cert.ReferenceIdeal.Gen
open Cert.KernelIdeal.Mean (cnt cnt_le pos marks bAt bdOf)
open Idealize.ShloMosaic Idealize.ShloMosaic.ValueIdx

/-- The tokens of segment `r` (from zero) of a batch. -/
def seg (bd : ℕ → Bool) (r : ℕ) : Finset ℕ := (Finset.range 4096).filter fun t => cnt bd (t + 1) = r + 1

theorem mem_seg {bd : ℕ → Bool} {r t : ℕ} : t ∈ seg bd r ↔ t < 4096 ∧ cnt bd (t + 1) = r + 1 := by
  unfold seg; rw [Finset.mem_filter, Finset.mem_range]

/-- The place of token `t` of batch `i` in the column of all tokens. -/
def tok (i t : ℕ) : Fin 65536 := Fin.ofNat 65536 (i * 4096 + t)

theorem tok_val {i t : ℕ} (hi : i < 16) (ht : t < 4096) : (tok i t).val = i * 4096 + t := Nat.mod_eq_of_lt (by omega)

theorem tok_div (n : Fin 65536) : n = tok (n.val / 4096) (n.val % 4096) :=
  Fin.ext (by have := n.isLt; rw [tok_val (by omega) (by omega)]; omega)

/-- The row of the two tables that holds segment `r` of batch `i`. -/
def slot (i r : ℕ) : Fin 32784 := Fin.ofNat 32784 (i * 2049 + r)

theorem slot_val {i r : ℕ} (hi : i < 16) (hr : r < 2049) : (slot i r).val = i * 2049 + r := Nat.mod_eq_of_lt (by omega)

section
variable (b : S16x4096.Idx → EReal) {i r : ℕ}

theorem slot_iff (hi : i < 16) (hr : r < 2048) (n : Fin 65536) :
    (bucketCol (F := Ideal) b (ix2 n (0 : Fin 1))).toInt = ((slot i r).val : ℤ) ↔ n.val / 4096 = i ∧ n.val % 4096 ∈ seg (bdOf (F := Ideal) b i) r := by
  have hn := n.isLt
  rw [slot_val hi (by omega), bucketCol_at (F := Ideal) b ⟨n.val / 4096, by omega⟩ ⟨n.val % 4096, by omega⟩ n (by show n.val = n.val / 4096 * 4096 + n.val % 4096; omega),
    Int.natCast_inj, bucket_iff hr, mem_seg]
  show n.val / 4096 = i ∧ cnt (bdOf (F := Ideal) b (n.val / 4096)) (n.val % 4096 + 1) = r + 1 ↔ _
  constructor
  · rintro ⟨rfl, h⟩; exact ⟨rfl, by omega, h⟩
  · rintro ⟨rfl, _, h⟩; exact ⟨rfl, h⟩

theorem lands_seg1 (hi : i < 16) (hr : r < 2048) (n : Fin 65536) :
    (ix1 n : S65536.Idx) ∈ Finset.univ.filter (fun j => scatter_S32784_S65536x1_S65536_n_0_0_1.resultIdx? j (bucketCol (F := Ideal) b) = some (ix1 (slot i r)))
      ↔ n.val / 4096 = i ∧ n.val % 4096 ∈ seg (bdOf (F := Ideal) b i) r := by
  rw [Finset.mem_filter, lands1, slot_iff b hi hr]
  exact and_iff_right (Finset.mem_univ _)

theorem lands_seg2 (hi : i < 16) (hr : r < 2048) (n : Fin 65536) (c' c : Fin 1024) :
    (ix2 n c' : S65536x1024.Idx) ∈ Finset.univ.filter (fun j => scatter_S32784x1024_S65536x1_S65536x1024_1_0_0_1.resultIdx? j (bucketCol (F := Ideal) b) = some (ix2 (slot i r) c))
      ↔ (n.val / 4096 = i ∧ n.val % 4096 ∈ seg (bdOf (F := Ideal) b i) r) ∧ c' = c := by
  rw [Finset.mem_filter, lands2, slot_iff b hi hr]
  exact and_iff_right (Finset.mem_univ _)

theorem tok_seg (hi : i < 16) {t : ℕ} (ht : t ∈ seg (bdOf (F := Ideal) b i) r) :
    (tok i t).val / 4096 = i ∧ (tok i t).val % 4096 = t := by
  have h4 := (mem_seg.mp ht).1
  rw [tok_val hi h4]; omega

/-- A sum over the updates that land at segment `r` of batch `i` is a sum over its tokens. -/
theorem sum_lands1 (hi : i < 16) (hr : r < 2048) (f : S65536.Idx → EReal) :
    (∑ j ∈ Finset.univ.filter (fun j => scatter_S32784_S65536x1_S65536_n_0_0_1.resultIdx? j (bucketCol (F := Ideal) b) = some (ix1 (slot i r))), f j)
      = ∑ t ∈ seg (bdOf (F := Ideal) b i) r, f (ix1 (tok i t)) := by
  refine (Finset.sum_bij (fun t _ => (ix1 (tok i t) : S65536.Idx)) ?_ ?_ ?_ ?_).symm
  · intro t ht
    rw [lands_seg1 b hi hr, (tok_seg b hi ht).2]
    exact ⟨(tok_seg b hi ht).1, ht⟩
  · intro t ht t' ht' h
    have h' : tok i t = tok i t' := congrFun h 0
    rw [← (tok_seg b hi ht).2, ← (tok_seg b hi ht').2, h']
  · intro j hj
    obtain ⟨n, rfl⟩ : ∃ n : Fin 65536, j = ix1 n := ⟨j 0, eq_ix1 j⟩
    have h := (lands_seg1 b hi hr n).mp hj
    refine ⟨n.val % 4096, h.2, ?_⟩
    have e := tok_div n; rw [h.1] at e
    rw [← e]
  · intro t ht; rfl

theorem sum_lands2 (hi : i < 16) (hr : r < 2048) (c : Fin 1024) (f : S65536x1024.Idx → EReal) :
    (∑ j ∈ Finset.univ.filter (fun j => scatter_S32784x1024_S65536x1_S65536x1024_1_0_0_1.resultIdx? j (bucketCol (F := Ideal) b) = some (ix2 (slot i r) c)), f j)
      = ∑ t ∈ seg (bdOf (F := Ideal) b i) r, f (ix2 (tok i t) c) := by
  refine (Finset.sum_bij (fun t _ => (ix2 (tok i t) c : S65536x1024.Idx)) ?_ ?_ ?_ ?_).symm
  · intro t ht
    rw [lands_seg2 b hi hr, (tok_seg b hi ht).2]
    exact ⟨⟨(tok_seg b hi ht).1, ht⟩, rfl⟩
  · intro t ht t' ht' h
    have h' : tok i t = tok i t' := congrFun h 0
    rw [← (tok_seg b hi ht).2, ← (tok_seg b hi ht').2, h']
  · intro j hj
    obtain ⟨n, c', rfl⟩ : ∃ (n : Fin 65536) (c' : Fin 1024), j = ix2 n c' := ⟨j 0, j 1, eq_ix2 j⟩
    have h := (lands_seg2 b hi hr n c' c).mp hj
    refine ⟨n.val % 4096, h.1.2, ?_⟩
    have e := tok_div n; rw [h.1.1] at e
    rw [← e, h.2]
  · intro t ht; rfl

end

/-! ## The reference's two results -/

variable {F : FTy → Type} [FloatOps F]

/-- The lengths of the segments, as numbers. -/
def lengths (b : S16x4096.Idx → F .f32) : FVec F S16x2048 .f32 :=
  extractStridedSlice S16x2048 ![0, 0] (shapeCast S16x2049 (Host.scatterAdd scatter_S32784_S65536x1_S65536_n_0_0_1
    (broadcastInDim S32784 ![] bcast_S_S32784 (constant S_ .f32 0x00000000#32)) (bucketCol b)
    (broadcastInDim S65536 ![] bcast_S_S65536 (constant S_ .f32 0x3F800000#32))) shapeCasts_S32784_S16x2049) slices_S16x2049_S16x2048_0_0

/-- The sums over the segments. -/
def sums (x : S16x4096x1024.Idx → F .f32) (b : S16x4096.Idx → F .f32) : FVec F S16x2048x1024 .f32 :=
  extractStridedSlice S16x2048x1024 ![0, 0, 0] (shapeCast S16x2049x1024 (Host.scatterAdd scatter_S32784x1024_S65536x1_S65536x1024_1_0_0_1
    (broadcastInDim S32784x1024 ![] bcast_S_S32784x1024 (constant S_ .f32 0x00000000#32)) (bucketCol b)
    (shapeCast S65536x1024 x shapeCasts_S16x4096x1024_S65536x1024)) shapeCasts_S32784x1024_S16x2049x1024) slices_S16x2049x1024_S16x2048x1024_0_0_0

/-- The means of the segments; zero where a segment is empty. -/
def means (x : S16x4096x1024.Idx → F .f32) (b : S16x4096.Idx → F .f32) : FVec F S16x2048x1024 .f32 :=
  select (broadcastInDim S16x2048x1024 ![0, 1, 2] bcast_S16x2048x1_S16x2048x1024_0_1_2
      (cmpf .ogt (broadcastInDim S16x2048x1 ![0, 1] bcast_S16x2048_S16x2048x1_0_1 (lengths b))
        (broadcastInDim S16x2048x1 ![] bcast_S_S16x2048x1 (constant S_ .f32 0x00000000#32))))
    (Host.divf (sums x b) (broadcastInDim S16x2048x1024 ![0, 1, 2] bcast_S16x2048x1_S16x2048x1024_0_1_2
      (maximumf (broadcastInDim S16x2048x1 ![0, 1] bcast_S16x2048_S16x2048x1_0_1 (lengths b))
        (broadcastInDim S16x2048x1 ![] bcast_S_S16x2048x1 (constant S_ .f32 0x3F800000#32)))))
    (broadcastInDim S16x2048x1024 ![] bcast_S_S16x2048x1024 (id (constant S_ .f32 0x00000000#32)))

/-! ## Their values -/

theorem coe_sum (s : Finset ℕ) (f : ℕ → ℝ) : ((∑ t ∈ s, f t : ℝ) : EReal) = ∑ t ∈ s, ((f t : ℝ) : EReal) := by
  induction s using Finset.induction_on with
  | empty => rfl
  | insert a s ha ih => rw [Finset.sum_insert ha, Finset.sum_insert ha, EReal.coe_add, ih]

theorem cut2 {α : Type} (v : S32784.Idx → α) {i r : ℕ} (hi : i < 16) (hr : r < 2048) :
    extractStridedSlice S16x2048 ![0, 0] (shapeCast S16x2049 v shapeCasts_S32784_S16x2049) slices_S16x2049_S16x2048_0_0 (ix2 ⟨i, hi⟩ ⟨r, hr⟩) = v (ix1 (slot i r)) := by
  refine (extractStridedSlice_apply _ _ _ _ (ix2 (⟨i, hi⟩ : Fin 16) (⟨r, by omega⟩ : Fin 2049)) fun a => ?_).trans (Routing.cast12 v shapeCasts_S32784_S16x2049 ⟨i, hi⟩ ⟨r, by omega⟩ (slot i r) (slot_val hi (by omega)))
  match a with
  | ⟨0, _⟩ => exact (Nat.zero_add _).symm
  | ⟨1, _⟩ => exact (Nat.zero_add _).symm

theorem cut3 {α : Type} (v : S32784x1024.Idx → α) {i r : ℕ} (hi : i < 16) (hr : r < 2048) (c : Fin 1024) :
    extractStridedSlice S16x2048x1024 ![0, 0, 0] (shapeCast S16x2049x1024 v shapeCasts_S32784x1024_S16x2049x1024) slices_S16x2049x1024_S16x2048x1024_0_0_0 (ix3 ⟨i, hi⟩ ⟨r, hr⟩ c)
      = v (ix2 (slot i r) c) := by
  refine (extractStridedSlice_apply _ _ _ _ (ix3 (⟨i, hi⟩ : Fin 16) (⟨r, by omega⟩ : Fin 2049) c) fun a => ?_).trans (shapeCast_apply v shapeCasts_S32784x1024_S16x2049x1024 _ _ ?_)
  · match a with
    | ⟨0, _⟩ => exact (Nat.zero_add _).symm
    | ⟨1, _⟩ => exact (Nat.zero_add _).symm
    | ⟨2, _⟩ => exact (Nat.zero_add _).symm
  · rw [Shape.rowMajor_val_two, Shape.rowMajor_val_three]
    show (slot i r).val * 1024 + c.val = (i * 2049 + r) * 1024 + c.val
    rw [slot_val hi (by omega)]

theorem flat3 {α : Type} (x : S16x4096x1024.Idx → α) {i t : ℕ} (hi : i < 16) (ht : t < 4096) (c : Fin 1024) :
    shapeCast S65536x1024 x shapeCasts_S16x4096x1024_S65536x1024 (ix2 (tok i t) c) = x (ix3 ⟨i, hi⟩ (Fin.ofNat 4096 t) c) := by
  refine shapeCast_apply x shapeCasts_S16x4096x1024_S65536x1024 _ _ ?_
  rw [Shape.rowMajor_val_two, Shape.rowMajor_val_three]
  show (i * 4096 + t % 4096) * 1024 + c.val = (tok i t).val * 1024 + c.val
  rw [tok_val hi ht, Nat.mod_eq_of_lt ht]

theorem scatter_at {s si su : Shape} (d : ScatterDims s si su) (x : FVec Ideal s .f32) (idx : IVec si 32) (upd : FVec Ideal su .f32) (k : s.Idx) :
    Host.scatterAdd (F := Ideal) d x idx upd k = x k + ∑ j ∈ Finset.univ.filter (fun j => d.resultIdx? j idx = some k), upd j := rfl

theorem zero_val : Ideal.ofBits .f32 0x00000000#32 = 0 := IdealRules.sign_bit.ideal_zero .f32
theorem one_val : Ideal.ofBits .f32 0x3F800000#32 = ((1 : ℝ) : EReal) := (IdealRules.sign_bit.ideal_onePat .f32).trans EReal.coe_one.symm

theorem zeros_at {t : Shape} (h : S_.BroadcastsInDim t ![]) (j : t.Idx) :
    broadcastInDim t ![] h (constant (F := Ideal) S_ .f32 0x00000000#32) j = (0 : EReal) := zero_val
theorem ones_val {t : Shape} (h : S_.BroadcastsInDim t ![]) (j : t.Idx) :
    broadcastInDim t ![] h (constant (F := Ideal) S_ .f32 0x3F800000#32) j = ((1 : ℝ) : EReal) := one_val

theorem lengths_at (b : S16x4096.Idx → EReal) {i r : ℕ} (hi : i < 16) (hr : r < 2048) :
    lengths (F := Ideal) b (ix2 ⟨i, hi⟩ ⟨r, hr⟩) = (((seg (bdOf (F := Ideal) b i) r).card : ℝ) : EReal) := by
  unfold lengths
  rw [cut2 _ hi hr, scatter_at, zeros_at, zero_add, sum_lands1 b hi hr, Finset.sum_congr rfl (fun t _ => ones_val _ _), ← coe_sum]
  congr 1; simp

theorem sums_at (x : S16x4096x1024.Idx → EReal) (b : S16x4096.Idx → EReal) {i r : ℕ} (hi : i < 16) (hr : r < 2048) (c : Fin 1024) :
    sums (F := Ideal) x b (ix3 ⟨i, hi⟩ ⟨r, hr⟩ c) = ∑ t ∈ seg (bdOf (F := Ideal) b i) r, x (ix3 ⟨i, hi⟩ (Fin.ofNat 4096 t) c) := by
  unfold sums
  rw [cut3 _ hi hr, scatter_at, zeros_at, zero_add, sum_lands2 b hi hr]
  exact Finset.sum_congr rfl fun t ht => flat3 x hi (mem_seg.mp ht).1 c

theorem rep1 {α : Type} (v : S16x2048.Idx → α) (i : Fin 16) (r : Fin 2048) :
    broadcastInDim S16x2048x1 ![0, 1] bcast_S16x2048_S16x2048x1_0_1 v (ix3 i r (0 : Fin 1)) = v (ix2 i r) :=
  broadcastInDim_apply _ _ v _ _ fun a => by
    match a with
    | ⟨0, _⟩ => rfl
    | ⟨1, _⟩ => rfl

theorem rep2 {α : Type} (v : S16x2048x1.Idx → α) (i : Fin 16) (r : Fin 2048) (c : Fin 1024) :
    broadcastInDim S16x2048x1024 ![0, 1, 2] bcast_S16x2048x1_S16x2048x1024_0_1_2 v (ix3 i r c) = v (ix3 i r (0 : Fin 1)) :=
  broadcastInDim_apply _ _ v _ _ fun a => by
    match a with
    | ⟨0, _⟩ => rfl
    | ⟨1, _⟩ => rfl
    | ⟨2, _⟩ => rfl

theorem select_at {s : Shape} {α : Type} (m : IVec s 1) (x y : s.Idx → α) (k : s.Idx) : select m x y k = Scalar.select (m k) (x k) (y k) := rfl
theorem div_at {s : Shape} (x y : FVec Ideal s .f32) (k : s.Idx) : Host.divf (F := Ideal) x y k = Ideal.div (x k) (y k) := rfl
theorem max_at {s : Shape} (x y : FVec Ideal s .f32) (k : s.Idx) : maximumf (F := Ideal) x y k = max (x k : EReal) (y k) := rfl
theorem gt_at {s : Shape} (x y : FVec Ideal s .f32) (k : s.Idx) : cmpf (F := Ideal) .ogt x y k = BitVec.ofBool (decide ((y k : EReal) < x k)) := rfl

/-- A mean of the reference: the sum over the segment, divided by its length, or zero if the segment is empty. -/
theorem means_at (x : S16x4096x1024.Idx → EReal) (b : S16x4096.Idx → EReal) {i r : ℕ} (hi : i < 16) (hr : r < 2048) (c : Fin 1024) :
    means (F := Ideal) x b (ix3 ⟨i, hi⟩ ⟨r, hr⟩ c)
      = if 0 < (seg (bdOf (F := Ideal) b i) r).card then
          Ideal.div (∑ t ∈ seg (bdOf (F := Ideal) b i) r, x (ix3 ⟨i, hi⟩ (Fin.ofNat 4096 t) c)) (((seg (bdOf (F := Ideal) b i) r).card : ℝ) : EReal)
        else 0 := by
  unfold means
  rw [select_at, div_at, rep2, rep2, gt_at, max_at, rep1, zeros_at, ones_val, id, zeros_at, lengths_at b hi hr, sums_at x b hi hr]
  generalize (seg (bdOf (F := Ideal) b i) r).card = n
  rw [WordCmp.select_ofBool]
  by_cases hn : 0 < n
  · have hr1 : (1 : ℝ) ≤ n := by exact_mod_cast hn
    rw [if_pos hn, if_pos (decide_eq_true (EReal.coe_pos.mpr (lt_of_lt_of_le one_pos hr1))), max_eq_left (EReal.coe_le_coe_iff.mpr hr1)]
  · obtain rfl : n = 0 := by omega
    rw [if_neg hn, if_neg]
    rw [decide_eq_true_eq]; simp

/-- A count of the reference. -/
theorem counts_at (b : S16x4096.Idx → EReal) {i r : ℕ} (hi : i < 16) (hr : r < 2048) :
    fptosi (F := Ideal) 32 (lengths (F := Ideal) b) (ix2 ⟨i, hi⟩ ⟨r, hr⟩) = BitVec.ofNat 32 (seg (bdOf (F := Ideal) b i) r).card := by
  have hc : (seg (bdOf (F := Ideal) b i) r).card ≤ 4096 := (Finset.card_filter_le _ _).trans (by rw [Finset.card_range])
  show Ideal.fptosi 32 (lengths (F := Ideal) b (ix2 ⟨i, hi⟩ ⟨r, hr⟩)) = _
  rw [lengths_at b hi hr]
  generalize (seg (bdOf (F := Ideal) b i) r).card = n at hc
  have hf : (if (0 : ℝ) ≤ (n : ℝ) then ⌊(n : ℝ)⌋ else ⌈(n : ℝ)⌉) = (n : ℤ) := by rw [if_pos (Nat.cast_nonneg n), Int.floor_natCast]
  show BitVec.ofInt 32 (max (-(2 ^ (32 - 1) : ℕ) : ℤ) (min ((2 ^ (32 - 1) : ℕ) - 1 : ℤ) (if (0 : ℝ) ≤ (n : ℝ) then ⌊(n : ℝ)⌋ else ⌈(n : ℝ)⌉))) = _
  rw [hf, min_eq_right (by omega), max_eq_right (by omega), BitVec.ofInt_natCast]

end Cert.ReferenceIdeal.Mean
-- ==== Proof.Equation.lean ====
/-
  The equation at exact arithmetic: on finite tokens, the difference of two running sums times the reciprocal of the
  segment's length is the sum over the segment divided by its length.
-/
module

public import proofs.«01_k».proof.Proof.RefValues

@[expose] public section

noncomputable section

namespace Cert.KernelIdeal.Mean

open Cert.ReferenceIdeal.Mean (seg mem_seg coe_sum zero_val one_val)
open Idealize.ShloMosaic

/-! ## A segment is a stretch of tokens -/

theorem seg_eq (bd : ℕ → Bool) (r : ℕ) : seg bd r = Finset.Ico (pos bd 4096 (r + 1)) (pos bd 4096 (r + 2)) := by
  ext t
  rw [mem_seg, Finset.mem_Ico]
  by_cases ht : t < 4096
  · have h1 := pos_le_iff (bd := bd) ht (j := r + 1) (by omega)
    have h2 := pos_le_iff (bd := bd) ht (j := r + 2) (by omega)
    rw [h1]; omega
  · have := pos_le (bd := bd) (n := 4096) (le_refl _) (r + 2)
    omega

theorem seg_card (bd : ℕ → Bool) (r : ℕ) : (seg bd r).card = pos bd 4096 (r + 2) - pos bd 4096 (r + 1) := by
  rw [seg_eq, Nat.card_Ico]

theorem lenW_eq (bd : ℕ → Bool) (r : ℕ) : lenW bd (r + 1) = BitVec.ofNat 32 (seg bd r).card := by
  have h := pos_mono (bd := bd) (j := r)
  have h4 := pos_le (bd := bd) (n := 4096) (le_refl _) (r + 2)
  rw [seg_card]
  unfold lenW
  show BitVec.ofNat 32 (pos bd 4096 (r + 2)) - _ = _
  generalize pos bd 4096 (r + 2) = q at h h4
  generalize pos bd 4096 (r + 1) = p at h
  obtain ⟨k, rfl⟩ := Nat.exists_eq_add_of_le h
  rw [Nat.add_sub_cancel_left, BitVec.ofNat_add, BitVec.add_comm, BitVec.add_sub_cancel]

/-! ## The running sums -/

variable {X : ℕ → ℕ → EReal} {xr : ℕ → ℝ} {c : ℕ}

theorem run_coe (hX : ∀ t, X t c = ((xr t : ℝ) : EReal)) (s n : ℕ) :
    run (F := Ideal) (tile (F := Ideal) X s) n c = ((∑ t ∈ Finset.range n, xr (256 * s + t) : ℝ) : EReal) := by
  induction n with
  | zero => exact zero_val
  | succ n ih =>
    rw [Finset.sum_range_succ, EReal.coe_add, ← ih, ← hX]; rfl

theorem total_coe (hX : ∀ t, X t c = ((xr t : ℝ) : EReal)) (s : ℕ) :
    total (F := Ideal) X s c = ((∑ t ∈ Finset.range (256 * s), xr t : ℝ) : EReal) := by
  induction s with
  | zero => exact zero_val
  | succ s ih =>
    rw [Nat.mul_succ, Finset.sum_range_add, EReal.coe_add, ← ih, ← run_coe hX]; rfl

theorem upTo_coe (hX : ∀ t, X t c = ((xr t : ℝ) : EReal)) (e : ℕ) :
    upTo (F := Ideal) X e c = ((∑ t ∈ Finset.range e, xr t : ℝ) : EReal) := by
  have he : 256 * ((e - 1) / 256) + (e - 256 * ((e - 1) / 256)) = e := by omega
  show (run (F := Ideal) (tile (F := Ideal) X ((e - 1) / 256)) (e - 256 * ((e - 1) / 256)) c : EReal) + total (F := Ideal) X ((e - 1) / 256) c = _
  rw [run_coe hX, total_coe hX, ← EReal.coe_add, add_comm, ← Finset.sum_range_add, he]

/-- The difference of the running sums at a segment's two ends is the sum over the segment. -/
theorem start_sub (hX : ∀ t, X t c = ((xr t : ℝ) : EReal)) (bd : ℕ → Bool) (r : ℕ) :
    (start (F := Ideal) X bd (r + 2) c : EReal) - start (F := Ideal) X bd (r + 1) c = ((∑ t ∈ seg bd r, xr t : ℝ) : EReal) := by
  unfold start
  rw [if_neg (by omega), if_neg (by omega), upTo_coe hX, upTo_coe hX, ← EReal.coe_sub, seg_eq, Finset.sum_Ico_eq_sub _ pos_mono]

/-! ## The two reciprocals -/

/-- The reciprocal of a length; zero at zero. -/
def recip (n : ℕ) : EReal := if 0 < n then (((n : ℝ)⁻¹ : ℝ) : EReal) else 0

theorem div_nat {n : ℕ} (hn : 0 < n) (a : ℝ) : Ideal.div ((a : ℝ) : EReal) ((n : ℝ) : EReal) = ((a * (n : ℝ)⁻¹ : ℝ) : EReal) := by
  have h : ((n : ℝ) : EReal) ≠ 0 := by
    rw [← EReal.coe_zero]; exact fun h => (Nat.cast_ne_zero.mpr (by omega : n ≠ 0)) (EReal.coe_eq_coe_iff.mp h)
  unfold Ideal.div
  rw [if_neg h, EReal.coe_mul, EReal.coe_inv]

theorem one_div_nat {n : ℕ} (hn : 0 < n) : Ideal.div ((1 : ℝ) : EReal) ((n : ℝ) : EReal) = recip n := by
  rw [div_nat hn, one_mul, recip, if_pos hn]

theorem conv_nat {n : ℕ} (hn : n ≤ 4096) : ((((BitVec.ofNat 32 n).toInt : ℤ) : ℝ) : EReal) = ((n : ℝ) : EReal) := by
  rw [StableHlo.Predicate.toInt_ofNat_small n (by omega), Int.cast_natCast]

theorem sgt_zero {n : ℕ} (hn : n ≤ 4096) : IntOp.cmpi .sgt (BitVec.ofNat 32 n) 0#32 = BitVec.ofBool (decide (0 < n)) :=
  WordCmp.cmpi_sgt_ofNat (w := 32) (a := n) (b := 0) (by omega) (by omega)

theorem facA_eq {n : ℕ} (hn : n ≤ 4096) : facA (F := Ideal) (BitVec.ofNat 32 n) = recip n := by
  unfold facA
  rw [sgt_zero hn, WordCmp.select_decide]
  by_cases h : 0 < n
  · have hr1 : (1 : ℝ) ≤ n := by exact_mod_cast h
    rw [if_pos h]
    show Ideal.div (Ideal.ofBits .f32 0x3F800000#32) (max ((((BitVec.ofNat 32 n).toInt : ℤ) : ℝ) : EReal) (Ideal.ofBits .f32 0x3F800000#32)) = _
    rw [one_val, conv_nat hn, max_eq_left (EReal.coe_le_coe_iff.mpr hr1), one_div_nat h]
  · rw [if_neg h, recip, if_neg h]; exact zero_val

theorem facB_eq {n : ℕ} (hn : n ≤ 4096) : facB (F := Ideal) (BitVec.ofNat 32 n) = recip n := by
  unfold facB
  rw [sgt_zero hn, WordCmp.select_decide]
  by_cases h : 0 < n
  · have hm : Scalar.maxsi (BitVec.ofNat 32 n) 1#32 = BitVec.ofNat 32 n := by
      show (if BitVec.slt 1#32 (BitVec.ofNat 32 n) then _ else _) = _
      split
      · rfl
      · next hs =>
        rw [BitVec.slt, StableHlo.Predicate.toInt_ofNat_small n (by omega), decide_eq_true_eq] at hs
        rw [show n = 1 by change ¬ (1 : ℤ) < n at hs; omega]
    rw [if_pos h, hm]
    show Ideal.div (Ideal.ofBits .f32 0x3F800000#32) ((((BitVec.ofNat 32 n).toInt : ℤ) : ℝ) : EReal) = _
    rw [one_val, conv_nat hn, one_div_nat h]
  · rw [if_neg h, recip, if_neg h]; exact zero_val

/-! ## One element -/

/-- The mean over a segment, or zero if it is empty. -/
def mean (X : ℕ → ℕ → EReal) (bd : ℕ → Bool) (r c : ℕ) : EReal :=
  if 0 < (seg bd r).card then Ideal.div (∑ t ∈ seg bd r, X t c) (((seg bd r).card : ℝ) : EReal) else 0

theorem seg_card_le (bd : ℕ → Bool) (r : ℕ) : (seg bd r).card ≤ 4096 := by
  have h4 := pos_le (bd := bd) (n := 4096) (le_refl _) (r + 2)
  rw [seg_card]; omega

theorem rowVal_mean (hX : ∀ t, X t c = ((xr t : ℝ) : EReal)) (bd : ℕ → Bool) (r : ℕ) :
    rowVal (F := Ideal) X bd (recip (seg bd r).card) (r + 1) c = mean X bd r c := by
  show ((start (F := Ideal) X bd (r + 2) c : EReal) - start (F := Ideal) X bd (r + 1) c) * recip (seg bd r).card = _
  rw [start_sub hX, mean, Finset.sum_congr rfl (fun t _ => hX t), ← coe_sum]
  by_cases h : 0 < (seg bd r).card
  · rw [if_pos h, div_nat h, recip, if_pos h, EReal.coe_mul]
  · rw [if_neg h, recip, if_neg h, mul_zero]

/-- An element of the kernel's result is the mean of its segment. -/
theorem elem_mean (hX : ∀ t, X t c = ((xr t : ℝ) : EReal)) {bd : ℕ → Bool} {r : ℕ} {v : EReal} (hr : r < 2048)
    (h : ElemOK (F := Ideal) X bd r c v) : v = mean X bd r c := by
  unfold ElemOK at h
  split at h
  · rw [lenW_eq, facA_eq (seg_card_le bd r), facB_eq (seg_card_le bd r), rowVal_mean hX] at h
    exact h.elim id id
  · next hlt =>
    have hc : (seg bd r).card = 0 := by
      rw [seg_card, pos_of_gt (by omega : cnt bd 4096 < r + 1), pos_of_gt (by omega : cnt bd 4096 < r + 2)]
    rw [h, mean, hc, if_neg (by omega)]; exact zero_val

end Cert.KernelIdeal.Mean
-- ==== Proof.Algebraic.lean ====
/-
  The kernel and the reference end with equal results at exact arithmetic, on finite tokens.
-/
module

public import proofs.«01_k».proof.Proof.Launch
public import proofs.«01_k».proof.Proof.Equation
public import proofs.«01_k».proof.Proof.Gen.ReferenceIdeal.Run
public import proofs.«01_k».proof.Proof.Gen.Pre_finite
public import proofs.«01_k».proof.Defs
public import Idealize.ShloMosaic.Lib.ReduceAll

@[expose] public section

noncomputable section

namespace Cert.KernelIdeal.Mean

open Cert.KernelIdeal Cert.KernelIdeal.Gen
open Cert.ReferenceIdeal.Mean (seg mem_seg means lengths means_at counts_at)
open Idealize.ShloMosaic Idealize.ShloMosaic.ValueIdx Idealize.SL.Sem

/-! ## Finite tokens -/

theorem top_val : Ideal.ofBits .f32 0x7F800000#32 = ⊤ := by simp [Ideal.ofBits, Ideal.ieee]

/-- The precondition read back: every token is a real number. -/
theorem finite_at {x : S16x4096x1024.Idx → EReal} {b : S16x4096.Idx → EReal}
    (h : Cert.Pre_finite.fn (F := Ideal) x b = fun _ => 1#1) (k : S16x4096x1024.Idx) : x k = (((x k).toReal : ℝ) : EReal) := by
  haveI : Subsingleton Cert.Pre_finite.S_.Idx := ⟨fun a b => funext fun i => i.elim0⟩
  have h1 := Host.reduce_andi_all _ _ _ _ (fun i => i.elim0) (congrFun h (fun i => i.elim0)) k
  have h2 : BitVec.ofBool (decide (max (x k) (-(x k)) < Ideal.ofBits .f32 0x7F800000#32)) = 1#1 := h1
  rw [StableHlo.Predicate.ofBool_eq_one_iff, decide_eq_true_eq, top_val, max_lt_iff] at h2
  refine (EReal.coe_toReal h2.1.ne ?_).symm
  intro e; rw [e] at h2; exact absurd h2.2 (by simp)

/-! ## The two results -/

/-- The tile and the column within it of a column of the result. -/
def tileOf (c : ℕ) (hc : c < 1024) : grid0.Coords := crd ⟨c / 32 % 2, Nat.mod_lt _ (by decide)⟩ ⟨c / 64, Nat.div_lt_of_lt_mul hc⟩

theorem col0_tileOf (c : ℕ) (hc : c < 1024) : col0 (tileOf c hc) + c % 32 = c := by
  show 64 * (c / 64) + 32 * (c / 32 % 2) + c % 32 = c
  omega

theorem ofNat_mk {n k : ℕ} [NeZero n] (h : k < n) : Fin.ofNat n k = ⟨k, h⟩ := Fin.ext (Nat.mod_eq_of_lt h)

theorem out_means {x : S16x4096x1024.Idx → EReal} {b : S16x4096.Idx → EReal} {o : S16x2048x1024.Idx → EReal}
    (hx : ∀ k, x k = (((x k).toReal : ℝ) : EReal)) (ho : ∀ i, OutOK (F := Ideal) x b i 16 o) : o = means (F := Ideal) x b := by
  funext k
  obtain ⟨⟨i, hi⟩, ⟨r, hr⟩, ⟨c, hc⟩, rfl⟩ : ∃ (i : Fin 16) (r : Fin 2048) (c : Fin 1024), k = ix3 i r c := ⟨k 0, k 1, k 2, eq_ix3 k⟩
  have h := elem_mean (X := xCols (F := Ideal) x (tileOf c hc) i) (xr := fun t => (xCols (F := Ideal) x (tileOf c hc) i t (c % 32) : EReal).toReal)
    (fun t => hx _) hr (ho (tileOf c hc) i hi r hr (c % 32) (Nat.mod_lt _ (by omega)))
  rw [means_at x b hi hr ⟨c, hc⟩]
  unfold mean oAt xCols xAt at h
  rw [col0_tileOf, ofNat_mk hi, ofNat_mk hr, ofNat_mk hc] at h
  exact h

theorem counts_lengths {b : S16x4096.Idx → EReal} {n : S16x2048.Idx → BitVec 32}
    (hn : CountsOK (F := Ideal) b 16 n) : n = fptosi (F := Ideal) 32 (lengths (F := Ideal) b) := by
  funext k
  obtain ⟨⟨i, hi⟩, ⟨r, hr⟩, rfl⟩ : ∃ (i : Fin 16) (r : Fin 2048), k = ix2 i r := ⟨k 0, k 1, eq_ix2 k⟩
  have h := hn i hi r hr
  rw [lenW_eq] at h
  unfold nAt at h
  rw [ofNat_mk hi, ofNat_mk hr] at h
  rw [counts_at b hi hr]
  exact h

/-! ## The reference's run -/

section
open Cert.ReferenceIdeal

theorem ref_means (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v39 (F := Ideal) m c
      = means (F := Ideal) (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)) := by
  unfold Cert.ReferenceIdeal.Value.res_main_v39; rfl

theorem frame_reference : Cert.quiescent_ReferenceIdeal := fun m ρ _ =>
  (θ_run Cert.ReferenceIdeal.defs _ _).mono (fun r h => ⟨fun c => ⟨(h c).2.2.1, (h c).2.2.2⟩, sem_eq_zero_of_no_sems (by decide) r.2⟩)
    (Cert.ReferenceIdeal.Value.run (F := Ideal) m ρ)

theorem frame_reference_finite : Cert.quiescent_ReferenceIdeal_pre_finite := fun m ρ _ => frame_reference m ρ trivial

end

/-- The equation of the two programs. -/
theorem algebraic : Cert.algebraic_KernelIdeal_ReferenceIdeal_pre_finite := by
  intro m g m' g' hpre hargs
  refine ⟨fun c => means (F := Ideal) (m (xLoc c)) (m (bLoc c)), fun c => fptosi (F := Ideal) 32 (lengths (F := Ideal) (m (bLoc c))), ?_, ?_⟩
  · refine (θ_run Cert.KernelIdeal.defs _ _).mono (fun r h c => ?_) (run_main (F := Ideal) m g)
    obtain ⟨h0, h1, h2, h3⟩ := h.1 c
    exact ⟨out_means (finite_at (hpre c)) h2, counts_lengths h3, h0, h1⟩
  · refine (θ_run Cert.ReferenceIdeal.defs _ _).mono (fun r h c => ?_) (Cert.ReferenceIdeal.Value.run (F := Ideal) m' g')
    obtain ⟨h0, h1, h2, h3⟩ := h c
    refine ⟨h0.trans ((ref_means m' c).trans ?_), h1.trans ?_, h2, h3⟩
    · rw [(hargs c).1, (hargs c).2]
    · rw [(hargs c).2]; rfl

end Cert.KernelIdeal.Mean
-- ==== Proof.lean ====
/-
  The claim: the frames of the kernel as written and as read exactly, of the reference, and the equation of the two.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  Cert.KernelIdeal.Mean.frame_kernel, Cert.KernelIdeal.Mean.frame_kernelIdeal, Cert.KernelIdeal.Mean.frame_kernelIdeal_finite,
  Cert.KernelIdeal.Mean.frame_reference, Cert.KernelIdeal.Mean.frame_reference_finite, Cert.KernelIdeal.Mean.preserves,
  Cert.KernelIdeal.Mean.algebraic⟩

end Cert.Proof

end
